-- ==== Defs.lean ====
def Pre_PairExchange (m : (ℓ : Loc Cert.PairExchange.nD Cert.PairExchange.τ Cert.PairExchange.sig) → Buf (Elt Bits) ℓ) : Prop :=
  True

def Pre_PairExchangeIdeal (m : (ℓ : Loc Cert.PairExchangeIdeal.nD Cert.PairExchangeIdeal.τ Cert.PairExchangeIdeal.sig) → Buf (Elt Ideal) ℓ) : Prop :=
  True

def Pre_PairExchangeRefIdeal (m : (ℓ : Loc Cert.PairExchangeRefIdeal.nD Cert.PairExchangeRefIdeal.τ Cert.PairExchangeRefIdeal.sig) → Buf (Elt Ideal) ℓ) : Prop :=
  True

def Pre_PairExchangeRef (m : (ℓ : Loc Cert.PairExchangeRef.nD Cert.PairExchangeRef.τ Cert.PairExchangeRef.sig) → Buf (Elt Bits) ℓ) : Prop :=
  True

def Pre_ChipScatter (m : (ℓ : Loc Cert.ChipScatter.nD Cert.ChipScatter.τ Cert.ChipScatter.sig) → Buf (Elt Bits) ℓ) : Prop :=
  True

def Pre_ChipScatterIdeal (m : (ℓ : Loc Cert.ChipScatterIdeal.nD Cert.ChipScatterIdeal.τ Cert.ChipScatterIdeal.sig) → Buf (Elt Ideal) ℓ) : Prop :=
  True

def Pre_ChipScatterRefIdeal (m : (ℓ : Loc Cert.ChipScatterRefIdeal.nD Cert.ChipScatterRefIdeal.τ Cert.ChipScatterRefIdeal.sig) → Buf (Elt Ideal) ℓ) : Prop :=
  True

def Pre_ChipScatterRef (m : (ℓ : Loc Cert.ChipScatterRef.nD Cert.ChipScatterRef.τ Cert.ChipScatterRef.sig) → Buf (Elt Bits) ℓ) : Prop :=
  True

def Pre_GatherWeights (m : (ℓ : Loc Cert.GatherWeights.nD Cert.GatherWeights.τ Cert.GatherWeights.sig) → Buf (Elt Bits) ℓ) : Prop :=
  True

def Pre_GatherWeightsIdeal (m : (ℓ : Loc Cert.GatherWeightsIdeal.nD Cert.GatherWeightsIdeal.τ Cert.GatherWeightsIdeal.sig) → Buf (Elt Ideal) ℓ) : Prop :=
  True

def Pre_GatherWeightsRefIdeal (m : (ℓ : Loc Cert.GatherWeightsRefIdeal.nD Cert.GatherWeightsRefIdeal.τ Cert.GatherWeightsRefIdeal.sig) → Buf (Elt Ideal) ℓ) : Prop :=
  True

def Pre_GatherWeightsRef (m : (ℓ : Loc Cert.GatherWeightsRef.nD Cert.GatherWeightsRef.τ Cert.GatherWeightsRef.sig) → Buf (Elt Bits) ℓ) : Prop :=
  True

def Pre_PairShare (m : (ℓ : Loc Cert.PairShare.nD Cert.PairShare.τ Cert.PairShare.sig) → Buf (Elt Bits) ℓ) : Prop :=
  True

def Pre_PairShareIdeal (m : (ℓ : Loc Cert.PairShareIdeal.nD Cert.PairShareIdeal.τ Cert.PairShareIdeal.sig) → Buf (Elt Ideal) ℓ) : Prop :=
  True

def Pre_PairShareRefIdeal (m : (ℓ : Loc Cert.PairShareRefIdeal.nD Cert.PairShareRefIdeal.τ Cert.PairShareRefIdeal.sig) → Buf (Elt Ideal) ℓ) : Prop :=
  True

def Pre_PairShareRef (m : (ℓ : Loc Cert.PairShareRef.nD Cert.PairShareRef.τ Cert.PairShareRef.sig) → Buf (Elt Bits) ℓ) : Prop :=
  True

def Pre_PairSumEvIn (m : (ℓ : Loc Cert.PairSumEvIn.nD Cert.PairSumEvIn.τ Cert.PairSumEvIn.sig) → Buf (Elt Bits) ℓ) : Prop :=
  True

def Pre_PairSumEvInIdeal (m : (ℓ : Loc Cert.PairSumEvInIdeal.nD Cert.PairSumEvInIdeal.τ Cert.PairSumEvInIdeal.sig) → Buf (Elt Ideal) ℓ) : Prop :=
  True

def Pre_PairSumEvInRefIdeal (m : (ℓ : Loc Cert.PairSumEvInRefIdeal.nD Cert.PairSumEvInRefIdeal.τ Cert.PairSumEvInRefIdeal.sig) → Buf (Elt Ideal) ℓ) : Prop :=
  True

def Pre_PairSumEvInRef (m : (ℓ : Loc Cert.PairSumEvInRef.nD Cert.PairSumEvInRef.τ Cert.PairSumEvInRef.sig) → Buf (Elt Bits) ℓ) : Prop :=
  True

def Pre_PairSumOut (m : (ℓ : Loc Cert.PairSumOut.nD Cert.PairSumOut.τ Cert.PairSumOut.sig) → Buf (Elt Bits) ℓ) : Prop :=
  True

def Pre_PairSumOutIdeal (m : (ℓ : Loc Cert.PairSumOutIdeal.nD Cert.PairSumOutIdeal.τ Cert.PairSumOutIdeal.sig) → Buf (Elt Ideal) ℓ) : Prop :=
  True

def Pre_PairSumOutRefIdeal (m : (ℓ : Loc Cert.PairSumOutRefIdeal.nD Cert.PairSumOutRefIdeal.τ Cert.PairSumOutRefIdeal.sig) → Buf (Elt Ideal) ℓ) : Prop :=
  True

def Pre_PairSumOutRef (m : (ℓ : Loc Cert.PairSumOutRef.nD Cert.PairSumOutRef.τ Cert.PairSumOutRef.sig) → Buf (Elt Bits) ℓ) : Prop :=
  True

def Pre_PairSumOdIn (m : (ℓ : Loc Cert.PairSumOdIn.nD Cert.PairSumOdIn.τ Cert.PairSumOdIn.sig) → Buf (Elt Bits) ℓ) : Prop :=
  True

def Pre_PairSumOdInIdeal (m : (ℓ : Loc Cert.PairSumOdInIdeal.nD Cert.PairSumOdInIdeal.τ Cert.PairSumOdInIdeal.sig) → Buf (Elt Ideal) ℓ) : Prop :=
  True

def Pre_PairSumOdInRefIdeal (m : (ℓ : Loc Cert.PairSumOdInRefIdeal.nD Cert.PairSumOdInRefIdeal.τ Cert.PairSumOdInRefIdeal.sig) → Buf (Elt Ideal) ℓ) : Prop :=
  True

def Pre_PairSumOdInRef (m : (ℓ : Loc Cert.PairSumOdInRef.nD Cert.PairSumOdInRef.τ Cert.PairSumOdInRef.sig) → Buf (Elt Bits) ℓ) : Prop :=
  True

def Pre_SlotSumEvIn (m : (ℓ : Loc Cert.SlotSumEvIn.nD Cert.SlotSumEvIn.τ Cert.SlotSumEvIn.sig) → Buf (Elt Bits) ℓ) : Prop :=
  True

def Pre_SlotSumEvInIdeal (m : (ℓ : Loc Cert.SlotSumEvInIdeal.nD Cert.SlotSumEvInIdeal.τ Cert.SlotSumEvInIdeal.sig) → Buf (Elt Ideal) ℓ) : Prop :=
  True

def Pre_SlotSumEvInRefIdeal (m : (ℓ : Loc Cert.SlotSumEvInRefIdeal.nD Cert.SlotSumEvInRefIdeal.τ Cert.SlotSumEvInRefIdeal.sig) → Buf (Elt Ideal) ℓ) : Prop :=
  True

def Pre_SlotSumOut (m : (ℓ : Loc Cert.SlotSumOut.nD Cert.SlotSumOut.τ Cert.SlotSumOut.sig) → Buf (Elt Bits) ℓ) : Prop :=
  True

def Pre_SlotSumOutIdeal (m : (ℓ : Loc Cert.SlotSumOutIdeal.nD Cert.SlotSumOutIdeal.τ Cert.SlotSumOutIdeal.sig) → Buf (Elt Ideal) ℓ) : Prop :=
  True

def Pre_SlotSumOutRefIdeal (m : (ℓ : Loc Cert.SlotSumOutRefIdeal.nD Cert.SlotSumOutRefIdeal.τ Cert.SlotSumOutRefIdeal.sig) → Buf (Elt Ideal) ℓ) : Prop :=
  True

def Pre_SlotSumOdIn (m : (ℓ : Loc Cert.SlotSumOdIn.nD Cert.SlotSumOdIn.τ Cert.SlotSumOdIn.sig) → Buf (Elt Bits) ℓ) : Prop :=
  True

def Pre_SlotSumOdInIdeal (m : (ℓ : Loc Cert.SlotSumOdInIdeal.nD Cert.SlotSumOdInIdeal.τ Cert.SlotSumOdInIdeal.sig) → Buf (Elt Ideal) ℓ) : Prop :=
  True

def Pre_SlotSumOdInRefIdeal (m : (ℓ : Loc Cert.SlotSumOdInRefIdeal.nD Cert.SlotSumOdInRefIdeal.τ Cert.SlotSumOdInRefIdeal.sig) → Buf (Elt Ideal) ℓ) : Prop :=
  True

def Pre_SmallGrads (m : (ℓ : Loc Cert.SmallGrads.nD Cert.SmallGrads.τ Cert.SmallGrads.sig) → Buf (Elt Bits) ℓ) : Prop :=
  True

def Pre_SmallGradsIdeal (m : (ℓ : Loc Cert.SmallGradsIdeal.nD Cert.SmallGradsIdeal.τ Cert.SmallGradsIdeal.sig) → Buf (Elt Ideal) ℓ) : Prop :=
  True

def Pre_SmallGradsRefIdeal (m : (ℓ : Loc Cert.SmallGradsRefIdeal.nD Cert.SmallGradsRefIdeal.τ Cert.SmallGradsRefIdeal.sig) → Buf (Elt Ideal) ℓ) : Prop :=
  True

def Pre_AdamwAda (m : (ℓ : Loc Cert.AdamwAda.nD Cert.AdamwAda.τ Cert.AdamwAda.sig) → Buf (Elt Bits) ℓ) : Prop :=
  True

def Pre_AdamwAdaIdeal (m : (ℓ : Loc Cert.AdamwAdaIdeal.nD Cert.AdamwAdaIdeal.τ Cert.AdamwAdaIdeal.sig) → Buf (Elt Ideal) ℓ) : Prop :=
  True

def Pre_AdamwAdaRefIdeal (m : (ℓ : Loc Cert.AdamwAdaRefIdeal.nD Cert.AdamwAdaRefIdeal.τ Cert.AdamwAdaRefIdeal.sig) → Buf (Elt Ideal) ℓ) : Prop :=
  True

def Pre_AdamwEvIn (m : (ℓ : Loc Cert.AdamwEvIn.nD Cert.AdamwEvIn.τ Cert.AdamwEvIn.sig) → Buf (Elt Bits) ℓ) : Prop :=
  True

def Pre_AdamwEvInIdeal (m : (ℓ : Loc Cert.AdamwEvInIdeal.nD Cert.AdamwEvInIdeal.τ Cert.AdamwEvInIdeal.sig) → Buf (Elt Ideal) ℓ) : Prop :=
  True

def Pre_AdamwEvInRefIdeal (m : (ℓ : Loc Cert.AdamwEvInRefIdeal.nD Cert.AdamwEvInRefIdeal.τ Cert.AdamwEvInRefIdeal.sig) → Buf (Elt Ideal) ℓ) : Prop :=
  True

def Pre_AdamwOut (m : (ℓ : Loc Cert.AdamwOut.nD Cert.AdamwOut.τ Cert.AdamwOut.sig) → Buf (Elt Bits) ℓ) : Prop :=
  True

def Pre_AdamwOutIdeal (m : (ℓ : Loc Cert.AdamwOutIdeal.nD Cert.AdamwOutIdeal.τ Cert.AdamwOutIdeal.sig) → Buf (Elt Ideal) ℓ) : Prop :=
  True

def Pre_AdamwOutRefIdeal (m : (ℓ : Loc Cert.AdamwOutRefIdeal.nD Cert.AdamwOutRefIdeal.τ Cert.AdamwOutRefIdeal.sig) → Buf (Elt Ideal) ℓ) : Prop :=
  True

def Pre_AdamwOdIn (m : (ℓ : Loc Cert.AdamwOdIn.nD Cert.AdamwOdIn.τ Cert.AdamwOdIn.sig) → Buf (Elt Bits) ℓ) : Prop :=
  True

def Pre_AdamwOdInIdeal (m : (ℓ : Loc Cert.AdamwOdInIdeal.nD Cert.AdamwOdInIdeal.τ Cert.AdamwOdInIdeal.sig) → Buf (Elt Ideal) ℓ) : Prop :=
  True

def Pre_AdamwOdInRefIdeal (m : (ℓ : Loc Cert.AdamwOdInRefIdeal.nD Cert.AdamwOdInRefIdeal.τ Cert.AdamwOdInRefIdeal.sig) → Buf (Elt Ideal) ℓ) : Prop :=
  True

def Pre_AdamwSmall (m : (ℓ : Loc Cert.AdamwSmall.nD Cert.AdamwSmall.τ Cert.AdamwSmall.sig) → Buf (Elt Bits) ℓ) : Prop :=
  True

def Pre_AdamwSmallIdeal (m : (ℓ : Loc Cert.AdamwSmallIdeal.nD Cert.AdamwSmallIdeal.τ Cert.AdamwSmallIdeal.sig) → Buf (Elt Ideal) ℓ) : Prop :=
  True

def Pre_AdamwSmallRefIdeal (m : (ℓ : Loc Cert.AdamwSmallRefIdeal.nD Cert.AdamwSmallRefIdeal.τ Cert.AdamwSmallRefIdeal.sig) → Buf (Elt Ideal) ℓ) : Prop :=
  True

def Pre_ModBwd (m : (ℓ : Loc Cert.ModBwd.nD Cert.ModBwd.τ Cert.ModBwd.sig) → Buf (Elt Bits) ℓ) : Prop :=
  True

def Pre_ModBwdIdeal (m : (ℓ : Loc Cert.ModBwdIdeal.nD Cert.ModBwdIdeal.τ Cert.ModBwdIdeal.sig) → Buf (Elt Ideal) ℓ) : Prop :=
  True

def Pre_ModBwdRefIdeal (m : (ℓ : Loc Cert.ModBwdRefIdeal.nD Cert.ModBwdRefIdeal.τ Cert.ModBwdRefIdeal.sig) → Buf (Elt Ideal) ℓ) : Prop :=
  True

def Pre_CctxGrad (m : (ℓ : Loc Cert.CctxGrad.nD Cert.CctxGrad.τ Cert.CctxGrad.sig) → Buf (Elt Bits) ℓ) : Prop :=
  True

def Pre_CctxGradIdeal (m : (ℓ : Loc Cert.CctxGradIdeal.nD Cert.CctxGradIdeal.τ Cert.CctxGradIdeal.sig) → Buf (Elt Ideal) ℓ) : Prop :=
  True

def Pre_CctxGradRefIdeal (m : (ℓ : Loc Cert.CctxGradRefIdeal.nD Cert.CctxGradRefIdeal.τ Cert.CctxGradRefIdeal.sig) → Buf (Elt Ideal) ℓ) : Prop :=
  True

def Pre_NormBwd (m : (ℓ : Loc Cert.NormBwd.nD Cert.NormBwd.τ Cert.NormBwd.sig) → Buf (Elt Bits) ℓ) : Prop :=
  True

def Pre_NormBwdIdeal (m : (ℓ : Loc Cert.NormBwdIdeal.nD Cert.NormBwdIdeal.τ Cert.NormBwdIdeal.sig) → Buf (Elt Ideal) ℓ) : Prop :=
  True

def Pre_NormBwdRefIdeal (m : (ℓ : Loc Cert.NormBwdRefIdeal.nD Cert.NormBwdRefIdeal.τ Cert.NormBwdRefIdeal.sig) → Buf (Elt Ideal) ℓ) : Prop :=
  True

def Pre_FinalLoss (m : (ℓ : Loc Cert.FinalLoss.nD Cert.FinalLoss.τ Cert.FinalLoss.sig) → Buf (Elt Bits) ℓ) : Prop :=
  True

def Pre_FinalLossIdeal (m : (ℓ : Loc Cert.FinalLossIdeal.nD Cert.FinalLossIdeal.τ Cert.FinalLossIdeal.sig) → Buf (Elt Ideal) ℓ) : Prop :=
  True

def Pre_FinalLossRefIdeal (m : (ℓ : Loc Cert.FinalLossRefIdeal.nD Cert.FinalLossRefIdeal.τ Cert.FinalLossRefIdeal.sig) → Buf (Elt Ideal) ℓ) : Prop :=
  True

def Pre_NormFwd (m : (ℓ : Loc Cert.NormFwd.nD Cert.NormFwd.τ Cert.NormFwd.sig) → Buf (Elt Bits) ℓ) : Prop :=
  True

def Pre_NormFwdIdeal (m : (ℓ : Loc Cert.NormFwdIdeal.nD Cert.NormFwdIdeal.τ Cert.NormFwdIdeal.sig) → Buf (Elt Ideal) ℓ) : Prop :=
  True

def Pre_NormFwdRefIdeal (m : (ℓ : Loc Cert.NormFwdRefIdeal.nD Cert.NormFwdRefIdeal.τ Cert.NormFwdRefIdeal.sig) → Buf (Elt Ideal) ℓ) : Prop :=
  True

def Pre_NormCtxFwd (m : (ℓ : Loc Cert.NormCtxFwd.nD Cert.NormCtxFwd.τ Cert.NormCtxFwd.sig) → Buf (Elt Bits) ℓ) : Prop :=
  True

def Pre_NormCtxFwdIdeal (m : (ℓ : Loc Cert.NormCtxFwdIdeal.nD Cert.NormCtxFwdIdeal.τ Cert.NormCtxFwdIdeal.sig) → Buf (Elt Ideal) ℓ) : Prop :=
  True

def Pre_NormCtxFwdRefIdeal (m : (ℓ : Loc Cert.NormCtxFwdRefIdeal.nD Cert.NormCtxFwdRefIdeal.τ Cert.NormCtxFwdRefIdeal.sig) → Buf (Elt Ideal) ℓ) : Prop :=
  True

def Pre_NormCtxBwd (m : (ℓ : Loc Cert.NormCtxBwd.nD Cert.NormCtxBwd.τ Cert.NormCtxBwd.sig) → Buf (Elt Bits) ℓ) : Prop :=
  True

def Pre_NormCtxBwdIdeal (m : (ℓ : Loc Cert.NormCtxBwdIdeal.nD Cert.NormCtxBwdIdeal.τ Cert.NormCtxBwdIdeal.sig) → Buf (Elt Ideal) ℓ) : Prop :=
  True

def Pre_NormCtxBwdRefIdeal (m : (ℓ : Loc Cert.NormCtxBwdRefIdeal.nD Cert.NormCtxBwdRefIdeal.τ Cert.NormCtxBwdRefIdeal.sig) → Buf (Elt Ideal) ℓ) : Prop :=
  True

def Pre_NormGateBwd (m : (ℓ : Loc Cert.NormGateBwd.nD Cert.NormGateBwd.τ Cert.NormGateBwd.sig) → Buf (Elt Bits) ℓ) : Prop :=
  True

def Pre_NormGateBwdIdeal (m : (ℓ : Loc Cert.NormGateBwdIdeal.nD Cert.NormGateBwdIdeal.τ Cert.NormGateBwdIdeal.sig) → Buf (Elt Ideal) ℓ) : Prop :=
  True

def Pre_NormGateBwdRefIdeal (m : (ℓ : Loc Cert.NormGateBwdRefIdeal.nD Cert.NormGateBwdRefIdeal.τ Cert.NormGateBwdRefIdeal.sig) → Buf (Elt Ideal) ℓ) : Prop :=
  True

def Pre_MmEvIn (m : (ℓ : Loc Cert.MmEvIn.nD Cert.MmEvIn.τ Cert.MmEvIn.sig) → Buf (Elt Bits) ℓ) : Prop :=
  True

def Pre_MmEvInIdeal (m : (ℓ : Loc Cert.MmEvInIdeal.nD Cert.MmEvInIdeal.τ Cert.MmEvInIdeal.sig) → Buf (Elt Ideal) ℓ) : Prop :=
  True

def Pre_MmEvInRefIdeal (m : (ℓ : Loc Cert.MmEvInRefIdeal.nD Cert.MmEvInRefIdeal.τ Cert.MmEvInRefIdeal.sig) → Buf (Elt Ideal) ℓ) : Prop :=
  True

def Pre_MmOdIn (m : (ℓ : Loc Cert.MmOdIn.nD Cert.MmOdIn.τ Cert.MmOdIn.sig) → Buf (Elt Bits) ℓ) : Prop :=
  True

def Pre_MmOdInIdeal (m : (ℓ : Loc Cert.MmOdInIdeal.nD Cert.MmOdInIdeal.τ Cert.MmOdInIdeal.sig) → Buf (Elt Ideal) ℓ) : Prop :=
  True

def Pre_MmOdInRefIdeal (m : (ℓ : Loc Cert.MmOdInRefIdeal.nD Cert.MmOdInRefIdeal.τ Cert.MmOdInRefIdeal.sig) → Buf (Elt Ideal) ℓ) : Prop :=
  True

def Pre_MmOut (m : (ℓ : Loc Cert.MmOut.nD Cert.MmOut.τ Cert.MmOut.sig) → Buf (Elt Bits) ℓ) : Prop :=
  True

def Pre_MmOutIdeal (m : (ℓ : Loc Cert.MmOutIdeal.nD Cert.MmOutIdeal.τ Cert.MmOutIdeal.sig) → Buf (Elt Ideal) ℓ) : Prop :=
  True

def Pre_MmOutRefIdeal (m : (ℓ : Loc Cert.MmOutRefIdeal.nD Cert.MmOutRefIdeal.τ Cert.MmOutRefIdeal.sig) → Buf (Elt Ideal) ℓ) : Prop :=
  True

def Pre_MmOutDx (m : (ℓ : Loc Cert.MmOutDx.nD Cert.MmOutDx.τ Cert.MmOutDx.sig) → Buf (Elt Bits) ℓ) : Prop :=
  True

def Pre_MmOutDxIdeal (m : (ℓ : Loc Cert.MmOutDxIdeal.nD Cert.MmOutDxIdeal.τ Cert.MmOutDxIdeal.sig) → Buf (Elt Ideal) ℓ) : Prop :=
  True

def Pre_MmOutDxRefIdeal (m : (ℓ : Loc Cert.MmOutDxRefIdeal.nD Cert.MmOutDxRefIdeal.τ Cert.MmOutDxRefIdeal.sig) → Buf (Elt Ideal) ℓ) : Prop :=
  True

def Pre_MmOdInDx (m : (ℓ : Loc Cert.MmOdInDx.nD Cert.MmOdInDx.τ Cert.MmOdInDx.sig) → Buf (Elt Bits) ℓ) : Prop :=
  True

def Pre_MmOdInDxIdeal (m : (ℓ : Loc Cert.MmOdInDxIdeal.nD Cert.MmOdInDxIdeal.τ Cert.MmOdInDxIdeal.sig) → Buf (Elt Ideal) ℓ) : Prop :=
  True

def Pre_MmOdInDxRefIdeal (m : (ℓ : Loc Cert.MmOdInDxRefIdeal.nD Cert.MmOdInDxRefIdeal.τ Cert.MmOdInDxRefIdeal.sig) → Buf (Elt Ideal) ℓ) : Prop :=
  True

def Pre_MmEvInDx (m : (ℓ : Loc Cert.MmEvInDx.nD Cert.MmEvInDx.τ Cert.MmEvInDx.sig) → Buf (Elt Bits) ℓ) : Prop :=
  True

def Pre_MmEvInDxIdeal (m : (ℓ : Loc Cert.MmEvInDxIdeal.nD Cert.MmEvInDxIdeal.τ Cert.MmEvInDxIdeal.sig) → Buf (Elt Ideal) ℓ) : Prop :=
  True

def Pre_MmEvInDxRefIdeal (m : (ℓ : Loc Cert.MmEvInDxRefIdeal.nD Cert.MmEvInDxRefIdeal.τ Cert.MmEvInDxRefIdeal.sig) → Buf (Elt Ideal) ℓ) : Prop :=
  True

def Pre_MmOutDw (m : (ℓ : Loc Cert.MmOutDw.nD Cert.MmOutDw.τ Cert.MmOutDw.sig) → Buf (Elt Bits) ℓ) : Prop :=
  True

def Pre_MmOutDwIdeal (m : (ℓ : Loc Cert.MmOutDwIdeal.nD Cert.MmOutDwIdeal.τ Cert.MmOutDwIdeal.sig) → Buf (Elt Ideal) ℓ) : Prop :=
  True

def Pre_MmOutDwRefIdeal (m : (ℓ : Loc Cert.MmOutDwRefIdeal.nD Cert.MmOutDwRefIdeal.τ Cert.MmOutDwRefIdeal.sig) → Buf (Elt Ideal) ℓ) : Prop :=
  True

def Pre_MmOdInDw (m : (ℓ : Loc Cert.MmOdInDw.nD Cert.MmOdInDw.τ Cert.MmOdInDw.sig) → Buf (Elt Bits) ℓ) : Prop :=
  True

def Pre_MmOdInDwIdeal (m : (ℓ : Loc Cert.MmOdInDwIdeal.nD Cert.MmOdInDwIdeal.τ Cert.MmOdInDwIdeal.sig) → Buf (Elt Ideal) ℓ) : Prop :=
  True

def Pre_MmOdInDwRefIdeal (m : (ℓ : Loc Cert.MmOdInDwRefIdeal.nD Cert.MmOdInDwRefIdeal.τ Cert.MmOdInDwRefIdeal.sig) → Buf (Elt Ideal) ℓ) : Prop :=
  True

def Pre_MmEvInDw (m : (ℓ : Loc Cert.MmEvInDw.nD Cert.MmEvInDw.τ Cert.MmEvInDw.sig) → Buf (Elt Bits) ℓ) : Prop :=
  True

def Pre_MmEvInDwIdeal (m : (ℓ : Loc Cert.MmEvInDwIdeal.nD Cert.MmEvInDwIdeal.τ Cert.MmEvInDwIdeal.sig) → Buf (Elt Ideal) ℓ) : Prop :=
  True

def Pre_MmEvInDwRefIdeal (m : (ℓ : Loc Cert.MmEvInDwRefIdeal.nD Cert.MmEvInDwRefIdeal.τ Cert.MmEvInDwRefIdeal.sig) → Buf (Elt Ideal) ℓ) : Prop :=
  True

def quiescent_PairExchange [hPairExchange : Cert.PairExchange.Facts] : Prop :=
  ∀ (m : (ℓ : Loc Cert.PairExchange.nD Cert.PairExchange.τ Cert.PairExchange.sig) → Buf (Elt Bits) ℓ) (g : Dev Cert.PairExchange.nD → PrngReg), Pre_PairExchange m →
    θ_run (Cert.PairExchange.defs (F := Bits)) (onTc (τ := Cert.PairExchange.τ) (Cert.PairExchange.main (F := Bits))) ⟨m, fun _ => 0, g⟩ (fun r => (∀ c : Dev Cert.PairExchange.nD,
      r.2.mem ((c.tc : Thread Cert.PairExchange.nD Cert.PairExchange.τ).loc Cert.PairExchange.main_arg0) = m ((c.tc : Thread Cert.PairExchange.nD Cert.PairExchange.τ).loc Cert.PairExchange.main_arg0)
      ∧ r.2.mem ((c.tc : Thread Cert.PairExchange.nD Cert.PairExchange.τ).loc Cert.PairExchange.main_arg1) = m ((c.tc : Thread Cert.PairExchange.nD Cert.PairExchange.τ).loc Cert.PairExchange.main_arg1)
      ∧ r.2.mem ((c.tc : Thread Cert.PairExchange.nD Cert.PairExchange.τ).loc Cert.PairExchange.main_arg2) = m ((c.tc : Thread Cert.PairExchange.nD Cert.PairExchange.τ).loc Cert.PairExchange.main_arg2)
      ∧ r.2.mem ((c.tc : Thread Cert.PairExchange.nD Cert.PairExchange.τ).loc Cert.PairExchange.main_arg3) = m ((c.tc : Thread Cert.PairExchange.nD Cert.PairExchange.τ).loc Cert.PairExchange.main_arg3))
      ∧ r.2.sem = fun _ => 0)

def quiescent_PairExchangeIdeal [hPairExchangeIdeal : Cert.PairExchangeIdeal.Facts] : Prop :=
  ∀ (m : (ℓ : Loc Cert.PairExchangeIdeal.nD Cert.PairExchangeIdeal.τ Cert.PairExchangeIdeal.sig) → Buf (Elt Ideal) ℓ) (g : Dev Cert.PairExchangeIdeal.nD → PrngReg), Pre_PairExchangeIdeal m →
    θ_run (Cert.PairExchangeIdeal.defs (F := Ideal)) (onTc (τ := Cert.PairExchangeIdeal.τ) (Cert.PairExchangeIdeal.main (F := Ideal))) ⟨m, fun _ => 0, g⟩ (fun r => (∀ c : Dev Cert.PairExchangeIdeal.nD,
      r.2.mem ((c.tc : Thread Cert.PairExchangeIdeal.nD Cert.PairExchangeIdeal.τ).loc Cert.PairExchangeIdeal.main_arg0) = m ((c.tc : Thread Cert.PairExchangeIdeal.nD Cert.PairExchangeIdeal.τ).loc Cert.PairExchangeIdeal.main_arg0)
      ∧ r.2.mem ((c.tc : Thread Cert.PairExchangeIdeal.nD Cert.PairExchangeIdeal.τ).loc Cert.PairExchangeIdeal.main_arg1) = m ((c.tc : Thread Cert.PairExchangeIdeal.nD Cert.PairExchangeIdeal.τ).loc Cert.PairExchangeIdeal.main_arg1)
      ∧ r.2.mem ((c.tc : Thread Cert.PairExchangeIdeal.nD Cert.PairExchangeIdeal.τ).loc Cert.PairExchangeIdeal.main_arg2) = m ((c.tc : Thread Cert.PairExchangeIdeal.nD Cert.PairExchangeIdeal.τ).loc Cert.PairExchangeIdeal.main_arg2)
      ∧ r.2.mem ((c.tc : Thread Cert.PairExchangeIdeal.nD Cert.PairExchangeIdeal.τ).loc Cert.PairExchangeIdeal.main_arg3) = m ((c.tc : Thread Cert.PairExchangeIdeal.nD Cert.PairExchangeIdeal.τ).loc Cert.PairExchangeIdeal.main_arg3))
      ∧ r.2.sem = fun _ => 0)

def quiescent_PairExchangeRefIdeal [hPairExchangeRefIdeal : Cert.PairExchangeRefIdeal.Facts] : Prop :=
  ∀ (m : (ℓ : Loc Cert.PairExchangeRefIdeal.nD Cert.PairExchangeRefIdeal.τ Cert.PairExchangeRefIdeal.sig) → Buf (Elt Ideal) ℓ) (g : Dev Cert.PairExchangeRefIdeal.nD → PrngReg), Pre_PairExchangeRefIdeal m →
    θ_run (Cert.PairExchangeRefIdeal.defs (F := Ideal)) (onTc (τ := Cert.PairExchangeRefIdeal.τ) (Cert.PairExchangeRefIdeal.main (F := Ideal))) ⟨m, fun _ => 0, g⟩ (fun r => (∀ c : Dev Cert.PairExchangeRefIdeal.nD,
      r.2.mem ((c.tc : Thread Cert.PairExchangeRefIdeal.nD Cert.PairExchangeRefIdeal.τ).loc Cert.PairExchangeRefIdeal.main_arg0) = m ((c.tc : Thread Cert.PairExchangeRefIdeal.nD Cert.PairExchangeRefIdeal.τ).loc Cert.PairExchangeRefIdeal.main_arg0)
      ∧ r.2.mem ((c.tc : Thread Cert.PairExchangeRefIdeal.nD Cert.PairExchangeRefIdeal.τ).loc Cert.PairExchangeRefIdeal.main_arg1) = m ((c.tc : Thread Cert.PairExchangeRefIdeal.nD Cert.PairExchangeRefIdeal.τ).loc Cert.PairExchangeRefIdeal.main_arg1)
      ∧ r.2.mem ((c.tc : Thread Cert.PairExchangeRefIdeal.nD Cert.PairExchangeRefIdeal.τ).loc Cert.PairExchangeRefIdeal.main_arg2) = m ((c.tc : Thread Cert.PairExchangeRefIdeal.nD Cert.PairExchangeRefIdeal.τ).loc Cert.PairExchangeRefIdeal.main_arg2)
      ∧ r.2.mem ((c.tc : Thread Cert.PairExchangeRefIdeal.nD Cert.PairExchangeRefIdeal.τ).loc Cert.PairExchangeRefIdeal.main_arg3) = m ((c.tc : Thread Cert.PairExchangeRefIdeal.nD Cert.PairExchangeRefIdeal.τ).loc Cert.PairExchangeRefIdeal.main_arg3))
      ∧ r.2.sem = fun _ => 0)

def quiescent_PairExchangeRef [hPairExchangeRef : Cert.PairExchangeRef.Facts] : Prop :=
  ∀ (m : (ℓ : Loc Cert.PairExchangeRef.nD Cert.PairExchangeRef.τ Cert.PairExchangeRef.sig) → Buf (Elt Bits) ℓ) (g : Dev Cert.PairExchangeRef.nD → PrngReg), Pre_PairExchangeRef m →
    θ_run (Cert.PairExchangeRef.defs (F := Bits)) (onTc (τ := Cert.PairExchangeRef.τ) (Cert.PairExchangeRef.main (F := Bits))) ⟨m, fun _ => 0, g⟩ (fun r => (∀ c : Dev Cert.PairExchangeRef.nD,
      r.2.mem ((c.tc : Thread Cert.PairExchangeRef.nD Cert.PairExchangeRef.τ).loc Cert.PairExchangeRef.main_arg0) = m ((c.tc : Thread Cert.PairExchangeRef.nD Cert.PairExchangeRef.τ).loc Cert.PairExchangeRef.main_arg0)
      ∧ r.2.mem ((c.tc : Thread Cert.PairExchangeRef.nD Cert.PairExchangeRef.τ).loc Cert.PairExchangeRef.main_arg1) = m ((c.tc : Thread Cert.PairExchangeRef.nD Cert.PairExchangeRef.τ).loc Cert.PairExchangeRef.main_arg1)
      ∧ r.2.mem ((c.tc : Thread Cert.PairExchangeRef.nD Cert.PairExchangeRef.τ).loc Cert.PairExchangeRef.main_arg2) = m ((c.tc : Thread Cert.PairExchangeRef.nD Cert.PairExchangeRef.τ).loc Cert.PairExchangeRef.main_arg2)
      ∧ r.2.mem ((c.tc : Thread Cert.PairExchangeRef.nD Cert.PairExchangeRef.τ).loc Cert.PairExchangeRef.main_arg3) = m ((c.tc : Thread Cert.PairExchangeRef.nD Cert.PairExchangeRef.τ).loc Cert.PairExchangeRef.main_arg3))
      ∧ r.2.sem = fun _ => 0)

def quiescent_ChipScatter [hChipScatter : Cert.ChipScatter.Facts] : Prop :=
  ∀ (m : (ℓ : Loc Cert.ChipScatter.nD Cert.ChipScatter.τ Cert.ChipScatter.sig) → Buf (Elt Bits) ℓ) (g : Dev Cert.ChipScatter.nD → PrngReg), Pre_ChipScatter m →
    θ_run (Cert.ChipScatter.defs (F := Bits)) (onTc (τ := Cert.ChipScatter.τ) (Cert.ChipScatter.main (F := Bits))) ⟨m, fun _ => 0, g⟩ (fun r => (∀ c : Dev Cert.ChipScatter.nD,
      r.2.mem ((c.tc : Thread Cert.ChipScatter.nD Cert.ChipScatter.τ).loc Cert.ChipScatter.main_arg0) = m ((c.tc : Thread Cert.ChipScatter.nD Cert.ChipScatter.τ).loc Cert.ChipScatter.main_arg0)
      ∧ r.2.mem ((c.tc : Thread Cert.ChipScatter.nD Cert.ChipScatter.τ).loc Cert.ChipScatter.main_arg1) = m ((c.tc : Thread Cert.ChipScatter.nD Cert.ChipScatter.τ).loc Cert.ChipScatter.main_arg1)
      ∧ r.2.mem ((c.tc : Thread Cert.ChipScatter.nD Cert.ChipScatter.τ).loc Cert.ChipScatter.main_arg2) = m ((c.tc : Thread Cert.ChipScatter.nD Cert.ChipScatter.τ).loc Cert.ChipScatter.main_arg2)
      ∧ r.2.mem ((c.tc : Thread Cert.ChipScatter.nD Cert.ChipScatter.τ).loc Cert.ChipScatter.main_arg3) = m ((c.tc : Thread Cert.ChipScatter.nD Cert.ChipScatter.τ).loc Cert.ChipScatter.main_arg3))
      ∧ r.2.sem = fun _ => 0)

def quiescent_ChipScatterIdeal [hChipScatterIdeal : Cert.ChipScatterIdeal.Facts] : Prop :=
  ∀ (m : (ℓ : Loc Cert.ChipScatterIdeal.nD Cert.ChipScatterIdeal.τ Cert.ChipScatterIdeal.sig) → Buf (Elt Ideal) ℓ) (g : Dev Cert.ChipScatterIdeal.nD → PrngReg), Pre_ChipScatterIdeal m →
    θ_run (Cert.ChipScatterIdeal.defs (F := Ideal)) (onTc (τ := Cert.ChipScatterIdeal.τ) (Cert.ChipScatterIdeal.main (F := Ideal))) ⟨m, fun _ => 0, g⟩ (fun r => (∀ c : Dev Cert.ChipScatterIdeal.nD,
      r.2.mem ((c.tc : Thread Cert.ChipScatterIdeal.nD Cert.ChipScatterIdeal.τ).loc Cert.ChipScatterIdeal.main_arg0) = m ((c.tc : Thread Cert.ChipScatterIdeal.nD Cert.ChipScatterIdeal.τ).loc Cert.ChipScatterIdeal.main_arg0)
      ∧ r.2.mem ((c.tc : Thread Cert.ChipScatterIdeal.nD Cert.ChipScatterIdeal.τ).loc Cert.ChipScatterIdeal.main_arg1) = m ((c.tc : Thread Cert.ChipScatterIdeal.nD Cert.ChipScatterIdeal.τ).loc Cert.ChipScatterIdeal.main_arg1)
      ∧ r.2.mem ((c.tc : Thread Cert.ChipScatterIdeal.nD Cert.ChipScatterIdeal.τ).loc Cert.ChipScatterIdeal.main_arg2) = m ((c.tc : Thread Cert.ChipScatterIdeal.nD Cert.ChipScatterIdeal.τ).loc Cert.ChipScatterIdeal.main_arg2)
      ∧ r.2.mem ((c.tc : Thread Cert.ChipScatterIdeal.nD Cert.ChipScatterIdeal.τ).loc Cert.ChipScatterIdeal.main_arg3) = m ((c.tc : Thread Cert.ChipScatterIdeal.nD Cert.ChipScatterIdeal.τ).loc Cert.ChipScatterIdeal.main_arg3))
      ∧ r.2.sem = fun _ => 0)

def quiescent_ChipScatterRefIdeal [hChipScatterRefIdeal : Cert.ChipScatterRefIdeal.Facts] : Prop :=
  ∀ (m : (ℓ : Loc Cert.ChipScatterRefIdeal.nD Cert.ChipScatterRefIdeal.τ Cert.ChipScatterRefIdeal.sig) → Buf (Elt Ideal) ℓ) (g : Dev Cert.ChipScatterRefIdeal.nD → PrngReg), Pre_ChipScatterRefIdeal m →
    θ_run (Cert.ChipScatterRefIdeal.defs (F := Ideal)) (onTc (τ := Cert.ChipScatterRefIdeal.τ) (Cert.ChipScatterRefIdeal.main (F := Ideal))) ⟨m, fun _ => 0, g⟩ (fun r => (∀ c : Dev Cert.ChipScatterRefIdeal.nD,
      r.2.mem ((c.tc : Thread Cert.ChipScatterRefIdeal.nD Cert.ChipScatterRefIdeal.τ).loc Cert.ChipScatterRefIdeal.main_arg0) = m ((c.tc : Thread Cert.ChipScatterRefIdeal.nD Cert.ChipScatterRefIdeal.τ).loc Cert.ChipScatterRefIdeal.main_arg0)
      ∧ r.2.mem ((c.tc : Thread Cert.ChipScatterRefIdeal.nD Cert.ChipScatterRefIdeal.τ).loc Cert.ChipScatterRefIdeal.main_arg1) = m ((c.tc : Thread Cert.ChipScatterRefIdeal.nD Cert.ChipScatterRefIdeal.τ).loc Cert.ChipScatterRefIdeal.main_arg1)
      ∧ r.2.mem ((c.tc : Thread Cert.ChipScatterRefIdeal.nD Cert.ChipScatterRefIdeal.τ).loc Cert.ChipScatterRefIdeal.main_arg2) = m ((c.tc : Thread Cert.ChipScatterRefIdeal.nD Cert.ChipScatterRefIdeal.τ).loc Cert.ChipScatterRefIdeal.main_arg2)
      ∧ r.2.mem ((c.tc : Thread Cert.ChipScatterRefIdeal.nD Cert.ChipScatterRefIdeal.τ).loc Cert.ChipScatterRefIdeal.main_arg3) = m ((c.tc : Thread Cert.ChipScatterRefIdeal.nD Cert.ChipScatterRefIdeal.τ).loc Cert.ChipScatterRefIdeal.main_arg3))
      ∧ r.2.sem = fun _ => 0)

def quiescent_ChipScatterRef [hChipScatterRef : Cert.ChipScatterRef.Facts] : Prop :=
  ∀ (m : (ℓ : Loc Cert.ChipScatterRef.nD Cert.ChipScatterRef.τ Cert.ChipScatterRef.sig) → Buf (Elt Bits) ℓ) (g : Dev Cert.ChipScatterRef.nD → PrngReg), Pre_ChipScatterRef m →
    θ_run (Cert.ChipScatterRef.defs (F := Bits)) (onTc (τ := Cert.ChipScatterRef.τ) (Cert.ChipScatterRef.main (F := Bits))) ⟨m, fun _ => 0, g⟩ (fun r => (∀ c : Dev Cert.ChipScatterRef.nD,
      r.2.mem ((c.tc : Thread Cert.ChipScatterRef.nD Cert.ChipScatterRef.τ).loc Cert.ChipScatterRef.main_arg0) = m ((c.tc : Thread Cert.ChipScatterRef.nD Cert.ChipScatterRef.τ).loc Cert.ChipScatterRef.main_arg0)
      ∧ r.2.mem ((c.tc : Thread Cert.ChipScatterRef.nD Cert.ChipScatterRef.τ).loc Cert.ChipScatterRef.main_arg1) = m ((c.tc : Thread Cert.ChipScatterRef.nD Cert.ChipScatterRef.τ).loc Cert.ChipScatterRef.main_arg1)
      ∧ r.2.mem ((c.tc : Thread Cert.ChipScatterRef.nD Cert.ChipScatterRef.τ).loc Cert.ChipScatterRef.main_arg2) = m ((c.tc : Thread Cert.ChipScatterRef.nD Cert.ChipScatterRef.τ).loc Cert.ChipScatterRef.main_arg2)
      ∧ r.2.mem ((c.tc : Thread Cert.ChipScatterRef.nD Cert.ChipScatterRef.τ).loc Cert.ChipScatterRef.main_arg3) = m ((c.tc : Thread Cert.ChipScatterRef.nD Cert.ChipScatterRef.τ).loc Cert.ChipScatterRef.main_arg3))
      ∧ r.2.sem = fun _ => 0)

def quiescent_GatherWeights [hGatherWeights : Cert.GatherWeights.Facts] : Prop :=
  ∀ (m : (ℓ : Loc Cert.GatherWeights.nD Cert.GatherWeights.τ Cert.GatherWeights.sig) → Buf (Elt Bits) ℓ) (g : Dev Cert.GatherWeights.nD → PrngReg), Pre_GatherWeights m →
    θ_run (Cert.GatherWeights.defs (F := Bits)) (onTc (τ := Cert.GatherWeights.τ) (Cert.GatherWeights.main (F := Bits))) ⟨m, fun _ => 0, g⟩ (fun r => (∀ c : Dev Cert.GatherWeights.nD,
      r.2.mem ((c.tc : Thread Cert.GatherWeights.nD Cert.GatherWeights.τ).loc Cert.GatherWeights.main_arg0) = m ((c.tc : Thread Cert.GatherWeights.nD Cert.GatherWeights.τ).loc Cert.GatherWeights.main_arg0)
      ∧ r.2.mem ((c.tc : Thread Cert.GatherWeights.nD Cert.GatherWeights.τ).loc Cert.GatherWeights.main_arg1) = m ((c.tc : Thread Cert.GatherWeights.nD Cert.GatherWeights.τ).loc Cert.GatherWeights.main_arg1)
      ∧ r.2.mem ((c.tc : Thread Cert.GatherWeights.nD Cert.GatherWeights.τ).loc Cert.GatherWeights.main_arg2) = m ((c.tc : Thread Cert.GatherWeights.nD Cert.GatherWeights.τ).loc Cert.GatherWeights.main_arg2)
      ∧ r.2.mem ((c.tc : Thread Cert.GatherWeights.nD Cert.GatherWeights.τ).loc Cert.GatherWeights.main_arg3) = m ((c.tc : Thread Cert.GatherWeights.nD Cert.GatherWeights.τ).loc Cert.GatherWeights.main_arg3))
      ∧ r.2.sem = fun _ => 0)

def quiescent_GatherWeightsIdeal [hGatherWeightsIdeal : Cert.GatherWeightsIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg), Pre_GatherWeightsIdeal m →
    θ_run (Cert.GatherWeightsIdeal.defs (F := Ideal)) (onTc (τ := Cert.GatherWeightsIdeal.τ) (Cert.GatherWeightsIdeal.main (F := Ideal))) ⟨m, fun _ => 0, g⟩ (fun r => (∀ c : Dev Cert.GatherWeightsIdeal.nD,
      r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
      ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
      ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2)
      ∧ r.2.mem ((c.tc : Thread Cert.GatherWeightsIdeal.nD Cert.GatherWeightsIdeal.τ).loc Cert.GatherWeightsIdeal.main_arg3) = m ((c.tc : Thread Cert.GatherWeightsIdeal.nD Cert.GatherWeightsIdeal.τ).loc Cert.GatherWeightsIdeal.main_arg3))
      ∧ r.2.sem = fun _ => 0)

def quiescent_GatherWeightsRefIdeal [hGatherWeightsRefIdeal : Cert.GatherWeightsRefIdeal.Facts] : Prop :=
  ∀ (m : (ℓ : Loc Cert.GatherWeightsRefIdeal.nD Cert.GatherWeightsRefIdeal.τ Cert.GatherWeightsRefIdeal.sig) → Buf (Elt Ideal) ℓ) (g : Dev Cert.GatherWeightsRefIdeal.nD → PrngReg), Pre_GatherWeightsRefIdeal m →
    θ_run (Cert.GatherWeightsRefIdeal.defs (F := Ideal)) (onTc (τ := Cert.GatherWeightsRefIdeal.τ) (Cert.GatherWeightsRefIdeal.main (F := Ideal))) ⟨m, fun _ => 0, g⟩ (fun r => (∀ c : Dev Cert.GatherWeightsRefIdeal.nD,
      r.2.mem ((c.tc : Thread Cert.GatherWeightsRefIdeal.nD Cert.GatherWeightsRefIdeal.τ).loc Cert.GatherWeightsRefIdeal.main_arg0) = m ((c.tc : Thread Cert.GatherWeightsRefIdeal.nD Cert.GatherWeightsRefIdeal.τ).loc Cert.GatherWeightsRefIdeal.main_arg0)
      ∧ r.2.mem ((c.tc : Thread Cert.GatherWeightsRefIdeal.nD Cert.GatherWeightsRefIdeal.τ).loc Cert.GatherWeightsRefIdeal.main_arg1) = m ((c.tc : Thread Cert.GatherWeightsRefIdeal.nD Cert.GatherWeightsRefIdeal.τ).loc Cert.GatherWeightsRefIdeal.main_arg1)
      ∧ r.2.mem ((c.tc : Thread Cert.GatherWeightsRefIdeal.nD Cert.GatherWeightsRefIdeal.τ).loc Cert.GatherWeightsRefIdeal.main_arg2) = m ((c.tc : Thread Cert.GatherWeightsRefIdeal.nD Cert.GatherWeightsRefIdeal.τ).loc Cert.GatherWeightsRefIdeal.main_arg2)
      ∧ r.2.mem ((c.tc : Thread Cert.GatherWeightsRefIdeal.nD Cert.GatherWeightsRefIdeal.τ).loc Cert.GatherWeightsRefIdeal.main_arg3) = m ((c.tc : Thread Cert.GatherWeightsRefIdeal.nD Cert.GatherWeightsRefIdeal.τ).loc Cert.GatherWeightsRefIdeal.main_arg3))
      ∧ r.2.sem = fun _ => 0)

def quiescent_GatherWeightsRef [hGatherWeightsRef : Cert.GatherWeightsRef.Facts] : Prop :=
  ∀ (m : (ℓ : Loc Cert.GatherWeightsRef.nD Cert.GatherWeightsRef.τ Cert.GatherWeightsRef.sig) → Buf (Elt Bits) ℓ) (g : Dev Cert.GatherWeightsRef.nD → PrngReg), Pre_GatherWeightsRef m →
    θ_run (Cert.GatherWeightsRef.defs (F := Bits)) (onTc (τ := Cert.GatherWeightsRef.τ) (Cert.GatherWeightsRef.main (F := Bits))) ⟨m, fun _ => 0, g⟩ (fun r => (∀ c : Dev Cert.GatherWeightsRef.nD,
      r.2.mem ((c.tc : Thread Cert.GatherWeightsRef.nD Cert.GatherWeightsRef.τ).loc Cert.GatherWeightsRef.main_arg0) = m ((c.tc : Thread Cert.GatherWeightsRef.nD Cert.GatherWeightsRef.τ).loc Cert.GatherWeightsRef.main_arg0)
      ∧ r.2.mem ((c.tc : Thread Cert.GatherWeightsRef.nD Cert.GatherWeightsRef.τ).loc Cert.GatherWeightsRef.main_arg1) = m ((c.tc : Thread Cert.GatherWeightsRef.nD Cert.GatherWeightsRef.τ).loc Cert.GatherWeightsRef.main_arg1)
      ∧ r.2.mem ((c.tc : Thread Cert.GatherWeightsRef.nD Cert.GatherWeightsRef.τ).loc Cert.GatherWeightsRef.main_arg2) = m ((c.tc : Thread Cert.GatherWeightsRef.nD Cert.GatherWeightsRef.τ).loc Cert.GatherWeightsRef.main_arg2)
      ∧ r.2.mem ((c.tc : Thread Cert.GatherWeightsRef.nD Cert.GatherWeightsRef.τ).loc Cert.GatherWeightsRef.main_arg3) = m ((c.tc : Thread Cert.GatherWeightsRef.nD Cert.GatherWeightsRef.τ).loc Cert.GatherWeightsRef.main_arg3))
      ∧ r.2.sem = fun _ => 0)

def quiescent_PairShare [hPairShare : Cert.PairShare.Facts] : Prop :=
  ∀ (m : (ℓ : Loc Cert.PairShare.nD Cert.PairShare.τ Cert.PairShare.sig) → Buf (Elt Bits) ℓ) (g : Dev Cert.PairShare.nD → PrngReg), Pre_PairShare m →
    θ_run (Cert.PairShare.defs (F := Bits)) (onTc (τ := Cert.PairShare.τ) (Cert.PairShare.main (F := Bits))) ⟨m, fun _ => 0, g⟩ (fun r => (∀ c : Dev Cert.PairShare.nD,
      r.2.mem ((c.tc : Thread Cert.PairShare.nD Cert.PairShare.τ).loc Cert.PairShare.main_arg0) = m ((c.tc : Thread Cert.PairShare.nD Cert.PairShare.τ).loc Cert.PairShare.main_arg0)
      ∧ r.2.mem ((c.tc : Thread Cert.PairShare.nD Cert.PairShare.τ).loc Cert.PairShare.main_arg1) = m ((c.tc : Thread Cert.PairShare.nD Cert.PairShare.τ).loc Cert.PairShare.main_arg1)
      ∧ r.2.mem ((c.tc : Thread Cert.PairShare.nD Cert.PairShare.τ).loc Cert.PairShare.main_arg2) = m ((c.tc : Thread Cert.PairShare.nD Cert.PairShare.τ).loc Cert.PairShare.main_arg2)
      ∧ r.2.mem ((c.tc : Thread Cert.PairShare.nD Cert.PairShare.τ).loc Cert.PairShare.main_arg3) = m ((c.tc : Thread Cert.PairShare.nD Cert.PairShare.τ).loc Cert.PairShare.main_arg3))
      ∧ r.2.sem = fun _ => 0)

def quiescent_PairShareIdeal [hPairShareIdeal : Cert.PairShareIdeal.Facts] : Prop :=
  ∀ (m : (ℓ : Loc Cert.PairShareIdeal.nD Cert.PairShareIdeal.τ Cert.PairShareIdeal.sig) → Buf (Elt Ideal) ℓ) (g : Dev Cert.PairShareIdeal.nD → PrngReg), Pre_PairShareIdeal m →
    θ_run (Cert.PairShareIdeal.defs (F := Ideal)) (onTc (τ := Cert.PairShareIdeal.τ) (Cert.PairShareIdeal.main (F := Ideal))) ⟨m, fun _ => 0, g⟩ (fun r => (∀ c : Dev Cert.PairShareIdeal.nD,
      r.2.mem ((c.tc : Thread Cert.PairShareIdeal.nD Cert.PairShareIdeal.τ).loc Cert.PairShareIdeal.main_arg0) = m ((c.tc : Thread Cert.PairShareIdeal.nD Cert.PairShareIdeal.τ).loc Cert.PairShareIdeal.main_arg0)
      ∧ r.2.mem ((c.tc : Thread Cert.PairShareIdeal.nD Cert.PairShareIdeal.τ).loc Cert.PairShareIdeal.main_arg1) = m ((c.tc : Thread Cert.PairShareIdeal.nD Cert.PairShareIdeal.τ).loc Cert.PairShareIdeal.main_arg1)
      ∧ r.2.mem ((c.tc : Thread Cert.PairShareIdeal.nD Cert.PairShareIdeal.τ).loc Cert.PairShareIdeal.main_arg2) = m ((c.tc : Thread Cert.PairShareIdeal.nD Cert.PairShareIdeal.τ).loc Cert.PairShareIdeal.main_arg2)
      ∧ r.2.mem ((c.tc : Thread Cert.PairShareIdeal.nD Cert.PairShareIdeal.τ).loc Cert.PairShareIdeal.main_arg3) = m ((c.tc : Thread Cert.PairShareIdeal.nD Cert.PairShareIdeal.τ).loc Cert.PairShareIdeal.main_arg3))
      ∧ r.2.sem = fun _ => 0)

def quiescent_PairShareRefIdeal [hPairShareRefIdeal : Cert.PairShareRefIdeal.Facts] : Prop :=
  ∀ (m : (ℓ : Loc Cert.PairShareRefIdeal.nD Cert.PairShareRefIdeal.τ Cert.PairShareRefIdeal.sig) → Buf (Elt Ideal) ℓ) (g : Dev Cert.PairShareRefIdeal.nD → PrngReg), Pre_PairShareRefIdeal m →
    θ_run (Cert.PairShareRefIdeal.defs (F := Ideal)) (onTc (τ := Cert.PairShareRefIdeal.τ) (Cert.PairShareRefIdeal.main (F := Ideal))) ⟨m, fun _ => 0, g⟩ (fun r => (∀ c : Dev Cert.PairShareRefIdeal.nD,
      r.2.mem ((c.tc : Thread Cert.PairShareRefIdeal.nD Cert.PairShareRefIdeal.τ).loc Cert.PairShareRefIdeal.main_arg0) = m ((c.tc : Thread Cert.PairShareRefIdeal.nD Cert.PairShareRefIdeal.τ).loc Cert.PairShareRefIdeal.main_arg0)
      ∧ r.2.mem ((c.tc : Thread Cert.PairShareRefIdeal.nD Cert.PairShareRefIdeal.τ).loc Cert.PairShareRefIdeal.main_arg1) = m ((c.tc : Thread Cert.PairShareRefIdeal.nD Cert.PairShareRefIdeal.τ).loc Cert.PairShareRefIdeal.main_arg1)
      ∧ r.2.mem ((c.tc : Thread Cert.PairShareRefIdeal.nD Cert.PairShareRefIdeal.τ).loc Cert.PairShareRefIdeal.main_arg2) = m ((c.tc : Thread Cert.PairShareRefIdeal.nD Cert.PairShareRefIdeal.τ).loc Cert.PairShareRefIdeal.main_arg2)
      ∧ r.2.mem ((c.tc : Thread Cert.PairShareRefIdeal.nD Cert.PairShareRefIdeal.τ).loc Cert.PairShareRefIdeal.main_arg3) = m ((c.tc : Thread Cert.PairShareRefIdeal.nD Cert.PairShareRefIdeal.τ).loc Cert.PairShareRefIdeal.main_arg3))
      ∧ r.2.sem = fun _ => 0)

def quiescent_PairShareRef [hPairShareRef : Cert.PairShareRef.Facts] : Prop :=
  ∀ (m : (ℓ : Loc Cert.PairShareRef.nD Cert.PairShareRef.τ Cert.PairShareRef.sig) → Buf (Elt Bits) ℓ) (g : Dev Cert.PairShareRef.nD → PrngReg), Pre_PairShareRef m →
    θ_run (Cert.PairShareRef.defs (F := Bits)) (onTc (τ := Cert.PairShareRef.τ) (Cert.PairShareRef.main (F := Bits))) ⟨m, fun _ => 0, g⟩ (fun r => (∀ c : Dev Cert.PairShareRef.nD,
      r.2.mem ((c.tc : Thread Cert.PairShareRef.nD Cert.PairShareRef.τ).loc Cert.PairShareRef.main_arg0) = m ((c.tc : Thread Cert.PairShareRef.nD Cert.PairShareRef.τ).loc Cert.PairShareRef.main_arg0)
      ∧ r.2.mem ((c.tc : Thread Cert.PairShareRef.nD Cert.PairShareRef.τ).loc Cert.PairShareRef.main_arg1) = m ((c.tc : Thread Cert.PairShareRef.nD Cert.PairShareRef.τ).loc Cert.PairShareRef.main_arg1)
      ∧ r.2.mem ((c.tc : Thread Cert.PairShareRef.nD Cert.PairShareRef.τ).loc Cert.PairShareRef.main_arg2) = m ((c.tc : Thread Cert.PairShareRef.nD Cert.PairShareRef.τ).loc Cert.PairShareRef.main_arg2)
      ∧ r.2.mem ((c.tc : Thread Cert.PairShareRef.nD Cert.PairShareRef.τ).loc Cert.PairShareRef.main_arg3) = m ((c.tc : Thread Cert.PairShareRef.nD Cert.PairShareRef.τ).loc Cert.PairShareRef.main_arg3))
      ∧ r.2.sem = fun _ => 0)

def quiescent_PairSumEvIn [hPairSumEvIn : Cert.PairSumEvIn.Facts] : Prop :=
  ∀ (m : (ℓ : Loc Cert.PairSumEvIn.nD Cert.PairSumEvIn.τ Cert.PairSumEvIn.sig) → Buf (Elt Bits) ℓ) (g : Dev Cert.PairSumEvIn.nD → PrngReg), Pre_PairSumEvIn m →
    θ_run (Cert.PairSumEvIn.defs (F := Bits)) (onTc (τ := Cert.PairSumEvIn.τ) (Cert.PairSumEvIn.main (F := Bits))) ⟨m, fun _ => 0, g⟩ (fun r => (∀ c : Dev Cert.PairSumEvIn.nD,
      r.2.mem ((c.tc : Thread Cert.PairSumEvIn.nD Cert.PairSumEvIn.τ).loc Cert.PairSumEvIn.main_arg0) = m ((c.tc : Thread Cert.PairSumEvIn.nD Cert.PairSumEvIn.τ).loc Cert.PairSumEvIn.main_arg0)
      ∧ r.2.mem ((c.tc : Thread Cert.PairSumEvIn.nD Cert.PairSumEvIn.τ).loc Cert.PairSumEvIn.main_arg1) = m ((c.tc : Thread Cert.PairSumEvIn.nD Cert.PairSumEvIn.τ).loc Cert.PairSumEvIn.main_arg1))
      ∧ r.2.sem = fun _ => 0)

def quiescent_PairSumEvInIdeal [hPairSumEvInIdeal : Cert.PairSumEvInIdeal.Facts] : Prop :=
  ∀ (m : (ℓ : Loc Cert.PairSumEvInIdeal.nD Cert.PairSumEvInIdeal.τ Cert.PairSumEvInIdeal.sig) → Buf (Elt Ideal) ℓ) (g : Dev Cert.PairSumEvInIdeal.nD → PrngReg), Pre_PairSumEvInIdeal m →
    θ_run (Cert.PairSumEvInIdeal.defs (F := Ideal)) (onTc (τ := Cert.PairSumEvInIdeal.τ) (Cert.PairSumEvInIdeal.main (F := Ideal))) ⟨m, fun _ => 0, g⟩ (fun r => (∀ c : Dev Cert.PairSumEvInIdeal.nD,
      r.2.mem ((c.tc : Thread Cert.PairSumEvInIdeal.nD Cert.PairSumEvInIdeal.τ).loc Cert.PairSumEvInIdeal.main_arg0) = m ((c.tc : Thread Cert.PairSumEvInIdeal.nD Cert.PairSumEvInIdeal.τ).loc Cert.PairSumEvInIdeal.main_arg0)
      ∧ r.2.mem ((c.tc : Thread Cert.PairSumEvInIdeal.nD Cert.PairSumEvInIdeal.τ).loc Cert.PairSumEvInIdeal.main_arg1) = m ((c.tc : Thread Cert.PairSumEvInIdeal.nD Cert.PairSumEvInIdeal.τ).loc Cert.PairSumEvInIdeal.main_arg1))
      ∧ r.2.sem = fun _ => 0)

def quiescent_PairSumEvInRefIdeal [hPairSumEvInRefIdeal : Cert.PairSumEvInRefIdeal.Facts] : Prop :=
  ∀ (m : (ℓ : Loc Cert.PairSumEvInRefIdeal.nD Cert.PairSumEvInRefIdeal.τ Cert.PairSumEvInRefIdeal.sig) → Buf (Elt Ideal) ℓ) (g : Dev Cert.PairSumEvInRefIdeal.nD → PrngReg), Pre_PairSumEvInRefIdeal m →
    θ_run (Cert.PairSumEvInRefIdeal.defs (F := Ideal)) (onTc (τ := Cert.PairSumEvInRefIdeal.τ) (Cert.PairSumEvInRefIdeal.main (F := Ideal))) ⟨m, fun _ => 0, g⟩ (fun r => (∀ c : Dev Cert.PairSumEvInRefIdeal.nD,
      r.2.mem ((c.tc : Thread Cert.PairSumEvInRefIdeal.nD Cert.PairSumEvInRefIdeal.τ).loc Cert.PairSumEvInRefIdeal.main_arg0) = m ((c.tc : Thread Cert.PairSumEvInRefIdeal.nD Cert.PairSumEvInRefIdeal.τ).loc Cert.PairSumEvInRefIdeal.main_arg0)
      ∧ r.2.mem ((c.tc : Thread Cert.PairSumEvInRefIdeal.nD Cert.PairSumEvInRefIdeal.τ).loc Cert.PairSumEvInRefIdeal.main_arg1) = m ((c.tc : Thread Cert.PairSumEvInRefIdeal.nD Cert.PairSumEvInRefIdeal.τ).loc Cert.PairSumEvInRefIdeal.main_arg1))
      ∧ r.2.sem = fun _ => 0)

def quiescent_PairSumEvInRef [hPairSumEvInRef : Cert.PairSumEvInRef.Facts] : Prop :=
  ∀ (m : (ℓ : Loc Cert.PairSumEvInRef.nD Cert.PairSumEvInRef.τ Cert.PairSumEvInRef.sig) → Buf (Elt Bits) ℓ) (g : Dev Cert.PairSumEvInRef.nD → PrngReg), Pre_PairSumEvInRef m →
    θ_run (Cert.PairSumEvInRef.defs (F := Bits)) (onTc (τ := Cert.PairSumEvInRef.τ) (Cert.PairSumEvInRef.main (F := Bits))) ⟨m, fun _ => 0, g⟩ (fun r => (∀ c : Dev Cert.PairSumEvInRef.nD,
      r.2.mem ((c.tc : Thread Cert.PairSumEvInRef.nD Cert.PairSumEvInRef.τ).loc Cert.PairSumEvInRef.main_arg0) = m ((c.tc : Thread Cert.PairSumEvInRef.nD Cert.PairSumEvInRef.τ).loc Cert.PairSumEvInRef.main_arg0)
      ∧ r.2.mem ((c.tc : Thread Cert.PairSumEvInRef.nD Cert.PairSumEvInRef.τ).loc Cert.PairSumEvInRef.main_arg1) = m ((c.tc : Thread Cert.PairSumEvInRef.nD Cert.PairSumEvInRef.τ).loc Cert.PairSumEvInRef.main_arg1))
      ∧ r.2.sem = fun _ => 0)

def quiescent_PairSumOut [hPairSumOut : Cert.PairSumOut.Facts] : Prop :=
  ∀ (m : (ℓ : Loc Cert.PairSumOut.nD Cert.PairSumOut.τ Cert.PairSumOut.sig) → Buf (Elt Bits) ℓ) (g : Dev Cert.PairSumOut.nD → PrngReg), Pre_PairSumOut m →
    θ_run (Cert.PairSumOut.defs (F := Bits)) (onTc (τ := Cert.PairSumOut.τ) (Cert.PairSumOut.main (F := Bits))) ⟨m, fun _ => 0, g⟩ (fun r => (∀ c : Dev Cert.PairSumOut.nD,
      r.2.mem ((c.tc : Thread Cert.PairSumOut.nD Cert.PairSumOut.τ).loc Cert.PairSumOut.main_arg0) = m ((c.tc : Thread Cert.PairSumOut.nD Cert.PairSumOut.τ).loc Cert.PairSumOut.main_arg0)
      ∧ r.2.mem ((c.tc : Thread Cert.PairSumOut.nD Cert.PairSumOut.τ).loc Cert.PairSumOut.main_arg1) = m ((c.tc : Thread Cert.PairSumOut.nD Cert.PairSumOut.τ).loc Cert.PairSumOut.main_arg1))
      ∧ r.2.sem = fun _ => 0)

def quiescent_PairSumOutIdeal [hPairSumOutIdeal : Cert.PairSumOutIdeal.Facts] : Prop :=
  ∀ (m : (ℓ : Loc Cert.PairSumOutIdeal.nD Cert.PairSumOutIdeal.τ Cert.PairSumOutIdeal.sig) → Buf (Elt Ideal) ℓ) (g : Dev Cert.PairSumOutIdeal.nD → PrngReg), Pre_PairSumOutIdeal m →
    θ_run (Cert.PairSumOutIdeal.defs (F := Ideal)) (onTc (τ := Cert.PairSumOutIdeal.τ) (Cert.PairSumOutIdeal.main (F := Ideal))) ⟨m, fun _ => 0, g⟩ (fun r => (∀ c : Dev Cert.PairSumOutIdeal.nD,
      r.2.mem ((c.tc : Thread Cert.PairSumOutIdeal.nD Cert.PairSumOutIdeal.τ).loc Cert.PairSumOutIdeal.main_arg0) = m ((c.tc : Thread Cert.PairSumOutIdeal.nD Cert.PairSumOutIdeal.τ).loc Cert.PairSumOutIdeal.main_arg0)
      ∧ r.2.mem ((c.tc : Thread Cert.PairSumOutIdeal.nD Cert.PairSumOutIdeal.τ).loc Cert.PairSumOutIdeal.main_arg1) = m ((c.tc : Thread Cert.PairSumOutIdeal.nD Cert.PairSumOutIdeal.τ).loc Cert.PairSumOutIdeal.main_arg1))
      ∧ r.2.sem = fun _ => 0)

def quiescent_PairSumOutRefIdeal [hPairSumOutRefIdeal : Cert.PairSumOutRefIdeal.Facts] : Prop :=
  ∀ (m : (ℓ : Loc Cert.PairSumOutRefIdeal.nD Cert.PairSumOutRefIdeal.τ Cert.PairSumOutRefIdeal.sig) → Buf (Elt Ideal) ℓ) (g : Dev Cert.PairSumOutRefIdeal.nD → PrngReg), Pre_PairSumOutRefIdeal m →
    θ_run (Cert.PairSumOutRefIdeal.defs (F := Ideal)) (onTc (τ := Cert.PairSumOutRefIdeal.τ) (Cert.PairSumOutRefIdeal.main (F := Ideal))) ⟨m, fun _ => 0, g⟩ (fun r => (∀ c : Dev Cert.PairSumOutRefIdeal.nD,
      r.2.mem ((c.tc : Thread Cert.PairSumOutRefIdeal.nD Cert.PairSumOutRefIdeal.τ).loc Cert.PairSumOutRefIdeal.main_arg0) = m ((c.tc : Thread Cert.PairSumOutRefIdeal.nD Cert.PairSumOutRefIdeal.τ).loc Cert.PairSumOutRefIdeal.main_arg0)
      ∧ r.2.mem ((c.tc : Thread Cert.PairSumOutRefIdeal.nD Cert.PairSumOutRefIdeal.τ).loc Cert.PairSumOutRefIdeal.main_arg1) = m ((c.tc : Thread Cert.PairSumOutRefIdeal.nD Cert.PairSumOutRefIdeal.τ).loc Cert.PairSumOutRefIdeal.main_arg1))
      ∧ r.2.sem = fun _ => 0)

def quiescent_PairSumOutRef [hPairSumOutRef : Cert.PairSumOutRef.Facts] : Prop :=
  ∀ (m : (ℓ : Loc Cert.PairSumOutRef.nD Cert.PairSumOutRef.τ Cert.PairSumOutRef.sig) → Buf (Elt Bits) ℓ) (g : Dev Cert.PairSumOutRef.nD → PrngReg), Pre_PairSumOutRef m →
    θ_run (Cert.PairSumOutRef.defs (F := Bits)) (onTc (τ := Cert.PairSumOutRef.τ) (Cert.PairSumOutRef.main (F := Bits))) ⟨m, fun _ => 0, g⟩ (fun r => (∀ c : Dev Cert.PairSumOutRef.nD,
      r.2.mem ((c.tc : Thread Cert.PairSumOutRef.nD Cert.PairSumOutRef.τ).loc Cert.PairSumOutRef.main_arg0) = m ((c.tc : Thread Cert.PairSumOutRef.nD Cert.PairSumOutRef.τ).loc Cert.PairSumOutRef.main_arg0)
      ∧ r.2.mem ((c.tc : Thread Cert.PairSumOutRef.nD Cert.PairSumOutRef.τ).loc Cert.PairSumOutRef.main_arg1) = m ((c.tc : Thread Cert.PairSumOutRef.nD Cert.PairSumOutRef.τ).loc Cert.PairSumOutRef.main_arg1))
      ∧ r.2.sem = fun _ => 0)

def quiescent_PairSumOdIn [hPairSumOdIn : Cert.PairSumOdIn.Facts] : Prop :=
  ∀ (m : (ℓ : Loc Cert.PairSumOdIn.nD Cert.PairSumOdIn.τ Cert.PairSumOdIn.sig) → Buf (Elt Bits) ℓ) (g : Dev Cert.PairSumOdIn.nD → PrngReg), Pre_PairSumOdIn m →
    θ_run (Cert.PairSumOdIn.defs (F := Bits)) (onTc (τ := Cert.PairSumOdIn.τ) (Cert.PairSumOdIn.main (F := Bits))) ⟨m, fun _ => 0, g⟩ (fun r => (∀ c : Dev Cert.PairSumOdIn.nD,
      r.2.mem ((c.tc : Thread Cert.PairSumOdIn.nD Cert.PairSumOdIn.τ).loc Cert.PairSumOdIn.main_arg0) = m ((c.tc : Thread Cert.PairSumOdIn.nD Cert.PairSumOdIn.τ).loc Cert.PairSumOdIn.main_arg0)
      ∧ r.2.mem ((c.tc : Thread Cert.PairSumOdIn.nD Cert.PairSumOdIn.τ).loc Cert.PairSumOdIn.main_arg1) = m ((c.tc : Thread Cert.PairSumOdIn.nD Cert.PairSumOdIn.τ).loc Cert.PairSumOdIn.main_arg1))
      ∧ r.2.sem = fun _ => 0)

def quiescent_PairSumOdInIdeal [hPairSumOdInIdeal : Cert.PairSumOdInIdeal.Facts] : Prop :=
  ∀ (m : (ℓ : Loc Cert.PairSumOdInIdeal.nD Cert.PairSumOdInIdeal.τ Cert.PairSumOdInIdeal.sig) → Buf (Elt Ideal) ℓ) (g : Dev Cert.PairSumOdInIdeal.nD → PrngReg), Pre_PairSumOdInIdeal m →
    θ_run (Cert.PairSumOdInIdeal.defs (F := Ideal)) (onTc (τ := Cert.PairSumOdInIdeal.τ) (Cert.PairSumOdInIdeal.main (F := Ideal))) ⟨m, fun _ => 0, g⟩ (fun r => (∀ c : Dev Cert.PairSumOdInIdeal.nD,
      r.2.mem ((c.tc : Thread Cert.PairSumOdInIdeal.nD Cert.PairSumOdInIdeal.τ).loc Cert.PairSumOdInIdeal.main_arg0) = m ((c.tc : Thread Cert.PairSumOdInIdeal.nD Cert.PairSumOdInIdeal.τ).loc Cert.PairSumOdInIdeal.main_arg0)
      ∧ r.2.mem ((c.tc : Thread Cert.PairSumOdInIdeal.nD Cert.PairSumOdInIdeal.τ).loc Cert.PairSumOdInIdeal.main_arg1) = m ((c.tc : Thread Cert.PairSumOdInIdeal.nD Cert.PairSumOdInIdeal.τ).loc Cert.PairSumOdInIdeal.main_arg1))
      ∧ r.2.sem = fun _ => 0)

def quiescent_PairSumOdInRefIdeal [hPairSumOdInRefIdeal : Cert.PairSumOdInRefIdeal.Facts] : Prop :=
  ∀ (m : (ℓ : Loc Cert.PairSumOdInRefIdeal.nD Cert.PairSumOdInRefIdeal.τ Cert.PairSumOdInRefIdeal.sig) → Buf (Elt Ideal) ℓ) (g : Dev Cert.PairSumOdInRefIdeal.nD → PrngReg), Pre_PairSumOdInRefIdeal m →
    θ_run (Cert.PairSumOdInRefIdeal.defs (F := Ideal)) (onTc (τ := Cert.PairSumOdInRefIdeal.τ) (Cert.PairSumOdInRefIdeal.main (F := Ideal))) ⟨m, fun _ => 0, g⟩ (fun r => (∀ c : Dev Cert.PairSumOdInRefIdeal.nD,
      r.2.mem ((c.tc : Thread Cert.PairSumOdInRefIdeal.nD Cert.PairSumOdInRefIdeal.τ).loc Cert.PairSumOdInRefIdeal.main_arg0) = m ((c.tc : Thread Cert.PairSumOdInRefIdeal.nD Cert.PairSumOdInRefIdeal.τ).loc Cert.PairSumOdInRefIdeal.main_arg0)
      ∧ r.2.mem ((c.tc : Thread Cert.PairSumOdInRefIdeal.nD Cert.PairSumOdInRefIdeal.τ).loc Cert.PairSumOdInRefIdeal.main_arg1) = m ((c.tc : Thread Cert.PairSumOdInRefIdeal.nD Cert.PairSumOdInRefIdeal.τ).loc Cert.PairSumOdInRefIdeal.main_arg1))
      ∧ r.2.sem = fun _ => 0)

def quiescent_PairSumOdInRef [hPairSumOdInRef : Cert.PairSumOdInRef.Facts] : Prop :=
  ∀ (m : (ℓ : Loc Cert.PairSumOdInRef.nD Cert.PairSumOdInRef.τ Cert.PairSumOdInRef.sig) → Buf (Elt Bits) ℓ) (g : Dev Cert.PairSumOdInRef.nD → PrngReg), Pre_PairSumOdInRef m →
    θ_run (Cert.PairSumOdInRef.defs (F := Bits)) (onTc (τ := Cert.PairSumOdInRef.τ) (Cert.PairSumOdInRef.main (F := Bits))) ⟨m, fun _ => 0, g⟩ (fun r => (∀ c : Dev Cert.PairSumOdInRef.nD,
      r.2.mem ((c.tc : Thread Cert.PairSumOdInRef.nD Cert.PairSumOdInRef.τ).loc Cert.PairSumOdInRef.main_arg0) = m ((c.tc : Thread Cert.PairSumOdInRef.nD Cert.PairSumOdInRef.τ).loc Cert.PairSumOdInRef.main_arg0)
      ∧ r.2.mem ((c.tc : Thread Cert.PairSumOdInRef.nD Cert.PairSumOdInRef.τ).loc Cert.PairSumOdInRef.main_arg1) = m ((c.tc : Thread Cert.PairSumOdInRef.nD Cert.PairSumOdInRef.τ).loc Cert.PairSumOdInRef.main_arg1))
      ∧ r.2.sem = fun _ => 0)

def quiescent_SlotSumEvIn [hSlotSumEvIn : Cert.SlotSumEvIn.Facts] : Prop :=
  ∀ (m : (ℓ : Loc Cert.SlotSumEvIn.nD Cert.SlotSumEvIn.τ Cert.SlotSumEvIn.sig) → Buf (Elt Bits) ℓ) (g : Dev Cert.SlotSumEvIn.nD → PrngReg), Pre_SlotSumEvIn m →
    θ_run (Cert.SlotSumEvIn.defs (F := Bits)) (onTc (τ := Cert.SlotSumEvIn.τ) (Cert.SlotSumEvIn.main (F := Bits))) ⟨m, fun _ => 0, g⟩ (fun r => (∀ c : Dev Cert.SlotSumEvIn.nD,
      r.2.mem ((c.tc : Thread Cert.SlotSumEvIn.nD Cert.SlotSumEvIn.τ).loc Cert.SlotSumEvIn.main_arg0) = m ((c.tc : Thread Cert.SlotSumEvIn.nD Cert.SlotSumEvIn.τ).loc Cert.SlotSumEvIn.main_arg0))
      ∧ r.2.sem = fun _ => 0)

def quiescent_SlotSumEvInIdeal [hSlotSumEvInIdeal : Cert.SlotSumEvInIdeal.Facts] : Prop :=
  ∀ (m : (ℓ : Loc Cert.SlotSumEvInIdeal.nD Cert.SlotSumEvInIdeal.τ Cert.SlotSumEvInIdeal.sig) → Buf (Elt Ideal) ℓ) (g : Dev Cert.SlotSumEvInIdeal.nD → PrngReg), Pre_SlotSumEvInIdeal m →
    θ_run (Cert.SlotSumEvInIdeal.defs (F := Ideal)) (onTc (τ := Cert.SlotSumEvInIdeal.τ) (Cert.SlotSumEvInIdeal.main (F := Ideal))) ⟨m, fun _ => 0, g⟩ (fun r => (∀ c : Dev Cert.SlotSumEvInIdeal.nD,
      r.2.mem ((c.tc : Thread Cert.SlotSumEvInIdeal.nD Cert.SlotSumEvInIdeal.τ).loc Cert.SlotSumEvInIdeal.main_arg0) = m ((c.tc : Thread Cert.SlotSumEvInIdeal.nD Cert.SlotSumEvInIdeal.τ).loc Cert.SlotSumEvInIdeal.main_arg0))
      ∧ r.2.sem = fun _ => 0)

def quiescent_SlotSumEvInRefIdeal [hSlotSumEvInRefIdeal : Cert.SlotSumEvInRefIdeal.Facts] : Prop :=
  ∀ (m : (ℓ : Loc Cert.SlotSumEvInRefIdeal.nD Cert.SlotSumEvInRefIdeal.τ Cert.SlotSumEvInRefIdeal.sig) → Buf (Elt Ideal) ℓ) (g : Dev Cert.SlotSumEvInRefIdeal.nD → PrngReg), Pre_SlotSumEvInRefIdeal m →
    θ_run (Cert.SlotSumEvInRefIdeal.defs (F := Ideal)) (onTc (τ := Cert.SlotSumEvInRefIdeal.τ) (Cert.SlotSumEvInRefIdeal.main (F := Ideal))) ⟨m, fun _ => 0, g⟩ (fun r => (∀ c : Dev Cert.SlotSumEvInRefIdeal.nD,
      r.2.mem ((c.tc : Thread Cert.SlotSumEvInRefIdeal.nD Cert.SlotSumEvInRefIdeal.τ).loc Cert.SlotSumEvInRefIdeal.main_arg0) = m ((c.tc : Thread Cert.SlotSumEvInRefIdeal.nD Cert.SlotSumEvInRefIdeal.τ).loc Cert.SlotSumEvInRefIdeal.main_arg0))
      ∧ r.2.sem = fun _ => 0)

def quiescent_SlotSumOut [hSlotSumOut : Cert.SlotSumOut.Facts] : Prop :=
  ∀ (m : (ℓ : Loc Cert.SlotSumOut.nD Cert.SlotSumOut.τ Cert.SlotSumOut.sig) → Buf (Elt Bits) ℓ) (g : Dev Cert.SlotSumOut.nD → PrngReg), Pre_SlotSumOut m →
    θ_run (Cert.SlotSumOut.defs (F := Bits)) (onTc (τ := Cert.SlotSumOut.τ) (Cert.SlotSumOut.main (F := Bits))) ⟨m, fun _ => 0, g⟩ (fun r => (∀ c : Dev Cert.SlotSumOut.nD,
      r.2.mem ((c.tc : Thread Cert.SlotSumOut.nD Cert.SlotSumOut.τ).loc Cert.SlotSumOut.main_arg0) = m ((c.tc : Thread Cert.SlotSumOut.nD Cert.SlotSumOut.τ).loc Cert.SlotSumOut.main_arg0))
      ∧ r.2.sem = fun _ => 0)

def quiescent_SlotSumOutIdeal [hSlotSumOutIdeal : Cert.SlotSumOutIdeal.Facts] : Prop :=
  ∀ (m : (ℓ : Loc Cert.SlotSumOutIdeal.nD Cert.SlotSumOutIdeal.τ Cert.SlotSumOutIdeal.sig) → Buf (Elt Ideal) ℓ) (g : Dev Cert.SlotSumOutIdeal.nD → PrngReg), Pre_SlotSumOutIdeal m →
    θ_run (Cert.SlotSumOutIdeal.defs (F := Ideal)) (onTc (τ := Cert.SlotSumOutIdeal.τ) (Cert.SlotSumOutIdeal.main (F := Ideal))) ⟨m, fun _ => 0, g⟩ (fun r => (∀ c : Dev Cert.SlotSumOutIdeal.nD,
      r.2.mem ((c.tc : Thread Cert.SlotSumOutIdeal.nD Cert.SlotSumOutIdeal.τ).loc Cert.SlotSumOutIdeal.main_arg0) = m ((c.tc : Thread Cert.SlotSumOutIdeal.nD Cert.SlotSumOutIdeal.τ).loc Cert.SlotSumOutIdeal.main_arg0))
      ∧ r.2.sem = fun _ => 0)

def quiescent_SlotSumOutRefIdeal [hSlotSumOutRefIdeal : Cert.SlotSumOutRefIdeal.Facts] : Prop :=
  ∀ (m : (ℓ : Loc Cert.SlotSumOutRefIdeal.nD Cert.SlotSumOutRefIdeal.τ Cert.SlotSumOutRefIdeal.sig) → Buf (Elt Ideal) ℓ) (g : Dev Cert.SlotSumOutRefIdeal.nD → PrngReg), Pre_SlotSumOutRefIdeal m →
    θ_run (Cert.SlotSumOutRefIdeal.defs (F := Ideal)) (onTc (τ := Cert.SlotSumOutRefIdeal.τ) (Cert.SlotSumOutRefIdeal.main (F := Ideal))) ⟨m, fun _ => 0, g⟩ (fun r => (∀ c : Dev Cert.SlotSumOutRefIdeal.nD,
      r.2.mem ((c.tc : Thread Cert.SlotSumOutRefIdeal.nD Cert.SlotSumOutRefIdeal.τ).loc Cert.SlotSumOutRefIdeal.main_arg0) = m ((c.tc : Thread Cert.SlotSumOutRefIdeal.nD Cert.SlotSumOutRefIdeal.τ).loc Cert.SlotSumOutRefIdeal.main_arg0))
      ∧ r.2.sem = fun _ => 0)

def quiescent_SlotSumOdIn [hSlotSumOdIn : Cert.SlotSumOdIn.Facts] : Prop :=
  ∀ (m : (ℓ : Loc Cert.SlotSumOdIn.nD Cert.SlotSumOdIn.τ Cert.SlotSumOdIn.sig) → Buf (Elt Bits) ℓ) (g : Dev Cert.SlotSumOdIn.nD → PrngReg), Pre_SlotSumOdIn m →
    θ_run (Cert.SlotSumOdIn.defs (F := Bits)) (onTc (τ := Cert.SlotSumOdIn.τ) (Cert.SlotSumOdIn.main (F := Bits))) ⟨m, fun _ => 0, g⟩ (fun r => (∀ c : Dev Cert.SlotSumOdIn.nD,
      r.2.mem ((c.tc : Thread Cert.SlotSumOdIn.nD Cert.SlotSumOdIn.τ).loc Cert.SlotSumOdIn.main_arg0) = m ((c.tc : Thread Cert.SlotSumOdIn.nD Cert.SlotSumOdIn.τ).loc Cert.SlotSumOdIn.main_arg0))
      ∧ r.2.sem = fun _ => 0)

def quiescent_SlotSumOdInIdeal [hSlotSumOdInIdeal : Cert.SlotSumOdInIdeal.Facts] : Prop :=
  ∀ (m : (ℓ : Loc Cert.SlotSumOdInIdeal.nD Cert.SlotSumOdInIdeal.τ Cert.SlotSumOdInIdeal.sig) → Buf (Elt Ideal) ℓ) (g : Dev Cert.SlotSumOdInIdeal.nD → PrngReg), Pre_SlotSumOdInIdeal m →
    θ_run (Cert.SlotSumOdInIdeal.defs (F := Ideal)) (onTc (τ := Cert.SlotSumOdInIdeal.τ) (Cert.SlotSumOdInIdeal.main (F := Ideal))) ⟨m, fun _ => 0, g⟩ (fun r => (∀ c : Dev Cert.SlotSumOdInIdeal.nD,
      r.2.mem ((c.tc : Thread Cert.SlotSumOdInIdeal.nD Cert.SlotSumOdInIdeal.τ).loc Cert.SlotSumOdInIdeal.main_arg0) = m ((c.tc : Thread Cert.SlotSumOdInIdeal.nD Cert.SlotSumOdInIdeal.τ).loc Cert.SlotSumOdInIdeal.main_arg0))
      ∧ r.2.sem = fun _ => 0)

def quiescent_SlotSumOdInRefIdeal [hSlotSumOdInRefIdeal : Cert.SlotSumOdInRefIdeal.Facts] : Prop :=
  ∀ (m : (ℓ : Loc Cert.SlotSumOdInRefIdeal.nD Cert.SlotSumOdInRefIdeal.τ Cert.SlotSumOdInRefIdeal.sig) → Buf (Elt Ideal) ℓ) (g : Dev Cert.SlotSumOdInRefIdeal.nD → PrngReg), Pre_SlotSumOdInRefIdeal m →
    θ_run (Cert.SlotSumOdInRefIdeal.defs (F := Ideal)) (onTc (τ := Cert.SlotSumOdInRefIdeal.τ) (Cert.SlotSumOdInRefIdeal.main (F := Ideal))) ⟨m, fun _ => 0, g⟩ (fun r => (∀ c : Dev Cert.SlotSumOdInRefIdeal.nD,
      r.2.mem ((c.tc : Thread Cert.SlotSumOdInRefIdeal.nD Cert.SlotSumOdInRefIdeal.τ).loc Cert.SlotSumOdInRefIdeal.main_arg0) = m ((c.tc : Thread Cert.SlotSumOdInRefIdeal.nD Cert.SlotSumOdInRefIdeal.τ).loc Cert.SlotSumOdInRefIdeal.main_arg0))
      ∧ r.2.sem = fun _ => 0)

def quiescent_SmallGrads [hSmallGrads : Cert.SmallGrads.Facts] : Prop :=
  ∀ (m : (ℓ : Loc Cert.SmallGrads.nD Cert.SmallGrads.τ Cert.SmallGrads.sig) → Buf (Elt Bits) ℓ) (g : Dev Cert.SmallGrads.nD → PrngReg), Pre_SmallGrads m →
    θ_run (Cert.SmallGrads.defs (F := Bits)) (onTc (τ := Cert.SmallGrads.τ) (Cert.SmallGrads.main (F := Bits))) ⟨m, fun _ => 0, g⟩ (fun r => (∀ c : Dev Cert.SmallGrads.nD,
      r.2.mem ((c.tc : Thread Cert.SmallGrads.nD Cert.SmallGrads.τ).loc Cert.SmallGrads.main_arg0) = m ((c.tc : Thread Cert.SmallGrads.nD Cert.SmallGrads.τ).loc Cert.SmallGrads.main_arg0)
      ∧ r.2.mem ((c.tc : Thread Cert.SmallGrads.nD Cert.SmallGrads.τ).loc Cert.SmallGrads.main_arg1) = m ((c.tc : Thread Cert.SmallGrads.nD Cert.SmallGrads.τ).loc Cert.SmallGrads.main_arg1)
      ∧ r.2.mem ((c.tc : Thread Cert.SmallGrads.nD Cert.SmallGrads.τ).loc Cert.SmallGrads.main_arg2) = m ((c.tc : Thread Cert.SmallGrads.nD Cert.SmallGrads.τ).loc Cert.SmallGrads.main_arg2)
      ∧ r.2.mem ((c.tc : Thread Cert.SmallGrads.nD Cert.SmallGrads.τ).loc Cert.SmallGrads.main_arg3) = m ((c.tc : Thread Cert.SmallGrads.nD Cert.SmallGrads.τ).loc Cert.SmallGrads.main_arg3)
      ∧ r.2.mem ((c.tc : Thread Cert.SmallGrads.nD Cert.SmallGrads.τ).loc Cert.SmallGrads.main_arg4) = m ((c.tc : Thread Cert.SmallGrads.nD Cert.SmallGrads.τ).loc Cert.SmallGrads.main_arg4)
      ∧ r.2.mem ((c.tc : Thread Cert.SmallGrads.nD Cert.SmallGrads.τ).loc Cert.SmallGrads.main_arg5) = m ((c.tc : Thread Cert.SmallGrads.nD Cert.SmallGrads.τ).loc Cert.SmallGrads.main_arg5)
      ∧ r.2.mem ((c.tc : Thread Cert.SmallGrads.nD Cert.SmallGrads.τ).loc Cert.SmallGrads.main_arg6) = m ((c.tc : Thread Cert.SmallGrads.nD Cert.SmallGrads.τ).loc Cert.SmallGrads.main_arg6)
      ∧ r.2.mem ((c.tc : Thread Cert.SmallGrads.nD Cert.SmallGrads.τ).loc Cert.SmallGrads.main_arg7) = m ((c.tc : Thread Cert.SmallGrads.nD Cert.SmallGrads.τ).loc Cert.SmallGrads.main_arg7)
      ∧ r.2.mem ((c.tc : Thread Cert.SmallGrads.nD Cert.SmallGrads.τ).loc Cert.SmallGrads.main_arg8) = m ((c.tc : Thread Cert.SmallGrads.nD Cert.SmallGrads.τ).loc Cert.SmallGrads.main_arg8)
      ∧ r.2.mem ((c.tc : Thread Cert.SmallGrads.nD Cert.SmallGrads.τ).loc Cert.SmallGrads.main_arg9) = m ((c.tc : Thread Cert.SmallGrads.nD Cert.SmallGrads.τ).loc Cert.SmallGrads.main_arg9)
      ∧ r.2.mem ((c.tc : Thread Cert.SmallGrads.nD Cert.SmallGrads.τ).loc Cert.SmallGrads.main_arg10) = m ((c.tc : Thread Cert.SmallGrads.nD Cert.SmallGrads.τ).loc Cert.SmallGrads.main_arg10)
      ∧ r.2.mem ((c.tc : Thread Cert.SmallGrads.nD Cert.SmallGrads.τ).loc Cert.SmallGrads.main_arg11) = m ((c.tc : Thread Cert.SmallGrads.nD Cert.SmallGrads.τ).loc Cert.SmallGrads.main_arg11)
      ∧ r.2.mem ((c.tc : Thread Cert.SmallGrads.nD Cert.SmallGrads.τ).loc Cert.SmallGrads.main_arg12) = m ((c.tc : Thread Cert.SmallGrads.nD Cert.SmallGrads.τ).loc Cert.SmallGrads.main_arg12)
      ∧ r.2.mem ((c.tc : Thread Cert.SmallGrads.nD Cert.SmallGrads.τ).loc Cert.SmallGrads.main_arg13) = m ((c.tc : Thread Cert.SmallGrads.nD Cert.SmallGrads.τ).loc Cert.SmallGrads.main_arg13)
      ∧ r.2.mem ((c.tc : Thread Cert.SmallGrads.nD Cert.SmallGrads.τ).loc Cert.SmallGrads.main_arg14) = m ((c.tc : Thread Cert.SmallGrads.nD Cert.SmallGrads.τ).loc Cert.SmallGrads.main_arg14)
      ∧ r.2.mem ((c.tc : Thread Cert.SmallGrads.nD Cert.SmallGrads.τ).loc Cert.SmallGrads.main_arg15) = m ((c.tc : Thread Cert.SmallGrads.nD Cert.SmallGrads.τ).loc Cert.SmallGrads.main_arg15))
      ∧ r.2.sem = fun _ => 0)

def quiescent_SmallGradsIdeal [hSmallGradsIdeal : Cert.SmallGradsIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg), Pre_SmallGradsIdeal m →
    θ_run (Cert.SmallGradsIdeal.defs (F := Ideal)) (onTc (τ := Cert.SmallGradsIdeal.τ) (Cert.SmallGradsIdeal.main (F := Ideal))) ⟨m, fun _ => 0, g⟩ (fun r => (∀ c : Dev Cert.SmallGradsIdeal.nD,
      r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0)
      ∧ r.2.mem ((c.tc : Thread Cert.SmallGradsIdeal.nD Cert.SmallGradsIdeal.τ).loc Cert.SmallGradsIdeal.main_arg1) = m ((c.tc : Thread Cert.SmallGradsIdeal.nD Cert.SmallGradsIdeal.τ).loc Cert.SmallGradsIdeal.main_arg1)
      ∧ r.2.mem ((c.tc : Thread Cert.SmallGradsIdeal.nD Cert.SmallGradsIdeal.τ).loc Cert.SmallGradsIdeal.main_arg2) = m ((c.tc : Thread Cert.SmallGradsIdeal.nD Cert.SmallGradsIdeal.τ).loc Cert.SmallGradsIdeal.main_arg2)
      ∧ r.2.mem ((c.tc : Thread Cert.SmallGradsIdeal.nD Cert.SmallGradsIdeal.τ).loc Cert.SmallGradsIdeal.main_arg3) = m ((c.tc : Thread Cert.SmallGradsIdeal.nD Cert.SmallGradsIdeal.τ).loc Cert.SmallGradsIdeal.main_arg3)
      ∧ r.2.mem ((c.tc : Thread Cert.SmallGradsIdeal.nD Cert.SmallGradsIdeal.τ).loc Cert.SmallGradsIdeal.main_arg4) = m ((c.tc : Thread Cert.SmallGradsIdeal.nD Cert.SmallGradsIdeal.τ).loc Cert.SmallGradsIdeal.main_arg4)
      ∧ r.2.mem ((c.tc : Thread Cert.SmallGradsIdeal.nD Cert.SmallGradsIdeal.τ).loc Cert.SmallGradsIdeal.main_arg5) = m ((c.tc : Thread Cert.SmallGradsIdeal.nD Cert.SmallGradsIdeal.τ).loc Cert.SmallGradsIdeal.main_arg5)
      ∧ r.2.mem ((c.tc : Thread Cert.SmallGradsIdeal.nD Cert.SmallGradsIdeal.τ).loc Cert.SmallGradsIdeal.main_arg6) = m ((c.tc : Thread Cert.SmallGradsIdeal.nD Cert.SmallGradsIdeal.τ).loc Cert.SmallGradsIdeal.main_arg6)
      ∧ r.2.mem ((c.tc : Thread Cert.SmallGradsIdeal.nD Cert.SmallGradsIdeal.τ).loc Cert.SmallGradsIdeal.main_arg7) = m ((c.tc : Thread Cert.SmallGradsIdeal.nD Cert.SmallGradsIdeal.τ).loc Cert.SmallGradsIdeal.main_arg7)
      ∧ r.2.mem ((c.tc : Thread Cert.SmallGradsIdeal.nD Cert.SmallGradsIdeal.τ).loc Cert.SmallGradsIdeal.main_arg8) = m ((c.tc : Thread Cert.SmallGradsIdeal.nD Cert.SmallGradsIdeal.τ).loc Cert.SmallGradsIdeal.main_arg8)
      ∧ r.2.mem ((c.tc : Thread Cert.SmallGradsIdeal.nD Cert.SmallGradsIdeal.τ).loc Cert.SmallGradsIdeal.main_arg9) = m ((c.tc : Thread Cert.SmallGradsIdeal.nD Cert.SmallGradsIdeal.τ).loc Cert.SmallGradsIdeal.main_arg9)
      ∧ r.2.mem ((c.tc : Thread Cert.SmallGradsIdeal.nD Cert.SmallGradsIdeal.τ).loc Cert.SmallGradsIdeal.main_arg10) = m ((c.tc : Thread Cert.SmallGradsIdeal.nD Cert.SmallGradsIdeal.τ).loc Cert.SmallGradsIdeal.main_arg10)
      ∧ r.2.mem ((c.tc : Thread Cert.SmallGradsIdeal.nD Cert.SmallGradsIdeal.τ).loc Cert.SmallGradsIdeal.main_arg11) = m ((c.tc : Thread Cert.SmallGradsIdeal.nD Cert.SmallGradsIdeal.τ).loc Cert.SmallGradsIdeal.main_arg11)
      ∧ r.2.mem ((c.tc : Thread Cert.SmallGradsIdeal.nD Cert.SmallGradsIdeal.τ).loc Cert.SmallGradsIdeal.main_arg12) = m ((c.tc : Thread Cert.SmallGradsIdeal.nD Cert.SmallGradsIdeal.τ).loc Cert.SmallGradsIdeal.main_arg12)
      ∧ r.2.mem ((c.tc : Thread Cert.SmallGradsIdeal.nD Cert.SmallGradsIdeal.τ).loc Cert.SmallGradsIdeal.main_arg13) = m ((c.tc : Thread Cert.SmallGradsIdeal.nD Cert.SmallGradsIdeal.τ).loc Cert.SmallGradsIdeal.main_arg13)
      ∧ r.2.mem ((c.tc : Thread Cert.SmallGradsIdeal.nD Cert.SmallGradsIdeal.τ).loc Cert.SmallGradsIdeal.main_arg14) = m ((c.tc : Thread Cert.SmallGradsIdeal.nD Cert.SmallGradsIdeal.τ).loc Cert.SmallGradsIdeal.main_arg14)
      ∧ r.2.mem ((c.tc : Thread Cert.SmallGradsIdeal.nD Cert.SmallGradsIdeal.τ).loc Cert.SmallGradsIdeal.main_arg15) = m ((c.tc : Thread Cert.SmallGradsIdeal.nD Cert.SmallGradsIdeal.τ).loc Cert.SmallGradsIdeal.main_arg15))
      ∧ r.2.sem = fun _ => 0)

def quiescent_SmallGradsRefIdeal [hSmallGradsRefIdeal : Cert.SmallGradsRefIdeal.Facts] : Prop :=
  ∀ (m : (ℓ : Loc Cert.SmallGradsRefIdeal.nD Cert.SmallGradsRefIdeal.τ Cert.SmallGradsRefIdeal.sig) → Buf (Elt Ideal) ℓ) (g : Dev Cert.SmallGradsRefIdeal.nD → PrngReg), Pre_SmallGradsRefIdeal m →
    θ_run (Cert.SmallGradsRefIdeal.defs (F := Ideal)) (onTc (τ := Cert.SmallGradsRefIdeal.τ) (Cert.SmallGradsRefIdeal.main (F := Ideal))) ⟨m, fun _ => 0, g⟩ (fun r => (∀ c : Dev Cert.SmallGradsRefIdeal.nD,
      r.2.mem ((c.tc : Thread Cert.SmallGradsRefIdeal.nD Cert.SmallGradsRefIdeal.τ).loc Cert.SmallGradsRefIdeal.main_arg0) = m ((c.tc : Thread Cert.SmallGradsRefIdeal.nD Cert.SmallGradsRefIdeal.τ).loc Cert.SmallGradsRefIdeal.main_arg0)
      ∧ r.2.mem ((c.tc : Thread Cert.SmallGradsRefIdeal.nD Cert.SmallGradsRefIdeal.τ).loc Cert.SmallGradsRefIdeal.main_arg1) = m ((c.tc : Thread Cert.SmallGradsRefIdeal.nD Cert.SmallGradsRefIdeal.τ).loc Cert.SmallGradsRefIdeal.main_arg1)
      ∧ r.2.mem ((c.tc : Thread Cert.SmallGradsRefIdeal.nD Cert.SmallGradsRefIdeal.τ).loc Cert.SmallGradsRefIdeal.main_arg2) = m ((c.tc : Thread Cert.SmallGradsRefIdeal.nD Cert.SmallGradsRefIdeal.τ).loc Cert.SmallGradsRefIdeal.main_arg2)
      ∧ r.2.mem ((c.tc : Thread Cert.SmallGradsRefIdeal.nD Cert.SmallGradsRefIdeal.τ).loc Cert.SmallGradsRefIdeal.main_arg3) = m ((c.tc : Thread Cert.SmallGradsRefIdeal.nD Cert.SmallGradsRefIdeal.τ).loc Cert.SmallGradsRefIdeal.main_arg3)
      ∧ r.2.mem ((c.tc : Thread Cert.SmallGradsRefIdeal.nD Cert.SmallGradsRefIdeal.τ).loc Cert.SmallGradsRefIdeal.main_arg4) = m ((c.tc : Thread Cert.SmallGradsRefIdeal.nD Cert.SmallGradsRefIdeal.τ).loc Cert.SmallGradsRefIdeal.main_arg4)
      ∧ r.2.mem ((c.tc : Thread Cert.SmallGradsRefIdeal.nD Cert.SmallGradsRefIdeal.τ).loc Cert.SmallGradsRefIdeal.main_arg5) = m ((c.tc : Thread Cert.SmallGradsRefIdeal.nD Cert.SmallGradsRefIdeal.τ).loc Cert.SmallGradsRefIdeal.main_arg5)
      ∧ r.2.mem ((c.tc : Thread Cert.SmallGradsRefIdeal.nD Cert.SmallGradsRefIdeal.τ).loc Cert.SmallGradsRefIdeal.main_arg6) = m ((c.tc : Thread Cert.SmallGradsRefIdeal.nD Cert.SmallGradsRefIdeal.τ).loc Cert.SmallGradsRefIdeal.main_arg6)
      ∧ r.2.mem ((c.tc : Thread Cert.SmallGradsRefIdeal.nD Cert.SmallGradsRefIdeal.τ).loc Cert.SmallGradsRefIdeal.main_arg7) = m ((c.tc : Thread Cert.SmallGradsRefIdeal.nD Cert.SmallGradsRefIdeal.τ).loc Cert.SmallGradsRefIdeal.main_arg7)
      ∧ r.2.mem ((c.tc : Thread Cert.SmallGradsRefIdeal.nD Cert.SmallGradsRefIdeal.τ).loc Cert.SmallGradsRefIdeal.main_arg8) = m ((c.tc : Thread Cert.SmallGradsRefIdeal.nD Cert.SmallGradsRefIdeal.τ).loc Cert.SmallGradsRefIdeal.main_arg8)
      ∧ r.2.mem ((c.tc : Thread Cert.SmallGradsRefIdeal.nD Cert.SmallGradsRefIdeal.τ).loc Cert.SmallGradsRefIdeal.main_arg9) = m ((c.tc : Thread Cert.SmallGradsRefIdeal.nD Cert.SmallGradsRefIdeal.τ).loc Cert.SmallGradsRefIdeal.main_arg9)
      ∧ r.2.mem ((c.tc : Thread Cert.SmallGradsRefIdeal.nD Cert.SmallGradsRefIdeal.τ).loc Cert.SmallGradsRefIdeal.main_arg10) = m ((c.tc : Thread Cert.SmallGradsRefIdeal.nD Cert.SmallGradsRefIdeal.τ).loc Cert.SmallGradsRefIdeal.main_arg10)
      ∧ r.2.mem ((c.tc : Thread Cert.SmallGradsRefIdeal.nD Cert.SmallGradsRefIdeal.τ).loc Cert.SmallGradsRefIdeal.main_arg11) = m ((c.tc : Thread Cert.SmallGradsRefIdeal.nD Cert.SmallGradsRefIdeal.τ).loc Cert.SmallGradsRefIdeal.main_arg11)
      ∧ r.2.mem ((c.tc : Thread Cert.SmallGradsRefIdeal.nD Cert.SmallGradsRefIdeal.τ).loc Cert.SmallGradsRefIdeal.main_arg12) = m ((c.tc : Thread Cert.SmallGradsRefIdeal.nD Cert.SmallGradsRefIdeal.τ).loc Cert.SmallGradsRefIdeal.main_arg12)
      ∧ r.2.mem ((c.tc : Thread Cert.SmallGradsRefIdeal.nD Cert.SmallGradsRefIdeal.τ).loc Cert.SmallGradsRefIdeal.main_arg13) = m ((c.tc : Thread Cert.SmallGradsRefIdeal.nD Cert.SmallGradsRefIdeal.τ).loc Cert.SmallGradsRefIdeal.main_arg13)
      ∧ r.2.mem ((c.tc : Thread Cert.SmallGradsRefIdeal.nD Cert.SmallGradsRefIdeal.τ).loc Cert.SmallGradsRefIdeal.main_arg14) = m ((c.tc : Thread Cert.SmallGradsRefIdeal.nD Cert.SmallGradsRefIdeal.τ).loc Cert.SmallGradsRefIdeal.main_arg14)
      ∧ r.2.mem ((c.tc : Thread Cert.SmallGradsRefIdeal.nD Cert.SmallGradsRefIdeal.τ).loc Cert.SmallGradsRefIdeal.main_arg15) = m ((c.tc : Thread Cert.SmallGradsRefIdeal.nD Cert.SmallGradsRefIdeal.τ).loc Cert.SmallGradsRefIdeal.main_arg15))
      ∧ r.2.sem = fun _ => 0)

def quiescent_AdamwAda [hAdamwAda : Cert.AdamwAda.Facts] : Prop :=
  ∀ (m : (ℓ : Loc Cert.AdamwAda.nD Cert.AdamwAda.τ Cert.AdamwAda.sig) → Buf (Elt Bits) ℓ) (g : Dev Cert.AdamwAda.nD → PrngReg), Pre_AdamwAda m →
    θ_run (Cert.AdamwAda.defs (F := Bits)) (onTc (τ := Cert.AdamwAda.τ) (Cert.AdamwAda.main (F := Bits))) ⟨m, fun _ => 0, g⟩ (fun r => (∀ c : Dev Cert.AdamwAda.nD,
      r.2.mem ((c.tc : Thread Cert.AdamwAda.nD Cert.AdamwAda.τ).loc Cert.AdamwAda.main_arg0) = m ((c.tc : Thread Cert.AdamwAda.nD Cert.AdamwAda.τ).loc Cert.AdamwAda.main_arg0)
      ∧ r.2.mem ((c.tc : Thread Cert.AdamwAda.nD Cert.AdamwAda.τ).loc Cert.AdamwAda.main_arg1) = m ((c.tc : Thread Cert.AdamwAda.nD Cert.AdamwAda.τ).loc Cert.AdamwAda.main_arg1)
      ∧ r.2.mem ((c.tc : Thread Cert.AdamwAda.nD Cert.AdamwAda.τ).loc Cert.AdamwAda.main_arg2) = m ((c.tc : Thread Cert.AdamwAda.nD Cert.AdamwAda.τ).loc Cert.AdamwAda.main_arg2)
      ∧ r.2.mem ((c.tc : Thread Cert.AdamwAda.nD Cert.AdamwAda.τ).loc Cert.AdamwAda.main_arg3) = m ((c.tc : Thread Cert.AdamwAda.nD Cert.AdamwAda.τ).loc Cert.AdamwAda.main_arg3))
      ∧ r.2.sem = fun _ => 0)

def quiescent_AdamwAdaIdeal [hAdamwAdaIdeal : Cert.AdamwAdaIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg), Pre_AdamwAdaIdeal m →
    θ_run (Cert.AdamwAdaIdeal.defs (F := Ideal)) (onTc (τ := Cert.AdamwAdaIdeal.τ) (Cert.AdamwAdaIdeal.main (F := Ideal))) ⟨m, fun _ => 0, g⟩ (fun r => (∀ c : Dev Cert.AdamwAdaIdeal.nD,
      r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
      ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
      ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
      ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3))
      ∧ r.2.sem = fun _ => 0)

def quiescent_AdamwAdaRefIdeal [hAdamwAdaRefIdeal : Cert.AdamwAdaRefIdeal.Facts] : Prop :=
  ∀ (m : (ℓ : Loc Cert.AdamwAdaRefIdeal.nD Cert.AdamwAdaRefIdeal.τ Cert.AdamwAdaRefIdeal.sig) → Buf (Elt Ideal) ℓ) (g : Dev Cert.AdamwAdaRefIdeal.nD → PrngReg), Pre_AdamwAdaRefIdeal m →
    θ_run (Cert.AdamwAdaRefIdeal.defs (F := Ideal)) (onTc (τ := Cert.AdamwAdaRefIdeal.τ) (Cert.AdamwAdaRefIdeal.main (F := Ideal))) ⟨m, fun _ => 0, g⟩ (fun r => (∀ c : Dev Cert.AdamwAdaRefIdeal.nD,
      r.2.mem ((c.tc : Thread Cert.AdamwAdaRefIdeal.nD Cert.AdamwAdaRefIdeal.τ).loc Cert.AdamwAdaRefIdeal.main_arg0) = m ((c.tc : Thread Cert.AdamwAdaRefIdeal.nD Cert.AdamwAdaRefIdeal.τ).loc Cert.AdamwAdaRefIdeal.main_arg0)
      ∧ r.2.mem ((c.tc : Thread Cert.AdamwAdaRefIdeal.nD Cert.AdamwAdaRefIdeal.τ).loc Cert.AdamwAdaRefIdeal.main_arg1) = m ((c.tc : Thread Cert.AdamwAdaRefIdeal.nD Cert.AdamwAdaRefIdeal.τ).loc Cert.AdamwAdaRefIdeal.main_arg1)
      ∧ r.2.mem ((c.tc : Thread Cert.AdamwAdaRefIdeal.nD Cert.AdamwAdaRefIdeal.τ).loc Cert.AdamwAdaRefIdeal.main_arg2) = m ((c.tc : Thread Cert.AdamwAdaRefIdeal.nD Cert.AdamwAdaRefIdeal.τ).loc Cert.AdamwAdaRefIdeal.main_arg2)
      ∧ r.2.mem ((c.tc : Thread Cert.AdamwAdaRefIdeal.nD Cert.AdamwAdaRefIdeal.τ).loc Cert.AdamwAdaRefIdeal.main_arg3) = m ((c.tc : Thread Cert.AdamwAdaRefIdeal.nD Cert.AdamwAdaRefIdeal.τ).loc Cert.AdamwAdaRefIdeal.main_arg3))
      ∧ r.2.sem = fun _ => 0)

def quiescent_AdamwEvIn [hAdamwEvIn : Cert.AdamwEvIn.Facts] : Prop :=
  ∀ (m : (ℓ : Loc Cert.AdamwEvIn.nD Cert.AdamwEvIn.τ Cert.AdamwEvIn.sig) → Buf (Elt Bits) ℓ) (g : Dev Cert.AdamwEvIn.nD → PrngReg), Pre_AdamwEvIn m →
    θ_run (Cert.AdamwEvIn.defs (F := Bits)) (onTc (τ := Cert.AdamwEvIn.τ) (Cert.AdamwEvIn.main (F := Bits))) ⟨m, fun _ => 0, g⟩ (fun r => (∀ c : Dev Cert.AdamwEvIn.nD,
      r.2.mem ((c.tc : Thread Cert.AdamwEvIn.nD Cert.AdamwEvIn.τ).loc Cert.AdamwEvIn.main_arg0) = m ((c.tc : Thread Cert.AdamwEvIn.nD Cert.AdamwEvIn.τ).loc Cert.AdamwEvIn.main_arg0)
      ∧ r.2.mem ((c.tc : Thread Cert.AdamwEvIn.nD Cert.AdamwEvIn.τ).loc Cert.AdamwEvIn.main_arg1) = m ((c.tc : Thread Cert.AdamwEvIn.nD Cert.AdamwEvIn.τ).loc Cert.AdamwEvIn.main_arg1)
      ∧ r.2.mem ((c.tc : Thread Cert.AdamwEvIn.nD Cert.AdamwEvIn.τ).loc Cert.AdamwEvIn.main_arg2) = m ((c.tc : Thread Cert.AdamwEvIn.nD Cert.AdamwEvIn.τ).loc Cert.AdamwEvIn.main_arg2)
      ∧ r.2.mem ((c.tc : Thread Cert.AdamwEvIn.nD Cert.AdamwEvIn.τ).loc Cert.AdamwEvIn.main_arg3) = m ((c.tc : Thread Cert.AdamwEvIn.nD Cert.AdamwEvIn.τ).loc Cert.AdamwEvIn.main_arg3))
      ∧ r.2.sem = fun _ => 0)

def quiescent_AdamwEvInIdeal [hAdamwEvInIdeal : Cert.AdamwEvInIdeal.Facts] : Prop :=
  ∀ (m : (ℓ : Loc Cert.AdamwEvInIdeal.nD Cert.AdamwEvInIdeal.τ Cert.AdamwEvInIdeal.sig) → Buf (Elt Ideal) ℓ) (g : Dev Cert.AdamwEvInIdeal.nD → PrngReg), Pre_AdamwEvInIdeal m →
    θ_run (Cert.AdamwEvInIdeal.defs (F := Ideal)) (onTc (τ := Cert.AdamwEvInIdeal.τ) (Cert.AdamwEvInIdeal.main (F := Ideal))) ⟨m, fun _ => 0, g⟩ (fun r => (∀ c : Dev Cert.AdamwEvInIdeal.nD,
      r.2.mem ((c.tc : Thread Cert.AdamwEvInIdeal.nD Cert.AdamwEvInIdeal.τ).loc Cert.AdamwEvInIdeal.main_arg0) = m ((c.tc : Thread Cert.AdamwEvInIdeal.nD Cert.AdamwEvInIdeal.τ).loc Cert.AdamwEvInIdeal.main_arg0)
      ∧ r.2.mem ((c.tc : Thread Cert.AdamwEvInIdeal.nD Cert.AdamwEvInIdeal.τ).loc Cert.AdamwEvInIdeal.main_arg1) = m ((c.tc : Thread Cert.AdamwEvInIdeal.nD Cert.AdamwEvInIdeal.τ).loc Cert.AdamwEvInIdeal.main_arg1)
      ∧ r.2.mem ((c.tc : Thread Cert.AdamwEvInIdeal.nD Cert.AdamwEvInIdeal.τ).loc Cert.AdamwEvInIdeal.main_arg2) = m ((c.tc : Thread Cert.AdamwEvInIdeal.nD Cert.AdamwEvInIdeal.τ).loc Cert.AdamwEvInIdeal.main_arg2)
      ∧ r.2.mem ((c.tc : Thread Cert.AdamwEvInIdeal.nD Cert.AdamwEvInIdeal.τ).loc Cert.AdamwEvInIdeal.main_arg3) = m ((c.tc : Thread Cert.AdamwEvInIdeal.nD Cert.AdamwEvInIdeal.τ).loc Cert.AdamwEvInIdeal.main_arg3))
      ∧ r.2.sem = fun _ => 0)

def quiescent_AdamwEvInRefIdeal [hAdamwEvInRefIdeal : Cert.AdamwEvInRefIdeal.Facts] : Prop :=
  ∀ (m : (ℓ : Loc Cert.AdamwEvInRefIdeal.nD Cert.AdamwEvInRefIdeal.τ Cert.AdamwEvInRefIdeal.sig) → Buf (Elt Ideal) ℓ) (g : Dev Cert.AdamwEvInRefIdeal.nD → PrngReg), Pre_AdamwEvInRefIdeal m →
    θ_run (Cert.AdamwEvInRefIdeal.defs (F := Ideal)) (onTc (τ := Cert.AdamwEvInRefIdeal.τ) (Cert.AdamwEvInRefIdeal.main (F := Ideal))) ⟨m, fun _ => 0, g⟩ (fun r => (∀ c : Dev Cert.AdamwEvInRefIdeal.nD,
      r.2.mem ((c.tc : Thread Cert.AdamwEvInRefIdeal.nD Cert.AdamwEvInRefIdeal.τ).loc Cert.AdamwEvInRefIdeal.main_arg0) = m ((c.tc : Thread Cert.AdamwEvInRefIdeal.nD Cert.AdamwEvInRefIdeal.τ).loc Cert.AdamwEvInRefIdeal.main_arg0)
      ∧ r.2.mem ((c.tc : Thread Cert.AdamwEvInRefIdeal.nD Cert.AdamwEvInRefIdeal.τ).loc Cert.AdamwEvInRefIdeal.main_arg1) = m ((c.tc : Thread Cert.AdamwEvInRefIdeal.nD Cert.AdamwEvInRefIdeal.τ).loc Cert.AdamwEvInRefIdeal.main_arg1)
      ∧ r.2.mem ((c.tc : Thread Cert.AdamwEvInRefIdeal.nD Cert.AdamwEvInRefIdeal.τ).loc Cert.AdamwEvInRefIdeal.main_arg2) = m ((c.tc : Thread Cert.AdamwEvInRefIdeal.nD Cert.AdamwEvInRefIdeal.τ).loc Cert.AdamwEvInRefIdeal.main_arg2)
      ∧ r.2.mem ((c.tc : Thread Cert.AdamwEvInRefIdeal.nD Cert.AdamwEvInRefIdeal.τ).loc Cert.AdamwEvInRefIdeal.main_arg3) = m ((c.tc : Thread Cert.AdamwEvInRefIdeal.nD Cert.AdamwEvInRefIdeal.τ).loc Cert.AdamwEvInRefIdeal.main_arg3))
      ∧ r.2.sem = fun _ => 0)

def quiescent_AdamwOut [hAdamwOut : Cert.AdamwOut.Facts] : Prop :=
  ∀ (m : (ℓ : Loc Cert.AdamwOut.nD Cert.AdamwOut.τ Cert.AdamwOut.sig) → Buf (Elt Bits) ℓ) (g : Dev Cert.AdamwOut.nD → PrngReg), Pre_AdamwOut m →
    θ_run (Cert.AdamwOut.defs (F := Bits)) (onTc (τ := Cert.AdamwOut.τ) (Cert.AdamwOut.main (F := Bits))) ⟨m, fun _ => 0, g⟩ (fun r => (∀ c : Dev Cert.AdamwOut.nD,
      r.2.mem ((c.tc : Thread Cert.AdamwOut.nD Cert.AdamwOut.τ).loc Cert.AdamwOut.main_arg0) = m ((c.tc : Thread Cert.AdamwOut.nD Cert.AdamwOut.τ).loc Cert.AdamwOut.main_arg0)
      ∧ r.2.mem ((c.tc : Thread Cert.AdamwOut.nD Cert.AdamwOut.τ).loc Cert.AdamwOut.main_arg1) = m ((c.tc : Thread Cert.AdamwOut.nD Cert.AdamwOut.τ).loc Cert.AdamwOut.main_arg1)
      ∧ r.2.mem ((c.tc : Thread Cert.AdamwOut.nD Cert.AdamwOut.τ).loc Cert.AdamwOut.main_arg2) = m ((c.tc : Thread Cert.AdamwOut.nD Cert.AdamwOut.τ).loc Cert.AdamwOut.main_arg2)
      ∧ r.2.mem ((c.tc : Thread Cert.AdamwOut.nD Cert.AdamwOut.τ).loc Cert.AdamwOut.main_arg3) = m ((c.tc : Thread Cert.AdamwOut.nD Cert.AdamwOut.τ).loc Cert.AdamwOut.main_arg3))
      ∧ r.2.sem = fun _ => 0)

def quiescent_AdamwOutIdeal [hAdamwOutIdeal : Cert.AdamwOutIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg), Pre_AdamwOutIdeal m →
    θ_run (Cert.AdamwOutIdeal.defs (F := Ideal)) (onTc (τ := Cert.AdamwOutIdeal.τ) (Cert.AdamwOutIdeal.main (F := Ideal))) ⟨m, fun _ => 0, g⟩ (fun r => (∀ c : Dev Cert.AdamwOutIdeal.nD,
      r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
      ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
      ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
      ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ r.2.sem = fun _ => 0)

def quiescent_AdamwOutRefIdeal [hAdamwOutRefIdeal : Cert.AdamwOutRefIdeal.Facts] : Prop :=
  ∀ (m : (ℓ : Loc Cert.AdamwOutRefIdeal.nD Cert.AdamwOutRefIdeal.τ Cert.AdamwOutRefIdeal.sig) → Buf (Elt Ideal) ℓ) (g : Dev Cert.AdamwOutRefIdeal.nD → PrngReg), Pre_AdamwOutRefIdeal m →
    θ_run (Cert.AdamwOutRefIdeal.defs (F := Ideal)) (onTc (τ := Cert.AdamwOutRefIdeal.τ) (Cert.AdamwOutRefIdeal.main (F := Ideal))) ⟨m, fun _ => 0, g⟩ (fun r => (∀ c : Dev Cert.AdamwOutRefIdeal.nD,
      r.2.mem ((c.tc : Thread Cert.AdamwOutRefIdeal.nD Cert.AdamwOutRefIdeal.τ).loc Cert.AdamwOutRefIdeal.main_arg0) = m ((c.tc : Thread Cert.AdamwOutRefIdeal.nD Cert.AdamwOutRefIdeal.τ).loc Cert.AdamwOutRefIdeal.main_arg0)
      ∧ r.2.mem ((c.tc : Thread Cert.AdamwOutRefIdeal.nD Cert.AdamwOutRefIdeal.τ).loc Cert.AdamwOutRefIdeal.main_arg1) = m ((c.tc : Thread Cert.AdamwOutRefIdeal.nD Cert.AdamwOutRefIdeal.τ).loc Cert.AdamwOutRefIdeal.main_arg1)
      ∧ r.2.mem ((c.tc : Thread Cert.AdamwOutRefIdeal.nD Cert.AdamwOutRefIdeal.τ).loc Cert.AdamwOutRefIdeal.main_arg2) = m ((c.tc : Thread Cert.AdamwOutRefIdeal.nD Cert.AdamwOutRefIdeal.τ).loc Cert.AdamwOutRefIdeal.main_arg2)
      ∧ r.2.mem ((c.tc : Thread Cert.AdamwOutRefIdeal.nD Cert.AdamwOutRefIdeal.τ).loc Cert.AdamwOutRefIdeal.main_arg3) = m ((c.tc : Thread Cert.AdamwOutRefIdeal.nD Cert.AdamwOutRefIdeal.τ).loc Cert.AdamwOutRefIdeal.main_arg3))
      ∧ r.2.sem = fun _ => 0)

def quiescent_AdamwOdIn [hAdamwOdIn : Cert.AdamwOdIn.Facts] : Prop :=
  ∀ (m : (ℓ : Loc Cert.AdamwOdIn.nD Cert.AdamwOdIn.τ Cert.AdamwOdIn.sig) → Buf (Elt Bits) ℓ) (g : Dev Cert.AdamwOdIn.nD → PrngReg), Pre_AdamwOdIn m →
    θ_run (Cert.AdamwOdIn.defs (F := Bits)) (onTc (τ := Cert.AdamwOdIn.τ) (Cert.AdamwOdIn.main (F := Bits))) ⟨m, fun _ => 0, g⟩ (fun r => (∀ c : Dev Cert.AdamwOdIn.nD,
      r.2.mem ((c.tc : Thread Cert.AdamwOdIn.nD Cert.AdamwOdIn.τ).loc Cert.AdamwOdIn.main_arg0) = m ((c.tc : Thread Cert.AdamwOdIn.nD Cert.AdamwOdIn.τ).loc Cert.AdamwOdIn.main_arg0)
      ∧ r.2.mem ((c.tc : Thread Cert.AdamwOdIn.nD Cert.AdamwOdIn.τ).loc Cert.AdamwOdIn.main_arg1) = m ((c.tc : Thread Cert.AdamwOdIn.nD Cert.AdamwOdIn.τ).loc Cert.AdamwOdIn.main_arg1)
      ∧ r.2.mem ((c.tc : Thread Cert.AdamwOdIn.nD Cert.AdamwOdIn.τ).loc Cert.AdamwOdIn.main_arg2) = m ((c.tc : Thread Cert.AdamwOdIn.nD Cert.AdamwOdIn.τ).loc Cert.AdamwOdIn.main_arg2)
      ∧ r.2.mem ((c.tc : Thread Cert.AdamwOdIn.nD Cert.AdamwOdIn.τ).loc Cert.AdamwOdIn.main_arg3) = m ((c.tc : Thread Cert.AdamwOdIn.nD Cert.AdamwOdIn.τ).loc Cert.AdamwOdIn.main_arg3))
      ∧ r.2.sem = fun _ => 0)

def quiescent_AdamwOdInIdeal [hAdamwOdInIdeal : Cert.AdamwOdInIdeal.Facts] : Prop :=
  ∀ (m : (ℓ : Loc Cert.AdamwOdInIdeal.nD Cert.AdamwOdInIdeal.τ Cert.AdamwOdInIdeal.sig) → Buf (Elt Ideal) ℓ) (g : Dev Cert.AdamwOdInIdeal.nD → PrngReg), Pre_AdamwOdInIdeal m →
    θ_run (Cert.AdamwOdInIdeal.defs (F := Ideal)) (onTc (τ := Cert.AdamwOdInIdeal.τ) (Cert.AdamwOdInIdeal.main (F := Ideal))) ⟨m, fun _ => 0, g⟩ (fun r => (∀ c : Dev Cert.AdamwOdInIdeal.nD,
      r.2.mem ((c.tc : Thread Cert.AdamwOdInIdeal.nD Cert.AdamwOdInIdeal.τ).loc Cert.AdamwOdInIdeal.main_arg0) = m ((c.tc : Thread Cert.AdamwOdInIdeal.nD Cert.AdamwOdInIdeal.τ).loc Cert.AdamwOdInIdeal.main_arg0)
      ∧ r.2.mem ((c.tc : Thread Cert.AdamwOdInIdeal.nD Cert.AdamwOdInIdeal.τ).loc Cert.AdamwOdInIdeal.main_arg1) = m ((c.tc : Thread Cert.AdamwOdInIdeal.nD Cert.AdamwOdInIdeal.τ).loc Cert.AdamwOdInIdeal.main_arg1)
      ∧ r.2.mem ((c.tc : Thread Cert.AdamwOdInIdeal.nD Cert.AdamwOdInIdeal.τ).loc Cert.AdamwOdInIdeal.main_arg2) = m ((c.tc : Thread Cert.AdamwOdInIdeal.nD Cert.AdamwOdInIdeal.τ).loc Cert.AdamwOdInIdeal.main_arg2)
      ∧ r.2.mem ((c.tc : Thread Cert.AdamwOdInIdeal.nD Cert.AdamwOdInIdeal.τ).loc Cert.AdamwOdInIdeal.main_arg3) = m ((c.tc : Thread Cert.AdamwOdInIdeal.nD Cert.AdamwOdInIdeal.τ).loc Cert.AdamwOdInIdeal.main_arg3))
      ∧ r.2.sem = fun _ => 0)

def quiescent_AdamwOdInRefIdeal [hAdamwOdInRefIdeal : Cert.AdamwOdInRefIdeal.Facts] : Prop :=
  ∀ (m : (ℓ : Loc Cert.AdamwOdInRefIdeal.nD Cert.AdamwOdInRefIdeal.τ Cert.AdamwOdInRefIdeal.sig) → Buf (Elt Ideal) ℓ) (g : Dev Cert.AdamwOdInRefIdeal.nD → PrngReg), Pre_AdamwOdInRefIdeal m →
    θ_run (Cert.AdamwOdInRefIdeal.defs (F := Ideal)) (onTc (τ := Cert.AdamwOdInRefIdeal.τ) (Cert.AdamwOdInRefIdeal.main (F := Ideal))) ⟨m, fun _ => 0, g⟩ (fun r => (∀ c : Dev Cert.AdamwOdInRefIdeal.nD,
      r.2.mem ((c.tc : Thread Cert.AdamwOdInRefIdeal.nD Cert.AdamwOdInRefIdeal.τ).loc Cert.AdamwOdInRefIdeal.main_arg0) = m ((c.tc : Thread Cert.AdamwOdInRefIdeal.nD Cert.AdamwOdInRefIdeal.τ).loc Cert.AdamwOdInRefIdeal.main_arg0)
      ∧ r.2.mem ((c.tc : Thread Cert.AdamwOdInRefIdeal.nD Cert.AdamwOdInRefIdeal.τ).loc Cert.AdamwOdInRefIdeal.main_arg1) = m ((c.tc : Thread Cert.AdamwOdInRefIdeal.nD Cert.AdamwOdInRefIdeal.τ).loc Cert.AdamwOdInRefIdeal.main_arg1)
      ∧ r.2.mem ((c.tc : Thread Cert.AdamwOdInRefIdeal.nD Cert.AdamwOdInRefIdeal.τ).loc Cert.AdamwOdInRefIdeal.main_arg2) = m ((c.tc : Thread Cert.AdamwOdInRefIdeal.nD Cert.AdamwOdInRefIdeal.τ).loc Cert.AdamwOdInRefIdeal.main_arg2)
      ∧ r.2.mem ((c.tc : Thread Cert.AdamwOdInRefIdeal.nD Cert.AdamwOdInRefIdeal.τ).loc Cert.AdamwOdInRefIdeal.main_arg3) = m ((c.tc : Thread Cert.AdamwOdInRefIdeal.nD Cert.AdamwOdInRefIdeal.τ).loc Cert.AdamwOdInRefIdeal.main_arg3))
      ∧ r.2.sem = fun _ => 0)

def quiescent_AdamwSmall [hAdamwSmall : Cert.AdamwSmall.Facts] : Prop :=
  ∀ (m : (ℓ : Loc Cert.AdamwSmall.nD Cert.AdamwSmall.τ Cert.AdamwSmall.sig) → Buf (Elt Bits) ℓ) (g : Dev Cert.AdamwSmall.nD → PrngReg), Pre_AdamwSmall m →
    θ_run (Cert.AdamwSmall.defs (F := Bits)) (onTc (τ := Cert.AdamwSmall.τ) (Cert.AdamwSmall.main (F := Bits))) ⟨m, fun _ => 0, g⟩ (fun r => (∀ c : Dev Cert.AdamwSmall.nD,
      r.2.mem ((c.tc : Thread Cert.AdamwSmall.nD Cert.AdamwSmall.τ).loc Cert.AdamwSmall.main_arg0) = m ((c.tc : Thread Cert.AdamwSmall.nD Cert.AdamwSmall.τ).loc Cert.AdamwSmall.main_arg0)
      ∧ r.2.mem ((c.tc : Thread Cert.AdamwSmall.nD Cert.AdamwSmall.τ).loc Cert.AdamwSmall.main_arg1) = m ((c.tc : Thread Cert.AdamwSmall.nD Cert.AdamwSmall.τ).loc Cert.AdamwSmall.main_arg1)
      ∧ r.2.mem ((c.tc : Thread Cert.AdamwSmall.nD Cert.AdamwSmall.τ).loc Cert.AdamwSmall.main_arg2) = m ((c.tc : Thread Cert.AdamwSmall.nD Cert.AdamwSmall.τ).loc Cert.AdamwSmall.main_arg2)
      ∧ r.2.mem ((c.tc : Thread Cert.AdamwSmall.nD Cert.AdamwSmall.τ).loc Cert.AdamwSmall.main_arg3) = m ((c.tc : Thread Cert.AdamwSmall.nD Cert.AdamwSmall.τ).loc Cert.AdamwSmall.main_arg3))
      ∧ r.2.sem = fun _ => 0)

def quiescent_AdamwSmallIdeal [hAdamwSmallIdeal : Cert.AdamwSmallIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg), Pre_AdamwSmallIdeal m →
    θ_run (Cert.AdamwSmallIdeal.defs (F := Ideal)) (onTc (τ := Cert.AdamwSmallIdeal.τ) (Cert.AdamwSmallIdeal.main (F := Ideal))) ⟨m, fun _ => 0, g⟩ (fun r => (∀ c : Dev Cert.AdamwSmallIdeal.nD,
      r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
      ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
      ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
      ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ r.2.sem = fun _ => 0)

def quiescent_AdamwSmallRefIdeal [hAdamwSmallRefIdeal : Cert.AdamwSmallRefIdeal.Facts] : Prop :=
  ∀ (m : (ℓ : Loc Cert.AdamwSmallRefIdeal.nD Cert.AdamwSmallRefIdeal.τ Cert.AdamwSmallRefIdeal.sig) → Buf (Elt Ideal) ℓ) (g : Dev Cert.AdamwSmallRefIdeal.nD → PrngReg), Pre_AdamwSmallRefIdeal m →
    θ_run (Cert.AdamwSmallRefIdeal.defs (F := Ideal)) (onTc (τ := Cert.AdamwSmallRefIdeal.τ) (Cert.AdamwSmallRefIdeal.main (F := Ideal))) ⟨m, fun _ => 0, g⟩ (fun r => (∀ c : Dev Cert.AdamwSmallRefIdeal.nD,
      r.2.mem ((c.tc : Thread Cert.AdamwSmallRefIdeal.nD Cert.AdamwSmallRefIdeal.τ).loc Cert.AdamwSmallRefIdeal.main_arg0) = m ((c.tc : Thread Cert.AdamwSmallRefIdeal.nD Cert.AdamwSmallRefIdeal.τ).loc Cert.AdamwSmallRefIdeal.main_arg0)
      ∧ r.2.mem ((c.tc : Thread Cert.AdamwSmallRefIdeal.nD Cert.AdamwSmallRefIdeal.τ).loc Cert.AdamwSmallRefIdeal.main_arg1) = m ((c.tc : Thread Cert.AdamwSmallRefIdeal.nD Cert.AdamwSmallRefIdeal.τ).loc Cert.AdamwSmallRefIdeal.main_arg1)
      ∧ r.2.mem ((c.tc : Thread Cert.AdamwSmallRefIdeal.nD Cert.AdamwSmallRefIdeal.τ).loc Cert.AdamwSmallRefIdeal.main_arg2) = m ((c.tc : Thread Cert.AdamwSmallRefIdeal.nD Cert.AdamwSmallRefIdeal.τ).loc Cert.AdamwSmallRefIdeal.main_arg2)
      ∧ r.2.mem ((c.tc : Thread Cert.AdamwSmallRefIdeal.nD Cert.AdamwSmallRefIdeal.τ).loc Cert.AdamwSmallRefIdeal.main_arg3) = m ((c.tc : Thread Cert.AdamwSmallRefIdeal.nD Cert.AdamwSmallRefIdeal.τ).loc Cert.AdamwSmallRefIdeal.main_arg3))
      ∧ r.2.sem = fun _ => 0)

def quiescent_ModBwd [hModBwd : Cert.ModBwd.Facts] : Prop :=
  ∀ (m : (ℓ : Loc Cert.ModBwd.nD Cert.ModBwd.τ Cert.ModBwd.sig) → Buf (Elt Bits) ℓ) (g : Dev Cert.ModBwd.nD → PrngReg), Pre_ModBwd m →
    θ_run (Cert.ModBwd.defs (F := Bits)) (onTc (τ := Cert.ModBwd.τ) (Cert.ModBwd.main (F := Bits))) ⟨m, fun _ => 0, g⟩ (fun r => (∀ c : Dev Cert.ModBwd.nD,
      r.2.mem ((c.tc : Thread Cert.ModBwd.nD Cert.ModBwd.τ).loc Cert.ModBwd.main_arg0) = m ((c.tc : Thread Cert.ModBwd.nD Cert.ModBwd.τ).loc Cert.ModBwd.main_arg0)
      ∧ r.2.mem ((c.tc : Thread Cert.ModBwd.nD Cert.ModBwd.τ).loc Cert.ModBwd.main_arg1) = m ((c.tc : Thread Cert.ModBwd.nD Cert.ModBwd.τ).loc Cert.ModBwd.main_arg1)
      ∧ r.2.mem ((c.tc : Thread Cert.ModBwd.nD Cert.ModBwd.τ).loc Cert.ModBwd.main_arg2) = m ((c.tc : Thread Cert.ModBwd.nD Cert.ModBwd.τ).loc Cert.ModBwd.main_arg2))
      ∧ r.2.sem = fun _ => 0)

def quiescent_ModBwdIdeal [hModBwdIdeal : Cert.ModBwdIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg), Pre_ModBwdIdeal m →
    θ_run (Cert.ModBwdIdeal.defs (F := Ideal)) (onTc (τ := Cert.ModBwdIdeal.τ) (Cert.ModBwdIdeal.main (F := Ideal))) ⟨m, fun _ => 0, g⟩ (fun r => (∀ c : Dev Cert.ModBwdIdeal.nD,
      r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
      ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
      ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2))
      ∧ r.2.sem = fun _ => 0)

def quiescent_ModBwdRefIdeal [hModBwdRefIdeal : Cert.ModBwdRefIdeal.Facts] : Prop :=
  ∀ (m : (ℓ : Loc Cert.ModBwdRefIdeal.nD Cert.ModBwdRefIdeal.τ Cert.ModBwdRefIdeal.sig) → Buf (Elt Ideal) ℓ) (g : Dev Cert.ModBwdRefIdeal.nD → PrngReg), Pre_ModBwdRefIdeal m →
    θ_run (Cert.ModBwdRefIdeal.defs (F := Ideal)) (onTc (τ := Cert.ModBwdRefIdeal.τ) (Cert.ModBwdRefIdeal.main (F := Ideal))) ⟨m, fun _ => 0, g⟩ (fun r => (∀ c : Dev Cert.ModBwdRefIdeal.nD,
      r.2.mem ((c.tc : Thread Cert.ModBwdRefIdeal.nD Cert.ModBwdRefIdeal.τ).loc Cert.ModBwdRefIdeal.main_arg0) = m ((c.tc : Thread Cert.ModBwdRefIdeal.nD Cert.ModBwdRefIdeal.τ).loc Cert.ModBwdRefIdeal.main_arg0)
      ∧ r.2.mem ((c.tc : Thread Cert.ModBwdRefIdeal.nD Cert.ModBwdRefIdeal.τ).loc Cert.ModBwdRefIdeal.main_arg1) = m ((c.tc : Thread Cert.ModBwdRefIdeal.nD Cert.ModBwdRefIdeal.τ).loc Cert.ModBwdRefIdeal.main_arg1)
      ∧ r.2.mem ((c.tc : Thread Cert.ModBwdRefIdeal.nD Cert.ModBwdRefIdeal.τ).loc Cert.ModBwdRefIdeal.main_arg2) = m ((c.tc : Thread Cert.ModBwdRefIdeal.nD Cert.ModBwdRefIdeal.τ).loc Cert.ModBwdRefIdeal.main_arg2))
      ∧ r.2.sem = fun _ => 0)

def quiescent_CctxGrad [hCctxGrad : Cert.CctxGrad.Facts] : Prop :=
  ∀ (m : (ℓ : Loc Cert.CctxGrad.nD Cert.CctxGrad.τ Cert.CctxGrad.sig) → Buf (Elt Bits) ℓ) (g : Dev Cert.CctxGrad.nD → PrngReg), Pre_CctxGrad m →
    θ_run (Cert.CctxGrad.defs (F := Bits)) (onTc (τ := Cert.CctxGrad.τ) (Cert.CctxGrad.main (F := Bits))) ⟨m, fun _ => 0, g⟩ (fun r => (∀ c : Dev Cert.CctxGrad.nD,
      r.2.mem ((c.tc : Thread Cert.CctxGrad.nD Cert.CctxGrad.τ).loc Cert.CctxGrad.main_arg0) = m ((c.tc : Thread Cert.CctxGrad.nD Cert.CctxGrad.τ).loc Cert.CctxGrad.main_arg0)
      ∧ r.2.mem ((c.tc : Thread Cert.CctxGrad.nD Cert.CctxGrad.τ).loc Cert.CctxGrad.main_arg1) = m ((c.tc : Thread Cert.CctxGrad.nD Cert.CctxGrad.τ).loc Cert.CctxGrad.main_arg1))
      ∧ r.2.sem = fun _ => 0)

def quiescent_CctxGradIdeal [hCctxGradIdeal : Cert.CctxGradIdeal.Facts] : Prop :=
  ∀ (m : (ℓ : Loc Cert.CctxGradIdeal.nD Cert.CctxGradIdeal.τ Cert.CctxGradIdeal.sig) → Buf (Elt Ideal) ℓ) (g : Dev Cert.CctxGradIdeal.nD → PrngReg), Pre_CctxGradIdeal m →
    θ_run (Cert.CctxGradIdeal.defs (F := Ideal)) (onTc (τ := Cert.CctxGradIdeal.τ) (Cert.CctxGradIdeal.main (F := Ideal))) ⟨m, fun _ => 0, g⟩ (fun r => (∀ c : Dev Cert.CctxGradIdeal.nD,
      r.2.mem ((c.tc : Thread Cert.CctxGradIdeal.nD Cert.CctxGradIdeal.τ).loc Cert.CctxGradIdeal.main_arg0) = m ((c.tc : Thread Cert.CctxGradIdeal.nD Cert.CctxGradIdeal.τ).loc Cert.CctxGradIdeal.main_arg0)
      ∧ r.2.mem ((c.tc : Thread Cert.CctxGradIdeal.nD Cert.CctxGradIdeal.τ).loc Cert.CctxGradIdeal.main_arg1) = m ((c.tc : Thread Cert.CctxGradIdeal.nD Cert.CctxGradIdeal.τ).loc Cert.CctxGradIdeal.main_arg1))
      ∧ r.2.sem = fun _ => 0)

def quiescent_CctxGradRefIdeal [hCctxGradRefIdeal : Cert.CctxGradRefIdeal.Facts] : Prop :=
  ∀ (m : (ℓ : Loc Cert.CctxGradRefIdeal.nD Cert.CctxGradRefIdeal.τ Cert.CctxGradRefIdeal.sig) → Buf (Elt Ideal) ℓ) (g : Dev Cert.CctxGradRefIdeal.nD → PrngReg), Pre_CctxGradRefIdeal m →
    θ_run (Cert.CctxGradRefIdeal.defs (F := Ideal)) (onTc (τ := Cert.CctxGradRefIdeal.τ) (Cert.CctxGradRefIdeal.main (F := Ideal))) ⟨m, fun _ => 0, g⟩ (fun r => (∀ c : Dev Cert.CctxGradRefIdeal.nD,
      r.2.mem ((c.tc : Thread Cert.CctxGradRefIdeal.nD Cert.CctxGradRefIdeal.τ).loc Cert.CctxGradRefIdeal.main_arg0) = m ((c.tc : Thread Cert.CctxGradRefIdeal.nD Cert.CctxGradRefIdeal.τ).loc Cert.CctxGradRefIdeal.main_arg0)
      ∧ r.2.mem ((c.tc : Thread Cert.CctxGradRefIdeal.nD Cert.CctxGradRefIdeal.τ).loc Cert.CctxGradRefIdeal.main_arg1) = m ((c.tc : Thread Cert.CctxGradRefIdeal.nD Cert.CctxGradRefIdeal.τ).loc Cert.CctxGradRefIdeal.main_arg1))
      ∧ r.2.sem = fun _ => 0)

def quiescent_NormBwd [hNormBwd : Cert.NormBwd.Facts] : Prop :=
  ∀ (m : (ℓ : Loc Cert.NormBwd.nD Cert.NormBwd.τ Cert.NormBwd.sig) → Buf (Elt Bits) ℓ) (g : Dev Cert.NormBwd.nD → PrngReg), Pre_NormBwd m →
    θ_run (Cert.NormBwd.defs (F := Bits)) (onTc (τ := Cert.NormBwd.τ) (Cert.NormBwd.main (F := Bits))) ⟨m, fun _ => 0, g⟩ (fun r => (∀ c : Dev Cert.NormBwd.nD,
      r.2.mem ((c.tc : Thread Cert.NormBwd.nD Cert.NormBwd.τ).loc Cert.NormBwd.main_arg0) = m ((c.tc : Thread Cert.NormBwd.nD Cert.NormBwd.τ).loc Cert.NormBwd.main_arg0)
      ∧ r.2.mem ((c.tc : Thread Cert.NormBwd.nD Cert.NormBwd.τ).loc Cert.NormBwd.main_arg1) = m ((c.tc : Thread Cert.NormBwd.nD Cert.NormBwd.τ).loc Cert.NormBwd.main_arg1)
      ∧ r.2.mem ((c.tc : Thread Cert.NormBwd.nD Cert.NormBwd.τ).loc Cert.NormBwd.main_arg2) = m ((c.tc : Thread Cert.NormBwd.nD Cert.NormBwd.τ).loc Cert.NormBwd.main_arg2)
      ∧ r.2.mem ((c.tc : Thread Cert.NormBwd.nD Cert.NormBwd.τ).loc Cert.NormBwd.main_arg3) = m ((c.tc : Thread Cert.NormBwd.nD Cert.NormBwd.τ).loc Cert.NormBwd.main_arg3)
      ∧ r.2.mem ((c.tc : Thread Cert.NormBwd.nD Cert.NormBwd.τ).loc Cert.NormBwd.main_arg4) = m ((c.tc : Thread Cert.NormBwd.nD Cert.NormBwd.τ).loc Cert.NormBwd.main_arg4)
      ∧ r.2.mem ((c.tc : Thread Cert.NormBwd.nD Cert.NormBwd.τ).loc Cert.NormBwd.main_arg5) = m ((c.tc : Thread Cert.NormBwd.nD Cert.NormBwd.τ).loc Cert.NormBwd.main_arg5))
      ∧ r.2.sem = fun _ => 0)

def quiescent_NormBwdIdeal [hNormBwdIdeal : Cert.NormBwdIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg), Pre_NormBwdIdeal m →
    θ_run (Cert.NormBwdIdeal.defs (F := Ideal)) (onTc (τ := Cert.NormBwdIdeal.τ) (Cert.NormBwdIdeal.main (F := Ideal))) ⟨m, fun _ => 0, g⟩ (fun r => (∀ c : Dev Cert.NormBwdIdeal.nD,
      r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
      ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
      ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
      ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
      ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
      ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ r.2.sem = fun _ => 0)

def quiescent_NormBwdRefIdeal [hNormBwdRefIdeal : Cert.NormBwdRefIdeal.Facts] : Prop :=
  ∀ (m : (ℓ : Loc Cert.NormBwdRefIdeal.nD Cert.NormBwdRefIdeal.τ Cert.NormBwdRefIdeal.sig) → Buf (Elt Ideal) ℓ) (g : Dev Cert.NormBwdRefIdeal.nD → PrngReg), Pre_NormBwdRefIdeal m →
    θ_run (Cert.NormBwdRefIdeal.defs (F := Ideal)) (onTc (τ := Cert.NormBwdRefIdeal.τ) (Cert.NormBwdRefIdeal.main (F := Ideal))) ⟨m, fun _ => 0, g⟩ (fun r => (∀ c : Dev Cert.NormBwdRefIdeal.nD,
      r.2.mem ((c.tc : Thread Cert.NormBwdRefIdeal.nD Cert.NormBwdRefIdeal.τ).loc Cert.NormBwdRefIdeal.main_arg0) = m ((c.tc : Thread Cert.NormBwdRefIdeal.nD Cert.NormBwdRefIdeal.τ).loc Cert.NormBwdRefIdeal.main_arg0)
      ∧ r.2.mem ((c.tc : Thread Cert.NormBwdRefIdeal.nD Cert.NormBwdRefIdeal.τ).loc Cert.NormBwdRefIdeal.main_arg1) = m ((c.tc : Thread Cert.NormBwdRefIdeal.nD Cert.NormBwdRefIdeal.τ).loc Cert.NormBwdRefIdeal.main_arg1)
      ∧ r.2.mem ((c.tc : Thread Cert.NormBwdRefIdeal.nD Cert.NormBwdRefIdeal.τ).loc Cert.NormBwdRefIdeal.main_arg2) = m ((c.tc : Thread Cert.NormBwdRefIdeal.nD Cert.NormBwdRefIdeal.τ).loc Cert.NormBwdRefIdeal.main_arg2)
      ∧ r.2.mem ((c.tc : Thread Cert.NormBwdRefIdeal.nD Cert.NormBwdRefIdeal.τ).loc Cert.NormBwdRefIdeal.main_arg3) = m ((c.tc : Thread Cert.NormBwdRefIdeal.nD Cert.NormBwdRefIdeal.τ).loc Cert.NormBwdRefIdeal.main_arg3)
      ∧ r.2.mem ((c.tc : Thread Cert.NormBwdRefIdeal.nD Cert.NormBwdRefIdeal.τ).loc Cert.NormBwdRefIdeal.main_arg4) = m ((c.tc : Thread Cert.NormBwdRefIdeal.nD Cert.NormBwdRefIdeal.τ).loc Cert.NormBwdRefIdeal.main_arg4)
      ∧ r.2.mem ((c.tc : Thread Cert.NormBwdRefIdeal.nD Cert.NormBwdRefIdeal.τ).loc Cert.NormBwdRefIdeal.main_arg5) = m ((c.tc : Thread Cert.NormBwdRefIdeal.nD Cert.NormBwdRefIdeal.τ).loc Cert.NormBwdRefIdeal.main_arg5))
      ∧ r.2.sem = fun _ => 0)

def quiescent_FinalLoss [hFinalLoss : Cert.FinalLoss.Facts] : Prop :=
  ∀ (m : (ℓ : Loc Cert.FinalLoss.nD Cert.FinalLoss.τ Cert.FinalLoss.sig) → Buf (Elt Bits) ℓ) (g : Dev Cert.FinalLoss.nD → PrngReg), Pre_FinalLoss m →
    θ_run (Cert.FinalLoss.defs (F := Bits)) (onTc (τ := Cert.FinalLoss.τ) (Cert.FinalLoss.main (F := Bits))) ⟨m, fun _ => 0, g⟩ (fun r => (∀ c : Dev Cert.FinalLoss.nD,
      r.2.mem ((c.tc : Thread Cert.FinalLoss.nD Cert.FinalLoss.τ).loc Cert.FinalLoss.main_arg0) = m ((c.tc : Thread Cert.FinalLoss.nD Cert.FinalLoss.τ).loc Cert.FinalLoss.main_arg0)
      ∧ r.2.mem ((c.tc : Thread Cert.FinalLoss.nD Cert.FinalLoss.τ).loc Cert.FinalLoss.main_arg1) = m ((c.tc : Thread Cert.FinalLoss.nD Cert.FinalLoss.τ).loc Cert.FinalLoss.main_arg1)
      ∧ r.2.mem ((c.tc : Thread Cert.FinalLoss.nD Cert.FinalLoss.τ).loc Cert.FinalLoss.main_arg2) = m ((c.tc : Thread Cert.FinalLoss.nD Cert.FinalLoss.τ).loc Cert.FinalLoss.main_arg2)
      ∧ r.2.mem ((c.tc : Thread Cert.FinalLoss.nD Cert.FinalLoss.τ).loc Cert.FinalLoss.main_arg3) = m ((c.tc : Thread Cert.FinalLoss.nD Cert.FinalLoss.τ).loc Cert.FinalLoss.main_arg3)
      ∧ r.2.mem ((c.tc : Thread Cert.FinalLoss.nD Cert.FinalLoss.τ).loc Cert.FinalLoss.main_arg4) = m ((c.tc : Thread Cert.FinalLoss.nD Cert.FinalLoss.τ).loc Cert.FinalLoss.main_arg4))
      ∧ r.2.sem = fun _ => 0)

def quiescent_FinalLossIdeal [hFinalLossIdeal : Cert.FinalLossIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg), Pre_FinalLossIdeal m →
    θ_run (Cert.FinalLossIdeal.defs (F := Ideal)) (onTc (τ := Cert.FinalLossIdeal.τ) (Cert.FinalLossIdeal.main (F := Ideal))) ⟨m, fun _ => 0, g⟩ (fun r => (∀ c : Dev Cert.FinalLossIdeal.nD,
      r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
      ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
      ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
      ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
      ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ r.2.sem = fun _ => 0)

def quiescent_FinalLossRefIdeal [hFinalLossRefIdeal : Cert.FinalLossRefIdeal.Facts] : Prop :=
  ∀ (m : (ℓ : Loc Cert.FinalLossRefIdeal.nD Cert.FinalLossRefIdeal.τ Cert.FinalLossRefIdeal.sig) → Buf (Elt Ideal) ℓ) (g : Dev Cert.FinalLossRefIdeal.nD → PrngReg), Pre_FinalLossRefIdeal m →
    θ_run (Cert.FinalLossRefIdeal.defs (F := Ideal)) (onTc (τ := Cert.FinalLossRefIdeal.τ) (Cert.FinalLossRefIdeal.main (F := Ideal))) ⟨m, fun _ => 0, g⟩ (fun r => (∀ c : Dev Cert.FinalLossRefIdeal.nD,
      r.2.mem ((c.tc : Thread Cert.FinalLossRefIdeal.nD Cert.FinalLossRefIdeal.τ).loc Cert.FinalLossRefIdeal.main_arg0) = m ((c.tc : Thread Cert.FinalLossRefIdeal.nD Cert.FinalLossRefIdeal.τ).loc Cert.FinalLossRefIdeal.main_arg0)
      ∧ r.2.mem ((c.tc : Thread Cert.FinalLossRefIdeal.nD Cert.FinalLossRefIdeal.τ).loc Cert.FinalLossRefIdeal.main_arg1) = m ((c.tc : Thread Cert.FinalLossRefIdeal.nD Cert.FinalLossRefIdeal.τ).loc Cert.FinalLossRefIdeal.main_arg1)
      ∧ r.2.mem ((c.tc : Thread Cert.FinalLossRefIdeal.nD Cert.FinalLossRefIdeal.τ).loc Cert.FinalLossRefIdeal.main_arg2) = m ((c.tc : Thread Cert.FinalLossRefIdeal.nD Cert.FinalLossRefIdeal.τ).loc Cert.FinalLossRefIdeal.main_arg2)
      ∧ r.2.mem ((c.tc : Thread Cert.FinalLossRefIdeal.nD Cert.FinalLossRefIdeal.τ).loc Cert.FinalLossRefIdeal.main_arg3) = m ((c.tc : Thread Cert.FinalLossRefIdeal.nD Cert.FinalLossRefIdeal.τ).loc Cert.FinalLossRefIdeal.main_arg3)
      ∧ r.2.mem ((c.tc : Thread Cert.FinalLossRefIdeal.nD Cert.FinalLossRefIdeal.τ).loc Cert.FinalLossRefIdeal.main_arg4) = m ((c.tc : Thread Cert.FinalLossRefIdeal.nD Cert.FinalLossRefIdeal.τ).loc Cert.FinalLossRefIdeal.main_arg4))
      ∧ r.2.sem = fun _ => 0)

def quiescent_NormFwd [hNormFwd : Cert.NormFwd.Facts] : Prop :=
  ∀ (m : (ℓ : Loc Cert.NormFwd.nD Cert.NormFwd.τ Cert.NormFwd.sig) → Buf (Elt Bits) ℓ) (g : Dev Cert.NormFwd.nD → PrngReg), Pre_NormFwd m →
    θ_run (Cert.NormFwd.defs (F := Bits)) (onTc (τ := Cert.NormFwd.τ) (Cert.NormFwd.main (F := Bits))) ⟨m, fun _ => 0, g⟩ (fun r => (∀ c : Dev Cert.NormFwd.nD,
      r.2.mem ((c.tc : Thread Cert.NormFwd.nD Cert.NormFwd.τ).loc Cert.NormFwd.main_arg0) = m ((c.tc : Thread Cert.NormFwd.nD Cert.NormFwd.τ).loc Cert.NormFwd.main_arg0)
      ∧ r.2.mem ((c.tc : Thread Cert.NormFwd.nD Cert.NormFwd.τ).loc Cert.NormFwd.main_arg1) = m ((c.tc : Thread Cert.NormFwd.nD Cert.NormFwd.τ).loc Cert.NormFwd.main_arg1)
      ∧ r.2.mem ((c.tc : Thread Cert.NormFwd.nD Cert.NormFwd.τ).loc Cert.NormFwd.main_arg2) = m ((c.tc : Thread Cert.NormFwd.nD Cert.NormFwd.τ).loc Cert.NormFwd.main_arg2)
      ∧ r.2.mem ((c.tc : Thread Cert.NormFwd.nD Cert.NormFwd.τ).loc Cert.NormFwd.main_arg3) = m ((c.tc : Thread Cert.NormFwd.nD Cert.NormFwd.τ).loc Cert.NormFwd.main_arg3))
      ∧ r.2.sem = fun _ => 0)

def quiescent_NormFwdIdeal [hNormFwdIdeal : Cert.NormFwdIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg), Pre_NormFwdIdeal m →
    θ_run (Cert.NormFwdIdeal.defs (F := Ideal)) (onTc (τ := Cert.NormFwdIdeal.τ) (Cert.NormFwdIdeal.main (F := Ideal))) ⟨m, fun _ => 0, g⟩ (fun r => (∀ c : Dev Cert.NormFwdIdeal.nD,
      r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
      ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
      ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
      ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ r.2.sem = fun _ => 0)

def quiescent_NormFwdRefIdeal [hNormFwdRefIdeal : Cert.NormFwdRefIdeal.Facts] : Prop :=
  ∀ (m : (ℓ : Loc Cert.NormFwdRefIdeal.nD Cert.NormFwdRefIdeal.τ Cert.NormFwdRefIdeal.sig) → Buf (Elt Ideal) ℓ) (g : Dev Cert.NormFwdRefIdeal.nD → PrngReg), Pre_NormFwdRefIdeal m →
    θ_run (Cert.NormFwdRefIdeal.defs (F := Ideal)) (onTc (τ := Cert.NormFwdRefIdeal.τ) (Cert.NormFwdRefIdeal.main (F := Ideal))) ⟨m, fun _ => 0, g⟩ (fun r => (∀ c : Dev Cert.NormFwdRefIdeal.nD,
      r.2.mem ((c.tc : Thread Cert.NormFwdRefIdeal.nD Cert.NormFwdRefIdeal.τ).loc Cert.NormFwdRefIdeal.main_arg0) = m ((c.tc : Thread Cert.NormFwdRefIdeal.nD Cert.NormFwdRefIdeal.τ).loc Cert.NormFwdRefIdeal.main_arg0)
      ∧ r.2.mem ((c.tc : Thread Cert.NormFwdRefIdeal.nD Cert.NormFwdRefIdeal.τ).loc Cert.NormFwdRefIdeal.main_arg1) = m ((c.tc : Thread Cert.NormFwdRefIdeal.nD Cert.NormFwdRefIdeal.τ).loc Cert.NormFwdRefIdeal.main_arg1)
      ∧ r.2.mem ((c.tc : Thread Cert.NormFwdRefIdeal.nD Cert.NormFwdRefIdeal.τ).loc Cert.NormFwdRefIdeal.main_arg2) = m ((c.tc : Thread Cert.NormFwdRefIdeal.nD Cert.NormFwdRefIdeal.τ).loc Cert.NormFwdRefIdeal.main_arg2)
      ∧ r.2.mem ((c.tc : Thread Cert.NormFwdRefIdeal.nD Cert.NormFwdRefIdeal.τ).loc Cert.NormFwdRefIdeal.main_arg3) = m ((c.tc : Thread Cert.NormFwdRefIdeal.nD Cert.NormFwdRefIdeal.τ).loc Cert.NormFwdRefIdeal.main_arg3))
      ∧ r.2.sem = fun _ => 0)

def quiescent_NormCtxFwd [hNormCtxFwd : Cert.NormCtxFwd.Facts] : Prop :=
  ∀ (m : (ℓ : Loc Cert.NormCtxFwd.nD Cert.NormCtxFwd.τ Cert.NormCtxFwd.sig) → Buf (Elt Bits) ℓ) (g : Dev Cert.NormCtxFwd.nD → PrngReg), Pre_NormCtxFwd m →
    θ_run (Cert.NormCtxFwd.defs (F := Bits)) (onTc (τ := Cert.NormCtxFwd.τ) (Cert.NormCtxFwd.main (F := Bits))) ⟨m, fun _ => 0, g⟩ (fun r => (∀ c : Dev Cert.NormCtxFwd.nD,
      r.2.mem ((c.tc : Thread Cert.NormCtxFwd.nD Cert.NormCtxFwd.τ).loc Cert.NormCtxFwd.main_arg0) = m ((c.tc : Thread Cert.NormCtxFwd.nD Cert.NormCtxFwd.τ).loc Cert.NormCtxFwd.main_arg0)
      ∧ r.2.mem ((c.tc : Thread Cert.NormCtxFwd.nD Cert.NormCtxFwd.τ).loc Cert.NormCtxFwd.main_arg1) = m ((c.tc : Thread Cert.NormCtxFwd.nD Cert.NormCtxFwd.τ).loc Cert.NormCtxFwd.main_arg1)
      ∧ r.2.mem ((c.tc : Thread Cert.NormCtxFwd.nD Cert.NormCtxFwd.τ).loc Cert.NormCtxFwd.main_arg2) = m ((c.tc : Thread Cert.NormCtxFwd.nD Cert.NormCtxFwd.τ).loc Cert.NormCtxFwd.main_arg2)
      ∧ r.2.mem ((c.tc : Thread Cert.NormCtxFwd.nD Cert.NormCtxFwd.τ).loc Cert.NormCtxFwd.main_arg3) = m ((c.tc : Thread Cert.NormCtxFwd.nD Cert.NormCtxFwd.τ).loc Cert.NormCtxFwd.main_arg3))
      ∧ r.2.sem = fun _ => 0)

def quiescent_NormCtxFwdIdeal [hNormCtxFwdIdeal : Cert.NormCtxFwdIdeal.Facts] : Prop :=
  ∀ (m : (ℓ : Loc Cert.NormCtxFwdIdeal.nD Cert.NormCtxFwdIdeal.τ Cert.NormCtxFwdIdeal.sig) → Buf (Elt Ideal) ℓ) (g : Dev Cert.NormCtxFwdIdeal.nD → PrngReg), Pre_NormCtxFwdIdeal m →
    θ_run (Cert.NormCtxFwdIdeal.defs (F := Ideal)) (onTc (τ := Cert.NormCtxFwdIdeal.τ) (Cert.NormCtxFwdIdeal.main (F := Ideal))) ⟨m, fun _ => 0, g⟩ (fun r => (∀ c : Dev Cert.NormCtxFwdIdeal.nD,
      r.2.mem ((c.tc : Thread Cert.NormCtxFwdIdeal.nD Cert.NormCtxFwdIdeal.τ).loc Cert.NormCtxFwdIdeal.main_arg0) = m ((c.tc : Thread Cert.NormCtxFwdIdeal.nD Cert.NormCtxFwdIdeal.τ).loc Cert.NormCtxFwdIdeal.main_arg0)
      ∧ r.2.mem ((c.tc : Thread Cert.NormCtxFwdIdeal.nD Cert.NormCtxFwdIdeal.τ).loc Cert.NormCtxFwdIdeal.main_arg1) = m ((c.tc : Thread Cert.NormCtxFwdIdeal.nD Cert.NormCtxFwdIdeal.τ).loc Cert.NormCtxFwdIdeal.main_arg1)
      ∧ r.2.mem ((c.tc : Thread Cert.NormCtxFwdIdeal.nD Cert.NormCtxFwdIdeal.τ).loc Cert.NormCtxFwdIdeal.main_arg2) = m ((c.tc : Thread Cert.NormCtxFwdIdeal.nD Cert.NormCtxFwdIdeal.τ).loc Cert.NormCtxFwdIdeal.main_arg2)
      ∧ r.2.mem ((c.tc : Thread Cert.NormCtxFwdIdeal.nD Cert.NormCtxFwdIdeal.τ).loc Cert.NormCtxFwdIdeal.main_arg3) = m ((c.tc : Thread Cert.NormCtxFwdIdeal.nD Cert.NormCtxFwdIdeal.τ).loc Cert.NormCtxFwdIdeal.main_arg3))
      ∧ r.2.sem = fun _ => 0)

def quiescent_NormCtxFwdRefIdeal [hNormCtxFwdRefIdeal : Cert.NormCtxFwdRefIdeal.Facts] : Prop :=
  ∀ (m : (ℓ : Loc Cert.NormCtxFwdRefIdeal.nD Cert.NormCtxFwdRefIdeal.τ Cert.NormCtxFwdRefIdeal.sig) → Buf (Elt Ideal) ℓ) (g : Dev Cert.NormCtxFwdRefIdeal.nD → PrngReg), Pre_NormCtxFwdRefIdeal m →
    θ_run (Cert.NormCtxFwdRefIdeal.defs (F := Ideal)) (onTc (τ := Cert.NormCtxFwdRefIdeal.τ) (Cert.NormCtxFwdRefIdeal.main (F := Ideal))) ⟨m, fun _ => 0, g⟩ (fun r => (∀ c : Dev Cert.NormCtxFwdRefIdeal.nD,
      r.2.mem ((c.tc : Thread Cert.NormCtxFwdRefIdeal.nD Cert.NormCtxFwdRefIdeal.τ).loc Cert.NormCtxFwdRefIdeal.main_arg0) = m ((c.tc : Thread Cert.NormCtxFwdRefIdeal.nD Cert.NormCtxFwdRefIdeal.τ).loc Cert.NormCtxFwdRefIdeal.main_arg0)
      ∧ r.2.mem ((c.tc : Thread Cert.NormCtxFwdRefIdeal.nD Cert.NormCtxFwdRefIdeal.τ).loc Cert.NormCtxFwdRefIdeal.main_arg1) = m ((c.tc : Thread Cert.NormCtxFwdRefIdeal.nD Cert.NormCtxFwdRefIdeal.τ).loc Cert.NormCtxFwdRefIdeal.main_arg1)
      ∧ r.2.mem ((c.tc : Thread Cert.NormCtxFwdRefIdeal.nD Cert.NormCtxFwdRefIdeal.τ).loc Cert.NormCtxFwdRefIdeal.main_arg2) = m ((c.tc : Thread Cert.NormCtxFwdRefIdeal.nD Cert.NormCtxFwdRefIdeal.τ).loc Cert.NormCtxFwdRefIdeal.main_arg2)
      ∧ r.2.mem ((c.tc : Thread Cert.NormCtxFwdRefIdeal.nD Cert.NormCtxFwdRefIdeal.τ).loc Cert.NormCtxFwdRefIdeal.main_arg3) = m ((c.tc : Thread Cert.NormCtxFwdRefIdeal.nD Cert.NormCtxFwdRefIdeal.τ).loc Cert.NormCtxFwdRefIdeal.main_arg3))
      ∧ r.2.sem = fun _ => 0)

def quiescent_NormCtxBwd [hNormCtxBwd : Cert.NormCtxBwd.Facts] : Prop :=
  ∀ (m : (ℓ : Loc Cert.NormCtxBwd.nD Cert.NormCtxBwd.τ Cert.NormCtxBwd.sig) → Buf (Elt Bits) ℓ) (g : Dev Cert.NormCtxBwd.nD → PrngReg), Pre_NormCtxBwd m →
    θ_run (Cert.NormCtxBwd.defs (F := Bits)) (onTc (τ := Cert.NormCtxBwd.τ) (Cert.NormCtxBwd.main (F := Bits))) ⟨m, fun _ => 0, g⟩ (fun r => (∀ c : Dev Cert.NormCtxBwd.nD,
      r.2.mem ((c.tc : Thread Cert.NormCtxBwd.nD Cert.NormCtxBwd.τ).loc Cert.NormCtxBwd.main_arg0) = m ((c.tc : Thread Cert.NormCtxBwd.nD Cert.NormCtxBwd.τ).loc Cert.NormCtxBwd.main_arg0)
      ∧ r.2.mem ((c.tc : Thread Cert.NormCtxBwd.nD Cert.NormCtxBwd.τ).loc Cert.NormCtxBwd.main_arg1) = m ((c.tc : Thread Cert.NormCtxBwd.nD Cert.NormCtxBwd.τ).loc Cert.NormCtxBwd.main_arg1)
      ∧ r.2.mem ((c.tc : Thread Cert.NormCtxBwd.nD Cert.NormCtxBwd.τ).loc Cert.NormCtxBwd.main_arg2) = m ((c.tc : Thread Cert.NormCtxBwd.nD Cert.NormCtxBwd.τ).loc Cert.NormCtxBwd.main_arg2)
      ∧ r.2.mem ((c.tc : Thread Cert.NormCtxBwd.nD Cert.NormCtxBwd.τ).loc Cert.NormCtxBwd.main_arg3) = m ((c.tc : Thread Cert.NormCtxBwd.nD Cert.NormCtxBwd.τ).loc Cert.NormCtxBwd.main_arg3)
      ∧ r.2.mem ((c.tc : Thread Cert.NormCtxBwd.nD Cert.NormCtxBwd.τ).loc Cert.NormCtxBwd.main_arg4) = m ((c.tc : Thread Cert.NormCtxBwd.nD Cert.NormCtxBwd.τ).loc Cert.NormCtxBwd.main_arg4))
      ∧ r.2.sem = fun _ => 0)

def quiescent_NormCtxBwdIdeal [hNormCtxBwdIdeal : Cert.NormCtxBwdIdeal.Facts] : Prop :=
  ∀ (m : (ℓ : Loc Cert.NormCtxBwdIdeal.nD Cert.NormCtxBwdIdeal.τ Cert.NormCtxBwdIdeal.sig) → Buf (Elt Ideal) ℓ) (g : Dev Cert.NormCtxBwdIdeal.nD → PrngReg), Pre_NormCtxBwdIdeal m →
    θ_run (Cert.NormCtxBwdIdeal.defs (F := Ideal)) (onTc (τ := Cert.NormCtxBwdIdeal.τ) (Cert.NormCtxBwdIdeal.main (F := Ideal))) ⟨m, fun _ => 0, g⟩ (fun r => (∀ c : Dev Cert.NormCtxBwdIdeal.nD,
      r.2.mem ((c.tc : Thread Cert.NormCtxBwdIdeal.nD Cert.NormCtxBwdIdeal.τ).loc Cert.NormCtxBwdIdeal.main_arg0) = m ((c.tc : Thread Cert.NormCtxBwdIdeal.nD Cert.NormCtxBwdIdeal.τ).loc Cert.NormCtxBwdIdeal.main_arg0)
      ∧ r.2.mem ((c.tc : Thread Cert.NormCtxBwdIdeal.nD Cert.NormCtxBwdIdeal.τ).loc Cert.NormCtxBwdIdeal.main_arg1) = m ((c.tc : Thread Cert.NormCtxBwdIdeal.nD Cert.NormCtxBwdIdeal.τ).loc Cert.NormCtxBwdIdeal.main_arg1)
      ∧ r.2.mem ((c.tc : Thread Cert.NormCtxBwdIdeal.nD Cert.NormCtxBwdIdeal.τ).loc Cert.NormCtxBwdIdeal.main_arg2) = m ((c.tc : Thread Cert.NormCtxBwdIdeal.nD Cert.NormCtxBwdIdeal.τ).loc Cert.NormCtxBwdIdeal.main_arg2)
      ∧ r.2.mem ((c.tc : Thread Cert.NormCtxBwdIdeal.nD Cert.NormCtxBwdIdeal.τ).loc Cert.NormCtxBwdIdeal.main_arg3) = m ((c.tc : Thread Cert.NormCtxBwdIdeal.nD Cert.NormCtxBwdIdeal.τ).loc Cert.NormCtxBwdIdeal.main_arg3)
      ∧ r.2.mem ((c.tc : Thread Cert.NormCtxBwdIdeal.nD Cert.NormCtxBwdIdeal.τ).loc Cert.NormCtxBwdIdeal.main_arg4) = m ((c.tc : Thread Cert.NormCtxBwdIdeal.nD Cert.NormCtxBwdIdeal.τ).loc Cert.NormCtxBwdIdeal.main_arg4))
      ∧ r.2.sem = fun _ => 0)

def quiescent_NormCtxBwdRefIdeal [hNormCtxBwdRefIdeal : Cert.NormCtxBwdRefIdeal.Facts] : Prop :=
  ∀ (m : (ℓ : Loc Cert.NormCtxBwdRefIdeal.nD Cert.NormCtxBwdRefIdeal.τ Cert.NormCtxBwdRefIdeal.sig) → Buf (Elt Ideal) ℓ) (g : Dev Cert.NormCtxBwdRefIdeal.nD → PrngReg), Pre_NormCtxBwdRefIdeal m →
    θ_run (Cert.NormCtxBwdRefIdeal.defs (F := Ideal)) (onTc (τ := Cert.NormCtxBwdRefIdeal.τ) (Cert.NormCtxBwdRefIdeal.main (F := Ideal))) ⟨m, fun _ => 0, g⟩ (fun r => (∀ c : Dev Cert.NormCtxBwdRefIdeal.nD,
      r.2.mem ((c.tc : Thread Cert.NormCtxBwdRefIdeal.nD Cert.NormCtxBwdRefIdeal.τ).loc Cert.NormCtxBwdRefIdeal.main_arg0) = m ((c.tc : Thread Cert.NormCtxBwdRefIdeal.nD Cert.NormCtxBwdRefIdeal.τ).loc Cert.NormCtxBwdRefIdeal.main_arg0)
      ∧ r.2.mem ((c.tc : Thread Cert.NormCtxBwdRefIdeal.nD Cert.NormCtxBwdRefIdeal.τ).loc Cert.NormCtxBwdRefIdeal.main_arg1) = m ((c.tc : Thread Cert.NormCtxBwdRefIdeal.nD Cert.NormCtxBwdRefIdeal.τ).loc Cert.NormCtxBwdRefIdeal.main_arg1)
      ∧ r.2.mem ((c.tc : Thread Cert.NormCtxBwdRefIdeal.nD Cert.NormCtxBwdRefIdeal.τ).loc Cert.NormCtxBwdRefIdeal.main_arg2) = m ((c.tc : Thread Cert.NormCtxBwdRefIdeal.nD Cert.NormCtxBwdRefIdeal.τ).loc Cert.NormCtxBwdRefIdeal.main_arg2)
      ∧ r.2.mem ((c.tc : Thread Cert.NormCtxBwdRefIdeal.nD Cert.NormCtxBwdRefIdeal.τ).loc Cert.NormCtxBwdRefIdeal.main_arg3) = m ((c.tc : Thread Cert.NormCtxBwdRefIdeal.nD Cert.NormCtxBwdRefIdeal.τ).loc Cert.NormCtxBwdRefIdeal.main_arg3)
      ∧ r.2.mem ((c.tc : Thread Cert.NormCtxBwdRefIdeal.nD Cert.NormCtxBwdRefIdeal.τ).loc Cert.NormCtxBwdRefIdeal.main_arg4) = m ((c.tc : Thread Cert.NormCtxBwdRefIdeal.nD Cert.NormCtxBwdRefIdeal.τ).loc Cert.NormCtxBwdRefIdeal.main_arg4))
      ∧ r.2.sem = fun _ => 0)

def quiescent_NormGateBwd [hNormGateBwd : Cert.NormGateBwd.Facts] : Prop :=
  ∀ (m : (ℓ : Loc Cert.NormGateBwd.nD Cert.NormGateBwd.τ Cert.NormGateBwd.sig) → Buf (Elt Bits) ℓ) (g : Dev Cert.NormGateBwd.nD → PrngReg), Pre_NormGateBwd m →
    θ_run (Cert.NormGateBwd.defs (F := Bits)) (onTc (τ := Cert.NormGateBwd.τ) (Cert.NormGateBwd.main (F := Bits))) ⟨m, fun _ => 0, g⟩ (fun r => (∀ c : Dev Cert.NormGateBwd.nD,
      r.2.mem ((c.tc : Thread Cert.NormGateBwd.nD Cert.NormGateBwd.τ).loc Cert.NormGateBwd.main_arg0) = m ((c.tc : Thread Cert.NormGateBwd.nD Cert.NormGateBwd.τ).loc Cert.NormGateBwd.main_arg0)
      ∧ r.2.mem ((c.tc : Thread Cert.NormGateBwd.nD Cert.NormGateBwd.τ).loc Cert.NormGateBwd.main_arg1) = m ((c.tc : Thread Cert.NormGateBwd.nD Cert.NormGateBwd.τ).loc Cert.NormGateBwd.main_arg1)
      ∧ r.2.mem ((c.tc : Thread Cert.NormGateBwd.nD Cert.NormGateBwd.τ).loc Cert.NormGateBwd.main_arg2) = m ((c.tc : Thread Cert.NormGateBwd.nD Cert.NormGateBwd.τ).loc Cert.NormGateBwd.main_arg2)
      ∧ r.2.mem ((c.tc : Thread Cert.NormGateBwd.nD Cert.NormGateBwd.τ).loc Cert.NormGateBwd.main_arg3) = m ((c.tc : Thread Cert.NormGateBwd.nD Cert.NormGateBwd.τ).loc Cert.NormGateBwd.main_arg3)
      ∧ r.2.mem ((c.tc : Thread Cert.NormGateBwd.nD Cert.NormGateBwd.τ).loc Cert.NormGateBwd.main_arg4) = m ((c.tc : Thread Cert.NormGateBwd.nD Cert.NormGateBwd.τ).loc Cert.NormGateBwd.main_arg4)
      ∧ r.2.mem ((c.tc : Thread Cert.NormGateBwd.nD Cert.NormGateBwd.τ).loc Cert.NormGateBwd.main_arg5) = m ((c.tc : Thread Cert.NormGateBwd.nD Cert.NormGateBwd.τ).loc Cert.NormGateBwd.main_arg5)
      ∧ r.2.mem ((c.tc : Thread Cert.NormGateBwd.nD Cert.NormGateBwd.τ).loc Cert.NormGateBwd.main_arg6) = m ((c.tc : Thread Cert.NormGateBwd.nD Cert.NormGateBwd.τ).loc Cert.NormGateBwd.main_arg6)
      ∧ r.2.mem ((c.tc : Thread Cert.NormGateBwd.nD Cert.NormGateBwd.τ).loc Cert.NormGateBwd.main_arg7) = m ((c.tc : Thread Cert.NormGateBwd.nD Cert.NormGateBwd.τ).loc Cert.NormGateBwd.main_arg7))
      ∧ r.2.sem = fun _ => 0)

def quiescent_NormGateBwdIdeal [hNormGateBwdIdeal : Cert.NormGateBwdIdeal.Facts] : Prop :=
  ∀ (m : (ℓ : Loc Cert.NormGateBwdIdeal.nD Cert.NormGateBwdIdeal.τ Cert.NormGateBwdIdeal.sig) → Buf (Elt Ideal) ℓ) (g : Dev Cert.NormGateBwdIdeal.nD → PrngReg), Pre_NormGateBwdIdeal m →
    θ_run (Cert.NormGateBwdIdeal.defs (F := Ideal)) (onTc (τ := Cert.NormGateBwdIdeal.τ) (Cert.NormGateBwdIdeal.main (F := Ideal))) ⟨m, fun _ => 0, g⟩ (fun r => (∀ c : Dev Cert.NormGateBwdIdeal.nD,
      r.2.mem ((c.tc : Thread Cert.NormGateBwdIdeal.nD Cert.NormGateBwdIdeal.τ).loc Cert.NormGateBwdIdeal.main_arg0) = m ((c.tc : Thread Cert.NormGateBwdIdeal.nD Cert.NormGateBwdIdeal.τ).loc Cert.NormGateBwdIdeal.main_arg0)
      ∧ r.2.mem ((c.tc : Thread Cert.NormGateBwdIdeal.nD Cert.NormGateBwdIdeal.τ).loc Cert.NormGateBwdIdeal.main_arg1) = m ((c.tc : Thread Cert.NormGateBwdIdeal.nD Cert.NormGateBwdIdeal.τ).loc Cert.NormGateBwdIdeal.main_arg1)
      ∧ r.2.mem ((c.tc : Thread Cert.NormGateBwdIdeal.nD Cert.NormGateBwdIdeal.τ).loc Cert.NormGateBwdIdeal.main_arg2) = m ((c.tc : Thread Cert.NormGateBwdIdeal.nD Cert.NormGateBwdIdeal.τ).loc Cert.NormGateBwdIdeal.main_arg2)
      ∧ r.2.mem ((c.tc : Thread Cert.NormGateBwdIdeal.nD Cert.NormGateBwdIdeal.τ).loc Cert.NormGateBwdIdeal.main_arg3) = m ((c.tc : Thread Cert.NormGateBwdIdeal.nD Cert.NormGateBwdIdeal.τ).loc Cert.NormGateBwdIdeal.main_arg3)
      ∧ r.2.mem ((c.tc : Thread Cert.NormGateBwdIdeal.nD Cert.NormGateBwdIdeal.τ).loc Cert.NormGateBwdIdeal.main_arg4) = m ((c.tc : Thread Cert.NormGateBwdIdeal.nD Cert.NormGateBwdIdeal.τ).loc Cert.NormGateBwdIdeal.main_arg4)
      ∧ r.2.mem ((c.tc : Thread Cert.NormGateBwdIdeal.nD Cert.NormGateBwdIdeal.τ).loc Cert.NormGateBwdIdeal.main_arg5) = m ((c.tc : Thread Cert.NormGateBwdIdeal.nD Cert.NormGateBwdIdeal.τ).loc Cert.NormGateBwdIdeal.main_arg5)
      ∧ r.2.mem ((c.tc : Thread Cert.NormGateBwdIdeal.nD Cert.NormGateBwdIdeal.τ).loc Cert.NormGateBwdIdeal.main_arg6) = m ((c.tc : Thread Cert.NormGateBwdIdeal.nD Cert.NormGateBwdIdeal.τ).loc Cert.NormGateBwdIdeal.main_arg6)
      ∧ r.2.mem ((c.tc : Thread Cert.NormGateBwdIdeal.nD Cert.NormGateBwdIdeal.τ).loc Cert.NormGateBwdIdeal.main_arg7) = m ((c.tc : Thread Cert.NormGateBwdIdeal.nD Cert.NormGateBwdIdeal.τ).loc Cert.NormGateBwdIdeal.main_arg7))
      ∧ r.2.sem = fun _ => 0)

def quiescent_NormGateBwdRefIdeal [hNormGateBwdRefIdeal : Cert.NormGateBwdRefIdeal.Facts] : Prop :=
  ∀ (m : (ℓ : Loc Cert.NormGateBwdRefIdeal.nD Cert.NormGateBwdRefIdeal.τ Cert.NormGateBwdRefIdeal.sig) → Buf (Elt Ideal) ℓ) (g : Dev Cert.NormGateBwdRefIdeal.nD → PrngReg), Pre_NormGateBwdRefIdeal m →
    θ_run (Cert.NormGateBwdRefIdeal.defs (F := Ideal)) (onTc (τ := Cert.NormGateBwdRefIdeal.τ) (Cert.NormGateBwdRefIdeal.main (F := Ideal))) ⟨m, fun _ => 0, g⟩ (fun r => (∀ c : Dev Cert.NormGateBwdRefIdeal.nD,
      r.2.mem ((c.tc : Thread Cert.NormGateBwdRefIdeal.nD Cert.NormGateBwdRefIdeal.τ).loc Cert.NormGateBwdRefIdeal.main_arg0) = m ((c.tc : Thread Cert.NormGateBwdRefIdeal.nD Cert.NormGateBwdRefIdeal.τ).loc Cert.NormGateBwdRefIdeal.main_arg0)
      ∧ r.2.mem ((c.tc : Thread Cert.NormGateBwdRefIdeal.nD Cert.NormGateBwdRefIdeal.τ).loc Cert.NormGateBwdRefIdeal.main_arg1) = m ((c.tc : Thread Cert.NormGateBwdRefIdeal.nD Cert.NormGateBwdRefIdeal.τ).loc Cert.NormGateBwdRefIdeal.main_arg1)
      ∧ r.2.mem ((c.tc : Thread Cert.NormGateBwdRefIdeal.nD Cert.NormGateBwdRefIdeal.τ).loc Cert.NormGateBwdRefIdeal.main_arg2) = m ((c.tc : Thread Cert.NormGateBwdRefIdeal.nD Cert.NormGateBwdRefIdeal.τ).loc Cert.NormGateBwdRefIdeal.main_arg2)
      ∧ r.2.mem ((c.tc : Thread Cert.NormGateBwdRefIdeal.nD Cert.NormGateBwdRefIdeal.τ).loc Cert.NormGateBwdRefIdeal.main_arg3) = m ((c.tc : Thread Cert.NormGateBwdRefIdeal.nD Cert.NormGateBwdRefIdeal.τ).loc Cert.NormGateBwdRefIdeal.main_arg3)
      ∧ r.2.mem ((c.tc : Thread Cert.NormGateBwdRefIdeal.nD Cert.NormGateBwdRefIdeal.τ).loc Cert.NormGateBwdRefIdeal.main_arg4) = m ((c.tc : Thread Cert.NormGateBwdRefIdeal.nD Cert.NormGateBwdRefIdeal.τ).loc Cert.NormGateBwdRefIdeal.main_arg4)
      ∧ r.2.mem ((c.tc : Thread Cert.NormGateBwdRefIdeal.nD Cert.NormGateBwdRefIdeal.τ).loc Cert.NormGateBwdRefIdeal.main_arg5) = m ((c.tc : Thread Cert.NormGateBwdRefIdeal.nD Cert.NormGateBwdRefIdeal.τ).loc Cert.NormGateBwdRefIdeal.main_arg5)
      ∧ r.2.mem ((c.tc : Thread Cert.NormGateBwdRefIdeal.nD Cert.NormGateBwdRefIdeal.τ).loc Cert.NormGateBwdRefIdeal.main_arg6) = m ((c.tc : Thread Cert.NormGateBwdRefIdeal.nD Cert.NormGateBwdRefIdeal.τ).loc Cert.NormGateBwdRefIdeal.main_arg6)
      ∧ r.2.mem ((c.tc : Thread Cert.NormGateBwdRefIdeal.nD Cert.NormGateBwdRefIdeal.τ).loc Cert.NormGateBwdRefIdeal.main_arg7) = m ((c.tc : Thread Cert.NormGateBwdRefIdeal.nD Cert.NormGateBwdRefIdeal.τ).loc Cert.NormGateBwdRefIdeal.main_arg7))
      ∧ r.2.sem = fun _ => 0)

def quiescent_MmEvIn [hMmEvIn : Cert.MmEvIn.Facts] : Prop :=
  ∀ (m : (ℓ : Loc Cert.MmEvIn.nD Cert.MmEvIn.τ Cert.MmEvIn.sig) → Buf (Elt Bits) ℓ) (g : Dev Cert.MmEvIn.nD → PrngReg), Pre_MmEvIn m →
    θ_run (Cert.MmEvIn.defs (F := Bits)) (onTc (τ := Cert.MmEvIn.τ) (Cert.MmEvIn.main (F := Bits))) ⟨m, fun _ => 0, g⟩ (fun r => (∀ c : Dev Cert.MmEvIn.nD,
      r.2.mem ((c.tc : Thread Cert.MmEvIn.nD Cert.MmEvIn.τ).loc Cert.MmEvIn.main_arg0) = m ((c.tc : Thread Cert.MmEvIn.nD Cert.MmEvIn.τ).loc Cert.MmEvIn.main_arg0)
      ∧ r.2.mem ((c.tc : Thread Cert.MmEvIn.nD Cert.MmEvIn.τ).loc Cert.MmEvIn.main_arg1) = m ((c.tc : Thread Cert.MmEvIn.nD Cert.MmEvIn.τ).loc Cert.MmEvIn.main_arg1))
      ∧ r.2.sem = fun _ => 0)

def quiescent_MmEvInIdeal [hMmEvInIdeal : Cert.MmEvInIdeal.Facts] : Prop :=
  ∀ (m : (ℓ : Loc Cert.MmEvInIdeal.nD Cert.MmEvInIdeal.τ Cert.MmEvInIdeal.sig) → Buf (Elt Ideal) ℓ) (g : Dev Cert.MmEvInIdeal.nD → PrngReg), Pre_MmEvInIdeal m →
    θ_run (Cert.MmEvInIdeal.defs (F := Ideal)) (onTc (τ := Cert.MmEvInIdeal.τ) (Cert.MmEvInIdeal.main (F := Ideal))) ⟨m, fun _ => 0, g⟩ (fun r => (∀ c : Dev Cert.MmEvInIdeal.nD,
      r.2.mem ((c.tc : Thread Cert.MmEvInIdeal.nD Cert.MmEvInIdeal.τ).loc Cert.MmEvInIdeal.main_arg0) = m ((c.tc : Thread Cert.MmEvInIdeal.nD Cert.MmEvInIdeal.τ).loc Cert.MmEvInIdeal.main_arg0)
      ∧ r.2.mem ((c.tc : Thread Cert.MmEvInIdeal.nD Cert.MmEvInIdeal.τ).loc Cert.MmEvInIdeal.main_arg1) = m ((c.tc : Thread Cert.MmEvInIdeal.nD Cert.MmEvInIdeal.τ).loc Cert.MmEvInIdeal.main_arg1))
      ∧ r.2.sem = fun _ => 0)

def quiescent_MmEvInRefIdeal [hMmEvInRefIdeal : Cert.MmEvInRefIdeal.Facts] : Prop :=
  ∀ (m : (ℓ : Loc Cert.MmEvInRefIdeal.nD Cert.MmEvInRefIdeal.τ Cert.MmEvInRefIdeal.sig) → Buf (Elt Ideal) ℓ) (g : Dev Cert.MmEvInRefIdeal.nD → PrngReg), Pre_MmEvInRefIdeal m →
    θ_run (Cert.MmEvInRefIdeal.defs (F := Ideal)) (onTc (τ := Cert.MmEvInRefIdeal.τ) (Cert.MmEvInRefIdeal.main (F := Ideal))) ⟨m, fun _ => 0, g⟩ (fun r => (∀ c : Dev Cert.MmEvInRefIdeal.nD,
      r.2.mem ((c.tc : Thread Cert.MmEvInRefIdeal.nD Cert.MmEvInRefIdeal.τ).loc Cert.MmEvInRefIdeal.main_arg0) = m ((c.tc : Thread Cert.MmEvInRefIdeal.nD Cert.MmEvInRefIdeal.τ).loc Cert.MmEvInRefIdeal.main_arg0)
      ∧ r.2.mem ((c.tc : Thread Cert.MmEvInRefIdeal.nD Cert.MmEvInRefIdeal.τ).loc Cert.MmEvInRefIdeal.main_arg1) = m ((c.tc : Thread Cert.MmEvInRefIdeal.nD Cert.MmEvInRefIdeal.τ).loc Cert.MmEvInRefIdeal.main_arg1))
      ∧ r.2.sem = fun _ => 0)

def quiescent_MmOdIn [hMmOdIn : Cert.MmOdIn.Facts] : Prop :=
  ∀ (m : (ℓ : Loc Cert.MmOdIn.nD Cert.MmOdIn.τ Cert.MmOdIn.sig) → Buf (Elt Bits) ℓ) (g : Dev Cert.MmOdIn.nD → PrngReg), Pre_MmOdIn m →
    θ_run (Cert.MmOdIn.defs (F := Bits)) (onTc (τ := Cert.MmOdIn.τ) (Cert.MmOdIn.main (F := Bits))) ⟨m, fun _ => 0, g⟩ (fun r => (∀ c : Dev Cert.MmOdIn.nD,
      r.2.mem ((c.tc : Thread Cert.MmOdIn.nD Cert.MmOdIn.τ).loc Cert.MmOdIn.main_arg0) = m ((c.tc : Thread Cert.MmOdIn.nD Cert.MmOdIn.τ).loc Cert.MmOdIn.main_arg0)
      ∧ r.2.mem ((c.tc : Thread Cert.MmOdIn.nD Cert.MmOdIn.τ).loc Cert.MmOdIn.main_arg1) = m ((c.tc : Thread Cert.MmOdIn.nD Cert.MmOdIn.τ).loc Cert.MmOdIn.main_arg1))
      ∧ r.2.sem = fun _ => 0)

def quiescent_MmOdInIdeal [hMmOdInIdeal : Cert.MmOdInIdeal.Facts] : Prop :=
  ∀ (m : (ℓ : Loc Cert.MmOdInIdeal.nD Cert.MmOdInIdeal.τ Cert.MmOdInIdeal.sig) → Buf (Elt Ideal) ℓ) (g : Dev Cert.MmOdInIdeal.nD → PrngReg), Pre_MmOdInIdeal m →
    θ_run (Cert.MmOdInIdeal.defs (F := Ideal)) (onTc (τ := Cert.MmOdInIdeal.τ) (Cert.MmOdInIdeal.main (F := Ideal))) ⟨m, fun _ => 0, g⟩ (fun r => (∀ c : Dev Cert.MmOdInIdeal.nD,
      r.2.mem ((c.tc : Thread Cert.MmOdInIdeal.nD Cert.MmOdInIdeal.τ).loc Cert.MmOdInIdeal.main_arg0) = m ((c.tc : Thread Cert.MmOdInIdeal.nD Cert.MmOdInIdeal.τ).loc Cert.MmOdInIdeal.main_arg0)
      ∧ r.2.mem ((c.tc : Thread Cert.MmOdInIdeal.nD Cert.MmOdInIdeal.τ).loc Cert.MmOdInIdeal.main_arg1) = m ((c.tc : Thread Cert.MmOdInIdeal.nD Cert.MmOdInIdeal.τ).loc Cert.MmOdInIdeal.main_arg1))
      ∧ r.2.sem = fun _ => 0)

def quiescent_MmOdInRefIdeal [hMmOdInRefIdeal : Cert.MmOdInRefIdeal.Facts] : Prop :=
  ∀ (m : (ℓ : Loc Cert.MmOdInRefIdeal.nD Cert.MmOdInRefIdeal.τ Cert.MmOdInRefIdeal.sig) → Buf (Elt Ideal) ℓ) (g : Dev Cert.MmOdInRefIdeal.nD → PrngReg), Pre_MmOdInRefIdeal m →
    θ_run (Cert.MmOdInRefIdeal.defs (F := Ideal)) (onTc (τ := Cert.MmOdInRefIdeal.τ) (Cert.MmOdInRefIdeal.main (F := Ideal))) ⟨m, fun _ => 0, g⟩ (fun r => (∀ c : Dev Cert.MmOdInRefIdeal.nD,
      r.2.mem ((c.tc : Thread Cert.MmOdInRefIdeal.nD Cert.MmOdInRefIdeal.τ).loc Cert.MmOdInRefIdeal.main_arg0) = m ((c.tc : Thread Cert.MmOdInRefIdeal.nD Cert.MmOdInRefIdeal.τ).loc Cert.MmOdInRefIdeal.main_arg0)
      ∧ r.2.mem ((c.tc : Thread Cert.MmOdInRefIdeal.nD Cert.MmOdInRefIdeal.τ).loc Cert.MmOdInRefIdeal.main_arg1) = m ((c.tc : Thread Cert.MmOdInRefIdeal.nD Cert.MmOdInRefIdeal.τ).loc Cert.MmOdInRefIdeal.main_arg1))
      ∧ r.2.sem = fun _ => 0)

def quiescent_MmOut [hMmOut : Cert.MmOut.Facts] : Prop :=
  ∀ (m : (ℓ : Loc Cert.MmOut.nD Cert.MmOut.τ Cert.MmOut.sig) → Buf (Elt Bits) ℓ) (g : Dev Cert.MmOut.nD → PrngReg), Pre_MmOut m →
    θ_run (Cert.MmOut.defs (F := Bits)) (onTc (τ := Cert.MmOut.τ) (Cert.MmOut.main (F := Bits))) ⟨m, fun _ => 0, g⟩ (fun r => (∀ c : Dev Cert.MmOut.nD,
      r.2.mem ((c.tc : Thread Cert.MmOut.nD Cert.MmOut.τ).loc Cert.MmOut.main_arg0) = m ((c.tc : Thread Cert.MmOut.nD Cert.MmOut.τ).loc Cert.MmOut.main_arg0)
      ∧ r.2.mem ((c.tc : Thread Cert.MmOut.nD Cert.MmOut.τ).loc Cert.MmOut.main_arg1) = m ((c.tc : Thread Cert.MmOut.nD Cert.MmOut.τ).loc Cert.MmOut.main_arg1)
      ∧ r.2.mem ((c.tc : Thread Cert.MmOut.nD Cert.MmOut.τ).loc Cert.MmOut.main_arg2) = m ((c.tc : Thread Cert.MmOut.nD Cert.MmOut.τ).loc Cert.MmOut.main_arg2)
      ∧ r.2.mem ((c.tc : Thread Cert.MmOut.nD Cert.MmOut.τ).loc Cert.MmOut.main_arg3) = m ((c.tc : Thread Cert.MmOut.nD Cert.MmOut.τ).loc Cert.MmOut.main_arg3))
      ∧ r.2.sem = fun _ => 0)

def quiescent_MmOutIdeal [hMmOutIdeal : Cert.MmOutIdeal.Facts] : Prop :=
  ∀ (m : (ℓ : Loc Cert.MmOutIdeal.nD Cert.MmOutIdeal.τ Cert.MmOutIdeal.sig) → Buf (Elt Ideal) ℓ) (g : Dev Cert.MmOutIdeal.nD → PrngReg), Pre_MmOutIdeal m →
    θ_run (Cert.MmOutIdeal.defs (F := Ideal)) (onTc (τ := Cert.MmOutIdeal.τ) (Cert.MmOutIdeal.main (F := Ideal))) ⟨m, fun _ => 0, g⟩ (fun r => (∀ c : Dev Cert.MmOutIdeal.nD,
      r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
      ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
      ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
      ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ r.2.sem = fun _ => 0)

def quiescent_MmOutRefIdeal [hMmOutRefIdeal : Cert.MmOutRefIdeal.Facts] : Prop :=
  ∀ (m : (ℓ : Loc Cert.MmOutRefIdeal.nD Cert.MmOutRefIdeal.τ Cert.MmOutRefIdeal.sig) → Buf (Elt Ideal) ℓ) (g : Dev Cert.MmOutRefIdeal.nD → PrngReg), Pre_MmOutRefIdeal m →
    θ_run (Cert.MmOutRefIdeal.defs (F := Ideal)) (onTc (τ := Cert.MmOutRefIdeal.τ) (Cert.MmOutRefIdeal.main (F := Ideal))) ⟨m, fun _ => 0, g⟩ (fun r => (∀ c : Dev Cert.MmOutRefIdeal.nD,
      r.2.mem ((c.tc : Thread Cert.MmOutRefIdeal.nD Cert.MmOutRefIdeal.τ).loc Cert.MmOutRefIdeal.main_arg0) = m ((c.tc : Thread Cert.MmOutRefIdeal.nD Cert.MmOutRefIdeal.τ).loc Cert.MmOutRefIdeal.main_arg0)
      ∧ r.2.mem ((c.tc : Thread Cert.MmOutRefIdeal.nD Cert.MmOutRefIdeal.τ).loc Cert.MmOutRefIdeal.main_arg1) = m ((c.tc : Thread Cert.MmOutRefIdeal.nD Cert.MmOutRefIdeal.τ).loc Cert.MmOutRefIdeal.main_arg1)
      ∧ r.2.mem ((c.tc : Thread Cert.MmOutRefIdeal.nD Cert.MmOutRefIdeal.τ).loc Cert.MmOutRefIdeal.main_arg2) = m ((c.tc : Thread Cert.MmOutRefIdeal.nD Cert.MmOutRefIdeal.τ).loc Cert.MmOutRefIdeal.main_arg2)
      ∧ r.2.mem ((c.tc : Thread Cert.MmOutRefIdeal.nD Cert.MmOutRefIdeal.τ).loc Cert.MmOutRefIdeal.main_arg3) = m ((c.tc : Thread Cert.MmOutRefIdeal.nD Cert.MmOutRefIdeal.τ).loc Cert.MmOutRefIdeal.main_arg3))
      ∧ r.2.sem = fun _ => 0)

def quiescent_MmOutDx [hMmOutDx : Cert.MmOutDx.Facts] : Prop :=
  ∀ (m : (ℓ : Loc Cert.MmOutDx.nD Cert.MmOutDx.τ Cert.MmOutDx.sig) → Buf (Elt Bits) ℓ) (g : Dev Cert.MmOutDx.nD → PrngReg), Pre_MmOutDx m →
    θ_run (Cert.MmOutDx.defs (F := Bits)) (onTc (τ := Cert.MmOutDx.τ) (Cert.MmOutDx.main (F := Bits))) ⟨m, fun _ => 0, g⟩ (fun r => (∀ c : Dev Cert.MmOutDx.nD,
      r.2.mem ((c.tc : Thread Cert.MmOutDx.nD Cert.MmOutDx.τ).loc Cert.MmOutDx.main_arg0) = m ((c.tc : Thread Cert.MmOutDx.nD Cert.MmOutDx.τ).loc Cert.MmOutDx.main_arg0)
      ∧ r.2.mem ((c.tc : Thread Cert.MmOutDx.nD Cert.MmOutDx.τ).loc Cert.MmOutDx.main_arg1) = m ((c.tc : Thread Cert.MmOutDx.nD Cert.MmOutDx.τ).loc Cert.MmOutDx.main_arg1))
      ∧ r.2.sem = fun _ => 0)

def quiescent_MmOutDxIdeal [hMmOutDxIdeal : Cert.MmOutDxIdeal.Facts] : Prop :=
  ∀ (m : (ℓ : Loc Cert.MmOutDxIdeal.nD Cert.MmOutDxIdeal.τ Cert.MmOutDxIdeal.sig) → Buf (Elt Ideal) ℓ) (g : Dev Cert.MmOutDxIdeal.nD → PrngReg), Pre_MmOutDxIdeal m →
    θ_run (Cert.MmOutDxIdeal.defs (F := Ideal)) (onTc (τ := Cert.MmOutDxIdeal.τ) (Cert.MmOutDxIdeal.main (F := Ideal))) ⟨m, fun _ => 0, g⟩ (fun r => (∀ c : Dev Cert.MmOutDxIdeal.nD,
      r.2.mem ((c.tc : Thread Cert.MmOutDxIdeal.nD Cert.MmOutDxIdeal.τ).loc Cert.MmOutDxIdeal.main_arg0) = m ((c.tc : Thread Cert.MmOutDxIdeal.nD Cert.MmOutDxIdeal.τ).loc Cert.MmOutDxIdeal.main_arg0)
      ∧ r.2.mem ((c.tc : Thread Cert.MmOutDxIdeal.nD Cert.MmOutDxIdeal.τ).loc Cert.MmOutDxIdeal.main_arg1) = m ((c.tc : Thread Cert.MmOutDxIdeal.nD Cert.MmOutDxIdeal.τ).loc Cert.MmOutDxIdeal.main_arg1))
      ∧ r.2.sem = fun _ => 0)

def quiescent_MmOutDxRefIdeal [hMmOutDxRefIdeal : Cert.MmOutDxRefIdeal.Facts] : Prop :=
  ∀ (m : (ℓ : Loc Cert.MmOutDxRefIdeal.nD Cert.MmOutDxRefIdeal.τ Cert.MmOutDxRefIdeal.sig) → Buf (Elt Ideal) ℓ) (g : Dev Cert.MmOutDxRefIdeal.nD → PrngReg), Pre_MmOutDxRefIdeal m →
    θ_run (Cert.MmOutDxRefIdeal.defs (F := Ideal)) (onTc (τ := Cert.MmOutDxRefIdeal.τ) (Cert.MmOutDxRefIdeal.main (F := Ideal))) ⟨m, fun _ => 0, g⟩ (fun r => (∀ c : Dev Cert.MmOutDxRefIdeal.nD,
      r.2.mem ((c.tc : Thread Cert.MmOutDxRefIdeal.nD Cert.MmOutDxRefIdeal.τ).loc Cert.MmOutDxRefIdeal.main_arg0) = m ((c.tc : Thread Cert.MmOutDxRefIdeal.nD Cert.MmOutDxRefIdeal.τ).loc Cert.MmOutDxRefIdeal.main_arg0)
      ∧ r.2.mem ((c.tc : Thread Cert.MmOutDxRefIdeal.nD Cert.MmOutDxRefIdeal.τ).loc Cert.MmOutDxRefIdeal.main_arg1) = m ((c.tc : Thread Cert.MmOutDxRefIdeal.nD Cert.MmOutDxRefIdeal.τ).loc Cert.MmOutDxRefIdeal.main_arg1))
      ∧ r.2.sem = fun _ => 0)

def quiescent_MmOdInDx [hMmOdInDx : Cert.MmOdInDx.Facts] : Prop :=
  ∀ (m : (ℓ : Loc Cert.MmOdInDx.nD Cert.MmOdInDx.τ Cert.MmOdInDx.sig) → Buf (Elt Bits) ℓ) (g : Dev Cert.MmOdInDx.nD → PrngReg), Pre_MmOdInDx m →
    θ_run (Cert.MmOdInDx.defs (F := Bits)) (onTc (τ := Cert.MmOdInDx.τ) (Cert.MmOdInDx.main (F := Bits))) ⟨m, fun _ => 0, g⟩ (fun r => (∀ c : Dev Cert.MmOdInDx.nD,
      r.2.mem ((c.tc : Thread Cert.MmOdInDx.nD Cert.MmOdInDx.τ).loc Cert.MmOdInDx.main_arg0) = m ((c.tc : Thread Cert.MmOdInDx.nD Cert.MmOdInDx.τ).loc Cert.MmOdInDx.main_arg0)
      ∧ r.2.mem ((c.tc : Thread Cert.MmOdInDx.nD Cert.MmOdInDx.τ).loc Cert.MmOdInDx.main_arg1) = m ((c.tc : Thread Cert.MmOdInDx.nD Cert.MmOdInDx.τ).loc Cert.MmOdInDx.main_arg1))
      ∧ r.2.sem = fun _ => 0)

def quiescent_MmOdInDxIdeal [hMmOdInDxIdeal : Cert.MmOdInDxIdeal.Facts] : Prop :=
  ∀ (m : (ℓ : Loc Cert.MmOdInDxIdeal.nD Cert.MmOdInDxIdeal.τ Cert.MmOdInDxIdeal.sig) → Buf (Elt Ideal) ℓ) (g : Dev Cert.MmOdInDxIdeal.nD → PrngReg), Pre_MmOdInDxIdeal m →
    θ_run (Cert.MmOdInDxIdeal.defs (F := Ideal)) (onTc (τ := Cert.MmOdInDxIdeal.τ) (Cert.MmOdInDxIdeal.main (F := Ideal))) ⟨m, fun _ => 0, g⟩ (fun r => (∀ c : Dev Cert.MmOdInDxIdeal.nD,
      r.2.mem ((c.tc : Thread Cert.MmOdInDxIdeal.nD Cert.MmOdInDxIdeal.τ).loc Cert.MmOdInDxIdeal.main_arg0) = m ((c.tc : Thread Cert.MmOdInDxIdeal.nD Cert.MmOdInDxIdeal.τ).loc Cert.MmOdInDxIdeal.main_arg0)
      ∧ r.2.mem ((c.tc : Thread Cert.MmOdInDxIdeal.nD Cert.MmOdInDxIdeal.τ).loc Cert.MmOdInDxIdeal.main_arg1) = m ((c.tc : Thread Cert.MmOdInDxIdeal.nD Cert.MmOdInDxIdeal.τ).loc Cert.MmOdInDxIdeal.main_arg1))
      ∧ r.2.sem = fun _ => 0)

def quiescent_MmOdInDxRefIdeal [hMmOdInDxRefIdeal : Cert.MmOdInDxRefIdeal.Facts] : Prop :=
  ∀ (m : (ℓ : Loc Cert.MmOdInDxRefIdeal.nD Cert.MmOdInDxRefIdeal.τ Cert.MmOdInDxRefIdeal.sig) → Buf (Elt Ideal) ℓ) (g : Dev Cert.MmOdInDxRefIdeal.nD → PrngReg), Pre_MmOdInDxRefIdeal m →
    θ_run (Cert.MmOdInDxRefIdeal.defs (F := Ideal)) (onTc (τ := Cert.MmOdInDxRefIdeal.τ) (Cert.MmOdInDxRefIdeal.main (F := Ideal))) ⟨m, fun _ => 0, g⟩ (fun r => (∀ c : Dev Cert.MmOdInDxRefIdeal.nD,
      r.2.mem ((c.tc : Thread Cert.MmOdInDxRefIdeal.nD Cert.MmOdInDxRefIdeal.τ).loc Cert.MmOdInDxRefIdeal.main_arg0) = m ((c.tc : Thread Cert.MmOdInDxRefIdeal.nD Cert.MmOdInDxRefIdeal.τ).loc Cert.MmOdInDxRefIdeal.main_arg0)
      ∧ r.2.mem ((c.tc : Thread Cert.MmOdInDxRefIdeal.nD Cert.MmOdInDxRefIdeal.τ).loc Cert.MmOdInDxRefIdeal.main_arg1) = m ((c.tc : Thread Cert.MmOdInDxRefIdeal.nD Cert.MmOdInDxRefIdeal.τ).loc Cert.MmOdInDxRefIdeal.main_arg1))
      ∧ r.2.sem = fun _ => 0)

def quiescent_MmEvInDx [hMmEvInDx : Cert.MmEvInDx.Facts] : Prop :=
  ∀ (m : (ℓ : Loc Cert.MmEvInDx.nD Cert.MmEvInDx.τ Cert.MmEvInDx.sig) → Buf (Elt Bits) ℓ) (g : Dev Cert.MmEvInDx.nD → PrngReg), Pre_MmEvInDx m →
    θ_run (Cert.MmEvInDx.defs (F := Bits)) (onTc (τ := Cert.MmEvInDx.τ) (Cert.MmEvInDx.main (F := Bits))) ⟨m, fun _ => 0, g⟩ (fun r => (∀ c : Dev Cert.MmEvInDx.nD,
      r.2.mem ((c.tc : Thread Cert.MmEvInDx.nD Cert.MmEvInDx.τ).loc Cert.MmEvInDx.main_arg0) = m ((c.tc : Thread Cert.MmEvInDx.nD Cert.MmEvInDx.τ).loc Cert.MmEvInDx.main_arg0)
      ∧ r.2.mem ((c.tc : Thread Cert.MmEvInDx.nD Cert.MmEvInDx.τ).loc Cert.MmEvInDx.main_arg1) = m ((c.tc : Thread Cert.MmEvInDx.nD Cert.MmEvInDx.τ).loc Cert.MmEvInDx.main_arg1))
      ∧ r.2.sem = fun _ => 0)

def quiescent_MmEvInDxIdeal [hMmEvInDxIdeal : Cert.MmEvInDxIdeal.Facts] : Prop :=
  ∀ (m : (ℓ : Loc Cert.MmEvInDxIdeal.nD Cert.MmEvInDxIdeal.τ Cert.MmEvInDxIdeal.sig) → Buf (Elt Ideal) ℓ) (g : Dev Cert.MmEvInDxIdeal.nD → PrngReg), Pre_MmEvInDxIdeal m →
    θ_run (Cert.MmEvInDxIdeal.defs (F := Ideal)) (onTc (τ := Cert.MmEvInDxIdeal.τ) (Cert.MmEvInDxIdeal.main (F := Ideal))) ⟨m, fun _ => 0, g⟩ (fun r => (∀ c : Dev Cert.MmEvInDxIdeal.nD,
      r.2.mem ((c.tc : Thread Cert.MmEvInDxIdeal.nD Cert.MmEvInDxIdeal.τ).loc Cert.MmEvInDxIdeal.main_arg0) = m ((c.tc : Thread Cert.MmEvInDxIdeal.nD Cert.MmEvInDxIdeal.τ).loc Cert.MmEvInDxIdeal.main_arg0)
      ∧ r.2.mem ((c.tc : Thread Cert.MmEvInDxIdeal.nD Cert.MmEvInDxIdeal.τ).loc Cert.MmEvInDxIdeal.main_arg1) = m ((c.tc : Thread Cert.MmEvInDxIdeal.nD Cert.MmEvInDxIdeal.τ).loc Cert.MmEvInDxIdeal.main_arg1))
      ∧ r.2.sem = fun _ => 0)

def quiescent_MmEvInDxRefIdeal [hMmEvInDxRefIdeal : Cert.MmEvInDxRefIdeal.Facts] : Prop :=
  ∀ (m : (ℓ : Loc Cert.MmEvInDxRefIdeal.nD Cert.MmEvInDxRefIdeal.τ Cert.MmEvInDxRefIdeal.sig) → Buf (Elt Ideal) ℓ) (g : Dev Cert.MmEvInDxRefIdeal.nD → PrngReg), Pre_MmEvInDxRefIdeal m →
    θ_run (Cert.MmEvInDxRefIdeal.defs (F := Ideal)) (onTc (τ := Cert.MmEvInDxRefIdeal.τ) (Cert.MmEvInDxRefIdeal.main (F := Ideal))) ⟨m, fun _ => 0, g⟩ (fun r => (∀ c : Dev Cert.MmEvInDxRefIdeal.nD,
      r.2.mem ((c.tc : Thread Cert.MmEvInDxRefIdeal.nD Cert.MmEvInDxRefIdeal.τ).loc Cert.MmEvInDxRefIdeal.main_arg0) = m ((c.tc : Thread Cert.MmEvInDxRefIdeal.nD Cert.MmEvInDxRefIdeal.τ).loc Cert.MmEvInDxRefIdeal.main_arg0)
      ∧ r.2.mem ((c.tc : Thread Cert.MmEvInDxRefIdeal.nD Cert.MmEvInDxRefIdeal.τ).loc Cert.MmEvInDxRefIdeal.main_arg1) = m ((c.tc : Thread Cert.MmEvInDxRefIdeal.nD Cert.MmEvInDxRefIdeal.τ).loc Cert.MmEvInDxRefIdeal.main_arg1))
      ∧ r.2.sem = fun _ => 0)

def quiescent_MmOutDw [hMmOutDw : Cert.MmOutDw.Facts] : Prop :=
  ∀ (m : (ℓ : Loc Cert.MmOutDw.nD Cert.MmOutDw.τ Cert.MmOutDw.sig) → Buf (Elt Bits) ℓ) (g : Dev Cert.MmOutDw.nD → PrngReg), Pre_MmOutDw m →
    θ_run (Cert.MmOutDw.defs (F := Bits)) (onTc (τ := Cert.MmOutDw.τ) (Cert.MmOutDw.main (F := Bits))) ⟨m, fun _ => 0, g⟩ (fun r => (∀ c : Dev Cert.MmOutDw.nD,
      r.2.mem ((c.tc : Thread Cert.MmOutDw.nD Cert.MmOutDw.τ).loc Cert.MmOutDw.main_arg0) = m ((c.tc : Thread Cert.MmOutDw.nD Cert.MmOutDw.τ).loc Cert.MmOutDw.main_arg0)
      ∧ r.2.mem ((c.tc : Thread Cert.MmOutDw.nD Cert.MmOutDw.τ).loc Cert.MmOutDw.main_arg1) = m ((c.tc : Thread Cert.MmOutDw.nD Cert.MmOutDw.τ).loc Cert.MmOutDw.main_arg1))
      ∧ r.2.sem = fun _ => 0)

def quiescent_MmOutDwIdeal [hMmOutDwIdeal : Cert.MmOutDwIdeal.Facts] : Prop :=
  ∀ (m : (ℓ : Loc Cert.MmOutDwIdeal.nD Cert.MmOutDwIdeal.τ Cert.MmOutDwIdeal.sig) → Buf (Elt Ideal) ℓ) (g : Dev Cert.MmOutDwIdeal.nD → PrngReg), Pre_MmOutDwIdeal m →
    θ_run (Cert.MmOutDwIdeal.defs (F := Ideal)) (onTc (τ := Cert.MmOutDwIdeal.τ) (Cert.MmOutDwIdeal.main (F := Ideal))) ⟨m, fun _ => 0, g⟩ (fun r => (∀ c : Dev Cert.MmOutDwIdeal.nD,
      r.2.mem ((c.tc : Thread Cert.MmOutDwIdeal.nD Cert.MmOutDwIdeal.τ).loc Cert.MmOutDwIdeal.main_arg0) = m ((c.tc : Thread Cert.MmOutDwIdeal.nD Cert.MmOutDwIdeal.τ).loc Cert.MmOutDwIdeal.main_arg0)
      ∧ r.2.mem ((c.tc : Thread Cert.MmOutDwIdeal.nD Cert.MmOutDwIdeal.τ).loc Cert.MmOutDwIdeal.main_arg1) = m ((c.tc : Thread Cert.MmOutDwIdeal.nD Cert.MmOutDwIdeal.τ).loc Cert.MmOutDwIdeal.main_arg1))
      ∧ r.2.sem = fun _ => 0)

def quiescent_MmOutDwRefIdeal [hMmOutDwRefIdeal : Cert.MmOutDwRefIdeal.Facts] : Prop :=
  ∀ (m : (ℓ : Loc Cert.MmOutDwRefIdeal.nD Cert.MmOutDwRefIdeal.τ Cert.MmOutDwRefIdeal.sig) → Buf (Elt Ideal) ℓ) (g : Dev Cert.MmOutDwRefIdeal.nD → PrngReg), Pre_MmOutDwRefIdeal m →
    θ_run (Cert.MmOutDwRefIdeal.defs (F := Ideal)) (onTc (τ := Cert.MmOutDwRefIdeal.τ) (Cert.MmOutDwRefIdeal.main (F := Ideal))) ⟨m, fun _ => 0, g⟩ (fun r => (∀ c : Dev Cert.MmOutDwRefIdeal.nD,
      r.2.mem ((c.tc : Thread Cert.MmOutDwRefIdeal.nD Cert.MmOutDwRefIdeal.τ).loc Cert.MmOutDwRefIdeal.main_arg0) = m ((c.tc : Thread Cert.MmOutDwRefIdeal.nD Cert.MmOutDwRefIdeal.τ).loc Cert.MmOutDwRefIdeal.main_arg0)
      ∧ r.2.mem ((c.tc : Thread Cert.MmOutDwRefIdeal.nD Cert.MmOutDwRefIdeal.τ).loc Cert.MmOutDwRefIdeal.main_arg1) = m ((c.tc : Thread Cert.MmOutDwRefIdeal.nD Cert.MmOutDwRefIdeal.τ).loc Cert.MmOutDwRefIdeal.main_arg1))
      ∧ r.2.sem = fun _ => 0)

def quiescent_MmOdInDw [hMmOdInDw : Cert.MmOdInDw.Facts] : Prop :=
  ∀ (m : (ℓ : Loc Cert.MmOdInDw.nD Cert.MmOdInDw.τ Cert.MmOdInDw.sig) → Buf (Elt Bits) ℓ) (g : Dev Cert.MmOdInDw.nD → PrngReg), Pre_MmOdInDw m →
    θ_run (Cert.MmOdInDw.defs (F := Bits)) (onTc (τ := Cert.MmOdInDw.τ) (Cert.MmOdInDw.main (F := Bits))) ⟨m, fun _ => 0, g⟩ (fun r => (∀ c : Dev Cert.MmOdInDw.nD,
      r.2.mem ((c.tc : Thread Cert.MmOdInDw.nD Cert.MmOdInDw.τ).loc Cert.MmOdInDw.main_arg0) = m ((c.tc : Thread Cert.MmOdInDw.nD Cert.MmOdInDw.τ).loc Cert.MmOdInDw.main_arg0)
      ∧ r.2.mem ((c.tc : Thread Cert.MmOdInDw.nD Cert.MmOdInDw.τ).loc Cert.MmOdInDw.main_arg1) = m ((c.tc : Thread Cert.MmOdInDw.nD Cert.MmOdInDw.τ).loc Cert.MmOdInDw.main_arg1))
      ∧ r.2.sem = fun _ => 0)

def quiescent_MmOdInDwIdeal [hMmOdInDwIdeal : Cert.MmOdInDwIdeal.Facts] : Prop :=
  ∀ (m : (ℓ : Loc Cert.MmOdInDwIdeal.nD Cert.MmOdInDwIdeal.τ Cert.MmOdInDwIdeal.sig) → Buf (Elt Ideal) ℓ) (g : Dev Cert.MmOdInDwIdeal.nD → PrngReg), Pre_MmOdInDwIdeal m →
    θ_run (Cert.MmOdInDwIdeal.defs (F := Ideal)) (onTc (τ := Cert.MmOdInDwIdeal.τ) (Cert.MmOdInDwIdeal.main (F := Ideal))) ⟨m, fun _ => 0, g⟩ (fun r => (∀ c : Dev Cert.MmOdInDwIdeal.nD,
      r.2.mem ((c.tc : Thread Cert.MmOdInDwIdeal.nD Cert.MmOdInDwIdeal.τ).loc Cert.MmOdInDwIdeal.main_arg0) = m ((c.tc : Thread Cert.MmOdInDwIdeal.nD Cert.MmOdInDwIdeal.τ).loc Cert.MmOdInDwIdeal.main_arg0)
      ∧ r.2.mem ((c.tc : Thread Cert.MmOdInDwIdeal.nD Cert.MmOdInDwIdeal.τ).loc Cert.MmOdInDwIdeal.main_arg1) = m ((c.tc : Thread Cert.MmOdInDwIdeal.nD Cert.MmOdInDwIdeal.τ).loc Cert.MmOdInDwIdeal.main_arg1))
      ∧ r.2.sem = fun _ => 0)

def quiescent_MmOdInDwRefIdeal [hMmOdInDwRefIdeal : Cert.MmOdInDwRefIdeal.Facts] : Prop :=
  ∀ (m : (ℓ : Loc Cert.MmOdInDwRefIdeal.nD Cert.MmOdInDwRefIdeal.τ Cert.MmOdInDwRefIdeal.sig) → Buf (Elt Ideal) ℓ) (g : Dev Cert.MmOdInDwRefIdeal.nD → PrngReg), Pre_MmOdInDwRefIdeal m →
    θ_run (Cert.MmOdInDwRefIdeal.defs (F := Ideal)) (onTc (τ := Cert.MmOdInDwRefIdeal.τ) (Cert.MmOdInDwRefIdeal.main (F := Ideal))) ⟨m, fun _ => 0, g⟩ (fun r => (∀ c : Dev Cert.MmOdInDwRefIdeal.nD,
      r.2.mem ((c.tc : Thread Cert.MmOdInDwRefIdeal.nD Cert.MmOdInDwRefIdeal.τ).loc Cert.MmOdInDwRefIdeal.main_arg0) = m ((c.tc : Thread Cert.MmOdInDwRefIdeal.nD Cert.MmOdInDwRefIdeal.τ).loc Cert.MmOdInDwRefIdeal.main_arg0)
      ∧ r.2.mem ((c.tc : Thread Cert.MmOdInDwRefIdeal.nD Cert.MmOdInDwRefIdeal.τ).loc Cert.MmOdInDwRefIdeal.main_arg1) = m ((c.tc : Thread Cert.MmOdInDwRefIdeal.nD Cert.MmOdInDwRefIdeal.τ).loc Cert.MmOdInDwRefIdeal.main_arg1))
      ∧ r.2.sem = fun _ => 0)

def quiescent_MmEvInDw [hMmEvInDw : Cert.MmEvInDw.Facts] : Prop :=
  ∀ (m : (ℓ : Loc Cert.MmEvInDw.nD Cert.MmEvInDw.τ Cert.MmEvInDw.sig) → Buf (Elt Bits) ℓ) (g : Dev Cert.MmEvInDw.nD → PrngReg), Pre_MmEvInDw m →
    θ_run (Cert.MmEvInDw.defs (F := Bits)) (onTc (τ := Cert.MmEvInDw.τ) (Cert.MmEvInDw.main (F := Bits))) ⟨m, fun _ => 0, g⟩ (fun r => (∀ c : Dev Cert.MmEvInDw.nD,
      r.2.mem ((c.tc : Thread Cert.MmEvInDw.nD Cert.MmEvInDw.τ).loc Cert.MmEvInDw.main_arg0) = m ((c.tc : Thread Cert.MmEvInDw.nD Cert.MmEvInDw.τ).loc Cert.MmEvInDw.main_arg0)
      ∧ r.2.mem ((c.tc : Thread Cert.MmEvInDw.nD Cert.MmEvInDw.τ).loc Cert.MmEvInDw.main_arg1) = m ((c.tc : Thread Cert.MmEvInDw.nD Cert.MmEvInDw.τ).loc Cert.MmEvInDw.main_arg1))
      ∧ r.2.sem = fun _ => 0)

def quiescent_MmEvInDwIdeal [hMmEvInDwIdeal : Cert.MmEvInDwIdeal.Facts] : Prop :=
  ∀ (m : (ℓ : Loc Cert.MmEvInDwIdeal.nD Cert.MmEvInDwIdeal.τ Cert.MmEvInDwIdeal.sig) → Buf (Elt Ideal) ℓ) (g : Dev Cert.MmEvInDwIdeal.nD → PrngReg), Pre_MmEvInDwIdeal m →
    θ_run (Cert.MmEvInDwIdeal.defs (F := Ideal)) (onTc (τ := Cert.MmEvInDwIdeal.τ) (Cert.MmEvInDwIdeal.main (F := Ideal))) ⟨m, fun _ => 0, g⟩ (fun r => (∀ c : Dev Cert.MmEvInDwIdeal.nD,
      r.2.mem ((c.tc : Thread Cert.MmEvInDwIdeal.nD Cert.MmEvInDwIdeal.τ).loc Cert.MmEvInDwIdeal.main_arg0) = m ((c.tc : Thread Cert.MmEvInDwIdeal.nD Cert.MmEvInDwIdeal.τ).loc Cert.MmEvInDwIdeal.main_arg0)
      ∧ r.2.mem ((c.tc : Thread Cert.MmEvInDwIdeal.nD Cert.MmEvInDwIdeal.τ).loc Cert.MmEvInDwIdeal.main_arg1) = m ((c.tc : Thread Cert.MmEvInDwIdeal.nD Cert.MmEvInDwIdeal.τ).loc Cert.MmEvInDwIdeal.main_arg1))
      ∧ r.2.sem = fun _ => 0)

def quiescent_MmEvInDwRefIdeal [hMmEvInDwRefIdeal : Cert.MmEvInDwRefIdeal.Facts] : Prop :=
  ∀ (m : (ℓ : Loc Cert.MmEvInDwRefIdeal.nD Cert.MmEvInDwRefIdeal.τ Cert.MmEvInDwRefIdeal.sig) → Buf (Elt Ideal) ℓ) (g : Dev Cert.MmEvInDwRefIdeal.nD → PrngReg), Pre_MmEvInDwRefIdeal m →
    θ_run (Cert.MmEvInDwRefIdeal.defs (F := Ideal)) (onTc (τ := Cert.MmEvInDwRefIdeal.τ) (Cert.MmEvInDwRefIdeal.main (F := Ideal))) ⟨m, fun _ => 0, g⟩ (fun r => (∀ c : Dev Cert.MmEvInDwRefIdeal.nD,
      r.2.mem ((c.tc : Thread Cert.MmEvInDwRefIdeal.nD Cert.MmEvInDwRefIdeal.τ).loc Cert.MmEvInDwRefIdeal.main_arg0) = m ((c.tc : Thread Cert.MmEvInDwRefIdeal.nD Cert.MmEvInDwRefIdeal.τ).loc Cert.MmEvInDwRefIdeal.main_arg0)
      ∧ r.2.mem ((c.tc : Thread Cert.MmEvInDwRefIdeal.nD Cert.MmEvInDwRefIdeal.τ).loc Cert.MmEvInDwRefIdeal.main_arg1) = m ((c.tc : Thread Cert.MmEvInDwRefIdeal.nD Cert.MmEvInDwRefIdeal.τ).loc Cert.MmEvInDwRefIdeal.main_arg1))
      ∧ r.2.sem = fun _ => 0)

def preserves_PairExchange_PairExchangeIdeal : Prop :=
  True

def bitexact_PairExchange_PairExchangeRef [hPairExchange : Cert.PairExchange.Facts] [hPairExchangeRef : Cert.PairExchangeRef.Facts] : Prop :=
  ∀ (m : (ℓ : Loc Cert.PairExchange.nD Cert.PairExchange.τ Cert.PairExchange.sig) → Buf (Elt Bits) ℓ) (g : Dev Cert.PairExchange.nD → PrngReg)
    (m' : (ℓ : Loc Cert.PairExchangeRef.nD Cert.PairExchangeRef.τ Cert.PairExchangeRef.sig) → Buf (Elt Bits) ℓ) (g' : Dev Cert.PairExchangeRef.nD → PrngReg), Pre_PairExchange m →
    (∀ c : Dev Cert.PairExchange.nD,
      m ((c.tc : Thread Cert.PairExchange.nD Cert.PairExchange.τ).loc Cert.PairExchange.main_arg0) = Layout.block ⟨2, ![2048, 5632]⟩ ⟨2, ![16384, 5632]⟩ 0 8 c (m' (((0 : Dev Cert.PairExchangeRef.nD).tc : Thread Cert.PairExchangeRef.nD Cert.PairExchangeRef.τ).loc Cert.PairExchangeRef.main_arg0))
      ∧ m ((c.tc : Thread Cert.PairExchange.nD Cert.PairExchange.τ).loc Cert.PairExchange.main_arg1) = Layout.block ⟨2, ![2048, 2048]⟩ ⟨2, ![16384, 2048]⟩ 0 8 c (m' (((0 : Dev Cert.PairExchangeRef.nD).tc : Thread Cert.PairExchangeRef.nD Cert.PairExchangeRef.τ).loc Cert.PairExchangeRef.main_arg1))
      ∧ m ((c.tc : Thread Cert.PairExchange.nD Cert.PairExchange.τ).loc Cert.PairExchange.main_arg2) = Layout.block ⟨2, ![2048, 6144]⟩ ⟨2, ![16384, 6144]⟩ 0 8 c (m' (((0 : Dev Cert.PairExchangeRef.nD).tc : Thread Cert.PairExchangeRef.nD Cert.PairExchangeRef.τ).loc Cert.PairExchangeRef.main_arg2))
      ∧ m ((c.tc : Thread Cert.PairExchange.nD Cert.PairExchange.τ).loc Cert.PairExchange.main_arg3) = Layout.block ⟨2, ![2048, 2048]⟩ ⟨2, ![16384, 2048]⟩ 0 8 c (m' (((0 : Dev Cert.PairExchangeRef.nD).tc : Thread Cert.PairExchangeRef.nD Cert.PairExchangeRef.τ).loc Cert.PairExchangeRef.main_arg3))) →
    ∃ (v0 : Buf (Elt Bits) (((0 : Dev Cert.PairExchangeRef.nD).tc : Thread Cert.PairExchangeRef.nD Cert.PairExchangeRef.τ).loc Cert.PairExchangeRef.main_v15)) (v1 : Buf (Elt Bits) (((0 : Dev Cert.PairExchangeRef.nD).tc : Thread Cert.PairExchangeRef.nD Cert.PairExchangeRef.τ).loc Cert.PairExchangeRef.main_v32)) (v2 : Buf (Elt Bits) (((0 : Dev Cert.PairExchangeRef.nD).tc : Thread Cert.PairExchangeRef.nD Cert.PairExchangeRef.τ).loc Cert.PairExchangeRef.main_v49)) (v3 : Buf (Elt Bits) (((0 : Dev Cert.PairExchangeRef.nD).tc : Thread Cert.PairExchangeRef.nD Cert.PairExchangeRef.τ).loc Cert.PairExchangeRef.main_v66)) (v4 : Buf (Elt Bits) (((0 : Dev Cert.PairExchangeRef.nD).tc : Thread Cert.PairExchangeRef.nD Cert.PairExchangeRef.τ).loc Cert.PairExchangeRef.main_v16)) (v5 : Buf (Elt Bits) (((0 : Dev Cert.PairExchangeRef.nD).tc : Thread Cert.PairExchangeRef.nD Cert.PairExchangeRef.τ).loc Cert.PairExchangeRef.main_v33)) (v6 : Buf (Elt Bits) (((0 : Dev Cert.PairExchangeRef.nD).tc : Thread Cert.PairExchangeRef.nD Cert.PairExchangeRef.τ).loc Cert.PairExchangeRef.main_v50)) (v7 : Buf (Elt Bits) (((0 : Dev Cert.PairExchangeRef.nD).tc : Thread Cert.PairExchangeRef.nD Cert.PairExchangeRef.τ).loc Cert.PairExchangeRef.main_v67)),
      θ_run (Cert.PairExchange.defs (F := Bits)) (onTc (τ := Cert.PairExchange.τ) (Cert.PairExchange.main (F := Bits))) ⟨m, fun _ => 0, g⟩ (fun r => ∀ c : Dev Cert.PairExchange.nD,
          r.2.mem ((c.tc : Thread Cert.PairExchange.nD Cert.PairExchange.τ).loc Cert.PairExchange.main_v1_0) = Layout.block ⟨2, ![1024, 5632]⟩ ⟨2, ![8192, 5632]⟩ 0 8 c v0
          ∧ r.2.mem ((c.tc : Thread Cert.PairExchange.nD Cert.PairExchange.τ).loc Cert.PairExchange.main_v1_1) = Layout.block ⟨2, ![1024, 2048]⟩ ⟨2, ![8192, 2048]⟩ 0 8 c v1
          ∧ r.2.mem ((c.tc : Thread Cert.PairExchange.nD Cert.PairExchange.τ).loc Cert.PairExchange.main_v1_2) = Layout.block ⟨2, ![1024, 6144]⟩ ⟨2, ![8192, 6144]⟩ 0 8 c v2
          ∧ r.2.mem ((c.tc : Thread Cert.PairExchange.nD Cert.PairExchange.τ).loc Cert.PairExchange.main_v1_3) = Layout.block ⟨2, ![1024, 2048]⟩ ⟨2, ![8192, 2048]⟩ 0 8 c v3
          ∧ r.2.mem ((c.tc : Thread Cert.PairExchange.nD Cert.PairExchange.τ).loc Cert.PairExchange.main_v1_4) = Layout.block ⟨2, ![1024, 5632]⟩ ⟨2, ![8192, 5632]⟩ 0 8 c v4
          ∧ r.2.mem ((c.tc : Thread Cert.PairExchange.nD Cert.PairExchange.τ).loc Cert.PairExchange.main_v1_5) = Layout.block ⟨2, ![1024, 2048]⟩ ⟨2, ![8192, 2048]⟩ 0 8 c v5
          ∧ r.2.mem ((c.tc : Thread Cert.PairExchange.nD Cert.PairExchange.τ).loc Cert.PairExchange.main_v1_6) = Layout.block ⟨2, ![1024, 6144]⟩ ⟨2, ![8192, 6144]⟩ 0 8 c v6
          ∧ r.2.mem ((c.tc : Thread Cert.PairExchange.nD Cert.PairExchange.τ).loc Cert.PairExchange.main_v1_7) = Layout.block ⟨2, ![1024, 2048]⟩ ⟨2, ![8192, 2048]⟩ 0 8 c v7
          ∧ r.2.mem ((c.tc : Thread Cert.PairExchange.nD Cert.PairExchange.τ).loc Cert.PairExchange.main_arg0) = m ((c.tc : Thread Cert.PairExchange.nD Cert.PairExchange.τ).loc Cert.PairExchange.main_arg0)
          ∧ r.2.mem ((c.tc : Thread Cert.PairExchange.nD Cert.PairExchange.τ).loc Cert.PairExchange.main_arg1) = m ((c.tc : Thread Cert.PairExchange.nD Cert.PairExchange.τ).loc Cert.PairExchange.main_arg1)
          ∧ r.2.mem ((c.tc : Thread Cert.PairExchange.nD Cert.PairExchange.τ).loc Cert.PairExchange.main_arg2) = m ((c.tc : Thread Cert.PairExchange.nD Cert.PairExchange.τ).loc Cert.PairExchange.main_arg2)
          ∧ r.2.mem ((c.tc : Thread Cert.PairExchange.nD Cert.PairExchange.τ).loc Cert.PairExchange.main_arg3) = m ((c.tc : Thread Cert.PairExchange.nD Cert.PairExchange.τ).loc Cert.PairExchange.main_arg3))
      ∧ θ_run (Cert.PairExchangeRef.defs (F := Bits)) (onTc (τ := Cert.PairExchangeRef.τ) (Cert.PairExchangeRef.main (F := Bits))) ⟨m', fun _ => 0, g'⟩ (fun r =>
          r.2.mem (((0 : Dev Cert.PairExchangeRef.nD).tc : Thread Cert.PairExchangeRef.nD Cert.PairExchangeRef.τ).loc Cert.PairExchangeRef.main_v15) = v0
          ∧ r.2.mem (((0 : Dev Cert.PairExchangeRef.nD).tc : Thread Cert.PairExchangeRef.nD Cert.PairExchangeRef.τ).loc Cert.PairExchangeRef.main_v32) = v1
          ∧ r.2.mem (((0 : Dev Cert.PairExchangeRef.nD).tc : Thread Cert.PairExchangeRef.nD Cert.PairExchangeRef.τ).loc Cert.PairExchangeRef.main_v49) = v2
          ∧ r.2.mem (((0 : Dev Cert.PairExchangeRef.nD).tc : Thread Cert.PairExchangeRef.nD Cert.PairExchangeRef.τ).loc Cert.PairExchangeRef.main_v66) = v3
          ∧ r.2.mem (((0 : Dev Cert.PairExchangeRef.nD).tc : Thread Cert.PairExchangeRef.nD Cert.PairExchangeRef.τ).loc Cert.PairExchangeRef.main_v16) = v4
          ∧ r.2.mem (((0 : Dev Cert.PairExchangeRef.nD).tc : Thread Cert.PairExchangeRef.nD Cert.PairExchangeRef.τ).loc Cert.PairExchangeRef.main_v33) = v5
          ∧ r.2.mem (((0 : Dev Cert.PairExchangeRef.nD).tc : Thread Cert.PairExchangeRef.nD Cert.PairExchangeRef.τ).loc Cert.PairExchangeRef.main_v50) = v6
          ∧ r.2.mem (((0 : Dev Cert.PairExchangeRef.nD).tc : Thread Cert.PairExchangeRef.nD Cert.PairExchangeRef.τ).loc Cert.PairExchangeRef.main_v67) = v7
          ∧ r.2.mem (((0 : Dev Cert.PairExchangeRef.nD).tc : Thread Cert.PairExchangeRef.nD Cert.PairExchangeRef.τ).loc Cert.PairExchangeRef.main_arg0) = m' (((0 : Dev Cert.PairExchangeRef.nD).tc : Thread Cert.PairExchangeRef.nD Cert.PairExchangeRef.τ).loc Cert.PairExchangeRef.main_arg0)
          ∧ r.2.mem (((0 : Dev Cert.PairExchangeRef.nD).tc : Thread Cert.PairExchangeRef.nD Cert.PairExchangeRef.τ).loc Cert.PairExchangeRef.main_arg1) = m' (((0 : Dev Cert.PairExchangeRef.nD).tc : Thread Cert.PairExchangeRef.nD Cert.PairExchangeRef.τ).loc Cert.PairExchangeRef.main_arg1)
          ∧ r.2.mem (((0 : Dev Cert.PairExchangeRef.nD).tc : Thread Cert.PairExchangeRef.nD Cert.PairExchangeRef.τ).loc Cert.PairExchangeRef.main_arg2) = m' (((0 : Dev Cert.PairExchangeRef.nD).tc : Thread Cert.PairExchangeRef.nD Cert.PairExchangeRef.τ).loc Cert.PairExchangeRef.main_arg2)
          ∧ r.2.mem (((0 : Dev Cert.PairExchangeRef.nD).tc : Thread Cert.PairExchangeRef.nD Cert.PairExchangeRef.τ).loc Cert.PairExchangeRef.main_arg3) = m' (((0 : Dev Cert.PairExchangeRef.nD).tc : Thread Cert.PairExchangeRef.nD Cert.PairExchangeRef.τ).loc Cert.PairExchangeRef.main_arg3))

def algebraic_PairExchangeIdeal_PairExchangeRefIdeal [hPairExchangeIdeal : Cert.PairExchangeIdeal.Facts] [hPairExchangeRefIdeal : Cert.PairExchangeRefIdeal.Facts] : Prop :=
  ∀ (m : (ℓ : Loc Cert.PairExchangeIdeal.nD Cert.PairExchangeIdeal.τ Cert.PairExchangeIdeal.sig) → Buf (Elt Ideal) ℓ) (g : Dev Cert.PairExchangeIdeal.nD → PrngReg)
    (m' : (ℓ : Loc Cert.PairExchangeRefIdeal.nD Cert.PairExchangeRefIdeal.τ Cert.PairExchangeRefIdeal.sig) → Buf (Elt Ideal) ℓ) (g' : Dev Cert.PairExchangeRefIdeal.nD → PrngReg), Pre_PairExchangeIdeal m →
    (∀ c : Dev Cert.PairExchangeIdeal.nD,
      m ((c.tc : Thread Cert.PairExchangeIdeal.nD Cert.PairExchangeIdeal.τ).loc Cert.PairExchangeIdeal.main_arg0) = Layout.block ⟨2, ![2048, 5632]⟩ ⟨2, ![16384, 5632]⟩ 0 8 c (m' (((0 : Dev Cert.PairExchangeRefIdeal.nD).tc : Thread Cert.PairExchangeRefIdeal.nD Cert.PairExchangeRefIdeal.τ).loc Cert.PairExchangeRefIdeal.main_arg0))
      ∧ m ((c.tc : Thread Cert.PairExchangeIdeal.nD Cert.PairExchangeIdeal.τ).loc Cert.PairExchangeIdeal.main_arg1) = Layout.block ⟨2, ![2048, 2048]⟩ ⟨2, ![16384, 2048]⟩ 0 8 c (m' (((0 : Dev Cert.PairExchangeRefIdeal.nD).tc : Thread Cert.PairExchangeRefIdeal.nD Cert.PairExchangeRefIdeal.τ).loc Cert.PairExchangeRefIdeal.main_arg1))
      ∧ m ((c.tc : Thread Cert.PairExchangeIdeal.nD Cert.PairExchangeIdeal.τ).loc Cert.PairExchangeIdeal.main_arg2) = Layout.block ⟨2, ![2048, 6144]⟩ ⟨2, ![16384, 6144]⟩ 0 8 c (m' (((0 : Dev Cert.PairExchangeRefIdeal.nD).tc : Thread Cert.PairExchangeRefIdeal.nD Cert.PairExchangeRefIdeal.τ).loc Cert.PairExchangeRefIdeal.main_arg2))
      ∧ m ((c.tc : Thread Cert.PairExchangeIdeal.nD Cert.PairExchangeIdeal.τ).loc Cert.PairExchangeIdeal.main_arg3) = Layout.block ⟨2, ![2048, 2048]⟩ ⟨2, ![16384, 2048]⟩ 0 8 c (m' (((0 : Dev Cert.PairExchangeRefIdeal.nD).tc : Thread Cert.PairExchangeRefIdeal.nD Cert.PairExchangeRefIdeal.τ).loc Cert.PairExchangeRefIdeal.main_arg3))) →
    ∃ (v0 : Buf (Elt Ideal) (((0 : Dev Cert.PairExchangeRefIdeal.nD).tc : Thread Cert.PairExchangeRefIdeal.nD Cert.PairExchangeRefIdeal.τ).loc Cert.PairExchangeRefIdeal.main_v15)) (v1 : Buf (Elt Ideal) (((0 : Dev Cert.PairExchangeRefIdeal.nD).tc : Thread Cert.PairExchangeRefIdeal.nD Cert.PairExchangeRefIdeal.τ).loc Cert.PairExchangeRefIdeal.main_v32)) (v2 : Buf (Elt Ideal) (((0 : Dev Cert.PairExchangeRefIdeal.nD).tc : Thread Cert.PairExchangeRefIdeal.nD Cert.PairExchangeRefIdeal.τ).loc Cert.PairExchangeRefIdeal.main_v49)) (v3 : Buf (Elt Ideal) (((0 : Dev Cert.PairExchangeRefIdeal.nD).tc : Thread Cert.PairExchangeRefIdeal.nD Cert.PairExchangeRefIdeal.τ).loc Cert.PairExchangeRefIdeal.main_v66)) (v4 : Buf (Elt Ideal) (((0 : Dev Cert.PairExchangeRefIdeal.nD).tc : Thread Cert.PairExchangeRefIdeal.nD Cert.PairExchangeRefIdeal.τ).loc Cert.PairExchangeRefIdeal.main_v16)) (v5 : Buf (Elt Ideal) (((0 : Dev Cert.PairExchangeRefIdeal.nD).tc : Thread Cert.PairExchangeRefIdeal.nD Cert.PairExchangeRefIdeal.τ).loc Cert.PairExchangeRefIdeal.main_v33)) (v6 : Buf (Elt Ideal) (((0 : Dev Cert.PairExchangeRefIdeal.nD).tc : Thread Cert.PairExchangeRefIdeal.nD Cert.PairExchangeRefIdeal.τ).loc Cert.PairExchangeRefIdeal.main_v50)) (v7 : Buf (Elt Ideal) (((0 : Dev Cert.PairExchangeRefIdeal.nD).tc : Thread Cert.PairExchangeRefIdeal.nD Cert.PairExchangeRefIdeal.τ).loc Cert.PairExchangeRefIdeal.main_v67)),
      θ_run (Cert.PairExchangeIdeal.defs (F := Ideal)) (onTc (τ := Cert.PairExchangeIdeal.τ) (Cert.PairExchangeIdeal.main (F := Ideal))) ⟨m, fun _ => 0, g⟩ (fun r => ∀ c : Dev Cert.PairExchangeIdeal.nD,
          r.2.mem ((c.tc : Thread Cert.PairExchangeIdeal.nD Cert.PairExchangeIdeal.τ).loc Cert.PairExchangeIdeal.main_v1_0) = Layout.block ⟨2, ![1024, 5632]⟩ ⟨2, ![8192, 5632]⟩ 0 8 c v0
          ∧ r.2.mem ((c.tc : Thread Cert.PairExchangeIdeal.nD Cert.PairExchangeIdeal.τ).loc Cert.PairExchangeIdeal.main_v1_1) = Layout.block ⟨2, ![1024, 2048]⟩ ⟨2, ![8192, 2048]⟩ 0 8 c v1
          ∧ r.2.mem ((c.tc : Thread Cert.PairExchangeIdeal.nD Cert.PairExchangeIdeal.τ).loc Cert.PairExchangeIdeal.main_v1_2) = Layout.block ⟨2, ![1024, 6144]⟩ ⟨2, ![8192, 6144]⟩ 0 8 c v2
          ∧ r.2.mem ((c.tc : Thread Cert.PairExchangeIdeal.nD Cert.PairExchangeIdeal.τ).loc Cert.PairExchangeIdeal.main_v1_3) = Layout.block ⟨2, ![1024, 2048]⟩ ⟨2, ![8192, 2048]⟩ 0 8 c v3
          ∧ r.2.mem ((c.tc : Thread Cert.PairExchangeIdeal.nD Cert.PairExchangeIdeal.τ).loc Cert.PairExchangeIdeal.main_v1_4) = Layout.block ⟨2, ![1024, 5632]⟩ ⟨2, ![8192, 5632]⟩ 0 8 c v4
          ∧ r.2.mem ((c.tc : Thread Cert.PairExchangeIdeal.nD Cert.PairExchangeIdeal.τ).loc Cert.PairExchangeIdeal.main_v1_5) = Layout.block ⟨2, ![1024, 2048]⟩ ⟨2, ![8192, 2048]⟩ 0 8 c v5
          ∧ r.2.mem ((c.tc : Thread Cert.PairExchangeIdeal.nD Cert.PairExchangeIdeal.τ).loc Cert.PairExchangeIdeal.main_v1_6) = Layout.block ⟨2, ![1024, 6144]⟩ ⟨2, ![8192, 6144]⟩ 0 8 c v6
          ∧ r.2.mem ((c.tc : Thread Cert.PairExchangeIdeal.nD Cert.PairExchangeIdeal.τ).loc Cert.PairExchangeIdeal.main_v1_7) = Layout.block ⟨2, ![1024, 2048]⟩ ⟨2, ![8192, 2048]⟩ 0 8 c v7
          ∧ r.2.mem ((c.tc : Thread Cert.PairExchangeIdeal.nD Cert.PairExchangeIdeal.τ).loc Cert.PairExchangeIdeal.main_arg0) = m ((c.tc : Thread Cert.PairExchangeIdeal.nD Cert.PairExchangeIdeal.τ).loc Cert.PairExchangeIdeal.main_arg0)
          ∧ r.2.mem ((c.tc : Thread Cert.PairExchangeIdeal.nD Cert.PairExchangeIdeal.τ).loc Cert.PairExchangeIdeal.main_arg1) = m ((c.tc : Thread Cert.PairExchangeIdeal.nD Cert.PairExchangeIdeal.τ).loc Cert.PairExchangeIdeal.main_arg1)
          ∧ r.2.mem ((c.tc : Thread Cert.PairExchangeIdeal.nD Cert.PairExchangeIdeal.τ).loc Cert.PairExchangeIdeal.main_arg2) = m ((c.tc : Thread Cert.PairExchangeIdeal.nD Cert.PairExchangeIdeal.τ).loc Cert.PairExchangeIdeal.main_arg2)
          ∧ r.2.mem ((c.tc : Thread Cert.PairExchangeIdeal.nD Cert.PairExchangeIdeal.τ).loc Cert.PairExchangeIdeal.main_arg3) = m ((c.tc : Thread Cert.PairExchangeIdeal.nD Cert.PairExchangeIdeal.τ).loc Cert.PairExchangeIdeal.main_arg3))
      ∧ θ_run (Cert.PairExchangeRefIdeal.defs (F := Ideal)) (onTc (τ := Cert.PairExchangeRefIdeal.τ) (Cert.PairExchangeRefIdeal.main (F := Ideal))) ⟨m', fun _ => 0, g'⟩ (fun r =>
          r.2.mem (((0 : Dev Cert.PairExchangeRefIdeal.nD).tc : Thread Cert.PairExchangeRefIdeal.nD Cert.PairExchangeRefIdeal.τ).loc Cert.PairExchangeRefIdeal.main_v15) = v0
          ∧ r.2.mem (((0 : Dev Cert.PairExchangeRefIdeal.nD).tc : Thread Cert.PairExchangeRefIdeal.nD Cert.PairExchangeRefIdeal.τ).loc Cert.PairExchangeRefIdeal.main_v32) = v1
          ∧ r.2.mem (((0 : Dev Cert.PairExchangeRefIdeal.nD).tc : Thread Cert.PairExchangeRefIdeal.nD Cert.PairExchangeRefIdeal.τ).loc Cert.PairExchangeRefIdeal.main_v49) = v2
          ∧ r.2.mem (((0 : Dev Cert.PairExchangeRefIdeal.nD).tc : Thread Cert.PairExchangeRefIdeal.nD Cert.PairExchangeRefIdeal.τ).loc Cert.PairExchangeRefIdeal.main_v66) = v3
          ∧ r.2.mem (((0 : Dev Cert.PairExchangeRefIdeal.nD).tc : Thread Cert.PairExchangeRefIdeal.nD Cert.PairExchangeRefIdeal.τ).loc Cert.PairExchangeRefIdeal.main_v16) = v4
          ∧ r.2.mem (((0 : Dev Cert.PairExchangeRefIdeal.nD).tc : Thread Cert.PairExchangeRefIdeal.nD Cert.PairExchangeRefIdeal.τ).loc Cert.PairExchangeRefIdeal.main_v33) = v5
          ∧ r.2.mem (((0 : Dev Cert.PairExchangeRefIdeal.nD).tc : Thread Cert.PairExchangeRefIdeal.nD Cert.PairExchangeRefIdeal.τ).loc Cert.PairExchangeRefIdeal.main_v50) = v6
          ∧ r.2.mem (((0 : Dev Cert.PairExchangeRefIdeal.nD).tc : Thread Cert.PairExchangeRefIdeal.nD Cert.PairExchangeRefIdeal.τ).loc Cert.PairExchangeRefIdeal.main_v67) = v7
          ∧ r.2.mem (((0 : Dev Cert.PairExchangeRefIdeal.nD).tc : Thread Cert.PairExchangeRefIdeal.nD Cert.PairExchangeRefIdeal.τ).loc Cert.PairExchangeRefIdeal.main_arg0) = m' (((0 : Dev Cert.PairExchangeRefIdeal.nD).tc : Thread Cert.PairExchangeRefIdeal.nD Cert.PairExchangeRefIdeal.τ).loc Cert.PairExchangeRefIdeal.main_arg0)
          ∧ r.2.mem (((0 : Dev Cert.PairExchangeRefIdeal.nD).tc : Thread Cert.PairExchangeRefIdeal.nD Cert.PairExchangeRefIdeal.τ).loc Cert.PairExchangeRefIdeal.main_arg1) = m' (((0 : Dev Cert.PairExchangeRefIdeal.nD).tc : Thread Cert.PairExchangeRefIdeal.nD Cert.PairExchangeRefIdeal.τ).loc Cert.PairExchangeRefIdeal.main_arg1)
          ∧ r.2.mem (((0 : Dev Cert.PairExchangeRefIdeal.nD).tc : Thread Cert.PairExchangeRefIdeal.nD Cert.PairExchangeRefIdeal.τ).loc Cert.PairExchangeRefIdeal.main_arg2) = m' (((0 : Dev Cert.PairExchangeRefIdeal.nD).tc : Thread Cert.PairExchangeRefIdeal.nD Cert.PairExchangeRefIdeal.τ).loc Cert.PairExchangeRefIdeal.main_arg2)
          ∧ r.2.mem (((0 : Dev Cert.PairExchangeRefIdeal.nD).tc : Thread Cert.PairExchangeRefIdeal.nD Cert.PairExchangeRefIdeal.τ).loc Cert.PairExchangeRefIdeal.main_arg3) = m' (((0 : Dev Cert.PairExchangeRefIdeal.nD).tc : Thread Cert.PairExchangeRefIdeal.nD Cert.PairExchangeRefIdeal.τ).loc Cert.PairExchangeRefIdeal.main_arg3))

def preserves_ChipScatter_ChipScatterIdeal : Prop :=
  True

def bitexact_ChipScatter_ChipScatterRef [hChipScatter : Cert.ChipScatter.Facts] [hChipScatterRef : Cert.ChipScatterRef.Facts] : Prop :=
  ∀ (m : (ℓ : Loc Cert.ChipScatter.nD Cert.ChipScatter.τ Cert.ChipScatter.sig) → Buf (Elt Bits) ℓ) (g : Dev Cert.ChipScatter.nD → PrngReg)
    (m' : (ℓ : Loc Cert.ChipScatterRef.nD Cert.ChipScatterRef.τ Cert.ChipScatterRef.sig) → Buf (Elt Bits) ℓ) (g' : Dev Cert.ChipScatterRef.nD → PrngReg), Pre_ChipScatter m →
    (∀ c : Dev Cert.ChipScatter.nD,
      m ((c.tc : Thread Cert.ChipScatter.nD Cert.ChipScatter.τ).loc Cert.ChipScatter.main_arg0) = Layout.block ⟨2, ![1024, 5632]⟩ ⟨2, ![8192, 5632]⟩ 0 8 c (m' (((0 : Dev Cert.ChipScatterRef.nD).tc : Thread Cert.ChipScatterRef.nD Cert.ChipScatterRef.τ).loc Cert.ChipScatterRef.main_arg0))
      ∧ m ((c.tc : Thread Cert.ChipScatter.nD Cert.ChipScatter.τ).loc Cert.ChipScatter.main_arg1) = Layout.block ⟨2, ![1024, 2048]⟩ ⟨2, ![8192, 2048]⟩ 0 8 c (m' (((0 : Dev Cert.ChipScatterRef.nD).tc : Thread Cert.ChipScatterRef.nD Cert.ChipScatterRef.τ).loc Cert.ChipScatterRef.main_arg1))
      ∧ m ((c.tc : Thread Cert.ChipScatter.nD Cert.ChipScatter.τ).loc Cert.ChipScatter.main_arg2) = Layout.block ⟨2, ![1024, 6144]⟩ ⟨2, ![8192, 6144]⟩ 0 8 c (m' (((0 : Dev Cert.ChipScatterRef.nD).tc : Thread Cert.ChipScatterRef.nD Cert.ChipScatterRef.τ).loc Cert.ChipScatterRef.main_arg2))
      ∧ m ((c.tc : Thread Cert.ChipScatter.nD Cert.ChipScatter.τ).loc Cert.ChipScatter.main_arg3) = Layout.block ⟨2, ![1024, 2048]⟩ ⟨2, ![8192, 2048]⟩ 0 8 c (m' (((0 : Dev Cert.ChipScatterRef.nD).tc : Thread Cert.ChipScatterRef.nD Cert.ChipScatterRef.τ).loc Cert.ChipScatterRef.main_arg3))) →
    ∃ (v0 : Buf (Elt Bits) (((0 : Dev Cert.ChipScatterRef.nD).tc : Thread Cert.ChipScatterRef.nD Cert.ChipScatterRef.τ).loc Cert.ChipScatterRef.main_v2)) (v1 : Buf (Elt Bits) (((0 : Dev Cert.ChipScatterRef.nD).tc : Thread Cert.ChipScatterRef.nD Cert.ChipScatterRef.τ).loc Cert.ChipScatterRef.main_v5)) (v2 : Buf (Elt Bits) (((0 : Dev Cert.ChipScatterRef.nD).tc : Thread Cert.ChipScatterRef.nD Cert.ChipScatterRef.τ).loc Cert.ChipScatterRef.main_v8)) (v3 : Buf (Elt Bits) (((0 : Dev Cert.ChipScatterRef.nD).tc : Thread Cert.ChipScatterRef.nD Cert.ChipScatterRef.τ).loc Cert.ChipScatterRef.main_v11)),
      θ_run (Cert.ChipScatter.defs (F := Bits)) (onTc (τ := Cert.ChipScatter.τ) (Cert.ChipScatter.main (F := Bits))) ⟨m, fun _ => 0, g⟩ (fun r => ∀ c : Dev Cert.ChipScatter.nD,
          r.2.mem ((c.tc : Thread Cert.ChipScatter.nD Cert.ChipScatter.τ).loc Cert.ChipScatter.main_v1_0) = Layout.block ⟨3, ![4, 1024, 1408]⟩ ⟨3, ![32, 1024, 1408]⟩ 0 8 c v0
          ∧ r.2.mem ((c.tc : Thread Cert.ChipScatter.nD Cert.ChipScatter.τ).loc Cert.ChipScatter.main_v1_1) = Layout.block ⟨3, ![4, 256, 2048]⟩ ⟨3, ![32, 256, 2048]⟩ 0 8 c v1
          ∧ r.2.mem ((c.tc : Thread Cert.ChipScatter.nD Cert.ChipScatter.τ).loc Cert.ChipScatter.main_v1_2) = Layout.block ⟨3, ![4, 1024, 1536]⟩ ⟨3, ![32, 1024, 1536]⟩ 0 8 c v2
          ∧ r.2.mem ((c.tc : Thread Cert.ChipScatter.nD Cert.ChipScatter.τ).loc Cert.ChipScatter.main_v1_3) = Layout.block ⟨3, ![4, 256, 2048]⟩ ⟨3, ![32, 256, 2048]⟩ 0 8 c v3
          ∧ r.2.mem ((c.tc : Thread Cert.ChipScatter.nD Cert.ChipScatter.τ).loc Cert.ChipScatter.main_arg0) = m ((c.tc : Thread Cert.ChipScatter.nD Cert.ChipScatter.τ).loc Cert.ChipScatter.main_arg0)
          ∧ r.2.mem ((c.tc : Thread Cert.ChipScatter.nD Cert.ChipScatter.τ).loc Cert.ChipScatter.main_arg1) = m ((c.tc : Thread Cert.ChipScatter.nD Cert.ChipScatter.τ).loc Cert.ChipScatter.main_arg1)
          ∧ r.2.mem ((c.tc : Thread Cert.ChipScatter.nD Cert.ChipScatter.τ).loc Cert.ChipScatter.main_arg2) = m ((c.tc : Thread Cert.ChipScatter.nD Cert.ChipScatter.τ).loc Cert.ChipScatter.main_arg2)
          ∧ r.2.mem ((c.tc : Thread Cert.ChipScatter.nD Cert.ChipScatter.τ).loc Cert.ChipScatter.main_arg3) = m ((c.tc : Thread Cert.ChipScatter.nD Cert.ChipScatter.τ).loc Cert.ChipScatter.main_arg3))
      ∧ θ_run (Cert.ChipScatterRef.defs (F := Bits)) (onTc (τ := Cert.ChipScatterRef.τ) (Cert.ChipScatterRef.main (F := Bits))) ⟨m', fun _ => 0, g'⟩ (fun r =>
          r.2.mem (((0 : Dev Cert.ChipScatterRef.nD).tc : Thread Cert.ChipScatterRef.nD Cert.ChipScatterRef.τ).loc Cert.ChipScatterRef.main_v2) = v0
          ∧ r.2.mem (((0 : Dev Cert.ChipScatterRef.nD).tc : Thread Cert.ChipScatterRef.nD Cert.ChipScatterRef.τ).loc Cert.ChipScatterRef.main_v5) = v1
          ∧ r.2.mem (((0 : Dev Cert.ChipScatterRef.nD).tc : Thread Cert.ChipScatterRef.nD Cert.ChipScatterRef.τ).loc Cert.ChipScatterRef.main_v8) = v2
          ∧ r.2.mem (((0 : Dev Cert.ChipScatterRef.nD).tc : Thread Cert.ChipScatterRef.nD Cert.ChipScatterRef.τ).loc Cert.ChipScatterRef.main_v11) = v3
          ∧ r.2.mem (((0 : Dev Cert.ChipScatterRef.nD).tc : Thread Cert.ChipScatterRef.nD Cert.ChipScatterRef.τ).loc Cert.ChipScatterRef.main_arg0) = m' (((0 : Dev Cert.ChipScatterRef.nD).tc : Thread Cert.ChipScatterRef.nD Cert.ChipScatterRef.τ).loc Cert.ChipScatterRef.main_arg0)
          ∧ r.2.mem (((0 : Dev Cert.ChipScatterRef.nD).tc : Thread Cert.ChipScatterRef.nD Cert.ChipScatterRef.τ).loc Cert.ChipScatterRef.main_arg1) = m' (((0 : Dev Cert.ChipScatterRef.nD).tc : Thread Cert.ChipScatterRef.nD Cert.ChipScatterRef.τ).loc Cert.ChipScatterRef.main_arg1)
          ∧ r.2.mem (((0 : Dev Cert.ChipScatterRef.nD).tc : Thread Cert.ChipScatterRef.nD Cert.ChipScatterRef.τ).loc Cert.ChipScatterRef.main_arg2) = m' (((0 : Dev Cert.ChipScatterRef.nD).tc : Thread Cert.ChipScatterRef.nD Cert.ChipScatterRef.τ).loc Cert.ChipScatterRef.main_arg2)
          ∧ r.2.mem (((0 : Dev Cert.ChipScatterRef.nD).tc : Thread Cert.ChipScatterRef.nD Cert.ChipScatterRef.τ).loc Cert.ChipScatterRef.main_arg3) = m' (((0 : Dev Cert.ChipScatterRef.nD).tc : Thread Cert.ChipScatterRef.nD Cert.ChipScatterRef.τ).loc Cert.ChipScatterRef.main_arg3))

def algebraic_ChipScatterIdeal_ChipScatterRefIdeal [hChipScatterIdeal : Cert.ChipScatterIdeal.Facts] [hChipScatterRefIdeal : Cert.ChipScatterRefIdeal.Facts] : Prop :=
  ∀ (m : (ℓ : Loc Cert.ChipScatterIdeal.nD Cert.ChipScatterIdeal.τ Cert.ChipScatterIdeal.sig) → Buf (Elt Ideal) ℓ) (g : Dev Cert.ChipScatterIdeal.nD → PrngReg)
    (m' : (ℓ : Loc Cert.ChipScatterRefIdeal.nD Cert.ChipScatterRefIdeal.τ Cert.ChipScatterRefIdeal.sig) → Buf (Elt Ideal) ℓ) (g' : Dev Cert.ChipScatterRefIdeal.nD → PrngReg), Pre_ChipScatterIdeal m →
    (∀ c : Dev Cert.ChipScatterIdeal.nD,
      m ((c.tc : Thread Cert.ChipScatterIdeal.nD Cert.ChipScatterIdeal.τ).loc Cert.ChipScatterIdeal.main_arg0) = Layout.block ⟨2, ![1024, 5632]⟩ ⟨2, ![8192, 5632]⟩ 0 8 c (m' (((0 : Dev Cert.ChipScatterRefIdeal.nD).tc : Thread Cert.ChipScatterRefIdeal.nD Cert.ChipScatterRefIdeal.τ).loc Cert.ChipScatterRefIdeal.main_arg0))
      ∧ m ((c.tc : Thread Cert.ChipScatterIdeal.nD Cert.ChipScatterIdeal.τ).loc Cert.ChipScatterIdeal.main_arg1) = Layout.block ⟨2, ![1024, 2048]⟩ ⟨2, ![8192, 2048]⟩ 0 8 c (m' (((0 : Dev Cert.ChipScatterRefIdeal.nD).tc : Thread Cert.ChipScatterRefIdeal.nD Cert.ChipScatterRefIdeal.τ).loc Cert.ChipScatterRefIdeal.main_arg1))
      ∧ m ((c.tc : Thread Cert.ChipScatterIdeal.nD Cert.ChipScatterIdeal.τ).loc Cert.ChipScatterIdeal.main_arg2) = Layout.block ⟨2, ![1024, 6144]⟩ ⟨2, ![8192, 6144]⟩ 0 8 c (m' (((0 : Dev Cert.ChipScatterRefIdeal.nD).tc : Thread Cert.ChipScatterRefIdeal.nD Cert.ChipScatterRefIdeal.τ).loc Cert.ChipScatterRefIdeal.main_arg2))
      ∧ m ((c.tc : Thread Cert.ChipScatterIdeal.nD Cert.ChipScatterIdeal.τ).loc Cert.ChipScatterIdeal.main_arg3) = Layout.block ⟨2, ![1024, 2048]⟩ ⟨2, ![8192, 2048]⟩ 0 8 c (m' (((0 : Dev Cert.ChipScatterRefIdeal.nD).tc : Thread Cert.ChipScatterRefIdeal.nD Cert.ChipScatterRefIdeal.τ).loc Cert.ChipScatterRefIdeal.main_arg3))) →
    ∃ (v0 : Buf (Elt Ideal) (((0 : Dev Cert.ChipScatterRefIdeal.nD).tc : Thread Cert.ChipScatterRefIdeal.nD Cert.ChipScatterRefIdeal.τ).loc Cert.ChipScatterRefIdeal.main_v2)) (v1 : Buf (Elt Ideal) (((0 : Dev Cert.ChipScatterRefIdeal.nD).tc : Thread Cert.ChipScatterRefIdeal.nD Cert.ChipScatterRefIdeal.τ).loc Cert.ChipScatterRefIdeal.main_v5)) (v2 : Buf (Elt Ideal) (((0 : Dev Cert.ChipScatterRefIdeal.nD).tc : Thread Cert.ChipScatterRefIdeal.nD Cert.ChipScatterRefIdeal.τ).loc Cert.ChipScatterRefIdeal.main_v8)) (v3 : Buf (Elt Ideal) (((0 : Dev Cert.ChipScatterRefIdeal.nD).tc : Thread Cert.ChipScatterRefIdeal.nD Cert.ChipScatterRefIdeal.τ).loc Cert.ChipScatterRefIdeal.main_v11)),
      θ_run (Cert.ChipScatterIdeal.defs (F := Ideal)) (onTc (τ := Cert.ChipScatterIdeal.τ) (Cert.ChipScatterIdeal.main (F := Ideal))) ⟨m, fun _ => 0, g⟩ (fun r => ∀ c : Dev Cert.ChipScatterIdeal.nD,
          r.2.mem ((c.tc : Thread Cert.ChipScatterIdeal.nD Cert.ChipScatterIdeal.τ).loc Cert.ChipScatterIdeal.main_v1_0) = Layout.block ⟨3, ![4, 1024, 1408]⟩ ⟨3, ![32, 1024, 1408]⟩ 0 8 c v0
          ∧ r.2.mem ((c.tc : Thread Cert.ChipScatterIdeal.nD Cert.ChipScatterIdeal.τ).loc Cert.ChipScatterIdeal.main_v1_1) = Layout.block ⟨3, ![4, 256, 2048]⟩ ⟨3, ![32, 256, 2048]⟩ 0 8 c v1
          ∧ r.2.mem ((c.tc : Thread Cert.ChipScatterIdeal.nD Cert.ChipScatterIdeal.τ).loc Cert.ChipScatterIdeal.main_v1_2) = Layout.block ⟨3, ![4, 1024, 1536]⟩ ⟨3, ![32, 1024, 1536]⟩ 0 8 c v2
          ∧ r.2.mem ((c.tc : Thread Cert.ChipScatterIdeal.nD Cert.ChipScatterIdeal.τ).loc Cert.ChipScatterIdeal.main_v1_3) = Layout.block ⟨3, ![4, 256, 2048]⟩ ⟨3, ![32, 256, 2048]⟩ 0 8 c v3
          ∧ r.2.mem ((c.tc : Thread Cert.ChipScatterIdeal.nD Cert.ChipScatterIdeal.τ).loc Cert.ChipScatterIdeal.main_arg0) = m ((c.tc : Thread Cert.ChipScatterIdeal.nD Cert.ChipScatterIdeal.τ).loc Cert.ChipScatterIdeal.main_arg0)
          ∧ r.2.mem ((c.tc : Thread Cert.ChipScatterIdeal.nD Cert.ChipScatterIdeal.τ).loc Cert.ChipScatterIdeal.main_arg1) = m ((c.tc : Thread Cert.ChipScatterIdeal.nD Cert.ChipScatterIdeal.τ).loc Cert.ChipScatterIdeal.main_arg1)
          ∧ r.2.mem ((c.tc : Thread Cert.ChipScatterIdeal.nD Cert.ChipScatterIdeal.τ).loc Cert.ChipScatterIdeal.main_arg2) = m ((c.tc : Thread Cert.ChipScatterIdeal.nD Cert.ChipScatterIdeal.τ).loc Cert.ChipScatterIdeal.main_arg2)
          ∧ r.2.mem ((c.tc : Thread Cert.ChipScatterIdeal.nD Cert.ChipScatterIdeal.τ).loc Cert.ChipScatterIdeal.main_arg3) = m ((c.tc : Thread Cert.ChipScatterIdeal.nD Cert.ChipScatterIdeal.τ).loc Cert.ChipScatterIdeal.main_arg3))
      ∧ θ_run (Cert.ChipScatterRefIdeal.defs (F := Ideal)) (onTc (τ := Cert.ChipScatterRefIdeal.τ) (Cert.ChipScatterRefIdeal.main (F := Ideal))) ⟨m', fun _ => 0, g'⟩ (fun r =>
          r.2.mem (((0 : Dev Cert.ChipScatterRefIdeal.nD).tc : Thread Cert.ChipScatterRefIdeal.nD Cert.ChipScatterRefIdeal.τ).loc Cert.ChipScatterRefIdeal.main_v2) = v0
          ∧ r.2.mem (((0 : Dev Cert.ChipScatterRefIdeal.nD).tc : Thread Cert.ChipScatterRefIdeal.nD Cert.ChipScatterRefIdeal.τ).loc Cert.ChipScatterRefIdeal.main_v5) = v1
          ∧ r.2.mem (((0 : Dev Cert.ChipScatterRefIdeal.nD).tc : Thread Cert.ChipScatterRefIdeal.nD Cert.ChipScatterRefIdeal.τ).loc Cert.ChipScatterRefIdeal.main_v8) = v2
          ∧ r.2.mem (((0 : Dev Cert.ChipScatterRefIdeal.nD).tc : Thread Cert.ChipScatterRefIdeal.nD Cert.ChipScatterRefIdeal.τ).loc Cert.ChipScatterRefIdeal.main_v11) = v3
          ∧ r.2.mem (((0 : Dev Cert.ChipScatterRefIdeal.nD).tc : Thread Cert.ChipScatterRefIdeal.nD Cert.ChipScatterRefIdeal.τ).loc Cert.ChipScatterRefIdeal.main_arg0) = m' (((0 : Dev Cert.ChipScatterRefIdeal.nD).tc : Thread Cert.ChipScatterRefIdeal.nD Cert.ChipScatterRefIdeal.τ).loc Cert.ChipScatterRefIdeal.main_arg0)
          ∧ r.2.mem (((0 : Dev Cert.ChipScatterRefIdeal.nD).tc : Thread Cert.ChipScatterRefIdeal.nD Cert.ChipScatterRefIdeal.τ).loc Cert.ChipScatterRefIdeal.main_arg1) = m' (((0 : Dev Cert.ChipScatterRefIdeal.nD).tc : Thread Cert.ChipScatterRefIdeal.nD Cert.ChipScatterRefIdeal.τ).loc Cert.ChipScatterRefIdeal.main_arg1)
          ∧ r.2.mem (((0 : Dev Cert.ChipScatterRefIdeal.nD).tc : Thread Cert.ChipScatterRefIdeal.nD Cert.ChipScatterRefIdeal.τ).loc Cert.ChipScatterRefIdeal.main_arg2) = m' (((0 : Dev Cert.ChipScatterRefIdeal.nD).tc : Thread Cert.ChipScatterRefIdeal.nD Cert.ChipScatterRefIdeal.τ).loc Cert.ChipScatterRefIdeal.main_arg2)
          ∧ r.2.mem (((0 : Dev Cert.ChipScatterRefIdeal.nD).tc : Thread Cert.ChipScatterRefIdeal.nD Cert.ChipScatterRefIdeal.τ).loc Cert.ChipScatterRefIdeal.main_arg3) = m' (((0 : Dev Cert.ChipScatterRefIdeal.nD).tc : Thread Cert.ChipScatterRefIdeal.nD Cert.ChipScatterRefIdeal.τ).loc Cert.ChipScatterRefIdeal.main_arg3))

def preserves_GatherWeights_GatherWeightsIdeal : Prop :=
  True

def bitexact_GatherWeights_GatherWeightsRef [hGatherWeights : Cert.GatherWeights.Facts] [hGatherWeightsRef : Cert.GatherWeightsRef.Facts] : Prop :=
  ∀ (m : (ℓ : Loc Cert.GatherWeights.nD Cert.GatherWeights.τ Cert.GatherWeights.sig) → Buf (Elt Bits) ℓ) (g : Dev Cert.GatherWeights.nD → PrngReg)
    (m' : (ℓ : Loc Cert.GatherWeightsRef.nD Cert.GatherWeightsRef.τ Cert.GatherWeightsRef.sig) → Buf (Elt Bits) ℓ) (g' : Dev Cert.GatherWeightsRef.nD → PrngReg), Pre_GatherWeights m →
    (∀ c : Dev Cert.GatherWeights.nD,
      m ((c.tc : Thread Cert.GatherWeights.nD Cert.GatherWeights.τ).loc Cert.GatherWeights.main_arg0) = Layout.blockN ⟨2, ![2048, 1408]⟩ ⟨2, ![2048, 5632]⟩ (Layout.meshBlock [2, 2, 2] ![[], [0, 1]] c) (m' (((0 : Dev Cert.GatherWeightsRef.nD).tc : Thread Cert.GatherWeightsRef.nD Cert.GatherWeightsRef.τ).loc Cert.GatherWeightsRef.main_arg0))
      ∧ m ((c.tc : Thread Cert.GatherWeights.nD Cert.GatherWeights.τ).loc Cert.GatherWeights.main_arg1) = Layout.blockN ⟨2, ![512, 2048]⟩ ⟨2, ![2048, 2048]⟩ (Layout.meshBlock [2, 2, 2] ![[0, 1], []] c) (m' (((0 : Dev Cert.GatherWeightsRef.nD).tc : Thread Cert.GatherWeightsRef.nD Cert.GatherWeightsRef.τ).loc Cert.GatherWeightsRef.main_arg1))
      ∧ m ((c.tc : Thread Cert.GatherWeights.nD Cert.GatherWeights.τ).loc Cert.GatherWeights.main_arg2) = Layout.blockN ⟨2, ![2048, 1536]⟩ ⟨2, ![2048, 6144]⟩ (Layout.meshBlock [2, 2, 2] ![[], [0, 1]] c) (m' (((0 : Dev Cert.GatherWeightsRef.nD).tc : Thread Cert.GatherWeightsRef.nD Cert.GatherWeightsRef.τ).loc Cert.GatherWeightsRef.main_arg2))
      ∧ m ((c.tc : Thread Cert.GatherWeights.nD Cert.GatherWeights.τ).loc Cert.GatherWeights.main_arg3) = Layout.blockN ⟨2, ![512, 2048]⟩ ⟨2, ![2048, 2048]⟩ (Layout.meshBlock [2, 2, 2] ![[0, 1], []] c) (m' (((0 : Dev Cert.GatherWeightsRef.nD).tc : Thread Cert.GatherWeightsRef.nD Cert.GatherWeightsRef.τ).loc Cert.GatherWeightsRef.main_arg3))) →
    ∃ (v0 : Buf (Elt Bits) (((0 : Dev Cert.GatherWeightsRef.nD).tc : Thread Cert.GatherWeightsRef.nD Cert.GatherWeightsRef.τ).loc Cert.GatherWeightsRef.main_arg0)) (v1 : Buf (Elt Bits) (((0 : Dev Cert.GatherWeightsRef.nD).tc : Thread Cert.GatherWeightsRef.nD Cert.GatherWeightsRef.τ).loc Cert.GatherWeightsRef.main_arg1)) (v2 : Buf (Elt Bits) (((0 : Dev Cert.GatherWeightsRef.nD).tc : Thread Cert.GatherWeightsRef.nD Cert.GatherWeightsRef.τ).loc Cert.GatherWeightsRef.main_arg2)) (v3 : Buf (Elt Bits) (((0 : Dev Cert.GatherWeightsRef.nD).tc : Thread Cert.GatherWeightsRef.nD Cert.GatherWeightsRef.τ).loc Cert.GatherWeightsRef.main_arg3)),
      θ_run (Cert.GatherWeights.defs (F := Bits)) (onTc (τ := Cert.GatherWeights.τ) (Cert.GatherWeights.main (F := Bits))) ⟨m, fun _ => 0, g⟩ (fun r => ∀ c : Dev Cert.GatherWeights.nD,
          r.2.mem ((c.tc : Thread Cert.GatherWeights.nD Cert.GatherWeights.τ).loc Cert.GatherWeights.main_v1_0) = v0
          ∧ r.2.mem ((c.tc : Thread Cert.GatherWeights.nD Cert.GatherWeights.τ).loc Cert.GatherWeights.main_v1_1) = v1
          ∧ r.2.mem ((c.tc : Thread Cert.GatherWeights.nD Cert.GatherWeights.τ).loc Cert.GatherWeights.main_v1_2) = v2
          ∧ r.2.mem ((c.tc : Thread Cert.GatherWeights.nD Cert.GatherWeights.τ).loc Cert.GatherWeights.main_v1_3) = v3
          ∧ r.2.mem ((c.tc : Thread Cert.GatherWeights.nD Cert.GatherWeights.τ).loc Cert.GatherWeights.main_arg0) = m ((c.tc : Thread Cert.GatherWeights.nD Cert.GatherWeights.τ).loc Cert.GatherWeights.main_arg0)
          ∧ r.2.mem ((c.tc : Thread Cert.GatherWeights.nD Cert.GatherWeights.τ).loc Cert.GatherWeights.main_arg1) = m ((c.tc : Thread Cert.GatherWeights.nD Cert.GatherWeights.τ).loc Cert.GatherWeights.main_arg1)
          ∧ r.2.mem ((c.tc : Thread Cert.GatherWeights.nD Cert.GatherWeights.τ).loc Cert.GatherWeights.main_arg2) = m ((c.tc : Thread Cert.GatherWeights.nD Cert.GatherWeights.τ).loc Cert.GatherWeights.main_arg2)
          ∧ r.2.mem ((c.tc : Thread Cert.GatherWeights.nD Cert.GatherWeights.τ).loc Cert.GatherWeights.main_arg3) = m ((c.tc : Thread Cert.GatherWeights.nD Cert.GatherWeights.τ).loc Cert.GatherWeights.main_arg3))
      ∧ θ_run (Cert.GatherWeightsRef.defs (F := Bits)) (onTc (τ := Cert.GatherWeightsRef.τ) (Cert.GatherWeightsRef.main (F := Bits))) ⟨m', fun _ => 0, g'⟩ (fun r =>
          r.2.mem (((0 : Dev Cert.GatherWeightsRef.nD).tc : Thread Cert.GatherWeightsRef.nD Cert.GatherWeightsRef.τ).loc Cert.GatherWeightsRef.main_arg0) = v0
          ∧ r.2.mem (((0 : Dev Cert.GatherWeightsRef.nD).tc : Thread Cert.GatherWeightsRef.nD Cert.GatherWeightsRef.τ).loc Cert.GatherWeightsRef.main_arg1) = v1
          ∧ r.2.mem (((0 : Dev Cert.GatherWeightsRef.nD).tc : Thread Cert.GatherWeightsRef.nD Cert.GatherWeightsRef.τ).loc Cert.GatherWeightsRef.main_arg2) = v2
          ∧ r.2.mem (((0 : Dev Cert.GatherWeightsRef.nD).tc : Thread Cert.GatherWeightsRef.nD Cert.GatherWeightsRef.τ).loc Cert.GatherWeightsRef.main_arg3) = v3
          ∧ r.2.mem (((0 : Dev Cert.GatherWeightsRef.nD).tc : Thread Cert.GatherWeightsRef.nD Cert.GatherWeightsRef.τ).loc Cert.GatherWeightsRef.main_arg0) = m' (((0 : Dev Cert.GatherWeightsRef.nD).tc : Thread Cert.GatherWeightsRef.nD Cert.GatherWeightsRef.τ).loc Cert.GatherWeightsRef.main_arg0)
          ∧ r.2.mem (((0 : Dev Cert.GatherWeightsRef.nD).tc : Thread Cert.GatherWeightsRef.nD Cert.GatherWeightsRef.τ).loc Cert.GatherWeightsRef.main_arg1) = m' (((0 : Dev Cert.GatherWeightsRef.nD).tc : Thread Cert.GatherWeightsRef.nD Cert.GatherWeightsRef.τ).loc Cert.GatherWeightsRef.main_arg1)
          ∧ r.2.mem (((0 : Dev Cert.GatherWeightsRef.nD).tc : Thread Cert.GatherWeightsRef.nD Cert.GatherWeightsRef.τ).loc Cert.GatherWeightsRef.main_arg2) = m' (((0 : Dev Cert.GatherWeightsRef.nD).tc : Thread Cert.GatherWeightsRef.nD Cert.GatherWeightsRef.τ).loc Cert.GatherWeightsRef.main_arg2)
          ∧ r.2.mem (((0 : Dev Cert.GatherWeightsRef.nD).tc : Thread Cert.GatherWeightsRef.nD Cert.GatherWeightsRef.τ).loc Cert.GatherWeightsRef.main_arg3) = m' (((0 : Dev Cert.GatherWeightsRef.nD).tc : Thread Cert.GatherWeightsRef.nD Cert.GatherWeightsRef.τ).loc Cert.GatherWeightsRef.main_arg3))

def algebraic_GatherWeightsIdeal_GatherWeightsRefIdeal [hGatherWeightsIdeal : Cert.GatherWeightsIdeal.Facts] [hGatherWeightsRefIdeal : Cert.GatherWeightsRefIdeal.Facts] : Prop :=
  ∀ (m : (ℓ : Loc Cert.GatherWeightsIdeal.nD Cert.GatherWeightsIdeal.τ Cert.GatherWeightsIdeal.sig) → Buf (Elt Ideal) ℓ) (g : Dev Cert.GatherWeightsIdeal.nD → PrngReg)
    (m' : (ℓ : Loc Cert.GatherWeightsRefIdeal.nD Cert.GatherWeightsRefIdeal.τ Cert.GatherWeightsRefIdeal.sig) → Buf (Elt Ideal) ℓ) (g' : Dev Cert.GatherWeightsRefIdeal.nD → PrngReg), Pre_GatherWeightsIdeal m →
    (∀ c : Dev Cert.GatherWeightsIdeal.nD,
      m ((c.tc : Thread Cert.GatherWeightsIdeal.nD Cert.GatherWeightsIdeal.τ).loc Cert.GatherWeightsIdeal.main_arg0) = Layout.blockN ⟨2, ![2048, 1408]⟩ ⟨2, ![2048, 5632]⟩ (Layout.meshBlock [2, 2, 2] ![[], [0, 1]] c) (m' (((0 : Dev Cert.GatherWeightsRefIdeal.nD).tc : Thread Cert.GatherWeightsRefIdeal.nD Cert.GatherWeightsRefIdeal.τ).loc Cert.GatherWeightsRefIdeal.main_arg0))
      ∧ m ((c.tc : Thread Cert.GatherWeightsIdeal.nD Cert.GatherWeightsIdeal.τ).loc Cert.GatherWeightsIdeal.main_arg1) = Layout.blockN ⟨2, ![512, 2048]⟩ ⟨2, ![2048, 2048]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg1))
      ∧ m ((c.tc : Thread Cert.GatherWeightsIdeal.nD Cert.GatherWeightsIdeal.τ).loc Cert.GatherWeightsIdeal.main_arg2) = Layout.blockN ⟨2, ![2048, 1536]⟩ ⟨2, ![2048, 6144]⟩ (Layout.meshBlock [2, 2, 2] ![[], [0, 1]] c) (m' (((0 : Dev Cert.GatherWeightsRefIdeal.nD).tc : Thread Cert.GatherWeightsRefIdeal.nD Cert.GatherWeightsRefIdeal.τ).loc Cert.GatherWeightsRefIdeal.main_arg2))
      ∧ m ((c.tc : Thread Cert.GatherWeightsIdeal.nD Cert.GatherWeightsIdeal.τ).loc Cert.GatherWeightsIdeal.main_arg3) = Layout.blockN ⟨2, ![512, 2048]⟩ ⟨2, ![2048, 2048]⟩ (Layout.meshBlock [2, 2, 2] ![[0, 1], []] c) (m' (((0 : Dev Cert.GatherWeightsRefIdeal.nD).tc : Thread Cert.GatherWeightsRefIdeal.nD Cert.GatherWeightsRefIdeal.τ).loc Cert.GatherWeightsRefIdeal.main_arg3))) →
    ∃ (v0 : Buf (Elt Ideal) (((0 : Dev Cert.GatherWeightsRefIdeal.nD).tc : Thread Cert.GatherWeightsRefIdeal.nD Cert.GatherWeightsRefIdeal.τ).loc Cert.GatherWeightsRefIdeal.main_arg0)) (v1 : Buf (Elt Ideal) (((0 : Dev Cert.GatherWeightsRefIdeal.nD).tc : Thread Cert.GatherWeightsRefIdeal.nD Cert.GatherWeightsRefIdeal.τ).loc Cert.GatherWeightsRefIdeal.main_arg1)) (v2 : Buf (Elt Ideal) (((0 : Dev Cert.GatherWeightsRefIdeal.nD).tc : Thread Cert.GatherWeightsRefIdeal.nD Cert.GatherWeightsRefIdeal.τ).loc Cert.GatherWeightsRefIdeal.main_arg2)) (v3 : Buf (Elt Ideal) (((0 : Dev Cert.GatherWeightsRefIdeal.nD).tc : Thread Cert.GatherWeightsRefIdeal.nD Cert.GatherWeightsRefIdeal.τ).loc Cert.GatherWeightsRefIdeal.main_arg3)),
      θ_run (Cert.GatherWeightsIdeal.defs (F := Ideal)) (onTc (τ := Cert.GatherWeightsIdeal.τ) (Cert.GatherWeightsIdeal.main (F := Ideal))) ⟨m, fun _ => 0, g⟩ (fun r => ∀ c : Dev Cert.GatherWeightsIdeal.nD,
          r.2.mem ((c.tc : Thread Cert.GatherWeightsIdeal.nD Cert.GatherWeightsIdeal.τ).loc Cert.GatherWeightsIdeal.main_v1_0) = v0
          ∧ r.2.mem ((c.tc : Thread Cert.GatherWeightsIdeal.nD Cert.GatherWeightsIdeal.τ).loc Cert.GatherWeightsIdeal.main_v1_1) = v1
          ∧ r.2.mem ((c.tc : Thread Cert.GatherWeightsIdeal.nD Cert.GatherWeightsIdeal.τ).loc Cert.GatherWeightsIdeal.main_v1_2) = v2
          ∧ r.2.mem ((c.tc : Thread Cert.GatherWeightsIdeal.nD Cert.GatherWeightsIdeal.τ).loc Cert.GatherWeightsIdeal.main_v1_3) = v3
          ∧ r.2.mem ((c.tc : Thread Cert.GatherWeightsIdeal.nD Cert.GatherWeightsIdeal.τ).loc Cert.GatherWeightsIdeal.main_arg0) = m ((c.tc : Thread Cert.GatherWeightsIdeal.nD Cert.GatherWeightsIdeal.τ).loc Cert.GatherWeightsIdeal.main_arg0)
          ∧ r.2.mem ((c.tc : Thread Cert.GatherWeightsIdeal.nD Cert.GatherWeightsIdeal.τ).loc Cert.GatherWeightsIdeal.main_arg1) = m ((c.tc : Thread Cert.GatherWeightsIdeal.nD Cert.GatherWeightsIdeal.τ).loc Cert.GatherWeightsIdeal.main_arg1)
          ∧ r.2.mem ((c.tc : Thread Cert.GatherWeightsIdeal.nD Cert.GatherWeightsIdeal.τ).loc Cert.GatherWeightsIdeal.main_arg2) = m ((c.tc : Thread Cert.GatherWeightsIdeal.nD Cert.GatherWeightsIdeal.τ).loc Cert.GatherWeightsIdeal.main_arg2)
          ∧ r.2.mem ((c.tc : Thread Cert.GatherWeightsIdeal.nD Cert.GatherWeightsIdeal.τ).loc Cert.GatherWeightsIdeal.main_arg3) = m ((c.tc : Thread Cert.GatherWeightsIdeal.nD Cert.GatherWeightsIdeal.τ).loc Cert.GatherWeightsIdeal.main_arg3))
      ∧ θ_run (Cert.GatherWeightsRefIdeal.defs (F := Ideal)) (onTc (τ := Cert.GatherWeightsRefIdeal.τ) (Cert.GatherWeightsRefIdeal.main (F := Ideal))) ⟨m', fun _ => 0, g'⟩ (fun r =>
          r.2.mem (((0 : Dev Cert.GatherWeightsRefIdeal.nD).tc : Thread Cert.GatherWeightsRefIdeal.nD Cert.GatherWeightsRefIdeal.τ).loc Cert.GatherWeightsRefIdeal.main_arg0) = v0
          ∧ r.2.mem (((0 : Dev Cert.GatherWeightsRefIdeal.nD).tc : Thread Cert.GatherWeightsRefIdeal.nD Cert.GatherWeightsRefIdeal.τ).loc Cert.GatherWeightsRefIdeal.main_arg1) = v1
          ∧ r.2.mem (((0 : Dev Cert.GatherWeightsRefIdeal.nD).tc : Thread Cert.GatherWeightsRefIdeal.nD Cert.GatherWeightsRefIdeal.τ).loc Cert.GatherWeightsRefIdeal.main_arg2) = v2
          ∧ r.2.mem (((0 : Dev Cert.GatherWeightsRefIdeal.nD).tc : Thread Cert.GatherWeightsRefIdeal.nD Cert.GatherWeightsRefIdeal.τ).loc Cert.GatherWeightsRefIdeal.main_arg3) = v3
          ∧ r.2.mem (((0 : Dev Cert.GatherWeightsRefIdeal.nD).tc : Thread Cert.GatherWeightsRefIdeal.nD Cert.GatherWeightsRefIdeal.τ).loc Cert.GatherWeightsRefIdeal.main_arg0) = m' (((0 : Dev Cert.GatherWeightsRefIdeal.nD).tc : Thread Cert.GatherWeightsRefIdeal.nD Cert.GatherWeightsRefIdeal.τ).loc Cert.GatherWeightsRefIdeal.main_arg0)
          ∧ r.2.mem (((0 : Dev Cert.GatherWeightsRefIdeal.nD).tc : Thread Cert.GatherWeightsRefIdeal.nD Cert.GatherWeightsRefIdeal.τ).loc Cert.GatherWeightsRefIdeal.main_arg1) = m' (((0 : Dev Cert.GatherWeightsRefIdeal.nD).tc : Thread Cert.GatherWeightsRefIdeal.nD Cert.GatherWeightsRefIdeal.τ).loc Cert.GatherWeightsRefIdeal.main_arg1)
          ∧ r.2.mem (((0 : Dev Cert.GatherWeightsRefIdeal.nD).tc : Thread Cert.GatherWeightsRefIdeal.nD Cert.GatherWeightsRefIdeal.τ).loc Cert.GatherWeightsRefIdeal.main_arg2) = m' (((0 : Dev Cert.GatherWeightsRefIdeal.nD).tc : Thread Cert.GatherWeightsRefIdeal.nD Cert.GatherWeightsRefIdeal.τ).loc Cert.GatherWeightsRefIdeal.main_arg2)
          ∧ r.2.mem (((0 : Dev Cert.GatherWeightsRefIdeal.nD).tc : Thread Cert.GatherWeightsRefIdeal.nD Cert.GatherWeightsRefIdeal.τ).loc Cert.GatherWeightsRefIdeal.main_arg3) = m' (((0 : Dev Cert.GatherWeightsRefIdeal.nD).tc : Thread Cert.GatherWeightsRefIdeal.nD Cert.GatherWeightsRefIdeal.τ).loc Cert.GatherWeightsRefIdeal.main_arg3))

def preserves_PairShare_PairShareIdeal : Prop :=
  True

def bitexact_PairShare_PairShareRef [hPairShare : Cert.PairShare.Facts] [hPairShareRef : Cert.PairShareRef.Facts] : Prop :=
  ∀ (m : (ℓ : Loc Cert.PairShare.nD Cert.PairShare.τ Cert.PairShare.sig) → Buf (Elt Bits) ℓ) (g : Dev Cert.PairShare.nD → PrngReg)
    (m' : (ℓ : Loc Cert.PairShareRef.nD Cert.PairShareRef.τ Cert.PairShareRef.sig) → Buf (Elt Bits) ℓ) (g' : Dev Cert.PairShareRef.nD → PrngReg), Pre_PairShare m →
    (∀ c : Dev Cert.PairShare.nD,
      m ((c.tc : Thread Cert.PairShare.nD Cert.PairShare.τ).loc Cert.PairShare.main_arg0) = Layout.blockN ⟨2, ![1024, 1408]⟩ ⟨2, ![2048, 5632]⟩ (Layout.meshBlock [2, 2, 2] ![[2], [0, 1]] c) (m' (((0 : Dev Cert.PairShareRef.nD).tc : Thread Cert.PairShareRef.nD Cert.PairShareRef.τ).loc Cert.PairShareRef.main_arg0))
      ∧ m ((c.tc : Thread Cert.PairShare.nD Cert.PairShare.τ).loc Cert.PairShare.main_arg1) = Layout.block ⟨2, ![256, 2048]⟩ ⟨2, ![2048, 2048]⟩ 0 8 c (m' (((0 : Dev Cert.PairShareRef.nD).tc : Thread Cert.PairShareRef.nD Cert.PairShareRef.τ).loc Cert.PairShareRef.main_arg1))
      ∧ m ((c.tc : Thread Cert.PairShare.nD Cert.PairShare.τ).loc Cert.PairShare.main_arg2) = Layout.blockN ⟨2, ![1024, 1536]⟩ ⟨2, ![2048, 6144]⟩ (Layout.meshBlock [2, 2, 2] ![[2], [0, 1]] c) (m' (((0 : Dev Cert.PairShareRef.nD).tc : Thread Cert.PairShareRef.nD Cert.PairShareRef.τ).loc Cert.PairShareRef.main_arg2))
      ∧ m ((c.tc : Thread Cert.PairShare.nD Cert.PairShare.τ).loc Cert.PairShare.main_arg3) = Layout.block ⟨2, ![256, 2048]⟩ ⟨2, ![2048, 2048]⟩ 0 8 c (m' (((0 : Dev Cert.PairShareRef.nD).tc : Thread Cert.PairShareRef.nD Cert.PairShareRef.τ).loc Cert.PairShareRef.main_arg3))) →
    ∃ (v0 : Buf (Elt Bits) (((0 : Dev Cert.PairShareRef.nD).tc : Thread Cert.PairShareRef.nD Cert.PairShareRef.τ).loc Cert.PairShareRef.main_arg0)) (v1 : Buf (Elt Bits) (((0 : Dev Cert.PairShareRef.nD).tc : Thread Cert.PairShareRef.nD Cert.PairShareRef.τ).loc Cert.PairShareRef.main_arg1)) (v2 : Buf (Elt Bits) (((0 : Dev Cert.PairShareRef.nD).tc : Thread Cert.PairShareRef.nD Cert.PairShareRef.τ).loc Cert.PairShareRef.main_arg2)) (v3 : Buf (Elt Bits) (((0 : Dev Cert.PairShareRef.nD).tc : Thread Cert.PairShareRef.nD Cert.PairShareRef.τ).loc Cert.PairShareRef.main_arg3)),
      θ_run (Cert.PairShare.defs (F := Bits)) (onTc (τ := Cert.PairShare.τ) (Cert.PairShare.main (F := Bits))) ⟨m, fun _ => 0, g⟩ (fun r => ∀ c : Dev Cert.PairShare.nD,
          r.2.mem ((c.tc : Thread Cert.PairShare.nD Cert.PairShare.τ).loc Cert.PairShare.main_v1_0) = Layout.blockN ⟨2, ![2048, 1408]⟩ ⟨2, ![2048, 5632]⟩ (Layout.meshBlock [2, 2, 2] ![[], [0, 1]] c) v0
          ∧ r.2.mem ((c.tc : Thread Cert.PairShare.nD Cert.PairShare.τ).loc Cert.PairShare.main_v1_1) = Layout.blockN ⟨2, ![512, 2048]⟩ ⟨2, ![2048, 2048]⟩ (Layout.meshBlock [2, 2, 2] ![[0, 1], []] c) v1
          ∧ r.2.mem ((c.tc : Thread Cert.PairShare.nD Cert.PairShare.τ).loc Cert.PairShare.main_v1_2) = Layout.blockN ⟨2, ![2048, 1536]⟩ ⟨2, ![2048, 6144]⟩ (Layout.meshBlock [2, 2, 2] ![[], [0, 1]] c) v2
          ∧ r.2.mem ((c.tc : Thread Cert.PairShare.nD Cert.PairShare.τ).loc Cert.PairShare.main_v1_3) = Layout.blockN ⟨2, ![512, 2048]⟩ ⟨2, ![2048, 2048]⟩ (Layout.meshBlock [2, 2, 2] ![[0, 1], []] c) v3
          ∧ r.2.mem ((c.tc : Thread Cert.PairShare.nD Cert.PairShare.τ).loc Cert.PairShare.main_arg0) = m ((c.tc : Thread Cert.PairShare.nD Cert.PairShare.τ).loc Cert.PairShare.main_arg0)
          ∧ r.2.mem ((c.tc : Thread Cert.PairShare.nD Cert.PairShare.τ).loc Cert.PairShare.main_arg1) = m ((c.tc : Thread Cert.PairShare.nD Cert.PairShare.τ).loc Cert.PairShare.main_arg1)
          ∧ r.2.mem ((c.tc : Thread Cert.PairShare.nD Cert.PairShare.τ).loc Cert.PairShare.main_arg2) = m ((c.tc : Thread Cert.PairShare.nD Cert.PairShare.τ).loc Cert.PairShare.main_arg2)
          ∧ r.2.mem ((c.tc : Thread Cert.PairShare.nD Cert.PairShare.τ).loc Cert.PairShare.main_arg3) = m ((c.tc : Thread Cert.PairShare.nD Cert.PairShare.τ).loc Cert.PairShare.main_arg3))
      ∧ θ_run (Cert.PairShareRef.defs (F := Bits)) (onTc (τ := Cert.PairShareRef.τ) (Cert.PairShareRef.main (F := Bits))) ⟨m', fun _ => 0, g'⟩ (fun r =>
          r.2.mem (((0 : Dev Cert.PairShareRef.nD).tc : Thread Cert.PairShareRef.nD Cert.PairShareRef.τ).loc Cert.PairShareRef.main_arg0) = v0
          ∧ r.2.mem (((0 : Dev Cert.PairShareRef.nD).tc : Thread Cert.PairShareRef.nD Cert.PairShareRef.τ).loc Cert.PairShareRef.main_arg1) = v1
          ∧ r.2.mem (((0 : Dev Cert.PairShareRef.nD).tc : Thread Cert.PairShareRef.nD Cert.PairShareRef.τ).loc Cert.PairShareRef.main_arg2) = v2
          ∧ r.2.mem (((0 : Dev Cert.PairShareRef.nD).tc : Thread Cert.PairShareRef.nD Cert.PairShareRef.τ).loc Cert.PairShareRef.main_arg3) = v3
          ∧ r.2.mem (((0 : Dev Cert.PairShareRef.nD).tc : Thread Cert.PairShareRef.nD Cert.PairShareRef.τ).loc Cert.PairShareRef.main_arg0) = m' (((0 : Dev Cert.PairShareRef.nD).tc : Thread Cert.PairShareRef.nD Cert.PairShareRef.τ).loc Cert.PairShareRef.main_arg0)
          ∧ r.2.mem (((0 : Dev Cert.PairShareRef.nD).tc : Thread Cert.PairShareRef.nD Cert.PairShareRef.τ).loc Cert.PairShareRef.main_arg1) = m' (((0 : Dev Cert.PairShareRef.nD).tc : Thread Cert.PairShareRef.nD Cert.PairShareRef.τ).loc Cert.PairShareRef.main_arg1)
          ∧ r.2.mem (((0 : Dev Cert.PairShareRef.nD).tc : Thread Cert.PairShareRef.nD Cert.PairShareRef.τ).loc Cert.PairShareRef.main_arg2) = m' (((0 : Dev Cert.PairShareRef.nD).tc : Thread Cert.PairShareRef.nD Cert.PairShareRef.τ).loc Cert.PairShareRef.main_arg2)
          ∧ r.2.mem (((0 : Dev Cert.PairShareRef.nD).tc : Thread Cert.PairShareRef.nD Cert.PairShareRef.τ).loc Cert.PairShareRef.main_arg3) = m' (((0 : Dev Cert.PairShareRef.nD).tc : Thread Cert.PairShareRef.nD Cert.PairShareRef.τ).loc Cert.PairShareRef.main_arg3))

def algebraic_PairShareIdeal_PairShareRefIdeal [hPairShareIdeal : Cert.PairShareIdeal.Facts] [hPairShareRefIdeal : Cert.PairShareRefIdeal.Facts] : Prop :=
  ∀ (m : (ℓ : Loc Cert.PairShareIdeal.nD Cert.PairShareIdeal.τ Cert.PairShareIdeal.sig) → Buf (Elt Ideal) ℓ) (g : Dev Cert.PairShareIdeal.nD → PrngReg)
    (m' : (ℓ : Loc Cert.PairShareRefIdeal.nD Cert.PairShareRefIdeal.τ Cert.PairShareRefIdeal.sig) → Buf (Elt Ideal) ℓ) (g' : Dev Cert.PairShareRefIdeal.nD → PrngReg), Pre_PairShareIdeal m →
    (∀ c : Dev Cert.PairShareIdeal.nD,
      m ((c.tc : Thread Cert.PairShareIdeal.nD Cert.PairShareIdeal.τ).loc Cert.PairShareIdeal.main_arg0) = Layout.blockN ⟨2, ![1024, 1408]⟩ ⟨2, ![2048, 5632]⟩ (Layout.meshBlock [2, 2, 2] ![[2], [0, 1]] c) (m' (((0 : Dev Cert.PairShareRefIdeal.nD).tc : Thread Cert.PairShareRefIdeal.nD Cert.PairShareRefIdeal.τ).loc Cert.PairShareRefIdeal.main_arg0))
      ∧ m ((c.tc : Thread Cert.PairShareIdeal.nD Cert.PairShareIdeal.τ).loc Cert.PairShareIdeal.main_arg1) = Layout.block ⟨2, ![256, 2048]⟩ ⟨2, ![2048, 2048]⟩ 0 8 c (m' (((0 : Dev Cert.PairShareRefIdeal.nD).tc : Thread Cert.PairShareRefIdeal.nD Cert.PairShareRefIdeal.τ).loc Cert.PairShareRefIdeal.main_arg1))
      ∧ m ((c.tc : Thread Cert.PairShareIdeal.nD Cert.PairShareIdeal.τ).loc Cert.PairShareIdeal.main_arg2) = Layout.blockN ⟨2, ![1024, 1536]⟩ ⟨2, ![2048, 6144]⟩ (Layout.meshBlock [2, 2, 2] ![[2], [0, 1]] c) (m' (((0 : Dev Cert.PairShareRefIdeal.nD).tc : Thread Cert.PairShareRefIdeal.nD Cert.PairShareRefIdeal.τ).loc Cert.PairShareRefIdeal.main_arg2))
      ∧ m ((c.tc : Thread Cert.PairShareIdeal.nD Cert.PairShareIdeal.τ).loc Cert.PairShareIdeal.main_arg3) = Layout.block ⟨2, ![256, 2048]⟩ ⟨2, ![2048, 2048]⟩ 0 8 c (m' (((0 : Dev Cert.PairShareRefIdeal.nD).tc : Thread Cert.PairShareRefIdeal.nD Cert.PairShareRefIdeal.τ).loc Cert.PairShareRefIdeal.main_arg3))) →
    ∃ (v0 : Buf (Elt Ideal) (((0 : Dev Cert.PairShareRefIdeal.nD).tc : Thread Cert.PairShareRefIdeal.nD Cert.PairShareRefIdeal.τ).loc Cert.PairShareRefIdeal.main_arg0)) (v1 : Buf (Elt Ideal) (((0 : Dev Cert.PairShareRefIdeal.nD).tc : Thread Cert.PairShareRefIdeal.nD Cert.PairShareRefIdeal.τ).loc Cert.PairShareRefIdeal.main_arg1)) (v2 : Buf (Elt Ideal) (((0 : Dev Cert.PairShareRefIdeal.nD).tc : Thread Cert.PairShareRefIdeal.nD Cert.PairShareRefIdeal.τ).loc Cert.PairShareRefIdeal.main_arg2)) (v3 : Buf (Elt Ideal) (((0 : Dev Cert.PairShareRefIdeal.nD).tc : Thread Cert.PairShareRefIdeal.nD Cert.PairShareRefIdeal.τ).loc Cert.PairShareRefIdeal.main_arg3)),
      θ_run (Cert.PairShareIdeal.defs (F := Ideal)) (onTc (τ := Cert.PairShareIdeal.τ) (Cert.PairShareIdeal.main (F := Ideal))) ⟨m, fun _ => 0, g⟩ (fun r => ∀ c : Dev Cert.PairShareIdeal.nD,
          r.2.mem ((c.tc : Thread Cert.PairShareIdeal.nD Cert.PairShareIdeal.τ).loc Cert.PairShareIdeal.main_v1_0) = Layout.blockN ⟨2, ![2048, 1408]⟩ ⟨2, ![2048, 5632]⟩ (Layout.meshBlock [2, 2, 2] ![[], [0, 1]] c) v0
          ∧ r.2.mem ((c.tc : Thread Cert.PairShareIdeal.nD Cert.PairShareIdeal.τ).loc Cert.PairShareIdeal.main_v1_1) = Layout.blockN ⟨2, ![512, 2048]⟩ ⟨2, ![2048, 2048]⟩ (Layout.meshBlock [2, 2, 2] ![[0, 1], []] c) v1
          ∧ r.2.mem ((c.tc : Thread Cert.PairShareIdeal.nD Cert.PairShareIdeal.τ).loc Cert.PairShareIdeal.main_v1_2) = Layout.blockN ⟨2, ![2048, 1536]⟩ ⟨2, ![2048, 6144]⟩ (Layout.meshBlock [2, 2, 2] ![[], [0, 1]] c) v2
          ∧ r.2.mem ((c.tc : Thread Cert.PairShareIdeal.nD Cert.PairShareIdeal.τ).loc Cert.PairShareIdeal.main_v1_3) = Layout.blockN ⟨2, ![512, 2048]⟩ ⟨2, ![2048, 2048]⟩ (Layout.meshBlock [2, 2, 2] ![[0, 1], []] c) v3
          ∧ r.2.mem ((c.tc : Thread Cert.PairShareIdeal.nD Cert.PairShareIdeal.τ).loc Cert.PairShareIdeal.main_arg0) = m ((c.tc : Thread Cert.PairShareIdeal.nD Cert.PairShareIdeal.τ).loc Cert.PairShareIdeal.main_arg0)
          ∧ r.2.mem ((c.tc : Thread Cert.PairShareIdeal.nD Cert.PairShareIdeal.τ).loc Cert.PairShareIdeal.main_arg1) = m ((c.tc : Thread Cert.PairShareIdeal.nD Cert.PairShareIdeal.τ).loc Cert.PairShareIdeal.main_arg1)
          ∧ r.2.mem ((c.tc : Thread Cert.PairShareIdeal.nD Cert.PairShareIdeal.τ).loc Cert.PairShareIdeal.main_arg2) = m ((c.tc : Thread Cert.PairShareIdeal.nD Cert.PairShareIdeal.τ).loc Cert.PairShareIdeal.main_arg2)
          ∧ r.2.mem ((c.tc : Thread Cert.PairShareIdeal.nD Cert.PairShareIdeal.τ).loc Cert.PairShareIdeal.main_arg3) = m ((c.tc : Thread Cert.PairShareIdeal.nD Cert.PairShareIdeal.τ).loc Cert.PairShareIdeal.main_arg3))
      ∧ θ_run (Cert.PairShareRefIdeal.defs (F := Ideal)) (onTc (τ := Cert.PairShareRefIdeal.τ) (Cert.PairShareRefIdeal.main (F := Ideal))) ⟨m', fun _ => 0, g'⟩ (fun r =>
          r.2.mem (((0 : Dev Cert.PairShareRefIdeal.nD).tc : Thread Cert.PairShareRefIdeal.nD Cert.PairShareRefIdeal.τ).loc Cert.PairShareRefIdeal.main_arg0) = v0
          ∧ r.2.mem (((0 : Dev Cert.PairShareRefIdeal.nD).tc : Thread Cert.PairShareRefIdeal.nD Cert.PairShareRefIdeal.τ).loc Cert.PairShareRefIdeal.main_arg1) = v1
          ∧ r.2.mem (((0 : Dev Cert.PairShareRefIdeal.nD).tc : Thread Cert.PairShareRefIdeal.nD Cert.PairShareRefIdeal.τ).loc Cert.PairShareRefIdeal.main_arg2) = v2
          ∧ r.2.mem (((0 : Dev Cert.PairShareRefIdeal.nD).tc : Thread Cert.PairShareRefIdeal.nD Cert.PairShareRefIdeal.τ).loc Cert.PairShareRefIdeal.main_arg3) = v3
          ∧ r.2.mem (((0 : Dev Cert.PairShareRefIdeal.nD).tc : Thread Cert.PairShareRefIdeal.nD Cert.PairShareRefIdeal.τ).loc Cert.PairShareRefIdeal.main_arg0) = m' (((0 : Dev Cert.PairShareRefIdeal.nD).tc : Thread Cert.PairShareRefIdeal.nD Cert.PairShareRefIdeal.τ).loc Cert.PairShareRefIdeal.main_arg0)
          ∧ r.2.mem (((0 : Dev Cert.PairShareRefIdeal.nD).tc : Thread Cert.PairShareRefIdeal.nD Cert.PairShareRefIdeal.τ).loc Cert.PairShareRefIdeal.main_arg1) = m' (((0 : Dev Cert.PairShareRefIdeal.nD).tc : Thread Cert.PairShareRefIdeal.nD Cert.PairShareRefIdeal.τ).loc Cert.PairShareRefIdeal.main_arg1)
          ∧ r.2.mem (((0 : Dev Cert.PairShareRefIdeal.nD).tc : Thread Cert.PairShareRefIdeal.nD Cert.PairShareRefIdeal.τ).loc Cert.PairShareRefIdeal.main_arg2) = m' (((0 : Dev Cert.PairShareRefIdeal.nD).tc : Thread Cert.PairShareRefIdeal.nD Cert.PairShareRefIdeal.τ).loc Cert.PairShareRefIdeal.main_arg2)
          ∧ r.2.mem (((0 : Dev Cert.PairShareRefIdeal.nD).tc : Thread Cert.PairShareRefIdeal.nD Cert.PairShareRefIdeal.τ).loc Cert.PairShareRefIdeal.main_arg3) = m' (((0 : Dev Cert.PairShareRefIdeal.nD).tc : Thread Cert.PairShareRefIdeal.nD Cert.PairShareRefIdeal.τ).loc Cert.PairShareRefIdeal.main_arg3))

def preserves_PairSumEvIn_PairSumEvInIdeal : Prop :=
  True

def bitexact_PairSumEvIn_PairSumEvInRef [hPairSumEvIn : Cert.PairSumEvIn.Facts] [hPairSumEvInRef : Cert.PairSumEvInRef.Facts] : Prop :=
  ∀ (m : (ℓ : Loc Cert.PairSumEvIn.nD Cert.PairSumEvIn.τ Cert.PairSumEvIn.sig) → Buf (Elt Bits) ℓ) (g : Dev Cert.PairSumEvIn.nD → PrngReg)
    (m' : (ℓ : Loc Cert.PairSumEvInRef.nD Cert.PairSumEvInRef.τ Cert.PairSumEvInRef.sig) → Buf (Elt Bits) ℓ) (g' : Dev Cert.PairSumEvInRef.nD → PrngReg), Pre_PairSumEvIn m →
    (∀ c : Dev Cert.PairSumEvIn.nD,
      m' ((c.tc : Thread Cert.PairSumEvInRef.nD Cert.PairSumEvInRef.τ).loc Cert.PairSumEvInRef.main_arg0) = m ((c.tc : Thread Cert.PairSumEvIn.nD Cert.PairSumEvIn.τ).loc Cert.PairSumEvIn.main_arg0)
      ∧ m' ((c.tc : Thread Cert.PairSumEvInRef.nD Cert.PairSumEvInRef.τ).loc Cert.PairSumEvInRef.main_arg1) = m ((c.tc : Thread Cert.PairSumEvIn.nD Cert.PairSumEvIn.τ).loc Cert.PairSumEvIn.main_arg1)) →
    ∃ (v0 : (c : Dev Cert.PairSumEvIn.nD) → Buf (Elt Bits) ((c.tc : Thread Cert.PairSumEvIn.nD Cert.PairSumEvIn.τ).loc Cert.PairSumEvIn.main_v0)),
      θ_run (Cert.PairSumEvIn.defs (F := Bits)) (onTc (τ := Cert.PairSumEvIn.τ) (Cert.PairSumEvIn.main (F := Bits))) ⟨m, fun _ => 0, g⟩ (fun r => ∀ c : Dev Cert.PairSumEvIn.nD,
          r.2.mem ((c.tc : Thread Cert.PairSumEvIn.nD Cert.PairSumEvIn.τ).loc Cert.PairSumEvIn.main_v0) = v0 c
          ∧ r.2.mem ((c.tc : Thread Cert.PairSumEvIn.nD Cert.PairSumEvIn.τ).loc Cert.PairSumEvIn.main_arg0) = m ((c.tc : Thread Cert.PairSumEvIn.nD Cert.PairSumEvIn.τ).loc Cert.PairSumEvIn.main_arg0)
          ∧ r.2.mem ((c.tc : Thread Cert.PairSumEvIn.nD Cert.PairSumEvIn.τ).loc Cert.PairSumEvIn.main_arg1) = m ((c.tc : Thread Cert.PairSumEvIn.nD Cert.PairSumEvIn.τ).loc Cert.PairSumEvIn.main_arg1))
      ∧ θ_run (Cert.PairSumEvInRef.defs (F := Bits)) (onTc (τ := Cert.PairSumEvInRef.τ) (Cert.PairSumEvInRef.main (F := Bits))) ⟨m', fun _ => 0, g'⟩ (fun r => ∀ c : Dev Cert.PairSumEvInRef.nD,
          r.2.mem ((c.tc : Thread Cert.PairSumEvInRef.nD Cert.PairSumEvInRef.τ).loc Cert.PairSumEvInRef.main_v0) = v0 c
          ∧ r.2.mem ((c.tc : Thread Cert.PairSumEvInRef.nD Cert.PairSumEvInRef.τ).loc Cert.PairSumEvInRef.main_arg0) = m' ((c.tc : Thread Cert.PairSumEvInRef.nD Cert.PairSumEvInRef.τ).loc Cert.PairSumEvInRef.main_arg0)
          ∧ r.2.mem ((c.tc : Thread Cert.PairSumEvInRef.nD Cert.PairSumEvInRef.τ).loc Cert.PairSumEvInRef.main_arg1) = m' ((c.tc : Thread Cert.PairSumEvInRef.nD Cert.PairSumEvInRef.τ).loc Cert.PairSumEvInRef.main_arg1))

def algebraic_PairSumEvInIdeal_PairSumEvInRefIdeal [hPairSumEvInIdeal : Cert.PairSumEvInIdeal.Facts] [hPairSumEvInRefIdeal : Cert.PairSumEvInRefIdeal.Facts] : Prop :=
  ∀ (m : (ℓ : Loc Cert.PairSumEvInIdeal.nD Cert.PairSumEvInIdeal.τ Cert.PairSumEvInIdeal.sig) → Buf (Elt Ideal) ℓ) (g : Dev Cert.PairSumEvInIdeal.nD → PrngReg)
    (m' : (ℓ : Loc Cert.PairSumEvInRefIdeal.nD Cert.PairSumEvInRefIdeal.τ Cert.PairSumEvInRefIdeal.sig) → Buf (Elt Ideal) ℓ) (g' : Dev Cert.PairSumEvInRefIdeal.nD → PrngReg), Pre_PairSumEvInIdeal m →
    (∀ c : Dev Cert.PairSumEvInIdeal.nD,
      m' ((c.tc : Thread Cert.PairSumEvInRefIdeal.nD Cert.PairSumEvInRefIdeal.τ).loc Cert.PairSumEvInRefIdeal.main_arg0) = m ((c.tc : Thread Cert.PairSumEvInIdeal.nD Cert.PairSumEvInIdeal.τ).loc Cert.PairSumEvInIdeal.main_arg0)
      ∧ m' ((c.tc : Thread Cert.PairSumEvInRefIdeal.nD Cert.PairSumEvInRefIdeal.τ).loc Cert.PairSumEvInRefIdeal.main_arg1) = m ((c.tc : Thread Cert.PairSumEvInIdeal.nD Cert.PairSumEvInIdeal.τ).loc Cert.PairSumEvInIdeal.main_arg1)) →
    ∃ (v0 : (c : Dev Cert.PairSumEvInIdeal.nD) → Buf (Elt Ideal) ((c.tc : Thread Cert.PairSumEvInIdeal.nD Cert.PairSumEvInIdeal.τ).loc Cert.PairSumEvInIdeal.main_v0)),
      θ_run (Cert.PairSumEvInIdeal.defs (F := Ideal)) (onTc (τ := Cert.PairSumEvInIdeal.τ) (Cert.PairSumEvInIdeal.main (F := Ideal))) ⟨m, fun _ => 0, g⟩ (fun r => ∀ c : Dev Cert.PairSumEvInIdeal.nD,
          r.2.mem ((c.tc : Thread Cert.PairSumEvInIdeal.nD Cert.PairSumEvInIdeal.τ).loc Cert.PairSumEvInIdeal.main_v0) = v0 c
          ∧ r.2.mem ((c.tc : Thread Cert.PairSumEvInIdeal.nD Cert.PairSumEvInIdeal.τ).loc Cert.PairSumEvInIdeal.main_arg0) = m ((c.tc : Thread Cert.PairSumEvInIdeal.nD Cert.PairSumEvInIdeal.τ).loc Cert.PairSumEvInIdeal.main_arg0)
          ∧ r.2.mem ((c.tc : Thread Cert.PairSumEvInIdeal.nD Cert.PairSumEvInIdeal.τ).loc Cert.PairSumEvInIdeal.main_arg1) = m ((c.tc : Thread Cert.PairSumEvInIdeal.nD Cert.PairSumEvInIdeal.τ).loc Cert.PairSumEvInIdeal.main_arg1))
      ∧ θ_run (Cert.PairSumEvInRefIdeal.defs (F := Ideal)) (onTc (τ := Cert.PairSumEvInRefIdeal.τ) (Cert.PairSumEvInRefIdeal.main (F := Ideal))) ⟨m', fun _ => 0, g'⟩ (fun r => ∀ c : Dev Cert.PairSumEvInRefIdeal.nD,
          r.2.mem ((c.tc : Thread Cert.PairSumEvInRefIdeal.nD Cert.PairSumEvInRefIdeal.τ).loc Cert.PairSumEvInRefIdeal.main_v0) = v0 c
          ∧ r.2.mem ((c.tc : Thread Cert.PairSumEvInRefIdeal.nD Cert.PairSumEvInRefIdeal.τ).loc Cert.PairSumEvInRefIdeal.main_arg0) = m' ((c.tc : Thread Cert.PairSumEvInRefIdeal.nD Cert.PairSumEvInRefIdeal.τ).loc Cert.PairSumEvInRefIdeal.main_arg0)
          ∧ r.2.mem ((c.tc : Thread Cert.PairSumEvInRefIdeal.nD Cert.PairSumEvInRefIdeal.τ).loc Cert.PairSumEvInRefIdeal.main_arg1) = m' ((c.tc : Thread Cert.PairSumEvInRefIdeal.nD Cert.PairSumEvInRefIdeal.τ).loc Cert.PairSumEvInRefIdeal.main_arg1))

def preserves_PairSumOut_PairSumOutIdeal : Prop :=
  True

def bitexact_PairSumOut_PairSumOutRef [hPairSumOut : Cert.PairSumOut.Facts] [hPairSumOutRef : Cert.PairSumOutRef.Facts] : Prop :=
  ∀ (m : (ℓ : Loc Cert.PairSumOut.nD Cert.PairSumOut.τ Cert.PairSumOut.sig) → Buf (Elt Bits) ℓ) (g : Dev Cert.PairSumOut.nD → PrngReg)
    (m' : (ℓ : Loc Cert.PairSumOutRef.nD Cert.PairSumOutRef.τ Cert.PairSumOutRef.sig) → Buf (Elt Bits) ℓ) (g' : Dev Cert.PairSumOutRef.nD → PrngReg), Pre_PairSumOut m →
    (∀ c : Dev Cert.PairSumOut.nD,
      m' ((c.tc : Thread Cert.PairSumOutRef.nD Cert.PairSumOutRef.τ).loc Cert.PairSumOutRef.main_arg0) = m ((c.tc : Thread Cert.PairSumOut.nD Cert.PairSumOut.τ).loc Cert.PairSumOut.main_arg0)
      ∧ m' ((c.tc : Thread Cert.PairSumOutRef.nD Cert.PairSumOutRef.τ).loc Cert.PairSumOutRef.main_arg1) = m ((c.tc : Thread Cert.PairSumOut.nD Cert.PairSumOut.τ).loc Cert.PairSumOut.main_arg1)) →
    ∃ (v0 : (c : Dev Cert.PairSumOut.nD) → Buf (Elt Bits) ((c.tc : Thread Cert.PairSumOut.nD Cert.PairSumOut.τ).loc Cert.PairSumOut.main_v0)),
      θ_run (Cert.PairSumOut.defs (F := Bits)) (onTc (τ := Cert.PairSumOut.τ) (Cert.PairSumOut.main (F := Bits))) ⟨m, fun _ => 0, g⟩ (fun r => ∀ c : Dev Cert.PairSumOut.nD,
          r.2.mem ((c.tc : Thread Cert.PairSumOut.nD Cert.PairSumOut.τ).loc Cert.PairSumOut.main_v0) = v0 c
          ∧ r.2.mem ((c.tc : Thread Cert.PairSumOut.nD Cert.PairSumOut.τ).loc Cert.PairSumOut.main_arg0) = m ((c.tc : Thread Cert.PairSumOut.nD Cert.PairSumOut.τ).loc Cert.PairSumOut.main_arg0)
          ∧ r.2.mem ((c.tc : Thread Cert.PairSumOut.nD Cert.PairSumOut.τ).loc Cert.PairSumOut.main_arg1) = m ((c.tc : Thread Cert.PairSumOut.nD Cert.PairSumOut.τ).loc Cert.PairSumOut.main_arg1))
      ∧ θ_run (Cert.PairSumOutRef.defs (F := Bits)) (onTc (τ := Cert.PairSumOutRef.τ) (Cert.PairSumOutRef.main (F := Bits))) ⟨m', fun _ => 0, g'⟩ (fun r => ∀ c : Dev Cert.PairSumOutRef.nD,
          r.2.mem ((c.tc : Thread Cert.PairSumOutRef.nD Cert.PairSumOutRef.τ).loc Cert.PairSumOutRef.main_v0) = v0 c
          ∧ r.2.mem ((c.tc : Thread Cert.PairSumOutRef.nD Cert.PairSumOutRef.τ).loc Cert.PairSumOutRef.main_arg0) = m' ((c.tc : Thread Cert.PairSumOutRef.nD Cert.PairSumOutRef.τ).loc Cert.PairSumOutRef.main_arg0)
          ∧ r.2.mem ((c.tc : Thread Cert.PairSumOutRef.nD Cert.PairSumOutRef.τ).loc Cert.PairSumOutRef.main_arg1) = m' ((c.tc : Thread Cert.PairSumOutRef.nD Cert.PairSumOutRef.τ).loc Cert.PairSumOutRef.main_arg1))

def algebraic_PairSumOutIdeal_PairSumOutRefIdeal [hPairSumOutIdeal : Cert.PairSumOutIdeal.Facts] [hPairSumOutRefIdeal : Cert.PairSumOutRefIdeal.Facts] : Prop :=
  ∀ (m : (ℓ : Loc Cert.PairSumOutIdeal.nD Cert.PairSumOutIdeal.τ Cert.PairSumOutIdeal.sig) → Buf (Elt Ideal) ℓ) (g : Dev Cert.PairSumOutIdeal.nD → PrngReg)
    (m' : (ℓ : Loc Cert.PairSumOutRefIdeal.nD Cert.PairSumOutRefIdeal.τ Cert.PairSumOutRefIdeal.sig) → Buf (Elt Ideal) ℓ) (g' : Dev Cert.PairSumOutRefIdeal.nD → PrngReg), Pre_PairSumOutIdeal m →
    (∀ c : Dev Cert.PairSumOutIdeal.nD,
      m' ((c.tc : Thread Cert.PairSumOutRefIdeal.nD Cert.PairSumOutRefIdeal.τ).loc Cert.PairSumOutRefIdeal.main_arg0) = m ((c.tc : Thread Cert.PairSumOutIdeal.nD Cert.PairSumOutIdeal.τ).loc Cert.PairSumOutIdeal.main_arg0)
      ∧ m' ((c.tc : Thread Cert.PairSumOutRefIdeal.nD Cert.PairSumOutRefIdeal.τ).loc Cert.PairSumOutRefIdeal.main_arg1) = m ((c.tc : Thread Cert.PairSumOutIdeal.nD Cert.PairSumOutIdeal.τ).loc Cert.PairSumOutIdeal.main_arg1)) →
    ∃ (v0 : (c : Dev Cert.PairSumOutIdeal.nD) → Buf (Elt Ideal) ((c.tc : Thread Cert.PairSumOutIdeal.nD Cert.PairSumOutIdeal.τ).loc Cert.PairSumOutIdeal.main_v0)),
      θ_run (Cert.PairSumOutIdeal.defs (F := Ideal)) (onTc (τ := Cert.PairSumOutIdeal.τ) (Cert.PairSumOutIdeal.main (F := Ideal))) ⟨m, fun _ => 0, g⟩ (fun r => ∀ c : Dev Cert.PairSumOutIdeal.nD,
          r.2.mem ((c.tc : Thread Cert.PairSumOutIdeal.nD Cert.PairSumOutIdeal.τ).loc Cert.PairSumOutIdeal.main_v0) = v0 c
          ∧ r.2.mem ((c.tc : Thread Cert.PairSumOutIdeal.nD Cert.PairSumOutIdeal.τ).loc Cert.PairSumOutIdeal.main_arg0) = m ((c.tc : Thread Cert.PairSumOutIdeal.nD Cert.PairSumOutIdeal.τ).loc Cert.PairSumOutIdeal.main_arg0)
          ∧ r.2.mem ((c.tc : Thread Cert.PairSumOutIdeal.nD Cert.PairSumOutIdeal.τ).loc Cert.PairSumOutIdeal.main_arg1) = m ((c.tc : Thread Cert.PairSumOutIdeal.nD Cert.PairSumOutIdeal.τ).loc Cert.PairSumOutIdeal.main_arg1))
      ∧ θ_run (Cert.PairSumOutRefIdeal.defs (F := Ideal)) (onTc (τ := Cert.PairSumOutRefIdeal.τ) (Cert.PairSumOutRefIdeal.main (F := Ideal))) ⟨m', fun _ => 0, g'⟩ (fun r => ∀ c : Dev Cert.PairSumOutRefIdeal.nD,
          r.2.mem ((c.tc : Thread Cert.PairSumOutRefIdeal.nD Cert.PairSumOutRefIdeal.τ).loc Cert.PairSumOutRefIdeal.main_v0) = v0 c
          ∧ r.2.mem ((c.tc : Thread Cert.PairSumOutRefIdeal.nD Cert.PairSumOutRefIdeal.τ).loc Cert.PairSumOutRefIdeal.main_arg0) = m' ((c.tc : Thread Cert.PairSumOutRefIdeal.nD Cert.PairSumOutRefIdeal.τ).loc Cert.PairSumOutRefIdeal.main_arg0)
          ∧ r.2.mem ((c.tc : Thread Cert.PairSumOutRefIdeal.nD Cert.PairSumOutRefIdeal.τ).loc Cert.PairSumOutRefIdeal.main_arg1) = m' ((c.tc : Thread Cert.PairSumOutRefIdeal.nD Cert.PairSumOutRefIdeal.τ).loc Cert.PairSumOutRefIdeal.main_arg1))

def preserves_PairSumOdIn_PairSumOdInIdeal : Prop :=
  True

def bitexact_PairSumOdIn_PairSumOdInRef [hPairSumOdIn : Cert.PairSumOdIn.Facts] [hPairSumOdInRef : Cert.PairSumOdInRef.Facts] : Prop :=
  ∀ (m : (ℓ : Loc Cert.PairSumOdIn.nD Cert.PairSumOdIn.τ Cert.PairSumOdIn.sig) → Buf (Elt Bits) ℓ) (g : Dev Cert.PairSumOdIn.nD → PrngReg)
    (m' : (ℓ : Loc Cert.PairSumOdInRef.nD Cert.PairSumOdInRef.τ Cert.PairSumOdInRef.sig) → Buf (Elt Bits) ℓ) (g' : Dev Cert.PairSumOdInRef.nD → PrngReg), Pre_PairSumOdIn m →
    (∀ c : Dev Cert.PairSumOdIn.nD,
      m' ((c.tc : Thread Cert.PairSumOdInRef.nD Cert.PairSumOdInRef.τ).loc Cert.PairSumOdInRef.main_arg0) = m ((c.tc : Thread Cert.PairSumOdIn.nD Cert.PairSumOdIn.τ).loc Cert.PairSumOdIn.main_arg0)
      ∧ m' ((c.tc : Thread Cert.PairSumOdInRef.nD Cert.PairSumOdInRef.τ).loc Cert.PairSumOdInRef.main_arg1) = m ((c.tc : Thread Cert.PairSumOdIn.nD Cert.PairSumOdIn.τ).loc Cert.PairSumOdIn.main_arg1)) →
    ∃ (v0 : (c : Dev Cert.PairSumOdIn.nD) → Buf (Elt Bits) ((c.tc : Thread Cert.PairSumOdIn.nD Cert.PairSumOdIn.τ).loc Cert.PairSumOdIn.main_v0)),
      θ_run (Cert.PairSumOdIn.defs (F := Bits)) (onTc (τ := Cert.PairSumOdIn.τ) (Cert.PairSumOdIn.main (F := Bits))) ⟨m, fun _ => 0, g⟩ (fun r => ∀ c : Dev Cert.PairSumOdIn.nD,
          r.2.mem ((c.tc : Thread Cert.PairSumOdIn.nD Cert.PairSumOdIn.τ).loc Cert.PairSumOdIn.main_v0) = v0 c
          ∧ r.2.mem ((c.tc : Thread Cert.PairSumOdIn.nD Cert.PairSumOdIn.τ).loc Cert.PairSumOdIn.main_arg0) = m ((c.tc : Thread Cert.PairSumOdIn.nD Cert.PairSumOdIn.τ).loc Cert.PairSumOdIn.main_arg0)
          ∧ r.2.mem ((c.tc : Thread Cert.PairSumOdIn.nD Cert.PairSumOdIn.τ).loc Cert.PairSumOdIn.main_arg1) = m ((c.tc : Thread Cert.PairSumOdIn.nD Cert.PairSumOdIn.τ).loc Cert.PairSumOdIn.main_arg1))
      ∧ θ_run (Cert.PairSumOdInRef.defs (F := Bits)) (onTc (τ := Cert.PairSumOdInRef.τ) (Cert.PairSumOdInRef.main (F := Bits))) ⟨m', fun _ => 0, g'⟩ (fun r => ∀ c : Dev Cert.PairSumOdInRef.nD,
          r.2.mem ((c.tc : Thread Cert.PairSumOdInRef.nD Cert.PairSumOdInRef.τ).loc Cert.PairSumOdInRef.main_v0) = v0 c
          ∧ r.2.mem ((c.tc : Thread Cert.PairSumOdInRef.nD Cert.PairSumOdInRef.τ).loc Cert.PairSumOdInRef.main_arg0) = m' ((c.tc : Thread Cert.PairSumOdInRef.nD Cert.PairSumOdInRef.τ).loc Cert.PairSumOdInRef.main_arg0)
          ∧ r.2.mem ((c.tc : Thread Cert.PairSumOdInRef.nD Cert.PairSumOdInRef.τ).loc Cert.PairSumOdInRef.main_arg1) = m' ((c.tc : Thread Cert.PairSumOdInRef.nD Cert.PairSumOdInRef.τ).loc Cert.PairSumOdInRef.main_arg1))

def algebraic_PairSumOdInIdeal_PairSumOdInRefIdeal [hPairSumOdInIdeal : Cert.PairSumOdInIdeal.Facts] [hPairSumOdInRefIdeal : Cert.PairSumOdInRefIdeal.Facts] : Prop :=
  ∀ (m : (ℓ : Loc Cert.PairSumOdInIdeal.nD Cert.PairSumOdInIdeal.τ Cert.PairSumOdInIdeal.sig) → Buf (Elt Ideal) ℓ) (g : Dev Cert.PairSumOdInIdeal.nD → PrngReg)
    (m' : (ℓ : Loc Cert.PairSumOdInRefIdeal.nD Cert.PairSumOdInRefIdeal.τ Cert.PairSumOdInRefIdeal.sig) → Buf (Elt Ideal) ℓ) (g' : Dev Cert.PairSumOdInRefIdeal.nD → PrngReg), Pre_PairSumOdInIdeal m →
    (∀ c : Dev Cert.PairSumOdInIdeal.nD,
      m' ((c.tc : Thread Cert.PairSumOdInRefIdeal.nD Cert.PairSumOdInRefIdeal.τ).loc Cert.PairSumOdInRefIdeal.main_arg0) = m ((c.tc : Thread Cert.PairSumOdInIdeal.nD Cert.PairSumOdInIdeal.τ).loc Cert.PairSumOdInIdeal.main_arg0)
      ∧ m' ((c.tc : Thread Cert.PairSumOdInRefIdeal.nD Cert.PairSumOdInRefIdeal.τ).loc Cert.PairSumOdInRefIdeal.main_arg1) = m ((c.tc : Thread Cert.PairSumOdInIdeal.nD Cert.PairSumOdInIdeal.τ).loc Cert.PairSumOdInIdeal.main_arg1)) →
    ∃ (v0 : (c : Dev Cert.PairSumOdInIdeal.nD) → Buf (Elt Ideal) ((c.tc : Thread Cert.PairSumOdInIdeal.nD Cert.PairSumOdInIdeal.τ).loc Cert.PairSumOdInIdeal.main_v0)),
      θ_run (Cert.PairSumOdInIdeal.defs (F := Ideal)) (onTc (τ := Cert.PairSumOdInIdeal.τ) (Cert.PairSumOdInIdeal.main (F := Ideal))) ⟨m, fun _ => 0, g⟩ (fun r => ∀ c : Dev Cert.PairSumOdInIdeal.nD,
          r.2.mem ((c.tc : Thread Cert.PairSumOdInIdeal.nD Cert.PairSumOdInIdeal.τ).loc Cert.PairSumOdInIdeal.main_v0) = v0 c
          ∧ r.2.mem ((c.tc : Thread Cert.PairSumOdInIdeal.nD Cert.PairSumOdInIdeal.τ).loc Cert.PairSumOdInIdeal.main_arg0) = m ((c.tc : Thread Cert.PairSumOdInIdeal.nD Cert.PairSumOdInIdeal.τ).loc Cert.PairSumOdInIdeal.main_arg0)
          ∧ r.2.mem ((c.tc : Thread Cert.PairSumOdInIdeal.nD Cert.PairSumOdInIdeal.τ).loc Cert.PairSumOdInIdeal.main_arg1) = m ((c.tc : Thread Cert.PairSumOdInIdeal.nD Cert.PairSumOdInIdeal.τ).loc Cert.PairSumOdInIdeal.main_arg1))
      ∧ θ_run (Cert.PairSumOdInRefIdeal.defs (F := Ideal)) (onTc (τ := Cert.PairSumOdInRefIdeal.τ) (Cert.PairSumOdInRefIdeal.main (F := Ideal))) ⟨m', fun _ => 0, g'⟩ (fun r => ∀ c : Dev Cert.PairSumOdInRefIdeal.nD,
          r.2.mem ((c.tc : Thread Cert.PairSumOdInRefIdeal.nD Cert.PairSumOdInRefIdeal.τ).loc Cert.PairSumOdInRefIdeal.main_v0) = v0 c
          ∧ r.2.mem ((c.tc : Thread Cert.PairSumOdInRefIdeal.nD Cert.PairSumOdInRefIdeal.τ).loc Cert.PairSumOdInRefIdeal.main_arg0) = m' ((c.tc : Thread Cert.PairSumOdInRefIdeal.nD Cert.PairSumOdInRefIdeal.τ).loc Cert.PairSumOdInRefIdeal.main_arg0)
          ∧ r.2.mem ((c.tc : Thread Cert.PairSumOdInRefIdeal.nD Cert.PairSumOdInRefIdeal.τ).loc Cert.PairSumOdInRefIdeal.main_arg1) = m' ((c.tc : Thread Cert.PairSumOdInRefIdeal.nD Cert.PairSumOdInRefIdeal.τ).loc Cert.PairSumOdInRefIdeal.main_arg1))

def preserves_SlotSumEvIn_SlotSumEvInIdeal : Prop :=
  True

def algebraic_SlotSumEvInIdeal_SlotSumEvInRefIdeal [hSlotSumEvInIdeal : Cert.SlotSumEvInIdeal.Facts] [hSlotSumEvInRefIdeal : Cert.SlotSumEvInRefIdeal.Facts] : Prop :=
  ∀ (m : (ℓ : Loc Cert.SlotSumEvInIdeal.nD Cert.SlotSumEvInIdeal.τ Cert.SlotSumEvInIdeal.sig) → Buf (Elt Ideal) ℓ) (g : Dev Cert.SlotSumEvInIdeal.nD → PrngReg)
    (m' : (ℓ : Loc Cert.SlotSumEvInRefIdeal.nD Cert.SlotSumEvInRefIdeal.τ Cert.SlotSumEvInRefIdeal.sig) → Buf (Elt Ideal) ℓ) (g' : Dev Cert.SlotSumEvInRefIdeal.nD → PrngReg), Pre_SlotSumEvInIdeal m →
    (∀ c : Dev Cert.SlotSumEvInIdeal.nD,
      m' ((c.tc : Thread Cert.SlotSumEvInRefIdeal.nD Cert.SlotSumEvInRefIdeal.τ).loc Cert.SlotSumEvInRefIdeal.main_arg0) = m ((c.tc : Thread Cert.SlotSumEvInIdeal.nD Cert.SlotSumEvInIdeal.τ).loc Cert.SlotSumEvInIdeal.main_arg0)) →
    ∃ (v0 : (c : Dev Cert.SlotSumEvInIdeal.nD) → Buf (Elt Ideal) ((c.tc : Thread Cert.SlotSumEvInIdeal.nD Cert.SlotSumEvInIdeal.τ).loc Cert.SlotSumEvInIdeal.main_v0)),
      θ_run (Cert.SlotSumEvInIdeal.defs (F := Ideal)) (onTc (τ := Cert.SlotSumEvInIdeal.τ) (Cert.SlotSumEvInIdeal.main (F := Ideal))) ⟨m, fun _ => 0, g⟩ (fun r => ∀ c : Dev Cert.SlotSumEvInIdeal.nD,
          r.2.mem ((c.tc : Thread Cert.SlotSumEvInIdeal.nD Cert.SlotSumEvInIdeal.τ).loc Cert.SlotSumEvInIdeal.main_v0) = v0 c
          ∧ r.2.mem ((c.tc : Thread Cert.SlotSumEvInIdeal.nD Cert.SlotSumEvInIdeal.τ).loc Cert.SlotSumEvInIdeal.main_arg0) = m ((c.tc : Thread Cert.SlotSumEvInIdeal.nD Cert.SlotSumEvInIdeal.τ).loc Cert.SlotSumEvInIdeal.main_arg0))
      ∧ θ_run (Cert.SlotSumEvInRefIdeal.defs (F := Ideal)) (onTc (τ := Cert.SlotSumEvInRefIdeal.τ) (Cert.SlotSumEvInRefIdeal.main (F := Ideal))) ⟨m', fun _ => 0, g'⟩ (fun r => ∀ c : Dev Cert.SlotSumEvInRefIdeal.nD,
          r.2.mem ((c.tc : Thread Cert.SlotSumEvInRefIdeal.nD Cert.SlotSumEvInRefIdeal.τ).loc Cert.SlotSumEvInRefIdeal.main_v0) = v0 c
          ∧ r.2.mem ((c.tc : Thread Cert.SlotSumEvInRefIdeal.nD Cert.SlotSumEvInRefIdeal.τ).loc Cert.SlotSumEvInRefIdeal.main_arg0) = m' ((c.tc : Thread Cert.SlotSumEvInRefIdeal.nD Cert.SlotSumEvInRefIdeal.τ).loc Cert.SlotSumEvInRefIdeal.main_arg0))

def preserves_SlotSumOut_SlotSumOutIdeal : Prop :=
  True

def algebraic_SlotSumOutIdeal_SlotSumOutRefIdeal [hSlotSumOutIdeal : Cert.SlotSumOutIdeal.Facts] [hSlotSumOutRefIdeal : Cert.SlotSumOutRefIdeal.Facts] : Prop :=
  ∀ (m : (ℓ : Loc Cert.SlotSumOutIdeal.nD Cert.SlotSumOutIdeal.τ Cert.SlotSumOutIdeal.sig) → Buf (Elt Ideal) ℓ) (g : Dev Cert.SlotSumOutIdeal.nD → PrngReg)
    (m' : (ℓ : Loc Cert.SlotSumOutRefIdeal.nD Cert.SlotSumOutRefIdeal.τ Cert.SlotSumOutRefIdeal.sig) → Buf (Elt Ideal) ℓ) (g' : Dev Cert.SlotSumOutRefIdeal.nD → PrngReg), Pre_SlotSumOutIdeal m →
    (∀ c : Dev Cert.SlotSumOutIdeal.nD,
      m' ((c.tc : Thread Cert.SlotSumOutRefIdeal.nD Cert.SlotSumOutRefIdeal.τ).loc Cert.SlotSumOutRefIdeal.main_arg0) = m ((c.tc : Thread Cert.SlotSumOutIdeal.nD Cert.SlotSumOutIdeal.τ).loc Cert.SlotSumOutIdeal.main_arg0)) →
    ∃ (v0 : (c : Dev Cert.SlotSumOutIdeal.nD) → Buf (Elt Ideal) ((c.tc : Thread Cert.SlotSumOutIdeal.nD Cert.SlotSumOutIdeal.τ).loc Cert.SlotSumOutIdeal.main_v0)),
      θ_run (Cert.SlotSumOutIdeal.defs (F := Ideal)) (onTc (τ := Cert.SlotSumOutIdeal.τ) (Cert.SlotSumOutIdeal.main (F := Ideal))) ⟨m, fun _ => 0, g⟩ (fun r => ∀ c : Dev Cert.SlotSumOutIdeal.nD,
          r.2.mem ((c.tc : Thread Cert.SlotSumOutIdeal.nD Cert.SlotSumOutIdeal.τ).loc Cert.SlotSumOutIdeal.main_v0) = v0 c
          ∧ r.2.mem ((c.tc : Thread Cert.SlotSumOutIdeal.nD Cert.SlotSumOutIdeal.τ).loc Cert.SlotSumOutIdeal.main_arg0) = m ((c.tc : Thread Cert.SlotSumOutIdeal.nD Cert.SlotSumOutIdeal.τ).loc Cert.SlotSumOutIdeal.main_arg0))
      ∧ θ_run (Cert.SlotSumOutRefIdeal.defs (F := Ideal)) (onTc (τ := Cert.SlotSumOutRefIdeal.τ) (Cert.SlotSumOutRefIdeal.main (F := Ideal))) ⟨m', fun _ => 0, g'⟩ (fun r => ∀ c : Dev Cert.SlotSumOutRefIdeal.nD,
          r.2.mem ((c.tc : Thread Cert.SlotSumOutRefIdeal.nD Cert.SlotSumOutRefIdeal.τ).loc Cert.SlotSumOutRefIdeal.main_v0) = v0 c
          ∧ r.2.mem ((c.tc : Thread Cert.SlotSumOutRefIdeal.nD Cert.SlotSumOutRefIdeal.τ).loc Cert.SlotSumOutRefIdeal.main_arg0) = m' ((c.tc : Thread Cert.SlotSumOutRefIdeal.nD Cert.SlotSumOutRefIdeal.τ).loc Cert.SlotSumOutRefIdeal.main_arg0))

def preserves_SlotSumOdIn_SlotSumOdInIdeal : Prop :=
  True

def algebraic_SlotSumOdInIdeal_SlotSumOdInRefIdeal [hSlotSumOdInIdeal : Cert.SlotSumOdInIdeal.Facts] [hSlotSumOdInRefIdeal : Cert.SlotSumOdInRefIdeal.Facts] : Prop :=
  ∀ (m : (ℓ : Loc Cert.SlotSumOdInIdeal.nD Cert.SlotSumOdInIdeal.τ Cert.SlotSumOdInIdeal.sig) → Buf (Elt Ideal) ℓ) (g : Dev Cert.SlotSumOdInIdeal.nD → PrngReg)
    (m' : (ℓ : Loc Cert.SlotSumOdInRefIdeal.nD Cert.SlotSumOdInRefIdeal.τ Cert.SlotSumOdInRefIdeal.sig) → Buf (Elt Ideal) ℓ) (g' : Dev Cert.SlotSumOdInRefIdeal.nD → PrngReg), Pre_SlotSumOdInIdeal m →
    (∀ c : Dev Cert.SlotSumOdInIdeal.nD,
      m' ((c.tc : Thread Cert.SlotSumOdInRefIdeal.nD Cert.SlotSumOdInRefIdeal.τ).loc Cert.SlotSumOdInRefIdeal.main_arg0) = m ((c.tc : Thread Cert.SlotSumOdInIdeal.nD Cert.SlotSumOdInIdeal.τ).loc Cert.SlotSumOdInIdeal.main_arg0)) →
    ∃ (v0 : (c : Dev Cert.SlotSumOdInIdeal.nD) → Buf (Elt Ideal) ((c.tc : Thread Cert.SlotSumOdInIdeal.nD Cert.SlotSumOdInIdeal.τ).loc Cert.SlotSumOdInIdeal.main_v0)),
      θ_run (Cert.SlotSumOdInIdeal.defs (F := Ideal)) (onTc (τ := Cert.SlotSumOdInIdeal.τ) (Cert.SlotSumOdInIdeal.main (F := Ideal))) ⟨m, fun _ => 0, g⟩ (fun r => ∀ c : Dev Cert.SlotSumOdInIdeal.nD,
          r.2.mem ((c.tc : Thread Cert.SlotSumOdInIdeal.nD Cert.SlotSumOdInIdeal.τ).loc Cert.SlotSumOdInIdeal.main_v0) = v0 c
          ∧ r.2.mem ((c.tc : Thread Cert.SlotSumOdInIdeal.nD Cert.SlotSumOdInIdeal.τ).loc Cert.SlotSumOdInIdeal.main_arg0) = m ((c.tc : Thread Cert.SlotSumOdInIdeal.nD Cert.SlotSumOdInIdeal.τ).loc Cert.SlotSumOdInIdeal.main_arg0))
      ∧ θ_run (Cert.SlotSumOdInRefIdeal.defs (F := Ideal)) (onTc (τ := Cert.SlotSumOdInRefIdeal.τ) (Cert.SlotSumOdInRefIdeal.main (F := Ideal))) ⟨m', fun _ => 0, g'⟩ (fun r => ∀ c : Dev Cert.SlotSumOdInRefIdeal.nD,
          r.2.mem ((c.tc : Thread Cert.SlotSumOdInRefIdeal.nD Cert.SlotSumOdInRefIdeal.τ).loc Cert.SlotSumOdInRefIdeal.main_v0) = v0 c
          ∧ r.2.mem ((c.tc : Thread Cert.SlotSumOdInRefIdeal.nD Cert.SlotSumOdInRefIdeal.τ).loc Cert.SlotSumOdInRefIdeal.main_arg0) = m' ((c.tc : Thread Cert.SlotSumOdInRefIdeal.nD Cert.SlotSumOdInRefIdeal.τ).loc Cert.SlotSumOdInRefIdeal.main_arg0))

def preserves_SmallGrads_SmallGradsIdeal : Prop :=
  True

def algebraic_SmallGradsIdeal_SmallGradsRefIdeal [hSmallGradsIdeal : Cert.SmallGradsIdeal.Facts] [hSmallGradsRefIdeal : Cert.SmallGradsRefIdeal.Facts] : Prop :=
  ∀ (m : (ℓ : Loc Cert.SmallGradsIdeal.nD Cert.SmallGradsIdeal.τ Cert.SmallGradsIdeal.sig) → Buf (Elt Ideal) ℓ) (g : Dev Cert.SmallGradsIdeal.nD → PrngReg)
    (m' : (ℓ : Loc Cert.SmallGradsRefIdeal.nD Cert.SmallGradsRefIdeal.τ Cert.SmallGradsRefIdeal.sig) → Buf (Elt Ideal) ℓ) (g' : Dev Cert.SmallGradsRefIdeal.nD → PrngReg), Pre_SmallGradsIdeal m →
    (∀ c : Dev Cert.SmallGradsIdeal.nD,
      m' ((c.tc : Thread Cert.SmallGradsRefIdeal.nD Cert.SmallGradsRefIdeal.τ).loc Cert.SmallGradsRefIdeal.main_arg0) = m ((c.tc : Thread Cert.SmallGradsIdeal.nD Cert.SmallGradsIdeal.τ).loc Cert.SmallGradsIdeal.main_arg0)
      ∧ m' ((c.tc : Thread Cert.SmallGradsRefIdeal.nD Cert.SmallGradsRefIdeal.τ).loc Cert.SmallGradsRefIdeal.main_arg1) = m ((c.tc : Thread Cert.SmallGradsIdeal.nD Cert.SmallGradsIdeal.τ).loc Cert.SmallGradsIdeal.main_arg1)
      ∧ m' ((c.tc : Thread Cert.SmallGradsRefIdeal.nD Cert.SmallGradsRefIdeal.τ).loc Cert.SmallGradsRefIdeal.main_arg2) = m ((c.tc : Thread Cert.SmallGradsIdeal.nD Cert.SmallGradsIdeal.τ).loc Cert.SmallGradsIdeal.main_arg2)
      ∧ m' ((c.tc : Thread Cert.SmallGradsRefIdeal.nD Cert.SmallGradsRefIdeal.τ).loc Cert.SmallGradsRefIdeal.main_arg3) = m ((c.tc : Thread Cert.SmallGradsIdeal.nD Cert.SmallGradsIdeal.τ).loc Cert.SmallGradsIdeal.main_arg3)
      ∧ m' ((c.tc : Thread Cert.SmallGradsRefIdeal.nD Cert.SmallGradsRefIdeal.τ).loc Cert.SmallGradsRefIdeal.main_arg4) = m ((c.tc : Thread Cert.SmallGradsIdeal.nD Cert.SmallGradsIdeal.τ).loc Cert.SmallGradsIdeal.main_arg4)
      ∧ m' ((c.tc : Thread Cert.SmallGradsRefIdeal.nD Cert.SmallGradsRefIdeal.τ).loc Cert.SmallGradsRefIdeal.main_arg5) = m ((c.tc : Thread Cert.SmallGradsIdeal.nD Cert.SmallGradsIdeal.τ).loc Cert.SmallGradsIdeal.main_arg5)
      ∧ m' ((c.tc : Thread Cert.SmallGradsRefIdeal.nD Cert.SmallGradsRefIdeal.τ).loc Cert.SmallGradsRefIdeal.main_arg6) = m ((c.tc : Thread Cert.SmallGradsIdeal.nD Cert.SmallGradsIdeal.τ).loc Cert.SmallGradsIdeal.main_arg6)
      ∧ m' ((c.tc : Thread Cert.SmallGradsRefIdeal.nD Cert.SmallGradsRefIdeal.τ).loc Cert.SmallGradsRefIdeal.main_arg7) = m ((c.tc : Thread Cert.SmallGradsIdeal.nD Cert.SmallGradsIdeal.τ).loc Cert.SmallGradsIdeal.main_arg7)
      ∧ m' ((c.tc : Thread Cert.SmallGradsRefIdeal.nD Cert.SmallGradsRefIdeal.τ).loc Cert.SmallGradsRefIdeal.main_arg8) = m ((c.tc : Thread Cert.SmallGradsIdeal.nD Cert.SmallGradsIdeal.τ).loc Cert.SmallGradsIdeal.main_arg8)
      ∧ m' ((c.tc : Thread Cert.SmallGradsRefIdeal.nD Cert.SmallGradsRefIdeal.τ).loc Cert.SmallGradsRefIdeal.main_arg9) = m ((c.tc : Thread Cert.SmallGradsIdeal.nD Cert.SmallGradsIdeal.τ).loc Cert.SmallGradsIdeal.main_arg9)
      ∧ m' ((c.tc : Thread Cert.SmallGradsRefIdeal.nD Cert.SmallGradsRefIdeal.τ).loc Cert.SmallGradsRefIdeal.main_arg10) = m ((c.tc : Thread Cert.SmallGradsIdeal.nD Cert.SmallGradsIdeal.τ).loc Cert.SmallGradsIdeal.main_arg10)
      ∧ m' ((c.tc : Thread Cert.SmallGradsRefIdeal.nD Cert.SmallGradsRefIdeal.τ).loc Cert.SmallGradsRefIdeal.main_arg11) = m ((c.tc : Thread Cert.SmallGradsIdeal.nD Cert.SmallGradsIdeal.τ).loc Cert.SmallGradsIdeal.main_arg11)
      ∧ m' ((c.tc : Thread Cert.SmallGradsRefIdeal.nD Cert.SmallGradsRefIdeal.τ).loc Cert.SmallGradsRefIdeal.main_arg12) = m ((c.tc : Thread Cert.SmallGradsIdeal.nD Cert.SmallGradsIdeal.τ).loc Cert.SmallGradsIdeal.main_arg12)
      ∧ m' ((c.tc : Thread Cert.SmallGradsRefIdeal.nD Cert.SmallGradsRefIdeal.τ).loc Cert.SmallGradsRefIdeal.main_arg13) = m ((c.tc : Thread Cert.SmallGradsIdeal.nD Cert.SmallGradsIdeal.τ).loc Cert.SmallGradsIdeal.main_arg13)
      ∧ m' ((c.tc : Thread Cert.SmallGradsRefIdeal.nD Cert.SmallGradsRefIdeal.τ).loc Cert.SmallGradsRefIdeal.main_arg14) = m ((c.tc : Thread Cert.SmallGradsIdeal.nD Cert.SmallGradsIdeal.τ).loc Cert.SmallGradsIdeal.main_arg14)
      ∧ m' ((c.tc : Thread Cert.SmallGradsRefIdeal.nD Cert.SmallGradsRefIdeal.τ).loc Cert.SmallGradsRefIdeal.main_arg15) = m ((c.tc : Thread Cert.SmallGradsIdeal.nD Cert.SmallGradsIdeal.τ).loc Cert.SmallGradsIdeal.main_arg15)) →
    ∃ (v0 : (c : Dev Cert.SmallGradsIdeal.nD) → Buf (Elt Ideal) ((c.tc : Thread Cert.SmallGradsIdeal.nD Cert.SmallGradsIdeal.τ).loc Cert.SmallGradsIdeal.main_v59)) (v1 : (c : Dev Cert.SmallGradsIdeal.nD) → Buf (Elt Ideal) ((c.tc : Thread Cert.SmallGradsIdeal.nD Cert.SmallGradsIdeal.τ).loc Cert.SmallGradsIdeal.main_v60)) (v2 : (c : Dev Cert.SmallGradsIdeal.nD) → Buf (Elt Ideal) ((c.tc : Thread Cert.SmallGradsIdeal.nD Cert.SmallGradsIdeal.τ).loc Cert.SmallGradsIdeal.main_v32)) (v3 : (c : Dev Cert.SmallGradsIdeal.nD) → Buf (Elt Ideal) ((c.tc : Thread Cert.SmallGradsIdeal.nD Cert.SmallGradsIdeal.τ).loc Cert.SmallGradsIdeal.main_v34)) (v4 : (c : Dev Cert.SmallGradsIdeal.nD) → Buf (Elt Ideal) ((c.tc : Thread Cert.SmallGradsIdeal.nD Cert.SmallGradsIdeal.τ).loc Cert.SmallGradsIdeal.main_v36)) (v5 : (c : Dev Cert.SmallGradsIdeal.nD) → Buf (Elt Ideal) ((c.tc : Thread Cert.SmallGradsIdeal.nD Cert.SmallGradsIdeal.τ).loc Cert.SmallGradsIdeal.main_v38)) (v6 : (c : Dev Cert.SmallGradsIdeal.nD) → Buf (Elt Ideal) ((c.tc : Thread Cert.SmallGradsIdeal.nD Cert.SmallGradsIdeal.τ).loc Cert.SmallGradsIdeal.main_v40)) (v7 : (c : Dev Cert.SmallGradsIdeal.nD) → Buf (Elt Ideal) ((c.tc : Thread Cert.SmallGradsIdeal.nD Cert.SmallGradsIdeal.τ).loc Cert.SmallGradsIdeal.main_v42)) (v8 : (c : Dev Cert.SmallGradsIdeal.nD) → Buf (Elt Ideal) ((c.tc : Thread Cert.SmallGradsIdeal.nD Cert.SmallGradsIdeal.τ).loc Cert.SmallGradsIdeal.main_v44)) (v9 : (c : Dev Cert.SmallGradsIdeal.nD) → Buf (Elt Ideal) ((c.tc : Thread Cert.SmallGradsIdeal.nD Cert.SmallGradsIdeal.τ).loc Cert.SmallGradsIdeal.main_v46)) (v10 : (c : Dev Cert.SmallGradsIdeal.nD) → Buf (Elt Ideal) ((c.tc : Thread Cert.SmallGradsIdeal.nD Cert.SmallGradsIdeal.τ).loc Cert.SmallGradsIdeal.main_v48)) (v11 : (c : Dev Cert.SmallGradsIdeal.nD) → Buf (Elt Ideal) ((c.tc : Thread Cert.SmallGradsIdeal.nD Cert.SmallGradsIdeal.τ).loc Cert.SmallGradsIdeal.main_v50)) (v12 : (c : Dev Cert.SmallGradsIdeal.nD) → Buf (Elt Ideal) ((c.tc : Thread Cert.SmallGradsIdeal.nD Cert.SmallGradsIdeal.τ).loc Cert.SmallGradsIdeal.main_v52)),
      θ_run (Cert.SmallGradsIdeal.defs (F := Ideal)) (onTc (τ := Cert.SmallGradsIdeal.τ) (Cert.SmallGradsIdeal.main (F := Ideal))) ⟨m, fun _ => 0, g⟩ (fun r => ∀ c : Dev Cert.SmallGradsIdeal.nD,
          r.2.mem ((c.tc : Thread Cert.SmallGradsIdeal.nD Cert.SmallGradsIdeal.τ).loc Cert.SmallGradsIdeal.main_v59) = v0 c
          ∧ r.2.mem ((c.tc : Thread Cert.SmallGradsIdeal.nD Cert.SmallGradsIdeal.τ).loc Cert.SmallGradsIdeal.main_v60) = v1 c
          ∧ r.2.mem ((c.tc : Thread Cert.SmallGradsIdeal.nD Cert.SmallGradsIdeal.τ).loc Cert.SmallGradsIdeal.main_v32) = v2 c
          ∧ r.2.mem ((c.tc : Thread Cert.SmallGradsIdeal.nD Cert.SmallGradsIdeal.τ).loc Cert.SmallGradsIdeal.main_v34) = v3 c
          ∧ r.2.mem ((c.tc : Thread Cert.SmallGradsIdeal.nD Cert.SmallGradsIdeal.τ).loc Cert.SmallGradsIdeal.main_v36) = v4 c
          ∧ r.2.mem ((c.tc : Thread Cert.SmallGradsIdeal.nD Cert.SmallGradsIdeal.τ).loc Cert.SmallGradsIdeal.main_v38) = v5 c
          ∧ r.2.mem ((c.tc : Thread Cert.SmallGradsIdeal.nD Cert.SmallGradsIdeal.τ).loc Cert.SmallGradsIdeal.main_v40) = v6 c
          ∧ r.2.mem ((c.tc : Thread Cert.SmallGradsIdeal.nD Cert.SmallGradsIdeal.τ).loc Cert.SmallGradsIdeal.main_v42) = v7 c
          ∧ r.2.mem ((c.tc : Thread Cert.SmallGradsIdeal.nD Cert.SmallGradsIdeal.τ).loc Cert.SmallGradsIdeal.main_v44) = v8 c
          ∧ r.2.mem ((c.tc : Thread Cert.SmallGradsIdeal.nD Cert.SmallGradsIdeal.τ).loc Cert.SmallGradsIdeal.main_v46) = v9 c
          ∧ r.2.mem ((c.tc : Thread Cert.SmallGradsIdeal.nD Cert.SmallGradsIdeal.τ).loc Cert.SmallGradsIdeal.main_v48) = v10 c
          ∧ r.2.mem ((c.tc : Thread Cert.SmallGradsIdeal.nD Cert.SmallGradsIdeal.τ).loc Cert.SmallGradsIdeal.main_v50) = v11 c
          ∧ r.2.mem ((c.tc : Thread Cert.SmallGradsIdeal.nD Cert.SmallGradsIdeal.τ).loc Cert.SmallGradsIdeal.main_v52) = v12 c
          ∧ r.2.mem ((c.tc : Thread Cert.SmallGradsIdeal.nD Cert.SmallGradsIdeal.τ).loc Cert.SmallGradsIdeal.main_arg0) = m ((c.tc : Thread Cert.SmallGradsIdeal.nD Cert.SmallGradsIdeal.τ).loc Cert.SmallGradsIdeal.main_arg0)
          ∧ r.2.mem ((c.tc : Thread Cert.SmallGradsIdeal.nD Cert.SmallGradsIdeal.τ).loc Cert.SmallGradsIdeal.main_arg1) = m ((c.tc : Thread Cert.SmallGradsIdeal.nD Cert.SmallGradsIdeal.τ).loc Cert.SmallGradsIdeal.main_arg1)
          ∧ r.2.mem ((c.tc : Thread Cert.SmallGradsIdeal.nD Cert.SmallGradsIdeal.τ).loc Cert.SmallGradsIdeal.main_arg2) = m ((c.tc : Thread Cert.SmallGradsIdeal.nD Cert.SmallGradsIdeal.τ).loc Cert.SmallGradsIdeal.main_arg2)
          ∧ r.2.mem ((c.tc : Thread Cert.SmallGradsIdeal.nD Cert.SmallGradsIdeal.τ).loc Cert.SmallGradsIdeal.main_arg3) = m ((c.tc : Thread Cert.SmallGradsIdeal.nD Cert.SmallGradsIdeal.τ).loc Cert.SmallGradsIdeal.main_arg3)
          ∧ r.2.mem ((c.tc : Thread Cert.SmallGradsIdeal.nD Cert.SmallGradsIdeal.τ).loc Cert.SmallGradsIdeal.main_arg4) = m ((c.tc : Thread Cert.SmallGradsIdeal.nD Cert.SmallGradsIdeal.τ).loc Cert.SmallGradsIdeal.main_arg4)
          ∧ r.2.mem ((c.tc : Thread Cert.SmallGradsIdeal.nD Cert.SmallGradsIdeal.τ).loc Cert.SmallGradsIdeal.main_arg5) = m ((c.tc : Thread Cert.SmallGradsIdeal.nD Cert.SmallGradsIdeal.τ).loc Cert.SmallGradsIdeal.main_arg5)
          ∧ r.2.mem ((c.tc : Thread Cert.SmallGradsIdeal.nD Cert.SmallGradsIdeal.τ).loc Cert.SmallGradsIdeal.main_arg6) = m ((c.tc : Thread Cert.SmallGradsIdeal.nD Cert.SmallGradsIdeal.τ).loc Cert.SmallGradsIdeal.main_arg6)
          ∧ r.2.mem ((c.tc : Thread Cert.SmallGradsIdeal.nD Cert.SmallGradsIdeal.τ).loc Cert.SmallGradsIdeal.main_arg7) = m ((c.tc : Thread Cert.SmallGradsIdeal.nD Cert.SmallGradsIdeal.τ).loc Cert.SmallGradsIdeal.main_arg7)
          ∧ r.2.mem ((c.tc : Thread Cert.SmallGradsIdeal.nD Cert.SmallGradsIdeal.τ).loc Cert.SmallGradsIdeal.main_arg8) = m ((c.tc : Thread Cert.SmallGradsIdeal.nD Cert.SmallGradsIdeal.τ).loc Cert.SmallGradsIdeal.main_arg8)
          ∧ r.2.mem ((c.tc : Thread Cert.SmallGradsIdeal.nD Cert.SmallGradsIdeal.τ).loc Cert.SmallGradsIdeal.main_arg9) = m ((c.tc : Thread Cert.SmallGradsIdeal.nD Cert.SmallGradsIdeal.τ).loc Cert.SmallGradsIdeal.main_arg9)
          ∧ r.2.mem ((c.tc : Thread Cert.SmallGradsIdeal.nD Cert.SmallGradsIdeal.τ).loc Cert.SmallGradsIdeal.main_arg10) = m ((c.tc : Thread Cert.SmallGradsIdeal.nD Cert.SmallGradsIdeal.τ).loc Cert.SmallGradsIdeal.main_arg10)
          ∧ r.2.mem ((c.tc : Thread Cert.SmallGradsIdeal.nD Cert.SmallGradsIdeal.τ).loc Cert.SmallGradsIdeal.main_arg11) = m ((c.tc : Thread Cert.SmallGradsIdeal.nD Cert.SmallGradsIdeal.τ).loc Cert.SmallGradsIdeal.main_arg11)
          ∧ r.2.mem ((c.tc : Thread Cert.SmallGradsIdeal.nD Cert.SmallGradsIdeal.τ).loc Cert.SmallGradsIdeal.main_arg12) = m ((c.tc : Thread Cert.SmallGradsIdeal.nD Cert.SmallGradsIdeal.τ).loc Cert.SmallGradsIdeal.main_arg12)
          ∧ r.2.mem ((c.tc : Thread Cert.SmallGradsIdeal.nD Cert.SmallGradsIdeal.τ).loc Cert.SmallGradsIdeal.main_arg13) = m ((c.tc : Thread Cert.SmallGradsIdeal.nD Cert.SmallGradsIdeal.τ).loc Cert.SmallGradsIdeal.main_arg13)
          ∧ r.2.mem ((c.tc : Thread Cert.SmallGradsIdeal.nD Cert.SmallGradsIdeal.τ).loc Cert.SmallGradsIdeal.main_arg14) = m ((c.tc : Thread Cert.SmallGradsIdeal.nD Cert.SmallGradsIdeal.τ).loc Cert.SmallGradsIdeal.main_arg14)
          ∧ r.2.mem ((c.tc : Thread Cert.SmallGradsIdeal.nD Cert.SmallGradsIdeal.τ).loc Cert.SmallGradsIdeal.main_arg15) = m ((c.tc : Thread Cert.SmallGradsIdeal.nD Cert.SmallGradsIdeal.τ).loc Cert.SmallGradsIdeal.main_arg15))
      ∧ θ_run (Cert.SmallGradsRefIdeal.defs (F := Ideal)) (onTc (τ := Cert.SmallGradsRefIdeal.τ) (Cert.SmallGradsRefIdeal.main (F := Ideal))) ⟨m', fun _ => 0, g'⟩ (fun r => ∀ c : Dev Cert.SmallGradsRefIdeal.nD,
          r.2.mem ((c.tc : Thread Cert.SmallGradsRefIdeal.nD Cert.SmallGradsRefIdeal.τ).loc Cert.SmallGradsRefIdeal.main_v17) = v0 c
          ∧ r.2.mem ((c.tc : Thread Cert.SmallGradsRefIdeal.nD Cert.SmallGradsRefIdeal.τ).loc Cert.SmallGradsRefIdeal.main_v18) = v1 c
          ∧ r.2.mem ((c.tc : Thread Cert.SmallGradsRefIdeal.nD Cert.SmallGradsRefIdeal.τ).loc Cert.SmallGradsRefIdeal.main_v5) = v2 c
          ∧ r.2.mem ((c.tc : Thread Cert.SmallGradsRefIdeal.nD Cert.SmallGradsRefIdeal.τ).loc Cert.SmallGradsRefIdeal.main_v6) = v3 c
          ∧ r.2.mem ((c.tc : Thread Cert.SmallGradsRefIdeal.nD Cert.SmallGradsRefIdeal.τ).loc Cert.SmallGradsRefIdeal.main_v7) = v4 c
          ∧ r.2.mem ((c.tc : Thread Cert.SmallGradsRefIdeal.nD Cert.SmallGradsRefIdeal.τ).loc Cert.SmallGradsRefIdeal.main_v8) = v5 c
          ∧ r.2.mem ((c.tc : Thread Cert.SmallGradsRefIdeal.nD Cert.SmallGradsRefIdeal.τ).loc Cert.SmallGradsRefIdeal.main_v9) = v6 c
          ∧ r.2.mem ((c.tc : Thread Cert.SmallGradsRefIdeal.nD Cert.SmallGradsRefIdeal.τ).loc Cert.SmallGradsRefIdeal.main_v10) = v7 c
          ∧ r.2.mem ((c.tc : Thread Cert.SmallGradsRefIdeal.nD Cert.SmallGradsRefIdeal.τ).loc Cert.SmallGradsRefIdeal.main_v11) = v8 c
          ∧ r.2.mem ((c.tc : Thread Cert.SmallGradsRefIdeal.nD Cert.SmallGradsRefIdeal.τ).loc Cert.SmallGradsRefIdeal.main_v12) = v9 c
          ∧ r.2.mem ((c.tc : Thread Cert.SmallGradsRefIdeal.nD Cert.SmallGradsRefIdeal.τ).loc Cert.SmallGradsRefIdeal.main_v13) = v10 c
          ∧ r.2.mem ((c.tc : Thread Cert.SmallGradsRefIdeal.nD Cert.SmallGradsRefIdeal.τ).loc Cert.SmallGradsRefIdeal.main_v14) = v11 c
          ∧ r.2.mem ((c.tc : Thread Cert.SmallGradsRefIdeal.nD Cert.SmallGradsRefIdeal.τ).loc Cert.SmallGradsRefIdeal.main_v15) = v12 c
          ∧ r.2.mem ((c.tc : Thread Cert.SmallGradsRefIdeal.nD Cert.SmallGradsRefIdeal.τ).loc Cert.SmallGradsRefIdeal.main_arg0) = m' ((c.tc : Thread Cert.SmallGradsRefIdeal.nD Cert.SmallGradsRefIdeal.τ).loc Cert.SmallGradsRefIdeal.main_arg0)
          ∧ r.2.mem ((c.tc : Thread Cert.SmallGradsRefIdeal.nD Cert.SmallGradsRefIdeal.τ).loc Cert.SmallGradsRefIdeal.main_arg1) = m' ((c.tc : Thread Cert.SmallGradsRefIdeal.nD Cert.SmallGradsRefIdeal.τ).loc Cert.SmallGradsRefIdeal.main_arg1)
          ∧ r.2.mem ((c.tc : Thread Cert.SmallGradsRefIdeal.nD Cert.SmallGradsRefIdeal.τ).loc Cert.SmallGradsRefIdeal.main_arg2) = m' ((c.tc : Thread Cert.SmallGradsRefIdeal.nD Cert.SmallGradsRefIdeal.τ).loc Cert.SmallGradsRefIdeal.main_arg2)
          ∧ r.2.mem ((c.tc : Thread Cert.SmallGradsRefIdeal.nD Cert.SmallGradsRefIdeal.τ).loc Cert.SmallGradsRefIdeal.main_arg3) = m' ((c.tc : Thread Cert.SmallGradsRefIdeal.nD Cert.SmallGradsRefIdeal.τ).loc Cert.SmallGradsRefIdeal.main_arg3)
          ∧ r.2.mem ((c.tc : Thread Cert.SmallGradsRefIdeal.nD Cert.SmallGradsRefIdeal.τ).loc Cert.SmallGradsRefIdeal.main_arg4) = m' ((c.tc : Thread Cert.SmallGradsRefIdeal.nD Cert.SmallGradsRefIdeal.τ).loc Cert.SmallGradsRefIdeal.main_arg4)
          ∧ r.2.mem ((c.tc : Thread Cert.SmallGradsRefIdeal.nD Cert.SmallGradsRefIdeal.τ).loc Cert.SmallGradsRefIdeal.main_arg5) = m' ((c.tc : Thread Cert.SmallGradsRefIdeal.nD Cert.SmallGradsRefIdeal.τ).loc Cert.SmallGradsRefIdeal.main_arg5)
          ∧ r.2.mem ((c.tc : Thread Cert.SmallGradsRefIdeal.nD Cert.SmallGradsRefIdeal.τ).loc Cert.SmallGradsRefIdeal.main_arg6) = m' ((c.tc : Thread Cert.SmallGradsRefIdeal.nD Cert.SmallGradsRefIdeal.τ).loc Cert.SmallGradsRefIdeal.main_arg6)
          ∧ r.2.mem ((c.tc : Thread Cert.SmallGradsRefIdeal.nD Cert.SmallGradsRefIdeal.τ).loc Cert.SmallGradsRefIdeal.main_arg7) = m' ((c.tc : Thread Cert.SmallGradsRefIdeal.nD Cert.SmallGradsRefIdeal.τ).loc Cert.SmallGradsRefIdeal.main_arg7)
          ∧ r.2.mem ((c.tc : Thread Cert.SmallGradsRefIdeal.nD Cert.SmallGradsRefIdeal.τ).loc Cert.SmallGradsRefIdeal.main_arg8) = m' ((c.tc : Thread Cert.SmallGradsRefIdeal.nD Cert.SmallGradsRefIdeal.τ).loc Cert.SmallGradsRefIdeal.main_arg8)
          ∧ r.2.mem ((c.tc : Thread Cert.SmallGradsRefIdeal.nD Cert.SmallGradsRefIdeal.τ).loc Cert.SmallGradsRefIdeal.main_arg9) = m' ((c.tc : Thread Cert.SmallGradsRefIdeal.nD Cert.SmallGradsRefIdeal.τ).loc Cert.SmallGradsRefIdeal.main_arg9)
          ∧ r.2.mem ((c.tc : Thread Cert.SmallGradsRefIdeal.nD Cert.SmallGradsRefIdeal.τ).loc Cert.SmallGradsRefIdeal.main_arg10) = m' ((c.tc : Thread Cert.SmallGradsRefIdeal.nD Cert.SmallGradsRefIdeal.τ).loc Cert.SmallGradsRefIdeal.main_arg10)
          ∧ r.2.mem ((c.tc : Thread Cert.SmallGradsRefIdeal.nD Cert.SmallGradsRefIdeal.τ).loc Cert.SmallGradsRefIdeal.main_arg11) = m' ((c.tc : Thread Cert.SmallGradsRefIdeal.nD Cert.SmallGradsRefIdeal.τ).loc Cert.SmallGradsRefIdeal.main_arg11)
          ∧ r.2.mem ((c.tc : Thread Cert.SmallGradsRefIdeal.nD Cert.SmallGradsRefIdeal.τ).loc Cert.SmallGradsRefIdeal.main_arg12) = m' ((c.tc : Thread Cert.SmallGradsRefIdeal.nD Cert.SmallGradsRefIdeal.τ).loc Cert.SmallGradsRefIdeal.main_arg12)
          ∧ r.2.mem ((c.tc : Thread Cert.SmallGradsRefIdeal.nD Cert.SmallGradsRefIdeal.τ).loc Cert.SmallGradsRefIdeal.main_arg13) = m' ((c.tc : Thread Cert.SmallGradsRefIdeal.nD Cert.SmallGradsRefIdeal.τ).loc Cert.SmallGradsRefIdeal.main_arg13)
          ∧ r.2.mem ((c.tc : Thread Cert.SmallGradsRefIdeal.nD Cert.SmallGradsRefIdeal.τ).loc Cert.SmallGradsRefIdeal.main_arg14) = m' ((c.tc : Thread Cert.SmallGradsRefIdeal.nD Cert.SmallGradsRefIdeal.τ).loc Cert.SmallGradsRefIdeal.main_arg14)
          ∧ r.2.mem ((c.tc : Thread Cert.SmallGradsRefIdeal.nD Cert.SmallGradsRefIdeal.τ).loc Cert.SmallGradsRefIdeal.main_arg15) = m' ((c.tc : Thread Cert.SmallGradsRefIdeal.nD Cert.SmallGradsRefIdeal.τ).loc Cert.SmallGradsRefIdeal.main_arg15))

def preserves_AdamwAda_AdamwAdaIdeal : Prop :=
  True

def algebraic_AdamwAdaIdeal_AdamwAdaRefIdeal [hAdamwAdaIdeal : Cert.AdamwAdaIdeal.Facts] [hAdamwAdaRefIdeal : Cert.AdamwAdaRefIdeal.Facts] : Prop :=
  ∀ (m : (ℓ : Loc Cert.AdamwAdaIdeal.nD Cert.AdamwAdaIdeal.τ Cert.AdamwAdaIdeal.sig) → Buf (Elt Ideal) ℓ) (g : Dev Cert.AdamwAdaIdeal.nD → PrngReg)
    (m' : (ℓ : Loc Cert.AdamwAdaRefIdeal.nD Cert.AdamwAdaRefIdeal.τ Cert.AdamwAdaRefIdeal.sig) → Buf (Elt Ideal) ℓ) (g' : Dev Cert.AdamwAdaRefIdeal.nD → PrngReg), Pre_AdamwAdaIdeal m →
    (∀ c : Dev Cert.AdamwAdaIdeal.nD,
      m' ((c.tc : Thread Cert.AdamwAdaRefIdeal.nD Cert.AdamwAdaRefIdeal.τ).loc Cert.AdamwAdaRefIdeal.main_arg0) = m ((c.tc : Thread Cert.AdamwAdaIdeal.nD Cert.AdamwAdaIdeal.τ).loc Cert.AdamwAdaIdeal.main_arg0)
      ∧ m' ((c.tc : Thread Cert.AdamwAdaRefIdeal.nD Cert.AdamwAdaRefIdeal.τ).loc Cert.AdamwAdaRefIdeal.main_arg1) = m ((c.tc : Thread Cert.AdamwAdaIdeal.nD Cert.AdamwAdaIdeal.τ).loc Cert.AdamwAdaIdeal.main_arg1)
      ∧ m' ((c.tc : Thread Cert.AdamwAdaRefIdeal.nD Cert.AdamwAdaRefIdeal.τ).loc Cert.AdamwAdaRefIdeal.main_arg2) = m ((c.tc : Thread Cert.AdamwAdaIdeal.nD Cert.AdamwAdaIdeal.τ).loc Cert.AdamwAdaIdeal.main_arg2)
      ∧ m' ((c.tc : Thread Cert.AdamwAdaRefIdeal.nD Cert.AdamwAdaRefIdeal.τ).loc Cert.AdamwAdaRefIdeal.main_arg3) = m ((c.tc : Thread Cert.AdamwAdaIdeal.nD Cert.AdamwAdaIdeal.τ).loc Cert.AdamwAdaIdeal.main_arg3)) →
    ∃ (v0 : (c : Dev Cert.AdamwAdaIdeal.nD) → Buf (Elt Ideal) ((c.tc : Thread Cert.AdamwAdaIdeal.nD Cert.AdamwAdaIdeal.τ).loc Cert.AdamwAdaIdeal.main_v0_0)) (v1 : (c : Dev Cert.AdamwAdaIdeal.nD) → Buf (Elt Ideal) ((c.tc : Thread Cert.AdamwAdaIdeal.nD Cert.AdamwAdaIdeal.τ).loc Cert.AdamwAdaIdeal.main_v0_1)) (v2 : (c : Dev Cert.AdamwAdaIdeal.nD) → Buf (Elt Ideal) ((c.tc : Thread Cert.AdamwAdaIdeal.nD Cert.AdamwAdaIdeal.τ).loc Cert.AdamwAdaIdeal.main_v0_2)),
      θ_run (Cert.AdamwAdaIdeal.defs (F := Ideal)) (onTc (τ := Cert.AdamwAdaIdeal.τ) (Cert.AdamwAdaIdeal.main (F := Ideal))) ⟨m, fun _ => 0, g⟩ (fun r => ∀ c : Dev Cert.AdamwAdaIdeal.nD,
          r.2.mem ((c.tc : Thread Cert.AdamwAdaIdeal.nD Cert.AdamwAdaIdeal.τ).loc Cert.AdamwAdaIdeal.main_v0_0) = v0 c
          ∧ r.2.mem ((c.tc : Thread Cert.AdamwAdaIdeal.nD Cert.AdamwAdaIdeal.τ).loc Cert.AdamwAdaIdeal.main_v0_1) = v1 c
          ∧ r.2.mem ((c.tc : Thread Cert.AdamwAdaIdeal.nD Cert.AdamwAdaIdeal.τ).loc Cert.AdamwAdaIdeal.main_v0_2) = v2 c
          ∧ r.2.mem ((c.tc : Thread Cert.AdamwAdaIdeal.nD Cert.AdamwAdaIdeal.τ).loc Cert.AdamwAdaIdeal.main_arg0) = m ((c.tc : Thread Cert.AdamwAdaIdeal.nD Cert.AdamwAdaIdeal.τ).loc Cert.AdamwAdaIdeal.main_arg0)
          ∧ r.2.mem ((c.tc : Thread Cert.AdamwAdaIdeal.nD Cert.AdamwAdaIdeal.τ).loc Cert.AdamwAdaIdeal.main_arg1) = m ((c.tc : Thread Cert.AdamwAdaIdeal.nD Cert.AdamwAdaIdeal.τ).loc Cert.AdamwAdaIdeal.main_arg1)
          ∧ r.2.mem ((c.tc : Thread Cert.AdamwAdaIdeal.nD Cert.AdamwAdaIdeal.τ).loc Cert.AdamwAdaIdeal.main_arg2) = m ((c.tc : Thread Cert.AdamwAdaIdeal.nD Cert.AdamwAdaIdeal.τ).loc Cert.AdamwAdaIdeal.main_arg2)
          ∧ r.2.mem ((c.tc : Thread Cert.AdamwAdaIdeal.nD Cert.AdamwAdaIdeal.τ).loc Cert.AdamwAdaIdeal.main_arg3) = m ((c.tc : Thread Cert.AdamwAdaIdeal.nD Cert.AdamwAdaIdeal.τ).loc Cert.AdamwAdaIdeal.main_arg3))
      ∧ θ_run (Cert.AdamwAdaRefIdeal.defs (F := Ideal)) (onTc (τ := Cert.AdamwAdaRefIdeal.τ) (Cert.AdamwAdaRefIdeal.main (F := Ideal))) ⟨m', fun _ => 0, g'⟩ (fun r => ∀ c : Dev Cert.AdamwAdaRefIdeal.nD,
          r.2.mem ((c.tc : Thread Cert.AdamwAdaRefIdeal.nD Cert.AdamwAdaRefIdeal.τ).loc Cert.AdamwAdaRefIdeal.main_v23) = v0 c
          ∧ r.2.mem ((c.tc : Thread Cert.AdamwAdaRefIdeal.nD Cert.AdamwAdaRefIdeal.τ).loc Cert.AdamwAdaRefIdeal.main_v4) = v1 c
          ∧ r.2.mem ((c.tc : Thread Cert.AdamwAdaRefIdeal.nD Cert.AdamwAdaRefIdeal.τ).loc Cert.AdamwAdaRefIdeal.main_v10) = v2 c
          ∧ r.2.mem ((c.tc : Thread Cert.AdamwAdaRefIdeal.nD Cert.AdamwAdaRefIdeal.τ).loc Cert.AdamwAdaRefIdeal.main_arg0) = m' ((c.tc : Thread Cert.AdamwAdaRefIdeal.nD Cert.AdamwAdaRefIdeal.τ).loc Cert.AdamwAdaRefIdeal.main_arg0)
          ∧ r.2.mem ((c.tc : Thread Cert.AdamwAdaRefIdeal.nD Cert.AdamwAdaRefIdeal.τ).loc Cert.AdamwAdaRefIdeal.main_arg1) = m' ((c.tc : Thread Cert.AdamwAdaRefIdeal.nD Cert.AdamwAdaRefIdeal.τ).loc Cert.AdamwAdaRefIdeal.main_arg1)
          ∧ r.2.mem ((c.tc : Thread Cert.AdamwAdaRefIdeal.nD Cert.AdamwAdaRefIdeal.τ).loc Cert.AdamwAdaRefIdeal.main_arg2) = m' ((c.tc : Thread Cert.AdamwAdaRefIdeal.nD Cert.AdamwAdaRefIdeal.τ).loc Cert.AdamwAdaRefIdeal.main_arg2)
          ∧ r.2.mem ((c.tc : Thread Cert.AdamwAdaRefIdeal.nD Cert.AdamwAdaRefIdeal.τ).loc Cert.AdamwAdaRefIdeal.main_arg3) = m' ((c.tc : Thread Cert.AdamwAdaRefIdeal.nD Cert.AdamwAdaRefIdeal.τ).loc Cert.AdamwAdaRefIdeal.main_arg3))

def preserves_AdamwEvIn_AdamwEvInIdeal : Prop :=
  True

def algebraic_AdamwEvInIdeal_AdamwEvInRefIdeal [hAdamwEvInIdeal : Cert.AdamwEvInIdeal.Facts] [hAdamwEvInRefIdeal : Cert.AdamwEvInRefIdeal.Facts] : Prop :=
  ∀ (m : (ℓ : Loc Cert.AdamwEvInIdeal.nD Cert.AdamwEvInIdeal.τ Cert.AdamwEvInIdeal.sig) → Buf (Elt Ideal) ℓ) (g : Dev Cert.AdamwEvInIdeal.nD → PrngReg)
    (m' : (ℓ : Loc Cert.AdamwEvInRefIdeal.nD Cert.AdamwEvInRefIdeal.τ Cert.AdamwEvInRefIdeal.sig) → Buf (Elt Ideal) ℓ) (g' : Dev Cert.AdamwEvInRefIdeal.nD → PrngReg), Pre_AdamwEvInIdeal m →
    (∀ c : Dev Cert.AdamwEvInIdeal.nD,
      m' ((c.tc : Thread Cert.AdamwEvInRefIdeal.nD Cert.AdamwEvInRefIdeal.τ).loc Cert.AdamwEvInRefIdeal.main_arg0) = m ((c.tc : Thread Cert.AdamwEvInIdeal.nD Cert.AdamwEvInIdeal.τ).loc Cert.AdamwEvInIdeal.main_arg0)
      ∧ m' ((c.tc : Thread Cert.AdamwEvInRefIdeal.nD Cert.AdamwEvInRefIdeal.τ).loc Cert.AdamwEvInRefIdeal.main_arg1) = m ((c.tc : Thread Cert.AdamwEvInIdeal.nD Cert.AdamwEvInIdeal.τ).loc Cert.AdamwEvInIdeal.main_arg1)
      ∧ m' ((c.tc : Thread Cert.AdamwEvInRefIdeal.nD Cert.AdamwEvInRefIdeal.τ).loc Cert.AdamwEvInRefIdeal.main_arg2) = m ((c.tc : Thread Cert.AdamwEvInIdeal.nD Cert.AdamwEvInIdeal.τ).loc Cert.AdamwEvInIdeal.main_arg2)
      ∧ m' ((c.tc : Thread Cert.AdamwEvInRefIdeal.nD Cert.AdamwEvInRefIdeal.τ).loc Cert.AdamwEvInRefIdeal.main_arg3) = m ((c.tc : Thread Cert.AdamwEvInIdeal.nD Cert.AdamwEvInIdeal.τ).loc Cert.AdamwEvInIdeal.main_arg3)) →
    ∃ (v0 : (c : Dev Cert.AdamwEvInIdeal.nD) → Buf (Elt Ideal) ((c.tc : Thread Cert.AdamwEvInIdeal.nD Cert.AdamwEvInIdeal.τ).loc Cert.AdamwEvInIdeal.main_v0_0)) (v1 : (c : Dev Cert.AdamwEvInIdeal.nD) → Buf (Elt Ideal) ((c.tc : Thread Cert.AdamwEvInIdeal.nD Cert.AdamwEvInIdeal.τ).loc Cert.AdamwEvInIdeal.main_v0_1)) (v2 : (c : Dev Cert.AdamwEvInIdeal.nD) → Buf (Elt Ideal) ((c.tc : Thread Cert.AdamwEvInIdeal.nD Cert.AdamwEvInIdeal.τ).loc Cert.AdamwEvInIdeal.main_v0_2)),
      θ_run (Cert.AdamwEvInIdeal.defs (F := Ideal)) (onTc (τ := Cert.AdamwEvInIdeal.τ) (Cert.AdamwEvInIdeal.main (F := Ideal))) ⟨m, fun _ => 0, g⟩ (fun r => ∀ c : Dev Cert.AdamwEvInIdeal.nD,
          r.2.mem ((c.tc : Thread Cert.AdamwEvInIdeal.nD Cert.AdamwEvInIdeal.τ).loc Cert.AdamwEvInIdeal.main_v0_0) = v0 c
          ∧ r.2.mem ((c.tc : Thread Cert.AdamwEvInIdeal.nD Cert.AdamwEvInIdeal.τ).loc Cert.AdamwEvInIdeal.main_v0_1) = v1 c
          ∧ r.2.mem ((c.tc : Thread Cert.AdamwEvInIdeal.nD Cert.AdamwEvInIdeal.τ).loc Cert.AdamwEvInIdeal.main_v0_2) = v2 c
          ∧ r.2.mem ((c.tc : Thread Cert.AdamwEvInIdeal.nD Cert.AdamwEvInIdeal.τ).loc Cert.AdamwEvInIdeal.main_arg0) = m ((c.tc : Thread Cert.AdamwEvInIdeal.nD Cert.AdamwEvInIdeal.τ).loc Cert.AdamwEvInIdeal.main_arg0)
          ∧ r.2.mem ((c.tc : Thread Cert.AdamwEvInIdeal.nD Cert.AdamwEvInIdeal.τ).loc Cert.AdamwEvInIdeal.main_arg1) = m ((c.tc : Thread Cert.AdamwEvInIdeal.nD Cert.AdamwEvInIdeal.τ).loc Cert.AdamwEvInIdeal.main_arg1)
          ∧ r.2.mem ((c.tc : Thread Cert.AdamwEvInIdeal.nD Cert.AdamwEvInIdeal.τ).loc Cert.AdamwEvInIdeal.main_arg2) = m ((c.tc : Thread Cert.AdamwEvInIdeal.nD Cert.AdamwEvInIdeal.τ).loc Cert.AdamwEvInIdeal.main_arg2)
          ∧ r.2.mem ((c.tc : Thread Cert.AdamwEvInIdeal.nD Cert.AdamwEvInIdeal.τ).loc Cert.AdamwEvInIdeal.main_arg3) = m ((c.tc : Thread Cert.AdamwEvInIdeal.nD Cert.AdamwEvInIdeal.τ).loc Cert.AdamwEvInIdeal.main_arg3))
      ∧ θ_run (Cert.AdamwEvInRefIdeal.defs (F := Ideal)) (onTc (τ := Cert.AdamwEvInRefIdeal.τ) (Cert.AdamwEvInRefIdeal.main (F := Ideal))) ⟨m', fun _ => 0, g'⟩ (fun r => ∀ c : Dev Cert.AdamwEvInRefIdeal.nD,
          r.2.mem ((c.tc : Thread Cert.AdamwEvInRefIdeal.nD Cert.AdamwEvInRefIdeal.τ).loc Cert.AdamwEvInRefIdeal.main_v23) = v0 c
          ∧ r.2.mem ((c.tc : Thread Cert.AdamwEvInRefIdeal.nD Cert.AdamwEvInRefIdeal.τ).loc Cert.AdamwEvInRefIdeal.main_v4) = v1 c
          ∧ r.2.mem ((c.tc : Thread Cert.AdamwEvInRefIdeal.nD Cert.AdamwEvInRefIdeal.τ).loc Cert.AdamwEvInRefIdeal.main_v10) = v2 c
          ∧ r.2.mem ((c.tc : Thread Cert.AdamwEvInRefIdeal.nD Cert.AdamwEvInRefIdeal.τ).loc Cert.AdamwEvInRefIdeal.main_arg0) = m' ((c.tc : Thread Cert.AdamwEvInRefIdeal.nD Cert.AdamwEvInRefIdeal.τ).loc Cert.AdamwEvInRefIdeal.main_arg0)
          ∧ r.2.mem ((c.tc : Thread Cert.AdamwEvInRefIdeal.nD Cert.AdamwEvInRefIdeal.τ).loc Cert.AdamwEvInRefIdeal.main_arg1) = m' ((c.tc : Thread Cert.AdamwEvInRefIdeal.nD Cert.AdamwEvInRefIdeal.τ).loc Cert.AdamwEvInRefIdeal.main_arg1)
          ∧ r.2.mem ((c.tc : Thread Cert.AdamwEvInRefIdeal.nD Cert.AdamwEvInRefIdeal.τ).loc Cert.AdamwEvInRefIdeal.main_arg2) = m' ((c.tc : Thread Cert.AdamwEvInRefIdeal.nD Cert.AdamwEvInRefIdeal.τ).loc Cert.AdamwEvInRefIdeal.main_arg2)
          ∧ r.2.mem ((c.tc : Thread Cert.AdamwEvInRefIdeal.nD Cert.AdamwEvInRefIdeal.τ).loc Cert.AdamwEvInRefIdeal.main_arg3) = m' ((c.tc : Thread Cert.AdamwEvInRefIdeal.nD Cert.AdamwEvInRefIdeal.τ).loc Cert.AdamwEvInRefIdeal.main_arg3))

def preserves_AdamwOut_AdamwOutIdeal : Prop :=
  True

def algebraic_AdamwOutIdeal_AdamwOutRefIdeal [hAdamwOutIdeal : Cert.AdamwOutIdeal.Facts] [hAdamwOutRefIdeal : Cert.AdamwOutRefIdeal.Facts] : Prop :=
  ∀ (m : (ℓ : Loc Cert.AdamwOutIdeal.nD Cert.AdamwOutIdeal.τ Cert.AdamwOutIdeal.sig) → Buf (Elt Ideal) ℓ) (g : Dev Cert.AdamwOutIdeal.nD → PrngReg)
    (m' : (ℓ : Loc Cert.AdamwOutRefIdeal.nD Cert.AdamwOutRefIdeal.τ Cert.AdamwOutRefIdeal.sig) → Buf (Elt Ideal) ℓ) (g' : Dev Cert.AdamwOutRefIdeal.nD → PrngReg), Pre_AdamwOutIdeal m →
    (∀ c : Dev Cert.AdamwOutIdeal.nD,
      m' ((c.tc : Thread Cert.AdamwOutRefIdeal.nD Cert.AdamwOutRefIdeal.τ).loc Cert.AdamwOutRefIdeal.main_arg0) = m ((c.tc : Thread Cert.AdamwOutIdeal.nD Cert.AdamwOutIdeal.τ).loc Cert.AdamwOutIdeal.main_arg0)
      ∧ m' ((c.tc : Thread Cert.AdamwOutRefIdeal.nD Cert.AdamwOutRefIdeal.τ).loc Cert.AdamwOutRefIdeal.main_arg1) = m ((c.tc : Thread Cert.AdamwOutIdeal.nD Cert.AdamwOutIdeal.τ).loc Cert.AdamwOutIdeal.main_arg1)
      ∧ m' ((c.tc : Thread Cert.AdamwOutRefIdeal.nD Cert.AdamwOutRefIdeal.τ).loc Cert.AdamwOutRefIdeal.main_arg2) = m ((c.tc : Thread Cert.AdamwOutIdeal.nD Cert.AdamwOutIdeal.τ).loc Cert.AdamwOutIdeal.main_arg2)
      ∧ m' ((c.tc : Thread Cert.AdamwOutRefIdeal.nD Cert.AdamwOutRefIdeal.τ).loc Cert.AdamwOutRefIdeal.main_arg3) = m ((c.tc : Thread Cert.AdamwOutIdeal.nD Cert.AdamwOutIdeal.τ).loc Cert.AdamwOutIdeal.main_arg3)) →
    ∃ (v0 : (c : Dev Cert.AdamwOutIdeal.nD) → Buf (Elt Ideal) ((c.tc : Thread Cert.AdamwOutIdeal.nD Cert.AdamwOutIdeal.τ).loc Cert.AdamwOutIdeal.main_v0_0)) (v1 : (c : Dev Cert.AdamwOutIdeal.nD) → Buf (Elt Ideal) ((c.tc : Thread Cert.AdamwOutIdeal.nD Cert.AdamwOutIdeal.τ).loc Cert.AdamwOutIdeal.main_v0_1)) (v2 : (c : Dev Cert.AdamwOutIdeal.nD) → Buf (Elt Ideal) ((c.tc : Thread Cert.AdamwOutIdeal.nD Cert.AdamwOutIdeal.τ).loc Cert.AdamwOutIdeal.main_v0_2)),
      θ_run (Cert.AdamwOutIdeal.defs (F := Ideal)) (onTc (τ := Cert.AdamwOutIdeal.τ) (Cert.AdamwOutIdeal.main (F := Ideal))) ⟨m, fun _ => 0, g⟩ (fun r => ∀ c : Dev Cert.AdamwOutIdeal.nD,
          r.2.mem ((c.tc : Thread Cert.AdamwOutIdeal.nD Cert.AdamwOutIdeal.τ).loc Cert.AdamwOutIdeal.main_v0_0) = v0 c
          ∧ r.2.mem ((c.tc : Thread Cert.AdamwOutIdeal.nD Cert.AdamwOutIdeal.τ).loc Cert.AdamwOutIdeal.main_v0_1) = v1 c
          ∧ r.2.mem ((c.tc : Thread Cert.AdamwOutIdeal.nD Cert.AdamwOutIdeal.τ).loc Cert.AdamwOutIdeal.main_v0_2) = v2 c
          ∧ r.2.mem ((c.tc : Thread Cert.AdamwOutIdeal.nD Cert.AdamwOutIdeal.τ).loc Cert.AdamwOutIdeal.main_arg0) = m ((c.tc : Thread Cert.AdamwOutIdeal.nD Cert.AdamwOutIdeal.τ).loc Cert.AdamwOutIdeal.main_arg0)
          ∧ r.2.mem ((c.tc : Thread Cert.AdamwOutIdeal.nD Cert.AdamwOutIdeal.τ).loc Cert.AdamwOutIdeal.main_arg1) = m ((c.tc : Thread Cert.AdamwOutIdeal.nD Cert.AdamwOutIdeal.τ).loc Cert.AdamwOutIdeal.main_arg1)
          ∧ r.2.mem ((c.tc : Thread Cert.AdamwOutIdeal.nD Cert.AdamwOutIdeal.τ).loc Cert.AdamwOutIdeal.main_arg2) = m ((c.tc : Thread Cert.AdamwOutIdeal.nD Cert.AdamwOutIdeal.τ).loc Cert.AdamwOutIdeal.main_arg2)
          ∧ r.2.mem ((c.tc : Thread Cert.AdamwOutIdeal.nD Cert.AdamwOutIdeal.τ).loc Cert.AdamwOutIdeal.main_arg3) = m ((c.tc : Thread Cert.AdamwOutIdeal.nD Cert.AdamwOutIdeal.τ).loc Cert.AdamwOutIdeal.main_arg3))
      ∧ θ_run (Cert.AdamwOutRefIdeal.defs (F := Ideal)) (onTc (τ := Cert.AdamwOutRefIdeal.τ) (Cert.AdamwOutRefIdeal.main (F := Ideal))) ⟨m', fun _ => 0, g'⟩ (fun r => ∀ c : Dev Cert.AdamwOutRefIdeal.nD,
          r.2.mem ((c.tc : Thread Cert.AdamwOutRefIdeal.nD Cert.AdamwOutRefIdeal.τ).loc Cert.AdamwOutRefIdeal.main_v23) = v0 c
          ∧ r.2.mem ((c.tc : Thread Cert.AdamwOutRefIdeal.nD Cert.AdamwOutRefIdeal.τ).loc Cert.AdamwOutRefIdeal.main_v4) = v1 c
          ∧ r.2.mem ((c.tc : Thread Cert.AdamwOutRefIdeal.nD Cert.AdamwOutRefIdeal.τ).loc Cert.AdamwOutRefIdeal.main_v10) = v2 c
          ∧ r.2.mem ((c.tc : Thread Cert.AdamwOutRefIdeal.nD Cert.AdamwOutRefIdeal.τ).loc Cert.AdamwOutRefIdeal.main_arg0) = m' ((c.tc : Thread Cert.AdamwOutRefIdeal.nD Cert.AdamwOutRefIdeal.τ).loc Cert.AdamwOutRefIdeal.main_arg0)
          ∧ r.2.mem ((c.tc : Thread Cert.AdamwOutRefIdeal.nD Cert.AdamwOutRefIdeal.τ).loc Cert.AdamwOutRefIdeal.main_arg1) = m' ((c.tc : Thread Cert.AdamwOutRefIdeal.nD Cert.AdamwOutRefIdeal.τ).loc Cert.AdamwOutRefIdeal.main_arg1)
          ∧ r.2.mem ((c.tc : Thread Cert.AdamwOutRefIdeal.nD Cert.AdamwOutRefIdeal.τ).loc Cert.AdamwOutRefIdeal.main_arg2) = m' ((c.tc : Thread Cert.AdamwOutRefIdeal.nD Cert.AdamwOutRefIdeal.τ).loc Cert.AdamwOutRefIdeal.main_arg2)
          ∧ r.2.mem ((c.tc : Thread Cert.AdamwOutRefIdeal.nD Cert.AdamwOutRefIdeal.τ).loc Cert.AdamwOutRefIdeal.main_arg3) = m' ((c.tc : Thread Cert.AdamwOutRefIdeal.nD Cert.AdamwOutRefIdeal.τ).loc Cert.AdamwOutRefIdeal.main_arg3))

def preserves_AdamwOdIn_AdamwOdInIdeal : Prop :=
  True

def algebraic_AdamwOdInIdeal_AdamwOdInRefIdeal [hAdamwOdInIdeal : Cert.AdamwOdInIdeal.Facts] [hAdamwOdInRefIdeal : Cert.AdamwOdInRefIdeal.Facts] : Prop :=
  ∀ (m : (ℓ : Loc Cert.AdamwOdInIdeal.nD Cert.AdamwOdInIdeal.τ Cert.AdamwOdInIdeal.sig) → Buf (Elt Ideal) ℓ) (g : Dev Cert.AdamwOdInIdeal.nD → PrngReg)
    (m' : (ℓ : Loc Cert.AdamwOdInRefIdeal.nD Cert.AdamwOdInRefIdeal.τ Cert.AdamwOdInRefIdeal.sig) → Buf (Elt Ideal) ℓ) (g' : Dev Cert.AdamwOdInRefIdeal.nD → PrngReg), Pre_AdamwOdInIdeal m →
    (∀ c : Dev Cert.AdamwOdInIdeal.nD,
      m' ((c.tc : Thread Cert.AdamwOdInRefIdeal.nD Cert.AdamwOdInRefIdeal.τ).loc Cert.AdamwOdInRefIdeal.main_arg0) = m ((c.tc : Thread Cert.AdamwOdInIdeal.nD Cert.AdamwOdInIdeal.τ).loc Cert.AdamwOdInIdeal.main_arg0)
      ∧ m' ((c.tc : Thread Cert.AdamwOdInRefIdeal.nD Cert.AdamwOdInRefIdeal.τ).loc Cert.AdamwOdInRefIdeal.main_arg1) = m ((c.tc : Thread Cert.AdamwOdInIdeal.nD Cert.AdamwOdInIdeal.τ).loc Cert.AdamwOdInIdeal.main_arg1)
      ∧ m' ((c.tc : Thread Cert.AdamwOdInRefIdeal.nD Cert.AdamwOdInRefIdeal.τ).loc Cert.AdamwOdInRefIdeal.main_arg2) = m ((c.tc : Thread Cert.AdamwOdInIdeal.nD Cert.AdamwOdInIdeal.τ).loc Cert.AdamwOdInIdeal.main_arg2)
      ∧ m' ((c.tc : Thread Cert.AdamwOdInRefIdeal.nD Cert.AdamwOdInRefIdeal.τ).loc Cert.AdamwOdInRefIdeal.main_arg3) = m ((c.tc : Thread Cert.AdamwOdInIdeal.nD Cert.AdamwOdInIdeal.τ).loc Cert.AdamwOdInIdeal.main_arg3)) →
    ∃ (v0 : (c : Dev Cert.AdamwOdInIdeal.nD) → Buf (Elt Ideal) ((c.tc : Thread Cert.AdamwOdInIdeal.nD Cert.AdamwOdInIdeal.τ).loc Cert.AdamwOdInIdeal.main_v0_0)) (v1 : (c : Dev Cert.AdamwOdInIdeal.nD) → Buf (Elt Ideal) ((c.tc : Thread Cert.AdamwOdInIdeal.nD Cert.AdamwOdInIdeal.τ).loc Cert.AdamwOdInIdeal.main_v0_1)) (v2 : (c : Dev Cert.AdamwOdInIdeal.nD) → Buf (Elt Ideal) ((c.tc : Thread Cert.AdamwOdInIdeal.nD Cert.AdamwOdInIdeal.τ).loc Cert.AdamwOdInIdeal.main_v0_2)),
      θ_run (Cert.AdamwOdInIdeal.defs (F := Ideal)) (onTc (τ := Cert.AdamwOdInIdeal.τ) (Cert.AdamwOdInIdeal.main (F := Ideal))) ⟨m, fun _ => 0, g⟩ (fun r => ∀ c : Dev Cert.AdamwOdInIdeal.nD,
          r.2.mem ((c.tc : Thread Cert.AdamwOdInIdeal.nD Cert.AdamwOdInIdeal.τ).loc Cert.AdamwOdInIdeal.main_v0_0) = v0 c
          ∧ r.2.mem ((c.tc : Thread Cert.AdamwOdInIdeal.nD Cert.AdamwOdInIdeal.τ).loc Cert.AdamwOdInIdeal.main_v0_1) = v1 c
          ∧ r.2.mem ((c.tc : Thread Cert.AdamwOdInIdeal.nD Cert.AdamwOdInIdeal.τ).loc Cert.AdamwOdInIdeal.main_v0_2) = v2 c
          ∧ r.2.mem ((c.tc : Thread Cert.AdamwOdInIdeal.nD Cert.AdamwOdInIdeal.τ).loc Cert.AdamwOdInIdeal.main_arg0) = m ((c.tc : Thread Cert.AdamwOdInIdeal.nD Cert.AdamwOdInIdeal.τ).loc Cert.AdamwOdInIdeal.main_arg0)
          ∧ r.2.mem ((c.tc : Thread Cert.AdamwOdInIdeal.nD Cert.AdamwOdInIdeal.τ).loc Cert.AdamwOdInIdeal.main_arg1) = m ((c.tc : Thread Cert.AdamwOdInIdeal.nD Cert.AdamwOdInIdeal.τ).loc Cert.AdamwOdInIdeal.main_arg1)
          ∧ r.2.mem ((c.tc : Thread Cert.AdamwOdInIdeal.nD Cert.AdamwOdInIdeal.τ).loc Cert.AdamwOdInIdeal.main_arg2) = m ((c.tc : Thread Cert.AdamwOdInIdeal.nD Cert.AdamwOdInIdeal.τ).loc Cert.AdamwOdInIdeal.main_arg2)
          ∧ r.2.mem ((c.tc : Thread Cert.AdamwOdInIdeal.nD Cert.AdamwOdInIdeal.τ).loc Cert.AdamwOdInIdeal.main_arg3) = m ((c.tc : Thread Cert.AdamwOdInIdeal.nD Cert.AdamwOdInIdeal.τ).loc Cert.AdamwOdInIdeal.main_arg3))
      ∧ θ_run (Cert.AdamwOdInRefIdeal.defs (F := Ideal)) (onTc (τ := Cert.AdamwOdInRefIdeal.τ) (Cert.AdamwOdInRefIdeal.main (F := Ideal))) ⟨m', fun _ => 0, g'⟩ (fun r => ∀ c : Dev Cert.AdamwOdInRefIdeal.nD,
          r.2.mem ((c.tc : Thread Cert.AdamwOdInRefIdeal.nD Cert.AdamwOdInRefIdeal.τ).loc Cert.AdamwOdInRefIdeal.main_v23) = v0 c
          ∧ r.2.mem ((c.tc : Thread Cert.AdamwOdInRefIdeal.nD Cert.AdamwOdInRefIdeal.τ).loc Cert.AdamwOdInRefIdeal.main_v4) = v1 c
          ∧ r.2.mem ((c.tc : Thread Cert.AdamwOdInRefIdeal.nD Cert.AdamwOdInRefIdeal.τ).loc Cert.AdamwOdInRefIdeal.main_v10) = v2 c
          ∧ r.2.mem ((c.tc : Thread Cert.AdamwOdInRefIdeal.nD Cert.AdamwOdInRefIdeal.τ).loc Cert.AdamwOdInRefIdeal.main_arg0) = m' ((c.tc : Thread Cert.AdamwOdInRefIdeal.nD Cert.AdamwOdInRefIdeal.τ).loc Cert.AdamwOdInRefIdeal.main_arg0)
          ∧ r.2.mem ((c.tc : Thread Cert.AdamwOdInRefIdeal.nD Cert.AdamwOdInRefIdeal.τ).loc Cert.AdamwOdInRefIdeal.main_arg1) = m' ((c.tc : Thread Cert.AdamwOdInRefIdeal.nD Cert.AdamwOdInRefIdeal.τ).loc Cert.AdamwOdInRefIdeal.main_arg1)
          ∧ r.2.mem ((c.tc : Thread Cert.AdamwOdInRefIdeal.nD Cert.AdamwOdInRefIdeal.τ).loc Cert.AdamwOdInRefIdeal.main_arg2) = m' ((c.tc : Thread Cert.AdamwOdInRefIdeal.nD Cert.AdamwOdInRefIdeal.τ).loc Cert.AdamwOdInRefIdeal.main_arg2)
          ∧ r.2.mem ((c.tc : Thread Cert.AdamwOdInRefIdeal.nD Cert.AdamwOdInRefIdeal.τ).loc Cert.AdamwOdInRefIdeal.main_arg3) = m' ((c.tc : Thread Cert.AdamwOdInRefIdeal.nD Cert.AdamwOdInRefIdeal.τ).loc Cert.AdamwOdInRefIdeal.main_arg3))

def preserves_AdamwSmall_AdamwSmallIdeal : Prop :=
  True

def algebraic_AdamwSmallIdeal_AdamwSmallRefIdeal [hAdamwSmallIdeal : Cert.AdamwSmallIdeal.Facts] [hAdamwSmallRefIdeal : Cert.AdamwSmallRefIdeal.Facts] : Prop :=
  ∀ (m : (ℓ : Loc Cert.AdamwSmallIdeal.nD Cert.AdamwSmallIdeal.τ Cert.AdamwSmallIdeal.sig) → Buf (Elt Ideal) ℓ) (g : Dev Cert.AdamwSmallIdeal.nD → PrngReg)
    (m' : (ℓ : Loc Cert.AdamwSmallRefIdeal.nD Cert.AdamwSmallRefIdeal.τ Cert.AdamwSmallRefIdeal.sig) → Buf (Elt Ideal) ℓ) (g' : Dev Cert.AdamwSmallRefIdeal.nD → PrngReg), Pre_AdamwSmallIdeal m →
    (∀ c : Dev Cert.AdamwSmallIdeal.nD,
      m' ((c.tc : Thread Cert.AdamwSmallRefIdeal.nD Cert.AdamwSmallRefIdeal.τ).loc Cert.AdamwSmallRefIdeal.main_arg0) = m ((c.tc : Thread Cert.AdamwSmallIdeal.nD Cert.AdamwSmallIdeal.τ).loc Cert.AdamwSmallIdeal.main_arg0)
      ∧ m' ((c.tc : Thread Cert.AdamwSmallRefIdeal.nD Cert.AdamwSmallRefIdeal.τ).loc Cert.AdamwSmallRefIdeal.main_arg1) = m ((c.tc : Thread Cert.AdamwSmallIdeal.nD Cert.AdamwSmallIdeal.τ).loc Cert.AdamwSmallIdeal.main_arg1)
      ∧ m' ((c.tc : Thread Cert.AdamwSmallRefIdeal.nD Cert.AdamwSmallRefIdeal.τ).loc Cert.AdamwSmallRefIdeal.main_arg2) = m ((c.tc : Thread Cert.AdamwSmallIdeal.nD Cert.AdamwSmallIdeal.τ).loc Cert.AdamwSmallIdeal.main_arg2)
      ∧ m' ((c.tc : Thread Cert.AdamwSmallRefIdeal.nD Cert.AdamwSmallRefIdeal.τ).loc Cert.AdamwSmallRefIdeal.main_arg3) = m ((c.tc : Thread Cert.AdamwSmallIdeal.nD Cert.AdamwSmallIdeal.τ).loc Cert.AdamwSmallIdeal.main_arg3)) →
    ∃ (v0 : (c : Dev Cert.AdamwSmallIdeal.nD) → Buf (Elt Ideal) ((c.tc : Thread Cert.AdamwSmallIdeal.nD Cert.AdamwSmallIdeal.τ).loc Cert.AdamwSmallIdeal.main_v0_0)) (v1 : (c : Dev Cert.AdamwSmallIdeal.nD) → Buf (Elt Ideal) ((c.tc : Thread Cert.AdamwSmallIdeal.nD Cert.AdamwSmallIdeal.τ).loc Cert.AdamwSmallIdeal.main_v0_1)) (v2 : (c : Dev Cert.AdamwSmallIdeal.nD) → Buf (Elt Ideal) ((c.tc : Thread Cert.AdamwSmallIdeal.nD Cert.AdamwSmallIdeal.τ).loc Cert.AdamwSmallIdeal.main_v0_2)),
      θ_run (Cert.AdamwSmallIdeal.defs (F := Ideal)) (onTc (τ := Cert.AdamwSmallIdeal.τ) (Cert.AdamwSmallIdeal.main (F := Ideal))) ⟨m, fun _ => 0, g⟩ (fun r => ∀ c : Dev Cert.AdamwSmallIdeal.nD,
          r.2.mem ((c.tc : Thread Cert.AdamwSmallIdeal.nD Cert.AdamwSmallIdeal.τ).loc Cert.AdamwSmallIdeal.main_v0_0) = v0 c
          ∧ r.2.mem ((c.tc : Thread Cert.AdamwSmallIdeal.nD Cert.AdamwSmallIdeal.τ).loc Cert.AdamwSmallIdeal.main_v0_1) = v1 c
          ∧ r.2.mem ((c.tc : Thread Cert.AdamwSmallIdeal.nD Cert.AdamwSmallIdeal.τ).loc Cert.AdamwSmallIdeal.main_v0_2) = v2 c
          ∧ r.2.mem ((c.tc : Thread Cert.AdamwSmallIdeal.nD Cert.AdamwSmallIdeal.τ).loc Cert.AdamwSmallIdeal.main_arg0) = m ((c.tc : Thread Cert.AdamwSmallIdeal.nD Cert.AdamwSmallIdeal.τ).loc Cert.AdamwSmallIdeal.main_arg0)
          ∧ r.2.mem ((c.tc : Thread Cert.AdamwSmallIdeal.nD Cert.AdamwSmallIdeal.τ).loc Cert.AdamwSmallIdeal.main_arg1) = m ((c.tc : Thread Cert.AdamwSmallIdeal.nD Cert.AdamwSmallIdeal.τ).loc Cert.AdamwSmallIdeal.main_arg1)
          ∧ r.2.mem ((c.tc : Thread Cert.AdamwSmallIdeal.nD Cert.AdamwSmallIdeal.τ).loc Cert.AdamwSmallIdeal.main_arg2) = m ((c.tc : Thread Cert.AdamwSmallIdeal.nD Cert.AdamwSmallIdeal.τ).loc Cert.AdamwSmallIdeal.main_arg2)
          ∧ r.2.mem ((c.tc : Thread Cert.AdamwSmallIdeal.nD Cert.AdamwSmallIdeal.τ).loc Cert.AdamwSmallIdeal.main_arg3) = m ((c.tc : Thread Cert.AdamwSmallIdeal.nD Cert.AdamwSmallIdeal.τ).loc Cert.AdamwSmallIdeal.main_arg3))
      ∧ θ_run (Cert.AdamwSmallRefIdeal.defs (F := Ideal)) (onTc (τ := Cert.AdamwSmallRefIdeal.τ) (Cert.AdamwSmallRefIdeal.main (F := Ideal))) ⟨m', fun _ => 0, g'⟩ (fun r => ∀ c : Dev Cert.AdamwSmallRefIdeal.nD,
          r.2.mem ((c.tc : Thread Cert.AdamwSmallRefIdeal.nD Cert.AdamwSmallRefIdeal.τ).loc Cert.AdamwSmallRefIdeal.main_v23) = v0 c
          ∧ r.2.mem ((c.tc : Thread Cert.AdamwSmallRefIdeal.nD Cert.AdamwSmallRefIdeal.τ).loc Cert.AdamwSmallRefIdeal.main_v4) = v1 c
          ∧ r.2.mem ((c.tc : Thread Cert.AdamwSmallRefIdeal.nD Cert.AdamwSmallRefIdeal.τ).loc Cert.AdamwSmallRefIdeal.main_v10) = v2 c
          ∧ r.2.mem ((c.tc : Thread Cert.AdamwSmallRefIdeal.nD Cert.AdamwSmallRefIdeal.τ).loc Cert.AdamwSmallRefIdeal.main_arg0) = m' ((c.tc : Thread Cert.AdamwSmallRefIdeal.nD Cert.AdamwSmallRefIdeal.τ).loc Cert.AdamwSmallRefIdeal.main_arg0)
          ∧ r.2.mem ((c.tc : Thread Cert.AdamwSmallRefIdeal.nD Cert.AdamwSmallRefIdeal.τ).loc Cert.AdamwSmallRefIdeal.main_arg1) = m' ((c.tc : Thread Cert.AdamwSmallRefIdeal.nD Cert.AdamwSmallRefIdeal.τ).loc Cert.AdamwSmallRefIdeal.main_arg1)
          ∧ r.2.mem ((c.tc : Thread Cert.AdamwSmallRefIdeal.nD Cert.AdamwSmallRefIdeal.τ).loc Cert.AdamwSmallRefIdeal.main_arg2) = m' ((c.tc : Thread Cert.AdamwSmallRefIdeal.nD Cert.AdamwSmallRefIdeal.τ).loc Cert.AdamwSmallRefIdeal.main_arg2)
          ∧ r.2.mem ((c.tc : Thread Cert.AdamwSmallRefIdeal.nD Cert.AdamwSmallRefIdeal.τ).loc Cert.AdamwSmallRefIdeal.main_arg3) = m' ((c.tc : Thread Cert.AdamwSmallRefIdeal.nD Cert.AdamwSmallRefIdeal.τ).loc Cert.AdamwSmallRefIdeal.main_arg3))

def preserves_ModBwd_ModBwdIdeal : Prop :=
  True

def algebraic_ModBwdIdeal_ModBwdRefIdeal [hModBwdIdeal : Cert.ModBwdIdeal.Facts] [hModBwdRefIdeal : Cert.ModBwdRefIdeal.Facts] : Prop :=
  ∀ (m : (ℓ : Loc Cert.ModBwdIdeal.nD Cert.ModBwdIdeal.τ Cert.ModBwdIdeal.sig) → Buf (Elt Ideal) ℓ) (g : Dev Cert.ModBwdIdeal.nD → PrngReg)
    (m' : (ℓ : Loc Cert.ModBwdRefIdeal.nD Cert.ModBwdRefIdeal.τ Cert.ModBwdRefIdeal.sig) → Buf (Elt Ideal) ℓ) (g' : Dev Cert.ModBwdRefIdeal.nD → PrngReg), Pre_ModBwdIdeal m →
    (∀ c : Dev Cert.ModBwdIdeal.nD,
      m' ((c.tc : Thread Cert.ModBwdRefIdeal.nD Cert.ModBwdRefIdeal.τ).loc Cert.ModBwdRefIdeal.main_arg0) = m ((c.tc : Thread Cert.ModBwdIdeal.nD Cert.ModBwdIdeal.τ).loc Cert.ModBwdIdeal.main_arg0)
      ∧ m' ((c.tc : Thread Cert.ModBwdRefIdeal.nD Cert.ModBwdRefIdeal.τ).loc Cert.ModBwdRefIdeal.main_arg1) = m ((c.tc : Thread Cert.ModBwdIdeal.nD Cert.ModBwdIdeal.τ).loc Cert.ModBwdIdeal.main_arg1)
      ∧ m' ((c.tc : Thread Cert.ModBwdRefIdeal.nD Cert.ModBwdRefIdeal.τ).loc Cert.ModBwdRefIdeal.main_arg2) = m ((c.tc : Thread Cert.ModBwdIdeal.nD Cert.ModBwdIdeal.τ).loc Cert.ModBwdIdeal.main_arg2)) →
    ∃ (v0 : (c : Dev Cert.ModBwdIdeal.nD) → Buf (Elt Ideal) ((c.tc : Thread Cert.ModBwdIdeal.nD Cert.ModBwdIdeal.τ).loc Cert.ModBwdIdeal.main_v0_0)) (v1 : (c : Dev Cert.ModBwdIdeal.nD) → Buf (Elt Ideal) ((c.tc : Thread Cert.ModBwdIdeal.nD Cert.ModBwdIdeal.τ).loc Cert.ModBwdIdeal.main_v0_1)),
      θ_run (Cert.ModBwdIdeal.defs (F := Ideal)) (onTc (τ := Cert.ModBwdIdeal.τ) (Cert.ModBwdIdeal.main (F := Ideal))) ⟨m, fun _ => 0, g⟩ (fun r => ∀ c : Dev Cert.ModBwdIdeal.nD,
          r.2.mem ((c.tc : Thread Cert.ModBwdIdeal.nD Cert.ModBwdIdeal.τ).loc Cert.ModBwdIdeal.main_v0_0) = v0 c
          ∧ r.2.mem ((c.tc : Thread Cert.ModBwdIdeal.nD Cert.ModBwdIdeal.τ).loc Cert.ModBwdIdeal.main_v0_1) = v1 c
          ∧ r.2.mem ((c.tc : Thread Cert.ModBwdIdeal.nD Cert.ModBwdIdeal.τ).loc Cert.ModBwdIdeal.main_arg0) = m ((c.tc : Thread Cert.ModBwdIdeal.nD Cert.ModBwdIdeal.τ).loc Cert.ModBwdIdeal.main_arg0)
          ∧ r.2.mem ((c.tc : Thread Cert.ModBwdIdeal.nD Cert.ModBwdIdeal.τ).loc Cert.ModBwdIdeal.main_arg1) = m ((c.tc : Thread Cert.ModBwdIdeal.nD Cert.ModBwdIdeal.τ).loc Cert.ModBwdIdeal.main_arg1)
          ∧ r.2.mem ((c.tc : Thread Cert.ModBwdIdeal.nD Cert.ModBwdIdeal.τ).loc Cert.ModBwdIdeal.main_arg2) = m ((c.tc : Thread Cert.ModBwdIdeal.nD Cert.ModBwdIdeal.τ).loc Cert.ModBwdIdeal.main_arg2))
      ∧ θ_run (Cert.ModBwdRefIdeal.defs (F := Ideal)) (onTc (τ := Cert.ModBwdRefIdeal.τ) (Cert.ModBwdRefIdeal.main (F := Ideal))) ⟨m', fun _ => 0, g'⟩ (fun r => ∀ c : Dev Cert.ModBwdRefIdeal.nD,
          r.2.mem ((c.tc : Thread Cert.ModBwdRefIdeal.nD Cert.ModBwdRefIdeal.τ).loc Cert.ModBwdRefIdeal.main_v4) = v0 c
          ∧ r.2.mem ((c.tc : Thread Cert.ModBwdRefIdeal.nD Cert.ModBwdRefIdeal.τ).loc Cert.ModBwdRefIdeal.main_v8) = v1 c
          ∧ r.2.mem ((c.tc : Thread Cert.ModBwdRefIdeal.nD Cert.ModBwdRefIdeal.τ).loc Cert.ModBwdRefIdeal.main_arg0) = m' ((c.tc : Thread Cert.ModBwdRefIdeal.nD Cert.ModBwdRefIdeal.τ).loc Cert.ModBwdRefIdeal.main_arg0)
          ∧ r.2.mem ((c.tc : Thread Cert.ModBwdRefIdeal.nD Cert.ModBwdRefIdeal.τ).loc Cert.ModBwdRefIdeal.main_arg1) = m' ((c.tc : Thread Cert.ModBwdRefIdeal.nD Cert.ModBwdRefIdeal.τ).loc Cert.ModBwdRefIdeal.main_arg1)
          ∧ r.2.mem ((c.tc : Thread Cert.ModBwdRefIdeal.nD Cert.ModBwdRefIdeal.τ).loc Cert.ModBwdRefIdeal.main_arg2) = m' ((c.tc : Thread Cert.ModBwdRefIdeal.nD Cert.ModBwdRefIdeal.τ).loc Cert.ModBwdRefIdeal.main_arg2))

def preserves_CctxGrad_CctxGradIdeal : Prop :=
  True

def algebraic_CctxGradIdeal_CctxGradRefIdeal [hCctxGradIdeal : Cert.CctxGradIdeal.Facts] [hCctxGradRefIdeal : Cert.CctxGradRefIdeal.Facts] : Prop :=
  ∀ (m : (ℓ : Loc Cert.CctxGradIdeal.nD Cert.CctxGradIdeal.τ Cert.CctxGradIdeal.sig) → Buf (Elt Ideal) ℓ) (g : Dev Cert.CctxGradIdeal.nD → PrngReg)
    (m' : (ℓ : Loc Cert.CctxGradRefIdeal.nD Cert.CctxGradRefIdeal.τ Cert.CctxGradRefIdeal.sig) → Buf (Elt Ideal) ℓ) (g' : Dev Cert.CctxGradRefIdeal.nD → PrngReg), Pre_CctxGradIdeal m →
    (∀ c : Dev Cert.CctxGradIdeal.nD,
      m' ((c.tc : Thread Cert.CctxGradRefIdeal.nD Cert.CctxGradRefIdeal.τ).loc Cert.CctxGradRefIdeal.main_arg0) = m ((c.tc : Thread Cert.CctxGradIdeal.nD Cert.CctxGradIdeal.τ).loc Cert.CctxGradIdeal.main_arg0)
      ∧ m' ((c.tc : Thread Cert.CctxGradRefIdeal.nD Cert.CctxGradRefIdeal.τ).loc Cert.CctxGradRefIdeal.main_arg1) = m ((c.tc : Thread Cert.CctxGradIdeal.nD Cert.CctxGradIdeal.τ).loc Cert.CctxGradIdeal.main_arg1)) →
    ∃ (v0 : (c : Dev Cert.CctxGradIdeal.nD) → Buf (Elt Ideal) ((c.tc : Thread Cert.CctxGradIdeal.nD Cert.CctxGradIdeal.τ).loc Cert.CctxGradIdeal.main_v0)),
      θ_run (Cert.CctxGradIdeal.defs (F := Ideal)) (onTc (τ := Cert.CctxGradIdeal.τ) (Cert.CctxGradIdeal.main (F := Ideal))) ⟨m, fun _ => 0, g⟩ (fun r => ∀ c : Dev Cert.CctxGradIdeal.nD,
          r.2.mem ((c.tc : Thread Cert.CctxGradIdeal.nD Cert.CctxGradIdeal.τ).loc Cert.CctxGradIdeal.main_v0) = v0 c
          ∧ r.2.mem ((c.tc : Thread Cert.CctxGradIdeal.nD Cert.CctxGradIdeal.τ).loc Cert.CctxGradIdeal.main_arg0) = m ((c.tc : Thread Cert.CctxGradIdeal.nD Cert.CctxGradIdeal.τ).loc Cert.CctxGradIdeal.main_arg0)
          ∧ r.2.mem ((c.tc : Thread Cert.CctxGradIdeal.nD Cert.CctxGradIdeal.τ).loc Cert.CctxGradIdeal.main_arg1) = m ((c.tc : Thread Cert.CctxGradIdeal.nD Cert.CctxGradIdeal.τ).loc Cert.CctxGradIdeal.main_arg1))
      ∧ θ_run (Cert.CctxGradRefIdeal.defs (F := Ideal)) (onTc (τ := Cert.CctxGradRefIdeal.τ) (Cert.CctxGradRefIdeal.main (F := Ideal))) ⟨m', fun _ => 0, g'⟩ (fun r => ∀ c : Dev Cert.CctxGradRefIdeal.nD,
          r.2.mem ((c.tc : Thread Cert.CctxGradRefIdeal.nD Cert.CctxGradRefIdeal.τ).loc Cert.CctxGradRefIdeal.main_v16) = v0 c
          ∧ r.2.mem ((c.tc : Thread Cert.CctxGradRefIdeal.nD Cert.CctxGradRefIdeal.τ).loc Cert.CctxGradRefIdeal.main_arg0) = m' ((c.tc : Thread Cert.CctxGradRefIdeal.nD Cert.CctxGradRefIdeal.τ).loc Cert.CctxGradRefIdeal.main_arg0)
          ∧ r.2.mem ((c.tc : Thread Cert.CctxGradRefIdeal.nD Cert.CctxGradRefIdeal.τ).loc Cert.CctxGradRefIdeal.main_arg1) = m' ((c.tc : Thread Cert.CctxGradRefIdeal.nD Cert.CctxGradRefIdeal.τ).loc Cert.CctxGradRefIdeal.main_arg1))

def preserves_NormBwd_NormBwdIdeal : Prop :=
  True

def algebraic_NormBwdIdeal_NormBwdRefIdeal [hNormBwdIdeal : Cert.NormBwdIdeal.Facts] [hNormBwdRefIdeal : Cert.NormBwdRefIdeal.Facts] : Prop :=
  ∀ (m : (ℓ : Loc Cert.NormBwdIdeal.nD Cert.NormBwdIdeal.τ Cert.NormBwdIdeal.sig) → Buf (Elt Ideal) ℓ) (g : Dev Cert.NormBwdIdeal.nD → PrngReg)
    (m' : (ℓ : Loc Cert.NormBwdRefIdeal.nD Cert.NormBwdRefIdeal.τ Cert.NormBwdRefIdeal.sig) → Buf (Elt Ideal) ℓ) (g' : Dev Cert.NormBwdRefIdeal.nD → PrngReg), Pre_NormBwdIdeal m →
    (∀ c : Dev Cert.NormBwdIdeal.nD,
      m' ((c.tc : Thread Cert.NormBwdRefIdeal.nD Cert.NormBwdRefIdeal.τ).loc Cert.NormBwdRefIdeal.main_arg0) = m ((c.tc : Thread Cert.NormBwdIdeal.nD Cert.NormBwdIdeal.τ).loc Cert.NormBwdIdeal.main_arg0)
      ∧ m' ((c.tc : Thread Cert.NormBwdRefIdeal.nD Cert.NormBwdRefIdeal.τ).loc Cert.NormBwdRefIdeal.main_arg1) = m ((c.tc : Thread Cert.NormBwdIdeal.nD Cert.NormBwdIdeal.τ).loc Cert.NormBwdIdeal.main_arg1)
      ∧ m' ((c.tc : Thread Cert.NormBwdRefIdeal.nD Cert.NormBwdRefIdeal.τ).loc Cert.NormBwdRefIdeal.main_arg2) = m ((c.tc : Thread Cert.NormBwdIdeal.nD Cert.NormBwdIdeal.τ).loc Cert.NormBwdIdeal.main_arg2)
      ∧ m' ((c.tc : Thread Cert.NormBwdRefIdeal.nD Cert.NormBwdRefIdeal.τ).loc Cert.NormBwdRefIdeal.main_arg3) = m ((c.tc : Thread Cert.NormBwdIdeal.nD Cert.NormBwdIdeal.τ).loc Cert.NormBwdIdeal.main_arg3)
      ∧ m' ((c.tc : Thread Cert.NormBwdRefIdeal.nD Cert.NormBwdRefIdeal.τ).loc Cert.NormBwdRefIdeal.main_arg4) = m ((c.tc : Thread Cert.NormBwdIdeal.nD Cert.NormBwdIdeal.τ).loc Cert.NormBwdIdeal.main_arg4)
      ∧ m' ((c.tc : Thread Cert.NormBwdRefIdeal.nD Cert.NormBwdRefIdeal.τ).loc Cert.NormBwdRefIdeal.main_arg5) = m ((c.tc : Thread Cert.NormBwdIdeal.nD Cert.NormBwdIdeal.τ).loc Cert.NormBwdIdeal.main_arg5)) →
    ∃ (v0 : (c : Dev Cert.NormBwdIdeal.nD) → Buf (Elt Ideal) ((c.tc : Thread Cert.NormBwdIdeal.nD Cert.NormBwdIdeal.τ).loc Cert.NormBwdIdeal.main_v0_0)) (v1 : (c : Dev Cert.NormBwdIdeal.nD) → Buf (Elt Ideal) ((c.tc : Thread Cert.NormBwdIdeal.nD Cert.NormBwdIdeal.τ).loc Cert.NormBwdIdeal.main_v0_1)) (v2 : (c : Dev Cert.NormBwdIdeal.nD) → Buf (Elt Ideal) ((c.tc : Thread Cert.NormBwdIdeal.nD Cert.NormBwdIdeal.τ).loc Cert.NormBwdIdeal.main_v0_2)) (v3 : (c : Dev Cert.NormBwdIdeal.nD) → Buf (Elt Ideal) ((c.tc : Thread Cert.NormBwdIdeal.nD Cert.NormBwdIdeal.τ).loc Cert.NormBwdIdeal.main_v0_3)),
      θ_run (Cert.NormBwdIdeal.defs (F := Ideal)) (onTc (τ := Cert.NormBwdIdeal.τ) (Cert.NormBwdIdeal.main (F := Ideal))) ⟨m, fun _ => 0, g⟩ (fun r => ∀ c : Dev Cert.NormBwdIdeal.nD,
          r.2.mem ((c.tc : Thread Cert.NormBwdIdeal.nD Cert.NormBwdIdeal.τ).loc Cert.NormBwdIdeal.main_v0_0) = v0 c
          ∧ r.2.mem ((c.tc : Thread Cert.NormBwdIdeal.nD Cert.NormBwdIdeal.τ).loc Cert.NormBwdIdeal.main_v0_1) = v1 c
          ∧ r.2.mem ((c.tc : Thread Cert.NormBwdIdeal.nD Cert.NormBwdIdeal.τ).loc Cert.NormBwdIdeal.main_v0_2) = v2 c
          ∧ r.2.mem ((c.tc : Thread Cert.NormBwdIdeal.nD Cert.NormBwdIdeal.τ).loc Cert.NormBwdIdeal.main_v0_3) = v3 c
          ∧ r.2.mem ((c.tc : Thread Cert.NormBwdIdeal.nD Cert.NormBwdIdeal.τ).loc Cert.NormBwdIdeal.main_arg0) = m ((c.tc : Thread Cert.NormBwdIdeal.nD Cert.NormBwdIdeal.τ).loc Cert.NormBwdIdeal.main_arg0)
          ∧ r.2.mem ((c.tc : Thread Cert.NormBwdIdeal.nD Cert.NormBwdIdeal.τ).loc Cert.NormBwdIdeal.main_arg1) = m ((c.tc : Thread Cert.NormBwdIdeal.nD Cert.NormBwdIdeal.τ).loc Cert.NormBwdIdeal.main_arg1)
          ∧ r.2.mem ((c.tc : Thread Cert.NormBwdIdeal.nD Cert.NormBwdIdeal.τ).loc Cert.NormBwdIdeal.main_arg2) = m ((c.tc : Thread Cert.NormBwdIdeal.nD Cert.NormBwdIdeal.τ).loc Cert.NormBwdIdeal.main_arg2)
          ∧ r.2.mem ((c.tc : Thread Cert.NormBwdIdeal.nD Cert.NormBwdIdeal.τ).loc Cert.NormBwdIdeal.main_arg3) = m ((c.tc : Thread Cert.NormBwdIdeal.nD Cert.NormBwdIdeal.τ).loc Cert.NormBwdIdeal.main_arg3)
          ∧ r.2.mem ((c.tc : Thread Cert.NormBwdIdeal.nD Cert.NormBwdIdeal.τ).loc Cert.NormBwdIdeal.main_arg4) = m ((c.tc : Thread Cert.NormBwdIdeal.nD Cert.NormBwdIdeal.τ).loc Cert.NormBwdIdeal.main_arg4)
          ∧ r.2.mem ((c.tc : Thread Cert.NormBwdIdeal.nD Cert.NormBwdIdeal.τ).loc Cert.NormBwdIdeal.main_arg5) = m ((c.tc : Thread Cert.NormBwdIdeal.nD Cert.NormBwdIdeal.τ).loc Cert.NormBwdIdeal.main_arg5))
      ∧ θ_run (Cert.NormBwdRefIdeal.defs (F := Ideal)) (onTc (τ := Cert.NormBwdRefIdeal.τ) (Cert.NormBwdRefIdeal.main (F := Ideal))) ⟨m', fun _ => 0, g'⟩ (fun r => ∀ c : Dev Cert.NormBwdRefIdeal.nD,
          r.2.mem ((c.tc : Thread Cert.NormBwdRefIdeal.nD Cert.NormBwdRefIdeal.τ).loc Cert.NormBwdRefIdeal.main_v27) = v0 c
          ∧ r.2.mem ((c.tc : Thread Cert.NormBwdRefIdeal.nD Cert.NormBwdRefIdeal.τ).loc Cert.NormBwdRefIdeal.main_v29) = v1 c
          ∧ r.2.mem ((c.tc : Thread Cert.NormBwdRefIdeal.nD Cert.NormBwdRefIdeal.τ).loc Cert.NormBwdRefIdeal.main_v34) = v2 c
          ∧ r.2.mem ((c.tc : Thread Cert.NormBwdRefIdeal.nD Cert.NormBwdRefIdeal.τ).loc Cert.NormBwdRefIdeal.main_v38) = v3 c
          ∧ r.2.mem ((c.tc : Thread Cert.NormBwdRefIdeal.nD Cert.NormBwdRefIdeal.τ).loc Cert.NormBwdRefIdeal.main_arg0) = m' ((c.tc : Thread Cert.NormBwdRefIdeal.nD Cert.NormBwdRefIdeal.τ).loc Cert.NormBwdRefIdeal.main_arg0)
          ∧ r.2.mem ((c.tc : Thread Cert.NormBwdRefIdeal.nD Cert.NormBwdRefIdeal.τ).loc Cert.NormBwdRefIdeal.main_arg1) = m' ((c.tc : Thread Cert.NormBwdRefIdeal.nD Cert.NormBwdRefIdeal.τ).loc Cert.NormBwdRefIdeal.main_arg1)
          ∧ r.2.mem ((c.tc : Thread Cert.NormBwdRefIdeal.nD Cert.NormBwdRefIdeal.τ).loc Cert.NormBwdRefIdeal.main_arg2) = m' ((c.tc : Thread Cert.NormBwdRefIdeal.nD Cert.NormBwdRefIdeal.τ).loc Cert.NormBwdRefIdeal.main_arg2)
          ∧ r.2.mem ((c.tc : Thread Cert.NormBwdRefIdeal.nD Cert.NormBwdRefIdeal.τ).loc Cert.NormBwdRefIdeal.main_arg3) = m' ((c.tc : Thread Cert.NormBwdRefIdeal.nD Cert.NormBwdRefIdeal.τ).loc Cert.NormBwdRefIdeal.main_arg3)
          ∧ r.2.mem ((c.tc : Thread Cert.NormBwdRefIdeal.nD Cert.NormBwdRefIdeal.τ).loc Cert.NormBwdRefIdeal.main_arg4) = m' ((c.tc : Thread Cert.NormBwdRefIdeal.nD Cert.NormBwdRefIdeal.τ).loc Cert.NormBwdRefIdeal.main_arg4)
          ∧ r.2.mem ((c.tc : Thread Cert.NormBwdRefIdeal.nD Cert.NormBwdRefIdeal.τ).loc Cert.NormBwdRefIdeal.main_arg5) = m' ((c.tc : Thread Cert.NormBwdRefIdeal.nD Cert.NormBwdRefIdeal.τ).loc Cert.NormBwdRefIdeal.main_arg5))

def preserves_FinalLoss_FinalLossIdeal : Prop :=
  True

def algebraic_FinalLossIdeal_FinalLossRefIdeal [hFinalLossIdeal : Cert.FinalLossIdeal.Facts] [hFinalLossRefIdeal : Cert.FinalLossRefIdeal.Facts] : Prop :=
  ∀ (m : (ℓ : Loc Cert.FinalLossIdeal.nD Cert.FinalLossIdeal.τ Cert.FinalLossIdeal.sig) → Buf (Elt Ideal) ℓ) (g : Dev Cert.FinalLossIdeal.nD → PrngReg)
    (m' : (ℓ : Loc Cert.FinalLossRefIdeal.nD Cert.FinalLossRefIdeal.τ Cert.FinalLossRefIdeal.sig) → Buf (Elt Ideal) ℓ) (g' : Dev Cert.FinalLossRefIdeal.nD → PrngReg), Pre_FinalLossIdeal m →
    (∀ c : Dev Cert.FinalLossIdeal.nD,
      m' ((c.tc : Thread Cert.FinalLossRefIdeal.nD Cert.FinalLossRefIdeal.τ).loc Cert.FinalLossRefIdeal.main_arg0) = m ((c.tc : Thread Cert.FinalLossIdeal.nD Cert.FinalLossIdeal.τ).loc Cert.FinalLossIdeal.main_arg0)
      ∧ m' ((c.tc : Thread Cert.FinalLossRefIdeal.nD Cert.FinalLossRefIdeal.τ).loc Cert.FinalLossRefIdeal.main_arg1) = m ((c.tc : Thread Cert.FinalLossIdeal.nD Cert.FinalLossIdeal.τ).loc Cert.FinalLossIdeal.main_arg1)
      ∧ m' ((c.tc : Thread Cert.FinalLossRefIdeal.nD Cert.FinalLossRefIdeal.τ).loc Cert.FinalLossRefIdeal.main_arg2) = m ((c.tc : Thread Cert.FinalLossIdeal.nD Cert.FinalLossIdeal.τ).loc Cert.FinalLossIdeal.main_arg2)
      ∧ m' ((c.tc : Thread Cert.FinalLossRefIdeal.nD Cert.FinalLossRefIdeal.τ).loc Cert.FinalLossRefIdeal.main_arg3) = m ((c.tc : Thread Cert.FinalLossIdeal.nD Cert.FinalLossIdeal.τ).loc Cert.FinalLossIdeal.main_arg3)
      ∧ m' ((c.tc : Thread Cert.FinalLossRefIdeal.nD Cert.FinalLossRefIdeal.τ).loc Cert.FinalLossRefIdeal.main_arg4) = m ((c.tc : Thread Cert.FinalLossIdeal.nD Cert.FinalLossIdeal.τ).loc Cert.FinalLossIdeal.main_arg4)) →
    ∃ (v0 : (c : Dev Cert.FinalLossIdeal.nD) → Buf (Elt Ideal) ((c.tc : Thread Cert.FinalLossIdeal.nD Cert.FinalLossIdeal.τ).loc Cert.FinalLossIdeal.main_v2)) (v1 : (c : Dev Cert.FinalLossIdeal.nD) → Buf (Elt Ideal) ((c.tc : Thread Cert.FinalLossIdeal.nD Cert.FinalLossIdeal.τ).loc Cert.FinalLossIdeal.main_v0_0)) (v2 : (c : Dev Cert.FinalLossIdeal.nD) → Buf (Elt Ideal) ((c.tc : Thread Cert.FinalLossIdeal.nD Cert.FinalLossIdeal.τ).loc Cert.FinalLossIdeal.main_v0_1)) (v3 : (c : Dev Cert.FinalLossIdeal.nD) → Buf (Elt Ideal) ((c.tc : Thread Cert.FinalLossIdeal.nD Cert.FinalLossIdeal.τ).loc Cert.FinalLossIdeal.main_v0_3)) (v4 : (c : Dev Cert.FinalLossIdeal.nD) → Buf (Elt Ideal) ((c.tc : Thread Cert.FinalLossIdeal.nD Cert.FinalLossIdeal.τ).loc Cert.FinalLossIdeal.main_v0_4)),
      θ_run (Cert.FinalLossIdeal.defs (F := Ideal)) (onTc (τ := Cert.FinalLossIdeal.τ) (Cert.FinalLossIdeal.main (F := Ideal))) ⟨m, fun _ => 0, g⟩ (fun r => ∀ c : Dev Cert.FinalLossIdeal.nD,
          r.2.mem ((c.tc : Thread Cert.FinalLossIdeal.nD Cert.FinalLossIdeal.τ).loc Cert.FinalLossIdeal.main_v2) = v0 c
          ∧ r.2.mem ((c.tc : Thread Cert.FinalLossIdeal.nD Cert.FinalLossIdeal.τ).loc Cert.FinalLossIdeal.main_v0_0) = v1 c
          ∧ r.2.mem ((c.tc : Thread Cert.FinalLossIdeal.nD Cert.FinalLossIdeal.τ).loc Cert.FinalLossIdeal.main_v0_1) = v2 c
          ∧ r.2.mem ((c.tc : Thread Cert.FinalLossIdeal.nD Cert.FinalLossIdeal.τ).loc Cert.FinalLossIdeal.main_v0_3) = v3 c
          ∧ r.2.mem ((c.tc : Thread Cert.FinalLossIdeal.nD Cert.FinalLossIdeal.τ).loc Cert.FinalLossIdeal.main_v0_4) = v4 c
          ∧ r.2.mem ((c.tc : Thread Cert.FinalLossIdeal.nD Cert.FinalLossIdeal.τ).loc Cert.FinalLossIdeal.main_arg0) = m ((c.tc : Thread Cert.FinalLossIdeal.nD Cert.FinalLossIdeal.τ).loc Cert.FinalLossIdeal.main_arg0)
          ∧ r.2.mem ((c.tc : Thread Cert.FinalLossIdeal.nD Cert.FinalLossIdeal.τ).loc Cert.FinalLossIdeal.main_arg1) = m ((c.tc : Thread Cert.FinalLossIdeal.nD Cert.FinalLossIdeal.τ).loc Cert.FinalLossIdeal.main_arg1)
          ∧ r.2.mem ((c.tc : Thread Cert.FinalLossIdeal.nD Cert.FinalLossIdeal.τ).loc Cert.FinalLossIdeal.main_arg2) = m ((c.tc : Thread Cert.FinalLossIdeal.nD Cert.FinalLossIdeal.τ).loc Cert.FinalLossIdeal.main_arg2)
          ∧ r.2.mem ((c.tc : Thread Cert.FinalLossIdeal.nD Cert.FinalLossIdeal.τ).loc Cert.FinalLossIdeal.main_arg3) = m ((c.tc : Thread Cert.FinalLossIdeal.nD Cert.FinalLossIdeal.τ).loc Cert.FinalLossIdeal.main_arg3)
          ∧ r.2.mem ((c.tc : Thread Cert.FinalLossIdeal.nD Cert.FinalLossIdeal.τ).loc Cert.FinalLossIdeal.main_arg4) = m ((c.tc : Thread Cert.FinalLossIdeal.nD Cert.FinalLossIdeal.τ).loc Cert.FinalLossIdeal.main_arg4))
      ∧ θ_run (Cert.FinalLossRefIdeal.defs (F := Ideal)) (onTc (τ := Cert.FinalLossRefIdeal.τ) (Cert.FinalLossRefIdeal.main (F := Ideal))) ⟨m', fun _ => 0, g'⟩ (fun r => ∀ c : Dev Cert.FinalLossRefIdeal.nD,
          r.2.mem ((c.tc : Thread Cert.FinalLossRefIdeal.nD Cert.FinalLossRefIdeal.τ).loc Cert.FinalLossRefIdeal.main_v18) = v0 c
          ∧ r.2.mem ((c.tc : Thread Cert.FinalLossRefIdeal.nD Cert.FinalLossRefIdeal.τ).loc Cert.FinalLossRefIdeal.main_v32) = v1 c
          ∧ r.2.mem ((c.tc : Thread Cert.FinalLossRefIdeal.nD Cert.FinalLossRefIdeal.τ).loc Cert.FinalLossRefIdeal.main_v41) = v2 c
          ∧ r.2.mem ((c.tc : Thread Cert.FinalLossRefIdeal.nD Cert.FinalLossRefIdeal.τ).loc Cert.FinalLossRefIdeal.main_v35) = v3 c
          ∧ r.2.mem ((c.tc : Thread Cert.FinalLossRefIdeal.nD Cert.FinalLossRefIdeal.τ).loc Cert.FinalLossRefIdeal.main_v38) = v4 c
          ∧ r.2.mem ((c.tc : Thread Cert.FinalLossRefIdeal.nD Cert.FinalLossRefIdeal.τ).loc Cert.FinalLossRefIdeal.main_arg0) = m' ((c.tc : Thread Cert.FinalLossRefIdeal.nD Cert.FinalLossRefIdeal.τ).loc Cert.FinalLossRefIdeal.main_arg0)
          ∧ r.2.mem ((c.tc : Thread Cert.FinalLossRefIdeal.nD Cert.FinalLossRefIdeal.τ).loc Cert.FinalLossRefIdeal.main_arg1) = m' ((c.tc : Thread Cert.FinalLossRefIdeal.nD Cert.FinalLossRefIdeal.τ).loc Cert.FinalLossRefIdeal.main_arg1)
          ∧ r.2.mem ((c.tc : Thread Cert.FinalLossRefIdeal.nD Cert.FinalLossRefIdeal.τ).loc Cert.FinalLossRefIdeal.main_arg2) = m' ((c.tc : Thread Cert.FinalLossRefIdeal.nD Cert.FinalLossRefIdeal.τ).loc Cert.FinalLossRefIdeal.main_arg2)
          ∧ r.2.mem ((c.tc : Thread Cert.FinalLossRefIdeal.nD Cert.FinalLossRefIdeal.τ).loc Cert.FinalLossRefIdeal.main_arg3) = m' ((c.tc : Thread Cert.FinalLossRefIdeal.nD Cert.FinalLossRefIdeal.τ).loc Cert.FinalLossRefIdeal.main_arg3)
          ∧ r.2.mem ((c.tc : Thread Cert.FinalLossRefIdeal.nD Cert.FinalLossRefIdeal.τ).loc Cert.FinalLossRefIdeal.main_arg4) = m' ((c.tc : Thread Cert.FinalLossRefIdeal.nD Cert.FinalLossRefIdeal.τ).loc Cert.FinalLossRefIdeal.main_arg4))

def preserves_NormFwd_NormFwdIdeal : Prop :=
  True

def algebraic_NormFwdIdeal_NormFwdRefIdeal [hNormFwdIdeal : Cert.NormFwdIdeal.Facts] [hNormFwdRefIdeal : Cert.NormFwdRefIdeal.Facts] : Prop :=
  ∀ (m : (ℓ : Loc Cert.NormFwdIdeal.nD Cert.NormFwdIdeal.τ Cert.NormFwdIdeal.sig) → Buf (Elt Ideal) ℓ) (g : Dev Cert.NormFwdIdeal.nD → PrngReg)
    (m' : (ℓ : Loc Cert.NormFwdRefIdeal.nD Cert.NormFwdRefIdeal.τ Cert.NormFwdRefIdeal.sig) → Buf (Elt Ideal) ℓ) (g' : Dev Cert.NormFwdRefIdeal.nD → PrngReg), Pre_NormFwdIdeal m →
    (∀ c : Dev Cert.NormFwdIdeal.nD,
      m' ((c.tc : Thread Cert.NormFwdRefIdeal.nD Cert.NormFwdRefIdeal.τ).loc Cert.NormFwdRefIdeal.main_arg0) = m ((c.tc : Thread Cert.NormFwdIdeal.nD Cert.NormFwdIdeal.τ).loc Cert.NormFwdIdeal.main_arg0)
      ∧ m' ((c.tc : Thread Cert.NormFwdRefIdeal.nD Cert.NormFwdRefIdeal.τ).loc Cert.NormFwdRefIdeal.main_arg1) = m ((c.tc : Thread Cert.NormFwdIdeal.nD Cert.NormFwdIdeal.τ).loc Cert.NormFwdIdeal.main_arg1)
      ∧ m' ((c.tc : Thread Cert.NormFwdRefIdeal.nD Cert.NormFwdRefIdeal.τ).loc Cert.NormFwdRefIdeal.main_arg2) = m ((c.tc : Thread Cert.NormFwdIdeal.nD Cert.NormFwdIdeal.τ).loc Cert.NormFwdIdeal.main_arg2)
      ∧ m' ((c.tc : Thread Cert.NormFwdRefIdeal.nD Cert.NormFwdRefIdeal.τ).loc Cert.NormFwdRefIdeal.main_arg3) = m ((c.tc : Thread Cert.NormFwdIdeal.nD Cert.NormFwdIdeal.τ).loc Cert.NormFwdIdeal.main_arg3)) →
    ∃ (v0 : (c : Dev Cert.NormFwdIdeal.nD) → Buf (Elt Ideal) ((c.tc : Thread Cert.NormFwdIdeal.nD Cert.NormFwdIdeal.τ).loc Cert.NormFwdIdeal.main_v0)),
      θ_run (Cert.NormFwdIdeal.defs (F := Ideal)) (onTc (τ := Cert.NormFwdIdeal.τ) (Cert.NormFwdIdeal.main (F := Ideal))) ⟨m, fun _ => 0, g⟩ (fun r => ∀ c : Dev Cert.NormFwdIdeal.nD,
          r.2.mem ((c.tc : Thread Cert.NormFwdIdeal.nD Cert.NormFwdIdeal.τ).loc Cert.NormFwdIdeal.main_v0) = v0 c
          ∧ r.2.mem ((c.tc : Thread Cert.NormFwdIdeal.nD Cert.NormFwdIdeal.τ).loc Cert.NormFwdIdeal.main_arg0) = m ((c.tc : Thread Cert.NormFwdIdeal.nD Cert.NormFwdIdeal.τ).loc Cert.NormFwdIdeal.main_arg0)
          ∧ r.2.mem ((c.tc : Thread Cert.NormFwdIdeal.nD Cert.NormFwdIdeal.τ).loc Cert.NormFwdIdeal.main_arg1) = m ((c.tc : Thread Cert.NormFwdIdeal.nD Cert.NormFwdIdeal.τ).loc Cert.NormFwdIdeal.main_arg1)
          ∧ r.2.mem ((c.tc : Thread Cert.NormFwdIdeal.nD Cert.NormFwdIdeal.τ).loc Cert.NormFwdIdeal.main_arg2) = m ((c.tc : Thread Cert.NormFwdIdeal.nD Cert.NormFwdIdeal.τ).loc Cert.NormFwdIdeal.main_arg2)
          ∧ r.2.mem ((c.tc : Thread Cert.NormFwdIdeal.nD Cert.NormFwdIdeal.τ).loc Cert.NormFwdIdeal.main_arg3) = m ((c.tc : Thread Cert.NormFwdIdeal.nD Cert.NormFwdIdeal.τ).loc Cert.NormFwdIdeal.main_arg3))
      ∧ θ_run (Cert.NormFwdRefIdeal.defs (F := Ideal)) (onTc (τ := Cert.NormFwdRefIdeal.τ) (Cert.NormFwdRefIdeal.main (F := Ideal))) ⟨m', fun _ => 0, g'⟩ (fun r => ∀ c : Dev Cert.NormFwdRefIdeal.nD,
          r.2.mem ((c.tc : Thread Cert.NormFwdRefIdeal.nD Cert.NormFwdRefIdeal.τ).loc Cert.NormFwdRefIdeal.main_v18) = v0 c
          ∧ r.2.mem ((c.tc : Thread Cert.NormFwdRefIdeal.nD Cert.NormFwdRefIdeal.τ).loc Cert.NormFwdRefIdeal.main_arg0) = m' ((c.tc : Thread Cert.NormFwdRefIdeal.nD Cert.NormFwdRefIdeal.τ).loc Cert.NormFwdRefIdeal.main_arg0)
          ∧ r.2.mem ((c.tc : Thread Cert.NormFwdRefIdeal.nD Cert.NormFwdRefIdeal.τ).loc Cert.NormFwdRefIdeal.main_arg1) = m' ((c.tc : Thread Cert.NormFwdRefIdeal.nD Cert.NormFwdRefIdeal.τ).loc Cert.NormFwdRefIdeal.main_arg1)
          ∧ r.2.mem ((c.tc : Thread Cert.NormFwdRefIdeal.nD Cert.NormFwdRefIdeal.τ).loc Cert.NormFwdRefIdeal.main_arg2) = m' ((c.tc : Thread Cert.NormFwdRefIdeal.nD Cert.NormFwdRefIdeal.τ).loc Cert.NormFwdRefIdeal.main_arg2)
          ∧ r.2.mem ((c.tc : Thread Cert.NormFwdRefIdeal.nD Cert.NormFwdRefIdeal.τ).loc Cert.NormFwdRefIdeal.main_arg3) = m' ((c.tc : Thread Cert.NormFwdRefIdeal.nD Cert.NormFwdRefIdeal.τ).loc Cert.NormFwdRefIdeal.main_arg3))

def preserves_NormCtxFwd_NormCtxFwdIdeal : Prop :=
  True

def algebraic_NormCtxFwdIdeal_NormCtxFwdRefIdeal [hNormCtxFwdIdeal : Cert.NormCtxFwdIdeal.Facts] [hNormCtxFwdRefIdeal : Cert.NormCtxFwdRefIdeal.Facts] : Prop :=
  ∀ (m : (ℓ : Loc Cert.NormCtxFwdIdeal.nD Cert.NormCtxFwdIdeal.τ Cert.NormCtxFwdIdeal.sig) → Buf (Elt Ideal) ℓ) (g : Dev Cert.NormCtxFwdIdeal.nD → PrngReg)
    (m' : (ℓ : Loc Cert.NormCtxFwdRefIdeal.nD Cert.NormCtxFwdRefIdeal.τ Cert.NormCtxFwdRefIdeal.sig) → Buf (Elt Ideal) ℓ) (g' : Dev Cert.NormCtxFwdRefIdeal.nD → PrngReg), Pre_NormCtxFwdIdeal m →
    (∀ c : Dev Cert.NormCtxFwdIdeal.nD,
      m' ((c.tc : Thread Cert.NormCtxFwdRefIdeal.nD Cert.NormCtxFwdRefIdeal.τ).loc Cert.NormCtxFwdRefIdeal.main_arg0) = m ((c.tc : Thread Cert.NormCtxFwdIdeal.nD Cert.NormCtxFwdIdeal.τ).loc Cert.NormCtxFwdIdeal.main_arg0)
      ∧ m' ((c.tc : Thread Cert.NormCtxFwdRefIdeal.nD Cert.NormCtxFwdRefIdeal.τ).loc Cert.NormCtxFwdRefIdeal.main_arg1) = m ((c.tc : Thread Cert.NormCtxFwdIdeal.nD Cert.NormCtxFwdIdeal.τ).loc Cert.NormCtxFwdIdeal.main_arg1)
      ∧ m' ((c.tc : Thread Cert.NormCtxFwdRefIdeal.nD Cert.NormCtxFwdRefIdeal.τ).loc Cert.NormCtxFwdRefIdeal.main_arg2) = m ((c.tc : Thread Cert.NormCtxFwdIdeal.nD Cert.NormCtxFwdIdeal.τ).loc Cert.NormCtxFwdIdeal.main_arg2)
      ∧ m' ((c.tc : Thread Cert.NormCtxFwdRefIdeal.nD Cert.NormCtxFwdRefIdeal.τ).loc Cert.NormCtxFwdRefIdeal.main_arg3) = m ((c.tc : Thread Cert.NormCtxFwdIdeal.nD Cert.NormCtxFwdIdeal.τ).loc Cert.NormCtxFwdIdeal.main_arg3)) →
    ∃ (v0 : (c : Dev Cert.NormCtxFwdIdeal.nD) → Buf (Elt Ideal) ((c.tc : Thread Cert.NormCtxFwdIdeal.nD Cert.NormCtxFwdIdeal.τ).loc Cert.NormCtxFwdIdeal.main_v0)),
      θ_run (Cert.NormCtxFwdIdeal.defs (F := Ideal)) (onTc (τ := Cert.NormCtxFwdIdeal.τ) (Cert.NormCtxFwdIdeal.main (F := Ideal))) ⟨m, fun _ => 0, g⟩ (fun r => ∀ c : Dev Cert.NormCtxFwdIdeal.nD,
          r.2.mem ((c.tc : Thread Cert.NormCtxFwdIdeal.nD Cert.NormCtxFwdIdeal.τ).loc Cert.NormCtxFwdIdeal.main_v0) = v0 c
          ∧ r.2.mem ((c.tc : Thread Cert.NormCtxFwdIdeal.nD Cert.NormCtxFwdIdeal.τ).loc Cert.NormCtxFwdIdeal.main_arg0) = m ((c.tc : Thread Cert.NormCtxFwdIdeal.nD Cert.NormCtxFwdIdeal.τ).loc Cert.NormCtxFwdIdeal.main_arg0)
          ∧ r.2.mem ((c.tc : Thread Cert.NormCtxFwdIdeal.nD Cert.NormCtxFwdIdeal.τ).loc Cert.NormCtxFwdIdeal.main_arg1) = m ((c.tc : Thread Cert.NormCtxFwdIdeal.nD Cert.NormCtxFwdIdeal.τ).loc Cert.NormCtxFwdIdeal.main_arg1)
          ∧ r.2.mem ((c.tc : Thread Cert.NormCtxFwdIdeal.nD Cert.NormCtxFwdIdeal.τ).loc Cert.NormCtxFwdIdeal.main_arg2) = m ((c.tc : Thread Cert.NormCtxFwdIdeal.nD Cert.NormCtxFwdIdeal.τ).loc Cert.NormCtxFwdIdeal.main_arg2)
          ∧ r.2.mem ((c.tc : Thread Cert.NormCtxFwdIdeal.nD Cert.NormCtxFwdIdeal.τ).loc Cert.NormCtxFwdIdeal.main_arg3) = m ((c.tc : Thread Cert.NormCtxFwdIdeal.nD Cert.NormCtxFwdIdeal.τ).loc Cert.NormCtxFwdIdeal.main_arg3))
      ∧ θ_run (Cert.NormCtxFwdRefIdeal.defs (F := Ideal)) (onTc (τ := Cert.NormCtxFwdRefIdeal.τ) (Cert.NormCtxFwdRefIdeal.main (F := Ideal))) ⟨m', fun _ => 0, g'⟩ (fun r => ∀ c : Dev Cert.NormCtxFwdRefIdeal.nD,
          r.2.mem ((c.tc : Thread Cert.NormCtxFwdRefIdeal.nD Cert.NormCtxFwdRefIdeal.τ).loc Cert.NormCtxFwdRefIdeal.main_v18) = v0 c
          ∧ r.2.mem ((c.tc : Thread Cert.NormCtxFwdRefIdeal.nD Cert.NormCtxFwdRefIdeal.τ).loc Cert.NormCtxFwdRefIdeal.main_arg0) = m' ((c.tc : Thread Cert.NormCtxFwdRefIdeal.nD Cert.NormCtxFwdRefIdeal.τ).loc Cert.NormCtxFwdRefIdeal.main_arg0)
          ∧ r.2.mem ((c.tc : Thread Cert.NormCtxFwdRefIdeal.nD Cert.NormCtxFwdRefIdeal.τ).loc Cert.NormCtxFwdRefIdeal.main_arg1) = m' ((c.tc : Thread Cert.NormCtxFwdRefIdeal.nD Cert.NormCtxFwdRefIdeal.τ).loc Cert.NormCtxFwdRefIdeal.main_arg1)
          ∧ r.2.mem ((c.tc : Thread Cert.NormCtxFwdRefIdeal.nD Cert.NormCtxFwdRefIdeal.τ).loc Cert.NormCtxFwdRefIdeal.main_arg2) = m' ((c.tc : Thread Cert.NormCtxFwdRefIdeal.nD Cert.NormCtxFwdRefIdeal.τ).loc Cert.NormCtxFwdRefIdeal.main_arg2)
          ∧ r.2.mem ((c.tc : Thread Cert.NormCtxFwdRefIdeal.nD Cert.NormCtxFwdRefIdeal.τ).loc Cert.NormCtxFwdRefIdeal.main_arg3) = m' ((c.tc : Thread Cert.NormCtxFwdRefIdeal.nD Cert.NormCtxFwdRefIdeal.τ).loc Cert.NormCtxFwdRefIdeal.main_arg3))

def preserves_NormCtxBwd_NormCtxBwdIdeal : Prop :=
  True

def algebraic_NormCtxBwdIdeal_NormCtxBwdRefIdeal [hNormCtxBwdIdeal : Cert.NormCtxBwdIdeal.Facts] [hNormCtxBwdRefIdeal : Cert.NormCtxBwdRefIdeal.Facts] : Prop :=
  ∀ (m : (ℓ : Loc Cert.NormCtxBwdIdeal.nD Cert.NormCtxBwdIdeal.τ Cert.NormCtxBwdIdeal.sig) → Buf (Elt Ideal) ℓ) (g : Dev Cert.NormCtxBwdIdeal.nD → PrngReg)
    (m' : (ℓ : Loc Cert.NormCtxBwdRefIdeal.nD Cert.NormCtxBwdRefIdeal.τ Cert.NormCtxBwdRefIdeal.sig) → Buf (Elt Ideal) ℓ) (g' : Dev Cert.NormCtxBwdRefIdeal.nD → PrngReg), Pre_NormCtxBwdIdeal m →
    (∀ c : Dev Cert.NormCtxBwdIdeal.nD,
      m' ((c.tc : Thread Cert.NormCtxBwdRefIdeal.nD Cert.NormCtxBwdRefIdeal.τ).loc Cert.NormCtxBwdRefIdeal.main_arg0) = m ((c.tc : Thread Cert.NormCtxBwdIdeal.nD Cert.NormCtxBwdIdeal.τ).loc Cert.NormCtxBwdIdeal.main_arg0)
      ∧ m' ((c.tc : Thread Cert.NormCtxBwdRefIdeal.nD Cert.NormCtxBwdRefIdeal.τ).loc Cert.NormCtxBwdRefIdeal.main_arg1) = m ((c.tc : Thread Cert.NormCtxBwdIdeal.nD Cert.NormCtxBwdIdeal.τ).loc Cert.NormCtxBwdIdeal.main_arg1)
      ∧ m' ((c.tc : Thread Cert.NormCtxBwdRefIdeal.nD Cert.NormCtxBwdRefIdeal.τ).loc Cert.NormCtxBwdRefIdeal.main_arg2) = m ((c.tc : Thread Cert.NormCtxBwdIdeal.nD Cert.NormCtxBwdIdeal.τ).loc Cert.NormCtxBwdIdeal.main_arg2)
      ∧ m' ((c.tc : Thread Cert.NormCtxBwdRefIdeal.nD Cert.NormCtxBwdRefIdeal.τ).loc Cert.NormCtxBwdRefIdeal.main_arg3) = m ((c.tc : Thread Cert.NormCtxBwdIdeal.nD Cert.NormCtxBwdIdeal.τ).loc Cert.NormCtxBwdIdeal.main_arg3)
      ∧ m' ((c.tc : Thread Cert.NormCtxBwdRefIdeal.nD Cert.NormCtxBwdRefIdeal.τ).loc Cert.NormCtxBwdRefIdeal.main_arg4) = m ((c.tc : Thread Cert.NormCtxBwdIdeal.nD Cert.NormCtxBwdIdeal.τ).loc Cert.NormCtxBwdIdeal.main_arg4)) →
    ∃ (v0 : (c : Dev Cert.NormCtxBwdIdeal.nD) → Buf (Elt Ideal) ((c.tc : Thread Cert.NormCtxBwdIdeal.nD Cert.NormCtxBwdIdeal.τ).loc Cert.NormCtxBwdIdeal.main_v0_0)) (v1 : (c : Dev Cert.NormCtxBwdIdeal.nD) → Buf (Elt Ideal) ((c.tc : Thread Cert.NormCtxBwdIdeal.nD Cert.NormCtxBwdIdeal.τ).loc Cert.NormCtxBwdIdeal.main_v0_1)) (v2 : (c : Dev Cert.NormCtxBwdIdeal.nD) → Buf (Elt Ideal) ((c.tc : Thread Cert.NormCtxBwdIdeal.nD Cert.NormCtxBwdIdeal.τ).loc Cert.NormCtxBwdIdeal.main_v0_2)),
      θ_run (Cert.NormCtxBwdIdeal.defs (F := Ideal)) (onTc (τ := Cert.NormCtxBwdIdeal.τ) (Cert.NormCtxBwdIdeal.main (F := Ideal))) ⟨m, fun _ => 0, g⟩ (fun r => ∀ c : Dev Cert.NormCtxBwdIdeal.nD,
          r.2.mem ((c.tc : Thread Cert.NormCtxBwdIdeal.nD Cert.NormCtxBwdIdeal.τ).loc Cert.NormCtxBwdIdeal.main_v0_0) = v0 c
          ∧ r.2.mem ((c.tc : Thread Cert.NormCtxBwdIdeal.nD Cert.NormCtxBwdIdeal.τ).loc Cert.NormCtxBwdIdeal.main_v0_1) = v1 c
          ∧ r.2.mem ((c.tc : Thread Cert.NormCtxBwdIdeal.nD Cert.NormCtxBwdIdeal.τ).loc Cert.NormCtxBwdIdeal.main_v0_2) = v2 c
          ∧ r.2.mem ((c.tc : Thread Cert.NormCtxBwdIdeal.nD Cert.NormCtxBwdIdeal.τ).loc Cert.NormCtxBwdIdeal.main_arg0) = m ((c.tc : Thread Cert.NormCtxBwdIdeal.nD Cert.NormCtxBwdIdeal.τ).loc Cert.NormCtxBwdIdeal.main_arg0)
          ∧ r.2.mem ((c.tc : Thread Cert.NormCtxBwdIdeal.nD Cert.NormCtxBwdIdeal.τ).loc Cert.NormCtxBwdIdeal.main_arg1) = m ((c.tc : Thread Cert.NormCtxBwdIdeal.nD Cert.NormCtxBwdIdeal.τ).loc Cert.NormCtxBwdIdeal.main_arg1)
          ∧ r.2.mem ((c.tc : Thread Cert.NormCtxBwdIdeal.nD Cert.NormCtxBwdIdeal.τ).loc Cert.NormCtxBwdIdeal.main_arg2) = m ((c.tc : Thread Cert.NormCtxBwdIdeal.nD Cert.NormCtxBwdIdeal.τ).loc Cert.NormCtxBwdIdeal.main_arg2)
          ∧ r.2.mem ((c.tc : Thread Cert.NormCtxBwdIdeal.nD Cert.NormCtxBwdIdeal.τ).loc Cert.NormCtxBwdIdeal.main_arg3) = m ((c.tc : Thread Cert.NormCtxBwdIdeal.nD Cert.NormCtxBwdIdeal.τ).loc Cert.NormCtxBwdIdeal.main_arg3)
          ∧ r.2.mem ((c.tc : Thread Cert.NormCtxBwdIdeal.nD Cert.NormCtxBwdIdeal.τ).loc Cert.NormCtxBwdIdeal.main_arg4) = m ((c.tc : Thread Cert.NormCtxBwdIdeal.nD Cert.NormCtxBwdIdeal.τ).loc Cert.NormCtxBwdIdeal.main_arg4))
      ∧ θ_run (Cert.NormCtxBwdRefIdeal.defs (F := Ideal)) (onTc (τ := Cert.NormCtxBwdRefIdeal.τ) (Cert.NormCtxBwdRefIdeal.main (F := Ideal))) ⟨m', fun _ => 0, g'⟩ (fun r => ∀ c : Dev Cert.NormCtxBwdRefIdeal.nD,
          r.2.mem ((c.tc : Thread Cert.NormCtxBwdRefIdeal.nD Cert.NormCtxBwdRefIdeal.τ).loc Cert.NormCtxBwdRefIdeal.main_v12) = v0 c
          ∧ r.2.mem ((c.tc : Thread Cert.NormCtxBwdRefIdeal.nD Cert.NormCtxBwdRefIdeal.τ).loc Cert.NormCtxBwdRefIdeal.main_v17) = v1 c
          ∧ r.2.mem ((c.tc : Thread Cert.NormCtxBwdRefIdeal.nD Cert.NormCtxBwdRefIdeal.τ).loc Cert.NormCtxBwdRefIdeal.main_v25) = v2 c
          ∧ r.2.mem ((c.tc : Thread Cert.NormCtxBwdRefIdeal.nD Cert.NormCtxBwdRefIdeal.τ).loc Cert.NormCtxBwdRefIdeal.main_arg0) = m' ((c.tc : Thread Cert.NormCtxBwdRefIdeal.nD Cert.NormCtxBwdRefIdeal.τ).loc Cert.NormCtxBwdRefIdeal.main_arg0)
          ∧ r.2.mem ((c.tc : Thread Cert.NormCtxBwdRefIdeal.nD Cert.NormCtxBwdRefIdeal.τ).loc Cert.NormCtxBwdRefIdeal.main_arg1) = m' ((c.tc : Thread Cert.NormCtxBwdRefIdeal.nD Cert.NormCtxBwdRefIdeal.τ).loc Cert.NormCtxBwdRefIdeal.main_arg1)
          ∧ r.2.mem ((c.tc : Thread Cert.NormCtxBwdRefIdeal.nD Cert.NormCtxBwdRefIdeal.τ).loc Cert.NormCtxBwdRefIdeal.main_arg2) = m' ((c.tc : Thread Cert.NormCtxBwdRefIdeal.nD Cert.NormCtxBwdRefIdeal.τ).loc Cert.NormCtxBwdRefIdeal.main_arg2)
          ∧ r.2.mem ((c.tc : Thread Cert.NormCtxBwdRefIdeal.nD Cert.NormCtxBwdRefIdeal.τ).loc Cert.NormCtxBwdRefIdeal.main_arg3) = m' ((c.tc : Thread Cert.NormCtxBwdRefIdeal.nD Cert.NormCtxBwdRefIdeal.τ).loc Cert.NormCtxBwdRefIdeal.main_arg3)
          ∧ r.2.mem ((c.tc : Thread Cert.NormCtxBwdRefIdeal.nD Cert.NormCtxBwdRefIdeal.τ).loc Cert.NormCtxBwdRefIdeal.main_arg4) = m' ((c.tc : Thread Cert.NormCtxBwdRefIdeal.nD Cert.NormCtxBwdRefIdeal.τ).loc Cert.NormCtxBwdRefIdeal.main_arg4))

def preserves_NormGateBwd_NormGateBwdIdeal : Prop :=
  True

def algebraic_NormGateBwdIdeal_NormGateBwdRefIdeal [hNormGateBwdIdeal : Cert.NormGateBwdIdeal.Facts] [hNormGateBwdRefIdeal : Cert.NormGateBwdRefIdeal.Facts] : Prop :=
  ∀ (m : (ℓ : Loc Cert.NormGateBwdIdeal.nD Cert.NormGateBwdIdeal.τ Cert.NormGateBwdIdeal.sig) → Buf (Elt Ideal) ℓ) (g : Dev Cert.NormGateBwdIdeal.nD → PrngReg)
    (m' : (ℓ : Loc Cert.NormGateBwdRefIdeal.nD Cert.NormGateBwdRefIdeal.τ Cert.NormGateBwdRefIdeal.sig) → Buf (Elt Ideal) ℓ) (g' : Dev Cert.NormGateBwdRefIdeal.nD → PrngReg), Pre_NormGateBwdIdeal m →
    (∀ c : Dev Cert.NormGateBwdIdeal.nD,
      m' ((c.tc : Thread Cert.NormGateBwdRefIdeal.nD Cert.NormGateBwdRefIdeal.τ).loc Cert.NormGateBwdRefIdeal.main_arg0) = m ((c.tc : Thread Cert.NormGateBwdIdeal.nD Cert.NormGateBwdIdeal.τ).loc Cert.NormGateBwdIdeal.main_arg0)
      ∧ m' ((c.tc : Thread Cert.NormGateBwdRefIdeal.nD Cert.NormGateBwdRefIdeal.τ).loc Cert.NormGateBwdRefIdeal.main_arg1) = m ((c.tc : Thread Cert.NormGateBwdIdeal.nD Cert.NormGateBwdIdeal.τ).loc Cert.NormGateBwdIdeal.main_arg1)
      ∧ m' ((c.tc : Thread Cert.NormGateBwdRefIdeal.nD Cert.NormGateBwdRefIdeal.τ).loc Cert.NormGateBwdRefIdeal.main_arg2) = m ((c.tc : Thread Cert.NormGateBwdIdeal.nD Cert.NormGateBwdIdeal.τ).loc Cert.NormGateBwdIdeal.main_arg2)
      ∧ m' ((c.tc : Thread Cert.NormGateBwdRefIdeal.nD Cert.NormGateBwdRefIdeal.τ).loc Cert.NormGateBwdRefIdeal.main_arg3) = m ((c.tc : Thread Cert.NormGateBwdIdeal.nD Cert.NormGateBwdIdeal.τ).loc Cert.NormGateBwdIdeal.main_arg3)
      ∧ m' ((c.tc : Thread Cert.NormGateBwdRefIdeal.nD Cert.NormGateBwdRefIdeal.τ).loc Cert.NormGateBwdRefIdeal.main_arg4) = m ((c.tc : Thread Cert.NormGateBwdIdeal.nD Cert.NormGateBwdIdeal.τ).loc Cert.NormGateBwdIdeal.main_arg4)
      ∧ m' ((c.tc : Thread Cert.NormGateBwdRefIdeal.nD Cert.NormGateBwdRefIdeal.τ).loc Cert.NormGateBwdRefIdeal.main_arg5) = m ((c.tc : Thread Cert.NormGateBwdIdeal.nD Cert.NormGateBwdIdeal.τ).loc Cert.NormGateBwdIdeal.main_arg5)
      ∧ m' ((c.tc : Thread Cert.NormGateBwdRefIdeal.nD Cert.NormGateBwdRefIdeal.τ).loc Cert.NormGateBwdRefIdeal.main_arg6) = m ((c.tc : Thread Cert.NormGateBwdIdeal.nD Cert.NormGateBwdIdeal.τ).loc Cert.NormGateBwdIdeal.main_arg6)
      ∧ m' ((c.tc : Thread Cert.NormGateBwdRefIdeal.nD Cert.NormGateBwdRefIdeal.τ).loc Cert.NormGateBwdRefIdeal.main_arg7) = m ((c.tc : Thread Cert.NormGateBwdIdeal.nD Cert.NormGateBwdIdeal.τ).loc Cert.NormGateBwdIdeal.main_arg7)) →
    ∃ (v0 : (c : Dev Cert.NormGateBwdIdeal.nD) → Buf (Elt Ideal) ((c.tc : Thread Cert.NormGateBwdIdeal.nD Cert.NormGateBwdIdeal.τ).loc Cert.NormGateBwdIdeal.main_v0_0)) (v1 : (c : Dev Cert.NormGateBwdIdeal.nD) → Buf (Elt Ideal) ((c.tc : Thread Cert.NormGateBwdIdeal.nD Cert.NormGateBwdIdeal.τ).loc Cert.NormGateBwdIdeal.main_v0_1)) (v2 : (c : Dev Cert.NormGateBwdIdeal.nD) → Buf (Elt Ideal) ((c.tc : Thread Cert.NormGateBwdIdeal.nD Cert.NormGateBwdIdeal.τ).loc Cert.NormGateBwdIdeal.main_v0_2)) (v3 : (c : Dev Cert.NormGateBwdIdeal.nD) → Buf (Elt Ideal) ((c.tc : Thread Cert.NormGateBwdIdeal.nD Cert.NormGateBwdIdeal.τ).loc Cert.NormGateBwdIdeal.main_v0_3)) (v4 : (c : Dev Cert.NormGateBwdIdeal.nD) → Buf (Elt Ideal) ((c.tc : Thread Cert.NormGateBwdIdeal.nD Cert.NormGateBwdIdeal.τ).loc Cert.NormGateBwdIdeal.main_v0_4)) (v5 : (c : Dev Cert.NormGateBwdIdeal.nD) → Buf (Elt Ideal) ((c.tc : Thread Cert.NormGateBwdIdeal.nD Cert.NormGateBwdIdeal.τ).loc Cert.NormGateBwdIdeal.main_v0_5)),
      θ_run (Cert.NormGateBwdIdeal.defs (F := Ideal)) (onTc (τ := Cert.NormGateBwdIdeal.τ) (Cert.NormGateBwdIdeal.main (F := Ideal))) ⟨m, fun _ => 0, g⟩ (fun r => ∀ c : Dev Cert.NormGateBwdIdeal.nD,
          r.2.mem ((c.tc : Thread Cert.NormGateBwdIdeal.nD Cert.NormGateBwdIdeal.τ).loc Cert.NormGateBwdIdeal.main_v0_0) = v0 c
          ∧ r.2.mem ((c.tc : Thread Cert.NormGateBwdIdeal.nD Cert.NormGateBwdIdeal.τ).loc Cert.NormGateBwdIdeal.main_v0_1) = v1 c
          ∧ r.2.mem ((c.tc : Thread Cert.NormGateBwdIdeal.nD Cert.NormGateBwdIdeal.τ).loc Cert.NormGateBwdIdeal.main_v0_2) = v2 c
          ∧ r.2.mem ((c.tc : Thread Cert.NormGateBwdIdeal.nD Cert.NormGateBwdIdeal.τ).loc Cert.NormGateBwdIdeal.main_v0_3) = v3 c
          ∧ r.2.mem ((c.tc : Thread Cert.NormGateBwdIdeal.nD Cert.NormGateBwdIdeal.τ).loc Cert.NormGateBwdIdeal.main_v0_4) = v4 c
          ∧ r.2.mem ((c.tc : Thread Cert.NormGateBwdIdeal.nD Cert.NormGateBwdIdeal.τ).loc Cert.NormGateBwdIdeal.main_v0_5) = v5 c
          ∧ r.2.mem ((c.tc : Thread Cert.NormGateBwdIdeal.nD Cert.NormGateBwdIdeal.τ).loc Cert.NormGateBwdIdeal.main_arg0) = m ((c.tc : Thread Cert.NormGateBwdIdeal.nD Cert.NormGateBwdIdeal.τ).loc Cert.NormGateBwdIdeal.main_arg0)
          ∧ r.2.mem ((c.tc : Thread Cert.NormGateBwdIdeal.nD Cert.NormGateBwdIdeal.τ).loc Cert.NormGateBwdIdeal.main_arg1) = m ((c.tc : Thread Cert.NormGateBwdIdeal.nD Cert.NormGateBwdIdeal.τ).loc Cert.NormGateBwdIdeal.main_arg1)
          ∧ r.2.mem ((c.tc : Thread Cert.NormGateBwdIdeal.nD Cert.NormGateBwdIdeal.τ).loc Cert.NormGateBwdIdeal.main_arg2) = m ((c.tc : Thread Cert.NormGateBwdIdeal.nD Cert.NormGateBwdIdeal.τ).loc Cert.NormGateBwdIdeal.main_arg2)
          ∧ r.2.mem ((c.tc : Thread Cert.NormGateBwdIdeal.nD Cert.NormGateBwdIdeal.τ).loc Cert.NormGateBwdIdeal.main_arg3) = m ((c.tc : Thread Cert.NormGateBwdIdeal.nD Cert.NormGateBwdIdeal.τ).loc Cert.NormGateBwdIdeal.main_arg3)
          ∧ r.2.mem ((c.tc : Thread Cert.NormGateBwdIdeal.nD Cert.NormGateBwdIdeal.τ).loc Cert.NormGateBwdIdeal.main_arg4) = m ((c.tc : Thread Cert.NormGateBwdIdeal.nD Cert.NormGateBwdIdeal.τ).loc Cert.NormGateBwdIdeal.main_arg4)
          ∧ r.2.mem ((c.tc : Thread Cert.NormGateBwdIdeal.nD Cert.NormGateBwdIdeal.τ).loc Cert.NormGateBwdIdeal.main_arg5) = m ((c.tc : Thread Cert.NormGateBwdIdeal.nD Cert.NormGateBwdIdeal.τ).loc Cert.NormGateBwdIdeal.main_arg5)
          ∧ r.2.mem ((c.tc : Thread Cert.NormGateBwdIdeal.nD Cert.NormGateBwdIdeal.τ).loc Cert.NormGateBwdIdeal.main_arg6) = m ((c.tc : Thread Cert.NormGateBwdIdeal.nD Cert.NormGateBwdIdeal.τ).loc Cert.NormGateBwdIdeal.main_arg6)
          ∧ r.2.mem ((c.tc : Thread Cert.NormGateBwdIdeal.nD Cert.NormGateBwdIdeal.τ).loc Cert.NormGateBwdIdeal.main_arg7) = m ((c.tc : Thread Cert.NormGateBwdIdeal.nD Cert.NormGateBwdIdeal.τ).loc Cert.NormGateBwdIdeal.main_arg7))
      ∧ θ_run (Cert.NormGateBwdRefIdeal.defs (F := Ideal)) (onTc (τ := Cert.NormGateBwdRefIdeal.τ) (Cert.NormGateBwdRefIdeal.main (F := Ideal))) ⟨m', fun _ => 0, g'⟩ (fun r => ∀ c : Dev Cert.NormGateBwdRefIdeal.nD,
          r.2.mem ((c.tc : Thread Cert.NormGateBwdRefIdeal.nD Cert.NormGateBwdRefIdeal.τ).loc Cert.NormGateBwdRefIdeal.main_v26) = v0 c
          ∧ r.2.mem ((c.tc : Thread Cert.NormGateBwdRefIdeal.nD Cert.NormGateBwdRefIdeal.τ).loc Cert.NormGateBwdRefIdeal.main_v40) = v1 c
          ∧ r.2.mem ((c.tc : Thread Cert.NormGateBwdRefIdeal.nD Cert.NormGateBwdRefIdeal.τ).loc Cert.NormGateBwdRefIdeal.main_v28) = v2 c
          ∧ r.2.mem ((c.tc : Thread Cert.NormGateBwdRefIdeal.nD Cert.NormGateBwdRefIdeal.τ).loc Cert.NormGateBwdRefIdeal.main_v33) = v3 c
          ∧ r.2.mem ((c.tc : Thread Cert.NormGateBwdRefIdeal.nD Cert.NormGateBwdRefIdeal.τ).loc Cert.NormGateBwdRefIdeal.main_v37) = v4 c
          ∧ r.2.mem ((c.tc : Thread Cert.NormGateBwdRefIdeal.nD Cert.NormGateBwdRefIdeal.τ).loc Cert.NormGateBwdRefIdeal.main_v43) = v5 c
          ∧ r.2.mem ((c.tc : Thread Cert.NormGateBwdRefIdeal.nD Cert.NormGateBwdRefIdeal.τ).loc Cert.NormGateBwdRefIdeal.main_arg0) = m' ((c.tc : Thread Cert.NormGateBwdRefIdeal.nD Cert.NormGateBwdRefIdeal.τ).loc Cert.NormGateBwdRefIdeal.main_arg0)
          ∧ r.2.mem ((c.tc : Thread Cert.NormGateBwdRefIdeal.nD Cert.NormGateBwdRefIdeal.τ).loc Cert.NormGateBwdRefIdeal.main_arg1) = m' ((c.tc : Thread Cert.NormGateBwdRefIdeal.nD Cert.NormGateBwdRefIdeal.τ).loc Cert.NormGateBwdRefIdeal.main_arg1)
          ∧ r.2.mem ((c.tc : Thread Cert.NormGateBwdRefIdeal.nD Cert.NormGateBwdRefIdeal.τ).loc Cert.NormGateBwdRefIdeal.main_arg2) = m' ((c.tc : Thread Cert.NormGateBwdRefIdeal.nD Cert.NormGateBwdRefIdeal.τ).loc Cert.NormGateBwdRefIdeal.main_arg2)
          ∧ r.2.mem ((c.tc : Thread Cert.NormGateBwdRefIdeal.nD Cert.NormGateBwdRefIdeal.τ).loc Cert.NormGateBwdRefIdeal.main_arg3) = m' ((c.tc : Thread Cert.NormGateBwdRefIdeal.nD Cert.NormGateBwdRefIdeal.τ).loc Cert.NormGateBwdRefIdeal.main_arg3)
          ∧ r.2.mem ((c.tc : Thread Cert.NormGateBwdRefIdeal.nD Cert.NormGateBwdRefIdeal.τ).loc Cert.NormGateBwdRefIdeal.main_arg4) = m' ((c.tc : Thread Cert.NormGateBwdRefIdeal.nD Cert.NormGateBwdRefIdeal.τ).loc Cert.NormGateBwdRefIdeal.main_arg4)
          ∧ r.2.mem ((c.tc : Thread Cert.NormGateBwdRefIdeal.nD Cert.NormGateBwdRefIdeal.τ).loc Cert.NormGateBwdRefIdeal.main_arg5) = m' ((c.tc : Thread Cert.NormGateBwdRefIdeal.nD Cert.NormGateBwdRefIdeal.τ).loc Cert.NormGateBwdRefIdeal.main_arg5)
          ∧ r.2.mem ((c.tc : Thread Cert.NormGateBwdRefIdeal.nD Cert.NormGateBwdRefIdeal.τ).loc Cert.NormGateBwdRefIdeal.main_arg6) = m' ((c.tc : Thread Cert.NormGateBwdRefIdeal.nD Cert.NormGateBwdRefIdeal.τ).loc Cert.NormGateBwdRefIdeal.main_arg6)
          ∧ r.2.mem ((c.tc : Thread Cert.NormGateBwdRefIdeal.nD Cert.NormGateBwdRefIdeal.τ).loc Cert.NormGateBwdRefIdeal.main_arg7) = m' ((c.tc : Thread Cert.NormGateBwdRefIdeal.nD Cert.NormGateBwdRefIdeal.τ).loc Cert.NormGateBwdRefIdeal.main_arg7))

def preserves_MmEvIn_MmEvInIdeal : Prop :=
  True

def algebraic_MmEvInIdeal_MmEvInRefIdeal [hMmEvInIdeal : Cert.MmEvInIdeal.Facts] [hMmEvInRefIdeal : Cert.MmEvInRefIdeal.Facts] : Prop :=
  ∀ (m : (ℓ : Loc Cert.MmEvInIdeal.nD Cert.MmEvInIdeal.τ Cert.MmEvInIdeal.sig) → Buf (Elt Ideal) ℓ) (g : Dev Cert.MmEvInIdeal.nD → PrngReg)
    (m' : (ℓ : Loc Cert.MmEvInRefIdeal.nD Cert.MmEvInRefIdeal.τ Cert.MmEvInRefIdeal.sig) → Buf (Elt Ideal) ℓ) (g' : Dev Cert.MmEvInRefIdeal.nD → PrngReg), Pre_MmEvInIdeal m →
    (∀ c : Dev Cert.MmEvInIdeal.nD,
      m' ((c.tc : Thread Cert.MmEvInRefIdeal.nD Cert.MmEvInRefIdeal.τ).loc Cert.MmEvInRefIdeal.main_arg0) = m ((c.tc : Thread Cert.MmEvInIdeal.nD Cert.MmEvInIdeal.τ).loc Cert.MmEvInIdeal.main_arg0)
      ∧ m' ((c.tc : Thread Cert.MmEvInRefIdeal.nD Cert.MmEvInRefIdeal.τ).loc Cert.MmEvInRefIdeal.main_arg1) = m ((c.tc : Thread Cert.MmEvInIdeal.nD Cert.MmEvInIdeal.τ).loc Cert.MmEvInIdeal.main_arg1)) →
    ∃ (v0 : (c : Dev Cert.MmEvInIdeal.nD) → Buf (Elt Ideal) ((c.tc : Thread Cert.MmEvInIdeal.nD Cert.MmEvInIdeal.τ).loc Cert.MmEvInIdeal.main_v0)),
      θ_run (Cert.MmEvInIdeal.defs (F := Ideal)) (onTc (τ := Cert.MmEvInIdeal.τ) (Cert.MmEvInIdeal.main (F := Ideal))) ⟨m, fun _ => 0, g⟩ (fun r => ∀ c : Dev Cert.MmEvInIdeal.nD,
          r.2.mem ((c.tc : Thread Cert.MmEvInIdeal.nD Cert.MmEvInIdeal.τ).loc Cert.MmEvInIdeal.main_v0) = v0 c
          ∧ r.2.mem ((c.tc : Thread Cert.MmEvInIdeal.nD Cert.MmEvInIdeal.τ).loc Cert.MmEvInIdeal.main_arg0) = m ((c.tc : Thread Cert.MmEvInIdeal.nD Cert.MmEvInIdeal.τ).loc Cert.MmEvInIdeal.main_arg0)
          ∧ r.2.mem ((c.tc : Thread Cert.MmEvInIdeal.nD Cert.MmEvInIdeal.τ).loc Cert.MmEvInIdeal.main_arg1) = m ((c.tc : Thread Cert.MmEvInIdeal.nD Cert.MmEvInIdeal.τ).loc Cert.MmEvInIdeal.main_arg1))
      ∧ θ_run (Cert.MmEvInRefIdeal.defs (F := Ideal)) (onTc (τ := Cert.MmEvInRefIdeal.τ) (Cert.MmEvInRefIdeal.main (F := Ideal))) ⟨m', fun _ => 0, g'⟩ (fun r => ∀ c : Dev Cert.MmEvInRefIdeal.nD,
          r.2.mem ((c.tc : Thread Cert.MmEvInRefIdeal.nD Cert.MmEvInRefIdeal.τ).loc Cert.MmEvInRefIdeal.main_v0) = v0 c
          ∧ r.2.mem ((c.tc : Thread Cert.MmEvInRefIdeal.nD Cert.MmEvInRefIdeal.τ).loc Cert.MmEvInRefIdeal.main_arg0) = m' ((c.tc : Thread Cert.MmEvInRefIdeal.nD Cert.MmEvInRefIdeal.τ).loc Cert.MmEvInRefIdeal.main_arg0)
          ∧ r.2.mem ((c.tc : Thread Cert.MmEvInRefIdeal.nD Cert.MmEvInRefIdeal.τ).loc Cert.MmEvInRefIdeal.main_arg1) = m' ((c.tc : Thread Cert.MmEvInRefIdeal.nD Cert.MmEvInRefIdeal.τ).loc Cert.MmEvInRefIdeal.main_arg1))

def preserves_MmOdIn_MmOdInIdeal : Prop :=
  True

def algebraic_MmOdInIdeal_MmOdInRefIdeal [hMmOdInIdeal : Cert.MmOdInIdeal.Facts] [hMmOdInRefIdeal : Cert.MmOdInRefIdeal.Facts] : Prop :=
  ∀ (m : (ℓ : Loc Cert.MmOdInIdeal.nD Cert.MmOdInIdeal.τ Cert.MmOdInIdeal.sig) → Buf (Elt Ideal) ℓ) (g : Dev Cert.MmOdInIdeal.nD → PrngReg)
    (m' : (ℓ : Loc Cert.MmOdInRefIdeal.nD Cert.MmOdInRefIdeal.τ Cert.MmOdInRefIdeal.sig) → Buf (Elt Ideal) ℓ) (g' : Dev Cert.MmOdInRefIdeal.nD → PrngReg), Pre_MmOdInIdeal m →
    (∀ c : Dev Cert.MmOdInIdeal.nD,
      m' ((c.tc : Thread Cert.MmOdInRefIdeal.nD Cert.MmOdInRefIdeal.τ).loc Cert.MmOdInRefIdeal.main_arg0) = m ((c.tc : Thread Cert.MmOdInIdeal.nD Cert.MmOdInIdeal.τ).loc Cert.MmOdInIdeal.main_arg0)
      ∧ m' ((c.tc : Thread Cert.MmOdInRefIdeal.nD Cert.MmOdInRefIdeal.τ).loc Cert.MmOdInRefIdeal.main_arg1) = m ((c.tc : Thread Cert.MmOdInIdeal.nD Cert.MmOdInIdeal.τ).loc Cert.MmOdInIdeal.main_arg1)) →
    ∃ (v0 : (c : Dev Cert.MmOdInIdeal.nD) → Buf (Elt Ideal) ((c.tc : Thread Cert.MmOdInIdeal.nD Cert.MmOdInIdeal.τ).loc Cert.MmOdInIdeal.main_v0)),
      θ_run (Cert.MmOdInIdeal.defs (F := Ideal)) (onTc (τ := Cert.MmOdInIdeal.τ) (Cert.MmOdInIdeal.main (F := Ideal))) ⟨m, fun _ => 0, g⟩ (fun r => ∀ c : Dev Cert.MmOdInIdeal.nD,
          r.2.mem ((c.tc : Thread Cert.MmOdInIdeal.nD Cert.MmOdInIdeal.τ).loc Cert.MmOdInIdeal.main_v0) = v0 c
          ∧ r.2.mem ((c.tc : Thread Cert.MmOdInIdeal.nD Cert.MmOdInIdeal.τ).loc Cert.MmOdInIdeal.main_arg0) = m ((c.tc : Thread Cert.MmOdInIdeal.nD Cert.MmOdInIdeal.τ).loc Cert.MmOdInIdeal.main_arg0)
          ∧ r.2.mem ((c.tc : Thread Cert.MmOdInIdeal.nD Cert.MmOdInIdeal.τ).loc Cert.MmOdInIdeal.main_arg1) = m ((c.tc : Thread Cert.MmOdInIdeal.nD Cert.MmOdInIdeal.τ).loc Cert.MmOdInIdeal.main_arg1))
      ∧ θ_run (Cert.MmOdInRefIdeal.defs (F := Ideal)) (onTc (τ := Cert.MmOdInRefIdeal.τ) (Cert.MmOdInRefIdeal.main (F := Ideal))) ⟨m', fun _ => 0, g'⟩ (fun r => ∀ c : Dev Cert.MmOdInRefIdeal.nD,
          r.2.mem ((c.tc : Thread Cert.MmOdInRefIdeal.nD Cert.MmOdInRefIdeal.τ).loc Cert.MmOdInRefIdeal.main_v0) = v0 c
          ∧ r.2.mem ((c.tc : Thread Cert.MmOdInRefIdeal.nD Cert.MmOdInRefIdeal.τ).loc Cert.MmOdInRefIdeal.main_arg0) = m' ((c.tc : Thread Cert.MmOdInRefIdeal.nD Cert.MmOdInRefIdeal.τ).loc Cert.MmOdInRefIdeal.main_arg0)
          ∧ r.2.mem ((c.tc : Thread Cert.MmOdInRefIdeal.nD Cert.MmOdInRefIdeal.τ).loc Cert.MmOdInRefIdeal.main_arg1) = m' ((c.tc : Thread Cert.MmOdInRefIdeal.nD Cert.MmOdInRefIdeal.τ).loc Cert.MmOdInRefIdeal.main_arg1))

def preserves_MmOut_MmOutIdeal : Prop :=
  True

def algebraic_MmOutIdeal_MmOutRefIdeal [hMmOutIdeal : Cert.MmOutIdeal.Facts] [hMmOutRefIdeal : Cert.MmOutRefIdeal.Facts] : Prop :=
  ∀ (m : (ℓ : Loc Cert.MmOutIdeal.nD Cert.MmOutIdeal.τ Cert.MmOutIdeal.sig) → Buf (Elt Ideal) ℓ) (g : Dev Cert.MmOutIdeal.nD → PrngReg)
    (m' : (ℓ : Loc Cert.MmOutRefIdeal.nD Cert.MmOutRefIdeal.τ Cert.MmOutRefIdeal.sig) → Buf (Elt Ideal) ℓ) (g' : Dev Cert.MmOutRefIdeal.nD → PrngReg), Pre_MmOutIdeal m →
    (∀ c : Dev Cert.MmOutIdeal.nD,
      m' ((c.tc : Thread Cert.MmOutRefIdeal.nD Cert.MmOutRefIdeal.τ).loc Cert.MmOutRefIdeal.main_arg0) = m ((c.tc : Thread Cert.MmOutIdeal.nD Cert.MmOutIdeal.τ).loc Cert.MmOutIdeal.main_arg0)
      ∧ m' ((c.tc : Thread Cert.MmOutRefIdeal.nD Cert.MmOutRefIdeal.τ).loc Cert.MmOutRefIdeal.main_arg1) = m ((c.tc : Thread Cert.MmOutIdeal.nD Cert.MmOutIdeal.τ).loc Cert.MmOutIdeal.main_arg1)
      ∧ m' ((c.tc : Thread Cert.MmOutRefIdeal.nD Cert.MmOutRefIdeal.τ).loc Cert.MmOutRefIdeal.main_arg2) = m ((c.tc : Thread Cert.MmOutIdeal.nD Cert.MmOutIdeal.τ).loc Cert.MmOutIdeal.main_arg2)
      ∧ m' ((c.tc : Thread Cert.MmOutRefIdeal.nD Cert.MmOutRefIdeal.τ).loc Cert.MmOutRefIdeal.main_arg3) = m ((c.tc : Thread Cert.MmOutIdeal.nD Cert.MmOutIdeal.τ).loc Cert.MmOutIdeal.main_arg3)) →
    ∃ (v0 : (c : Dev Cert.MmOutIdeal.nD) → Buf (Elt Ideal) ((c.tc : Thread Cert.MmOutIdeal.nD Cert.MmOutIdeal.τ).loc Cert.MmOutIdeal.main_v0_0)) (v1 : (c : Dev Cert.MmOutIdeal.nD) → Buf (Elt Ideal) ((c.tc : Thread Cert.MmOutIdeal.nD Cert.MmOutIdeal.τ).loc Cert.MmOutIdeal.main_v0_1)),
      θ_run (Cert.MmOutIdeal.defs (F := Ideal)) (onTc (τ := Cert.MmOutIdeal.τ) (Cert.MmOutIdeal.main (F := Ideal))) ⟨m, fun _ => 0, g⟩ (fun r => ∀ c : Dev Cert.MmOutIdeal.nD,
          r.2.mem ((c.tc : Thread Cert.MmOutIdeal.nD Cert.MmOutIdeal.τ).loc Cert.MmOutIdeal.main_v0_0) = v0 c
          ∧ r.2.mem ((c.tc : Thread Cert.MmOutIdeal.nD Cert.MmOutIdeal.τ).loc Cert.MmOutIdeal.main_v0_1) = v1 c
          ∧ r.2.mem ((c.tc : Thread Cert.MmOutIdeal.nD Cert.MmOutIdeal.τ).loc Cert.MmOutIdeal.main_arg0) = m ((c.tc : Thread Cert.MmOutIdeal.nD Cert.MmOutIdeal.τ).loc Cert.MmOutIdeal.main_arg0)
          ∧ r.2.mem ((c.tc : Thread Cert.MmOutIdeal.nD Cert.MmOutIdeal.τ).loc Cert.MmOutIdeal.main_arg1) = m ((c.tc : Thread Cert.MmOutIdeal.nD Cert.MmOutIdeal.τ).loc Cert.MmOutIdeal.main_arg1)
          ∧ r.2.mem ((c.tc : Thread Cert.MmOutIdeal.nD Cert.MmOutIdeal.τ).loc Cert.MmOutIdeal.main_arg2) = m ((c.tc : Thread Cert.MmOutIdeal.nD Cert.MmOutIdeal.τ).loc Cert.MmOutIdeal.main_arg2)
          ∧ r.2.mem ((c.tc : Thread Cert.MmOutIdeal.nD Cert.MmOutIdeal.τ).loc Cert.MmOutIdeal.main_arg3) = m ((c.tc : Thread Cert.MmOutIdeal.nD Cert.MmOutIdeal.τ).loc Cert.MmOutIdeal.main_arg3))
      ∧ θ_run (Cert.MmOutRefIdeal.defs (F := Ideal)) (onTc (τ := Cert.MmOutRefIdeal.τ) (Cert.MmOutRefIdeal.main (F := Ideal))) ⟨m', fun _ => 0, g'⟩ (fun r => ∀ c : Dev Cert.MmOutRefIdeal.nD,
          r.2.mem ((c.tc : Thread Cert.MmOutRefIdeal.nD Cert.MmOutRefIdeal.τ).loc Cert.MmOutRefIdeal.main_v0) = v0 c
          ∧ r.2.mem ((c.tc : Thread Cert.MmOutRefIdeal.nD Cert.MmOutRefIdeal.τ).loc Cert.MmOutRefIdeal.main_v3) = v1 c
          ∧ r.2.mem ((c.tc : Thread Cert.MmOutRefIdeal.nD Cert.MmOutRefIdeal.τ).loc Cert.MmOutRefIdeal.main_arg0) = m' ((c.tc : Thread Cert.MmOutRefIdeal.nD Cert.MmOutRefIdeal.τ).loc Cert.MmOutRefIdeal.main_arg0)
          ∧ r.2.mem ((c.tc : Thread Cert.MmOutRefIdeal.nD Cert.MmOutRefIdeal.τ).loc Cert.MmOutRefIdeal.main_arg1) = m' ((c.tc : Thread Cert.MmOutRefIdeal.nD Cert.MmOutRefIdeal.τ).loc Cert.MmOutRefIdeal.main_arg1)
          ∧ r.2.mem ((c.tc : Thread Cert.MmOutRefIdeal.nD Cert.MmOutRefIdeal.τ).loc Cert.MmOutRefIdeal.main_arg2) = m' ((c.tc : Thread Cert.MmOutRefIdeal.nD Cert.MmOutRefIdeal.τ).loc Cert.MmOutRefIdeal.main_arg2)
          ∧ r.2.mem ((c.tc : Thread Cert.MmOutRefIdeal.nD Cert.MmOutRefIdeal.τ).loc Cert.MmOutRefIdeal.main_arg3) = m' ((c.tc : Thread Cert.MmOutRefIdeal.nD Cert.MmOutRefIdeal.τ).loc Cert.MmOutRefIdeal.main_arg3))

def preserves_MmOutDx_MmOutDxIdeal : Prop :=
  True

def algebraic_MmOutDxIdeal_MmOutDxRefIdeal [hMmOutDxIdeal : Cert.MmOutDxIdeal.Facts] [hMmOutDxRefIdeal : Cert.MmOutDxRefIdeal.Facts] : Prop :=
  ∀ (m : (ℓ : Loc Cert.MmOutDxIdeal.nD Cert.MmOutDxIdeal.τ Cert.MmOutDxIdeal.sig) → Buf (Elt Ideal) ℓ) (g : Dev Cert.MmOutDxIdeal.nD → PrngReg)
    (m' : (ℓ : Loc Cert.MmOutDxRefIdeal.nD Cert.MmOutDxRefIdeal.τ Cert.MmOutDxRefIdeal.sig) → Buf (Elt Ideal) ℓ) (g' : Dev Cert.MmOutDxRefIdeal.nD → PrngReg), Pre_MmOutDxIdeal m →
    (∀ c : Dev Cert.MmOutDxIdeal.nD,
      m' ((c.tc : Thread Cert.MmOutDxRefIdeal.nD Cert.MmOutDxRefIdeal.τ).loc Cert.MmOutDxRefIdeal.main_arg0) = m ((c.tc : Thread Cert.MmOutDxIdeal.nD Cert.MmOutDxIdeal.τ).loc Cert.MmOutDxIdeal.main_arg0)
      ∧ m' ((c.tc : Thread Cert.MmOutDxRefIdeal.nD Cert.MmOutDxRefIdeal.τ).loc Cert.MmOutDxRefIdeal.main_arg1) = m ((c.tc : Thread Cert.MmOutDxIdeal.nD Cert.MmOutDxIdeal.τ).loc Cert.MmOutDxIdeal.main_arg1)) →
    ∃ (v0 : (c : Dev Cert.MmOutDxIdeal.nD) → Buf (Elt Ideal) ((c.tc : Thread Cert.MmOutDxIdeal.nD Cert.MmOutDxIdeal.τ).loc Cert.MmOutDxIdeal.main_v0)),
      θ_run (Cert.MmOutDxIdeal.defs (F := Ideal)) (onTc (τ := Cert.MmOutDxIdeal.τ) (Cert.MmOutDxIdeal.main (F := Ideal))) ⟨m, fun _ => 0, g⟩ (fun r => ∀ c : Dev Cert.MmOutDxIdeal.nD,
          r.2.mem ((c.tc : Thread Cert.MmOutDxIdeal.nD Cert.MmOutDxIdeal.τ).loc Cert.MmOutDxIdeal.main_v0) = v0 c
          ∧ r.2.mem ((c.tc : Thread Cert.MmOutDxIdeal.nD Cert.MmOutDxIdeal.τ).loc Cert.MmOutDxIdeal.main_arg0) = m ((c.tc : Thread Cert.MmOutDxIdeal.nD Cert.MmOutDxIdeal.τ).loc Cert.MmOutDxIdeal.main_arg0)
          ∧ r.2.mem ((c.tc : Thread Cert.MmOutDxIdeal.nD Cert.MmOutDxIdeal.τ).loc Cert.MmOutDxIdeal.main_arg1) = m ((c.tc : Thread Cert.MmOutDxIdeal.nD Cert.MmOutDxIdeal.τ).loc Cert.MmOutDxIdeal.main_arg1))
      ∧ θ_run (Cert.MmOutDxRefIdeal.defs (F := Ideal)) (onTc (τ := Cert.MmOutDxRefIdeal.τ) (Cert.MmOutDxRefIdeal.main (F := Ideal))) ⟨m', fun _ => 0, g'⟩ (fun r => ∀ c : Dev Cert.MmOutDxRefIdeal.nD,
          r.2.mem ((c.tc : Thread Cert.MmOutDxRefIdeal.nD Cert.MmOutDxRefIdeal.τ).loc Cert.MmOutDxRefIdeal.main_v0) = v0 c
          ∧ r.2.mem ((c.tc : Thread Cert.MmOutDxRefIdeal.nD Cert.MmOutDxRefIdeal.τ).loc Cert.MmOutDxRefIdeal.main_arg0) = m' ((c.tc : Thread Cert.MmOutDxRefIdeal.nD Cert.MmOutDxRefIdeal.τ).loc Cert.MmOutDxRefIdeal.main_arg0)
          ∧ r.2.mem ((c.tc : Thread Cert.MmOutDxRefIdeal.nD Cert.MmOutDxRefIdeal.τ).loc Cert.MmOutDxRefIdeal.main_arg1) = m' ((c.tc : Thread Cert.MmOutDxRefIdeal.nD Cert.MmOutDxRefIdeal.τ).loc Cert.MmOutDxRefIdeal.main_arg1))

def preserves_MmOdInDx_MmOdInDxIdeal : Prop :=
  True

def algebraic_MmOdInDxIdeal_MmOdInDxRefIdeal [hMmOdInDxIdeal : Cert.MmOdInDxIdeal.Facts] [hMmOdInDxRefIdeal : Cert.MmOdInDxRefIdeal.Facts] : Prop :=
  ∀ (m : (ℓ : Loc Cert.MmOdInDxIdeal.nD Cert.MmOdInDxIdeal.τ Cert.MmOdInDxIdeal.sig) → Buf (Elt Ideal) ℓ) (g : Dev Cert.MmOdInDxIdeal.nD → PrngReg)
    (m' : (ℓ : Loc Cert.MmOdInDxRefIdeal.nD Cert.MmOdInDxRefIdeal.τ Cert.MmOdInDxRefIdeal.sig) → Buf (Elt Ideal) ℓ) (g' : Dev Cert.MmOdInDxRefIdeal.nD → PrngReg), Pre_MmOdInDxIdeal m →
    (∀ c : Dev Cert.MmOdInDxIdeal.nD,
      m' ((c.tc : Thread Cert.MmOdInDxRefIdeal.nD Cert.MmOdInDxRefIdeal.τ).loc Cert.MmOdInDxRefIdeal.main_arg0) = m ((c.tc : Thread Cert.MmOdInDxIdeal.nD Cert.MmOdInDxIdeal.τ).loc Cert.MmOdInDxIdeal.main_arg0)
      ∧ m' ((c.tc : Thread Cert.MmOdInDxRefIdeal.nD Cert.MmOdInDxRefIdeal.τ).loc Cert.MmOdInDxRefIdeal.main_arg1) = m ((c.tc : Thread Cert.MmOdInDxIdeal.nD Cert.MmOdInDxIdeal.τ).loc Cert.MmOdInDxIdeal.main_arg1)) →
    ∃ (v0 : (c : Dev Cert.MmOdInDxIdeal.nD) → Buf (Elt Ideal) ((c.tc : Thread Cert.MmOdInDxIdeal.nD Cert.MmOdInDxIdeal.τ).loc Cert.MmOdInDxIdeal.main_v0)),
      θ_run (Cert.MmOdInDxIdeal.defs (F := Ideal)) (onTc (τ := Cert.MmOdInDxIdeal.τ) (Cert.MmOdInDxIdeal.main (F := Ideal))) ⟨m, fun _ => 0, g⟩ (fun r => ∀ c : Dev Cert.MmOdInDxIdeal.nD,
          r.2.mem ((c.tc : Thread Cert.MmOdInDxIdeal.nD Cert.MmOdInDxIdeal.τ).loc Cert.MmOdInDxIdeal.main_v0) = v0 c
          ∧ r.2.mem ((c.tc : Thread Cert.MmOdInDxIdeal.nD Cert.MmOdInDxIdeal.τ).loc Cert.MmOdInDxIdeal.main_arg0) = m ((c.tc : Thread Cert.MmOdInDxIdeal.nD Cert.MmOdInDxIdeal.τ).loc Cert.MmOdInDxIdeal.main_arg0)
          ∧ r.2.mem ((c.tc : Thread Cert.MmOdInDxIdeal.nD Cert.MmOdInDxIdeal.τ).loc Cert.MmOdInDxIdeal.main_arg1) = m ((c.tc : Thread Cert.MmOdInDxIdeal.nD Cert.MmOdInDxIdeal.τ).loc Cert.MmOdInDxIdeal.main_arg1))
      ∧ θ_run (Cert.MmOdInDxRefIdeal.defs (F := Ideal)) (onTc (τ := Cert.MmOdInDxRefIdeal.τ) (Cert.MmOdInDxRefIdeal.main (F := Ideal))) ⟨m', fun _ => 0, g'⟩ (fun r => ∀ c : Dev Cert.MmOdInDxRefIdeal.nD,
          r.2.mem ((c.tc : Thread Cert.MmOdInDxRefIdeal.nD Cert.MmOdInDxRefIdeal.τ).loc Cert.MmOdInDxRefIdeal.main_v0) = v0 c
          ∧ r.2.mem ((c.tc : Thread Cert.MmOdInDxRefIdeal.nD Cert.MmOdInDxRefIdeal.τ).loc Cert.MmOdInDxRefIdeal.main_arg0) = m' ((c.tc : Thread Cert.MmOdInDxRefIdeal.nD Cert.MmOdInDxRefIdeal.τ).loc Cert.MmOdInDxRefIdeal.main_arg0)
          ∧ r.2.mem ((c.tc : Thread Cert.MmOdInDxRefIdeal.nD Cert.MmOdInDxRefIdeal.τ).loc Cert.MmOdInDxRefIdeal.main_arg1) = m' ((c.tc : Thread Cert.MmOdInDxRefIdeal.nD Cert.MmOdInDxRefIdeal.τ).loc Cert.MmOdInDxRefIdeal.main_arg1))

def preserves_MmEvInDx_MmEvInDxIdeal : Prop :=
  True

def algebraic_MmEvInDxIdeal_MmEvInDxRefIdeal [hMmEvInDxIdeal : Cert.MmEvInDxIdeal.Facts] [hMmEvInDxRefIdeal : Cert.MmEvInDxRefIdeal.Facts] : Prop :=
  ∀ (m : (ℓ : Loc Cert.MmEvInDxIdeal.nD Cert.MmEvInDxIdeal.τ Cert.MmEvInDxIdeal.sig) → Buf (Elt Ideal) ℓ) (g : Dev Cert.MmEvInDxIdeal.nD → PrngReg)
    (m' : (ℓ : Loc Cert.MmEvInDxRefIdeal.nD Cert.MmEvInDxRefIdeal.τ Cert.MmEvInDxRefIdeal.sig) → Buf (Elt Ideal) ℓ) (g' : Dev Cert.MmEvInDxRefIdeal.nD → PrngReg), Pre_MmEvInDxIdeal m →
    (∀ c : Dev Cert.MmEvInDxIdeal.nD,
      m' ((c.tc : Thread Cert.MmEvInDxRefIdeal.nD Cert.MmEvInDxRefIdeal.τ).loc Cert.MmEvInDxRefIdeal.main_arg0) = m ((c.tc : Thread Cert.MmEvInDxIdeal.nD Cert.MmEvInDxIdeal.τ).loc Cert.MmEvInDxIdeal.main_arg0)
      ∧ m' ((c.tc : Thread Cert.MmEvInDxRefIdeal.nD Cert.MmEvInDxRefIdeal.τ).loc Cert.MmEvInDxRefIdeal.main_arg1) = m ((c.tc : Thread Cert.MmEvInDxIdeal.nD Cert.MmEvInDxIdeal.τ).loc Cert.MmEvInDxIdeal.main_arg1)) →
    ∃ (v0 : (c : Dev Cert.MmEvInDxIdeal.nD) → Buf (Elt Ideal) ((c.tc : Thread Cert.MmEvInDxIdeal.nD Cert.MmEvInDxIdeal.τ).loc Cert.MmEvInDxIdeal.main_v0)),
      θ_run (Cert.MmEvInDxIdeal.defs (F := Ideal)) (onTc (τ := Cert.MmEvInDxIdeal.τ) (Cert.MmEvInDxIdeal.main (F := Ideal))) ⟨m, fun _ => 0, g⟩ (fun r => ∀ c : Dev Cert.MmEvInDxIdeal.nD,
          r.2.mem ((c.tc : Thread Cert.MmEvInDxIdeal.nD Cert.MmEvInDxIdeal.τ).loc Cert.MmEvInDxIdeal.main_v0) = v0 c
          ∧ r.2.mem ((c.tc : Thread Cert.MmEvInDxIdeal.nD Cert.MmEvInDxIdeal.τ).loc Cert.MmEvInDxIdeal.main_arg0) = m ((c.tc : Thread Cert.MmEvInDxIdeal.nD Cert.MmEvInDxIdeal.τ).loc Cert.MmEvInDxIdeal.main_arg0)
          ∧ r.2.mem ((c.tc : Thread Cert.MmEvInDxIdeal.nD Cert.MmEvInDxIdeal.τ).loc Cert.MmEvInDxIdeal.main_arg1) = m ((c.tc : Thread Cert.MmEvInDxIdeal.nD Cert.MmEvInDxIdeal.τ).loc Cert.MmEvInDxIdeal.main_arg1))
      ∧ θ_run (Cert.MmEvInDxRefIdeal.defs (F := Ideal)) (onTc (τ := Cert.MmEvInDxRefIdeal.τ) (Cert.MmEvInDxRefIdeal.main (F := Ideal))) ⟨m', fun _ => 0, g'⟩ (fun r => ∀ c : Dev Cert.MmEvInDxRefIdeal.nD,
          r.2.mem ((c.tc : Thread Cert.MmEvInDxRefIdeal.nD Cert.MmEvInDxRefIdeal.τ).loc Cert.MmEvInDxRefIdeal.main_v0) = v0 c
          ∧ r.2.mem ((c.tc : Thread Cert.MmEvInDxRefIdeal.nD Cert.MmEvInDxRefIdeal.τ).loc Cert.MmEvInDxRefIdeal.main_arg0) = m' ((c.tc : Thread Cert.MmEvInDxRefIdeal.nD Cert.MmEvInDxRefIdeal.τ).loc Cert.MmEvInDxRefIdeal.main_arg0)
          ∧ r.2.mem ((c.tc : Thread Cert.MmEvInDxRefIdeal.nD Cert.MmEvInDxRefIdeal.τ).loc Cert.MmEvInDxRefIdeal.main_arg1) = m' ((c.tc : Thread Cert.MmEvInDxRefIdeal.nD Cert.MmEvInDxRefIdeal.τ).loc Cert.MmEvInDxRefIdeal.main_arg1))

def preserves_MmOutDw_MmOutDwIdeal : Prop :=
  True

def algebraic_MmOutDwIdeal_MmOutDwRefIdeal [hMmOutDwIdeal : Cert.MmOutDwIdeal.Facts] [hMmOutDwRefIdeal : Cert.MmOutDwRefIdeal.Facts] : Prop :=
  ∀ (m : (ℓ : Loc Cert.MmOutDwIdeal.nD Cert.MmOutDwIdeal.τ Cert.MmOutDwIdeal.sig) → Buf (Elt Ideal) ℓ) (g : Dev Cert.MmOutDwIdeal.nD → PrngReg)
    (m' : (ℓ : Loc Cert.MmOutDwRefIdeal.nD Cert.MmOutDwRefIdeal.τ Cert.MmOutDwRefIdeal.sig) → Buf (Elt Ideal) ℓ) (g' : Dev Cert.MmOutDwRefIdeal.nD → PrngReg), Pre_MmOutDwIdeal m →
    (∀ c : Dev Cert.MmOutDwIdeal.nD,
      m' ((c.tc : Thread Cert.MmOutDwRefIdeal.nD Cert.MmOutDwRefIdeal.τ).loc Cert.MmOutDwRefIdeal.main_arg0) = m ((c.tc : Thread Cert.MmOutDwIdeal.nD Cert.MmOutDwIdeal.τ).loc Cert.MmOutDwIdeal.main_arg0)
      ∧ m' ((c.tc : Thread Cert.MmOutDwRefIdeal.nD Cert.MmOutDwRefIdeal.τ).loc Cert.MmOutDwRefIdeal.main_arg1) = m ((c.tc : Thread Cert.MmOutDwIdeal.nD Cert.MmOutDwIdeal.τ).loc Cert.MmOutDwIdeal.main_arg1)) →
    ∃ (v0 : (c : Dev Cert.MmOutDwIdeal.nD) → Buf (Elt Ideal) ((c.tc : Thread Cert.MmOutDwIdeal.nD Cert.MmOutDwIdeal.τ).loc Cert.MmOutDwIdeal.main_v0)),
      θ_run (Cert.MmOutDwIdeal.defs (F := Ideal)) (onTc (τ := Cert.MmOutDwIdeal.τ) (Cert.MmOutDwIdeal.main (F := Ideal))) ⟨m, fun _ => 0, g⟩ (fun r => ∀ c : Dev Cert.MmOutDwIdeal.nD,
          r.2.mem ((c.tc : Thread Cert.MmOutDwIdeal.nD Cert.MmOutDwIdeal.τ).loc Cert.MmOutDwIdeal.main_v0) = v0 c
          ∧ r.2.mem ((c.tc : Thread Cert.MmOutDwIdeal.nD Cert.MmOutDwIdeal.τ).loc Cert.MmOutDwIdeal.main_arg0) = m ((c.tc : Thread Cert.MmOutDwIdeal.nD Cert.MmOutDwIdeal.τ).loc Cert.MmOutDwIdeal.main_arg0)
          ∧ r.2.mem ((c.tc : Thread Cert.MmOutDwIdeal.nD Cert.MmOutDwIdeal.τ).loc Cert.MmOutDwIdeal.main_arg1) = m ((c.tc : Thread Cert.MmOutDwIdeal.nD Cert.MmOutDwIdeal.τ).loc Cert.MmOutDwIdeal.main_arg1))
      ∧ θ_run (Cert.MmOutDwRefIdeal.defs (F := Ideal)) (onTc (τ := Cert.MmOutDwRefIdeal.τ) (Cert.MmOutDwRefIdeal.main (F := Ideal))) ⟨m', fun _ => 0, g'⟩ (fun r => ∀ c : Dev Cert.MmOutDwRefIdeal.nD,
          r.2.mem ((c.tc : Thread Cert.MmOutDwRefIdeal.nD Cert.MmOutDwRefIdeal.τ).loc Cert.MmOutDwRefIdeal.main_v0) = v0 c
          ∧ r.2.mem ((c.tc : Thread Cert.MmOutDwRefIdeal.nD Cert.MmOutDwRefIdeal.τ).loc Cert.MmOutDwRefIdeal.main_arg0) = m' ((c.tc : Thread Cert.MmOutDwRefIdeal.nD Cert.MmOutDwRefIdeal.τ).loc Cert.MmOutDwRefIdeal.main_arg0)
          ∧ r.2.mem ((c.tc : Thread Cert.MmOutDwRefIdeal.nD Cert.MmOutDwRefIdeal.τ).loc Cert.MmOutDwRefIdeal.main_arg1) = m' ((c.tc : Thread Cert.MmOutDwRefIdeal.nD Cert.MmOutDwRefIdeal.τ).loc Cert.MmOutDwRefIdeal.main_arg1))

def preserves_MmOdInDw_MmOdInDwIdeal : Prop :=
  True

def algebraic_MmOdInDwIdeal_MmOdInDwRefIdeal [hMmOdInDwIdeal : Cert.MmOdInDwIdeal.Facts] [hMmOdInDwRefIdeal : Cert.MmOdInDwRefIdeal.Facts] : Prop :=
  ∀ (m : (ℓ : Loc Cert.MmOdInDwIdeal.nD Cert.MmOdInDwIdeal.τ Cert.MmOdInDwIdeal.sig) → Buf (Elt Ideal) ℓ) (g : Dev Cert.MmOdInDwIdeal.nD → PrngReg)
    (m' : (ℓ : Loc Cert.MmOdInDwRefIdeal.nD Cert.MmOdInDwRefIdeal.τ Cert.MmOdInDwRefIdeal.sig) → Buf (Elt Ideal) ℓ) (g' : Dev Cert.MmOdInDwRefIdeal.nD → PrngReg), Pre_MmOdInDwIdeal m →
    (∀ c : Dev Cert.MmOdInDwIdeal.nD,
      m' ((c.tc : Thread Cert.MmOdInDwRefIdeal.nD Cert.MmOdInDwRefIdeal.τ).loc Cert.MmOdInDwRefIdeal.main_arg0) = m ((c.tc : Thread Cert.MmOdInDwIdeal.nD Cert.MmOdInDwIdeal.τ).loc Cert.MmOdInDwIdeal.main_arg0)
      ∧ m' ((c.tc : Thread Cert.MmOdInDwRefIdeal.nD Cert.MmOdInDwRefIdeal.τ).loc Cert.MmOdInDwRefIdeal.main_arg1) = m ((c.tc : Thread Cert.MmOdInDwIdeal.nD Cert.MmOdInDwIdeal.τ).loc Cert.MmOdInDwIdeal.main_arg1)) →
    ∃ (v0 : (c : Dev Cert.MmOdInDwIdeal.nD) → Buf (Elt Ideal) ((c.tc : Thread Cert.MmOdInDwIdeal.nD Cert.MmOdInDwIdeal.τ).loc Cert.MmOdInDwIdeal.main_v0)),
      θ_run (Cert.MmOdInDwIdeal.defs (F := Ideal)) (onTc (τ := Cert.MmOdInDwIdeal.τ) (Cert.MmOdInDwIdeal.main (F := Ideal))) ⟨m, fun _ => 0, g⟩ (fun r => ∀ c : Dev Cert.MmOdInDwIdeal.nD,
          r.2.mem ((c.tc : Thread Cert.MmOdInDwIdeal.nD Cert.MmOdInDwIdeal.τ).loc Cert.MmOdInDwIdeal.main_v0) = v0 c
          ∧ r.2.mem ((c.tc : Thread Cert.MmOdInDwIdeal.nD Cert.MmOdInDwIdeal.τ).loc Cert.MmOdInDwIdeal.main_arg0) = m ((c.tc : Thread Cert.MmOdInDwIdeal.nD Cert.MmOdInDwIdeal.τ).loc Cert.MmOdInDwIdeal.main_arg0)
          ∧ r.2.mem ((c.tc : Thread Cert.MmOdInDwIdeal.nD Cert.MmOdInDwIdeal.τ).loc Cert.MmOdInDwIdeal.main_arg1) = m ((c.tc : Thread Cert.MmOdInDwIdeal.nD Cert.MmOdInDwIdeal.τ).loc Cert.MmOdInDwIdeal.main_arg1))
      ∧ θ_run (Cert.MmOdInDwRefIdeal.defs (F := Ideal)) (onTc (τ := Cert.MmOdInDwRefIdeal.τ) (Cert.MmOdInDwRefIdeal.main (F := Ideal))) ⟨m', fun _ => 0, g'⟩ (fun r => ∀ c : Dev Cert.MmOdInDwRefIdeal.nD,
          r.2.mem ((c.tc : Thread Cert.MmOdInDwRefIdeal.nD Cert.MmOdInDwRefIdeal.τ).loc Cert.MmOdInDwRefIdeal.main_v0) = v0 c
          ∧ r.2.mem ((c.tc : Thread Cert.MmOdInDwRefIdeal.nD Cert.MmOdInDwRefIdeal.τ).loc Cert.MmOdInDwRefIdeal.main_arg0) = m' ((c.tc : Thread Cert.MmOdInDwRefIdeal.nD Cert.MmOdInDwRefIdeal.τ).loc Cert.MmOdInDwRefIdeal.main_arg0)
          ∧ r.2.mem ((c.tc : Thread Cert.MmOdInDwRefIdeal.nD Cert.MmOdInDwRefIdeal.τ).loc Cert.MmOdInDwRefIdeal.main_arg1) = m' ((c.tc : Thread Cert.MmOdInDwRefIdeal.nD Cert.MmOdInDwRefIdeal.τ).loc Cert.MmOdInDwRefIdeal.main_arg1))

def preserves_MmEvInDw_MmEvInDwIdeal : Prop :=
  True

def algebraic_MmEvInDwIdeal_MmEvInDwRefIdeal [hMmEvInDwIdeal : Cert.MmEvInDwIdeal.Facts] [hMmEvInDwRefIdeal : Cert.MmEvInDwRefIdeal.Facts] : Prop :=
  ∀ (m : (ℓ : Loc Cert.MmEvInDwIdeal.nD Cert.MmEvInDwIdeal.τ Cert.MmEvInDwIdeal.sig) → Buf (Elt Ideal) ℓ) (g : Dev Cert.MmEvInDwIdeal.nD → PrngReg)
    (m' : (ℓ : Loc Cert.MmEvInDwRefIdeal.nD Cert.MmEvInDwRefIdeal.τ Cert.MmEvInDwRefIdeal.sig) → Buf (Elt Ideal) ℓ) (g' : Dev Cert.MmEvInDwRefIdeal.nD → PrngReg), Pre_MmEvInDwIdeal m →
    (∀ c : Dev Cert.MmEvInDwIdeal.nD,
      m' ((c.tc : Thread Cert.MmEvInDwRefIdeal.nD Cert.MmEvInDwRefIdeal.τ).loc Cert.MmEvInDwRefIdeal.main_arg0) = m ((c.tc : Thread Cert.MmEvInDwIdeal.nD Cert.MmEvInDwIdeal.τ).loc Cert.MmEvInDwIdeal.main_arg0)
      ∧ m' ((c.tc : Thread Cert.MmEvInDwRefIdeal.nD Cert.MmEvInDwRefIdeal.τ).loc Cert.MmEvInDwRefIdeal.main_arg1) = m ((c.tc : Thread Cert.MmEvInDwIdeal.nD Cert.MmEvInDwIdeal.τ).loc Cert.MmEvInDwIdeal.main_arg1)) →
    ∃ (v0 : (c : Dev Cert.MmEvInDwIdeal.nD) → Buf (Elt Ideal) ((c.tc : Thread Cert.MmEvInDwIdeal.nD Cert.MmEvInDwIdeal.τ).loc Cert.MmEvInDwIdeal.main_v0)),
      θ_run (Cert.MmEvInDwIdeal.defs (F := Ideal)) (onTc (τ := Cert.MmEvInDwIdeal.τ) (Cert.MmEvInDwIdeal.main (F := Ideal))) ⟨m, fun _ => 0, g⟩ (fun r => ∀ c : Dev Cert.MmEvInDwIdeal.nD,
          r.2.mem ((c.tc : Thread Cert.MmEvInDwIdeal.nD Cert.MmEvInDwIdeal.τ).loc Cert.MmEvInDwIdeal.main_v0) = v0 c
          ∧ r.2.mem ((c.tc : Thread Cert.MmEvInDwIdeal.nD Cert.MmEvInDwIdeal.τ).loc Cert.MmEvInDwIdeal.main_arg0) = m ((c.tc : Thread Cert.MmEvInDwIdeal.nD Cert.MmEvInDwIdeal.τ).loc Cert.MmEvInDwIdeal.main_arg0)
          ∧ r.2.mem ((c.tc : Thread Cert.MmEvInDwIdeal.nD Cert.MmEvInDwIdeal.τ).loc Cert.MmEvInDwIdeal.main_arg1) = m ((c.tc : Thread Cert.MmEvInDwIdeal.nD Cert.MmEvInDwIdeal.τ).loc Cert.MmEvInDwIdeal.main_arg1))
      ∧ θ_run (Cert.MmEvInDwRefIdeal.defs (F := Ideal)) (onTc (τ := Cert.MmEvInDwRefIdeal.τ) (Cert.MmEvInDwRefIdeal.main (F := Ideal))) ⟨m', fun _ => 0, g'⟩ (fun r => ∀ c : Dev Cert.MmEvInDwRefIdeal.nD,
          r.2.mem ((c.tc : Thread Cert.MmEvInDwRefIdeal.nD Cert.MmEvInDwRefIdeal.τ).loc Cert.MmEvInDwRefIdeal.main_v0) = v0 c
          ∧ r.2.mem ((c.tc : Thread Cert.MmEvInDwRefIdeal.nD Cert.MmEvInDwRefIdeal.τ).loc Cert.MmEvInDwRefIdeal.main_arg0) = m' ((c.tc : Thread Cert.MmEvInDwRefIdeal.nD Cert.MmEvInDwRefIdeal.τ).loc Cert.MmEvInDwRefIdeal.main_arg0)
          ∧ r.2.mem ((c.tc : Thread Cert.MmEvInDwRefIdeal.nD Cert.MmEvInDwRefIdeal.τ).loc Cert.MmEvInDwRefIdeal.main_arg1) = m' ((c.tc : Thread Cert.MmEvInDwRefIdeal.nD Cert.MmEvInDwRefIdeal.τ).loc Cert.MmEvInDwRefIdeal.main_arg1))

def Claim : Prop :=
  ∃ (hPairExchange : Cert.PairExchange.Facts) (hPairExchangeIdeal : Cert.PairExchangeIdeal.Facts) (hPairExchangeRefIdeal : Cert.PairExchangeRefIdeal.Facts) (hPairExchangeRef : Cert.PairExchangeRef.Facts) (hChipScatter : Cert.ChipScatter.Facts) (hChipScatterIdeal : Cert.ChipScatterIdeal.Facts) (hChipScatterRefIdeal : Cert.ChipScatterRefIdeal.Facts) (hChipScatterRef : Cert.ChipScatterRef.Facts) (hGatherWeights : Cert.GatherWeights.Facts) (hGatherWeightsIdeal : Cert.GatherWeightsIdeal.Facts) (hGatherWeightsRefIdeal : Cert.GatherWeightsRefIdeal.Facts) (hGatherWeightsRef : Cert.GatherWeightsRef.Facts) (hPairShare : Cert.PairShare.Facts) (hPairShareIdeal : Cert.PairShareIdeal.Facts) (hPairShareRefIdeal : Cert.PairShareRefIdeal.Facts) (hPairShareRef : Cert.PairShareRef.Facts) (hPairSumEvIn : Cert.PairSumEvIn.Facts) (hPairSumEvInIdeal : Cert.PairSumEvInIdeal.Facts) (hPairSumEvInRefIdeal : Cert.PairSumEvInRefIdeal.Facts) (hPairSumEvInRef : Cert.PairSumEvInRef.Facts) (hPairSumOut : Cert.PairSumOut.Facts) (hPairSumOutIdeal : Cert.PairSumOutIdeal.Facts) (hPairSumOutRefIdeal : Cert.PairSumOutRefIdeal.Facts) (hPairSumOutRef : Cert.PairSumOutRef.Facts) (hPairSumOdIn : Cert.PairSumOdIn.Facts) (hPairSumOdInIdeal : Cert.PairSumOdInIdeal.Facts) (hPairSumOdInRefIdeal : Cert.PairSumOdInRefIdeal.Facts) (hPairSumOdInRef : Cert.PairSumOdInRef.Facts) (hSlotSumEvIn : Cert.SlotSumEvIn.Facts) (hSlotSumEvInIdeal : Cert.SlotSumEvInIdeal.Facts) (hSlotSumEvInRefIdeal : Cert.SlotSumEvInRefIdeal.Facts) (hSlotSumOut : Cert.SlotSumOut.Facts) (hSlotSumOutIdeal : Cert.SlotSumOutIdeal.Facts) (hSlotSumOutRefIdeal : Cert.SlotSumOutRefIdeal.Facts) (hSlotSumOdIn : Cert.SlotSumOdIn.Facts) (hSlotSumOdInIdeal : Cert.SlotSumOdInIdeal.Facts) (hSlotSumOdInRefIdeal : Cert.SlotSumOdInRefIdeal.Facts) (hSmallGrads : Cert.SmallGrads.Facts) (hSmallGradsIdeal : Cert.SmallGradsIdeal.Facts) (hSmallGradsRefIdeal : Cert.SmallGradsRefIdeal.Facts) (hAdamwAda : Cert.AdamwAda.Facts) (hAdamwAdaIdeal : Cert.AdamwAdaIdeal.Facts) (hAdamwAdaRefIdeal : Cert.AdamwAdaRefIdeal.Facts) (hAdamwEvIn : Cert.AdamwEvIn.Facts) (hAdamwEvInIdeal : Cert.AdamwEvInIdeal.Facts) (hAdamwEvInRefIdeal : Cert.AdamwEvInRefIdeal.Facts) (hAdamwOut : Cert.AdamwOut.Facts) (hAdamwOutIdeal : Cert.AdamwOutIdeal.Facts) (hAdamwOutRefIdeal : Cert.AdamwOutRefIdeal.Facts) (hAdamwOdIn : Cert.AdamwOdIn.Facts) (hAdamwOdInIdeal : Cert.AdamwOdInIdeal.Facts) (hAdamwOdInRefIdeal : Cert.AdamwOdInRefIdeal.Facts) (hAdamwSmall : Cert.AdamwSmall.Facts) (hAdamwSmallIdeal : Cert.AdamwSmallIdeal.Facts) (hAdamwSmallRefIdeal : Cert.AdamwSmallRefIdeal.Facts) (hModBwd : Cert.ModBwd.Facts) (hModBwdIdeal : Cert.ModBwdIdeal.Facts) (hModBwdRefIdeal : Cert.ModBwdRefIdeal.Facts) (hCctxGrad : Cert.CctxGrad.Facts) (hCctxGradIdeal : Cert.CctxGradIdeal.Facts) (hCctxGradRefIdeal : Cert.CctxGradRefIdeal.Facts) (hNormBwd : Cert.NormBwd.Facts) (hNormBwdIdeal : Cert.NormBwdIdeal.Facts) (hNormBwdRefIdeal : Cert.NormBwdRefIdeal.Facts) (hFinalLoss : Cert.FinalLoss.Facts) (hFinalLossIdeal : Cert.FinalLossIdeal.Facts) (hFinalLossRefIdeal : Cert.FinalLossRefIdeal.Facts) (hNormFwd : Cert.NormFwd.Facts) (hNormFwdIdeal : Cert.NormFwdIdeal.Facts) (hNormFwdRefIdeal : Cert.NormFwdRefIdeal.Facts) (hNormCtxFwd : Cert.NormCtxFwd.Facts) (hNormCtxFwdIdeal : Cert.NormCtxFwdIdeal.Facts) (hNormCtxFwdRefIdeal : Cert.NormCtxFwdRefIdeal.Facts) (hNormCtxBwd : Cert.NormCtxBwd.Facts) (hNormCtxBwdIdeal : Cert.NormCtxBwdIdeal.Facts) (hNormCtxBwdRefIdeal : Cert.NormCtxBwdRefIdeal.Facts) (hNormGateBwd : Cert.NormGateBwd.Facts) (hNormGateBwdIdeal : Cert.NormGateBwdIdeal.Facts) (hNormGateBwdRefIdeal : Cert.NormGateBwdRefIdeal.Facts) (hMmEvIn : Cert.MmEvIn.Facts) (hMmEvInIdeal : Cert.MmEvInIdeal.Facts) (hMmEvInRefIdeal : Cert.MmEvInRefIdeal.Facts) (hMmOdIn : Cert.MmOdIn.Facts) (hMmOdInIdeal : Cert.MmOdInIdeal.Facts) (hMmOdInRefIdeal : Cert.MmOdInRefIdeal.Facts) (hMmOut : Cert.MmOut.Facts) (hMmOutIdeal : Cert.MmOutIdeal.Facts) (hMmOutRefIdeal : Cert.MmOutRefIdeal.Facts) (hMmOutDx : Cert.MmOutDx.Facts) (hMmOutDxIdeal : Cert.MmOutDxIdeal.Facts) (hMmOutDxRefIdeal : Cert.MmOutDxRefIdeal.Facts) (hMmOdInDx : Cert.MmOdInDx.Facts) (hMmOdInDxIdeal : Cert.MmOdInDxIdeal.Facts) (hMmOdInDxRefIdeal : Cert.MmOdInDxRefIdeal.Facts) (hMmEvInDx : Cert.MmEvInDx.Facts) (hMmEvInDxIdeal : Cert.MmEvInDxIdeal.Facts) (hMmEvInDxRefIdeal : Cert.MmEvInDxRefIdeal.Facts) (hMmOutDw : Cert.MmOutDw.Facts) (hMmOutDwIdeal : Cert.MmOutDwIdeal.Facts) (hMmOutDwRefIdeal : Cert.MmOutDwRefIdeal.Facts) (hMmOdInDw : Cert.MmOdInDw.Facts) (hMmOdInDwIdeal : Cert.MmOdInDwIdeal.Facts) (hMmOdInDwRefIdeal : Cert.MmOdInDwRefIdeal.Facts) (hMmEvInDw : Cert.MmEvInDw.Facts) (hMmEvInDwIdeal : Cert.MmEvInDwIdeal.Facts) (hMmEvInDwRefIdeal : Cert.MmEvInDwRefIdeal.Facts),
    quiescent_PairExchange (hPairExchange := hPairExchange)
    ∧ quiescent_PairExchangeIdeal (hPairExchangeIdeal := hPairExchangeIdeal)
    ∧ quiescent_PairExchangeRefIdeal (hPairExchangeRefIdeal := hPairExchangeRefIdeal)
    ∧ quiescent_PairExchangeRef (hPairExchangeRef := hPairExchangeRef)
    ∧ quiescent_ChipScatter (hChipScatter := hChipScatter)
    ∧ quiescent_ChipScatterIdeal (hChipScatterIdeal := hChipScatterIdeal)
    ∧ quiescent_ChipScatterRefIdeal (hChipScatterRefIdeal := hChipScatterRefIdeal)
    ∧ quiescent_ChipScatterRef (hChipScatterRef := hChipScatterRef)
    ∧ quiescent_GatherWeights (hGatherWeights := hGatherWeights)
    ∧ quiescent_GatherWeightsIdeal (hGatherWeightsIdeal := hGatherWeightsIdeal)
    ∧ quiescent_GatherWeightsRefIdeal (hGatherWeightsRefIdeal := hGatherWeightsRefIdeal)
    ∧ quiescent_GatherWeightsRef (hGatherWeightsRef := hGatherWeightsRef)
    ∧ quiescent_PairShare (hPairShare := hPairShare)
    ∧ quiescent_PairShareIdeal (hPairShareIdeal := hPairShareIdeal)
    ∧ quiescent_PairShareRefIdeal (hPairShareRefIdeal := hPairShareRefIdeal)
    ∧ quiescent_PairShareRef (hPairShareRef := hPairShareRef)
    ∧ quiescent_PairSumEvIn (hPairSumEvIn := hPairSumEvIn)
    ∧ quiescent_PairSumEvInIdeal (hPairSumEvInIdeal := hPairSumEvInIdeal)
    ∧ quiescent_PairSumEvInRefIdeal (hPairSumEvInRefIdeal := hPairSumEvInRefIdeal)
    ∧ quiescent_PairSumEvInRef (hPairSumEvInRef := hPairSumEvInRef)
    ∧ quiescent_PairSumOut (hPairSumOut := hPairSumOut)
    ∧ quiescent_PairSumOutIdeal (hPairSumOutIdeal := hPairSumOutIdeal)
    ∧ quiescent_PairSumOutRefIdeal (hPairSumOutRefIdeal := hPairSumOutRefIdeal)
    ∧ quiescent_PairSumOutRef (hPairSumOutRef := hPairSumOutRef)
    ∧ quiescent_PairSumOdIn (hPairSumOdIn := hPairSumOdIn)
    ∧ quiescent_PairSumOdInIdeal (hPairSumOdInIdeal := hPairSumOdInIdeal)
    ∧ quiescent_PairSumOdInRefIdeal (hPairSumOdInRefIdeal := hPairSumOdInRefIdeal)
    ∧ quiescent_PairSumOdInRef (hPairSumOdInRef := hPairSumOdInRef)
    ∧ quiescent_SlotSumEvIn (hSlotSumEvIn := hSlotSumEvIn)
    ∧ quiescent_SlotSumEvInIdeal (hSlotSumEvInIdeal := hSlotSumEvInIdeal)
    ∧ quiescent_SlotSumEvInRefIdeal (hSlotSumEvInRefIdeal := hSlotSumEvInRefIdeal)
    ∧ quiescent_SlotSumOut (hSlotSumOut := hSlotSumOut)
    ∧ quiescent_SlotSumOutIdeal (hSlotSumOutIdeal := hSlotSumOutIdeal)
    ∧ quiescent_SlotSumOutRefIdeal (hSlotSumOutRefIdeal := hSlotSumOutRefIdeal)
    ∧ quiescent_SlotSumOdIn (hSlotSumOdIn := hSlotSumOdIn)
    ∧ quiescent_SlotSumOdInIdeal (hSlotSumOdInIdeal := hSlotSumOdInIdeal)
    ∧ quiescent_SlotSumOdInRefIdeal (hSlotSumOdInRefIdeal := hSlotSumOdInRefIdeal)
    ∧ quiescent_SmallGrads (hSmallGrads := hSmallGrads)
    ∧ quiescent_SmallGradsIdeal (hSmallGradsIdeal := hSmallGradsIdeal)
    ∧ quiescent_SmallGradsRefIdeal (hSmallGradsRefIdeal := hSmallGradsRefIdeal)
    ∧ quiescent_AdamwAda (hAdamwAda := hAdamwAda)
    ∧ quiescent_AdamwAdaIdeal (hAdamwAdaIdeal := hAdamwAdaIdeal)
    ∧ quiescent_AdamwAdaRefIdeal (hAdamwAdaRefIdeal := hAdamwAdaRefIdeal)
    ∧ quiescent_AdamwEvIn (hAdamwEvIn := hAdamwEvIn)
    ∧ quiescent_AdamwEvInIdeal (hAdamwEvInIdeal := hAdamwEvInIdeal)
    ∧ quiescent_AdamwEvInRefIdeal (hAdamwEvInRefIdeal := hAdamwEvInRefIdeal)
    ∧ quiescent_AdamwOut (hAdamwOut := hAdamwOut)
    ∧ quiescent_AdamwOutIdeal (hAdamwOutIdeal := hAdamwOutIdeal)
    ∧ quiescent_AdamwOutRefIdeal (hAdamwOutRefIdeal := hAdamwOutRefIdeal)
    ∧ quiescent_AdamwOdIn (hAdamwOdIn := hAdamwOdIn)
    ∧ quiescent_AdamwOdInIdeal (hAdamwOdInIdeal := hAdamwOdInIdeal)
    ∧ quiescent_AdamwOdInRefIdeal (hAdamwOdInRefIdeal := hAdamwOdInRefIdeal)
    ∧ quiescent_AdamwSmall (hAdamwSmall := hAdamwSmall)
    ∧ quiescent_AdamwSmallIdeal (hAdamwSmallIdeal := hAdamwSmallIdeal)
    ∧ quiescent_AdamwSmallRefIdeal (hAdamwSmallRefIdeal := hAdamwSmallRefIdeal)
    ∧ quiescent_ModBwd (hModBwd := hModBwd)
    ∧ quiescent_ModBwdIdeal (hModBwdIdeal := hModBwdIdeal)
    ∧ quiescent_ModBwdRefIdeal (hModBwdRefIdeal := hModBwdRefIdeal)
    ∧ quiescent_CctxGrad (hCctxGrad := hCctxGrad)
    ∧ quiescent_CctxGradIdeal (hCctxGradIdeal := hCctxGradIdeal)
    ∧ quiescent_CctxGradRefIdeal (hCctxGradRefIdeal := hCctxGradRefIdeal)
    ∧ quiescent_NormBwd (hNormBwd := hNormBwd)
    ∧ quiescent_NormBwdIdeal (hNormBwdIdeal := hNormBwdIdeal)
    ∧ quiescent_NormBwdRefIdeal (hNormBwdRefIdeal := hNormBwdRefIdeal)
    ∧ quiescent_FinalLoss (hFinalLoss := hFinalLoss)
    ∧ quiescent_FinalLossIdeal (hFinalLossIdeal := hFinalLossIdeal)
    ∧ quiescent_FinalLossRefIdeal (hFinalLossRefIdeal := hFinalLossRefIdeal)
    ∧ quiescent_NormFwd (hNormFwd := hNormFwd)
    ∧ quiescent_NormFwdIdeal (hNormFwdIdeal := hNormFwdIdeal)
    ∧ quiescent_NormFwdRefIdeal (hNormFwdRefIdeal := hNormFwdRefIdeal)
    ∧ quiescent_NormCtxFwd (hNormCtxFwd := hNormCtxFwd)
    ∧ quiescent_NormCtxFwdIdeal (hNormCtxFwdIdeal := hNormCtxFwdIdeal)
    ∧ quiescent_NormCtxFwdRefIdeal (hNormCtxFwdRefIdeal := hNormCtxFwdRefIdeal)
    ∧ quiescent_NormCtxBwd (hNormCtxBwd := hNormCtxBwd)
    ∧ quiescent_NormCtxBwdIdeal (hNormCtxBwdIdeal := hNormCtxBwdIdeal)
    ∧ quiescent_NormCtxBwdRefIdeal (hNormCtxBwdRefIdeal := hNormCtxBwdRefIdeal)
    ∧ quiescent_NormGateBwd (hNormGateBwd := hNormGateBwd)
    ∧ quiescent_NormGateBwdIdeal (hNormGateBwdIdeal := hNormGateBwdIdeal)
    ∧ quiescent_NormGateBwdRefIdeal (hNormGateBwdRefIdeal := hNormGateBwdRefIdeal)
    ∧ quiescent_MmEvIn (hMmEvIn := hMmEvIn)
    ∧ quiescent_MmEvInIdeal (hMmEvInIdeal := hMmEvInIdeal)
    ∧ quiescent_MmEvInRefIdeal (hMmEvInRefIdeal := hMmEvInRefIdeal)
    ∧ quiescent_MmOdIn (hMmOdIn := hMmOdIn)
    ∧ quiescent_MmOdInIdeal (hMmOdInIdeal := hMmOdInIdeal)
    ∧ quiescent_MmOdInRefIdeal (hMmOdInRefIdeal := hMmOdInRefIdeal)
    ∧ quiescent_MmOut (hMmOut := hMmOut)
    ∧ quiescent_MmOutIdeal (hMmOutIdeal := hMmOutIdeal)
    ∧ quiescent_MmOutRefIdeal (hMmOutRefIdeal := hMmOutRefIdeal)
    ∧ quiescent_MmOutDx (hMmOutDx := hMmOutDx)
    ∧ quiescent_MmOutDxIdeal (hMmOutDxIdeal := hMmOutDxIdeal)
    ∧ quiescent_MmOutDxRefIdeal (hMmOutDxRefIdeal := hMmOutDxRefIdeal)
    ∧ quiescent_MmOdInDx (hMmOdInDx := hMmOdInDx)
    ∧ quiescent_MmOdInDxIdeal (hMmOdInDxIdeal := hMmOdInDxIdeal)
    ∧ quiescent_MmOdInDxRefIdeal (hMmOdInDxRefIdeal := hMmOdInDxRefIdeal)
    ∧ quiescent_MmEvInDx (hMmEvInDx := hMmEvInDx)
    ∧ quiescent_MmEvInDxIdeal (hMmEvInDxIdeal := hMmEvInDxIdeal)
    ∧ quiescent_MmEvInDxRefIdeal (hMmEvInDxRefIdeal := hMmEvInDxRefIdeal)
    ∧ quiescent_MmOutDw (hMmOutDw := hMmOutDw)
    ∧ quiescent_MmOutDwIdeal (hMmOutDwIdeal := hMmOutDwIdeal)
    ∧ quiescent_MmOutDwRefIdeal (hMmOutDwRefIdeal := hMmOutDwRefIdeal)
    ∧ quiescent_MmOdInDw (hMmOdInDw := hMmOdInDw)
    ∧ quiescent_MmOdInDwIdeal (hMmOdInDwIdeal := hMmOdInDwIdeal)
    ∧ quiescent_MmOdInDwRefIdeal (hMmOdInDwRefIdeal := hMmOdInDwRefIdeal)
    ∧ quiescent_MmEvInDw (hMmEvInDw := hMmEvInDw)
    ∧ quiescent_MmEvInDwIdeal (hMmEvInDwIdeal := hMmEvInDwIdeal)
    ∧ quiescent_MmEvInDwRefIdeal (hMmEvInDwRefIdeal := hMmEvInDwRefIdeal)
    ∧ preserves_PairExchange_PairExchangeIdeal
    ∧ bitexact_PairExchange_PairExchangeRef (hPairExchange := hPairExchange) (hPairExchangeRef := hPairExchangeRef)
    ∧ algebraic_PairExchangeIdeal_PairExchangeRefIdeal (hPairExchangeIdeal := hPairExchangeIdeal) (hPairExchangeRefIdeal := hPairExchangeRefIdeal)
    ∧ preserves_ChipScatter_ChipScatterIdeal
    ∧ bitexact_ChipScatter_ChipScatterRef (hChipScatter := hChipScatter) (hChipScatterRef := hChipScatterRef)
    ∧ algebraic_ChipScatterIdeal_ChipScatterRefIdeal (hChipScatterIdeal := hChipScatterIdeal) (hChipScatterRefIdeal := hChipScatterRefIdeal)
    ∧ preserves_GatherWeights_GatherWeightsIdeal
    ∧ bitexact_GatherWeights_GatherWeightsRef (hGatherWeights := hGatherWeights) (hGatherWeightsRef := hGatherWeightsRef)
    ∧ algebraic_GatherWeightsIdeal_GatherWeightsRefIdeal (hGatherWeightsIdeal := hGatherWeightsIdeal) (hGatherWeightsRefIdeal := hGatherWeightsRefIdeal)
    ∧ preserves_PairShare_PairShareIdeal
    ∧ bitexact_PairShare_PairShareRef (hPairShare := hPairShare) (hPairShareRef := hPairShareRef)
    ∧ algebraic_PairShareIdeal_PairShareRefIdeal (hPairShareIdeal := hPairShareIdeal) (hPairShareRefIdeal := hPairShareRefIdeal)
    ∧ preserves_PairSumEvIn_PairSumEvInIdeal
    ∧ bitexact_PairSumEvIn_PairSumEvInRef (hPairSumEvIn := hPairSumEvIn) (hPairSumEvInRef := hPairSumEvInRef)
    ∧ algebraic_PairSumEvInIdeal_PairSumEvInRefIdeal (hPairSumEvInIdeal := hPairSumEvInIdeal) (hPairSumEvInRefIdeal := hPairSumEvInRefIdeal)
    ∧ preserves_PairSumOut_PairSumOutIdeal
    ∧ bitexact_PairSumOut_PairSumOutRef (hPairSumOut := hPairSumOut) (hPairSumOutRef := hPairSumOutRef)
    ∧ algebraic_PairSumOutIdeal_PairSumOutRefIdeal (hPairSumOutIdeal := hPairSumOutIdeal) (hPairSumOutRefIdeal := hPairSumOutRefIdeal)
    ∧ preserves_PairSumOdIn_PairSumOdInIdeal
    ∧ bitexact_PairSumOdIn_PairSumOdInRef (hPairSumOdIn := hPairSumOdIn) (hPairSumOdInRef := hPairSumOdInRef)
    ∧ algebraic_PairSumOdInIdeal_PairSumOdInRefIdeal (hPairSumOdInIdeal := hPairSumOdInIdeal) (hPairSumOdInRefIdeal := hPairSumOdInRefIdeal)
    ∧ preserves_SlotSumEvIn_SlotSumEvInIdeal
    ∧ algebraic_SlotSumEvInIdeal_SlotSumEvInRefIdeal (hSlotSumEvInIdeal := hSlotSumEvInIdeal) (hSlotSumEvInRefIdeal := hSlotSumEvInRefIdeal)
    ∧ preserves_SlotSumOut_SlotSumOutIdeal
    ∧ algebraic_SlotSumOutIdeal_SlotSumOutRefIdeal (hSlotSumOutIdeal := hSlotSumOutIdeal) (hSlotSumOutRefIdeal := hSlotSumOutRefIdeal)
    ∧ preserves_SlotSumOdIn_SlotSumOdInIdeal
    ∧ algebraic_SlotSumOdInIdeal_SlotSumOdInRefIdeal (hSlotSumOdInIdeal := hSlotSumOdInIdeal) (hSlotSumOdInRefIdeal := hSlotSumOdInRefIdeal)
    ∧ preserves_SmallGrads_SmallGradsIdeal
    ∧ algebraic_SmallGradsIdeal_SmallGradsRefIdeal (hSmallGradsIdeal := hSmallGradsIdeal) (hSmallGradsRefIdeal := hSmallGradsRefIdeal)
    ∧ preserves_AdamwAda_AdamwAdaIdeal
    ∧ algebraic_AdamwAdaIdeal_AdamwAdaRefIdeal (hAdamwAdaIdeal := hAdamwAdaIdeal) (hAdamwAdaRefIdeal := hAdamwAdaRefIdeal)
    ∧ preserves_AdamwEvIn_AdamwEvInIdeal
    ∧ algebraic_AdamwEvInIdeal_AdamwEvInRefIdeal (hAdamwEvInIdeal := hAdamwEvInIdeal) (hAdamwEvInRefIdeal := hAdamwEvInRefIdeal)
    ∧ preserves_AdamwOut_AdamwOutIdeal
    ∧ algebraic_AdamwOutIdeal_AdamwOutRefIdeal (hAdamwOutIdeal := hAdamwOutIdeal) (hAdamwOutRefIdeal := hAdamwOutRefIdeal)
    ∧ preserves_AdamwOdIn_AdamwOdInIdeal
    ∧ algebraic_AdamwOdInIdeal_AdamwOdInRefIdeal (hAdamwOdInIdeal := hAdamwOdInIdeal) (hAdamwOdInRefIdeal := hAdamwOdInRefIdeal)
    ∧ preserves_AdamwSmall_AdamwSmallIdeal
    ∧ algebraic_AdamwSmallIdeal_AdamwSmallRefIdeal (hAdamwSmallIdeal := hAdamwSmallIdeal) (hAdamwSmallRefIdeal := hAdamwSmallRefIdeal)
    ∧ preserves_ModBwd_ModBwdIdeal
    ∧ algebraic_ModBwdIdeal_ModBwdRefIdeal (hModBwdIdeal := hModBwdIdeal) (hModBwdRefIdeal := hModBwdRefIdeal)
    ∧ preserves_CctxGrad_CctxGradIdeal
    ∧ algebraic_CctxGradIdeal_CctxGradRefIdeal (hCctxGradIdeal := hCctxGradIdeal) (hCctxGradRefIdeal := hCctxGradRefIdeal)
    ∧ preserves_NormBwd_NormBwdIdeal
    ∧ algebraic_NormBwdIdeal_NormBwdRefIdeal (hNormBwdIdeal := hNormBwdIdeal) (hNormBwdRefIdeal := hNormBwdRefIdeal)
    ∧ preserves_FinalLoss_FinalLossIdeal
    ∧ algebraic_FinalLossIdeal_FinalLossRefIdeal (hFinalLossIdeal := hFinalLossIdeal) (hFinalLossRefIdeal := hFinalLossRefIdeal)
    ∧ preserves_NormFwd_NormFwdIdeal
    ∧ algebraic_NormFwdIdeal_NormFwdRefIdeal (hNormFwdIdeal := hNormFwdIdeal) (hNormFwdRefIdeal := hNormFwdRefIdeal)
    ∧ preserves_NormCtxFwd_NormCtxFwdIdeal
    ∧ algebraic_NormCtxFwdIdeal_NormCtxFwdRefIdeal (hNormCtxFwdIdeal := hNormCtxFwdIdeal) (hNormCtxFwdRefIdeal := hNormCtxFwdRefIdeal)
    ∧ preserves_NormCtxBwd_NormCtxBwdIdeal
    ∧ algebraic_NormCtxBwdIdeal_NormCtxBwdRefIdeal (hNormCtxBwdIdeal := hNormCtxBwdIdeal) (hNormCtxBwdRefIdeal := hNormCtxBwdRefIdeal)
    ∧ preserves_NormGateBwd_NormGateBwdIdeal
    ∧ algebraic_NormGateBwdIdeal_NormGateBwdRefIdeal (hNormGateBwdIdeal := hNormGateBwdIdeal) (hNormGateBwdRefIdeal := hNormGateBwdRefIdeal)
    ∧ preserves_MmEvIn_MmEvInIdeal
    ∧ algebraic_MmEvInIdeal_MmEvInRefIdeal (hMmEvInIdeal := hMmEvInIdeal) (hMmEvInRefIdeal := hMmEvInRefIdeal)
    ∧ preserves_MmOdIn_MmOdInIdeal
    ∧ algebraic_MmOdInIdeal_MmOdInRefIdeal (hMmOdInIdeal := hMmOdInIdeal) (hMmOdInRefIdeal := hMmOdInRefIdeal)
    ∧ preserves_MmOut_MmOutIdeal
    ∧ algebraic_MmOutIdeal_MmOutRefIdeal (hMmOutIdeal := hMmOutIdeal) (hMmOutRefIdeal := hMmOutRefIdeal)
    ∧ preserves_MmOutDx_MmOutDxIdeal
    ∧ algebraic_MmOutDxIdeal_MmOutDxRefIdeal (hMmOutDxIdeal := hMmOutDxIdeal) (hMmOutDxRefIdeal := hMmOutDxRefIdeal)
    ∧ preserves_MmOdInDx_MmOdInDxIdeal
    ∧ algebraic_MmOdInDxIdeal_MmOdInDxRefIdeal (hMmOdInDxIdeal := hMmOdInDxIdeal) (hMmOdInDxRefIdeal := hMmOdInDxRefIdeal)
    ∧ preserves_MmEvInDx_MmEvInDxIdeal
    ∧ algebraic_MmEvInDxIdeal_MmEvInDxRefIdeal (hMmEvInDxIdeal := hMmEvInDxIdeal) (hMmEvInDxRefIdeal := hMmEvInDxRefIdeal)
    ∧ preserves_MmOutDw_MmOutDwIdeal
    ∧ algebraic_MmOutDwIdeal_MmOutDwRefIdeal (hMmOutDwIdeal := hMmOutDwIdeal) (hMmOutDwRefIdeal := hMmOutDwRefIdeal)
    ∧ preserves_MmOdInDw_MmOdInDwIdeal
    ∧ algebraic_MmOdInDwIdeal_MmOdInDwRefIdeal (hMmOdInDwIdeal := hMmOdInDwIdeal) (hMmOdInDwRefIdeal := hMmOdInDwRefIdeal)
    ∧ preserves_MmEvInDw_MmEvInDwIdeal
    ∧ algebraic_MmEvInDwIdeal_MmEvInDwRefIdeal (hMmEvInDwIdeal := hMmEvInDwIdeal) (hMmEvInDwRefIdeal := hMmEvInDwRefIdeal)
-- ==== PairExchange.lean ====
abbrev S2048x5632 : Shape := ⟨2, ![2048, 5632]⟩
abbrev S2048x2048 : Shape := ⟨2, ![2048, 2048]⟩
abbrev S2048x6144 : Shape := ⟨2, ![2048, 6144]⟩
abbrev S1024x5632 : Shape := ⟨2, ![1024, 5632]⟩
abbrev S1024x2048 : Shape := ⟨2, ![1024, 2048]⟩
abbrev S1024x6144 : Shape := ⟨2, ![1024, 6144]⟩
abbrev S4x4 : Shape := ⟨2, ![4, 4]⟩
abbrev S1x1 : Shape := ⟨2, ![1, 1]⟩
abbrev S_ : Shape := ⟨0, ![]⟩
abbrev S1024x1408 : Shape := ⟨2, ![1024, 1408]⟩
abbrev S256x2048 : Shape := ⟨2, ![256, 2048]⟩
abbrev S1024x1536 : Shape := ⟨2, ![1024, 1536]⟩

abbrev nBuf : Space → Nat
  | .hbm => 12
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x6144, .f32⟩
  | .hbm, ⟨3, _⟩ => ⟨S2048x2048, .f32⟩
  | .hbm, ⟨4, _⟩ => ⟨S1024x5632, .f32⟩
  | .hbm, ⟨5, _⟩ => ⟨S1024x2048, .f32⟩
  | .hbm, ⟨6, _⟩ => ⟨S1024x6144, .f32⟩
  | .hbm, ⟨7, _⟩ => ⟨S1024x2048, .f32⟩
  | .hbm, ⟨8, _⟩ => ⟨S1024x5632, .f32⟩
  | .hbm, ⟨9, _⟩ => ⟨S1024x2048, .f32⟩
  | .hbm, ⟨10, _⟩ => ⟨S1024x6144, .f32⟩
  | .hbm, ⟨11, _⟩ => ⟨S1024x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 48 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | _ => false

abbrev sig : RefSig :=
  ofTc nBuf bufTy 0 48 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩
abbrev main_v1_4 : Ref sig .tc := ⟨.hbm, 8, rfl⟩
abbrev main_v1_5 : Ref sig .tc := ⟨.hbm, 9, rfl⟩
abbrev main_v1_6 : Ref sig .tc := ⟨.hbm, 10, rfl⟩
abbrev main_v1_7 : Ref sig .tc := ⟨.hbm, 11, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  let c0_i32_7 : BitVec 32 := 0#32
  ![v10.toNat, 0]
def k0_off2 (d0 : Dev nD) : Fin 2 → Nat :=
  let c1_i32_8 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v15 : BitVec 32 := Scalar.subi c1_i32_8 v8
  let c1024_i32_9 : BitVec 32 := 1024#32
  let v16 : BitVec 32 := Scalar.muli v15 c1024_i32_9
  let c0_i32_20 : BitVec 32 := 0#32
  ![v16.toNat, 0]
def k0_dev1 (d0 : Dev nD) : Nat :=
  let c0_i32_15 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_14 : BitVec 32 := 4#32
  let v17 : BitVec 32 := Scalar.muli v2 c4_i32_14
  let v18 : BitVec 32 := Scalar.addi c0_i32_15 v17
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_16 : BitVec 32 := 2#32
  let v19 : BitVec 32 := Scalar.muli v5 c2_i32_16
  let v20 : BitVec 32 := Scalar.addi v18 v19
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_17 : BitVec 32 := 1#32
  let v21 : BitVec 32 := Scalar.muli v9 c1_i32_17
  let v22 : BitVec 32 := Scalar.addi v20 v21
  v22.toNat
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_21 : BitVec 32 := 1024#32
  let v29 : BitVec 32 := Scalar.muli v8 c1024_i32_21
  let c1408_i32_25 : BitVec 32 := 1408#32
  ![v29.toNat, 1408]
def k0_off4 (d0 : Dev nD) : Fin 2 → Nat :=
  let c1_i32_26 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v34 : BitVec 32 := Scalar.subi c1_i32_26 v8
  let c1024_i32_27 : BitVec 32 := 1024#32
  let v35 : BitVec 32 := Scalar.muli v34 c1024_i32_27
  let c1408_i32_38 : BitVec 32 := 1408#32
  ![v35.toNat, 1408]
def k0_dev2 (d0 : Dev nD) : Nat :=
  let c0_i32_33 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_32 : BitVec 32 := 4#32
  let v36 : BitVec 32 := Scalar.muli v2 c4_i32_32
  let v37 : BitVec 32 := Scalar.addi c0_i32_33 v36
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_34 : BitVec 32 := 2#32
  let v38 : BitVec 32 := Scalar.muli v5 c2_i32_34
  let v39 : BitVec 32 := Scalar.addi v37 v38
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_35 : BitVec 32 := 1#32
  let v40 : BitVec 32 := Scalar.muli v9 c1_i32_35
  let v41 : BitVec 32 := Scalar.addi v39 v40
  v41.toNat
def k0_off5 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_39 : BitVec 32 := 1024#32
  let v48 : BitVec 32 := Scalar.muli v8 c1024_i32_39
  let c2816_i32_43 : BitVec 32 := 2816#32
  ![v48.toNat, 2816]
def k0_off6 (d0 : Dev nD) : Fin 2 → Nat :=
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v53 : BitVec 32 := Scalar.subi c1_i32_44 v8
  let c1024_i32_45 : BitVec 32 := 1024#32
  let v54 : BitVec 32 := Scalar.muli v53 c1024_i32_45
  let c2816_i32_56 : BitVec 32 := 2816#32
  ![v54.toNat, 2816]
def k0_dev3 (d0 : Dev nD) : Nat :=
  let c0_i32_51 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_50 : BitVec 32 := 4#32
  let v55 : BitVec 32 := Scalar.muli v2 c4_i32_50
  let v56 : BitVec 32 := Scalar.addi c0_i32_51 v55
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_52 : BitVec 32 := 2#32
  let v57 : BitVec 32 := Scalar.muli v5 c2_i32_52
  let v58 : BitVec 32 := Scalar.addi v56 v57
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_53 : BitVec 32 := 1#32
  let v59 : BitVec 32 := Scalar.muli v9 c1_i32_53
  let v60 : BitVec 32 := Scalar.addi v58 v59
  v60.toNat
def k0_off7 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_57 : BitVec 32 := 1024#32
  let v67 : BitVec 32 := Scalar.muli v8 c1024_i32_57
  let c4224_i32_60 : BitVec 32 := 4224#32
  ![v67.toNat, 4224]
def k0_off8 (d0 : Dev nD) : Fin 2 → Nat :=
  let c1_i32_61 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v72 : BitVec 32 := Scalar.subi c1_i32_61 v8
  let c1024_i32_62 : BitVec 32 := 1024#32
  let v73 : BitVec 32 := Scalar.muli v72 c1024_i32_62
  let c4224_i32_73 : BitVec 32 := 4224#32
  ![v73.toNat, 4224]
def k0_dev4 (d0 : Dev nD) : Nat :=
  let c0_i32_68 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_67 : BitVec 32 := 4#32
  let v74 : BitVec 32 := Scalar.muli v2 c4_i32_67
  let v75 : BitVec 32 := Scalar.addi c0_i32_68 v74
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_69 : BitVec 32 := 2#32
  let v76 : BitVec 32 := Scalar.muli v5 c2_i32_69
  let v77 : BitVec 32 := Scalar.addi v75 v76
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_70 : BitVec 32 := 1#32
  let v78 : BitVec 32 := Scalar.muli v9 c1_i32_70
  let v79 : BitVec 32 := Scalar.addi v77 v78
  v79.toNat
def k0_off9 (d0 : Dev nD) (c0_i32_74 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v86 : BitVec 32 := Scalar.muli v8 c256_i32
  let v87 : BitVec 32 := Scalar.addi c0_i32_74 v86
  let c0_i32_79 : BitVec 32 := 0#32
  ![v87.toNat, 0]
def k0_off10 (d0 : Dev nD) (c0_i32_82 : BitVec 32) : Fin 2 → Nat :=
  let c1_i32_80 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v92 : BitVec 32 := Scalar.subi c1_i32_80 v8
  let c256_i32_81 : BitVec 32 := 256#32
  let v93 : BitVec 32 := Scalar.muli v92 c256_i32_81
  let v94 : BitVec 32 := Scalar.addi c0_i32_82 v93
  let c0_i32_93 : BitVec 32 := 0#32
  ![v94.toNat, 0]
def k0_dev5 (d0 : Dev nD) : Nat :=
  let c0_i32_88 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_87 : BitVec 32 := 4#32
  let v95 : BitVec 32 := Scalar.muli v2 c4_i32_87
  let v96 : BitVec 32 := Scalar.addi c0_i32_88 v95
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_89 : BitVec 32 := 2#32
  let v97 : BitVec 32 := Scalar.muli v5 c2_i32_89
  let v98 : BitVec 32 := Scalar.addi v96 v97
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_90 : BitVec 32 := 1#32
  let v99 : BitVec 32 := Scalar.muli v9 c1_i32_90
  let v100 : BitVec 32 := Scalar.addi v98 v99
  v100.toNat
def k0_dev6 (d0 : Dev nD) : Nat :=
  let c0_i32_108 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_107 : BitVec 32 := 4#32
  let v116 : BitVec 32 := Scalar.muli v2 c4_i32_107
  let v117 : BitVec 32 := Scalar.addi c0_i32_108 v116
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_109 : BitVec 32 := 2#32
  let v118 : BitVec 32 := Scalar.muli v5 c2_i32_109
  let v119 : BitVec 32 := Scalar.addi v117 v118
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_110 : BitVec 32 := 1#32
  let v120 : BitVec 32 := Scalar.muli v9 c1_i32_110
  let v121 : BitVec 32 := Scalar.addi v119 v120
  v121.toNat
def k0_dev7 (d0 : Dev nD) : Nat :=
  let c0_i32_129 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_128 : BitVec 32 := 4#32
  let v137 : BitVec 32 := Scalar.muli v2 c4_i32_128
  let v138 : BitVec 32 := Scalar.addi c0_i32_129 v137
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_130 : BitVec 32 := 2#32
  let v139 : BitVec 32 := Scalar.muli v5 c2_i32_130
  let v140 : BitVec 32 := Scalar.addi v138 v139
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_131 : BitVec 32 := 1#32
  let v141 : BitVec 32 := Scalar.muli v9 c1_i32_131
  let v142 : BitVec 32 := Scalar.addi v140 v141
  v142.toNat
def k0_dev8 (d0 : Dev nD) : Nat :=
  let c0_i32_148 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_147 : BitVec 32 := 4#32
  let v158 : BitVec 32 := Scalar.muli v2 c4_i32_147
  let v159 : BitVec 32 := Scalar.addi c0_i32_148 v158
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_149 : BitVec 32 := 2#32
  let v160 : BitVec 32 := Scalar.muli v5 c2_i32_149
  let v161 : BitVec 32 := Scalar.addi v159 v160
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_150 : BitVec 32 := 1#32
  let v162 : BitVec 32 := Scalar.muli v9 c1_i32_150
  let v163 : BitVec 32 := Scalar.addi v161 v162
  v163.toNat
def k0_off11 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_154 : BitVec 32 := 1024#32
  let v170 : BitVec 32 := Scalar.muli v8 c1024_i32_154
  let c0_i32_159 : BitVec 32 := 0#32
  ![v170.toNat, 0]
def k0_off12 (d0 : Dev nD) : Fin 2 → Nat :=
  let c1_i32_160 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v175 : BitVec 32 := Scalar.subi c1_i32_160 v8
  let c1024_i32_161 : BitVec 32 := 1024#32
  let v176 : BitVec 32 := Scalar.muli v175 c1024_i32_161
  let c0_i32_172 : BitVec 32 := 0#32
  ![v176.toNat, 0]
def k0_dev9 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_166 : BitVec 32 := 4#32
  let v177 : BitVec 32 := Scalar.muli v2 c4_i32_166
  let v178 : BitVec 32 := Scalar.addi c0_i32_167 v177
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_168 : BitVec 32 := 2#32
  let v179 : BitVec 32 := Scalar.muli v5 c2_i32_168
  let v180 : BitVec 32 := Scalar.addi v178 v179
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_169 : BitVec 32 := 1#32
  let v181 : BitVec 32 := Scalar.muli v9 c1_i32_169
  let v182 : BitVec 32 := Scalar.addi v180 v181
  v182.toNat
def k0_off13 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_173 : BitVec 32 := 1024#32
  let v189 : BitVec 32 := Scalar.muli v8 c1024_i32_173
  let c1536_i32_178 : BitVec 32 := 1536#32
  ![v189.toNat, 1536]
def k0_off14 (d0 : Dev nD) : Fin 2 → Nat :=
  let c1_i32_179 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v194 : BitVec 32 := Scalar.subi c1_i32_179 v8
  let c1024_i32_180 : BitVec 32 := 1024#32
  let v195 : BitVec 32 := Scalar.muli v194 c1024_i32_180
  let c1536_i32_191 : BitVec 32 := 1536#32
  ![v195.toNat, 1536]
def k0_dev10 (d0 : Dev nD) : Nat :=
  let c0_i32_186 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_185 : BitVec 32 := 4#32
  let v196 : BitVec 32 := Scalar.muli v2 c4_i32_185
  let v197 : BitVec 32 := Scalar.addi c0_i32_186 v196
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_187 : BitVec 32 := 2#32
  let v198 : BitVec 32 := Scalar.muli v5 c2_i32_187
  let v199 : BitVec 32 := Scalar.addi v197 v198
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_188 : BitVec 32 := 1#32
  let v200 : BitVec 32 := Scalar.muli v9 c1_i32_188
  let v201 : BitVec 32 := Scalar.addi v199 v200
  v201.toNat
def k0_off15 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_192 : BitVec 32 := 1024#32
  let v208 : BitVec 32 := Scalar.muli v8 c1024_i32_192
  let c3072_i32_196 : BitVec 32 := 3072#32
  ![v208.toNat, 3072]
def k0_off16 (d0 : Dev nD) : Fin 2 → Nat :=
  let c1_i32_197 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v213 : BitVec 32 := Scalar.subi c1_i32_197 v8
  let c1024_i32_198 : BitVec 32 := 1024#32
  let v214 : BitVec 32 := Scalar.muli v213 c1024_i32_198
  let c3072_i32_209 : BitVec 32 := 3072#32
  ![v214.toNat, 3072]
def k0_dev11 (d0 : Dev nD) : Nat :=
  let c0_i32_204 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_203 : BitVec 32 := 4#32
  let v215 : BitVec 32 := Scalar.muli v2 c4_i32_203
  let v216 : BitVec 32 := Scalar.addi c0_i32_204 v215
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_205 : BitVec 32 := 2#32
  let v217 : BitVec 32 := Scalar.muli v5 c2_i32_205
  let v218 : BitVec 32 := Scalar.addi v216 v217
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_206 : BitVec 32 := 1#32
  let v219 : BitVec 32 := Scalar.muli v9 c1_i32_206
  let v220 : BitVec 32 := Scalar.addi v218 v219
  v220.toNat
def k0_off17 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_210 : BitVec 32 := 1024#32
  let v227 : BitVec 32 := Scalar.muli v8 c1024_i32_210
  let c4608_i32_214 : BitVec 32 := 4608#32
  ![v227.toNat, 4608]
def k0_off18 (d0 : Dev nD) : Fin 2 → Nat :=
  let c1_i32_215 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v232 : BitVec 32 := Scalar.subi c1_i32_215 v8
  let c1024_i32_216 : BitVec 32 := 1024#32
  let v233 : BitVec 32 := Scalar.muli v232 c1024_i32_216
  let c4608_i32_227 : BitVec 32 := 4608#32
  ![v233.toNat, 4608]
def k0_dev12 (d0 : Dev nD) : Nat :=
  let c0_i32_222 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_221 : BitVec 32 := 4#32
  let v234 : BitVec 32 := Scalar.muli v2 c4_i32_221
  let v235 : BitVec 32 := Scalar.addi c0_i32_222 v234
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_223 : BitVec 32 := 2#32
  let v236 : BitVec 32 := Scalar.muli v5 c2_i32_223
  let v237 : BitVec 32 := Scalar.addi v235 v236
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_224 : BitVec 32 := 1#32
  let v238 : BitVec 32 := Scalar.muli v9 c1_i32_224
  let v239 : BitVec 32 := Scalar.addi v237 v238
  v239.toNat
def k0_dev13 (d0 : Dev nD) : Nat :=
  let c0_i32_243 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_242 : BitVec 32 := 4#32
  let v255 : BitVec 32 := Scalar.muli v2 c4_i32_242
  let v256 : BitVec 32 := Scalar.addi c0_i32_243 v255
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_244 : BitVec 32 := 2#32
  let v257 : BitVec 32 := Scalar.muli v5 c2_i32_244
  let v258 : BitVec 32 := Scalar.addi v256 v257
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_245 : BitVec 32 := 1#32
  let v259 : BitVec 32 := Scalar.muli v9 c1_i32_245
  let v260 : BitVec 32 := Scalar.addi v258 v259
  v260.toNat
def k0_dev14 (d0 : Dev nD) : Nat :=
  let c0_i32_264 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_263 : BitVec 32 := 4#32
  let v276 : BitVec 32 := Scalar.muli v2 c4_i32_263
  let v277 : BitVec 32 := Scalar.addi c0_i32_264 v276
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_265 : BitVec 32 := 2#32
  let v278 : BitVec 32 := Scalar.muli v5 c2_i32_265
  let v279 : BitVec 32 := Scalar.addi v277 v278
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_266 : BitVec 32 := 1#32
  let v280 : BitVec 32 := Scalar.muli v9 c1_i32_266
  let v281 : BitVec 32 := Scalar.addi v279 v280
  v281.toNat
def k0_dev15 (d0 : Dev nD) : Nat :=
  let c0_i32_285 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_284 : BitVec 32 := 4#32
  let v297 : BitVec 32 := Scalar.muli v2 c4_i32_284
  let v298 : BitVec 32 := Scalar.addi c0_i32_285 v297
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_286 : BitVec 32 := 2#32
  let v299 : BitVec 32 := Scalar.muli v5 c2_i32_286
  let v300 : BitVec 32 := Scalar.addi v298 v299
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_287 : BitVec 32 := 1#32
  let v301 : BitVec 32 := Scalar.muli v9 c1_i32_287
  let v302 : BitVec 32 := Scalar.addi v300 v301
  v302.toNat
def k0_dev16 (d0 : Dev nD) : Nat :=
  let c0_i32_306 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_305 : BitVec 32 := 4#32
  let v318 : BitVec 32 := Scalar.muli v2 c4_i32_305
  let v319 : BitVec 32 := Scalar.addi c0_i32_306 v318
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_307 : BitVec 32 := 2#32
  let v320 : BitVec 32 := Scalar.muli v5 c2_i32_307
  let v321 : BitVec 32 := Scalar.addi v319 v320
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_308 : BitVec 32 := 1#32
  let v322 : BitVec 32 := Scalar.muli v9 c1_i32_308
  let v323 : BitVec 32 := Scalar.addi v321 v322
  v323.toNat
-- ==== PairExchangeRef.lean ====
abbrev S16384x5632 : Shape := ⟨2, ![16384, 5632]⟩
abbrev S16384x2048 : Shape := ⟨2, ![16384, 2048]⟩
abbrev S16384x6144 : Shape := ⟨2, ![16384, 6144]⟩
abbrev S4x2x1x2x1024x5632 : Shape := ⟨6, ![4, 2, 1, 2, 1024, 5632]⟩
abbrev S4x1x1x1x1024x5632 : Shape := ⟨6, ![4, 1, 1, 1, 1024, 5632]⟩
abbrev S4x1x1024x5632 : Shape := ⟨4, ![4, 1, 1024, 5632]⟩
abbrev S4x1x1x1024x5632 : Shape := ⟨5, ![4, 1, 1, 1024, 5632]⟩
abbrev S4x2x1x1024x5632 : Shape := ⟨5, ![4, 2, 1, 1024, 5632]⟩
abbrev S8192x5632 : Shape := ⟨2, ![8192, 5632]⟩
abbrev S4x2x4x2x256x2048 : Shape := ⟨6, ![4, 2, 4, 2, 256, 2048]⟩
abbrev S4x1x4x1x256x2048 : Shape := ⟨6, ![4, 1, 4, 1, 256, 2048]⟩
abbrev S4x4x256x2048 : Shape := ⟨4, ![4, 4, 256, 2048]⟩
abbrev S4x1x4x256x2048 : Shape := ⟨5, ![4, 1, 4, 256, 2048]⟩
abbrev S4x2x4x256x2048 : Shape := ⟨5, ![4, 2, 4, 256, 2048]⟩
abbrev S8192x2048 : Shape := ⟨2, ![8192, 2048]⟩
abbrev S4x2x1x2x1024x6144 : Shape := ⟨6, ![4, 2, 1, 2, 1024, 6144]⟩
abbrev S4x1x1x1x1024x6144 : Shape := ⟨6, ![4, 1, 1, 1, 1024, 6144]⟩
abbrev S4x1x1024x6144 : Shape := ⟨4, ![4, 1, 1024, 6144]⟩
abbrev S4x1x1x1024x6144 : Shape := ⟨5, ![4, 1, 1, 1024, 6144]⟩
abbrev S4x2x1x1024x6144 : Shape := ⟨5, ![4, 2, 1, 1024, 6144]⟩
abbrev S8192x6144 : Shape := ⟨2, ![8192, 6144]⟩

abbrev nBuf : Space → Nat
  | .hbm => 72
  | .vmem => 0
  | .smem => 0
  | _ => 0

abbrev bufTy : (tb : Table) → Fin (tcTables nBuf tb) → BufTy
  | .hbm, ⟨0, _⟩ => ⟨S16384x5632, .f32⟩
  | .hbm, ⟨1, _⟩ => ⟨S16384x2048, .f32⟩
  | .hbm, ⟨2, _⟩ => ⟨S16384x6144, .f32⟩
  | .hbm, ⟨3, _⟩ => ⟨S16384x2048, .f32⟩
  | .hbm, ⟨4, _⟩ => ⟨S4x2x1x2x1024x5632, .f32⟩
  | .hbm, ⟨5, _⟩ => ⟨S4x1x1x1x1024x5632, .f32⟩
  | .hbm, ⟨6, _⟩ => ⟨S4x1x1024x5632, .f32⟩
  | .hbm, ⟨7, _⟩ => ⟨S4x1x1x1x1024x5632, .f32⟩
  | .hbm, ⟨8, _⟩ => ⟨S4x1x1024x5632, .f32⟩
  | .hbm, ⟨9, _⟩ => ⟨S4x1x1x1024x5632, .f32⟩
  | .hbm, ⟨10, _⟩ => ⟨S4x1x1x1024x5632, .f32⟩
  | .hbm, ⟨11, _⟩ => ⟨S4x2x1x1024x5632, .f32⟩
  | .hbm, ⟨12, _⟩ => ⟨S4x1x1x1x1024x5632, .f32⟩
  | .hbm, ⟨13, _⟩ => ⟨S4x1x1024x5632, .f32⟩
  | .hbm, ⟨14, _⟩ => ⟨S4x1x1x1x1024x5632, .f32⟩
  | .hbm, ⟨15, _⟩ => ⟨S4x1x1024x5632, .f32⟩
  | .hbm, ⟨16, _⟩ => ⟨S4x1x1x1024x5632, .f32⟩
  | .hbm, ⟨17, _⟩ => ⟨S4x1x1x1024x5632, .f32⟩
  | .hbm, ⟨18, _⟩ => ⟨S4x2x1x1024x5632, .f32⟩
  | .hbm, ⟨19, _⟩ => ⟨S8192x5632, .f32⟩
  | .hbm, ⟨20, _⟩ => ⟨S8192x5632, .f32⟩
  | .hbm, ⟨21, _⟩ => ⟨S4x2x4x2x256x2048, .f32⟩
  | .hbm, ⟨22, _⟩ => ⟨S4x1x4x1x256x2048, .f32⟩
  | .hbm, ⟨23, _⟩ => ⟨S4x4x256x2048, .f32⟩
  | .hbm, ⟨24, _⟩ => ⟨S4x1x4x1x256x2048, .f32⟩
  | .hbm, ⟨25, _⟩ => ⟨S4x4x256x2048, .f32⟩
  | .hbm, ⟨26, _⟩ => ⟨S4x1x4x256x2048, .f32⟩
  | .hbm, ⟨27, _⟩ => ⟨S4x1x4x256x2048, .f32⟩
  | .hbm, ⟨28, _⟩ => ⟨S4x2x4x256x2048, .f32⟩
  | .hbm, ⟨29, _⟩ => ⟨S4x1x4x1x256x2048, .f32⟩
  | .hbm, ⟨30, _⟩ => ⟨S4x4x256x2048, .f32⟩
  | .hbm, ⟨31, _⟩ => ⟨S4x1x4x1x256x2048, .f32⟩
  | .hbm, ⟨32, _⟩ => ⟨S4x4x256x2048, .f32⟩
  | .hbm, ⟨33, _⟩ => ⟨S4x1x4x256x2048, .f32⟩
  | .hbm, ⟨34, _⟩ => ⟨S4x1x4x256x2048, .f32⟩
  | .hbm, ⟨35, _⟩ => ⟨S4x2x4x256x2048, .f32⟩
  | .hbm, ⟨36, _⟩ => ⟨S8192x2048, .f32⟩
  | .hbm, ⟨37, _⟩ => ⟨S8192x2048, .f32⟩
  | .hbm, ⟨38, _⟩ => ⟨S4x2x1x2x1024x6144, .f32⟩
  | .hbm, ⟨39, _⟩ => ⟨S4x1x1x1x1024x6144, .f32⟩
  | .hbm, ⟨40, _⟩ => ⟨S4x1x1024x6144, .f32⟩
  | .hbm, ⟨41, _⟩ => ⟨S4x1x1x1x1024x6144, .f32⟩
  | .hbm, ⟨42, _⟩ => ⟨S4x1x1024x6144, .f32⟩
  | .hbm, ⟨43, _⟩ => ⟨S4x1x1x1024x6144, .f32⟩
  | .hbm, ⟨44, _⟩ => ⟨S4x1x1x1024x6144, .f32⟩
  | .hbm, ⟨45, _⟩ => ⟨S4x2x1x1024x6144, .f32⟩
  | .hbm, ⟨46, _⟩ => ⟨S4x1x1x1x1024x6144, .f32⟩
  | .hbm, ⟨47, _⟩ => ⟨S4x1x1024x6144, .f32⟩
  | .hbm, ⟨48, _⟩ => ⟨S4x1x1x1x1024x6144, .f32⟩
  | .hbm, ⟨49, _⟩ => ⟨S4x1x1024x6144, .f32⟩
  | .hbm, ⟨50, _⟩ => ⟨S4x1x1x1024x6144, .f32⟩
  | .hbm, ⟨51, _⟩ => ⟨S4x1x1x1024x6144, .f32⟩
  | .hbm, ⟨52, _⟩ => ⟨S4x2x1x1024x6144, .f32⟩
  | .hbm, ⟨53, _⟩ => ⟨S8192x6144, .f32⟩
  | .hbm, ⟨54, _⟩ => ⟨S8192x6144, .f32⟩
  | .hbm, ⟨55, _⟩ => ⟨S4x2x4x2x256x2048, .f32⟩
  | .hbm, ⟨56, _⟩ => ⟨S4x1x4x1x256x2048, .f32⟩
  | .hbm, ⟨57, _⟩ => ⟨S4x4x256x2048, .f32⟩
  | .hbm, ⟨58, _⟩ => ⟨S4x1x4x1x256x2048, .f32⟩
  | .hbm, ⟨59, _⟩ => ⟨S4x4x256x2048, .f32⟩
  | .hbm, ⟨60, _⟩ => ⟨S4x1x4x256x2048, .f32⟩
  | .hbm, ⟨61, _⟩ => ⟨S4x1x4x256x2048, .f32⟩
  | .hbm, ⟨62, _⟩ => ⟨S4x2x4x256x2048, .f32⟩
  | .hbm, ⟨63, _⟩ => ⟨S4x1x4x1x256x2048, .f32⟩
  | .hbm, ⟨64, _⟩ => ⟨S4x4x256x2048, .f32⟩
  | .hbm, ⟨65, _⟩ => ⟨S4x1x4x1x256x2048, .f32⟩
  | .hbm, ⟨66, _⟩ => ⟨S4x4x256x2048, .f32⟩
  | .hbm, ⟨67, _⟩ => ⟨S4x1x4x256x2048, .f32⟩
  | .hbm, ⟨68, _⟩ => ⟨S4x1x4x256x2048, .f32⟩
  | .hbm, ⟨69, _⟩ => ⟨S4x2x4x256x2048, .f32⟩
  | .hbm, ⟨70, _⟩ => ⟨S8192x2048, .f32⟩
  | .hbm, ⟨71, _⟩ => ⟨S8192x2048, .f32⟩
  | _, _ => ⟨S16384x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩
abbrev main_v30 : Ref sig .tc := ⟨.hbm, 34, rfl⟩
abbrev main_v31 : Ref sig .tc := ⟨.hbm, 35, rfl⟩
abbrev main_v32 : Ref sig .tc := ⟨.hbm, 36, rfl⟩
abbrev main_v33 : Ref sig .tc := ⟨.hbm, 37, rfl⟩
abbrev main_v34 : Ref sig .tc := ⟨.hbm, 38, rfl⟩
abbrev main_v35 : Ref sig .tc := ⟨.hbm, 39, rfl⟩
abbrev main_v36 : Ref sig .tc := ⟨.hbm, 40, rfl⟩
abbrev main_v37 : Ref sig .tc := ⟨.hbm, 41, rfl⟩
abbrev main_v38 : Ref sig .tc := ⟨.hbm, 42, rfl⟩
abbrev main_v39 : Ref sig .tc := ⟨.hbm, 43, rfl⟩
abbrev main_v40 : Ref sig .tc := ⟨.hbm, 44, rfl⟩
abbrev main_v41 : Ref sig .tc := ⟨.hbm, 45, rfl⟩
abbrev main_v42 : Ref sig .tc := ⟨.hbm, 46, rfl⟩
abbrev main_v43 : Ref sig .tc := ⟨.hbm, 47, rfl⟩
abbrev main_v44 : Ref sig .tc := ⟨.hbm, 48, rfl⟩
abbrev main_v45 : Ref sig .tc := ⟨.hbm, 49, rfl⟩
abbrev main_v46 : Ref sig .tc := ⟨.hbm, 50, rfl⟩
abbrev main_v47 : Ref sig .tc := ⟨.hbm, 51, rfl⟩
abbrev main_v48 : Ref sig .tc := ⟨.hbm, 52, rfl⟩
abbrev main_v49 : Ref sig .tc := ⟨.hbm, 53, rfl⟩
abbrev main_v50 : Ref sig .tc := ⟨.hbm, 54, rfl⟩
abbrev main_v51 : Ref sig .tc := ⟨.hbm, 55, rfl⟩
abbrev main_v52 : Ref sig .tc := ⟨.hbm, 56, rfl⟩
abbrev main_v53 : Ref sig .tc := ⟨.hbm, 57, rfl⟩
abbrev main_v54 : Ref sig .tc := ⟨.hbm, 58, rfl⟩
abbrev main_v55 : Ref sig .tc := ⟨.hbm, 59, rfl⟩
abbrev main_v56 : Ref sig .tc := ⟨.hbm, 60, rfl⟩
abbrev main_v57 : Ref sig .tc := ⟨.hbm, 61, rfl⟩
abbrev main_v58 : Ref sig .tc := ⟨.hbm, 62, rfl⟩
abbrev main_v59 : Ref sig .tc := ⟨.hbm, 63, rfl⟩
abbrev main_v60 : Ref sig .tc := ⟨.hbm, 64, rfl⟩
abbrev main_v61 : Ref sig .tc := ⟨.hbm, 65, rfl⟩
abbrev main_v62 : Ref sig .tc := ⟨.hbm, 66, rfl⟩
abbrev main_v63 : Ref sig .tc := ⟨.hbm, 67, rfl⟩
abbrev main_v64 : Ref sig .tc := ⟨.hbm, 68, rfl⟩
abbrev main_v65 : Ref sig .tc := ⟨.hbm, 69, rfl⟩
abbrev main_v66 : Ref sig .tc := ⟨.hbm, 70, rfl⟩
abbrev main_v67 : Ref sig .tc := ⟨.hbm, 71, rfl⟩

abbrev nD : Nat := 1
abbrev τ : Topo := Topo.v7x

variable {F : FTy → Type} [FloatOps F]
-- ==== ChipScatter.lean ====
abbrev S1024x5632 : Shape := ⟨2, ![1024, 5632]⟩
abbrev S1024x2048 : Shape := ⟨2, ![1024, 2048]⟩
abbrev S1024x6144 : Shape := ⟨2, ![1024, 6144]⟩
abbrev S4x1024x1408 : Shape := ⟨3, ![4, 1024, 1408]⟩
abbrev S4x256x2048 : Shape := ⟨3, ![4, 256, 2048]⟩
abbrev S4x1024x1536 : Shape := ⟨3, ![4, 1024, 1536]⟩
abbrev S4x3 : Shape := ⟨2, ![4, 3]⟩
abbrev S4 : Shape := ⟨1, ![4]⟩
abbrev S1 : Shape := ⟨1, ![1]⟩
abbrev S_ : Shape := ⟨0, ![]⟩
abbrev S1x1024x1408 : Shape := ⟨3, ![1, 1024, 1408]⟩
abbrev S1024x1408 : Shape := ⟨2, ![1024, 1408]⟩
abbrev S1x1 : Shape := ⟨2, ![1, 1]⟩
abbrev S1x256x2048 : Shape := ⟨3, ![1, 256, 2048]⟩
abbrev S256x2048 : Shape := ⟨2, ![256, 2048]⟩
abbrev S1x1024x1536 : Shape := ⟨3, ![1, 1024, 1536]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S1024x2048, .f32⟩
  | .hbm, ⟨2, _⟩ => ⟨S1024x6144, .f32⟩
  | .hbm, ⟨3, _⟩ => ⟨S1024x2048, .f32⟩
  | .hbm, ⟨4, _⟩ => ⟨S4x1024x1408, .f32⟩
  | .hbm, ⟨5, _⟩ => ⟨S4x256x2048, .f32⟩
  | .hbm, ⟨6, _⟩ => ⟨S4x1024x1536, .f32⟩
  | .hbm, ⟨7, _⟩ => ⟨S4x256x2048, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 28 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | _ => false

abbrev sig : RefSig :=
  ofTc nBuf bufTy 0 28 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_4 : BitVec 32 := 0#32
  let c0_i32_5 : BitVec 32 := 0#32
  ![v10.toNat, 0, 0]
def k0_off2 (d0 : Dev nD) : Fin 2 → Nat :=
  let c0_i32_6 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1408_i32 : BitVec 32 := 1408#32
  let v11 : BitVec 32 := Scalar.muli v10 c1408_i32
  ![0, v11.toNat]
def k0_off3 (d0 : Dev nD) (c1_i32_7 : BitVec 32) (c0_i32_14 : BitVec 32) : Fin 2 → Nat :=
  let c0_i32_33 : BitVec 32 := 0#32
  let c2_i32_21 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v17 : BitVec 32 := Scalar.addi v2 c1_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let v39 : BitVec 32 := Scalar.muli c2_i32_21 v27
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v28 : BitVec 32 := Scalar.addi v5 c0_i32_14
  let c2_i32_15 : BitVec 32 := 2#32
  let c0_i32_16 : BitVec 32 := 0#32
  let v29 : BitVec 1 := Scalar.cmpi .eq c2_i32_15 c0_i32_16
  let c1_i32_17 : BitVec 32 := 1#32
  let v30 : BitVec 32 := Scalar.select v29 c1_i32_17 c2_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let v40 : BitVec 32 := Scalar.addi v39 v38
  let c1408_i32_22 : BitVec 32 := 1408#32
  let v41 : BitVec 32 := Scalar.muli v40 c1408_i32_22
  ![0, v41.toNat]
def k0_off3_at (r : Fin 3) : BitVec 32 × BitVec 32 :=
  if r.val < 1 then
    (1#32, 0#32)
  else
    if r.val < 2 then
      (0#32, 1#32)
    else
      (1#32, 1#32)
def k0_dev1 (d0 : Dev nD) : Nat :=
  let c0_i32_28 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_7 : BitVec 32 := 1#32
  let v17 : BitVec 32 := Scalar.addi v2 c1_i32_7
  let c2_i32_8 : BitVec 32 := 2#32
  let c0_i32_9 : BitVec 32 := 0#32
  let v18 : BitVec 1 := Scalar.cmpi .eq c2_i32_8 c0_i32_9
  let c1_i32_10 : BitVec 32 := 1#32
  let v19 : BitVec 32 := Scalar.select v18 c1_i32_10 c2_i32_8
  let v20 : BitVec 32 := Scalar.remsi v17 v19
  let c0_i32_12 : BitVec 32 := 0#32
  let v22 : BitVec 1 := Scalar.cmpi .slt v20 c0_i32_12
  let c0_i32_13 : BitVec 32 := 0#32
  let v23 : BitVec 1 := Scalar.cmpi .slt v19 c0_i32_13
  let v24 : BitVec 1 := Scalar.xori v22 v23
  let c0_i32_11 : BitVec 32 := 0#32
  let v21 : BitVec 1 := Scalar.cmpi .ne v20 c0_i32_11
  let v25 : BitVec 1 := Scalar.andi v24 v21
  let v26 : BitVec 32 := Scalar.addi v20 v19
  let v27 : BitVec 32 := Scalar.select v25 v26 v20
  let c4_i32_27 : BitVec 32 := 4#32
  let v42 : BitVec 32 := Scalar.muli v27 c4_i32_27
  let v43 : BitVec 32 := Scalar.addi c0_i32_28 v42
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_14 : BitVec 32 := 0#32
  let v28 : BitVec 32 := Scalar.addi v5 c0_i32_14
  let c2_i32_15 : BitVec 32 := 2#32
  let c0_i32_16 : BitVec 32 := 0#32
  let v29 : BitVec 1 := Scalar.cmpi .eq c2_i32_15 c0_i32_16
  let c1_i32_17 : BitVec 32 := 1#32
  let v30 : BitVec 32 := Scalar.select v29 c1_i32_17 c2_i32_15
  let v31 : BitVec 32 := Scalar.remsi v28 v30
  let c0_i32_19 : BitVec 32 := 0#32
  let v33 : BitVec 1 := Scalar.cmpi .slt v31 c0_i32_19
  let c0_i32_20 : BitVec 32 := 0#32
  let v34 : BitVec 1 := Scalar.cmpi .slt v30 c0_i32_20
  let v35 : BitVec 1 := Scalar.xori v33 v34
  let c0_i32_18 : BitVec 32 := 0#32
  let v32 : BitVec 1 := Scalar.cmpi .ne v31 c0_i32_18
  let v36 : BitVec 1 := Scalar.andi v35 v32
  let v37 : BitVec 32 := Scalar.addi v31 v30
  let v38 : BitVec 32 := Scalar.select v36 v37 v31
  let c2_i32_29 : BitVec 32 := 2#32
  let v44 : BitVec 32 := Scalar.muli v38 c2_i32_29
  let v45 : BitVec 32 := Scalar.addi v43 v44
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_30 : BitVec 32 := 1#32
  let v46 : BitVec 32 := Scalar.muli v8 c1_i32_30
  let v47 : BitVec 32 := Scalar.addi v45 v46
  v47.toNat
def k0_dev2 (d0 : Dev nD) : Nat :=
  let c0_i32_55 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_34 : BitVec 32 := 0#32
  let v55 : BitVec 32 := Scalar.addi v2 c0_i32_34
  let c2_i32_35 : BitVec 32 := 2#32
  let c0_i32_36 : BitVec 32 := 0#32
  let v56 : BitVec 1 := Scalar.cmpi .eq c2_i32_35 c0_i32_36
  let c1_i32_37 : BitVec 32 := 1#32
  let v57 : BitVec 32 := Scalar.select v56 c1_i32_37 c2_i32_35
  let v58 : BitVec 32 := Scalar.remsi v55 v57
  let c0_i32_39 : BitVec 32 := 0#32
  let v60 : BitVec 1 := Scalar.cmpi .slt v58 c0_i32_39
  let c0_i32_40 : BitVec 32 := 0#32
  let v61 : BitVec 1 := Scalar.cmpi .slt v57 c0_i32_40
  let v62 : BitVec 1 := Scalar.xori v60 v61
  let c0_i32_38 : BitVec 32 := 0#32
  let v59 : BitVec 1 := Scalar.cmpi .ne v58 c0_i32_38
  let v63 : BitVec 1 := Scalar.andi v62 v59
  let v64 : BitVec 32 := Scalar.addi v58 v57
  let v65 : BitVec 32 := Scalar.select v63 v64 v58
  let c4_i32_54 : BitVec 32 := 4#32
  let v80 : BitVec 32 := Scalar.muli v65 c4_i32_54
  let v81 : BitVec 32 := Scalar.addi c0_i32_55 v80
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_41 : BitVec 32 := 1#32
  let v66 : BitVec 32 := Scalar.addi v5 c1_i32_41
  let c2_i32_42 : BitVec 32 := 2#32
  let c0_i32_43 : BitVec 32 := 0#32
  let v67 : BitVec 1 := Scalar.cmpi .eq c2_i32_42 c0_i32_43
  let c1_i32_44 : BitVec 32 := 1#32
  let v68 : BitVec 32 := Scalar.select v67 c1_i32_44 c2_i32_42
  let v69 : BitVec 32 := Scalar.remsi v66 v68
  let c0_i32_46 : BitVec 32 := 0#32
  let v71 : BitVec 1 := Scalar.cmpi .slt v69 c0_i32_46
  let c0_i32_47 : BitVec 32 := 0#32
  let v72 : BitVec 1 := Scalar.cmpi .slt v68 c0_i32_47
  let v73 : BitVec 1 := Scalar.xori v71 v72
  let c0_i32_45 : BitVec 32 := 0#32
  let v70 : BitVec 1 := Scalar.cmpi .ne v69 c0_i32_45
  let v74 : BitVec 1 := Scalar.andi v73 v70
  let v75 : BitVec 32 := Scalar.addi v69 v68
  let v76 : BitVec 32 := Scalar.select v74 v75 v69
  let c2_i32_56 : BitVec 32 := 2#32
  let v82 : BitVec 32 := Scalar.muli v76 c2_i32_56
  let v83 : BitVec 32 := Scalar.addi v81 v82
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_57 : BitVec 32 := 1#32
  let v84 : BitVec 32 := Scalar.muli v8 c1_i32_57
  let v85 : BitVec 32 := Scalar.addi v83 v84
  v85.toNat
def k0_dev3 (d0 : Dev nD) : Nat :=
  let c0_i32_82 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_61 : BitVec 32 := 1#32
  let v93 : BitVec 32 := Scalar.addi v2 c1_i32_61
  let c2_i32_62 : BitVec 32 := 2#32
  let c0_i32_63 : BitVec 32 := 0#32
  let v94 : BitVec 1 := Scalar.cmpi .eq c2_i32_62 c0_i32_63
  let c1_i32_64 : BitVec 32 := 1#32
  let v95 : BitVec 32 := Scalar.select v94 c1_i32_64 c2_i32_62
  let v96 : BitVec 32 := Scalar.remsi v93 v95
  let c0_i32_66 : BitVec 32 := 0#32
  let v98 : BitVec 1 := Scalar.cmpi .slt v96 c0_i32_66
  let c0_i32_67 : BitVec 32 := 0#32
  let v99 : BitVec 1 := Scalar.cmpi .slt v95 c0_i32_67
  let v100 : BitVec 1 := Scalar.xori v98 v99
  let c0_i32_65 : BitVec 32 := 0#32
  let v97 : BitVec 1 := Scalar.cmpi .ne v96 c0_i32_65
  let v101 : BitVec 1 := Scalar.andi v100 v97
  let v102 : BitVec 32 := Scalar.addi v96 v95
  let v103 : BitVec 32 := Scalar.select v101 v102 v96
  let c4_i32_81 : BitVec 32 := 4#32
  let v118 : BitVec 32 := Scalar.muli v103 c4_i32_81
  let v119 : BitVec 32 := Scalar.addi c0_i32_82 v118
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_68 : BitVec 32 := 1#32
  let v104 : BitVec 32 := Scalar.addi v5 c1_i32_68
  let c2_i32_69 : BitVec 32 := 2#32
  let c0_i32_70 : BitVec 32 := 0#32
  let v105 : BitVec 1 := Scalar.cmpi .eq c2_i32_69 c0_i32_70
  let c1_i32_71 : BitVec 32 := 1#32
  let v106 : BitVec 32 := Scalar.select v105 c1_i32_71 c2_i32_69
  let v107 : BitVec 32 := Scalar.remsi v104 v106
  let c0_i32_73 : BitVec 32 := 0#32
  let v109 : BitVec 1 := Scalar.cmpi .slt v107 c0_i32_73
  let c0_i32_74 : BitVec 32 := 0#32
  let v110 : BitVec 1 := Scalar.cmpi .slt v106 c0_i32_74
  let v111 : BitVec 1 := Scalar.xori v109 v110
  let c0_i32_72 : BitVec 32 := 0#32
  let v108 : BitVec 1 := Scalar.cmpi .ne v107 c0_i32_72
  let v112 : BitVec 1 := Scalar.andi v111 v108
  let v113 : BitVec 32 := Scalar.addi v107 v106
  let v114 : BitVec 32 := Scalar.select v112 v113 v107
  let c2_i32_83 : BitVec 32 := 2#32
  let v120 : BitVec 32 := Scalar.muli v114 c2_i32_83
  let v121 : BitVec 32 := Scalar.addi v119 v120
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_84 : BitVec 32 := 1#32
  let v122 : BitVec 32 := Scalar.muli v8 c1_i32_84
  let v123 : BitVec 32 := Scalar.addi v121 v122
  v123.toNat
def k0_off4 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_89 : BitVec 32 := 0#32
  let c0_i32_90 : BitVec 32 := 0#32
  ![v10.toNat, 0, 0]
def k0_off5 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c256_i32 : BitVec 32 := 256#32
  let v131 : BitVec 32 := Scalar.muli v10 c256_i32
  let c0_i32_91 : BitVec 32 := 0#32
  ![v131.toNat, 0]
def k0_off6 (d0 : Dev nD) (c1_i32_92 : BitVec 32) (c0_i32_99 : BitVec 32) : Fin 2 → Nat :=
  let c2_i32_106 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v137 : BitVec 32 := Scalar.addi v2 c1_i32_92
  let c2_i32_93 : BitVec 32 := 2#32
  let c0_i32_94 : BitVec 32 := 0#32
  let v138 : BitVec 1 := Scalar.cmpi .eq c2_i32_93 c0_i32_94
  let c1_i32_95 : BitVec 32 := 1#32
  let v139 : BitVec 32 := Scalar.select v138 c1_i32_95 c2_i32_93
  let v140 : BitVec 32 := Scalar.remsi v137 v139
  let c0_i32_97 : BitVec 32 := 0#32
  let v142 : BitVec 1 := Scalar.cmpi .slt v140 c0_i32_97
  let c0_i32_98 : BitVec 32 := 0#32
  let v143 : BitVec 1 := Scalar.cmpi .slt v139 c0_i32_98
  let v144 : BitVec 1 := Scalar.xori v142 v143
  let c0_i32_96 : BitVec 32 := 0#32
  let v141 : BitVec 1 := Scalar.cmpi .ne v140 c0_i32_96
  let v145 : BitVec 1 := Scalar.andi v144 v141
  let v146 : BitVec 32 := Scalar.addi v140 v139
  let v147 : BitVec 32 := Scalar.select v145 v146 v140
  let v159 : BitVec 32 := Scalar.muli c2_i32_106 v147
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v148 : BitVec 32 := Scalar.addi v5 c0_i32_99
  let c2_i32_100 : BitVec 32 := 2#32
  let c0_i32_101 : BitVec 32 := 0#32
  let v149 : BitVec 1 := Scalar.cmpi .eq c2_i32_100 c0_i32_101
  let c1_i32_102 : BitVec 32 := 1#32
  let v150 : BitVec 32 := Scalar.select v149 c1_i32_102 c2_i32_100
  let v151 : BitVec 32 := Scalar.remsi v148 v150
  let c0_i32_104 : BitVec 32 := 0#32
  let v153 : BitVec 1 := Scalar.cmpi .slt v151 c0_i32_104
  let c0_i32_105 : BitVec 32 := 0#32
  let v154 : BitVec 1 := Scalar.cmpi .slt v150 c0_i32_105
  let v155 : BitVec 1 := Scalar.xori v153 v154
  let c0_i32_103 : BitVec 32 := 0#32
  let v152 : BitVec 1 := Scalar.cmpi .ne v151 c0_i32_103
  let v156 : BitVec 1 := Scalar.andi v155 v152
  let v157 : BitVec 32 := Scalar.addi v151 v150
  let v158 : BitVec 32 := Scalar.select v156 v157 v151
  let v160 : BitVec 32 := Scalar.addi v159 v158
  let c256_i32_107 : BitVec 32 := 256#32
  let v161 : BitVec 32 := Scalar.muli v160 c256_i32_107
  let c0_i32_118 : BitVec 32 := 0#32
  ![v161.toNat, 0]
def k0_off6_at (r : Fin 3) : BitVec 32 × BitVec 32 :=
  if r.val < 1 then
    (1#32, 0#32)
  else
    if r.val < 2 then
      (0#32, 1#32)
    else
      (1#32, 1#32)
def k0_dev4 (d0 : Dev nD) : Nat :=
  let c0_i32_113 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_92 : BitVec 32 := 1#32
  let v137 : BitVec 32 := Scalar.addi v2 c1_i32_92
  let c2_i32_93 : BitVec 32 := 2#32
  let c0_i32_94 : BitVec 32 := 0#32
  let v138 : BitVec 1 := Scalar.cmpi .eq c2_i32_93 c0_i32_94
  let c1_i32_95 : BitVec 32 := 1#32
  let v139 : BitVec 32 := Scalar.select v138 c1_i32_95 c2_i32_93
  let v140 : BitVec 32 := Scalar.remsi v137 v139
  let c0_i32_97 : BitVec 32 := 0#32
  let v142 : BitVec 1 := Scalar.cmpi .slt v140 c0_i32_97
  let c0_i32_98 : BitVec 32 := 0#32
  let v143 : BitVec 1 := Scalar.cmpi .slt v139 c0_i32_98
  let v144 : BitVec 1 := Scalar.xori v142 v143
  let c0_i32_96 : BitVec 32 := 0#32
  let v141 : BitVec 1 := Scalar.cmpi .ne v140 c0_i32_96
  let v145 : BitVec 1 := Scalar.andi v144 v141
  let v146 : BitVec 32 := Scalar.addi v140 v139
  let v147 : BitVec 32 := Scalar.select v145 v146 v140
  let c4_i32_112 : BitVec 32 := 4#32
  let v162 : BitVec 32 := Scalar.muli v147 c4_i32_112
  let v163 : BitVec 32 := Scalar.addi c0_i32_113 v162
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_99 : BitVec 32 := 0#32
  let v148 : BitVec 32 := Scalar.addi v5 c0_i32_99
  let c2_i32_100 : BitVec 32 := 2#32
  let c0_i32_101 : BitVec 32 := 0#32
  let v149 : BitVec 1 := Scalar.cmpi .eq c2_i32_100 c0_i32_101
  let c1_i32_102 : BitVec 32 := 1#32
  let v150 : BitVec 32 := Scalar.select v149 c1_i32_102 c2_i32_100
  let v151 : BitVec 32 := Scalar.remsi v148 v150
  let c0_i32_104 : BitVec 32 := 0#32
  let v153 : BitVec 1 := Scalar.cmpi .slt v151 c0_i32_104
  let c0_i32_105 : BitVec 32 := 0#32
  let v154 : BitVec 1 := Scalar.cmpi .slt v150 c0_i32_105
  let v155 : BitVec 1 := Scalar.xori v153 v154
  let c0_i32_103 : BitVec 32 := 0#32
  let v152 : BitVec 1 := Scalar.cmpi .ne v151 c0_i32_103
  let v156 : BitVec 1 := Scalar.andi v155 v152
  let v157 : BitVec 32 := Scalar.addi v151 v150
  let v158 : BitVec 32 := Scalar.select v156 v157 v151
  let c2_i32_114 : BitVec 32 := 2#32
  let v164 : BitVec 32 := Scalar.muli v158 c2_i32_114
  let v165 : BitVec 32 := Scalar.addi v163 v164
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_115 : BitVec 32 := 1#32
  let v166 : BitVec 32 := Scalar.muli v8 c1_i32_115
  let v167 : BitVec 32 := Scalar.addi v165 v166
  v167.toNat
def k0_dev5 (d0 : Dev nD) : Nat :=
  let c0_i32_140 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_119 : BitVec 32 := 0#32
  let v175 : BitVec 32 := Scalar.addi v2 c0_i32_119
  let c2_i32_120 : BitVec 32 := 2#32
  let c0_i32_121 : BitVec 32 := 0#32
  let v176 : BitVec 1 := Scalar.cmpi .eq c2_i32_120 c0_i32_121
  let c1_i32_122 : BitVec 32 := 1#32
  let v177 : BitVec 32 := Scalar.select v176 c1_i32_122 c2_i32_120
  let v178 : BitVec 32 := Scalar.remsi v175 v177
  let c0_i32_124 : BitVec 32 := 0#32
  let v180 : BitVec 1 := Scalar.cmpi .slt v178 c0_i32_124
  let c0_i32_125 : BitVec 32 := 0#32
  let v181 : BitVec 1 := Scalar.cmpi .slt v177 c0_i32_125
  let v182 : BitVec 1 := Scalar.xori v180 v181
  let c0_i32_123 : BitVec 32 := 0#32
  let v179 : BitVec 1 := Scalar.cmpi .ne v178 c0_i32_123
  let v183 : BitVec 1 := Scalar.andi v182 v179
  let v184 : BitVec 32 := Scalar.addi v178 v177
  let v185 : BitVec 32 := Scalar.select v183 v184 v178
  let c4_i32_139 : BitVec 32 := 4#32
  let v200 : BitVec 32 := Scalar.muli v185 c4_i32_139
  let v201 : BitVec 32 := Scalar.addi c0_i32_140 v200
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_126 : BitVec 32 := 1#32
  let v186 : BitVec 32 := Scalar.addi v5 c1_i32_126
  let c2_i32_127 : BitVec 32 := 2#32
  let c0_i32_128 : BitVec 32 := 0#32
  let v187 : BitVec 1 := Scalar.cmpi .eq c2_i32_127 c0_i32_128
  let c1_i32_129 : BitVec 32 := 1#32
  let v188 : BitVec 32 := Scalar.select v187 c1_i32_129 c2_i32_127
  let v189 : BitVec 32 := Scalar.remsi v186 v188
  let c0_i32_131 : BitVec 32 := 0#32
  let v191 : BitVec 1 := Scalar.cmpi .slt v189 c0_i32_131
  let c0_i32_132 : BitVec 32 := 0#32
  let v192 : BitVec 1 := Scalar.cmpi .slt v188 c0_i32_132
  let v193 : BitVec 1 := Scalar.xori v191 v192
  let c0_i32_130 : BitVec 32 := 0#32
  let v190 : BitVec 1 := Scalar.cmpi .ne v189 c0_i32_130
  let v194 : BitVec 1 := Scalar.andi v193 v190
  let v195 : BitVec 32 := Scalar.addi v189 v188
  let v196 : BitVec 32 := Scalar.select v194 v195 v189
  let c2_i32_141 : BitVec 32 := 2#32
  let v202 : BitVec 32 := Scalar.muli v196 c2_i32_141
  let v203 : BitVec 32 := Scalar.addi v201 v202
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_142 : BitVec 32 := 1#32
  let v204 : BitVec 32 := Scalar.muli v8 c1_i32_142
  let v205 : BitVec 32 := Scalar.addi v203 v204
  v205.toNat
def k0_dev6 (d0 : Dev nD) : Nat :=
  let c0_i32_167 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_146 : BitVec 32 := 1#32
  let v213 : BitVec 32 := Scalar.addi v2 c1_i32_146
  let c2_i32_147 : BitVec 32 := 2#32
  let c0_i32_148 : BitVec 32 := 0#32
  let v214 : BitVec 1 := Scalar.cmpi .eq c2_i32_147 c0_i32_148
  let c1_i32_149 : BitVec 32 := 1#32
  let v215 : BitVec 32 := Scalar.select v214 c1_i32_149 c2_i32_147
  let v216 : BitVec 32 := Scalar.remsi v213 v215
  let c0_i32_151 : BitVec 32 := 0#32
  let v218 : BitVec 1 := Scalar.cmpi .slt v216 c0_i32_151
  let c0_i32_152 : BitVec 32 := 0#32
  let v219 : BitVec 1 := Scalar.cmpi .slt v215 c0_i32_152
  let v220 : BitVec 1 := Scalar.xori v218 v219
  let c0_i32_150 : BitVec 32 := 0#32
  let v217 : BitVec 1 := Scalar.cmpi .ne v216 c0_i32_150
  let v221 : BitVec 1 := Scalar.andi v220 v217
  let v222 : BitVec 32 := Scalar.addi v216 v215
  let v223 : BitVec 32 := Scalar.select v221 v222 v216
  let c4_i32_166 : BitVec 32 := 4#32
  let v238 : BitVec 32 := Scalar.muli v223 c4_i32_166
  let v239 : BitVec 32 := Scalar.addi c0_i32_167 v238
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_153 : BitVec 32 := 1#32
  let v224 : BitVec 32 := Scalar.addi v5 c1_i32_153
  let c2_i32_154 : BitVec 32 := 2#32
  let c0_i32_155 : BitVec 32 := 0#32
  let v225 : BitVec 1 := Scalar.cmpi .eq c2_i32_154 c0_i32_155
  let c1_i32_156 : BitVec 32 := 1#32
  let v226 : BitVec 32 := Scalar.select v225 c1_i32_156 c2_i32_154
  let v227 : BitVec 32 := Scalar.remsi v224 v226
  let c0_i32_158 : BitVec 32 := 0#32
  let v229 : BitVec 1 := Scalar.cmpi .slt v227 c0_i32_158
  let c0_i32_159 : BitVec 32 := 0#32
  let v230 : BitVec 1 := Scalar.cmpi .slt v226 c0_i32_159
  let v231 : BitVec 1 := Scalar.xori v229 v230
  let c0_i32_157 : BitVec 32 := 0#32
  let v228 : BitVec 1 := Scalar.cmpi .ne v227 c0_i32_157
  let v232 : BitVec 1 := Scalar.andi v231 v228
  let v233 : BitVec 32 := Scalar.addi v227 v226
  let v234 : BitVec 32 := Scalar.select v232 v233 v227
  let c2_i32_168 : BitVec 32 := 2#32
  let v240 : BitVec 32 := Scalar.muli v234 c2_i32_168
  let v241 : BitVec 32 := Scalar.addi v239 v240
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_169 : BitVec 32 := 1#32
  let v242 : BitVec 32 := Scalar.muli v8 c1_i32_169
  let v243 : BitVec 32 := Scalar.addi v241 v242
  v243.toNat
def k0_off7 (d0 : Dev nD) : Fin 3 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c0_i32_174 : BitVec 32 := 0#32
  let c0_i32_175 : BitVec 32 := 0#32
  ![v10.toNat, 0, 0]
def k0_off8 (d0 : Dev nD) : Fin 2 → Nat :=
  let c0_i32_176 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1536_i32 : BitVec 32 := 1536#32
  let v251 : BitVec 32 := Scalar.muli v10 c1536_i32
  ![0, v251.toNat]
def k0_off9 (d0 : Dev nD) (c1_i32_177 : BitVec 32) (c0_i32_184 : BitVec 32) : Fin 2 → Nat :=
  let c0_i32_203 : BitVec 32 := 0#32
  let c2_i32_191 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v257 : BitVec 32 := Scalar.addi v2 c1_i32_177
  let c2_i32_178 : BitVec 32 := 2#32
  let c0_i32_179 : BitVec 32 := 0#32
  let v258 : BitVec 1 := Scalar.cmpi .eq c2_i32_178 c0_i32_179
  let c1_i32_180 : BitVec 32 := 1#32
  let v259 : BitVec 32 := Scalar.select v258 c1_i32_180 c2_i32_178
  let v260 : BitVec 32 := Scalar.remsi v257 v259
  let c0_i32_182 : BitVec 32 := 0#32
  let v262 : BitVec 1 := Scalar.cmpi .slt v260 c0_i32_182
  let c0_i32_183 : BitVec 32 := 0#32
  let v263 : BitVec 1 := Scalar.cmpi .slt v259 c0_i32_183
  let v264 : BitVec 1 := Scalar.xori v262 v263
  let c0_i32_181 : BitVec 32 := 0#32
  let v261 : BitVec 1 := Scalar.cmpi .ne v260 c0_i32_181
  let v265 : BitVec 1 := Scalar.andi v264 v261
  let v266 : BitVec 32 := Scalar.addi v260 v259
  let v267 : BitVec 32 := Scalar.select v265 v266 v260
  let v279 : BitVec 32 := Scalar.muli c2_i32_191 v267
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v268 : BitVec 32 := Scalar.addi v5 c0_i32_184
  let c2_i32_185 : BitVec 32 := 2#32
  let c0_i32_186 : BitVec 32 := 0#32
  let v269 : BitVec 1 := Scalar.cmpi .eq c2_i32_185 c0_i32_186
  let c1_i32_187 : BitVec 32 := 1#32
  let v270 : BitVec 32 := Scalar.select v269 c1_i32_187 c2_i32_185
  let v271 : BitVec 32 := Scalar.remsi v268 v270
  let c0_i32_189 : BitVec 32 := 0#32
  let v273 : BitVec 1 := Scalar.cmpi .slt v271 c0_i32_189
  let c0_i32_190 : BitVec 32 := 0#32
  let v274 : BitVec 1 := Scalar.cmpi .slt v270 c0_i32_190
  let v275 : BitVec 1 := Scalar.xori v273 v274
  let c0_i32_188 : BitVec 32 := 0#32
  let v272 : BitVec 1 := Scalar.cmpi .ne v271 c0_i32_188
  let v276 : BitVec 1 := Scalar.andi v275 v272
  let v277 : BitVec 32 := Scalar.addi v271 v270
  let v278 : BitVec 32 := Scalar.select v276 v277 v271
  let v280 : BitVec 32 := Scalar.addi v279 v278
  let c1536_i32_192 : BitVec 32 := 1536#32
  let v281 : BitVec 32 := Scalar.muli v280 c1536_i32_192
  ![0, v281.toNat]
def k0_off9_at (r : Fin 3) : BitVec 32 × BitVec 32 :=
  if r.val < 1 then
    (1#32, 0#32)
  else
    if r.val < 2 then
      (0#32, 1#32)
    else
      (1#32, 1#32)
def k0_dev7 (d0 : Dev nD) : Nat :=
  let c0_i32_198 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_177 : BitVec 32 := 1#32
  let v257 : BitVec 32 := Scalar.addi v2 c1_i32_177
  let c2_i32_178 : BitVec 32 := 2#32
  let c0_i32_179 : BitVec 32 := 0#32
  let v258 : BitVec 1 := Scalar.cmpi .eq c2_i32_178 c0_i32_179
  let c1_i32_180 : BitVec 32 := 1#32
  let v259 : BitVec 32 := Scalar.select v258 c1_i32_180 c2_i32_178
  let v260 : BitVec 32 := Scalar.remsi v257 v259
  let c0_i32_182 : BitVec 32 := 0#32
  let v262 : BitVec 1 := Scalar.cmpi .slt v260 c0_i32_182
  let c0_i32_183 : BitVec 32 := 0#32
  let v263 : BitVec 1 := Scalar.cmpi .slt v259 c0_i32_183
  let v264 : BitVec 1 := Scalar.xori v262 v263
  let c0_i32_181 : BitVec 32 := 0#32
  let v261 : BitVec 1 := Scalar.cmpi .ne v260 c0_i32_181
  let v265 : BitVec 1 := Scalar.andi v264 v261
  let v266 : BitVec 32 := Scalar.addi v260 v259
  let v267 : BitVec 32 := Scalar.select v265 v266 v260
  let c4_i32_197 : BitVec 32 := 4#32
  let v282 : BitVec 32 := Scalar.muli v267 c4_i32_197
  let v283 : BitVec 32 := Scalar.addi c0_i32_198 v282
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_184 : BitVec 32 := 0#32
  let v268 : BitVec 32 := Scalar.addi v5 c0_i32_184
  let c2_i32_185 : BitVec 32 := 2#32
  let c0_i32_186 : BitVec 32 := 0#32
  let v269 : BitVec 1 := Scalar.cmpi .eq c2_i32_185 c0_i32_186
  let c1_i32_187 : BitVec 32 := 1#32
  let v270 : BitVec 32 := Scalar.select v269 c1_i32_187 c2_i32_185
  let v271 : BitVec 32 := Scalar.remsi v268 v270
  let c0_i32_189 : BitVec 32 := 0#32
  let v273 : BitVec 1 := Scalar.cmpi .slt v271 c0_i32_189
  let c0_i32_190 : BitVec 32 := 0#32
  let v274 : BitVec 1 := Scalar.cmpi .slt v270 c0_i32_190
  let v275 : BitVec 1 := Scalar.xori v273 v274
  let c0_i32_188 : BitVec 32 := 0#32
  let v272 : BitVec 1 := Scalar.cmpi .ne v271 c0_i32_188
  let v276 : BitVec 1 := Scalar.andi v275 v272
  let v277 : BitVec 32 := Scalar.addi v271 v270
  let v278 : BitVec 32 := Scalar.select v276 v277 v271
  let c2_i32_199 : BitVec 32 := 2#32
  let v284 : BitVec 32 := Scalar.muli v278 c2_i32_199
  let v285 : BitVec 32 := Scalar.addi v283 v284
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_200 : BitVec 32 := 1#32
  let v286 : BitVec 32 := Scalar.muli v8 c1_i32_200
  let v287 : BitVec 32 := Scalar.addi v285 v286
  v287.toNat
def k0_dev8 (d0 : Dev nD) : Nat :=
  let c0_i32_225 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_204 : BitVec 32 := 0#32
  let v295 : BitVec 32 := Scalar.addi v2 c0_i32_204
  let c2_i32_205 : BitVec 32 := 2#32
  let c0_i32_206 : BitVec 32 := 0#32
  let v296 : BitVec 1 := Scalar.cmpi .eq c2_i32_205 c0_i32_206
  let c1_i32_207 : BitVec 32 := 1#32
  let v297 : BitVec 32 := Scalar.select v296 c1_i32_207 c2_i32_205
  let v298 : BitVec 32 := Scalar.remsi v295 v297
  let c0_i32_209 : BitVec 32 := 0#32
  let v300 : BitVec 1 := Scalar.cmpi .slt v298 c0_i32_209
  let c0_i32_210 : BitVec 32 := 0#32
  let v301 : BitVec 1 := Scalar.cmpi .slt v297 c0_i32_210
  let v302 : BitVec 1 := Scalar.xori v300 v301
  let c0_i32_208 : BitVec 32 := 0#32
  let v299 : BitVec 1 := Scalar.cmpi .ne v298 c0_i32_208
  let v303 : BitVec 1 := Scalar.andi v302 v299
  let v304 : BitVec 32 := Scalar.addi v298 v297
  let v305 : BitVec 32 := Scalar.select v303 v304 v298
  let c4_i32_224 : BitVec 32 := 4#32
  let v320 : BitVec 32 := Scalar.muli v305 c4_i32_224
  let v321 : BitVec 32 := Scalar.addi c0_i32_225 v320
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_211 : BitVec 32 := 1#32
  let v306 : BitVec 32 := Scalar.addi v5 c1_i32_211
  let c2_i32_212 : BitVec 32 := 2#32
  let c0_i32_213 : BitVec 32 := 0#32
  let v307 : BitVec 1 := Scalar.cmpi .eq c2_i32_212 c0_i32_213
  let c1_i32_214 : BitVec 32 := 1#32
  let v308 : BitVec 32 := Scalar.select v307 c1_i32_214 c2_i32_212
  let v309 : BitVec 32 := Scalar.remsi v306 v308
  let c0_i32_216 : BitVec 32 := 0#32
  let v311 : BitVec 1 := Scalar.cmpi .slt v309 c0_i32_216
  let c0_i32_217 : BitVec 32 := 0#32
  let v312 : BitVec 1 := Scalar.cmpi .slt v308 c0_i32_217
  let v313 : BitVec 1 := Scalar.xori v311 v312
  let c0_i32_215 : BitVec 32 := 0#32
  let v310 : BitVec 1 := Scalar.cmpi .ne v309 c0_i32_215
  let v314 : BitVec 1 := Scalar.andi v313 v310
  let v315 : BitVec 32 := Scalar.addi v309 v308
  let v316 : BitVec 32 := Scalar.select v314 v315 v309
  let c2_i32_226 : BitVec 32 := 2#32
  let v322 : BitVec 32 := Scalar.muli v316 c2_i32_226
  let v323 : BitVec 32 := Scalar.addi v321 v322
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_227 : BitVec 32 := 1#32
  let v324 : BitVec 32 := Scalar.muli v8 c1_i32_227
  let v325 : BitVec 32 := Scalar.addi v323 v324
  v325.toNat
def k0_dev9 (d0 : Dev nD) : Nat :=
  let c0_i32_252 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_231 : BitVec 32 := 1#32
  let v333 : BitVec 32 := Scalar.addi v2 c1_i32_231
  let c2_i32_232 : BitVec 32 := 2#32
  let c0_i32_233 : BitVec 32 := 0#32
  let v334 : BitVec 1 := Scalar.cmpi .eq c2_i32_232 c0_i32_233
  let c1_i32_234 : BitVec 32 := 1#32
  let v335 : BitVec 32 := Scalar.select v334 c1_i32_234 c2_i32_232
  let v336 : BitVec 32 := Scalar.remsi v333 v335
  let c0_i32_236 : BitVec 32 := 0#32
  let v338 : BitVec 1 := Scalar.cmpi .slt v336 c0_i32_236
  let c0_i32_237 : BitVec 32 := 0#32
  let v339 : BitVec 1 := Scalar.cmpi .slt v335 c0_i32_237
  let v340 : BitVec 1 := Scalar.xori v338 v339
  let c0_i32_235 : BitVec 32 := 0#32
  let v337 : BitVec 1 := Scalar.cmpi .ne v336 c0_i32_235
  let v341 : BitVec 1 := Scalar.andi v340 v337
  let v342 : BitVec 32 := Scalar.addi v336 v335
  let v343 : BitVec 32 := Scalar.select v341 v342 v336
  let c4_i32_251 : BitVec 32 := 4#32
  let v358 : BitVec 32 := Scalar.muli v343 c4_i32_251
  let v359 : BitVec 32 := Scalar.addi c0_i32_252 v358
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_238 : BitVec 32 := 1#32
  let v344 : BitVec 32 := Scalar.addi v5 c1_i32_238
  let c2_i32_239 : BitVec 32 := 2#32
  let c0_i32_240 : BitVec 32 := 0#32
  let v345 : BitVec 1 := Scalar.cmpi .eq c2_i32_239 c0_i32_240
  let c1_i32_241 : BitVec 32 := 1#32
  let v346 : BitVec 32 := Scalar.select v345 c1_i32_241 c2_i32_239
  let v347 : BitVec 32 := Scalar.remsi v344 v346
  let c0_i32_243 : BitVec 32 := 0#32
  let v349 : BitVec 1 := Scalar.cmpi .slt v347 c0_i32_243
  let c0_i32_244 : BitVec 32 := 0#32
  let v350 : BitVec 1 := Scalar.cmpi .slt v346 c0_i32_244
  let v351 : BitVec 1 := Scalar.xori v349 v350
  let c0_i32_242 : BitVec 32 := 0#32
  let v348 : BitVec 1 := Scalar.cmpi .ne v347 c0_i32_242
  let v352 : BitVec 1 := Scalar.andi v351 v348
  let v353 : BitVec 32 := Scalar.addi v347 v346
  let v354 : BitVec 32 := Scalar.select v352 v353 v347
  let c2_i32_253 : BitVec 32 := 2#32
  let v360 : BitVec 32 := Scalar.muli v354 c2_i32_253
  let v361 : BitVec 32 := Scalar.addi v359 v360
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_254 : BitVec 32 := 1#32
  let v362 : BitVec 32 := Scalar.muli v8 c1_i32_254
  let v363 : BitVec 32 := Scalar.addi v361 v362
  v363.toNat
def k0_dev10 (d0 : Dev nD) : Nat :=
  let c0_i32_283 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_262 : BitVec 32 := 1#32
  let v377 : BitVec 32 := Scalar.addi v2 c1_i32_262
  let c2_i32_263 : BitVec 32 := 2#32
  let c0_i32_264 : BitVec 32 := 0#32
  let v378 : BitVec 1 := Scalar.cmpi .eq c2_i32_263 c0_i32_264
  let c1_i32_265 : BitVec 32 := 1#32
  let v379 : BitVec 32 := Scalar.select v378 c1_i32_265 c2_i32_263
  let v380 : BitVec 32 := Scalar.remsi v377 v379
  let c0_i32_267 : BitVec 32 := 0#32
  let v382 : BitVec 1 := Scalar.cmpi .slt v380 c0_i32_267
  let c0_i32_268 : BitVec 32 := 0#32
  let v383 : BitVec 1 := Scalar.cmpi .slt v379 c0_i32_268
  let v384 : BitVec 1 := Scalar.xori v382 v383
  let c0_i32_266 : BitVec 32 := 0#32
  let v381 : BitVec 1 := Scalar.cmpi .ne v380 c0_i32_266
  let v385 : BitVec 1 := Scalar.andi v384 v381
  let v386 : BitVec 32 := Scalar.addi v380 v379
  let v387 : BitVec 32 := Scalar.select v385 v386 v380
  let c4_i32_282 : BitVec 32 := 4#32
  let v402 : BitVec 32 := Scalar.muli v387 c4_i32_282
  let v403 : BitVec 32 := Scalar.addi c0_i32_283 v402
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_269 : BitVec 32 := 0#32
  let v388 : BitVec 32 := Scalar.addi v5 c0_i32_269
  let c2_i32_270 : BitVec 32 := 2#32
  let c0_i32_271 : BitVec 32 := 0#32
  let v389 : BitVec 1 := Scalar.cmpi .eq c2_i32_270 c0_i32_271
  let c1_i32_272 : BitVec 32 := 1#32
  let v390 : BitVec 32 := Scalar.select v389 c1_i32_272 c2_i32_270
  let v391 : BitVec 32 := Scalar.remsi v388 v390
  let c0_i32_274 : BitVec 32 := 0#32
  let v393 : BitVec 1 := Scalar.cmpi .slt v391 c0_i32_274
  let c0_i32_275 : BitVec 32 := 0#32
  let v394 : BitVec 1 := Scalar.cmpi .slt v390 c0_i32_275
  let v395 : BitVec 1 := Scalar.xori v393 v394
  let c0_i32_273 : BitVec 32 := 0#32
  let v392 : BitVec 1 := Scalar.cmpi .ne v391 c0_i32_273
  let v396 : BitVec 1 := Scalar.andi v395 v392
  let v397 : BitVec 32 := Scalar.addi v391 v390
  let v398 : BitVec 32 := Scalar.select v396 v397 v391
  let c2_i32_284 : BitVec 32 := 2#32
  let v404 : BitVec 32 := Scalar.muli v398 c2_i32_284
  let v405 : BitVec 32 := Scalar.addi v403 v404
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_285 : BitVec 32 := 1#32
  let v406 : BitVec 32 := Scalar.muli v8 c1_i32_285
  let v407 : BitVec 32 := Scalar.addi v405 v406
  v407.toNat
def k0_dev11 (d0 : Dev nD) : Nat :=
  let c0_i32_310 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_289 : BitVec 32 := 0#32
  let v415 : BitVec 32 := Scalar.addi v2 c0_i32_289
  let c2_i32_290 : BitVec 32 := 2#32
  let c0_i32_291 : BitVec 32 := 0#32
  let v416 : BitVec 1 := Scalar.cmpi .eq c2_i32_290 c0_i32_291
  let c1_i32_292 : BitVec 32 := 1#32
  let v417 : BitVec 32 := Scalar.select v416 c1_i32_292 c2_i32_290
  let v418 : BitVec 32 := Scalar.remsi v415 v417
  let c0_i32_294 : BitVec 32 := 0#32
  let v420 : BitVec 1 := Scalar.cmpi .slt v418 c0_i32_294
  let c0_i32_295 : BitVec 32 := 0#32
  let v421 : BitVec 1 := Scalar.cmpi .slt v417 c0_i32_295
  let v422 : BitVec 1 := Scalar.xori v420 v421
  let c0_i32_293 : BitVec 32 := 0#32
  let v419 : BitVec 1 := Scalar.cmpi .ne v418 c0_i32_293
  let v423 : BitVec 1 := Scalar.andi v422 v419
  let v424 : BitVec 32 := Scalar.addi v418 v417
  let v425 : BitVec 32 := Scalar.select v423 v424 v418
  let c4_i32_309 : BitVec 32 := 4#32
  let v440 : BitVec 32 := Scalar.muli v425 c4_i32_309
  let v441 : BitVec 32 := Scalar.addi c0_i32_310 v440
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_296 : BitVec 32 := 1#32
  let v426 : BitVec 32 := Scalar.addi v5 c1_i32_296
  let c2_i32_297 : BitVec 32 := 2#32
  let c0_i32_298 : BitVec 32 := 0#32
  let v427 : BitVec 1 := Scalar.cmpi .eq c2_i32_297 c0_i32_298
  let c1_i32_299 : BitVec 32 := 1#32
  let v428 : BitVec 32 := Scalar.select v427 c1_i32_299 c2_i32_297
  let v429 : BitVec 32 := Scalar.remsi v426 v428
  let c0_i32_301 : BitVec 32 := 0#32
  let v431 : BitVec 1 := Scalar.cmpi .slt v429 c0_i32_301
  let c0_i32_302 : BitVec 32 := 0#32
  let v432 : BitVec 1 := Scalar.cmpi .slt v428 c0_i32_302
  let v433 : BitVec 1 := Scalar.xori v431 v432
  let c0_i32_300 : BitVec 32 := 0#32
  let v430 : BitVec 1 := Scalar.cmpi .ne v429 c0_i32_300
  let v434 : BitVec 1 := Scalar.andi v433 v430
  let v435 : BitVec 32 := Scalar.addi v429 v428
  let v436 : BitVec 32 := Scalar.select v434 v435 v429
  let c2_i32_311 : BitVec 32 := 2#32
  let v442 : BitVec 32 := Scalar.muli v436 c2_i32_311
  let v443 : BitVec 32 := Scalar.addi v441 v442
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_312 : BitVec 32 := 1#32
  let v444 : BitVec 32 := Scalar.muli v8 c1_i32_312
  let v445 : BitVec 32 := Scalar.addi v443 v444
  v445.toNat
def k0_dev12 (d0 : Dev nD) : Nat :=
  let c0_i32_337 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_316 : BitVec 32 := 1#32
  let v453 : BitVec 32 := Scalar.addi v2 c1_i32_316
  let c2_i32_317 : BitVec 32 := 2#32
  let c0_i32_318 : BitVec 32 := 0#32
  let v454 : BitVec 1 := Scalar.cmpi .eq c2_i32_317 c0_i32_318
  let c1_i32_319 : BitVec 32 := 1#32
  let v455 : BitVec 32 := Scalar.select v454 c1_i32_319 c2_i32_317
  let v456 : BitVec 32 := Scalar.remsi v453 v455
  let c0_i32_321 : BitVec 32 := 0#32
  let v458 : BitVec 1 := Scalar.cmpi .slt v456 c0_i32_321
  let c0_i32_322 : BitVec 32 := 0#32
  let v459 : BitVec 1 := Scalar.cmpi .slt v455 c0_i32_322
  let v460 : BitVec 1 := Scalar.xori v458 v459
  let c0_i32_320 : BitVec 32 := 0#32
  let v457 : BitVec 1 := Scalar.cmpi .ne v456 c0_i32_320
  let v461 : BitVec 1 := Scalar.andi v460 v457
  let v462 : BitVec 32 := Scalar.addi v456 v455
  let v463 : BitVec 32 := Scalar.select v461 v462 v456
  let c4_i32_336 : BitVec 32 := 4#32
  let v478 : BitVec 32 := Scalar.muli v463 c4_i32_336
  let v479 : BitVec 32 := Scalar.addi c0_i32_337 v478
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_323 : BitVec 32 := 1#32
  let v464 : BitVec 32 := Scalar.addi v5 c1_i32_323
  let c2_i32_324 : BitVec 32 := 2#32
  let c0_i32_325 : BitVec 32 := 0#32
  let v465 : BitVec 1 := Scalar.cmpi .eq c2_i32_324 c0_i32_325
  let c1_i32_326 : BitVec 32 := 1#32
  let v466 : BitVec 32 := Scalar.select v465 c1_i32_326 c2_i32_324
  let v467 : BitVec 32 := Scalar.remsi v464 v466
  let c0_i32_328 : BitVec 32 := 0#32
  let v469 : BitVec 1 := Scalar.cmpi .slt v467 c0_i32_328
  let c0_i32_329 : BitVec 32 := 0#32
  let v470 : BitVec 1 := Scalar.cmpi .slt v466 c0_i32_329
  let v471 : BitVec 1 := Scalar.xori v469 v470
  let c0_i32_327 : BitVec 32 := 0#32
  let v468 : BitVec 1 := Scalar.cmpi .ne v467 c0_i32_327
  let v472 : BitVec 1 := Scalar.andi v471 v468
  let v473 : BitVec 32 := Scalar.addi v467 v466
  let v474 : BitVec 32 := Scalar.select v472 v473 v467
  let c2_i32_338 : BitVec 32 := 2#32
  let v480 : BitVec 32 := Scalar.muli v474 c2_i32_338
  let v481 : BitVec 32 := Scalar.addi v479 v480
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_339 : BitVec 32 := 1#32
  let v482 : BitVec 32 := Scalar.muli v8 c1_i32_339
  let v483 : BitVec 32 := Scalar.addi v481 v482
  v483.toNat
def k0_off10 (d0 : Dev nD) (c1_i32_343 : BitVec 32) (c0_i32_350 : BitVec 32) : Fin 3 → Nat :=
  let c2_i32_357 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v491 : BitVec 32 := Scalar.addi v2 c1_i32_343
  let c2_i32_344 : BitVec 32 := 2#32
  let c0_i32_345 : BitVec 32 := 0#32
  let v492 : BitVec 1 := Scalar.cmpi .eq c2_i32_344 c0_i32_345
  let c1_i32_346 : BitVec 32 := 1#32
  let v493 : BitVec 32 := Scalar.select v492 c1_i32_346 c2_i32_344
  let v494 : BitVec 32 := Scalar.remsi v491 v493
  let c0_i32_348 : BitVec 32 := 0#32
  let v496 : BitVec 1 := Scalar.cmpi .slt v494 c0_i32_348
  let c0_i32_349 : BitVec 32 := 0#32
  let v497 : BitVec 1 := Scalar.cmpi .slt v493 c0_i32_349
  let v498 : BitVec 1 := Scalar.xori v496 v497
  let c0_i32_347 : BitVec 32 := 0#32
  let v495 : BitVec 1 := Scalar.cmpi .ne v494 c0_i32_347
  let v499 : BitVec 1 := Scalar.andi v498 v495
  let v500 : BitVec 32 := Scalar.addi v494 v493
  let v501 : BitVec 32 := Scalar.select v499 v500 v494
  let v513 : BitVec 32 := Scalar.muli c2_i32_357 v501
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v502 : BitVec 32 := Scalar.addi v5 c0_i32_350
  let c2_i32_351 : BitVec 32 := 2#32
  let c0_i32_352 : BitVec 32 := 0#32
  let v503 : BitVec 1 := Scalar.cmpi .eq c2_i32_351 c0_i32_352
  let c1_i32_353 : BitVec 32 := 1#32
  let v504 : BitVec 32 := Scalar.select v503 c1_i32_353 c2_i32_351
  let v505 : BitVec 32 := Scalar.remsi v502 v504
  let c0_i32_355 : BitVec 32 := 0#32
  let v507 : BitVec 1 := Scalar.cmpi .slt v505 c0_i32_355
  let c0_i32_356 : BitVec 32 := 0#32
  let v508 : BitVec 1 := Scalar.cmpi .slt v504 c0_i32_356
  let v509 : BitVec 1 := Scalar.xori v507 v508
  let c0_i32_354 : BitVec 32 := 0#32
  let v506 : BitVec 1 := Scalar.cmpi .ne v505 c0_i32_354
  let v510 : BitVec 1 := Scalar.andi v509 v506
  let v511 : BitVec 32 := Scalar.addi v505 v504
  let v512 : BitVec 32 := Scalar.select v510 v511 v505
  let v514 : BitVec 32 := Scalar.addi v513 v512
  let c0_i32_366 : BitVec 32 := 0#32
  let c0_i32_367 : BitVec 32 := 0#32
  ![v514.toNat, 0, 0]
def k0_off10_at (r : Fin 3) : BitVec 32 × BitVec 32 :=
  if r.val < 1 then
    (1#32, 0#32)
  else
    if r.val < 2 then
      (0#32, 1#32)
    else
      (1#32, 1#32)
def k0_off11 (d0 : Dev nD) (c1_i32_424 : BitVec 32) (c0_i32_431 : BitVec 32) : Fin 3 → Nat :=
  let c2_i32_438 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v599 : BitVec 32 := Scalar.addi v2 c1_i32_424
  let c2_i32_425 : BitVec 32 := 2#32
  let c0_i32_426 : BitVec 32 := 0#32
  let v600 : BitVec 1 := Scalar.cmpi .eq c2_i32_425 c0_i32_426
  let c1_i32_427 : BitVec 32 := 1#32
  let v601 : BitVec 32 := Scalar.select v600 c1_i32_427 c2_i32_425
  let v602 : BitVec 32 := Scalar.remsi v599 v601
  let c0_i32_429 : BitVec 32 := 0#32
  let v604 : BitVec 1 := Scalar.cmpi .slt v602 c0_i32_429
  let c0_i32_430 : BitVec 32 := 0#32
  let v605 : BitVec 1 := Scalar.cmpi .slt v601 c0_i32_430
  let v606 : BitVec 1 := Scalar.xori v604 v605
  let c0_i32_428 : BitVec 32 := 0#32
  let v603 : BitVec 1 := Scalar.cmpi .ne v602 c0_i32_428
  let v607 : BitVec 1 := Scalar.andi v606 v603
  let v608 : BitVec 32 := Scalar.addi v602 v601
  let v609 : BitVec 32 := Scalar.select v607 v608 v602
  let v621 : BitVec 32 := Scalar.muli c2_i32_438 v609
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v610 : BitVec 32 := Scalar.addi v5 c0_i32_431
  let c2_i32_432 : BitVec 32 := 2#32
  let c0_i32_433 : BitVec 32 := 0#32
  let v611 : BitVec 1 := Scalar.cmpi .eq c2_i32_432 c0_i32_433
  let c1_i32_434 : BitVec 32 := 1#32
  let v612 : BitVec 32 := Scalar.select v611 c1_i32_434 c2_i32_432
  let v613 : BitVec 32 := Scalar.remsi v610 v612
  let c0_i32_436 : BitVec 32 := 0#32
  let v615 : BitVec 1 := Scalar.cmpi .slt v613 c0_i32_436
  let c0_i32_437 : BitVec 32 := 0#32
  let v616 : BitVec 1 := Scalar.cmpi .slt v612 c0_i32_437
  let v617 : BitVec 1 := Scalar.xori v615 v616
  let c0_i32_435 : BitVec 32 := 0#32
  let v614 : BitVec 1 := Scalar.cmpi .ne v613 c0_i32_435
  let v618 : BitVec 1 := Scalar.andi v617 v614
  let v619 : BitVec 32 := Scalar.addi v613 v612
  let v620 : BitVec 32 := Scalar.select v618 v619 v613
  let v622 : BitVec 32 := Scalar.addi v621 v620
  let c0_i32_447 : BitVec 32 := 0#32
  let c0_i32_448 : BitVec 32 := 0#32
  ![v622.toNat, 0, 0]
def k0_off11_at (r : Fin 3) : BitVec 32 × BitVec 32 :=
  if r.val < 1 then
    (1#32, 0#32)
  else
    if r.val < 2 then
      (0#32, 1#32)
    else
      (1#32, 1#32)
def k0_off12 (d0 : Dev nD) (c1_i32_505 : BitVec 32) (c0_i32_512 : BitVec 32) : Fin 3 → Nat :=
  let c2_i32_519 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v707 : BitVec 32 := Scalar.addi v2 c1_i32_505
  let c2_i32_506 : BitVec 32 := 2#32
  let c0_i32_507 : BitVec 32 := 0#32
  let v708 : BitVec 1 := Scalar.cmpi .eq c2_i32_506 c0_i32_507
  let c1_i32_508 : BitVec 32 := 1#32
  let v709 : BitVec 32 := Scalar.select v708 c1_i32_508 c2_i32_506
  let v710 : BitVec 32 := Scalar.remsi v707 v709
  let c0_i32_510 : BitVec 32 := 0#32
  let v712 : BitVec 1 := Scalar.cmpi .slt v710 c0_i32_510
  let c0_i32_511 : BitVec 32 := 0#32
  let v713 : BitVec 1 := Scalar.cmpi .slt v709 c0_i32_511
  let v714 : BitVec 1 := Scalar.xori v712 v713
  let c0_i32_509 : BitVec 32 := 0#32
  let v711 : BitVec 1 := Scalar.cmpi .ne v710 c0_i32_509
  let v715 : BitVec 1 := Scalar.andi v714 v711
  let v716 : BitVec 32 := Scalar.addi v710 v709
  let v717 : BitVec 32 := Scalar.select v715 v716 v710
  let v729 : BitVec 32 := Scalar.muli c2_i32_519 v717
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v718 : BitVec 32 := Scalar.addi v5 c0_i32_512
  let c2_i32_513 : BitVec 32 := 2#32
  let c0_i32_514 : BitVec 32 := 0#32
  let v719 : BitVec 1 := Scalar.cmpi .eq c2_i32_513 c0_i32_514
  let c1_i32_515 : BitVec 32 := 1#32
  let v720 : BitVec 32 := Scalar.select v719 c1_i32_515 c2_i32_513
  let v721 : BitVec 32 := Scalar.remsi v718 v720
  let c0_i32_517 : BitVec 32 := 0#32
  let v723 : BitVec 1 := Scalar.cmpi .slt v721 c0_i32_517
  let c0_i32_518 : BitVec 32 := 0#32
  let v724 : BitVec 1 := Scalar.cmpi .slt v720 c0_i32_518
  let v725 : BitVec 1 := Scalar.xori v723 v724
  let c0_i32_516 : BitVec 32 := 0#32
  let v722 : BitVec 1 := Scalar.cmpi .ne v721 c0_i32_516
  let v726 : BitVec 1 := Scalar.andi v725 v722
  let v727 : BitVec 32 := Scalar.addi v721 v720
  let v728 : BitVec 32 := Scalar.select v726 v727 v721
  let v730 : BitVec 32 := Scalar.addi v729 v728
  let c0_i32_528 : BitVec 32 := 0#32
  let c0_i32_529 : BitVec 32 := 0#32
  ![v730.toNat, 0, 0]
def k0_off12_at (r : Fin 3) : BitVec 32 × BitVec 32 :=
  if r.val < 1 then
    (1#32, 0#32)
  else
    if r.val < 2 then
      (0#32, 1#32)
    else
      (1#32, 1#32)
-- ==== ChipScatterRef.lean ====
abbrev S8192x5632 : Shape := ⟨2, ![8192, 5632]⟩
abbrev S8192x2048 : Shape := ⟨2, ![8192, 2048]⟩
abbrev S8192x6144 : Shape := ⟨2, ![8192, 6144]⟩
abbrev S4x2x1024x4x1408 : Shape := ⟨5, ![4, 2, 1024, 4, 1408]⟩
abbrev S4x2x4x1024x1408 : Shape := ⟨5, ![4, 2, 4, 1024, 1408]⟩
abbrev S32x1024x1408 : Shape := ⟨3, ![32, 1024, 1408]⟩
abbrev S4x2x4x256x2048 : Shape := ⟨5, ![4, 2, 4, 256, 2048]⟩
abbrev S32x256x2048 : Shape := ⟨3, ![32, 256, 2048]⟩
abbrev S4x2x1024x4x1536 : Shape := ⟨5, ![4, 2, 1024, 4, 1536]⟩
abbrev S4x2x4x1024x1536 : Shape := ⟨5, ![4, 2, 4, 1024, 1536]⟩
abbrev S32x1024x1536 : Shape := ⟨3, ![32, 1024, 1536]⟩

abbrev nBuf : Space → Nat
  | .hbm => 16
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S8192x2048, .f32⟩
  | .hbm, ⟨2, _⟩ => ⟨S8192x6144, .f32⟩
  | .hbm, ⟨3, _⟩ => ⟨S8192x2048, .f32⟩
  | .hbm, ⟨4, _⟩ => ⟨S4x2x1024x4x1408, .f32⟩
  | .hbm, ⟨5, _⟩ => ⟨S4x2x4x1024x1408, .f32⟩
  | .hbm, ⟨6, _⟩ => ⟨S32x1024x1408, .f32⟩
  | .hbm, ⟨7, _⟩ => ⟨S4x2x4x256x2048, .f32⟩
  | .hbm, ⟨8, _⟩ => ⟨S4x2x4x256x2048, .f32⟩
  | .hbm, ⟨9, _⟩ => ⟨S32x256x2048, .f32⟩
  | .hbm, ⟨10, _⟩ => ⟨S4x2x1024x4x1536, .f32⟩
  | .hbm, ⟨11, _⟩ => ⟨S4x2x4x1024x1536, .f32⟩
  | .hbm, ⟨12, _⟩ => ⟨S32x1024x1536, .f32⟩
  | .hbm, ⟨13, _⟩ => ⟨S4x2x4x256x2048, .f32⟩
  | .hbm, ⟨14, _⟩ => ⟨S4x2x4x256x2048, .f32⟩
  | .hbm, ⟨15, _⟩ => ⟨S32x256x2048, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩

abbrev nD : Nat := 1
abbrev τ : Topo := Topo.v7x

variable {F : FTy → Type} [FloatOps F]
-- ==== GatherWeights.lean ====
abbrev S2048x1408 : Shape := ⟨2, ![2048, 1408]⟩
abbrev S512x2048 : Shape := ⟨2, ![512, 2048]⟩
abbrev S2048x1536 : Shape := ⟨2, ![2048, 1536]⟩
abbrev S2048x5632 : Shape := ⟨2, ![2048, 5632]⟩
abbrev S2048x2048 : Shape := ⟨2, ![2048, 2048]⟩
abbrev S2048x6144 : Shape := ⟨2, ![2048, 6144]⟩
abbrev S4x6 : Shape := ⟨2, ![4, 6]⟩
abbrev S4 : Shape := ⟨1, ![4]⟩
abbrev S1 : Shape := ⟨1, ![1]⟩
abbrev S_ : Shape := ⟨0, ![]⟩
abbrev S1x1 : Shape := ⟨2, ![1, 1]⟩
abbrev S1024x1408 : Shape := ⟨2, ![1024, 1408]⟩
abbrev S256x2048 : Shape := ⟨2, ![256, 2048]⟩
abbrev S1024x1536 : Shape := ⟨2, ![1024, 1536]⟩

abbrev nBuf : Space → Nat
  | .hbm => 8
  | .vmem => 0
  | .smem => 0
  | _ => 0

abbrev bufTy : (tb : Table) → Fin (tcTables nBuf tb) → BufTy
  | .hbm, ⟨0, _⟩ => ⟨S2048x1408, .bf16⟩
  | .hbm, ⟨1, _⟩ => ⟨S512x2048, .bf16⟩
  | .hbm, ⟨2, _⟩ => ⟨S2048x1536, .bf16⟩
  | .hbm, ⟨3, _⟩ => ⟨S512x2048, .bf16⟩
  | .hbm, ⟨4, _⟩ => ⟨S2048x5632, .bf16⟩
  | .hbm, ⟨5, _⟩ => ⟨S2048x2048, .bf16⟩
  | .hbm, ⟨6, _⟩ => ⟨S2048x6144, .bf16⟩
  | .hbm, ⟨7, _⟩ => ⟨S2048x2048, .bf16⟩
  | _, _ => ⟨S2048x1408, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 2 → Nat :=
  let c0_i32_5 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1408_i32 : BitVec 32 := 1408#32
  let v12 : BitVec 32 := Scalar.muli v10 c1408_i32
  ![0, v12.toNat]
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_20 : BitVec 32 := 1024#32
  let v39 : BitVec 32 := Scalar.muli v8 c1024_i32_20
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1408_i32_21 : BitVec 32 := 1408#32
  let v40 : BitVec 32 := Scalar.muli v10 c1408_i32_21
  ![v39.toNat, v40.toNat]
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v38 : BitVec 32 := Scalar.muli v8 c1024_i32
  let c0_i32_30 : BitVec 32 := 0#32
  ![v38.toNat, 0]
def k0_dev1 (d0 : Dev nD) : Nat :=
  let c0_i32_27 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_6 : BitVec 32 := 1#32
  let v16 : BitVec 32 := Scalar.addi v2 c1_i32_6
  let c2_i32_7 : BitVec 32 := 2#32
  let c0_i32_8 : BitVec 32 := 0#32
  let v17 : BitVec 1 := Scalar.cmpi .eq c2_i32_7 c0_i32_8
  let c1_i32_9 : BitVec 32 := 1#32
  let v18 : BitVec 32 := Scalar.select v17 c1_i32_9 c2_i32_7
  let v19 : BitVec 32 := Scalar.remsi v16 v18
  let c0_i32_11 : BitVec 32 := 0#32
  let v21 : BitVec 1 := Scalar.cmpi .slt v19 c0_i32_11
  let c0_i32_12 : BitVec 32 := 0#32
  let v22 : BitVec 1 := Scalar.cmpi .slt v18 c0_i32_12
  let v23 : BitVec 1 := Scalar.xori v21 v22
  let c0_i32_10 : BitVec 32 := 0#32
  let v20 : BitVec 1 := Scalar.cmpi .ne v19 c0_i32_10
  let v24 : BitVec 1 := Scalar.andi v23 v20
  let v25 : BitVec 32 := Scalar.addi v19 v18
  let v26 : BitVec 32 := Scalar.select v24 v25 v19
  let c4_i32_26 : BitVec 32 := 4#32
  let v41 : BitVec 32 := Scalar.muli v26 c4_i32_26
  let v42 : BitVec 32 := Scalar.addi c0_i32_27 v41
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_13 : BitVec 32 := 0#32
  let v27 : BitVec 32 := Scalar.addi v5 c0_i32_13
  let c2_i32_14 : BitVec 32 := 2#32
  let c0_i32_15 : BitVec 32 := 0#32
  let v28 : BitVec 1 := Scalar.cmpi .eq c2_i32_14 c0_i32_15
  let c1_i32_16 : BitVec 32 := 1#32
  let v29 : BitVec 32 := Scalar.select v28 c1_i32_16 c2_i32_14
  let v30 : BitVec 32 := Scalar.remsi v27 v29
  let c0_i32_18 : BitVec 32 := 0#32
  let v32 : BitVec 1 := Scalar.cmpi .slt v30 c0_i32_18
  let c0_i32_19 : BitVec 32 := 0#32
  let v33 : BitVec 1 := Scalar.cmpi .slt v29 c0_i32_19
  let v34 : BitVec 1 := Scalar.xori v32 v33
  let c0_i32_17 : BitVec 32 := 0#32
  let v31 : BitVec 1 := Scalar.cmpi .ne v30 c0_i32_17
  let v35 : BitVec 1 := Scalar.andi v34 v31
  let v36 : BitVec 32 := Scalar.addi v30 v29
  let v37 : BitVec 32 := Scalar.select v35 v36 v30
  let c2_i32_28 : BitVec 32 := 2#32
  let v43 : BitVec 32 := Scalar.muli v37 c2_i32_28
  let v44 : BitVec 32 := Scalar.addi v42 v43
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_29 : BitVec 32 := 1#32
  let v45 : BitVec 32 := Scalar.muli v8 c1_i32_29
  let v46 : BitVec 32 := Scalar.addi v44 v45
  v46.toNat
def k0_dev2 (d0 : Dev nD) : Nat :=
  let c0_i32_53 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_31 : BitVec 32 := 0#32
  let v53 : BitVec 32 := Scalar.addi v2 c0_i32_31
  let c2_i32_32 : BitVec 32 := 2#32
  let c0_i32_33 : BitVec 32 := 0#32
  let v54 : BitVec 1 := Scalar.cmpi .eq c2_i32_32 c0_i32_33
  let c1_i32_34 : BitVec 32 := 1#32
  let v55 : BitVec 32 := Scalar.select v54 c1_i32_34 c2_i32_32
  let v56 : BitVec 32 := Scalar.remsi v53 v55
  let c0_i32_36 : BitVec 32 := 0#32
  let v58 : BitVec 1 := Scalar.cmpi .slt v56 c0_i32_36
  let c0_i32_37 : BitVec 32 := 0#32
  let v59 : BitVec 1 := Scalar.cmpi .slt v55 c0_i32_37
  let v60 : BitVec 1 := Scalar.xori v58 v59
  let c0_i32_35 : BitVec 32 := 0#32
  let v57 : BitVec 1 := Scalar.cmpi .ne v56 c0_i32_35
  let v61 : BitVec 1 := Scalar.andi v60 v57
  let v62 : BitVec 32 := Scalar.addi v56 v55
  let v63 : BitVec 32 := Scalar.select v61 v62 v56
  let c4_i32_52 : BitVec 32 := 4#32
  let v78 : BitVec 32 := Scalar.muli v63 c4_i32_52
  let v79 : BitVec 32 := Scalar.addi c0_i32_53 v78
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_38 : BitVec 32 := 1#32
  let v64 : BitVec 32 := Scalar.addi v5 c1_i32_38
  let c2_i32_39 : BitVec 32 := 2#32
  let c0_i32_40 : BitVec 32 := 0#32
  let v65 : BitVec 1 := Scalar.cmpi .eq c2_i32_39 c0_i32_40
  let c1_i32_41 : BitVec 32 := 1#32
  let v66 : BitVec 32 := Scalar.select v65 c1_i32_41 c2_i32_39
  let v67 : BitVec 32 := Scalar.remsi v64 v66
  let c0_i32_43 : BitVec 32 := 0#32
  let v69 : BitVec 1 := Scalar.cmpi .slt v67 c0_i32_43
  let c0_i32_44 : BitVec 32 := 0#32
  let v70 : BitVec 1 := Scalar.cmpi .slt v66 c0_i32_44
  let v71 : BitVec 1 := Scalar.xori v69 v70
  let c0_i32_42 : BitVec 32 := 0#32
  let v68 : BitVec 1 := Scalar.cmpi .ne v67 c0_i32_42
  let v72 : BitVec 1 := Scalar.andi v71 v68
  let v73 : BitVec 32 := Scalar.addi v67 v66
  let v74 : BitVec 32 := Scalar.select v72 v73 v67
  let c2_i32_54 : BitVec 32 := 2#32
  let v80 : BitVec 32 := Scalar.muli v74 c2_i32_54
  let v81 : BitVec 32 := Scalar.addi v79 v80
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_55 : BitVec 32 := 1#32
  let v82 : BitVec 32 := Scalar.muli v8 c1_i32_55
  let v83 : BitVec 32 := Scalar.addi v81 v82
  v83.toNat
def k0_dev3 (d0 : Dev nD) : Nat :=
  let c0_i32_79 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_57 : BitVec 32 := 1#32
  let v90 : BitVec 32 := Scalar.addi v2 c1_i32_57
  let c2_i32_58 : BitVec 32 := 2#32
  let c0_i32_59 : BitVec 32 := 0#32
  let v91 : BitVec 1 := Scalar.cmpi .eq c2_i32_58 c0_i32_59
  let c1_i32_60 : BitVec 32 := 1#32
  let v92 : BitVec 32 := Scalar.select v91 c1_i32_60 c2_i32_58
  let v93 : BitVec 32 := Scalar.remsi v90 v92
  let c0_i32_62 : BitVec 32 := 0#32
  let v95 : BitVec 1 := Scalar.cmpi .slt v93 c0_i32_62
  let c0_i32_63 : BitVec 32 := 0#32
  let v96 : BitVec 1 := Scalar.cmpi .slt v92 c0_i32_63
  let v97 : BitVec 1 := Scalar.xori v95 v96
  let c0_i32_61 : BitVec 32 := 0#32
  let v94 : BitVec 1 := Scalar.cmpi .ne v93 c0_i32_61
  let v98 : BitVec 1 := Scalar.andi v97 v94
  let v99 : BitVec 32 := Scalar.addi v93 v92
  let v100 : BitVec 32 := Scalar.select v98 v99 v93
  let c4_i32_78 : BitVec 32 := 4#32
  let v115 : BitVec 32 := Scalar.muli v100 c4_i32_78
  let v116 : BitVec 32 := Scalar.addi c0_i32_79 v115
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_64 : BitVec 32 := 1#32
  let v101 : BitVec 32 := Scalar.addi v5 c1_i32_64
  let c2_i32_65 : BitVec 32 := 2#32
  let c0_i32_66 : BitVec 32 := 0#32
  let v102 : BitVec 1 := Scalar.cmpi .eq c2_i32_65 c0_i32_66
  let c1_i32_67 : BitVec 32 := 1#32
  let v103 : BitVec 32 := Scalar.select v102 c1_i32_67 c2_i32_65
  let v104 : BitVec 32 := Scalar.remsi v101 v103
  let c0_i32_69 : BitVec 32 := 0#32
  let v106 : BitVec 1 := Scalar.cmpi .slt v104 c0_i32_69
  let c0_i32_70 : BitVec 32 := 0#32
  let v107 : BitVec 1 := Scalar.cmpi .slt v103 c0_i32_70
  let v108 : BitVec 1 := Scalar.xori v106 v107
  let c0_i32_68 : BitVec 32 := 0#32
  let v105 : BitVec 1 := Scalar.cmpi .ne v104 c0_i32_68
  let v109 : BitVec 1 := Scalar.andi v108 v105
  let v110 : BitVec 32 := Scalar.addi v104 v103
  let v111 : BitVec 32 := Scalar.select v109 v110 v104
  let c2_i32_80 : BitVec 32 := 2#32
  let v117 : BitVec 32 := Scalar.muli v111 c2_i32_80
  let v118 : BitVec 32 := Scalar.addi v116 v117
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_81 : BitVec 32 := 1#32
  let v119 : BitVec 32 := Scalar.muli v8 c1_i32_81
  let v120 : BitVec 32 := Scalar.addi v118 v119
  v120.toNat
def k0_off4 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32 : BitVec 32 := 512#32
  let v127 : BitVec 32 := Scalar.muli v10 c512_i32
  let c0_i32_84 : BitVec 32 := 0#32
  ![v127.toNat, 0]
def k0_off5 (d0 : Dev nD) : Fin 2 → Nat :=
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c512_i32_99 : BitVec 32 := 512#32
  let v154 : BitVec 32 := Scalar.muli v10 c512_i32_99
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_100 : BitVec 32 := 256#32
  let v155 : BitVec 32 := Scalar.muli v8 c256_i32_100
  let v156 : BitVec 32 := Scalar.addi v154 v155
  let c0_i32_109 : BitVec 32 := 0#32
  ![v156.toNat, 0]
def k0_off6 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v153 : BitVec 32 := Scalar.muli v8 c256_i32
  let c0_i32_110 : BitVec 32 := 0#32
  ![v153.toNat, 0]
def k0_dev4 (d0 : Dev nD) : Nat :=
  let c0_i32_106 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_85 : BitVec 32 := 1#32
  let v131 : BitVec 32 := Scalar.addi v2 c1_i32_85
  let c2_i32_86 : BitVec 32 := 2#32
  let c0_i32_87 : BitVec 32 := 0#32
  let v132 : BitVec 1 := Scalar.cmpi .eq c2_i32_86 c0_i32_87
  let c1_i32_88 : BitVec 32 := 1#32
  let v133 : BitVec 32 := Scalar.select v132 c1_i32_88 c2_i32_86
  let v134 : BitVec 32 := Scalar.remsi v131 v133
  let c0_i32_90 : BitVec 32 := 0#32
  let v136 : BitVec 1 := Scalar.cmpi .slt v134 c0_i32_90
  let c0_i32_91 : BitVec 32 := 0#32
  let v137 : BitVec 1 := Scalar.cmpi .slt v133 c0_i32_91
  let v138 : BitVec 1 := Scalar.xori v136 v137
  let c0_i32_89 : BitVec 32 := 0#32
  let v135 : BitVec 1 := Scalar.cmpi .ne v134 c0_i32_89
  let v139 : BitVec 1 := Scalar.andi v138 v135
  let v140 : BitVec 32 := Scalar.addi v134 v133
  let v141 : BitVec 32 := Scalar.select v139 v140 v134
  let c4_i32_105 : BitVec 32 := 4#32
  let v157 : BitVec 32 := Scalar.muli v141 c4_i32_105
  let v158 : BitVec 32 := Scalar.addi c0_i32_106 v157
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_92 : BitVec 32 := 0#32
  let v142 : BitVec 32 := Scalar.addi v5 c0_i32_92
  let c2_i32_93 : BitVec 32 := 2#32
  let c0_i32_94 : BitVec 32 := 0#32
  let v143 : BitVec 1 := Scalar.cmpi .eq c2_i32_93 c0_i32_94
  let c1_i32_95 : BitVec 32 := 1#32
  let v144 : BitVec 32 := Scalar.select v143 c1_i32_95 c2_i32_93
  let v145 : BitVec 32 := Scalar.remsi v142 v144
  let c0_i32_97 : BitVec 32 := 0#32
  let v147 : BitVec 1 := Scalar.cmpi .slt v145 c0_i32_97
  let c0_i32_98 : BitVec 32 := 0#32
  let v148 : BitVec 1 := Scalar.cmpi .slt v144 c0_i32_98
  let v149 : BitVec 1 := Scalar.xori v147 v148
  let c0_i32_96 : BitVec 32 := 0#32
  let v146 : BitVec 1 := Scalar.cmpi .ne v145 c0_i32_96
  let v150 : BitVec 1 := Scalar.andi v149 v146
  let v151 : BitVec 32 := Scalar.addi v145 v144
  let v152 : BitVec 32 := Scalar.select v150 v151 v145
  let c2_i32_107 : BitVec 32 := 2#32
  let v159 : BitVec 32 := Scalar.muli v152 c2_i32_107
  let v160 : BitVec 32 := Scalar.addi v158 v159
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_108 : BitVec 32 := 1#32
  let v161 : BitVec 32 := Scalar.muli v8 c1_i32_108
  let v162 : BitVec 32 := Scalar.addi v160 v161
  v162.toNat
def k0_dev5 (d0 : Dev nD) : Nat :=
  let c0_i32_133 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_111 : BitVec 32 := 0#32
  let v169 : BitVec 32 := Scalar.addi v2 c0_i32_111
  let c2_i32_112 : BitVec 32 := 2#32
  let c0_i32_113 : BitVec 32 := 0#32
  let v170 : BitVec 1 := Scalar.cmpi .eq c2_i32_112 c0_i32_113
  let c1_i32_114 : BitVec 32 := 1#32
  let v171 : BitVec 32 := Scalar.select v170 c1_i32_114 c2_i32_112
  let v172 : BitVec 32 := Scalar.remsi v169 v171
  let c0_i32_116 : BitVec 32 := 0#32
  let v174 : BitVec 1 := Scalar.cmpi .slt v172 c0_i32_116
  let c0_i32_117 : BitVec 32 := 0#32
  let v175 : BitVec 1 := Scalar.cmpi .slt v171 c0_i32_117
  let v176 : BitVec 1 := Scalar.xori v174 v175
  let c0_i32_115 : BitVec 32 := 0#32
  let v173 : BitVec 1 := Scalar.cmpi .ne v172 c0_i32_115
  let v177 : BitVec 1 := Scalar.andi v176 v173
  let v178 : BitVec 32 := Scalar.addi v172 v171
  let v179 : BitVec 32 := Scalar.select v177 v178 v172
  let c4_i32_132 : BitVec 32 := 4#32
  let v195 : BitVec 32 := Scalar.muli v179 c4_i32_132
  let v196 : BitVec 32 := Scalar.addi c0_i32_133 v195
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_118 : BitVec 32 := 1#32
  let v180 : BitVec 32 := Scalar.addi v5 c1_i32_118
  let c2_i32_119 : BitVec 32 := 2#32
  let c0_i32_120 : BitVec 32 := 0#32
  let v181 : BitVec 1 := Scalar.cmpi .eq c2_i32_119 c0_i32_120
  let c1_i32_121 : BitVec 32 := 1#32
  let v182 : BitVec 32 := Scalar.select v181 c1_i32_121 c2_i32_119
  let v183 : BitVec 32 := Scalar.remsi v180 v182
  let c0_i32_123 : BitVec 32 := 0#32
  let v185 : BitVec 1 := Scalar.cmpi .slt v183 c0_i32_123
  let c0_i32_124 : BitVec 32 := 0#32
  let v186 : BitVec 1 := Scalar.cmpi .slt v182 c0_i32_124
  let v187 : BitVec 1 := Scalar.xori v185 v186
  let c0_i32_122 : BitVec 32 := 0#32
  let v184 : BitVec 1 := Scalar.cmpi .ne v183 c0_i32_122
  let v188 : BitVec 1 := Scalar.andi v187 v184
  let v189 : BitVec 32 := Scalar.addi v183 v182
  let v190 : BitVec 32 := Scalar.select v188 v189 v183
  let c2_i32_134 : BitVec 32 := 2#32
  let v197 : BitVec 32 := Scalar.muli v190 c2_i32_134
  let v198 : BitVec 32 := Scalar.addi v196 v197
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_135 : BitVec 32 := 1#32
  let v199 : BitVec 32 := Scalar.muli v8 c1_i32_135
  let v200 : BitVec 32 := Scalar.addi v198 v199
  v200.toNat
def k0_dev6 (d0 : Dev nD) : Nat :=
  let c0_i32_160 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_138 : BitVec 32 := 1#32
  let v207 : BitVec 32 := Scalar.addi v2 c1_i32_138
  let c2_i32_139 : BitVec 32 := 2#32
  let c0_i32_140 : BitVec 32 := 0#32
  let v208 : BitVec 1 := Scalar.cmpi .eq c2_i32_139 c0_i32_140
  let c1_i32_141 : BitVec 32 := 1#32
  let v209 : BitVec 32 := Scalar.select v208 c1_i32_141 c2_i32_139
  let v210 : BitVec 32 := Scalar.remsi v207 v209
  let c0_i32_143 : BitVec 32 := 0#32
  let v212 : BitVec 1 := Scalar.cmpi .slt v210 c0_i32_143
  let c0_i32_144 : BitVec 32 := 0#32
  let v213 : BitVec 1 := Scalar.cmpi .slt v209 c0_i32_144
  let v214 : BitVec 1 := Scalar.xori v212 v213
  let c0_i32_142 : BitVec 32 := 0#32
  let v211 : BitVec 1 := Scalar.cmpi .ne v210 c0_i32_142
  let v215 : BitVec 1 := Scalar.andi v214 v211
  let v216 : BitVec 32 := Scalar.addi v210 v209
  let v217 : BitVec 32 := Scalar.select v215 v216 v210
  let c4_i32_159 : BitVec 32 := 4#32
  let v233 : BitVec 32 := Scalar.muli v217 c4_i32_159
  let v234 : BitVec 32 := Scalar.addi c0_i32_160 v233
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_145 : BitVec 32 := 1#32
  let v218 : BitVec 32 := Scalar.addi v5 c1_i32_145
  let c2_i32_146 : BitVec 32 := 2#32
  let c0_i32_147 : BitVec 32 := 0#32
  let v219 : BitVec 1 := Scalar.cmpi .eq c2_i32_146 c0_i32_147
  let c1_i32_148 : BitVec 32 := 1#32
  let v220 : BitVec 32 := Scalar.select v219 c1_i32_148 c2_i32_146
  let v221 : BitVec 32 := Scalar.remsi v218 v220
  let c0_i32_150 : BitVec 32 := 0#32
  let v223 : BitVec 1 := Scalar.cmpi .slt v221 c0_i32_150
  let c0_i32_151 : BitVec 32 := 0#32
  let v224 : BitVec 1 := Scalar.cmpi .slt v220 c0_i32_151
  let v225 : BitVec 1 := Scalar.xori v223 v224
  let c0_i32_149 : BitVec 32 := 0#32
  let v222 : BitVec 1 := Scalar.cmpi .ne v221 c0_i32_149
  let v226 : BitVec 1 := Scalar.andi v225 v222
  let v227 : BitVec 32 := Scalar.addi v221 v220
  let v228 : BitVec 32 := Scalar.select v226 v227 v221
  let c2_i32_161 : BitVec 32 := 2#32
  let v235 : BitVec 32 := Scalar.muli v228 c2_i32_161
  let v236 : BitVec 32 := Scalar.addi v234 v235
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_162 : BitVec 32 := 1#32
  let v237 : BitVec 32 := Scalar.muli v8 c1_i32_162
  let v238 : BitVec 32 := Scalar.addi v236 v237
  v238.toNat
def k0_off7 (d0 : Dev nD) : Fin 2 → Nat :=
  let c0_i32_166 : BitVec 32 := 0#32
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1536_i32 : BitVec 32 := 1536#32
  let v245 : BitVec 32 := Scalar.muli v10 c1536_i32
  ![0, v245.toNat]
def k0_off8 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_182 : BitVec 32 := 1024#32
  let v272 : BitVec 32 := Scalar.muli v8 c1024_i32_182
  let c2_i32_3 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v9 : BitVec 32 := Scalar.muli c2_i32_3 v2
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v10 : BitVec 32 := Scalar.addi v9 v5
  let c1536_i32_183 : BitVec 32 := 1536#32
  let v273 : BitVec 32 := Scalar.muli v10 c1536_i32_183
  ![v272.toNat, v273.toNat]
def k0_off9 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_181 : BitVec 32 := 1024#32
  let v271 : BitVec 32 := Scalar.muli v8 c1024_i32_181
  let c0_i32_192 : BitVec 32 := 0#32
  ![v271.toNat, 0]
def k0_dev7 (d0 : Dev nD) : Nat :=
  let c0_i32_189 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_167 : BitVec 32 := 1#32
  let v249 : BitVec 32 := Scalar.addi v2 c1_i32_167
  let c2_i32_168 : BitVec 32 := 2#32
  let c0_i32_169 : BitVec 32 := 0#32
  let v250 : BitVec 1 := Scalar.cmpi .eq c2_i32_168 c0_i32_169
  let c1_i32_170 : BitVec 32 := 1#32
  let v251 : BitVec 32 := Scalar.select v250 c1_i32_170 c2_i32_168
  let v252 : BitVec 32 := Scalar.remsi v249 v251
  let c0_i32_172 : BitVec 32 := 0#32
  let v254 : BitVec 1 := Scalar.cmpi .slt v252 c0_i32_172
  let c0_i32_173 : BitVec 32 := 0#32
  let v255 : BitVec 1 := Scalar.cmpi .slt v251 c0_i32_173
  let v256 : BitVec 1 := Scalar.xori v254 v255
  let c0_i32_171 : BitVec 32 := 0#32
  let v253 : BitVec 1 := Scalar.cmpi .ne v252 c0_i32_171
  let v257 : BitVec 1 := Scalar.andi v256 v253
  let v258 : BitVec 32 := Scalar.addi v252 v251
  let v259 : BitVec 32 := Scalar.select v257 v258 v252
  let c4_i32_188 : BitVec 32 := 4#32
  let v274 : BitVec 32 := Scalar.muli v259 c4_i32_188
  let v275 : BitVec 32 := Scalar.addi c0_i32_189 v274
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_174 : BitVec 32 := 0#32
  let v260 : BitVec 32 := Scalar.addi v5 c0_i32_174
  let c2_i32_175 : BitVec 32 := 2#32
  let c0_i32_176 : BitVec 32 := 0#32
  let v261 : BitVec 1 := Scalar.cmpi .eq c2_i32_175 c0_i32_176
  let c1_i32_177 : BitVec 32 := 1#32
  let v262 : BitVec 32 := Scalar.select v261 c1_i32_177 c2_i32_175
  let v263 : BitVec 32 := Scalar.remsi v260 v262
  let c0_i32_179 : BitVec 32 := 0#32
  let v265 : BitVec 1 := Scalar.cmpi .slt v263 c0_i32_179
  let c0_i32_180 : BitVec 32 := 0#32
  let v266 : BitVec 1 := Scalar.cmpi .slt v262 c0_i32_180
  let v267 : BitVec 1 := Scalar.xori v265 v266
  let c0_i32_178 : BitVec 32 := 0#32
  let v264 : BitVec 1 := Scalar.cmpi .ne v263 c0_i32_178
  let v268 : BitVec 1 := Scalar.andi v267 v264
  let v269 : BitVec 32 := Scalar.addi v263 v262
  let v270 : BitVec 32 := Scalar.select v268 v269 v263
  let c2_i32_190 : BitVec 32 := 2#32
  let v276 : BitVec 32 := Scalar.muli v270 c2_i32_190
  let v277 : BitVec 32 := Scalar.addi v275 v276
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_191 : BitVec 32 := 1#32
  let v278 : BitVec 32 := Scalar.muli v8 c1_i32_191
  let v279 : BitVec 32 := Scalar.addi v277 v278
  v279.toNat
def k0_dev8 (d0 : Dev nD) : Nat :=
  let c0_i32_215 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_193 : BitVec 32 := 0#32
  let v286 : BitVec 32 := Scalar.addi v2 c0_i32_193
  let c2_i32_194 : BitVec 32 := 2#32
  let c0_i32_195 : BitVec 32 := 0#32
  let v287 : BitVec 1 := Scalar.cmpi .eq c2_i32_194 c0_i32_195
  let c1_i32_196 : BitVec 32 := 1#32
  let v288 : BitVec 32 := Scalar.select v287 c1_i32_196 c2_i32_194
  let v289 : BitVec 32 := Scalar.remsi v286 v288
  let c0_i32_198 : BitVec 32 := 0#32
  let v291 : BitVec 1 := Scalar.cmpi .slt v289 c0_i32_198
  let c0_i32_199 : BitVec 32 := 0#32
  let v292 : BitVec 1 := Scalar.cmpi .slt v288 c0_i32_199
  let v293 : BitVec 1 := Scalar.xori v291 v292
  let c0_i32_197 : BitVec 32 := 0#32
  let v290 : BitVec 1 := Scalar.cmpi .ne v289 c0_i32_197
  let v294 : BitVec 1 := Scalar.andi v293 v290
  let v295 : BitVec 32 := Scalar.addi v289 v288
  let v296 : BitVec 32 := Scalar.select v294 v295 v289
  let c4_i32_214 : BitVec 32 := 4#32
  let v311 : BitVec 32 := Scalar.muli v296 c4_i32_214
  let v312 : BitVec 32 := Scalar.addi c0_i32_215 v311
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_200 : BitVec 32 := 1#32
  let v297 : BitVec 32 := Scalar.addi v5 c1_i32_200
  let c2_i32_201 : BitVec 32 := 2#32
  let c0_i32_202 : BitVec 32 := 0#32
  let v298 : BitVec 1 := Scalar.cmpi .eq c2_i32_201 c0_i32_202
  let c1_i32_203 : BitVec 32 := 1#32
  let v299 : BitVec 32 := Scalar.select v298 c1_i32_203 c2_i32_201
  let v300 : BitVec 32 := Scalar.remsi v297 v299
  let c0_i32_205 : BitVec 32 := 0#32
  let v302 : BitVec 1 := Scalar.cmpi .slt v300 c0_i32_205
  let c0_i32_206 : BitVec 32 := 0#32
  let v303 : BitVec 1 := Scalar.cmpi .slt v299 c0_i32_206
  let v304 : BitVec 1 := Scalar.xori v302 v303
  let c0_i32_204 : BitVec 32 := 0#32
  let v301 : BitVec 1 := Scalar.cmpi .ne v300 c0_i32_204
  let v305 : BitVec 1 := Scalar.andi v304 v301
  let v306 : BitVec 32 := Scalar.addi v300 v299
  let v307 : BitVec 32 := Scalar.select v305 v306 v300
  let c2_i32_216 : BitVec 32 := 2#32
  let v313 : BitVec 32 := Scalar.muli v307 c2_i32_216
  let v314 : BitVec 32 := Scalar.addi v312 v313
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_217 : BitVec 32 := 1#32
  let v315 : BitVec 32 := Scalar.muli v8 c1_i32_217
  let v316 : BitVec 32 := Scalar.addi v314 v315
  v316.toNat
def k0_dev9 (d0 : Dev nD) : Nat :=
  let c0_i32_241 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_219 : BitVec 32 := 1#32
  let v323 : BitVec 32 := Scalar.addi v2 c1_i32_219
  let c2_i32_220 : BitVec 32 := 2#32
  let c0_i32_221 : BitVec 32 := 0#32
  let v324 : BitVec 1 := Scalar.cmpi .eq c2_i32_220 c0_i32_221
  let c1_i32_222 : BitVec 32 := 1#32
  let v325 : BitVec 32 := Scalar.select v324 c1_i32_222 c2_i32_220
  let v326 : BitVec 32 := Scalar.remsi v323 v325
  let c0_i32_224 : BitVec 32 := 0#32
  let v328 : BitVec 1 := Scalar.cmpi .slt v326 c0_i32_224
  let c0_i32_225 : BitVec 32 := 0#32
  let v329 : BitVec 1 := Scalar.cmpi .slt v325 c0_i32_225
  let v330 : BitVec 1 := Scalar.xori v328 v329
  let c0_i32_223 : BitVec 32 := 0#32
  let v327 : BitVec 1 := Scalar.cmpi .ne v326 c0_i32_223
  let v331 : BitVec 1 := Scalar.andi v330 v327
  let v332 : BitVec 32 := Scalar.addi v326 v325
  let v333 : BitVec 32 := Scalar.select v331 v332 v326
  let c4_i32_240 : BitVec 32 := 4#32
  let v348 : BitVec 32 := Scalar.muli v333 c4_i32_240
  let v349 : BitVec 32 := Scalar.addi c0_i32_241 v348
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_226 : BitVec 32 := 1#32
  let v334 : BitVec 32 := Scalar.addi v5 c1_i32_226
  let c2_i32_227 : BitVec 32 := 2#32
  let c0_i32_228 : BitVec 32 := 0#32
  let v335 : BitVec 1 := Scalar.cmpi .eq c2_i32_227 c0_i32_228
  let c1_i32_229 : BitVec 32 := 1#32
  let v336 : BitVec 32 := Scalar.select v335 c1_i32_229 c2_i32_227
  let v337 : BitVec 32 := Scalar.remsi v334 v336
  let c0_i32_231 : BitVec 32 := 0#32
  let v339 : BitVec 1 := Scalar.cmpi .slt v337 c0_i32_231
  let c0_i32_232 : BitVec 32 := 0#32
  let v340 : BitVec 1 := Scalar.cmpi .slt v336 c0_i32_232
  let v341 : BitVec 1 := Scalar.xori v339 v340
  let c0_i32_230 : BitVec 32 := 0#32
  let v338 : BitVec 1 := Scalar.cmpi .ne v337 c0_i32_230
  let v342 : BitVec 1 := Scalar.andi v341 v338
  let v343 : BitVec 32 := Scalar.addi v337 v336
  let v344 : BitVec 32 := Scalar.select v342 v343 v337
  let c2_i32_242 : BitVec 32 := 2#32
  let v350 : BitVec 32 := Scalar.muli v344 c2_i32_242
  let v351 : BitVec 32 := Scalar.addi v349 v350
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_243 : BitVec 32 := 1#32
  let v352 : BitVec 32 := Scalar.muli v8 c1_i32_243
  let v353 : BitVec 32 := Scalar.addi v351 v352
  v353.toNat
def k0_dev10 (d0 : Dev nD) : Nat :=
  let c0_i32_269 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_247 : BitVec 32 := 1#32
  let v364 : BitVec 32 := Scalar.addi v2 c1_i32_247
  let c2_i32_248 : BitVec 32 := 2#32
  let c0_i32_249 : BitVec 32 := 0#32
  let v365 : BitVec 1 := Scalar.cmpi .eq c2_i32_248 c0_i32_249
  let c1_i32_250 : BitVec 32 := 1#32
  let v366 : BitVec 32 := Scalar.select v365 c1_i32_250 c2_i32_248
  let v367 : BitVec 32 := Scalar.remsi v364 v366
  let c0_i32_252 : BitVec 32 := 0#32
  let v369 : BitVec 1 := Scalar.cmpi .slt v367 c0_i32_252
  let c0_i32_253 : BitVec 32 := 0#32
  let v370 : BitVec 1 := Scalar.cmpi .slt v366 c0_i32_253
  let v371 : BitVec 1 := Scalar.xori v369 v370
  let c0_i32_251 : BitVec 32 := 0#32
  let v368 : BitVec 1 := Scalar.cmpi .ne v367 c0_i32_251
  let v372 : BitVec 1 := Scalar.andi v371 v368
  let v373 : BitVec 32 := Scalar.addi v367 v366
  let v374 : BitVec 32 := Scalar.select v372 v373 v367
  let c4_i32_268 : BitVec 32 := 4#32
  let v390 : BitVec 32 := Scalar.muli v374 c4_i32_268
  let v391 : BitVec 32 := Scalar.addi c0_i32_269 v390
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c0_i32_254 : BitVec 32 := 0#32
  let v375 : BitVec 32 := Scalar.addi v5 c0_i32_254
  let c2_i32_255 : BitVec 32 := 2#32
  let c0_i32_256 : BitVec 32 := 0#32
  let v376 : BitVec 1 := Scalar.cmpi .eq c2_i32_255 c0_i32_256
  let c1_i32_257 : BitVec 32 := 1#32
  let v377 : BitVec 32 := Scalar.select v376 c1_i32_257 c2_i32_255
  let v378 : BitVec 32 := Scalar.remsi v375 v377
  let c0_i32_259 : BitVec 32 := 0#32
  let v380 : BitVec 1 := Scalar.cmpi .slt v378 c0_i32_259
  let c0_i32_260 : BitVec 32 := 0#32
  let v381 : BitVec 1 := Scalar.cmpi .slt v377 c0_i32_260
  let v382 : BitVec 1 := Scalar.xori v380 v381
  let c0_i32_258 : BitVec 32 := 0#32
  let v379 : BitVec 1 := Scalar.cmpi .ne v378 c0_i32_258
  let v383 : BitVec 1 := Scalar.andi v382 v379
  let v384 : BitVec 32 := Scalar.addi v378 v377
  let v385 : BitVec 32 := Scalar.select v383 v384 v378
  let c2_i32_270 : BitVec 32 := 2#32
  let v392 : BitVec 32 := Scalar.muli v385 c2_i32_270
  let v393 : BitVec 32 := Scalar.addi v391 v392
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_271 : BitVec 32 := 1#32
  let v394 : BitVec 32 := Scalar.muli v8 c1_i32_271
  let v395 : BitVec 32 := Scalar.addi v393 v394
  v395.toNat
def k0_dev11 (d0 : Dev nD) : Nat :=
  let c0_i32_296 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c0_i32_274 : BitVec 32 := 0#32
  let v402 : BitVec 32 := Scalar.addi v2 c0_i32_274
  let c2_i32_275 : BitVec 32 := 2#32
  let c0_i32_276 : BitVec 32 := 0#32
  let v403 : BitVec 1 := Scalar.cmpi .eq c2_i32_275 c0_i32_276
  let c1_i32_277 : BitVec 32 := 1#32
  let v404 : BitVec 32 := Scalar.select v403 c1_i32_277 c2_i32_275
  let v405 : BitVec 32 := Scalar.remsi v402 v404
  let c0_i32_279 : BitVec 32 := 0#32
  let v407 : BitVec 1 := Scalar.cmpi .slt v405 c0_i32_279
  let c0_i32_280 : BitVec 32 := 0#32
  let v408 : BitVec 1 := Scalar.cmpi .slt v404 c0_i32_280
  let v409 : BitVec 1 := Scalar.xori v407 v408
  let c0_i32_278 : BitVec 32 := 0#32
  let v406 : BitVec 1 := Scalar.cmpi .ne v405 c0_i32_278
  let v410 : BitVec 1 := Scalar.andi v409 v406
  let v411 : BitVec 32 := Scalar.addi v405 v404
  let v412 : BitVec 32 := Scalar.select v410 v411 v405
  let c4_i32_295 : BitVec 32 := 4#32
  let v428 : BitVec 32 := Scalar.muli v412 c4_i32_295
  let v429 : BitVec 32 := Scalar.addi c0_i32_296 v428
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_281 : BitVec 32 := 1#32
  let v413 : BitVec 32 := Scalar.addi v5 c1_i32_281
  let c2_i32_282 : BitVec 32 := 2#32
  let c0_i32_283 : BitVec 32 := 0#32
  let v414 : BitVec 1 := Scalar.cmpi .eq c2_i32_282 c0_i32_283
  let c1_i32_284 : BitVec 32 := 1#32
  let v415 : BitVec 32 := Scalar.select v414 c1_i32_284 c2_i32_282
  let v416 : BitVec 32 := Scalar.remsi v413 v415
  let c0_i32_286 : BitVec 32 := 0#32
  let v418 : BitVec 1 := Scalar.cmpi .slt v416 c0_i32_286
  let c0_i32_287 : BitVec 32 := 0#32
  let v419 : BitVec 1 := Scalar.cmpi .slt v415 c0_i32_287
  let v420 : BitVec 1 := Scalar.xori v418 v419
  let c0_i32_285 : BitVec 32 := 0#32
  let v417 : BitVec 1 := Scalar.cmpi .ne v416 c0_i32_285
  let v421 : BitVec 1 := Scalar.andi v420 v417
  let v422 : BitVec 32 := Scalar.addi v416 v415
  let v423 : BitVec 32 := Scalar.select v421 v422 v416
  let c2_i32_297 : BitVec 32 := 2#32
  let v430 : BitVec 32 := Scalar.muli v423 c2_i32_297
  let v431 : BitVec 32 := Scalar.addi v429 v430
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_298 : BitVec 32 := 1#32
  let v432 : BitVec 32 := Scalar.muli v8 c1_i32_298
  let v433 : BitVec 32 := Scalar.addi v431 v432
  v433.toNat
def k0_dev12 (d0 : Dev nD) : Nat :=
  let c0_i32_323 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c1_i32_301 : BitVec 32 := 1#32
  let v440 : BitVec 32 := Scalar.addi v2 c1_i32_301
  let c2_i32_302 : BitVec 32 := 2#32
  let c0_i32_303 : BitVec 32 := 0#32
  let v441 : BitVec 1 := Scalar.cmpi .eq c2_i32_302 c0_i32_303
  let c1_i32_304 : BitVec 32 := 1#32
  let v442 : BitVec 32 := Scalar.select v441 c1_i32_304 c2_i32_302
  let v443 : BitVec 32 := Scalar.remsi v440 v442
  let c0_i32_306 : BitVec 32 := 0#32
  let v445 : BitVec 1 := Scalar.cmpi .slt v443 c0_i32_306
  let c0_i32_307 : BitVec 32 := 0#32
  let v446 : BitVec 1 := Scalar.cmpi .slt v442 c0_i32_307
  let v447 : BitVec 1 := Scalar.xori v445 v446
  let c0_i32_305 : BitVec 32 := 0#32
  let v444 : BitVec 1 := Scalar.cmpi .ne v443 c0_i32_305
  let v448 : BitVec 1 := Scalar.andi v447 v444
  let v449 : BitVec 32 := Scalar.addi v443 v442
  let v450 : BitVec 32 := Scalar.select v448 v449 v443
  let c4_i32_322 : BitVec 32 := 4#32
  let v466 : BitVec 32 := Scalar.muli v450 c4_i32_322
  let v467 : BitVec 32 := Scalar.addi c0_i32_323 v466
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c1_i32_308 : BitVec 32 := 1#32
  let v451 : BitVec 32 := Scalar.addi v5 c1_i32_308
  let c2_i32_309 : BitVec 32 := 2#32
  let c0_i32_310 : BitVec 32 := 0#32
  let v452 : BitVec 1 := Scalar.cmpi .eq c2_i32_309 c0_i32_310
  let c1_i32_311 : BitVec 32 := 1#32
  let v453 : BitVec 32 := Scalar.select v452 c1_i32_311 c2_i32_309
  let v454 : BitVec 32 := Scalar.remsi v451 v453
  let c0_i32_313 : BitVec 32 := 0#32
  let v456 : BitVec 1 := Scalar.cmpi .slt v454 c0_i32_313
  let c0_i32_314 : BitVec 32 := 0#32
  let v457 : BitVec 1 := Scalar.cmpi .slt v453 c0_i32_314
  let v458 : BitVec 1 := Scalar.xori v456 v457
  let c0_i32_312 : BitVec 32 := 0#32
  let v455 : BitVec 1 := Scalar.cmpi .ne v454 c0_i32_312
  let v459 : BitVec 1 := Scalar.andi v458 v455
  let v460 : BitVec 32 := Scalar.addi v454 v453
  let v461 : BitVec 32 := Scalar.select v459 v460 v454
  let c2_i32_324 : BitVec 32 := 2#32
  let v468 : BitVec 32 := Scalar.muli v461 c2_i32_324
  let v469 : BitVec 32 := Scalar.addi v467 v468
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1_i32_325 : BitVec 32 := 1#32
  let v470 : BitVec 32 := Scalar.muli v8 c1_i32_325
  let v471 : BitVec 32 := Scalar.addi v469 v470
  v471.toNat
def k0_off10 (d0 : Dev nD) (c1_i32_328 : BitVec 32) (c0_i32_335 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_343 : BitVec 32 := 1024#32
  let v502 : BitVec 32 := Scalar.muli v8 c1024_i32_343
  let c2_i32_342 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v478 : BitVec 32 := Scalar.addi v2 c1_i32_328
  let c2_i32_329 : BitVec 32 := 2#32
  let c0_i32_330 : BitVec 32 := 0#32
  let v479 : BitVec 1 := Scalar.cmpi .eq c2_i32_329 c0_i32_330
  let c1_i32_331 : BitVec 32 := 1#32
  let v480 : BitVec 32 := Scalar.select v479 c1_i32_331 c2_i32_329
  let v481 : BitVec 32 := Scalar.remsi v478 v480
  let c0_i32_333 : BitVec 32 := 0#32
  let v483 : BitVec 1 := Scalar.cmpi .slt v481 c0_i32_333
  let c0_i32_334 : BitVec 32 := 0#32
  let v484 : BitVec 1 := Scalar.cmpi .slt v480 c0_i32_334
  let v485 : BitVec 1 := Scalar.xori v483 v484
  let c0_i32_332 : BitVec 32 := 0#32
  let v482 : BitVec 1 := Scalar.cmpi .ne v481 c0_i32_332
  let v486 : BitVec 1 := Scalar.andi v485 v482
  let v487 : BitVec 32 := Scalar.addi v481 v480
  let v488 : BitVec 32 := Scalar.select v486 v487 v481
  let v500 : BitVec 32 := Scalar.muli c2_i32_342 v488
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v489 : BitVec 32 := Scalar.addi v5 c0_i32_335
  let c2_i32_336 : BitVec 32 := 2#32
  let c0_i32_337 : BitVec 32 := 0#32
  let v490 : BitVec 1 := Scalar.cmpi .eq c2_i32_336 c0_i32_337
  let c1_i32_338 : BitVec 32 := 1#32
  let v491 : BitVec 32 := Scalar.select v490 c1_i32_338 c2_i32_336
  let v492 : BitVec 32 := Scalar.remsi v489 v491
  let c0_i32_340 : BitVec 32 := 0#32
  let v494 : BitVec 1 := Scalar.cmpi .slt v492 c0_i32_340
  let c0_i32_341 : BitVec 32 := 0#32
  let v495 : BitVec 1 := Scalar.cmpi .slt v491 c0_i32_341
  let v496 : BitVec 1 := Scalar.xori v494 v495
  let c0_i32_339 : BitVec 32 := 0#32
  let v493 : BitVec 1 := Scalar.cmpi .ne v492 c0_i32_339
  let v497 : BitVec 1 := Scalar.andi v496 v493
  let v498 : BitVec 32 := Scalar.addi v492 v491
  let v499 : BitVec 32 := Scalar.select v497 v498 v492
  let v501 : BitVec 32 := Scalar.addi v500 v499
  let c1408_i32_344 : BitVec 32 := 1408#32
  let v503 : BitVec 32 := Scalar.muli v501 c1408_i32_344
  ![v502.toNat, v503.toNat]
def k0_off10_at (r : Fin 3) : BitVec 32 × BitVec 32 :=
  if r.val < 1 then
    (1#32, 0#32)
  else
    if r.val < 2 then
      (0#32, 1#32)
    else
      (1#32, 1#32)
def k0_dev13 (d0 : Dev nD) : Nat :=
  let c0_i32_358 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_357 : BitVec 32 := 4#32
  let v514 : BitVec 32 := Scalar.muli v2 c4_i32_357
  let v515 : BitVec 32 := Scalar.addi c0_i32_358 v514
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_359 : BitVec 32 := 2#32
  let v516 : BitVec 32 := Scalar.muli v5 c2_i32_359
  let v517 : BitVec 32 := Scalar.addi v515 v516
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_360 : BitVec 32 := 1#32
  let v518 : BitVec 32 := Scalar.muli v11 c1_i32_360
  let v519 : BitVec 32 := Scalar.addi v517 v518
  v519.toNat
def k0_dev14 (d0 : Dev nD) : Nat :=
  let c0_i32_391 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_390 : BitVec 32 := 4#32
  let v562 : BitVec 32 := Scalar.muli v2 c4_i32_390
  let v563 : BitVec 32 := Scalar.addi c0_i32_391 v562
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_392 : BitVec 32 := 2#32
  let v564 : BitVec 32 := Scalar.muli v5 c2_i32_392
  let v565 : BitVec 32 := Scalar.addi v563 v564
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_393 : BitVec 32 := 1#32
  let v566 : BitVec 32 := Scalar.muli v11 c1_i32_393
  let v567 : BitVec 32 := Scalar.addi v565 v566
  v567.toNat
def k0_dev15 (d0 : Dev nD) : Nat :=
  let c0_i32_423 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_422 : BitVec 32 := 4#32
  let v610 : BitVec 32 := Scalar.muli v2 c4_i32_422
  let v611 : BitVec 32 := Scalar.addi c0_i32_423 v610
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_424 : BitVec 32 := 2#32
  let v612 : BitVec 32 := Scalar.muli v5 c2_i32_424
  let v613 : BitVec 32 := Scalar.addi v611 v612
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_425 : BitVec 32 := 1#32
  let v614 : BitVec 32 := Scalar.muli v11 c1_i32_425
  let v615 : BitVec 32 := Scalar.addi v613 v614
  v615.toNat
def k0_off11 (d0 : Dev nD) (c1_i32_426 : BitVec 32) (c0_i32_433 : BitVec 32) : Fin 2 → Nat :=
  let c2_i32_440 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v622 : BitVec 32 := Scalar.addi v2 c1_i32_426
  let c2_i32_427 : BitVec 32 := 2#32
  let c0_i32_428 : BitVec 32 := 0#32
  let v623 : BitVec 1 := Scalar.cmpi .eq c2_i32_427 c0_i32_428
  let c1_i32_429 : BitVec 32 := 1#32
  let v624 : BitVec 32 := Scalar.select v623 c1_i32_429 c2_i32_427
  let v625 : BitVec 32 := Scalar.remsi v622 v624
  let c0_i32_431 : BitVec 32 := 0#32
  let v627 : BitVec 1 := Scalar.cmpi .slt v625 c0_i32_431
  let c0_i32_432 : BitVec 32 := 0#32
  let v628 : BitVec 1 := Scalar.cmpi .slt v624 c0_i32_432
  let v629 : BitVec 1 := Scalar.xori v627 v628
  let c0_i32_430 : BitVec 32 := 0#32
  let v626 : BitVec 1 := Scalar.cmpi .ne v625 c0_i32_430
  let v630 : BitVec 1 := Scalar.andi v629 v626
  let v631 : BitVec 32 := Scalar.addi v625 v624
  let v632 : BitVec 32 := Scalar.select v630 v631 v625
  let v644 : BitVec 32 := Scalar.muli c2_i32_440 v632
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v633 : BitVec 32 := Scalar.addi v5 c0_i32_433
  let c2_i32_434 : BitVec 32 := 2#32
  let c0_i32_435 : BitVec 32 := 0#32
  let v634 : BitVec 1 := Scalar.cmpi .eq c2_i32_434 c0_i32_435
  let c1_i32_436 : BitVec 32 := 1#32
  let v635 : BitVec 32 := Scalar.select v634 c1_i32_436 c2_i32_434
  let v636 : BitVec 32 := Scalar.remsi v633 v635
  let c0_i32_438 : BitVec 32 := 0#32
  let v638 : BitVec 1 := Scalar.cmpi .slt v636 c0_i32_438
  let c0_i32_439 : BitVec 32 := 0#32
  let v639 : BitVec 1 := Scalar.cmpi .slt v635 c0_i32_439
  let v640 : BitVec 1 := Scalar.xori v638 v639
  let c0_i32_437 : BitVec 32 := 0#32
  let v637 : BitVec 1 := Scalar.cmpi .ne v636 c0_i32_437
  let v641 : BitVec 1 := Scalar.andi v640 v637
  let v642 : BitVec 32 := Scalar.addi v636 v635
  let v643 : BitVec 32 := Scalar.select v641 v642 v636
  let v645 : BitVec 32 := Scalar.addi v644 v643
  let c512_i32_441 : BitVec 32 := 512#32
  let v646 : BitVec 32 := Scalar.muli v645 c512_i32_441
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32_442 : BitVec 32 := 256#32
  let v647 : BitVec 32 := Scalar.muli v8 c256_i32_442
  let v648 : BitVec 32 := Scalar.addi v646 v647
  let c0_i32_451 : BitVec 32 := 0#32
  ![v648.toNat, 0]
def k0_off11_at (r : Fin 3) : BitVec 32 × BitVec 32 :=
  if r.val < 1 then
    (1#32, 0#32)
  else
    if r.val < 2 then
      (0#32, 1#32)
    else
      (1#32, 1#32)
def k0_dev16 (d0 : Dev nD) : Nat :=
  let c0_i32_458 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_457 : BitVec 32 := 4#32
  let v659 : BitVec 32 := Scalar.muli v2 c4_i32_457
  let v660 : BitVec 32 := Scalar.addi c0_i32_458 v659
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_459 : BitVec 32 := 2#32
  let v661 : BitVec 32 := Scalar.muli v5 c2_i32_459
  let v662 : BitVec 32 := Scalar.addi v660 v661
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_460 : BitVec 32 := 1#32
  let v663 : BitVec 32 := Scalar.muli v11 c1_i32_460
  let v664 : BitVec 32 := Scalar.addi v662 v663
  v664.toNat
def k0_dev17 (d0 : Dev nD) : Nat :=
  let c0_i32_495 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_494 : BitVec 32 := 4#32
  let v708 : BitVec 32 := Scalar.muli v2 c4_i32_494
  let v709 : BitVec 32 := Scalar.addi c0_i32_495 v708
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_496 : BitVec 32 := 2#32
  let v710 : BitVec 32 := Scalar.muli v5 c2_i32_496
  let v711 : BitVec 32 := Scalar.addi v709 v710
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_497 : BitVec 32 := 1#32
  let v712 : BitVec 32 := Scalar.muli v11 c1_i32_497
  let v713 : BitVec 32 := Scalar.addi v711 v712
  v713.toNat
def k0_dev18 (d0 : Dev nD) : Nat :=
  let c0_i32_532 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_531 : BitVec 32 := 4#32
  let v757 : BitVec 32 := Scalar.muli v2 c4_i32_531
  let v758 : BitVec 32 := Scalar.addi c0_i32_532 v757
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_533 : BitVec 32 := 2#32
  let v759 : BitVec 32 := Scalar.muli v5 c2_i32_533
  let v760 : BitVec 32 := Scalar.addi v758 v759
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_534 : BitVec 32 := 1#32
  let v761 : BitVec 32 := Scalar.muli v11 c1_i32_534
  let v762 : BitVec 32 := Scalar.addi v760 v761
  v762.toNat
def k0_off12 (d0 : Dev nD) (c1_i32_537 : BitVec 32) (c0_i32_544 : BitVec 32) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_552 : BitVec 32 := 1024#32
  let v793 : BitVec 32 := Scalar.muli v8 c1024_i32_552
  let c2_i32_551 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v769 : BitVec 32 := Scalar.addi v2 c1_i32_537
  let c2_i32_538 : BitVec 32 := 2#32
  let c0_i32_539 : BitVec 32 := 0#32
  let v770 : BitVec 1 := Scalar.cmpi .eq c2_i32_538 c0_i32_539
  let c1_i32_540 : BitVec 32 := 1#32
  let v771 : BitVec 32 := Scalar.select v770 c1_i32_540 c2_i32_538
  let v772 : BitVec 32 := Scalar.remsi v769 v771
  let c0_i32_542 : BitVec 32 := 0#32
  let v774 : BitVec 1 := Scalar.cmpi .slt v772 c0_i32_542
  let c0_i32_543 : BitVec 32 := 0#32
  let v775 : BitVec 1 := Scalar.cmpi .slt v771 c0_i32_543
  let v776 : BitVec 1 := Scalar.xori v774 v775
  let c0_i32_541 : BitVec 32 := 0#32
  let v773 : BitVec 1 := Scalar.cmpi .ne v772 c0_i32_541
  let v777 : BitVec 1 := Scalar.andi v776 v773
  let v778 : BitVec 32 := Scalar.addi v772 v771
  let v779 : BitVec 32 := Scalar.select v777 v778 v772
  let v791 : BitVec 32 := Scalar.muli c2_i32_551 v779
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v780 : BitVec 32 := Scalar.addi v5 c0_i32_544
  let c2_i32_545 : BitVec 32 := 2#32
  let c0_i32_546 : BitVec 32 := 0#32
  let v781 : BitVec 1 := Scalar.cmpi .eq c2_i32_545 c0_i32_546
  let c1_i32_547 : BitVec 32 := 1#32
  let v782 : BitVec 32 := Scalar.select v781 c1_i32_547 c2_i32_545
  let v783 : BitVec 32 := Scalar.remsi v780 v782
  let c0_i32_549 : BitVec 32 := 0#32
  let v785 : BitVec 1 := Scalar.cmpi .slt v783 c0_i32_549
  let c0_i32_550 : BitVec 32 := 0#32
  let v786 : BitVec 1 := Scalar.cmpi .slt v782 c0_i32_550
  let v787 : BitVec 1 := Scalar.xori v785 v786
  let c0_i32_548 : BitVec 32 := 0#32
  let v784 : BitVec 1 := Scalar.cmpi .ne v783 c0_i32_548
  let v788 : BitVec 1 := Scalar.andi v787 v784
  let v789 : BitVec 32 := Scalar.addi v783 v782
  let v790 : BitVec 32 := Scalar.select v788 v789 v783
  let v792 : BitVec 32 := Scalar.addi v791 v790
  let c1536_i32_553 : BitVec 32 := 1536#32
  let v794 : BitVec 32 := Scalar.muli v792 c1536_i32_553
  ![v793.toNat, v794.toNat]
def k0_off12_at (r : Fin 3) : BitVec 32 × BitVec 32 :=
  if r.val < 1 then
    (1#32, 0#32)
  else
    if r.val < 2 then
      (0#32, 1#32)
    else
      (1#32, 1#32)
def k0_dev19 (d0 : Dev nD) : Nat :=
  let c0_i32_567 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_566 : BitVec 32 := 4#32
  let v805 : BitVec 32 := Scalar.muli v2 c4_i32_566
  let v806 : BitVec 32 := Scalar.addi c0_i32_567 v805
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_568 : BitVec 32 := 2#32
  let v807 : BitVec 32 := Scalar.muli v5 c2_i32_568
  let v808 : BitVec 32 := Scalar.addi v806 v807
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_569 : BitVec 32 := 1#32
  let v809 : BitVec 32 := Scalar.muli v11 c1_i32_569
  let v810 : BitVec 32 := Scalar.addi v808 v809
  v810.toNat
def k0_dev20 (d0 : Dev nD) : Nat :=
  let c0_i32_600 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_599 : BitVec 32 := 4#32
  let v853 : BitVec 32 := Scalar.muli v2 c4_i32_599
  let v854 : BitVec 32 := Scalar.addi c0_i32_600 v853
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_601 : BitVec 32 := 2#32
  let v855 : BitVec 32 := Scalar.muli v5 c2_i32_601
  let v856 : BitVec 32 := Scalar.addi v854 v855
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_602 : BitVec 32 := 1#32
  let v857 : BitVec 32 := Scalar.muli v11 c1_i32_602
  let v858 : BitVec 32 := Scalar.addi v856 v857
  v858.toNat
def k0_dev21 (d0 : Dev nD) : Nat :=
  let c0_i32_633 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_632 : BitVec 32 := 4#32
  let v901 : BitVec 32 := Scalar.muli v2 c4_i32_632
  let v902 : BitVec 32 := Scalar.addi c0_i32_633 v901
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_634 : BitVec 32 := 2#32
  let v903 : BitVec 32 := Scalar.muli v5 c2_i32_634
  let v904 : BitVec 32 := Scalar.addi v902 v903
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_635 : BitVec 32 := 1#32
  let v905 : BitVec 32 := Scalar.muli v11 c1_i32_635
  let v906 : BitVec 32 := Scalar.addi v904 v905
  v906.toNat
def k0_dev22 (d0 : Dev nD) : Nat :=
  let c0_i32_668 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_667 : BitVec 32 := 4#32
  let v950 : BitVec 32 := Scalar.muli v2 c4_i32_667
  let v951 : BitVec 32 := Scalar.addi c0_i32_668 v950
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_669 : BitVec 32 := 2#32
  let v952 : BitVec 32 := Scalar.muli v5 c2_i32_669
  let v953 : BitVec 32 := Scalar.addi v951 v952
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_670 : BitVec 32 := 1#32
  let v954 : BitVec 32 := Scalar.muli v11 c1_i32_670
  let v955 : BitVec 32 := Scalar.addi v953 v954
  v955.toNat
def k0_dev23 (d0 : Dev nD) : Nat :=
  let c0_i32_705 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_704 : BitVec 32 := 4#32
  let v999 : BitVec 32 := Scalar.muli v2 c4_i32_704
  let v1000 : BitVec 32 := Scalar.addi c0_i32_705 v999
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_706 : BitVec 32 := 2#32
  let v1001 : BitVec 32 := Scalar.muli v5 c2_i32_706
  let v1002 : BitVec 32 := Scalar.addi v1000 v1001
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_707 : BitVec 32 := 1#32
  let v1003 : BitVec 32 := Scalar.muli v11 c1_i32_707
  let v1004 : BitVec 32 := Scalar.addi v1002 v1003
  v1004.toNat
def k0_dev24 (d0 : Dev nD) : Nat :=
  let c0_i32_742 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_741 : BitVec 32 := 4#32
  let v1048 : BitVec 32 := Scalar.muli v2 c4_i32_741
  let v1049 : BitVec 32 := Scalar.addi c0_i32_742 v1048
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_743 : BitVec 32 := 2#32
  let v1050 : BitVec 32 := Scalar.muli v5 c2_i32_743
  let v1051 : BitVec 32 := Scalar.addi v1049 v1050
  let c1_i32_4 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v11 : BitVec 32 := Scalar.subi c1_i32_4 v8
  let c1_i32_744 : BitVec 32 := 1#32
  let v1052 : BitVec 32 := Scalar.muli v11 c1_i32_744
  let v1053 : BitVec 32 := Scalar.addi v1051 v1052
  v1053.toNat
def k0_off13 (d0 : Dev nD) (c1_i32_747 : BitVec 32) (c0_i32_755 : BitVec 32) : Fin 2 → Nat :=
  let c1_i32_762 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1084 : BitVec 32 := Scalar.subi c1_i32_762 v8
  let c1024_i32_763 : BitVec 32 := 1024#32
  let v1085 : BitVec 32 := Scalar.muli v1084 c1024_i32_763
  let c2_i32_754 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1060 : BitVec 32 := Scalar.addi v2 c1_i32_747
  let c2_i32_748 : BitVec 32 := 2#32
  let c0_i32_749 : BitVec 32 := 0#32
  let v1061 : BitVec 1 := Scalar.cmpi .eq c2_i32_748 c0_i32_749
  let c1_i32_750 : BitVec 32 := 1#32
  let v1062 : BitVec 32 := Scalar.select v1061 c1_i32_750 c2_i32_748
  let v1063 : BitVec 32 := Scalar.remsi v1060 v1062
  let c0_i32_752 : BitVec 32 := 0#32
  let v1065 : BitVec 1 := Scalar.cmpi .slt v1063 c0_i32_752
  let c0_i32_753 : BitVec 32 := 0#32
  let v1066 : BitVec 1 := Scalar.cmpi .slt v1062 c0_i32_753
  let v1067 : BitVec 1 := Scalar.xori v1065 v1066
  let c0_i32_751 : BitVec 32 := 0#32
  let v1064 : BitVec 1 := Scalar.cmpi .ne v1063 c0_i32_751
  let v1068 : BitVec 1 := Scalar.andi v1067 v1064
  let v1069 : BitVec 32 := Scalar.addi v1063 v1062
  let v1070 : BitVec 32 := Scalar.select v1068 v1069 v1063
  let v1071 : BitVec 32 := Scalar.muli c2_i32_754 v1070
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1072 : BitVec 32 := Scalar.addi v5 c0_i32_755
  let c2_i32_756 : BitVec 32 := 2#32
  let c0_i32_757 : BitVec 32 := 0#32
  let v1073 : BitVec 1 := Scalar.cmpi .eq c2_i32_756 c0_i32_757
  let c1_i32_758 : BitVec 32 := 1#32
  let v1074 : BitVec 32 := Scalar.select v1073 c1_i32_758 c2_i32_756
  let v1075 : BitVec 32 := Scalar.remsi v1072 v1074
  let c0_i32_760 : BitVec 32 := 0#32
  let v1077 : BitVec 1 := Scalar.cmpi .slt v1075 c0_i32_760
  let c0_i32_761 : BitVec 32 := 0#32
  let v1078 : BitVec 1 := Scalar.cmpi .slt v1074 c0_i32_761
  let v1079 : BitVec 1 := Scalar.xori v1077 v1078
  let c0_i32_759 : BitVec 32 := 0#32
  let v1076 : BitVec 1 := Scalar.cmpi .ne v1075 c0_i32_759
  let v1080 : BitVec 1 := Scalar.andi v1079 v1076
  let v1081 : BitVec 32 := Scalar.addi v1075 v1074
  let v1082 : BitVec 32 := Scalar.select v1080 v1081 v1075
  let v1083 : BitVec 32 := Scalar.addi v1071 v1082
  let c1408_i32_764 : BitVec 32 := 1408#32
  let v1086 : BitVec 32 := Scalar.muli v1083 c1408_i32_764
  ![v1085.toNat, v1086.toNat]
def k0_off13_at (r : Fin 3) : BitVec 32 × BitVec 32 :=
  if r.val < 1 then
    (1#32, 0#32)
  else
    if r.val < 2 then
      (0#32, 1#32)
    else
      (1#32, 1#32)
def k0_off14 (d0 : Dev nD) (c1_i32_825 : BitVec 32) (c0_i32_833 : BitVec 32) : Fin 2 → Nat :=
  let c2_i32_832 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1171 : BitVec 32 := Scalar.addi v2 c1_i32_825
  let c2_i32_826 : BitVec 32 := 2#32
  let c0_i32_827 : BitVec 32 := 0#32
  let v1172 : BitVec 1 := Scalar.cmpi .eq c2_i32_826 c0_i32_827
  let c1_i32_828 : BitVec 32 := 1#32
  let v1173 : BitVec 32 := Scalar.select v1172 c1_i32_828 c2_i32_826
  let v1174 : BitVec 32 := Scalar.remsi v1171 v1173
  let c0_i32_830 : BitVec 32 := 0#32
  let v1176 : BitVec 1 := Scalar.cmpi .slt v1174 c0_i32_830
  let c0_i32_831 : BitVec 32 := 0#32
  let v1177 : BitVec 1 := Scalar.cmpi .slt v1173 c0_i32_831
  let v1178 : BitVec 1 := Scalar.xori v1176 v1177
  let c0_i32_829 : BitVec 32 := 0#32
  let v1175 : BitVec 1 := Scalar.cmpi .ne v1174 c0_i32_829
  let v1179 : BitVec 1 := Scalar.andi v1178 v1175
  let v1180 : BitVec 32 := Scalar.addi v1174 v1173
  let v1181 : BitVec 32 := Scalar.select v1179 v1180 v1174
  let v1182 : BitVec 32 := Scalar.muli c2_i32_832 v1181
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1183 : BitVec 32 := Scalar.addi v5 c0_i32_833
  let c2_i32_834 : BitVec 32 := 2#32
  let c0_i32_835 : BitVec 32 := 0#32
  let v1184 : BitVec 1 := Scalar.cmpi .eq c2_i32_834 c0_i32_835
  let c1_i32_836 : BitVec 32 := 1#32
  let v1185 : BitVec 32 := Scalar.select v1184 c1_i32_836 c2_i32_834
  let v1186 : BitVec 32 := Scalar.remsi v1183 v1185
  let c0_i32_838 : BitVec 32 := 0#32
  let v1188 : BitVec 1 := Scalar.cmpi .slt v1186 c0_i32_838
  let c0_i32_839 : BitVec 32 := 0#32
  let v1189 : BitVec 1 := Scalar.cmpi .slt v1185 c0_i32_839
  let v1190 : BitVec 1 := Scalar.xori v1188 v1189
  let c0_i32_837 : BitVec 32 := 0#32
  let v1187 : BitVec 1 := Scalar.cmpi .ne v1186 c0_i32_837
  let v1191 : BitVec 1 := Scalar.andi v1190 v1187
  let v1192 : BitVec 32 := Scalar.addi v1186 v1185
  let v1193 : BitVec 32 := Scalar.select v1191 v1192 v1186
  let v1194 : BitVec 32 := Scalar.addi v1182 v1193
  let c512_i32_841 : BitVec 32 := 512#32
  let v1196 : BitVec 32 := Scalar.muli v1194 c512_i32_841
  let c1_i32_840 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1195 : BitVec 32 := Scalar.subi c1_i32_840 v8
  let c256_i32_842 : BitVec 32 := 256#32
  let v1197 : BitVec 32 := Scalar.muli v1195 c256_i32_842
  let v1198 : BitVec 32 := Scalar.addi v1196 v1197
  let c0_i32_851 : BitVec 32 := 0#32
  ![v1198.toNat, 0]
def k0_off14_at (r : Fin 3) : BitVec 32 × BitVec 32 :=
  if r.val < 1 then
    (1#32, 0#32)
  else
    if r.val < 2 then
      (0#32, 1#32)
    else
      (1#32, 1#32)
def k0_off15 (d0 : Dev nD) (c1_i32_909 : BitVec 32) (c0_i32_917 : BitVec 32) : Fin 2 → Nat :=
  let c1_i32_924 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v1309 : BitVec 32 := Scalar.subi c1_i32_924 v8
  let c1024_i32_925 : BitVec 32 := 1024#32
  let v1310 : BitVec 32 := Scalar.muli v1309 c1024_i32_925
  let c2_i32_916 : BitVec 32 := 2#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let v1285 : BitVec 32 := Scalar.addi v2 c1_i32_909
  let c2_i32_910 : BitVec 32 := 2#32
  let c0_i32_911 : BitVec 32 := 0#32
  let v1286 : BitVec 1 := Scalar.cmpi .eq c2_i32_910 c0_i32_911
  let c1_i32_912 : BitVec 32 := 1#32
  let v1287 : BitVec 32 := Scalar.select v1286 c1_i32_912 c2_i32_910
  let v1288 : BitVec 32 := Scalar.remsi v1285 v1287
  let c0_i32_914 : BitVec 32 := 0#32
  let v1290 : BitVec 1 := Scalar.cmpi .slt v1288 c0_i32_914
  let c0_i32_915 : BitVec 32 := 0#32
  let v1291 : BitVec 1 := Scalar.cmpi .slt v1287 c0_i32_915
  let v1292 : BitVec 1 := Scalar.xori v1290 v1291
  let c0_i32_913 : BitVec 32 := 0#32
  let v1289 : BitVec 1 := Scalar.cmpi .ne v1288 c0_i32_913
  let v1293 : BitVec 1 := Scalar.andi v1292 v1289
  let v1294 : BitVec 32 := Scalar.addi v1288 v1287
  let v1295 : BitVec 32 := Scalar.select v1293 v1294 v1288
  let v1296 : BitVec 32 := Scalar.muli c2_i32_916 v1295
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let v1297 : BitVec 32 := Scalar.addi v5 c0_i32_917
  let c2_i32_918 : BitVec 32 := 2#32
  let c0_i32_919 : BitVec 32 := 0#32
  let v1298 : BitVec 1 := Scalar.cmpi .eq c2_i32_918 c0_i32_919
  let c1_i32_920 : BitVec 32 := 1#32
  let v1299 : BitVec 32 := Scalar.select v1298 c1_i32_920 c2_i32_918
  let v1300 : BitVec 32 := Scalar.remsi v1297 v1299
  let c0_i32_922 : BitVec 32 := 0#32
  let v1302 : BitVec 1 := Scalar.cmpi .slt v1300 c0_i32_922
  let c0_i32_923 : BitVec 32 := 0#32
  let v1303 : BitVec 1 := Scalar.cmpi .slt v1299 c0_i32_923
  let v1304 : BitVec 1 := Scalar.xori v1302 v1303
  let c0_i32_921 : BitVec 32 := 0#32
  let v1301 : BitVec 1 := Scalar.cmpi .ne v1300 c0_i32_921
  let v1305 : BitVec 1 := Scalar.andi v1304 v1301
  let v1306 : BitVec 32 := Scalar.addi v1300 v1299
  let v1307 : BitVec 32 := Scalar.select v1305 v1306 v1300
  let v1308 : BitVec 32 := Scalar.addi v1296 v1307
  let c1536_i32_926 : BitVec 32 := 1536#32
  let v1311 : BitVec 32 := Scalar.muli v1308 c1536_i32_926
  ![v1310.toNat, v1311.toNat]
def k0_off15_at (r : Fin 3) : BitVec 32 × BitVec 32 :=
  if r.val < 1 then
    (1#32, 0#32)
  else
    if r.val < 2 then
      (0#32, 1#32)
    else
      (1#32, 1#32)
-- ==== GatherWeightsRef.lean ====
abbrev S2048x5632 : Shape := ⟨2, ![2048, 5632]⟩
abbrev S2048x2048 : Shape := ⟨2, ![2048, 2048]⟩
abbrev S2048x6144 : Shape := ⟨2, ![2048, 6144]⟩

abbrev nBuf : Space → Nat
  | .hbm => 4
  | .vmem => 0
  | .smem => 0
  | _ => 0

abbrev bufTy : (tb : Table) → Fin (tcTables nBuf tb) → BufTy
  | .hbm, ⟨0, _⟩ => ⟨S2048x5632, .bf16⟩
  | .hbm, ⟨1, _⟩ => ⟨S2048x2048, .bf16⟩
  | .hbm, ⟨2, _⟩ => ⟨S2048x6144, .bf16⟩
  | .hbm, ⟨3, _⟩ => ⟨S2048x2048, .bf16⟩
  | _, _ => ⟨S2048x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩

abbrev nD : Nat := 1
abbrev τ : Topo := Topo.v7x

variable {F : FTy → Type} [FloatOps F]
-- ==== PairShare.lean ====
abbrev S1024x1408 : Shape := ⟨2, ![1024, 1408]⟩
abbrev S256x2048 : Shape := ⟨2, ![256, 2048]⟩
abbrev S1024x1536 : Shape := ⟨2, ![1024, 1536]⟩
abbrev S2048x1408 : Shape := ⟨2, ![2048, 1408]⟩
abbrev S512x2048 : Shape := ⟨2, ![512, 2048]⟩
abbrev S2048x1536 : Shape := ⟨2, ![2048, 1536]⟩
abbrev S4 : Shape := ⟨1, ![4]⟩
abbrev S1 : Shape := ⟨1, ![1]⟩
abbrev S_ : Shape := ⟨0, ![]⟩

abbrev nBuf : Space → Nat
  | .hbm => 8
  | .vmem => 0
  | .smem => 0
  | _ => 0

abbrev bufTy : (tb : Table) → Fin (tcTables nBuf tb) → BufTy
  | .hbm, ⟨0, _⟩ => ⟨S1024x1408, .f32⟩
  | .hbm, ⟨1, _⟩ => ⟨S256x2048, .f32⟩
  | .hbm, ⟨2, _⟩ => ⟨S1024x1536, .f32⟩
  | .hbm, ⟨3, _⟩ => ⟨S256x2048, .f32⟩
  | .hbm, ⟨4, _⟩ => ⟨S2048x1408, .f32⟩
  | .hbm, ⟨5, _⟩ => ⟨S512x2048, .f32⟩
  | .hbm, ⟨6, _⟩ => ⟨S2048x1536, .f32⟩
  | .hbm, ⟨7, _⟩ => ⟨S512x2048, .f32⟩
  | _, _ => ⟨S1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v1_0 : Ref sig .tc := ⟨.hbm, 4, rfl⟩
abbrev main_v1_1 : Ref sig .tc := ⟨.hbm, 5, rfl⟩
abbrev main_v1_2 : Ref sig .tc := ⟨.hbm, 6, rfl⟩
abbrev main_v1_3 : Ref sig .tc := ⟨.hbm, 7, rfl⟩

abbrev nD : Nat := 8
abbrev τ : Topo := Topo.v7x

variable {F : FTy → Type} [FloatOps F]

abbrev grid0 : Pipeline.Grid := .none

def k0_off1 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32 : BitVec 32 := 1024#32
  let v10 : BitVec 32 := Scalar.muli v8 c1024_i32
  let c0_i32_4 : BitVec 32 := 0#32
  ![v10.toNat, 0]
def k0_dev1 (d0 : Dev nD) : Nat :=
  let c0_i32_9 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_8 : BitVec 32 := 4#32
  let v15 : BitVec 32 := Scalar.muli v2 c4_i32_8
  let v16 : BitVec 32 := Scalar.addi c0_i32_9 v15
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_10 : BitVec 32 := 2#32
  let v17 : BitVec 32 := Scalar.muli v5 c2_i32_10
  let v18 : BitVec 32 := Scalar.addi v16 v17
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_11 : BitVec 32 := 1#32
  let v19 : BitVec 32 := Scalar.muli v9 c1_i32_11
  let v20 : BitVec 32 := Scalar.addi v18 v19
  v20.toNat
def k0_off2 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c256_i32 : BitVec 32 := 256#32
  let v26 : BitVec 32 := Scalar.muli v8 c256_i32
  let c0_i32_14 : BitVec 32 := 0#32
  ![v26.toNat, 0]
def k0_dev2 (d0 : Dev nD) : Nat :=
  let c0_i32_19 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_18 : BitVec 32 := 4#32
  let v31 : BitVec 32 := Scalar.muli v2 c4_i32_18
  let v32 : BitVec 32 := Scalar.addi c0_i32_19 v31
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_20 : BitVec 32 := 2#32
  let v33 : BitVec 32 := Scalar.muli v5 c2_i32_20
  let v34 : BitVec 32 := Scalar.addi v32 v33
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_21 : BitVec 32 := 1#32
  let v35 : BitVec 32 := Scalar.muli v9 c1_i32_21
  let v36 : BitVec 32 := Scalar.addi v34 v35
  v36.toNat
def k0_off3 (d0 : Dev nD) : Fin 2 → Nat :=
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let c1024_i32_23 : BitVec 32 := 1024#32
  let v42 : BitVec 32 := Scalar.muli v8 c1024_i32_23
  let c0_i32_25 : BitVec 32 := 0#32
  ![v42.toNat, 0]
def k0_dev3 (d0 : Dev nD) : Nat :=
  let c0_i32_30 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_29 : BitVec 32 := 4#32
  let v47 : BitVec 32 := Scalar.muli v2 c4_i32_29
  let v48 : BitVec 32 := Scalar.addi c0_i32_30 v47
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_31 : BitVec 32 := 2#32
  let v49 : BitVec 32 := Scalar.muli v5 c2_i32_31
  let v50 : BitVec 32 := Scalar.addi v48 v49
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_32 : BitVec 32 := 1#32
  let v51 : BitVec 32 := Scalar.muli v9 c1_i32_32
  let v52 : BitVec 32 := Scalar.addi v50 v51
  v52.toNat
def k0_dev4 (d0 : Dev nD) : Nat :=
  let c0_i32_40 : BitVec 32 := 0#32
  let v0 : BitVec 32 := Dev.word d0
  let c4_i32 : BitVec 32 := 4#32
  let v1 : BitVec 32 := Scalar.divsi v0 c4_i32
  let c2_i32 : BitVec 32 := 2#32
  let v2 : BitVec 32 := Scalar.remsi v1 c2_i32
  let c4_i32_39 : BitVec 32 := 4#32
  let v63 : BitVec 32 := Scalar.muli v2 c4_i32_39
  let v64 : BitVec 32 := Scalar.addi c0_i32_40 v63
  let v3 : BitVec 32 := Dev.word d0
  let c2_i32_1 : BitVec 32 := 2#32
  let v4 : BitVec 32 := Scalar.divsi v3 c2_i32_1
  let c2_i32_0 : BitVec 32 := 2#32
  let v5 : BitVec 32 := Scalar.remsi v4 c2_i32_0
  let c2_i32_41 : BitVec 32 := 2#32
  let v65 : BitVec 32 := Scalar.muli v5 c2_i32_41
  let v66 : BitVec 32 := Scalar.addi v64 v65
  let c1_i32_3 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v9 : BitVec 32 := Scalar.subi c1_i32_3 v8
  let c1_i32_42 : BitVec 32 := 1#32
  let v67 : BitVec 32 := Scalar.muli v9 c1_i32_42
  let v68 : BitVec 32 := Scalar.addi v66 v67
  v68.toNat
def k0_off4 (d0 : Dev nD) : Fin 2 → Nat :=
  let c1_i32_44 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v74 : BitVec 32 := Scalar.subi c1_i32_44 v8
  let c1024_i32_45 : BitVec 32 := 1024#32
  let v75 : BitVec 32 := Scalar.muli v74 c1024_i32_45
  let c0_i32_52 : BitVec 32 := 0#32
  ![v75.toNat, 0]
def k0_off5 (d0 : Dev nD) : Fin 2 → Nat :=
  let c1_i32_53 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v85 : BitVec 32 := Scalar.subi c1_i32_53 v8
  let c256_i32_54 : BitVec 32 := 256#32
  let v86 : BitVec 32 := Scalar.muli v85 c256_i32_54
  let c0_i32_61 : BitVec 32 := 0#32
  ![v86.toNat, 0]
def k0_off6 (d0 : Dev nD) : Fin 2 → Nat :=
  let c1_i32_62 : BitVec 32 := 1#32
  let v6 : BitVec 32 := Dev.word d0
  let c1_i32 : BitVec 32 := 1#32
  let v7 : BitVec 32 := Scalar.divsi v6 c1_i32
  let c2_i32_2 : BitVec 32 := 2#32
  let v8 : BitVec 32 := Scalar.remsi v7 c2_i32_2
  let v96 : BitVec 32 := Scalar.subi c1_i32_62 v8
  let c1024_i32_63 : BitVec 32 := 1024#32
  let v97 : BitVec 32 := Scalar.muli v96 c1024_i32_63
  let c0_i32_70 : BitVec 32 := 0#32
  ![v97.toNat, 0]
-- ==== PairShareRef.lean ====
abbrev S2048x5632 : Shape := ⟨2, ![2048, 5632]⟩
abbrev S2048x2048 : Shape := ⟨2, ![2048, 2048]⟩
abbrev S2048x6144 : Shape := ⟨2, ![2048, 6144]⟩

abbrev nBuf : Space → Nat
  | .hbm => 4
  | .vmem => 0
  | .smem => 0
  | _ => 0

abbrev bufTy : (tb : Table) → Fin (tcTables nBuf tb) → BufTy
  | .hbm, ⟨0, _⟩ => ⟨S2048x5632, .f32⟩
  | .hbm, ⟨1, _⟩ => ⟨S2048x2048, .f32⟩
  | .hbm, ⟨2, _⟩ => ⟨S2048x6144, .f32⟩
  | .hbm, ⟨3, _⟩ => ⟨S2048x2048, .f32⟩
  | _, _ => ⟨S2048x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩

abbrev nD : Nat := 1
abbrev τ : Topo := Topo.v7x

variable {F : FTy → Type} [FloatOps F]
-- ==== PairSumEvIn.lean ====
abbrev S1024x5632 : Shape := ⟨2, ![1024, 5632]⟩
abbrev S256x5632 : Shape := ⟨2, ![256, 5632]⟩

abbrev nBuf : Space → Nat
  | .hbm => 3
  | .vmem => 6
  | .smem => 0
  | _ => 0

abbrev bufTy : (tb : Table) → Fin (tcTables nBuf tb) → BufTy
  | .hbm, ⟨0, _⟩ => ⟨S1024x5632, .f32⟩
  | .hbm, ⟨1, _⟩ => ⟨S1024x5632, .f32⟩
  | .hbm, ⟨2, _⟩ => ⟨S1024x5632, .f32⟩
  | .local _ .vmem, ⟨0, _⟩ => ⟨S256x5632, .f32⟩
  | .local _ .vmem, ⟨1, _⟩ => ⟨S256x5632, .f32⟩
  | .local _ .vmem, ⟨2, _⟩ => ⟨S256x5632, .f32⟩
  | .local _ .vmem, ⟨3, _⟩ => ⟨S256x5632, .f32⟩
  | .local _ .vmem, ⟨4, _⟩ => ⟨S256x5632, .f32⟩
  | .local _ .vmem, ⟨5, _⟩ => ⟨S256x5632, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumEvInIdeal.lean ====
abbrev S1024x5632 : Shape := ⟨2, ![1024, 5632]⟩
abbrev S256x5632 : Shape := ⟨2, ![256, 5632]⟩

abbrev nBuf : Space → Nat
  | .hbm => 3
  | .vmem => 6
  | .smem => 0
  | _ => 0

abbrev bufTy : (tb : Table) → Fin (tcTables nBuf tb) → BufTy
  | .hbm, ⟨0, _⟩ => ⟨S1024x5632, .f32⟩
  | .hbm, ⟨1, _⟩ => ⟨S1024x5632, .f32⟩
  | .hbm, ⟨2, _⟩ => ⟨S1024x5632, .f32⟩
  | .local _ .vmem, ⟨0, _⟩ => ⟨S256x5632, .f32⟩
  | .local _ .vmem, ⟨1, _⟩ => ⟨S256x5632, .f32⟩
  | .local _ .vmem, ⟨2, _⟩ => ⟨S256x5632, .f32⟩
  | .local _ .vmem, ⟨3, _⟩ => ⟨S256x5632, .f32⟩
  | .local _ .vmem, ⟨4, _⟩ => ⟨S256x5632, .f32⟩
  | .local _ .vmem, ⟨5, _⟩ => ⟨S256x5632, .f32⟩
  | _, _ => ⟨S1024x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x5632 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x5632 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x5632 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumEvInRefIdeal.lean ====
abbrev S1024x5632 : Shape := ⟨2, ![1024, 5632]⟩

abbrev nBuf : Space → Nat
  | .hbm => 3
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S1024x5632, .f32⟩
  | .hbm, ⟨2, _⟩ => ⟨S1024x5632, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairSumEvInRef.lean ====
abbrev S1024x5632 : Shape := ⟨2, ![1024, 5632]⟩

abbrev nBuf : Space → Nat
  | .hbm => 3
  | .vmem => 0
  | .smem => 0
  | _ => 0

abbrev bufTy : (tb : Table) → Fin (tcTables nBuf tb) → BufTy
  | .hbm, ⟨0, _⟩ => ⟨S1024x5632, .f32⟩
  | .hbm, ⟨1, _⟩ => ⟨S1024x5632, .f32⟩
  | .hbm, ⟨2, _⟩ => ⟨S1024x5632, .f32⟩
  | _, _ => ⟨S1024x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairSumOut.lean ====
abbrev S1024x2048 : Shape := ⟨2, ![1024, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumOutIdeal.lean ====
abbrev S1024x2048 : Shape := ⟨2, ![1024, 2048]⟩
abbrev S256x2048 : Shape := ⟨2, ![256, 2048]⟩

abbrev nBuf : Space → Nat
  | .hbm => 3
  | .vmem => 6
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumOutRefIdeal.lean ====
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairSumOutRef.lean ====
abbrev S1024x2048 : Shape := ⟨2, ![1024, 2048]⟩

abbrev nBuf : Space → Nat
  | .hbm => 3
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S1024x2048, .f32⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== PairSumOdIn.lean ====
abbrev S1024x6144 : Shape := ⟨2, ![1024, 6144]⟩
abbrev S256x6144 : Shape := ⟨2, ![256, 6144]⟩

abbrev nBuf : Space → Nat
  | .hbm => 3
  | .vmem => 6
  | .smem => 0
  | _ => 0

abbrev bufTy : (tb : Table) → Fin (tcTables nBuf tb) → BufTy
  | .hbm, ⟨0, _⟩ => ⟨S1024x6144, .f32⟩
  | .hbm, ⟨1, _⟩ => ⟨S1024x6144, .f32⟩
  | .hbm, ⟨2, _⟩ => ⟨S1024x6144, .f32⟩
  | .local _ .vmem, ⟨0, _⟩ => ⟨S256x6144, .f32⟩
  | .local _ .vmem, ⟨1, _⟩ => ⟨S256x6144, .f32⟩
  | .local _ .vmem, ⟨2, _⟩ => ⟨S256x6144, .f32⟩
  | .local _ .vmem, ⟨3, _⟩ => ⟨S256x6144, .f32⟩
  | .local _ .vmem, ⟨4, _⟩ => ⟨S256x6144, .f32⟩
  | .local _ .vmem, ⟨5, _⟩ => ⟨S256x6144, .f32⟩
  | _, _ => ⟨S1024x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x6144 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x6144 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x6144 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== PairSumOdInRef.lean ====
abbrev S1024x6144 : Shape := ⟨2, ![1024, 6144]⟩

abbrev nBuf : Space → Nat
  | .hbm => 3
  | .vmem => 0
  | .smem => 0
  | _ => 0

abbrev bufTy : (tb : Table) → Fin (tcTables nBuf tb) → BufTy
  | .hbm, ⟨0, _⟩ => ⟨S1024x6144, .f32⟩
  | .hbm, ⟨1, _⟩ => ⟨S1024x6144, .f32⟩
  | .hbm, ⟨2, _⟩ => ⟨S1024x6144, .f32⟩
  | _, _ => ⟨S1024x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SlotSumEvIn.lean ====
abbrev S4x1024x1408 : Shape := ⟨3, ![4, 1024, 1408]⟩
abbrev S1024x1408 : Shape := ⟨2, ![1024, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .f32⟩
  | .hbm, ⟨1, _⟩ => ⟨S1024x1408, .f32⟩
  | .local _ .vmem, ⟨0, _⟩ => ⟨S4x256x1408, .f32⟩
  | .local _ .vmem, ⟨1, _⟩ => ⟨S4x256x1408, .f32⟩
  | .local _ .vmem, ⟨2, _⟩ => ⟨S256x1408, .f32⟩
  | .local _ .vmem, ⟨3, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotSumEvInIdeal.lean ====
abbrev S4x1024x1408 : Shape := ⟨3, ![4, 1024, 1408]⟩
abbrev S1024x1408 : Shape := ⟨2, ![1024, 1408]⟩
abbrev S4x256x1408 : Shape := ⟨3, ![4, 256, 1408]⟩
abbrev S256x1408 : Shape := ⟨2, ![256, 1408]⟩
abbrev S1x256x1408 : Shape := ⟨3, ![1, 256, 1408]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1408, .f32⟩
  | .hbm, ⟨1, _⟩ => ⟨S1024x1408, .f32⟩
  | .local _ .vmem, ⟨0, _⟩ => ⟨S4x256x1408, .f32⟩
  | .local _ .vmem, ⟨1, _⟩ => ⟨S4x256x1408, .f32⟩
  | .local _ .vmem, ⟨2, _⟩ => ⟨S256x1408, .f32⟩
  | .local _ .vmem, ⟨3, _⟩ => ⟨S256x1408, .f32⟩
  | _, _ => ⟨S4x1024x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotSumEvInRefIdeal.lean ====
abbrev S4x1024x1408 : Shape := ⟨3, ![4, 1024, 1408]⟩
abbrev S_ : Shape := ⟨0, ![]⟩
abbrev S1024x1408 : Shape := ⟨2, ![1024, 1408]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x1408, .f32⟩
  | .hbm, ⟨1, _⟩ => ⟨S_, .f32⟩
  | .hbm, ⟨2, _⟩ => ⟨S1024x1408, .f32⟩
  | _, _ => ⟨S4x1024x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SlotSumOut.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x256x2048, .f32⟩
  | .hbm, ⟨1, _⟩ => ⟨S256x2048, .f32⟩
  | .local _ .vmem, ⟨0, _⟩ => ⟨S4x256x2048, .f32⟩
  | .local _ .vmem, ⟨1, _⟩ => ⟨S256x2048, .f32⟩
  | _, _ => ⟨S4x256x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SlotSumOutIdeal.lean ====
abbrev S4x256x2048 : Shape := ⟨3, ![4, 256, 2048]⟩
abbrev S256x2048 : Shape := ⟨2, ![256, 2048]⟩
abbrev S1x256x2048 : Shape := ⟨3, ![1, 256, 2048]⟩

abbrev nBuf : Space → Nat
  | .hbm => 2
  | .vmem => 2
  | .smem => 0
  | _ => 0

abbrev bufTy : (tb : Table) → Fin (tcTables nBuf tb) → BufTy
  | .hbm, ⟨0, _⟩ => ⟨S4x256x2048, .f32⟩
  | .hbm, ⟨1, _⟩ => ⟨S256x2048, .f32⟩
  | .local _ .vmem, ⟨0, _⟩ => ⟨S4x256x2048, .f32⟩
  | .local _ .vmem, ⟨1, _⟩ => ⟨S256x2048, .f32⟩
  | _, _ => ⟨S4x256x2048, .f32⟩

abbrev bufScoped : (cs : CoreSpace) → Fin (nBuf (.core cs)) → Bool
  | .vmem, ⟨0, _⟩ => true
  | .vmem, ⟨1, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg1_0 : Ref sig .tc := ⟨.vmem, 1, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S4x256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== SlotSumOutRefIdeal.lean ====
abbrev S4x256x2048 : Shape := ⟨3, ![4, 256, 2048]⟩
abbrev S_ : Shape := ⟨0, ![]⟩
abbrev S256x2048 : Shape := ⟨2, ![256, 2048]⟩

abbrev nBuf : Space → Nat
  | .hbm => 3
  | .vmem => 0
  | .smem => 0
  | _ => 0

abbrev bufTy : (tb : Table) → Fin (tcTables nBuf tb) → BufTy
  | .hbm, ⟨0, _⟩ => ⟨S4x256x2048, .f32⟩
  | .hbm, ⟨1, _⟩ => ⟨S_, .f32⟩
  | .hbm, ⟨2, _⟩ => ⟨S256x2048, .f32⟩
  | _, _ => ⟨S4x256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SlotSumOdIn.lean ====
abbrev S4x1024x1536 : Shape := ⟨3, ![4, 1024, 1536]⟩
abbrev S1024x1536 : Shape := ⟨2, ![1024, 1536]⟩
abbrev S4x256x1536 : Shape := ⟨3, ![4, 256, 1536]⟩
abbrev S256x1536 : Shape := ⟨2, ![256, 1536]⟩
abbrev S1x256x1536 : Shape := ⟨3, ![1, 256, 1536]⟩

abbrev nBuf : Space → Nat
  | .hbm => 2
  | .vmem => 4
  | .smem => 0
  | _ => 0

abbrev bufTy : (tb : Table) → Fin (tcTables nBuf tb) → BufTy
  | .hbm, ⟨0, _⟩ => ⟨S4x1024x1536, .f32⟩
  | .hbm, ⟨1, _⟩ => ⟨S1024x1536, .f32⟩
  | .local _ .vmem, ⟨0, _⟩ => ⟨S4x256x1536, .f32⟩
  | .local _ .vmem, ⟨1, _⟩ => ⟨S4x256x1536, .f32⟩
  | .local _ .vmem, ⟨2, _⟩ => ⟨S256x1536, .f32⟩
  | .local _ .vmem, ⟨3, _⟩ => ⟨S256x1536, .f32⟩
  | _, _ => ⟨S4x1024x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SlotSumOdInRefIdeal.lean ====
abbrev S4x1024x1536 : Shape := ⟨3, ![4, 1024, 1536]⟩
abbrev S_ : Shape := ⟨0, ![]⟩
abbrev S1024x1536 : Shape := ⟨2, ![1024, 1536]⟩

abbrev nBuf : Space → Nat
  | .hbm => 3
  | .vmem => 0
  | .smem => 0
  | _ => 0

abbrev bufTy : (tb : Table) → Fin (tcTables nBuf tb) → BufTy
  | .hbm, ⟨0, _⟩ => ⟨S4x1024x1536, .f32⟩
  | .hbm, ⟨1, _⟩ => ⟨S_, .f32⟩
  | .hbm, ⟨2, _⟩ => ⟨S1024x1536, .f32⟩
  | _, _ => ⟨S4x1024x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== SmallGrads.lean ====
abbrev S8x1x6144 : Shape := ⟨3, ![8, 1, 6144]⟩
abbrev S8x1x2048 : Shape := ⟨3, ![8, 1, 2048]⟩
abbrev S8x1x128 : Shape := ⟨3, ![8, 1, 128]⟩
abbrev S8x31x1024 : Shape := ⟨3, ![8, 31, 1024]⟩
abbrev S8x1x1024 : Shape := ⟨3, ![8, 1, 1024]⟩
abbrev S8x8x128x128 : Shape := ⟨4, ![8, 8, 128, 128]⟩
abbrev S8x8x128 : Shape := ⟨3, ![8, 8, 128]⟩
abbrev S8x6144 : Shape := ⟨2, ![8, 6144]⟩
abbrev S8x2048 : Shape := ⟨2, ![8, 2048]⟩
abbrev S8x128 : Shape := ⟨2, ![8, 128]⟩
abbrev S8x31744 : Shape := ⟨2, ![8, 31744]⟩
abbrev S8x1024 : Shape := ⟨2, ![8, 1024]⟩
abbrev S8x131072 : Shape := ⟨2, ![8, 131072]⟩
abbrev S8x195840 : Shape := ⟨2, ![8, 195840]⟩
abbrev S_ : Shape := ⟨0, ![]⟩
abbrev S8x196608 : Shape := ⟨2, ![8, 196608]⟩
abbrev S8x1536x128 : Shape := ⟨3, ![8, 1536, 128]⟩
abbrev S1536x128 : Shape := ⟨2, ![1536, 128]⟩
abbrev S8x256x128 : Shape := ⟨3, ![8, 256, 128]⟩
abbrev S256x128 : Shape := ⟨2, ![256, 128]⟩
abbrev S1x256x128 : Shape := ⟨3, ![1, 256, 128]⟩
abbrev S196608 : Shape := ⟨1, ![196608]⟩
abbrev S6144 : Shape := ⟨1, ![6144]⟩
abbrev S1x6144 : Shape := ⟨2, ![1, 6144]⟩
abbrev S2048 : Shape := ⟨1, ![2048]⟩
abbrev S1x2048 : Shape := ⟨2, ![1, 2048]⟩
abbrev S128 : Shape := ⟨1, ![128]⟩
abbrev S1x128 : Shape := ⟨2, ![1, 128]⟩
abbrev S31744 : Shape := ⟨1, ![31744]⟩
abbrev S31x1024 : Shape := ⟨2, ![31, 1024]⟩
abbrev S1024 : Shape := ⟨1, ![1024]⟩
abbrev S1x1024 : Shape := ⟨2, ![1, 1024]⟩
abbrev S131072 : Shape := ⟨1, ![131072]⟩
abbrev S8x128x128 : Shape := ⟨3, ![8, 128, 128]⟩
abbrev S2x6144 : Shape := ⟨2, ![2, 6144]⟩
abbrev S2x2048 : Shape := ⟨2, ![2, 2048]⟩

abbrev nBuf : Space → Nat
  | .hbm => 79
  | .vmem => 4
  | .smem => 0
  | _ => 0

abbrev bufTy : (tb : Table) → Fin (tcTables nBuf tb) → BufTy
  | .hbm, ⟨0, _⟩ => ⟨S8x1x6144, .f32⟩
  | .hbm, ⟨1, _⟩ => ⟨S8x1x6144, .f32⟩
  | .hbm, ⟨2, _⟩ => ⟨S8x1x6144, .f32⟩
  | .hbm, ⟨3, _⟩ => ⟨S8x1x2048, .f32⟩
  | .hbm, ⟨4, _⟩ => ⟨S8x1x2048, .f32⟩
  | .hbm, ⟨5, _⟩ => ⟨S8x1x128, .f32⟩
  | .hbm, ⟨6, _⟩ => ⟨S8x1x128, .f32⟩
  | .hbm, ⟨7, _⟩ => ⟨S8x31x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x2048, .f32⟩
  | .hbm, ⟨12, _⟩ => ⟨S8x1x2048, .f32⟩
  | .hbm, ⟨13, _⟩ => ⟨S8x8x128x128, .f32⟩
  | .hbm, ⟨14, _⟩ => ⟨S8x8x128, .f32⟩
  | .hbm, ⟨15, _⟩ => ⟨S8x1x2048, .f32⟩
  | .hbm, ⟨16, _⟩ => ⟨S8x6144, .f32⟩
  | .hbm, ⟨17, _⟩ => ⟨S8x6144, .f32⟩
  | .hbm, ⟨18, _⟩ => ⟨S8x6144, .f32⟩
  | .hbm, ⟨19, _⟩ => ⟨S8x2048, .f32⟩
  | .hbm, ⟨20, _⟩ => ⟨S8x2048, .f32⟩
  | .hbm, ⟨21, _⟩ => ⟨S8x128, .f32⟩
  | .hbm, ⟨22, _⟩ => ⟨S8x128, .f32⟩
  | .hbm, ⟨23, _⟩ => ⟨S8x31744, .f32⟩
  | .hbm, ⟨24, _⟩ => ⟨S8x1024, .f32⟩
  | .hbm, ⟨25, _⟩ => ⟨S8x1024, .f32⟩
  | .hbm, ⟨26, _⟩ => ⟨S8x1024, .f32⟩
  | .hbm, ⟨27, _⟩ => ⟨S8x2048, .f32⟩
  | .hbm, ⟨28, _⟩ => ⟨S8x2048, .f32⟩
  | .hbm, ⟨29, _⟩ => ⟨S8x131072, .f32⟩
  | .hbm, ⟨30, _⟩ => ⟨S8x1024, .f32⟩
  | .hbm, ⟨31, _⟩ => ⟨S8x2048, .f32⟩
  | .hbm, ⟨32, _⟩ => ⟨S8x195840, .f32⟩
  | .hbm, ⟨33, _⟩ => ⟨S_, .i32⟩
  | .hbm, ⟨34, _⟩ => ⟨S_, .f32⟩
  | .hbm, ⟨35, _⟩ => ⟨S8x196608, .f32⟩
  | .hbm, ⟨36, _⟩ => ⟨S8x1536x128, .f32⟩
  | .hbm, ⟨37, _⟩ => ⟨S1536x128, .f32⟩
  | .hbm, ⟨38, _⟩ => ⟨S196608, .f32⟩
  | .hbm, ⟨39, _⟩ => ⟨S6144, .f32⟩
  | .hbm, ⟨40, _⟩ => ⟨S1x6144, .f32⟩
  | .hbm, ⟨41, _⟩ => ⟨S6144, .f32⟩
  | .hbm, ⟨42, _⟩ => ⟨S1x6144, .f32⟩
  | .hbm, ⟨43, _⟩ => ⟨S6144, .f32⟩
  | .hbm, ⟨44, _⟩ => ⟨S1x6144, .f32⟩
  | .hbm, ⟨45, _⟩ => ⟨S2048, .f32⟩
  | .hbm, ⟨46, _⟩ => ⟨S1x2048, .f32⟩
  | .hbm, ⟨47, _⟩ => ⟨S2048, .f32⟩
  | .hbm, ⟨48, _⟩ => ⟨S1x2048, .f32⟩
  | .hbm, ⟨49, _⟩ => ⟨S128, .f32⟩
  | .hbm, ⟨50, _⟩ => ⟨S1x128, .f32⟩
  | .hbm, ⟨51, _⟩ => ⟨S128, .f32⟩
  | .hbm, ⟨52, _⟩ => ⟨S1x128, .f32⟩
  | .hbm, ⟨53, _⟩ => ⟨S31744, .f32⟩
  | .hbm, ⟨54, _⟩ => ⟨S31x1024, .f32⟩
  | .hbm, ⟨55, _⟩ => ⟨S1024, .f32⟩
  | .hbm, ⟨56, _⟩ => ⟨S1x1024, .f32⟩
  | .hbm, ⟨57, _⟩ => ⟨S1024, .f32⟩
  | .hbm, ⟨58, _⟩ => ⟨S1x1024, .f32⟩
  | .hbm, ⟨59, _⟩ => ⟨S1024, .f32⟩
  | .hbm, ⟨60, _⟩ => ⟨S1x1024, .f32⟩
  | .hbm, ⟨61, _⟩ => ⟨S2048, .f32⟩
  | .hbm, ⟨62, _⟩ => ⟨S1x2048, .f32⟩
  | .hbm, ⟨63, _⟩ => ⟨S2048, .f32⟩
  | .hbm, ⟨64, _⟩ => ⟨S1x2048, .f32⟩
  | .hbm, ⟨65, _⟩ => ⟨S131072, .f32⟩
  | .hbm, ⟨66, _⟩ => ⟨S8x128x128, .f32⟩
  | .hbm, ⟨67, _⟩ => ⟨S1024, .f32⟩
  | .hbm, ⟨68, _⟩ => ⟨S8x128, .f32⟩
  | .hbm, ⟨69, _⟩ => ⟨S2048, .f32⟩
  | .hbm, ⟨70, _⟩ => ⟨S1x2048, .f32⟩
  | .hbm, ⟨71, _⟩ => ⟨S6144, .f32⟩
  | .hbm, ⟨72, _⟩ => ⟨S6144, .f32⟩
  | .hbm, ⟨73, _⟩ => ⟨S6144, .f32⟩
  | .hbm, ⟨74, _⟩ => ⟨S6144, .f32⟩
  | .hbm, ⟨75, _⟩ => ⟨S1x6144, .f32⟩
  | .hbm, ⟨76, _⟩ => ⟨S1x6144, .f32⟩
  | .hbm, ⟨77, _⟩ => ⟨S2x6144, .f32⟩
  | .hbm, ⟨78, _⟩ => ⟨S2x2048, .f32⟩
  | .local _ .vmem, ⟨0, _⟩ => ⟨S8x256x128, .f32⟩
  | .local _ .vmem, ⟨1, _⟩ => ⟨S8x256x128, .f32⟩
  | .local _ .vmem, ⟨2, _⟩ => ⟨S256x128, .f32⟩
  | .local _ .vmem, ⟨3, _⟩ => ⟨S256x128, .f32⟩
  | _, _ => ⟨S8x1x6144, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_v0 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_c : Ref sig .tc := ⟨.hbm, 33, rfl⟩
abbrev main_call0_v0 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_v31 : Ref sig .tc := ⟨.hbm, 49, rfl⟩
abbrev main_v32 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_v43 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_v53 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![6], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x256x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== SmallGradsRefIdeal.lean ====
abbrev S8x1x6144 : Shape := ⟨3, ![8, 1, 6144]⟩
abbrev S8x1x2048 : Shape := ⟨3, ![8, 1, 2048]⟩
abbrev S8x1x128 : Shape := ⟨3, ![8, 1, 128]⟩
abbrev S8x31x1024 : Shape := ⟨3, ![8, 31, 1024]⟩
abbrev S8x1x1024 : Shape := ⟨3, ![8, 1, 1024]⟩
abbrev S8x8x128x128 : Shape := ⟨4, ![8, 8, 128, 128]⟩
abbrev S8x8x128 : Shape := ⟨3, ![8, 8, 128]⟩
abbrev S_ : Shape := ⟨0, ![]⟩
abbrev S1x6144 : Shape := ⟨2, ![1, 6144]⟩
abbrev S1x2048 : Shape := ⟨2, ![1, 2048]⟩
abbrev S1x128 : Shape := ⟨2, ![1, 128]⟩
abbrev S31x1024 : Shape := ⟨2, ![31, 1024]⟩
abbrev S1x1024 : Shape := ⟨2, ![1, 1024]⟩
abbrev S8x128x128 : Shape := ⟨3, ![8, 128, 128]⟩
abbrev S8x128 : Shape := ⟨2, ![8, 128]⟩
abbrev S2x6144 : Shape := ⟨2, ![2, 6144]⟩
abbrev S2x2048 : Shape := ⟨2, ![2, 2048]⟩

abbrev nBuf : Space → Nat
  | .hbm => 51
  | .vmem => 0
  | .smem => 0
  | _ => 0

abbrev bufTy : (tb : Table) → Fin (tcTables nBuf tb) → BufTy
  | .hbm, ⟨0, _⟩ => ⟨S8x1x6144, .f32⟩
  | .hbm, ⟨1, _⟩ => ⟨S8x1x6144, .f32⟩
  | .hbm, ⟨2, _⟩ => ⟨S8x1x6144, .f32⟩
  | .hbm, ⟨3, _⟩ => ⟨S8x1x2048, .f32⟩
  | .hbm, ⟨4, _⟩ => ⟨S8x1x2048, .f32⟩
  | .hbm, ⟨5, _⟩ => ⟨S8x1x128, .f32⟩
  | .hbm, ⟨6, _⟩ => ⟨S8x1x128, .f32⟩
  | .hbm, ⟨7, _⟩ => ⟨S8x31x1024, .f32⟩
  | .hbm, ⟨8, _⟩ => ⟨S8x1x1024, .f32⟩
  | .hbm, ⟨9, _⟩ => ⟨S8x1x1024, .f32⟩
  | .hbm, ⟨10, _⟩ => ⟨S8x1x1024, .f32⟩
  | .hbm, ⟨11, _⟩ => ⟨S8x1x2048, .f32⟩
  | .hbm, ⟨12, _⟩ => ⟨S8x1x2048, .f32⟩
  | .hbm, ⟨13, _⟩ => ⟨S8x8x128x128, .f32⟩
  | .hbm, ⟨14, _⟩ => ⟨S8x8x128, .f32⟩
  | .hbm, ⟨15, _⟩ => ⟨S8x1x2048, .f32⟩
  | .hbm, ⟨16, _⟩ => ⟨S_, .f32⟩
  | .hbm, ⟨17, _⟩ => ⟨S1x6144, .f32⟩
  | .hbm, ⟨18, _⟩ => ⟨S_, .f32⟩
  | .hbm, ⟨19, _⟩ => ⟨S1x6144, .f32⟩
  | .hbm, ⟨20, _⟩ => ⟨S_, .f32⟩
  | .hbm, ⟨21, _⟩ => ⟨S1x6144, .f32⟩
  | .hbm, ⟨22, _⟩ => ⟨S_, .f32⟩
  | .hbm, ⟨23, _⟩ => ⟨S1x2048, .f32⟩
  | .hbm, ⟨24, _⟩ => ⟨S_, .f32⟩
  | .hbm, ⟨25, _⟩ => ⟨S1x2048, .f32⟩
  | .hbm, ⟨26, _⟩ => ⟨S_, .f32⟩
  | .hbm, ⟨27, _⟩ => ⟨S1x128, .f32⟩
  | .hbm, ⟨28, _⟩ => ⟨S_, .f32⟩
  | .hbm, ⟨29, _⟩ => ⟨S1x128, .f32⟩
  | .hbm, ⟨30, _⟩ => ⟨S_, .f32⟩
  | .hbm, ⟨31, _⟩ => ⟨S31x1024, .f32⟩
  | .hbm, ⟨32, _⟩ => ⟨S_, .f32⟩
  | .hbm, ⟨33, _⟩ => ⟨S1x1024, .f32⟩
  | .hbm, ⟨34, _⟩ => ⟨S_, .f32⟩
  | .hbm, ⟨35, _⟩ => ⟨S1x1024, .f32⟩
  | .hbm, ⟨36, _⟩ => ⟨S_, .f32⟩
  | .hbm, ⟨37, _⟩ => ⟨S1x1024, .f32⟩
  | .hbm, ⟨38, _⟩ => ⟨S_, .f32⟩
  | .hbm, ⟨39, _⟩ => ⟨S1x2048, .f32⟩
  | .hbm, ⟨40, _⟩ => ⟨S_, .f32⟩
  | .hbm, ⟨41, _⟩ => ⟨S1x2048, .f32⟩
  | .hbm, ⟨42, _⟩ => ⟨S_, .f32⟩
  | .hbm, ⟨43, _⟩ => ⟨S8x128x128, .f32⟩
  | .hbm, ⟨44, _⟩ => ⟨S_, .f32⟩
  | .hbm, ⟨45, _⟩ => ⟨S8x128, .f32⟩
  | .hbm, ⟨46, _⟩ => ⟨S_, .f32⟩
  | .hbm, ⟨47, _⟩ => ⟨S1x2048, .f32⟩
  | .hbm, ⟨48, _⟩ => ⟨S1x6144, .f32⟩
  | .hbm, ⟨49, _⟩ => ⟨S2x6144, .f32⟩
  | .hbm, ⟨50, _⟩ => ⟨S2x2048, .f32⟩
  | _, _ => ⟨S8x1x6144, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_cst : Ref sig .tc := ⟨.hbm, 16, rfl⟩
abbrev main_v0 : Ref sig .tc := ⟨.hbm, 17, rfl⟩
abbrev main_cst_0 : Ref sig .tc := ⟨.hbm, 18, rfl⟩
abbrev main_v1 : Ref sig .tc := ⟨.hbm, 19, rfl⟩
abbrev main_cst_1 : Ref sig .tc := ⟨.hbm, 20, rfl⟩
abbrev main_v2 : Ref sig .tc := ⟨.hbm, 21, rfl⟩
abbrev main_cst_2 : Ref sig .tc := ⟨.hbm, 22, rfl⟩
abbrev main_v3 : Ref sig .tc := ⟨.hbm, 23, rfl⟩
abbrev main_cst_3 : Ref sig .tc := ⟨.hbm, 24, rfl⟩
abbrev main_v4 : Ref sig .tc := ⟨.hbm, 25, rfl⟩
abbrev main_cst_4 : Ref sig .tc := ⟨.hbm, 26, rfl⟩
abbrev main_v5 : Ref sig .tc := ⟨.hbm, 27, rfl⟩
abbrev main_cst_5 : Ref sig .tc := ⟨.hbm, 28, rfl⟩
abbrev main_v6 : Ref sig .tc := ⟨.hbm, 29, rfl⟩
abbrev main_cst_6 : Ref sig .tc := ⟨.hbm, 30, rfl⟩
abbrev main_v7 : Ref sig .tc := ⟨.hbm, 31, rfl⟩
abbrev main_cst_7 : Ref sig .tc := ⟨.hbm, 32, rfl⟩
abbrev main_v8 : Ref sig .tc := ⟨.hbm, 33, rfl⟩
abbrev main_cst_8 : Ref sig .tc := ⟨.hbm, 34, rfl⟩
abbrev main_v9 : Ref sig .tc := ⟨.hbm, 35, rfl⟩
abbrev main_cst_9 : Ref sig .tc := ⟨.hbm, 36, rfl⟩
abbrev main_v10 : Ref sig .tc := ⟨.hbm, 37, rfl⟩
abbrev main_cst_10 : Ref sig .tc := ⟨.hbm, 38, rfl⟩
abbrev main_v11 : Ref sig .tc := ⟨.hbm, 39, rfl⟩
abbrev main_cst_11 : Ref sig .tc := ⟨.hbm, 40, rfl⟩
abbrev main_v12 : Ref sig .tc := ⟨.hbm, 41, rfl⟩
abbrev main_cst_12 : Ref sig .tc := ⟨.hbm, 42, rfl⟩
abbrev main_v13 : Ref sig .tc := ⟨.hbm, 43, rfl⟩
abbrev main_cst_13 : Ref sig .tc := ⟨.hbm, 44, rfl⟩
abbrev main_v14 : Ref sig .tc := ⟨.hbm, 45, rfl⟩
abbrev main_cst_14 : Ref sig .tc := ⟨.hbm, 46, rfl⟩
abbrev main_v15 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩

abbrev nD : Nat := 1
abbrev τ : Topo := Topo.v7x

variable {F : FTy → Type} [FloatOps F]
-- ==== AdamwAda.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAdaIdeal.lean ====
abbrev S4096x1536 : Shape := ⟨2, ![4096, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S4096x1536, .f32⟩
  | .hbm, ⟨5, _⟩ => ⟨S4096x1536, .f32⟩
  | .hbm, ⟨6, _⟩ => ⟨S4096x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S4096x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwAdaRefIdeal.lean ====
abbrev S4096x1536 : Shape := ⟨2, ![4096, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S4096x1536, .f32⟩
  | .hbm, ⟨1, _⟩ => ⟨S4096x1536, .f32⟩
  | .hbm, ⟨2, _⟩ => ⟨S4096x1536, .f32⟩
  | .hbm, ⟨3, _⟩ => ⟨S4096x1536, .f32⟩
  | .hbm, ⟨4, _⟩ => ⟨S_, .f32⟩
  | .hbm, ⟨5, _⟩ => ⟨S4096x1536, .f32⟩
  | .hbm, ⟨6, _⟩ => ⟨S4096x1536, .f32⟩
  | .hbm, ⟨7, _⟩ => ⟨S_, .f32⟩
  | .hbm, ⟨8, _⟩ => ⟨S4096x1536, .f32⟩
  | .hbm, ⟨9, _⟩ => ⟨S4096x1536, .f32⟩
  | .hbm, ⟨10, _⟩ => ⟨S4096x1536, .f32⟩
  | .hbm, ⟨11, _⟩ => ⟨S_, .f32⟩
  | .hbm, ⟨12, _⟩ => ⟨S4096x1536, .f32⟩
  | .hbm, ⟨13, _⟩ => ⟨S4096x1536, .f32⟩
  | .hbm, ⟨14, _⟩ => ⟨S4096x1536, .f32⟩
  | .hbm, ⟨15, _⟩ => ⟨S_, .f32⟩
  | .hbm, ⟨16, _⟩ => ⟨S4096x1536, .f32⟩
  | .hbm, ⟨17, _⟩ => ⟨S4096x1536, .f32⟩
  | .hbm, ⟨18, _⟩ => ⟨S4096x1536, .f32⟩
  | .hbm, ⟨19, _⟩ => ⟨S_, .f32⟩
  | .hbm, ⟨20, _⟩ => ⟨S4096x1536, .f32⟩
  | .hbm, ⟨21, _⟩ => ⟨S4096x1536, .f32⟩
  | .hbm, ⟨22, _⟩ => ⟨S_, .f32⟩
  | .hbm, ⟨23, _⟩ => ⟨S4096x1536, .f32⟩
  | .hbm, ⟨24, _⟩ => ⟨S4096x1536, .f32⟩
  | .hbm, ⟨25, _⟩ => ⟨S4096x1536, .f32⟩
  | .hbm, ⟨26, _⟩ => ⟨S_, .f32⟩
  | .hbm, ⟨27, _⟩ => ⟨S4096x1536, .f32⟩
  | .hbm, ⟨28, _⟩ => ⟨S4096x1536, .f32⟩
  | .hbm, ⟨29, _⟩ => ⟨S4096x1536, .f32⟩
  | .hbm, ⟨30, _⟩ => ⟨S_, .f32⟩
  | .hbm, ⟨31, _⟩ => ⟨S4096x1536, .f32⟩
  | .hbm, ⟨32, _⟩ => ⟨S4096x1536, .f32⟩
  | .hbm, ⟨33, _⟩ => ⟨S4096x1536, .f32⟩
  | .hbm, ⟨34, _⟩ => ⟨S_, .f32⟩
  | .hbm, ⟨35, _⟩ => ⟨S4096x1536, .f32⟩
  | .hbm, ⟨36, _⟩ => ⟨S4096x1536, .f32⟩
  | _, _ => ⟨S4096x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwEvIn.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwEvInIdeal.lean ====
abbrev S2048x1408 : Shape := ⟨2, ![2048, 1408]⟩
abbrev S256x1408 : Shape := ⟨2, ![256, 1408]⟩

abbrev nBuf : Space → Nat
  | .hbm => 7
  | .vmem => 14
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S2048x1408, .f32⟩
  | .hbm, ⟨5, _⟩ => ⟨S2048x1408, .f32⟩
  | .hbm, ⟨6, _⟩ => ⟨S2048x1408, .f32⟩
  | .local _ .vmem, ⟨0, _⟩ => ⟨S256x1408, .f32⟩
  | .local _ .vmem, ⟨1, _⟩ => ⟨S256x1408, .f32⟩
  | .local _ .vmem, ⟨2, _⟩ => ⟨S256x1408, .f32⟩
  | .local _ .vmem, ⟨3, _⟩ => ⟨S256x1408, .f32⟩
  | .local _ .vmem, ⟨4, _⟩ => ⟨S256x1408, .f32⟩
  | .local _ .vmem, ⟨5, _⟩ => ⟨S256x1408, .f32⟩
  | .local _ .vmem, ⟨6, _⟩ => ⟨S256x1408, .f32⟩
  | .local _ .vmem, ⟨7, _⟩ => ⟨S256x1408, .f32⟩
  | .local _ .vmem, ⟨8, _⟩ => ⟨S256x1408, .f32⟩
  | .local _ .vmem, ⟨9, _⟩ => ⟨S256x1408, .f32⟩
  | .local _ .vmem, ⟨10, _⟩ => ⟨S256x1408, .f32⟩
  | .local _ .vmem, ⟨11, _⟩ => ⟨S256x1408, .f32⟩
  | .local _ .vmem, ⟨12, _⟩ => ⟨S256x1408, .f32⟩
  | .local _ .vmem, ⟨13, _⟩ => ⟨S256x1408, .f32⟩
  | _, _ => ⟨S2048x1408, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1408 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1408 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1408 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1408 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1408 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1408 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwEvInRefIdeal.lean ====
abbrev S2048x1408 : Shape := ⟨2, ![2048, 1408]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1408, .f32⟩
  | .hbm, ⟨1, _⟩ => ⟨S2048x1408, .f32⟩
  | .hbm, ⟨2, _⟩ => ⟨S2048x1408, .f32⟩
  | .hbm, ⟨3, _⟩ => ⟨S2048x1408, .f32⟩
  | .hbm, ⟨4, _⟩ => ⟨S_, .f32⟩
  | .hbm, ⟨5, _⟩ => ⟨S2048x1408, .f32⟩
  | .hbm, ⟨6, _⟩ => ⟨S2048x1408, .f32⟩
  | .hbm, ⟨7, _⟩ => ⟨S_, .f32⟩
  | .hbm, ⟨8, _⟩ => ⟨S2048x1408, .f32⟩
  | .hbm, ⟨9, _⟩ => ⟨S2048x1408, .f32⟩
  | .hbm, ⟨10, _⟩ => ⟨S2048x1408, .f32⟩
  | .hbm, ⟨11, _⟩ => ⟨S_, .f32⟩
  | .hbm, ⟨12, _⟩ => ⟨S2048x1408, .f32⟩
  | .hbm, ⟨13, _⟩ => ⟨S2048x1408, .f32⟩
  | .hbm, ⟨14, _⟩ => ⟨S2048x1408, .f32⟩
  | .hbm, ⟨15, _⟩ => ⟨S_, .f32⟩
  | .hbm, ⟨16, _⟩ => ⟨S2048x1408, .f32⟩
  | .hbm, ⟨17, _⟩ => ⟨S2048x1408, .f32⟩
  | .hbm, ⟨18, _⟩ => ⟨S2048x1408, .f32⟩
  | .hbm, ⟨19, _⟩ => ⟨S_, .f32⟩
  | .hbm, ⟨20, _⟩ => ⟨S2048x1408, .f32⟩
  | .hbm, ⟨21, _⟩ => ⟨S2048x1408, .f32⟩
  | .hbm, ⟨22, _⟩ => ⟨S_, .f32⟩
  | .hbm, ⟨23, _⟩ => ⟨S2048x1408, .f32⟩
  | .hbm, ⟨24, _⟩ => ⟨S2048x1408, .f32⟩
  | .hbm, ⟨25, _⟩ => ⟨S2048x1408, .f32⟩
  | .hbm, ⟨26, _⟩ => ⟨S_, .f32⟩
  | .hbm, ⟨27, _⟩ => ⟨S2048x1408, .f32⟩
  | .hbm, ⟨28, _⟩ => ⟨S2048x1408, .f32⟩
  | .hbm, ⟨29, _⟩ => ⟨S2048x1408, .f32⟩
  | .hbm, ⟨30, _⟩ => ⟨S_, .f32⟩
  | .hbm, ⟨31, _⟩ => ⟨S2048x1408, .f32⟩
  | .hbm, ⟨32, _⟩ => ⟨S2048x1408, .f32⟩
  | .hbm, ⟨33, _⟩ => ⟨S2048x1408, .f32⟩
  | .hbm, ⟨34, _⟩ => ⟨S_, .f32⟩
  | .hbm, ⟨35, _⟩ => ⟨S2048x1408, .f32⟩
  | .hbm, ⟨36, _⟩ => ⟨S2048x1408, .f32⟩
  | _, _ => ⟨S2048x1408, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOut.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOutIdeal.lean ====
abbrev S512x2048 : Shape := ⟨2, ![512, 2048]⟩
abbrev S256x2048 : Shape := ⟨2, ![256, 2048]⟩

abbrev nBuf : Space → Nat
  | .hbm => 7
  | .vmem => 14
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S512x2048, .f32⟩
  | .hbm, ⟨5, _⟩ => ⟨S512x2048, .f32⟩
  | .hbm, ⟨6, _⟩ => ⟨S512x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S256x2048, .f32⟩
  | .local _ .vmem, ⟨5, _⟩ => ⟨S256x2048, .f32⟩
  | .local _ .vmem, ⟨6, _⟩ => ⟨S256x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S256x2048, .f32⟩
  | .local _ .vmem, ⟨12, _⟩ => ⟨S256x2048, .f32⟩
  | .local _ .vmem, ⟨13, _⟩ => ⟨S256x2048, .f32⟩
  | _, _ => ⟨S512x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOutRefIdeal.lean ====
abbrev S512x2048 : Shape := ⟨2, ![512, 2048]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S512x2048, .f32⟩
  | .hbm, ⟨1, _⟩ => ⟨S512x2048, .f32⟩
  | .hbm, ⟨2, _⟩ => ⟨S512x2048, .f32⟩
  | .hbm, ⟨3, _⟩ => ⟨S512x2048, .f32⟩
  | .hbm, ⟨4, _⟩ => ⟨S_, .f32⟩
  | .hbm, ⟨5, _⟩ => ⟨S512x2048, .f32⟩
  | .hbm, ⟨6, _⟩ => ⟨S512x2048, .f32⟩
  | .hbm, ⟨7, _⟩ => ⟨S_, .f32⟩
  | .hbm, ⟨8, _⟩ => ⟨S512x2048, .f32⟩
  | .hbm, ⟨9, _⟩ => ⟨S512x2048, .f32⟩
  | .hbm, ⟨10, _⟩ => ⟨S512x2048, .f32⟩
  | .hbm, ⟨11, _⟩ => ⟨S_, .f32⟩
  | .hbm, ⟨12, _⟩ => ⟨S512x2048, .f32⟩
  | .hbm, ⟨13, _⟩ => ⟨S512x2048, .f32⟩
  | .hbm, ⟨14, _⟩ => ⟨S512x2048, .f32⟩
  | .hbm, ⟨15, _⟩ => ⟨S_, .f32⟩
  | .hbm, ⟨16, _⟩ => ⟨S512x2048, .f32⟩
  | .hbm, ⟨17, _⟩ => ⟨S512x2048, .f32⟩
  | .hbm, ⟨18, _⟩ => ⟨S512x2048, .f32⟩
  | .hbm, ⟨19, _⟩ => ⟨S_, .f32⟩
  | .hbm, ⟨20, _⟩ => ⟨S512x2048, .f32⟩
  | .hbm, ⟨21, _⟩ => ⟨S512x2048, .f32⟩
  | .hbm, ⟨22, _⟩ => ⟨S_, .f32⟩
  | .hbm, ⟨23, _⟩ => ⟨S512x2048, .f32⟩
  | .hbm, ⟨24, _⟩ => ⟨S512x2048, .f32⟩
  | .hbm, ⟨25, _⟩ => ⟨S512x2048, .f32⟩
  | .hbm, ⟨26, _⟩ => ⟨S_, .f32⟩
  | .hbm, ⟨27, _⟩ => ⟨S512x2048, .f32⟩
  | .hbm, ⟨28, _⟩ => ⟨S512x2048, .f32⟩
  | .hbm, ⟨29, _⟩ => ⟨S512x2048, .f32⟩
  | .hbm, ⟨30, _⟩ => ⟨S_, .f32⟩
  | .hbm, ⟨31, _⟩ => ⟨S512x2048, .f32⟩
  | .hbm, ⟨32, _⟩ => ⟨S512x2048, .f32⟩
  | .hbm, ⟨33, _⟩ => ⟨S512x2048, .f32⟩
  | .hbm, ⟨34, _⟩ => ⟨S_, .f32⟩
  | .hbm, ⟨35, _⟩ => ⟨S512x2048, .f32⟩
  | .hbm, ⟨36, _⟩ => ⟨S512x2048, .f32⟩
  | _, _ => ⟨S512x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwOdIn.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOdInIdeal.lean ====
abbrev S2048x1536 : Shape := ⟨2, ![2048, 1536]⟩
abbrev S256x1536 : Shape := ⟨2, ![256, 1536]⟩

abbrev nBuf : Space → Nat
  | .hbm => 7
  | .vmem => 14
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S2048x1536, .f32⟩
  | .hbm, ⟨5, _⟩ => ⟨S2048x1536, .f32⟩
  | .hbm, ⟨6, _⟩ => ⟨S2048x1536, .f32⟩
  | .local _ .vmem, ⟨0, _⟩ => ⟨S256x1536, .f32⟩
  | .local _ .vmem, ⟨1, _⟩ => ⟨S256x1536, .f32⟩
  | .local _ .vmem, ⟨2, _⟩ => ⟨S256x1536, .f32⟩
  | .local _ .vmem, ⟨3, _⟩ => ⟨S256x1536, .f32⟩
  | .local _ .vmem, ⟨4, _⟩ => ⟨S256x1536, .f32⟩
  | .local _ .vmem, ⟨5, _⟩ => ⟨S256x1536, .f32⟩
  | .local _ .vmem, ⟨6, _⟩ => ⟨S256x1536, .f32⟩
  | .local _ .vmem, ⟨7, _⟩ => ⟨S256x1536, .f32⟩
  | .local _ .vmem, ⟨8, _⟩ => ⟨S256x1536, .f32⟩
  | .local _ .vmem, ⟨9, _⟩ => ⟨S256x1536, .f32⟩
  | .local _ .vmem, ⟨10, _⟩ => ⟨S256x1536, .f32⟩
  | .local _ .vmem, ⟨11, _⟩ => ⟨S256x1536, .f32⟩
  | .local _ .vmem, ⟨12, _⟩ => ⟨S256x1536, .f32⟩
  | .local _ .vmem, ⟨13, _⟩ => ⟨S256x1536, .f32⟩
  | _, _ => ⟨S2048x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1536 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x1536 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S256x1536 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1536 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwOdInRefIdeal.lean ====
abbrev S2048x1536 : Shape := ⟨2, ![2048, 1536]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S2048x1536, .f32⟩
  | .hbm, ⟨1, _⟩ => ⟨S2048x1536, .f32⟩
  | .hbm, ⟨2, _⟩ => ⟨S2048x1536, .f32⟩
  | .hbm, ⟨3, _⟩ => ⟨S2048x1536, .f32⟩
  | .hbm, ⟨4, _⟩ => ⟨S_, .f32⟩
  | .hbm, ⟨5, _⟩ => ⟨S2048x1536, .f32⟩
  | .hbm, ⟨6, _⟩ => ⟨S2048x1536, .f32⟩
  | .hbm, ⟨7, _⟩ => ⟨S_, .f32⟩
  | .hbm, ⟨8, _⟩ => ⟨S2048x1536, .f32⟩
  | .hbm, ⟨9, _⟩ => ⟨S2048x1536, .f32⟩
  | .hbm, ⟨10, _⟩ => ⟨S2048x1536, .f32⟩
  | .hbm, ⟨11, _⟩ => ⟨S_, .f32⟩
  | .hbm, ⟨12, _⟩ => ⟨S2048x1536, .f32⟩
  | .hbm, ⟨13, _⟩ => ⟨S2048x1536, .f32⟩
  | .hbm, ⟨14, _⟩ => ⟨S2048x1536, .f32⟩
  | .hbm, ⟨15, _⟩ => ⟨S_, .f32⟩
  | .hbm, ⟨16, _⟩ => ⟨S2048x1536, .f32⟩
  | .hbm, ⟨17, _⟩ => ⟨S2048x1536, .f32⟩
  | .hbm, ⟨18, _⟩ => ⟨S2048x1536, .f32⟩
  | .hbm, ⟨19, _⟩ => ⟨S_, .f32⟩
  | .hbm, ⟨20, _⟩ => ⟨S2048x1536, .f32⟩
  | .hbm, ⟨21, _⟩ => ⟨S2048x1536, .f32⟩
  | .hbm, ⟨22, _⟩ => ⟨S_, .f32⟩
  | .hbm, ⟨23, _⟩ => ⟨S2048x1536, .f32⟩
  | .hbm, ⟨24, _⟩ => ⟨S2048x1536, .f32⟩
  | .hbm, ⟨25, _⟩ => ⟨S2048x1536, .f32⟩
  | .hbm, ⟨26, _⟩ => ⟨S_, .f32⟩
  | .hbm, ⟨27, _⟩ => ⟨S2048x1536, .f32⟩
  | .hbm, ⟨28, _⟩ => ⟨S2048x1536, .f32⟩
  | .hbm, ⟨29, _⟩ => ⟨S2048x1536, .f32⟩
  | .hbm, ⟨30, _⟩ => ⟨S_, .f32⟩
  | .hbm, ⟨31, _⟩ => ⟨S2048x1536, .f32⟩
  | .hbm, ⟨32, _⟩ => ⟨S2048x1536, .f32⟩
  | .hbm, ⟨33, _⟩ => ⟨S2048x1536, .f32⟩
  | .hbm, ⟨34, _⟩ => ⟨S_, .f32⟩
  | .hbm, ⟨35, _⟩ => ⟨S2048x1536, .f32⟩
  | .hbm, ⟨36, _⟩ => ⟨S2048x1536, .f32⟩
  | _, _ => ⟨S2048x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== AdamwSmall.lean ====
abbrev S1288x128 : Shape := ⟨2, ![1288, 128]⟩
abbrev S8x128 : Shape := ⟨2, ![8, 128]⟩

abbrev nBuf : Space → Nat
  | .hbm => 7
  | .vmem => 14
  | .smem => 0
  | _ => 0

abbrev bufTy : (tb : Table) → Fin (tcTables nBuf tb) → BufTy
  | .hbm, ⟨0, _⟩ => ⟨S1288x128, .f32⟩
  | .hbm, ⟨1, _⟩ => ⟨S1288x128, .f32⟩
  | .hbm, ⟨2, _⟩ => ⟨S1288x128, .f32⟩
  | .hbm, ⟨3, _⟩ => ⟨S1288x128, .f32⟩
  | .hbm, ⟨4, _⟩ => ⟨S1288x128, .f32⟩
  | .hbm, ⟨5, _⟩ => ⟨S1288x128, .f32⟩
  | .hbm, ⟨6, _⟩ => ⟨S1288x128, .f32⟩
  | .local _ .vmem, ⟨0, _⟩ => ⟨S8x128, .f32⟩
  | .local _ .vmem, ⟨1, _⟩ => ⟨S8x128, .f32⟩
  | .local _ .vmem, ⟨2, _⟩ => ⟨S8x128, .f32⟩
  | .local _ .vmem, ⟨3, _⟩ => ⟨S8x128, .f32⟩
  | .local _ .vmem, ⟨4, _⟩ => ⟨S8x128, .f32⟩
  | .local _ .vmem, ⟨5, _⟩ => ⟨S8x128, .f32⟩
  | .local _ .vmem, ⟨6, _⟩ => ⟨S8x128, .f32⟩
  | .local _ .vmem, ⟨7, _⟩ => ⟨S8x128, .f32⟩
  | .local _ .vmem, ⟨8, _⟩ => ⟨S8x128, .f32⟩
  | .local _ .vmem, ⟨9, _⟩ => ⟨S8x128, .f32⟩
  | .local _ .vmem, ⟨10, _⟩ => ⟨S8x128, .f32⟩
  | .local _ .vmem, ⟨11, _⟩ => ⟨S8x128, .f32⟩
  | .local _ .vmem, ⟨12, _⟩ => ⟨S8x128, .f32⟩
  | .local _ .vmem, ⟨13, _⟩ => ⟨S8x128, .f32⟩
  | _, _ => ⟨S1288x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev main_v0_2 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨1, ![161], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S8x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S8x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== AdamwSmallRefIdeal.lean ====
abbrev S1288x128 : Shape := ⟨2, ![1288, 128]⟩
abbrev S_ : Shape := ⟨0, ![]⟩

abbrev nBuf : Space → Nat
  | .hbm => 37
  | .vmem => 0
  | .smem => 0
  | _ => 0

abbrev bufTy : (tb : Table) → Fin (tcTables nBuf tb) → BufTy
  | .hbm, ⟨0, _⟩ => ⟨S1288x128, .f32⟩
  | .hbm, ⟨1, _⟩ => ⟨S1288x128, .f32⟩
  | .hbm, ⟨2, _⟩ => ⟨S1288x128, .f32⟩
  | .hbm, ⟨3, _⟩ => ⟨S1288x128, .f32⟩
  | .hbm, ⟨4, _⟩ => ⟨S_, .f32⟩
  | .hbm, ⟨5, _⟩ => ⟨S1288x128, .f32⟩
  | .hbm, ⟨6, _⟩ => ⟨S1288x128, .f32⟩
  | .hbm, ⟨7, _⟩ => ⟨S_, .f32⟩
  | .hbm, ⟨8, _⟩ => ⟨S1288x128, .f32⟩
  | .hbm, ⟨9, _⟩ => ⟨S1288x128, .f32⟩
  | .hbm, ⟨10, _⟩ => ⟨S1288x128, .f32⟩
  | .hbm, ⟨11, _⟩ => ⟨S_, .f32⟩
  | .hbm, ⟨12, _⟩ => ⟨S1288x128, .f32⟩
  | .hbm, ⟨13, _⟩ => ⟨S1288x128, .f32⟩
  | .hbm, ⟨14, _⟩ => ⟨S1288x128, .f32⟩
  | .hbm, ⟨15, _⟩ => ⟨S_, .f32⟩
  | .hbm, ⟨16, _⟩ => ⟨S1288x128, .f32⟩
  | .hbm, ⟨17, _⟩ => ⟨S1288x128, .f32⟩
  | .hbm, ⟨18, _⟩ => ⟨S1288x128, .f32⟩
  | .hbm, ⟨19, _⟩ => ⟨S_, .f32⟩
  | .hbm, ⟨20, _⟩ => ⟨S1288x128, .f32⟩
  | .hbm, ⟨21, _⟩ => ⟨S1288x128, .f32⟩
  | .hbm, ⟨22, _⟩ => ⟨S_, .f32⟩
  | .hbm, ⟨23, _⟩ => ⟨S1288x128, .f32⟩
  | .hbm, ⟨24, _⟩ => ⟨S1288x128, .f32⟩
  | .hbm, ⟨25, _⟩ => ⟨S1288x128, .f32⟩
  | .hbm, ⟨26, _⟩ => ⟨S_, .f32⟩
  | .hbm, ⟨27, _⟩ => ⟨S1288x128, .f32⟩
  | .hbm, ⟨28, _⟩ => ⟨S1288x128, .f32⟩
  | .hbm, ⟨29, _⟩ => ⟨S1288x128, .f32⟩
  | .hbm, ⟨30, _⟩ => ⟨S_, .f32⟩
  | .hbm, ⟨31, _⟩ => ⟨S1288x128, .f32⟩
  | .hbm, ⟨32, _⟩ => ⟨S1288x128, .f32⟩
  | .hbm, ⟨33, _⟩ => ⟨S1288x128, .f32⟩
  | .hbm, ⟨34, _⟩ => ⟨S_, .f32⟩
  | .hbm, ⟨35, _⟩ => ⟨S1288x128, .f32⟩
  | .hbm, ⟨36, _⟩ => ⟨S1288x128, .f32⟩
  | _, _ => ⟨S1288x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_cst_0 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_3 : Ref sig .tc := ⟨.hbm, 19, rfl⟩
abbrev main_v11 : Ref sig .tc := ⟨.hbm, 20, rfl⟩
abbrev main_v12 : Ref sig .tc := ⟨.hbm, 21, rfl⟩
abbrev main_cst_4 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_cst_6 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_7 : Ref sig .tc := ⟨.hbm, 34, rfl⟩
abbrev main_v22 : Ref sig .tc := ⟨.hbm, 35, rfl⟩
abbrev main_v23 : Ref sig .tc := ⟨.hbm, 36, rfl⟩

abbrev nD : Nat := 1
abbrev τ : Topo := Topo.v7x

variable {F : FTy → Type} [FloatOps F]
-- ==== ModBwd.lean ====
abbrev S2048x16 : Shape := ⟨2, ![2048, 16]⟩
abbrev S2x16x1536 : Shape := ⟨3, ![2, 16, 1536]⟩
abbrev S2x2048x1536 : Shape := ⟨3, ![2, 2048, 1536]⟩
abbrev S2x2048x1 : Shape := ⟨3, ![2, 2048, 1]⟩
abbrev S256x16 : Shape := ⟨2, ![256, 16]⟩
abbrev S1x16x1536 : Shape := ⟨3, ![1, 16, 1536]⟩
abbrev S1x256x1536 : Shape := ⟨3, ![1, 256, 1536]⟩
abbrev S1x256x1 : Shape := ⟨3, ![1, 256, 1]⟩
abbrev S16x1536 : Shape := ⟨2, ![16, 1536]⟩
abbrev S256x1 : Shape := ⟨2, ![256, 1]⟩
abbrev S1x1536 : Shape := ⟨2, ![1, 1536]⟩
abbrev S256x1536 : Shape := ⟨2, ![256, 1536]⟩
abbrev S256 : Shape := ⟨1, ![256]⟩

abbrev nBuf : Space → Nat
  | .hbm => 5
  | .vmem => 10
  | .smem => 0
  | _ => 0

abbrev bufTy : (tb : Table) → Fin (tcTables nBuf tb) → BufTy
  | .hbm, ⟨0, _⟩ => ⟨S2048x16, .f32⟩
  | .hbm, ⟨1, _⟩ => ⟨S2x16x1536, .f32⟩
  | .hbm, ⟨2, _⟩ => ⟨S2x2048x1536, .f32⟩
  | .hbm, ⟨3, _⟩ => ⟨S2x2048x1536, .f32⟩
  | .hbm, ⟨4, _⟩ => ⟨S2x2048x1, .f32⟩
  | .local _ .vmem, ⟨0, _⟩ => ⟨S256x16, .f32⟩
  | .local _ .vmem, ⟨1, _⟩ => ⟨S256x16, .f32⟩
  | .local _ .vmem, ⟨2, _⟩ => ⟨S1x16x1536, .f32⟩
  | .local _ .vmem, ⟨3, _⟩ => ⟨S1x16x1536, .f32⟩
  | .local _ .vmem, ⟨4, _⟩ => ⟨S1x256x1536, .f32⟩
  | .local _ .vmem, ⟨5, _⟩ => ⟨S1x256x1536, .f32⟩
  | .local _ .vmem, ⟨6, _⟩ => ⟨S1x256x1536, .f32⟩
  | .local _ .vmem, ⟨7, _⟩ => ⟨S1x256x1536, .f32⟩
  | .local _ .vmem, ⟨8, _⟩ => ⟨S1x256x1, .f32⟩
  | .local _ .vmem, ⟨9, _⟩ => ⟨S1x256x1, .f32⟩
  | _, _ => ⟨S2048x16, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0_0 : Ref sig .tc := ⟨.hbm, 3, rfl⟩
abbrev main_v0_1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨2, ![2, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S256x16 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x16x1536 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x256x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x256x1536 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x256x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]
-- ==== ModBwdRefIdeal.lean ====
abbrev S2048x16 : Shape := ⟨2, ![2048, 16]⟩
abbrev S2x16x1536 : Shape := ⟨3, ![2, 16, 1536]⟩
abbrev S2x2048x1536 : Shape := ⟨3, ![2, 2048, 1536]⟩
abbrev S2048x9 : Shape := ⟨2, ![2048, 9]⟩
abbrev S_ : Shape := ⟨0, ![]⟩
abbrev S2x9x1536 : Shape := ⟨3, ![2, 9, 1536]⟩
abbrev S2x1536x2048 : Shape := ⟨3, ![2, 1536, 2048]⟩
abbrev S2x1x1536 : Shape := ⟨3, ![2, 1, 1536]⟩
abbrev S2x1536 : Shape := ⟨2, ![2, 1536]⟩
abbrev S2x2048 : Shape := ⟨2, ![2, 2048]⟩
abbrev S2x2048x1 : Shape := ⟨3, ![2, 2048, 1]⟩

abbrev nBuf : Space → Nat
  | .hbm => 20
  | .vmem => 0
  | .smem => 0
  | _ => 0

abbrev bufTy : (tb : Table) → Fin (tcTables nBuf tb) → BufTy
  | .hbm, ⟨0, _⟩ => ⟨S2048x16, .f32⟩
  | .hbm, ⟨1, _⟩ => ⟨S2x16x1536, .f32⟩
  | .hbm, ⟨2, _⟩ => ⟨S2x2048x1536, .f32⟩
  | .hbm, ⟨3, _⟩ => ⟨S2048x9, .f32⟩
  | .hbm, ⟨4, _⟩ => ⟨S2048x9, .f32⟩
  | .hbm, ⟨5, _⟩ => ⟨S2048x9, .f32⟩
  | .hbm, ⟨6, _⟩ => ⟨S_, .f32⟩
  | .hbm, ⟨7, _⟩ => ⟨S2048x9, .f32⟩
  | .hbm, ⟨8, _⟩ => ⟨S2048x9, .f32⟩
  | .hbm, ⟨9, _⟩ => ⟨S_, .f32⟩
  | .hbm, ⟨10, _⟩ => ⟨S2048x9, .f32⟩
  | .hbm, ⟨11, _⟩ => ⟨S2048x9, .f32⟩
  | .hbm, ⟨12, _⟩ => ⟨S2048x9, .f32⟩
  | .hbm, ⟨13, _⟩ => ⟨S2x9x1536, .f32⟩
  | .hbm, ⟨14, _⟩ => ⟨S2x1536x2048, .f32⟩
  | .hbm, ⟨15, _⟩ => ⟨S2x2048x1536, .f32⟩
  | .hbm, ⟨16, _⟩ => ⟨S2x1x1536, .f32⟩
  | .hbm, ⟨17, _⟩ => ⟨S2x1536, .f32⟩
  | .hbm, ⟨18, _⟩ => ⟨S2x2048, .f32⟩
  | .hbm, ⟨19, _⟩ => ⟨S2x2048x1, .f32⟩
  | _, _ => ⟨S2048x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩

abbrev nD : Nat := 1
abbrev τ : Topo := Topo.v7x

variable {F : FTy → Type} [FloatOps F]
-- ==== CctxGrad.lean ====
abbrev S8x16x128 : Shape := ⟨3, ![8, 16, 128]⟩
abbrev S16x128 : Shape := ⟨2, ![16, 128]⟩
abbrev S1x16x128 : Shape := ⟨3, ![1, 16, 128]⟩

abbrev nBuf : Space → Nat
  | .hbm => 3
  | .vmem => 3
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S16x128, .f32⟩
  | .local _ .vmem, ⟨0, _⟩ => ⟨S8x16x128, .f32⟩
  | .local _ .vmem, ⟨1, _⟩ => ⟨S16x128, .f32⟩
  | .local _ .vmem, ⟨2, _⟩ => ⟨S16x128, .f32⟩
  | _, _ => ⟨S8x16x128, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 3 → Bool
  | ⟨0, _⟩ => true
  | ⟨1, _⟩ => true
  | ⟨2, _⟩ => true
  | _ => false

abbrev sig : RefSig :=
  ofTc nBuf bufTy 0 3 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_sem0_0 : DmaSem sig := 0
abbrev cc0_sem1_0 : DmaSem sig := 1
abbrev cc0_sem2_0 : DmaSem sig := 2

abbrev nD : Nat := 1
abbrev τ : Topo := Topo.v7x

variable {F : FTy → Type} [FloatOps F]

abbrev grid0 : Pipeline.Grid := .none

abbrev stage0_0 : Fin 1 → Memref sig .tc .vmem S8x16x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S16x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
-- ==== CctxGradRefIdeal.lean ====
abbrev S8x16x128 : Shape := ⟨3, ![8, 16, 128]⟩
abbrev S16x128 : Shape := ⟨2, ![16, 128]⟩
abbrev S4x2x16x128 : Shape := ⟨4, ![4, 2, 16, 128]⟩
abbrev S4x1x16x128 : Shape := ⟨4, ![4, 1, 16, 128]⟩
abbrev S4x16x128 : Shape := ⟨3, ![4, 16, 128]⟩
abbrev S_ : Shape := ⟨0, ![]⟩

abbrev nBuf : Space → Nat
  | .hbm => 24
  | .vmem => 0
  | .smem => 0
  | _ => 0

abbrev bufTy : (tb : Table) → Fin (tcTables nBuf tb) → BufTy
  | .hbm, ⟨0, _⟩ => ⟨S8x16x128, .f32⟩
  | .hbm, ⟨1, _⟩ => ⟨S16x128, .f32⟩
  | .hbm, ⟨2, _⟩ => ⟨S4x2x16x128, .f32⟩
  | .hbm, ⟨3, _⟩ => ⟨S4x1x16x128, .f32⟩
  | .hbm, ⟨4, _⟩ => ⟨S4x16x128, .f32⟩
  | .hbm, ⟨5, _⟩ => ⟨S_, .f32⟩
  | .hbm, ⟨6, _⟩ => ⟨S16x128, .f32⟩
  | .hbm, ⟨7, _⟩ => ⟨S16x128, .f32⟩
  | .hbm, ⟨8, _⟩ => ⟨S16x128, .f32⟩
  | .hbm, ⟨9, _⟩ => ⟨S_, .f32⟩
  | .hbm, ⟨10, _⟩ => ⟨S16x128, .f32⟩
  | .hbm, ⟨11, _⟩ => ⟨S16x128, .f32⟩
  | .hbm, ⟨12, _⟩ => ⟨S_, .f32⟩
  | .hbm, ⟨13, _⟩ => ⟨S16x128, .f32⟩
  | .hbm, ⟨14, _⟩ => ⟨S16x128, .f32⟩
  | .hbm, ⟨15, _⟩ => ⟨S_, .f32⟩
  | .hbm, ⟨16, _⟩ => ⟨S16x128, .f32⟩
  | .hbm, ⟨17, _⟩ => ⟨S16x128, .f32⟩
  | .hbm, ⟨18, _⟩ => ⟨S16x128, .f32⟩
  | .hbm, ⟨19, _⟩ => ⟨S_, .f32⟩
  | .hbm, ⟨20, _⟩ => ⟨S16x128, .f32⟩
  | .hbm, ⟨21, _⟩ => ⟨S16x128, .f32⟩
  | .hbm, ⟨22, _⟩ => ⟨S16x128, .f32⟩
  | .hbm, ⟨23, _⟩ => ⟨S16x128, .f32⟩
  | _, _ => ⟨S8x16x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_cst_0 : Ref sig .tc := ⟨.hbm, 9, rfl⟩
abbrev main_v6 : Ref sig .tc := ⟨.hbm, 10, rfl⟩
abbrev main_v7 : Ref sig .tc := ⟨.hbm, 11, rfl⟩
abbrev main_cst_1 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_cst_3 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩

abbrev nD : Nat := 1
abbrev τ : Topo := Topo.v7x

variable {F : FTy → Type} [FloatOps F]
-- ==== NormBwd.lean ====
abbrev S8192x2048 : Shape := ⟨2, ![8192, 2048]⟩
abbrev S8448x2048 : Shape := ⟨2, ![8448, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 10
  | .vmem => 14
  | .smem => 0
  | _ => 0

abbrev bufTy : (tb : Table) → Fin (tcTables nBuf tb) → BufTy
  | .hbm, ⟨0, _⟩ => ⟨S8192x2048, .f32⟩
  | .hbm, ⟨1, _⟩ => ⟨S8448x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S1x2048, .f32⟩
  | .hbm, ⟨9, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S1x2048, .f32⟩
  | .local _ .vmem, ⟨13, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev main_v0_3 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem9_0 : DmaSem sig := 13

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== NormBwdRefIdeal.lean ====
abbrev S8192x2048 : Shape := ⟨2, ![8192, 2048]⟩
abbrev S8448x2048 : Shape := ⟨2, ![8448, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 54
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8448x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S_, .f32⟩
  | .hbm, ⟨15, _⟩ => ⟨S8192x1, .f32⟩
  | .hbm, ⟨16, _⟩ => ⟨S8192x1, .f32⟩
  | .hbm, ⟨17, _⟩ => ⟨S8192x1, .f32⟩
  | .hbm, ⟨18, _⟩ => ⟨S8192x2048, .f32⟩
  | .hbm, ⟨19, _⟩ => ⟨S8192x2048, .f32⟩
  | .hbm, ⟨20, _⟩ => ⟨S_, .f32⟩
  | .hbm, ⟨21, _⟩ => ⟨S1x2048, .f32⟩
  | .hbm, ⟨22, _⟩ => ⟨S1x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S_, .f32⟩
  | .hbm, ⟨29, _⟩ => ⟨S8192, .f32⟩
  | .hbm, ⟨30, _⟩ => ⟨S8192x1, .f32⟩
  | .hbm, ⟨31, _⟩ => ⟨S_, .f32⟩
  | .hbm, ⟨32, _⟩ => ⟨S8192x1, .f32⟩
  | .hbm, ⟨33, _⟩ => ⟨S8192x1, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S_, .f32⟩
  | .hbm, ⟨41, _⟩ => ⟨S2048, .f32⟩
  | .hbm, ⟨42, _⟩ => ⟨S1x2048, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S_, .f32⟩
  | .hbm, ⟨47, _⟩ => ⟨S2048, .f32⟩
  | .hbm, ⟨48, _⟩ => ⟨S1x2048, .f32⟩
  | .hbm, ⟨49, _⟩ => ⟨S8192x2048, .f32⟩
  | .hbm, ⟨50, _⟩ => ⟨S_, .f32⟩
  | .hbm, ⟨51, _⟩ => ⟨S2048, .f32⟩
  | .hbm, ⟨52, _⟩ => ⟨S1x2048, .f32⟩
  | .hbm, ⟨53, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_cst_1 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_cst_2 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_cst_3 : Ref sig .tc := ⟨.hbm, 28, rfl⟩
abbrev main_v18 : Ref sig .tc := ⟨.hbm, 29, rfl⟩
abbrev main_v19 : Ref sig .tc := ⟨.hbm, 30, rfl⟩
abbrev main_cst_4 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_6 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_cst_7 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩

abbrev nD : Nat := 1
abbrev τ : Topo := Topo.v7x

variable {F : FTy → Type} [FloatOps F]
-- ==== FinalLoss.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩
abbrev S_ : Shape := ⟨0, ![]⟩

abbrev nBuf : Space → Nat
  | .hbm => 14
  | .vmem => 15
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S8192x2048, .bf16⟩
  | .hbm, ⟨7, _⟩ => ⟨S1x2048, .f32⟩
  | .hbm, ⟨8, _⟩ => ⟨S1x2048, .f32⟩
  | .hbm, ⟨9, _⟩ => ⟨S1x2048, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S256x2048, .f32⟩
  | .local _ .vmem, ⟨6, _⟩ => ⟨S256x2048, .f32⟩
  | .local _ .vmem, ⟨7, _⟩ => ⟨S1x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .bf16⟩
  | .local _ .vmem, ⟨11, _⟩ => ⟨S256x2048, .bf16⟩
  | .local _ .vmem, ⟨12, _⟩ => ⟨S1x2048, .f32⟩
  | .local _ .vmem, ⟨13, _⟩ => ⟨S1x2048, .f32⟩
  | .local _ .vmem, ⟨14, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev main_v0_3 : Ref sig .tc := ⟨.hbm, 8, rfl⟩
abbrev main_v0_4 : Ref sig .tc := ⟨.hbm, 9, rfl⟩
abbrev main_cst : Ref sig .tc := ⟨.hbm, 10, rfl⟩
abbrev main_v1 : Ref sig .tc := ⟨.hbm, 11, rfl⟩
abbrev main_cst_0 : Ref sig .tc := ⟨.hbm, 12, rfl⟩
abbrev main_v2 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S256x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== FinalLossRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 59
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S8192x2048, .f32⟩
  | .hbm, ⟨4, _⟩ => ⟨S1x2048, .f32⟩
  | .hbm, ⟨5, _⟩ => ⟨S8192x2048, .f32⟩
  | .hbm, ⟨6, _⟩ => ⟨S_, .f32⟩
  | .hbm, ⟨7, _⟩ => ⟨S8192, .f32⟩
  | .hbm, ⟨8, _⟩ => ⟨S8192x1, .f32⟩
  | .hbm, ⟨9, _⟩ => ⟨S_, .f32⟩
  | .hbm, ⟨10, _⟩ => ⟨S8192x1, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S8192x1, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S8192x2048, .f32⟩
  | .hbm, ⟨20, _⟩ => ⟨S8192x2048, .f32⟩
  | .hbm, ⟨21, _⟩ => ⟨S8192x2048, .f32⟩
  | .hbm, ⟨22, _⟩ => ⟨S_, .f32⟩
  | .hbm, ⟨23, _⟩ => ⟨S8192, .f32⟩
  | .hbm, ⟨24, _⟩ => ⟨S_, .f32⟩
  | .hbm, ⟨25, _⟩ => ⟨S8192, .f32⟩
  | .hbm, ⟨26, _⟩ => ⟨S8192, .f32⟩
  | .hbm, ⟨27, _⟩ => ⟨S_, .f32⟩
  | .hbm, ⟨28, _⟩ => ⟨S_, .f32⟩
  | .hbm, ⟨29, _⟩ => ⟨S_, .f32⟩
  | .hbm, ⟨30, _⟩ => ⟨S_, .f32⟩
  | .hbm, ⟨31, _⟩ => ⟨S_, .f32⟩
  | .hbm, ⟨32, _⟩ => ⟨S8192x2048, .f32⟩
  | .hbm, ⟨33, _⟩ => ⟨S8192x2048, .f32⟩
  | .hbm, ⟨34, _⟩ => ⟨S8192x2048, .f32⟩
  | .hbm, ⟨35, _⟩ => ⟨S8192x2048, .f32⟩
  | .hbm, ⟨36, _⟩ => ⟨S8192x2048, .f32⟩
  | .hbm, ⟨37, _⟩ => ⟨S_, .f32⟩
  | .hbm, ⟨38, _⟩ => ⟨S8192, .f32⟩
  | .hbm, ⟨39, _⟩ => ⟨S8192x1, .f32⟩
  | .hbm, ⟨40, _⟩ => ⟨S_, .f32⟩
  | .hbm, ⟨41, _⟩ => ⟨S8192x1, .f32⟩
  | .hbm, ⟨42, _⟩ => ⟨S8192x1, .f32⟩
  | .hbm, ⟨43, _⟩ => ⟨S8192x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S_, .f32⟩
  | .hbm, ⟨50, _⟩ => ⟨S2048, .f32⟩
  | .hbm, ⟨51, _⟩ => ⟨S1x2048, .f32⟩
  | .hbm, ⟨52, _⟩ => ⟨S8192x2048, .f32⟩
  | .hbm, ⟨53, _⟩ => ⟨S_, .f32⟩
  | .hbm, ⟨54, _⟩ => ⟨S2048, .f32⟩
  | .hbm, ⟨55, _⟩ => ⟨S1x2048, .f32⟩
  | .hbm, ⟨56, _⟩ => ⟨S8192x2048, .f32⟩
  | .hbm, ⟨57, _⟩ => ⟨S8192x2048, .f32⟩
  | .hbm, ⟨58, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_cst_1 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_2 : Ref sig .tc := ⟨.hbm, 22, rfl⟩
abbrev main_v14 : Ref sig .tc := ⟨.hbm, 23, rfl⟩
abbrev main_cst_3 : Ref sig .tc := ⟨.hbm, 24, rfl⟩
abbrev main_v15 : Ref sig .tc := ⟨.hbm, 25, rfl⟩
abbrev main_v16 : Ref sig .tc := ⟨.hbm, 26, rfl⟩
abbrev main_cst_4 : Ref sig .tc := ⟨.hbm, 27, rfl⟩
abbrev main_v17 : Ref sig .tc := ⟨.hbm, 28, rfl⟩
abbrev main_cst_5 : Ref sig .tc := ⟨.hbm, 29, rfl⟩
abbrev main_v18 : Ref sig .tc := ⟨.hbm, 30, rfl⟩
abbrev main_cst_6 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_cst_7 : Ref sig .tc := ⟨.hbm, 37, rfl⟩
abbrev main_v24 : Ref sig .tc := ⟨.hbm, 38, rfl⟩
abbrev main_v25 : Ref sig .tc := ⟨.hbm, 39, rfl⟩
abbrev main_cst_8 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_cst_9 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_cst_10 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩

abbrev nD : Nat := 1
abbrev τ : Topo := Topo.v7x

variable {F : FTy → Type} [FloatOps F]
-- ==== NormFwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdIdeal.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .bf16⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S256x2048, .bf16⟩
  | .local _ .vmem, ⟨6, _⟩ => ⟨S256x2048, .bf16⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x2048 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== NormFwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩

abbrev nBuf : Space → Nat
  | .hbm => 27
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S_, .f32⟩
  | .hbm, ⟨9, _⟩ => ⟨S8192x1, .f32⟩
  | .hbm, ⟨10, _⟩ => ⟨S8192x1, .f32⟩
  | .hbm, ⟨11, _⟩ => ⟨S_, .f32⟩
  | .hbm, ⟨12, _⟩ => ⟨S8192x1, .f32⟩
  | .hbm, ⟨13, _⟩ => ⟨S8192x1, .f32⟩
  | .hbm, ⟨14, _⟩ => ⟨S8192x1, .f32⟩
  | .hbm, ⟨15, _⟩ => ⟨S8192x2048, .f32⟩
  | .hbm, ⟨16, _⟩ => ⟨S8192x2048, .f32⟩
  | .hbm, ⟨17, _⟩ => ⟨S8192x2048, .f32⟩
  | .hbm, ⟨18, _⟩ => ⟨S8192x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S8192x2048, .f32⟩
  | .hbm, ⟨23, _⟩ => ⟨S8192x2048, .f32⟩
  | .hbm, ⟨24, _⟩ => ⟨S8192x2048, .f32⟩
  | .hbm, ⟨25, _⟩ => ⟨S8192x2048, .f32⟩
  | .hbm, ⟨26, _⟩ => ⟨S8192x2048, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== NormCtxFwd.lean ====
abbrev S256x2048 : Shape := ⟨2, ![256, 2048]⟩
abbrev S1x2048 : Shape := ⟨2, ![1, 2048]⟩
abbrev S256 : Shape := ⟨1, ![256]⟩
abbrev S256x1 : Shape := ⟨2, ![256, 1]⟩

abbrev nBuf : Space → Nat
  | .hbm => 5
  | .vmem => 5
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S256x2048, .bf16⟩
  | .local _ .vmem, ⟨0, _⟩ => ⟨S256x2048, .f32⟩
  | .local _ .vmem, ⟨1, _⟩ => ⟨S1x2048, .f32⟩
  | .local _ .vmem, ⟨2, _⟩ => ⟨S1x2048, .f32⟩
  | .local _ .vmem, ⟨3, _⟩ => ⟨S1x2048, .f32⟩
  | .local _ .vmem, ⟨4, _⟩ => ⟨S256x2048, .bf16⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S256x2048 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![true]
-- ==== NormCtxFwdRefIdeal.lean ====
abbrev S256x2048 : Shape := ⟨2, ![256, 2048]⟩
abbrev S1x2048 : Shape := ⟨2, ![1, 2048]⟩
abbrev S_ : Shape := ⟨0, ![]⟩
abbrev S256 : Shape := ⟨1, ![256]⟩
abbrev S256x1 : Shape := ⟨2, ![256, 1]⟩

abbrev nBuf : Space → Nat
  | .hbm => 27
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S1x2048, .f32⟩
  | .hbm, ⟨2, _⟩ => ⟨S1x2048, .f32⟩
  | .hbm, ⟨3, _⟩ => ⟨S1x2048, .f32⟩
  | .hbm, ⟨4, _⟩ => ⟨S256x2048, .f32⟩
  | .hbm, ⟨5, _⟩ => ⟨S_, .f32⟩
  | .hbm, ⟨6, _⟩ => ⟨S256, .f32⟩
  | .hbm, ⟨7, _⟩ => ⟨S256x1, .f32⟩
  | .hbm, ⟨8, _⟩ => ⟨S_, .f32⟩
  | .hbm, ⟨9, _⟩ => ⟨S256x1, .f32⟩
  | .hbm, ⟨10, _⟩ => ⟨S256x1, .f32⟩
  | .hbm, ⟨11, _⟩ => ⟨S_, .f32⟩
  | .hbm, ⟨12, _⟩ => ⟨S256x1, .f32⟩
  | .hbm, ⟨13, _⟩ => ⟨S256x1, .f32⟩
  | .hbm, ⟨14, _⟩ => ⟨S256x1, .f32⟩
  | .hbm, ⟨15, _⟩ => ⟨S256x2048, .f32⟩
  | .hbm, ⟨16, _⟩ => ⟨S256x2048, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S1x2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S256x2048, .f32⟩
  | .hbm, ⟨26, _⟩ => ⟨S256x2048, .bf16⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_2 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩

abbrev nD : Nat := 1
abbrev τ : Topo := Topo.v7x

variable {F : FTy → Type} [FloatOps F]
-- ==== NormCtxBwd.lean ====
abbrev S256x2048 : Shape := ⟨2, ![256, 2048]⟩
abbrev S8448x2048 : Shape := ⟨2, ![8448, 2048]⟩
abbrev S1x2048 : Shape := ⟨2, ![1, 2048]⟩
abbrev S256 : Shape := ⟨1, ![256]⟩
abbrev S256x1 : Shape := ⟨2, ![256, 1]⟩
abbrev S2048 : Shape := ⟨1, ![2048]⟩

abbrev nBuf : Space → Nat
  | .hbm => 8
  | .vmem => 8
  | .smem => 0
  | _ => 0

abbrev bufTy : (tb : Table) → Fin (tcTables nBuf tb) → BufTy
  | .hbm, ⟨0, _⟩ => ⟨S256x2048, .f32⟩
  | .hbm, ⟨1, _⟩ => ⟨S8448x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S1x2048, .f32⟩
  | .hbm, ⟨6, _⟩ => ⟨S1x2048, .f32⟩
  | .hbm, ⟨7, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S1x2048, .f32⟩
  | .local _ .vmem, ⟨3, _⟩ => ⟨S1x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S1x2048, .f32⟩
  | _, _ => ⟨S256x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev main_v0_2 : Ref sig .tc := ⟨.hbm, 7, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c32_i32 : BitVec 32 := 32#32
  let v0 : BitVec 32 := Scalar.addi c32_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S256x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S256x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== NormCtxBwdRefIdeal.lean ====
abbrev S256x2048 : Shape := ⟨2, ![256, 2048]⟩
abbrev S8448x2048 : Shape := ⟨2, ![8448, 2048]⟩
abbrev S1x2048 : Shape := ⟨2, ![1, 2048]⟩
abbrev S_ : Shape := ⟨0, ![]⟩
abbrev S256 : Shape := ⟨1, ![256]⟩
abbrev S256x1 : Shape := ⟨2, ![256, 1]⟩
abbrev S2048 : Shape := ⟨1, ![2048]⟩

abbrev nBuf : Space → Nat
  | .hbm => 38
  | .vmem => 0
  | .smem => 0
  | _ => 0

abbrev bufTy : (tb : Table) → Fin (tcTables nBuf tb) → BufTy
  | .hbm, ⟨0, _⟩ => ⟨S256x2048, .f32⟩
  | .hbm, ⟨1, _⟩ => ⟨S8448x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S256x2048, .f32⟩
  | .hbm, ⟨6, _⟩ => ⟨S256x2048, .f32⟩
  | .hbm, ⟨7, _⟩ => ⟨S_, .f32⟩
  | .hbm, ⟨8, _⟩ => ⟨S256, .f32⟩
  | .hbm, ⟨9, _⟩ => ⟨S256x1, .f32⟩
  | .hbm, ⟨10, _⟩ => ⟨S_, .f32⟩
  | .hbm, ⟨11, _⟩ => ⟨S256x1, .f32⟩
  | .hbm, ⟨12, _⟩ => ⟨S256x1, .f32⟩
  | .hbm, ⟨13, _⟩ => ⟨S_, .f32⟩
  | .hbm, ⟨14, _⟩ => ⟨S256x1, .f32⟩
  | .hbm, ⟨15, _⟩ => ⟨S256x1, .f32⟩
  | .hbm, ⟨16, _⟩ => ⟨S256x1, .f32⟩
  | .hbm, ⟨17, _⟩ => ⟨S256x2048, .f32⟩
  | .hbm, ⟨18, _⟩ => ⟨S256x2048, .f32⟩
  | .hbm, ⟨19, _⟩ => ⟨S_, .f32⟩
  | .hbm, ⟨20, _⟩ => ⟨S2048, .f32⟩
  | .hbm, ⟨21, _⟩ => ⟨S1x2048, .f32⟩
  | .hbm, ⟨22, _⟩ => ⟨S256x2048, .f32⟩
  | .hbm, ⟨23, _⟩ => ⟨S256x2048, .f32⟩
  | .hbm, ⟨24, _⟩ => ⟨S256x2048, .f32⟩
  | .hbm, ⟨25, _⟩ => ⟨S_, .f32⟩
  | .hbm, ⟨26, _⟩ => ⟨S2048, .f32⟩
  | .hbm, ⟨27, _⟩ => ⟨S1x2048, .f32⟩
  | .hbm, ⟨28, _⟩ => ⟨S_, .f32⟩
  | .hbm, ⟨29, _⟩ => ⟨S1x2048, .f32⟩
  | .hbm, ⟨30, _⟩ => ⟨S1x2048, .f32⟩
  | .hbm, ⟨31, _⟩ => ⟨S256x2048, .f32⟩
  | .hbm, ⟨32, _⟩ => ⟨S256x2048, .f32⟩
  | .hbm, ⟨33, _⟩ => ⟨S256x2048, .f32⟩
  | .hbm, ⟨34, _⟩ => ⟨S_, .f32⟩
  | .hbm, ⟨35, _⟩ => ⟨S2048, .f32⟩
  | .hbm, ⟨36, _⟩ => ⟨S1x2048, .f32⟩
  | .hbm, ⟨37, _⟩ => ⟨S1x2048, .f32⟩
  | _, _ => ⟨S256x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_cst_1 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_2 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_cst_3 : Ref sig .tc := ⟨.hbm, 25, rfl⟩
abbrev main_v16 : Ref sig .tc := ⟨.hbm, 26, rfl⟩
abbrev main_v17 : Ref sig .tc := ⟨.hbm, 27, rfl⟩
abbrev main_cst_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩

abbrev nD : Nat := 1
abbrev τ : Topo := Topo.v7x

variable {F : FTy → Type} [FloatOps F]
-- ==== NormGateBwd.lean ====
abbrev S8192x2048 : Shape := ⟨2, ![8192, 2048]⟩
abbrev S1x2048 : Shape := ⟨2, ![1, 2048]⟩
abbrev S256x2048 : Shape := ⟨2, ![256, 2048]⟩
abbrev S256 : Shape := ⟨1, ![256]⟩
abbrev S256x1 : Shape := ⟨2, ![256, 1]⟩
abbrev S2048 : Shape := ⟨1, ![2048]⟩

abbrev nBuf : Space → Nat
  | .hbm => 14
  | .vmem => 20
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S8192x2048, .bf16⟩
  | .hbm, ⟨10, _⟩ => ⟨S1x2048, .f32⟩
  | .hbm, ⟨11, _⟩ => ⟨S1x2048, .f32⟩
  | .hbm, ⟨12, _⟩ => ⟨S1x2048, .f32⟩
  | .hbm, ⟨13, _⟩ => ⟨S1x2048, .f32⟩
  | .local _ .vmem, ⟨0, _⟩ => ⟨S256x2048, .f32⟩
  | .local _ .vmem, ⟨1, _⟩ => ⟨S256x2048, .f32⟩
  | .local _ .vmem, ⟨2, _⟩ => ⟨S256x2048, .f32⟩
  | .local _ .vmem, ⟨3, _⟩ => ⟨S256x2048, .f32⟩
  | .local _ .vmem, ⟨4, _⟩ => ⟨S1x2048, .f32⟩
  | .local _ .vmem, ⟨5, _⟩ => ⟨S1x2048, .f32⟩
  | .local _ .vmem, ⟨6, _⟩ => ⟨S1x2048, .f32⟩
  | .local _ .vmem, ⟨7, _⟩ => ⟨S256x2048, .f32⟩
  | .local _ .vmem, ⟨8, _⟩ => ⟨S256x2048, .f32⟩
  | .local _ .vmem, ⟨9, _⟩ => ⟨S256x2048, .f32⟩
  | .local _ .vmem, ⟨10, _⟩ => ⟨S256x2048, .f32⟩
  | .local _ .vmem, ⟨11, _⟩ => ⟨S1x2048, .f32⟩
  | .local _ .vmem, ⟨12, _⟩ => ⟨S256x2048, .f32⟩
  | .local _ .vmem, ⟨13, _⟩ => ⟨S256x2048, .f32⟩
  | .local _ .vmem, ⟨14, _⟩ => ⟨S256x2048, .bf16⟩
  | .local _ .vmem, ⟨15, _⟩ => ⟨S256x2048, .bf16⟩
  | .local _ .vmem, ⟨16, _⟩ => ⟨S1x2048, .f32⟩
  | .local _ .vmem, ⟨17, _⟩ => ⟨S1x2048, .f32⟩
  | .local _ .vmem, ⟨18, _⟩ => ⟨S1x2048, .f32⟩
  | .local _ .vmem, ⟨19, _⟩ => ⟨S1x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev main_v0_4 : Ref sig .tc := ⟨.hbm, 12, rfl⟩
abbrev main_v0_5 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg12_0 : Ref sig .tc := ⟨.vmem, 18, rfl⟩
abbrev cc0_stg13_0 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem12_0 : DmaSem sig := 18
abbrev cc0_sem13_0 : DmaSem sig := 19

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x2048 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S256x2048 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S1x2048 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x2048 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== NormGateBwdRefIdeal.lean ====
abbrev S8192x2048 : Shape := ⟨2, ![8192, 2048]⟩
abbrev S1x2048 : Shape := ⟨2, ![1, 2048]⟩
abbrev S_ : Shape := ⟨0, ![]⟩
abbrev S8192 : Shape := ⟨1, ![8192]⟩
abbrev S8192x1 : Shape := ⟨2, ![8192, 1]⟩
abbrev S2048 : Shape := ⟨1, ![2048]⟩

abbrev nBuf : Space → Nat
  | .hbm => 62
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S1x2048, .f32⟩
  | .hbm, ⟨3, _⟩ => ⟨S1x2048, .f32⟩
  | .hbm, ⟨4, _⟩ => ⟨S1x2048, .f32⟩
  | .hbm, ⟨5, _⟩ => ⟨S8192x2048, .f32⟩
  | .hbm, ⟨6, _⟩ => ⟨S8192x2048, .f32⟩
  | .hbm, ⟨7, _⟩ => ⟨S1x2048, .f32⟩
  | .hbm, ⟨8, _⟩ => ⟨S8192x2048, .f32⟩
  | .hbm, ⟨9, _⟩ => ⟨S_, .f32⟩
  | .hbm, ⟨10, _⟩ => ⟨S8192, .f32⟩
  | .hbm, ⟨11, _⟩ => ⟨S8192x1, .f32⟩
  | .hbm, ⟨12, _⟩ => ⟨S_, .f32⟩
  | .hbm, ⟨13, _⟩ => ⟨S8192x1, .f32⟩
  | .hbm, ⟨14, _⟩ => ⟨S8192x1, .f32⟩
  | .hbm, ⟨15, _⟩ => ⟨S_, .f32⟩
  | .hbm, ⟨16, _⟩ => ⟨S8192x1, .f32⟩
  | .hbm, ⟨17, _⟩ => ⟨S8192x1, .f32⟩
  | .hbm, ⟨18, _⟩ => ⟨S8192x1, .f32⟩
  | .hbm, ⟨19, _⟩ => ⟨S8192x2048, .f32⟩
  | .hbm, ⟨20, _⟩ => ⟨S8192x2048, .f32⟩
  | .hbm, ⟨21, _⟩ => ⟨S_, .f32⟩
  | .hbm, ⟨22, _⟩ => ⟨S1x2048, .f32⟩
  | .hbm, ⟨23, _⟩ => ⟨S1x2048, .f32⟩
  | .hbm, ⟨24, _⟩ => ⟨S8192x2048, .f32⟩
  | .hbm, ⟨25, _⟩ => ⟨S8192x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S_, .f32⟩
  | .hbm, ⟨30, _⟩ => ⟨S8192, .f32⟩
  | .hbm, ⟨31, _⟩ => ⟨S8192x1, .f32⟩
  | .hbm, ⟨32, _⟩ => ⟨S_, .f32⟩
  | .hbm, ⟨33, _⟩ => ⟨S8192x1, .f32⟩
  | .hbm, ⟨34, _⟩ => ⟨S8192x1, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S8192x2048, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S2048, .f32⟩
  | .hbm, ⟨43, _⟩ => ⟨S1x2048, .f32⟩
  | .hbm, ⟨44, _⟩ => ⟨S8192x2048, .f32⟩
  | .hbm, ⟨45, _⟩ => ⟨S8192x2048, .f32⟩
  | .hbm, ⟨46, _⟩ => ⟨S8192x2048, .f32⟩
  | .hbm, ⟨47, _⟩ => ⟨S_, .f32⟩
  | .hbm, ⟨48, _⟩ => ⟨S2048, .f32⟩
  | .hbm, ⟨49, _⟩ => ⟨S1x2048, .f32⟩
  | .hbm, ⟨50, _⟩ => ⟨S8192x2048, .f32⟩
  | .hbm, ⟨51, _⟩ => ⟨S_, .f32⟩
  | .hbm, ⟨52, _⟩ => ⟨S2048, .f32⟩
  | .hbm, ⟨53, _⟩ => ⟨S1x2048, .f32⟩
  | .hbm, ⟨54, _⟩ => ⟨S1x2048, .f32⟩
  | .hbm, ⟨55, _⟩ => ⟨S8192x2048, .f32⟩
  | .hbm, ⟨56, _⟩ => ⟨S8192x2048, .f32⟩
  | .hbm, ⟨57, _⟩ => ⟨S8192x2048, .bf16⟩
  | .hbm, ⟨58, _⟩ => ⟨S8192x2048, .f32⟩
  | .hbm, ⟨59, _⟩ => ⟨S_, .f32⟩
  | .hbm, ⟨60, _⟩ => ⟨S2048, .f32⟩
  | .hbm, ⟨61, _⟩ => ⟨S1x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_cst : Ref sig .tc := ⟨.hbm, 9, rfl⟩
abbrev main_v1 : Ref sig .tc := ⟨.hbm, 10, rfl⟩
abbrev main_v2 : Ref sig .tc := ⟨.hbm, 11, rfl⟩
abbrev main_cst_0 : Ref sig .tc := ⟨.hbm, 12, rfl⟩
abbrev main_v3 : Ref sig .tc := ⟨.hbm, 13, rfl⟩
abbrev main_v4 : Ref sig .tc := ⟨.hbm, 14, rfl⟩
abbrev main_cst_1 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_cst_2 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_cst_3 : Ref sig .tc := ⟨.hbm, 29, rfl⟩
abbrev main_v17 : Ref sig .tc := ⟨.hbm, 30, rfl⟩
abbrev main_v18 : Ref sig .tc := ⟨.hbm, 31, rfl⟩
abbrev main_cst_4 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst_5 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_cst_6 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_7 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_cst_8 : Ref sig .tc := ⟨.hbm, 59, rfl⟩
abbrev main_v42 : Ref sig .tc := ⟨.hbm, 60, rfl⟩
abbrev main_v43 : Ref sig .tc := ⟨.hbm, 61, rfl⟩

abbrev nD : Nat := 1
abbrev τ : Topo := Topo.v7x

variable {F : FTy → Type} [FloatOps F]
-- ==== MmEvIn.lean ====
abbrev S8448x2048 : Shape := ⟨2, ![8448, 2048]⟩
abbrev S2048x5632 : Shape := ⟨2, ![2048, 5632]⟩
abbrev S8448x5632 : Shape := ⟨2, ![8448, 5632]⟩
abbrev S1408x2048 : Shape := ⟨2, ![1408, 2048]⟩
abbrev S2048x512 : Shape := ⟨2, ![2048, 512]⟩
abbrev S1408x512 : Shape := ⟨2, ![1408, 512]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S8448x5632, .f32⟩
  | .local _ .vmem, ⟨0, _⟩ => ⟨S1408x2048, .bf16⟩
  | .local _ .vmem, ⟨1, _⟩ => ⟨S1408x2048, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .f32⟩
  | .local _ .vmem, ⟨5, _⟩ => ⟨S1408x512, .f32⟩
  | .local _ .vmem, ⟨6, _⟩ => ⟨S1408x512, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 11, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmEvInRefIdeal.lean ====
abbrev S8448x2048 : Shape := ⟨2, ![8448, 2048]⟩
abbrev S2048x5632 : Shape := ⟨2, ![2048, 5632]⟩
abbrev S8448x5632 : Shape := ⟨2, ![8448, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S2048x5632, .bf16⟩
  | .hbm, ⟨2, _⟩ => ⟨S8448x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmOdIn.lean ====
abbrev S8192x2048 : Shape := ⟨2, ![8192, 2048]⟩
abbrev S2048x6144 : Shape := ⟨2, ![2048, 6144]⟩
abbrev S8192x6144 : Shape := ⟨2, ![8192, 6144]⟩
abbrev S1024x2048 : Shape := ⟨2, ![1024, 2048]⟩
abbrev S2048x512 : Shape := ⟨2, ![2048, 512]⟩
abbrev S1024x512 : Shape := ⟨2, ![1024, 512]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 12, 1], ![false, false, false]⟩

def k0_cond2 (i : grid0.Coords) : BitVec 1 :=
  let arg2 : BitVec 32 := BitVec.ofNat 32 (i 2).val
  let c0_i32_8 : BitVec 32 := 0#32
  let v11 : BitVec 1 := Scalar.cmpi .eq arg2 c0_i32_8
  let v12 : BitVec 32 := Scalar.extui v11
  let c0_i32_9 : BitVec 32 := 0#32
  let v13 : BitVec 1 := Scalar.cmpi .ne v12 c0_i32_9
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOdInRefIdeal.lean ====
abbrev S8192x2048 : Shape := ⟨2, ![8192, 2048]⟩
abbrev S2048x6144 : Shape := ⟨2, ![2048, 6144]⟩
abbrev S8192x6144 : Shape := ⟨2, ![8192, 6144]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x6144, .bf16⟩
  | .hbm, ⟨2, _⟩ => ⟨S8192x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmOut.lean ====
abbrev S8192x2048 : Shape := ⟨2, ![8192, 2048]⟩
abbrev S2048x2048 : Shape := ⟨2, ![2048, 2048]⟩
abbrev S1x2048 : Shape := ⟨2, ![1, 2048]⟩
abbrev S1024x512 : Shape := ⟨2, ![1024, 512]⟩
abbrev S512x1024 : Shape := ⟨2, ![512, 1024]⟩
abbrev S1024x1024 : Shape := ⟨2, ![1024, 1024]⟩
abbrev S1x1024 : Shape := ⟨2, ![1, 1024]⟩

abbrev nBuf : Space → Nat
  | .hbm => 6
  | .vmem => 13
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S512x1024, .bf16⟩
  | .local _ .vmem, ⟨3, _⟩ => ⟨S512x1024, .bf16⟩
  | .local _ .vmem, ⟨4, _⟩ => ⟨S1024x1024, .f32⟩
  | .local _ .vmem, ⟨5, _⟩ => ⟨S1024x1024, .f32⟩
  | .local _ .vmem, ⟨6, _⟩ => ⟨S1x1024, .f32⟩
  | .local _ .vmem, ⟨7, _⟩ => ⟨S1x1024, .f32⟩
  | .local _ .vmem, ⟨8, _⟩ => ⟨S1024x1024, .f32⟩
  | .local _ .vmem, ⟨9, _⟩ => ⟨S1024x1024, .f32⟩
  | .local _ .vmem, ⟨10, _⟩ => ⟨S1024x1024, .f32⟩
  | .local _ .vmem, ⟨11, _⟩ => ⟨S1024x1024, .f32⟩
  | .local _ .vmem, ⟨12, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0_0 : Ref sig .tc := ⟨.hbm, 4, rfl⟩
abbrev main_v0_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S1024x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]

abbrev stage0_5 : Fin 2 → Memref sig .tc .vmem S1024x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, false]
-- ==== MmOutRefIdeal.lean ====
abbrev S8192x2048 : Shape := ⟨2, ![8192, 2048]⟩
abbrev S2048x2048 : Shape := ⟨2, ![2048, 2048]⟩
abbrev S1x2048 : Shape := ⟨2, ![1, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .hbm, ⟨3, _⟩ => ⟨S1x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩

abbrev nD : Nat := 1
abbrev τ : Topo := Topo.v7x

variable {F : FTy → Type} [FloatOps F]
-- ==== MmOutDx.lean ====
abbrev S8192x2048 : Shape := ⟨2, ![8192, 2048]⟩
abbrev S2048x2048 : Shape := ⟨2, ![2048, 2048]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 4], ![false, false, false]⟩

def k0_cond2 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutDxRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S2048x2048, .bf16⟩
  | .hbm, ⟨2, _⟩ => ⟨S8192x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmOdInDx.lean ====
abbrev S8192x6144 : Shape := ⟨2, ![8192, 6144]⟩
abbrev S2048x6144 : Shape := ⟨2, ![2048, 6144]⟩
abbrev S8192x2048 : Shape := ⟨2, ![8192, 2048]⟩
abbrev S1024x512 : Shape := ⟨2, ![1024, 512]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | .local _ .vmem, ⟨0, _⟩ => ⟨S1024x512, .bf16⟩
  | .local _ .vmem, ⟨1, _⟩ => ⟨S1024x512, .bf16⟩
  | .local _ .vmem, ⟨2, _⟩ => ⟨S1024x512, .bf16⟩
  | .local _ .vmem, ⟨3, _⟩ => ⟨S1024x512, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x6144, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 12], ![false, false, false]⟩

def k0_cond2 (i : grid0.Coords) : BitVec 1 :=
  let arg2 : BitVec 32 := BitVec.ofNat 32 (i 2).val
  let c11_i32 : BitVec 32 := 11#32
  let v11 : BitVec 1 := Scalar.cmpi .eq arg2 c11_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOdInDxRefIdeal.lean ====
abbrev S8192x6144 : Shape := ⟨2, ![8192, 6144]⟩
abbrev S2048x6144 : Shape := ⟨2, ![2048, 6144]⟩
abbrev S8192x2048 : Shape := ⟨2, ![8192, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x6144, .bf16⟩
  | .hbm, ⟨1, _⟩ => ⟨S2048x6144, .bf16⟩
  | .hbm, ⟨2, _⟩ => ⟨S8192x2048, .f32⟩
  | _, _ => ⟨S8192x6144, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmEvInDx.lean ====
abbrev S8448x5632 : Shape := ⟨2, ![8448, 5632]⟩
abbrev S2048x5632 : Shape := ⟨2, ![2048, 5632]⟩
abbrev S8448x2048 : Shape := ⟨2, ![8448, 2048]⟩
abbrev S1408x512 : Shape := ⟨2, ![1408, 512]⟩
abbrev S1024x512 : Shape := ⟨2, ![1024, 512]⟩
abbrev S1408x1024 : Shape := ⟨2, ![1408, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8448x5632, .bf16⟩
  | .hbm, ⟨1, _⟩ => ⟨S2048x5632, .bf16⟩
  | .hbm, ⟨2, _⟩ => ⟨S8448x2048, .f32⟩
  | .local _ .vmem, ⟨0, _⟩ => ⟨S1408x512, .bf16⟩
  | .local _ .vmem, ⟨1, _⟩ => ⟨S1408x512, .bf16⟩
  | .local _ .vmem, ⟨2, _⟩ => ⟨S1024x512, .bf16⟩
  | .local _ .vmem, ⟨3, _⟩ => ⟨S1024x512, .bf16⟩
  | .local _ .vmem, ⟨4, _⟩ => ⟨S1408x1024, .f32⟩
  | .local _ .vmem, ⟨5, _⟩ => ⟨S1408x1024, .f32⟩
  | .local _ .vmem, ⟨6, _⟩ => ⟨S1408x1024, .f32⟩
  | _, _ => ⟨S8448x5632, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![6, 2, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1408x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmEvInDxRefIdeal.lean ====
abbrev S8448x5632 : Shape := ⟨2, ![8448, 5632]⟩
abbrev S2048x5632 : Shape := ⟨2, ![2048, 5632]⟩
abbrev S8448x2048 : Shape := ⟨2, ![8448, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8448x5632, .bf16⟩
  | .hbm, ⟨1, _⟩ => ⟨S2048x5632, .bf16⟩
  | .hbm, ⟨2, _⟩ => ⟨S8448x2048, .f32⟩
  | _, _ => ⟨S8448x5632, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmOutDw.lean ====
abbrev S8192x2048 : Shape := ⟨2, ![8192, 2048]⟩
abbrev S2048x2048 : Shape := ⟨2, ![2048, 2048]⟩
abbrev S1024x1024 : Shape := ⟨2, ![1024, 1024]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .bf16⟩
  | .local _ .vmem, ⟨3, _⟩ => ⟨S1024x1024, .bf16⟩
  | .local _ .vmem, ⟨4, _⟩ => ⟨S1024x1024, .f32⟩
  | .local _ .vmem, ⟨5, _⟩ => ⟨S1024x1024, .f32⟩
  | .local _ .vmem, ⟨6, _⟩ => ⟨S1024x1024, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOutDwRefIdeal.lean ====
abbrev S8192x2048 : Shape := ⟨2, ![8192, 2048]⟩
abbrev S2048x2048 : Shape := ⟨2, ![2048, 2048]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x2048, .bf16⟩
  | .hbm, ⟨2, _⟩ => ⟨S2048x2048, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmOdInDw.lean ====
abbrev S8192x2048 : Shape := ⟨2, ![8192, 2048]⟩
abbrev S8192x6144 : Shape := ⟨2, ![8192, 6144]⟩
abbrev S2048x6144 : Shape := ⟨2, ![2048, 6144]⟩
abbrev S1024x1024 : Shape := ⟨2, ![1024, 1024]⟩
abbrev S1024x1536 : Shape := ⟨2, ![1024, 1536]⟩

abbrev nBuf : Space → Nat
  | .hbm => 3
  | .vmem => 7
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .f32⟩
  | .local _ .vmem, ⟨0, _⟩ => ⟨S1024x1024, .bf16⟩
  | .local _ .vmem, ⟨1, _⟩ => ⟨S1024x1024, .bf16⟩
  | .local _ .vmem, ⟨2, _⟩ => ⟨S1024x1536, .bf16⟩
  | .local _ .vmem, ⟨3, _⟩ => ⟨S1024x1536, .bf16⟩
  | .local _ .vmem, ⟨4, _⟩ => ⟨S1024x1536, .f32⟩
  | .local _ .vmem, ⟨5, _⟩ => ⟨S1024x1536, .f32⟩
  | .local _ .vmem, ⟨6, _⟩ => ⟨S1024x1536, .f32⟩
  | _, _ => ⟨S8192x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 8], ![false, false, false]⟩

def k0_cond2 (i : grid0.Coords) : BitVec 1 :=
  let arg2 : BitVec 32 := BitVec.ofNat 32 (i 2).val
  let c7_i32 : BitVec 32 := 7#32
  let v11 : BitVec 1 := Scalar.cmpi .eq arg2 c7_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1024x1536 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1536 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmOdInDwRefIdeal.lean ====
abbrev S8192x2048 : Shape := ⟨2, ![8192, 2048]⟩
abbrev S8192x6144 : Shape := ⟨2, ![8192, 6144]⟩
abbrev S2048x6144 : Shape := ⟨2, ![2048, 6144]⟩

abbrev nBuf : Space → Nat
  | .hbm => 3
  | .vmem => 0
  | .smem => 0
  | _ => 0

abbrev bufTy : (tb : Table) → Fin (tcTables nBuf tb) → BufTy
  | .hbm, ⟨0, _⟩ => ⟨S8192x2048, .bf16⟩
  | .hbm, ⟨1, _⟩ => ⟨S8192x6144, .bf16⟩
  | .hbm, ⟨2, _⟩ => ⟨S2048x6144, .f32⟩
  | _, _ => ⟨S8192x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== MmEvInDw.lean ====
abbrev S8448x2048 : Shape := ⟨2, ![8448, 2048]⟩
abbrev S8448x5632 : Shape := ⟨2, ![8448, 5632]⟩
abbrev S2048x5632 : Shape := ⟨2, ![2048, 5632]⟩
abbrev S768x1024 : Shape := ⟨2, ![768, 1024]⟩
abbrev S768x1408 : Shape := ⟨2, ![768, 1408]⟩
abbrev S1024x1408 : Shape := ⟨2, ![1024, 1408]⟩

abbrev nBuf : Space → Nat
  | .hbm => 3
  | .vmem => 7
  | .smem => 0
  | _ => 0

abbrev bufTy : (tb : Table) → Fin (tcTables nBuf tb) → BufTy
  | .hbm, ⟨0, _⟩ => ⟨S8448x2048, .bf16⟩
  | .hbm, ⟨1, _⟩ => ⟨S8448x5632, .bf16⟩
  | .hbm, ⟨2, _⟩ => ⟨S2048x5632, .f32⟩
  | .local _ .vmem, ⟨0, _⟩ => ⟨S768x1024, .bf16⟩
  | .local _ .vmem, ⟨1, _⟩ => ⟨S768x1024, .bf16⟩
  | .local _ .vmem, ⟨2, _⟩ => ⟨S768x1408, .bf16⟩
  | .local _ .vmem, ⟨3, _⟩ => ⟨S768x1408, .bf16⟩
  | .local _ .vmem, ⟨4, _⟩ => ⟨S1024x1408, .f32⟩
  | .local _ .vmem, ⟨5, _⟩ => ⟨S1024x1408, .f32⟩
  | .local _ .vmem, ⟨6, _⟩ => ⟨S1024x1408, .f32⟩
  | _, _ => ⟨S8448x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 4, 11], ![false, false, false]⟩

def k0_cond2 (i : grid0.Coords) : BitVec 1 :=
  let arg2 : BitVec 32 := BitVec.ofNat 32 (i 2).val
  let c10_i32 : BitVec 32 := 10#32
  let v11 : BitVec 1 := Scalar.cmpi .eq arg2 c10_i32
  let v12 : BitVec 32 := Scalar.extui v11
  let c0_i32_8 : BitVec 32 := 0#32
  let v13 : BitVec 1 := Scalar.cmpi .ne v12 c0_i32_8
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S768x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S768x1408 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1408 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== MmEvInDwRefIdeal.lean ====
abbrev S8448x2048 : Shape := ⟨2, ![8448, 2048]⟩
abbrev S8448x5632 : Shape := ⟨2, ![8448, 5632]⟩
abbrev S2048x5632 : Shape := ⟨2, ![2048, 5632]⟩

abbrev nBuf : Space → Nat
  | .hbm => 3
  | .vmem => 0
  | .smem => 0
  | _ => 0

abbrev bufTy : (tb : Table) → Fin (tcTables nBuf tb) → BufTy
  | .hbm, ⟨0, _⟩ => ⟨S8448x2048, .bf16⟩
  | .hbm, ⟨1, _⟩ => ⟨S8448x5632, .bf16⟩
  | .hbm, ⟨2, _⟩ => ⟨S2048x5632, .f32⟩
  | _, _ => ⟨S8448x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Proof.Exchange.lean ====
/- Kernels that only move rows: a generic theory.

   A kernel of this kind starts transfers out of HBM buffers into HBM buffers, of its own device or of another
   one, and waits for each of them once. Every transfer has cells of its own: a local one the cell its landing pays,
   a remote one the cell its landing pays on the target and the cell its departure pays on the issuer. `Plan` is the
   table of such a kernel, `Plan.Sound` what has to be checked of the table, and `run` (in `ExchangeRun`) the
   conclusion: every execution ends with every output buffer at the contents `fin` that the moves prescribe. -/
module

public import Idealize.ShloMosaic.Lib.Pipeline.Launch
public import Idealize.ShloMosaic.Lib.Pipeline.Kit
public import Idealize.ShloMosaic.Lib.Ring
public import Idealize.ShloMosaic.Lib.Tactic

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds

/-! ## Tables -/

/-- One transfer: what it reads and what it overwrites. -/
structure Move (sig : RefSig) where
  s : Shape
  e : EltTy
  src : Memref sig .tc .hbm s e
  dst : Memref sig .tc .hbm s e
  hsrc : src.view.WordExact
  hdst : dst.view.WordExact

/-- The move read from its destination to its source (how a wait for a departure is written). -/
abbrev Move.back {sig : RefSig} (x : Move sig) : Move sig := ⟨x.s, x.e, x.dst, x.src, x.hdst, x.hsrc⟩

/-- The transfers: local ones and remote ones. -/
abbrev Xfer (L R : Type) := L ⊕ R
/-- The cells of a device: where a local transfer lands, where a remote one lands, where a remote one departs. -/
abbrev Cell (L R : Type) := L ⊕ (R ⊕ R)

/-- An instruction of the kernel. -/
inductive Step (L R : Type) where
  | start : Xfer L R → Step L R
  | wait : Cell L R → Step L R

/-- The instructions one after the other. -/
def seq {nD : ℕ} {τ : Topo} {sig : RefSig} {Val : EltTy → Type} {Λ : Labels} (os : List (TpuEff nD τ sig Val Λ .tc PUnit)) :
    Prog (TpuEff nD τ sig Val Λ .tc) PUnit :=
  os.foldr (fun o k => .op o fun _ => k) (.ret ⟨⟩)

/-- The table of a kernel that only moves rows. -/
structure Plan (nD : ℕ) (sig : RefSig) (L R : Type) where
  /-- What device `c` moves with each transfer. -/
  move : Dev nD → Xfer L R → Move sig
  /-- The two windows the wait on a cell is written with. -/
  wait : Dev nD → Cell L R → Move sig
  /-- The target of a remote transfer, as the kernel computes it. -/
  aim : Dev nD → R → Dev nD
  /-- The same as a permutation of the devices that is its own inverse. -/
  peer : R → Dev nD → Dev nD
  /-- Each cell's semaphore. -/
  sem : Cell L R → DmaSem sig
  /-- What a transfer pays. -/
  credit : Xfer L R → ℕ
  /-- Remote transfers of a later phase have a higher level. -/
  level : R → ℕ
  /-- The transfers whose source is an argument. -/
  first : Xfer L R → Bool
  /-- The transfer that forwards what another one brought. -/
  next : R → Option R
  /-- The instructions in order. -/
  script : List (Step L R)
  /-- The argument buffers, which nothing writes. -/
  args : Finset (Ref sig .tc)

variable {nD : ℕ} {τ : Topo} {sig : RefSig} {L R : Type}

/-- The transfer that pays a cell. -/
def paidBy : Cell L R → Xfer L R
  | .inl l => .inl l
  | .inr (.inl r) => .inr r
  | .inr (.inr r) => .inr r

/-- The cell of the issuer that a transfer pays. -/
def ownCell : Xfer L R → Cell L R
  | .inl l => .inl l
  | .inr r => .inr (.inr r)

/-! ## Following the instructions -/

/-- Where a device stands: the transfers not started, those whose source is at hand, the cells not waited on, and
    the cells there is credit for. -/
structure Stand (L R : Type) where
  todo : Finset (Xfer L R)
  have_ : Finset (Xfer L R)
  open_ : Finset (Cell L R)
  paid : Finset (Cell L R)

namespace Plan

variable [DecidableEq L] [DecidableEq R] [Fintype L] [Fintype R] (P : Plan nD sig L R)

/-- A cell's level: zero for the cells of one's own transfers, above that for landings from other devices. -/
def cellLevel : Cell L R → ℕ
  | .inl _ => 0
  | .inr (.inl r) => P.level r + 1
  | .inr (.inr _) => 0

/-- What a landing makes available. -/
def opens : Cell L R → Finset (Xfer L R)
  | .inr (.inl r) => match P.next r with
    | some r' => {.inr r'}
    | none => ∅
  | _ => ∅

/-- May the step be taken? -/
def may (s : Stand L R) : Step L R → Bool
  | .start x => decide (x ∈ s.todo) && decide (x ∈ s.have_) && decide (ownCell x ∉ s.paid)
  | .wait k => decide (k ∈ s.open_) && decide (k ∈ s.paid) && decide (Disjoint (P.opens k) s.have_)
      && decide (∀ r : R, .inr r ∈ s.todo → P.cellLevel k < P.level r + 1)

/-- Where the device stands after it. -/
def after (s : Stand L R) : Step L R → Stand L R
  | .start x => ⟨s.todo.erase x, s.have_.erase x, s.open_, insert (ownCell x) s.paid⟩
  | .wait k => ⟨s.todo, P.opens k ∪ s.have_, s.open_.erase k, s.paid.erase k⟩

/-- All steps may be taken, and at the end everything is started and waited for. -/
def follows : List (Step L R) → Stand L R → Bool
  | [], s => decide (s.todo = ∅) && decide (s.open_ = ∅)
  | o :: os, s => P.may s o && follows os (P.after s o)

/-- Where a device stands at the launch. -/
def outset : Stand L R :=
  ⟨Finset.univ, Finset.univ.filter fun x => P.first x = true, Finset.univ,
    Finset.univ.map ⟨fun r : R => (.inr (.inl r) : Cell L R), fun _ _ h => by cases h; rfl⟩⟩

/-- The device a transfer of `c` lands on. -/
def onto (c : Dev nD) : Xfer L R → Dev nD
  | .inl _ => c
  | .inr r => P.peer r c

/-- The window of `c` that a transfer fills: the local one its own, a remote one the peer's. -/
def land (c : Dev nD) (x : Xfer L R) : Move sig := P.move (P.onto c x) x

end Plan

/-! ## Places of buffers -/

/-- A place of a TensorCore buffer. -/
abbrev Spot (sig : RefSig) := Σ b : Ref sig .tc, b.ty.Idx

/-- The places a view names. -/
def spots {sp : Space} {s : Shape} {e : EltTy} (v : View sig .tc sp s e) : Set (Spot sig) :=
  fun p => ∃ i ∈ v.set, (⟨v.ref, i⟩ : Spot sig) = p

/-- What has to be checked of a table. -/
structure Plan.Sound [DecidableEq L] [DecidableEq R] [Fintype L] [Fintype R] (P : Plan nD sig L R) : Prop where
  aim_eq : ∀ c r, P.aim c r = P.peer r c
  peer_peer : ∀ r c, P.peer r (P.peer r c) = c
  sem_inj : Function.Injective P.sem
  credit_pos : ∀ x, 0 < P.credit x
  credit_move : ∀ c x, (P.move c x).dst.view.dmaCredit = P.credit x
  credit_wait : ∀ c k, (P.wait c k).dst.view.dmaCredit = P.credit (paidBy k)
  follows : P.follows P.script P.outset = true
  args_unscoped : ∀ b ∈ P.args, b.isScoped = false
  src_arg : ∀ c x, P.first x = true → (P.move c x).src.view.ref ∈ P.args
  dst_out : ∀ c x, (P.move c x).dst.view.ref ∉ P.args ∧ (P.move c x).dst.view.ref.isScoped = false
  apart : ∀ c x y, x ≠ y → Disjoint (spots (P.land c x).dst.view) (spots (P.land c y).dst.view)
  cover : ∀ c (b : Ref sig .tc), b.isScoped = false → b ∉ P.args → ∀ i : b.ty.Idx, ∃ x, (⟨b, i⟩ : Spot sig) ∈ spots (P.land c x).dst.view
  pass_ref : ∀ c r r', P.next r = some r' → (P.move c (.inr r')).src.view.ref = (P.land c (.inr r)).dst.view.ref
  pass : ∀ c r r', P.next r = some r' → spots (P.move c (.inr r')).src.view ⊆ spots (P.land c (.inr r)).dst.view

/-- The contents every buffer ends with: the arguments as they were, and each window what its transfer read. -/
structure Plan.Fills {Val : EltTy → Type} (P : Plan nD sig L R) (m : (ℓ : Loc nD τ sig) → Buf Val ℓ)
    (fin : (c : Dev nD) → (b : Ref sig .tc) → Buf Val ((c.tc : Thread nD τ).loc b)) : Prop where
  arg : ∀ c, ∀ b ∈ P.args, fin c b = m ((c.tc : Thread nD τ).loc b)
  carry : ∀ c x, (P.move c x).dst.view.read Val (fin (P.onto c x) (P.move c x).dst.view.ref) = (P.move c x).src.view.read Val (fin c (P.move c x).src.view.ref)

/-! ## The instructions -/

section Op
variable {Val : EltTy → Type} {Λ : Labels} (P : Plan nD sig L R)

/-- The instruction of a step. -/
def Plan.op (c : Dev nD) : Step L R → TpuEff nD τ sig Val Λ .tc PUnit
  | .start (.inl l) => .enqueueDma (P.move c (.inl l)).src (.here (P.move c (.inl l)).dst) (.dma (P.sem (.inl l))) (P.move c (.inl l)).hsrc (P.move c (.inl l)).hdst
      ⟨Or.inl rfl, trivial⟩
  | .start (.inr r) => .enqueueDma (P.move c (.inr r)).src (.remote (Dev.tc (P.aim c r)) (P.move c (.inr r)).dst (.dma (P.sem (.inr (.inr r)))))
      (.dma (P.sem (.inr (.inl r)))) (P.move c (.inr r)).hsrc (P.move c (.inr r)).hdst ⟨⟨rfl, Or.inl rfl⟩, trivial⟩
  | .wait k => .waitDma2 (P.sem k) (P.wait c k).src (P.wait c k).dst (P.wait c k).hsrc (P.wait c k).hdst

end Op

/-! ## The ghost state -/

abbrev UU (nD : ℕ) (τ : Topo) (sig : RefSig) : Type := UR sig nD τ × UR sig nD τ

section Ghost

variable {Val : EltTy → Type} [∀ e, Nonempty (Val e)]

local notation "𝕄" => MT nD τ sig Unit Val ℕ (UU nD τ sig) ℕ

abbrev ER : Emb (UR sig nD τ) (MT nD τ sig Unit Val ℕ (UU nD τ sig) ℕ) := embR

variable [DecidableEq L] [DecidableEq R] [Fintype L] [Fintype R] (P : Plan nD sig L R)
variable (fin : (c : Dev nD) → (b : Ref sig .tc) → Buf Val ((c.tc : Thread nD τ).loc b))

/-- A view of device `c`'s buffer at the final contents. -/
def holds (c : Dev nD) {s : Shape} {e : EltTy} (v : View sig .tc .hbm s e) (q : PosShare TreeShare) : sProp 𝕄 :=
  iprop(v.loc (c.tc : Thread nD τ) ↦[v.set]{q} fin c v.ref)

/-- Cell `k` of device `c`. -/
abbrev cell (c : Dev nD) (k : Cell L R) : GSem nD τ sig := ((c.tc : Thread nD τ), .dma (P.sem k))

open Classical in
/-- Which cell a semaphore is. -/
def which (sm : SemLoc sig) : Option (Cell L R) := if h : ∃ k, SemLoc.dma (P.sem k) = sm then some h.choose else none

variable {P} in
theorem which_sem (h : P.Sound) (k : Cell L R) : which P (.dma (P.sem k)) = some k := by
  have hk : ∃ k', SemLoc.dma (P.sem k') = (SemLoc.dma (P.sem k) : SemLoc sig) := ⟨k, rfl⟩
  unfold which
  rw [dif_pos hk]
  have h1 := hk.choose_spec
  have h2 : P.sem hk.choose = P.sem k := by injection h1
  rw [h.sem_inj h2]

/-- What a cell's payment brings: the window that was filled, nothing for a departure. -/
def brings (c : Dev nD) : Cell L R → sProp 𝕄
  | .inl l => holds fin c (P.land c (.inl l)).dst.view fullShare
  | .inr (.inl r) => holds fin c (P.land c (.inr r)).dst.view fullShare
  | .inr (.inr _) => iprop(emp)

/-- Every cell is paid once, by its transfer. -/
def sched (h : P.Sound) : Rounds.Schedule (GSem nD τ sig) Unit 𝕄 where
  duties g r := if r = 0 ∧ g.1.2 = .tc ∧ (which P g.2).isSome then {()} else ∅
  unitless _ := False
  amount g _ _ := match which P g.2 with
    | some k => P.credit (paidBy k)
    | none => 1
  payload g _ _ := match which P g.2 with
    | some k => brings P fin g.1.1 k
    | none => iprop(emp)
  amount_pos g _ _ _ := by
    cases which P g.2 with
    | some k => exact h.credit_pos _
    | none => exact Nat.one_pos

instance storable_sched (h : P.Sound) (g : GSem nD τ sig) (r : ℕ) (d : Unit) : BI.Storable (upEmb : UEmb _ 𝕄) ((sched P fin h).payload g r d) := by
  show BI.Storable upEmb (match which P g.2 with
    | some k => brings P fin g.1.1 k
    | none => iprop(emp))
  cases which P g.2 with
  | none => infer_instance
  | some k => rcases k with l | r | r <;> unfold brings <;> (try unfold holds) <;> infer_instance

variable (h : P.Sound)

theorem duties_cell (c : Dev nD) (k : Cell L R) : (sched P fin h).duties (cell P c k) 0 = {()} := by
  dsimp only [sched]; exact if_pos ⟨rfl, rfl, by rw [which_sem h]; rfl⟩
theorem duties_later (g : GSem nD τ sig) : ∀ r, 1 ≤ r → (sched P fin h).duties g r = ∅ :=
  fun r hr => by dsimp only [sched]; exact if_neg fun h => by omega
theorem amount_cell (c : Dev nD) (k : Cell L R) (u : Unit) : (sched P fin h).amount (cell P c k) 0 u = P.credit (paidBy k) := by
  dsimp only [sched]; rw [which_sem h]
theorem payload_cell (c : Dev nD) (k : Cell L R) (u : Unit) : (sched P fin h).payload (cell P c k) 0 u = brings P fin c k := by
  dsimp only [sched]; rw [which_sem h]
theorem expect_cell (c : Dev nD) (k : Cell L R) : (sched P fin h).expect (cell P c k) 0 = P.credit (paidBy k) := by
  unfold Schedule.expect Schedule.amountOf; rw [duties_cell, Finset.sum_singleton, amount_cell]
theorem rest_cell (c : Dev nD) (k : Cell L R) :
    bigSep ((sched P fin h).duties (cell P c k) 0 \ ∅) (fun u => (sched P fin h).payload (cell P c k) 0 u) = brings P fin c k := by
  rw [Finset.sdiff_empty, duties_cell, bigSep_singleton, payload_cell]

/-- The levels: every TensorCore cell has one. -/
def lvlDom (g : GSem nD τ sig) : Finset Unit := if g.1.2 = .tc then {()} else ∅
def lvl (g : GSem nD τ sig) (_ : Unit) : ℕ := match which P g.2 with
  | some k => P.cellLevel k
  | none => 0
theorem lvlDom_of_ne (g : GSem nD τ sig) (h : g.1.2 ≠ .tc) : lvlDom g = ∅ := if_neg h
theorem lvlDom_tc (c : Dev nD) (sm : SemLoc sig) : lvlDom ((c.tc : Thread nD τ), sm) = {()} := if_pos rfl
variable {P} in
theorem lvl_cell (h : P.Sound) (c : Dev nD) (k : Cell L R) (u : Unit) : lvl P (cell (τ := τ) P c k) u = P.cellLevel k := by
  unfold lvl; rw [which_sem h]

/-- What device `c` owes while the transfers `S` are not started. -/
def owed (c : Dev nD) (S : Finset (Xfer L R)) : CellTallies nD τ sig Unit :=
  ∑ x ∈ S, match x with
    | .inl _ => 0
    | .inr r => tallyAt (cell P (P.peer r c) (.inr (.inl r))) () (P.credit (.inr r))

theorem owed_erase_inl (c : Dev nD) (S : Finset (Xfer L R)) (l : L) : owed (τ := τ) P c (S.erase (.inl l)) = owed P c S := by
  unfold owed
  by_cases hl : (.inl l : Xfer L R) ∈ S
  · rw [← Finset.sum_erase_add _ _ hl]; exact (add_zero _).symm
  · rw [Finset.erase_eq_of_notMem hl]

theorem owed_erase_inr (c : Dev nD) (S : Finset (Xfer L R)) (r : R) (hr : (.inr r : Xfer L R) ∈ S) :
    owed (τ := τ) P c S = owed P c (S.erase (.inr r)) + tallyAt (cell P (P.peer r c) (.inr (.inl r))) () (P.credit (.inr r)) := by
  unfold owed
  rw [← Finset.sum_erase_add _ _ hr]

theorem owed_pos {c : Dev nD} {S : Finset (Xfer L R)} {g : GSem nD τ sig} {u : Unit} (hg : 0 < owed P c S g u) :
    ∃ r, (.inr r : Xfer L R) ∈ S ∧ g = cell P (P.peer r c) (.inr (.inl r)) := by
  unfold owed at hg
  rw [Finset.sum_apply, Finsupp.finset_sum_apply] at hg
  by_contra hn
  refine absurd (Finset.sum_eq_zero fun x hx => ?_) (Nat.pos_iff_ne_zero.mp hg)
  rcases x with l | r
  · rfl
  · by_cases he : g = cell P (P.peer r c) (.inr (.inl r))
    · exact absurd ⟨r, hx, he⟩ hn
    · show (tallyAt _ _ _ : CellTallies nD τ sig Unit) g u = 0
      rw [tallyAt_apply, if_neg fun hh => he hh.1]

variable {P} in
/-- A wait at a level below everything still owed. -/
theorem may_wait (h : P.Sound) (c : Dev nD) (k : Cell L R) (S : Finset (Xfer L R)) (hlow : ∀ r : R, .inr r ∈ S → P.cellLevel k < P.level r + 1) :
    (levAts lvlDom (lvl P) : sProp 𝕄) ⊢ MayWait (c.tc : Thread nD τ) (.dma (P.sem k)) () (owed P c S) :=
  MayOwe.of_cut (L := lvlDom) (lev := lvl P) (P.cellLevel k) (fun p hp => by rw [Finset.mem_singleton.mp hp, lvlDom_tc]; exact Finset.mem_singleton_self _)
    (fun g u hg => by obtain ⟨r, -, rfl⟩ := owed_pos P hg; rw [lvlDom_tc]; exact Finset.mem_singleton_self _)
    (fun p hp => by rw [Finset.mem_singleton.mp hp]; exact (lvl_cell h c k ()).le)
    (fun g u hg => by obtain ⟨r, hr, rfl⟩ := owed_pos P hg; rw [lvl_cell h]; exact hlow r hr)

/-! ## What a device holds -/

/-- What a transfer that is not started needs besides its source: its duties' tokens, and the window it overwrites. -/
def hands (c : Dev nD) : Xfer L R → sProp 𝕄
  | .inl l => iprop(dutyTok ER (cell P c (.inl l)) 0 ()
      ∗ ∃ f, (P.move c (.inl l)).dst.view.loc (c.tc : Thread nD τ) ↦[(P.move c (.inl l)).dst.view.set]{fullShare} f)
  | .inr r => iprop((dutyTok ER (cell P c (.inr (.inr r))) 0 () ∗ dutyTok ER (cell P (P.peer r c) (.inr (.inl r))) 0 ())
      ∗ ∃ f, (P.move c (.inr r)).dst.view.loc ((P.peer r c).tc : Thread nD τ) ↦[(P.move c (.inr r)).dst.view.set]{fullShare} f)

/-- A share of a transfer's source. -/
def takes (c : Dev nD) (x : Xfer L R) : sProp 𝕄 := iprop(∃ q, holds fin c (P.move c x).src.view q)

/-- What stays of a cell that has been waited on. -/
def keeps (c : Dev nD) : Cell L R → sProp 𝕄
  | .inl l => holds fin c (P.land c (.inl l)).dst.view fullShare.left
  | .inr (.inl r) => holds fin c (P.land c (.inr r)).dst.view fullShare.left
  | .inr (.inr _) => iprop(emp)

/-- What device `c` holds at a stand. -/
def kit (c : Dev nD) (s : Stand L R) : sProp 𝕄 :=
  iprop((∃ W, owes (c.tc : Thread nD τ) (owed P c s.todo) W)
    ∗ bigSep s.todo (hands P c) ∗ bigSep s.have_ (takes P fin c)
    ∗ bigSep s.open_ (fun k => atPos ER (cell P c k) 0 ∅ 0)
    ∗ bigSep s.paid (fun k => cred (tallyAt (cell P c k) () (P.credit (paidBy k))))
    ∗ bigSep s.open_ᶜ (fun k => iprop(atPos ER (cell P c k) (0 + 1) ∅ 0 ∗ keeps P fin c k)))

/-- What every device knows: the invariant of every cell of every device, that each may be paid, and the levels. -/
def records (K : Dev nD × Cell L R → ℕ) : sProp 𝕄 :=
  iprop((bigSep Finset.univ fun ck : Dev nD × Cell L R => cellInv ER (sched P fin h) (K ck) (cell P ck.1 ck.2))
    ∗ (bigSep Finset.univ fun ck : Dev nD × Cell L R => reached ER (cell P ck.1 ck.2) 0)
    ∗ levAts lvlDom (lvl P))
instance records_persistent (K : Dev nD × Cell L R → ℕ) : BI.Persistent (records P fin h K) := by unfold records; infer_instance

theorem inv_at (K : Dev nD × Cell L R → ℕ) (c : Dev nD) (k : Cell L R) :
    records P fin h K ⊢ cellInv ER (sched P fin h) (K (c, k)) (cell P c k) := by
  unfold records
  exact sep_and.trans (and_elim_l.trans (bigSep_elim (Finset.mem_univ (c, k))))
theorem reached_at (K : Dev nD × Cell L R → ℕ) (c : Dev nD) (k : Cell L R) :
    records P fin h K ⊢ reached ER (cell P c k) 0 := by
  unfold records
  exact sep_and.trans (and_elim_r.trans (sep_and.trans (and_elim_l.trans (bigSep_elim (Finset.mem_univ (c, k))))))
theorem levels_at (K : Dev nD × Cell L R → ℕ) : records P fin h K ⊢ levAts lvlDom (lvl P) := by
  unfold records
  exact sep_and.trans (and_elim_r.trans (sep_and.trans and_elim_r))

/-! ## One step -/

section Steps

variable {fin}

/-- A window overwritten with what its transfer reads is at its final contents. -/
theorem filled {m : (ℓ : Loc nD τ sig) → Buf Val ℓ} (hf : P.Fills m fin) (c : Dev nD) (x : Xfer L R)
    (fd : Buf Val ((P.move c x).dst.view.loc ((P.onto c x).tc : Thread nD τ))) :
    ((P.move c x).dst.view.loc ((P.onto c x).tc : Thread nD τ) ↦[(P.move c x).dst.view.set]{fullShare}
        ((P.move c x).dst.view.write Val fd ((P.move c x).src.view.read Val (fin c (P.move c x).src.view.ref)) Finset.univ) : sProp 𝕄)
      ⊢ holds fin (P.onto c x) (P.move c x).dst.view fullShare := by
  unfold holds
  refine Entails.of_eq (pointsTo_congr fun i hi => ?_)
  rw [← hf.carry c x, View.write_read_eq_piecewise, View.setOn_univ]
  exact Finset.piecewise_eq_of_mem _ _ _ hi

theorem half (c : Dev nD) {s : Shape} {e : EltTy} (v : View sig .tc .hbm s e) (q : PosShare TreeShare) :
    (holds fin c v q : sProp 𝕄) ⊢ iprop(holds fin c v q.left ∗ holds fin c v q.right) := by
  unfold holds; exact (pointsTo_share (PosShare.mem_left_op_right q)).1

/-- Fewer places of the same buffer. -/
theorem holds_sub (c : Dev nD) {s s' : Shape} {e e' : EltTy} (v : View sig .tc .hbm s e) (v' : View sig .tc .hbm s' e') (q : PosShare TreeShare)
    (hr : v'.ref = v.ref) (hs : spots v' ⊆ spots v) : (holds fin c v q : sProp 𝕄) ⊢ holds fin c v' q := by
  have key : ∀ (b : Ref sig .tc) (I J : Finset b.ty.Idx), J ⊆ I →
      (((c.tc : Thread nD τ).loc b ↦[I]{q} fin c b : sProp 𝕄) ⊢ (c.tc : Thread nD τ).loc b ↦[J]{q} fin c b) :=
    fun b I J hJ => (pointsTo_split_subset hJ).1.trans (sep_and.trans and_elim_l)
  have gen : ∀ (b : Ref sig .tc) (hb : b = v.ref) (J : Finset b.ty.Idx), (∀ j ∈ J, (⟨b, j⟩ : Spot sig) ∈ spots v) →
      ((holds fin c v q : sProp 𝕄) ⊢ (c.tc : Thread nD τ).loc b ↦[J]{q} fin c b) := by
    rintro b rfl J hJ
    refine key v.ref v.set J fun j hj => ?_
    obtain ⟨i, hi, he⟩ := hJ j hj
    have : i = j := by injection he
    exact this ▸ hi
  exact gen v'.ref hr v'.set fun j hj => hs ⟨j, hj, rfl⟩

theorem bigSep_insert_sep {I : Type} [DecidableEq I] {s : Finset I} {i : I} (hi : i ∉ s) (Φ : I → sProp 𝕄) :
    iprop(Φ i ∗ bigSep s Φ) ⊢ bigSep (insert i s) Φ := Entails.of_eq (bigSep_insert hi).symm

theorem bigSep_erase_sep {I : Type} [DecidableEq I] {s : Finset I} {i : I} (hi : i ∈ s) (Φ : I → sProp 𝕄) :
    bigSep s Φ ⊢ iprop(Φ i ∗ bigSep (s.erase i) Φ) := Entails.of_eq (bigSep_erase hi)

/-- What a landing brings, half of it kept and half of it for the transfer that forwards it. -/
theorem splits (h : P.Sound) (c : Dev nD) (k : Cell L R) : (brings P fin c k : sProp 𝕄) ⊢ iprop(keeps P fin c k ∗ bigSep (P.opens k) (takes P fin c)) := by
  rcases k with l | r | r
  · exact (half c _ _).trans (sep_mono_right (BI.affine.trans (Entails.of_eq bigSep_empty.symm)))
  · refine (half c _ _).trans (sep_mono_right ?_)
    show _ ⊢ bigSep (match P.next r with
      | some r' => {.inr r'}
      | none => ∅) (takes P fin c)
    cases hn : P.next r with
    | none => exact BI.affine.trans (Entails.of_eq bigSep_empty.symm)
    | some r' =>
      dsimp only
      rw [bigSep_singleton]
      refine (holds_sub c _ _ _ (h.pass_ref c r r' hn) (h.pass c r r' hn)).trans ?_
      unfold takes
      iintro H; iexists _; iexact H
  · refine (sep_emp (PROP := sProp 𝕄)).2.trans (sep_mono_right (Entails.of_eq ?_))
    exact (bigSep_empty (Φ := takes P fin c)).symm

variable {Λ₀ : Labels} {defs₀ : Defs nD τ sig Val Λ₀}

abbrev 𝒱₀ : Variants := Variants.none

theorem hands_inl (c : Dev nD) (l : L) : (hands P c (.inl l) : sProp 𝕄) = iprop(dutyTok ER (cell P c (.inl l)) 0 ()
    ∗ ∃ f, (P.move c (.inl l)).dst.view.loc (c.tc : Thread nD τ) ↦[(P.move c (.inl l)).dst.view.set]{fullShare} f) := rfl
theorem hands_inr (c : Dev nD) (r : R) : (hands P c (.inr r) : sProp 𝕄)
    = iprop((dutyTok ER (cell P c (.inr (.inr r))) 0 () ∗ dutyTok ER (cell P (P.peer r c) (.inr (.inl r))) 0 ())
      ∗ ∃ f, (P.move c (.inr r)).dst.view.loc ((P.peer r c).tc : Thread nD τ) ↦[(P.move c (.inr r)).dst.view.set]{fullShare} f) := rfl
theorem takes_eq (c : Dev nD) (x : Xfer L R) : (takes P fin c x : sProp 𝕄) = iprop(∃ q, holds fin c (P.move c x).src.view q) := rfl

/-- A step from a stand it may be taken at. -/
theorem wp_step {m : (ℓ : Loc nD τ sig) → Buf Val ℓ} (hf : P.Fills m fin) (K : Dev nD × Cell L R → ℕ) (c : Dev nD) (s : Stand L R) (o : Step L R)
    (ho : P.may s o = true) {k : PUnit → Prog (TpuEff nD τ sig Val Λ₀ .tc) PUnit} {Q : PUnit → sProp 𝕄} :
    iprop(records P fin h K ∗ kit P fin c s)
      ⊢ iprop((kit P fin c (P.after s o) -∗ wp frame (wpE defs₀ 𝒱₀ (c.tc : Thread nD τ) none) Set.univ (k ⟨⟩) Q)
          -∗ wp frame (wpE defs₀ 𝒱₀ (c.tc : Thread nD τ) none) Set.univ (.op (P.op c o) k) Q) := by
  rcases o with x | k
  · -- a transfer is started
    obtain ⟨⟨ht, hh⟩, hp⟩ : ((x ∈ s.todo) ∧ x ∈ s.have_) ∧ ownCell x ∉ s.paid := by
      simpa only [Plan.may, Bool.and_eq_true, decide_eq_true_eq] using ho
    unfold kit Plan.after
    dsimp only
    rcases x with l | r
    · iintro ⟨#HR, ⟨%W, HO⟩, Ht, Hh, Ho, Hp, Hd⟩ Hk
      ihave ⟨⟨Hdut, %fd, Hdst⟩, Ht⟩ := ((bigSep_erase_sep ht (hands P c)).trans (sep_mono_left (Entails.of_eq (hands_inl P c _)))) $$ Ht
      ihave ⟨⟨%q, Hsrc⟩, Hh⟩ := ((bigSep_erase_sep hh (takes P fin c)).trans (sep_mono_left (Entails.of_eq (takes_eq P c _)))) $$ Hh
      iapply (Rounds.wp_copy_pointsTo 𝒱₀ ER (sched P fin h) (c.tc : Thread nD τ) none (sem := .dma (P.sem (.inl l))) (κ := K (c, .inl l)) (r := 0) (d := ()) (q := q)
        (fs := fin c (P.move c (.inl l)).src.view.ref) (fd := fd)
        (by rw [duties_cell]; exact Finset.mem_singleton_self _) () (P.credit (.inl l)) (h.credit_move c (.inl l)) (amount_cell P fin h c (.inl l) ())
        (by rw [payload_cell]; exact BIBase.Entails.trans Laws.sep_and (and_elim_l.trans (filled P hf c (.inl l) fd)))) $$ [Hdut Hdst Hsrc]
      · isplitr; · iapply (inv_at P fin h K c (.inl l)); iexact HR
        isplitl [Hsrc]; · unfold holds; iexact Hsrc
        isplitl [Hdst]; · iexact Hdst
        isplitl [Hdut]; · iexact Hdut
        iapply (reached_at P fin h K c (.inl l)); iexact HR
      iintro Hc
      iapply Hk
      isplitl [HO]
      · iexists W; rw [owed_erase_inl]; iexact HO
      isplitl [Ht]; · iexact Ht
      isplitl [Hh]; · iexact Hh
      isplitl [Ho]; · iexact Ho
      isplitr [Hd]
      · iapply (bigSep_insert_sep hp); isplitl [Hc]; · iexact Hc
        iexact Hp
      iexact Hd
    · iintro ⟨#HR, ⟨%W, HO⟩, Ht, Hh, Ho, Hp, Hd⟩ Hk
      ihave ⟨⟨⟨Hdut, Hdut'⟩, %fd, Hdst⟩, Ht⟩ := ((bigSep_erase_sep ht (hands P c)).trans (sep_mono_left (Entails.of_eq (hands_inr P c _)))) $$ Ht
      ihave ⟨⟨%q, Hsrc⟩, Hh⟩ := ((bigSep_erase_sep hh (takes P fin c)).trans (sep_mono_left (Entails.of_eq (takes_eq P c _)))) $$ Hh
      have hland : (brings P fin (P.peer r c) (.inr (.inl r)) : sProp 𝕄) = holds fin (P.peer r c) (P.move c (.inr r)).dst.view fullShare := by
        show holds fin (P.peer r c) (P.move (P.peer r (P.peer r c)) (.inr r)).dst.view fullShare = _
        rw [h.peer_peer]
      have hop : (P.op c (.start (.inr r)) : TpuEff nD τ sig Val Λ₀ .tc PUnit)
          = .enqueueDma (P.move c (.inr r)).src (.remote (Dev.tc (P.peer r c)) (P.move c (.inr r)).dst (.dma (P.sem (.inr (.inr r)))))
              (.dma (P.sem (.inr (.inl r)))) (P.move c (.inr r)).hsrc (P.move c (.inr r)).hdst ⟨⟨rfl, Or.inl rfl⟩, trivial⟩ := by
        rw [← h.aim_eq]; rfl
      rw [hop]
      iapply (Rounds.wp_send_pointsTo 𝒱₀ ER (sched P fin h) (c.tc : Thread nD τ) none (κ₁ := K (c, .inr (.inr r))) (κ₂ := K (P.peer r c, .inr (.inl r)))
        (c' := ((P.peer r c).tc : Thread nD τ)) (sS := .dma (P.sem (.inr (.inr r)))) (sem := .dma (P.sem (.inr (.inl r)))) (r₁ := 0) (r₂ := 0) (d₁ := ()) (d₂ := ()) (q := q)
        (fs := fin c (P.move c (.inr r)).src.view.ref) (fd := fd)
        (by rw [duties_cell]; exact Finset.mem_singleton_self _) (by rw [duties_cell]; exact Finset.mem_singleton_self _)
        () () (P.credit (.inr r)) (h.credit_move c (.inr r)) (amount_cell P fin h c (.inr (.inr r)) ()) (amount_cell P fin h (P.peer r c) (.inr (.inl r)) ())
        (owed P c (s.todo.erase (.inr r))) (owed_erase_inr P c s.todo r ht) (W := W)
        (by rw [payload_cell]; exact BI.affine)
        (by rw [payload_cell]; rw [hland]; exact filled P hf c (.inr r) fd)) $$ [Hdut Hdut' Hdst Hsrc HO]
      · isplitr; · iapply (inv_at P fin h K c (.inr (.inr r))); iexact HR
        isplitr; · iapply (inv_at P fin h K (P.peer r c) (.inr (.inl r))); iexact HR
        isplitl [Hsrc]; · unfold holds; iexact Hsrc
        isplitl [Hdst]; · iexact Hdst
        isplitl [HO]; · iexact HO
        isplitl [Hdut]; · iexact Hdut
        isplitr; · iapply (reached_at P fin h K c (.inr (.inr r))); iexact HR
        isplitl [Hdut']; · iexact Hdut'
        iapply (reached_at P fin h K (P.peer r c) (.inr (.inl r))); iexact HR
      iintro ⟨Hc, HO⟩
      iapply Hk
      isplitl [HO]
      · iexists W; iexact HO
      isplitl [Ht]; · iexact Ht
      isplitl [Hh]; · iexact Hh
      isplitl [Ho]; · iexact Ho
      isplitr [Hd]
      · iapply (bigSep_insert_sep hp); isplitl [Hc]; · iexact Hc
        iexact Hp
      iexact Hd
  · -- a cell is waited on
    obtain ⟨⟨⟨hopen, hpaid⟩, hdj⟩, hlow⟩ : (((k ∈ s.open_) ∧ k ∈ s.paid) ∧ Disjoint (P.opens k) s.have_) ∧ ∀ r : R, .inr r ∈ s.todo → P.cellLevel k < P.level r + 1 := by
      simpa only [Plan.may, Bool.and_eq_true, decide_eq_true_eq] using ho
    unfold kit Plan.after
    dsimp only
    iintro ⟨#HR, ⟨%W, HO⟩, Ht, Hh, Ho, Hp, Hd⟩ Hk
    ihave ⟨Hat, Ho⟩ := (bigSep_erase_sep hopen (fun k => atPos ER (cell P c k) 0 ∅ 0)) $$ Ho
    ihave ⟨Hc, Hp⟩ := (bigSep_erase_sep hpaid (fun k => cred (tallyAt (cell P c k) () (P.credit (paidBy k))))) $$ Hp
    rw [show (P.op c (.wait k) : TpuEff nD τ sig Val Λ₀ .tc PUnit)
      = .waitDma2 (P.sem k) (P.wait c k).src (P.wait c k).dst (P.wait c k).hsrc (P.wait c k).hdst from rfl]
    iapply (Rounds.wp_wait_rest_token 𝒱₀ ER (sched P fin h) (c.tc : Thread nD τ) none (κ := K (c, k))
        (wpE_waitDma2_eq 𝒱₀ (c.tc : Thread nD τ) none Set.univ) (Set.mem_univ _) () (O := owed P c s.todo) (W := W) (R := 0) (m := 0) (T := ∅)
        (by rw [Nat.zero_add, expect_cell, h.credit_wait])) $$ [Hc HO Hat]
    · isplitr; · iapply (inv_at P fin h K c k); iexact HR
      isplitl [Hc]; · rw [h.credit_wait]; iexact Hc
      isplitl [HO]; · iexact HO
      isplitr; · iapply (may_wait h c k s.todo hlow); iapply (levels_at P fin h K); iexact HR
      iexact Hat
    iintro ⟨HO, Hat, -, Hpay⟩
    ihave Hpay := (Entails.of_eq (rest_cell P fin h c k)) $$ Hpay
    ihave ⟨Hkeep, Hnew⟩ := (splits P h c k) $$ Hpay
    iapply Hk
    isplitl [HO]
    · iexists _; iexact HO
    isplitl [Ht]; · iexact Ht
    isplitl [Hh Hnew]
    · iapply (show iprop(bigSep (P.opens k) (takes P fin c) ∗ bigSep s.have_ (takes P fin c)) ⊢ bigSep (P.opens k ∪ s.have_) (takes P fin c) from Entails.of_eq (bigSep_union hdj).symm); isplitl [Hnew]; · iexact Hnew
      iexact Hh
    isplitl [Ho]; · iexact Ho
    isplitl [Hp]; · iexact Hp
    rw [Finset.compl_erase]
    iapply (bigSep_insert_sep (fun hh => (Finset.mem_compl.mp hh) hopen))
    isplitl [Hat Hkeep]
    · isplitl [Hat]; · iexact Hat
      iexact Hkeep
    iexact Hd

/-- All the instructions: from a stand they may be followed at, everything is waited for at the end. -/
theorem wp_script {m : (ℓ : Loc nD τ sig) → Buf Val ℓ} (hf : P.Fills m fin) (K : Dev nD × Cell L R → ℕ) (c : Dev nD) (F : sProp 𝕄) (os : List (Step L R)) {Q : PUnit → sProp 𝕄}
    (hQ : ∀ s : Stand L R, s.todo = ∅ → s.open_ = ∅ → iprop(F ∗ records P fin h K ∗ kit P fin c s)
      ⊢ wp frame (wpE defs₀ 𝒱₀ (c.tc : Thread nD τ) none) Set.univ (.ret ⟨⟩) Q) :
    ∀ s : Stand L R, P.follows os s = true → iprop(F ∗ records P fin h K ∗ kit P fin c s)
      ⊢ wp frame (wpE defs₀ 𝒱₀ (c.tc : Thread nD τ) none) Set.univ (seq (os.map (P.op (Val := Val) (Λ := Λ₀) c))) Q := by
  induction os with
  | nil =>
    intro s hs
    obtain ⟨h1, h2⟩ : s.todo = ∅ ∧ s.open_ = ∅ := by simpa only [Plan.follows, Bool.and_eq_true, decide_eq_true_eq] using hs
    exact hQ s h1 h2
  | cons o os ih =>
    intro s hs
    obtain ⟨h1, h2⟩ : P.may s o = true ∧ P.follows os (P.after s o) = true := by simpa only [Plan.follows, Bool.and_eq_true] using hs
    iintro ⟨HF, #HR, Hkit⟩
    iapply (wp_step P h hf K c s o h1 (k := fun _ => seq (os.map (P.op c)))) $$ [Hkit]
    · isplitr; · iexact HR
      iexact Hkit
    iintro Hkit
    iapply (ih _ h2)
    isplitl [HF]; · iexact HF
    isplitr; · iexact HR
    iexact Hkit

end Steps

end Ghost

end Cert.Exchange

end
-- ==== Proof.ExchangeRun.lean ====
/- Kernels that only move rows: the launch.

   The devices' windows, duties and credit are dealt to the devices that use them, every device runs its instructions
   (`Exchange.wp_script`), and what it kept is read against the final memory. -/
module

public import proofs.«01_k».proof.Proof.Exchange

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {nD : ℕ} {τ : Topo} {sig : RefSig} {L R : Type}
variable {Val : EltTy → Type} [∀ e, Nonempty (Val e)]

local notation "𝕄" => MT nD τ sig Unit Val ℕ (UU nD τ sig) ℕ

variable [DecidableEq L] [DecidableEq R] [Fintype L] [Fintype R] (P : Plan nD sig L R) (h : P.Sound)
variable {fin : (c : Dev nD) → (b : Ref sig .tc) → Buf Val ((c.tc : Thread nD τ).loc b)}

/-! ## The buffers dealt -/

theorem bigSep_erase_join {I : Type} [DecidableEq I] {s : Finset I} {i : I} (hi : i ∈ s) (Φ : I → sProp 𝕄) :
    iprop(Φ i ∗ bigSep (s.erase i) Φ) ⊢ bigSep s Φ := Entails.of_eq (bigSep_erase hi).symm

/-- Some share of a buffer at the final contents. -/
def some_ (fin : (c : Dev nD) → (b : Ref sig .tc) → Buf Val ((c.tc : Thread nD τ).loc b)) (c : Dev nD) (b : Ref sig .tc) : sProp 𝕄 :=
  iprop(∃ q, (c.tc : Thread nD τ).loc b ↦{q} fin c b)

/-- The argument buffers serve every transfer that reads one. -/
theorem sources (c : Dev nD) (S : Finset (Xfer L R)) (hS : ∀ x ∈ S, (P.move c x).src.view.ref ∈ P.args) :
    (bigSep P.args (some_ fin c) : sProp 𝕄) ⊢ iprop(bigSep P.args (some_ fin c) ∗ bigSep S (takes P fin c)) := by
  classical
  induction S using Finset.induction_on with
  | empty => rw [bigSep_empty]; exact (sep_emp (PROP := sProp 𝕄)).2
  | insert x S hx ih =>
    refine (ih fun y hy => hS y (Finset.mem_insert_of_mem hy)).trans ?_
    have hb := hS x (Finset.mem_insert_self x S)
    iintro ⟨Ha, HS⟩
    ihave ⟨Hb, Hr⟩ := (bigSep_erase_sep hb (some_ fin c)) $$ Ha
    ihave ⟨%q, Hb⟩ := (show some_ fin c (P.move c x).src.view.ref ⊢ iprop(∃ q, (c.tc : Thread nD τ).loc (P.move c x).src.view.ref ↦{q} fin c (P.move c x).src.view.ref)
      from .rfl) $$ Hb
    ihave ⟨H1, H2⟩ := (pointsTo_share (PosShare.mem_left_op_right q)).1 $$ Hb
    ihave ⟨H2, -⟩ := (pointsTo_split_subset (Finset.subset_univ (P.move c x).src.view.set)).1 $$ H2
    isplitl [H1 Hr]
    · iapply (bigSep_erase_join hb (some_ fin c))
      isplitl [H1]
      · unfold some_; iexists q.left; iexact H1
      iexact Hr
    iapply (bigSep_insert_sep hx)
    isplitl [H2]
    · unfold takes holds; iexists q.right; iexact H2
    iexact HS

/-- A window at some contents. -/
def win (c : Dev nD) (v : Move sig) : sProp 𝕄 :=
  iprop(∃ f, v.dst.view.loc (c.tc : Thread nD τ) ↦[v.dst.view.set]{fullShare} f)

/-- Disjoint windows cut out of whole buffers. -/
theorem windows (c : Dev nD) (f : (b : Ref sig .tc) → Buf Val ((c.tc : Thread nD τ).loc b)) (B : Finset (Ref sig .tc))
    (W : Xfer L R → Move sig) (hap : ∀ x y, x ≠ y → Disjoint (spots (W x).dst.view) (spots (W y).dst.view)) (T : Finset (Xfer L R)) :
    ∀ D : (b : Ref sig .tc) → Finset b.ty.Idx, (∀ x ∈ T, (W x).dst.view.ref ∈ B ∧ (W x).dst.view.set ⊆ D (W x).dst.view.ref) →
      (bigSep B (fun b => (c.tc : Thread nD τ).loc b ↦[D b]{fullShare} f b) : sProp 𝕄) ⊢ bigSep T fun x => win c (W x) := by
  classical
  induction T using Finset.induction_on with
  | empty => intro D _; rw [bigSep_empty]; exact BI.affine
  | insert x T hx ih =>
    intro D hD
    obtain ⟨hb, hs⟩ := hD x (Finset.mem_insert_self x T)
    have hrec := ih (Function.update D (W x).dst.view.ref (D (W x).dst.view.ref \ (W x).dst.view.set)) fun y hy => by
      obtain ⟨h1, h2⟩ := hD y (Finset.mem_insert_of_mem hy)
      refine ⟨h1, fun i hi => ?_⟩
      have hne : x ≠ y := fun e => hx (e ▸ hy)
      have key : ∀ (b : Ref sig .tc) (i : b.ty.Idx), i ∈ D b → (⟨b, i⟩ : Spot sig) ∉ spots (W x).dst.view →
          i ∈ Function.update D (W x).dst.view.ref (D (W x).dst.view.ref \ (W x).dst.view.set) b := by
        intro b i hi hn
        by_cases e : b = (W x).dst.view.ref
        · subst e
          rw [Function.update_self]
          exact Finset.mem_sdiff.mpr ⟨hi, fun hm => hn ⟨i, hm, rfl⟩⟩
        · rw [Function.update_of_ne e]; exact hi
      exact key _ i (h2 hi) fun hm => (Set.disjoint_left.mp (hap x y hne)) hm ⟨i, hi, rfl⟩
    have hsame : (bigSep (B.erase (W x).dst.view.ref) (fun b => (c.tc : Thread nD τ).loc b ↦[D b]{fullShare} f b) : sProp 𝕄)
        = bigSep (B.erase (W x).dst.view.ref) fun b => (c.tc : Thread nD τ).loc b
            ↦[Function.update D (W x).dst.view.ref (D (W x).dst.view.ref \ (W x).dst.view.set) b]{fullShare} f b :=
      bigSep_congr fun b hb => by rw [Function.update_of_ne (Finset.ne_of_mem_erase hb)]
    iintro Ha
    ihave ⟨Hb, Hr⟩ := (bigSep_erase_sep hb fun b => (c.tc : Thread nD τ).loc b ↦[D b]{fullShare} f b) $$ Ha
    ihave ⟨H1, H2⟩ := (pointsTo_split_subset hs).1 $$ Hb
    iapply (bigSep_insert_sep hx)
    isplitl [H1]
    · unfold win; iexists _; iexact H1
    iapply hrec
    iapply (bigSep_erase_join hb fun b => (c.tc : Thread nD τ).loc b
            ↦[Function.update D (W x).dst.view.ref (D (W x).dst.view.ref \ (W x).dst.view.set) b]{fullShare} f b)
    isplitl [H2]; · rw [Function.update_self]; iexact H2
    iapply (Entails.of_eq hsame); iexact Hr

/-- A device's buffers at the launch: the arguments' shares, and every window that lands on it. -/
theorem own_buffers {m : (ℓ : Loc nD τ sig) → Buf Val ℓ} (h : P.Sound) (hf : P.Fills m fin) (c : Dev nD) :
    (unscopedBufs c (fun b => m ((c.tc : Thread nD τ).loc b)) : sProp 𝕄)
      ⊢ iprop((bigSep P.args (some_ fin c) ∗ bigSep P.outset.have_ (takes P fin c)) ∗ bigSep Finset.univ fun x => win c (P.land c x)) := by
  classical
  have hsub : P.args ⊆ Finset.univ.filter fun b : Ref sig .tc => ¬ b.isScoped := fun b hb =>
    Finset.mem_filter.mpr ⟨Finset.mem_univ b, by rw [h.args_unscoped b hb]; exact Bool.false_ne_true⟩
  unfold unscopedBufs
  rw [bigSep_sdiff_split hsub]
  refine BIClass.sep_mono ((bigSep_mono fun b hb => ?_).trans (sources P c _ fun x hx => h.src_arg c x (Finset.mem_filter.mp hx).2)) ?_
  · show ((c.tc : Thread nD τ).loc b ↦{fullShare} m ((c.tc : Thread nD τ).loc b) : sProp 𝕄) ⊢ some_ fin c b
    unfold some_
    rw [hf.arg c b hb]
    iintro H; iexists fullShare; iexact H
  · exact windows c (fun b => m ((c.tc : Thread nD τ).loc b)) _ (P.land c) (h.apart c) Finset.univ (fun _ => Finset.univ) fun x _ =>
      ⟨Finset.mem_sdiff.mpr ⟨Finset.mem_filter.mpr ⟨Finset.mem_univ _, by
        rw [show (P.land c x).dst.view.ref.isScoped = false from (h.dst_out _ x).2]; exact Bool.false_ne_true⟩, (h.dst_out _ x).1⟩,
        Finset.subset_univ _⟩

theorem onto_onto (h : P.Sound) (c : Dev nD) (x : Xfer L R) : P.onto (P.onto c x) x = c := by
  rcases x with l | r
  · rfl
  · exact h.peer_peer r c

/-- Dealing: what every device has for every transfer that lands on it goes to the device that makes the transfer. -/
theorem deal (h : P.Sound) (Ψ : Dev nD → Dev nD → Xfer L R → sProp 𝕄) :
    (bigSep Finset.univ fun c : Dev nD => bigSep Finset.univ fun x => Ψ c (P.onto c x) x)
      = bigSep Finset.univ fun c : Dev nD => bigSep Finset.univ fun x => Ψ (P.onto c x) c x := by
  rw [bigSep_univ_comm, bigSep_univ_comm (fun c x => Ψ (P.onto c x) c x)]
  refine bigSep_congr fun x _ => ?_
  rw [bigSep_univ_equiv (⟨fun c => P.onto c x, fun c => P.onto c x, fun c => onto_onto P h c x, fun c => onto_onto P h c x⟩ : Dev nD ≃ Dev nD)]
  refine bigSep_congr fun c _ => ?_
  show Ψ (P.onto c x) (P.onto (P.onto c x) x) x = _
  rw [onto_onto P h]

/-! ## The ghost state dealt -/

theorem cell_inj (h : P.Sound) {a b : Dev nD} {k k' : Cell L R} (e : cell (τ := τ) P a k = cell P b k') : a = b ∧ k = k' := by
  refine ⟨congrArg (fun g : GSem nD τ sig => g.1.1) e, h.sem_inj ?_⟩
  have e2 : (SemLoc.dma (P.sem k) : SemLoc sig) = .dma (P.sem k') := congrArg (fun g : GSem nD τ sig => g.2) e
  injection e2

/-- The cells of all devices, and the duty token of each. -/
def cells (h : P.Sound) : Finset (GSem nD τ sig) :=
  Finset.univ.map ⟨fun ck : Dev nD × Cell L R => cell P ck.1 ck.2, fun _ _ e => Prod.ext (cell_inj P h e).1 (cell_inj P h e).2⟩
def duties (h : P.Sound) : Finset (GSem nD τ sig × ℕ × Unit) :=
  Finset.univ.map ⟨fun ck : Dev nD × Cell L R => (cell P ck.1 ck.2, 0, ()),
    fun _ _ e => Prod.ext (cell_inj P h (congrArg Prod.fst e)).1 (cell_inj P h (congrArg Prod.fst e)).2⟩

/-- A cell's duty token. -/
abbrev tok (c : Dev nD) (k : Cell L R) : sProp 𝕄 := dutyTok ER (cell P c k) 0 ()

/-- The token of a landing, and of a departure. -/
def landTok (c : Dev nD) : Xfer L R → sProp 𝕄
  | .inl l => tok P c (.inl l)
  | .inr r => tok P c (.inr (.inl r))
def sendTok (c : Dev nD) : Xfer L R → sProp 𝕄
  | .inl _ => iprop(emp)
  | .inr r => tok P c (.inr (.inr r))

theorem toks_split (c : Dev nD) : (bigSep Finset.univ (tok P c) : sProp 𝕄)
    ⊢ iprop(bigSep Finset.univ (landTok P c) ∗ bigSep Finset.univ (sendTok P c)) := by
  have e0 : (bigSep Finset.univ (tok P c) : sProp 𝕄) = iprop((bigSep Finset.univ fun l : L => tok P c (.inl l))
      ∗ (bigSep Finset.univ fun r : R => tok P c (.inr (.inl r))) ∗ bigSep Finset.univ fun r : R => tok P c (.inr (.inr r))) := by
    rw [bigSep_univ_sum, bigSep_univ_sum]; rfl
  have e1 : (bigSep Finset.univ (landTok P c) : sProp 𝕄) = iprop((bigSep Finset.univ fun l : L => tok P c (.inl l))
      ∗ bigSep Finset.univ fun r : R => tok P c (.inr (.inl r))) := by
    rw [bigSep_univ_sum]; rfl
  have e2 : (bigSep Finset.univ (sendTok P c) : sProp 𝕄) = bigSep Finset.univ fun r : R => tok P c (.inr (.inr r)) := by
    rw [bigSep_univ_sum, show (bigSep Finset.univ fun l : L => (sendTok P c (.inl l) : sProp 𝕄)) = BI.emp from BI.bigSep_emp_const _]
    exact equiv_iff.mp emp_sep
  rw [e0, e1, e2]
  iintro ⟨H1, H2, H3⟩
  isplitl [H1 H2]
  · isplitl [H1]; · iexact H1
    iexact H2
  iexact H3

/-- A transfer's tokens and its window are what it needs. -/
theorem hands_intro (c : Dev nD) (x : Xfer L R) :
    iprop((landTok P (P.onto c x) x ∗ win (P.onto c x) (P.move c x)) ∗ sendTok P c x) ⊢ (hands P c x : sProp 𝕄) := by
  rcases x with l | r
  · rw [hands_inl]
    unfold landTok win
    iintro ⟨⟨H1, H2⟩, -⟩
    isplitl [H1]; · iexact H1
    iexact H2
  · rw [hands_inr]
    unfold landTok sendTok win
    iintro ⟨⟨H1, H2⟩, H3⟩
    isplitl [H1 H3]
    · isplitl [H3]; · iexact H3
      iexact H1
    iexact H2

/-- Tokens and windows dealt. -/
theorem hands_deal (h : P.Sound) :
    iprop((bigSep Finset.univ fun c : Dev nD => bigSep Finset.univ (tok P c)) ∗ bigSep Finset.univ fun c : Dev nD => bigSep Finset.univ fun x => win c (P.land c x))
      ⊢ (bigSep Finset.univ fun c : Dev nD => bigSep Finset.univ (hands P c) : sProp 𝕄) := by
  have h1 : (bigSep Finset.univ fun c : Dev nD => bigSep Finset.univ (tok P c) : sProp 𝕄)
      ⊢ iprop((bigSep Finset.univ fun c : Dev nD => bigSep Finset.univ (landTok P c)) ∗ bigSep Finset.univ fun c : Dev nD => bigSep Finset.univ (sendTok P c)) :=
    (bigSep_mono fun c _ => toks_split P c).trans (Entails.of_eq (bigSep_sep' _ _ _))
  have h2 : iprop((bigSep Finset.univ fun c : Dev nD => bigSep Finset.univ (landTok P c)) ∗ bigSep Finset.univ fun c : Dev nD => bigSep Finset.univ fun x => win c (P.land c x))
      ⊢ (bigSep Finset.univ fun c : Dev nD => bigSep Finset.univ fun x => iprop(landTok P (P.onto c x) x ∗ win (P.onto c x) (P.move c x)) : sProp 𝕄) := by
    rw [← deal P h (fun d e x => iprop(landTok P d x ∗ win d (P.move e x))), ← bigSep_sep']
    exact bigSep_mono fun c _ => Entails.of_eq (bigSep_sep' _ _ _).symm
  have h3 : iprop((bigSep Finset.univ fun c : Dev nD => bigSep Finset.univ fun x => iprop(landTok P (P.onto c x) x ∗ win (P.onto c x) (P.move c x)))
        ∗ bigSep Finset.univ fun c : Dev nD => bigSep Finset.univ (sendTok P c))
      ⊢ (bigSep Finset.univ fun c : Dev nD => bigSep Finset.univ (hands P c) : sProp 𝕄) := by
    rw [← bigSep_sep']
    exact bigSep_mono fun c _ => (Entails.of_eq (bigSep_sep' _ _ _).symm).trans (bigSep_mono fun x _ => hands_intro P c x)
  iintro ⟨Ht, Hw⟩
  ihave ⟨Hl, Hs⟩ := h1 $$ Ht
  iapply h3
  isplitr [Hs]
  · iapply h2
    isplitl [Hl]; · iexact Hl
    iexact Hw
  iexact Hs

theorem owed_at (h : P.Sound) (d c : Dev nD) (r : R) :
    owed (τ := τ) P d Finset.univ (cell P c (.inr (.inl r))) () = if d = P.peer r c then P.credit (.inr r) else 0 := by
  unfold owed
  rw [Finset.sum_apply, Finsupp.finset_sum_apply, Finset.sum_eq_single (.inr r : Xfer L R) (fun x _ hx => ?_) (fun hn => absurd (Finset.mem_univ _) hn)]
  · show (tallyAt _ _ _ : CellTallies nD τ sig Unit) _ _ = _
    rw [tallyAt_apply]
    by_cases e : d = P.peer r c
    · subst e; rw [h.peer_peer, if_pos ⟨rfl, rfl⟩, if_pos rfl]
    · rw [if_neg (fun hh => e (by rw [(cell_inj P h hh.1).1, h.peer_peer])), if_neg e]
  · rcases x with l | r'
    · rfl
    · show (tallyAt _ _ _ : CellTallies nD τ sig Unit) _ _ = _
      rw [tallyAt_apply, if_neg fun hh => hx ?_]
      have := (cell_inj P h hh.1).2
      simp only [Sum.inr.injEq, Sum.inl.injEq] at this
      rw [this]

/-- The launch's credit: each device's landings from the others are announced. -/
theorem creds (h : P.Sound) (c : Dev nD) : (Pipeline.launchCred (fun d => owed P d Finset.univ) c : sProp 𝕄)
    ⊢ bigSep P.outset.paid fun k => cred (tallyAt (cell P c k) () (P.credit (paidBy k))) := by
  classical
  unfold Pipeline.launchCred Plan.outset
  rw [bigSep_map]
  refine (bigSep_subset (Finset.subset_univ (Finset.univ.map ⟨fun r : R => (.dma (P.sem (.inr (.inl r))) : SemLoc sig), fun r r' e => ?_⟩))).trans ?_
  · have := (cell_inj (τ := τ) P h (a := c) (b := c) (congrArg (Prod.mk (c.tc : Thread nD τ)) e)).2
    simpa only [Sum.inr.injEq, Sum.inl.injEq] using this
  rw [bigSep_map]
  refine bigSep_mono fun r _ => ?_
  have e : (tallyOn (cell P c (.inr (.inl r))) (launchCredit (Pipeline.owing (τ := τ) fun d => owed P d Finset.univ) 0 (cell P c (.inr (.inl r)))) : CellTallies nD τ sig Unit)
      = tallyAt (cell P c (.inr (.inl r))) () (P.credit (.inr r)) := by
    unfold tallyAt
    refine congrArg _ (Finsupp.ext fun u => ?_)
    cases u
    rw [Pipeline.launchCredit_owing, Finsupp.single_eq_same, Finset.sum_congr rfl fun d _ => owed_at P h d c r,
      Finset.sum_ite_eq' Finset.univ (P.peer r c) fun _ => P.credit (.inr r), if_pos (Finset.mem_univ _)]
  show (cred (tallyOn (cell P c (.inr (.inl r))) (launchCredit (Pipeline.owing (τ := τ) fun d => owed P d Finset.univ) 0 (cell P c (.inr (.inl r))))) : sProp 𝕄)
    ⊢ cred (tallyAt (cell P c (.inr (.inl r))) () (P.credit (.inr r)))
  rw [e]

/-- What a device holds at a stand, what it owes apart. -/
def gear (fin : (c : Dev nD) → (b : Ref sig .tc) → Buf Val ((c.tc : Thread nD τ).loc b)) (c : Dev nD) (s : Stand L R) : sProp 𝕄 :=
  iprop(bigSep s.todo (hands P c) ∗ bigSep s.have_ (takes P fin c)
    ∗ bigSep s.open_ (fun k => atPos ER (cell P c k) 0 ∅ 0)
    ∗ bigSep s.paid (fun k => cred (tallyAt (cell P c k) () (P.credit (paidBy k))))
    ∗ bigSep s.open_ᶜ (fun k => iprop(atPos ER (cell P c k) (0 + 1) ∅ 0 ∗ keeps P fin c k)))

theorem kit_eq (c : Dev nD) (s : Stand L R) : (kit P fin c s : sProp 𝕄) = iprop((∃ W, owes (c.tc : Thread nD τ) (owed P c s.todo) W) ∗ gear P fin c s) := rfl

/-- What a device starts its region with, and what it keeps at the end of it. -/
def start (fin : (c : Dev nD) → (b : Ref sig .tc) → Buf Val ((c.tc : Thread nD τ).loc b)) (h : P.Sound) (c : Dev nD) : sProp 𝕄 :=
  iprop(∃ K, bigSep P.args (some_ fin c) ∗ records P fin h K ∗ gear P fin c P.outset)
def kept (fin : (c : Dev nD) → (b : Ref sig .tc) → Buf Val ((c.tc : Thread nD τ).loc b)) (c : Dev nD) : sProp 𝕄 :=
  iprop(bigSep P.args (some_ fin c) ∗ bigSep Finset.univ (keeps P fin c))
/-- A device's cells at zero. -/
def zeros (c : Dev nD) : sProp 𝕄 := bigSep Finset.univ fun k => semVal (cell P c k) 0

theorem with_persistent {I : Type} [DecidableEq I] {S : Finset I} {A : sProp 𝕄} [BI.Persistent A] {Φ Ψ : I → sProp 𝕄}
    (hi : ∀ i ∈ S, iprop(A ∗ Φ i) ⊢ Ψ i) : iprop(A ∗ bigSep S Φ) ⊢ bigSep S Ψ :=
  (sep_mono_left (BI.bigSep_of_persistent S A)).trans (by rw [← bigSep_sep']; exact bigSep_mono hi)

theorem join4 {I : Type} [DecidableEq I] (S : Finset I) (A B C D : I → sProp 𝕄) :
    iprop(bigSep S A ∗ bigSep S B ∗ bigSep S C ∗ bigSep S D) ⊢ bigSep S fun i => iprop(A i ∗ B i ∗ C i ∗ D i) :=
  Entails.of_eq (by simp only [bigSep_sep'])

/-- The launch's regrouping: every device's cells get their invariants, and every device what it starts with. -/
theorem glob {m : (ℓ : Loc nD τ sig) → Buf Val ℓ} (hf : P.Fills m fin) :
    iprop((bigSep Finset.univ fun c : Dev nD => zeros P c)
        ∗ (bigSep Finset.univ fun c : Dev nD => unscopedBufs c (fun b => m ((c.tc : Thread nD τ).loc b)))
        ∗ (bigSep Finset.univ fun c : Dev nD => Pipeline.launchCred (fun d => owed P d Finset.univ) c)
        ∗ BI.own (ER (initOf (cells P h) (duties P h))) ∗ levAts lvlDom (lvl P))
      ⊢ (|={Set.univ}=> bigSep Finset.univ (start P fin h) : sProp 𝕄) := by
  have hX (Φ : GSem nD τ sig → sProp 𝕄) : bigSep (cells P h) Φ = bigSep Finset.univ fun ck : Dev nD × Cell L R => Φ (cell P ck.1 ck.2) := by
    unfold cells; rw [bigSep_map]; rfl
  have hY (Φ : Dev nD × Cell L R → sProp 𝕄) : bigSep Finset.univ Φ = bigSep Finset.univ fun c : Dev nD => bigSep Finset.univ fun k => Φ (c, k) :=
    bigSep_univ_prod Φ
  have hT : bigSep (duties P h) (fun x => (dutyTok ER x.1 x.2.1 x.2.2 : sProp 𝕄)) = bigSep Finset.univ fun c : Dev nD => bigSep Finset.univ (tok P c) := by
    unfold duties; rw [bigSep_map, bigSep_univ_prod]; rfl
  have hinv : iprop((bigSep Finset.univ fun ck : Dev nD × Cell L R => semVal (cell P ck.1 ck.2) 0)
        ∗ bigSep Finset.univ fun ck : Dev nD × Cell L R => roundState ER (sched P fin h) (cell P ck.1 ck.2) 0)
      ⊢ (|={Set.univ}=> bigSep Finset.univ fun ck : Dev nD × Cell L R => iprop(∃ κ : ℕ, cellInv ER (sched P fin h) κ (cell P ck.1 ck.2)) : sProp 𝕄) := by
    rw [← bigSep_sep']
    exact (bigSep_mono fun ck _ => (Rounds.body_intro ER (sched P fin h) (cell P ck.1 ck.2)).trans inv_alloc).trans (bigSep_fupd _ _)
  have hbuf : (bigSep Finset.univ fun c : Dev nD => unscopedBufs c (fun b => m ((c.tc : Thread nD τ).loc b)) : sProp 𝕄)
      ⊢ iprop((bigSep Finset.univ fun c : Dev nD => iprop(bigSep P.args (some_ fin c) ∗ bigSep P.outset.have_ (takes P fin c)))
          ∗ bigSep Finset.univ fun c : Dev nD => bigSep Finset.univ fun x => win c (P.land c x)) :=
    (bigSep_mono fun c _ => own_buffers P h hf c).trans (Entails.of_eq (bigSep_sep' _ _ _))
  have hjoin (K : Dev nD × Cell L R → ℕ) : iprop(records P fin h K ∗ bigSep Finset.univ fun c : Dev nD =>
        iprop((bigSep P.args (some_ fin c) ∗ bigSep P.outset.have_ (takes P fin c)) ∗ bigSep Finset.univ (hands P c)
          ∗ (bigSep Finset.univ fun k => atPos ER (cell P c k) 0 ∅ 0)
          ∗ bigSep P.outset.paid fun k => cred (tallyAt (cell P c k) () (P.credit (paidBy k)))))
      ⊢ (bigSep Finset.univ (start P fin h) : sProp 𝕄) := with_persistent fun c _ => by
    unfold start gear
    iintro ⟨#HR, ⟨Ha, Ht⟩, Hh, Hat, Hc⟩
    iexists K
    isplitl [Ha]; · iexact Ha
    isplitr; · iexact HR
    isplitl [Hh]; · iexact Hh
    isplitl [Ht]; · iexact Ht
    isplitl [Hat]; · iexact Hat
    isplitl [Hc]; · iexact Hc
    rw [show P.outset.open_ᶜ = ∅ from Finset.compl_univ, bigSep_empty]
    iempintro
  have hcr : (bigSep Finset.univ fun c : Dev nD => Pipeline.launchCred (fun d => owed P d Finset.univ) c : sProp 𝕄)
      ⊢ bigSep Finset.univ fun c : Dev nD => bigSep P.outset.paid fun k => cred (tallyAt (cell P c k) () (P.credit (paidBy k))) :=
    bigSep_mono fun c _ => creds P h c
  iintro ⟨Hz, Hub, Hcr, Hu, #Hlev⟩
  imod (Rounds.fund ER (sched P fin h) (cells P h) (duties P h)) $$ Hu with ⟨Hst, #Hr, Hat, Htok⟩
  imod hinv $$ [Hz Hst] with HI
  · isplitl [Hz]
    · iapply (Entails.of_eq (hY fun ck => semVal (cell P ck.1 ck.2) 0).symm); iexact Hz
    · iapply (Entails.of_eq (hX fun g => roundState ER (sched P fin h) g 0)); iexact Hst
  ihave ⟨%K, #HI⟩ := (BI.bigSep_exists_pi Finset.univ (fun (ck : Dev nD × Cell L R) (κ : ℕ) => (cellInv ER (sched P fin h) κ (cell P ck.1 ck.2) : sProp 𝕄))) $$ HI
  ihave ⟨Hsrc, Hwin⟩ := hbuf $$ Hub
  ihave Hh := (hands_deal P h) $$ [Htok Hwin]
  · isplitl [Htok]; · iapply (Entails.of_eq hT); iexact Htok
    iexact Hwin
  imodintro
  iapply (hjoin K)
  isplitr
  · unfold records
    isplitr; · iexact HI
    isplitr; · iapply (Entails.of_eq (hX fun g => reached ER g 0)); iexact Hr
    iexact Hlev
  iapply (join4 Finset.univ (fun c : Dev nD => iprop(bigSep P.args (some_ fin c) ∗ bigSep P.outset.have_ (takes P fin c)))
    (fun c => bigSep Finset.univ (hands P c)) (fun c => bigSep Finset.univ fun k => atPos ER (cell P c k) 0 ∅ 0)
    (fun c => bigSep P.outset.paid fun k => cred (tallyAt (cell P c k) () (P.credit (paidBy k)))))
  isplitl [Hsrc]; · iexact Hsrc
  isplitl [Hh]; · iexact Hh
  isplitl [Hat]
  · iapply (Entails.of_eq ((hX fun g => atPos ER g 0 ∅ 0).trans (hY fun ck => atPos ER (cell P ck.1 ck.2) 0 ∅ 0))); iexact Hat
  iapply hcr; iexact Hcr

end Cert.Exchange

end
-- ==== Proof.ExchangeLaunch.lean ====
/- Kernels that only move rows: the region, and every execution of the launch.

   Each device's region starts with what `Exchange.glob` deals it, and ends with every cell closed at zero and every
   window at its final contents. Read against the final memory, these give the contents of every buffer. -/
module

public import proofs.«01_k».proof.Proof.ExchangeRun

@[expose] public section

noncomputable section

namespace Cert.Exchange

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Cfg RDat)

variable {nD : ℕ} {τ : Topo} {sig : RefSig} {L R : Type}
variable {Val : EltTy → Type} [∀ e, Nonempty (Val e)]

local notation "𝕄" => MT nD τ sig Unit Val ℕ (UU nD τ sig) ℕ

variable [DecidableEq L] [DecidableEq R] [Fintype L] [Fintype R] (P : Plan nD sig L R) (h : P.Sound)
variable {fin : (c : Dev nD) → (b : Ref sig .tc) → Buf Val ((c.tc : Thread nD τ).loc b)}

/-! ## The end of the region -/

/-- Every cell closed. -/
theorem close_all (K : Dev nD × Cell L R → ℕ) (c : Dev nD) :
    iprop(records P fin h K ∗ bigSep Finset.univ (fun k => iprop(atPos ER (cell P c k) (0 + 1) ∅ 0 ∗ keeps P fin c k)))
      ⊢ (|={Set.univ}=> iprop(zeros P c ∗ bigSep Finset.univ (keeps P fin c)) : sProp 𝕄) := by
  have h1 : iprop(records P fin h K ∗ bigSep Finset.univ (fun k => (atPos ER (cell P c k) (0 + 1) ∅ 0 : sProp 𝕄)))
      ⊢ (|={Set.univ}=> zeros P c : sProp 𝕄) := by
    refine (with_persistent (Ψ := fun k => iprop(|={Set.univ}=> semVal (cell P c k) 0)) fun k _ => ?_).trans (bigSep_fupd _ _)
    iintro ⟨#HR, Hat⟩
    iapply (Rounds.cell_close ER (sched P fin h) (Set.mem_univ (K (c, k))) (fun h => h) (R := 0 + 1) (duties_later P fin h (cell P c k)))
    isplitr; · iapply (inv_at P fin h K c k); iexact HR
    iexact Hat
  have h2 : (bigSep Finset.univ (fun k => iprop(atPos ER (cell P c k) (0 + 1) ∅ 0 ∗ keeps P fin c k)) : sProp 𝕄)
      ⊢ iprop(bigSep Finset.univ (fun k => (atPos ER (cell P c k) (0 + 1) ∅ 0 : sProp 𝕄)) ∗ bigSep Finset.univ (keeps P fin c)) :=
    Entails.of_eq (bigSep_sep' _ _ _)
  iintro ⟨#HR, H⟩
  ihave ⟨Hat, Hk⟩ := h2 $$ H
  imod h1 $$ [Hat] with Hz
  · isplitr; · iexact HR
    iexact Hat
  imodintro
  isplitl [Hz]; · iexact Hz
  iexact Hk

/-! ## The region -/

section Region

variable {Λ₀ : Labels} (cfgs : Fin 1 → Cfg sig Λ₀) (hW : ∀ p, IsEmpty (Fin (cfgs p).W))
variable (fin) in
/-- The region has no window: its invariant is all there is to say. -/
def dats (p : Fin 1) (c : Dev nD) : RDat τ Val Unit ℕ (UU nD τ sig) ℕ (cfgs p) c where
  A w := (hW p).elim w
  after w := (hW p).elim w
  Φ t := iprop(scopedBufs (c.tc : Thread nD τ) ∗ if t.val = 0 then start P fin h c else iprop(kept P fin c ∗ zeros P c))
  q w := (hW p).elim w
  owed t := if t.val = 0 then owed P c Finset.univ else 0

theorem bigSep_none {p : Fin 1} (Φ : Fin (cfgs p).W → sProp 𝕄) (hW : ∀ p, IsEmpty (Fin (cfgs p).W)) : bigSep Finset.univ Φ = (BI.emp : sProp 𝕄) := by
  have := hW p
  rw [Finset.univ_eq_empty, bigSep_empty]

/-- The region's body is the script. -/
def RunsScript (defs₀ : Defs nD τ sig Val Λ₀) : Prop :=
  ∀ (t : Fin (cfgs 0).N) (c : Dev nD) (Q : sProp 𝕄),
    (wp frame (wpE defs₀ 𝒱₀ (c.tc : Thread nD τ) none) Set.univ
      (.op .deviceId fun d => seq (P.script.map (P.op d)) : Prog (TpuEff nD τ sig Val Λ₀ .tc) PUnit) (fun _ => Q) : sProp 𝕄)
      ⊢ wp frame (wpE defs₀ 𝒱₀ (c.tc : Thread nD τ) none) Set.univ (defs₀ .tc (cfgs 0).body ((cfgs 0).bodyArgs t ((cfgs 0).slots t))) (fun _ => Q)

variable (hN : (cfgs 0).N = 1) (defs₀ : Defs nD τ sig Val Λ₀) (hbody : RunsScript P cfgs defs₀)

include hN hbody in
theorem body_obligation {m : (ℓ : Loc nD τ sig) → Buf Val ℓ} (hf : P.Fills m fin) (c : Dev nD) :
    (dats P h fin cfgs hW 0 c).BodyObligation defs₀ 𝒱₀ () Set.univ := by
  intro t Y _
  have ht := t.2
  have e0 : (if t.castSucc.val = 0 then start P fin h c else iprop(kept P fin c ∗ zeros P c)) = start P fin h c :=
    if_pos (by show t.val = 0; omega)
  have e1 : (if t.succ.val = 0 then start P fin h c else iprop(kept P fin c ∗ zeros P c)) = iprop(kept P fin c ∗ zeros P c) :=
    if_neg (Nat.succ_ne_zero _)
  have o0 : (if t.castSucc.val = 0 then owed P c Finset.univ else 0 : CellTallies nD τ sig Unit) = owed P c Finset.univ :=
    if_pos (by show t.val = 0; omega)
  have o1 : (if t.succ.val = 0 then owed P c Finset.univ else 0 : CellTallies nD τ sig Unit) = 0 := if_neg (Nat.succ_ne_zero _)
  refine BIBase.Entails.trans ?_ (hbody t c _)
  rw [wp_deviceId, bigSep_none cfgs _ hW]
  unfold RDat.owesAt Pipeline.owesWithin
  simp only [dats, bigSep_none cfgs _ hW]
  rw [e0, e1, o0, o1]
  iintro ⟨⟨Hsc, HΦ⟩, ⟨%W, -, HO⟩, -⟩
  unfold start
  icases HΦ with ⟨%K, Ha, #HR, Hg⟩
  iapply (wp_script P h hf K c (iprop(scopedBufs (c.tc : Thread nD τ) ∗ bigSep P.args (some_ fin c))) P.script (fun s h1 h2 => ?_) P.outset h.follows)
  rotate_left
  · isplitl [Hsc Ha]; · isplitl [Hsc] <;> iassumption
    isplitr; · iexact HR
    rw [kit_eq]
    isplitl [HO]; · iexists W; iexact HO
    iexact Hg
  · rw [wp_ret, kit_eq, h1]
    unfold gear
    rw [h2, Finset.compl_empty]
    iintro ⟨⟨Hsc, Ha⟩, #HR, ⟨%W, HO⟩, -, -, -, -, Hk⟩
    imod (close_all P h K c) $$ [Hk] with ⟨Hz, Hk⟩
    · isplitr; · iexact HR
      iexact Hk
    imodintro
    isplitl [Hsc Ha Hk Hz]
    · isplitl [Hsc]; · iexact Hsc
      isplitr [Hz]
      · unfold kept
        isplitl [Ha]; · iexact Ha
        iexact Hk
      iexact Hz
    isplitl [HO]
    · iexists W
      isplitr; · ipureintro; exact fun _ _ => Or.inl trivial
      iapply (show (owes (c.tc : Thread nD τ) (owed P c ∅) W : sProp 𝕄) ⊢ owes (c.tc : Thread nD τ) 0 W from .rfl)
      iexact HO
    iempintro

end Region

/-! ## Reading the final memory -/

/-- A family of facts that can each be read can be read together. -/
theorem read_all {I : Type} [DecidableEq I] (S : Finset I) (Φ : I → sProp 𝕄) (φ : I → Phys nD τ sig Val → Prop) (s' : Phys nD τ sig Val)
    (hr : ∀ i ∈ S, iprop(Φ i ∗ SI s') ⊢ (⌜φ i s'⌝ : sProp 𝕄)) : iprop(bigSep S Φ ∗ SI s') ⊢ (⌜∀ i ∈ S, φ i s'⌝ : sProp 𝕄) := by
  induction S using Finset.induction_on with
  | empty => iintro -; ipureintro; simp
  | insert i S hi ih =>
    have h1 : bigSep (insert i S) Φ ⊢ iprop(Φ i ∗ bigSep S Φ) := Entails.of_eq (bigSep_insert hi)
    iintro ⟨H, HSI⟩
    ihave ⟨Hi, HS⟩ := h1 $$ H
    ihave %ha := (hr i (Finset.mem_insert_self i S)) $$ [Hi HSI]
    · isplitl [Hi] <;> iassumption
    ihave %hb := (ih fun j hj => hr j (Finset.mem_insert_of_mem hj)) $$ [HS HSI]
    · isplitl [HS] <;> iassumption
    ipureintro
    intro j hj
    rcases Finset.mem_insert.mp hj with rfl | hj
    · exact ha
    · exact hb j hj

/-- What a device kept tells of the final memory. -/
def Reads (fin : (c : Dev nD) → (b : Ref sig .tc) → Buf Val ((c.tc : Thread nD τ).loc b)) (c : Dev nD) (s : MemSt nD τ sig Val) : Prop :=
  ∀ b : Ref sig .tc, b.isScoped = false → s.mem ((c.tc : Thread nD τ).loc b) = fin c b

include h in
theorem read_kept (c : Dev nD) (s' : Phys nD τ sig Val) : iprop(kept P fin c ∗ SI s') ⊢ (⌜Reads fin c s'.mem⌝ : sProp 𝕄) := by
  classical
  have ha : ∀ b ∈ P.args, iprop(some_ fin c b ∗ SI s') ⊢ (⌜s'.mem.mem ((c.tc : Thread nD τ).loc b) = fin c b⌝ : sProp 𝕄) := fun b _ => by
    unfold some_
    iintro ⟨⟨%q, H⟩, HSI⟩
    ihave %hh := (SI_pointsTo_agree (st := s')) $$ [HSI H]
    · isplitl [HSI] <;> iassumption
    ipureintro
    exact funext fun i => hh i (Finset.mem_univ i)
  have hv : ∀ x : Xfer L R, iprop(holds fin c (P.land c x).dst.view fullShare.left ∗ SI s')
      ⊢ (⌜∀ i ∈ (P.land c x).dst.view.set, s'.mem.mem ((c.tc : Thread nD τ).loc (P.land c x).dst.view.ref) i = fin c (P.land c x).dst.view.ref i⌝ : sProp 𝕄) := fun x => by
    unfold holds
    iintro ⟨H, HSI⟩
    ihave %hh := (SI_pointsTo_agree (st := s')) $$ [HSI H]
    · isplitl [HSI] <;> iassumption
    ipureintro
    exact hh
  have hc : ∀ k ∈ (Finset.univ : Finset (Cell L R)), iprop(keeps P fin c k ∗ SI s')
      ⊢ (⌜(∀ r, k ≠ .inr (.inr r)) → ∀ i ∈ (P.land c (paidBy k)).dst.view.set,
          s'.mem.mem ((c.tc : Thread nD τ).loc (P.land c (paidBy k)).dst.view.ref) i = fin c (P.land c (paidBy k)).dst.view.ref i⌝ : sProp 𝕄) := fun k _ => by
    rcases k with l | r | r
    · exact (hv (.inl l)).trans (BI.pure_mono fun hh _ => hh)
    · exact (hv (.inr r)).trans (BI.pure_mono fun hh _ => hh)
    · iintro -; ipureintro; exact fun hh => absurd rfl (hh r)
  unfold kept
  iintro ⟨⟨Ha, Hk⟩, HSI⟩
  ihave %h1 := (read_all P.args (some_ fin c) (fun b s => s.mem.mem ((c.tc : Thread nD τ).loc b) = fin c b) s' ha) $$ [Ha HSI]
  · isplitl [Ha] <;> iassumption
  ihave %h2 := (read_all Finset.univ (keeps P fin c) (fun k s => (∀ r, k ≠ .inr (.inr r)) → ∀ i ∈ (P.land c (paidBy k)).dst.view.set,
          s.mem.mem ((c.tc : Thread nD τ).loc (P.land c (paidBy k)).dst.view.ref) i = fin c (P.land c (paidBy k)).dst.view.ref i) s' hc) $$ [Hk HSI]
  · isplitl [Hk] <;> iassumption
  ipureintro
  intro b hb
  by_cases hba : b ∈ P.args
  · exact h1 b hba
  · funext i
    obtain ⟨x, j, hj, he⟩ := h.cover c b hb hba i
    have h3 : ∀ j ∈ (P.land c x).dst.view.set,
        s'.mem.mem ((c.tc : Thread nD τ).loc (P.land c x).dst.view.ref) j = fin c (P.land c x).dst.view.ref j := by
      rcases x with l | r
      · exact h2 (.inl l) (Finset.mem_univ _) (fun r e => by cases e)
      · exact h2 (.inr (.inl r)) (Finset.mem_univ _) (fun r e => by cases e)
    have h4 := h3 j hj
    have key : ∀ (p q : Spot sig), p = q → s'.mem.mem ((c.tc : Thread nD τ).loc p.1) p.2 = fin c p.1 p.2 →
        s'.mem.mem ((c.tc : Thread nD τ).loc q.1) q.2 = fin c q.1 q.2 := by rintro p q rfl hh; exact hh
    exact key _ _ he h4

/-! ## The launch -/

section Launch

variable {Λ₀ : Labels} (cfgs : Fin 1 → Cfg sig Λ₀) (hW : ∀ p, IsEmpty (Fin (cfgs p).W))

/-- The scoped cells of a device that no transfer uses. -/
def idle (c : Dev nD) : sProp 𝕄 :=
  bigSep ((Finset.univ.filter fun sm : SemLoc sig => sm.isScoped .tc) \ Finset.univ.image fun k : Cell L R => (.dma (P.sem k) : SemLoc sig))
    fun sm => semVal ((c.tc : Thread nD τ), sm) 0

include h in
theorem scoped_sems (hscoped : ∀ sm : SemLoc sig, sm.isScoped .tc = true) (c : Dev nD) :
    (scopedSems0 (c.tc : Thread nD τ) : sProp 𝕄) = iprop(zeros P c ∗ idle P c) := by
  classical
  have hinj : Function.Injective fun k : Cell L R => (.dma (P.sem k) : SemLoc sig) := fun k k' e => h.sem_inj (by injection e)
  have hsub : Finset.univ.map ⟨fun k : Cell L R => (.dma (P.sem k) : SemLoc sig), hinj⟩ ⊆ Finset.univ.filter fun sm : SemLoc sig => sm.isScoped .tc :=
    fun sm _ => Finset.mem_filter.mpr ⟨Finset.mem_univ _, hscoped sm⟩
  unfold zeros idle
  rw [show (scopedSems0 (c.tc : Thread nD τ) : sProp 𝕄) = _ from scopedSems0_tc c, bigSep_sdiff_split hsub, bigSep_map, Finset.map_eq_image]
  rfl

/-- The levels assigned once for the machine. -/
theorem levels_all : (bigSep Finset.univ fun c : Dev nD => levels0 (Val := Val) (τ := τ) (sig := sig) c)
    ⊢ (|==> levAts lvlDom (lvl P) : sProp 𝕄) := by
  refine (bigSep_mono fun c _ => lev_assign_cells (c.tc : Thread nD τ) lvlDom (lvl P)).trans <| (BI.bigSep_bupd _ _).trans <| BI.bupd_mono ?_
  have hsc : (bigSep Finset.univ fun d : Dev nD => bigSep (Finset.univ.erase Proc.tc) fun p => (coreLevAts ((d, p) : Thread nD τ) lvlDom (lvl P) : sProp 𝕄)) = BI.emp := by
    rw [bigSep_congr (Ψ := fun _ : Dev nD => (BI.emp : sProp 𝕄)) fun d _ =>
      (bigSep_congr (Ψ := fun _ : Proc τ => (BI.emp : sProp 𝕄)) fun p hp => by
        unfold coreLevAts
        rw [bigSep_congr (Ψ := fun _ : SemLoc sig => (BI.emp : sProp 𝕄)) fun sm _ => by
          rw [lvlDom_of_ne (((d, p) : Thread nD τ), sm) (Finset.ne_of_mem_erase hp), BI.bigSep_empty], BI.bigSep_emp_const]).trans
      (BI.bigSep_emp_const _), BI.bigSep_emp_const]
  have hinner : (bigSep Finset.univ fun c : Dev nD =>
        iprop((bigSep Finset.univ fun sm : SemLoc sig => levels ((c.tc : Thread nD τ), sm) (lvlDom ((c.tc : Thread nD τ), sm))) ∗ coreLevAts (c.tc : Thread nD τ) lvlDom (lvl P)))
      ⊢ (iprop((bigSep Finset.univ fun d : Dev nD => coreLevAts (d.tc : Thread nD τ) lvlDom (lvl P))
          ∗ bigSep Finset.univ fun d : Dev nD => bigSep (Finset.univ.erase Proc.tc) fun p => coreLevAts ((d, p) : Thread nD τ) lvlDom (lvl P)) : sProp 𝕄) := by
    rw [hsc, bigSep_sep']
    iintro ⟨-, H⟩
    isplitl [H]; · iexact H
    iempintro
  rw [show (levAts lvlDom (lvl P) : sProp 𝕄) = bigSep Finset.univ fun c : Thread nD τ => coreLevAts c lvlDom (lvl P)
      from (bigSep_univ_prod fun g : GSem nD τ sig => bigSep (lvlDom g) fun ι => levAt g ι (lvl P g ι)),
    bigSep_threads (fun c : Thread nD τ => coreLevAts c lvlDom (lvl P))]
  exact hinner

theorem join7 {I : Type} [DecidableEq I] (S : Finset I) (A B C D E F G : I → sProp 𝕄) :
    (bigSep S fun i => iprop(A i ∗ B i ∗ C i ∗ D i ∗ E i ∗ F i ∗ G i))
      ⊢ iprop(bigSep S A ∗ bigSep S B ∗ bigSep S C ∗ bigSep S D ∗ bigSep S E ∗ bigSep S F ∗ bigSep S G) :=
  Entails.of_eq (by simp only [bigSep_sep'])

variable (fin) in
/-- What a device runs `main` with. -/
def pre (c : Dev nD) : sProp 𝕄 :=
  iprop(scopedBufs (c.tc : Thread nD τ) ∗ idle P c ∗ owes (c.tc : Thread nD τ) (owed P c Finset.univ) ∅ ∗ start P fin h c)
variable (fin) in
/-- What it has at the end. -/
def past (c : Dev nD) : sProp 𝕄 := iprop(kept P fin c ∗ scopedSems0 (c.tc : Thread nD τ))

/-- The launch: every device's holdings dealt. -/
theorem launch (hscoped : ∀ sm : SemLoc sig, sm.isScoped .tc = true) (m : (ℓ : Loc nD τ sig) → Buf Val ℓ) (g : Dev nD → PrngReg) (hf : P.Fills m fin)
    (u : UR sig nD τ) :
    iprop((bigSep Finset.univ fun d : Dev nD => coreInit (Pipeline.owing fun d => owed P d Finset.univ) 0 (⟨m, fun _ => 0, g⟩ : MemSt nD τ sig Val) (d.tc : Thread nD τ))
        ∗ ownU (u, initOf (cells P h) (duties P h)))
      ⊢ (|={Set.univ}=> bigSep Finset.univ (pre P h fin) : sProp 𝕄) := by
  have hcore (c : Dev nD) : (coreInit (Pipeline.owing fun d => owed P d Finset.univ) 0 (⟨m, fun _ => 0, g⟩ : MemSt nD τ sig Val) (c.tc : Thread nD τ) : sProp 𝕄)
      ⊢ iprop(scopedBufs (c.tc : Thread nD τ) ∗ zeros P c ∗ idle P c ∗ unscopedBufs c (fun b => m ((c.tc : Thread nD τ).loc b))
        ∗ owes (c.tc : Thread nD τ) (owed P c Finset.univ) ∅ ∗ levels0 c ∗ Pipeline.launchCred (fun d => owed P d Finset.univ) c) := by
    refine (Pipeline.coreInit_boundary_owing (fun d => owed P d Finset.univ) m g c).trans ?_
    unfold boundary
    rw [scoped_sems P h hscoped c]
    iintro ⟨⟨Hsc, ⟨Hz, Hi⟩, -⟩, Hub, -, HL, Hlv, -, Hcr⟩
    isplitl [Hsc]; · iexact Hsc
    isplitl [Hz]; · iexact Hz
    isplitl [Hi]; · iexact Hi
    isplitl [Hub]; · iexact Hub
    isplitl [HL]; · iexact HL
    isplitl [Hlv] <;> iassumption
  have hcores : (bigSep Finset.univ fun d : Dev nD => coreInit (Pipeline.owing fun d => owed P d Finset.univ) 0 (⟨m, fun _ => 0, g⟩ : MemSt nD τ sig Val) (d.tc : Thread nD τ) : sProp 𝕄)
      ⊢ iprop((bigSep Finset.univ fun c : Dev nD => scopedBufs (c.tc : Thread nD τ)) ∗ bigSep Finset.univ (zeros P) ∗ bigSep Finset.univ (idle P)
        ∗ (bigSep Finset.univ fun c : Dev nD => unscopedBufs c (fun b => m ((c.tc : Thread nD τ).loc b)))
        ∗ (bigSep Finset.univ fun c : Dev nD => owes (c.tc : Thread nD τ) (owed P c Finset.univ) ∅) ∗ bigSep Finset.univ levels0
        ∗ bigSep Finset.univ (Pipeline.launchCred fun d => owed P d Finset.univ)) :=
    (bigSep_mono (s := Finset.univ) fun c _ => hcore c).trans (join7 Finset.univ _ _ _ _ _ _ _)
  iintro ⟨Hc, Hu⟩
  ihave ⟨Hsc, Hz, Hi, Hub, HL, Hlv, Hcr⟩ := hcores $$ Hc
  imod (levels_all P) $$ Hlv with Hla
  ihave ⟨-, Hu⟩ := (ownU_pair _ _) $$ Hu
  imod (glob P h hf) $$ [Hz Hub Hcr Hu Hla] with Hs
  · isplitl [Hz]; · iexact Hz
    isplitl [Hub]; · iexact Hub
    isplitl [Hcr]; · iexact Hcr
    isplitl [Hu] <;> iassumption
  imodintro
  iapply (join4 Finset.univ (fun c : Dev nD => scopedBufs (c.tc : Thread nD τ)) (idle P) (fun c : Dev nD => owes (c.tc : Thread nD τ) (owed P c Finset.univ) ∅)
    (start P fin h))
  isplitl [Hsc]; · iexact Hsc
  isplitl [Hi]; · iexact Hi
  isplitl [HL] <;> iassumption

variable (phinj : Function.Injective (Pipeline.cellOf (nD := nD) (τ := τ) cfgs))
variable (hN : (cfgs 0).N = 1) (defs₀ : Defs nD τ sig Val Λ₀) (hbody : RunsScript P cfgs defs₀)

include hW hN hbody phinj in
/-- A device's run of the region. -/
theorem device (hscoped : ∀ sm : SemLoc sig, sm.isScoped .tc = true) {m : (ℓ : Loc nD τ sig) → Buf Val ℓ} (hf : P.Fills m fin) (c : Dev nD) :
    (pre P h fin c : sProp 𝕄)
      ⊢ wp frame (wpE (Pipeline.defs (fun p => (cfgs p).toPCfg (Val := Val)) defs₀) (Variants.lift 𝒱₀) (c.tc : Thread nD τ) none) Set.univ
          (.op (.customCall (Pipeline.entry 0) ()) fun _ => .ret ⟨⟩ :
            Prog (TpuEff nD τ sig Val (Pipeline.Sig Λ₀ (Fin 1) fun p => ((cfgs p).toPCfg (Val := Val)).Adm) .tc) PUnit)
          (fun _ => post (liftTc (past P fin) BI.emp) (c.tc : Thread nD τ)) := by
  have hn : (cfgs 0).N ≠ 0 := by omega
  have e1 : (if (Fin.last (cfgs 0).N).val = 0 then start P fin h c else iprop(kept P fin c ∗ zeros P c)) = iprop(kept P fin c ∗ zeros P c) := if_neg hn
  have o1 : (if (Fin.last (cfgs 0).N).val = 0 then owed P c Finset.univ else 0 : CellTallies nD τ sig Unit) = 0 := if_neg hn
  have hst : (Pipeline.Dat.staging (cfgs 0) c : sProp 𝕄) = BI.emp := bigSep_none cfgs _ hW
  have hpf : (BI.emp : sProp 𝕄) ⊢ Pipeline.prefHeld ((cfgs 0).toPCfg (Val := Val)).pre c (fun _ => fullShare) ((cfgs 0).toPCfg_adm (Val := Val)).1 := by
    unfold Pipeline.prefHeld
    have : IsEmpty (Fin ((cfgs 0).toPCfg (Val := Val)).pre.K) := inferInstanceAs (IsEmpty (Fin 0))
    rw [Finset.univ_eq_empty, bigSep_empty]
  unfold pre
  iintro ⟨Hsc, Hi, HO, Hs⟩
  iapply (RDat.wp_customCall_entry_frame (fun p => (cfgs p).toPCfg (Val := Val)) (fun p => (cfgs p).toPCfg_adm) (dats P h fin cfgs hW) () embL (fun _ => 0)
      phinj (0 : Fin 1) defs₀ 𝒱₀ (fun _ => fullShare) c Set.univ (fun _ _ => Set.mem_univ _)
      (body_obligation P h cfgs hW hN defs₀ hbody hf c) (fun w => (hW 0).elim w) none (fun u h => nomatch h)
      (X := start P fin h c) (Y := kept P fin c) (R := scopedBufs (c.tc : Thread nD τ)) (I := idle P c)
      (by
        show (scopedBufs (c.tc : Thread nD τ) : sProp 𝕄) ⊢ iprop(Pipeline.Dat.staging (cfgs 0) c ∗ scopedBufs (c.tc : Thread nD τ))
        rw [hst]
        iintro H
        isplitr; · iempintro
        iexact H)
      (by
        show _ ⊢ iprop(scopedBufs (c.tc : Thread nD τ) ∗ start P fin h c)
        iintro ⟨H, -, Hb⟩
        isplitl [Hb] <;> iassumption)
      (by
        rw [scoped_sems P h hscoped c]
        show iprop((scopedBufs (c.tc : Thread nD τ) ∗ if (Fin.last (cfgs 0).N).val = 0 then start P fin h c else iprop(kept P fin c ∗ zeros P c)) ∗ _) ⊢ _
        rw [e1]
        iintro ⟨⟨Hb, Hk, Hz⟩, -, -, Hi⟩
        isplitl [Hk]; · iexact Hk
        isplitl [Hz Hi]; · isplitl [Hz] <;> iassumption
        iexact Hb)
      (k := fun _ => .ret ⟨⟩) (Q := fun _ => post (liftTc (past P fin) BI.emp) (c.tc : Thread nD τ))) $$ [Hsc Hi HO Hs]
  · isplitl [HO]
    · unfold RDat.EntryPre Pipeline.PerCore.RDat.EntryPre RDat.arrays Pipeline.PerCore.RDat.cellsWaits Pipeline.PerCore.RDat.cellsInit Pipeline.PerCore.toksInit
      isplitr; · iapply (Entails.of_eq (bigSep_none cfgs (p := 0) _ hW).symm); iempintro
      isplitl [HO]
      · iexists ∅
        isplitr; · ipureintro; exact fun _ _ => Or.inl trivial
        iexact HO
      isplitr; · iapply (Entails.of_eq (bigSep_none cfgs (p := 0) _ hW).symm); iempintro
      isplitr; · iapply (Entails.of_eq (bigSep_none cfgs (p := 0) _ hW).symm); iempintro
      iapply (Entails.of_eq (bigSep_none cfgs (p := 0) _ hW).symm); iempintro
    isplitr; · iapply hpf; iempintro
    isplitl [Hs]; · iexact Hs
    isplitl [Hi]; · iexact Hi
    iexact Hsc
  iintro ⟨Hp, HY, Hss, -⟩
  rw [wp_ret]; imodintro
  unfold post; simp only [liftTc_tc, past]
  isplitl [HY Hss]
  · isplitl [HY] <;> iassumption
  unfold RDat.EntryPost Pipeline.PerCore.RDat.EntryPost
  icases Hp with ⟨-, ⟨%W, -, HW⟩⟩
  iexists W
  iapply (Entails.of_eq (congrArg (fun O => (owes (c.tc : Thread nD τ) O W : sProp 𝕄)) o1))
  iexact HW

include h hW hN hbody phinj in
/-- Every execution ends, with every buffer at its final contents and every counter at zero. -/
theorem run (hscoped : ∀ sm : SemLoc sig, sm.isScoped .tc = true) {m : (ℓ : Loc nD τ sig) → Buf Val ℓ} (g : Dev nD → PrngReg) (hf : P.Fills m fin)
    (main : Dev nD → Prog (TpuEff nD τ sig Val (Pipeline.Sig Λ₀ (Fin 1) fun p => ((cfgs p).toPCfg (Val := Val)).Adm) .tc) PUnit)
    (hmain : ∀ c, main c = .op (.customCall (Pipeline.entry 0) ()) fun _ => .ret ⟨⟩) :
    θ_run (Pipeline.defs (fun p => (cfgs p).toPCfg (Val := Val)) defs₀) (onTc (τ := τ) main) ⟨m, fun _ => 0, g⟩
      (fun r => (∀ c, Reads fin c r.2) ∧ r.2.sem = fun _ => 0) := by
  refine (θ_run _ _ _).mono (Q := fun r => (∀ c : Dev nD, Reads fin c r.2
      ∧ ∀ sm : SemLoc sig, sm.isScoped .tc = true → r.2.sem ((c.tc : Thread nD τ), sm) = 0)
      ∧ ∀ g' : GSem nD τ sig, g'.1.2 ≠ .tc → r.2.sem g' = 0)
    (fun r hr => ⟨fun c => (hr.1 c).1, sem_eq_zero_of_scoped hscoped (sems_of_reads (fun c => (hr.1 c).2) hr.2)⟩) (adequate_tpu _ _ _ _
    (reflect_intro_fupd_tc_sems (X := Unit) (Ix := Unit) (Name := ℕ) (U := UU nD τ sig) (Lvl := ℕ) (Variants.lift 𝒱₀) (Pipeline.owing fun d => owed P d Finset.univ) 0
      (noBookings fun _ => le_rfl) (Pipeline.owing_of_ne _) (initOf ∅ ∅, initOf (cells P h) (duties P h))
      (fun _ => pre P h fin) (fun _ => past P fin) (fun _ => iprop(emp)) Set.univ ?_ (fun _ c => ?_) fun _ => ?_))
  · iintro H
    imod (launch P h hscoped m g hf _) $$ H with H
    imodintro
    iexists ()
    isplitl [H]; · iexact H
    iempintro
  · rw [hmain c]
    exact device P h cfgs hW phinj hN defs₀ hbody hscoped hf c
  · have hcore (c : Dev nD) (s' : Phys nD τ sig Val) : iprop(past P fin c ∗ SI s') ⊢ |={Set.univ}=>
        iprop(⌜Reads fin c s'.mem ∧ ∀ sm : SemLoc sig, sm.isScoped .tc = true → s'.mem.sem ((c.tc : Thread nD τ), sm) = 0⌝ ∗ SI s' : sProp 𝕄) := by
      unfold past
      iintro ⟨⟨Hk, Hss⟩, HSI⟩
      ihave %hz := (tcScoped_read_pers c s') $$ [Hss HSI]
      · isplitl [Hss] <;> iassumption
      ihave %hr := (read_kept P h c s') $$ [Hk HSI]
      · isplitl [Hk] <;> iassumption
      imodintro
      isplitr; · ipureintro; exact ⟨hr, hz⟩
      iexact HSI
    iintro ⟨H, -, Hsc⟩ %s' HSI
    ihave %hsc := (scSems_read_zero m g s') $$ [Hsc HSI]
    · isplitl [Hsc] <;> iassumption
    imod (posts_fupd Finset.univ hcore s') $$ [H HSI] with %hh
    · isplitl [H] <;> iassumption
    imodintro
    ipureintro
    exact ⟨fun c => hh c (Finset.mem_univ c), hsc⟩

end Launch

end Cert.Exchange

end
-- ==== Proof.Geometry.lean ====
/- Boxes of buffers: which places a window names, when two windows are apart, what a read through one is. -/
module

public import proofs.«01_k».proof.Proof.ExchangeLaunch
public import Idealize.ShloMosaic.Lib.PointwiseCore

@[expose] public section

noncomputable section

namespace Cert.Exchange

open Idealize.ShloMosaic Idealize.ShloMosaic.TcCoe
open Idealize.SL Idealize.SL.Sem

variable {sig : RefSig}

/-- The places of a buffer between a first coordinate and so many further along each axis. -/
structure Box (sig : RefSig) where
  ref : Ref sig .tc
  sides : List (ℕ × ℕ)

namespace Box

/-- Is the place in the box? -/
def has (B : Box sig) (p : Spot sig) : Prop :=
  p.1 = B.ref ∧ ∀ a : Fin p.1.ty.shape.rank, (B.sides.getD a (0, 0)).1 ≤ (p.2 a).val ∧ (p.2 a).val < (B.sides.getD a (0, 0)).1 + (B.sides.getD a (0, 0)).2

/-- Two boxes of different buffers, or one ends along some axis before the other begins. -/
def Apart (B B' : Box sig) : Prop :=
  B.ref ≠ B'.ref ∨ ∃ a : Fin B.ref.ty.shape.rank,
    (B.sides.getD a (0, 0)).1 + (B.sides.getD a (0, 0)).2 ≤ (B'.sides.getD a (0, 0)).1 ∨
      (B'.sides.getD a (0, 0)).1 + (B'.sides.getD a (0, 0)).2 ≤ (B.sides.getD a (0, 0)).1

instance (B B' : Box sig) : Decidable (B.Apart B') := by unfold Apart; infer_instance

theorem Apart.not_both {B B' : Box sig} (h : B.Apart B') (p : Spot sig) (h1 : B.has p) (h2 : B'.has p) : False := by
  obtain ⟨b, i⟩ := p
  obtain ⟨e1, h1⟩ := h1
  obtain ⟨e2, h2⟩ := h2
  dsimp only at e1 e2 h1 h2
  rcases h with h | ⟨a, h⟩
  · exact h (e1.symm.trans e2)
  · subst e1
    have := h1 a
    have := h2 a
    omega

/-- Membership along two axes. -/
theorem has_two {b : Ref sig .tc} (hr : b.ty.shape.rank = 2) {i : b.ty.Idx} {l0 s0 l1 s1 : ℕ}
    (h0 : l0 ≤ (i ⟨0, by omega⟩).val ∧ (i ⟨0, by omega⟩).val < l0 + s0) (h1 : l1 ≤ (i ⟨1, by omega⟩).val ∧ (i ⟨1, by omega⟩).val < l1 + s1) :
    (⟨b, [(l0, s0), (l1, s1)]⟩ : Box sig).has ⟨b, i⟩ := by
  refine ⟨rfl, fun a => ?_⟩
  obtain ⟨a, ha⟩ := a
  have ha' : a < b.ty.shape.rank := ha
  obtain rfl | rfl : a = 0 ∨ a = 1 := by omega
  exacts [h0, h1]

/-- Membership along three axes. -/
theorem has_three {b : Ref sig .tc} (hr : b.ty.shape.rank = 3) {i : b.ty.Idx} {l0 s0 l1 s1 l2 s2 : ℕ}
    (h0 : l0 ≤ (i ⟨0, by omega⟩).val ∧ (i ⟨0, by omega⟩).val < l0 + s0) (h1 : l1 ≤ (i ⟨1, by omega⟩).val ∧ (i ⟨1, by omega⟩).val < l1 + s1)
    (h2 : l2 ≤ (i ⟨2, by omega⟩).val ∧ (i ⟨2, by omega⟩).val < l2 + s2) :
    (⟨b, [(l0, s0), (l1, s1), (l2, s2)]⟩ : Box sig).has ⟨b, i⟩ := by
  refine ⟨rfl, fun a => ?_⟩
  obtain ⟨a, ha⟩ := a
  have ha' : a < b.ty.shape.rank := ha
  obtain rfl | rfl | rfl : a = 0 ∨ a = 1 ∨ a = 2 := by omega
  exacts [h0, h1, h2]

end Box

/-- The window names exactly the places of the box. -/
def Boxed {sp : Space} {s : Shape} {e : EltTy} (v : View sig .tc sp s e) (B : Box sig) : Prop := ∀ p, p ∈ spots v ↔ B.has p

/-- A window cut out of a whole buffer. -/
theorem boxed_slice (b : Ref sig .tc) (off size : Fin b.ty.shape.rank → ℕ) (inb : ∀ a, off a + size a ≤ b.ty.shape.size a) (h)
    (l : List (ℕ × ℕ)) (hl : ∀ a : Fin b.ty.shape.rank, l.getD a (0, 0) = (off a, size a)) :
    Boxed ((Memref.whole b).slice (Rect.unit (s := b.ty.shape) off size inb) h).view ⟨b, l⟩ := by
  rintro ⟨b', i⟩
  have hset : ((Memref.whole b).slice (Rect.unit (s := b.ty.shape) off size inb) h).view.set = (Rect.unit (s := b.ty.shape) off size inb).set :=
    View.set_slice_whole b _
  constructor
  · rintro ⟨j, hj, e⟩
    have hj' : j ∈ (Rect.unit (s := b.ty.shape) off size inb).set := hset ▸ hj
    cases e
    refine ⟨rfl, fun a => ?_⟩
    have := Rect.mem_set_unit.mp hj' a
    have hla : l.getD a (0, 0) = (off a, size a) := hl a
    dsimp only
    rw [hla]
    exact this
  · rintro ⟨e, hi⟩
    dsimp only at e hi
    subst e
    refine ⟨i, ?_, rfl⟩
    show i ∈ ((Memref.whole b').slice (Rect.unit (s := b'.ty.shape) off size inb) h).view.set
    rw [hset]
    refine Rect.mem_set_unit.mpr fun a => ?_
    have := hi a
    have hla : l.getD a (0, 0) = (off a, size a) := hl a
    rw [hla] at this
    exact this

/-- Dropping an axis of one place names the same places. -/
theorem boxed_squeeze {sp : Space} {s : Shape} {e : EltTy} {v : Memref sig .tc sp s e} {B : Box sig} (h : Boxed v.view B) (s' : Shape) (hs : s.Squeezes s') :
    Boxed (v.squeeze s' hs).view B := by
  have e : (v.squeeze s' hs).view.set = v.view.set := View.set_reshape v.view hs.numel_eq
  intro p
  rw [← h p]
  constructor
  · rintro ⟨i, hi, he⟩
    exact ⟨i, e ▸ hi, he⟩
  · rintro ⟨i, hi, he⟩
    exact ⟨i, e.symm ▸ hi, he⟩

/-- Boxes apart, windows disjoint. -/
theorem disjoint_of_apart {sp sp' : Space} {s s' : Shape} {e e' : EltTy} {v : View sig .tc sp s e} {w : View sig .tc sp' s' e'} {B B' : Box sig}
    (hv : Boxed v B) (hw : Boxed w B') (h : B.Apart B') : Disjoint (spots v) (spots w) :=
  Set.disjoint_left.mpr fun p h1 h2 => h.not_both p ((hv p).mp h1) ((hw p).mp h2)

/-- Where an element of a window is along an axis. -/
theorem emb_at {s : Shape} (off size : Fin s.rank → ℕ) (inb : ∀ a, off a + size a ≤ s.size a) (j : (Rect.unit (s := s) off size inb).shape.Idx) (a : Fin s.rank)
    {o : ℕ} (ho : off a = o) : ((Rect.unit (s := s) off size inb).emb j a).val = o + (j a).val := by
  rw [Rect.emb_apply]
  subst ho
  show off a + 1 * (j a).val = _
  omega

variable {nD : ℕ} {τ : Topo} {Val : EltTy → Type}

/-- One element of a device's buffer. -/
def pick (m : (ℓ : Loc nD τ sig) → Buf Val ℓ) (b : Ref sig .tc) (c : Dev nD) (i : b.ty.Idx) : Val b.ty.elt :=
  m ((c.tc : Thread nD τ).loc b) i

/-- Equal devices and equal coordinates, equal elements. -/
theorem pick_congr (m : (ℓ : Loc nD τ sig) → Buf Val ℓ) (b : Ref sig .tc) {c c' : Dev nD} {i i' : b.ty.Idx} (hc : c.val = c'.val)
    (hi : ∀ a, (i a).val = (i' a).val) : pick m b c i = pick m b c' i' := by
  obtain rfl : c = c' := Fin.ext hc
  obtain rfl : i = i' := funext fun a => Fin.ext (hi a)
  rfl

/-- The same of any array. -/
theorem at_congr {α : Sort*} {s : Shape} (v : s.Idx → α) {i i' : s.Idx} (hi : ∀ a, (i a).val = (i' a).val) : v i = v i' :=
  congrArg v (funext fun a => Fin.ext (hi a))

/-- A place of a matrix by its row and column. -/
theorem at_ix2 {α : Type} {n₀ n₁ : ℕ} (v : (⟨2, ![n₀, n₁]⟩ : Shape).Idx → α) (a : Fin n₀) (b : Fin n₁) (k : (⟨2, ![n₀, n₁]⟩ : Shape).Idx)
    (h0 : a.val = (k 0).val) (h1 : b.val = (k 1).val) : v (ix2 a b) = v k :=
  at_congr v fun x => by
    fin_cases x
    exacts [h0, h1]

end Cert.Exchange

end
-- ==== Proof.PairExchangeRun.lean ====
/- The exchange of half gradients inside a chip: its table, and what every device ends with. -/
module

public import proofs.«01_k».proof.Proof.Geometry
public import proofs.«01_k».proof.Proof.Gen.PairExchangeIdeal.Frame

@[expose] public section

noncomputable section

namespace Cert.PairExchangeRun

open Idealize.ShloMosaic Idealize.ShloMosaic.TcCoe
open Idealize.SL Idealize.SL.Sem
open Cert.Exchange Cert.PairExchangeIdeal Cert.PairExchangeIdeal.Gen

variable {F : FTy → Type} [FloatOps F]

/-! ## The table -/

/-- Where slab `s` of the own half starts in the first array; the same of the other half. -/
def offOwn0 (s : Fin 4) (c : Dev nD) : Fin 2 → Nat := match s with
  | 0 => k0_off1 c | 1 => k0_off3 c | 2 => k0_off5 c | 3 => k0_off7 c
def offOther0 (s : Fin 4) (c : Dev nD) : Fin 2 → Nat := match s with
  | 0 => k0_off2 c | 1 => k0_off4 c | 2 => k0_off6 c | 3 => k0_off8 c
theorem offOwn0_eq (s : Fin 4) (c : Dev nD) : offOwn0 s c = ![1024 * (c.val % 2), 1408 * s.val] := by
  fin_cases s
  exacts [k0_off1_eq c, k0_off3_eq c, k0_off5_eq c, k0_off7_eq c]
theorem offOwn0_inb (s : Fin 4) (c : Dev nD) : ∀ a, offOwn0 s c a + S1024x1408.size a ≤ S2048x5632.size a := by
  fin_cases s
  exacts [k0_off1_inb c, k0_off3_inb c, k0_off5_inb c, k0_off7_inb c]
theorem offOther0_eq (s : Fin 4) (c : Dev nD) : offOther0 s c = ![1024 - 1024 * (c.val % 2), 1408 * s.val] := by
  fin_cases s
  exacts [k0_off2_eq c, k0_off4_eq c, k0_off6_eq c, k0_off8_eq c]
theorem offOther0_inb (s : Fin 4) (c : Dev nD) : ∀ a, offOther0 s c a + S1024x1408.size a ≤ S2048x5632.size a := by
  fin_cases s
  exacts [k0_off2_inb c, k0_off4_inb c, k0_off6_inb c, k0_off8_inb c]
theorem to0_inb (s : Fin 4) : ∀ a, (![0, 1408 * s.val] : Fin 2 → ℕ) a + S1024x1408.size a ≤ S1024x5632.size a := by
  revert s; decide
/-- The same of the third array. -/
def offOwn2 (s : Fin 4) (c : Dev nD) : Fin 2 → Nat := match s with
  | 0 => k0_off11 c | 1 => k0_off13 c | 2 => k0_off15 c | 3 => k0_off17 c
def offOther2 (s : Fin 4) (c : Dev nD) : Fin 2 → Nat := match s with
  | 0 => k0_off12 c | 1 => k0_off14 c | 2 => k0_off16 c | 3 => k0_off18 c
theorem offOwn2_eq (s : Fin 4) (c : Dev nD) : offOwn2 s c = ![1024 * (c.val % 2), 1536 * s.val] := by
  fin_cases s
  exacts [k0_off11_eq c, k0_off13_eq c, k0_off15_eq c, k0_off17_eq c]
theorem offOther2_eq (s : Fin 4) (c : Dev nD) : offOther2 s c = ![1024 - 1024 * (c.val % 2), 1536 * s.val] := by
  fin_cases s
  exacts [k0_off12_eq c, k0_off14_eq c, k0_off16_eq c, k0_off18_eq c]
theorem offOwn2_inb (s : Fin 4) (c : Dev nD) : ∀ a, offOwn2 s c a + S1024x1536.size a ≤ S2048x6144.size a := by
  fin_cases s
  exacts [k0_off11_inb c, k0_off13_inb c, k0_off15_inb c, k0_off17_inb c]
theorem offOther2_inb (s : Fin 4) (c : Dev nD) : ∀ a, offOther2 s c a + S1024x1536.size a ≤ S2048x6144.size a := by
  fin_cases s
  exacts [k0_off12_inb c, k0_off14_inb c, k0_off16_inb c, k0_off18_inb c]
theorem to2_inb (s : Fin 4) : ∀ a, (![0, 1536 * s.val] : Fin 2 → ℕ) a + S1024x1536.size a ≤ S1024x6144.size a := by
  revert s; decide
theorem to1_inb (s : Fin 4) : ∀ a, (![256 * s.val, 0] : Fin 2 → ℕ) a + S256x2048.size a ≤ S1024x2048.size a := by
  revert s; decide

/-- Slab `s` of the own half of an array, as it is copied. -/
def own (c : Dev nD) (a s : Fin 4) : Move sig := match a with
  | 0 => ⟨_, _, (Memref.whole main_arg0).slice (Rect.unit (s := S2048x5632) (offOwn0 s c) S1024x1408.size (offOwn0_inb s c)) (fun _ => rfl),
      (Memref.whole main_v1_0).slice (Rect.unit (s := S1024x5632) ![0, 1408 * s.val] S1024x1408.size (to0_inb s)) (fun _ => rfl), View.wordExact_bits rfl, View.wordExact_bits rfl⟩
  | 1 => ⟨_, _, (Memref.whole main_arg1).slice (Rect.unit (s := S2048x2048) (k0_off9 c (BitVec.ofNat 32 (512 * s.val))) S256x2048.size (k0_off9_inb c s)) (fun _ => rfl),
      (Memref.whole main_v1_1).slice (Rect.unit (s := S1024x2048) ![256 * s.val, 0] S256x2048.size (to1_inb s)) (fun _ => rfl), View.wordExact_bits rfl, View.wordExact_bits rfl⟩
  | 2 => ⟨_, _, (Memref.whole main_arg2).slice (Rect.unit (s := S2048x6144) (offOwn2 s c) S1024x1536.size (offOwn2_inb s c)) (fun _ => rfl),
      (Memref.whole main_v1_2).slice (Rect.unit (s := S1024x6144) ![0, 1536 * s.val] S1024x1536.size (to2_inb s)) (fun _ => rfl), View.wordExact_bits rfl, View.wordExact_bits rfl⟩
  | 3 => ⟨_, _, (Memref.whole main_arg3).slice (Rect.unit (s := S2048x2048) (k0_off9 c (BitVec.ofNat 32 (512 * s.val))) S256x2048.size (k0_off9_inb c s)) (fun _ => rfl),
      (Memref.whole main_v1_3).slice (Rect.unit (s := S1024x2048) ![256 * s.val, 0] S256x2048.size (to1_inb s)) (fun _ => rfl), View.wordExact_bits rfl, View.wordExact_bits rfl⟩
/-- Slab `s` of the sibling's half, as it is sent. -/
def other (c : Dev nD) (a s : Fin 4) : Move sig := match a with
  | 0 => ⟨_, _, (Memref.whole main_arg0).slice (Rect.unit (s := S2048x5632) (offOther0 s c) S1024x1408.size (offOther0_inb s c)) (fun _ => rfl),
      (Memref.whole main_v1_4).slice (Rect.unit (s := S1024x5632) ![0, 1408 * s.val] S1024x1408.size (to0_inb s)) (fun _ => rfl), View.wordExact_bits rfl, View.wordExact_bits rfl⟩
  | 1 => ⟨_, _, (Memref.whole main_arg1).slice (Rect.unit (s := S2048x2048) (k0_off10 c (BitVec.ofNat 32 (512 * s.val))) S256x2048.size (k0_off10_inb c s)) (fun _ => rfl),
      (Memref.whole main_v1_5).slice (Rect.unit (s := S1024x2048) ![256 * s.val, 0] S256x2048.size (to1_inb s)) (fun _ => rfl), View.wordExact_bits rfl, View.wordExact_bits rfl⟩
  | 2 => ⟨_, _, (Memref.whole main_arg2).slice (Rect.unit (s := S2048x6144) (offOther2 s c) S1024x1536.size (offOther2_inb s c)) (fun _ => rfl),
      (Memref.whole main_v1_6).slice (Rect.unit (s := S1024x6144) ![0, 1536 * s.val] S1024x1536.size (to2_inb s)) (fun _ => rfl), View.wordExact_bits rfl, View.wordExact_bits rfl⟩
  | 3 => ⟨_, _, (Memref.whole main_arg3).slice (Rect.unit (s := S2048x2048) (k0_off10 c (BitVec.ofNat 32 (512 * s.val))) S256x2048.size (k0_off10_inb c s)) (fun _ => rfl),
      (Memref.whole main_v1_7).slice (Rect.unit (s := S1024x2048) ![256 * s.val, 0] S256x2048.size (to1_inb s)) (fun _ => rfl), View.wordExact_bits rfl, View.wordExact_bits rfl⟩

theorem sem_inb (a s : Fin 4) : ∀ i, (![a.val, s.val] : Fin 2 → ℕ) i + S1x1.size i ≤ S4x4.size i := by revert a s; decide
def sem (A : DmaSems sig S4x4) (a s : Fin 4) : DmaSem sig :=
  ((A.slice (Rect.unit (s := S4x4) ![a.val, s.val] S1x1.size (sem_inb a s))).squeeze S_ squeezes_S1x1_S_).sem

/-- The target as the kernel computes it. -/
theorem dev_lt (a s : Fin 4) (c : Dev nD) : (match a, s with
  | 0, 0 => k0_dev1 c | 0, 1 => k0_dev2 c | 0, 2 => k0_dev3 c | 0, 3 => k0_dev4 c
  | 1, 0 => k0_dev5 c | 1, 1 => k0_dev6 c | 1, 2 => k0_dev7 c | 1, 3 => k0_dev8 c
  | 2, 0 => k0_dev9 c | 2, 1 => k0_dev10 c | 2, 2 => k0_dev11 c | 2, 3 => k0_dev12 c
  | 3, 0 => k0_dev13 c | 3, 1 => k0_dev14 c | 3, 2 => k0_dev15 c | 3, 3 => k0_dev16 c) < nD := by
  revert a s c; decide +kernel
def devOf (a s : Fin 4) (c : Dev nD) : Dev nD := ⟨_, dev_lt a s c⟩

/-- The other core of the chip. -/
def sib (c : Dev nD) : Dev nD := ⟨c.val + 1 - 2 * (c.val % 2), by have := c.isLt; unfold nD at *; omega⟩

/-- Array and slab. -/
abbrev I := Fin 4 × Fin 4

def allI : List I := [(0, 0), (0, 1), (0, 2), (0, 3), (1, 0), (1, 1), (1, 2), (1, 3), (2, 0), (2, 1), (2, 2), (2, 3), (3, 0), (3, 1), (3, 2), (3, 3)]

def plan : Plan nD sig I I where
  move c x := match x with
    | .inl x => own c x.1 x.2
    | .inr x => other c x.1 x.2
  wait c k := match k with
    | .inl x => own c x.1 x.2
    | .inr (.inl x) => other c x.1 x.2
    | .inr (.inr x) => (other c x.1 x.2).back
  aim c x := devOf x.1 x.2 c
  peer _ := sib
  sem k := match k with
    | .inl x => sem cc0_scratch2 x.1 x.2
    | .inr (.inl x) => sem cc0_scratch1 x.1 x.2
    | .inr (.inr x) => sem cc0_scratch0 x.1 x.2
  credit x := match x with
    | .inl x => (own 0 x.1 x.2).dst.view.dmaCredit
    | .inr x => (own 0 x.1 x.2).dst.view.dmaCredit
  level _ := 0
  first _ := true
  next _ := none
  script := (allI.flatMap fun x => [.start (.inl x), .start (.inr x)])
    ++ (allI.flatMap fun x => [.wait (.inl x), .wait (.inr (.inr x)), .wait (.inr (.inl x))])
  args := {main_arg0, main_arg1, main_arg2, main_arg3}

set_option maxRecDepth 65536 in
/-- The kernel's body is the table's instructions. -/
theorem body_eq (t : Fin grid0.N) (s) : defs₀ (F := F) .tc 0 (t, s) = .op .deviceId fun d => seq (plan.script.map (plan.op d)) := rfl

/-! ## What the table satisfies -/

/-- The box of the own half that slab `s` fills, and the box of the half that arrives. -/
def ownBox (s : Fin 4) : Fin 4 → Box sig
  | 0 => ⟨main_v1_0, [(0, 1024), (1408 * s.val, 1408)]⟩
  | 1 => ⟨main_v1_1, [(256 * s.val, 256), (0, 2048)]⟩
  | 2 => ⟨main_v1_2, [(0, 1024), (1536 * s.val, 1536)]⟩
  | 3 => ⟨main_v1_3, [(256 * s.val, 256), (0, 2048)]⟩
def otherBox (s : Fin 4) : Fin 4 → Box sig
  | 0 => ⟨main_v1_4, [(0, 1024), (1408 * s.val, 1408)]⟩
  | 1 => ⟨main_v1_5, [(256 * s.val, 256), (0, 2048)]⟩
  | 2 => ⟨main_v1_6, [(0, 1024), (1536 * s.val, 1536)]⟩
  | 3 => ⟨main_v1_7, [(256 * s.val, 256), (0, 2048)]⟩
def boxOf : Xfer I I → Box sig
  | .inl x => ownBox x.2 x.1
  | .inr x => otherBox x.2 x.1

theorem boxed_own (c : Dev nD) (a s : Fin 4) : Boxed (own c a s).dst.view (ownBox s a) := by
  fin_cases a
  · exact boxed_slice main_v1_0 _ _ _ (fun _ => rfl) _ (by decide +revert)
  · exact boxed_slice main_v1_1 _ _ _ (fun _ => rfl) _ (by decide +revert)
  · exact boxed_slice main_v1_2 _ _ _ (fun _ => rfl) _ (by decide +revert)
  · exact boxed_slice main_v1_3 _ _ _ (fun _ => rfl) _ (by decide +revert)
theorem boxed_other (c : Dev nD) (a s : Fin 4) : Boxed (other c a s).dst.view (otherBox s a) := by
  fin_cases a
  · exact boxed_slice main_v1_4 _ _ _ (fun _ => rfl) _ (by decide +revert)
  · exact boxed_slice main_v1_5 _ _ _ (fun _ => rfl) _ (by decide +revert)
  · exact boxed_slice main_v1_6 _ _ _ (fun _ => rfl) _ (by decide +revert)
  · exact boxed_slice main_v1_7 _ _ _ (fun _ => rfl) _ (by decide +revert)

theorem boxed_land (c : Dev nD) (x : Xfer I I) : Boxed (plan.land c x).dst.view (boxOf x) := by
  rcases x with x | x
  · exact boxed_own c x.1 x.2
  · exact boxed_other (sib c) x.1 x.2

theorem own_credit (c : Dev nD) (a s : Fin 4) : (own c a s).dst.view.dmaCredit = (own 0 a s).dst.view.dmaCredit := by fin_cases a <;> rfl
theorem other_credit (c : Dev nD) (a s : Fin 4) : (other c a s).dst.view.dmaCredit = (own 0 a s).dst.view.dmaCredit := by fin_cases a <;> rfl
theorem back_credit (c : Dev nD) (a s : Fin 4) : (other c a s).src.view.dmaCredit = (own 0 a s).dst.view.dmaCredit := by fin_cases a <;> rfl

theorem own_pos (a s : Fin 4) : 0 < (own 0 a s).dst.view.dmaCredit := by
  fin_cases a
  · exact View.dmaCredit_pos _ (show 0 < S1024x1408.numel by decide)
  · exact View.dmaCredit_pos _ (show 0 < S256x2048.numel by decide)
  · exact View.dmaCredit_pos _ (show 0 < S1024x1536.numel by decide)
  · exact View.dmaCredit_pos _ (show 0 < S256x2048.numel by decide)

def inRef : Fin 4 → Ref sig .tc
  | 0 => main_arg0 | 1 => main_arg1 | 2 => main_arg2 | 3 => main_arg3
def ownRef : Fin 4 → Ref sig .tc
  | 0 => main_v1_0 | 1 => main_v1_1 | 2 => main_v1_2 | 3 => main_v1_3
def otherRef : Fin 4 → Ref sig .tc
  | 0 => main_v1_4 | 1 => main_v1_5 | 2 => main_v1_6 | 3 => main_v1_7
theorem own_src (c : Dev nD) (a s : Fin 4) : inRef a = (own c a s).src.view.ref := by fin_cases a <;> rfl
theorem other_src (c : Dev nD) (a s : Fin 4) : inRef a = (other c a s).src.view.ref := by fin_cases a <;> rfl
theorem own_dst (c : Dev nD) (a s : Fin 4) : ownRef a = (own c a s).dst.view.ref := by fin_cases a <;> rfl
theorem other_dst (c : Dev nD) (a s : Fin 4) : otherRef a = (other c a s).dst.view.ref := by fin_cases a <;> rfl
theorem in_args (a : Fin 4) : inRef a ∈ plan.args := by revert a; decide
theorem own_args (a : Fin 4) : ownRef a ∉ plan.args ∧ (ownRef a).isScoped = false := by revert a; decide
theorem other_args (a : Fin 4) : otherRef a ∉ plan.args ∧ (otherRef a).isScoped = false := by revert a; decide

/-- The buffers written are the eight results. -/
theorem outputs (b : Ref sig .tc) (hb : b.isScoped = false) (hn : b ∉ plan.args) : (∃ a, b = ownRef a) ∨ ∃ a, b = otherRef a := by
  obtain ⟨sp, k, hk⟩ := b
  match sp, k, hk, hb, hn with
  | .hbm, k, hk, hb, hn => revert k; decide

theorem filled0 (i : main_v1_0.ty.Idx) : ∃ x, (boxOf x).has ⟨main_v1_0, i⟩ := by
  have h0 : (i 0).val < 1024 := (i 0).isLt
  have h1 : (i 1).val < 5632 := (i 1).isLt
  exact ⟨.inl (0, ⟨(i 1).val / 1408, by omega⟩), Box.has_two rfl (show 0 ≤ (i 0).val ∧ (i 0).val < 0 + 1024 by omega)
    (show 1408 * ((i 1).val / 1408) ≤ (i 1).val ∧ (i 1).val < 1408 * ((i 1).val / 1408) + 1408 by omega)⟩
theorem filled1 (i : main_v1_1.ty.Idx) : ∃ x, (boxOf x).has ⟨main_v1_1, i⟩ := by
  have h0 : (i 0).val < 1024 := (i 0).isLt
  have h1 : (i 1).val < 2048 := (i 1).isLt
  exact ⟨.inl (1, ⟨(i 0).val / 256, by omega⟩), Box.has_two rfl
    (show 256 * ((i 0).val / 256) ≤ (i 0).val ∧ (i 0).val < 256 * ((i 0).val / 256) + 256 by omega) (show 0 ≤ (i 1).val ∧ (i 1).val < 0 + 2048 by omega)⟩
theorem filled2 (i : main_v1_2.ty.Idx) : ∃ x, (boxOf x).has ⟨main_v1_2, i⟩ := by
  have h0 : (i 0).val < 1024 := (i 0).isLt
  have h1 : (i 1).val < 6144 := (i 1).isLt
  exact ⟨.inl (2, ⟨(i 1).val / 1536, by omega⟩), Box.has_two rfl (show 0 ≤ (i 0).val ∧ (i 0).val < 0 + 1024 by omega)
    (show 1536 * ((i 1).val / 1536) ≤ (i 1).val ∧ (i 1).val < 1536 * ((i 1).val / 1536) + 1536 by omega)⟩
theorem filled3 (i : main_v1_3.ty.Idx) : ∃ x, (boxOf x).has ⟨main_v1_3, i⟩ := by
  have h0 : (i 0).val < 1024 := (i 0).isLt
  have h1 : (i 1).val < 2048 := (i 1).isLt
  exact ⟨.inl (3, ⟨(i 0).val / 256, by omega⟩), Box.has_two rfl
    (show 256 * ((i 0).val / 256) ≤ (i 0).val ∧ (i 0).val < 256 * ((i 0).val / 256) + 256 by omega) (show 0 ≤ (i 1).val ∧ (i 1).val < 0 + 2048 by omega)⟩
theorem filled4 (i : main_v1_4.ty.Idx) : ∃ x, (boxOf x).has ⟨main_v1_4, i⟩ := by
  have h0 : (i 0).val < 1024 := (i 0).isLt
  have h1 : (i 1).val < 5632 := (i 1).isLt
  exact ⟨.inr (0, ⟨(i 1).val / 1408, by omega⟩), Box.has_two rfl (show 0 ≤ (i 0).val ∧ (i 0).val < 0 + 1024 by omega)
    (show 1408 * ((i 1).val / 1408) ≤ (i 1).val ∧ (i 1).val < 1408 * ((i 1).val / 1408) + 1408 by omega)⟩
theorem filled5 (i : main_v1_5.ty.Idx) : ∃ x, (boxOf x).has ⟨main_v1_5, i⟩ := by
  have h0 : (i 0).val < 1024 := (i 0).isLt
  have h1 : (i 1).val < 2048 := (i 1).isLt
  exact ⟨.inr (1, ⟨(i 0).val / 256, by omega⟩), Box.has_two rfl
    (show 256 * ((i 0).val / 256) ≤ (i 0).val ∧ (i 0).val < 256 * ((i 0).val / 256) + 256 by omega) (show 0 ≤ (i 1).val ∧ (i 1).val < 0 + 2048 by omega)⟩
theorem filled6 (i : main_v1_6.ty.Idx) : ∃ x, (boxOf x).has ⟨main_v1_6, i⟩ := by
  have h0 : (i 0).val < 1024 := (i 0).isLt
  have h1 : (i 1).val < 6144 := (i 1).isLt
  exact ⟨.inr (2, ⟨(i 1).val / 1536, by omega⟩), Box.has_two rfl (show 0 ≤ (i 0).val ∧ (i 0).val < 0 + 1024 by omega)
    (show 1536 * ((i 1).val / 1536) ≤ (i 1).val ∧ (i 1).val < 1536 * ((i 1).val / 1536) + 1536 by omega)⟩
theorem filled7 (i : main_v1_7.ty.Idx) : ∃ x, (boxOf x).has ⟨main_v1_7, i⟩ := by
  have h0 : (i 0).val < 1024 := (i 0).isLt
  have h1 : (i 1).val < 2048 := (i 1).isLt
  exact ⟨.inr (3, ⟨(i 0).val / 256, by omega⟩), Box.has_two rfl
    (show 256 * ((i 0).val / 256) ≤ (i 0).val ∧ (i 0).val < 256 * ((i 0).val / 256) + 256 by omega) (show 0 ≤ (i 1).val ∧ (i 1).val < 0 + 2048 by omega)⟩

/-- Each place of a result is in one of its slabs. -/
theorem filledOwn : (a : Fin 4) → (i : (ownRef a).ty.Idx) → ∃ x, (boxOf x).has ⟨ownRef a, i⟩
  | 0, i => filled0 i
  | 1, i => filled1 i
  | 2, i => filled2 i
  | 3, i => filled3 i
theorem filledOther : (a : Fin 4) → (i : (otherRef a).ty.Idx) → ∃ x, (boxOf x).has ⟨otherRef a, i⟩
  | 0, i => filled4 i
  | 1, i => filled5 i
  | 2, i => filled6 i
  | 3, i => filled7 i

theorem sound : plan.Sound where
  aim_eq c r := by revert c r; decide +kernel
  peer_peer r c := by revert c r; decide +kernel
  sem_inj := by decide +kernel
  credit_pos x := by rcases x with x | x <;> exact own_pos x.1 x.2
  credit_move c x := by
    rcases x with x | x
    exacts [own_credit c x.1 x.2, other_credit c x.1 x.2]
  credit_wait c k := by
    rcases k with x | x | x
    exacts [own_credit c x.1 x.2, other_credit c x.1 x.2, back_credit c x.1 x.2]
  follows := by decide +kernel
  args_unscoped := by decide +kernel
  src_arg c x _ := by
    rcases x with x | x
    exacts [own_src c x.1 x.2 ▸ in_args x.1, other_src c x.1 x.2 ▸ in_args x.1]
  dst_out c x := by
    rcases x with x | x
    exacts [own_dst c x.1 x.2 ▸ own_args x.1, other_dst c x.1 x.2 ▸ other_args x.1]
  apart c x y h := disjoint_of_apart (boxed_land c x) (boxed_land c y) (by revert x y; decide +kernel)
  cover c b hb hn i := by
    obtain ⟨a, rfl⟩ | ⟨a, rfl⟩ := outputs b hb hn
    exacts [(filledOwn a i).imp fun x hx => (boxed_land c x _).mpr hx, (filledOther a i).imp fun x hx => (boxed_land c x _).mpr hx]
  pass_ref _ _ _ h := nomatch h
  pass _ _ _ h := nomatch h

/-! ## What every device ends with -/

theorem sib_mod (c : Dev nD) : (sib c).val % 2 = 1 - c.val % 2 := by revert c; decide
theorem sib_sib (c : Dev nD) : sib (sib c) = c := by revert c; decide

section Final
variable {Val : EltTy → Type} (m : (ℓ : Loc nD τ sig) → Buf Val ℓ)

/-- Row `r` of the half that core `c` keeps, when the halves are the first and the last 1024 rows. -/
def halfRow (c : Dev nD) (r : Fin 1024) : Fin 2048 := ⟨1024 * (c.val % 2) + r.val, by omega⟩
/-- Row `r` of the half that core `c` keeps, when every 512 rows are halved. -/
def slabRow (c : Dev nD) (r : Fin 1024) : Fin 2048 := ⟨512 * (r.val / 256) + 256 * (c.val % 2) + r.val % 256, by omega⟩

/-- The contents: an argument as it was, a result the half that the core keeps, its own or its sibling's. -/
def fin (c : Dev nD) : (b : Ref sig .tc) → Buf Val ((c.tc : Thread nD τ).loc b)
  | ⟨.hbm, ⟨4, _⟩, _⟩ => fun (i : main_v1_0.ty.Idx) => pick m main_arg0 c (Shape.pair (halfRow c (i 0)) (i 1))
  | ⟨.hbm, ⟨5, _⟩, _⟩ => fun (i : main_v1_1.ty.Idx) => pick m main_arg1 c (Shape.pair (slabRow c (i 0)) (i 1))
  | ⟨.hbm, ⟨6, _⟩, _⟩ => fun (i : main_v1_2.ty.Idx) => pick m main_arg2 c (Shape.pair (halfRow c (i 0)) (i 1))
  | ⟨.hbm, ⟨7, _⟩, _⟩ => fun (i : main_v1_3.ty.Idx) => pick m main_arg3 c (Shape.pair (slabRow c (i 0)) (i 1))
  | ⟨.hbm, ⟨8, _⟩, _⟩ => fun (i : main_v1_4.ty.Idx) => pick m main_arg0 (sib c) (Shape.pair (halfRow c (i 0)) (i 1))
  | ⟨.hbm, ⟨9, _⟩, _⟩ => fun (i : main_v1_5.ty.Idx) => pick m main_arg1 (sib c) (Shape.pair (slabRow c (i 0)) (i 1))
  | ⟨.hbm, ⟨10, _⟩, _⟩ => fun (i : main_v1_6.ty.Idx) => pick m main_arg2 (sib c) (Shape.pair (halfRow c (i 0)) (i 1))
  | ⟨.hbm, ⟨11, _⟩, _⟩ => fun (i : main_v1_7.ty.Idx) => pick m main_arg3 (sib c) (Shape.pair (slabRow c (i 0)) (i 1))
  | b => m ((c.tc : Thread nD τ).loc b)

theorem carry0 (c : Dev nD) (s : Fin 4) :
    (own c 0 s).dst.view.read Val (fin m c main_v1_0) = (own c 0 s).src.view.read Val (m ((c.tc : Thread nD τ).loc main_arg0)) := by
  refine funext fun (j : S1024x1408.Idx) => ?_
  have d0 := emb_at (s := S1024x5632) ![0, 1408 * s.val] S1024x1408.size (to0_inb s) j 0 (o := 0) rfl
  have d1 := emb_at (s := S1024x5632) ![0, 1408 * s.val] S1024x1408.size (to0_inb s) j 1 (o := 1408 * s.val) rfl
  have e0 := emb_at (s := S2048x5632) (offOwn0 s c) S1024x1408.size (offOwn0_inb s c) j 0 (o := 1024 * (c.val % 2)) (congrFun (offOwn0_eq s c) 0)
  have e1 := emb_at (s := S2048x5632) (offOwn0 s c) S1024x1408.size (offOwn0_inb s c) j 1 (o := 1408 * s.val) (congrFun (offOwn0_eq s c) 1)
  have hj : (j 0).val < 1024 := (j 0).isLt
  refine pick_congr m main_arg0 rfl fun x => ?_
  fin_cases x
  · show 1024 * (c.val % 2) + ((Rect.unit (s := S1024x5632) ![0, 1408 * s.val] S1024x1408.size (to0_inb s)).emb j 0).val
      = ((Rect.unit (s := S2048x5632) (offOwn0 s c) S1024x1408.size (offOwn0_inb s c)).emb j 0).val
    rw [d0, e0]; omega
  · show ((Rect.unit (s := S1024x5632) ![0, 1408 * s.val] S1024x1408.size (to0_inb s)).emb j 1).val = ((Rect.unit (s := S2048x5632) (offOwn0 s c) S1024x1408.size (offOwn0_inb s c)).emb j 1).val
    rw [d1, e1]

theorem carry1 (c : Dev nD) (s : Fin 4) :
    (own c 1 s).dst.view.read Val (fin m c main_v1_1) = (own c 1 s).src.view.read Val (m ((c.tc : Thread nD τ).loc main_arg1)) := by
  refine funext fun (j : S256x2048.Idx) => ?_
  have d0 := emb_at (s := S1024x2048) ![256 * s.val, 0] S256x2048.size (to1_inb s) j 0 (o := 256 * s.val) rfl
  have d1 := emb_at (s := S1024x2048) ![256 * s.val, 0] S256x2048.size (to1_inb s) j 1 (o := 0) rfl
  have e0 := emb_at (s := S2048x2048) (k0_off9 c (BitVec.ofNat 32 (512 * s.val))) S256x2048.size (k0_off9_inb c s) j 0 (o := 512 * s.val + 256 * (c.val % 2)) (congrFun (k0_off9_eq c s) 0)
  have e1 := emb_at (s := S2048x2048) (k0_off9 c (BitVec.ofNat 32 (512 * s.val))) S256x2048.size (k0_off9_inb c s) j 1 (o := 0) (congrFun (k0_off9_eq c s) 1)
  have hj : (j 0).val < 256 := (j 0).isLt
  refine pick_congr m main_arg1 rfl fun x => ?_
  fin_cases x
  · show 512 * (((Rect.unit (s := S1024x2048) ![256 * s.val, 0] S256x2048.size (to1_inb s)).emb j 0).val / 256) + 256 * (c.val % 2) + ((Rect.unit (s := S1024x2048) ![256 * s.val, 0] S256x2048.size (to1_inb s)).emb j 0).val % 256
      = ((Rect.unit (s := S2048x2048) (k0_off9 c (BitVec.ofNat 32 (512 * s.val))) S256x2048.size (k0_off9_inb c s)).emb j 0).val
    rw [d0, e0]; omega
  · show ((Rect.unit (s := S1024x2048) ![256 * s.val, 0] S256x2048.size (to1_inb s)).emb j 1).val = ((Rect.unit (s := S2048x2048) (k0_off9 c (BitVec.ofNat 32 (512 * s.val))) S256x2048.size (k0_off9_inb c s)).emb j 1).val
    rw [d1, e1]

theorem carry2 (c : Dev nD) (s : Fin 4) :
    (own c 2 s).dst.view.read Val (fin m c main_v1_2) = (own c 2 s).src.view.read Val (m ((c.tc : Thread nD τ).loc main_arg2)) := by
  refine funext fun (j : S1024x1536.Idx) => ?_
  have d0 := emb_at (s := S1024x6144) ![0, 1536 * s.val] S1024x1536.size (to2_inb s) j 0 (o := 0) rfl
  have d1 := emb_at (s := S1024x6144) ![0, 1536 * s.val] S1024x1536.size (to2_inb s) j 1 (o := 1536 * s.val) rfl
  have e0 := emb_at (s := S2048x6144) (offOwn2 s c) S1024x1536.size (offOwn2_inb s c) j 0 (o := 1024 * (c.val % 2)) (congrFun (offOwn2_eq s c) 0)
  have e1 := emb_at (s := S2048x6144) (offOwn2 s c) S1024x1536.size (offOwn2_inb s c) j 1 (o := 1536 * s.val) (congrFun (offOwn2_eq s c) 1)
  have hj : (j 0).val < 1024 := (j 0).isLt
  refine pick_congr m main_arg2 rfl fun x => ?_
  fin_cases x
  · show 1024 * (c.val % 2) + ((Rect.unit (s := S1024x6144) ![0, 1536 * s.val] S1024x1536.size (to2_inb s)).emb j 0).val
      = ((Rect.unit (s := S2048x6144) (offOwn2 s c) S1024x1536.size (offOwn2_inb s c)).emb j 0).val
    rw [d0, e0]; omega
  · show ((Rect.unit (s := S1024x6144) ![0, 1536 * s.val] S1024x1536.size (to2_inb s)).emb j 1).val = ((Rect.unit (s := S2048x6144) (offOwn2 s c) S1024x1536.size (offOwn2_inb s c)).emb j 1).val
    rw [d1, e1]

theorem carry3 (c : Dev nD) (s : Fin 4) :
    (own c 3 s).dst.view.read Val (fin m c main_v1_3) = (own c 3 s).src.view.read Val (m ((c.tc : Thread nD τ).loc main_arg3)) := by
  refine funext fun (j : S256x2048.Idx) => ?_
  have d0 := emb_at (s := S1024x2048) ![256 * s.val, 0] S256x2048.size (to1_inb s) j 0 (o := 256 * s.val) rfl
  have d1 := emb_at (s := S1024x2048) ![256 * s.val, 0] S256x2048.size (to1_inb s) j 1 (o := 0) rfl
  have e0 := emb_at (s := S2048x2048) (k0_off9 c (BitVec.ofNat 32 (512 * s.val))) S256x2048.size (k0_off9_inb c s) j 0 (o := 512 * s.val + 256 * (c.val % 2)) (congrFun (k0_off9_eq c s) 0)
  have e1 := emb_at (s := S2048x2048) (k0_off9 c (BitVec.ofNat 32 (512 * s.val))) S256x2048.size (k0_off9_inb c s) j 1 (o := 0) (congrFun (k0_off9_eq c s) 1)
  have hj : (j 0).val < 256 := (j 0).isLt
  refine pick_congr m main_arg3 rfl fun x => ?_
  fin_cases x
  · show 512 * (((Rect.unit (s := S1024x2048) ![256 * s.val, 0] S256x2048.size (to1_inb s)).emb j 0).val / 256) + 256 * (c.val % 2) + ((Rect.unit (s := S1024x2048) ![256 * s.val, 0] S256x2048.size (to1_inb s)).emb j 0).val % 256
      = ((Rect.unit (s := S2048x2048) (k0_off9 c (BitVec.ofNat 32 (512 * s.val))) S256x2048.size (k0_off9_inb c s)).emb j 0).val
    rw [d0, e0]; omega
  · show ((Rect.unit (s := S1024x2048) ![256 * s.val, 0] S256x2048.size (to1_inb s)).emb j 1).val = ((Rect.unit (s := S2048x2048) (k0_off9 c (BitVec.ofNat 32 (512 * s.val))) S256x2048.size (k0_off9_inb c s)).emb j 1).val
    rw [d1, e1]

theorem carry4 (c : Dev nD) (s : Fin 4) :
    (other c 0 s).dst.view.read Val (fin m (sib c) main_v1_4) = (other c 0 s).src.view.read Val (m ((c.tc : Thread nD τ).loc main_arg0)) := by
  refine funext fun (j : S1024x1408.Idx) => ?_
  have d0 := emb_at (s := S1024x5632) ![0, 1408 * s.val] S1024x1408.size (to0_inb s) j 0 (o := 0) rfl
  have d1 := emb_at (s := S1024x5632) ![0, 1408 * s.val] S1024x1408.size (to0_inb s) j 1 (o := 1408 * s.val) rfl
  have e0 := emb_at (s := S2048x5632) (offOther0 s c) S1024x1408.size (offOther0_inb s c) j 0 (o := 1024 - 1024 * (c.val % 2)) (congrFun (offOther0_eq s c) 0)
  have e1 := emb_at (s := S2048x5632) (offOther0 s c) S1024x1408.size (offOther0_inb s c) j 1 (o := 1408 * s.val) (congrFun (offOther0_eq s c) 1)
  have hj : (j 0).val < 1024 := (j 0).isLt
  have hs := sib_mod c
  refine pick_congr m main_arg0 (congrArg Fin.val (sib_sib c)) fun x => ?_
  fin_cases x
  · show 1024 * ((sib c).val % 2) + ((Rect.unit (s := S1024x5632) ![0, 1408 * s.val] S1024x1408.size (to0_inb s)).emb j 0).val
      = ((Rect.unit (s := S2048x5632) (offOther0 s c) S1024x1408.size (offOther0_inb s c)).emb j 0).val
    rw [d0, e0]; omega
  · show ((Rect.unit (s := S1024x5632) ![0, 1408 * s.val] S1024x1408.size (to0_inb s)).emb j 1).val = ((Rect.unit (s := S2048x5632) (offOther0 s c) S1024x1408.size (offOther0_inb s c)).emb j 1).val
    rw [d1, e1]

theorem carry5 (c : Dev nD) (s : Fin 4) :
    (other c 1 s).dst.view.read Val (fin m (sib c) main_v1_5) = (other c 1 s).src.view.read Val (m ((c.tc : Thread nD τ).loc main_arg1)) := by
  refine funext fun (j : S256x2048.Idx) => ?_
  have d0 := emb_at (s := S1024x2048) ![256 * s.val, 0] S256x2048.size (to1_inb s) j 0 (o := 256 * s.val) rfl
  have d1 := emb_at (s := S1024x2048) ![256 * s.val, 0] S256x2048.size (to1_inb s) j 1 (o := 0) rfl
  have e0 := emb_at (s := S2048x2048) (k0_off10 c (BitVec.ofNat 32 (512 * s.val))) S256x2048.size (k0_off10_inb c s) j 0 (o := (512 * s.val + 256) - 256 * (c.val % 2)) (congrFun (k0_off10_eq c s) 0)
  have e1 := emb_at (s := S2048x2048) (k0_off10 c (BitVec.ofNat 32 (512 * s.val))) S256x2048.size (k0_off10_inb c s) j 1 (o := 0) (congrFun (k0_off10_eq c s) 1)
  have hj : (j 0).val < 256 := (j 0).isLt
  have hs := sib_mod c
  refine pick_congr m main_arg1 (congrArg Fin.val (sib_sib c)) fun x => ?_
  fin_cases x
  · show 512 * (((Rect.unit (s := S1024x2048) ![256 * s.val, 0] S256x2048.size (to1_inb s)).emb j 0).val / 256) + 256 * ((sib c).val % 2) + ((Rect.unit (s := S1024x2048) ![256 * s.val, 0] S256x2048.size (to1_inb s)).emb j 0).val % 256
      = ((Rect.unit (s := S2048x2048) (k0_off10 c (BitVec.ofNat 32 (512 * s.val))) S256x2048.size (k0_off10_inb c s)).emb j 0).val
    rw [d0, e0]; omega
  · show ((Rect.unit (s := S1024x2048) ![256 * s.val, 0] S256x2048.size (to1_inb s)).emb j 1).val = ((Rect.unit (s := S2048x2048) (k0_off10 c (BitVec.ofNat 32 (512 * s.val))) S256x2048.size (k0_off10_inb c s)).emb j 1).val
    rw [d1, e1]

theorem carry6 (c : Dev nD) (s : Fin 4) :
    (other c 2 s).dst.view.read Val (fin m (sib c) main_v1_6) = (other c 2 s).src.view.read Val (m ((c.tc : Thread nD τ).loc main_arg2)) := by
  refine funext fun (j : S1024x1536.Idx) => ?_
  have d0 := emb_at (s := S1024x6144) ![0, 1536 * s.val] S1024x1536.size (to2_inb s) j 0 (o := 0) rfl
  have d1 := emb_at (s := S1024x6144) ![0, 1536 * s.val] S1024x1536.size (to2_inb s) j 1 (o := 1536 * s.val) rfl
  have e0 := emb_at (s := S2048x6144) (offOther2 s c) S1024x1536.size (offOther2_inb s c) j 0 (o := 1024 - 1024 * (c.val % 2)) (congrFun (offOther2_eq s c) 0)
  have e1 := emb_at (s := S2048x6144) (offOther2 s c) S1024x1536.size (offOther2_inb s c) j 1 (o := 1536 * s.val) (congrFun (offOther2_eq s c) 1)
  have hj : (j 0).val < 1024 := (j 0).isLt
  have hs := sib_mod c
  refine pick_congr m main_arg2 (congrArg Fin.val (sib_sib c)) fun x => ?_
  fin_cases x
  · show 1024 * ((sib c).val % 2) + ((Rect.unit (s := S1024x6144) ![0, 1536 * s.val] S1024x1536.size (to2_inb s)).emb j 0).val
      = ((Rect.unit (s := S2048x6144) (offOther2 s c) S1024x1536.size (offOther2_inb s c)).emb j 0).val
    rw [d0, e0]; omega
  · show ((Rect.unit (s := S1024x6144) ![0, 1536 * s.val] S1024x1536.size (to2_inb s)).emb j 1).val = ((Rect.unit (s := S2048x6144) (offOther2 s c) S1024x1536.size (offOther2_inb s c)).emb j 1).val
    rw [d1, e1]

theorem carry7 (c : Dev nD) (s : Fin 4) :
    (other c 3 s).dst.view.read Val (fin m (sib c) main_v1_7) = (other c 3 s).src.view.read Val (m ((c.tc : Thread nD τ).loc main_arg3)) := by
  refine funext fun (j : S256x2048.Idx) => ?_
  have d0 := emb_at (s := S1024x2048) ![256 * s.val, 0] S256x2048.size (to1_inb s) j 0 (o := 256 * s.val) rfl
  have d1 := emb_at (s := S1024x2048) ![256 * s.val, 0] S256x2048.size (to1_inb s) j 1 (o := 0) rfl
  have e0 := emb_at (s := S2048x2048) (k0_off10 c (BitVec.ofNat 32 (512 * s.val))) S256x2048.size (k0_off10_inb c s) j 0 (o := (512 * s.val + 256) - 256 * (c.val % 2)) (congrFun (k0_off10_eq c s) 0)
  have e1 := emb_at (s := S2048x2048) (k0_off10 c (BitVec.ofNat 32 (512 * s.val))) S256x2048.size (k0_off10_inb c s) j 1 (o := 0) (congrFun (k0_off10_eq c s) 1)
  have hj : (j 0).val < 256 := (j 0).isLt
  have hs := sib_mod c
  refine pick_congr m main_arg3 (congrArg Fin.val (sib_sib c)) fun x => ?_
  fin_cases x
  · show 512 * (((Rect.unit (s := S1024x2048) ![256 * s.val, 0] S256x2048.size (to1_inb s)).emb j 0).val / 256) + 256 * ((sib c).val % 2) + ((Rect.unit (s := S1024x2048) ![256 * s.val, 0] S256x2048.size (to1_inb s)).emb j 0).val % 256
      = ((Rect.unit (s := S2048x2048) (k0_off10 c (BitVec.ofNat 32 (512 * s.val))) S256x2048.size (k0_off10_inb c s)).emb j 0).val
    rw [d0, e0]; omega
  · show ((Rect.unit (s := S1024x2048) ![256 * s.val, 0] S256x2048.size (to1_inb s)).emb j 1).val = ((Rect.unit (s := S2048x2048) (k0_off10 c (BitVec.ofNat 32 (512 * s.val))) S256x2048.size (k0_off10_inb c s)).emb j 1).val
    rw [d1, e1]

theorem carriesOwn (c : Dev nD) (a s : Fin 4) :
    (own c a s).dst.view.read Val (fin m c (own c a s).dst.view.ref) = (own c a s).src.view.read Val (fin m c (own c a s).src.view.ref) := by
  fin_cases a
  exacts [carry0 m c s, carry1 m c s, carry2 m c s, carry3 m c s]
theorem carriesOther (c : Dev nD) (a s : Fin 4) :
    (other c a s).dst.view.read Val (fin m (sib c) (other c a s).dst.view.ref) = (other c a s).src.view.read Val (fin m c (other c a s).src.view.ref) := by
  fin_cases a
  exacts [carry4 m c s, carry5 m c s, carry6 m c s, carry7 m c s]

theorem fills : plan.Fills m (fin m) where
  arg c b hb := by
    have : b = main_arg0 ∨ b = main_arg1 ∨ b = main_arg2 ∨ b = main_arg3 := by revert b; decide
    rcases this with rfl | rfl | rfl | rfl <;> rfl
  carry c x := by
    rcases x with x | x
    exacts [carriesOwn m c x.1 x.2, carriesOther m c x.1 x.2]

end Final

/-- Every execution ends with these contents. -/
theorem run_main (m : (ℓ : Loc nD τ sig) → Buf (Elt F) ℓ) (g : Dev nD → PrngReg) :
    θ_run (defs (F := F)) (onTc (τ := τ) main) ⟨m, fun _ => 0, g⟩ (fun r => (∀ c, Reads (fin m) c r.2) ∧ r.2.sem = fun _ => 0) :=
  run plan sound cfgs (fun _ => inferInstanceAs (IsEmpty (Fin 0))) cellOf_inj N_0 defs₀
    (fun t c Q => by rw [show defs₀ (F := F) .tc (cfgs 0).body ((cfgs 0).bodyArgs t ((cfgs 0).slots t)) = _ from body_eq t _])
    (by decide) g (fills m) main (fun _ => rfl)

end Cert.PairExchangeRun

end
-- ==== Proof.PairExchangeClaims.lean ====
/- The claims of the exchange of gradient halves between the cores of a chip. -/
module

public import proofs.«01_k».proof.Defs
public import proofs.«01_k».proof.Proof.PairExchangeRun
public import proofs.«01_k».proof.Proof.Gen.PairExchange
public import proofs.«01_k».proof.Proof.Gen.PairExchangeRef
public import proofs.«01_k».proof.Proof.Gen.PairExchangeRefIdeal.Run
public import Idealize.ShloMosaic.Lib.Quiescent
public import Idealize.ShloMosaic.Lib.PointwiseCore

@[expose] public section

noncomputable section

namespace Cert.PairExchangeRun

open Idealize.ShloMosaic Idealize.ShloMosaic.TcCoe
open Idealize.SL Idealize.SL.Sem
open Cert.Exchange

variable {F : FTy → Type} [FloatOps F]

/-! ## Frames -/

theorem frame_ideal : Cert.quiescent_PairExchangeIdeal := fun m g _ =>
  (θ_run Cert.PairExchangeIdeal.defs _ _).mono (fun _ h => ⟨fun c => ⟨h.1 c _ rfl, h.1 c _ rfl, h.1 c _ rfl, h.1 c _ rfl⟩, h.2⟩) (run_main (F := Ideal) m g)

theorem frame_kernel : Cert.quiescent_PairExchange := fun m g _ =>
  (θ_run Cert.PairExchangeIdeal.defs _ _).mono (fun _ h => ⟨fun c => ⟨h.1 c _ rfl, h.1 c _ rfl, h.1 c _ rfl, h.1 c _ rfl⟩, h.2⟩) (run_main (F := Bits) m g)

/-! ## The reference -/

/-- Row of all the devices' arrays that result row `r` of all the devices holds: of device `r / 1024` itself, the half its core keeps. -/
def ownHalf (r : Fin 8192) : Fin 16384 := ⟨2048 * (r.val / 1024) + 1024 * (r.val / 1024 % 2) + r.val % 1024, by omega⟩
/-- The same, every 512 rows halved. -/
def ownSlab (r : Fin 8192) : Fin 16384 := ⟨2048 * (r.val / 1024) + 512 * (r.val % 1024 / 256) + 256 * (r.val / 1024 % 2) + r.val % 256, by omega⟩
/-- The same half, of the other core of the chip. -/
def otherHalf (r : Fin 8192) : Fin 16384 := ⟨2048 * (r.val / 1024 + 1 - 2 * (r.val / 1024 % 2)) + 1024 * (r.val / 1024 % 2) + r.val % 1024, by omega⟩
/-- The same, every 512 rows halved. -/
def otherSlab (r : Fin 8192) : Fin 16384 :=
  ⟨2048 * (r.val / 1024 + 1 - 2 * (r.val / 1024 % 2)) + 512 * (r.val % 1024 / 256) + 256 * (r.val / 1024 % 2) + r.val % 256, by omega⟩

/-- The rows of `w` that `f` names. -/
def rows {α : Type} {n : ℕ} (f : Fin 8192 → Fin 16384) (w : (⟨2, ![16384, n]⟩ : Shape).Idx → α) : (⟨2, ![8192, n]⟩ : Shape).Idx → α :=
  fun i => w (Shape.pair (f (i 0)) (i 1))

section Reference
open Cert.PairExchangeRefIdeal

set_option maxRecDepth 65536 in
theorem half0_apply {α : Type} (w : S16384x5632.Idx → α) (h1 : S16384x5632.ShapeCasts S4x2x1x2x1024x5632) (h2 : S4x2x1x2x1024x5632.Slices ![0, 0, 0, 0, 0, 0] S4x1x1x1x1024x5632) (h2' : S4x2x1x2x1024x5632.Slices ![0, 1, 0, 1, 0, 0] S4x1x1x1x1024x5632)
    (h3 : S4x1x1x1x1024x5632.ShapeCasts S4x1x1024x5632) (h4 : S4x1x1024x5632.BroadcastsInDim S4x1x1x1024x5632 ![0, 2, 3, 4]) (h5 : Shape.Concatenates [S4x1x1x1024x5632, S4x1x1x1024x5632] S4x2x1x1024x5632 1) (h6 : S4x2x1x1024x5632.ShapeCasts S8192x5632) (i : S8192x5632.Idx) :
    shapeCast S8192x5632 (concatenate S4x2x1x1024x5632 1
      [⟨S4x1x1x1024x5632, broadcastInDim S4x1x1x1024x5632 ![0, 2, 3, 4] h4 (shapeCast S4x1x1024x5632 (extractStridedSlice S4x1x1x1x1024x5632 ![0, 0, 0, 0, 0, 0] (shapeCast S4x2x1x2x1024x5632 w h1) h2) h3)⟩,
        ⟨S4x1x1x1024x5632, broadcastInDim S4x1x1x1024x5632 ![0, 2, 3, 4] h4 (shapeCast S4x1x1024x5632 (extractStridedSlice S4x1x1x1x1024x5632 ![0, 1, 0, 1, 0, 0] (shapeCast S4x2x1x2x1024x5632 w h1) h2') h3)⟩] h5) h6 i
      = rows ownHalf w i := by
  generalize hk : rows ownHalf w i = z
  pointwise
  rw [← hk]
  split_ifs <;> refine at_ix2 _ _ _ _ ?_ rfl <;> show _ = (ownHalf (i 0)).val <;> dsimp only [ownHalf] <;> omega

set_option maxRecDepth 65536 in
theorem half4_apply {α : Type} (w : S16384x5632.Idx → α) (h1 : S16384x5632.ShapeCasts S4x2x1x2x1024x5632) (h2 : S4x2x1x2x1024x5632.Slices ![0, 1, 0, 0, 0, 0] S4x1x1x1x1024x5632) (h2' : S4x2x1x2x1024x5632.Slices ![0, 0, 0, 1, 0, 0] S4x1x1x1x1024x5632)
    (h3 : S4x1x1x1x1024x5632.ShapeCasts S4x1x1024x5632) (h4 : S4x1x1024x5632.BroadcastsInDim S4x1x1x1024x5632 ![0, 2, 3, 4]) (h5 : Shape.Concatenates [S4x1x1x1024x5632, S4x1x1x1024x5632] S4x2x1x1024x5632 1) (h6 : S4x2x1x1024x5632.ShapeCasts S8192x5632) (i : S8192x5632.Idx) :
    shapeCast S8192x5632 (concatenate S4x2x1x1024x5632 1
      [⟨S4x1x1x1024x5632, broadcastInDim S4x1x1x1024x5632 ![0, 2, 3, 4] h4 (shapeCast S4x1x1024x5632 (extractStridedSlice S4x1x1x1x1024x5632 ![0, 1, 0, 0, 0, 0] (shapeCast S4x2x1x2x1024x5632 w h1) h2) h3)⟩,
        ⟨S4x1x1x1024x5632, broadcastInDim S4x1x1x1024x5632 ![0, 2, 3, 4] h4 (shapeCast S4x1x1024x5632 (extractStridedSlice S4x1x1x1x1024x5632 ![0, 0, 0, 1, 0, 0] (shapeCast S4x2x1x2x1024x5632 w h1) h2') h3)⟩] h5) h6 i
      = rows otherHalf w i := by
  generalize hk : rows otherHalf w i = z
  pointwise
  rw [← hk]
  split_ifs <;> refine at_ix2 _ _ _ _ ?_ rfl <;> show _ = (otherHalf (i 0)).val <;> dsimp only [otherHalf] <;> omega

set_option maxRecDepth 65536 in
theorem half2_apply {α : Type} (w : S16384x6144.Idx → α) (h1 : S16384x6144.ShapeCasts S4x2x1x2x1024x6144) (h2 : S4x2x1x2x1024x6144.Slices ![0, 0, 0, 0, 0, 0] S4x1x1x1x1024x6144) (h2' : S4x2x1x2x1024x6144.Slices ![0, 1, 0, 1, 0, 0] S4x1x1x1x1024x6144)
    (h3 : S4x1x1x1x1024x6144.ShapeCasts S4x1x1024x6144) (h4 : S4x1x1024x6144.BroadcastsInDim S4x1x1x1024x6144 ![0, 2, 3, 4]) (h5 : Shape.Concatenates [S4x1x1x1024x6144, S4x1x1x1024x6144] S4x2x1x1024x6144 1) (h6 : S4x2x1x1024x6144.ShapeCasts S8192x6144) (i : S8192x6144.Idx) :
    shapeCast S8192x6144 (concatenate S4x2x1x1024x6144 1
      [⟨S4x1x1x1024x6144, broadcastInDim S4x1x1x1024x6144 ![0, 2, 3, 4] h4 (shapeCast S4x1x1024x6144 (extractStridedSlice S4x1x1x1x1024x6144 ![0, 0, 0, 0, 0, 0] (shapeCast S4x2x1x2x1024x6144 w h1) h2) h3)⟩,
        ⟨S4x1x1x1024x6144, broadcastInDim S4x1x1x1024x6144 ![0, 2, 3, 4] h4 (shapeCast S4x1x1024x6144 (extractStridedSlice S4x1x1x1x1024x6144 ![0, 1, 0, 1, 0, 0] (shapeCast S4x2x1x2x1024x6144 w h1) h2') h3)⟩] h5) h6 i
      = rows ownHalf w i := by
  generalize hk : rows ownHalf w i = z
  pointwise
  rw [← hk]
  split_ifs <;> refine at_ix2 _ _ _ _ ?_ rfl <;> show _ = (ownHalf (i 0)).val <;> dsimp only [ownHalf] <;> omega

set_option maxRecDepth 65536 in
theorem half6_apply {α : Type} (w : S16384x6144.Idx → α) (h1 : S16384x6144.ShapeCasts S4x2x1x2x1024x6144) (h2 : S4x2x1x2x1024x6144.Slices ![0, 1, 0, 0, 0, 0] S4x1x1x1x1024x6144) (h2' : S4x2x1x2x1024x6144.Slices ![0, 0, 0, 1, 0, 0] S4x1x1x1x1024x6144)
    (h3 : S4x1x1x1x1024x6144.ShapeCasts S4x1x1024x6144) (h4 : S4x1x1024x6144.BroadcastsInDim S4x1x1x1024x6144 ![0, 2, 3, 4]) (h5 : Shape.Concatenates [S4x1x1x1024x6144, S4x1x1x1024x6144] S4x2x1x1024x6144 1) (h6 : S4x2x1x1024x6144.ShapeCasts S8192x6144) (i : S8192x6144.Idx) :
    shapeCast S8192x6144 (concatenate S4x2x1x1024x6144 1
      [⟨S4x1x1x1024x6144, broadcastInDim S4x1x1x1024x6144 ![0, 2, 3, 4] h4 (shapeCast S4x1x1024x6144 (extractStridedSlice S4x1x1x1x1024x6144 ![0, 1, 0, 0, 0, 0] (shapeCast S4x2x1x2x1024x6144 w h1) h2) h3)⟩,
        ⟨S4x1x1x1024x6144, broadcastInDim S4x1x1x1024x6144 ![0, 2, 3, 4] h4 (shapeCast S4x1x1024x6144 (extractStridedSlice S4x1x1x1x1024x6144 ![0, 0, 0, 1, 0, 0] (shapeCast S4x2x1x2x1024x6144 w h1) h2') h3)⟩] h5) h6 i
      = rows otherHalf w i := by
  generalize hk : rows otherHalf w i = z
  pointwise
  rw [← hk]
  split_ifs <;> refine at_ix2 _ _ _ _ ?_ rfl <;> show _ = (otherHalf (i 0)).val <;> dsimp only [otherHalf] <;> omega

set_option maxRecDepth 65536 in
theorem slab1_apply {α : Type} (w : S16384x2048.Idx → α) (h1 : S16384x2048.ShapeCasts S4x2x4x2x256x2048) (h2 : S4x2x4x2x256x2048.Slices ![0, 0, 0, 0, 0, 0] S4x1x4x1x256x2048) (h2' : S4x2x4x2x256x2048.Slices ![0, 1, 0, 1, 0, 0] S4x1x4x1x256x2048)
    (h3 : S4x1x4x1x256x2048.ShapeCasts S4x4x256x2048) (h4 : S4x4x256x2048.BroadcastsInDim S4x1x4x256x2048 ![0, 2, 3, 4]) (h5 : Shape.Concatenates [S4x1x4x256x2048, S4x1x4x256x2048] S4x2x4x256x2048 1) (h6 : S4x2x4x256x2048.ShapeCasts S8192x2048) (i : S8192x2048.Idx) :
    shapeCast S8192x2048 (concatenate S4x2x4x256x2048 1
      [⟨S4x1x4x256x2048, broadcastInDim S4x1x4x256x2048 ![0, 2, 3, 4] h4 (shapeCast S4x4x256x2048 (extractStridedSlice S4x1x4x1x256x2048 ![0, 0, 0, 0, 0, 0] (shapeCast S4x2x4x2x256x2048 w h1) h2) h3)⟩,
        ⟨S4x1x4x256x2048, broadcastInDim S4x1x4x256x2048 ![0, 2, 3, 4] h4 (shapeCast S4x4x256x2048 (extractStridedSlice S4x1x4x1x256x2048 ![0, 1, 0, 1, 0, 0] (shapeCast S4x2x4x2x256x2048 w h1) h2') h3)⟩] h5) h6 i
      = rows ownSlab w i := by
  generalize hk : rows ownSlab w i = z
  pointwise
  rw [← hk]
  split_ifs <;> refine at_ix2 _ _ _ _ ?_ rfl <;> show _ = (ownSlab (i 0)).val <;> dsimp only [ownSlab] <;> omega

set_option maxRecDepth 65536 in
theorem slab5_apply {α : Type} (w : S16384x2048.Idx → α) (h1 : S16384x2048.ShapeCasts S4x2x4x2x256x2048) (h2 : S4x2x4x2x256x2048.Slices ![0, 1, 0, 0, 0, 0] S4x1x4x1x256x2048) (h2' : S4x2x4x2x256x2048.Slices ![0, 0, 0, 1, 0, 0] S4x1x4x1x256x2048)
    (h3 : S4x1x4x1x256x2048.ShapeCasts S4x4x256x2048) (h4 : S4x4x256x2048.BroadcastsInDim S4x1x4x256x2048 ![0, 2, 3, 4]) (h5 : Shape.Concatenates [S4x1x4x256x2048, S4x1x4x256x2048] S4x2x4x256x2048 1) (h6 : S4x2x4x256x2048.ShapeCasts S8192x2048) (i : S8192x2048.Idx) :
    shapeCast S8192x2048 (concatenate S4x2x4x256x2048 1
      [⟨S4x1x4x256x2048, broadcastInDim S4x1x4x256x2048 ![0, 2, 3, 4] h4 (shapeCast S4x4x256x2048 (extractStridedSlice S4x1x4x1x256x2048 ![0, 1, 0, 0, 0, 0] (shapeCast S4x2x4x2x256x2048 w h1) h2) h3)⟩,
        ⟨S4x1x4x256x2048, broadcastInDim S4x1x4x256x2048 ![0, 2, 3, 4] h4 (shapeCast S4x4x256x2048 (extractStridedSlice S4x1x4x1x256x2048 ![0, 0, 0, 1, 0, 0] (shapeCast S4x2x4x2x256x2048 w h1) h2') h3)⟩] h5) h6 i
      = rows otherSlab w i := by
  generalize hk : rows otherSlab w i = z
  pointwise
  rw [← hk]
  split_ifs <;> refine at_ix2 _ _ _ _ ?_ rfl <;> show _ = (otherSlab (i 0)).val <;> dsimp only [otherSlab] <;> omega

/-- What the reference computes, every place. -/
theorem run_ref (m : (ℓ : Loc nD τ sig) → Buf (Elt F) ℓ) (g : Dev nD → PrngReg) :
    θ_run (defs (F := F)) (onTc (τ := τ) main) ⟨m, fun _ => 0, g⟩
      (fun r => (∀ c : Dev nD,
        (r.2.mem ((c.tc : Thread nD τ).loc main_v15) = rows ownHalf (m ((c.tc : Thread nD τ).loc main_arg0))
          ∧ r.2.mem ((c.tc : Thread nD τ).loc main_v32) = rows ownSlab (m ((c.tc : Thread nD τ).loc main_arg1))
          ∧ r.2.mem ((c.tc : Thread nD τ).loc main_v49) = rows ownHalf (m ((c.tc : Thread nD τ).loc main_arg2))
          ∧ r.2.mem ((c.tc : Thread nD τ).loc main_v66) = rows ownSlab (m ((c.tc : Thread nD τ).loc main_arg3))
          ∧ r.2.mem ((c.tc : Thread nD τ).loc main_v16) = rows otherHalf (m ((c.tc : Thread nD τ).loc main_arg0))
          ∧ r.2.mem ((c.tc : Thread nD τ).loc main_v33) = rows otherSlab (m ((c.tc : Thread nD τ).loc main_arg1))
          ∧ r.2.mem ((c.tc : Thread nD τ).loc main_v50) = rows otherHalf (m ((c.tc : Thread nD τ).loc main_arg2))
          ∧ r.2.mem ((c.tc : Thread nD τ).loc main_v67) = rows otherSlab (m ((c.tc : Thread nD τ).loc main_arg3)))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)) ∧ r.2.sem = fun _ => 0) := by
  refine (θ_run defs _ _).mono (fun r h => ⟨fun c => ?_, sem_eq_zero_of_no_sems rfl r.2⟩) (Value.run m g)
  obtain ⟨h0, h1, h2, h3, h4, h5, h6, h7, ha⟩ := h c
  refine ⟨⟨h0.trans (funext fun i => ?_), h1.trans (funext fun i => ?_), h2.trans (funext fun i => ?_), h3.trans (funext fun i => ?_), h4.trans (funext fun i => ?_), h5.trans (funext fun i => ?_), h6.trans (funext fun i => ?_), h7.trans (funext fun i => ?_)⟩, ha⟩
  · exact half0_apply _ _ _ _ _ _ _ _ i
  · exact slab1_apply _ _ _ _ _ _ _ _ i
  · exact half2_apply _ _ _ _ _ _ _ _ i
  · exact slab1_apply _ _ _ _ _ _ _ _ i
  · exact half4_apply _ _ _ _ _ _ _ _ i
  · exact slab5_apply _ _ _ _ _ _ _ _ i
  · exact half6_apply _ _ _ _ _ _ _ _ i
  · exact slab5_apply _ _ _ _ _ _ _ _ i

end Reference

theorem frame_ref_ideal : Cert.quiescent_PairExchangeRefIdeal := fun m g _ =>
  (θ_run Cert.PairExchangeRefIdeal.defs _ _).mono (fun _ h => ⟨fun c => (h.1 c).2, h.2⟩) (run_ref (F := Ideal) m g)

theorem frame_ref : Cert.quiescent_PairExchangeRef := fun m g _ =>
  (θ_run Cert.PairExchangeRefIdeal.defs _ _).mono (fun _ h => ⟨fun c => (h.1 c).2, h.2⟩) (run_ref (F := Bits) m g)

/-! ## The values -/

section Values
open Cert.PairExchangeIdeal

variable {Val : EltTy → Type} (m : (ℓ : Loc nD τ sig) → Buf Val ℓ)

theorem value0 (w : (⟨2, ![16384, 5632]⟩ : Shape).Idx → Val .f32)
    (hw : ∀ c : Dev nD, m ((c.tc : Thread nD τ).loc main_arg0) = Layout.block ⟨2, ![2048, 5632]⟩ ⟨2, ![16384, 5632]⟩ 0 8 c w)
    (c : Dev nD) : fin m c main_v1_0 = Layout.block ⟨2, ![1024, 5632]⟩ ⟨2, ![8192, 5632]⟩ 0 8 c (rows ownHalf w) := by
  refine funext fun (i : main_v1_0.ty.Idx) => ?_
  have h0 : (i 0).val < 1024 := (i 0).isLt
  have hc : c.val < 8 := c.isLt
  show m _ _ = _
  rw [hw]
  refine at_congr w fun a => ?_
  fin_cases a
  · show c.val * 2048 + (halfRow c (i 0)).val = (ownHalf ⟨c.val * 1024 + (i 0).val, _⟩).val
    dsimp only [halfRow, ownHalf]
    omega
  · rfl

theorem value1 (w : (⟨2, ![16384, 2048]⟩ : Shape).Idx → Val .f32)
    (hw : ∀ c : Dev nD, m ((c.tc : Thread nD τ).loc main_arg1) = Layout.block ⟨2, ![2048, 2048]⟩ ⟨2, ![16384, 2048]⟩ 0 8 c w)
    (c : Dev nD) : fin m c main_v1_1 = Layout.block ⟨2, ![1024, 2048]⟩ ⟨2, ![8192, 2048]⟩ 0 8 c (rows ownSlab w) := by
  refine funext fun (i : main_v1_1.ty.Idx) => ?_
  have h0 : (i 0).val < 1024 := (i 0).isLt
  have hc : c.val < 8 := c.isLt
  show m _ _ = _
  rw [hw]
  refine at_congr w fun a => ?_
  fin_cases a
  · show c.val * 2048 + (slabRow c (i 0)).val = (ownSlab ⟨c.val * 1024 + (i 0).val, _⟩).val
    dsimp only [slabRow, ownSlab]
    omega
  · rfl

theorem value2 (w : (⟨2, ![16384, 6144]⟩ : Shape).Idx → Val .f32)
    (hw : ∀ c : Dev nD, m ((c.tc : Thread nD τ).loc main_arg2) = Layout.block ⟨2, ![2048, 6144]⟩ ⟨2, ![16384, 6144]⟩ 0 8 c w)
    (c : Dev nD) : fin m c main_v1_2 = Layout.block ⟨2, ![1024, 6144]⟩ ⟨2, ![8192, 6144]⟩ 0 8 c (rows ownHalf w) := by
  refine funext fun (i : main_v1_2.ty.Idx) => ?_
  have h0 : (i 0).val < 1024 := (i 0).isLt
  have hc : c.val < 8 := c.isLt
  show m _ _ = _
  rw [hw]
  refine at_congr w fun a => ?_
  fin_cases a
  · show c.val * 2048 + (halfRow c (i 0)).val = (ownHalf ⟨c.val * 1024 + (i 0).val, _⟩).val
    dsimp only [halfRow, ownHalf]
    omega
  · rfl

theorem value3 (w : (⟨2, ![16384, 2048]⟩ : Shape).Idx → Val .f32)
    (hw : ∀ c : Dev nD, m ((c.tc : Thread nD τ).loc main_arg3) = Layout.block ⟨2, ![2048, 2048]⟩ ⟨2, ![16384, 2048]⟩ 0 8 c w)
    (c : Dev nD) : fin m c main_v1_3 = Layout.block ⟨2, ![1024, 2048]⟩ ⟨2, ![8192, 2048]⟩ 0 8 c (rows ownSlab w) := by
  refine funext fun (i : main_v1_3.ty.Idx) => ?_
  have h0 : (i 0).val < 1024 := (i 0).isLt
  have hc : c.val < 8 := c.isLt
  show m _ _ = _
  rw [hw]
  refine at_congr w fun a => ?_
  fin_cases a
  · show c.val * 2048 + (slabRow c (i 0)).val = (ownSlab ⟨c.val * 1024 + (i 0).val, _⟩).val
    dsimp only [slabRow, ownSlab]
    omega
  · rfl

theorem value4 (w : (⟨2, ![16384, 5632]⟩ : Shape).Idx → Val .f32)
    (hw : ∀ c : Dev nD, m ((c.tc : Thread nD τ).loc main_arg0) = Layout.block ⟨2, ![2048, 5632]⟩ ⟨2, ![16384, 5632]⟩ 0 8 c w)
    (c : Dev nD) : fin m c main_v1_4 = Layout.block ⟨2, ![1024, 5632]⟩ ⟨2, ![8192, 5632]⟩ 0 8 c (rows otherHalf w) := by
  refine funext fun (i : main_v1_4.ty.Idx) => ?_
  have h0 : (i 0).val < 1024 := (i 0).isLt
  have hc : c.val < 8 := c.isLt
  show m _ _ = _
  rw [hw]
  refine at_congr w fun a => ?_
  fin_cases a
  · show (sib c).val * 2048 + (halfRow c (i 0)).val = (otherHalf ⟨c.val * 1024 + (i 0).val, _⟩).val
    dsimp only [halfRow, otherHalf, sib]
    omega
  · rfl

theorem value5 (w : (⟨2, ![16384, 2048]⟩ : Shape).Idx → Val .f32)
    (hw : ∀ c : Dev nD, m ((c.tc : Thread nD τ).loc main_arg1) = Layout.block ⟨2, ![2048, 2048]⟩ ⟨2, ![16384, 2048]⟩ 0 8 c w)
    (c : Dev nD) : fin m c main_v1_5 = Layout.block ⟨2, ![1024, 2048]⟩ ⟨2, ![8192, 2048]⟩ 0 8 c (rows otherSlab w) := by
  refine funext fun (i : main_v1_5.ty.Idx) => ?_
  have h0 : (i 0).val < 1024 := (i 0).isLt
  have hc : c.val < 8 := c.isLt
  show m _ _ = _
  rw [hw]
  refine at_congr w fun a => ?_
  fin_cases a
  · show (sib c).val * 2048 + (slabRow c (i 0)).val = (otherSlab ⟨c.val * 1024 + (i 0).val, _⟩).val
    dsimp only [slabRow, otherSlab, sib]
    omega
  · rfl

theorem value6 (w : (⟨2, ![16384, 6144]⟩ : Shape).Idx → Val .f32)
    (hw : ∀ c : Dev nD, m ((c.tc : Thread nD τ).loc main_arg2) = Layout.block ⟨2, ![2048, 6144]⟩ ⟨2, ![16384, 6144]⟩ 0 8 c w)
    (c : Dev nD) : fin m c main_v1_6 = Layout.block ⟨2, ![1024, 6144]⟩ ⟨2, ![8192, 6144]⟩ 0 8 c (rows otherHalf w) := by
  refine funext fun (i : main_v1_6.ty.Idx) => ?_
  have h0 : (i 0).val < 1024 := (i 0).isLt
  have hc : c.val < 8 := c.isLt
  show m _ _ = _
  rw [hw]
  refine at_congr w fun a => ?_
  fin_cases a
  · show (sib c).val * 2048 + (halfRow c (i 0)).val = (otherHalf ⟨c.val * 1024 + (i 0).val, _⟩).val
    dsimp only [halfRow, otherHalf, sib]
    omega
  · rfl

theorem value7 (w : (⟨2, ![16384, 2048]⟩ : Shape).Idx → Val .f32)
    (hw : ∀ c : Dev nD, m ((c.tc : Thread nD τ).loc main_arg3) = Layout.block ⟨2, ![2048, 2048]⟩ ⟨2, ![16384, 2048]⟩ 0 8 c w)
    (c : Dev nD) : fin m c main_v1_7 = Layout.block ⟨2, ![1024, 2048]⟩ ⟨2, ![8192, 2048]⟩ 0 8 c (rows otherSlab w) := by
  refine funext fun (i : main_v1_7.ty.Idx) => ?_
  have h0 : (i 0).val < 1024 := (i 0).isLt
  have hc : c.val < 8 := c.isLt
  show m _ _ = _
  rw [hw]
  refine at_congr w fun a => ?_
  fin_cases a
  · show (sib c).val * 2048 + (slabRow c (i 0)).val = (otherSlab ⟨c.val * 1024 + (i 0).val, _⟩).val
    dsimp only [slabRow, otherSlab, sib]
    omega
  · rfl

end Values

theorem values_ideal : Cert.algebraic_PairExchangeIdeal_PairExchangeRefIdeal := fun m g m' g' _ hm =>
  ⟨_, _, _, _, _, _, _, _,
    (θ_run Cert.PairExchangeIdeal.defs _ _).mono (fun _ h c =>
      ⟨(h.1 c _ rfl).trans (value0 m _ (fun c => (hm c).1) c),
        (h.1 c _ rfl).trans (value1 m _ (fun c => (hm c).2.1) c),
        (h.1 c _ rfl).trans (value2 m _ (fun c => (hm c).2.2.1) c),
        (h.1 c _ rfl).trans (value3 m _ (fun c => (hm c).2.2.2) c),
        (h.1 c _ rfl).trans (value4 m _ (fun c => (hm c).1) c),
        (h.1 c _ rfl).trans (value5 m _ (fun c => (hm c).2.1) c),
        (h.1 c _ rfl).trans (value6 m _ (fun c => (hm c).2.2.1) c),
        (h.1 c _ rfl).trans (value7 m _ (fun c => (hm c).2.2.2) c),
        h.1 c _ rfl, h.1 c _ rfl, h.1 c _ rfl, h.1 c _ rfl⟩) (run_main (F := Ideal) m g),
    (θ_run Cert.PairExchangeRefIdeal.defs _ _).mono (fun _ h => ⟨(h.1 0).1.1, (h.1 0).1.2.1, (h.1 0).1.2.2.1, (h.1 0).1.2.2.2.1, (h.1 0).1.2.2.2.2.1, (h.1 0).1.2.2.2.2.2.1, (h.1 0).1.2.2.2.2.2.2.1, (h.1 0).1.2.2.2.2.2.2.2,
      (h.1 0).2.1, (h.1 0).2.2.1, (h.1 0).2.2.2.1, (h.1 0).2.2.2.2⟩) (run_ref (F := Ideal) m' g')⟩

theorem values_kernel : Cert.bitexact_PairExchange_PairExchangeRef := fun m g m' g' _ hm =>
  ⟨_, _, _, _, _, _, _, _,
    (θ_run Cert.PairExchangeIdeal.defs _ _).mono (fun _ h c =>
      ⟨(h.1 c _ rfl).trans (value0 m _ (fun c => (hm c).1) c),
        (h.1 c _ rfl).trans (value1 m _ (fun c => (hm c).2.1) c),
        (h.1 c _ rfl).trans (value2 m _ (fun c => (hm c).2.2.1) c),
        (h.1 c _ rfl).trans (value3 m _ (fun c => (hm c).2.2.2) c),
        (h.1 c _ rfl).trans (value4 m _ (fun c => (hm c).1) c),
        (h.1 c _ rfl).trans (value5 m _ (fun c => (hm c).2.1) c),
        (h.1 c _ rfl).trans (value6 m _ (fun c => (hm c).2.2.1) c),
        (h.1 c _ rfl).trans (value7 m _ (fun c => (hm c).2.2.2) c),
        h.1 c _ rfl, h.1 c _ rfl, h.1 c _ rfl, h.1 c _ rfl⟩) (run_main (F := Bits) m g),
    (θ_run Cert.PairExchangeRefIdeal.defs _ _).mono (fun _ h => ⟨(h.1 0).1.1, (h.1 0).1.2.1, (h.1 0).1.2.2.1, (h.1 0).1.2.2.2.1, (h.1 0).1.2.2.2.2.1, (h.1 0).1.2.2.2.2.2.1, (h.1 0).1.2.2.2.2.2.2.1, (h.1 0).1.2.2.2.2.2.2.2,
      (h.1 0).2.1, (h.1 0).2.2.1, (h.1 0).2.2.2.1, (h.1 0).2.2.2.2⟩) (run_ref (F := Bits) m' g')⟩

end Cert.PairExchangeRun

end
-- ==== Proof.ChipScatterRun.lean ====
/- The scattering of the summed gradients over the chips: its table, and what every device ends with. -/
module

public import proofs.«01_k».proof.Proof.Geometry
public import proofs.«01_k».proof.Proof.Gen.ChipScatterIdeal.Frame

@[expose] public section

noncomputable section

namespace Cert.ChipScatterRun

open Idealize.ShloMosaic Idealize.ShloMosaic.TcCoe
open Idealize.SL Idealize.SL.Sem
open Cert.Exchange Cert.ChipScatterIdeal Cert.ChipScatterIdeal.Gen

variable {F : FTy → Type} [FloatOps F]

/-! ## The table -/

/-- Each array, the block of the own chip, as it is copied. -/
def own (c : Dev nD) : Fin 4 → Move sig
  | 0 => ⟨_, _, (Memref.whole main_arg0).slice (Rect.unit (s := S1024x5632) (k0_off2 c) S1024x1408.size (k0_off2_inb c)) (fun _ => rfl),
      ((Memref.whole main_v1_0).slice (Rect.unit (s := S4x1024x1408) (k0_off1 c) S1x1024x1408.size (k0_off1_inb c)) (fun _ => rfl)).squeeze S1024x1408 squeezes_S1x1024x1408_S1024x1408,
      View.wordExact_bits rfl, (View.wordExact_bits rfl).reshape _ _⟩
  | 1 => ⟨_, _, (Memref.whole main_arg1).slice (Rect.unit (s := S1024x2048) (k0_off5 c) S256x2048.size (k0_off5_inb c)) (fun _ => rfl),
      ((Memref.whole main_v1_1).slice (Rect.unit (s := S4x256x2048) (k0_off4 c) S1x256x2048.size (k0_off4_inb c)) (fun _ => rfl)).squeeze S256x2048 squeezes_S1x256x2048_S256x2048,
      View.wordExact_bits rfl, (View.wordExact_bits rfl).reshape _ _⟩
  | 2 => ⟨_, _, (Memref.whole main_arg2).slice (Rect.unit (s := S1024x6144) (k0_off8 c) S1024x1536.size (k0_off8_inb c)) (fun _ => rfl),
      ((Memref.whole main_v1_2).slice (Rect.unit (s := S4x1024x1536) (k0_off7 c) S1x1024x1536.size (k0_off7_inb c)) (fun _ => rfl)).squeeze S1024x1536 squeezes_S1x1024x1536_S1024x1536,
      View.wordExact_bits rfl, (View.wordExact_bits rfl).reshape _ _⟩
  | 3 => ⟨_, _, (Memref.whole main_arg3).slice (Rect.unit (s := S1024x2048) (k0_off5 c) S256x2048.size (k0_off5_inb c)) (fun _ => rfl),
      ((Memref.whole main_v1_3).slice (Rect.unit (s := S4x256x2048) (k0_off4 c) S1x256x2048.size (k0_off4_inb c)) (fun _ => rfl)).squeeze S256x2048 squeezes_S1x256x2048_S256x2048,
      View.wordExact_bits rfl, (View.wordExact_bits rfl).reshape _ _⟩

/-- Each array, the block of the chip in a direction, as it is sent there. -/
def send (c : Dev nD) (j : Fin 3) : Fin 4 → Move sig
  | 0 => ⟨_, _, (Memref.whole main_arg0).slice (Rect.unit (s := S1024x5632) (k0_off3 c (k0_off3_at j).1 (k0_off3_at j).2) S1024x1408.size (k0_off3_inb c j)) (fun _ => rfl),
      ((Memref.whole main_v1_0).slice (Rect.unit (s := S4x1024x1408) (k0_off1 c) S1x1024x1408.size (k0_off1_inb c)) (fun _ => rfl)).squeeze S1024x1408 squeezes_S1x1024x1408_S1024x1408,
      View.wordExact_bits rfl, (View.wordExact_bits rfl).reshape _ _⟩
  | 1 => ⟨_, _, (Memref.whole main_arg1).slice (Rect.unit (s := S1024x2048) (k0_off6 c (k0_off6_at j).1 (k0_off6_at j).2) S256x2048.size (k0_off6_inb c j)) (fun _ => rfl),
      ((Memref.whole main_v1_1).slice (Rect.unit (s := S4x256x2048) (k0_off4 c) S1x256x2048.size (k0_off4_inb c)) (fun _ => rfl)).squeeze S256x2048 squeezes_S1x256x2048_S256x2048,
      View.wordExact_bits rfl, (View.wordExact_bits rfl).reshape _ _⟩
  | 2 => ⟨_, _, (Memref.whole main_arg2).slice (Rect.unit (s := S1024x6144) (k0_off9 c (k0_off9_at j).1 (k0_off9_at j).2) S1024x1536.size (k0_off9_inb c j)) (fun _ => rfl),
      ((Memref.whole main_v1_2).slice (Rect.unit (s := S4x1024x1536) (k0_off7 c) S1x1024x1536.size (k0_off7_inb c)) (fun _ => rfl)).squeeze S1024x1536 squeezes_S1x1024x1536_S1024x1536,
      View.wordExact_bits rfl, (View.wordExact_bits rfl).reshape _ _⟩
  | 3 => ⟨_, _, (Memref.whole main_arg3).slice (Rect.unit (s := S1024x2048) (k0_off6 c (k0_off6_at j).1 (k0_off6_at j).2) S256x2048.size (k0_off6_inb c j)) (fun _ => rfl),
      ((Memref.whole main_v1_3).slice (Rect.unit (s := S4x256x2048) (k0_off4 c) S1x256x2048.size (k0_off4_inb c)) (fun _ => rfl)).squeeze S256x2048 squeezes_S1x256x2048_S256x2048,
      View.wordExact_bits rfl, (View.wordExact_bits rfl).reshape _ _⟩

/-- Each array, the slot that the chip in a direction fills. -/
def slot (c : Dev nD) (j : Fin 3) : Fin 4 → Move sig
  | 0 => ⟨_, _, ((Memref.whole main_v1_0).slice (Rect.unit (s := S4x1024x1408) (k0_off10 c (k0_off10_at j).1 (k0_off10_at j).2) S1x1024x1408.size (k0_off10_inb c j)) (fun _ => rfl)).squeeze S1024x1408 squeezes_S1x1024x1408_S1024x1408,
      ((Memref.whole main_v1_0).slice (Rect.unit (s := S4x1024x1408) (k0_off10 c (k0_off10_at j).1 (k0_off10_at j).2) S1x1024x1408.size (k0_off10_inb c j)) (fun _ => rfl)).squeeze S1024x1408 squeezes_S1x1024x1408_S1024x1408,
      (View.wordExact_bits rfl).reshape _ _, (View.wordExact_bits rfl).reshape _ _⟩
  | 1 => ⟨_, _, ((Memref.whole main_v1_1).slice (Rect.unit (s := S4x256x2048) (k0_off11 c (k0_off11_at j).1 (k0_off11_at j).2) S1x256x2048.size (k0_off11_inb c j)) (fun _ => rfl)).squeeze S256x2048 squeezes_S1x256x2048_S256x2048,
      ((Memref.whole main_v1_1).slice (Rect.unit (s := S4x256x2048) (k0_off11 c (k0_off11_at j).1 (k0_off11_at j).2) S1x256x2048.size (k0_off11_inb c j)) (fun _ => rfl)).squeeze S256x2048 squeezes_S1x256x2048_S256x2048,
      (View.wordExact_bits rfl).reshape _ _, (View.wordExact_bits rfl).reshape _ _⟩
  | 2 => ⟨_, _, ((Memref.whole main_v1_2).slice (Rect.unit (s := S4x1024x1536) (k0_off12 c (k0_off12_at j).1 (k0_off12_at j).2) S1x1024x1536.size (k0_off12_inb c j)) (fun _ => rfl)).squeeze S1024x1536 squeezes_S1x1024x1536_S1024x1536,
      ((Memref.whole main_v1_2).slice (Rect.unit (s := S4x1024x1536) (k0_off12 c (k0_off12_at j).1 (k0_off12_at j).2) S1x1024x1536.size (k0_off12_inb c j)) (fun _ => rfl)).squeeze S1024x1536 squeezes_S1x1024x1536_S1024x1536,
      (View.wordExact_bits rfl).reshape _ _, (View.wordExact_bits rfl).reshape _ _⟩
  | 3 => ⟨_, _, ((Memref.whole main_v1_3).slice (Rect.unit (s := S4x256x2048) (k0_off11 c (k0_off11_at j).1 (k0_off11_at j).2) S1x256x2048.size (k0_off11_inb c j)) (fun _ => rfl)).squeeze S256x2048 squeezes_S1x256x2048_S256x2048,
      ((Memref.whole main_v1_3).slice (Rect.unit (s := S4x256x2048) (k0_off11 c (k0_off11_at j).1 (k0_off11_at j).2) S1x256x2048.size (k0_off11_inb c j)) (fun _ => rfl)).squeeze S256x2048 squeezes_S1x256x2048_S256x2048,
      (View.wordExact_bits rfl).reshape _ _, (View.wordExact_bits rfl).reshape _ _⟩

theorem sem1_inb (a : Fin 4) : ∀ i, (![a.val] : Fin 1 → ℕ) i + S1.size i ≤ S4.size i := by revert a; decide
def sem1 (A : DmaSems sig S4) (a : Fin 4) : DmaSem sig :=
  ((A.slice (Rect.unit (s := S4) ![a.val] S1.size (sem1_inb a))).squeeze S_ squeezes_S1_S_).sem
theorem sem2_inb (a : Fin 4) (k : Fin 3) : ∀ i, (![a.val, k.val] : Fin 2 → ℕ) i + S1x1.size i ≤ S4x3.size i := by revert a k; decide
def sem2 (A : DmaSems sig S4x3) (a : Fin 4) (k : Fin 3) : DmaSem sig :=
  ((A.slice (Rect.unit (s := S4x3) ![a.val, k.val] S1x1.size (sem2_inb a k))).squeeze S_ squeezes_S1x1_S_).sem

/-- Array and direction. -/
abbrev I := Fin 4 × Fin 3

/-- The target as the kernel computes it. -/
def aim (c : Dev nD) : I → Dev nD
  | (0, 0) => ⟨k0_dev1 c, k0_dev1_lt c⟩ | (0, 1) => ⟨k0_dev2 c, k0_dev2_lt c⟩ | (0, 2) => ⟨k0_dev3 c, k0_dev3_lt c⟩
  | (1, 0) => ⟨k0_dev4 c, k0_dev4_lt c⟩ | (1, 1) => ⟨k0_dev5 c, k0_dev5_lt c⟩ | (1, 2) => ⟨k0_dev6 c, k0_dev6_lt c⟩
  | (2, 0) => ⟨k0_dev7 c, k0_dev7_lt c⟩ | (2, 1) => ⟨k0_dev8 c, k0_dev8_lt c⟩ | (2, 2) => ⟨k0_dev9 c, k0_dev9_lt c⟩
  | (3, 0) => ⟨k0_dev10 c, k0_dev10_lt c⟩ | (3, 1) => ⟨k0_dev11 c, k0_dev11_lt c⟩ | (3, 2) => ⟨k0_dev12 c, k0_dev12_lt c⟩

/-- The same core of the chip in a direction: along the first axis, along the second, along both. -/
def hop (j : Fin 3) (c : Dev nD) : Dev nD :=
  ⟨4 * ((c.val / 4 + (1 - j.val % 2)) % 2) + 2 * ((c.val / 2 + (j.val + 1) / 2) % 2) + c.val % 2, by have := c.isLt; unfold nD at *; omega⟩

def all4 : List (Fin 4) := [0, 1, 2, 3]
def all3 : List (Fin 3) := [0, 1, 2]
def allI : List I := all4.flatMap fun a => all3.map fun j => (a, j)

def plan : Plan nD sig (Fin 4) I where
  move c x := match x with
    | .inl a => own c a
    | .inr x => send c x.2 x.1
  wait c k := match k with
    | .inl a => own c a
    | .inr (.inl x) => slot c x.2 x.1
    | .inr (.inr x) => (send c x.2 x.1).back
  aim := aim
  peer x := hop x.2
  sem k := match k with
    | .inl a => sem1 cc0_scratch2 a
    | .inr (.inl x) => sem2 cc0_scratch1 x.1 x.2
    | .inr (.inr x) => sem2 cc0_scratch0 x.1 x.2
  credit x := match x with
    | .inl a => (own 0 a).dst.view.dmaCredit
    | .inr x => (own 0 x.1).dst.view.dmaCredit
  level _ := 0
  first _ := true
  next _ := none
  script := (all4.flatMap fun a => .start (.inl a) :: all3.map fun j => .start (.inr (a, j)))
    ++ (allI.map fun x => .wait (.inr (.inl x))) ++ (allI.map fun x => .wait (.inr (.inr x))) ++ (all4.map fun a => .wait (.inl a))
  args := {main_arg0, main_arg1, main_arg2, main_arg3}

set_option maxRecDepth 65536 in
/-- The kernel's body is the table's instructions. -/
theorem body_eq (t : Fin grid0.N) (s) : defs₀ (F := F) .tc 0 (t, s) = .op .deviceId fun d => seq (plan.script.map (plan.op d)) := rfl

/-! ## What the table satisfies -/

/-- Where the blocks sent lie. -/
theorem send0_eq : ∀ (c : Dev nD) (j : Fin 3), k0_off3 c (k0_off3_at j).1 (k0_off3_at j).2 = ![0, 1408 * ((hop j c).val / 2)] := by decide +kernel
theorem send1_eq : ∀ (c : Dev nD) (j : Fin 3), k0_off6 c (k0_off6_at j).1 (k0_off6_at j).2 = ![256 * ((hop j c).val / 2), 0] := by decide +kernel
theorem send2_eq : ∀ (c : Dev nD) (j : Fin 3), k0_off9 c (k0_off9_at j).1 (k0_off9_at j).2 = ![0, 1536 * ((hop j c).val / 2)] := by decide +kernel

/-- The box of the slot of chip `k`. -/
def slotBox (k : ℕ) : Fin 4 → Box sig
  | 0 => ⟨main_v1_0, [(k, 1), (0, 1024), (0, 1408)]⟩
  | 1 => ⟨main_v1_1, [(k, 1), (0, 256), (0, 2048)]⟩
  | 2 => ⟨main_v1_2, [(k, 1), (0, 1024), (0, 1536)]⟩
  | 3 => ⟨main_v1_3, [(k, 1), (0, 256), (0, 2048)]⟩
def boxOf (c : Dev nD) : Xfer (Fin 4) I → Box sig
  | .inl a => slotBox (c.val / 2) a
  | .inr x => slotBox ((hop x.2 c).val / 2) x.1

theorem boxed_own (c : Dev nD) (a : Fin 4) : Boxed (own c a).dst.view (slotBox (c.val / 2) a) := by
  fin_cases a
  · exact boxed_squeeze (boxed_slice main_v1_0 _ _ _ (fun _ => rfl) _ (by rw [k0_off1_eq]; decide +revert)) S1024x1408 squeezes_S1x1024x1408_S1024x1408
  · exact boxed_squeeze (boxed_slice main_v1_1 _ _ _ (fun _ => rfl) _ (by rw [k0_off4_eq]; decide +revert)) S256x2048 squeezes_S1x256x2048_S256x2048
  · exact boxed_squeeze (boxed_slice main_v1_2 _ _ _ (fun _ => rfl) _ (by rw [k0_off7_eq]; decide +revert)) S1024x1536 squeezes_S1x1024x1536_S1024x1536
  · exact boxed_squeeze (boxed_slice main_v1_3 _ _ _ (fun _ => rfl) _ (by rw [k0_off4_eq]; decide +revert)) S256x2048 squeezes_S1x256x2048_S256x2048
theorem boxed_send (c : Dev nD) (j : Fin 3) (a : Fin 4) : Boxed (send c j a).dst.view (slotBox (c.val / 2) a) := by
  fin_cases a
  · exact boxed_squeeze (boxed_slice main_v1_0 _ _ _ (fun _ => rfl) _ (by rw [k0_off1_eq]; decide +revert)) S1024x1408 squeezes_S1x1024x1408_S1024x1408
  · exact boxed_squeeze (boxed_slice main_v1_1 _ _ _ (fun _ => rfl) _ (by rw [k0_off4_eq]; decide +revert)) S256x2048 squeezes_S1x256x2048_S256x2048
  · exact boxed_squeeze (boxed_slice main_v1_2 _ _ _ (fun _ => rfl) _ (by rw [k0_off7_eq]; decide +revert)) S1024x1536 squeezes_S1x1024x1536_S1024x1536
  · exact boxed_squeeze (boxed_slice main_v1_3 _ _ _ (fun _ => rfl) _ (by rw [k0_off4_eq]; decide +revert)) S256x2048 squeezes_S1x256x2048_S256x2048

theorem hop_mod (c : Dev nD) (j : Fin 3) : (hop j c).val % 2 = c.val % 2 := by revert c j; decide

/-- Every other chip lies in some direction. -/
theorem toward (c : Dev nD) (k : ℕ) (hk : k < 4) (h : c.val / 2 ≠ k) : ∃ j, (hop j c).val / 2 = k := by
  have : ∀ (c : Dev nD) (k : Fin 4), c.val / 2 ≠ k.val → ∃ j, (hop j c).val / 2 = k.val := by decide
  exact this c ⟨k, hk⟩ h

theorem boxed_land (c : Dev nD) (x : Xfer (Fin 4) I) : Boxed (plan.land c x).dst.view (boxOf c x) := by
  rcases x with a | x
  · exact boxed_own c a
  · exact boxed_send (hop x.2 c) x.2 x.1

theorem own_credit (c : Dev nD) (a : Fin 4) : (own c a).dst.view.dmaCredit = (own 0 a).dst.view.dmaCredit := by fin_cases a <;> rfl
theorem send_credit (c : Dev nD) (j : Fin 3) (a : Fin 4) : (send c j a).dst.view.dmaCredit = (own 0 a).dst.view.dmaCredit := by fin_cases a <;> rfl
theorem back_credit (c : Dev nD) (j : Fin 3) (a : Fin 4) : (send c j a).src.view.dmaCredit = (own 0 a).dst.view.dmaCredit := by fin_cases a <;> rfl
theorem slot_credit (c : Dev nD) (j : Fin 3) (a : Fin 4) : (slot c j a).dst.view.dmaCredit = (own 0 a).dst.view.dmaCredit := by fin_cases a <;> rfl

theorem own_pos (a : Fin 4) : 0 < (own 0 a).dst.view.dmaCredit := by
  fin_cases a
  · exact View.dmaCredit_pos _ (show 0 < S1024x1408.numel by decide)
  · exact View.dmaCredit_pos _ (show 0 < S256x2048.numel by decide)
  · exact View.dmaCredit_pos _ (show 0 < S1024x1536.numel by decide)
  · exact View.dmaCredit_pos _ (show 0 < S256x2048.numel by decide)

def inRef : Fin 4 → Ref sig .tc
  | 0 => main_arg0 | 1 => main_arg1 | 2 => main_arg2 | 3 => main_arg3
def outRef : Fin 4 → Ref sig .tc
  | 0 => main_v1_0 | 1 => main_v1_1 | 2 => main_v1_2 | 3 => main_v1_3
theorem own_src (c : Dev nD) (a : Fin 4) : inRef a = (own c a).src.view.ref := by fin_cases a <;> rfl
theorem own_dst (c : Dev nD) (a : Fin 4) : outRef a = (own c a).dst.view.ref := by fin_cases a <;> rfl
theorem send_src (c : Dev nD) (j : Fin 3) (a : Fin 4) : inRef a = (send c j a).src.view.ref := by fin_cases a <;> rfl
theorem send_dst (c : Dev nD) (j : Fin 3) (a : Fin 4) : outRef a = (send c j a).dst.view.ref := by fin_cases a <;> rfl
theorem in_args (a : Fin 4) : inRef a ∈ plan.args := by revert a; decide
theorem out_args (a : Fin 4) : outRef a ∉ plan.args ∧ (outRef a).isScoped = false := by revert a; decide

/-- The buffers written are the four results. -/
theorem outputs (b : Ref sig .tc) (hb : b.isScoped = false) (hn : b ∉ plan.args) : ∃ a, b = outRef a := by
  obtain ⟨sp, k, hk⟩ := b
  match sp, k, hk, hb, hn with
  | .hbm, k, hk, hb, hn => revert k; decide

theorem filled0 (c : Dev nD) (i : main_v1_0.ty.Idx) : ∃ x, (boxOf c x).has ⟨main_v1_0, i⟩ := by
  have h0 : (i 0).val < 4 := (i 0).isLt
  have h1 : (i 1).val < 1024 := (i 1).isLt
  have h2 : (i 2).val < 1408 := (i 2).isLt
  by_cases hk : c.val / 2 = (i 0).val
  · exact ⟨.inl 0, Box.has_three rfl (show c.val / 2 ≤ (i 0).val ∧ (i 0).val < c.val / 2 + 1 by omega)
      (show 0 ≤ (i 1).val ∧ (i 1).val < 0 + 1024 by omega) (show 0 ≤ (i 2).val ∧ (i 2).val < 0 + 1408 by omega)⟩
  · obtain ⟨j, hj⟩ := toward c (i 0).val h0 hk
    exact ⟨.inr (0, j), Box.has_three rfl (show (hop j c).val / 2 ≤ (i 0).val ∧ (i 0).val < (hop j c).val / 2 + 1 by omega)
      (show 0 ≤ (i 1).val ∧ (i 1).val < 0 + 1024 by omega) (show 0 ≤ (i 2).val ∧ (i 2).val < 0 + 1408 by omega)⟩
theorem filled1 (c : Dev nD) (i : main_v1_1.ty.Idx) : ∃ x, (boxOf c x).has ⟨main_v1_1, i⟩ := by
  have h0 : (i 0).val < 4 := (i 0).isLt
  have h1 : (i 1).val < 256 := (i 1).isLt
  have h2 : (i 2).val < 2048 := (i 2).isLt
  by_cases hk : c.val / 2 = (i 0).val
  · exact ⟨.inl 1, Box.has_three rfl (show c.val / 2 ≤ (i 0).val ∧ (i 0).val < c.val / 2 + 1 by omega)
      (show 0 ≤ (i 1).val ∧ (i 1).val < 0 + 256 by omega) (show 0 ≤ (i 2).val ∧ (i 2).val < 0 + 2048 by omega)⟩
  · obtain ⟨j, hj⟩ := toward c (i 0).val h0 hk
    exact ⟨.inr (1, j), Box.has_three rfl (show (hop j c).val / 2 ≤ (i 0).val ∧ (i 0).val < (hop j c).val / 2 + 1 by omega)
      (show 0 ≤ (i 1).val ∧ (i 1).val < 0 + 256 by omega) (show 0 ≤ (i 2).val ∧ (i 2).val < 0 + 2048 by omega)⟩
theorem filled2 (c : Dev nD) (i : main_v1_2.ty.Idx) : ∃ x, (boxOf c x).has ⟨main_v1_2, i⟩ := by
  have h0 : (i 0).val < 4 := (i 0).isLt
  have h1 : (i 1).val < 1024 := (i 1).isLt
  have h2 : (i 2).val < 1536 := (i 2).isLt
  by_cases hk : c.val / 2 = (i 0).val
  · exact ⟨.inl 2, Box.has_three rfl (show c.val / 2 ≤ (i 0).val ∧ (i 0).val < c.val / 2 + 1 by omega)
      (show 0 ≤ (i 1).val ∧ (i 1).val < 0 + 1024 by omega) (show 0 ≤ (i 2).val ∧ (i 2).val < 0 + 1536 by omega)⟩
  · obtain ⟨j, hj⟩ := toward c (i 0).val h0 hk
    exact ⟨.inr (2, j), Box.has_three rfl (show (hop j c).val / 2 ≤ (i 0).val ∧ (i 0).val < (hop j c).val / 2 + 1 by omega)
      (show 0 ≤ (i 1).val ∧ (i 1).val < 0 + 1024 by omega) (show 0 ≤ (i 2).val ∧ (i 2).val < 0 + 1536 by omega)⟩
theorem filled3 (c : Dev nD) (i : main_v1_3.ty.Idx) : ∃ x, (boxOf c x).has ⟨main_v1_3, i⟩ := by
  have h0 : (i 0).val < 4 := (i 0).isLt
  have h1 : (i 1).val < 256 := (i 1).isLt
  have h2 : (i 2).val < 2048 := (i 2).isLt
  by_cases hk : c.val / 2 = (i 0).val
  · exact ⟨.inl 3, Box.has_three rfl (show c.val / 2 ≤ (i 0).val ∧ (i 0).val < c.val / 2 + 1 by omega)
      (show 0 ≤ (i 1).val ∧ (i 1).val < 0 + 256 by omega) (show 0 ≤ (i 2).val ∧ (i 2).val < 0 + 2048 by omega)⟩
  · obtain ⟨j, hj⟩ := toward c (i 0).val h0 hk
    exact ⟨.inr (3, j), Box.has_three rfl (show (hop j c).val / 2 ≤ (i 0).val ∧ (i 0).val < (hop j c).val / 2 + 1 by omega)
      (show 0 ≤ (i 1).val ∧ (i 1).val < 0 + 256 by omega) (show 0 ≤ (i 2).val ∧ (i 2).val < 0 + 2048 by omega)⟩

/-- Each place of a result is in the own chip's slot or in another one's. -/
theorem filled (c : Dev nD) : (a : Fin 4) → (i : (outRef a).ty.Idx) → ∃ x, (boxOf c x).has ⟨outRef a, i⟩
  | 0, i => filled0 c i
  | 1, i => filled1 c i
  | 2, i => filled2 c i
  | 3, i => filled3 c i

theorem sound : plan.Sound where
  aim_eq c r := by revert c r; decide +kernel
  peer_peer r c := by revert c r; decide +kernel
  sem_inj := by decide +kernel
  credit_pos x := by
    rcases x with a | x
    exacts [own_pos a, own_pos x.1]
  credit_move c x := by
    rcases x with a | x
    exacts [own_credit c a, send_credit c x.2 x.1]
  credit_wait c k := by
    rcases k with a | x | x
    exacts [own_credit c a, slot_credit c x.2 x.1, back_credit c x.2 x.1]
  follows := by decide +kernel
  args_unscoped := by decide +kernel
  src_arg c x _ := by
    rcases x with a | x
    exacts [own_src c a ▸ in_args a, send_src c x.2 x.1 ▸ in_args x.1]
  dst_out c x := by
    rcases x with a | x
    exacts [own_dst c a ▸ out_args a, send_dst c x.2 x.1 ▸ out_args x.1]
  apart c x y h := disjoint_of_apart (boxed_land c x) (boxed_land c y) (by revert c x y; decide +kernel)
  cover c b hb hn i := by
    obtain ⟨a, rfl⟩ := outputs b hb hn
    exact (filled c a i).imp fun x hx => (boxed_land c x _).mpr hx
  pass_ref _ _ _ h := nomatch h
  pass _ _ _ h := nomatch h

/-! ## What every device ends with -/

section Final
variable {Val : EltTy → Type} (m : (ℓ : Loc nD τ sig) → Buf Val ℓ)

/-- The core of chip `k` at the place of `c`. -/
def peerOf (c : Dev nD) (k : Fin 4) : Dev nD := ⟨2 * k.val + c.val % 2, by unfold nD; omega⟩

/-- The own chip's block of a line of four blocks. -/
def within (n N : ℕ) (hN : 4 * n = N) (c : Dev nD) (q : Fin n) : Fin N :=
  ⟨n * (c.val / 2) + q.val, by
    have hc : c.val / 2 ≤ 3 := by have := c.isLt; unfold nD at *; omega
    have := Nat.mul_le_mul_left n hc
    omega⟩

/-- The contents: an argument as it was, in a result's slot of each chip the own chip's block of that chip's array. -/
def fin (c : Dev nD) : (b : Ref sig .tc) → Buf Val ((c.tc : Thread nD τ).loc b)
  | ⟨.hbm, ⟨4, _⟩, _⟩ => fun (i : main_v1_0.ty.Idx) => pick m main_arg0 (peerOf c (i 0)) (Shape.pair (i 1) (within 1408 5632 rfl c (i 2)))
  | ⟨.hbm, ⟨5, _⟩, _⟩ => fun (i : main_v1_1.ty.Idx) => pick m main_arg1 (peerOf c (i 0)) (Shape.pair (within 256 1024 rfl c (i 1)) (i 2))
  | ⟨.hbm, ⟨6, _⟩, _⟩ => fun (i : main_v1_2.ty.Idx) => pick m main_arg2 (peerOf c (i 0)) (Shape.pair (i 1) (within 1536 6144 rfl c (i 2)))
  | ⟨.hbm, ⟨7, _⟩, _⟩ => fun (i : main_v1_3.ty.Idx) => pick m main_arg3 (peerOf c (i 0)) (Shape.pair (within 256 1024 rfl c (i 1)) (i 2))
  | b => m ((c.tc : Thread nD τ).loc b)

theorem carry0 (c d : Dev nD) (hd : d.val % 2 = c.val % 2) (off : Fin 2 → ℕ) (inb : ∀ a, off a + S1024x1408.size a ≤ S1024x5632.size a)
    (ho : off = ![0, 1408 * (d.val / 2)]) :
    (own c 0).dst.view.read Val (fin m d main_v1_0)
      = ((Memref.whole main_arg0).slice (Rect.unit (s := S1024x5632) off S1024x1408.size inb) (fun _ => rfl)).view.read Val (m ((c.tc : Thread nD τ).loc main_arg0)) := by
  refine funext fun (j : S1024x1408.Idx) => ?_
  have e0 := emb_at (s := S4x1024x1408) (k0_off1 c) S1x1024x1408.size (k0_off1_inb c) (Fin.cons ⟨0, Nat.one_pos⟩ j) 0 (o := 2 * (c.val / 4) + ((c.val / 2) % 2)) (congrFun (k0_off1_eq c) 0)
  have e1 := emb_at (s := S4x1024x1408) (k0_off1 c) S1x1024x1408.size (k0_off1_inb c) (Fin.cons ⟨0, Nat.one_pos⟩ j) 1 (o := 0) (congrFun (k0_off1_eq c) 1)
  have e2 := emb_at (s := S4x1024x1408) (k0_off1 c) S1x1024x1408.size (k0_off1_inb c) (Fin.cons ⟨0, Nat.one_pos⟩ j) 2 (o := 0) (congrFun (k0_off1_eq c) 2)
  have s0 := emb_at (s := S1024x5632) off S1024x1408.size inb j 0 (o := 0) (congrFun ho 0)
  have s1 := emb_at (s := S1024x5632) off S1024x1408.size inb j 1 (o := 1408 * (d.val / 2)) (congrFun ho 1)
  have e0' : ((Rect.unit (s := S4x1024x1408) (k0_off1 c) S1x1024x1408.size (k0_off1_inb c)).emb (Fin.cons ⟨0, Nat.one_pos⟩ j) 0).val = 2 * (c.val / 4) + ((c.val / 2) % 2) + 0 := e0
  have e1' : ((Rect.unit (s := S4x1024x1408) (k0_off1 c) S1x1024x1408.size (k0_off1_inb c)).emb (Fin.cons ⟨0, Nat.one_pos⟩ j) 1).val = 0 + (j 0).val := e1
  have e2' : ((Rect.unit (s := S4x1024x1408) (k0_off1 c) S1x1024x1408.size (k0_off1_inb c)).emb (Fin.cons ⟨0, Nat.one_pos⟩ j) 2).val = 0 + (j 1).val := e2
  have hc : c.val < 8 := c.isLt
  have hr : Shape.reshapeEquiv squeezes_S1x1024x1408_S1024x1408.numel_eq j = (Fin.cons ⟨0, Nat.one_pos⟩ j) := Shape.reshapeEquiv_cons_one _ j
  show fin m d main_v1_0 ((Rect.unit (s := S4x1024x1408) (k0_off1 c) S1x1024x1408.size (k0_off1_inb c)).emb (Shape.reshapeEquiv squeezes_S1x1024x1408_S1024x1408.numel_eq j)) = _
  rw [hr]
  refine pick_congr m main_arg0 ?_ fun x => ?_
  · show 2 * ((Rect.unit (s := S4x1024x1408) (k0_off1 c) S1x1024x1408.size (k0_off1_inb c)).emb (Fin.cons ⟨0, Nat.one_pos⟩ j) 0).val + d.val % 2 = c.val
    rw [e0']; omega
  · fin_cases x
    · show ((Rect.unit (s := S4x1024x1408) (k0_off1 c) S1x1024x1408.size (k0_off1_inb c)).emb (Fin.cons ⟨0, Nat.one_pos⟩ j) 1).val = ((Rect.unit (s := S1024x5632) off S1024x1408.size inb).emb j 0).val
      rw [e1', s0]
    · show 1408 * (d.val / 2) + ((Rect.unit (s := S4x1024x1408) (k0_off1 c) S1x1024x1408.size (k0_off1_inb c)).emb (Fin.cons ⟨0, Nat.one_pos⟩ j) 2).val = ((Rect.unit (s := S1024x5632) off S1024x1408.size inb).emb j 1).val
      rw [e2', s1]; omega

theorem carry1 (c d : Dev nD) (hd : d.val % 2 = c.val % 2) (off : Fin 2 → ℕ) (inb : ∀ a, off a + S256x2048.size a ≤ S1024x2048.size a)
    (ho : off = ![256 * (d.val / 2), 0]) :
    (own c 1).dst.view.read Val (fin m d main_v1_1)
      = ((Memref.whole main_arg1).slice (Rect.unit (s := S1024x2048) off S256x2048.size inb) (fun _ => rfl)).view.read Val (m ((c.tc : Thread nD τ).loc main_arg1)) := by
  refine funext fun (j : S256x2048.Idx) => ?_
  have e0 := emb_at (s := S4x256x2048) (k0_off4 c) S1x256x2048.size (k0_off4_inb c) (Fin.cons ⟨0, Nat.one_pos⟩ j) 0 (o := 2 * (c.val / 4) + ((c.val / 2) % 2)) (congrFun (k0_off4_eq c) 0)
  have e1 := emb_at (s := S4x256x2048) (k0_off4 c) S1x256x2048.size (k0_off4_inb c) (Fin.cons ⟨0, Nat.one_pos⟩ j) 1 (o := 0) (congrFun (k0_off4_eq c) 1)
  have e2 := emb_at (s := S4x256x2048) (k0_off4 c) S1x256x2048.size (k0_off4_inb c) (Fin.cons ⟨0, Nat.one_pos⟩ j) 2 (o := 0) (congrFun (k0_off4_eq c) 2)
  have s0 := emb_at (s := S1024x2048) off S256x2048.size inb j 0 (o := 256 * (d.val / 2)) (congrFun ho 0)
  have s1 := emb_at (s := S1024x2048) off S256x2048.size inb j 1 (o := 0) (congrFun ho 1)
  have e0' : ((Rect.unit (s := S4x256x2048) (k0_off4 c) S1x256x2048.size (k0_off4_inb c)).emb (Fin.cons ⟨0, Nat.one_pos⟩ j) 0).val = 2 * (c.val / 4) + ((c.val / 2) % 2) + 0 := e0
  have e1' : ((Rect.unit (s := S4x256x2048) (k0_off4 c) S1x256x2048.size (k0_off4_inb c)).emb (Fin.cons ⟨0, Nat.one_pos⟩ j) 1).val = 0 + (j 0).val := e1
  have e2' : ((Rect.unit (s := S4x256x2048) (k0_off4 c) S1x256x2048.size (k0_off4_inb c)).emb (Fin.cons ⟨0, Nat.one_pos⟩ j) 2).val = 0 + (j 1).val := e2
  have hc : c.val < 8 := c.isLt
  have hr : Shape.reshapeEquiv squeezes_S1x256x2048_S256x2048.numel_eq j = (Fin.cons ⟨0, Nat.one_pos⟩ j) := Shape.reshapeEquiv_cons_one _ j
  show fin m d main_v1_1 ((Rect.unit (s := S4x256x2048) (k0_off4 c) S1x256x2048.size (k0_off4_inb c)).emb (Shape.reshapeEquiv squeezes_S1x256x2048_S256x2048.numel_eq j)) = _
  rw [hr]
  refine pick_congr m main_arg1 ?_ fun x => ?_
  · show 2 * ((Rect.unit (s := S4x256x2048) (k0_off4 c) S1x256x2048.size (k0_off4_inb c)).emb (Fin.cons ⟨0, Nat.one_pos⟩ j) 0).val + d.val % 2 = c.val
    rw [e0']; omega
  · fin_cases x
    · show 256 * (d.val / 2) + ((Rect.unit (s := S4x256x2048) (k0_off4 c) S1x256x2048.size (k0_off4_inb c)).emb (Fin.cons ⟨0, Nat.one_pos⟩ j) 1).val = ((Rect.unit (s := S1024x2048) off S256x2048.size inb).emb j 0).val
      rw [e1', s0]; omega
    · show ((Rect.unit (s := S4x256x2048) (k0_off4 c) S1x256x2048.size (k0_off4_inb c)).emb (Fin.cons ⟨0, Nat.one_pos⟩ j) 2).val = ((Rect.unit (s := S1024x2048) off S256x2048.size inb).emb j 1).val
      rw [e2', s1]

theorem carry2 (c d : Dev nD) (hd : d.val % 2 = c.val % 2) (off : Fin 2 → ℕ) (inb : ∀ a, off a + S1024x1536.size a ≤ S1024x6144.size a)
    (ho : off = ![0, 1536 * (d.val / 2)]) :
    (own c 2).dst.view.read Val (fin m d main_v1_2)
      = ((Memref.whole main_arg2).slice (Rect.unit (s := S1024x6144) off S1024x1536.size inb) (fun _ => rfl)).view.read Val (m ((c.tc : Thread nD τ).loc main_arg2)) := by
  refine funext fun (j : S1024x1536.Idx) => ?_
  have e0 := emb_at (s := S4x1024x1536) (k0_off7 c) S1x1024x1536.size (k0_off7_inb c) (Fin.cons ⟨0, Nat.one_pos⟩ j) 0 (o := 2 * (c.val / 4) + ((c.val / 2) % 2)) (congrFun (k0_off7_eq c) 0)
  have e1 := emb_at (s := S4x1024x1536) (k0_off7 c) S1x1024x1536.size (k0_off7_inb c) (Fin.cons ⟨0, Nat.one_pos⟩ j) 1 (o := 0) (congrFun (k0_off7_eq c) 1)
  have e2 := emb_at (s := S4x1024x1536) (k0_off7 c) S1x1024x1536.size (k0_off7_inb c) (Fin.cons ⟨0, Nat.one_pos⟩ j) 2 (o := 0) (congrFun (k0_off7_eq c) 2)
  have s0 := emb_at (s := S1024x6144) off S1024x1536.size inb j 0 (o := 0) (congrFun ho 0)
  have s1 := emb_at (s := S1024x6144) off S1024x1536.size inb j 1 (o := 1536 * (d.val / 2)) (congrFun ho 1)
  have e0' : ((Rect.unit (s := S4x1024x1536) (k0_off7 c) S1x1024x1536.size (k0_off7_inb c)).emb (Fin.cons ⟨0, Nat.one_pos⟩ j) 0).val = 2 * (c.val / 4) + ((c.val / 2) % 2) + 0 := e0
  have e1' : ((Rect.unit (s := S4x1024x1536) (k0_off7 c) S1x1024x1536.size (k0_off7_inb c)).emb (Fin.cons ⟨0, Nat.one_pos⟩ j) 1).val = 0 + (j 0).val := e1
  have e2' : ((Rect.unit (s := S4x1024x1536) (k0_off7 c) S1x1024x1536.size (k0_off7_inb c)).emb (Fin.cons ⟨0, Nat.one_pos⟩ j) 2).val = 0 + (j 1).val := e2
  have hc : c.val < 8 := c.isLt
  have hr : Shape.reshapeEquiv squeezes_S1x1024x1536_S1024x1536.numel_eq j = (Fin.cons ⟨0, Nat.one_pos⟩ j) := Shape.reshapeEquiv_cons_one _ j
  show fin m d main_v1_2 ((Rect.unit (s := S4x1024x1536) (k0_off7 c) S1x1024x1536.size (k0_off7_inb c)).emb (Shape.reshapeEquiv squeezes_S1x1024x1536_S1024x1536.numel_eq j)) = _
  rw [hr]
  refine pick_congr m main_arg2 ?_ fun x => ?_
  · show 2 * ((Rect.unit (s := S4x1024x1536) (k0_off7 c) S1x1024x1536.size (k0_off7_inb c)).emb (Fin.cons ⟨0, Nat.one_pos⟩ j) 0).val + d.val % 2 = c.val
    rw [e0']; omega
  · fin_cases x
    · show ((Rect.unit (s := S4x1024x1536) (k0_off7 c) S1x1024x1536.size (k0_off7_inb c)).emb (Fin.cons ⟨0, Nat.one_pos⟩ j) 1).val = ((Rect.unit (s := S1024x6144) off S1024x1536.size inb).emb j 0).val
      rw [e1', s0]
    · show 1536 * (d.val / 2) + ((Rect.unit (s := S4x1024x1536) (k0_off7 c) S1x1024x1536.size (k0_off7_inb c)).emb (Fin.cons ⟨0, Nat.one_pos⟩ j) 2).val = ((Rect.unit (s := S1024x6144) off S1024x1536.size inb).emb j 1).val
      rw [e2', s1]; omega

theorem carry3 (c d : Dev nD) (hd : d.val % 2 = c.val % 2) (off : Fin 2 → ℕ) (inb : ∀ a, off a + S256x2048.size a ≤ S1024x2048.size a)
    (ho : off = ![256 * (d.val / 2), 0]) :
    (own c 3).dst.view.read Val (fin m d main_v1_3)
      = ((Memref.whole main_arg3).slice (Rect.unit (s := S1024x2048) off S256x2048.size inb) (fun _ => rfl)).view.read Val (m ((c.tc : Thread nD τ).loc main_arg3)) := by
  refine funext fun (j : S256x2048.Idx) => ?_
  have e0 := emb_at (s := S4x256x2048) (k0_off4 c) S1x256x2048.size (k0_off4_inb c) (Fin.cons ⟨0, Nat.one_pos⟩ j) 0 (o := 2 * (c.val / 4) + ((c.val / 2) % 2)) (congrFun (k0_off4_eq c) 0)
  have e1 := emb_at (s := S4x256x2048) (k0_off4 c) S1x256x2048.size (k0_off4_inb c) (Fin.cons ⟨0, Nat.one_pos⟩ j) 1 (o := 0) (congrFun (k0_off4_eq c) 1)
  have e2 := emb_at (s := S4x256x2048) (k0_off4 c) S1x256x2048.size (k0_off4_inb c) (Fin.cons ⟨0, Nat.one_pos⟩ j) 2 (o := 0) (congrFun (k0_off4_eq c) 2)
  have s0 := emb_at (s := S1024x2048) off S256x2048.size inb j 0 (o := 256 * (d.val / 2)) (congrFun ho 0)
  have s1 := emb_at (s := S1024x2048) off S256x2048.size inb j 1 (o := 0) (congrFun ho 1)
  have e0' : ((Rect.unit (s := S4x256x2048) (k0_off4 c) S1x256x2048.size (k0_off4_inb c)).emb (Fin.cons ⟨0, Nat.one_pos⟩ j) 0).val = 2 * (c.val / 4) + ((c.val / 2) % 2) + 0 := e0
  have e1' : ((Rect.unit (s := S4x256x2048) (k0_off4 c) S1x256x2048.size (k0_off4_inb c)).emb (Fin.cons ⟨0, Nat.one_pos⟩ j) 1).val = 0 + (j 0).val := e1
  have e2' : ((Rect.unit (s := S4x256x2048) (k0_off4 c) S1x256x2048.size (k0_off4_inb c)).emb (Fin.cons ⟨0, Nat.one_pos⟩ j) 2).val = 0 + (j 1).val := e2
  have hc : c.val < 8 := c.isLt
  have hr : Shape.reshapeEquiv squeezes_S1x256x2048_S256x2048.numel_eq j = (Fin.cons ⟨0, Nat.one_pos⟩ j) := Shape.reshapeEquiv_cons_one _ j
  show fin m d main_v1_3 ((Rect.unit (s := S4x256x2048) (k0_off4 c) S1x256x2048.size (k0_off4_inb c)).emb (Shape.reshapeEquiv squeezes_S1x256x2048_S256x2048.numel_eq j)) = _
  rw [hr]
  refine pick_congr m main_arg3 ?_ fun x => ?_
  · show 2 * ((Rect.unit (s := S4x256x2048) (k0_off4 c) S1x256x2048.size (k0_off4_inb c)).emb (Fin.cons ⟨0, Nat.one_pos⟩ j) 0).val + d.val % 2 = c.val
    rw [e0']; omega
  · fin_cases x
    · show 256 * (d.val / 2) + ((Rect.unit (s := S4x256x2048) (k0_off4 c) S1x256x2048.size (k0_off4_inb c)).emb (Fin.cons ⟨0, Nat.one_pos⟩ j) 1).val = ((Rect.unit (s := S1024x2048) off S256x2048.size inb).emb j 0).val
      rw [e1', s0]; omega
    · show ((Rect.unit (s := S4x256x2048) (k0_off4 c) S1x256x2048.size (k0_off4_inb c)).emb (Fin.cons ⟨0, Nat.one_pos⟩ j) 2).val = ((Rect.unit (s := S1024x2048) off S256x2048.size inb).emb j 1).val
      rw [e2', s1]

theorem carriesOwn (c : Dev nD) (a : Fin 4) :
    (own c a).dst.view.read Val (fin m c (own c a).dst.view.ref) = (own c a).src.view.read Val (fin m c (own c a).src.view.ref) := by
  fin_cases a
  · exact carry0 m c c rfl (k0_off2 c) (k0_off2_inb c) ((k0_off2_eq c).trans (by rw [show 2816 * (c.val / 4) + 1408 * ((c.val / 2) % 2) = 1408 * (c.val / 2) by omega]))
  · exact carry1 m c c rfl (k0_off5 c) (k0_off5_inb c) ((k0_off5_eq c).trans (by rw [show 512 * (c.val / 4) + 256 * ((c.val / 2) % 2) = 256 * (c.val / 2) by omega]))
  · exact carry2 m c c rfl (k0_off8 c) (k0_off8_inb c) ((k0_off8_eq c).trans (by rw [show 3072 * (c.val / 4) + 1536 * ((c.val / 2) % 2) = 1536 * (c.val / 2) by omega]))
  · exact carry3 m c c rfl (k0_off5 c) (k0_off5_inb c) ((k0_off5_eq c).trans (by rw [show 512 * (c.val / 4) + 256 * ((c.val / 2) % 2) = 256 * (c.val / 2) by omega]))
theorem carriesSend (c : Dev nD) (j : Fin 3) (a : Fin 4) :
    (send c j a).dst.view.read Val (fin m (hop j c) (send c j a).dst.view.ref) = (send c j a).src.view.read Val (fin m c (send c j a).src.view.ref) := by
  fin_cases a
  · exact carry0 m c (hop j c) (hop_mod c j) (k0_off3 c (k0_off3_at j).1 (k0_off3_at j).2) (k0_off3_inb c j) (send0_eq c j)
  · exact carry1 m c (hop j c) (hop_mod c j) (k0_off6 c (k0_off6_at j).1 (k0_off6_at j).2) (k0_off6_inb c j) (send1_eq c j)
  · exact carry2 m c (hop j c) (hop_mod c j) (k0_off9 c (k0_off9_at j).1 (k0_off9_at j).2) (k0_off9_inb c j) (send2_eq c j)
  · exact carry3 m c (hop j c) (hop_mod c j) (k0_off6 c (k0_off6_at j).1 (k0_off6_at j).2) (k0_off6_inb c j) (send1_eq c j)

theorem fills : plan.Fills m (fin m) where
  arg c b hb := by
    have : b = main_arg0 ∨ b = main_arg1 ∨ b = main_arg2 ∨ b = main_arg3 := by revert b; decide
    rcases this with rfl | rfl | rfl | rfl <;> rfl
  carry c x := by
    rcases x with a | x
    exacts [carriesOwn m c a, carriesSend m c x.2 x.1]

end Final

/-- Every execution ends with these contents. -/
theorem run_main (m : (ℓ : Loc nD τ sig) → Buf (Elt F) ℓ) (g : Dev nD → PrngReg) :
    θ_run (defs (F := F)) (onTc (τ := τ) main) ⟨m, fun _ => 0, g⟩ (fun r => (∀ c, Reads (fin m) c r.2) ∧ r.2.sem = fun _ => 0) :=
  run plan sound cfgs (fun _ => inferInstanceAs (IsEmpty (Fin 0))) cellOf_inj N_0 defs₀
    (fun t c Q => by rw [show defs₀ (F := F) .tc (cfgs 0).body ((cfgs 0).bodyArgs t ((cfgs 0).slots t)) = _ from body_eq t _])
    (by decide) g (fills m) main (fun _ => rfl)

end Cert.ChipScatterRun

end
-- ==== Proof.ChipScatterClaims.lean ====
/- The claims of the scattering of the summed gradients over the chips. -/
module

public import proofs.«01_k».proof.Defs
public import proofs.«01_k».proof.Proof.ChipScatterRun
public import proofs.«01_k».proof.Proof.Gen.ChipScatter
public import proofs.«01_k».proof.Proof.Gen.ChipScatterRef
public import proofs.«01_k».proof.Proof.Gen.ChipScatterRefIdeal.Run
public import Idealize.ShloMosaic.Lib.Quiescent
public import Idealize.ShloMosaic.Lib.PointwiseCore

@[expose] public section

noncomputable section

namespace Cert.ChipScatterRun

open Idealize.ShloMosaic Idealize.ShloMosaic.TcCoe
open Idealize.SL Idealize.SL.Sem
open Cert.Exchange

variable {F : FTy → Type} [FloatOps F]

/-! ## Frames -/

theorem frame_ideal : Cert.quiescent_ChipScatterIdeal := fun m g _ =>
  (θ_run Cert.ChipScatterIdeal.defs _ _).mono (fun _ h => ⟨fun c => ⟨h.1 c _ rfl, h.1 c _ rfl, h.1 c _ rfl, h.1 c _ rfl⟩, h.2⟩) (run_main (F := Ideal) m g)

theorem frame_kernel : Cert.quiescent_ChipScatter := fun m g _ =>
  (θ_run Cert.ChipScatterIdeal.defs _ _).mono (fun _ h => ⟨fun c => ⟨h.1 c _ rfl, h.1 c _ rfl, h.1 c _ rfl, h.1 c _ rfl⟩, h.2⟩) (run_main (F := Bits) m g)

/-! ## The reference -/

/-- The devices of the same core, chip after chip: slot `q` of all the devices' results is of device `q / 4`, from chip `q % 4`.
    Columns: the row of that device's rows, the columns of the chip that keeps them. -/
def cols {α : Type} (n : ℕ) (N : ℕ) (hN : 4 * n = N) (w : (⟨2, ![8192, N]⟩ : Shape).Idx → α) : (⟨3, ![32, 1024, n]⟩ : Shape).Idx → α :=
  fun i => w (Shape.pair (d := ![8192, N])
    ⟨1024 * (2 * ((i 0).val % 4) + (i 0).val / 4 % 2) + (i 1).val, show _ < 8192 by have : (i 1).val < 1024 := (i 1).isLt; omega⟩
    ⟨n * ((i 0).val / 8) + (i 2).val, show _ < N by
      have h0 : (i 0).val < 32 := (i 0).isLt
      have h2 : (i 2).val < n := (i 2).isLt
      have := Nat.mul_le_mul_left n (show (i 0).val / 8 ≤ 3 by omega)
      omega⟩)

/-- Rows: of that device's rows, those of the chip that keeps them. -/
def rows {α : Type} (w : (⟨2, ![8192, 2048]⟩ : Shape).Idx → α) : (⟨3, ![32, 256, 2048]⟩ : Shape).Idx → α :=
  fun i => w (Shape.pair (d := ![8192, 2048])
    ⟨1024 * (2 * ((i 0).val % 4) + (i 0).val / 4 % 2) + 256 * ((i 0).val / 8) + (i 1).val, show _ < 8192 by
      have h0 : (i 0).val < 32 := (i 0).isLt
      have h1 : (i 1).val < 256 := (i 1).isLt
      omega⟩ (i 2))

section Reference
open Cert.ChipScatterRefIdeal

theorem cols0_apply {α : Type} (w : S8192x5632.Idx → α) (h1 : S8192x5632.ShapeCasts S4x2x1024x4x1408)
    (h2 : S4x2x1024x4x1408.Transposes [3, 1, 0, 2, 4] S4x2x4x1024x1408) (h3 : S4x2x4x1024x1408.ShapeCasts S32x1024x1408) (i : S32x1024x1408.Idx) :
    shapeCast S32x1024x1408 (transpose S4x2x4x1024x1408 [3, 1, 0, 2, 4] (shapeCast S4x2x1024x4x1408 w h1) h2) h3 i = cols 1408 5632 rfl w i := by
  generalize hk : cols 1408 5632 rfl w i = z
  pointwise
  rw [← hk]
  refine at_ix2 _ _ _ _ ?_ ?_
  · show _ = 1024 * (2 * ((i 0).val % 4) + (i 0).val / 4 % 2) + (i 1).val
    dsimp only
    omega
  · show _ = 1408 * ((i 0).val / 8) + (i 2).val
    dsimp only
    omega

theorem cols2_apply {α : Type} (w : S8192x6144.Idx → α) (h1 : S8192x6144.ShapeCasts S4x2x1024x4x1536)
    (h2 : S4x2x1024x4x1536.Transposes [3, 1, 0, 2, 4] S4x2x4x1024x1536) (h3 : S4x2x4x1024x1536.ShapeCasts S32x1024x1536) (i : S32x1024x1536.Idx) :
    shapeCast S32x1024x1536 (transpose S4x2x4x1024x1536 [3, 1, 0, 2, 4] (shapeCast S4x2x1024x4x1536 w h1) h2) h3 i = cols 1536 6144 rfl w i := by
  generalize hk : cols 1536 6144 rfl w i = z
  pointwise
  rw [← hk]
  refine at_ix2 _ _ _ _ ?_ ?_
  · show _ = 1024 * (2 * ((i 0).val % 4) + (i 0).val / 4 % 2) + (i 1).val
    dsimp only
    omega
  · show _ = 1536 * ((i 0).val / 8) + (i 2).val
    dsimp only
    omega

theorem rows_apply {α : Type} (w : S8192x2048.Idx → α) (h1 : S8192x2048.ShapeCasts S4x2x4x256x2048)
    (h2 : S4x2x4x256x2048.Transposes [2, 1, 0, 3, 4] S4x2x4x256x2048) (h3 : S4x2x4x256x2048.ShapeCasts S32x256x2048) (i : S32x256x2048.Idx) :
    shapeCast S32x256x2048 (transpose S4x2x4x256x2048 [2, 1, 0, 3, 4] (shapeCast S4x2x4x256x2048 w h1) h2) h3 i = rows w i := by
  generalize hk : rows w i = z
  pointwise
  rw [← hk]
  refine at_ix2 _ _ _ _ ?_ rfl
  show _ = 1024 * (2 * ((i 0).val % 4) + (i 0).val / 4 % 2) + 256 * ((i 0).val / 8) + (i 1).val
  dsimp only
  omega

/-- What the reference computes, every place. -/
theorem run_ref (m : (ℓ : Loc nD τ sig) → Buf (Elt F) ℓ) (g : Dev nD → PrngReg) :
    θ_run (defs (F := F)) (onTc (τ := τ) main) ⟨m, fun _ => 0, g⟩
      (fun r => (∀ c : Dev nD,
        (r.2.mem ((c.tc : Thread nD τ).loc main_v2) = cols 1408 5632 rfl (m ((c.tc : Thread nD τ).loc main_arg0))
          ∧ r.2.mem ((c.tc : Thread nD τ).loc main_v5) = rows (m ((c.tc : Thread nD τ).loc main_arg1))
          ∧ r.2.mem ((c.tc : Thread nD τ).loc main_v8) = cols 1536 6144 rfl (m ((c.tc : Thread nD τ).loc main_arg2))
          ∧ r.2.mem ((c.tc : Thread nD τ).loc main_v11) = rows (m ((c.tc : Thread nD τ).loc main_arg3)))
          ∧ r.2.mem ((c.tc : Thread nD τ).loc main_arg0) = m ((c.tc : Thread nD τ).loc main_arg0)
          ∧ r.2.mem ((c.tc : Thread nD τ).loc main_arg1) = m ((c.tc : Thread nD τ).loc main_arg1)
          ∧ r.2.mem ((c.tc : Thread nD τ).loc main_arg2) = m ((c.tc : Thread nD τ).loc main_arg2)
          ∧ r.2.mem ((c.tc : Thread nD τ).loc main_arg3) = m ((c.tc : Thread nD τ).loc main_arg3)) ∧ r.2.sem = fun _ => 0) := by
  refine (θ_run defs _ _).mono (fun r h => ⟨fun c => ?_, sem_eq_zero_of_no_sems rfl r.2⟩) (Value.run m g)
  obtain ⟨h0, h1, h2, h3, ha⟩ := h c
  refine ⟨⟨h0.trans (funext fun i => ?_), h1.trans (funext fun i => ?_), h2.trans (funext fun i => ?_), h3.trans (funext fun i => ?_)⟩, ha⟩
  · exact cols0_apply _ _ _ _ i
  · exact rows_apply _ _ _ _ i
  · exact cols2_apply _ _ _ _ i
  · exact rows_apply _ _ _ _ i

end Reference

theorem frame_ref_ideal : Cert.quiescent_ChipScatterRefIdeal := fun m g _ =>
  (θ_run Cert.ChipScatterRefIdeal.defs _ _).mono (fun _ h => ⟨fun c => (h.1 c).2, h.2⟩) (run_ref (F := Ideal) m g)

theorem frame_ref : Cert.quiescent_ChipScatterRef := fun m g _ =>
  (θ_run Cert.ChipScatterRefIdeal.defs _ _).mono (fun _ h => ⟨fun c => (h.1 c).2, h.2⟩) (run_ref (F := Bits) m g)

/-! ## The values -/

section Values
open Cert.ChipScatterIdeal

variable {Val : EltTy → Type} (m : (ℓ : Loc nD τ sig) → Buf Val ℓ)

theorem value0 (w : (⟨2, ![8192, 5632]⟩ : Shape).Idx → Val .f32)
    (hw : ∀ c : Dev nD, m ((c.tc : Thread nD τ).loc main_arg0) = Layout.block ⟨2, ![1024, 5632]⟩ ⟨2, ![8192, 5632]⟩ 0 8 c w)
    (c : Dev nD) : fin m c main_v1_0 = Layout.block ⟨3, ![4, 1024, 1408]⟩ ⟨3, ![32, 1024, 1408]⟩ 0 8 c (cols 1408 5632 rfl w) := by
  refine funext fun (i : main_v1_0.ty.Idx) => ?_
  have h0 : (i 0).val < 4 := (i 0).isLt
  have hc : c.val < 8 := c.isLt
  show m _ _ = _
  rw [hw]
  refine at_congr w fun a => ?_
  fin_cases a
  · show (2 * (i 0).val + c.val % 2) * 1024 + (i 1).val = 1024 * (2 * ((c.val * 4 + (i 0).val) % 4) + (c.val * 4 + (i 0).val) / 4 % 2) + (i 1).val
    omega
  · show 1408 * (c.val / 2) + (i 2).val = 1408 * ((c.val * 4 + (i 0).val) / 8) + (i 2).val
    omega

theorem value1 (w : (⟨2, ![8192, 2048]⟩ : Shape).Idx → Val .f32)
    (hw : ∀ c : Dev nD, m ((c.tc : Thread nD τ).loc main_arg1) = Layout.block ⟨2, ![1024, 2048]⟩ ⟨2, ![8192, 2048]⟩ 0 8 c w)
    (c : Dev nD) : fin m c main_v1_1 = Layout.block ⟨3, ![4, 256, 2048]⟩ ⟨3, ![32, 256, 2048]⟩ 0 8 c (rows w) := by
  refine funext fun (i : main_v1_1.ty.Idx) => ?_
  have h0 : (i 0).val < 4 := (i 0).isLt
  have hc : c.val < 8 := c.isLt
  show m _ _ = _
  rw [hw]
  refine at_congr w fun a => ?_
  fin_cases a
  · show (2 * (i 0).val + c.val % 2) * 1024 + (256 * (c.val / 2) + (i 1).val) = 1024 * (2 * ((c.val * 4 + (i 0).val) % 4) + (c.val * 4 + (i 0).val) / 4 % 2) + 256 * ((c.val * 4 + (i 0).val) / 8) + (i 1).val
    omega
  · rfl

theorem value2 (w : (⟨2, ![8192, 6144]⟩ : Shape).Idx → Val .f32)
    (hw : ∀ c : Dev nD, m ((c.tc : Thread nD τ).loc main_arg2) = Layout.block ⟨2, ![1024, 6144]⟩ ⟨2, ![8192, 6144]⟩ 0 8 c w)
    (c : Dev nD) : fin m c main_v1_2 = Layout.block ⟨3, ![4, 1024, 1536]⟩ ⟨3, ![32, 1024, 1536]⟩ 0 8 c (cols 1536 6144 rfl w) := by
  refine funext fun (i : main_v1_2.ty.Idx) => ?_
  have h0 : (i 0).val < 4 := (i 0).isLt
  have hc : c.val < 8 := c.isLt
  show m _ _ = _
  rw [hw]
  refine at_congr w fun a => ?_
  fin_cases a
  · show (2 * (i 0).val + c.val % 2) * 1024 + (i 1).val = 1024 * (2 * ((c.val * 4 + (i 0).val) % 4) + (c.val * 4 + (i 0).val) / 4 % 2) + (i 1).val
    omega
  · show 1536 * (c.val / 2) + (i 2).val = 1536 * ((c.val * 4 + (i 0).val) / 8) + (i 2).val
    omega

theorem value3 (w : (⟨2, ![8192, 2048]⟩ : Shape).Idx → Val .f32)
    (hw : ∀ c : Dev nD, m ((c.tc : Thread nD τ).loc main_arg3) = Layout.block ⟨2, ![1024, 2048]⟩ ⟨2, ![8192, 2048]⟩ 0 8 c w)
    (c : Dev nD) : fin m c main_v1_3 = Layout.block ⟨3, ![4, 256, 2048]⟩ ⟨3, ![32, 256, 2048]⟩ 0 8 c (rows w) := by
  refine funext fun (i : main_v1_3.ty.Idx) => ?_
  have h0 : (i 0).val < 4 := (i 0).isLt
  have hc : c.val < 8 := c.isLt
  show m _ _ = _
  rw [hw]
  refine at_congr w fun a => ?_
  fin_cases a
  · show (2 * (i 0).val + c.val % 2) * 1024 + (256 * (c.val / 2) + (i 1).val) = 1024 * (2 * ((c.val * 4 + (i 0).val) % 4) + (c.val * 4 + (i 0).val) / 4 % 2) + 256 * ((c.val * 4 + (i 0).val) / 8) + (i 1).val
    omega
  · rfl

end Values

theorem values_ideal : Cert.algebraic_ChipScatterIdeal_ChipScatterRefIdeal := fun m g m' g' _ hm =>
  ⟨_, _, _, _,
    (θ_run Cert.ChipScatterIdeal.defs _ _).mono (fun _ h c =>
      ⟨(h.1 c _ rfl).trans (value0 m _ (fun c => (hm c).1) c),
        (h.1 c _ rfl).trans (value1 m _ (fun c => (hm c).2.1) c),
        (h.1 c _ rfl).trans (value2 m _ (fun c => (hm c).2.2.1) c),
        (h.1 c _ rfl).trans (value3 m _ (fun c => (hm c).2.2.2) c),
        h.1 c _ rfl, h.1 c _ rfl, h.1 c _ rfl, h.1 c _ rfl⟩) (run_main (F := Ideal) m g),
    (θ_run Cert.ChipScatterRefIdeal.defs _ _).mono (fun _ h => ⟨(h.1 0).1.1, (h.1 0).1.2.1, (h.1 0).1.2.2.1, (h.1 0).1.2.2.2,
      (h.1 0).2.1, (h.1 0).2.2.1, (h.1 0).2.2.2.1, (h.1 0).2.2.2.2⟩) (run_ref (F := Ideal) m' g')⟩

theorem values_kernel : Cert.bitexact_ChipScatter_ChipScatterRef := fun m g m' g' _ hm =>
  ⟨_, _, _, _,
    (θ_run Cert.ChipScatterIdeal.defs _ _).mono (fun _ h c =>
      ⟨(h.1 c _ rfl).trans (value0 m _ (fun c => (hm c).1) c),
        (h.1 c _ rfl).trans (value1 m _ (fun c => (hm c).2.1) c),
        (h.1 c _ rfl).trans (value2 m _ (fun c => (hm c).2.2.1) c),
        (h.1 c _ rfl).trans (value3 m _ (fun c => (hm c).2.2.2) c),
        h.1 c _ rfl, h.1 c _ rfl, h.1 c _ rfl, h.1 c _ rfl⟩) (run_main (F := Bits) m g),
    (θ_run Cert.ChipScatterRefIdeal.defs _ _).mono (fun _ h => ⟨(h.1 0).1.1, (h.1 0).1.2.1, (h.1 0).1.2.2.1, (h.1 0).1.2.2.2,
      (h.1 0).2.1, (h.1 0).2.2.1, (h.1 0).2.2.2.1, (h.1 0).2.2.2.2⟩) (run_ref (F := Bits) m' g')⟩

end Cert.ChipScatterRun

end
-- ==== Proof.GatherWeightsRun.lean ====
/- The gathering of the weights onto every device: its table, and what every device ends with. -/
module

public import proofs.«01_k».proof.Proof.Geometry
public import proofs.«01_k».proof.Proof.Gen.GatherWeightsIdeal.Frame

@[expose] public section

noncomputable section

namespace Cert.GatherWeightsRun

open Idealize.ShloMosaic Idealize.ShloMosaic.TcCoe
open Idealize.SL Idealize.SL.Sem
open Cert.Exchange Cert.GatherWeightsIdeal Cert.GatherWeightsIdeal.Gen

variable {F : FTy → Type} [FloatOps F]

/-! ## The table -/

/-- Each array, a device's shard into its place of the whole. -/
def own (c : Dev nD) : Fin 4 → Move sig
  | 0 => ⟨_, _, Memref.whole main_arg0, (Memref.whole main_v1_0).slice (Rect.unit (s := S2048x5632) (k0_off1 c) S2048x1408.size (k0_off1_inb c)) (fun _ => rfl),
      (Memref.isWhole_whole _).wordExact, (Memref.isWhole_whole _).wordExact_slice rfl _ (k0_off1_wordsbf16 c)⟩
  | 1 => ⟨_, _, Memref.whole main_arg1, (Memref.whole main_v1_1).slice (Rect.unit (s := S2048x2048) (k0_off4 c) S512x2048.size (k0_off4_inb c)) (fun _ => rfl),
      (Memref.isWhole_whole _).wordExact, (Memref.isWhole_whole _).wordExact_slice rfl _ (k0_off4_wordsbf16 c)⟩
  | 2 => ⟨_, _, Memref.whole main_arg2, (Memref.whole main_v1_2).slice (Rect.unit (s := S2048x6144) (k0_off7 c) S2048x1536.size (k0_off7_inb c)) (fun _ => rfl),
      (Memref.isWhole_whole _).wordExact, (Memref.isWhole_whole _).wordExact_slice rfl _ (k0_off7_wordsbf16 c)⟩
  | 3 => ⟨_, _, Memref.whole main_arg3, (Memref.whole main_v1_3).slice (Rect.unit (s := S2048x2048) (k0_off4 c) S512x2048.size (k0_off4_inb c)) (fun _ => rfl),
      (Memref.isWhole_whole _).wordExact, (Memref.isWhole_whole _).wordExact_slice rfl _ (k0_off4_wordsbf16 c)⟩

/-- Each array, the half of a device's shard that it sends to another chip. -/
def direct (c : Dev nD) : Fin 4 → Move sig
  | 0 => ⟨_, _, (Memref.whole main_arg0).slice (Rect.unit (s := S2048x1408) (k0_off3 c) S1024x1408.size (k0_off3_inb c)) (fun _ => rfl),
      (Memref.whole main_v1_0).slice (Rect.unit (s := S2048x5632) (k0_off2 c) S1024x1408.size (k0_off2_inb c)) (fun _ => rfl),
      (Memref.isWhole_whole _).wordExact_slice rfl _ (k0_off3_wordsbf16 c), (Memref.isWhole_whole _).wordExact_slice rfl _ (k0_off2_wordsbf16 c)⟩
  | 1 => ⟨_, _, (Memref.whole main_arg1).slice (Rect.unit (s := S512x2048) (k0_off6 c) S256x2048.size (k0_off6_inb c)) (fun _ => rfl),
      (Memref.whole main_v1_1).slice (Rect.unit (s := S2048x2048) (k0_off5 c) S256x2048.size (k0_off5_inb c)) (fun _ => rfl),
      (Memref.isWhole_whole _).wordExact_slice rfl _ (k0_off6_wordsbf16 c), (Memref.isWhole_whole _).wordExact_slice rfl _ (k0_off5_wordsbf16 c)⟩
  | 2 => ⟨_, _, (Memref.whole main_arg2).slice (Rect.unit (s := S2048x1536) (k0_off9 c) S1024x1536.size (k0_off9_inb c)) (fun _ => rfl),
      (Memref.whole main_v1_2).slice (Rect.unit (s := S2048x6144) (k0_off8 c) S1024x1536.size (k0_off8_inb c)) (fun _ => rfl),
      (Memref.isWhole_whole _).wordExact_slice rfl _ (k0_off9_wordsbf16 c), (Memref.isWhole_whole _).wordExact_slice rfl _ (k0_off8_wordsbf16 c)⟩
  | 3 => ⟨_, _, (Memref.whole main_arg3).slice (Rect.unit (s := S512x2048) (k0_off6 c) S256x2048.size (k0_off6_inb c)) (fun _ => rfl),
      (Memref.whole main_v1_3).slice (Rect.unit (s := S2048x2048) (k0_off5 c) S256x2048.size (k0_off5_inb c)) (fun _ => rfl),
      (Memref.isWhole_whole _).wordExact_slice rfl _ (k0_off6_wordsbf16 c), (Memref.isWhole_whole _).wordExact_slice rfl _ (k0_off5_wordsbf16 c)⟩

/-- Each array, the half that came from another chip, as it is passed on to the sibling. -/
def relay (c : Dev nD) (j : Fin 3) : Fin 4 → Move sig
  | 0 => ⟨_, _, (Memref.whole main_v1_0).slice (Rect.unit (s := S2048x5632) (k0_off10 c (k0_off10_at j).1 (k0_off10_at j).2) S1024x1408.size (k0_off10_inb c j)) (fun _ => rfl),
      (Memref.whole main_v1_0).slice (Rect.unit (s := S2048x5632) (k0_off10 c (k0_off10_at j).1 (k0_off10_at j).2) S1024x1408.size (k0_off10_inb c j)) (fun _ => rfl), (Memref.isWhole_whole _).wordExact_slice rfl _ (k0_off10_wordsbf16 c j), (Memref.isWhole_whole _).wordExact_slice rfl _ (k0_off10_wordsbf16 c j)⟩
  | 1 => ⟨_, _, (Memref.whole main_v1_1).slice (Rect.unit (s := S2048x2048) (k0_off11 c (k0_off11_at j).1 (k0_off11_at j).2) S256x2048.size (k0_off11_inb c j)) (fun _ => rfl),
      (Memref.whole main_v1_1).slice (Rect.unit (s := S2048x2048) (k0_off11 c (k0_off11_at j).1 (k0_off11_at j).2) S256x2048.size (k0_off11_inb c j)) (fun _ => rfl), (Memref.isWhole_whole _).wordExact_slice rfl _ (k0_off11_wordsbf16 c j), (Memref.isWhole_whole _).wordExact_slice rfl _ (k0_off11_wordsbf16 c j)⟩
  | 2 => ⟨_, _, (Memref.whole main_v1_2).slice (Rect.unit (s := S2048x6144) (k0_off12 c (k0_off12_at j).1 (k0_off12_at j).2) S1024x1536.size (k0_off12_inb c j)) (fun _ => rfl),
      (Memref.whole main_v1_2).slice (Rect.unit (s := S2048x6144) (k0_off12 c (k0_off12_at j).1 (k0_off12_at j).2) S1024x1536.size (k0_off12_inb c j)) (fun _ => rfl), (Memref.isWhole_whole _).wordExact_slice rfl _ (k0_off12_wordsbf16 c j), (Memref.isWhole_whole _).wordExact_slice rfl _ (k0_off12_wordsbf16 c j)⟩
  | 3 => ⟨_, _, (Memref.whole main_v1_3).slice (Rect.unit (s := S2048x2048) (k0_off11 c (k0_off11_at j).1 (k0_off11_at j).2) S256x2048.size (k0_off11_inb c j)) (fun _ => rfl),
      (Memref.whole main_v1_3).slice (Rect.unit (s := S2048x2048) (k0_off11 c (k0_off11_at j).1 (k0_off11_at j).2) S256x2048.size (k0_off11_inb c j)) (fun _ => rfl), (Memref.isWhole_whole _).wordExact_slice rfl _ (k0_off11_wordsbf16 c j), (Memref.isWhole_whole _).wordExact_slice rfl _ (k0_off11_wordsbf16 c j)⟩

/-- Each array, the half that the sibling passes on, as it arrives. -/
def late (c : Dev nD) (j : Fin 3) : Fin 4 → Move sig
  | 0 => ⟨_, _, (Memref.whole main_v1_0).slice (Rect.unit (s := S2048x5632) (k0_off13 c (k0_off13_at j).1 (k0_off13_at j).2) S1024x1408.size (k0_off13_inb c j)) (fun _ => rfl),
      (Memref.whole main_v1_0).slice (Rect.unit (s := S2048x5632) (k0_off13 c (k0_off13_at j).1 (k0_off13_at j).2) S1024x1408.size (k0_off13_inb c j)) (fun _ => rfl), (Memref.isWhole_whole _).wordExact_slice rfl _ (k0_off13_wordsbf16 c j), (Memref.isWhole_whole _).wordExact_slice rfl _ (k0_off13_wordsbf16 c j)⟩
  | 1 => ⟨_, _, (Memref.whole main_v1_1).slice (Rect.unit (s := S2048x2048) (k0_off14 c (k0_off14_at j).1 (k0_off14_at j).2) S256x2048.size (k0_off14_inb c j)) (fun _ => rfl),
      (Memref.whole main_v1_1).slice (Rect.unit (s := S2048x2048) (k0_off14 c (k0_off14_at j).1 (k0_off14_at j).2) S256x2048.size (k0_off14_inb c j)) (fun _ => rfl), (Memref.isWhole_whole _).wordExact_slice rfl _ (k0_off14_wordsbf16 c j), (Memref.isWhole_whole _).wordExact_slice rfl _ (k0_off14_wordsbf16 c j)⟩
  | 2 => ⟨_, _, (Memref.whole main_v1_2).slice (Rect.unit (s := S2048x6144) (k0_off15 c (k0_off15_at j).1 (k0_off15_at j).2) S1024x1536.size (k0_off15_inb c j)) (fun _ => rfl),
      (Memref.whole main_v1_2).slice (Rect.unit (s := S2048x6144) (k0_off15 c (k0_off15_at j).1 (k0_off15_at j).2) S1024x1536.size (k0_off15_inb c j)) (fun _ => rfl), (Memref.isWhole_whole _).wordExact_slice rfl _ (k0_off15_wordsbf16 c j), (Memref.isWhole_whole _).wordExact_slice rfl _ (k0_off15_wordsbf16 c j)⟩
  | 3 => ⟨_, _, (Memref.whole main_v1_3).slice (Rect.unit (s := S2048x2048) (k0_off14 c (k0_off14_at j).1 (k0_off14_at j).2) S256x2048.size (k0_off14_inb c j)) (fun _ => rfl),
      (Memref.whole main_v1_3).slice (Rect.unit (s := S2048x2048) (k0_off14 c (k0_off14_at j).1 (k0_off14_at j).2) S256x2048.size (k0_off14_inb c j)) (fun _ => rfl), (Memref.isWhole_whole _).wordExact_slice rfl _ (k0_off14_wordsbf16 c j), (Memref.isWhole_whole _).wordExact_slice rfl _ (k0_off14_wordsbf16 c j)⟩

theorem sem1_inb (a : Fin 4) : ∀ i, (![a.val] : Fin 1 → ℕ) i + S1.size i ≤ S4.size i := by revert a; decide
def sem1 (A : DmaSems sig S4) (a : Fin 4) : DmaSem sig :=
  ((A.slice (Rect.unit (s := S4) ![a.val] S1.size (sem1_inb a))).squeeze S_ squeezes_S1_S_).sem
theorem sem2_inb (a : Fin 4) (k : Fin 6) : ∀ i, (![a.val, k.val] : Fin 2 → ℕ) i + S1x1.size i ≤ S4x6.size i := by revert a k; decide
def sem2 (A : DmaSems sig S4x6) (a : Fin 4) (k : Fin 6) : DmaSem sig :=
  ((A.slice (Rect.unit (s := S4x6) ![a.val, k.val] S1x1.size (sem2_inb a k))).squeeze S_ squeezes_S1x1_S_).sem

/-- Array and direction. -/
abbrev I := Fin 4 × Fin 3
/-- What is sent between chips, and what is passed on inside one. -/
abbrev R := I ⊕ I

/-- The column of the semaphore arrays. -/
def col : R → Fin 6
  | .inl x => ⟨x.2.val, by omega⟩
  | .inr x => ⟨3 + x.2.val, by omega⟩
def row : R → Fin 4
  | .inl x => x.1
  | .inr x => x.1

/-- The targets as the kernel computes them. -/
def aimDirect (c : Dev nD) : I → Dev nD
  | (0, 0) => ⟨k0_dev1 c, k0_dev1_lt c⟩ | (0, 1) => ⟨k0_dev2 c, k0_dev2_lt c⟩ | (0, 2) => ⟨k0_dev3 c, k0_dev3_lt c⟩
  | (1, 0) => ⟨k0_dev4 c, k0_dev4_lt c⟩ | (1, 1) => ⟨k0_dev5 c, k0_dev5_lt c⟩ | (1, 2) => ⟨k0_dev6 c, k0_dev6_lt c⟩
  | (2, 0) => ⟨k0_dev7 c, k0_dev7_lt c⟩ | (2, 1) => ⟨k0_dev8 c, k0_dev8_lt c⟩ | (2, 2) => ⟨k0_dev9 c, k0_dev9_lt c⟩
  | (3, 0) => ⟨k0_dev10 c, k0_dev10_lt c⟩ | (3, 1) => ⟨k0_dev11 c, k0_dev11_lt c⟩ | (3, 2) => ⟨k0_dev12 c, k0_dev12_lt c⟩
def aimRelay (c : Dev nD) : I → Dev nD
  | (0, 0) => ⟨k0_dev13 c, k0_dev13_lt c⟩ | (0, 1) => ⟨k0_dev14 c, k0_dev14_lt c⟩ | (0, 2) => ⟨k0_dev15 c, k0_dev15_lt c⟩
  | (1, 0) => ⟨k0_dev16 c, k0_dev16_lt c⟩ | (1, 1) => ⟨k0_dev17 c, k0_dev17_lt c⟩ | (1, 2) => ⟨k0_dev18 c, k0_dev18_lt c⟩
  | (2, 0) => ⟨k0_dev19 c, k0_dev19_lt c⟩ | (2, 1) => ⟨k0_dev20 c, k0_dev20_lt c⟩ | (2, 2) => ⟨k0_dev21 c, k0_dev21_lt c⟩
  | (3, 0) => ⟨k0_dev22 c, k0_dev22_lt c⟩ | (3, 1) => ⟨k0_dev23 c, k0_dev23_lt c⟩ | (3, 2) => ⟨k0_dev24 c, k0_dev24_lt c⟩

/-- The other core of the chip. -/
def sib (c : Dev nD) : Dev nD := ⟨c.val + 1 - 2 * (c.val % 2), by have := c.isLt; unfold nD at *; omega⟩

/-- The same core of the chip in a direction: along the first axis, along the second, along both. -/
def hop (j : Fin 3) (c : Dev nD) : Dev nD :=
  ⟨4 * ((c.val / 4 + (1 - j.val % 2)) % 2) + 2 * ((c.val / 2 + (j.val + 1) / 2) % 2) + c.val % 2, by have := c.isLt; unfold nD at *; omega⟩

def all4 : List (Fin 4) := [0, 1, 2, 3]
def all3 : List (Fin 3) := [0, 1, 2]
def allI : List I := all4.flatMap fun a => all3.map fun j => (a, j)

def plan : Plan nD sig (Fin 4) R where
  move c x := match x with
    | .inl a => own c a
    | .inr (.inl x) => direct c x.1
    | .inr (.inr x) => relay c x.2 x.1
  wait c k := match k with
    | .inl a => own c a
    | .inr (.inl (.inl x)) => relay c x.2 x.1
    | .inr (.inl (.inr x)) => late c x.2 x.1
    | .inr (.inr (.inl x)) => (direct c x.1).back
    | .inr (.inr (.inr x)) => (relay c x.2 x.1).back
  aim c r := match r with
    | .inl x => aimDirect c x
    | .inr x => aimRelay c x
  peer r c := match r with
    | .inl x => hop x.2 c
    | .inr _ => sib c
  sem k := match k with
    | .inl a => sem1 cc0_scratch2 a
    | .inr (.inl r) => sem2 cc0_scratch1 (row r) (col r)
    | .inr (.inr r) => sem2 cc0_scratch0 (row r) (col r)
  credit x := match x with
    | .inl a => (own 0 a).dst.view.dmaCredit
    | .inr r => (direct 0 (row r)).dst.view.dmaCredit
  level r := match r with
    | .inl _ => 0
    | .inr _ => 1
  first x := match x with
    | .inr (.inr _) => false
    | _ => true
  next r := match r with
    | .inl x => some (.inr x)
    | .inr _ => none
  script := (all4.flatMap fun a => .start (.inl a) :: all3.map fun j => .start (.inr (.inl (a, j))))
    ++ (allI.flatMap fun x => [.wait (.inr (.inl (.inl x))), .start (.inr (.inr x))])
    ++ (allI.map fun x => .wait (.inr (.inl (.inr x))))
    ++ (allI.map fun x => .wait (.inr (.inr (.inl x))))
    ++ (allI.map fun x => .wait (.inr (.inr (.inr x))))
    ++ (all4.map fun a => .wait (.inl a))
  args := {main_arg0, main_arg1, main_arg2, main_arg3}

set_option maxRecDepth 65536 in
/-- The kernel's body is the table's instructions. -/
theorem body_eq (t : Fin grid0.N) (s) : defs₀ (F := F) .tc 0 (t, s) = .op .deviceId fun d => seq (plan.script.map (plan.op d)) := rfl

/-! ## What the table satisfies -/

/-- Where the passed-on halves are. -/
theorem relay0_eq : ∀ (c : Dev nD) (j : Fin 3), k0_off10 c (k0_off10_at j).1 (k0_off10_at j).2 = ![1024 * (c.val % 2), 1408 * ((hop j c).val / 2)] := by decide +kernel
theorem relay1_eq : ∀ (c : Dev nD) (j : Fin 3), k0_off11 c (k0_off11_at j).1 (k0_off11_at j).2 = ![512 * ((hop j c).val / 2) + 256 * (c.val % 2), 0] := by decide +kernel
theorem relay2_eq : ∀ (c : Dev nD) (j : Fin 3), k0_off12 c (k0_off12_at j).1 (k0_off12_at j).2 = ![1024 * (c.val % 2), 1536 * ((hop j c).val / 2)] := by decide +kernel

/-- The box of chip `k`'s shard, and of its half `h`. -/
def shardBox (k : ℕ) : Fin 4 → Box sig
  | 0 => ⟨main_v1_0, [(0, 2048), (1408 * k, 1408)]⟩
  | 1 => ⟨main_v1_1, [(512 * k, 512), (0, 2048)]⟩
  | 2 => ⟨main_v1_2, [(0, 2048), (1536 * k, 1536)]⟩
  | 3 => ⟨main_v1_3, [(512 * k, 512), (0, 2048)]⟩
def halfBox (k h : ℕ) : Fin 4 → Box sig
  | 0 => ⟨main_v1_0, [(1024 * h, 1024), (1408 * k, 1408)]⟩
  | 1 => ⟨main_v1_1, [(512 * k + 256 * h, 256), (0, 2048)]⟩
  | 2 => ⟨main_v1_2, [(1024 * h, 1024), (1536 * k, 1536)]⟩
  | 3 => ⟨main_v1_3, [(512 * k + 256 * h, 256), (0, 2048)]⟩
def boxOf (c : Dev nD) : Xfer (Fin 4) R → Box sig
  | .inl a => shardBox (c.val / 2) a
  | .inr (.inl x) => halfBox ((hop x.2 c).val / 2) (c.val % 2) x.1
  | .inr (.inr x) => halfBox ((hop x.2 (sib c)).val / 2) ((sib c).val % 2) x.1

theorem boxed_own (c : Dev nD) (a : Fin 4) : Boxed (own c a).dst.view (shardBox (c.val / 2) a) := by
  fin_cases a
  · exact boxed_slice main_v1_0 _ _ _ (fun _ => rfl) _ (by rw [k0_off1_eq]; decide +revert)
  · exact boxed_slice main_v1_1 _ _ _ (fun _ => rfl) _ (by rw [k0_off4_eq]; decide +revert)
  · exact boxed_slice main_v1_2 _ _ _ (fun _ => rfl) _ (by rw [k0_off7_eq]; decide +revert)
  · exact boxed_slice main_v1_3 _ _ _ (fun _ => rfl) _ (by rw [k0_off4_eq]; decide +revert)
theorem boxed_direct (c : Dev nD) (a : Fin 4) : Boxed (direct c a).dst.view (halfBox (c.val / 2) (c.val % 2) a) := by
  fin_cases a
  · exact boxed_slice main_v1_0 _ _ _ (fun _ => rfl) _ (by rw [k0_off2_eq]; decide +revert)
  · exact boxed_slice main_v1_1 _ _ _ (fun _ => rfl) _ (by rw [k0_off5_eq]; decide +revert)
  · exact boxed_slice main_v1_2 _ _ _ (fun _ => rfl) _ (by rw [k0_off8_eq]; decide +revert)
  · exact boxed_slice main_v1_3 _ _ _ (fun _ => rfl) _ (by rw [k0_off5_eq]; decide +revert)
theorem boxed_relay (c : Dev nD) (j : Fin 3) (a : Fin 4) : Boxed (relay c j a).dst.view (halfBox ((hop j c).val / 2) (c.val % 2) a) := by
  fin_cases a
  · exact boxed_slice main_v1_0 _ _ _ (fun _ => rfl) _ (by rw [relay0_eq]; decide +revert)
  · exact boxed_slice main_v1_1 _ _ _ (fun _ => rfl) _ (by rw [relay1_eq]; decide +revert)
  · exact boxed_slice main_v1_2 _ _ _ (fun _ => rfl) _ (by rw [relay2_eq]; decide +revert)
  · exact boxed_slice main_v1_3 _ _ _ (fun _ => rfl) _ (by rw [relay1_eq]; decide +revert)
theorem relay_both (c : Dev nD) (j : Fin 3) (a : Fin 4) : spots (relay c j a).src.view = spots (relay c j a).dst.view := by fin_cases a <;> rfl

theorem hop_mod (c : Dev nD) (j : Fin 3) : (hop j c).val % 2 = c.val % 2 := by revert c j; decide
theorem sib_mod (c : Dev nD) : (sib c).val % 2 = 1 - c.val % 2 := by revert c; decide
theorem hop_sib (c : Dev nD) (j : Fin 3) : (hop j (sib c)).val / 2 = (hop j c).val / 2 := by revert c j; decide
theorem hop_far (c : Dev nD) (j : Fin 3) : c.val / 2 ≠ (hop j c).val / 2 := by revert c j; decide
theorem hop_near (c : Dev nD) (j : Fin 3) : (hop j c).val / 2 ≠ c.val / 2 := by revert c j; decide
theorem hop_hop (c : Dev nD) (j : Fin 3) : hop j (hop j c) = c := by revert c j; decide
theorem sib_half (c : Dev nD) : (sib c).val / 2 = c.val / 2 := by revert c; decide

/-- Every other chip lies in some direction. -/
theorem toward (c : Dev nD) (k : ℕ) (hk : k < 4) (h : c.val / 2 ≠ k) : ∃ j, (hop j c).val / 2 = k := by
  have : ∀ (c : Dev nD) (k : Fin 4), c.val / 2 ≠ k.val → ∃ j, (hop j c).val / 2 = k.val := by decide
  exact this c ⟨k, hk⟩ h

theorem boxed_land (c : Dev nD) (x : Xfer (Fin 4) R) : Boxed (plan.land c x).dst.view (boxOf c x) := by
  rcases x with a | x | x
  · exact boxed_own c a
  · have h := boxed_direct (hop x.2 c) x.1
    rw [hop_mod] at h
    exact h
  · exact boxed_relay (sib c) x.2 x.1

theorem own_credit (c : Dev nD) (a : Fin 4) : (own c a).dst.view.dmaCredit = (own 0 a).dst.view.dmaCredit := by fin_cases a <;> rfl
theorem direct_credit (c : Dev nD) (a : Fin 4) : (direct c a).dst.view.dmaCredit = (direct 0 a).dst.view.dmaCredit := by fin_cases a <;> rfl
theorem back_credit (c : Dev nD) (a : Fin 4) : (direct c a).src.view.dmaCredit = (direct 0 a).dst.view.dmaCredit := by fin_cases a <;> rfl
theorem relay_credit (c : Dev nD) (j : Fin 3) (a : Fin 4) : (relay c j a).dst.view.dmaCredit = (direct 0 a).dst.view.dmaCredit := by fin_cases a <;> rfl
theorem relay_credit' (c : Dev nD) (j : Fin 3) (a : Fin 4) : (relay c j a).src.view.dmaCredit = (direct 0 a).dst.view.dmaCredit := by fin_cases a <;> rfl
theorem late_credit (c : Dev nD) (j : Fin 3) (a : Fin 4) : (late c j a).dst.view.dmaCredit = (direct 0 a).dst.view.dmaCredit := by fin_cases a <;> rfl

theorem own_pos (a : Fin 4) : 0 < (own 0 a).dst.view.dmaCredit := by
  fin_cases a
  · exact View.dmaCredit_pos _ (show 0 < S2048x1408.numel by decide)
  · exact View.dmaCredit_pos _ (show 0 < S512x2048.numel by decide)
  · exact View.dmaCredit_pos _ (show 0 < S2048x1536.numel by decide)
  · exact View.dmaCredit_pos _ (show 0 < S512x2048.numel by decide)
theorem direct_pos (a : Fin 4) : 0 < (direct 0 a).dst.view.dmaCredit := by
  fin_cases a
  · exact View.dmaCredit_pos _ (show 0 < S1024x1408.numel by decide)
  · exact View.dmaCredit_pos _ (show 0 < S256x2048.numel by decide)
  · exact View.dmaCredit_pos _ (show 0 < S1024x1536.numel by decide)
  · exact View.dmaCredit_pos _ (show 0 < S256x2048.numel by decide)

def inRef : Fin 4 → Ref sig .tc
  | 0 => main_arg0 | 1 => main_arg1 | 2 => main_arg2 | 3 => main_arg3
def outRef : Fin 4 → Ref sig .tc
  | 0 => main_v1_0 | 1 => main_v1_1 | 2 => main_v1_2 | 3 => main_v1_3
theorem own_src (c : Dev nD) (a : Fin 4) : inRef a = (own c a).src.view.ref := by fin_cases a <;> rfl
theorem own_dst (c : Dev nD) (a : Fin 4) : outRef a = (own c a).dst.view.ref := by fin_cases a <;> rfl
theorem direct_src (c : Dev nD) (a : Fin 4) : inRef a = (direct c a).src.view.ref := by fin_cases a <;> rfl
theorem direct_dst (c : Dev nD) (a : Fin 4) : outRef a = (direct c a).dst.view.ref := by fin_cases a <;> rfl
theorem relay_dst (c : Dev nD) (j : Fin 3) (a : Fin 4) : outRef a = (relay c j a).dst.view.ref := by fin_cases a <;> rfl
theorem relay_src (c : Dev nD) (j : Fin 3) (a : Fin 4) : outRef a = (relay c j a).src.view.ref := by fin_cases a <;> rfl
theorem in_args (a : Fin 4) : inRef a ∈ plan.args := by revert a; decide
theorem out_args (a : Fin 4) : outRef a ∉ plan.args ∧ (outRef a).isScoped = false := by revert a; decide

/-- The buffers written are the four results. -/
theorem outputs (b : Ref sig .tc) (hb : b.isScoped = false) (hn : b ∉ plan.args) : ∃ a, b = outRef a := by
  obtain ⟨sp, k, hk⟩ := b
  match sp, k, hk, hb, hn with
  | .hbm, k, hk, hb, hn => revert k; decide

theorem filled0 (c : Dev nD) (i : main_v1_0.ty.Idx) : ∃ x, (boxOf c x).has ⟨main_v1_0, i⟩ := by
  have h0 : (i 0).val < 2048 := (i 0).isLt
  have h1 : (i 1).val < 5632 := (i 1).isLt
  by_cases hk : c.val / 2 = (i 1).val / 1408
  · exact ⟨.inl 0, Box.has_two rfl (show 0 ≤ (i 0).val ∧ (i 0).val < 0 + 2048 by omega)
      (show 1408 * (c.val / 2) ≤ (i 1).val ∧ (i 1).val < 1408 * (c.val / 2) + 1408 by omega)⟩
  · obtain ⟨j, hj⟩ := toward c ((i 1).val / 1408) (by omega) hk
    have hs := sib_mod c
    have hh := hop_sib c j
    by_cases h : (i 0).val / 1024 = c.val % 2
    · exact ⟨.inr (.inl (0, j)), Box.has_two rfl (show 1024 * (c.val % 2) ≤ (i 0).val ∧ (i 0).val < 1024 * (c.val % 2) + 1024 by omega)
        (show 1408 * ((hop j c).val / 2) ≤ (i 1).val ∧ (i 1).val < 1408 * ((hop j c).val / 2) + 1408 by omega)⟩
    · exact ⟨.inr (.inr (0, j)), Box.has_two rfl (show 1024 * ((sib c).val % 2) ≤ (i 0).val ∧ (i 0).val < 1024 * ((sib c).val % 2) + 1024 by omega)
        (show 1408 * ((hop j (sib c)).val / 2) ≤ (i 1).val ∧ (i 1).val < 1408 * ((hop j (sib c)).val / 2) + 1408 by omega)⟩
theorem filled1 (c : Dev nD) (i : main_v1_1.ty.Idx) : ∃ x, (boxOf c x).has ⟨main_v1_1, i⟩ := by
  have h0 : (i 0).val < 2048 := (i 0).isLt
  have h1 : (i 1).val < 2048 := (i 1).isLt
  by_cases hk : c.val / 2 = (i 0).val / 512
  · exact ⟨.inl 1, Box.has_two rfl (show 512 * (c.val / 2) ≤ (i 0).val ∧ (i 0).val < 512 * (c.val / 2) + 512 by omega)
      (show 0 ≤ (i 1).val ∧ (i 1).val < 0 + 2048 by omega)⟩
  · obtain ⟨j, hj⟩ := toward c ((i 0).val / 512) (by omega) hk
    have hs := sib_mod c
    have hh := hop_sib c j
    by_cases h : (i 0).val % 512 / 256 = c.val % 2
    · exact ⟨.inr (.inl (1, j)), Box.has_two rfl (show 512 * ((hop j c).val / 2) + 256 * (c.val % 2) ≤ (i 0).val ∧ (i 0).val < 512 * ((hop j c).val / 2) + 256 * (c.val % 2) + 256 by omega)
        (show 0 ≤ (i 1).val ∧ (i 1).val < 0 + 2048 by omega)⟩
    · exact ⟨.inr (.inr (1, j)), Box.has_two rfl (show 512 * ((hop j (sib c)).val / 2) + 256 * ((sib c).val % 2) ≤ (i 0).val ∧ (i 0).val < 512 * ((hop j (sib c)).val / 2) + 256 * ((sib c).val % 2) + 256 by omega)
        (show 0 ≤ (i 1).val ∧ (i 1).val < 0 + 2048 by omega)⟩
theorem filled2 (c : Dev nD) (i : main_v1_2.ty.Idx) : ∃ x, (boxOf c x).has ⟨main_v1_2, i⟩ := by
  have h0 : (i 0).val < 2048 := (i 0).isLt
  have h1 : (i 1).val < 6144 := (i 1).isLt
  by_cases hk : c.val / 2 = (i 1).val / 1536
  · exact ⟨.inl 2, Box.has_two rfl (show 0 ≤ (i 0).val ∧ (i 0).val < 0 + 2048 by omega)
      (show 1536 * (c.val / 2) ≤ (i 1).val ∧ (i 1).val < 1536 * (c.val / 2) + 1536 by omega)⟩
  · obtain ⟨j, hj⟩ := toward c ((i 1).val / 1536) (by omega) hk
    have hs := sib_mod c
    have hh := hop_sib c j
    by_cases h : (i 0).val / 1024 = c.val % 2
    · exact ⟨.inr (.inl (2, j)), Box.has_two rfl (show 1024 * (c.val % 2) ≤ (i 0).val ∧ (i 0).val < 1024 * (c.val % 2) + 1024 by omega)
        (show 1536 * ((hop j c).val / 2) ≤ (i 1).val ∧ (i 1).val < 1536 * ((hop j c).val / 2) + 1536 by omega)⟩
    · exact ⟨.inr (.inr (2, j)), Box.has_two rfl (show 1024 * ((sib c).val % 2) ≤ (i 0).val ∧ (i 0).val < 1024 * ((sib c).val % 2) + 1024 by omega)
        (show 1536 * ((hop j (sib c)).val / 2) ≤ (i 1).val ∧ (i 1).val < 1536 * ((hop j (sib c)).val / 2) + 1536 by omega)⟩
theorem filled3 (c : Dev nD) (i : main_v1_3.ty.Idx) : ∃ x, (boxOf c x).has ⟨main_v1_3, i⟩ := by
  have h0 : (i 0).val < 2048 := (i 0).isLt
  have h1 : (i 1).val < 2048 := (i 1).isLt
  by_cases hk : c.val / 2 = (i 0).val / 512
  · exact ⟨.inl 3, Box.has_two rfl (show 512 * (c.val / 2) ≤ (i 0).val ∧ (i 0).val < 512 * (c.val / 2) + 512 by omega)
      (show 0 ≤ (i 1).val ∧ (i 1).val < 0 + 2048 by omega)⟩
  · obtain ⟨j, hj⟩ := toward c ((i 0).val / 512) (by omega) hk
    have hs := sib_mod c
    have hh := hop_sib c j
    by_cases h : (i 0).val % 512 / 256 = c.val % 2
    · exact ⟨.inr (.inl (3, j)), Box.has_two rfl (show 512 * ((hop j c).val / 2) + 256 * (c.val % 2) ≤ (i 0).val ∧ (i 0).val < 512 * ((hop j c).val / 2) + 256 * (c.val % 2) + 256 by omega)
        (show 0 ≤ (i 1).val ∧ (i 1).val < 0 + 2048 by omega)⟩
    · exact ⟨.inr (.inr (3, j)), Box.has_two rfl (show 512 * ((hop j (sib c)).val / 2) + 256 * ((sib c).val % 2) ≤ (i 0).val ∧ (i 0).val < 512 * ((hop j (sib c)).val / 2) + 256 * ((sib c).val % 2) + 256 by omega)
        (show 0 ≤ (i 1).val ∧ (i 1).val < 0 + 2048 by omega)⟩

/-- Each place of a result is in the own shard, in a half from another chip, or in a half that the sibling passes on. -/
theorem filled (c : Dev nD) : (a : Fin 4) → (i : (outRef a).ty.Idx) → ∃ x, (boxOf c x).has ⟨outRef a, i⟩
  | 0, i => filled0 c i
  | 1, i => filled1 c i
  | 2, i => filled2 c i
  | 3, i => filled3 c i

theorem sound : plan.Sound where
  aim_eq c r := by revert c r; decide +kernel
  peer_peer r c := by revert c r; decide +kernel
  sem_inj := by decide +kernel
  credit_pos x := by
    rcases x with a | x | x
    exacts [own_pos a, direct_pos x.1, direct_pos x.1]
  credit_move c x := by
    rcases x with a | x | x
    exacts [own_credit c a, direct_credit c x.1, relay_credit c x.2 x.1]
  credit_wait c k := by
    rcases k with a | (x | x) | x | x
    exacts [own_credit c a, relay_credit c x.2 x.1, late_credit c x.2 x.1, back_credit c x.1, relay_credit' c x.2 x.1]
  follows := by decide +kernel
  args_unscoped := by decide +kernel
  src_arg c x h := by
    rcases x with a | x | x
    exacts [own_src c a ▸ in_args a, direct_src c x.1 ▸ in_args x.1, nomatch h]
  dst_out c x := by
    rcases x with a | x | x
    exacts [own_dst c a ▸ out_args a, direct_dst c x.1 ▸ out_args x.1, relay_dst c x.2 x.1 ▸ out_args x.1]
  apart c x y h := disjoint_of_apart (boxed_land c x) (boxed_land c y) (by revert c x y; decide +kernel)
  cover c b hb hn i := by
    obtain ⟨a, rfl⟩ := outputs b hb hn
    exact (filled c a i).imp fun x hx => (boxed_land c x _).mpr hx
  pass_ref c r r' h := by
    rcases r with x | x
    · obtain rfl : Sum.inr x = r' := Option.some.inj h
      exact (relay_src c x.2 x.1).symm.trans (direct_dst (hop x.2 c) x.1)
    · exact nomatch h
  pass c r r' h := by
    rcases r with x | x
    · obtain rfl : Sum.inr x = r' := Option.some.inj h
      intro p hp
      have hp' : p ∈ spots (relay c x.2 x.1).src.view := hp
      rw [relay_both] at hp'
      exact (boxed_land c (.inr (.inl x)) p).mpr ((boxed_relay c x.2 x.1 p).mp hp')
    · exact nomatch h

/-! ## What every device ends with -/

section Final
variable {Val : EltTy → Type} (m : (ℓ : Loc nD τ sig) → Buf Val ℓ)

/-- Where half `h` of chip `k`'s shard on device `c` comes from: of the own chip the device itself, of another chip its core `h`. -/
def holder (c : Dev nD) (k h : ℕ) : Dev nD :=
  if c.val / 2 = k then c else ⟨2 * (k % 4) + h % 2, by unfold nD; omega⟩

theorem holder_own {c : Dev nD} {k : ℕ} (h : ℕ) (hk : c.val / 2 = k) : (holder c k h).val = c.val := by
  unfold holder; rw [if_pos hk]
theorem holder_far {c : Dev nD} {k : ℕ} (h : ℕ) (hk : c.val / 2 ≠ k) : (holder c k h).val = 2 * (k % 4) + h % 2 := by
  unfold holder; rw [if_neg hk]
theorem holder_chip (c : Dev nD) {k : ℕ} (h : ℕ) (hk : k < 4) : (holder c k h).val / 2 = k := by
  by_cases e : c.val / 2 = k
  · rw [holder_own h e, e]
  · rw [holder_far h e]; omega

/-- The contents: an argument as it was, a result the shards one after the other. -/
def fin (c : Dev nD) : (b : Ref sig .tc) → Buf Val ((c.tc : Thread nD τ).loc b)
  | ⟨.hbm, ⟨4, _⟩, _⟩ => fun (i : main_v1_0.ty.Idx) =>
      pick m main_arg0 (holder c ((i 1).val / 1408) ((i 0).val / 1024)) (Shape.pair (i 0) ⟨(i 1).val % 1408, Nat.mod_lt _ (by decide)⟩)
  | ⟨.hbm, ⟨5, _⟩, _⟩ => fun (i : main_v1_1.ty.Idx) =>
      pick m main_arg1 (holder c ((i 0).val / 512) ((i 0).val % 512 / 256)) (Shape.pair ⟨(i 0).val % 512, Nat.mod_lt _ (by decide)⟩ (i 1))
  | ⟨.hbm, ⟨6, _⟩, _⟩ => fun (i : main_v1_2.ty.Idx) =>
      pick m main_arg2 (holder c ((i 1).val / 1536) ((i 0).val / 1024)) (Shape.pair (i 0) ⟨(i 1).val % 1536, Nat.mod_lt _ (by decide)⟩)
  | ⟨.hbm, ⟨7, _⟩, _⟩ => fun (i : main_v1_3.ty.Idx) =>
      pick m main_arg3 (holder c ((i 0).val / 512) ((i 0).val % 512 / 256)) (Shape.pair ⟨(i 0).val % 512, Nat.mod_lt _ (by decide)⟩ (i 1))
  | b => m ((c.tc : Thread nD τ).loc b)

theorem carryOwn0 (c : Dev nD) :
    (own c 0).dst.view.read Val (fin m c main_v1_0) = (own c 0).src.view.read Val (m ((c.tc : Thread nD τ).loc main_arg0)) := by
  refine funext fun (j : S2048x1408.Idx) => ?_
  have e0 := emb_at (s := S2048x5632) (k0_off1 c) S2048x1408.size (k0_off1_inb c) j 0 (o := 0) (congrFun (k0_off1_eq c) 0)
  have e1 := emb_at (s := S2048x5632) (k0_off1 c) S2048x1408.size (k0_off1_inb c) j 1 (o := 2816 * (c.val / 4) + 1408 * ((c.val / 2) % 2)) (congrFun (k0_off1_eq c) 1)
  have h0 : (j 0).val < 2048 := (j 0).isLt
  have h1 : (j 1).val < 1408 := (j 1).isLt
  have hc : c.val < 8 := c.isLt
  refine pick_congr m main_arg0 (holder_own _ ?_) fun x => ?_
  · show c.val / 2 = ((Rect.unit (s := S2048x5632) (k0_off1 c) S2048x1408.size (k0_off1_inb c)).emb j 1).val / 1408
    rw [e1]; omega
  · fin_cases x
    · show ((Rect.unit (s := S2048x5632) (k0_off1 c) S2048x1408.size (k0_off1_inb c)).emb j 0).val = (j 0).val
      rw [e0]; omega
    · show ((Rect.unit (s := S2048x5632) (k0_off1 c) S2048x1408.size (k0_off1_inb c)).emb j 1).val % 1408 = (j 1).val
      rw [e1]; omega

theorem carryDirect0 (c d : Dev nD) (hd : d.val / 2 ≠ c.val / 2) :
    (direct c 0).dst.view.read Val (fin m d main_v1_0) = (direct c 0).src.view.read Val (m ((c.tc : Thread nD τ).loc main_arg0)) := by
  refine funext fun (j : S1024x1408.Idx) => ?_
  have e0 := emb_at (s := S2048x5632) (k0_off2 c) S1024x1408.size (k0_off2_inb c) j 0 (o := 1024 * (c.val % 2)) (congrFun (k0_off2_eq c) 0)
  have e1 := emb_at (s := S2048x5632) (k0_off2 c) S1024x1408.size (k0_off2_inb c) j 1 (o := 2816 * (c.val / 4) + 1408 * ((c.val / 2) % 2)) (congrFun (k0_off2_eq c) 1)
  have s0 := emb_at (s := S2048x1408) (k0_off3 c) S1024x1408.size (k0_off3_inb c) j 0 (o := 1024 * (c.val % 2)) (congrFun (k0_off3_eq c) 0)
  have s1 := emb_at (s := S2048x1408) (k0_off3 c) S1024x1408.size (k0_off3_inb c) j 1 (o := 0) (congrFun (k0_off3_eq c) 1)
  have h0 : (j 0).val < 1024 := (j 0).isLt
  have h1 : (j 1).val < 1408 := (j 1).isLt
  have hc : c.val < 8 := c.isLt
  have hk : ((Rect.unit (s := S2048x5632) (k0_off2 c) S1024x1408.size (k0_off2_inb c)).emb j 1).val / 1408 = c.val / 2 := by
    rw [e1]; omega
  have hh : ((Rect.unit (s := S2048x5632) (k0_off2 c) S1024x1408.size (k0_off2_inb c)).emb j 0).val / 1024 = c.val % 2 := by
    rw [e0]; omega
  refine pick_congr m main_arg0 ?_ fun x => ?_
  · show (holder d (((Rect.unit (s := S2048x5632) (k0_off2 c) S1024x1408.size (k0_off2_inb c)).emb j 1).val / 1408) (((Rect.unit (s := S2048x5632) (k0_off2 c) S1024x1408.size (k0_off2_inb c)).emb j 0).val / 1024)).val = c.val
    rw [hk, hh, holder_far _ hd]; omega
  · fin_cases x
    · show ((Rect.unit (s := S2048x5632) (k0_off2 c) S1024x1408.size (k0_off2_inb c)).emb j 0).val = ((Rect.unit (s := S2048x1408) (k0_off3 c) S1024x1408.size (k0_off3_inb c)).emb j 0).val
      rw [e0, s0]
    · show ((Rect.unit (s := S2048x5632) (k0_off2 c) S1024x1408.size (k0_off2_inb c)).emb j 1).val % 1408 = ((Rect.unit (s := S2048x1408) (k0_off3 c) S1024x1408.size (k0_off3_inb c)).emb j 1).val
      rw [e1, s1]; omega

theorem carryRelay0 (c : Dev nD) (q : Fin 3) :
    (relay c q 0).dst.view.read Val (fin m (sib c) main_v1_0) = (relay c q 0).src.view.read Val (fin m c main_v1_0) := by
  refine funext fun (j : S1024x1408.Idx) => ?_
  have e1 := emb_at (s := S2048x5632) (k0_off10 c (k0_off10_at q).1 (k0_off10_at q).2) S1024x1408.size (k0_off10_inb c q) j 1 (o := 1408 * ((hop q c).val / 2)) (congrFun (relay0_eq c q) 1)
  have h0 : (j 0).val < 1024 := (j 0).isLt
  have h1 : (j 1).val < 1408 := (j 1).isLt
  have hk : ((Rect.unit (s := S2048x5632) (k0_off10 c (k0_off10_at q).1 (k0_off10_at q).2) S1024x1408.size (k0_off10_inb c q)).emb j 1).val / 1408 = (hop q c).val / 2 := by
    rw [e1]; omega
  refine pick_congr m main_arg0 ?_ fun x => rfl
  show (holder (sib c) (((Rect.unit (s := S2048x5632) (k0_off10 c (k0_off10_at q).1 (k0_off10_at q).2) S1024x1408.size (k0_off10_inb c q)).emb j 1).val / 1408) (((Rect.unit (s := S2048x5632) (k0_off10 c (k0_off10_at q).1 (k0_off10_at q).2) S1024x1408.size (k0_off10_inb c q)).emb j 0).val / 1024)).val
    = (holder c (((Rect.unit (s := S2048x5632) (k0_off10 c (k0_off10_at q).1 (k0_off10_at q).2) S1024x1408.size (k0_off10_inb c q)).emb j 1).val / 1408) (((Rect.unit (s := S2048x5632) (k0_off10 c (k0_off10_at q).1 (k0_off10_at q).2) S1024x1408.size (k0_off10_inb c q)).emb j 0).val / 1024)).val
  rw [hk, holder_far _ (sib_half c ▸ hop_far c q), holder_far _ (hop_far c q)]

theorem carryOwn1 (c : Dev nD) :
    (own c 1).dst.view.read Val (fin m c main_v1_1) = (own c 1).src.view.read Val (m ((c.tc : Thread nD τ).loc main_arg1)) := by
  refine funext fun (j : S512x2048.Idx) => ?_
  have e0 := emb_at (s := S2048x2048) (k0_off4 c) S512x2048.size (k0_off4_inb c) j 0 (o := 1024 * (c.val / 4) + 512 * ((c.val / 2) % 2)) (congrFun (k0_off4_eq c) 0)
  have e1 := emb_at (s := S2048x2048) (k0_off4 c) S512x2048.size (k0_off4_inb c) j 1 (o := 0) (congrFun (k0_off4_eq c) 1)
  have h0 : (j 0).val < 512 := (j 0).isLt
  have h1 : (j 1).val < 2048 := (j 1).isLt
  have hc : c.val < 8 := c.isLt
  refine pick_congr m main_arg1 (holder_own _ ?_) fun x => ?_
  · show c.val / 2 = ((Rect.unit (s := S2048x2048) (k0_off4 c) S512x2048.size (k0_off4_inb c)).emb j 0).val / 512
    rw [e0]; omega
  · fin_cases x
    · show ((Rect.unit (s := S2048x2048) (k0_off4 c) S512x2048.size (k0_off4_inb c)).emb j 0).val % 512 = (j 0).val
      rw [e0]; omega
    · show ((Rect.unit (s := S2048x2048) (k0_off4 c) S512x2048.size (k0_off4_inb c)).emb j 1).val = (j 1).val
      rw [e1]; omega

theorem carryDirect1 (c d : Dev nD) (hd : d.val / 2 ≠ c.val / 2) :
    (direct c 1).dst.view.read Val (fin m d main_v1_1) = (direct c 1).src.view.read Val (m ((c.tc : Thread nD τ).loc main_arg1)) := by
  refine funext fun (j : S256x2048.Idx) => ?_
  have e0 := emb_at (s := S2048x2048) (k0_off5 c) S256x2048.size (k0_off5_inb c) j 0 (o := 1024 * (c.val / 4) + 512 * ((c.val / 2) % 2) + 256 * (c.val % 2)) (congrFun (k0_off5_eq c) 0)
  have e1 := emb_at (s := S2048x2048) (k0_off5 c) S256x2048.size (k0_off5_inb c) j 1 (o := 0) (congrFun (k0_off5_eq c) 1)
  have s0 := emb_at (s := S512x2048) (k0_off6 c) S256x2048.size (k0_off6_inb c) j 0 (o := 256 * (c.val % 2)) (congrFun (k0_off6_eq c) 0)
  have s1 := emb_at (s := S512x2048) (k0_off6 c) S256x2048.size (k0_off6_inb c) j 1 (o := 0) (congrFun (k0_off6_eq c) 1)
  have h0 : (j 0).val < 256 := (j 0).isLt
  have h1 : (j 1).val < 2048 := (j 1).isLt
  have hc : c.val < 8 := c.isLt
  have hk : ((Rect.unit (s := S2048x2048) (k0_off5 c) S256x2048.size (k0_off5_inb c)).emb j 0).val / 512 = c.val / 2 := by
    rw [e0]; omega
  have hh : ((Rect.unit (s := S2048x2048) (k0_off5 c) S256x2048.size (k0_off5_inb c)).emb j 0).val % 512 / 256 = c.val % 2 := by
    rw [e0]; omega
  refine pick_congr m main_arg1 ?_ fun x => ?_
  · show (holder d (((Rect.unit (s := S2048x2048) (k0_off5 c) S256x2048.size (k0_off5_inb c)).emb j 0).val / 512) (((Rect.unit (s := S2048x2048) (k0_off5 c) S256x2048.size (k0_off5_inb c)).emb j 0).val % 512 / 256)).val = c.val
    rw [hk, hh, holder_far _ hd]; omega
  · fin_cases x
    · show ((Rect.unit (s := S2048x2048) (k0_off5 c) S256x2048.size (k0_off5_inb c)).emb j 0).val % 512 = ((Rect.unit (s := S512x2048) (k0_off6 c) S256x2048.size (k0_off6_inb c)).emb j 0).val
      rw [e0, s0]; omega
    · show ((Rect.unit (s := S2048x2048) (k0_off5 c) S256x2048.size (k0_off5_inb c)).emb j 1).val = ((Rect.unit (s := S512x2048) (k0_off6 c) S256x2048.size (k0_off6_inb c)).emb j 1).val
      rw [e1, s1]

theorem carryRelay1 (c : Dev nD) (q : Fin 3) :
    (relay c q 1).dst.view.read Val (fin m (sib c) main_v1_1) = (relay c q 1).src.view.read Val (fin m c main_v1_1) := by
  refine funext fun (j : S256x2048.Idx) => ?_
  have e0 := emb_at (s := S2048x2048) (k0_off11 c (k0_off11_at q).1 (k0_off11_at q).2) S256x2048.size (k0_off11_inb c q) j 0 (o := 512 * ((hop q c).val / 2) + 256 * (c.val % 2)) (congrFun (relay1_eq c q) 0)
  have h0 : (j 0).val < 256 := (j 0).isLt
  have h1 : (j 1).val < 2048 := (j 1).isLt
  have hk : ((Rect.unit (s := S2048x2048) (k0_off11 c (k0_off11_at q).1 (k0_off11_at q).2) S256x2048.size (k0_off11_inb c q)).emb j 0).val / 512 = (hop q c).val / 2 := by
    rw [e0]; omega
  refine pick_congr m main_arg1 ?_ fun x => rfl
  show (holder (sib c) (((Rect.unit (s := S2048x2048) (k0_off11 c (k0_off11_at q).1 (k0_off11_at q).2) S256x2048.size (k0_off11_inb c q)).emb j 0).val / 512) (((Rect.unit (s := S2048x2048) (k0_off11 c (k0_off11_at q).1 (k0_off11_at q).2) S256x2048.size (k0_off11_inb c q)).emb j 0).val % 512 / 256)).val
    = (holder c (((Rect.unit (s := S2048x2048) (k0_off11 c (k0_off11_at q).1 (k0_off11_at q).2) S256x2048.size (k0_off11_inb c q)).emb j 0).val / 512) (((Rect.unit (s := S2048x2048) (k0_off11 c (k0_off11_at q).1 (k0_off11_at q).2) S256x2048.size (k0_off11_inb c q)).emb j 0).val % 512 / 256)).val
  rw [hk, holder_far _ (sib_half c ▸ hop_far c q), holder_far _ (hop_far c q)]

theorem carryOwn2 (c : Dev nD) :
    (own c 2).dst.view.read Val (fin m c main_v1_2) = (own c 2).src.view.read Val (m ((c.tc : Thread nD τ).loc main_arg2)) := by
  refine funext fun (j : S2048x1536.Idx) => ?_
  have e0 := emb_at (s := S2048x6144) (k0_off7 c) S2048x1536.size (k0_off7_inb c) j 0 (o := 0) (congrFun (k0_off7_eq c) 0)
  have e1 := emb_at (s := S2048x6144) (k0_off7 c) S2048x1536.size (k0_off7_inb c) j 1 (o := 3072 * (c.val / 4) + 1536 * ((c.val / 2) % 2)) (congrFun (k0_off7_eq c) 1)
  have h0 : (j 0).val < 2048 := (j 0).isLt
  have h1 : (j 1).val < 1536 := (j 1).isLt
  have hc : c.val < 8 := c.isLt
  refine pick_congr m main_arg2 (holder_own _ ?_) fun x => ?_
  · show c.val / 2 = ((Rect.unit (s := S2048x6144) (k0_off7 c) S2048x1536.size (k0_off7_inb c)).emb j 1).val / 1536
    rw [e1]; omega
  · fin_cases x
    · show ((Rect.unit (s := S2048x6144) (k0_off7 c) S2048x1536.size (k0_off7_inb c)).emb j 0).val = (j 0).val
      rw [e0]; omega
    · show ((Rect.unit (s := S2048x6144) (k0_off7 c) S2048x1536.size (k0_off7_inb c)).emb j 1).val % 1536 = (j 1).val
      rw [e1]; omega

theorem carryDirect2 (c d : Dev nD) (hd : d.val / 2 ≠ c.val / 2) :
    (direct c 2).dst.view.read Val (fin m d main_v1_2) = (direct c 2).src.view.read Val (m ((c.tc : Thread nD τ).loc main_arg2)) := by
  refine funext fun (j : S1024x1536.Idx) => ?_
  have e0 := emb_at (s := S2048x6144) (k0_off8 c) S1024x1536.size (k0_off8_inb c) j 0 (o := 1024 * (c.val % 2)) (congrFun (k0_off8_eq c) 0)
  have e1 := emb_at (s := S2048x6144) (k0_off8 c) S1024x1536.size (k0_off8_inb c) j 1 (o := 3072 * (c.val / 4) + 1536 * ((c.val / 2) % 2)) (congrFun (k0_off8_eq c) 1)
  have s0 := emb_at (s := S2048x1536) (k0_off9 c) S1024x1536.size (k0_off9_inb c) j 0 (o := 1024 * (c.val % 2)) (congrFun (k0_off9_eq c) 0)
  have s1 := emb_at (s := S2048x1536) (k0_off9 c) S1024x1536.size (k0_off9_inb c) j 1 (o := 0) (congrFun (k0_off9_eq c) 1)
  have h0 : (j 0).val < 1024 := (j 0).isLt
  have h1 : (j 1).val < 1536 := (j 1).isLt
  have hc : c.val < 8 := c.isLt
  have hk : ((Rect.unit (s := S2048x6144) (k0_off8 c) S1024x1536.size (k0_off8_inb c)).emb j 1).val / 1536 = c.val / 2 := by
    rw [e1]; omega
  have hh : ((Rect.unit (s := S2048x6144) (k0_off8 c) S1024x1536.size (k0_off8_inb c)).emb j 0).val / 1024 = c.val % 2 := by
    rw [e0]; omega
  refine pick_congr m main_arg2 ?_ fun x => ?_
  · show (holder d (((Rect.unit (s := S2048x6144) (k0_off8 c) S1024x1536.size (k0_off8_inb c)).emb j 1).val / 1536) (((Rect.unit (s := S2048x6144) (k0_off8 c) S1024x1536.size (k0_off8_inb c)).emb j 0).val / 1024)).val = c.val
    rw [hk, hh, holder_far _ hd]; omega
  · fin_cases x
    · show ((Rect.unit (s := S2048x6144) (k0_off8 c) S1024x1536.size (k0_off8_inb c)).emb j 0).val = ((Rect.unit (s := S2048x1536) (k0_off9 c) S1024x1536.size (k0_off9_inb c)).emb j 0).val
      rw [e0, s0]
    · show ((Rect.unit (s := S2048x6144) (k0_off8 c) S1024x1536.size (k0_off8_inb c)).emb j 1).val % 1536 = ((Rect.unit (s := S2048x1536) (k0_off9 c) S1024x1536.size (k0_off9_inb c)).emb j 1).val
      rw [e1, s1]; omega

theorem carryRelay2 (c : Dev nD) (q : Fin 3) :
    (relay c q 2).dst.view.read Val (fin m (sib c) main_v1_2) = (relay c q 2).src.view.read Val (fin m c main_v1_2) := by
  refine funext fun (j : S1024x1536.Idx) => ?_
  have e1 := emb_at (s := S2048x6144) (k0_off12 c (k0_off12_at q).1 (k0_off12_at q).2) S1024x1536.size (k0_off12_inb c q) j 1 (o := 1536 * ((hop q c).val / 2)) (congrFun (relay2_eq c q) 1)
  have h0 : (j 0).val < 1024 := (j 0).isLt
  have h1 : (j 1).val < 1536 := (j 1).isLt
  have hk : ((Rect.unit (s := S2048x6144) (k0_off12 c (k0_off12_at q).1 (k0_off12_at q).2) S1024x1536.size (k0_off12_inb c q)).emb j 1).val / 1536 = (hop q c).val / 2 := by
    rw [e1]; omega
  refine pick_congr m main_arg2 ?_ fun x => rfl
  show (holder (sib c) (((Rect.unit (s := S2048x6144) (k0_off12 c (k0_off12_at q).1 (k0_off12_at q).2) S1024x1536.size (k0_off12_inb c q)).emb j 1).val / 1536) (((Rect.unit (s := S2048x6144) (k0_off12 c (k0_off12_at q).1 (k0_off12_at q).2) S1024x1536.size (k0_off12_inb c q)).emb j 0).val / 1024)).val
    = (holder c (((Rect.unit (s := S2048x6144) (k0_off12 c (k0_off12_at q).1 (k0_off12_at q).2) S1024x1536.size (k0_off12_inb c q)).emb j 1).val / 1536) (((Rect.unit (s := S2048x6144) (k0_off12 c (k0_off12_at q).1 (k0_off12_at q).2) S1024x1536.size (k0_off12_inb c q)).emb j 0).val / 1024)).val
  rw [hk, holder_far _ (sib_half c ▸ hop_far c q), holder_far _ (hop_far c q)]

theorem carryOwn3 (c : Dev nD) :
    (own c 3).dst.view.read Val (fin m c main_v1_3) = (own c 3).src.view.read Val (m ((c.tc : Thread nD τ).loc main_arg3)) := by
  refine funext fun (j : S512x2048.Idx) => ?_
  have e0 := emb_at (s := S2048x2048) (k0_off4 c) S512x2048.size (k0_off4_inb c) j 0 (o := 1024 * (c.val / 4) + 512 * ((c.val / 2) % 2)) (congrFun (k0_off4_eq c) 0)
  have e1 := emb_at (s := S2048x2048) (k0_off4 c) S512x2048.size (k0_off4_inb c) j 1 (o := 0) (congrFun (k0_off4_eq c) 1)
  have h0 : (j 0).val < 512 := (j 0).isLt
  have h1 : (j 1).val < 2048 := (j 1).isLt
  have hc : c.val < 8 := c.isLt
  refine pick_congr m main_arg3 (holder_own _ ?_) fun x => ?_
  · show c.val / 2 = ((Rect.unit (s := S2048x2048) (k0_off4 c) S512x2048.size (k0_off4_inb c)).emb j 0).val / 512
    rw [e0]; omega
  · fin_cases x
    · show ((Rect.unit (s := S2048x2048) (k0_off4 c) S512x2048.size (k0_off4_inb c)).emb j 0).val % 512 = (j 0).val
      rw [e0]; omega
    · show ((Rect.unit (s := S2048x2048) (k0_off4 c) S512x2048.size (k0_off4_inb c)).emb j 1).val = (j 1).val
      rw [e1]; omega

theorem carryDirect3 (c d : Dev nD) (hd : d.val / 2 ≠ c.val / 2) :
    (direct c 3).dst.view.read Val (fin m d main_v1_3) = (direct c 3).src.view.read Val (m ((c.tc : Thread nD τ).loc main_arg3)) := by
  refine funext fun (j : S256x2048.Idx) => ?_
  have e0 := emb_at (s := S2048x2048) (k0_off5 c) S256x2048.size (k0_off5_inb c) j 0 (o := 1024 * (c.val / 4) + 512 * ((c.val / 2) % 2) + 256 * (c.val % 2)) (congrFun (k0_off5_eq c) 0)
  have e1 := emb_at (s := S2048x2048) (k0_off5 c) S256x2048.size (k0_off5_inb c) j 1 (o := 0) (congrFun (k0_off5_eq c) 1)
  have s0 := emb_at (s := S512x2048) (k0_off6 c) S256x2048.size (k0_off6_inb c) j 0 (o := 256 * (c.val % 2)) (congrFun (k0_off6_eq c) 0)
  have s1 := emb_at (s := S512x2048) (k0_off6 c) S256x2048.size (k0_off6_inb c) j 1 (o := 0) (congrFun (k0_off6_eq c) 1)
  have h0 : (j 0).val < 256 := (j 0).isLt
  have h1 : (j 1).val < 2048 := (j 1).isLt
  have hc : c.val < 8 := c.isLt
  have hk : ((Rect.unit (s := S2048x2048) (k0_off5 c) S256x2048.size (k0_off5_inb c)).emb j 0).val / 512 = c.val / 2 := by
    rw [e0]; omega
  have hh : ((Rect.unit (s := S2048x2048) (k0_off5 c) S256x2048.size (k0_off5_inb c)).emb j 0).val % 512 / 256 = c.val % 2 := by
    rw [e0]; omega
  refine pick_congr m main_arg3 ?_ fun x => ?_
  · show (holder d (((Rect.unit (s := S2048x2048) (k0_off5 c) S256x2048.size (k0_off5_inb c)).emb j 0).val / 512) (((Rect.unit (s := S2048x2048) (k0_off5 c) S256x2048.size (k0_off5_inb c)).emb j 0).val % 512 / 256)).val = c.val
    rw [hk, hh, holder_far _ hd]; omega
  · fin_cases x
    · show ((Rect.unit (s := S2048x2048) (k0_off5 c) S256x2048.size (k0_off5_inb c)).emb j 0).val % 512 = ((Rect.unit (s := S512x2048) (k0_off6 c) S256x2048.size (k0_off6_inb c)).emb j 0).val
      rw [e0, s0]; omega
    · show ((Rect.unit (s := S2048x2048) (k0_off5 c) S256x2048.size (k0_off5_inb c)).emb j 1).val = ((Rect.unit (s := S512x2048) (k0_off6 c) S256x2048.size (k0_off6_inb c)).emb j 1).val
      rw [e1, s1]

theorem carryRelay3 (c : Dev nD) (q : Fin 3) :
    (relay c q 3).dst.view.read Val (fin m (sib c) main_v1_3) = (relay c q 3).src.view.read Val (fin m c main_v1_3) := by
  refine funext fun (j : S256x2048.Idx) => ?_
  have e0 := emb_at (s := S2048x2048) (k0_off11 c (k0_off11_at q).1 (k0_off11_at q).2) S256x2048.size (k0_off11_inb c q) j 0 (o := 512 * ((hop q c).val / 2) + 256 * (c.val % 2)) (congrFun (relay1_eq c q) 0)
  have h0 : (j 0).val < 256 := (j 0).isLt
  have h1 : (j 1).val < 2048 := (j 1).isLt
  have hk : ((Rect.unit (s := S2048x2048) (k0_off11 c (k0_off11_at q).1 (k0_off11_at q).2) S256x2048.size (k0_off11_inb c q)).emb j 0).val / 512 = (hop q c).val / 2 := by
    rw [e0]; omega
  refine pick_congr m main_arg3 ?_ fun x => rfl
  show (holder (sib c) (((Rect.unit (s := S2048x2048) (k0_off11 c (k0_off11_at q).1 (k0_off11_at q).2) S256x2048.size (k0_off11_inb c q)).emb j 0).val / 512) (((Rect.unit (s := S2048x2048) (k0_off11 c (k0_off11_at q).1 (k0_off11_at q).2) S256x2048.size (k0_off11_inb c q)).emb j 0).val % 512 / 256)).val
    = (holder c (((Rect.unit (s := S2048x2048) (k0_off11 c (k0_off11_at q).1 (k0_off11_at q).2) S256x2048.size (k0_off11_inb c q)).emb j 0).val / 512) (((Rect.unit (s := S2048x2048) (k0_off11 c (k0_off11_at q).1 (k0_off11_at q).2) S256x2048.size (k0_off11_inb c q)).emb j 0).val % 512 / 256)).val
  rw [hk, holder_far _ (sib_half c ▸ hop_far c q), holder_far _ (hop_far c q)]

theorem carriesOwn (c : Dev nD) (a : Fin 4) :
    (own c a).dst.view.read Val (fin m c (own c a).dst.view.ref) = (own c a).src.view.read Val (fin m c (own c a).src.view.ref) := by
  fin_cases a
  exacts [carryOwn0 m c, carryOwn1 m c, carryOwn2 m c, carryOwn3 m c]
theorem carriesDirect (c d : Dev nD) (hd : d.val / 2 ≠ c.val / 2) (a : Fin 4) :
    (direct c a).dst.view.read Val (fin m d (direct c a).dst.view.ref) = (direct c a).src.view.read Val (fin m c (direct c a).src.view.ref) := by
  fin_cases a
  exacts [carryDirect0 m c d hd, carryDirect1 m c d hd, carryDirect2 m c d hd, carryDirect3 m c d hd]
theorem carriesRelay (c : Dev nD) (q : Fin 3) (a : Fin 4) :
    (relay c q a).dst.view.read Val (fin m (sib c) (relay c q a).dst.view.ref) = (relay c q a).src.view.read Val (fin m c (relay c q a).src.view.ref) := by
  fin_cases a
  exacts [carryRelay0 m c q, carryRelay1 m c q, carryRelay2 m c q, carryRelay3 m c q]

theorem fills : plan.Fills m (fin m) where
  arg c b hb := by
    have : b = main_arg0 ∨ b = main_arg1 ∨ b = main_arg2 ∨ b = main_arg3 := by revert b; decide
    rcases this with rfl | rfl | rfl | rfl <;> rfl
  carry c x := by
    rcases x with a | x | x
    exacts [carriesOwn m c a, carriesDirect m c (hop x.2 c) (hop_near c x.2) x.1, carriesRelay m c x.2 x.1]

end Final

/-- Every execution ends with these contents. -/
theorem run_main (m : (ℓ : Loc nD τ sig) → Buf (Elt F) ℓ) (g : Dev nD → PrngReg) :
    θ_run (defs (F := F)) (onTc (τ := τ) main) ⟨m, fun _ => 0, g⟩ (fun r => (∀ c, Reads (fin m) c r.2) ∧ r.2.sem = fun _ => 0) :=
  run plan sound cfgs (fun _ => inferInstanceAs (IsEmpty (Fin 0))) cellOf_inj N_0 defs₀
    (fun t c Q => by rw [show defs₀ (F := F) .tc (cfgs 0).body ((cfgs 0).bodyArgs t ((cfgs 0).slots t)) = _ from body_eq t _])
    (by decide) g (fills m) main (fun _ => rfl)

end Cert.GatherWeightsRun

end
-- ==== Proof.GatherWeightsClaims.lean ====
/- The claims of the gathering of the weights. -/
module

public import proofs.«01_k».proof.Defs
public import proofs.«01_k».proof.Proof.GatherWeightsRun
public import proofs.«01_k».proof.Proof.Gen.GatherWeights
public import proofs.«01_k».proof.Proof.Gen.GatherWeightsRef
public import proofs.«01_k».proof.Proof.Gen.GatherWeightsRefIdeal
public import Idealize.ShloMosaic.Lib.StableHlo.Run
public import Idealize.ShloMosaic.Lib.Quiescent

@[expose] public section

noncomputable section

namespace Cert.GatherWeightsRun

open Idealize.ShloMosaic Idealize.ShloMosaic.TcCoe
open Idealize.SL Idealize.SL.Sem
open Cert.Exchange

variable {F : FTy → Type} [FloatOps F]

/-! ## Frames -/

theorem frame_ideal : Cert.quiescent_GatherWeightsIdeal := fun m g _ =>
  (θ_run Cert.GatherWeightsIdeal.defs _ _).mono (fun _ h => ⟨fun c => ⟨h.1 c _ rfl, h.1 c _ rfl, h.1 c _ rfl, h.1 c _ rfl⟩, h.2⟩) (run_main (F := Ideal) m g)

theorem frame_kernel : Cert.quiescent_GatherWeights := fun m g _ =>
  (θ_run Cert.GatherWeightsIdeal.defs _ _).mono (fun _ h => ⟨fun c => ⟨h.1 c _ rfl, h.1 c _ rfl, h.1 c _ rfl, h.1 c _ rfl⟩, h.2⟩) (run_main (F := Bits) m g)

/-! ## The reference -/

section Reference
open Cert.GatherWeightsRefIdeal

/-- The reference returns its arguments: nothing changes. -/
theorem run_ref (m : (ℓ : Loc nD τ sig) → Buf (Elt F) ℓ) (g : Dev nD → PrngReg) :
    θ_run (defs (F := F)) (onTc (τ := τ) main) ⟨m, fun _ => 0, g⟩
      (fun r => (∀ (c : Dev nD) (b : Ref sig .tc), r.2.mem ((c.tc : Thread nD τ).loc b) = m ((c.tc : Thread nD τ).loc b)) ∧ r.2.sem = fun _ => 0) :=
  (θ_run defs _ _).mono (fun r h => ⟨h, sem_eq_zero_of_no_sems rfl r.2⟩)
    (StableHlo.run_seq (by decide) (by decide) defs main (fun _ => []) (fun _ => rfl) (fun _ => trivial) m g)

end Reference

theorem frame_ref_ideal : Cert.quiescent_GatherWeightsRefIdeal := fun m g _ =>
  (θ_run Cert.GatherWeightsRefIdeal.defs _ _).mono (fun _ h => ⟨fun c => ⟨h.1 c _, h.1 c _, h.1 c _, h.1 c _⟩, h.2⟩) (run_ref (F := Ideal) m g)

theorem frame_ref : Cert.quiescent_GatherWeightsRef := fun m g _ =>
  (θ_run Cert.GatherWeightsRefIdeal.defs _ _).mono (fun _ h => ⟨fun c => ⟨h.1 c _, h.1 c _, h.1 c _, h.1 c _⟩, h.2⟩) (run_ref (F := Bits) m g)

/-! ## The values -/

section Values
open Cert.GatherWeightsIdeal

variable {Val : EltTy → Type} (m : (ℓ : Loc nD τ sig) → Buf Val ℓ)

theorem value0 (w : (⟨2, ![2048, 5632]⟩ : Shape).Idx → Val .bf16)
    (hw : ∀ c : Dev nD, m ((c.tc : Thread nD τ).loc main_arg0) = Layout.blockN ⟨2, ![2048, 1408]⟩ ⟨2, ![2048, 5632]⟩ (Layout.meshBlock [2, 2, 2] ![[], [0, 1]] c) w)
    (c : Dev nD) : fin m c main_v1_0 = w := by
  refine funext fun (i : main_v1_0.ty.Idx) => ?_
  have h0 : (i 0).val < 2048 := (i 0).isLt
  have h1 : (i 1).val < 5632 := (i 1).isLt
  have hk := holder_chip c (k := (i 1).val / 1408) ((i 0).val / 1024) (by omega)
  show m _ _ = _
  rw [hw]
  refine at_congr w fun a => ?_
  fin_cases a
  · show 0 * 2048 + (i 0).val = (i 0).val
    omega
  · show ((holder c ((i 1).val / 1408) ((i 0).val / 1024)).val / 4 % 2 * 2 + ((holder c ((i 1).val / 1408) ((i 0).val / 1024)).val / 2 % 2 * 1 + 0)) * 1408 + (i 1).val % 1408 = (i 1).val
    omega

theorem value1 (w : (⟨2, ![2048, 2048]⟩ : Shape).Idx → Val .bf16)
    (hw : ∀ c : Dev nD, m ((c.tc : Thread nD τ).loc main_arg1) = Layout.blockN ⟨2, ![512, 2048]⟩ ⟨2, ![2048, 2048]⟩ (Layout.meshBlock [2, 2, 2] ![[0, 1], []] c) w)
    (c : Dev nD) : fin m c main_v1_1 = w := by
  refine funext fun (i : main_v1_1.ty.Idx) => ?_
  have h0 : (i 0).val < 2048 := (i 0).isLt
  have h1 : (i 1).val < 2048 := (i 1).isLt
  have hk := holder_chip c (k := (i 0).val / 512) ((i 0).val % 512 / 256) (by omega)
  show m _ _ = _
  rw [hw]
  refine at_congr w fun a => ?_
  fin_cases a
  · show ((holder c ((i 0).val / 512) ((i 0).val % 512 / 256)).val / 4 % 2 * 2 + ((holder c ((i 0).val / 512) ((i 0).val % 512 / 256)).val / 2 % 2 * 1 + 0)) * 512 + (i 0).val % 512 = (i 0).val
    omega
  · show 0 * 2048 + (i 1).val = (i 1).val
    omega

theorem value2 (w : (⟨2, ![2048, 6144]⟩ : Shape).Idx → Val .bf16)
    (hw : ∀ c : Dev nD, m ((c.tc : Thread nD τ).loc main_arg2) = Layout.blockN ⟨2, ![2048, 1536]⟩ ⟨2, ![2048, 6144]⟩ (Layout.meshBlock [2, 2, 2] ![[], [0, 1]] c) w)
    (c : Dev nD) : fin m c main_v1_2 = w := by
  refine funext fun (i : main_v1_2.ty.Idx) => ?_
  have h0 : (i 0).val < 2048 := (i 0).isLt
  have h1 : (i 1).val < 6144 := (i 1).isLt
  have hk := holder_chip c (k := (i 1).val / 1536) ((i 0).val / 1024) (by omega)
  show m _ _ = _
  rw [hw]
  refine at_congr w fun a => ?_
  fin_cases a
  · show 0 * 2048 + (i 0).val = (i 0).val
    omega
  · show ((holder c ((i 1).val / 1536) ((i 0).val / 1024)).val / 4 % 2 * 2 + ((holder c ((i 1).val / 1536) ((i 0).val / 1024)).val / 2 % 2 * 1 + 0)) * 1536 + (i 1).val % 1536 = (i 1).val
    omega

theorem value3 (w : (⟨2, ![2048, 2048]⟩ : Shape).Idx → Val .bf16)
    (hw : ∀ c : Dev nD, m ((c.tc : Thread nD τ).loc main_arg3) = Layout.blockN ⟨2, ![512, 2048]⟩ ⟨2, ![2048, 2048]⟩ (Layout.meshBlock [2, 2, 2] ![[0, 1], []] c) w)
    (c : Dev nD) : fin m c main_v1_3 = w := by
  refine funext fun (i : main_v1_3.ty.Idx) => ?_
  have h0 : (i 0).val < 2048 := (i 0).isLt
  have h1 : (i 1).val < 2048 := (i 1).isLt
  have hk := holder_chip c (k := (i 0).val / 512) ((i 0).val % 512 / 256) (by omega)
  show m _ _ = _
  rw [hw]
  refine at_congr w fun a => ?_
  fin_cases a
  · show ((holder c ((i 0).val / 512) ((i 0).val % 512 / 256)).val / 4 % 2 * 2 + ((holder c ((i 0).val / 512) ((i 0).val % 512 / 256)).val / 2 % 2 * 1 + 0)) * 512 + (i 0).val % 512 = (i 0).val
    omega
  · show 0 * 2048 + (i 1).val = (i 1).val
    omega

end Values

theorem values_ideal : Cert.algebraic_GatherWeightsIdeal_GatherWeightsRefIdeal := fun m g m' g' _ hm =>
  ⟨_, _, _, _,
    (θ_run Cert.GatherWeightsIdeal.defs _ _).mono (fun _ h c =>
      ⟨(h.1 c _ rfl).trans (value0 m _ (fun c => (hm c).1) c), (h.1 c _ rfl).trans (value1 m _ (fun c => (hm c).2.1) c),
        (h.1 c _ rfl).trans (value2 m _ (fun c => (hm c).2.2.1) c), (h.1 c _ rfl).trans (value3 m _ (fun c => (hm c).2.2.2) c),
        h.1 c _ rfl, h.1 c _ rfl, h.1 c _ rfl, h.1 c _ rfl⟩) (run_main (F := Ideal) m g),
    (θ_run Cert.GatherWeightsRefIdeal.defs _ _).mono (fun _ h => ⟨h.1 0 _, h.1 0 _, h.1 0 _, h.1 0 _, h.1 0 _, h.1 0 _, h.1 0 _, h.1 0 _⟩) (run_ref (F := Ideal) m' g')⟩

theorem values_kernel : Cert.bitexact_GatherWeights_GatherWeightsRef := fun m g m' g' _ hm =>
  ⟨_, _, _, _,
    (θ_run Cert.GatherWeightsIdeal.defs _ _).mono (fun _ h c =>
      ⟨(h.1 c _ rfl).trans (value0 m _ (fun c => (hm c).1) c), (h.1 c _ rfl).trans (value1 m _ (fun c => (hm c).2.1) c),
        (h.1 c _ rfl).trans (value2 m _ (fun c => (hm c).2.2.1) c), (h.1 c _ rfl).trans (value3 m _ (fun c => (hm c).2.2.2) c),
        h.1 c _ rfl, h.1 c _ rfl, h.1 c _ rfl, h.1 c _ rfl⟩) (run_main (F := Bits) m g),
    (θ_run Cert.GatherWeightsRefIdeal.defs _ _).mono (fun _ h => ⟨h.1 0 _, h.1 0 _, h.1 0 _, h.1 0 _, h.1 0 _, h.1 0 _, h.1 0 _, h.1 0 _⟩) (run_ref (F := Bits) m' g')⟩

end Cert.GatherWeightsRun

end
-- ==== Proof.PairShareRun.lean ====
/- The half exchange inside a chip: its table, and what every device ends with. -/
module

public import proofs.«01_k».proof.Proof.Geometry
public import proofs.«01_k».proof.Proof.Gen.PairShareIdeal.Frame

@[expose] public section

noncomputable section

namespace Cert.PairShareRun

open Idealize.ShloMosaic Idealize.ShloMosaic.TcCoe
open Idealize.SL Idealize.SL.Sem
open Cert.Exchange Cert.PairShareIdeal Cert.PairShareIdeal.Gen

variable {F : FTy → Type} [FloatOps F]

/-! ## The table -/

/-- Each array, from a device's half into its place of the whole. -/
def put (c : Dev nD) : Fin 4 → Move sig
  | 0 => ⟨_, _, Memref.whole main_arg0, (Memref.whole main_v1_0).slice (Rect.unit (s := S2048x1408) (k0_off1 c) S1024x1408.size (k0_off1_inb c)) (fun _ => rfl),
      (Memref.isWhole_whole _).wordExact, View.wordExact_bits rfl⟩
  | 1 => ⟨_, _, Memref.whole main_arg1, (Memref.whole main_v1_1).slice (Rect.unit (s := S512x2048) (k0_off2 c) S256x2048.size (k0_off2_inb c)) (fun _ => rfl),
      (Memref.isWhole_whole _).wordExact, View.wordExact_bits rfl⟩
  | 2 => ⟨_, _, Memref.whole main_arg2, (Memref.whole main_v1_2).slice (Rect.unit (s := S2048x1536) (k0_off3 c) S1024x1536.size (k0_off3_inb c)) (fun _ => rfl),
      (Memref.isWhole_whole _).wordExact, View.wordExact_bits rfl⟩
  | 3 => ⟨_, _, Memref.whole main_arg3, (Memref.whole main_v1_3).slice (Rect.unit (s := S512x2048) (k0_off2 c) S256x2048.size (k0_off2_inb c)) (fun _ => rfl),
      (Memref.isWhole_whole _).wordExact, View.wordExact_bits rfl⟩

/-- Each array, as the sibling's half arrives. -/
def get (c : Dev nD) : Fin 4 → Move sig
  | 0 => ⟨_, _, Memref.whole main_arg0, (Memref.whole main_v1_0).slice (Rect.unit (s := S2048x1408) (k0_off4 c) S1024x1408.size (k0_off4_inb c)) (fun _ => rfl),
      (Memref.isWhole_whole _).wordExact, View.wordExact_bits rfl⟩
  | 1 => ⟨_, _, Memref.whole main_arg1, (Memref.whole main_v1_1).slice (Rect.unit (s := S512x2048) (k0_off5 c) S256x2048.size (k0_off5_inb c)) (fun _ => rfl),
      (Memref.isWhole_whole _).wordExact, View.wordExact_bits rfl⟩
  | 2 => ⟨_, _, Memref.whole main_arg2, (Memref.whole main_v1_2).slice (Rect.unit (s := S2048x1536) (k0_off6 c) S1024x1536.size (k0_off6_inb c)) (fun _ => rfl),
      (Memref.isWhole_whole _).wordExact, View.wordExact_bits rfl⟩
  | 3 => ⟨_, _, Memref.whole main_arg3, (Memref.whole main_v1_3).slice (Rect.unit (s := S512x2048) (k0_off5 c) S256x2048.size (k0_off5_inb c)) (fun _ => rfl),
      (Memref.isWhole_whole _).wordExact, View.wordExact_bits rfl⟩

theorem sem_inb (a : Fin 4) : ∀ i, (![a.val] : Fin 1 → ℕ) i + S1.size i ≤ S4.size i := by revert a; decide
def sem (A : DmaSems sig S4) (a : Fin 4) : DmaSem sig :=
  ((A.slice (Rect.unit (s := S4) ![a.val] S1.size (sem_inb a))).squeeze S_ squeezes_S1_S_).sem

/-- The target as the kernel computes it. -/
def aim (c : Dev nD) : Fin 4 → Dev nD
  | 0 => ⟨k0_dev1 c, k0_dev1_lt c⟩
  | 1 => ⟨k0_dev2 c, k0_dev2_lt c⟩
  | 2 => ⟨k0_dev3 c, k0_dev3_lt c⟩
  | 3 => ⟨k0_dev4 c, k0_dev4_lt c⟩

/-- The other core of the chip. -/
def sib (c : Dev nD) : Dev nD := ⟨c.val + 1 - 2 * (c.val % 2), by have := c.isLt; unfold nD at *; omega⟩

def all4 : List (Fin 4) := [0, 1, 2, 3]

def plan : Plan nD sig (Fin 4) (Fin 4) where
  move c x := match x with
    | .inl a => put c a
    | .inr a => put c a
  wait c k := match k with
    | .inl a => put c a
    | .inr (.inl a) => get c a
    | .inr (.inr a) => (put c a).back
  aim := aim
  peer _ := sib
  sem k := match k with
    | .inl a => sem cc0_scratch2 a
    | .inr (.inl a) => sem cc0_scratch1 a
    | .inr (.inr a) => sem cc0_scratch0 a
  credit x := match x with
    | .inl a => (put 0 a).dst.view.dmaCredit
    | .inr a => (put 0 a).dst.view.dmaCredit
  level _ := 0
  first _ := true
  next _ := none
  script := (all4.flatMap fun a => [.start (.inl a), .start (.inr a)]) ++ (all4.map fun a => .wait (.inr (.inl a)))
    ++ (all4.flatMap fun a => [.wait (.inr (.inr a)), .wait (.inl a)])
  args := {main_arg0, main_arg1, main_arg2, main_arg3}

/-- The kernel's body is the table's instructions. -/
theorem body_eq (t : Fin grid0.N) (s) : defs₀ (F := F) .tc 0 (t, s) = .op .deviceId fun d => seq (plan.script.map (plan.op d)) := rfl

/-! ## What the table satisfies -/

/-- The box a transfer of `c` fills. -/
def box (c : Dev nD) : Fin 4 → Box sig
  | 0 => ⟨main_v1_0, [(1024 * (c.val % 2), 1024), (0, 1408)]⟩
  | 1 => ⟨main_v1_1, [(256 * (c.val % 2), 256), (0, 2048)]⟩
  | 2 => ⟨main_v1_2, [(1024 * (c.val % 2), 1024), (0, 1536)]⟩
  | 3 => ⟨main_v1_3, [(256 * (c.val % 2), 256), (0, 2048)]⟩

theorem boxed (c : Dev nD) (a : Fin 4) : Boxed (put c a).dst.view (box c a) := by
  fin_cases a
  · exact boxed_slice main_v1_0 _ _ _ (fun _ => rfl) _ (by rw [k0_off1_eq]; decide +revert)
  · exact boxed_slice main_v1_1 _ _ _ (fun _ => rfl) _ (by rw [k0_off2_eq]; decide +revert)
  · exact boxed_slice main_v1_2 _ _ _ (fun _ => rfl) _ (by rw [k0_off3_eq]; decide +revert)
  · exact boxed_slice main_v1_3 _ _ _ (fun _ => rfl) _ (by rw [k0_off2_eq]; decide +revert)

def boxOf (c : Dev nD) : Xfer (Fin 4) (Fin 4) → Box sig
  | .inl a => box c a
  | .inr a => box (sib c) a

theorem boxed_land (c : Dev nD) (x : Xfer (Fin 4) (Fin 4)) : Boxed (plan.land c x).dst.view (boxOf c x) := by
  rcases x with a | a
  · exact boxed c a
  · exact boxed (sib c) a

theorem put_credit (c : Dev nD) (a : Fin 4) : (put c a).dst.view.dmaCredit = (put 0 a).dst.view.dmaCredit := by fin_cases a <;> rfl
theorem get_credit (c : Dev nD) (a : Fin 4) : (get c a).dst.view.dmaCredit = (put 0 a).dst.view.dmaCredit := by fin_cases a <;> rfl
theorem back_credit (c : Dev nD) (a : Fin 4) : (put c a).src.view.dmaCredit = (put 0 a).dst.view.dmaCredit := by fin_cases a <;> rfl

theorem put_pos (a : Fin 4) : 0 < (put 0 a).dst.view.dmaCredit := by
  fin_cases a
  · exact View.dmaCredit_pos _ (show 0 < S1024x1408.numel by decide)
  · exact View.dmaCredit_pos _ (show 0 < S256x2048.numel by decide)
  · exact View.dmaCredit_pos _ (show 0 < S1024x1536.numel by decide)
  · exact View.dmaCredit_pos _ (show 0 < S256x2048.numel by decide)

def inRef : Fin 4 → Ref sig .tc
  | 0 => main_arg0 | 1 => main_arg1 | 2 => main_arg2 | 3 => main_arg3
def outRef : Fin 4 → Ref sig .tc
  | 0 => main_v1_0 | 1 => main_v1_1 | 2 => main_v1_2 | 3 => main_v1_3
theorem put_src (c : Dev nD) (a : Fin 4) : inRef a = (put c a).src.view.ref := by fin_cases a <;> rfl
theorem put_dst (c : Dev nD) (a : Fin 4) : outRef a = (put c a).dst.view.ref := by fin_cases a <;> rfl
theorem in_args (a : Fin 4) : inRef a ∈ plan.args := by revert a; decide
theorem out_args (a : Fin 4) : outRef a ∉ plan.args ∧ (outRef a).isScoped = false := by revert a; decide

/-- The buffers written are the four results. -/
theorem outputs (b : Ref sig .tc) (hb : b.isScoped = false) (hn : b ∉ plan.args) : ∃ a, b = outRef a := by
  obtain ⟨sp, k, hk⟩ := b
  match sp, k, hk, hb, hn with
  | .hbm, k, hk, hb, hn => revert k; decide

theorem sib_mod (c : Dev nD) : (sib c).val % 2 = 1 - c.val % 2 := by revert c; decide

theorem filled0 (c : Dev nD) (i : main_v1_0.ty.Idx) : ∃ x, (boxOf c x).has ⟨main_v1_0, i⟩ := by
  have h0 : (i 0).val < 2048 := (i 0).isLt
  have h1 : (i 1).val < 1408 := (i 1).isLt
  by_cases h : (i 0).val / 1024 = c.val % 2
  · exact ⟨.inl 0, Box.has_two rfl (show 1024 * (c.val % 2) ≤ (i 0).val ∧ (i 0).val < 1024 * (c.val % 2) + 1024 by omega)
      (show 0 ≤ (i 1).val ∧ (i 1).val < 0 + 1408 by omega)⟩
  · have hs := sib_mod c
    exact ⟨.inr 0, Box.has_two rfl (show 1024 * ((sib c).val % 2) ≤ (i 0).val ∧ (i 0).val < 1024 * ((sib c).val % 2) + 1024 by omega)
      (show 0 ≤ (i 1).val ∧ (i 1).val < 0 + 1408 by omega)⟩
theorem filled1 (c : Dev nD) (i : main_v1_1.ty.Idx) : ∃ x, (boxOf c x).has ⟨main_v1_1, i⟩ := by
  have h0 : (i 0).val < 512 := (i 0).isLt
  have h1 : (i 1).val < 2048 := (i 1).isLt
  by_cases h : (i 0).val / 256 = c.val % 2
  · exact ⟨.inl 1, Box.has_two rfl (show 256 * (c.val % 2) ≤ (i 0).val ∧ (i 0).val < 256 * (c.val % 2) + 256 by omega)
      (show 0 ≤ (i 1).val ∧ (i 1).val < 0 + 2048 by omega)⟩
  · have hs := sib_mod c
    exact ⟨.inr 1, Box.has_two rfl (show 256 * ((sib c).val % 2) ≤ (i 0).val ∧ (i 0).val < 256 * ((sib c).val % 2) + 256 by omega)
      (show 0 ≤ (i 1).val ∧ (i 1).val < 0 + 2048 by omega)⟩
theorem filled2 (c : Dev nD) (i : main_v1_2.ty.Idx) : ∃ x, (boxOf c x).has ⟨main_v1_2, i⟩ := by
  have h0 : (i 0).val < 2048 := (i 0).isLt
  have h1 : (i 1).val < 1536 := (i 1).isLt
  by_cases h : (i 0).val / 1024 = c.val % 2
  · exact ⟨.inl 2, Box.has_two rfl (show 1024 * (c.val % 2) ≤ (i 0).val ∧ (i 0).val < 1024 * (c.val % 2) + 1024 by omega)
      (show 0 ≤ (i 1).val ∧ (i 1).val < 0 + 1536 by omega)⟩
  · have hs := sib_mod c
    exact ⟨.inr 2, Box.has_two rfl (show 1024 * ((sib c).val % 2) ≤ (i 0).val ∧ (i 0).val < 1024 * ((sib c).val % 2) + 1024 by omega)
      (show 0 ≤ (i 1).val ∧ (i 1).val < 0 + 1536 by omega)⟩
theorem filled3 (c : Dev nD) (i : main_v1_3.ty.Idx) : ∃ x, (boxOf c x).has ⟨main_v1_3, i⟩ := by
  have h0 : (i 0).val < 512 := (i 0).isLt
  have h1 : (i 1).val < 2048 := (i 1).isLt
  by_cases h : (i 0).val / 256 = c.val % 2
  · exact ⟨.inl 3, Box.has_two rfl (show 256 * (c.val % 2) ≤ (i 0).val ∧ (i 0).val < 256 * (c.val % 2) + 256 by omega)
      (show 0 ≤ (i 1).val ∧ (i 1).val < 0 + 2048 by omega)⟩
  · have hs := sib_mod c
    exact ⟨.inr 3, Box.has_two rfl (show 256 * ((sib c).val % 2) ≤ (i 0).val ∧ (i 0).val < 256 * ((sib c).val % 2) + 256 by omega)
      (show 0 ≤ (i 1).val ∧ (i 1).val < 0 + 2048 by omega)⟩

/-- Each place of a result is in its own half or in the sibling's. -/
theorem filled (c : Dev nD) : (a : Fin 4) → (i : (outRef a).ty.Idx) → ∃ x, (boxOf c x).has ⟨outRef a, i⟩
  | 0, i => filled0 c i
  | 1, i => filled1 c i
  | 2, i => filled2 c i
  | 3, i => filled3 c i

theorem sound : plan.Sound where
  aim_eq c r := by revert c r; decide +kernel
  peer_peer r c := by revert c r; decide +kernel
  sem_inj := by decide +kernel
  credit_pos x := by rcases x with a | a <;> exact put_pos a
  credit_move c x := by rcases x with a | a <;> exact put_credit c a
  credit_wait c k := by
    rcases k with a | a | a
    exacts [put_credit c a, get_credit c a, back_credit c a]
  follows := by decide +kernel
  args_unscoped := by decide +kernel
  src_arg c x _ := by rcases x with a | a <;> exact put_src c a ▸ in_args a
  dst_out c x := by rcases x with a | a <;> exact put_dst c a ▸ out_args a
  apart c x y h := disjoint_of_apart (boxed_land c x) (boxed_land c y) (by revert c x y; decide +kernel)
  cover c b hb hn i := by
    obtain ⟨a, rfl⟩ := outputs b hb hn
    exact (filled c a i).imp fun x hx => (boxed_land c x _).mpr hx
  pass_ref _ _ _ h := nomatch h
  pass _ _ _ h := nomatch h

/-! ## What every device ends with -/

section Final
variable {Val : EltTy → Type} (m : (ℓ : Loc nD τ sig) → Buf Val ℓ)

/-- Core `k` of the chip of `c`. -/
def core (c : Dev nD) (k : ℕ) : Dev nD := ⟨2 * (c.val / 2) + k % 2, by have := c.isLt; unfold nD at *; omega⟩

/-- The contents: an argument as it was, a result both cores' halves one after the other. -/
def fin (c : Dev nD) : (b : Ref sig .tc) → Buf Val ((c.tc : Thread nD τ).loc b)
  | ⟨.hbm, ⟨4, _⟩, _⟩ => fun (i : main_v1_0.ty.Idx) =>
      pick m main_arg0 (core c ((i 0).val / 1024)) (Shape.pair ⟨(i 0).val % 1024, Nat.mod_lt _ (by decide)⟩ (i 1))
  | ⟨.hbm, ⟨5, _⟩, _⟩ => fun (i : main_v1_1.ty.Idx) =>
      pick m main_arg1 (core c ((i 0).val / 256)) (Shape.pair ⟨(i 0).val % 256, Nat.mod_lt _ (by decide)⟩ (i 1))
  | ⟨.hbm, ⟨6, _⟩, _⟩ => fun (i : main_v1_2.ty.Idx) =>
      pick m main_arg2 (core c ((i 0).val / 1024)) (Shape.pair ⟨(i 0).val % 1024, Nat.mod_lt _ (by decide)⟩ (i 1))
  | ⟨.hbm, ⟨7, _⟩, _⟩ => fun (i : main_v1_3.ty.Idx) =>
      pick m main_arg3 (core c ((i 0).val / 256)) (Shape.pair ⟨(i 0).val % 256, Nat.mod_lt _ (by decide)⟩ (i 1))
  | b => m ((c.tc : Thread nD τ).loc b)

theorem carry0 (c d : Dev nD) (hd : d.val / 2 = c.val / 2) :
    (put c 0).dst.view.read Val (fin m d main_v1_0) = (put c 0).src.view.read Val (m ((c.tc : Thread nD τ).loc main_arg0)) := by
  refine funext fun (j : S1024x1408.Idx) => ?_
  have e0 := emb_at (s := S2048x1408) (k0_off1 c) S1024x1408.size (k0_off1_inb c) j 0 (o := 1024 * (c.val % 2)) (congrFun (k0_off1_eq c) 0)
  have e1 := emb_at (s := S2048x1408) (k0_off1 c) S1024x1408.size (k0_off1_inb c) j 1 (o := 0) (congrFun (k0_off1_eq c) 1)
  have hj : (j 0).val < 1024 := (j 0).isLt
  refine pick_congr m main_arg0 ?_ ?_
  · show 2 * (d.val / 2) + ((Rect.unit (s := S2048x1408) (k0_off1 c) S1024x1408.size (k0_off1_inb c)).emb j 0).val / 1024 % 2 = c.val
    rw [e0]; omega
  · intro a
    fin_cases a
    · show ((Rect.unit (s := S2048x1408) (k0_off1 c) S1024x1408.size (k0_off1_inb c)).emb j 0).val % 1024 = (j 0).val
      rw [e0]; omega
    · show ((Rect.unit (s := S2048x1408) (k0_off1 c) S1024x1408.size (k0_off1_inb c)).emb j 1).val = (j 1).val
      rw [e1]; omega

theorem carry1 (c d : Dev nD) (hd : d.val / 2 = c.val / 2) :
    (put c 1).dst.view.read Val (fin m d main_v1_1) = (put c 1).src.view.read Val (m ((c.tc : Thread nD τ).loc main_arg1)) := by
  refine funext fun (j : S256x2048.Idx) => ?_
  have e0 := emb_at (s := S512x2048) (k0_off2 c) S256x2048.size (k0_off2_inb c) j 0 (o := 256 * (c.val % 2)) (congrFun (k0_off2_eq c) 0)
  have e1 := emb_at (s := S512x2048) (k0_off2 c) S256x2048.size (k0_off2_inb c) j 1 (o := 0) (congrFun (k0_off2_eq c) 1)
  have hj : (j 0).val < 256 := (j 0).isLt
  refine pick_congr m main_arg1 ?_ ?_
  · show 2 * (d.val / 2) + ((Rect.unit (s := S512x2048) (k0_off2 c) S256x2048.size (k0_off2_inb c)).emb j 0).val / 256 % 2 = c.val
    rw [e0]; omega
  · intro a
    fin_cases a
    · show ((Rect.unit (s := S512x2048) (k0_off2 c) S256x2048.size (k0_off2_inb c)).emb j 0).val % 256 = (j 0).val
      rw [e0]; omega
    · show ((Rect.unit (s := S512x2048) (k0_off2 c) S256x2048.size (k0_off2_inb c)).emb j 1).val = (j 1).val
      rw [e1]; omega

theorem carry2 (c d : Dev nD) (hd : d.val / 2 = c.val / 2) :
    (put c 2).dst.view.read Val (fin m d main_v1_2) = (put c 2).src.view.read Val (m ((c.tc : Thread nD τ).loc main_arg2)) := by
  refine funext fun (j : S1024x1536.Idx) => ?_
  have e0 := emb_at (s := S2048x1536) (k0_off3 c) S1024x1536.size (k0_off3_inb c) j 0 (o := 1024 * (c.val % 2)) (congrFun (k0_off3_eq c) 0)
  have e1 := emb_at (s := S2048x1536) (k0_off3 c) S1024x1536.size (k0_off3_inb c) j 1 (o := 0) (congrFun (k0_off3_eq c) 1)
  have hj : (j 0).val < 1024 := (j 0).isLt
  refine pick_congr m main_arg2 ?_ ?_
  · show 2 * (d.val / 2) + ((Rect.unit (s := S2048x1536) (k0_off3 c) S1024x1536.size (k0_off3_inb c)).emb j 0).val / 1024 % 2 = c.val
    rw [e0]; omega
  · intro a
    fin_cases a
    · show ((Rect.unit (s := S2048x1536) (k0_off3 c) S1024x1536.size (k0_off3_inb c)).emb j 0).val % 1024 = (j 0).val
      rw [e0]; omega
    · show ((Rect.unit (s := S2048x1536) (k0_off3 c) S1024x1536.size (k0_off3_inb c)).emb j 1).val = (j 1).val
      rw [e1]; omega

theorem carry3 (c d : Dev nD) (hd : d.val / 2 = c.val / 2) :
    (put c 3).dst.view.read Val (fin m d main_v1_3) = (put c 3).src.view.read Val (m ((c.tc : Thread nD τ).loc main_arg3)) := by
  refine funext fun (j : S256x2048.Idx) => ?_
  have e0 := emb_at (s := S512x2048) (k0_off2 c) S256x2048.size (k0_off2_inb c) j 0 (o := 256 * (c.val % 2)) (congrFun (k0_off2_eq c) 0)
  have e1 := emb_at (s := S512x2048) (k0_off2 c) S256x2048.size (k0_off2_inb c) j 1 (o := 0) (congrFun (k0_off2_eq c) 1)
  have hj : (j 0).val < 256 := (j 0).isLt
  refine pick_congr m main_arg3 ?_ ?_
  · show 2 * (d.val / 2) + ((Rect.unit (s := S512x2048) (k0_off2 c) S256x2048.size (k0_off2_inb c)).emb j 0).val / 256 % 2 = c.val
    rw [e0]; omega
  · intro a
    fin_cases a
    · show ((Rect.unit (s := S512x2048) (k0_off2 c) S256x2048.size (k0_off2_inb c)).emb j 0).val % 256 = (j 0).val
      rw [e0]; omega
    · show ((Rect.unit (s := S512x2048) (k0_off2 c) S256x2048.size (k0_off2_inb c)).emb j 1).val = (j 1).val
      rw [e1]; omega

theorem carries (c d : Dev nD) (hd : d.val / 2 = c.val / 2) (a : Fin 4) :
    (put c a).dst.view.read Val (fin m d (put c a).dst.view.ref) = (put c a).src.view.read Val (fin m c (put c a).src.view.ref) := by
  fin_cases a
  exacts [carry0 m c d hd, carry1 m c d hd, carry2 m c d hd, carry3 m c d hd]

theorem sib_half (c : Dev nD) : (sib c).val / 2 = c.val / 2 := by revert c; decide

theorem fills : plan.Fills m (fin m) where
  arg c b hb := by
    have : b = main_arg0 ∨ b = main_arg1 ∨ b = main_arg2 ∨ b = main_arg3 := by revert b; decide
    rcases this with rfl | rfl | rfl | rfl <;> rfl
  carry c x := by
    rcases x with a | a
    exacts [carries m c c rfl a, carries m c (sib c) (sib_half c) a]

end Final

/-- Every execution ends with these contents. -/
theorem run_main (m : (ℓ : Loc nD τ sig) → Buf (Elt F) ℓ) (g : Dev nD → PrngReg) :
    θ_run (defs (F := F)) (onTc (τ := τ) main) ⟨m, fun _ => 0, g⟩ (fun r => (∀ c, Reads (fin m) c r.2) ∧ r.2.sem = fun _ => 0) :=
  run plan sound cfgs (fun _ => inferInstanceAs (IsEmpty (Fin 0))) cellOf_inj N_0 defs₀
    (fun t c Q => by rw [show defs₀ (F := F) .tc (cfgs 0).body ((cfgs 0).bodyArgs t ((cfgs 0).slots t)) = _ from body_eq t _])
    (by decide) g (fills m) main (fun _ => rfl)

end Cert.PairShareRun

end
-- ==== Proof.PairShareClaims.lean ====
/- The claims of the half exchange inside a chip. -/
module

public import proofs.«01_k».proof.Defs
public import proofs.«01_k».proof.Proof.PairShareRun
public import proofs.«01_k».proof.Proof.Gen.PairShare
public import proofs.«01_k».proof.Proof.Gen.PairShareRef
public import proofs.«01_k».proof.Proof.Gen.PairShareRefIdeal
public import Idealize.ShloMosaic.Lib.StableHlo.Run
public import Idealize.ShloMosaic.Lib.Quiescent

@[expose] public section

noncomputable section

namespace Cert.PairShareRun

open Idealize.ShloMosaic Idealize.ShloMosaic.TcCoe
open Idealize.SL Idealize.SL.Sem
open Cert.Exchange

variable {F : FTy → Type} [FloatOps F]

/-! ## Frames -/

theorem frame_ideal : Cert.quiescent_PairShareIdeal := fun m g _ =>
  (θ_run Cert.PairShareIdeal.defs _ _).mono (fun _ h => ⟨fun c => ⟨h.1 c _ rfl, h.1 c _ rfl, h.1 c _ rfl, h.1 c _ rfl⟩, h.2⟩) (run_main (F := Ideal) m g)

theorem frame_kernel : Cert.quiescent_PairShare := fun m g _ =>
  (θ_run Cert.PairShareIdeal.defs _ _).mono (fun _ h => ⟨fun c => ⟨h.1 c _ rfl, h.1 c _ rfl, h.1 c _ rfl, h.1 c _ rfl⟩, h.2⟩) (run_main (F := Bits) m g)

/-! ## The reference -/

section Reference
open Cert.PairShareRefIdeal

/-- The reference returns its arguments: nothing changes. -/
theorem run_ref (m : (ℓ : Loc nD τ sig) → Buf (Elt F) ℓ) (g : Dev nD → PrngReg) :
    θ_run (defs (F := F)) (onTc (τ := τ) main) ⟨m, fun _ => 0, g⟩
      (fun r => (∀ (c : Dev nD) (b : Ref sig .tc), r.2.mem ((c.tc : Thread nD τ).loc b) = m ((c.tc : Thread nD τ).loc b)) ∧ r.2.sem = fun _ => 0) :=
  (θ_run defs _ _).mono (fun r h => ⟨h, sem_eq_zero_of_no_sems rfl r.2⟩)
    (StableHlo.run_seq (by decide) (by decide) defs main (fun _ => []) (fun _ => rfl) (fun _ => trivial) m g)

end Reference

theorem frame_ref_ideal : Cert.quiescent_PairShareRefIdeal := fun m g _ =>
  (θ_run Cert.PairShareRefIdeal.defs _ _).mono (fun _ h => ⟨fun c => ⟨h.1 c _, h.1 c _, h.1 c _, h.1 c _⟩, h.2⟩) (run_ref (F := Ideal) m g)

theorem frame_ref : Cert.quiescent_PairShareRef := fun m g _ =>
  (θ_run Cert.PairShareRefIdeal.defs _ _).mono (fun _ h => ⟨fun c => ⟨h.1 c _, h.1 c _, h.1 c _, h.1 c _⟩, h.2⟩) (run_ref (F := Bits) m g)

/-! ## The values -/

section Values
open Cert.PairShareIdeal

variable {Val : EltTy → Type} (m : (ℓ : Loc nD τ sig) → Buf Val ℓ)

theorem value0 (w : (⟨2, ![2048, 5632]⟩ : Shape).Idx → Val .f32)
    (hw : ∀ c : Dev nD, m ((c.tc : Thread nD τ).loc main_arg0) = Layout.blockN ⟨2, ![1024, 1408]⟩ ⟨2, ![2048, 5632]⟩ (Layout.meshBlock [2, 2, 2] ![[2], [0, 1]] c) w)
    (c : Dev nD) : fin m c main_v1_0 = Layout.blockN ⟨2, ![2048, 1408]⟩ ⟨2, ![2048, 5632]⟩ (Layout.meshBlock [2, 2, 2] ![[], [0, 1]] c) w := by
  refine funext fun (i : main_v1_0.ty.Idx) => ?_
  have hc : c.val < 8 := c.isLt
  have h0 : (i 0).val < 2048 := (i 0).isLt
  show m _ _ = _
  rw [hw]
  refine at_congr w fun a => ?_
  fin_cases a
  · show ((2 * (c.val / 2) + (i 0).val / 1024 % 2) / 1 % 2 * 1 + 0) * 1024 + (i 0).val % 1024 = 0 * 2048 + (i 0).val
    omega
  · show ((2 * (c.val / 2) + (i 0).val / 1024 % 2) / 4 % 2 * 2 + ((2 * (c.val / 2) + (i 0).val / 1024 % 2) / 2 % 2 * 1 + 0)) * 1408 + (i 1).val
      = (c.val / 4 % 2 * 2 + (c.val / 2 % 2 * 1 + 0)) * 1408 + (i 1).val
    omega

theorem value1 (w : (⟨2, ![2048, 2048]⟩ : Shape).Idx → Val .f32)
    (hw : ∀ c : Dev nD, m ((c.tc : Thread nD τ).loc main_arg1) = Layout.block ⟨2, ![256, 2048]⟩ ⟨2, ![2048, 2048]⟩ 0 8 c w)
    (c : Dev nD) : fin m c main_v1_1 = Layout.blockN ⟨2, ![512, 2048]⟩ ⟨2, ![2048, 2048]⟩ (Layout.meshBlock [2, 2, 2] ![[0, 1], []] c) w := by
  refine funext fun (i : main_v1_1.ty.Idx) => ?_
  have hc : c.val < 8 := c.isLt
  have h0 : (i 0).val < 512 := (i 0).isLt
  show m _ _ = _
  rw [hw]
  refine at_congr w fun a => ?_
  fin_cases a
  · show (2 * (c.val / 2) + (i 0).val / 256 % 2) * 256 + (i 0).val % 256 = (c.val / 4 % 2 * 2 + (c.val / 2 % 2 * 1 + 0)) * 512 + (i 0).val
    omega
  · show (i 1).val = 0 * 2048 + (i 1).val
    omega

theorem value2 (w : (⟨2, ![2048, 6144]⟩ : Shape).Idx → Val .f32)
    (hw : ∀ c : Dev nD, m ((c.tc : Thread nD τ).loc main_arg2) = Layout.blockN ⟨2, ![1024, 1536]⟩ ⟨2, ![2048, 6144]⟩ (Layout.meshBlock [2, 2, 2] ![[2], [0, 1]] c) w)
    (c : Dev nD) : fin m c main_v1_2 = Layout.blockN ⟨2, ![2048, 1536]⟩ ⟨2, ![2048, 6144]⟩ (Layout.meshBlock [2, 2, 2] ![[], [0, 1]] c) w := by
  refine funext fun (i : main_v1_2.ty.Idx) => ?_
  have hc : c.val < 8 := c.isLt
  have h0 : (i 0).val < 2048 := (i 0).isLt
  show m _ _ = _
  rw [hw]
  refine at_congr w fun a => ?_
  fin_cases a
  · show ((2 * (c.val / 2) + (i 0).val / 1024 % 2) / 1 % 2 * 1 + 0) * 1024 + (i 0).val % 1024 = 0 * 2048 + (i 0).val
    omega
  · show ((2 * (c.val / 2) + (i 0).val / 1024 % 2) / 4 % 2 * 2 + ((2 * (c.val / 2) + (i 0).val / 1024 % 2) / 2 % 2 * 1 + 0)) * 1536 + (i 1).val
      = (c.val / 4 % 2 * 2 + (c.val / 2 % 2 * 1 + 0)) * 1536 + (i 1).val
    omega

theorem value3 (w : (⟨2, ![2048, 2048]⟩ : Shape).Idx → Val .f32)
    (hw : ∀ c : Dev nD, m ((c.tc : Thread nD τ).loc main_arg3) = Layout.block ⟨2, ![256, 2048]⟩ ⟨2, ![2048, 2048]⟩ 0 8 c w)
    (c : Dev nD) : fin m c main_v1_3 = Layout.blockN ⟨2, ![512, 2048]⟩ ⟨2, ![2048, 2048]⟩ (Layout.meshBlock [2, 2, 2] ![[0, 1], []] c) w := by
  refine funext fun (i : main_v1_3.ty.Idx) => ?_
  have hc : c.val < 8 := c.isLt
  have h0 : (i 0).val < 512 := (i 0).isLt
  show m _ _ = _
  rw [hw]
  refine at_congr w fun a => ?_
  fin_cases a
  · show (2 * (c.val / 2) + (i 0).val / 256 % 2) * 256 + (i 0).val % 256 = (c.val / 4 % 2 * 2 + (c.val / 2 % 2 * 1 + 0)) * 512 + (i 0).val
    omega
  · show (i 1).val = 0 * 2048 + (i 1).val
    omega

end Values

theorem values_ideal : Cert.algebraic_PairShareIdeal_PairShareRefIdeal := fun m g m' g' _ hm =>
  ⟨_, _, _, _,
    (θ_run Cert.PairShareIdeal.defs _ _).mono (fun _ h c =>
      ⟨(h.1 c _ rfl).trans (value0 m _ (fun c => (hm c).1) c), (h.1 c _ rfl).trans (value1 m _ (fun c => (hm c).2.1) c),
        (h.1 c _ rfl).trans (value2 m _ (fun c => (hm c).2.2.1) c), (h.1 c _ rfl).trans (value3 m _ (fun c => (hm c).2.2.2) c),
        h.1 c _ rfl, h.1 c _ rfl, h.1 c _ rfl, h.1 c _ rfl⟩) (run_main (F := Ideal) m g),
    (θ_run Cert.PairShareRefIdeal.defs _ _).mono (fun _ h => ⟨h.1 0 _, h.1 0 _, h.1 0 _, h.1 0 _, h.1 0 _, h.1 0 _, h.1 0 _, h.1 0 _⟩) (run_ref (F := Ideal) m' g')⟩

theorem values_kernel : Cert.bitexact_PairShare_PairShareRef := fun m g m' g' _ hm =>
  ⟨_, _, _, _,
    (θ_run Cert.PairShareIdeal.defs _ _).mono (fun _ h c =>
      ⟨(h.1 c _ rfl).trans (value0 m _ (fun c => (hm c).1) c), (h.1 c _ rfl).trans (value1 m _ (fun c => (hm c).2.1) c),
        (h.1 c _ rfl).trans (value2 m _ (fun c => (hm c).2.2.1) c), (h.1 c _ rfl).trans (value3 m _ (fun c => (hm c).2.2.2) c),
        h.1 c _ rfl, h.1 c _ rfl, h.1 c _ rfl, h.1 c _ rfl⟩) (run_main (F := Bits) m g),
    (θ_run Cert.PairShareRefIdeal.defs _ _).mono (fun _ h => ⟨h.1 0 _, h.1 0 _, h.1 0 _, h.1 0 _, h.1 0 _, h.1 0 _, h.1 0 _, h.1 0 _⟩) (run_ref (F := Bits) m' g')⟩

end Cert.PairShareRun

end
-- ==== Proof.PairSumClaims.lean ====
/- The sum of the two cores' halves: the claims at each shape. -/
module

public import proofs.«01_k».proof.Defs
public import proofs.«01_k».proof.Proof.Gen.PairSumEvIn.Value
public import proofs.«01_k».proof.Proof.Gen.PairSumEvInIdeal.Value
public import proofs.«01_k».proof.Proof.Gen.PairSumEvInRef.Run
public import proofs.«01_k».proof.Proof.Gen.PairSumEvInRefIdeal.Run
public import proofs.«01_k».proof.Proof.Gen.PairSumOut.Value
public import proofs.«01_k».proof.Proof.Gen.PairSumOutIdeal.Value
public import proofs.«01_k».proof.Proof.Gen.PairSumOutRef.Run
public import proofs.«01_k».proof.Proof.Gen.PairSumOutRefIdeal.Run
public import proofs.«01_k».proof.Proof.Gen.PairSumOdIn.Value
public import proofs.«01_k».proof.Proof.Gen.PairSumOdInIdeal.Value
public import proofs.«01_k».proof.Proof.Gen.PairSumOdInRef.Run
public import proofs.«01_k».proof.Proof.Gen.PairSumOdInRefIdeal.Run
public import Idealize.ShloMosaic.Lib.Quiescent

@[expose] public section

noncomputable section

open Idealize.ShloMosaic Idealize.ShloMosaic.TcCoe
open Idealize.SL Idealize.SL.Sem

/-! ## The even layer's input weights. -/

namespace Cert.PairSumEvInClaims

theorem frame_kernel : Cert.quiescent_PairSumEvIn := fun m g _ => Cert.PairSumEvIn.Gen.frame (F := Bits) m g

theorem frame_ideal : Cert.quiescent_PairSumEvInIdeal := fun m g _ => Cert.PairSumEvInIdeal.Gen.frame (F := Ideal) m g

theorem frame_ref_ideal : Cert.quiescent_PairSumEvInRefIdeal := fun m g _ =>
  (θ_run Cert.PairSumEvInRefIdeal.defs _ _).mono (fun r h => ⟨fun c => (h c).2, sem_eq_zero_of_no_sems rfl r.2⟩)
    (Cert.PairSumEvInRefIdeal.Value.run (F := Ideal) m g)

theorem frame_ref : Cert.quiescent_PairSumEvInRef := fun m g _ =>
  (θ_run Cert.PairSumEvInRef.defs _ _).mono (fun r h => ⟨fun c => (h c).2, sem_eq_zero_of_no_sems rfl r.2⟩)
    (Cert.PairSumEvInRef.Value.run (F := Bits) m g)

theorem values_kernel : Cert.bitexact_PairSumEvIn_PairSumEvInRef := fun m g m' g' _ hm =>
  ⟨fun c i => FloatOps.addf (F := Bits) (φ := .f32) ((m ((c.tc : Thread Cert.PairSumEvIn.nD Cert.PairSumEvIn.τ).loc Cert.PairSumEvIn.main_arg0)) i) ((m ((c.tc : Thread Cert.PairSumEvIn.nD Cert.PairSumEvIn.τ).loc Cert.PairSumEvIn.main_arg1)) i),
    Cert.PairSumEvIn.Value.run (F := Bits) m g,
    (θ_run Cert.PairSumEvInRef.defs _ _).mono (fun r h c => by
      obtain ⟨e0, e1⟩ := hm c
      exact ⟨(h c).1.trans (by rw [e0, e1]; rfl), (h c).2⟩) (Cert.PairSumEvInRef.Value.run (F := Bits) m' g')⟩

theorem values_ideal : Cert.algebraic_PairSumEvInIdeal_PairSumEvInRefIdeal := fun m g m' g' _ hm =>
  ⟨fun c i => FloatOps.addf (F := Ideal) (φ := .f32) ((m ((c.tc : Thread Cert.PairSumEvInIdeal.nD Cert.PairSumEvInIdeal.τ).loc Cert.PairSumEvInIdeal.main_arg0)) i) ((m ((c.tc : Thread Cert.PairSumEvInIdeal.nD Cert.PairSumEvInIdeal.τ).loc Cert.PairSumEvInIdeal.main_arg1)) i),
    Cert.PairSumEvInIdeal.Value.run (F := Ideal) m g,
    (θ_run Cert.PairSumEvInRefIdeal.defs _ _).mono (fun r h c => by
      obtain ⟨e0, e1⟩ := hm c
      exact ⟨(h c).1.trans (by rw [e0, e1]; rfl), (h c).2⟩) (Cert.PairSumEvInRefIdeal.Value.run (F := Ideal) m' g')⟩

end Cert.PairSumEvInClaims

/-! ## The output weights of either layer. -/

namespace Cert.PairSumOutClaims

theorem frame_kernel : Cert.quiescent_PairSumOut := fun m g _ => Cert.PairSumOut.Gen.frame (F := Bits) m g

theorem frame_ideal : Cert.quiescent_PairSumOutIdeal := fun m g _ => Cert.PairSumOutIdeal.Gen.frame (F := Ideal) m g

theorem frame_ref_ideal : Cert.quiescent_PairSumOutRefIdeal := fun m g _ =>
  (θ_run Cert.PairSumOutRefIdeal.defs _ _).mono (fun r h => ⟨fun c => (h c).2, sem_eq_zero_of_no_sems rfl r.2⟩)
    (Cert.PairSumOutRefIdeal.Value.run (F := Ideal) m g)

theorem frame_ref : Cert.quiescent_PairSumOutRef := fun m g _ =>
  (θ_run Cert.PairSumOutRef.defs _ _).mono (fun r h => ⟨fun c => (h c).2, sem_eq_zero_of_no_sems rfl r.2⟩)
    (Cert.PairSumOutRef.Value.run (F := Bits) m g)

theorem values_kernel : Cert.bitexact_PairSumOut_PairSumOutRef := fun m g m' g' _ hm =>
  ⟨fun c i => FloatOps.addf (F := Bits) (φ := .f32) ((m ((c.tc : Thread Cert.PairSumOut.nD Cert.PairSumOut.τ).loc Cert.PairSumOut.main_arg0)) i) ((m ((c.tc : Thread Cert.PairSumOut.nD Cert.PairSumOut.τ).loc Cert.PairSumOut.main_arg1)) i),
    Cert.PairSumOut.Value.run (F := Bits) m g,
    (θ_run Cert.PairSumOutRef.defs _ _).mono (fun r h c => by
      obtain ⟨e0, e1⟩ := hm c
      exact ⟨(h c).1.trans (by rw [e0, e1]; rfl), (h c).2⟩) (Cert.PairSumOutRef.Value.run (F := Bits) m' g')⟩

theorem values_ideal : Cert.algebraic_PairSumOutIdeal_PairSumOutRefIdeal := fun m g m' g' _ hm =>
  ⟨fun c i => FloatOps.addf (F := Ideal) (φ := .f32) ((m ((c.tc : Thread Cert.PairSumOutIdeal.nD Cert.PairSumOutIdeal.τ).loc Cert.PairSumOutIdeal.main_arg0)) i) ((m ((c.tc : Thread Cert.PairSumOutIdeal.nD Cert.PairSumOutIdeal.τ).loc Cert.PairSumOutIdeal.main_arg1)) i),
    Cert.PairSumOutIdeal.Value.run (F := Ideal) m g,
    (θ_run Cert.PairSumOutRefIdeal.defs _ _).mono (fun r h c => by
      obtain ⟨e0, e1⟩ := hm c
      exact ⟨(h c).1.trans (by rw [e0, e1]; rfl), (h c).2⟩) (Cert.PairSumOutRefIdeal.Value.run (F := Ideal) m' g')⟩

end Cert.PairSumOutClaims

/-! ## The odd layer's input weights. -/

namespace Cert.PairSumOdInClaims

theorem frame_kernel : Cert.quiescent_PairSumOdIn := fun m g _ => Cert.PairSumOdIn.Gen.frame (F := Bits) m g

theorem frame_ideal : Cert.quiescent_PairSumOdInIdeal := fun m g _ => Cert.PairSumOdInIdeal.Gen.frame (F := Ideal) m g

theorem frame_ref_ideal : Cert.quiescent_PairSumOdInRefIdeal := fun m g _ =>
  (θ_run Cert.PairSumOdInRefIdeal.defs _ _).mono (fun r h => ⟨fun c => (h c).2, sem_eq_zero_of_no_sems rfl r.2⟩)
    (Cert.PairSumOdInRefIdeal.Value.run (F := Ideal) m g)

theorem frame_ref : Cert.quiescent_PairSumOdInRef := fun m g _ =>
  (θ_run Cert.PairSumOdInRef.defs _ _).mono (fun r h => ⟨fun c => (h c).2, sem_eq_zero_of_no_sems rfl r.2⟩)
    (Cert.PairSumOdInRef.Value.run (F := Bits) m g)

theorem values_kernel : Cert.bitexact_PairSumOdIn_PairSumOdInRef := fun m g m' g' _ hm =>
  ⟨fun c i => FloatOps.addf (F := Bits) (φ := .f32) ((m ((c.tc : Thread Cert.PairSumOdIn.nD Cert.PairSumOdIn.τ).loc Cert.PairSumOdIn.main_arg0)) i) ((m ((c.tc : Thread Cert.PairSumOdIn.nD Cert.PairSumOdIn.τ).loc Cert.PairSumOdIn.main_arg1)) i),
    Cert.PairSumOdIn.Value.run (F := Bits) m g,
    (θ_run Cert.PairSumOdInRef.defs _ _).mono (fun r h c => by
      obtain ⟨e0, e1⟩ := hm c
      exact ⟨(h c).1.trans (by rw [e0, e1]; rfl), (h c).2⟩) (Cert.PairSumOdInRef.Value.run (F := Bits) m' g')⟩

theorem values_ideal : Cert.algebraic_PairSumOdInIdeal_PairSumOdInRefIdeal := fun m g m' g' _ hm =>
  ⟨fun c i => FloatOps.addf (F := Ideal) (φ := .f32) ((m ((c.tc : Thread Cert.PairSumOdInIdeal.nD Cert.PairSumOdInIdeal.τ).loc Cert.PairSumOdInIdeal.main_arg0)) i) ((m ((c.tc : Thread Cert.PairSumOdInIdeal.nD Cert.PairSumOdInIdeal.τ).loc Cert.PairSumOdInIdeal.main_arg1)) i),
    Cert.PairSumOdInIdeal.Value.run (F := Ideal) m g,
    (θ_run Cert.PairSumOdInRefIdeal.defs _ _).mono (fun r h c => by
      obtain ⟨e0, e1⟩ := hm c
      exact ⟨(h c).1.trans (by rw [e0, e1]; rfl), (h c).2⟩) (Cert.PairSumOdInRefIdeal.Value.run (F := Ideal) m' g')⟩

end Cert.PairSumOdInClaims

end
-- ==== Proof.SlotSumClaims.lean ====
/- The sum of an array's slots: what the host's program computes at an index, a tile of it, and the claims at each shape. -/
module

public import proofs.«01_k».proof.Defs
public import proofs.«01_k».proof.Proof.Geometry
public import proofs.«01_k».proof.Proof.Gen.SlotSumEvIn.Frame
public import proofs.«01_k».proof.Proof.Gen.SlotSumEvInIdeal.Value
public import proofs.«01_k».proof.Proof.Gen.SlotSumEvInRefIdeal.Run
public import proofs.«01_k».proof.Proof.Gen.SlotSumOut.Frame
public import proofs.«01_k».proof.Proof.Gen.SlotSumOutIdeal.Value
public import proofs.«01_k».proof.Proof.Gen.SlotSumOutRefIdeal.Run
public import proofs.«01_k».proof.Proof.Gen.SlotSumOdIn.Frame
public import proofs.«01_k».proof.Proof.Gen.SlotSumOdInIdeal.Value
public import proofs.«01_k».proof.Proof.Gen.SlotSumOdInRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.Exchange

/-! ## The sum of the slots, whole and tile by tile -/

namespace Cert.SlotSum

variable {n R w : ℕ}

/-- The sum of the slots at an index. -/
def total (x : (⟨3, ![n, R, w]⟩ : Shape).Idx → EReal) (k : (⟨2, ![R, w]⟩ : Shape).Idx) : EReal :=
  ∑ s : Fin n, x (ix3 s (k 0) (k 1))

/-- The host's sum over the first axis. -/
theorem host_total (x : FVec Ideal ⟨3, ![n, R, w]⟩ .f32) (h : (⟨3, ![n, R, w]⟩ : Shape).ReducesTo [0] ⟨2, ![R, w]⟩)
    (hu : 0 < (⟨0, ![]⟩ : Shape).numel) :
    Host.reduceAdd x (constant ⟨0, ![]⟩ .f32 0x00000000#32) h hu = total x := by
  funext k
  have at_pair : ∀ (a : Fin R) (b : Fin w), Host.reduceAdd x (constant ⟨0, ![]⟩ .f32 0x00000000#32) h hu (ix2 a b) = total x (ix2 a b) := by
    intro a b
    show _ = ∑ s : Fin n, x (ix3 s a b)
    pointwise
  have hk : k = ix2 (k 0) (k 1) := by
    funext a
    fin_cases a <;> rfl
  rw [hk]
  exact at_pair _ _

/-- The kernel's additions of four slots, one after another. -/
theorem add_four (f : Fin 4 → Ideal .f32) :
    FloatOps.addf (FloatOps.addf (FloatOps.addf (f 0) (f 1)) (f 2)) (f 3) = (∑ q, f q : EReal) :=
  (Fin.sum_univ_four (M := EReal) f).symm

/-- The same of eight. -/
theorem add_eight (f : Fin 8 → Ideal .f32) :
    FloatOps.addf (FloatOps.addf (FloatOps.addf (FloatOps.addf (FloatOps.addf (FloatOps.addf (FloatOps.addf (f 0) (f 1)) (f 2)) (f 3)) (f 4)) (f 5)) (f 6)) (f 7)
      = (∑ q, f q : EReal) :=
  (Fin.sum_univ_eight (M := EReal) f).symm

/-- A tile of rows: where its places lie in the array, the sum of the tile's slots is the sum of the array's. -/
theorem tile_total {T : ℕ} (x : (⟨3, ![n, R, w]⟩ : Shape).Idx → EReal) (o : ℕ)
    (p : (⟨3, ![n, T, w]⟩ : Shape).Idx → (⟨3, ![n, R, w]⟩ : Shape).Idx)
    (hp : ∀ i, (p i 0).val = (i 0).val ∧ (p i 1).val = o + (i 1).val ∧ (p i 2).val = (i 2).val)
    (k : (⟨2, ![R, w]⟩ : Shape).Idx) (j : (⟨2, ![T, w]⟩ : Shape).Idx)
    (hk : (k 0).val = o + (j 0).val ∧ (k 1).val = (j 1).val) :
    total (fun i => x (p i)) j = total x k := by
  refine Finset.sum_congr rfl fun s _ => at_congr x fun a => ?_
  obtain ⟨p0, p1, p2⟩ := hp (ix3 s (j 0) (j 1))
  fin_cases a
  · exact p0
  · exact p1.trans hk.1.symm
  · exact p2.trans hk.2.symm

end Cert.SlotSum

/-! ## The even layer's input weights. -/

namespace Cert.SlotSumEvInClaims

section
open Cert.SlotSumEvInIdeal Cert.SlotSumEvInIdeal.Gen

variable (m : (ℓ : Loc nD τ sig) → Buf (Elt Ideal) ℓ)

theorem blocks (t : Fin cfg0.N) : win0_0.index t (0 : Fin 3) = 0 ∧ win0_0.index t (1 : Fin 3) = t.val ∧ win0_0.index t (2 : Fin 3) = 0
    ∧ win0_1.index t (0 : Fin 2) = t.val ∧ win0_1.index t (1 : Fin 2) = 0 :=
  (by decide +kernel : ∀ t : Fin grid0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0) t

theorem from_tile (t : Fin cfg0.N) (i : S4x256x1408.Idx) : ((((cfg0.win 0).blk t).view.emb i) 0).val = (i 0).val
    ∧ ((((cfg0.win 0).blk t).view.emb i) 1).val = 256 * t.val + (i 1).val ∧ ((((cfg0.win 0).blk t).view.emb i) 2).val = (i 2).val := by
  obtain ⟨e0, e1, e2, -, -⟩ := blocks t
  refine ⟨?_, ?_, ?_⟩
  · show win0_0.index t (0 : Fin 3) * 4 + 1 * (i 0).val = _
    omega
  · show win0_0.index t (1 : Fin 3) * 256 + 1 * (i 1).val = _
    omega
  · show win0_0.index t (2 : Fin 3) * 1408 + 1 * (i 2).val = _
    omega

theorem to_tile (t : Fin cfg0.N) (j : S256x1408.Idx) :
    ((((cfg0.win 1).blk t).view.emb j) 0).val = 256 * t.val + (j 0).val ∧ ((((cfg0.win 1).blk t).view.emb j) 1).val = (j 1).val := by
  obtain ⟨-, -, -, e0, e1⟩ := blocks t
  refine ⟨?_, ?_⟩
  · show win0_1.index t (0 : Fin 2) * 256 + 1 * (j 0).val = _
    omega
  · show win0_1.index t (1 : Fin 2) * 1408 + 1 * (j 1).val = _
    omega

/-- The body leaves the sum of the slots of its block. -/
theorem body_sum (x : FVec Ideal S4x256x1408 .f32) (j : S256x1408.Idx) : out0_1 (F := Ideal) x j = SlotSum.total x j := by
  unfold out0_1
  rw [Value.canon1_eq]
  refine (SlotSum.add_four fun q => x (![r0_0.idx (Value.ix1_0 j), r0_1.idx (Value.ix1_1 j), r0_2.idx (Value.ix1_2 j), r0_3.idx (Value.ix1_3 j)] q)).trans
    (Finset.sum_congr rfl fun q _ => at_congr x fun a => ?_)
  fin_cases q <;> fin_cases a <;> first | rfl | exact (Nat.zero_add _).trans (Nat.one_mul _)

/-- A point writes back its tile of the sum. -/
theorem tile (c : Dev nD) (t : Fin cfg0.N) :
    (dats m 0 c).flushed 1 t = ((cfg0.win 1).blk t).view.read (Elt Ideal) (SlotSum.total (V m c main_arg0)) := by
  rw [Value.flushed1]
  funext j
  show out0_1 (iblk m c 0 t) j = SlotSum.total (V m c main_arg0) (((cfg0.win 1).blk t).view.emb j)
  rw [body_sum]
  exact SlotSum.tile_total (V m c main_arg0) (256 * t.val) ((cfg0.win 0).blk t).view.emb (from_tile t) _ j (to_tile t j)

theorem tiled (i : S1024x1408.Idx) : ∃ t : Fin cfg0.N, (cfg0.win 1).flush t = true ∧ i ∈ ((cfg0.win 1).blk t).view.set := by
  have h0 : (i 0).val < 1024 := (i 0).isLt
  have h1 : (i 1).val < 1408 := (i 1).isLt
  have ht : (i 0).val / 256 < cfg0.N := show (i 0).val / 256 < 4 by omega
  have hj := ((cfg0.win 1).blk ⟨_, ht⟩).view.emb_mem_set (ix2 ⟨(i 0).val % 256, Nat.mod_lt _ (by decide)⟩ ⟨(i 1).val, h1⟩ : S256x1408.Idx)
  obtain ⟨e0, e1⟩ := to_tile ⟨_, ht⟩ (ix2 ⟨(i 0).val % 256, Nat.mod_lt _ (by decide)⟩ ⟨(i 1).val, h1⟩)
  refine ⟨⟨_, ht⟩, flush0_1 _, ?_⟩
  refine (congrArg (· ∈ ((cfg0.win 1).blk ⟨_, ht⟩).view.set) (funext fun a => Fin.ext ?_)).mp hj
  fin_cases a
  · exact e0.trans (Nat.div_add_mod _ _)
  · exact e1

theorem result (c : Dev nD) : (dats m 0 c).arrAt 1 cfg0.N = SlotSum.total (m ((c : Thread nD τ).loc main_arg0)) :=
  (dats m 0 c).arrAt_eq_of_cover 1 _ (fun t _ => tile m c t) tiled

end

theorem frame_kernel : Cert.quiescent_SlotSumEvIn := fun m g _ => Cert.SlotSumEvIn.Gen.frame (F := Bits) m g

theorem frame_ideal : Cert.quiescent_SlotSumEvInIdeal := fun m g _ => Cert.SlotSumEvInIdeal.Gen.frame (F := Ideal) m g

theorem frame_ref_ideal : Cert.quiescent_SlotSumEvInRefIdeal := fun m g _ =>
  (θ_run Cert.SlotSumEvInRefIdeal.defs _ _).mono (fun r h => ⟨fun c => (h c).2, sem_eq_zero_of_no_sems rfl r.2⟩)
    (Cert.SlotSumEvInRefIdeal.Value.run (F := Ideal) m g)

theorem values_ideal : Cert.algebraic_SlotSumEvInIdeal_SlotSumEvInRefIdeal := fun m g m' g' _ hm =>
  ⟨fun c => SlotSum.total (m ((c.tc : Thread Cert.SlotSumEvInIdeal.nD Cert.SlotSumEvInIdeal.τ).loc Cert.SlotSumEvInIdeal.main_arg0)),
    (θ_run Cert.SlotSumEvInIdeal.defs _ _).mono (fun _ h c => ⟨(h c).1.trans (result m c), (h c).2⟩) (Cert.SlotSumEvInIdeal.Value.run_blocks (F := Ideal) m g),
    (θ_run Cert.SlotSumEvInRefIdeal.defs _ _).mono (fun _ h c => ⟨(h c).1.trans (by rw [hm c]; exact SlotSum.host_total _ _ _), (h c).2⟩)
      (Cert.SlotSumEvInRefIdeal.Value.run (F := Ideal) m' g')⟩

end Cert.SlotSumEvInClaims

/-! ## The output weights of either layer. -/

namespace Cert.SlotSumOutClaims

section
open Cert.SlotSumOutIdeal Cert.SlotSumOutIdeal.Gen

variable (m : (ℓ : Loc nD τ sig) → Buf (Elt Ideal) ℓ)

theorem blocks (t : Fin cfg0.N) : win0_0.index t (0 : Fin 3) = 0 ∧ win0_0.index t (1 : Fin 3) = t.val ∧ win0_0.index t (2 : Fin 3) = 0
    ∧ win0_1.index t (0 : Fin 2) = t.val ∧ win0_1.index t (1 : Fin 2) = 0 :=
  (by decide +kernel : ∀ t : Fin grid0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0) t

theorem from_tile (t : Fin cfg0.N) (i : S4x256x2048.Idx) : ((((cfg0.win 0).blk t).view.emb i) 0).val = (i 0).val
    ∧ ((((cfg0.win 0).blk t).view.emb i) 1).val = 256 * t.val + (i 1).val ∧ ((((cfg0.win 0).blk t).view.emb i) 2).val = (i 2).val := by
  obtain ⟨e0, e1, e2, -, -⟩ := blocks t
  refine ⟨?_, ?_, ?_⟩
  · show win0_0.index t (0 : Fin 3) * 4 + 1 * (i 0).val = _
    omega
  · show win0_0.index t (1 : Fin 3) * 256 + 1 * (i 1).val = _
    omega
  · show win0_0.index t (2 : Fin 3) * 2048 + 1 * (i 2).val = _
    omega

theorem to_tile (t : Fin cfg0.N) (j : S256x2048.Idx) :
    ((((cfg0.win 1).blk t).view.emb j) 0).val = 256 * t.val + (j 0).val ∧ ((((cfg0.win 1).blk t).view.emb j) 1).val = (j 1).val := by
  obtain ⟨-, -, -, e0, e1⟩ := blocks t
  refine ⟨?_, ?_⟩
  · show win0_1.index t (0 : Fin 2) * 256 + 1 * (j 0).val = _
    omega
  · show win0_1.index t (1 : Fin 2) * 2048 + 1 * (j 1).val = _
    omega

/-- The body leaves the sum of the slots of its block. -/
theorem body_sum (x : FVec Ideal S4x256x2048 .f32) (j : S256x2048.Idx) : out0_1 (F := Ideal) x j = SlotSum.total x j := by
  unfold out0_1
  rw [Value.canon1_eq]
  refine (SlotSum.add_four fun q => x (![r0_0.idx (Value.ix1_0 j), r0_1.idx (Value.ix1_1 j), r0_2.idx (Value.ix1_2 j), r0_3.idx (Value.ix1_3 j)] q)).trans
    (Finset.sum_congr rfl fun q _ => at_congr x fun a => ?_)
  fin_cases q <;> fin_cases a <;> first | rfl | exact (Nat.zero_add _).trans (Nat.one_mul _)

/-- A point writes back its tile of the sum. -/
theorem tile (c : Dev nD) (t : Fin cfg0.N) :
    (dats m 0 c).flushed 1 t = ((cfg0.win 1).blk t).view.read (Elt Ideal) (SlotSum.total (V m c main_arg0)) := by
  rw [Value.flushed1]
  funext j
  show out0_1 (iblk m c 0 t) j = SlotSum.total (V m c main_arg0) (((cfg0.win 1).blk t).view.emb j)
  rw [body_sum]
  exact SlotSum.tile_total (V m c main_arg0) (256 * t.val) ((cfg0.win 0).blk t).view.emb (from_tile t) _ j (to_tile t j)

theorem tiled (i : S256x2048.Idx) : ∃ t : Fin cfg0.N, (cfg0.win 1).flush t = true ∧ i ∈ ((cfg0.win 1).blk t).view.set := by
  have h0 : (i 0).val < 256 := (i 0).isLt
  have h1 : (i 1).val < 2048 := (i 1).isLt
  have ht : (i 0).val / 256 < cfg0.N := show (i 0).val / 256 < 1 by omega
  have hj := ((cfg0.win 1).blk ⟨_, ht⟩).view.emb_mem_set (ix2 ⟨(i 0).val % 256, Nat.mod_lt _ (by decide)⟩ ⟨(i 1).val, h1⟩ : S256x2048.Idx)
  obtain ⟨e0, e1⟩ := to_tile ⟨_, ht⟩ (ix2 ⟨(i 0).val % 256, Nat.mod_lt _ (by decide)⟩ ⟨(i 1).val, h1⟩)
  refine ⟨⟨_, ht⟩, flush0_1 _, ?_⟩
  refine (congrArg (· ∈ ((cfg0.win 1).blk ⟨_, ht⟩).view.set) (funext fun a => Fin.ext ?_)).mp hj
  fin_cases a
  · exact e0.trans (Nat.div_add_mod _ _)
  · exact e1

theorem result (c : Dev nD) : (dats m 0 c).arrAt 1 cfg0.N = SlotSum.total (m ((c : Thread nD τ).loc main_arg0)) :=
  (dats m 0 c).arrAt_eq_of_cover 1 _ (fun t _ => tile m c t) tiled

end

theorem frame_kernel : Cert.quiescent_SlotSumOut := fun m g _ => Cert.SlotSumOut.Gen.frame (F := Bits) m g

theorem frame_ideal : Cert.quiescent_SlotSumOutIdeal := fun m g _ => Cert.SlotSumOutIdeal.Gen.frame (F := Ideal) m g

theorem frame_ref_ideal : Cert.quiescent_SlotSumOutRefIdeal := fun m g _ =>
  (θ_run Cert.SlotSumOutRefIdeal.defs _ _).mono (fun r h => ⟨fun c => (h c).2, sem_eq_zero_of_no_sems rfl r.2⟩)
    (Cert.SlotSumOutRefIdeal.Value.run (F := Ideal) m g)

theorem values_ideal : Cert.algebraic_SlotSumOutIdeal_SlotSumOutRefIdeal := fun m g m' g' _ hm =>
  ⟨fun c => SlotSum.total (m ((c.tc : Thread Cert.SlotSumOutIdeal.nD Cert.SlotSumOutIdeal.τ).loc Cert.SlotSumOutIdeal.main_arg0)),
    (θ_run Cert.SlotSumOutIdeal.defs _ _).mono (fun _ h c => ⟨(h c).1.trans (result m c), (h c).2⟩) (Cert.SlotSumOutIdeal.Value.run_blocks (F := Ideal) m g),
    (θ_run Cert.SlotSumOutRefIdeal.defs _ _).mono (fun _ h c => ⟨(h c).1.trans (by rw [hm c]; exact SlotSum.host_total _ _ _), (h c).2⟩)
      (Cert.SlotSumOutRefIdeal.Value.run (F := Ideal) m' g')⟩

end Cert.SlotSumOutClaims

/-! ## The odd layer's input weights. -/

namespace Cert.SlotSumOdInClaims

section
open Cert.SlotSumOdInIdeal Cert.SlotSumOdInIdeal.Gen

variable (m : (ℓ : Loc nD τ sig) → Buf (Elt Ideal) ℓ)

theorem blocks (t : Fin cfg0.N) : win0_0.index t (0 : Fin 3) = 0 ∧ win0_0.index t (1 : Fin 3) = t.val ∧ win0_0.index t (2 : Fin 3) = 0
    ∧ win0_1.index t (0 : Fin 2) = t.val ∧ win0_1.index t (1 : Fin 2) = 0 :=
  (by decide +kernel : ∀ t : Fin grid0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0) t

theorem from_tile (t : Fin cfg0.N) (i : S4x256x1536.Idx) : ((((cfg0.win 0).blk t).view.emb i) 0).val = (i 0).val
    ∧ ((((cfg0.win 0).blk t).view.emb i) 1).val = 256 * t.val + (i 1).val ∧ ((((cfg0.win 0).blk t).view.emb i) 2).val = (i 2).val := by
  obtain ⟨e0, e1, e2, -, -⟩ := blocks t
  refine ⟨?_, ?_, ?_⟩
  · show win0_0.index t (0 : Fin 3) * 4 + 1 * (i 0).val = _
    omega
  · show win0_0.index t (1 : Fin 3) * 256 + 1 * (i 1).val = _
    omega
  · show win0_0.index t (2 : Fin 3) * 1536 + 1 * (i 2).val = _
    omega

theorem to_tile (t : Fin cfg0.N) (j : S256x1536.Idx) :
    ((((cfg0.win 1).blk t).view.emb j) 0).val = 256 * t.val + (j 0).val ∧ ((((cfg0.win 1).blk t).view.emb j) 1).val = (j 1).val := by
  obtain ⟨-, -, -, e0, e1⟩ := blocks t
  refine ⟨?_, ?_⟩
  · show win0_1.index t (0 : Fin 2) * 256 + 1 * (j 0).val = _
    omega
  · show win0_1.index t (1 : Fin 2) * 1536 + 1 * (j 1).val = _
    omega

/-- The body leaves the sum of the slots of its block. -/
theorem body_sum (x : FVec Ideal S4x256x1536 .f32) (j : S256x1536.Idx) : out0_1 (F := Ideal) x j = SlotSum.total x j := by
  unfold out0_1
  rw [Value.canon1_eq]
  refine (SlotSum.add_four fun q => x (![r0_0.idx (Value.ix1_0 j), r0_1.idx (Value.ix1_1 j), r0_2.idx (Value.ix1_2 j), r0_3.idx (Value.ix1_3 j)] q)).trans
    (Finset.sum_congr rfl fun q _ => at_congr x fun a => ?_)
  fin_cases q <;> fin_cases a <;> first | rfl | exact (Nat.zero_add _).trans (Nat.one_mul _)

/-- A point writes back its tile of the sum. -/
theorem tile (c : Dev nD) (t : Fin cfg0.N) :
    (dats m 0 c).flushed 1 t = ((cfg0.win 1).blk t).view.read (Elt Ideal) (SlotSum.total (V m c main_arg0)) := by
  rw [Value.flushed1]
  funext j
  show out0_1 (iblk m c 0 t) j = SlotSum.total (V m c main_arg0) (((cfg0.win 1).blk t).view.emb j)
  rw [body_sum]
  exact SlotSum.tile_total (V m c main_arg0) (256 * t.val) ((cfg0.win 0).blk t).view.emb (from_tile t) _ j (to_tile t j)

theorem tiled (i : S1024x1536.Idx) : ∃ t : Fin cfg0.N, (cfg0.win 1).flush t = true ∧ i ∈ ((cfg0.win 1).blk t).view.set := by
  have h0 : (i 0).val < 1024 := (i 0).isLt
  have h1 : (i 1).val < 1536 := (i 1).isLt
  have ht : (i 0).val / 256 < cfg0.N := show (i 0).val / 256 < 4 by omega
  have hj := ((cfg0.win 1).blk ⟨_, ht⟩).view.emb_mem_set (ix2 ⟨(i 0).val % 256, Nat.mod_lt _ (by decide)⟩ ⟨(i 1).val, h1⟩ : S256x1536.Idx)
  obtain ⟨e0, e1⟩ := to_tile ⟨_, ht⟩ (ix2 ⟨(i 0).val % 256, Nat.mod_lt _ (by decide)⟩ ⟨(i 1).val, h1⟩)
  refine ⟨⟨_, ht⟩, flush0_1 _, ?_⟩
  refine (congrArg (· ∈ ((cfg0.win 1).blk ⟨_, ht⟩).view.set) (funext fun a => Fin.ext ?_)).mp hj
  fin_cases a
  · exact e0.trans (Nat.div_add_mod _ _)
  · exact e1

theorem result (c : Dev nD) : (dats m 0 c).arrAt 1 cfg0.N = SlotSum.total (m ((c : Thread nD τ).loc main_arg0)) :=
  (dats m 0 c).arrAt_eq_of_cover 1 _ (fun t _ => tile m c t) tiled

end

theorem frame_kernel : Cert.quiescent_SlotSumOdIn := fun m g _ => Cert.SlotSumOdIn.Gen.frame (F := Bits) m g

theorem frame_ideal : Cert.quiescent_SlotSumOdInIdeal := fun m g _ => Cert.SlotSumOdInIdeal.Gen.frame (F := Ideal) m g

theorem frame_ref_ideal : Cert.quiescent_SlotSumOdInRefIdeal := fun m g _ =>
  (θ_run Cert.SlotSumOdInRefIdeal.defs _ _).mono (fun r h => ⟨fun c => (h c).2, sem_eq_zero_of_no_sems rfl r.2⟩)
    (Cert.SlotSumOdInRefIdeal.Value.run (F := Ideal) m g)

theorem values_ideal : Cert.algebraic_SlotSumOdInIdeal_SlotSumOdInRefIdeal := fun m g m' g' _ hm =>
  ⟨fun c => SlotSum.total (m ((c.tc : Thread Cert.SlotSumOdInIdeal.nD Cert.SlotSumOdInIdeal.τ).loc Cert.SlotSumOdInIdeal.main_arg0)),
    (θ_run Cert.SlotSumOdInIdeal.defs _ _).mono (fun _ h c => ⟨(h c).1.trans (result m c), (h c).2⟩) (Cert.SlotSumOdInIdeal.Value.run_blocks (F := Ideal) m g),
    (θ_run Cert.SlotSumOdInRefIdeal.defs _ _).mono (fun _ h c => ⟨(h c).1.trans (by rw [hm c]; exact SlotSum.host_total _ _ _), (h c).2⟩)
      (Cert.SlotSumOdInRefIdeal.Value.run (F := Ideal) m' g')⟩

end Cert.SlotSumOdInClaims

end
-- ==== Proof.NormBwdClaims.lean ====
/- The normalisation's backward pass. -/
module

public import proofs.«01_k».proof.Defs
public import proofs.«01_k».proof.Proof.Geometry
public import proofs.«01_k».proof.Proof.Gen.NormBwd.Frame
public import proofs.«01_k».proof.Proof.Gen.NormBwdIdeal.Frame
public import proofs.«01_k».proof.Proof.Gen.NormBwdRefIdeal.Run
public import Idealize.ShloMosaic.Lib.Pipeline.Value
public import Idealize.ShloMosaic.Lib.Tactic
public import Idealize.ShloMosaic.Lib.Quiescent
public import Idealize.ShloMosaic.Lib.Pointwise

@[expose] public section

noncomputable section

open Idealize.ShloMosaic Idealize.ShloMosaic.TcCoe
open Idealize.SL Idealize.SL.Sem
open Cert.Exchange

namespace Cert.NormBwdClaims

/-! ## The formula, row by row -/

/-- The reciprocal of a row's root mean square. -/
def scaleOf (x : Fin 2048 → EReal) : EReal :=
  Ideal.rsqrt (Ideal.div (∑ q, x q * x q) (Ideal.ofBits .f32 0x45000000#32) + Ideal.ofBits .f32 0x358637BD#32)

/-- The gradient of a row. -/
def rowGrad (d s g x : Fin 2048 → EReal) (e : Fin 2048) : EReal :=
  scaleOf x * (d e * (1 + s e) * g e - x e * scaleOf x * Ideal.div (∑ q, d q * (1 + s q) * g q * (x q * scaleOf x)) (Ideal.ofBits .f32 0x45000000#32))

/-- A row's share of the gradient of the modulation's scale. -/
def scaleGrad (d g x : Fin 2048 → EReal) (e : Fin 2048) : EReal := d e * (x e * scaleOf x * g e)

/-- A row's share of the gradient of the gain. -/
def gainGrad (d s x : Fin 2048 → EReal) (e : Fin 2048) : EReal := d e * (1 + s e) * (x e * scaleOf x)

/-- A row of an array. -/
def row {n : ℕ} (v : (⟨2, ![n, 2048]⟩ : Shape).Idx → EReal) (a : Fin n) (q : Fin 2048) : EReal := v (ix2 a q)

/-! ## A sum over the rows, taken a tile at a time -/

/-- The sum over the rows below a bound. -/
def upto (f : Fin 8192 → EReal) (n : ℕ) : EReal := ∑ i ∈ Finset.range n, if h : i < 8192 then f ⟨i, h⟩ else 0

theorem upto_zero (f : Fin 8192 → EReal) : upto f 0 = 0 := Finset.sum_range_zero _

theorem upto_tile (f : Fin 8192 → EReal) (t : ℕ) (ht : t < 32) :
    upto f (256 * (t + 1)) = upto f (256 * t) + ∑ r : Fin 256, f ⟨256 * t + r.val, by omega⟩ := by
  unfold upto
  rw [Nat.mul_succ, Finset.sum_range_add, Finset.sum_range (fun i => if h : 256 * t + i < 8192 then f ⟨256 * t + i, h⟩ else 0)]
  exact congrArg _ (Finset.sum_congr rfl fun r _ => dif_pos (by omega))

theorem upto_all (f : Fin 8192 → EReal) : upto f 8192 = ∑ i, f i := by
  unfold upto
  rw [Finset.sum_range]
  exact Finset.sum_congr rfl fun i _ => dif_pos i.isLt

/-! ## The results as functions of the arguments -/

section
variable (x : (⟨2, ![8192, 2048]⟩ : Shape).Idx → EReal) (d : (⟨2, ![8448, 2048]⟩ : Shape).Idx → EReal)
  (g s z : (⟨2, ![1, 2048]⟩ : Shape).Idx → EReal) (r : (⟨2, ![8192, 2048]⟩ : Shape).Idx → EReal)

/-- A row of the cotangent, which has more rows than the input. -/
def cot (i : Fin 8192) : Fin 2048 → EReal := row d ⟨i.val, by omega⟩

def dx (k : (⟨2, ![8192, 2048]⟩ : Shape).Idx) : EReal := r k + rowGrad (cot d (k 0)) (row s 0) (row g 0) (row x (k 0)) (k 1)

def shiftRow (e : Fin 2048) (i : Fin 8192) : EReal := cot d i e
def scaleRow (e : Fin 2048) (i : Fin 8192) : EReal := scaleGrad (cot d i) (row g 0) (row x i) e
def gainRow (e : Fin 2048) (i : Fin 8192) : EReal := gainGrad (cot d i) (row s 0) (row x i) e

def dshift (k : (⟨2, ![1, 2048]⟩ : Shape).Idx) : EReal := ∑ i, shiftRow d (k 1) i
def dscale (k : (⟨2, ![1, 2048]⟩ : Shape).Idx) : EReal := ∑ i, scaleRow x d g (k 1) i
def dgain (k : (⟨2, ![1, 2048]⟩ : Shape).Idx) : EReal := z k + ∑ i, gainRow x d s (k 1) i

/-- The sums over the first `n` rows. -/
def shiftTo (n : ℕ) (k : (⟨2, ![1, 2048]⟩ : Shape).Idx) : EReal := 0 + upto (shiftRow d (k 1)) n
def scaleTo (n : ℕ) (k : (⟨2, ![1, 2048]⟩ : Shape).Idx) : EReal := 0 + upto (scaleRow x d g (k 1)) n
def gainTo (n : ℕ) (k : (⟨2, ![1, 2048]⟩ : Shape).Idx) : EReal := z k + upto (gainRow x d s (k 1)) n
end

/-! What one tile of rows gives: the rows' gradient, and what it adds to a sum. -/

section
variable (x d r : (⟨2, ![256, 2048]⟩ : Shape).Idx → EReal) (g s z : (⟨2, ![1, 2048]⟩ : Shape).Idx → EReal)

def tileDx (k : (⟨2, ![256, 2048]⟩ : Shape).Idx) : EReal := r k + rowGrad (row d (k 0)) (row s 0) (row g 0) (row x (k 0)) (k 1)
def tileShift (k : (⟨2, ![1, 2048]⟩ : Shape).Idx) : EReal := z k + ∑ i, row d i (k 1)
def tileScale (k : (⟨2, ![1, 2048]⟩ : Shape).Idx) : EReal := z k + ∑ i, scaleGrad (row d i) (row g 0) (row x i) (k 1)
def tileGain (k : (⟨2, ![1, 2048]⟩ : Shape).Idx) : EReal := z k + ∑ i, gainGrad (row d i) (row s 0) (row x i) (k 1)
end

section
open Cert.NormBwdIdeal Cert.NormBwdIdeal.Gen

theorem hz : (![0, 0] : Fin 2 → Nat) = fun _ => 0 := funext fun a => by fin_cases a <;> rfl

/-- An index of a pair of axes. -/
theorem pair {n : ℕ} (k : (⟨2, ![n, 2048]⟩ : Shape).Idx) : k = ix2 (k 0) (k 1) := by
  funext x
  fin_cases x <;> rfl

/-! ## What the body leaves -/

section
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S1x2048 .f32) (h3 : a3.IsWhole)
  (a4 : Memref sig .tc .vmem S1x2048 .f32) (h4 : a4.IsWhole) (a5 : Memref sig .tc .vmem S1x2048 .f32) (h5 : a5.IsWhole)
  (a6 : Memref sig .tc .vmem S256x2048 .f32) (h6 : a6.IsWhole) (a7 : Memref sig .tc .vmem S256x2048 .f32) (h7 : a7.IsWhole)
  (a8 : Memref sig .tc .vmem S1x2048 .f32) (h8 : a8.IsWhole) (a9 : Memref sig .tc .vmem S1x2048 .f32) (h9 : a9.IsWhole)
  (a10 : Memref sig .tc .vmem S1x2048 .f32) (h10 : a10.IsWhole)
  (x0 x1 : FVec Ideal S256x2048 .f32) (x2 x3 x4 : FVec Ideal S1x2048 .f32) (x5 : FVec Ideal S256x2048 .f32) (xo7 xo8 xo9 : FVec Ideal S1x2048 .f32)

set_option maxHeartbeats 2000000 in
/-- After the first point: each output from the blocks alone. -/
theorem first (hc : cond0_0 i) :
    (out0_A_6 (F := Ideal) c i a1 h1 a2 h2 a3 h3 a4 h4 a5 h5 a6 h6 a7 h7 a8 h8 a9 h9 a10 h10 hc x0 x1 x2 x3 x4 x5
      = tileDx x0 x1 x5 x2 x3)
    ∧ (out0_A_7 (F := Ideal) c i a1 h1 a2 h2 a3 h3 a4 h4 a5 h5 a6 h6 a7 h7 a8 h8 a9 h9 a10 h10 hc x0 x1 x2 x3 x4 x5
      = tileShift x1 (fun _ => 0))
    ∧ (out0_A_8 (F := Ideal) c i a1 h1 a2 h2 a3 h3 a4 h4 a5 h5 a6 h6 a7 h7 a8 h8 a9 h9 a10 h10 hc x0 x1 x2 x3 x4 x5
      = tileScale x0 x1 x2 (fun _ => 0))
    ∧ (out0_A_9 (F := Ideal) c i a1 h1 a2 h2 a3 h3 a4 h4 a5 h5 a6 h6 a7 h7 a8 h8 a9 h9 a10 h10 hc x0 x1 x2 x3 x4 x5
      = tileGain x0 x1 x3 x4) := by
  unfold out0_A_6 out0_A_7 out0_A_8 out0_A_9
  rw [View.read_writes_eq_canon _ _ _ (cover0_A_6 (F := Ideal) c i a1 h1 a2 h2 a3 h3 a4 h4 a5 h5 a6 h6 a7 h7 a8 h8 a9 h9 a10 h10 hc x0 x1 x2 x3 x4 x5),
    View.read_writes_eq_canon _ _ _ (cover0_A_7 (F := Ideal) c i a1 h1 a2 h2 a3 h3 a4 h4 a5 h5 a6 h6 a7 h7 a8 h8 a9 h9 a10 h10 hc x0 x1 x2 x3 x4 x5),
    View.read_writes_eq_canon _ _ _ (cover0_A_8 (F := Ideal) c i a1 h1 a2 h2 a3 h3 a4 h4 a5 h5 a6 h6 a7 h7 a8 h8 a9 h9 a10 h10 hc x0 x1 x2 x3 x4 x5),
    View.read_writes_eq_canon _ _ _ (cover0_A_9 (F := Ideal) c i a1 h1 a2 h2 a3 h3 a4 h4 a5 h5 a6 h6 a7 h7 a8 h8 a9 h9 a10 h10 hc x0 x1 x2 x3 x4 x5)]
  unfold kernelRun0_A
  dsimp only
  sl_unfold_words
  simp only [View.canon_unit_zero (S := S256x2048) hz, View.canon_cons_unit_zero (S := S1x2048) hz, View.readCov_unit_zero (S := S1x2048) _ hz,
    View.readAt_eq_ld, h1.read_unread, h2.read_unread, h3.read_unread, h4.read_unread, h5.read_unread, h6.read_unread,
    View.ld_unit_zero (S := S256x2048) hz, View.ld_unit_zero (S := S1x2048) hz]
  unfold tileDx tileShift tileScale tileGain rowGrad scaleGrad gainGrad scaleOf row
  refine ⟨funext fun k => ?_, funext fun k => ?_, funext fun k => ?_, funext fun k => ?_⟩
  all_goals
    rw [pair k]
    generalize k 0 = a
    generalize k 1 = e
    unfold_payloads
    pointwise

/-- After a later point: the rows' gradient from the blocks, the three sums from what the point before left. -/
theorem later (hc : ¬cond0_0 i) :
    (out0_B_6 (F := Ideal) c i a1 h1 a2 h2 a3 h3 a4 h4 a5 h5 a6 h6 a7 h7 a8 h8 a9 h9 a10 h10 hc x0 x1 x2 x3 x4 x5 xo7 xo8 xo9
      = tileDx x0 x1 x5 x2 x3)
    ∧ (out0_B_7 (F := Ideal) c i a1 h1 a2 h2 a3 h3 a4 h4 a5 h5 a6 h6 a7 h7 a8 h8 a9 h9 a10 h10 hc x0 x1 x2 x3 x4 x5 xo7 xo8 xo9
      = tileShift x1 xo7)
    ∧ (out0_B_8 (F := Ideal) c i a1 h1 a2 h2 a3 h3 a4 h4 a5 h5 a6 h6 a7 h7 a8 h8 a9 h9 a10 h10 hc x0 x1 x2 x3 x4 x5 xo7 xo8 xo9
      = tileScale x0 x1 x2 xo8)
    ∧ (out0_B_9 (F := Ideal) c i a1 h1 a2 h2 a3 h3 a4 h4 a5 h5 a6 h6 a7 h7 a8 h8 a9 h9 a10 h10 hc x0 x1 x2 x3 x4 x5 xo7 xo8 xo9
      = tileGain x0 x1 x3 xo9) := by
  unfold out0_B_6 out0_B_7 out0_B_8 out0_B_9
  rw [View.read_writes_eq_canon _ _ _ (cover0_B_6 (F := Ideal) c i a1 h1 a2 h2 a3 h3 a4 h4 a5 h5 a6 h6 a7 h7 a8 h8 a9 h9 a10 h10 hc x0 x1 x2 x3 x4 x5 xo7 xo8 xo9),
    View.read_writes_eq_canon _ _ _ (cover0_B_7 (F := Ideal) c i a1 h1 a2 h2 a3 h3 a4 h4 a5 h5 a6 h6 a7 h7 a8 h8 a9 h9 a10 h10 hc x0 x1 x2 x3 x4 x5 xo7 xo8 xo9),
    View.read_writes_eq_canon _ _ _ (cover0_B_8 (F := Ideal) c i a1 h1 a2 h2 a3 h3 a4 h4 a5 h5 a6 h6 a7 h7 a8 h8 a9 h9 a10 h10 hc x0 x1 x2 x3 x4 x5 xo7 xo8 xo9),
    View.read_writes_eq_canon _ _ _ (cover0_B_9 (F := Ideal) c i a1 h1 a2 h2 a3 h3 a4 h4 a5 h5 a6 h6 a7 h7 a8 h8 a9 h9 a10 h10 hc x0 x1 x2 x3 x4 x5 xo7 xo8 xo9)]
  unfold kernelRun0_B
  dsimp only
  sl_unfold_words
  simp only [View.canon_unit_zero (S := S256x2048) hz, View.canon_unit_zero (S := S1x2048) hz, View.readAt_eq_ld, h1.read_unread, h2.read_unread, h3.read_unread, h4.read_unread, h5.read_unread, h6.read_unread,
    h8.read_unread, h9.read_unread, h10.read_unread, View.ld_unit_zero (S := S256x2048) hz, View.ld_unit_zero (S := S1x2048) hz]
  unfold tileDx tileShift tileScale tileGain rowGrad scaleGrad gainGrad scaleOf row
  refine ⟨funext fun k => ?_, funext fun k => ?_, funext fun k => ?_, funext fun k => ?_⟩
  all_goals
    rw [pair k]
    generalize k 0 = a
    generalize k 1 = e
    unfold_payloads
    pointwise
end
/-! ## The tiles -/

section
variable (m : (ℓ : Loc nD τ sig) → Buf (Elt Ideal) ℓ) (c : Dev nD)

/-- Which block of rows a window names at a point. -/
theorem blocks (t : Fin cfg0.N) : (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)) t

theorem below (t : Fin cfg0.N) : t.val < 32 := Nat.lt_of_lt_of_eq t.isLt N_0

/-- A tile's row, of the input and of the cotangent. -/
theorem in_row (t : Fin cfg0.N) (r : Fin 256) :
    row (iblk m c 0 t) r = row (V m c main_arg0) (⟨256 * t.val + r.val, by have := below t; omega⟩ : Fin 8192) := by
  obtain ⟨⟨e0, e1⟩, -⟩ := blocks t
  funext q
  refine at_congr (V m c main_arg0) fun a => ?_
  fin_cases a
  · show win0_0.index t (0 : Fin 2) * 256 + 1 * r.val = 256 * t.val + r.val
    omega
  · show win0_0.index t (1 : Fin 2) * 2048 + 1 * q.val = q.val
    omega

theorem cot_row (t : Fin cfg0.N) (r : Fin 256) :
    row (iblk m c 1 t) r = cot (V m c main_arg1) (⟨256 * t.val + r.val, by have := below t; omega⟩ : Fin 8192) := by
  obtain ⟨-, ⟨e0, e1⟩, -⟩ := blocks t
  funext q
  refine at_congr (V m c main_arg1) fun a => ?_
  fin_cases a
  · show win0_1.index t (0 : Fin 2) * 256 + 1 * r.val = 256 * t.val + r.val
    omega
  · show win0_1.index t (1 : Fin 2) * 2048 + 1 * q.val = q.val
    omega

/-- The vectors are staged whole. -/
theorem gain_row (t : Fin cfg0.N) : row (iblk m c 2 t) 0 = row (V m c main_arg2) 0 := by
  obtain ⟨-, -, ⟨e0, e1⟩, -⟩ := blocks t
  funext q
  refine at_congr (V m c main_arg2) fun a => ?_
  fin_cases a
  · show win0_2.index t (0 : Fin 2) * 1 + 1 * 0 = 0
    omega
  · show win0_2.index t (1 : Fin 2) * 2048 + 1 * q.val = q.val
    omega

theorem scale_row (t : Fin cfg0.N) : row (iblk m c 3 t) 0 = row (V m c main_arg3) 0 := by
  obtain ⟨-, -, -, ⟨e0, e1⟩, -⟩ := blocks t
  funext q
  refine at_congr (V m c main_arg3) fun a => ?_
  fin_cases a
  · show win0_3.index t (0 : Fin 2) * 1 + 1 * 0 = 0
    omega
  · show win0_3.index t (1 : Fin 2) * 2048 + 1 * q.val = q.val
    omega

theorem start_row (t : Fin cfg0.N) (k : S1x2048.Idx) : iblk m c 4 t k = V m c main_arg4 k := by
  obtain ⟨-, -, -, -, ⟨e0, e1⟩, -⟩ := blocks t
  refine at_congr (V m c main_arg4) fun a => ?_
  fin_cases a
  · show win0_4.index t (0 : Fin 2) * 1 + 1 * (k 0).val = (k 0).val
    omega
  · show win0_4.index t (1 : Fin 2) * 2048 + 1 * (k 1).val = (k 1).val
    omega

theorem rest_row (t : Fin cfg0.N) (k : S256x2048.Idx) : iblk m c 5 t k
    = V m c main_arg5 (ix2 (⟨256 * t.val + (k 0).val, by have := below t; have : (k 0).val < 256 := (k 0).isLt; omega⟩ : Fin 8192) (k 1)) := by
  obtain ⟨-, -, -, -, -, ⟨e0, e1⟩, -⟩ := blocks t
  refine at_congr (V m c main_arg5) fun a => ?_
  fin_cases a
  · show win0_5.index t (0 : Fin 2) * 256 + 1 * (k 0).val = 256 * t.val + (k 0).val
    omega
  · show win0_5.index t (1 : Fin 2) * 2048 + 1 * (k 1).val = (k 1).val
    omega

theorem to_rows (t : Fin cfg0.N) (k : S256x2048.Idx) :
    ((((cfg0.win 6).blk t).view.emb k) 0).val = 256 * t.val + (k 0).val ∧ ((((cfg0.win 6).blk t).view.emb k) 1).val = (k 1).val := by
  obtain ⟨-, -, -, -, -, -, e0, e1⟩ := blocks t
  refine ⟨?_, ?_⟩
  · show win0_6.index t (0 : Fin 2) * 256 + 1 * (k 0).val = _
    omega
  · show win0_6.index t (1 : Fin 2) * 2048 + 1 * (k 1).val = _
    omega

/-! ## The sums so far -/

/-- A tile's rows, added to the sums over the rows before. -/
theorem shift_step (t : Fin cfg0.N) : tileShift (iblk m c 1 t) (shiftTo (V m c main_arg1) (256 * t.val)) = shiftTo (V m c main_arg1) (256 * (t.val + 1)) := by
  unfold tileShift shiftTo
  funext k
  rw [upto_tile _ _ (below t), ← add_assoc]
  exact congrArg (_ + ·) (Finset.sum_congr rfl fun r _ => congrFun (cot_row m c t r) (k 1))

theorem scale_step (t : Fin cfg0.N) :
    tileScale (iblk m c 0 t) (iblk m c 1 t) (iblk m c 2 t) (scaleTo (V m c main_arg0) (V m c main_arg1) (V m c main_arg2) (256 * t.val))
      = scaleTo (V m c main_arg0) (V m c main_arg1) (V m c main_arg2) (256 * (t.val + 1)) := by
  unfold tileScale scaleTo
  funext k
  rw [upto_tile _ _ (below t), ← add_assoc]
  refine congrArg (HAdd.hAdd _) (Finset.sum_congr rfl fun r _ => ?_)
  rw [cot_row, gain_row, in_row]
  rfl

theorem gain_step (t : Fin cfg0.N) :
    tileGain (iblk m c 0 t) (iblk m c 1 t) (iblk m c 3 t) (gainTo (V m c main_arg0) (V m c main_arg1) (V m c main_arg3) (V m c main_arg4) (256 * t.val))
      = gainTo (V m c main_arg0) (V m c main_arg1) (V m c main_arg3) (V m c main_arg4) (256 * (t.val + 1)) := by
  unfold tileGain gainTo
  funext k
  rw [upto_tile _ _ (below t), ← add_assoc]
  refine congrArg (HAdd.hAdd _) (Finset.sum_congr rfl fun r _ => ?_)
  rw [cot_row, scale_row, in_row]
  rfl

/-- Over no rows. -/
theorem shift_none : (fun _ => 0) = shiftTo (V m c main_arg1) (256 * 0) := by
  unfold shiftTo
  funext k
  exact ((congrArg (0 + ·) (upto_zero _)).trans (add_zero 0)).symm

theorem scale_none : (fun _ => 0) = scaleTo (V m c main_arg0) (V m c main_arg1) (V m c main_arg2) (256 * 0) := by
  unfold scaleTo
  funext k
  exact ((congrArg (0 + ·) (upto_zero _)).trans (add_zero 0)).symm

theorem gain_none (t : Fin cfg0.N) : iblk m c 4 t = gainTo (V m c main_arg0) (V m c main_arg1) (V m c main_arg3) (V m c main_arg4) (256 * 0) := by
  unfold gainTo
  funext k
  exact (start_row m c t k).trans ((congrArg (_ + ·) (upto_zero _)).trans (add_zero _)).symm

/-- The first point, and a later one over what the point before left. -/
theorem at_first (t : Fin cfg0.N) (h0 : t.val % 32 = 0) :
    outsAt0 m c t.val t.isLt = (tileDx (iblk m c 0 t) (iblk m c 1 t) (iblk m c 5 t) (iblk m c 2 t) (iblk m c 3 t), tileShift (iblk m c 1 t) (fun _ => 0),
      tileScale (iblk m c 0 t) (iblk m c 1 t) (iblk m c 2 t) (fun _ => 0), tileGain (iblk m c 0 t) (iblk m c 1 t) (iblk m c 3 t) (iblk m c 4 t)) := by
  rw [outsAt0_A m c t h0]
  obtain ⟨s6, s7, s8, s9⟩ := first c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) ((hcond0_0 t).mpr h0)
  rw [s6, s7, s8, s9]

theorem at_later (t : Fin cfg0.N) (h0 : ¬t.val % 32 = 0) (o : FVec Ideal S256x2048 .f32 × FVec Ideal S1x2048 .f32 × FVec Ideal S1x2048 .f32 × FVec Ideal S1x2048 .f32)
    (ho : outsAt0 m c (t.val - 1) (Nat.lt_of_le_of_lt (Nat.sub_le _ _) t.isLt) = o) :
    outsAt0 m c t.val t.isLt = (tileDx (iblk m c 0 t) (iblk m c 1 t) (iblk m c 5 t) (iblk m c 2 t) (iblk m c 3 t), tileShift (iblk m c 1 t) o.2.1,
      tileScale (iblk m c 0 t) (iblk m c 1 t) (iblk m c 2 t) o.2.2.1, tileGain (iblk m c 0 t) (iblk m c 1 t) (iblk m c 3 t) o.2.2.2) := by
  rw [outsAt0_B m c t h0, ho]
  obtain ⟨s6, s7, s8, s9⟩ := later c (grid0.coords t) (ms0_0 t) (hs0_0 t) (ms0_1 t) (hs0_1 t) (ms0_2 t) (hs0_2 t) (ms0_3 t) (hs0_3 t) (ms0_4 t) (hs0_4 t)
    (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) (iblk m c 5 t) o.2.1 o.2.2.1 o.2.2.2 (fun h => h0 ((hcond0_0 t).mp h))
  rw [s6, s7, s8, s9]

/-- What the outputs hold after a point. -/
def held (t : Fin cfg0.N) : FVec Ideal S256x2048 .f32 × FVec Ideal S1x2048 .f32 × FVec Ideal S1x2048 .f32 × FVec Ideal S1x2048 .f32 :=
  (tileDx (iblk m c 0 t) (iblk m c 1 t) (iblk m c 5 t) (iblk m c 2 t) (iblk m c 3 t), shiftTo (V m c main_arg1) (256 * (t.val + 1)),
    scaleTo (V m c main_arg0) (V m c main_arg1) (V m c main_arg2) (256 * (t.val + 1)),
    gainTo (V m c main_arg0) (V m c main_arg1) (V m c main_arg3) (V m c main_arg4) (256 * (t.val + 1)))

theorem after_point (n : ℕ) : ∀ h : n < cfg0.N, outsAt0 m c n h = held m c ⟨n, h⟩ := by
  induction n with
  | zero =>
    intro h
    refine (at_first m c ⟨0, h⟩ rfl).trans ?_
    exact congrArg (Prod.mk _) (congrArg₂ Prod.mk ((congrArg (tileShift _) (shift_none m c)).trans (shift_step m c ⟨0, h⟩))
      (congrArg₂ Prod.mk ((congrArg (tileScale _ _ _) (scale_none m c)).trans (scale_step m c ⟨0, h⟩))
        ((congrArg (tileGain _ _ _) (gain_none m c ⟨0, h⟩)).trans (gain_step m c ⟨0, h⟩))))
  | succ n ih =>
    intro h
    have hn : ¬(⟨n + 1, h⟩ : Fin cfg0.N).val % 32 = 0 := by
      have := below ⟨n + 1, h⟩
      dsimp only at this ⊢
      omega
    refine (at_later m c ⟨n + 1, h⟩ hn (held m c ⟨n, Nat.lt_of_succ_lt h⟩) (ih _)).trans ?_
    exact congrArg (Prod.mk _) (congrArg₂ Prod.mk (shift_step m c ⟨n + 1, h⟩) (congrArg₂ Prod.mk (scale_step m c ⟨n + 1, h⟩) (gain_step m c ⟨n + 1, h⟩)))

/-! ## The arrays at the end -/

/-- A tile's gradient is the array's at its rows. -/
theorem dx_at (t : Fin cfg0.N) (r : Fin 256) (e : Fin 2048) :
    tileDx (iblk m c 0 t) (iblk m c 1 t) (iblk m c 5 t) (iblk m c 2 t) (iblk m c 3 t) (ix2 r e)
      = dx (V m c main_arg0) (V m c main_arg1) (V m c main_arg2) (V m c main_arg3) (V m c main_arg5)
        (ix2 (⟨256 * t.val + r.val, by have := below t; omega⟩ : Fin 8192) e) := by
  refine congrArg₂ (HAdd.hAdd (α := EReal) (β := EReal)) (rest_row m c t (ix2 r e)) ?_
  show rowGrad (row (iblk m c 1 t) r) (row (iblk m c 3 t) 0) (row (iblk m c 2 t) 0) (row (iblk m c 0 t) r) e
    = rowGrad (cot (V m c main_arg1) ⟨256 * t.val + r.val, _⟩) (row (V m c main_arg3) 0) (row (V m c main_arg2) 0)
      (row (V m c main_arg0) ⟨256 * t.val + r.val, _⟩) e
  rw [in_row, cot_row, gain_row, scale_row]

/-- A point writes back its tile of rows. -/
theorem tile_dx (t : Fin cfg0.N) : (dats m 0 c).flushed 6 t = ((cfg0.win 6).blk t).view.read (Elt Ideal)
    (dx (V m c main_arg0) (V m c main_arg1) (V m c main_arg2) (V m c main_arg3) (V m c main_arg5)) := by
  show (cfg0.win 6).cut (grid0.coords t) ((dats m 0 c).after 6 t) = _
  rw [after0_6, after_point m c t.val t.isLt]
  funext j
  show tileDx (iblk m c 0 t) (iblk m c 1 t) (iblk m c 5 t) (iblk m c 2 t) (iblk m c 3 t) j
    = dx (V m c main_arg0) (V m c main_arg1) (V m c main_arg2) (V m c main_arg3) (V m c main_arg5) (((cfg0.win 6).blk t).view.emb j)
  obtain ⟨k0, k1⟩ := to_rows t j
  refine (congrArg (tileDx _ _ _ _ _) (pair j)).trans ((dx_at m c t (j 0) (j 1)).trans ?_)
  refine congrArg (dx _ _ _ _ _) (funext fun a => Fin.ext ?_)
  fin_cases a
  · exact k0.symm
  · exact k1.symm

theorem tiled_dx (i : S8192x2048.Idx) : ∃ t : Fin cfg0.N, (cfg0.win 6).flush t = true ∧ i ∈ ((cfg0.win 6).blk t).view.set := by
  have h0 : (i 0).val < 8192 := (i 0).isLt
  have ht : (i 0).val / 256 < cfg0.N := show (i 0).val / 256 < 32 by omega
  have hj := ((cfg0.win 6).blk ⟨_, ht⟩).view.emb_mem_set (ix2 ⟨(i 0).val % 256, Nat.mod_lt _ (by decide)⟩ (i 1) : S256x2048.Idx)
  obtain ⟨e0, e1⟩ := to_rows ⟨_, ht⟩ (ix2 ⟨(i 0).val % 256, Nat.mod_lt _ (by decide)⟩ (i 1))
  refine ⟨⟨_, ht⟩, flush0_6 _, (congrArg (· ∈ ((cfg0.win 6).blk ⟨_, ht⟩).view.set) (funext fun a => Fin.ext ?_)).mp hj⟩
  fin_cases a
  · refine e0.trans ?_
    show 256 * ((i 0).val / 256) + (i 0).val % 256 = (i 0).val
    omega
  · exact e1

/-- The last point writes the sums back, whole. -/
theorem last (t : Fin cfg0.N) (h : t.val % 32 = 31) : 256 * (t.val + 1) = 8192 := by
  have := below t
  omega

theorem whole_7 (t : Fin cfg0.N) (k : S1x2048.Idx) : ((cfg0.win 7).blk t).view.emb k = k := by
  funext a
  refine Fin.ext ?_
  fin_cases a
  · show 0 * 1 + 1 * (k 0).val = (k 0).val
    omega
  · show 0 * 2048 + 1 * (k 1).val = (k 1).val
    omega

theorem whole_8 (t : Fin cfg0.N) (k : S1x2048.Idx) : ((cfg0.win 8).blk t).view.emb k = k := whole_7 t k
theorem whole_9 (t : Fin cfg0.N) (k : S1x2048.Idx) : ((cfg0.win 9).blk t).view.emb k = k := whole_7 t k

theorem last_point : (31 : ℕ) < cfg0.N := show 31 < 32 by omega

/-- The sums over all the rows. -/
theorem shift_all (d : S8448x2048.Idx → EReal) : shiftTo d 8192 = dshift d :=
  funext fun k => by
    unfold shiftTo dshift
    rw [upto_all]
    exact zero_add (M := EReal) _

theorem scale_all (x : S8192x2048.Idx → EReal) (d : S8448x2048.Idx → EReal) (g : S1x2048.Idx → EReal) : scaleTo x d g 8192 = dscale x d g :=
  funext fun k => by
    unfold scaleTo dscale
    rw [upto_all]
    exact zero_add (M := EReal) _

theorem gain_all (x : S8192x2048.Idx → EReal) (d : S8448x2048.Idx → EReal) (s z : S1x2048.Idx → EReal) : gainTo x d s z 8192 = dgain x d s z :=
  funext fun k => congrArg (z k + ·) (upto_all _)

theorem keeps_7 (t : Fin cfg0.N) (v : S1x2048.Idx → EReal) :
    (cfg0.win 7).cut (grid0.coords t) v = ((cfg0.win 7).blk t).view.read (Elt Ideal) v :=
  funext fun k => (congrArg v (whole_7 t k)).symm

theorem tile_dshift (t : Fin cfg0.N) (hf : (cfg0.win 7).flush t = true) :
    (dats m 0 c).flushed 7 t = ((cfg0.win 7).blk t).view.read (Elt Ideal) (dshift (V m c main_arg1)) := by
  have e : (dats m 0 c).after 7 t = shiftTo (V m c main_arg1) (256 * (t.val + 1)) :=
    (after0_7 m c t).trans (congrArg (fun o => o.2.1) (after_point m c t.val t.isLt))
  rw [last t ((flush0_7 t).mp hf), shift_all] at e
  exact (congrArg ((cfg0.win 7).cut (grid0.coords t)) e).trans (keeps_7 t _)

theorem keeps_8 (t : Fin cfg0.N) (v : S1x2048.Idx → EReal) :
    (cfg0.win 8).cut (grid0.coords t) v = ((cfg0.win 8).blk t).view.read (Elt Ideal) v :=
  funext fun k => (congrArg v (whole_8 t k)).symm

theorem tile_dscale (t : Fin cfg0.N) (hf : (cfg0.win 8).flush t = true) :
    (dats m 0 c).flushed 8 t = ((cfg0.win 8).blk t).view.read (Elt Ideal) (dscale (V m c main_arg0) (V m c main_arg1) (V m c main_arg2)) := by
  have e : (dats m 0 c).after 8 t = scaleTo (V m c main_arg0) (V m c main_arg1) (V m c main_arg2) (256 * (t.val + 1)) :=
    (after0_8 m c t).trans (congrArg (fun o => o.2.2.1) (after_point m c t.val t.isLt))
  rw [last t ((flush0_8 t).mp hf), scale_all] at e
  exact (congrArg ((cfg0.win 8).cut (grid0.coords t)) e).trans (keeps_8 t _)

theorem keeps_9 (t : Fin cfg0.N) (v : S1x2048.Idx → EReal) :
    (cfg0.win 9).cut (grid0.coords t) v = ((cfg0.win 9).blk t).view.read (Elt Ideal) v :=
  funext fun k => (congrArg v (whole_9 t k)).symm

theorem tile_dgain (t : Fin cfg0.N) (hf : (cfg0.win 9).flush t = true) :
    (dats m 0 c).flushed 9 t = ((cfg0.win 9).blk t).view.read (Elt Ideal) (dgain (V m c main_arg0) (V m c main_arg1) (V m c main_arg3) (V m c main_arg4)) := by
  have e : (dats m 0 c).after 9 t = gainTo (V m c main_arg0) (V m c main_arg1) (V m c main_arg3) (V m c main_arg4) (256 * (t.val + 1)) :=
    (after0_9 m c t).trans (congrArg (fun o => o.2.2.2) (after_point m c t.val t.isLt))
  rw [last t ((flush0_9 t).mp hf), gain_all] at e
  exact (congrArg ((cfg0.win 9).cut (grid0.coords t)) e).trans (keeps_9 t _)

theorem tiled_7 (i : S1x2048.Idx) : ∃ t : Fin cfg0.N, (cfg0.win 7).flush t = true ∧ i ∈ ((cfg0.win 7).blk t).view.set :=
  ⟨⟨31, last_point⟩, (flush0_7 _).mpr rfl,
    (congrArg (· ∈ ((cfg0.win 7).blk ⟨31, last_point⟩).view.set) (whole_7 _ i)).mp (((cfg0.win 7).blk ⟨31, last_point⟩).view.emb_mem_set i)⟩

theorem tiled_8 (i : S1x2048.Idx) : ∃ t : Fin cfg0.N, (cfg0.win 8).flush t = true ∧ i ∈ ((cfg0.win 8).blk t).view.set :=
  ⟨⟨31, last_point⟩, (flush0_8 _).mpr rfl,
    (congrArg (· ∈ ((cfg0.win 8).blk ⟨31, last_point⟩).view.set) (whole_8 _ i)).mp (((cfg0.win 8).blk ⟨31, last_point⟩).view.emb_mem_set i)⟩

theorem tiled_9 (i : S1x2048.Idx) : ∃ t : Fin cfg0.N, (cfg0.win 9).flush t = true ∧ i ∈ ((cfg0.win 9).blk t).view.set :=
  ⟨⟨31, last_point⟩, (flush0_9 _).mpr rfl,
    (congrArg (· ∈ ((cfg0.win 9).blk ⟨31, last_point⟩).view.set) (whole_9 _ i)).mp (((cfg0.win 9).blk ⟨31, last_point⟩).view.emb_mem_set i)⟩
end

section
variable (m : (ℓ : Loc nD τ sig) → Buf (Elt Ideal) ℓ) (ρ : Dev nD → PrngReg)

theorem kernel_run : θ_run defs (onTc (τ := τ) (main (F := Ideal))) ⟨m, fun _ => 0, ρ⟩ fun r => ∀ c : Dev nD,
      r.2.mem ((c.tc : Thread nD τ).loc main_v0_0) = dx (m ((c.tc : Thread nD τ).loc main_arg0)) (m ((c.tc : Thread nD τ).loc main_arg1))
        (m ((c.tc : Thread nD τ).loc main_arg2)) (m ((c.tc : Thread nD τ).loc main_arg3)) (m ((c.tc : Thread nD τ).loc main_arg5))
      ∧ r.2.mem ((c.tc : Thread nD τ).loc main_v0_1) = dshift (m ((c.tc : Thread nD τ).loc main_arg1))
      ∧ r.2.mem ((c.tc : Thread nD τ).loc main_v0_2) = dscale (m ((c.tc : Thread nD τ).loc main_arg0)) (m ((c.tc : Thread nD τ).loc main_arg1))
        (m ((c.tc : Thread nD τ).loc main_arg2))
      ∧ r.2.mem ((c.tc : Thread nD τ).loc main_v0_3) = dgain (m ((c.tc : Thread nD τ).loc main_arg0)) (m ((c.tc : Thread nD τ).loc main_arg1))
        (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h c).1 6).trans ((dats m 0 c).arrAt_eq_of_cover 6 _ (fun t _ => tile_dx m c t) tiled_dx),
    ((h c).1 7).trans ((dats m 0 c).arrAt_eq_of_cover 7 _ (fun t hf => tile_dshift m c t hf) tiled_7),
    ((h c).1 8).trans ((dats m 0 c).arrAt_eq_of_cover 8 _ (fun t hf => tile_dscale m c t hf) tiled_8),
    ((h c).1 9).trans ((dats m 0 c).arrAt_eq_of_cover 9 _ (fun t hf => tile_dgain m c t hf) tiled_9),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _),
    ((h c).1 4).trans ((dats m 0 c).arrAt_in 4 rfl _), ((h c).1 5).trans ((dats m 0 c).arrAt_in 5 rfl _)⟩) (run_main m ρ)

end

end

/-! ## The reference -/

section
open Cert.NormBwdRefIdeal Cert.NormBwdRefIdeal.Gen

variable (x r : FVec Ideal S8192x2048 .f32) (d : FVec Ideal S8448x2048 .f32) (g s z : FVec Ideal S1x2048 .f32)

/-- The reference's factor of every row, its normed rows, and its cotangent times one plus the scale. -/
def rowScale : FVec Ideal S8192x1 .f32 :=
  Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))
def normed : FVec Ideal S8192x2048 .f32 :=
  mulf x (broadcastInDim S8192x2048 ![0, 1] bcast_S8192x1_S8192x2048_0_1 (rowScale x))
def scaled : FVec Ideal S8192x2048 .f32 :=
  mulf (extractStridedSlice S8192x2048 ![0, 0] d slices_S8448x2048_S8192x2048_0_0) (broadcastInDim S8192x2048 ![0, 1] bcast_S1x2048_S8192x2048_0_1 (addf (broadcastInDim S1x2048 ![] bcast_S_S1x2048 (constant S_ .f32 0x3F800000#32)) s))

theorem row_scale (a : Fin 8192) (b : Fin 1) : rowScale x (ix2 a b) = scaleOf (row x a) := by
  unfold rowScale scaleOf row
  pointwise

theorem normed_at (a : Fin 8192) (e : Fin 2048) : normed x (ix2 a e) = row x a e * scaleOf (row x a) := by
  unfold normed row
  pointwise
  exact congrArg (_ * ·) (row_scale x a _)

theorem scaled_at (a : Fin 8192) (e : Fin 2048) : scaled d s (ix2 a e) = cot d a e * (1 + row s 0 e) := by
  unfold scaled cot row
  pointwise

theorem host_dx : addf r (mulf (broadcastInDim S8192x2048 ![0, 1] bcast_S8192x1_S8192x2048_0_1 (rowScale x)) (subf (mulf (scaled d s) (broadcastInDim S8192x2048 ![0, 1] bcast_S1x2048_S8192x2048_0_1 g)) (mulf (normed x) (broadcastInDim S8192x2048 ![0, 1] bcast_S8192x1_S8192x2048_0_1 (Host.divf (broadcastInDim S8192x1 ![0] bcast_S8192_S8192x1_0 (Host.reduceAdd (mulf (mulf (scaled d s) (broadcastInDim S8192x2048 ![0, 1] bcast_S1x2048_S8192x2048_0_1 g)) (normed x)) (constant S_ .f32 0x00000000#32) reducesTo_S8192x2048_S8192_d1 h_S_)) (broadcastInDim S8192x1 ![] bcast_S_S8192x1 (constant S_ .f32 0x45000000#32)))))))
    = dx x d g s r := by
  funext k
  obtain ⟨a, e, rfl⟩ : ∃ (a : Fin 8192) (e : Fin 2048), k = ix2 a e := ⟨k 0, k 1, pair k⟩
  show _ = r (ix2 a e) + rowGrad (cot d a) (row s 0) (row g 0) (row x a) e
  unfold rowGrad
  pointwise
  simp only [row_scale, normed_at, scaled_at]
  rfl

theorem host_dshift : broadcastInDim S1x2048 ![1] bcast_S2048_S1x2048_1 (Host.reduceAdd (extractStridedSlice S8192x2048 ![0, 0] d slices_S8448x2048_S8192x2048_0_0) (constant S_ .f32 0x00000000#32) reducesTo_S8192x2048_S2048_d0 h_S_)
    = dshift d := by
  funext k
  obtain ⟨a, e, rfl⟩ : ∃ (a : Fin 1) (e : Fin 2048), k = ix2 a e := ⟨k 0, k 1, pair k⟩
  unfold dshift shiftRow cot row
  pointwise

theorem host_dscale : broadcastInDim S1x2048 ![1] bcast_S2048_S1x2048_1 (Host.reduceAdd (mulf (extractStridedSlice S8192x2048 ![0, 0] d slices_S8448x2048_S8192x2048_0_0) (mulf (normed x) (broadcastInDim S8192x2048 ![0, 1] bcast_S1x2048_S8192x2048_0_1 g))) (constant S_ .f32 0x00000000#32) reducesTo_S8192x2048_S2048_d0 h_S_)
    = dscale x d g := by
  funext k
  obtain ⟨a, e, rfl⟩ : ∃ (a : Fin 1) (e : Fin 2048), k = ix2 a e := ⟨k 0, k 1, pair k⟩
  show _ = ∑ i, cot d i e * (row x i e * scaleOf (row x i) * row g 0 e)
  pointwise
  simp only [normed_at]
  rfl

theorem host_dgain : addf z (broadcastInDim S1x2048 ![1] bcast_S2048_S1x2048_1 (Host.reduceAdd (mulf (scaled d s) (normed x)) (constant S_ .f32 0x00000000#32) reducesTo_S8192x2048_S2048_d0 h_S_))
    = dgain x d s z := by
  funext k
  obtain ⟨a, e, rfl⟩ : ∃ (a : Fin 1) (e : Fin 2048), k = ix2 a e := ⟨k 0, k 1, pair k⟩
  show _ = z (ix2 a e) + ∑ i, cot d i e * (1 + row s 0 e) * (row x i e * scaleOf (row x i))
  pointwise
  simp only [normed_at, scaled_at]
end

theorem frame_kernel : Cert.quiescent_NormBwd := fun m g _ => Cert.NormBwd.Gen.frame (F := Bits) m g

theorem frame_ideal : Cert.quiescent_NormBwdIdeal := fun m g _ => Cert.NormBwdIdeal.Gen.frame (F := Ideal) m g

theorem frame_ref_ideal : Cert.quiescent_NormBwdRefIdeal := fun m g _ =>
  (θ_run Cert.NormBwdRefIdeal.defs _ _).mono (fun r h => ⟨fun c => (h c).2.2.2.2, sem_eq_zero_of_no_sems rfl r.2⟩)
    (Cert.NormBwdRefIdeal.Value.run (F := Ideal) m g)

theorem values_ideal : Cert.algebraic_NormBwdIdeal_NormBwdRefIdeal := fun m g m' g' _ hm =>
  ⟨_, _, _, _, kernel_run m g,
    (θ_run Cert.NormBwdRefIdeal.defs _ _).mono
      (fun _ h c => by
        obtain ⟨e0, e1, e2, e3, e4, e5⟩ := hm c
        refine ⟨(h c).1.trans ?_, (h c).2.1.trans ?_, (h c).2.2.1.trans ?_, (h c).2.2.2.1.trans ?_, (h c).2.2.2.2⟩
        · rw [e0, e1, e2, e3, e5]
          exact host_dx ..
        · rw [e1]
          exact host_dshift ..
        · rw [e0, e1, e2]
          exact host_dscale ..
        · rw [e0, e1, e3, e4]
          exact host_dgain ..)
      (Cert.NormBwdRefIdeal.Value.run (F := Ideal) m' g')⟩

end Cert.NormBwdClaims

end
-- ==== Proof.SmallGradsClaims.lean ====
/- The small gradients: every device's, packed in rows of lanes, summed and unpacked, against the sums of the arrays. -/
module

public import proofs.«01_k».proof.Proof.SlotSumClaims
public import proofs.«01_k».proof.Proof.NormBwdClaims
public import proofs.«01_k».proof.Proof.Gen.SmallGrads.Frame
public import proofs.«01_k».proof.Proof.Gen.SmallGradsIdeal.Frame
public import Idealize.ShloMosaic.Lib.Quiescent
public import Idealize.ShloMosaic.Lib.Pointwise
public import Idealize.ShloMosaic.Lib.KernelVsHost
public import proofs.«01_k».proof.Proof.Gen.SmallGradsRefIdeal.Run

@[expose] public section

noncomputable section

open Idealize.ShloMosaic Idealize.ShloMosaic.TcCoe
open Idealize.SL Idealize.SL.Sem
open Cert.Exchange

namespace Cert.SmallGradsClaims

/-! ## A part of the packed sums -/

/-- The sum over the devices, of an array that is one device's for every place of the first axis. -/
def summed {S t : Shape} (place : Fin 8 → t.Idx → S.Idx) (x : S.Idx → EReal) (j : t.Idx) : EReal := ∑ s, x (place s j)

section
variable (C : (⟨2, ![8, 195840]⟩ : Shape).Idx → EReal) {u : Shape} (z : u.Idx → EReal) (hu : 0 < u.numel)
  (hp : (⟨2, ![8, 195840]⟩ : Shape).Pads ![0, 0] ![0, 768] ![0, 0] ⟨2, ![8, 196608]⟩)
  (hr : (⟨2, ![8, 196608]⟩ : Shape).ShapeCasts ⟨3, ![8, 1536, 128]⟩) (hf : (⟨2, ![1536, 128]⟩ : Shape).ShapeCasts ⟨1, ![196608]⟩)

/-- The rows of lanes, each device's. -/
def rows : (⟨3, ![8, 1536, 128]⟩ : Shape).Idx → EReal := shapeCast _ (pad ⟨2, ![8, 196608]⟩ ![0, 0] ![0, 768] ![0, 0] C z hp hu) hr

/-- The sums in one line: at a place before the padding the sum of what the devices have there. -/
theorem line_at (p : ℕ) (h : p < 195840) (i : (⟨1, ![196608]⟩ : Shape).Idx) (hi : (i 0).val = p) :
    shapeCast _ (SlotSum.total (rows C z hu hp hr)) hf i = ∑ s : Fin 8, C (ix2 s ⟨p, h⟩) := by
  have hlane : p / 128 < 1536 := by omega
  rw [shapeCast_apply _ hf i (ix2 ⟨p / 128, hlane⟩ ⟨p % 128, Nat.mod_lt _ (by decide)⟩)
    (by rw [Shape.rowMajor_val_two, Shape.rowMajor_val_one, hi]; exact Nat.div_add_mod' p 128)]
  refine Finset.sum_congr rfl fun s _ => ?_
  refine (shapeCast_apply _ hr _ (ix2 s ⟨p, by omega⟩) ?_).trans (pad_apply_of_inside _ _ _ C z hp hu _ (ix2 s ⟨p, h⟩) fun a => ?_)
  · rw [Shape.rowMajor_val_two, Shape.rowMajor_val_three]
    show s.val * 196608 + p = (s.val * 1536 + p / 128) * 128 + p % 128
    omega
  · fin_cases a
    · show s.val = 0 + s.val * (0 + 1)
      omega
    · show p = 0 + p * (0 + 1)
      omega
end

/-- What is unpacked of the sums, for the array at a place of the list: the sum of the devices' arrays. -/
theorem unpacked {S t : Shape} {n pre k : ℕ} (xs : List ((s : Shape) × (s.Idx → EReal))) (hc : Shape.Concatenates (xs.map (·.1)) ⟨2, ![8, 195840]⟩ 1)
    {u : Shape} (z : u.Idx → EReal) (hu : 0 < u.numel) (hp) (hr) (hf) (x : S.Idx → EReal) (hx : S.ShapeCasts ⟨2, ![8, n]⟩) (hk : k < xs.length)
    (hxk : xs[k] = ⟨⟨2, ![8, n]⟩, shapeCast _ x hx⟩)
    (hpre : (((xs.take k).map (·.1)).map fun s => if h : s.rank = 2 then s.size ((1 : Fin 2).cast h.symm) else 0).sum = pre)
    (hin : pre + n ≤ 195840) (hs : (⟨1, ![196608]⟩ : Shape).Slices ![pre] ⟨1, ![n]⟩) (ht : (⟨1, ![n]⟩ : Shape).ShapeCasts t)
    (place : Fin 8 → t.Idx → S.Idx) (hplace : ∀ s j, (S.rowMajor (place s j)).val = s.val * n + (t.rowMajor j).val) :
    shapeCast t (extractStridedSlice ⟨1, ![n]⟩ ![pre]
      (shapeCast ⟨1, ![196608]⟩ (SlotSum.total (rows (concatenate ⟨2, ![8, 195840]⟩ 1 xs hc) z hu hp hr)) hf) hs) ht = summed place x := by
  funext j
  have hj : (t.rowMajor j).val < n := by
    have e := (t.rowMajor j).isLt
    have e' : t.numel = n := ht.trans (by simp [Shape.numel])
    omega
  refine (shapeCast_apply _ ht j (ix1 ⟨(t.rowMajor j).val, hj⟩) (Shape.rowMajor_val_one _)).trans ?_
  refine (extractStridedSlice_apply _ _ hs _ (ix1 ⟨pre + (t.rowMajor j).val, by omega⟩) fun a => ?_).trans ?_
  · fin_cases a
    rfl
  refine (line_at _ z hu hp hr hf (pre + (t.rowMajor j).val) (by omega) _ rfl).trans (Finset.sum_congr rfl fun s _ => ?_)
  refine (concatenate_apply_piece 1 xs hc _ k hk _ _ hxk rfl pre hpre (ix2 s ⟨(t.rowMajor j).val, hj⟩) (fun b hb => ?_) rfl).trans
    (shapeCast_apply _ hx _ _ (by rw [Shape.rowMajor_val_two]; exact hplace s j))
  fin_cases b
  · rfl
  · exact absurd rfl hb

/-- The place in an array of rows of every device. -/
theorem place_rows {R w n : ℕ} (hn : R * w = n) (s : Fin 8) (j : (⟨2, ![R, w]⟩ : Shape).Idx) :
    ((⟨3, ![8, R, w]⟩ : Shape).rowMajor (ix3 s (j 0) (j 1))).val = s.val * n + ((⟨2, ![R, w]⟩ : Shape).rowMajor j).val := by
  rw [Shape.rowMajor_val_three, Shape.rowMajor_val_two]
  show (s.val * R + (j 0).val) * w + (j 1).val = s.val * n + ((j 0).val * w + (j 1).val)
  rw [← hn]
  ring

/-- The same of an array of squares. -/
theorem place_squares {R w v n : ℕ} (hn : R * w * v = n) (s : Fin 8) (j : (⟨3, ![R, w, v]⟩ : Shape).Idx) :
    ((⟨4, ![8, R, w, v]⟩ : Shape).rowMajor (ix4 s (j 0) (j 1) (j 2))).val = s.val * n + ((⟨3, ![R, w, v]⟩ : Shape).rowMajor j).val := by
  rw [Shape.rowMajor_val_four, Shape.rowMajor_val_three]
  show ((s.val * R + (j 0).val) * w + (j 1).val) * v + (j 2).val = s.val * n + (((j 0).val * w + (j 1).val) * v + (j 2).val)
  rw [← hn]
  ring

/-! ## The call -/

section
open Cert.SmallGradsIdeal Cert.SmallGradsIdeal.Gen

/-- The arrays of each device in one line. -/
def lines (x0 : FVec Ideal S8x6144 .f32) (x1 : FVec Ideal S8x6144 .f32) (x2 : FVec Ideal S8x6144 .f32) (x3 : FVec Ideal S8x2048 .f32) (x4 : FVec Ideal S8x2048 .f32) (x5 : FVec Ideal S8x128 .f32) (x6 : FVec Ideal S8x128 .f32) (x7 : FVec Ideal S8x31744 .f32) (x8 : FVec Ideal S8x1024 .f32) (x9 : FVec Ideal S8x1024 .f32) (x10 : FVec Ideal S8x1024 .f32) (x11 : FVec Ideal S8x2048 .f32) (x12 : FVec Ideal S8x2048 .f32) (x13 : FVec Ideal S8x131072 .f32) (x14 : FVec Ideal S8x1024 .f32) (x15 : FVec Ideal S8x2048 .f32) : S8x195840.Idx → EReal :=
  concatenate S8x195840 1 [⟨S8x6144, x0⟩, ⟨S8x6144, x1⟩, ⟨S8x6144, x2⟩, ⟨S8x2048, x3⟩, ⟨S8x2048, x4⟩, ⟨S8x128, x5⟩, ⟨S8x128, x6⟩, ⟨S8x31744, x7⟩, ⟨S8x1024, x8⟩, ⟨S8x1024, x9⟩, ⟨S8x1024, x10⟩, ⟨S8x2048, x11⟩, ⟨S8x2048, x12⟩, ⟨S8x131072, x13⟩, ⟨S8x1024, x14⟩, ⟨S8x2048, x15⟩]
    concatenates_S8x6144_S8x6144_S8x6144_S8x2048_S8x2048_S8x128_S8x128_S8x31744_S8x1024_S8x1024_S8x1024_S8x2048_S8x2048_S8x131072_S8x1024_S8x2048_S8x195840_d1

/-- The lines packed in rows of lanes. -/
def laned (C : S8x195840.Idx → EReal) : S8x1536x128.Idx → EReal :=
  rows C (sitofp (F := Ideal) .f32 (constantI S_ 32 0#32)) h_S_ pads_S8x195840_S8x196608_000_07680 shapeCasts_S8x196608_S8x1536x128

/-- The arrays packed. -/
def packed (W : Valuation τ sig (Elt Ideal)) : S8x1536x128.Idx → EReal :=
  laned (lines
(shapeCast S8x6144 (W (Proc.devRef .tc main_arg0)) shapeCasts_S8x1x6144_S8x6144)
    (shapeCast S8x6144 (W (Proc.devRef .tc main_arg1)) shapeCasts_S8x1x6144_S8x6144)
    (shapeCast S8x6144 (W (Proc.devRef .tc main_arg2)) shapeCasts_S8x1x6144_S8x6144)
    (shapeCast S8x2048 (W (Proc.devRef .tc main_arg3)) shapeCasts_S8x1x2048_S8x2048)
    (shapeCast S8x2048 (W (Proc.devRef .tc main_arg4)) shapeCasts_S8x1x2048_S8x2048)
    (shapeCast S8x128 (W (Proc.devRef .tc main_arg5)) shapeCasts_S8x1x128_S8x128)
    (shapeCast S8x128 (W (Proc.devRef .tc main_arg6)) shapeCasts_S8x1x128_S8x128)
    (shapeCast S8x31744 (W (Proc.devRef .tc main_arg7)) shapeCasts_S8x31x1024_S8x31744)
    (shapeCast S8x1024 (W (Proc.devRef .tc main_arg8)) shapeCasts_S8x1x1024_S8x1024)
    (shapeCast S8x1024 (W (Proc.devRef .tc main_arg9)) shapeCasts_S8x1x1024_S8x1024)
    (shapeCast S8x1024 (W (Proc.devRef .tc main_arg10)) shapeCasts_S8x1x1024_S8x1024)
    (shapeCast S8x2048 (W (Proc.devRef .tc main_arg11)) shapeCasts_S8x1x2048_S8x2048)
    (shapeCast S8x2048 (W (Proc.devRef .tc main_arg12)) shapeCasts_S8x1x2048_S8x2048)
    (shapeCast S8x131072 (W (Proc.devRef .tc main_arg13)) shapeCasts_S8x8x128x128_S8x131072)
    (shapeCast S8x1024 (W (Proc.devRef .tc main_arg14)) shapeCasts_S8x8x128_S8x1024)
    (shapeCast S8x2048 (W (Proc.devRef .tc main_arg15)) shapeCasts_S8x1x2048_S8x2048))

/-- What the lines from the concatenation on leave for the region. -/
theorem after_lines (U : Valuation τ sig (Elt Ideal)) :
    StableHlo.after (List.drop 16 (List.flatten [hostOps0, hostOps0_1, hostOps0_2])) U (Proc.devRef .tc main_v18)
      = laned (lines (U (Proc.devRef .tc main_v0)) (U (Proc.devRef .tc main_v1)) (U (Proc.devRef .tc main_v2)) (U (Proc.devRef .tc main_v3)) (U (Proc.devRef .tc main_v4)) (U (Proc.devRef .tc main_v5)) (U (Proc.devRef .tc main_v6)) (U (Proc.devRef .tc main_v7)) (U (Proc.devRef .tc main_v8)) (U (Proc.devRef .tc main_v9)) (U (Proc.devRef .tc main_v10)) (U (Proc.devRef .tc main_v11)) (U (Proc.devRef .tc main_v12)) (U (Proc.devRef .tc main_v13)) (U (Proc.devRef .tc main_v14)) (U (Proc.devRef .tc main_v15))) := by
  unfold laned lines rows
  simp only [hostOps0, hostOps0_1, hostOps0_2, List.flatten_cons, List.flatten_nil, List.append_nil, List.cons_append, List.nil_append, List.drop_succ_cons, List.drop_zero]
  after_results_simp
  rfl

/-- What the lines before the region leave for it. -/
theorem before_region (W : Valuation τ sig (Elt Ideal)) :
    StableHlo.after (List.flatten [hostOps0, hostOps0_1, hostOps0_2]) W (Proc.devRef .tc main_v18) = packed W := by
  rw [← List.take_append_drop 16 (List.flatten [hostOps0, hostOps0_1, hostOps0_2]), StableHlo.after_append, after_lines]
  unfold packed
  simp only [hostOps0, hostOps0_1, hostOps0_2, List.flatten_cons, List.flatten_nil, List.append_nil, List.cons_append, List.nil_append, List.take_succ_cons, List.take_zero]
  after_results
  rfl

variable (m : (ℓ : Loc nD τ sig) → Buf (Elt Ideal) ℓ)

theorem blocks (t : Fin cfg0.N) : win0_0.index t (0 : Fin 3) = 0 ∧ win0_0.index t (1 : Fin 3) = t.val ∧ win0_0.index t (2 : Fin 3) = 0
    ∧ win0_1.index t (0 : Fin 2) = t.val ∧ win0_1.index t (1 : Fin 2) = 0 :=
  (by decide +kernel : ∀ t : Fin grid0.N, win0_0.index t (0 : Fin 3) = 0 ∧ win0_0.index t (1 : Fin 3) = t.val ∧ win0_0.index t (2 : Fin 3) = 0
    ∧ win0_1.index t (0 : Fin 2) = t.val ∧ win0_1.index t (1 : Fin 2) = 0) t

theorem from_tile (t : Fin cfg0.N) (i : S8x256x128.Idx) : ((((cfg0.win 0).blk t).view.emb i) 0).val = (i 0).val
    ∧ ((((cfg0.win 0).blk t).view.emb i) 1).val = 256 * t.val + (i 1).val ∧ ((((cfg0.win 0).blk t).view.emb i) 2).val = (i 2).val := by
  obtain ⟨e0, e1, e2, -, -⟩ := blocks t
  refine ⟨?_, ?_, ?_⟩
  · show win0_0.index t (0 : Fin 3) * 8 + 1 * (i 0).val = _
    omega
  · show win0_0.index t (1 : Fin 3) * 256 + 1 * (i 1).val = _
    omega
  · show win0_0.index t (2 : Fin 3) * 128 + 1 * (i 2).val = _
    omega

theorem to_tile (t : Fin cfg0.N) (j : S256x128.Idx) :
    ((((cfg0.win 1).blk t).view.emb j) 0).val = 256 * t.val + (j 0).val ∧ ((((cfg0.win 1).blk t).view.emb j) 1).val = (j 1).val := by
  obtain ⟨-, -, -, e0, e1⟩ := blocks t
  refine ⟨?_, ?_⟩
  · show win0_1.index t (0 : Fin 2) * 256 + 1 * (j 0).val = _
    omega
  · show win0_1.index t (1 : Fin 2) * 128 + 1 * (j 1).val = _
    omega

/-- One slot of the block, at a place of the tile. -/
theorem slot_at (x : FVec Ideal S1x256x128 .f32) (j : S256x128.Idx) :
    shapeCast S256x128 x shapeCasts_S1x256x128_S256x128 j = x (ix3 0 (j 0) (j 1)) := by
  refine shapeCast_apply _ _ _ _ ?_
  rw [Shape.rowMajor_val_three, Shape.rowMajor_val_two]
  show (0 * 256 + (j 0).val) * 128 + (j 1).val = (j 0).val * 128 + (j 1).val
  omega

/-- What the body stores, at a place of the tile. -/
theorem stored_at (P0 P1 P2 P3 P4 P5 P6 P7 : FVec Ideal S1x256x128 .f32) (j : S256x128.Idx) :
    k0_pay1 P0 P1 P2 P3 P4 P5 P6 P7 j = FloatOps.addf (FloatOps.addf (FloatOps.addf (FloatOps.addf (FloatOps.addf (FloatOps.addf (FloatOps.addf (P0 (ix3 0 (j 0) (j 1))) (P1 (ix3 0 (j 0) (j 1)))) (P2 (ix3 0 (j 0) (j 1)))) (P3 (ix3 0 (j 0) (j 1)))) (P4 (ix3 0 (j 0) (j 1)))) (P5 (ix3 0 (j 0) (j 1)))) (P6 (ix3 0 (j 0) (j 1)))) (P7 (ix3 0 (j 0) (j 1))) := by
  rw [← slot_at P0 j, ← slot_at P1 j, ← slot_at P2 j, ← slot_at P3 j, ← slot_at P4 j, ← slot_at P5 j, ← slot_at P6 j, ← slot_at P7 j]
  rfl

/-- The body leaves the sum of the slots of its block. -/
theorem body_sum (x : FVec Ideal S8x256x128 .f32) (j : S256x128.Idx) : out0_1 (F := Ideal) x j = SlotSum.total x j := by
  unfold out0_1
  rw [View.canon_unit_zero (S := S256x128) Cert.NormBwdClaims.hz, stored_at]
  refine (SlotSum.add_eight fun q => x (![r0_0.idx (ix3 0 (j 0) (j 1)), r0_1.idx (ix3 0 (j 0) (j 1)), r0_2.idx (ix3 0 (j 0) (j 1)), r0_3.idx (ix3 0 (j 0) (j 1)), r0_4.idx (ix3 0 (j 0) (j 1)), r0_5.idx (ix3 0 (j 0) (j 1)), r0_6.idx (ix3 0 (j 0) (j 1)), r0_7.idx (ix3 0 (j 0) (j 1))] q)).trans
    (Finset.sum_congr rfl fun q _ => at_congr x fun a => ?_)
  fin_cases q <;> fin_cases a <;> first | rfl | exact (Nat.zero_add _).trans (Nat.one_mul _)

/-- A point writes back its tile of the sum. -/
theorem tile (c : Dev nD) (t : Fin cfg0.N) :
    (dats m 0 c).flushed 1 t = ((cfg0.win 1).blk t).view.read (Elt Ideal) (SlotSum.total (V m c main_v18)) := by
  show (cfg0.win 1).cut (grid0.coords t) ((dats m 0 c).after 1 t) = _
  rw [after0_1]
  funext j
  show out0_1 (iblk m c 0 t) j = SlotSum.total (V m c main_v18) (((cfg0.win 1).blk t).view.emb j)
  rw [body_sum]
  exact SlotSum.tile_total (V m c main_v18) (256 * t.val) ((cfg0.win 0).blk t).view.emb (from_tile t) _ j (to_tile t j)

theorem tiled (i : S1536x128.Idx) : ∃ t : Fin cfg0.N, (cfg0.win 1).flush t = true ∧ i ∈ ((cfg0.win 1).blk t).view.set := by
  have h0 : (i 0).val < 1536 := (i 0).isLt
  have h1 : (i 1).val < 128 := (i 1).isLt
  have ht : (i 0).val / 256 < cfg0.N := show (i 0).val / 256 < 6 by omega
  have hj := ((cfg0.win 1).blk ⟨_, ht⟩).view.emb_mem_set (ix2 ⟨(i 0).val % 256, Nat.mod_lt _ (by decide)⟩ ⟨(i 1).val, h1⟩ : S256x128.Idx)
  obtain ⟨e0, e1⟩ := to_tile ⟨_, ht⟩ (ix2 ⟨(i 0).val % 256, Nat.mod_lt _ (by decide)⟩ ⟨(i 1).val, h1⟩)
  refine ⟨⟨_, ht⟩, flush0_1 _, ?_⟩
  refine (congrArg (· ∈ ((cfg0.win 1).blk ⟨_, ht⟩).view.set) (funext fun a => Fin.ext ?_)).mp hj
  fin_cases a
  · exact e0.trans (Nat.div_add_mod _ _)
  · exact e1

/-- The call's array: the sums of the packed arrays. -/
theorem result (c : Dev nD) : (dats m 0 c).arrAt 1 cfg0.N = SlotSum.total (packed fun b => m (c, b)) :=
  ((dats m 0 c).arrAt_eq_of_cover 1 _ (fun t _ => tile m c t) tiled).trans (congrArg SlotSum.total (before_region _))

/-- The sum over the devices, of squares. -/
def totalSquares (x : S8x8x128x128.Idx → EReal) (k : S8x128x128.Idx) : EReal := ∑ s : Fin 8, x (ix4 s (k 0) (k 1) (k 2))

/-- The pieces of the lines, in order. -/
def pieces (W : Valuation τ sig (Elt Ideal)) : List ((s : Shape) × (s.Idx → EReal)) :=
  [⟨S8x6144, shapeCast S8x6144 (W (Proc.devRef .tc main_arg0)) shapeCasts_S8x1x6144_S8x6144⟩,
    ⟨S8x6144, shapeCast S8x6144 (W (Proc.devRef .tc main_arg1)) shapeCasts_S8x1x6144_S8x6144⟩,
    ⟨S8x6144, shapeCast S8x6144 (W (Proc.devRef .tc main_arg2)) shapeCasts_S8x1x6144_S8x6144⟩,
    ⟨S8x2048, shapeCast S8x2048 (W (Proc.devRef .tc main_arg3)) shapeCasts_S8x1x2048_S8x2048⟩,
    ⟨S8x2048, shapeCast S8x2048 (W (Proc.devRef .tc main_arg4)) shapeCasts_S8x1x2048_S8x2048⟩,
    ⟨S8x128, shapeCast S8x128 (W (Proc.devRef .tc main_arg5)) shapeCasts_S8x1x128_S8x128⟩,
    ⟨S8x128, shapeCast S8x128 (W (Proc.devRef .tc main_arg6)) shapeCasts_S8x1x128_S8x128⟩,
    ⟨S8x31744, shapeCast S8x31744 (W (Proc.devRef .tc main_arg7)) shapeCasts_S8x31x1024_S8x31744⟩,
    ⟨S8x1024, shapeCast S8x1024 (W (Proc.devRef .tc main_arg8)) shapeCasts_S8x1x1024_S8x1024⟩,
    ⟨S8x1024, shapeCast S8x1024 (W (Proc.devRef .tc main_arg9)) shapeCasts_S8x1x1024_S8x1024⟩,
    ⟨S8x1024, shapeCast S8x1024 (W (Proc.devRef .tc main_arg10)) shapeCasts_S8x1x1024_S8x1024⟩,
    ⟨S8x2048, shapeCast S8x2048 (W (Proc.devRef .tc main_arg11)) shapeCasts_S8x1x2048_S8x2048⟩,
    ⟨S8x2048, shapeCast S8x2048 (W (Proc.devRef .tc main_arg12)) shapeCasts_S8x1x2048_S8x2048⟩,
    ⟨S8x131072, shapeCast S8x131072 (W (Proc.devRef .tc main_arg13)) shapeCasts_S8x8x128x128_S8x131072⟩,
    ⟨S8x1024, shapeCast S8x1024 (W (Proc.devRef .tc main_arg14)) shapeCasts_S8x8x128_S8x1024⟩,
    ⟨S8x2048, shapeCast S8x2048 (W (Proc.devRef .tc main_arg15)) shapeCasts_S8x1x2048_S8x2048⟩]

/-- How long the pieces are. -/
def lengths : List ℕ := [6144, 6144, 6144, 2048, 2048, 128, 128, 31744, 1024, 1024, 1024, 2048, 2048, 131072, 1024, 2048]

theorem piece_lengths (W : Valuation τ sig (Elt Ideal)) (k : ℕ) :
    (((pieces W).take k).map (·.1)).map (fun s => if h : s.rank = 2 then s.size ((1 : Fin 2).cast h.symm) else 0) = lengths.take k := by
  rw [List.map_take, List.map_take]
  rfl

/-- What is unpacked for one of the pieces. -/
theorem part (W : Valuation τ sig (Elt Ideal)) {S t : Shape} {n pre : ℕ} (k : ℕ) (x : S.Idx → EReal) (hx : S.ShapeCasts ⟨2, ![8, n]⟩)
    (hk : k < 16) (hxk : (pieces W)[k]'hk = ⟨⟨2, ![8, n]⟩, shapeCast _ x hx⟩) (hpre : (lengths.take k).sum = pre)
    (hin : pre + n ≤ 195840) (hs : (⟨1, ![196608]⟩ : Shape).Slices ![pre] ⟨1, ![n]⟩) (ht : (⟨1, ![n]⟩ : Shape).ShapeCasts t)
    (place : Fin 8 → t.Idx → S.Idx) (hplace : ∀ s j, (S.rowMajor (place s j)).val = s.val * n + (t.rowMajor j).val) :
    shapeCast t (extractStridedSlice ⟨1, ![n]⟩ ![pre] (shapeCast S196608 (SlotSum.total (packed W)) shapeCasts_S1536x128_S196608) hs) ht = summed place x :=
  unpacked (pieces W) concatenates_S8x6144_S8x6144_S8x6144_S8x2048_S8x2048_S8x128_S8x128_S8x31744_S8x1024_S8x1024_S8x1024_S8x2048_S8x2048_S8x131072_S8x1024_S8x2048_S8x195840_d1 (sitofp (F := Ideal) .f32 (constantI S_ 32 0#32)) h_S_ pads_S8x195840_S8x196608_000_07680 shapeCasts_S8x196608_S8x1536x128
    shapeCasts_S1536x128_S196608 x hx hk hxk (by rw [piece_lengths, hpre]) hin hs ht place hplace

/-- Every part of the packed sums is the sum of the devices' array. -/
theorem parts (W : Valuation τ sig (Elt Ideal)) :
    (shapeCast S1x6144 (extractStridedSlice S6144 ![0] (shapeCast S196608 (SlotSum.total (packed W)) shapeCasts_S1536x128_S196608) slices_S196608_S6144_0) shapeCasts_S6144_S1x6144 = SlotSum.total (W (Proc.devRef .tc main_arg0)))
    ∧ (shapeCast S1x6144 (extractStridedSlice S6144 ![6144] (shapeCast S196608 (SlotSum.total (packed W)) shapeCasts_S1536x128_S196608) slices_S196608_S6144_6144) shapeCasts_S6144_S1x6144 = SlotSum.total (W (Proc.devRef .tc main_arg1)))
    ∧ (shapeCast S1x6144 (extractStridedSlice S6144 ![12288] (shapeCast S196608 (SlotSum.total (packed W)) shapeCasts_S1536x128_S196608) slices_S196608_S6144_12288) shapeCasts_S6144_S1x6144 = SlotSum.total (W (Proc.devRef .tc main_arg2)))
    ∧ (shapeCast S1x2048 (extractStridedSlice S2048 ![18432] (shapeCast S196608 (SlotSum.total (packed W)) shapeCasts_S1536x128_S196608) slices_S196608_S2048_18432) shapeCasts_S2048_S1x2048 = SlotSum.total (W (Proc.devRef .tc main_arg3)))
    ∧ (shapeCast S1x2048 (extractStridedSlice S2048 ![20480] (shapeCast S196608 (SlotSum.total (packed W)) shapeCasts_S1536x128_S196608) slices_S196608_S2048_20480) shapeCasts_S2048_S1x2048 = SlotSum.total (W (Proc.devRef .tc main_arg4)))
    ∧ (shapeCast S1x128 (extractStridedSlice S128 ![22528] (shapeCast S196608 (SlotSum.total (packed W)) shapeCasts_S1536x128_S196608) slices_S196608_S128_22528) shapeCasts_S128_S1x128 = SlotSum.total (W (Proc.devRef .tc main_arg5)))
    ∧ (shapeCast S1x128 (extractStridedSlice S128 ![22656] (shapeCast S196608 (SlotSum.total (packed W)) shapeCasts_S1536x128_S196608) slices_S196608_S128_22656) shapeCasts_S128_S1x128 = SlotSum.total (W (Proc.devRef .tc main_arg6)))
    ∧ (shapeCast S31x1024 (extractStridedSlice S31744 ![22784] (shapeCast S196608 (SlotSum.total (packed W)) shapeCasts_S1536x128_S196608) slices_S196608_S31744_22784) shapeCasts_S31744_S31x1024 = SlotSum.total (W (Proc.devRef .tc main_arg7)))
    ∧ (shapeCast S1x1024 (extractStridedSlice S1024 ![54528] (shapeCast S196608 (SlotSum.total (packed W)) shapeCasts_S1536x128_S196608) slices_S196608_S1024_54528) shapeCasts_S1024_S1x1024 = SlotSum.total (W (Proc.devRef .tc main_arg8)))
    ∧ (shapeCast S1x1024 (extractStridedSlice S1024 ![55552] (shapeCast S196608 (SlotSum.total (packed W)) shapeCasts_S1536x128_S196608) slices_S196608_S1024_55552) shapeCasts_S1024_S1x1024 = SlotSum.total (W (Proc.devRef .tc main_arg9)))
    ∧ (shapeCast S1x1024 (extractStridedSlice S1024 ![56576] (shapeCast S196608 (SlotSum.total (packed W)) shapeCasts_S1536x128_S196608) slices_S196608_S1024_56576) shapeCasts_S1024_S1x1024 = SlotSum.total (W (Proc.devRef .tc main_arg10)))
    ∧ (shapeCast S1x2048 (extractStridedSlice S2048 ![57600] (shapeCast S196608 (SlotSum.total (packed W)) shapeCasts_S1536x128_S196608) slices_S196608_S2048_57600) shapeCasts_S2048_S1x2048 = SlotSum.total (W (Proc.devRef .tc main_arg11)))
    ∧ (shapeCast S1x2048 (extractStridedSlice S2048 ![59648] (shapeCast S196608 (SlotSum.total (packed W)) shapeCasts_S1536x128_S196608) slices_S196608_S2048_59648) shapeCasts_S2048_S1x2048 = SlotSum.total (W (Proc.devRef .tc main_arg12)))
    ∧ (shapeCast S8x128x128 (extractStridedSlice S131072 ![61696] (shapeCast S196608 (SlotSum.total (packed W)) shapeCasts_S1536x128_S196608) slices_S196608_S131072_61696) shapeCasts_S131072_S8x128x128 = totalSquares (W (Proc.devRef .tc main_arg13)))
    ∧ (shapeCast S8x128 (extractStridedSlice S1024 ![192768] (shapeCast S196608 (SlotSum.total (packed W)) shapeCasts_S1536x128_S196608) slices_S196608_S1024_192768) shapeCasts_S1024_S8x128 = SlotSum.total (W (Proc.devRef .tc main_arg14)))
    ∧ (shapeCast S1x2048 (extractStridedSlice S2048 ![193792] (shapeCast S196608 (SlotSum.total (packed W)) shapeCasts_S1536x128_S196608) slices_S196608_S2048_193792) shapeCasts_S2048_S1x2048 = SlotSum.total (W (Proc.devRef .tc main_arg15))) := by
  refine ⟨?_, ?_, ?_, ?_, ?_, ?_, ?_, ?_, ?_, ?_, ?_, ?_, ?_, ?_, ?_, ?_⟩
  · exact part W (n := 6144) (pre := 0) 0 (W (Proc.devRef .tc main_arg0)) _ (by decide) rfl (by decide) (by norm_num) _ _ _ (place_rows rfl)
  · exact part W (n := 6144) (pre := 6144) 1 (W (Proc.devRef .tc main_arg1)) _ (by decide) rfl (by decide) (by norm_num) _ _ _ (place_rows rfl)
  · exact part W (n := 6144) (pre := 12288) 2 (W (Proc.devRef .tc main_arg2)) _ (by decide) rfl (by decide) (by norm_num) _ _ _ (place_rows rfl)
  · exact part W (n := 2048) (pre := 18432) 3 (W (Proc.devRef .tc main_arg3)) _ (by decide) rfl (by decide) (by norm_num) _ _ _ (place_rows rfl)
  · exact part W (n := 2048) (pre := 20480) 4 (W (Proc.devRef .tc main_arg4)) _ (by decide) rfl (by decide) (by norm_num) _ _ _ (place_rows rfl)
  · exact part W (n := 128) (pre := 22528) 5 (W (Proc.devRef .tc main_arg5)) _ (by decide) rfl (by decide) (by norm_num) _ _ _ (place_rows rfl)
  · exact part W (n := 128) (pre := 22656) 6 (W (Proc.devRef .tc main_arg6)) _ (by decide) rfl (by decide) (by norm_num) _ _ _ (place_rows rfl)
  · exact part W (n := 31744) (pre := 22784) 7 (W (Proc.devRef .tc main_arg7)) _ (by decide) rfl (by decide) (by norm_num) _ _ _ (place_rows rfl)
  · exact part W (n := 1024) (pre := 54528) 8 (W (Proc.devRef .tc main_arg8)) _ (by decide) rfl (by decide) (by norm_num) _ _ _ (place_rows rfl)
  · exact part W (n := 1024) (pre := 55552) 9 (W (Proc.devRef .tc main_arg9)) _ (by decide) rfl (by decide) (by norm_num) _ _ _ (place_rows rfl)
  · exact part W (n := 1024) (pre := 56576) 10 (W (Proc.devRef .tc main_arg10)) _ (by decide) rfl (by decide) (by norm_num) _ _ _ (place_rows rfl)
  · exact part W (n := 2048) (pre := 57600) 11 (W (Proc.devRef .tc main_arg11)) _ (by decide) rfl (by decide) (by norm_num) _ _ _ (place_rows rfl)
  · exact part W (n := 2048) (pre := 59648) 12 (W (Proc.devRef .tc main_arg12)) _ (by decide) rfl (by decide) (by norm_num) _ _ _ (place_rows rfl)
  · exact part W (n := 131072) (pre := 61696) 13 (W (Proc.devRef .tc main_arg13)) _ (by decide) rfl (by decide) (by norm_num) _ _ _ (place_squares rfl)
  · exact part W (n := 1024) (pre := 192768) 14 (W (Proc.devRef .tc main_arg14)) _ (by decide) rfl (by decide) (by norm_num) _ _ _ (place_rows rfl)
  · exact part W (n := 2048) (pre := 193792) 15 (W (Proc.devRef .tc main_arg15)) _ (by decide) rfl (by decide) (by norm_num) _ _ _ (place_rows rfl)

/-- A layer's gradient laid flat and back. -/
theorem flat_back (x : S1x6144.Idx → EReal) :
    broadcastInDim S1x6144 ![1] bcast_S6144_S1x6144_1 (shapeCast S6144 x shapeCasts_S1x6144_S6144) = x := by
  funext k
  have h0 : (k 0).val < 1 := (k 0).isLt
  refine (broadcastInDim_apply _ _ _ k (ix1 (⟨(k 1).val, (k 1).isLt⟩ : Fin 6144)) fun a => ?_).trans (shapeCast_apply _ _ _ k ?_)
  · fin_cases a
    rfl
  · refine (Shape.rowMajor_val_two _).trans (Eq.trans ?_ (Shape.rowMajor_val_one _).symm)
    show (k 0).val * 6144 + (k 1).val = (k 1).val
    omega

/-- The two layers' gradients of the modulation's bias, the shared part in the first. -/
def biases (a b c : S1x6144.Idx → EReal) : S2x6144.Idx → EReal :=
  concatenate S2x6144 0 [⟨S1x6144, (addf a c : FVec Ideal S1x6144 .f32)⟩, ⟨S1x6144, b⟩] concatenates_S1x6144_S1x6144_S2x6144_d0

/-- The two layers' gradients of the norms' gains. -/
def gains (a b : S1x2048.Idx → EReal) : S2x2048.Idx → EReal :=
  concatenate S2x2048 0 [⟨S1x2048, a⟩, ⟨S1x2048, b⟩] concatenates_S1x2048_S1x2048_S2x2048_d0

/-- Two rows of a layer each, as the last lines join them. -/
def joined (a b : S1x6144.Idx → EReal) : S2x6144.Idx → EReal :=
  concatenate S2x6144 0 [⟨S1x6144, a⟩, ⟨S1x6144, b⟩] concatenates_S1x6144_S1x6144_S2x6144_d0

theorem last_lines (U : Valuation τ sig (Elt Ideal)) :
    StableHlo.after (List.drop 39 hostOps1) U (Proc.devRef .tc main_v59) = joined (U (Proc.devRef .tc main_v57)) (U (Proc.devRef .tc main_v58))
    ∧ StableHlo.after (List.drop 39 hostOps1) U (Proc.devRef .tc main_v60) = gains (U (Proc.devRef .tc main_v28)) (U (Proc.devRef .tc main_v30)) := by
  unfold joined gains
  simp only [hostOps1, List.drop_succ_cons, List.drop_zero]
  constructor
  all_goals after_results_simp <;> rfl

/-- What the lines after the region make of the call's array. -/
theorem after_region (W : Valuation τ sig (Elt Ideal)) :
    StableHlo.after hostOps1 W (Proc.devRef .tc main_v59) = joined
      (broadcastInDim S1x6144 ![1] bcast_S6144_S1x6144_1 (addf (F := Ideal) (s := S6144) (φ := .f32) (shapeCast S6144 (shapeCast S1x6144 (extractStridedSlice S6144 ![0] (shapeCast S196608 (W (Proc.devRef .tc main_v19)) shapeCasts_S1536x128_S196608) slices_S196608_S6144_0) shapeCasts_S6144_S1x6144) shapeCasts_S1x6144_S6144)
        (shapeCast S6144 (shapeCast S1x6144 (extractStridedSlice S6144 ![12288] (shapeCast S196608 (W (Proc.devRef .tc main_v19)) shapeCasts_S1536x128_S196608) slices_S196608_S6144_12288) shapeCasts_S6144_S1x6144) shapeCasts_S1x6144_S6144)))
      (broadcastInDim S1x6144 ![1] bcast_S6144_S1x6144_1 (shapeCast S6144 (shapeCast S1x6144 (extractStridedSlice S6144 ![6144] (shapeCast S196608 (W (Proc.devRef .tc main_v19)) shapeCasts_S1536x128_S196608) slices_S196608_S6144_6144) shapeCasts_S6144_S1x6144) shapeCasts_S1x6144_S6144))
    ∧ StableHlo.after hostOps1 W (Proc.devRef .tc main_v60) = gains
      (shapeCast S1x2048 (extractStridedSlice S2048 ![18432] (shapeCast S196608 (W (Proc.devRef .tc main_v19)) shapeCasts_S1536x128_S196608) slices_S196608_S2048_18432) shapeCasts_S2048_S1x2048)
      (shapeCast S1x2048 (extractStridedSlice S2048 ![20480] (shapeCast S196608 (W (Proc.devRef .tc main_v19)) shapeCasts_S1536x128_S196608) slices_S196608_S2048_20480) shapeCasts_S2048_S1x2048)
    ∧ StableHlo.after hostOps1 W (Proc.devRef .tc main_v32) = shapeCast S1x128 (extractStridedSlice S128 ![22528] (shapeCast S196608 (W (Proc.devRef .tc main_v19)) shapeCasts_S1536x128_S196608) slices_S196608_S128_22528) shapeCasts_S128_S1x128
    ∧ StableHlo.after hostOps1 W (Proc.devRef .tc main_v34) = shapeCast S1x128 (extractStridedSlice S128 ![22656] (shapeCast S196608 (W (Proc.devRef .tc main_v19)) shapeCasts_S1536x128_S196608) slices_S196608_S128_22656) shapeCasts_S128_S1x128
    ∧ StableHlo.after hostOps1 W (Proc.devRef .tc main_v36) = shapeCast S31x1024 (extractStridedSlice S31744 ![22784] (shapeCast S196608 (W (Proc.devRef .tc main_v19)) shapeCasts_S1536x128_S196608) slices_S196608_S31744_22784) shapeCasts_S31744_S31x1024
    ∧ StableHlo.after hostOps1 W (Proc.devRef .tc main_v38) = shapeCast S1x1024 (extractStridedSlice S1024 ![54528] (shapeCast S196608 (W (Proc.devRef .tc main_v19)) shapeCasts_S1536x128_S196608) slices_S196608_S1024_54528) shapeCasts_S1024_S1x1024
    ∧ StableHlo.after hostOps1 W (Proc.devRef .tc main_v40) = shapeCast S1x1024 (extractStridedSlice S1024 ![55552] (shapeCast S196608 (W (Proc.devRef .tc main_v19)) shapeCasts_S1536x128_S196608) slices_S196608_S1024_55552) shapeCasts_S1024_S1x1024
    ∧ StableHlo.after hostOps1 W (Proc.devRef .tc main_v42) = shapeCast S1x1024 (extractStridedSlice S1024 ![56576] (shapeCast S196608 (W (Proc.devRef .tc main_v19)) shapeCasts_S1536x128_S196608) slices_S196608_S1024_56576) shapeCasts_S1024_S1x1024
    ∧ StableHlo.after hostOps1 W (Proc.devRef .tc main_v44) = shapeCast S1x2048 (extractStridedSlice S2048 ![57600] (shapeCast S196608 (W (Proc.devRef .tc main_v19)) shapeCasts_S1536x128_S196608) slices_S196608_S2048_57600) shapeCasts_S2048_S1x2048
    ∧ StableHlo.after hostOps1 W (Proc.devRef .tc main_v46) = shapeCast S1x2048 (extractStridedSlice S2048 ![59648] (shapeCast S196608 (W (Proc.devRef .tc main_v19)) shapeCasts_S1536x128_S196608) slices_S196608_S2048_59648) shapeCasts_S2048_S1x2048
    ∧ StableHlo.after hostOps1 W (Proc.devRef .tc main_v48) = shapeCast S8x128x128 (extractStridedSlice S131072 ![61696] (shapeCast S196608 (W (Proc.devRef .tc main_v19)) shapeCasts_S1536x128_S196608) slices_S196608_S131072_61696) shapeCasts_S131072_S8x128x128
    ∧ StableHlo.after hostOps1 W (Proc.devRef .tc main_v50) = shapeCast S8x128 (extractStridedSlice S1024 ![192768] (shapeCast S196608 (W (Proc.devRef .tc main_v19)) shapeCasts_S1536x128_S196608) slices_S196608_S1024_192768) shapeCasts_S1024_S8x128
    ∧ StableHlo.after hostOps1 W (Proc.devRef .tc main_v52) = shapeCast S1x2048 (extractStridedSlice S2048 ![193792] (shapeCast S196608 (W (Proc.devRef .tc main_v19)) shapeCasts_S1536x128_S196608) slices_S196608_S2048_193792) shapeCasts_S2048_S1x2048 := by
  refine ⟨?_, ?_, ?_⟩
  · rw [← List.take_append_drop 39 hostOps1, StableHlo.after_append, (last_lines _).1]
    simp only [hostOps1, List.take_succ_cons, List.take_zero]
    after_results_simp <;> rfl
  · rw [← List.take_append_drop 39 hostOps1, StableHlo.after_append, (last_lines _).2]
    simp only [hostOps1, List.take_succ_cons, List.take_zero]
    after_results_simp <;> rfl
  · refine ⟨?_, ?_, ?_, ?_, ?_, ?_, ?_, ?_, ?_, ?_, ?_⟩
    all_goals
      unfold hostOps1
      after_results_simp <;> rfl

/-- What the run leaves in the results. -/
theorem ends (W U : Valuation τ sig (Elt Ideal)) (h : U (Proc.devRef .tc main_v19) = SlotSum.total (packed W)) :
    StableHlo.after hostOps1 U (Proc.devRef .tc main_v59) = biases (SlotSum.total (W (Proc.devRef .tc main_arg0))) (SlotSum.total (W (Proc.devRef .tc main_arg1))) (SlotSum.total (W (Proc.devRef .tc main_arg2)))
    ∧ StableHlo.after hostOps1 U (Proc.devRef .tc main_v60) = gains (SlotSum.total (W (Proc.devRef .tc main_arg3))) (SlotSum.total (W (Proc.devRef .tc main_arg4)))
    ∧ StableHlo.after hostOps1 U (Proc.devRef .tc main_v32) = SlotSum.total (W (Proc.devRef .tc main_arg5))
    ∧ StableHlo.after hostOps1 U (Proc.devRef .tc main_v34) = SlotSum.total (W (Proc.devRef .tc main_arg6))
    ∧ StableHlo.after hostOps1 U (Proc.devRef .tc main_v36) = SlotSum.total (W (Proc.devRef .tc main_arg7))
    ∧ StableHlo.after hostOps1 U (Proc.devRef .tc main_v38) = SlotSum.total (W (Proc.devRef .tc main_arg8))
    ∧ StableHlo.after hostOps1 U (Proc.devRef .tc main_v40) = SlotSum.total (W (Proc.devRef .tc main_arg9))
    ∧ StableHlo.after hostOps1 U (Proc.devRef .tc main_v42) = SlotSum.total (W (Proc.devRef .tc main_arg10))
    ∧ StableHlo.after hostOps1 U (Proc.devRef .tc main_v44) = SlotSum.total (W (Proc.devRef .tc main_arg11))
    ∧ StableHlo.after hostOps1 U (Proc.devRef .tc main_v46) = SlotSum.total (W (Proc.devRef .tc main_arg12))
    ∧ StableHlo.after hostOps1 U (Proc.devRef .tc main_v48) = totalSquares (W (Proc.devRef .tc main_arg13))
    ∧ StableHlo.after hostOps1 U (Proc.devRef .tc main_v50) = SlotSum.total (W (Proc.devRef .tc main_arg14))
    ∧ StableHlo.after hostOps1 U (Proc.devRef .tc main_v52) = SlotSum.total (W (Proc.devRef .tc main_arg15)) := by
  obtain ⟨r0, r1, r2, r3, r4, r5, r6, r7, r8, r9, r10, r11, r12⟩ := after_region U
  obtain ⟨p0, p1, p2, p3, p4, p5, p6, p7, p8, p9, p10, p11, p12, p13, p14, p15⟩ := parts W
  rw [h] at r0 r1 r2 r3 r4 r5 r6 r7 r8 r9 r10 r11 r12
  refine ⟨r0.trans ?_, r1.trans ?_, r2.trans p5, r3.trans p6, r4.trans p7, r5.trans p8, r6.trans p9, r7.trans p10, r8.trans p11, r9.trans p12,
    r10.trans p13, r11.trans p14, r12.trans p15⟩
  · rw [p0, p1, p2]
    exact congrArg₂ joined (flat_back (addf (F := Ideal) (s := S1x6144) (φ := .f32) (SlotSum.total (W (Proc.devRef .tc main_arg0))) (SlotSum.total (W (Proc.devRef .tc main_arg2)))))
      (flat_back _)
  · rw [p3, p4]

theorem kernel_run (ρ : Dev nD → PrngReg) : θ_run defs (onTc (τ := τ) (main (F := Ideal))) ⟨m, fun _ => 0, ρ⟩ fun r => ∀ c : Dev nD,
      r.2.mem ((c.tc : Thread nD τ).loc main_v59) = biases (SlotSum.total (m ((c.tc : Thread nD τ).loc main_arg0))) (SlotSum.total (m ((c.tc : Thread nD τ).loc main_arg1))) (SlotSum.total (m ((c.tc : Thread nD τ).loc main_arg2)))
      ∧ r.2.mem ((c.tc : Thread nD τ).loc main_v60) = gains (SlotSum.total (m ((c.tc : Thread nD τ).loc main_arg3))) (SlotSum.total (m ((c.tc : Thread nD τ).loc main_arg4)))
      ∧ r.2.mem ((c.tc : Thread nD τ).loc main_v32) = SlotSum.total (m ((c.tc : Thread nD τ).loc main_arg5))
      ∧ r.2.mem ((c.tc : Thread nD τ).loc main_v34) = SlotSum.total (m ((c.tc : Thread nD τ).loc main_arg6))
      ∧ r.2.mem ((c.tc : Thread nD τ).loc main_v36) = SlotSum.total (m ((c.tc : Thread nD τ).loc main_arg7))
      ∧ r.2.mem ((c.tc : Thread nD τ).loc main_v38) = SlotSum.total (m ((c.tc : Thread nD τ).loc main_arg8))
      ∧ r.2.mem ((c.tc : Thread nD τ).loc main_v40) = SlotSum.total (m ((c.tc : Thread nD τ).loc main_arg9))
      ∧ r.2.mem ((c.tc : Thread nD τ).loc main_v42) = SlotSum.total (m ((c.tc : Thread nD τ).loc main_arg10))
      ∧ r.2.mem ((c.tc : Thread nD τ).loc main_v44) = SlotSum.total (m ((c.tc : Thread nD τ).loc main_arg11))
      ∧ r.2.mem ((c.tc : Thread nD τ).loc main_v46) = SlotSum.total (m ((c.tc : Thread nD τ).loc main_arg12))
      ∧ r.2.mem ((c.tc : Thread nD τ).loc main_v48) = totalSquares (m ((c.tc : Thread nD τ).loc main_arg13))
      ∧ r.2.mem ((c.tc : Thread nD τ).loc main_v50) = SlotSum.total (m ((c.tc : Thread nD τ).loc main_arg14))
      ∧ r.2.mem ((c.tc : Thread nD τ).loc main_v52) = SlotSum.total (m ((c.tc : Thread nD τ).loc main_arg15))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15) :=
  (θ_run defs _ _).mono (fun r h c => by
    obtain ⟨e0, e1, e2, e3, e4, e5, e6, e7, e8, e9, e10, e11, e12⟩ := ends (fun b => m (c, b)) _
      ((Pipeline.withArrays_arr (cfgs 0).spec (by decide) c (V0 m c) (fun w => (dats m 0 c).arrAt w (cfgs 0).N) 1).trans (result m c))
    exact ⟨((h.1 c).2 main_v59 (by decide)).trans e0, ((h.1 c).2 main_v60 (by decide)).trans e1, ((h.1 c).2 main_v32 (by decide)).trans e2, ((h.1 c).2 main_v34 (by decide)).trans e3, ((h.1 c).2 main_v36 (by decide)).trans e4, ((h.1 c).2 main_v38 (by decide)).trans e5, ((h.1 c).2 main_v40 (by decide)).trans e6, ((h.1 c).2 main_v42 (by decide)).trans e7, ((h.1 c).2 main_v44 (by decide)).trans e8, ((h.1 c).2 main_v46 (by decide)).trans e9, ((h.1 c).2 main_v48 (by decide)).trans e10, ((h.1 c).2 main_v50 (by decide)).trans e11, ((h.1 c).2 main_v52 (by decide)).trans e12, h.2 c⟩)
    (θ_run_and (run_main m ρ) (unchanged m ρ))

end

/-! ## The reference -/

section
open Cert.SmallGradsRefIdeal

/-- The host's sum over the first axis, of squares. -/
theorem host_squares (x : FVec Ideal S8x8x128x128 .f32) (h : S8x8x128x128.ReducesTo [0] S8x128x128) (hu : 0 < S_.numel) :
    Host.reduceAdd x (constant S_ .f32 0x00000000#32) h hu = totalSquares x := by
  funext k
  have at_square : ∀ (a : Fin 8) (b d : Fin 128), Host.reduceAdd x (constant S_ .f32 0x00000000#32) h hu (ix3 a b d) = totalSquares x (ix3 a b d) := by
    intro a b d
    show _ = ∑ s : Fin 8, x (ix4 s a b d)
    pointwise
  have hk : k = ix3 (k 0) (k 1) (k 2) := by
    funext a
    fin_cases a <;> rfl
  rw [hk]
  exact at_square _ _ _

end

theorem frame_kernel : Cert.quiescent_SmallGrads := fun m g _ => Cert.SmallGrads.Gen.frame (F := Bits) m g

theorem frame_ideal : Cert.quiescent_SmallGradsIdeal := fun m g _ => Cert.SmallGradsIdeal.Gen.frame (F := Ideal) m g

theorem frame_ref_ideal : Cert.quiescent_SmallGradsRefIdeal := fun m g _ =>
  (θ_run Cert.SmallGradsRefIdeal.defs _ _).mono (fun r h => ⟨fun c => (h c).2.2.2.2.2.2.2.2.2.2.2.2.2, sem_eq_zero_of_no_sems rfl r.2⟩)
    (Cert.SmallGradsRefIdeal.Value.run (F := Ideal) m g)

theorem values_ideal : Cert.algebraic_SmallGradsIdeal_SmallGradsRefIdeal := fun m g m' g' _ hm =>
  ⟨_, _, _, _, _, _, _, _, _, _, _, _, _, kernel_run m g,
    (θ_run Cert.SmallGradsRefIdeal.defs _ _).mono
      (fun _ h c => by
        obtain ⟨e0, e1, e2, e3, e4, e5, e6, e7, e8, e9, e10, e11, e12, e13, e14, e15⟩ := hm c
        obtain ⟨h0, h1, h2, h3, h4, h5, h6, h7, h8, h9, h10, h11, h12, hargs⟩ := h c
        rw [e0, e1, e2, SlotSum.host_total, SlotSum.host_total, SlotSum.host_total] at h0
        rw [e3, e4, SlotSum.host_total, SlotSum.host_total] at h1
        refine ⟨h0, h1, h2.trans ?_, h3.trans ?_, h4.trans ?_, h5.trans ?_, h6.trans ?_, h7.trans ?_, h8.trans ?_, h9.trans ?_, h10.trans ?_, h11.trans ?_, h12.trans ?_, hargs⟩
        · rw [e5]
          exact SlotSum.host_total _ _ _
        · rw [e6]
          exact SlotSum.host_total _ _ _
        · rw [e7]
          exact SlotSum.host_total _ _ _
        · rw [e8]
          exact SlotSum.host_total _ _ _
        · rw [e9]
          exact SlotSum.host_total _ _ _
        · rw [e10]
          exact SlotSum.host_total _ _ _
        · rw [e11]
          exact SlotSum.host_total _ _ _
        · rw [e12]
          exact SlotSum.host_total _ _ _
        · rw [e13]
          exact host_squares _ _ _
        · rw [e14]
          exact SlotSum.host_total _ _ _
        · rw [e15]
          exact SlotSum.host_total _ _ _)
      (Cert.SmallGradsRefIdeal.Value.run (F := Ideal) m' g')⟩

end Cert.SmallGradsClaims

end
-- ==== Proof.AdamwClaims.lean ====
/- The optimiser's step: what the host's program computes at an index, and the claims at each shape. -/
module

public import proofs.«01_k».proof.Defs
public import proofs.«01_k».proof.Proof.Gen.AdamwAda.Frame
public import proofs.«01_k».proof.Proof.Gen.AdamwAdaIdeal.Value
public import proofs.«01_k».proof.Proof.Gen.AdamwAdaRefIdeal.Run
public import proofs.«01_k».proof.Proof.Gen.AdamwEvIn.Frame
public import proofs.«01_k».proof.Proof.Gen.AdamwEvInIdeal.Value
public import proofs.«01_k».proof.Proof.Gen.AdamwEvInRefIdeal.Run
public import proofs.«01_k».proof.Proof.Gen.AdamwOut.Frame
public import proofs.«01_k».proof.Proof.Gen.AdamwOutIdeal.Value
public import proofs.«01_k».proof.Proof.Gen.AdamwOutRefIdeal.Run
public import proofs.«01_k».proof.Proof.Gen.AdamwOdIn.Frame
public import proofs.«01_k».proof.Proof.Gen.AdamwOdInIdeal.Value
public import proofs.«01_k».proof.Proof.Gen.AdamwOdInRefIdeal.Run
public import proofs.«01_k».proof.Proof.Gen.AdamwSmall.Frame
public import proofs.«01_k».proof.Proof.Gen.AdamwSmallIdeal.Value
public import proofs.«01_k».proof.Proof.Gen.AdamwSmallRefIdeal.Run
public import Idealize.ShloMosaic.Lib.Quiescent

@[expose] public section

noncomputable section

open Idealize.ShloMosaic Idealize.ShloMosaic.TcCoe
open Idealize.SL Idealize.SL.Sem

/-! ## The step on arrays of any shape, as the host writes it and index by index -/

namespace Cert.AdamwStep

variable (s : Shape) (h : (⟨0, ![]⟩ : Shape).BroadcastsInDim s ![])

/-- A number over a whole array. -/
abbrev full (b : BitVec 32) : FVec Ideal s .f32 := broadcastInDim s ![] h (constant ⟨0, ![]⟩ .f32 b)

abbrev hostMean (m g : FVec Ideal s .f32) : FVec Ideal s .f32 :=
  addf (mulf (full s h 0x3F666666#32) m) (mulf (full s h 0x3DCCCCCD#32) g)

abbrev hostSquare (v g : FVec Ideal s .f32) : FVec Ideal s .f32 :=
  addf (mulf (full s h 0x3F7FBE77#32) v) (mulf (full s h 0x3A83126F#32) (mulf g g))

abbrev hostDelta (w g m v : FVec Ideal s .f32) : FVec Ideal s .f32 :=
  mulf (full s h 0xBA83126F#32)
    (addf (Host.divf (Host.divf (hostMean s h m g) (full s h 0x3F26BD02#32))
        (addf (Host.sqrt (Host.divf (hostSquare s h v g) (full s h 0x3C231ACC#32))) (full s h 0x322BCC77#32)))
      (mulf (full s h 0x3C23D70A#32) w))

def num (b : BitVec 32) : Ideal .f32 := Scalar.ofBits .f32 b

def meanAt (m g : Ideal .f32) : Ideal .f32 :=
  FloatOps.addf (FloatOps.mulf (num 0x3F666666#32) m) (FloatOps.mulf (num 0x3DCCCCCD#32) g)

def squareAt (v g : Ideal .f32) : Ideal .f32 :=
  FloatOps.addf (FloatOps.mulf (num 0x3F7FBE77#32) v) (FloatOps.mulf (num 0x3A83126F#32) (FloatOps.mulf g g))

def deltaAt (w g m v : Ideal .f32) : Ideal .f32 :=
  FloatOps.mulf (num 0xBA83126F#32)
    (FloatOps.addf (FloatOps.divf (FloatOps.divf (meanAt m g) (num 0x3F26BD02#32))
        (FloatOps.addf (FloatOps.sqrt (FloatOps.divf (squareAt v g) (num 0x3C231ACC#32))) (num 0x322BCC77#32)))
      (FloatOps.mulf (num 0x3C23D70A#32) w))

theorem mean_eq (m g : FVec Ideal s .f32) : hostMean s h m g = fun i => meanAt (m i) (g i) := rfl

theorem square_eq (v g : FVec Ideal s .f32) : hostSquare s h v g = fun i => squareAt (v i) (g i) := rfl

/-- Over the extended reals the kernel's quotient and square root are the host's. -/
theorem delta_eq (w g m v : FVec Ideal s .f32) : hostDelta s h w g m v = fun i => deltaAt (w i) (g i) (m i) (v i) := rfl

end Cert.AdamwStep

/-! ## The modulation weights. -/

namespace Cert.AdamwAdaClaims

open Cert.AdamwStep

theorem frame_kernel : Cert.quiescent_AdamwAda := fun m g _ => Cert.AdamwAda.Gen.frame (F := Bits) m g

theorem frame_ideal : Cert.quiescent_AdamwAdaIdeal := fun m g _ => Cert.AdamwAdaIdeal.Gen.frame (F := Ideal) m g

theorem frame_ref_ideal : Cert.quiescent_AdamwAdaRefIdeal := fun m g _ =>
  (θ_run Cert.AdamwAdaRefIdeal.defs _ _).mono (fun r h => ⟨fun c => (h c).2.2.2, sem_eq_zero_of_no_sems rfl r.2⟩)
    (Cert.AdamwAdaRefIdeal.Value.run (F := Ideal) m g)

theorem values_ideal : Cert.algebraic_AdamwAdaIdeal_AdamwAdaRefIdeal := fun m g m' g' _ hm =>
  ⟨fun c i => deltaAt ((m ((c.tc : Thread Cert.AdamwAdaIdeal.nD Cert.AdamwAdaIdeal.τ).loc Cert.AdamwAdaIdeal.main_arg0)) i) ((m ((c.tc : Thread Cert.AdamwAdaIdeal.nD Cert.AdamwAdaIdeal.τ).loc Cert.AdamwAdaIdeal.main_arg1)) i) ((m ((c.tc : Thread Cert.AdamwAdaIdeal.nD Cert.AdamwAdaIdeal.τ).loc Cert.AdamwAdaIdeal.main_arg2)) i) ((m ((c.tc : Thread Cert.AdamwAdaIdeal.nD Cert.AdamwAdaIdeal.τ).loc Cert.AdamwAdaIdeal.main_arg3)) i),
    fun c i => meanAt ((m ((c.tc : Thread Cert.AdamwAdaIdeal.nD Cert.AdamwAdaIdeal.τ).loc Cert.AdamwAdaIdeal.main_arg2)) i) ((m ((c.tc : Thread Cert.AdamwAdaIdeal.nD Cert.AdamwAdaIdeal.τ).loc Cert.AdamwAdaIdeal.main_arg1)) i),
    fun c i => squareAt ((m ((c.tc : Thread Cert.AdamwAdaIdeal.nD Cert.AdamwAdaIdeal.τ).loc Cert.AdamwAdaIdeal.main_arg3)) i) ((m ((c.tc : Thread Cert.AdamwAdaIdeal.nD Cert.AdamwAdaIdeal.τ).loc Cert.AdamwAdaIdeal.main_arg1)) i),
    Cert.AdamwAdaIdeal.Value.run (F := Ideal) m g,
    (θ_run Cert.AdamwAdaRefIdeal.defs _ _).mono (fun r h c => by
      obtain ⟨e0, e1, e2, e3⟩ := hm c
      obtain ⟨hd, hn, hs, hk⟩ := h c
      refine ⟨hd.trans ?_, hn.trans ?_, hs.trans ?_, hk⟩
      · rw [e0, e1, e2, e3]
        exact delta_eq _ _ _ _ _ _
      · rw [e1, e2]
        exact mean_eq _ _ _ _
      · rw [e1, e3]
        exact square_eq _ _ _ _) (Cert.AdamwAdaRefIdeal.Value.run (F := Ideal) m' g')⟩

end Cert.AdamwAdaClaims

/-! ## The even layer's input weights. -/

namespace Cert.AdamwEvInClaims

open Cert.AdamwStep

theorem frame_kernel : Cert.quiescent_AdamwEvIn := fun m g _ => Cert.AdamwEvIn.Gen.frame (F := Bits) m g

theorem frame_ideal : Cert.quiescent_AdamwEvInIdeal := fun m g _ => Cert.AdamwEvInIdeal.Gen.frame (F := Ideal) m g

theorem frame_ref_ideal : Cert.quiescent_AdamwEvInRefIdeal := fun m g _ =>
  (θ_run Cert.AdamwEvInRefIdeal.defs _ _).mono (fun r h => ⟨fun c => (h c).2.2.2, sem_eq_zero_of_no_sems rfl r.2⟩)
    (Cert.AdamwEvInRefIdeal.Value.run (F := Ideal) m g)

theorem values_ideal : Cert.algebraic_AdamwEvInIdeal_AdamwEvInRefIdeal := fun m g m' g' _ hm =>
  ⟨fun c i => deltaAt ((m ((c.tc : Thread Cert.AdamwEvInIdeal.nD Cert.AdamwEvInIdeal.τ).loc Cert.AdamwEvInIdeal.main_arg0)) i) ((m ((c.tc : Thread Cert.AdamwEvInIdeal.nD Cert.AdamwEvInIdeal.τ).loc Cert.AdamwEvInIdeal.main_arg1)) i) ((m ((c.tc : Thread Cert.AdamwEvInIdeal.nD Cert.AdamwEvInIdeal.τ).loc Cert.AdamwEvInIdeal.main_arg2)) i) ((m ((c.tc : Thread Cert.AdamwEvInIdeal.nD Cert.AdamwEvInIdeal.τ).loc Cert.AdamwEvInIdeal.main_arg3)) i),
    fun c i => meanAt ((m ((c.tc : Thread Cert.AdamwEvInIdeal.nD Cert.AdamwEvInIdeal.τ).loc Cert.AdamwEvInIdeal.main_arg2)) i) ((m ((c.tc : Thread Cert.AdamwEvInIdeal.nD Cert.AdamwEvInIdeal.τ).loc Cert.AdamwEvInIdeal.main_arg1)) i),
    fun c i => squareAt ((m ((c.tc : Thread Cert.AdamwEvInIdeal.nD Cert.AdamwEvInIdeal.τ).loc Cert.AdamwEvInIdeal.main_arg3)) i) ((m ((c.tc : Thread Cert.AdamwEvInIdeal.nD Cert.AdamwEvInIdeal.τ).loc Cert.AdamwEvInIdeal.main_arg1)) i),
    Cert.AdamwEvInIdeal.Value.run (F := Ideal) m g,
    (θ_run Cert.AdamwEvInRefIdeal.defs _ _).mono (fun r h c => by
      obtain ⟨e0, e1, e2, e3⟩ := hm c
      obtain ⟨hd, hn, hs, hk⟩ := h c
      refine ⟨hd.trans ?_, hn.trans ?_, hs.trans ?_, hk⟩
      · rw [e0, e1, e2, e3]
        exact delta_eq _ _ _ _ _ _
      · rw [e1, e2]
        exact mean_eq _ _ _ _
      · rw [e1, e3]
        exact square_eq _ _ _ _) (Cert.AdamwEvInRefIdeal.Value.run (F := Ideal) m' g')⟩

end Cert.AdamwEvInClaims

/-! ## The output weights of either layer. -/

namespace Cert.AdamwOutClaims

open Cert.AdamwStep

theorem frame_kernel : Cert.quiescent_AdamwOut := fun m g _ => Cert.AdamwOut.Gen.frame (F := Bits) m g

theorem frame_ideal : Cert.quiescent_AdamwOutIdeal := fun m g _ => Cert.AdamwOutIdeal.Gen.frame (F := Ideal) m g

theorem frame_ref_ideal : Cert.quiescent_AdamwOutRefIdeal := fun m g _ =>
  (θ_run Cert.AdamwOutRefIdeal.defs _ _).mono (fun r h => ⟨fun c => (h c).2.2.2, sem_eq_zero_of_no_sems rfl r.2⟩)
    (Cert.AdamwOutRefIdeal.Value.run (F := Ideal) m g)

theorem values_ideal : Cert.algebraic_AdamwOutIdeal_AdamwOutRefIdeal := fun m g m' g' _ hm =>
  ⟨fun c i => deltaAt ((m ((c.tc : Thread Cert.AdamwOutIdeal.nD Cert.AdamwOutIdeal.τ).loc Cert.AdamwOutIdeal.main_arg0)) i) ((m ((c.tc : Thread Cert.AdamwOutIdeal.nD Cert.AdamwOutIdeal.τ).loc Cert.AdamwOutIdeal.main_arg1)) i) ((m ((c.tc : Thread Cert.AdamwOutIdeal.nD Cert.AdamwOutIdeal.τ).loc Cert.AdamwOutIdeal.main_arg2)) i) ((m ((c.tc : Thread Cert.AdamwOutIdeal.nD Cert.AdamwOutIdeal.τ).loc Cert.AdamwOutIdeal.main_arg3)) i),
    fun c i => meanAt ((m ((c.tc : Thread Cert.AdamwOutIdeal.nD Cert.AdamwOutIdeal.τ).loc Cert.AdamwOutIdeal.main_arg2)) i) ((m ((c.tc : Thread Cert.AdamwOutIdeal.nD Cert.AdamwOutIdeal.τ).loc Cert.AdamwOutIdeal.main_arg1)) i),
    fun c i => squareAt ((m ((c.tc : Thread Cert.AdamwOutIdeal.nD Cert.AdamwOutIdeal.τ).loc Cert.AdamwOutIdeal.main_arg3)) i) ((m ((c.tc : Thread Cert.AdamwOutIdeal.nD Cert.AdamwOutIdeal.τ).loc Cert.AdamwOutIdeal.main_arg1)) i),
    Cert.AdamwOutIdeal.Value.run (F := Ideal) m g,
    (θ_run Cert.AdamwOutRefIdeal.defs _ _).mono (fun r h c => by
      obtain ⟨e0, e1, e2, e3⟩ := hm c
      obtain ⟨hd, hn, hs, hk⟩ := h c
      refine ⟨hd.trans ?_, hn.trans ?_, hs.trans ?_, hk⟩
      · rw [e0, e1, e2, e3]
        exact delta_eq _ _ _ _ _ _
      · rw [e1, e2]
        exact mean_eq _ _ _ _
      · rw [e1, e3]
        exact square_eq _ _ _ _) (Cert.AdamwOutRefIdeal.Value.run (F := Ideal) m' g')⟩

end Cert.AdamwOutClaims

/-! ## The odd layer's input weights. -/

namespace Cert.AdamwOdInClaims

open Cert.AdamwStep

theorem frame_kernel : Cert.quiescent_AdamwOdIn := fun m g _ => Cert.AdamwOdIn.Gen.frame (F := Bits) m g

theorem frame_ideal : Cert.quiescent_AdamwOdInIdeal := fun m g _ => Cert.AdamwOdInIdeal.Gen.frame (F := Ideal) m g

theorem frame_ref_ideal : Cert.quiescent_AdamwOdInRefIdeal := fun m g _ =>
  (θ_run Cert.AdamwOdInRefIdeal.defs _ _).mono (fun r h => ⟨fun c => (h c).2.2.2, sem_eq_zero_of_no_sems rfl r.2⟩)
    (Cert.AdamwOdInRefIdeal.Value.run (F := Ideal) m g)

theorem values_ideal : Cert.algebraic_AdamwOdInIdeal_AdamwOdInRefIdeal := fun m g m' g' _ hm =>
  ⟨fun c i => deltaAt ((m ((c.tc : Thread Cert.AdamwOdInIdeal.nD Cert.AdamwOdInIdeal.τ).loc Cert.AdamwOdInIdeal.main_arg0)) i) ((m ((c.tc : Thread Cert.AdamwOdInIdeal.nD Cert.AdamwOdInIdeal.τ).loc Cert.AdamwOdInIdeal.main_arg1)) i) ((m ((c.tc : Thread Cert.AdamwOdInIdeal.nD Cert.AdamwOdInIdeal.τ).loc Cert.AdamwOdInIdeal.main_arg2)) i) ((m ((c.tc : Thread Cert.AdamwOdInIdeal.nD Cert.AdamwOdInIdeal.τ).loc Cert.AdamwOdInIdeal.main_arg3)) i),
    fun c i => meanAt ((m ((c.tc : Thread Cert.AdamwOdInIdeal.nD Cert.AdamwOdInIdeal.τ).loc Cert.AdamwOdInIdeal.main_arg2)) i) ((m ((c.tc : Thread Cert.AdamwOdInIdeal.nD Cert.AdamwOdInIdeal.τ).loc Cert.AdamwOdInIdeal.main_arg1)) i),
    fun c i => squareAt ((m ((c.tc : Thread Cert.AdamwOdInIdeal.nD Cert.AdamwOdInIdeal.τ).loc Cert.AdamwOdInIdeal.main_arg3)) i) ((m ((c.tc : Thread Cert.AdamwOdInIdeal.nD Cert.AdamwOdInIdeal.τ).loc Cert.AdamwOdInIdeal.main_arg1)) i),
    Cert.AdamwOdInIdeal.Value.run (F := Ideal) m g,
    (θ_run Cert.AdamwOdInRefIdeal.defs _ _).mono (fun r h c => by
      obtain ⟨e0, e1, e2, e3⟩ := hm c
      obtain ⟨hd, hn, hs, hk⟩ := h c
      refine ⟨hd.trans ?_, hn.trans ?_, hs.trans ?_, hk⟩
      · rw [e0, e1, e2, e3]
        exact delta_eq _ _ _ _ _ _
      · rw [e1, e2]
        exact mean_eq _ _ _ _
      · rw [e1, e3]
        exact square_eq _ _ _ _) (Cert.AdamwOdInRefIdeal.Value.run (F := Ideal) m' g')⟩

end Cert.AdamwOdInClaims

/-! ## The small weights, packed. -/

namespace Cert.AdamwSmallClaims

open Cert.AdamwStep

theorem frame_kernel : Cert.quiescent_AdamwSmall := fun m g _ => Cert.AdamwSmall.Gen.frame (F := Bits) m g

theorem frame_ideal : Cert.quiescent_AdamwSmallIdeal := fun m g _ => Cert.AdamwSmallIdeal.Gen.frame (F := Ideal) m g

theorem frame_ref_ideal : Cert.quiescent_AdamwSmallRefIdeal := fun m g _ =>
  (θ_run Cert.AdamwSmallRefIdeal.defs _ _).mono (fun r h => ⟨fun c => (h c).2.2.2, sem_eq_zero_of_no_sems rfl r.2⟩)
    (Cert.AdamwSmallRefIdeal.Value.run (F := Ideal) m g)

theorem values_ideal : Cert.algebraic_AdamwSmallIdeal_AdamwSmallRefIdeal := fun m g m' g' _ hm =>
  ⟨fun c i => deltaAt ((m ((c.tc : Thread Cert.AdamwSmallIdeal.nD Cert.AdamwSmallIdeal.τ).loc Cert.AdamwSmallIdeal.main_arg0)) i) ((m ((c.tc : Thread Cert.AdamwSmallIdeal.nD Cert.AdamwSmallIdeal.τ).loc Cert.AdamwSmallIdeal.main_arg1)) i) ((m ((c.tc : Thread Cert.AdamwSmallIdeal.nD Cert.AdamwSmallIdeal.τ).loc Cert.AdamwSmallIdeal.main_arg2)) i) ((m ((c.tc : Thread Cert.AdamwSmallIdeal.nD Cert.AdamwSmallIdeal.τ).loc Cert.AdamwSmallIdeal.main_arg3)) i),
    fun c i => meanAt ((m ((c.tc : Thread Cert.AdamwSmallIdeal.nD Cert.AdamwSmallIdeal.τ).loc Cert.AdamwSmallIdeal.main_arg2)) i) ((m ((c.tc : Thread Cert.AdamwSmallIdeal.nD Cert.AdamwSmallIdeal.τ).loc Cert.AdamwSmallIdeal.main_arg1)) i),
    fun c i => squareAt ((m ((c.tc : Thread Cert.AdamwSmallIdeal.nD Cert.AdamwSmallIdeal.τ).loc Cert.AdamwSmallIdeal.main_arg3)) i) ((m ((c.tc : Thread Cert.AdamwSmallIdeal.nD Cert.AdamwSmallIdeal.τ).loc Cert.AdamwSmallIdeal.main_arg1)) i),
    Cert.AdamwSmallIdeal.Value.run (F := Ideal) m g,
    (θ_run Cert.AdamwSmallRefIdeal.defs _ _).mono (fun r h c => by
      obtain ⟨e0, e1, e2, e3⟩ := hm c
      obtain ⟨hd, hn, hs, hk⟩ := h c
      refine ⟨hd.trans ?_, hn.trans ?_, hs.trans ?_, hk⟩
      · rw [e0, e1, e2, e3]
        exact delta_eq _ _ _ _ _ _
      · rw [e1, e2]
        exact mean_eq _ _ _ _
      · rw [e1, e3]
        exact square_eq _ _ _ _) (Cert.AdamwSmallRefIdeal.Value.run (F := Ideal) m' g')⟩

end Cert.AdamwSmallClaims

end
-- ==== Proof.ModBwdClaims.lean ====
/- The gradient of the modulation's weights and its product with the weights: the formula at a place, what a tile leaves,
   what the host computes. -/
module

public import proofs.«01_k».proof.Defs
public import proofs.«01_k».proof.Proof.Geometry
public import proofs.«01_k».proof.Proof.Gen.ModBwd.Frame
public import proofs.«01_k».proof.Proof.Gen.ModBwdIdeal.Frame
public import proofs.«01_k».proof.Proof.Gen.ModBwdRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.Exchange

namespace Cert.ModBwdClaims

/-- The activation. -/
def act (x : EReal) : EReal := x * Ideal.logistic x

variable {n L : ℕ}

/-- The gradient of the weights at a place: over the nine rows that hold a conditioning vector. -/
def grad (ct : (⟨2, ![n, 16]⟩ : Shape).Idx → EReal) (dm : (⟨3, ![L, 16, 1536]⟩ : Shape).Idx → EReal)
    (k : (⟨3, ![L, n, 1536]⟩ : Shape).Idx) : EReal :=
  ∑ r : Fin 9, act (ct (ix2 (k 1) ⟨r.val, by omega⟩)) * dm (ix3 (k 0) ⟨r.val, by omega⟩ (k 2))

/-- The weights against the gradient's last row, at a place. -/
def back (dm : (⟨3, ![L, 16, 1536]⟩ : Shape).Idx → EReal) (w : (⟨3, ![L, n, 1536]⟩ : Shape).Idx → EReal)
    (k : (⟨3, ![L, n, 1]⟩ : Shape).Idx) : EReal :=
  ∑ q : Fin 1536, w (ix3 (k 0) (k 1) q) * dm (ix3 (k 0) 8 q)

section
open Cert.ModBwdRefIdeal Cert.ModBwdRefIdeal.Gen

theorem host_grad (ct : FVec Ideal S2048x16 .f32) (dm : FVec Ideal S2x16x1536 .f32) :
    transpose S2x2048x1536 [0, 2, 1] (Host.dotGeneral dot_S2x9x1536_S2048x9_S2x1536x2048_1_1_02_0_n_n none (extractStridedSlice S2x9x1536 ![0, 0, 0] dm slices_S2x16x1536_S2x9x1536_0_0_0) (mulf (extractStridedSlice S2048x9 ![0, 0] ct slices_S2048x16_S2048x9_0_0) (Host.divf (broadcastInDim S2048x9 ![] bcast_S_S2048x9 (constant S_ .f32 0x3F800000#32)) (addf (broadcastInDim S2048x9 ![] bcast_S_S2048x9 (constant S_ .f32 0x3F800000#32)) (Host.exp (Host.negf (extractStridedSlice S2048x9 ![0, 0] ct slices_S2048x16_S2048x9_0_0))))))) transposes_S2x1536x2048_S2x2048x1536_0_2_1
      = grad ct dm := by
  funext k
  obtain ⟨a, b, e, rfl⟩ : ∃ (a : Fin 2) (b : Fin 2048) (e : Fin 1536), k = ix3 a b e :=
    ⟨k 0, k 1, k 2, by funext x; fin_cases x <;> rfl⟩
  unfold grad act Ideal.logistic
  pointwise
  exact Finset.sum_congr rfl fun _ _ => mul_comm _ _

theorem host_back (dm : FVec Ideal S2x16x1536 .f32) (w : FVec Ideal S2x2048x1536 .f32) :
    broadcastInDim S2x2048x1 ![0, 1] bcast_S2x2048_S2x2048x1_0_1 (Host.dotGeneral dot_S2x2048x1536_S2x1536_S2x2048_2_1_1_n_0_0 none w (shapeCast _ (extractStridedSlice S2x1x1536 ![0, 8, 0] dm slices_S2x16x1536_S2x1x1536_0_8_0) shapeCasts_S2x1x1536_S2x1536))
      = back dm w := by
  funext k
  obtain ⟨a, b, e, rfl⟩ : ∃ (a : Fin 2) (b : Fin 2048) (e : Fin 1), k = ix3 a b e :=
    ⟨k 0, k 1, k 2, by funext x; fin_cases x <;> rfl⟩
  unfold back
  pointwise

end

section
open Cert.ModBwdIdeal Cert.ModBwdIdeal.Gen

theorem body_grad (x0 : FVec Ideal S256x16 .f32) (x1 : FVec Ideal S1x16x1536 .f32) (x2 : FVec Ideal S1x256x1536 .f32) :
    out0_3 (F := Ideal) x0 x1 x2 = grad x0 x1 := by
  unfold out0_3 k0_pay8
  rw [View.canon_unit_zero (by decide), View.ld_unit_zero (S := S256x16) (by decide), View.ld_unit_zero (S := S1x16x1536) (by decide)]
  funext k
  obtain ⟨a, b, e, rfl⟩ : ∃ (a : Fin 1) (b : Fin 256) (e : Fin 1536), k = ix3 a b e :=
    ⟨k 0, k 1, k 2, by funext x; fin_cases x <;> rfl⟩
  unfold grad act Ideal.logistic
  rw [Fin.sum_univ_castSucc, Fin.sum_univ_eight]
  unfold_payloads
  pointwise
  rw [Subsingleton.elim a 0]
  simp only [zero_sub]

theorem body_back (x0 : FVec Ideal S256x16 .f32) (x1 : FVec Ideal S1x16x1536 .f32) (x2 : FVec Ideal S1x256x1536 .f32) :
    out0_4 (F := Ideal) x0 x1 x2 = back x1 x2 := by
  unfold out0_4 k0_pay8
  rw [View.canon_unit_zero (by decide), View.ld_unit_zero (S := S1x16x1536) (by decide), View.ld_unit_zero (S := S1x256x1536) (by decide)]
  funext k
  obtain ⟨a, b, e, rfl⟩ : ∃ (a : Fin 1) (b : Fin 256) (e : Fin 1), k = ix3 a b e :=
    ⟨k 0, k 1, k 2, by funext x; fin_cases x <;> rfl⟩
  unfold back
  unfold_payloads
  pointwise
  rw [Subsingleton.elim a 0]

/-! ### The tiles: a layer and 256 rows of its weights -/

variable (m : (ℓ : Loc nD τ sig) → Buf (Elt Ideal) ℓ) (ρ : Dev nD → PrngReg)

/-- Which block a window names at a point. -/
theorem blocks (t : Fin cfg0.N) : (win0_0.index t (0 : Fin 2) = t.val % 8 ∧ win0_0.index t (1 : Fin 2) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0) :=
  (by decide +kernel : ∀ t : Fin grid0.N, (win0_0.index t (0 : Fin 2) = t.val % 8 ∧ win0_0.index t (1 : Fin 2) = 0)
    ∧ (win0_1.index t (0 : Fin 3) = t.val / 8 ∧ win0_1.index t (1 : Fin 3) = 0 ∧ win0_1.index t (2 : Fin 3) = 0)
    ∧ (win0_2.index t (0 : Fin 3) = t.val / 8 ∧ win0_2.index t (1 : Fin 3) = t.val % 8 ∧ win0_2.index t (2 : Fin 3) = 0)
    ∧ (win0_3.index t (0 : Fin 3) = t.val / 8 ∧ win0_3.index t (1 : Fin 3) = t.val % 8 ∧ win0_3.index t (2 : Fin 3) = 0)
    ∧ (win0_4.index t (0 : Fin 3) = t.val / 8 ∧ win0_4.index t (1 : Fin 3) = t.val % 8 ∧ win0_4.index t (2 : Fin 3) = 0)) t

theorem at_rows (t : Fin cfg0.N) (i : S256x16.Idx) :
    ((((cfg0.win 0).blk t).view.emb i) 0).val = 256 * (t.val % 8) + (i 0).val ∧ ((((cfg0.win 0).blk t).view.emb i) 1).val = (i 1).val := by
  obtain ⟨⟨e0, e1⟩, -⟩ := blocks t
  refine ⟨?_, ?_⟩
  · show win0_0.index t (0 : Fin 2) * 256 + 1 * (i 0).val = _
    omega
  · show win0_0.index t (1 : Fin 2) * 16 + 1 * (i 1).val = _
    omega

theorem at_layer (t : Fin cfg0.N) (i : S1x16x1536.Idx) : ((((cfg0.win 1).blk t).view.emb i) 0).val = t.val / 8
    ∧ ((((cfg0.win 1).blk t).view.emb i) 1).val = (i 1).val ∧ ((((cfg0.win 1).blk t).view.emb i) 2).val = (i 2).val := by
  obtain ⟨-, ⟨e0, e1, e2⟩, -⟩ := blocks t
  have hi : (i 0).val < 1 := (i 0).isLt
  refine ⟨?_, ?_, ?_⟩
  · show win0_1.index t (0 : Fin 3) * 1 + 1 * (i 0).val = _
    omega
  · show win0_1.index t (1 : Fin 3) * 16 + 1 * (i 1).val = _
    omega
  · show win0_1.index t (2 : Fin 3) * 1536 + 1 * (i 2).val = _
    omega

theorem at_weights (t : Fin cfg0.N) (i : S1x256x1536.Idx) : ((((cfg0.win 2).blk t).view.emb i) 0).val = t.val / 8
    ∧ ((((cfg0.win 2).blk t).view.emb i) 1).val = 256 * (t.val % 8) + (i 1).val ∧ ((((cfg0.win 2).blk t).view.emb i) 2).val = (i 2).val := by
  obtain ⟨-, -, ⟨e0, e1, e2⟩, -⟩ := blocks t
  have hi : (i 0).val < 1 := (i 0).isLt
  refine ⟨?_, ?_, ?_⟩
  · show win0_2.index t (0 : Fin 3) * 1 + 1 * (i 0).val = _
    omega
  · show win0_2.index t (1 : Fin 3) * 256 + 1 * (i 1).val = _
    omega
  · show win0_2.index t (2 : Fin 3) * 1536 + 1 * (i 2).val = _
    omega

theorem to_grad (t : Fin cfg0.N) (i : S1x256x1536.Idx) : ((((cfg0.win 3).blk t).view.emb i) 0).val = t.val / 8
    ∧ ((((cfg0.win 3).blk t).view.emb i) 1).val = 256 * (t.val % 8) + (i 1).val ∧ ((((cfg0.win 3).blk t).view.emb i) 2).val = (i 2).val := by
  obtain ⟨-, -, -, ⟨e0, e1, e2⟩, -⟩ := blocks t
  have hi : (i 0).val < 1 := (i 0).isLt
  refine ⟨?_, ?_, ?_⟩
  · show win0_3.index t (0 : Fin 3) * 1 + 1 * (i 0).val = _
    omega
  · show win0_3.index t (1 : Fin 3) * 256 + 1 * (i 1).val = _
    omega
  · show win0_3.index t (2 : Fin 3) * 1536 + 1 * (i 2).val = _
    omega

theorem to_back (t : Fin cfg0.N) (i : S1x256x1.Idx) : ((((cfg0.win 4).blk t).view.emb i) 0).val = t.val / 8
    ∧ ((((cfg0.win 4).blk t).view.emb i) 1).val = 256 * (t.val % 8) + (i 1).val ∧ ((((cfg0.win 4).blk t).view.emb i) 2).val = (i 2).val := by
  obtain ⟨-, -, -, -, e0, e1, e2⟩ := blocks t
  have hi : (i 0).val < 1 := (i 0).isLt
  refine ⟨?_, ?_, ?_⟩
  · show win0_4.index t (0 : Fin 3) * 1 + 1 * (i 0).val = _
    omega
  · show win0_4.index t (1 : Fin 3) * 256 + 1 * (i 1).val = _
    omega
  · show win0_4.index t (2 : Fin 3) * 1 + 1 * (i 2).val = _
    omega

/-- A point writes back its tile of the gradient. -/
theorem tile_grad (c : Dev nD) (t : Fin cfg0.N) : (dats m 0 c).flushed 3 t
    = ((cfg0.win 3).blk t).view.read (Elt Ideal) (grad (V m c main_arg0) (V m c main_arg1)) := by
  show (cfg0.win 3).cut (grid0.coords t) ((dats m 0 c).after 3 t) = _
  rw [after0_3, body_grad]
  funext j
  show grad (iblk m c 0 t) (iblk m c 1 t) j = grad (V m c main_arg0) (V m c main_arg1) (((cfg0.win 3).blk t).view.emb j)
  obtain ⟨k0, k1, k2⟩ := to_grad t j
  refine Finset.sum_congr rfl fun r _ => congrArg₂ (· * ·) (congrArg act (at_congr (V m c main_arg0) fun a => ?_))
    (at_congr (V m c main_arg1) fun a => ?_)
  · obtain ⟨e0, e1⟩ := at_rows t (ix2 (j 1) ⟨r.val, by omega⟩)
    fin_cases a
    · exact e0.trans k1.symm
    · exact e1
  · obtain ⟨e0, e1, e2⟩ := at_layer t (ix3 (j 0) ⟨r.val, by omega⟩ (j 2))
    fin_cases a
    · exact e0.trans k0.symm
    · exact e1
    · exact e2.trans k2.symm

/-- A point writes back its tile of the product. -/
theorem tile_back (c : Dev nD) (t : Fin cfg0.N) : (dats m 0 c).flushed 4 t
    = ((cfg0.win 4).blk t).view.read (Elt Ideal) (back (V m c main_arg1) (V m c main_arg2)) := by
  show (cfg0.win 4).cut (grid0.coords t) ((dats m 0 c).after 4 t) = _
  rw [after0_4, body_back]
  funext j
  show back (iblk m c 1 t) (iblk m c 2 t) j = back (V m c main_arg1) (V m c main_arg2) (((cfg0.win 4).blk t).view.emb j)
  obtain ⟨k0, k1, -⟩ := to_back t j
  refine Finset.sum_congr rfl fun q _ => congrArg₂ (· * ·) (at_congr (V m c main_arg2) fun a => ?_)
    (at_congr (V m c main_arg1) fun a => ?_)
  · obtain ⟨e0, e1, e2⟩ := at_weights t (ix3 (j 0) (j 1) q)
    fin_cases a
    · exact e0.trans k0.symm
    · exact e1.trans k1.symm
    · exact e2
  · obtain ⟨e0, e1, e2⟩ := at_layer t (ix3 (j 0) 8 q)
    fin_cases a
    · exact e0.trans k0.symm
    · exact e1
    · exact e2

/-- The point of a layer and a row. -/
theorem point_of (l r : ℕ) (hl : l < 2) (hr : r < 2048) : 8 * l + r / 256 < cfg0.N ∧ (8 * l + r / 256) / 8 = l
    ∧ 256 * ((8 * l + r / 256) % 8) + r % 256 = r :=
  ⟨show 8 * l + r / 256 < 16 by omega, by omega, by omega⟩

theorem tiled_grad (i : S2x2048x1536.Idx) : ∃ t : Fin cfg0.N, (cfg0.win 3).flush t = true ∧ i ∈ ((cfg0.win 3).blk t).view.set := by
  obtain ⟨ht, hl, hr⟩ := point_of (i 0).val (i 1).val (i 0).isLt (i 1).isLt
  have hj := ((cfg0.win 3).blk ⟨_, ht⟩).view.emb_mem_set (ix3 0 ⟨(i 1).val % 256, Nat.mod_lt _ (by decide)⟩ (i 2) : S1x256x1536.Idx)
  obtain ⟨e0, e1, e2⟩ := to_grad ⟨_, ht⟩ (ix3 0 ⟨(i 1).val % 256, Nat.mod_lt _ (by decide)⟩ (i 2))
  refine ⟨⟨_, ht⟩, flush0_3 _, (congrArg (· ∈ ((cfg0.win 3).blk ⟨_, ht⟩).view.set) (funext fun a => Fin.ext ?_)).mp hj⟩
  fin_cases a
  · exact e0.trans hl
  · exact e1.trans hr
  · exact e2

theorem tiled_back (i : S2x2048x1.Idx) : ∃ t : Fin cfg0.N, (cfg0.win 4).flush t = true ∧ i ∈ ((cfg0.win 4).blk t).view.set := by
  obtain ⟨ht, hl, hr⟩ := point_of (i 0).val (i 1).val (i 0).isLt (i 1).isLt
  have hj := ((cfg0.win 4).blk ⟨_, ht⟩).view.emb_mem_set (ix3 0 ⟨(i 1).val % 256, Nat.mod_lt _ (by decide)⟩ (i 2) : S1x256x1.Idx)
  obtain ⟨e0, e1, e2⟩ := to_back ⟨_, ht⟩ (ix3 0 ⟨(i 1).val % 256, Nat.mod_lt _ (by decide)⟩ (i 2))
  refine ⟨⟨_, ht⟩, flush0_4 _, (congrArg (· ∈ ((cfg0.win 4).blk ⟨_, ht⟩).view.set) (funext fun a => Fin.ext ?_)).mp hj⟩
  fin_cases a
  · exact e0.trans hl
  · exact e1.trans hr
  · exact e2

theorem result_grad (c : Dev nD) : (dats m 0 c).arrAt 3 cfg0.N
    = grad (m ((c : Thread nD τ).loc main_arg0)) (m ((c : Thread nD τ).loc main_arg1)) :=
  (dats m 0 c).arrAt_eq_of_cover 3 _ (fun t _ => tile_grad m c t) tiled_grad

theorem result_back (c : Dev nD) : (dats m 0 c).arrAt 4 cfg0.N
    = back (m ((c : Thread nD τ).loc main_arg1)) (m ((c : Thread nD τ).loc main_arg2)) :=
  (dats m 0 c).arrAt_eq_of_cover 4 _ (fun t _ => tile_back m c t) tiled_back

theorem kernel_run : θ_run defs (onTc (τ := τ) (main (F := Ideal))) ⟨m, fun _ => 0, ρ⟩ fun r => ∀ c : Dev nD,
      r.2.mem ((c.tc : Thread nD τ).loc main_v0_0) = grad (m ((c.tc : Thread nD τ).loc main_arg0)) (m ((c.tc : Thread nD τ).loc main_arg1))
      ∧ r.2.mem ((c.tc : Thread nD τ).loc main_v0_1) = back (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  (θ_run defs _ _).mono (fun r h c => ⟨((h c).1 3).trans (result_grad m c), ((h c).1 4).trans (result_back m c),
    ((h c).1 0).trans ((dats m 0 c).arrAt_in 0 rfl _), ((h c).1 1).trans ((dats m 0 c).arrAt_in 1 rfl _),
    ((h c).1 2).trans ((dats m 0 c).arrAt_in 2 rfl _)⟩) (run_main m ρ)

end

theorem frame_kernel : Cert.quiescent_ModBwd := fun m g _ => Cert.ModBwd.Gen.frame (F := Bits) m g

theorem frame_ideal : Cert.quiescent_ModBwdIdeal := fun m g _ => Cert.ModBwdIdeal.Gen.frame (F := Ideal) m g

theorem frame_ref_ideal : Cert.quiescent_ModBwdRefIdeal := fun m g _ =>
  (θ_run Cert.ModBwdRefIdeal.defs _ _).mono (fun r h => ⟨fun c => (h c).2.2, sem_eq_zero_of_no_sems rfl r.2⟩)
    (Cert.ModBwdRefIdeal.Value.run (F := Ideal) m g)

theorem values_ideal : Cert.algebraic_ModBwdIdeal_ModBwdRefIdeal := fun m g m' g' _ hm =>
  ⟨_, _, kernel_run m g,
    (θ_run Cert.ModBwdRefIdeal.defs _ _).mono
      (fun _ h c => ⟨(h c).1.trans (by rw [(hm c).1, (hm c).2.1]; exact host_grad _ _),
        (h c).2.1.trans (by rw [(hm c).2.1, (hm c).2.2]; exact host_back _ _), (h c).2.2⟩)
      (Cert.ModBwdRefIdeal.Value.run (F := Ideal) m' g')⟩

end Cert.ModBwdClaims

end
-- ==== Proof.CctxGradClaims.lean ====
/- The gradient of the conditioning row: the devices' parts added up, times the activation's derivative. -/
module

public import proofs.«01_k».proof.Defs
public import proofs.«01_k».proof.Proof.Geometry
public import proofs.«01_k».proof.Proof.Gen.CctxGrad.Frame
public import proofs.«01_k».proof.Proof.Gen.CctxGradIdeal.Value
public import proofs.«01_k».proof.Proof.Gen.CctxGradRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.Exchange

namespace Cert.CctxGradClaims

/-- The derivative of the activation at a place, as both programs compute it. -/
def slope (c : EReal) : EReal := Ideal.logistic c * (1 + c * (1 - Ideal.logistic c))

/-- The gradient at a place: the parts of one device of each pair, times the derivative. -/
def grad (p : (⟨3, ![8, 16, 128]⟩ : Shape).Idx → EReal) (c : (⟨2, ![16, 128]⟩ : Shape).Idx → EReal)
    (k : (⟨2, ![16, 128]⟩ : Shape).Idx) : EReal :=
  (∑ q : Fin 4, p (ix3 ⟨q.val * 2, by omega⟩ (k 0) (k 1))) * slope (c k)

section
open Cert.CctxGradIdeal Cert.CctxGradIdeal.Gen

theorem kernel_grad (p : FVec Ideal S8x16x128 .f32) (c : FVec Ideal S16x128 .f32) : Value.G2 (F := Ideal) p c = grad p c := by
  funext k
  have at_pair : ∀ (a : Fin 16) (b : Fin 128), Value.G2 (F := Ideal) p c (ix2 a b) = grad p c (ix2 a b) := by
    intro a b
    unfold Value.G2 grad slope
    rw [Fin.sum_univ_four]
    unfold_payloads
    unfold Ideal.logistic
    pointwise
    rw [zero_sub]
  have hk : k = ix2 (k 0) (k 1) := by
    funext a
    fin_cases a <;> rfl
  rw [hk]
  exact at_pair _ _
end

section
open Cert.CctxGradRefIdeal Cert.CctxGradRefIdeal.Gen

/-- The host's sum of the parts at a place. -/
theorem host_parts (p : FVec Ideal S8x16x128 .f32) (a : Fin 16) (b : Fin 128) :
    Host.reduceAdd (shapeCast _ (extractStridedSlice S4x1x16x128 ![0, 0, 0, 0] (shapeCast _ p shapeCasts_S8x16x128_S4x2x16x128) slices_S4x2x16x128_S4x1x16x128_0_0_0_0) shapeCasts_S4x1x16x128_S4x16x128) (constant S_ .f32 0x00000000#32) reducesTo_S4x16x128_S16x128_d0 h_S_ (ix2 a b)
      = ∑ q : Fin 4, p (ix3 ⟨q.val * 2, by omega⟩ a b) := by
  pointwise

/-- The host's derivative at a place. -/
theorem host_slope (x : FVec Ideal S16x128 .f32) (a : Fin 16) (b : Fin 128) :
    mulf (Host.divf (broadcastInDim S16x128 ![] bcast_S_S16x128 (constant S_ .f32 0x3F800000#32)) (addf (broadcastInDim S16x128 ![] bcast_S_S16x128 (constant S_ .f32 0x3F800000#32)) (Host.exp (Host.negf x)))) (addf (broadcastInDim S16x128 ![] bcast_S_S16x128 (constant S_ .f32 0x3F800000#32)) (mulf x (subf (broadcastInDim S16x128 ![] bcast_S_S16x128 (constant S_ .f32 0x3F800000#32)) (Host.divf (broadcastInDim S16x128 ![] bcast_S_S16x128 (constant S_ .f32 0x3F800000#32)) (addf (broadcastInDim S16x128 ![] bcast_S_S16x128 (constant S_ .f32 0x3F800000#32)) (Host.exp (Host.negf x))))))) (ix2 a b)
      = slope (x (ix2 a b)) := by
  unfold slope Ideal.logistic
  pointwise

/-- The host's product is the gradient. -/
theorem host_grad (p : FVec Ideal S8x16x128 .f32) (x : FVec Ideal S16x128 .f32) :
    mulf (Host.reduceAdd (shapeCast _ (extractStridedSlice S4x1x16x128 ![0, 0, 0, 0] (shapeCast _ p shapeCasts_S8x16x128_S4x2x16x128) slices_S4x2x16x128_S4x1x16x128_0_0_0_0) shapeCasts_S4x1x16x128_S4x16x128) (constant S_ .f32 0x00000000#32) reducesTo_S4x16x128_S16x128_d0 h_S_)
      (mulf (Host.divf (broadcastInDim S16x128 ![] bcast_S_S16x128 (constant S_ .f32 0x3F800000#32)) (addf (broadcastInDim S16x128 ![] bcast_S_S16x128 (constant S_ .f32 0x3F800000#32)) (Host.exp (Host.negf x)))) (addf (broadcastInDim S16x128 ![] bcast_S_S16x128 (constant S_ .f32 0x3F800000#32)) (mulf x (subf (broadcastInDim S16x128 ![] bcast_S_S16x128 (constant S_ .f32 0x3F800000#32)) (Host.divf (broadcastInDim S16x128 ![] bcast_S_S16x128 (constant S_ .f32 0x3F800000#32)) (addf (broadcastInDim S16x128 ![] bcast_S_S16x128 (constant S_ .f32 0x3F800000#32)) (Host.exp (Host.negf x))))))))
      = grad p x := by
  funext k
  have hk : k = ix2 (k 0) (k 1) := by
    funext a
    fin_cases a <;> rfl
  rw [hk]
  exact congrArg₂ (FloatOps.mulf (F := Ideal) (φ := .f32)) (host_parts p _ _) (host_slope x _ _)
end

theorem frame_kernel : Cert.quiescent_CctxGrad := fun m g _ => Cert.CctxGrad.Gen.frame (F := Bits) m g

theorem frame_ideal : Cert.quiescent_CctxGradIdeal := fun m g _ => Cert.CctxGradIdeal.Gen.frame (F := Ideal) m g

theorem frame_ref_ideal : Cert.quiescent_CctxGradRefIdeal := fun m g _ =>
  (θ_run Cert.CctxGradRefIdeal.defs _ _).mono (fun r h => ⟨fun c => (h c).2, sem_eq_zero_of_no_sems rfl r.2⟩)
    (Cert.CctxGradRefIdeal.Value.run (F := Ideal) m g)

theorem values_ideal : Cert.algebraic_CctxGradIdeal_CctxGradRefIdeal := fun m g m' g' _ hm =>
  ⟨fun c => grad (m ((c.tc : Thread Cert.CctxGradIdeal.nD Cert.CctxGradIdeal.τ).loc Cert.CctxGradIdeal.main_arg0))
      (m ((c.tc : Thread Cert.CctxGradIdeal.nD Cert.CctxGradIdeal.τ).loc Cert.CctxGradIdeal.main_arg1)),
    (θ_run Cert.CctxGradIdeal.defs _ _).mono (fun _ h c => ⟨(h c).1.trans (kernel_grad _ _), (h c).2⟩)
      (Cert.CctxGradIdeal.Value.run (F := Ideal) m g),
    (θ_run Cert.CctxGradRefIdeal.defs _ _).mono
      (fun _ h c => ⟨(h c).1.trans (by rw [(hm c).1, (hm c).2]; exact host_grad _ _), (h c).2⟩)
      (Cert.CctxGradRefIdeal.Value.run (F := Ideal) m' g')⟩

end Cert.CctxGradClaims

end
-- ==== Proof.FinalLossClaims.lean ====
/- The last normalisation with the loss: both its forward and its backward pass. -/
module

public import proofs.«01_k».proof.Proof.NormBwdClaims
public import proofs.«01_k».proof.Proof.Gen.FinalLoss.Frame
public import proofs.«01_k».proof.Proof.Gen.FinalLossIdeal.Frame
public import proofs.«01_k».proof.Proof.Gen.FinalLossRefIdeal.Run

@[expose] public section

noncomputable section

open Idealize.ShloMosaic Idealize.ShloMosaic.TcCoe
open Idealize.SL Idealize.SL.Sem
open Cert.Exchange
open Cert.NormBwdClaims (scaleOf row upto upto_zero upto_tile upto_all hz pair)

namespace Cert.FinalLossClaims

/-! ## The formula, row by row -/

/-- How far a normed row, times the gain, is from the target. -/
def missBy (x t g : Fin 2048 → EReal) (e : Fin 2048) : EReal := x e * scaleOf x * g e - t e

/-- The row's cotangent, which is the distance over the row's length. -/
def pull (x t g : Fin 2048 → EReal) (e : Fin 2048) : EReal := missBy x t g e * Ideal.ofBits .f32 0x3A000000#32

/-- The gradient of a row. -/
def lossGrad (x t g : Fin 2048 → EReal) (e : Fin 2048) : EReal :=
  scaleOf x * (pull x t g e * g e - x e * scaleOf x * Ideal.div (∑ q, pull x t g q * g q * (x q * scaleOf x)) (Ideal.ofBits .f32 0x45000000#32))

/-! ## The results as functions of the arguments -/

section
variable (x t : (⟨2, ![8192, 2048]⟩ : Shape).Idx → EReal) (g : (⟨2, ![1, 2048]⟩ : Shape).Idx → EReal)
  (o : (⟨2, ![8192, 2048]⟩ : Shape).Idx → EReal) (p : (⟨2, ![1, 2048]⟩ : Shape).Idx → EReal)

def dx (k : (⟨2, ![8192, 2048]⟩ : Shape).Idx) : EReal := lossGrad (row x (k 0)) (row t (k 0)) (row g 0) (k 1)
def dout (k : (⟨2, ![8192, 2048]⟩ : Shape).Idx) : EReal := row p 0 (k 1) * dx x t g k

def lossRow (e : Fin 2048) (i : Fin 8192) : EReal := missBy (row x i) (row t i) (row g 0) e * missBy (row x i) (row t i) (row g 0) e
def gainRow (e : Fin 2048) (i : Fin 8192) : EReal := pull (row x i) (row t i) (row g 0) e * (row x i e * scaleOf (row x i))
def gateRow (e : Fin 2048) (i : Fin 8192) : EReal := lossGrad (row x i) (row t i) (row g 0) e * row o i e

/-- The sum over every row, and over the first `n` rows. -/
def total (f : Fin 2048 → Fin 8192 → EReal) (k : (⟨2, ![1, 2048]⟩ : Shape).Idx) : EReal := ∑ i, f (k 1) i
def partly (f : Fin 2048 → Fin 8192 → EReal) (n : ℕ) (k : (⟨2, ![1, 2048]⟩ : Shape).Idx) : EReal := 0 + upto (f (k 1)) n

theorem partly_none (f : Fin 2048 → Fin 8192 → EReal) : (fun _ => 0) = partly f (256 * 0) := by
  unfold partly
  funext k
  exact ((congrArg (0 + ·) (upto_zero _)).trans (add_zero 0)).symm

theorem partly_all (f : Fin 2048 → Fin 8192 → EReal) : partly f 8192 = total f :=
  funext fun k => by
    unfold partly total
    rw [upto_all]
    exact zero_add (M := EReal) _
end

/-! What one tile of rows gives: the rows' gradients, and what it adds to a sum. -/

section
variable (x t : (⟨2, ![256, 2048]⟩ : Shape).Idx → EReal) (g : (⟨2, ![1, 2048]⟩ : Shape).Idx → EReal)
  (o : (⟨2, ![256, 2048]⟩ : Shape).Idx → EReal) (p z : (⟨2, ![1, 2048]⟩ : Shape).Idx → EReal)

def tileDx (k : (⟨2, ![256, 2048]⟩ : Shape).Idx) : EReal := lossGrad (row x (k 0)) (row t (k 0)) (row g 0) (k 1)
def tileDo (k : (⟨2, ![256, 2048]⟩ : Shape).Idx) : EReal := row p 0 (k 1) * tileDx x t g k
def tileLoss (k : (⟨2, ![1, 2048]⟩ : Shape).Idx) : EReal :=
  z k + ∑ i, missBy (row x i) (row t i) (row g 0) (k 1) * missBy (row x i) (row t i) (row g 0) (k 1)
def tileGain (k : (⟨2, ![1, 2048]⟩ : Shape).Idx) : EReal := z k + ∑ i, pull (row x i) (row t i) (row g 0) (k 1) * (row x i (k 1) * scaleOf (row x i))
def tileGate (k : (⟨2, ![1, 2048]⟩ : Shape).Idx) : EReal := z k + ∑ i, lossGrad (row x i) (row t i) (row g 0) (k 1) * row o i (k 1)
end

section
open Cert.FinalLossIdeal Cert.FinalLossIdeal.Gen

/-! ## What the body leaves -/

section
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S1x2048 .f32) (h3 : a3.IsWhole)
  (a4 : Memref sig .tc .vmem S256x2048 .f32) (h4 : a4.IsWhole) (a5 : Memref sig .tc .vmem S1x2048 .f32) (h5 : a5.IsWhole)
  (a6 : Memref sig .tc .vmem S256x2048 .f32) (h6 : a6.IsWhole) (a7 : Memref sig .tc .vmem S256x2048 .bf16) (h7 : a7.IsWhole)
  (a8 : Memref sig .tc .vmem S1x2048 .f32) (h8 : a8.IsWhole) (a9 : Memref sig .tc .vmem S1x2048 .f32) (h9 : a9.IsWhole)
  (a10 : Memref sig .tc .vmem S1x2048 .f32) (h10 : a10.IsWhole)
  (x0 x1 : FVec Ideal S256x2048 .f32) (x2 : FVec Ideal S1x2048 .f32) (x3 : FVec Ideal S256x2048 .f32) (x4 : FVec Ideal S1x2048 .f32)
  (xo7 xo8 xo9 : FVec Ideal S1x2048 .f32)

set_option maxHeartbeats 4000000 in
/-- After the first point: each output from the blocks alone. -/
theorem first (hc : cond0_0 i) :
    (out0_A_5 (F := Ideal) c i a1 h1 a2 h2 a3 h3 a4 h4 a5 h5 a6 h6 a7 h7 a8 h8 a9 h9 a10 h10 hc x0 x1 x2 x3 x4
      = tileDx x0 x1 x2)
    ∧ (out0_A_6 (F := Ideal) c i a1 h1 a2 h2 a3 h3 a4 h4 a5 h5 a6 h6 a7 h7 a8 h8 a9 h9 a10 h10 hc x0 x1 x2 x3 x4
      = tileDo x0 x1 x2 x4)
    ∧ (out0_A_7 (F := Ideal) c i a1 h1 a2 h2 a3 h3 a4 h4 a5 h5 a6 h6 a7 h7 a8 h8 a9 h9 a10 h10 hc x0 x1 x2 x3 x4
      = tileLoss x0 x1 x2 (fun _ => 0))
    ∧ (out0_A_8 (F := Ideal) c i a1 h1 a2 h2 a3 h3 a4 h4 a5 h5 a6 h6 a7 h7 a8 h8 a9 h9 a10 h10 hc x0 x1 x2 x3 x4
      = tileGain x0 x1 x2 (fun _ => 0))
    ∧ (out0_A_9 (F := Ideal) c i a1 h1 a2 h2 a3 h3 a4 h4 a5 h5 a6 h6 a7 h7 a8 h8 a9 h9 a10 h10 hc x0 x1 x2 x3 x4
      = tileGate x0 x1 x2 x3 (fun _ => 0)) := by
  unfold out0_A_5 out0_A_6 out0_A_7 out0_A_8 out0_A_9
  rw [View.read_writes_eq_canon _ _ _ (cover0_A_5 (F := Ideal) c i a1 h1 a2 h2 a3 h3 a4 h4 a5 h5 a6 h6 a7 h7 a8 h8 a9 h9 a10 h10 hc x0 x1 x2 x3 x4),
    View.read_writes_eq_canon _ _ _ (cover0_A_6 (F := Ideal) c i a1 h1 a2 h2 a3 h3 a4 h4 a5 h5 a6 h6 a7 h7 a8 h8 a9 h9 a10 h10 hc x0 x1 x2 x3 x4),
    View.read_writes_eq_canon _ _ _ (cover0_A_7 (F := Ideal) c i a1 h1 a2 h2 a3 h3 a4 h4 a5 h5 a6 h6 a7 h7 a8 h8 a9 h9 a10 h10 hc x0 x1 x2 x3 x4),
    View.read_writes_eq_canon _ _ _ (cover0_A_8 (F := Ideal) c i a1 h1 a2 h2 a3 h3 a4 h4 a5 h5 a6 h6 a7 h7 a8 h8 a9 h9 a10 h10 hc x0 x1 x2 x3 x4),
    View.read_writes_eq_canon _ _ _ (cover0_A_9 (F := Ideal) c i a1 h1 a2 h2 a3 h3 a4 h4 a5 h5 a6 h6 a7 h7 a8 h8 a9 h9 a10 h10 hc x0 x1 x2 x3 x4)]
  unfold kernelRun0_A
  dsimp only
  sl_unfold_words
  simp only [View.canon_unit_zero (S := S256x2048) hz, View.canon_cons_unit_zero (S := S1x2048) hz, View.readCov_unit_zero (S := S1x2048) _ hz,
    View.readAt_eq_ld, h1.read_unread, h2.read_unread, h3.read_unread, h4.read_unread, h5.read_unread,
    View.ld_unit_zero (S := S256x2048) hz, View.ld_unit_zero (S := S1x2048) hz]
  unfold tileDo tileDx tileLoss tileGain tileGate lossGrad pull missBy scaleOf row
  refine ⟨funext fun k => ?_, funext fun k => ?_, funext fun k => ?_, funext fun k => ?_, funext fun k => ?_⟩
  all_goals
    rw [pair k]
    generalize k 0 = a
    generalize k 1 = e
    unfold_payloads
    pointwise

set_option maxHeartbeats 4000000 in
/-- After a later point: the rows' gradients from the blocks, the three sums from what the point before left. -/
theorem later (hc : ¬cond0_0 i) :
    (out0_B_5 (F := Ideal) c i a1 h1 a2 h2 a3 h3 a4 h4 a5 h5 a6 h6 a7 h7 a8 h8 a9 h9 a10 h10 hc x0 x1 x2 x3 x4 xo7 xo8 xo9
      = tileDx x0 x1 x2)
    ∧ (out0_B_6 (F := Ideal) c i a1 h1 a2 h2 a3 h3 a4 h4 a5 h5 a6 h6 a7 h7 a8 h8 a9 h9 a10 h10 hc x0 x1 x2 x3 x4 xo7 xo8 xo9
      = tileDo x0 x1 x2 x4)
    ∧ (out0_B_7 (F := Ideal) c i a1 h1 a2 h2 a3 h3 a4 h4 a5 h5 a6 h6 a7 h7 a8 h8 a9 h9 a10 h10 hc x0 x1 x2 x3 x4 xo7 xo8 xo9
      = tileLoss x0 x1 x2 xo7)
    ∧ (out0_B_8 (F := Ideal) c i a1 h1 a2 h2 a3 h3 a4 h4 a5 h5 a6 h6 a7 h7 a8 h8 a9 h9 a10 h10 hc x0 x1 x2 x3 x4 xo7 xo8 xo9
      = tileGain x0 x1 x2 xo8)
    ∧ (out0_B_9 (F := Ideal) c i a1 h1 a2 h2 a3 h3 a4 h4 a5 h5 a6 h6 a7 h7 a8 h8 a9 h9 a10 h10 hc x0 x1 x2 x3 x4 xo7 xo8 xo9
      = tileGate x0 x1 x2 x3 xo9) := by
  unfold out0_B_5 out0_B_6 out0_B_7 out0_B_8 out0_B_9
  rw [View.read_writes_eq_canon _ _ _ (cover0_B_5 (F := Ideal) c i a1 h1 a2 h2 a3 h3 a4 h4 a5 h5 a6 h6 a7 h7 a8 h8 a9 h9 a10 h10 hc x0 x1 x2 x3 x4 xo7 xo8 xo9),
    View.read_writes_eq_canon _ _ _ (cover0_B_6 (F := Ideal) c i a1 h1 a2 h2 a3 h3 a4 h4 a5 h5 a6 h6 a7 h7 a8 h8 a9 h9 a10 h10 hc x0 x1 x2 x3 x4 xo7 xo8 xo9),
    View.read_writes_eq_canon _ _ _ (cover0_B_7 (F := Ideal) c i a1 h1 a2 h2 a3 h3 a4 h4 a5 h5 a6 h6 a7 h7 a8 h8 a9 h9 a10 h10 hc x0 x1 x2 x3 x4 xo7 xo8 xo9),
    View.read_writes_eq_canon _ _ _ (cover0_B_8 (F := Ideal) c i a1 h1 a2 h2 a3 h3 a4 h4 a5 h5 a6 h6 a7 h7 a8 h8 a9 h9 a10 h10 hc x0 x1 x2 x3 x4 xo7 xo8 xo9),
    View.read_writes_eq_canon _ _ _ (cover0_B_9 (F := Ideal) c i a1 h1 a2 h2 a3 h3 a4 h4 a5 h5 a6 h6 a7 h7 a8 h8 a9 h9 a10 h10 hc x0 x1 x2 x3 x4 xo7 xo8 xo9)]
  unfold kernelRun0_B
  dsimp only
  sl_unfold_words
  simp only [View.canon_unit_zero (S := S256x2048) hz, View.canon_unit_zero (S := S1x2048) hz, View.readAt_eq_ld, h1.read_unread, h2.read_unread,
    h3.read_unread, h4.read_unread, h5.read_unread, h8.read_unread, h9.read_unread, h10.read_unread,
    View.ld_unit_zero (S := S256x2048) hz, View.ld_unit_zero (S := S1x2048) hz]
  unfold tileDo tileDx tileLoss tileGain tileGate lossGrad pull missBy scaleOf row
  refine ⟨funext fun k => ?_, funext fun k => ?_, funext fun k => ?_, funext fun k => ?_, funext fun k => ?_⟩
  all_goals
    rw [pair k]
    generalize k 0 = a
    generalize k 1 = e
    unfold_payloads
    pointwise
end

/-- What the lines after the region make of the loss's columns. -/
def lossOf (v : FVec Ideal S1x2048 .f32) : FVec Ideal S_ .f32 :=
  mulf (constant S_ .f32 0x39800000#32) (Host.reduceAdd v (constant S_ .f32 0x00000000#32) reducesTo_S1x2048_S_d0_1 h_S_)

/-! ## The tiles -/

/-- Rows of a tile whose places are known. -/
theorem rows_of (v : S8192x2048.Idx → EReal) (f : S256x2048.Idx → S8192x2048.Idx) (n : ℕ) (hn : n < 32)
    (hf : ∀ k, (f k 0).val = 256 * n + (k 0).val ∧ (f k 1).val = (k 1).val) (r : Fin 256) :
    row (fun k => v (f k)) r = row v (⟨256 * n + r.val, by omega⟩ : Fin 8192) :=
  funext fun q => congrArg v (funext fun a => Fin.ext (by
    fin_cases a
    · exact (hf (ix2 r q)).1
    · exact (hf (ix2 r q)).2))

section
variable (m : (ℓ : Loc nD τ sig) → Buf (Elt Ideal) ℓ) (c : Dev nD)

/-- Which block of rows a window names at a point. -/
theorem blocks (t : Fin cfg0.N) : (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_2.index t (0 : Fin 2) = 0 ∧ win0_2.index t (1 : Fin 2) = 0)
    ∧ (win0_3.index t (0 : Fin 2) = t.val ∧ win0_3.index t (1 : Fin 2) = 0)
    ∧ (win0_4.index t (0 : Fin 2) = 0 ∧ win0_4.index t (1 : Fin 2) = 0)
    ∧ (win0_5.index t (0 : Fin 2) = t.val ∧ win0_5.index t (1 : Fin 2) = 0)
    ∧ (win0_6.index t (0 : Fin 2) = t.val ∧ win0_6.index t (1 : Fin 2) = 0)) t

theorem below (t : Fin cfg0.N) : t.val < 32 := Nat.lt_of_lt_of_eq t.isLt N_0

/-- A tile's rows, of the input, of the target and of the layer's output. -/
theorem in_row (t : Fin cfg0.N) (r : Fin 256) :
    row (iblk m c 0 t) r = row (V m c main_arg0) (⟨256 * t.val + r.val, by have := below t; omega⟩ : Fin 8192) := by
  obtain ⟨⟨e0, e1⟩, -⟩ := blocks t
  refine rows_of (V m c main_arg0) ((cfg0.win 0).blk t).view.emb t.val (below t) (fun k => ⟨?_, ?_⟩) r
  · show win0_0.index t (0 : Fin 2) * 256 + 1 * (k 0).val = _
    omega
  · show win0_0.index t (1 : Fin 2) * 2048 + 1 * (k 1).val = _
    omega

theorem goal_row (t : Fin cfg0.N) (r : Fin 256) :
    row (iblk m c 1 t) r = row (V m c main_arg1) (⟨256 * t.val + r.val, by have := below t; omega⟩ : Fin 8192) := by
  obtain ⟨-, ⟨e0, e1⟩, -⟩ := blocks t
  refine rows_of (V m c main_arg1) ((cfg0.win 1).blk t).view.emb t.val (below t) (fun k => ⟨?_, ?_⟩) r
  · show win0_1.index t (0 : Fin 2) * 256 + 1 * (k 0).val = _
    omega
  · show win0_1.index t (1 : Fin 2) * 2048 + 1 * (k 1).val = _
    omega

theorem out_row (t : Fin cfg0.N) (r : Fin 256) :
    row (iblk m c 3 t) r = row (V m c main_arg3) (⟨256 * t.val + r.val, by have := below t; omega⟩ : Fin 8192) := by
  obtain ⟨-, -, -, ⟨e0, e1⟩, -⟩ := blocks t
  refine rows_of (V m c main_arg3) ((cfg0.win 3).blk t).view.emb t.val (below t) (fun k => ⟨?_, ?_⟩) r
  · show win0_3.index t (0 : Fin 2) * 256 + 1 * (k 0).val = _
    omega
  · show win0_3.index t (1 : Fin 2) * 2048 + 1 * (k 1).val = _
    omega

/-- The vectors are staged whole. -/
theorem gain_row (t : Fin cfg0.N) : row (iblk m c 2 t) 0 = row (V m c main_arg2) 0 := by
  obtain ⟨-, -, ⟨e0, e1⟩, -⟩ := blocks t
  funext q
  refine at_congr (V m c main_arg2) fun a => ?_
  fin_cases a
  · show win0_2.index t (0 : Fin 2) * 1 + 1 * 0 = 0
    omega
  · show win0_2.index t (1 : Fin 2) * 2048 + 1 * q.val = q.val
    omega

theorem gate_row (t : Fin cfg0.N) : row (iblk m c 4 t) 0 = row (V m c main_arg4) 0 := by
  obtain ⟨-, -, -, -, ⟨e0, e1⟩, -⟩ := blocks t
  funext q
  refine at_congr (V m c main_arg4) fun a => ?_
  fin_cases a
  · show win0_4.index t (0 : Fin 2) * 1 + 1 * 0 = 0
    omega
  · show win0_4.index t (1 : Fin 2) * 2048 + 1 * q.val = q.val
    omega

theorem to_rows_5 (t : Fin cfg0.N) (k : S256x2048.Idx) :
    ((((cfg0.win 5).blk t).view.emb k) 0).val = 256 * t.val + (k 0).val ∧ ((((cfg0.win 5).blk t).view.emb k) 1).val = (k 1).val := by
  obtain ⟨-, -, -, -, -, ⟨e0, e1⟩, -⟩ := blocks t
  refine ⟨?_, ?_⟩
  · show win0_5.index t (0 : Fin 2) * 256 + 1 * (k 0).val = _
    omega
  · show win0_5.index t (1 : Fin 2) * 2048 + 1 * (k 1).val = _
    omega

theorem to_rows_6 (t : Fin cfg0.N) (k : S256x2048.Idx) :
    ((((cfg0.win 6).blk t).view.emb k) 0).val = 256 * t.val + (k 0).val ∧ ((((cfg0.win 6).blk t).view.emb k) 1).val = (k 1).val := by
  obtain ⟨-, -, -, -, -, -, e0, e1⟩ := blocks t
  refine ⟨?_, ?_⟩
  · show win0_6.index t (0 : Fin 2) * 256 + 1 * (k 0).val = _
    omega
  · show win0_6.index t (1 : Fin 2) * 2048 + 1 * (k 1).val = _
    omega

/-! ## The sums so far -/

/-- A tile's rows, added to the sums over the rows before. -/
theorem loss_step (t : Fin cfg0.N) : tileLoss (iblk m c 0 t) (iblk m c 1 t) (iblk m c 2 t) (partly (lossRow (V m c main_arg0) (V m c main_arg1) (V m c main_arg2)) (256 * t.val))
    = partly (lossRow (V m c main_arg0) (V m c main_arg1) (V m c main_arg2)) (256 * (t.val + 1)) := by
  unfold tileLoss partly
  funext k
  rw [upto_tile _ _ (below t), ← add_assoc]
  refine congrArg (HAdd.hAdd _) (Finset.sum_congr rfl fun r _ => ?_)
  rw [in_row, goal_row, gain_row]
  rfl

theorem gain_step (t : Fin cfg0.N) : tileGain (iblk m c 0 t) (iblk m c 1 t) (iblk m c 2 t) (partly (gainRow (V m c main_arg0) (V m c main_arg1) (V m c main_arg2)) (256 * t.val))
    = partly (gainRow (V m c main_arg0) (V m c main_arg1) (V m c main_arg2)) (256 * (t.val + 1)) := by
  unfold tileGain partly
  funext k
  rw [upto_tile _ _ (below t), ← add_assoc]
  refine congrArg (HAdd.hAdd _) (Finset.sum_congr rfl fun r _ => ?_)
  rw [in_row, goal_row, gain_row]
  rfl

theorem gate_step (t : Fin cfg0.N) : tileGate (iblk m c 0 t) (iblk m c 1 t) (iblk m c 2 t) (iblk m c 3 t) (partly (gateRow (V m c main_arg0) (V m c main_arg1) (V m c main_arg2) (V m c main_arg3)) (256 * t.val))
    = partly (gateRow (V m c main_arg0) (V m c main_arg1) (V m c main_arg2) (V m c main_arg3)) (256 * (t.val + 1)) := by
  unfold tileGate partly
  funext k
  rw [upto_tile _ _ (below t), ← add_assoc]
  refine congrArg (HAdd.hAdd _) (Finset.sum_congr rfl fun r _ => ?_)
  rw [in_row, goal_row, gain_row, out_row]
  rfl

/-- The first point, and a later one over what the point before left. -/
theorem at_first (t : Fin cfg0.N) (h0 : t.val % 32 = 0) :
    outsAt0 m c t.val t.isLt = (tileDx (iblk m c 0 t) (iblk m c 1 t) (iblk m c 2 t), tileDo (iblk m c 0 t) (iblk m c 1 t) (iblk m c 2 t) (iblk m c 4 t), tileLoss (iblk m c 0 t) (iblk m c 1 t) (iblk m c 2 t) (fun _ => 0),
      tileGain (iblk m c 0 t) (iblk m c 1 t) (iblk m c 2 t) (fun _ => 0), tileGate (iblk m c 0 t) (iblk m c 1 t) (iblk m c 2 t) (iblk m c 3 t) (fun _ => 0)) := by
  rw [outsAt0_A m c t h0]
  obtain ⟨s5, s6, s7, s8, s9⟩ := first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) ((hcond0_0 t).mpr h0)
  rw [s5, s6, s7, s8, s9]

theorem at_later (t : Fin cfg0.N) (h0 : ¬t.val % 32 = 0) (o : FVec Ideal S256x2048 .f32 × FVec Ideal S256x2048 .bf16 × FVec Ideal S1x2048 .f32 × FVec Ideal S1x2048 .f32 × FVec Ideal S1x2048 .f32)
    (ho : outsAt0 m c (t.val - 1) (Nat.lt_of_le_of_lt (Nat.sub_le _ _) t.isLt) = o) :
    outsAt0 m c t.val t.isLt = (tileDx (iblk m c 0 t) (iblk m c 1 t) (iblk m c 2 t), tileDo (iblk m c 0 t) (iblk m c 1 t) (iblk m c 2 t) (iblk m c 4 t), tileLoss (iblk m c 0 t) (iblk m c 1 t) (iblk m c 2 t) o.2.2.1,
      tileGain (iblk m c 0 t) (iblk m c 1 t) (iblk m c 2 t) o.2.2.2.1, tileGate (iblk m c 0 t) (iblk m c 1 t) (iblk m c 2 t) (iblk m c 3 t) o.2.2.2.2) := by
  rw [outsAt0_B m c t h0, ho]
  obtain ⟨s5, s6, s7, s8, s9⟩ := later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t)
    (iblk m c 0 t) (iblk m c 1 t) (iblk m c 2 t) (iblk m c 3 t) (iblk m c 4 t) o.2.2.1 o.2.2.2.1 o.2.2.2.2 (fun h => h0 ((hcond0_0 t).mp h))
  rw [s5, s6, s7, s8, s9]

/-- What the outputs hold after a point. -/
def held (t : Fin cfg0.N) : FVec Ideal S256x2048 .f32 × FVec Ideal S256x2048 .bf16 × FVec Ideal S1x2048 .f32 × FVec Ideal S1x2048 .f32 × FVec Ideal S1x2048 .f32 :=
  (tileDx (iblk m c 0 t) (iblk m c 1 t) (iblk m c 2 t), tileDo (iblk m c 0 t) (iblk m c 1 t) (iblk m c 2 t) (iblk m c 4 t), partly (lossRow (V m c main_arg0) (V m c main_arg1) (V m c main_arg2)) (256 * (t.val + 1)),
    partly (gainRow (V m c main_arg0) (V m c main_arg1) (V m c main_arg2)) (256 * (t.val + 1)), partly (gateRow (V m c main_arg0) (V m c main_arg1) (V m c main_arg2) (V m c main_arg3)) (256 * (t.val + 1)))

theorem after_point (n : ℕ) : ∀ h : n < cfg0.N, outsAt0 m c n h = held m c ⟨n, h⟩ := by
  induction n with
  | zero =>
    intro h
    refine (at_first m c ⟨0, h⟩ rfl).trans ?_
    exact congrArg (Prod.mk _) (congrArg (Prod.mk _) (congrArg₂ Prod.mk ((congrArg (tileLoss _ _ _) (partly_none _)).trans (loss_step m c ⟨0, h⟩))
      (congrArg₂ Prod.mk ((congrArg (tileGain _ _ _) (partly_none _)).trans (gain_step m c ⟨0, h⟩))
        ((congrArg (tileGate _ _ _ _) (partly_none _)).trans (gate_step m c ⟨0, h⟩)))))
  | succ n ih =>
    intro h
    have hn : ¬(⟨n + 1, h⟩ : Fin cfg0.N).val % 32 = 0 := by
      have := below ⟨n + 1, h⟩
      dsimp only at this ⊢
      omega
    refine (at_later m c ⟨n + 1, h⟩ hn (held m c ⟨n, Nat.lt_of_succ_lt h⟩) (ih _)).trans ?_
    exact congrArg (Prod.mk _) (congrArg (Prod.mk _) (congrArg₂ Prod.mk (loss_step m c ⟨n + 1, h⟩)
      (congrArg₂ Prod.mk (gain_step m c ⟨n + 1, h⟩) (gate_step m c ⟨n + 1, h⟩))))

/-! ## The arrays at the end -/

/-- A tile's gradients are the arrays' at its rows. -/
theorem dx_at (t : Fin cfg0.N) (r : Fin 256) (e : Fin 2048) : tileDx (iblk m c 0 t) (iblk m c 1 t) (iblk m c 2 t) (ix2 r e)
    = dx (V m c main_arg0) (V m c main_arg1) (V m c main_arg2) (ix2 (⟨256 * t.val + r.val, by have := below t; omega⟩ : Fin 8192) e) := by
  show lossGrad (row (iblk m c 0 t) r) (row (iblk m c 1 t) r) (row (iblk m c 2 t) 0) e
    = lossGrad (row (V m c main_arg0) ⟨256 * t.val + r.val, _⟩) (row (V m c main_arg1) ⟨256 * t.val + r.val, _⟩) (row (V m c main_arg2) 0) e
  rw [in_row, goal_row, gain_row]

theorem do_at (t : Fin cfg0.N) (r : Fin 256) (e : Fin 2048) : tileDo (iblk m c 0 t) (iblk m c 1 t) (iblk m c 2 t) (iblk m c 4 t) (ix2 r e)
    = dout (V m c main_arg0) (V m c main_arg1) (V m c main_arg2) (V m c main_arg4) (ix2 (⟨256 * t.val + r.val, by have := below t; omega⟩ : Fin 8192) e) :=
  congrArg₂ (HMul.hMul (α := EReal) (β := EReal)) (congrFun (gate_row m c t) e) (dx_at m c t r e)

/-- A point writes back its tile of rows. -/
theorem tile_dx (t : Fin cfg0.N) : (dats m 0 c).flushed 5 t = ((cfg0.win 5).blk t).view.read (Elt Ideal) (dx (V m c main_arg0) (V m c main_arg1) (V m c main_arg2)) := by
  show (cfg0.win 5).cut (grid0.coords t) ((dats m 0 c).after 5 t) = _
  rw [after0_5, after_point m c t.val t.isLt]
  funext j
  show tileDx (iblk m c 0 t) (iblk m c 1 t) (iblk m c 2 t) j = dx (V m c main_arg0) (V m c main_arg1) (V m c main_arg2) (((cfg0.win 5).blk t).view.emb j)
  obtain ⟨k0, k1⟩ := to_rows_5 t j
  refine (congrArg (tileDx _ _ _) (pair j)).trans ((dx_at m c t (j 0) (j 1)).trans ?_)
  refine congrArg (dx _ _ _) (funext fun a => Fin.ext ?_)
  fin_cases a
  · exact k0.symm
  · exact k1.symm

theorem tiled_dx (i : S8192x2048.Idx) : ∃ t : Fin cfg0.N, (cfg0.win 5).flush t = true ∧ i ∈ ((cfg0.win 5).blk t).view.set := by
  have h0 : (i 0).val < 8192 := (i 0).isLt
  have ht : (i 0).val / 256 < cfg0.N := show (i 0).val / 256 < 32 by omega
  have hj := ((cfg0.win 5).blk ⟨_, ht⟩).view.emb_mem_set (ix2 ⟨(i 0).val % 256, Nat.mod_lt _ (by decide)⟩ (i 1) : S256x2048.Idx)
  obtain ⟨e0, e1⟩ := to_rows_5 ⟨_, ht⟩ (ix2 ⟨(i 0).val % 256, Nat.mod_lt _ (by decide)⟩ (i 1))
  refine ⟨⟨_, ht⟩, flush0_5 _, (congrArg (· ∈ ((cfg0.win 5).blk ⟨_, ht⟩).view.set) (funext fun a => Fin.ext ?_)).mp hj⟩
  fin_cases a
  · refine e0.trans ?_
    show 256 * ((i 0).val / 256) + (i 0).val % 256 = (i 0).val
    omega
  · exact e1

theorem tile_do (t : Fin cfg0.N) : (dats m 0 c).flushed 6 t = ((cfg0.win 6).blk t).view.read (Elt Ideal) (dout (V m c main_arg0) (V m c main_arg1) (V m c main_arg2) (V m c main_arg4)) := by
  show (cfg0.win 6).cut (grid0.coords t) ((dats m 0 c).after 6 t) = _
  rw [after0_6, after_point m c t.val t.isLt]
  funext j
  show tileDo (iblk m c 0 t) (iblk m c 1 t) (iblk m c 2 t) (iblk m c 4 t) j = dout (V m c main_arg0) (V m c main_arg1) (V m c main_arg2) (V m c main_arg4) (((cfg0.win 6).blk t).view.emb j)
  obtain ⟨k0, k1⟩ := to_rows_6 t j
  refine (congrArg (tileDo _ _ _ _) (pair j)).trans ((do_at m c t (j 0) (j 1)).trans ?_)
  refine congrArg (dout _ _ _ _) (funext fun a => Fin.ext ?_)
  fin_cases a
  · exact k0.symm
  · exact k1.symm

theorem tiled_do (i : S8192x2048.Idx) : ∃ t : Fin cfg0.N, (cfg0.win 6).flush t = true ∧ i ∈ ((cfg0.win 6).blk t).view.set := by
  have h0 : (i 0).val < 8192 := (i 0).isLt
  have ht : (i 0).val / 256 < cfg0.N := show (i 0).val / 256 < 32 by omega
  have hj := ((cfg0.win 6).blk ⟨_, ht⟩).view.emb_mem_set (ix2 ⟨(i 0).val % 256, Nat.mod_lt _ (by decide)⟩ (i 1) : S256x2048.Idx)
  obtain ⟨e0, e1⟩ := to_rows_6 ⟨_, ht⟩ (ix2 ⟨(i 0).val % 256, Nat.mod_lt _ (by decide)⟩ (i 1))
  refine ⟨⟨_, ht⟩, flush0_6 _, (congrArg (· ∈ ((cfg0.win 6).blk ⟨_, ht⟩).view.set) (funext fun a => Fin.ext ?_)).mp hj⟩
  fin_cases a
  · refine e0.trans ?_
    show 256 * ((i 0).val / 256) + (i 0).val % 256 = (i 0).val
    omega
  · exact e1

/-- The last point writes the sums back, whole. -/
theorem last (t : Fin cfg0.N) (h : t.val % 32 = 31) : 256 * (t.val + 1) = 8192 := by
  have := below t
  omega

theorem whole_7 (t : Fin cfg0.N) (k : S1x2048.Idx) : ((cfg0.win 7).blk t).view.emb k = k := by
  funext a
  refine Fin.ext ?_
  fin_cases a
  · show 0 * 1 + 1 * (k 0).val = (k 0).val
    omega
  · show 0 * 2048 + 1 * (k 1).val = (k 1).val
    omega

theorem whole_8 (t : Fin cfg0.N) (k : S1x2048.Idx) : ((cfg0.win 8).blk t).view.emb k = k := whole_7 t k
theorem whole_9 (t : Fin cfg0.N) (k : S1x2048.Idx) : ((cfg0.win 9).blk t).view.emb k = k := whole_7 t k

theorem last_point : (31 : ℕ) < cfg0.N := show 31 < 32 by omega

theorem keeps_7 (t : Fin cfg0.N) (v : S1x2048.Idx → EReal) :
    (cfg0.win 7).cut (grid0.coords t) v = ((cfg0.win 7).blk t).view.read (Elt Ideal) v :=
  funext fun k => (congrArg v (whole_7 t k)).symm

theorem tile_loss (t : Fin cfg0.N) (hf : (cfg0.win 7).flush t = true) :
    (dats m 0 c).flushed 7 t = ((cfg0.win 7).blk t).view.read (Elt Ideal) (total (lossRow (V m c main_arg0) (V m c main_arg1) (V m c main_arg2))) := by
  have e : (dats m 0 c).after 7 t = partly (lossRow (V m c main_arg0) (V m c main_arg1) (V m c main_arg2)) (256 * (t.val + 1)) :=
    (after0_7 m c t).trans (congrArg (fun o => o.2.2.1) (after_point m c t.val t.isLt))
  rw [last t ((flush0_7 t).mp hf), partly_all] at e
  exact (congrArg ((cfg0.win 7).cut (grid0.coords t)) e).trans (keeps_7 t _)

theorem tiled_7 (i : S1x2048.Idx) : ∃ t : Fin cfg0.N, (cfg0.win 7).flush t = true ∧ i ∈ ((cfg0.win 7).blk t).view.set :=
  ⟨⟨31, last_point⟩, (flush0_7 _).mpr rfl,
    (congrArg (· ∈ ((cfg0.win 7).blk ⟨31, last_point⟩).view.set) (whole_7 _ i)).mp (((cfg0.win 7).blk ⟨31, last_point⟩).view.emb_mem_set i)⟩

theorem keeps_8 (t : Fin cfg0.N) (v : S1x2048.Idx → EReal) :
    (cfg0.win 8).cut (grid0.coords t) v = ((cfg0.win 8).blk t).view.read (Elt Ideal) v :=
  funext fun k => (congrArg v (whole_8 t k)).symm

theorem tile_gain (t : Fin cfg0.N) (hf : (cfg0.win 8).flush t = true) :
    (dats m 0 c).flushed 8 t = ((cfg0.win 8).blk t).view.read (Elt Ideal) (total (gainRow (V m c main_arg0) (V m c main_arg1) (V m c main_arg2))) := by
  have e : (dats m 0 c).after 8 t = partly (gainRow (V m c main_arg0) (V m c main_arg1) (V m c main_arg2)) (256 * (t.val + 1)) :=
    (after0_8 m c t).trans (congrArg (fun o => o.2.2.2.1) (after_point m c t.val t.isLt))
  rw [last t ((flush0_8 t).mp hf), partly_all] at e
  exact (congrArg ((cfg0.win 8).cut (grid0.coords t)) e).trans (keeps_8 t _)

theorem tiled_8 (i : S1x2048.Idx) : ∃ t : Fin cfg0.N, (cfg0.win 8).flush t = true ∧ i ∈ ((cfg0.win 8).blk t).view.set :=
  ⟨⟨31, last_point⟩, (flush0_8 _).mpr rfl,
    (congrArg (· ∈ ((cfg0.win 8).blk ⟨31, last_point⟩).view.set) (whole_8 _ i)).mp (((cfg0.win 8).blk ⟨31, last_point⟩).view.emb_mem_set i)⟩

theorem keeps_9 (t : Fin cfg0.N) (v : S1x2048.Idx → EReal) :
    (cfg0.win 9).cut (grid0.coords t) v = ((cfg0.win 9).blk t).view.read (Elt Ideal) v :=
  funext fun k => (congrArg v (whole_9 t k)).symm

theorem tile_gate (t : Fin cfg0.N) (hf : (cfg0.win 9).flush t = true) :
    (dats m 0 c).flushed 9 t = ((cfg0.win 9).blk t).view.read (Elt Ideal) (total (gateRow (V m c main_arg0) (V m c main_arg1) (V m c main_arg2) (V m c main_arg3))) := by
  have e : (dats m 0 c).after 9 t = partly (gateRow (V m c main_arg0) (V m c main_arg1) (V m c main_arg2) (V m c main_arg3)) (256 * (t.val + 1)) :=
    (after0_9 m c t).trans (congrArg (fun o => o.2.2.2.2) (after_point m c t.val t.isLt))
  rw [last t ((flush0_9 t).mp hf), partly_all] at e
  exact (congrArg ((cfg0.win 9).cut (grid0.coords t)) e).trans (keeps_9 t _)

theorem tiled_9 (i : S1x2048.Idx) : ∃ t : Fin cfg0.N, (cfg0.win 9).flush t = true ∧ i ∈ ((cfg0.win 9).blk t).view.set :=
  ⟨⟨31, last_point⟩, (flush0_9 _).mpr rfl,
    (congrArg (· ∈ ((cfg0.win 9).blk ⟨31, last_point⟩).view.set) (whole_9 _ i)).mp (((cfg0.win 9).blk ⟨31, last_point⟩).view.emb_mem_set i)⟩

/-- The loss's columns as the region leaves them. -/
theorem cols_end : (dats m 0 c).arrAt 7 cfg0.N = total (lossRow (V m c main_arg0) (V m c main_arg1) (V m c main_arg2)) :=
  (dats m 0 c).arrAt_eq_of_cover 7 _ (fun t hf => tile_loss m c t hf) tiled_7

/-- The lines after the region: the columns' sum, times a constant. -/
theorem after_region (W : Valuation τ sig (Elt Ideal)) : StableHlo.after hostOps1 W (Proc.devRef .tc main_v2) = lossOf (W (Proc.devRef .tc main_v0_2)) := by
  unfold lossOf hostOps1
  after_results

theorem loss_end : Pipeline.afterTail₀ cfgs (dats m) 0 (V0 m) [hostOps1] c main_v2
    = lossOf (total (lossRow (V m c main_arg0) (V m c main_arg1) (V m c main_arg2))) :=
  (after_region _).trans (congrArg lossOf
    ((Pipeline.withArrays_arr (cfgs 0).spec (by decide) c (V0 m c) (fun w => (dats m 0 c).arrAt w (cfgs 0).N) 7).trans (cols_end m c)))
end

section
variable (m : (ℓ : Loc nD τ sig) → Buf (Elt Ideal) ℓ) (ρ : Dev nD → PrngReg)

theorem kernel_run : θ_run defs (onTc (τ := τ) (main (F := Ideal))) ⟨m, fun _ => 0, ρ⟩ fun r => ∀ c : Dev nD,
      r.2.mem ((c.tc : Thread nD τ).loc main_v2) = lossOf (total (lossRow (m ((c.tc : Thread nD τ).loc main_arg0)) (m ((c.tc : Thread nD τ).loc main_arg1))
        (m ((c.tc : Thread nD τ).loc main_arg2))))
      ∧ r.2.mem ((c.tc : Thread nD τ).loc main_v0_0) = dx (m ((c.tc : Thread nD τ).loc main_arg0)) (m ((c.tc : Thread nD τ).loc main_arg1)) (m ((c.tc : Thread nD τ).loc main_arg2))
      ∧ r.2.mem ((c.tc : Thread nD τ).loc main_v0_1) = dout (m ((c.tc : Thread nD τ).loc main_arg0)) (m ((c.tc : Thread nD τ).loc main_arg1)) (m ((c.tc : Thread nD τ).loc main_arg2)) (m ((c.tc : Thread nD τ).loc main_arg4))
      ∧ r.2.mem ((c.tc : Thread nD τ).loc main_v0_3) = total (gainRow (m ((c.tc : Thread nD τ).loc main_arg0)) (m ((c.tc : Thread nD τ).loc main_arg1)) (m ((c.tc : Thread nD τ).loc main_arg2)))
      ∧ r.2.mem ((c.tc : Thread nD τ).loc main_v0_4) = total (gateRow (m ((c.tc : Thread nD τ).loc main_arg0)) (m ((c.tc : Thread nD τ).loc main_arg1)) (m ((c.tc : Thread nD τ).loc main_arg2)) (m ((c.tc : Thread nD τ).loc main_arg3)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).2 main_v2 (by decide)).trans (loss_end m c),
    ((h c).1 5).trans ((dats m 0 c).arrAt_eq_of_cover 5 _ (fun t _ => tile_dx m c t) tiled_dx),
    ((h c).1 6).trans ((dats m 0 c).arrAt_eq_of_cover 6 _ (fun t _ => tile_do m c t) tiled_do),
    ((h c).1 8).trans ((dats m 0 c).arrAt_eq_of_cover 8 _ (fun t hf => tile_gain m c t hf) tiled_8),
    ((h c).1 9).trans ((dats m 0 c).arrAt_eq_of_cover 9 _ (fun t hf => tile_gate m c t hf) tiled_9),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _),
    ((h c).1 4).trans ((dats m 0 c).arrAt_in 4 rfl _)⟩) (run_main m ρ)

end

end

/-! ## The reference -/

/-- The constants as real numbers. -/
theorem length_word : Ideal.ofBits .f32 0x45000000#32 = ((2048 : ℝ) : EReal) := by
  simp [Ideal.ofBits, Ideal.ieee, -EReal.coe_mul]; norm_num

theorem inverse_word : Ideal.ofBits .f32 0x3A000000#32 = ((1 / 2048 : ℝ) : EReal) := by
  simp [Ideal.ofBits, Ideal.ieee, -EReal.coe_mul]; norm_num

theorem half_word : Ideal.ofBits .f32 0x3F000000#32 = ((1 / 2 : ℝ) : EReal) := by
  simp [Ideal.ofBits, Ideal.ieee, -EReal.coe_mul]; norm_num

theorem half_inverse_word : Ideal.ofBits .f32 0x39800000#32 = ((1 / 4096 : ℝ) : EReal) := by
  simp [Ideal.ofBits, Ideal.ieee, -EReal.coe_mul]; norm_num

/-- Dividing by the length is multiplying by its inverse. -/
theorem by_length (y : EReal) : Ideal.div y (Ideal.ofBits .f32 0x45000000#32) = y * Ideal.ofBits .f32 0x3A000000#32 := by
  rw [length_word, inverse_word]
  exact Ideal.div_coe (by norm_num) y

/-- A positive real factor goes into a sum. -/
theorem into_sum {ι : Type} (s : Finset ι) (f : ι → EReal) (r : ℝ) (hr : 0 ≤ r) : (r : EReal) * ∑ i ∈ s, f i = ∑ i ∈ s, (r : EReal) * f i := by
  classical
  induction s using Finset.induction_on with
  | empty => rw [Finset.sum_empty, Finset.sum_empty, mul_zero]
  | insert a s ha ih =>
    rw [Finset.sum_insert ha, Finset.sum_insert ha, EReal.left_distrib_of_nonneg_of_ne_top (EReal.coe_nonneg.mpr hr) (EReal.coe_ne_top r), ih]

/-- The columns' sum over the rows, in one constant, is half the rows' means. -/
theorem mean_sum (f : Fin 8192 → Fin 2048 → EReal) : Ideal.ofBits .f32 0x39800000#32 * ∑ e, ∑ i, f i e
    = Ideal.ofBits .f32 0x3F000000#32 * ∑ i, Ideal.div (∑ e, f i e) (Ideal.ofBits .f32 0x45000000#32) := by
  simp only [by_length]
  rw [half_inverse_word, half_word, inverse_word, Finset.sum_comm, into_sum _ _ _ (by norm_num), into_sum _ _ _ (by norm_num)]
  refine Finset.sum_congr rfl fun i _ => ?_
  rw [mul_comm (∑ e, f i e), ← mul_assoc, ← EReal.coe_mul]
  norm_num

section
open Cert.FinalLossRefIdeal Cert.FinalLossRefIdeal.Gen
open Cert.NormBwdClaims (rowScale normed row_scale normed_at)

variable (x t o : FVec Ideal S8192x2048 .f32) (g p : FVec Ideal S1x2048 .f32)

/-- The reference's distance from the target, its cotangent and its gradient. -/
def missed : FVec Ideal S8192x2048 .f32 := subf (mulf (normed x) (broadcastInDim S8192x2048 ![0, 1] bcast_S1x2048_S8192x2048_0_1 g)) t
def pulled : FVec Ideal S8192x2048 .f32 := Host.divf (missed x t g) (broadcastInDim S8192x2048 ![] bcast_S_S8192x2048 (constant S_ .f32 0x45000000#32))
def grad : FVec Ideal S8192x2048 .f32 :=
  mulf (broadcastInDim S8192x2048 ![0, 1] bcast_S8192x1_S8192x2048_0_1 (rowScale x)) (subf (mulf (pulled x t g) (broadcastInDim S8192x2048 ![0, 1] bcast_S1x2048_S8192x2048_0_1 g)) (mulf (normed x) (broadcastInDim S8192x2048 ![0, 1] bcast_S8192x1_S8192x2048_0_1 (Host.divf (broadcastInDim S8192x1 ![0] bcast_S8192_S8192x1_0 (Host.reduceAdd (mulf (mulf (pulled x t g) (broadcastInDim S8192x2048 ![0, 1] bcast_S1x2048_S8192x2048_0_1 g)) (normed x)) (constant S_ .f32 0x00000000#32) reducesTo_S8192x2048_S8192_d1 h_S_)) (broadcastInDim S8192x1 ![] bcast_S_S8192x1 (constant S_ .f32 0x45000000#32))))))

theorem missed_at (a : Fin 8192) (e : Fin 2048) : missed x t g (ix2 a e) = missBy (row x a) (row t a) (row g 0) e := by
  unfold missed missBy
  pointwise
  simp only [normed_at]
  rfl

theorem pulled_at (a : Fin 8192) (e : Fin 2048) : pulled x t g (ix2 a e) = pull (row x a) (row t a) (row g 0) e := by
  unfold pulled pull
  rw [← by_length, ← missed_at]
  pointwise

theorem grad_at (a : Fin 8192) (e : Fin 2048) : grad x t g (ix2 a e) = lossGrad (row x a) (row t a) (row g 0) e := by
  unfold grad lossGrad
  pointwise
  simp only [row_scale, normed_at, pulled_at]
  rfl

theorem host_dx : grad x t g = dx x t g := by
  funext k
  obtain ⟨a, e, rfl⟩ : ∃ (a : Fin 8192) (e : Fin 2048), k = ix2 a e := ⟨k 0, k 1, pair k⟩
  exact grad_at x t g a e

theorem host_do : truncf .bf16 (mulf (broadcastInDim S8192x2048 ![0, 1] bcast_S1x2048_S8192x2048_0_1 p) (grad x t g)) bitsLt_bf16_f32 = dout x t g p := by
  funext k
  obtain ⟨a, e, rfl⟩ : ∃ (a : Fin 8192) (e : Fin 2048), k = ix2 a e := ⟨k 0, k 1, pair k⟩
  show _ = row p 0 e * lossGrad (row x a) (row t a) (row g 0) e
  pointwise
  simp only [grad_at]
  rfl

theorem host_gain : broadcastInDim S1x2048 ![1] bcast_S2048_S1x2048_1 (Host.reduceAdd (mulf (pulled x t g) (normed x)) (constant S_ .f32 0x00000000#32) reducesTo_S8192x2048_S2048_d0 h_S_)
    = total (gainRow x t g) := by
  funext k
  obtain ⟨a, e, rfl⟩ : ∃ (a : Fin 1) (e : Fin 2048), k = ix2 a e := ⟨k 0, k 1, pair k⟩
  show _ = ∑ i, pull (row x i) (row t i) (row g 0) e * (row x i e * scaleOf (row x i))
  pointwise
  simp only [normed_at, pulled_at]

theorem host_gate : broadcastInDim S1x2048 ![1] bcast_S2048_S1x2048_1 (Host.reduceAdd (mulf (grad x t g) o) (constant S_ .f32 0x00000000#32) reducesTo_S8192x2048_S2048_d0 h_S_)
    = total (gateRow x t g o) := by
  funext k
  obtain ⟨a, e, rfl⟩ : ∃ (a : Fin 1) (e : Fin 2048), k = ix2 a e := ⟨k 0, k 1, pair k⟩
  show _ = ∑ i, lossGrad (row x i) (row t i) (row g 0) e * row o i e
  pointwise
  simp only [grad_at]
  rfl

theorem host_loss : mulf (constant S_ .f32 0x3F000000#32) (Host.reduceAdd (Host.divf (Host.reduceAdd (mulf (missed x t g) (missed x t g)) (constant S_ .f32 0x00000000#32) reducesTo_S8192x2048_S8192_d1 h_S_) (broadcastInDim S8192 ![] bcast_S_S8192 (constant S_ .f32 0x45000000#32))) (constant S_ .f32 0x00000000#32) reducesTo_S8192_S_d0 h_S_)
    = lossOf (total (lossRow x t g)) := by
  funext k
  unfold lossOf
  pointwise
  simp only [missed_at]
  rw [← mean_sum (fun i e => missBy (row x i) (row t i) (row g 0) e * missBy (row x i) (row t i) (row g 0) e)]
  refine congrArg (HMul.hMul _) ?_
  unfold total lossRow
  rw [Fin.sum_univ_one]
  rfl
end

theorem frame_kernel : Cert.quiescent_FinalLoss := fun m g _ => Cert.FinalLoss.Gen.frame (F := Bits) m g

theorem frame_ideal : Cert.quiescent_FinalLossIdeal := fun m g _ => Cert.FinalLossIdeal.Gen.frame (F := Ideal) m g

theorem frame_ref_ideal : Cert.quiescent_FinalLossRefIdeal := fun m g _ =>
  (θ_run Cert.FinalLossRefIdeal.defs _ _).mono (fun r h => ⟨fun c => (h c).2.2.2.2.2, sem_eq_zero_of_no_sems rfl r.2⟩)
    (Cert.FinalLossRefIdeal.Value.run (F := Ideal) m g)

theorem values_ideal : Cert.algebraic_FinalLossIdeal_FinalLossRefIdeal := fun m g m' g' _ hm =>
  ⟨_, _, _, _, _, kernel_run m g,
    (θ_run Cert.FinalLossRefIdeal.defs _ _).mono
      (fun _ h c => by
        obtain ⟨e0, e1, e2, e3, e4⟩ := hm c
        refine ⟨(h c).1.trans ?_, (h c).2.1.trans ?_, (h c).2.2.1.trans ?_, (h c).2.2.2.1.trans ?_, (h c).2.2.2.2.1.trans ?_, (h c).2.2.2.2.2⟩
        · rw [e0, e1, e2]
          exact host_loss ..
        · rw [e0, e1, e2]
          exact host_dx ..
        · rw [e0, e1, e2, e4]
          exact host_do ..
        · rw [e0, e1, e2]
          exact host_gain ..
        · rw [e0, e1, e2, e3]
          exact host_gate ..)
      (Cert.FinalLossRefIdeal.Value.run (F := Ideal) m' g')⟩

end Cert.FinalLossClaims

end
-- ==== Proof.NormFwdClaims.lean ====
/- The modulated norm. -/
module

public import proofs.«01_k».proof.Proof.NormBwdClaims
public import proofs.«01_k».proof.Proof.Gen.NormFwd.Frame
public import proofs.«01_k».proof.Proof.Gen.NormFwdIdeal.Frame
public import proofs.«01_k».proof.Proof.Gen.NormFwdRefIdeal.Run
public import proofs.«01_k».proof.Proof.Gen.NormCtxFwd.Frame
public import proofs.«01_k».proof.Proof.Gen.NormCtxFwdIdeal.Value
public import proofs.«01_k».proof.Proof.Gen.NormCtxFwdRefIdeal.Run

@[expose] public section

noncomputable section

open Idealize.ShloMosaic Idealize.ShloMosaic.TcCoe
open Idealize.SL Idealize.SL.Sem
open Cert.Exchange
open Cert.NormBwdClaims (scaleOf row hz pair)

/-! ## The formula -/

namespace Cert.NormFormula

/-- A modulated row: normed, times the gain and one plus the scale, moved by the shift. -/
def modAt (g h s x : Fin 2048 → EReal) (e : Fin 2048) : EReal := x e * scaleOf x * g e * (1 + s e) + h e

/-- The modulated array, row by row. -/
def modulated {n : ℕ} (x : (⟨2, ![n, 2048]⟩ : Shape).Idx → EReal) (g h s : (⟨2, ![1, 2048]⟩ : Shape).Idx → EReal)
    (k : (⟨2, ![n, 2048]⟩ : Shape).Idx) : EReal := modAt (row g 0) (row h 0) (row s 0) (row x (k 0)) (k 1)

end Cert.NormFormula

open Cert.NormFormula

/-! ## The latent rows, in tiles -/

namespace Cert.NormFwdClaims

section
open Cert.NormFwdIdeal Cert.NormFwdIdeal.Gen

/-- What the body makes of a tile. -/
theorem tile (x : FVec Ideal S256x2048 .f32) (g h s : FVec Ideal S1x2048 .f32) : out0_4 (F := Ideal) x g h s = modulated x g h s := by
  unfold out0_4
  unfold r0_0 r0_1
  simp only [View.canon_unit_zero (S := S256x2048) hz, View.ld_unit_zero (S := S256x2048) hz, View.ld_unit_zero (S := S1x2048) hz]
  funext k
  obtain ⟨a, e, rfl⟩ : ∃ (a : Fin 256) (e : Fin 2048), k = ix2 a e := ⟨k 0, k 1, pair k⟩
  show _ = modAt (row g 0) (row h 0) (row s 0) (row x a) e
  unfold modAt scaleOf row
  unfold_payloads
  pointwise

variable (m : (ℓ : Loc nD τ sig) → Buf (Elt Ideal) ℓ) (c : Dev nD)

/-- Which block of rows a window names at a point. -/
theorem blocks (t : Fin cfg0.N) : (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0) :=
  (by decide +kernel : ∀ t : Fin grid0.N, (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = t.val ∧ win0_4.index t (1 : Fin 2) = 0)) t

theorem to_rows (t : Fin cfg0.N) (k : S256x2048.Idx) :
    ((((cfg0.win 4).blk t).view.emb k) 0).val = 256 * t.val + (k 0).val ∧ ((((cfg0.win 4).blk t).view.emb k) 1).val = (k 1).val := by
  obtain ⟨-, -, -, -, e0, e1⟩ := blocks t
  refine ⟨?_, ?_⟩
  · show win0_4.index t (0 : Fin 2) * 256 + 1 * (k 0).val = _
    omega
  · show win0_4.index t (1 : Fin 2) * 2048 + 1 * (k 1).val = _
    omega

/-- A tile's row is the array's at the place where the tile goes, and the vectors are staged whole. -/
theorem in_row (t : Fin cfg0.N) (k : S256x2048.Idx) : row (iblk m c 0 t) (k 0) = row (V m c main_arg0) (((cfg0.win 4).blk t).view.emb k 0) := by
  obtain ⟨⟨e0, e1⟩, -⟩ := blocks t
  have h0 := (to_rows t k).1
  funext q
  refine at_congr (V m c main_arg0) fun a => ?_
  fin_cases a
  · show win0_0.index t (0 : Fin 2) * 256 + 1 * (k 0).val = (((cfg0.win 4).blk t).view.emb k 0).val
    omega
  · show win0_0.index t (1 : Fin 2) * 2048 + 1 * q.val = q.val
    omega

theorem gain_row (t : Fin cfg0.N) : row (iblk m c 1 t) 0 = row (V m c main_arg1) 0 := by
  obtain ⟨-, ⟨e0, e1⟩, -⟩ := blocks t
  funext q
  refine at_congr (V m c main_arg1) fun a => ?_
  fin_cases a
  · show win0_1.index t (0 : Fin 2) * 1 + 1 * 0 = 0
    omega
  · show win0_1.index t (1 : Fin 2) * 2048 + 1 * q.val = q.val
    omega

theorem shift_row (t : Fin cfg0.N) : row (iblk m c 2 t) 0 = row (V m c main_arg2) 0 := by
  obtain ⟨-, -, ⟨e0, e1⟩, -⟩ := blocks t
  funext q
  refine at_congr (V m c main_arg2) fun a => ?_
  fin_cases a
  · show win0_2.index t (0 : Fin 2) * 1 + 1 * 0 = 0
    omega
  · show win0_2.index t (1 : Fin 2) * 2048 + 1 * q.val = q.val
    omega

theorem scale_row (t : Fin cfg0.N) : row (iblk m c 3 t) 0 = row (V m c main_arg3) 0 := by
  obtain ⟨-, -, -, ⟨e0, e1⟩, -⟩ := blocks t
  funext q
  refine at_congr (V m c main_arg3) fun a => ?_
  fin_cases a
  · show win0_3.index t (0 : Fin 2) * 1 + 1 * 0 = 0
    omega
  · show win0_3.index t (1 : Fin 2) * 2048 + 1 * q.val = q.val
    omega

/-- A point writes back its tile of the modulated array. -/
theorem tile_back (t : Fin cfg0.N) : (dats m 0 c).flushed 4 t = ((cfg0.win 4).blk t).view.read (Elt Ideal)
    (modulated (V m c main_arg0) (V m c main_arg1) (V m c main_arg2) (V m c main_arg3)) := by
  show (cfg0.win 4).cut (grid0.coords t) ((dats m 0 c).after 4 t) = _
  rw [after0_4]
  refine (congrArg ((cfg0.win 4).cut (grid0.coords t)) (tile (iblk m c 0 t) (iblk m c 1 t) (iblk m c 2 t) (iblk m c 3 t))).trans ?_
  funext k
  show modAt (row (iblk m c 1 t) 0) (row (iblk m c 2 t) 0) (row (iblk m c 3 t) 0) (row (iblk m c 0 t) (k 0)) (k 1)
    = modAt (row (V m c main_arg1) 0) (row (V m c main_arg2) 0) (row (V m c main_arg3) 0)
      (row (V m c main_arg0) (((cfg0.win 4).blk t).view.emb k 0)) (((cfg0.win 4).blk t).view.emb k 1)
  rw [gain_row, shift_row, scale_row, in_row]
  exact congrArg (modAt _ _ _ _) (Fin.ext (to_rows t k).2.symm)

theorem tiled (i : S8192x2048.Idx) : ∃ t : Fin cfg0.N, (cfg0.win 4).flush t = true ∧ i ∈ ((cfg0.win 4).blk t).view.set := by
  have h0 : (i 0).val < 8192 := (i 0).isLt
  have ht : (i 0).val / 256 < cfg0.N := show (i 0).val / 256 < 32 by omega
  have hj := ((cfg0.win 4).blk ⟨_, ht⟩).view.emb_mem_set (ix2 ⟨(i 0).val % 256, Nat.mod_lt _ (by decide)⟩ (i 1) : S256x2048.Idx)
  obtain ⟨e0, e1⟩ := to_rows ⟨_, ht⟩ (ix2 ⟨(i 0).val % 256, Nat.mod_lt _ (by decide)⟩ (i 1))
  refine ⟨⟨_, ht⟩, flush0_4 _, (congrArg (· ∈ ((cfg0.win 4).blk ⟨_, ht⟩).view.set) (funext fun a => Fin.ext ?_)).mp hj⟩
  fin_cases a
  · refine e0.trans ?_
    show 256 * ((i 0).val / 256) + (i 0).val % 256 = (i 0).val
    omega
  · exact e1

theorem kernel_run (ρ : Dev nD → PrngReg) : θ_run defs (onTc (τ := τ) (main (F := Ideal))) ⟨m, fun _ => 0, ρ⟩ fun r => ∀ c : Dev nD,
      r.2.mem ((c.tc : Thread nD τ).loc main_v0) = modulated (m ((c.tc : Thread nD τ).loc main_arg0)) (m ((c.tc : Thread nD τ).loc main_arg1))
        (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono (fun r h c => ⟨((h c).1 4).trans ((dats m 0 c).arrAt_eq_of_cover 4 _ (fun t _ => tile_back m c t) tiled),
    ((h c).1 0).trans ((dats m 0 c).arrAt_in 0 rfl _), ((h c).1 1).trans ((dats m 0 c).arrAt_in 1 rfl _),
    ((h c).1 2).trans ((dats m 0 c).arrAt_in 2 rfl _), ((h c).1 3).trans ((dats m 0 c).arrAt_in 3 rfl _)⟩) (run_main m ρ)
end

section
open Cert.NormFwdRefIdeal Cert.NormFwdRefIdeal.Gen

theorem host (x : FVec Ideal S8192x2048 .f32) (g h s : FVec Ideal S1x2048 .f32) :
    truncf .bf16 (addf (mulf (mulf (mulf x (broadcastInDim S8192x2048 ![0, 1] bcast_S8192x1_S8192x2048_0_1 (Host.rsqrt (addf (Host.divf (broadcastInDim S8192x1 ![0] bcast_S8192_S8192x1_0 (Host.reduceAdd (mulf x x) (constant S_ .f32 0x00000000#32) reducesTo_S8192x2048_S8192_d1 h_S_)) (broadcastInDim S8192x1 ![] bcast_S_S8192x1 (constant S_ .f32 0x45000000#32))) (broadcastInDim S8192x1 ![] bcast_S_S8192x1 (constant S_ .f32 0x358637BD#32)))))) (broadcastInDim S8192x2048 ![0, 1] bcast_S1x2048_S8192x2048_0_1 g)) (broadcastInDim S8192x2048 ![0, 1] bcast_S1x2048_S8192x2048_0_1 (addf (broadcastInDim S1x2048 ![] bcast_S_S1x2048 (constant S_ .f32 0x3F800000#32)) s))) (broadcastInDim S8192x2048 ![0, 1] bcast_S1x2048_S8192x2048_0_1 h)) bitsLt_bf16_f32
      = modulated x g h s := by
  funext k
  obtain ⟨a, e, rfl⟩ : ∃ (a : Fin 8192) (e : Fin 2048), k = ix2 a e := ⟨k 0, k 1, pair k⟩
  show _ = modAt (row g 0) (row h 0) (row s 0) (row x a) e
  unfold modAt scaleOf row
  pointwise
end

theorem frame_kernel : Cert.quiescent_NormFwd := fun m g _ => Cert.NormFwd.Gen.frame (F := Bits) m g

theorem frame_ideal : Cert.quiescent_NormFwdIdeal := fun m g _ => Cert.NormFwdIdeal.Gen.frame (F := Ideal) m g

theorem frame_ref_ideal : Cert.quiescent_NormFwdRefIdeal := fun m g _ =>
  (θ_run Cert.NormFwdRefIdeal.defs _ _).mono (fun r h => ⟨fun c => (h c).2, sem_eq_zero_of_no_sems rfl r.2⟩)
    (Cert.NormFwdRefIdeal.Value.run (F := Ideal) m g)

theorem values_ideal : Cert.algebraic_NormFwdIdeal_NormFwdRefIdeal := fun m g m' g' _ hm =>
  ⟨_, kernel_run m g,
    (θ_run Cert.NormFwdRefIdeal.defs _ _).mono
      (fun _ h c => by
        obtain ⟨e0, e1, e2, e3⟩ := hm c
        refine ⟨(h c).1.trans ?_, (h c).2⟩
        rw [e0, e1, e2, e3]
        exact host ..)
      (Cert.NormFwdRefIdeal.Value.run (F := Ideal) m' g')⟩

end Cert.NormFwdClaims

/-! ## The context's rows, in one tile -/

namespace Cert.NormCtxFwdClaims

section
open Cert.NormCtxFwdIdeal Cert.NormCtxFwdIdeal.Gen

/-- The one tile is the whole array. -/
theorem tile (x : FVec Ideal S256x2048 .f32) (g h s : FVec Ideal S1x2048 .f32) : Cert.NormCtxFwdIdeal.Value.G4 (F := Ideal) x g h s = modulated x g h s := by
  funext k
  obtain ⟨a, e, rfl⟩ : ∃ (a : Fin 256) (e : Fin 2048), k = ix2 a e := ⟨k 0, k 1, pair k⟩
  show k0_pay1 (F := Ideal) x g s h (ix2 a e) = modAt (row g 0) (row h 0) (row s 0) (row x a) e
  unfold modAt scaleOf row
  unfold_payloads
  pointwise
end

section
open Cert.NormCtxFwdRefIdeal Cert.NormCtxFwdRefIdeal.Gen

theorem host (x : FVec Ideal S256x2048 .f32) (g h s : FVec Ideal S1x2048 .f32) :
    truncf .bf16 (addf (mulf (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 g)) (broadcastInDim S256x2048 ![0, 1] bcast_S1x2048_S256x2048_0_1 (addf (broadcastInDim S1x2048 ![] bcast_S_S1x2048 (constant S_ .f32 0x3F800000#32)) s))) (broadcastInDim S256x2048 ![0, 1] bcast_S1x2048_S256x2048_0_1 h)) bitsLt_bf16_f32
      = modulated x g h s := by
  funext k
  obtain ⟨a, e, rfl⟩ : ∃ (a : Fin 256) (e : Fin 2048), k = ix2 a e := ⟨k 0, k 1, pair k⟩
  show _ = modAt (row g 0) (row h 0) (row s 0) (row x a) e
  unfold modAt scaleOf row
  pointwise
end

theorem frame_kernel : Cert.quiescent_NormCtxFwd := fun m g _ => Cert.NormCtxFwd.Gen.frame (F := Bits) m g

theorem frame_ideal : Cert.quiescent_NormCtxFwdIdeal := fun m g _ => Cert.NormCtxFwdIdeal.Gen.frame (F := Ideal) m g

theorem frame_ref_ideal : Cert.quiescent_NormCtxFwdRefIdeal := fun m g _ =>
  (θ_run Cert.NormCtxFwdRefIdeal.defs _ _).mono (fun r h => ⟨fun c => (h c).2, sem_eq_zero_of_no_sems rfl r.2⟩)
    (Cert.NormCtxFwdRefIdeal.Value.run (F := Ideal) m g)

theorem values_ideal : Cert.algebraic_NormCtxFwdIdeal_NormCtxFwdRefIdeal := fun m g m' g' _ hm =>
  ⟨_, Cert.NormCtxFwdIdeal.Value.run (F := Ideal) m g,
    (θ_run Cert.NormCtxFwdRefIdeal.defs _ _).mono
      (fun _ h c => by
        obtain ⟨e0, e1, e2, e3⟩ := hm c
        refine ⟨(h c).1.trans ?_, (h c).2⟩
        rw [e0, e1, e2, e3]
        exact (host _ _ _ _).trans (tile _ _ _ _).symm)
      (Cert.NormCtxFwdRefIdeal.Value.run (F := Ideal) m' g')⟩

end Cert.NormCtxFwdClaims

end
-- ==== Proof.NormCtxBwdClaims.lean ====
/- The normalisation's backward pass over the context's rows. -/
module

public import proofs.«01_k».proof.Proof.NormBwdClaims
public import proofs.«01_k».proof.Proof.Gen.NormCtxBwd.Frame
public import proofs.«01_k».proof.Proof.Gen.NormCtxBwdIdeal.Frame
public import proofs.«01_k».proof.Proof.Gen.NormCtxBwdRefIdeal.Run

@[expose] public section

noncomputable section

open Idealize.ShloMosaic Idealize.ShloMosaic.TcCoe
open Idealize.SL Idealize.SL.Sem
open Cert.Exchange
open Cert.NormBwdClaims (scaleOf scaleGrad gainGrad row hz pair tileShift tileScale tileGain)

namespace Cert.NormCtxBwdClaims

/-- The context's rows of the cotangent, which come after the latent ones. -/
def ctxRows (d : (⟨2, ![8448, 2048]⟩ : Shape).Idx → EReal) (k : (⟨2, ![256, 2048]⟩ : Shape).Idx) : EReal :=
  d (ix2 (⟨8192 + (k 0).val, by have : (k 0).val < 256 := (k 0).isLt; omega⟩ : Fin 8448) (k 1))

section
open Cert.NormCtxBwdIdeal Cert.NormCtxBwdIdeal.Gen

/-! ## What the body leaves -/

section
variable (c : Dev nD) (i : grid0.Coords) (a1 : Memref sig .tc .vmem S256x2048 .f32) (h1 : a1.IsWhole)
  (a2 : Memref sig .tc .vmem S256x2048 .f32) (h2 : a2.IsWhole) (a3 : Memref sig .tc .vmem S1x2048 .f32) (h3 : a3.IsWhole)
  (a4 : Memref sig .tc .vmem S1x2048 .f32) (h4 : a4.IsWhole) (a5 : Memref sig .tc .vmem S1x2048 .f32) (h5 : a5.IsWhole)
  (a6 : Memref sig .tc .vmem S1x2048 .f32) (h6 : a6.IsWhole) (a7 : Memref sig .tc .vmem S1x2048 .f32) (h7 : a7.IsWhole)
  (a8 : Memref sig .tc .vmem S1x2048 .f32) (h8 : a8.IsWhole)
  (x0 x1 : FVec Ideal S256x2048 .f32) (x2 x3 x4 : FVec Ideal S1x2048 .f32)

/-- The three sums over the rows of the one tile. -/
theorem sums (hc : cond0_0 i) :
    (out0_A_5 (F := Ideal) c i a1 h1 a2 h2 a3 h3 a4 h4 a5 h5 a6 h6 a7 h7 a8 h8 hc x0 x1 x2 x3 x4 = tileShift x1 (fun _ => 0))
    ∧ (out0_A_6 (F := Ideal) c i a1 h1 a2 h2 a3 h3 a4 h4 a5 h5 a6 h6 a7 h7 a8 h8 hc x0 x1 x2 x3 x4 = tileScale x0 x1 x2 (fun _ => 0))
    ∧ (out0_A_7 (F := Ideal) c i a1 h1 a2 h2 a3 h3 a4 h4 a5 h5 a6 h6 a7 h7 a8 h8 hc x0 x1 x2 x3 x4 = tileGain x0 x1 x3 x4) := by
  unfold out0_A_5 out0_A_6 out0_A_7
  rw [View.read_writes_eq_canon _ _ _ (cover0_A_5 (F := Ideal) c i a1 h1 a2 h2 a3 h3 a4 h4 a5 h5 a6 h6 a7 h7 a8 h8 hc x0 x1 x2 x3 x4),
    View.read_writes_eq_canon _ _ _ (cover0_A_6 (F := Ideal) c i a1 h1 a2 h2 a3 h3 a4 h4 a5 h5 a6 h6 a7 h7 a8 h8 hc x0 x1 x2 x3 x4),
    View.read_writes_eq_canon _ _ _ (cover0_A_7 (F := Ideal) c i a1 h1 a2 h2 a3 h3 a4 h4 a5 h5 a6 h6 a7 h7 a8 h8 hc x0 x1 x2 x3 x4)]
  unfold kernelRun0_A
  dsimp only
  sl_unfold_words
  simp only [View.canon_cons_unit_zero (S := S1x2048) hz, View.readCov_unit_zero (S := S1x2048) _ hz,
    View.readAt_eq_ld, h1.read_unread, h2.read_unread, h3.read_unread, h4.read_unread, h5.read_unread,
    View.ld_unit_zero (S := S256x2048) hz, View.ld_unit_zero (S := S1x2048) hz]
  unfold tileShift tileScale tileGain scaleGrad gainGrad scaleOf row
  refine ⟨funext fun k => ?_, funext fun k => ?_, funext fun k => ?_⟩
  all_goals
    rw [pair k]
    generalize k 0 = a
    generalize k 1 = e
    unfold_payloads
    pointwise
end

/-! ## The blocks -/

theorem blocks (t : Fin cfg0.N) : (win0_0.index t (0 : Fin 2) = 0 ∧ win0_0.index t (1 : Fin 2) = 0)
    ∧ (win0_1.index t (0 : Fin 2) = 32 ∧ win0_1.index t (1 : Fin 2) = 0) :=
  (by decide +kernel : ∀ t : Fin grid0.N, (win0_0.index t (0 : Fin 2) = 0 ∧ win0_0.index t (1 : Fin 2) = 0)
    ∧ (win0_1.index t (0 : Fin 2) = 32 ∧ win0_1.index t (1 : Fin 2) = 0)) t

theorem whole_2 (t : Fin cfg0.N) (k : S1x2048.Idx) : ((cfg0.win 2).blk t).view.emb k = k := by
  funext a
  refine Fin.ext ?_
  fin_cases a
  · show 0 * 1 + 1 * (k 0).val = (k 0).val
    omega
  · show 0 * 2048 + 1 * (k 1).val = (k 1).val
    omega

theorem whole_3 (t : Fin cfg0.N) (k : S1x2048.Idx) : ((cfg0.win 3).blk t).view.emb k = k := whole_2 t k
theorem whole_4 (t : Fin cfg0.N) (k : S1x2048.Idx) : ((cfg0.win 4).blk t).view.emb k = k := whole_2 t k
theorem whole_5 (t : Fin cfg0.N) (k : S1x2048.Idx) : ((cfg0.win 5).blk t).view.emb k = k := whole_2 t k
theorem whole_6 (t : Fin cfg0.N) (k : S1x2048.Idx) : ((cfg0.win 6).blk t).view.emb k = k := whole_2 t k
theorem whole_7 (t : Fin cfg0.N) (k : S1x2048.Idx) : ((cfg0.win 7).blk t).view.emb k = k := whole_2 t k

section
variable (m : (ℓ : Loc nD τ sig) → Buf (Elt Ideal) ℓ) (c : Dev nD)

theorem in_tile (t : Fin cfg0.N) : iblk m c 0 t = V m c main_arg0 := by
  obtain ⟨⟨e0, e1⟩, -⟩ := blocks t
  funext k
  refine at_congr (V m c main_arg0) fun a => ?_
  fin_cases a
  · show win0_0.index t (0 : Fin 2) * 256 + 1 * (k 0).val = (k 0).val
    omega
  · show win0_0.index t (1 : Fin 2) * 2048 + 1 * (k 1).val = (k 1).val
    omega

theorem cot_tile (t : Fin cfg0.N) : iblk m c 1 t = ctxRows (V m c main_arg1) := by
  obtain ⟨-, e0, e1⟩ := blocks t
  funext k
  refine at_congr (V m c main_arg1) fun a => ?_
  fin_cases a
  · show win0_1.index t (0 : Fin 2) * 256 + 1 * (k 0).val = 8192 + (k 0).val
    omega
  · show win0_1.index t (1 : Fin 2) * 2048 + 1 * (k 1).val = (k 1).val
    omega

theorem gain_tile (t : Fin cfg0.N) : iblk m c 2 t = V m c main_arg2 := funext fun k => congrArg (V m c main_arg2) (whole_2 t k)
theorem scale_tile (t : Fin cfg0.N) : iblk m c 3 t = V m c main_arg3 := funext fun k => congrArg (V m c main_arg3) (whole_3 t k)
theorem start_tile (t : Fin cfg0.N) : iblk m c 4 t = V m c main_arg4 := funext fun k => congrArg (V m c main_arg4) (whole_4 t k)

/-- What the outputs hold after the one point. -/
theorem after_point (t : Fin cfg0.N) : outsAt0 m c t = (tileShift (ctxRows (V m c main_arg1)) (fun _ => 0), tileScale (V m c main_arg0) (ctxRows (V m c main_arg1)) (V m c main_arg2) (fun _ => 0), tileGain (V m c main_arg0) (ctxRows (V m c main_arg1)) (V m c main_arg3) (V m c main_arg4)) := by
  obtain ⟨s5, s6, s7⟩ := sums c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t)
    (iblk m c 0 t) (iblk m c 1 t) (iblk m c 2 t) (iblk m c 3 t) (iblk m c 4 t) (hcond0_0 t)
  unfold outsAt0
  rw [s5, s6, s7, in_tile, cot_tile, gain_tile, scale_tile, start_tile]

theorem first_point : (0 : ℕ) < cfg0.N := show 0 < 1 by omega

theorem dshift_end : (dats m 0 c).arrAt 5 cfg0.N = tileShift (ctxRows (V m c main_arg1)) (fun _ => 0) :=
  (dats m 0 c).arrAt_eq_of_cover 5 _
    (fun t _ => (congrArg ((cfg0.win 5).cut (grid0.coords t)) ((after0_5 m c t).trans (congrArg (fun o => o.1) (after_point m c t)))).trans
      (funext fun k => (congrArg (tileShift (ctxRows (V m c main_arg1)) (fun _ => 0)) (whole_5 t k)).symm))
    (fun i => ⟨⟨0, first_point⟩, flush0_5 _,
      (congrArg (· ∈ ((cfg0.win 5).blk ⟨0, first_point⟩).view.set) (whole_5 _ i)).mp (((cfg0.win 5).blk ⟨0, first_point⟩).view.emb_mem_set i)⟩)

theorem dscale_end : (dats m 0 c).arrAt 6 cfg0.N = tileScale (V m c main_arg0) (ctxRows (V m c main_arg1)) (V m c main_arg2) (fun _ => 0) :=
  (dats m 0 c).arrAt_eq_of_cover 6 _
    (fun t _ => (congrArg ((cfg0.win 6).cut (grid0.coords t)) ((after0_6 m c t).trans (congrArg (fun o => o.2.1) (after_point m c t)))).trans
      (funext fun k => (congrArg (tileScale (V m c main_arg0) (ctxRows (V m c main_arg1)) (V m c main_arg2) (fun _ => 0)) (whole_6 t k)).symm))
    (fun i => ⟨⟨0, first_point⟩, flush0_6 _,
      (congrArg (· ∈ ((cfg0.win 6).blk ⟨0, first_point⟩).view.set) (whole_6 _ i)).mp (((cfg0.win 6).blk ⟨0, first_point⟩).view.emb_mem_set i)⟩)

theorem dgain_end : (dats m 0 c).arrAt 7 cfg0.N = tileGain (V m c main_arg0) (ctxRows (V m c main_arg1)) (V m c main_arg3) (V m c main_arg4) :=
  (dats m 0 c).arrAt_eq_of_cover 7 _
    (fun t _ => (congrArg ((cfg0.win 7).cut (grid0.coords t)) ((after0_7 m c t).trans (congrArg (fun o => o.2.2) (after_point m c t)))).trans
      (funext fun k => (congrArg (tileGain (V m c main_arg0) (ctxRows (V m c main_arg1)) (V m c main_arg3) (V m c main_arg4)) (whole_7 t k)).symm))
    (fun i => ⟨⟨0, first_point⟩, flush0_7 _,
      (congrArg (· ∈ ((cfg0.win 7).blk ⟨0, first_point⟩).view.set) (whole_7 _ i)).mp (((cfg0.win 7).blk ⟨0, first_point⟩).view.emb_mem_set i)⟩)
end

theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = tileShift (ctxRows (m ((c.tc : Thread nD τ).loc main_arg1))) (fun _ => 0)
      ∧ r.2.mem ((c.tc : Thread nD τ).loc main_v0_1) = tileScale (m ((c.tc : Thread nD τ).loc main_arg0)) (ctxRows (m ((c.tc : Thread nD τ).loc main_arg1))) (m ((c.tc : Thread nD τ).loc main_arg2)) (fun _ => 0)
      ∧ r.2.mem ((c.tc : Thread nD τ).loc main_v0_2) = tileGain (m ((c.tc : Thread nD τ).loc main_arg0)) (ctxRows (m ((c.tc : Thread nD τ).loc main_arg1))) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨((h c).1 5).trans (dshift_end m c), ((h c).1 6).trans (dscale_end m c), ((h c).1 7).trans (dgain_end m c), ((h c).1 0).trans ((dats m 0 c).arrAt_in 0 rfl _), ((h c).1 1).trans ((dats m 0 c).arrAt_in 1 rfl _), ((h c).1 2).trans ((dats m 0 c).arrAt_in 2 rfl _), ((h c).1 3).trans ((dats m 0 c).arrAt_in 3 rfl _), ((h c).1 4).trans ((dats m 0 c).arrAt_in 4 rfl _)⟩) (run_main m ρ)

end

/-! ## The reference -/

section
open Cert.NormCtxBwdRefIdeal Cert.NormCtxBwdRefIdeal.Gen

variable (x : FVec Ideal S256x2048 .f32) (d : FVec Ideal S8448x2048 .f32) (g s z : FVec Ideal S1x2048 .f32)

theorem host_dshift : broadcastInDim S1x2048 ![1] bcast_S2048_S1x2048_1 (Host.reduceAdd (extractStridedSlice S256x2048 ![8192, 0] d slices_S8448x2048_S256x2048_8192_0) (constant S_ .f32 0x00000000#32) reducesTo_S256x2048_S2048_d0 h_S_)
    = tileShift (ctxRows d) (fun _ => 0) := by
  funext k
  obtain ⟨a, e, rfl⟩ : ∃ (a : Fin 1) (e : Fin 2048), k = ix2 a e := ⟨k 0, k 1, pair k⟩
  unfold tileShift ctxRows row
  pointwise

theorem host_dscale : broadcastInDim S1x2048 ![1] bcast_S2048_S1x2048_1 (Host.reduceAdd (mulf (extractStridedSlice S256x2048 ![8192, 0] d slices_S8448x2048_S256x2048_8192_0) (mulf (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32)))))) (broadcastInDim S256x2048 ![0, 1] bcast_S1x2048_S256x2048_0_1 g))) (constant S_ .f32 0x00000000#32) reducesTo_S256x2048_S2048_d0 h_S_)
    = tileScale x (ctxRows d) g (fun _ => 0) := by
  funext k
  obtain ⟨a, e, rfl⟩ : ∃ (a : Fin 1) (e : Fin 2048), k = ix2 a e := ⟨k 0, k 1, pair k⟩
  unfold tileScale scaleGrad ctxRows scaleOf row
  pointwise

theorem host_dgain : addf z (broadcastInDim S1x2048 ![1] bcast_S2048_S1x2048_1 (Host.reduceAdd (mulf (mulf (extractStridedSlice S256x2048 ![8192, 0] d slices_S8448x2048_S256x2048_8192_0) (broadcastInDim S256x2048 ![0, 1] bcast_S1x2048_S256x2048_0_1 (addf (broadcastInDim S1x2048 ![] bcast_S_S1x2048 (constant S_ .f32 0x3F800000#32)) s))) (mulf x (broadcastInDim S256x2048 ![0, 1] bcast_S256x1_S256x2048_0_1 (Host.rsqrt (addf (Host.divf (broadcastInDim S256x1 ![0] bcast_S256_S256x1_0 (Host.reduceAdd (mulf x x) (constant S_ .f32 0x00000000#32) reducesTo_S256x2048_S256_d1 h_S_)) (broadcastInDim S256x1 ![] bcast_S_S256x1 (constant S_ .f32 0x45000000#32))) (broadcastInDim S256x1 ![] bcast_S_S256x1 (constant S_ .f32 0x358637BD#32))))))) (constant S_ .f32 0x00000000#32) reducesTo_S256x2048_S2048_d0 h_S_))
    = tileGain x (ctxRows d) s z := by
  funext k
  obtain ⟨a, e, rfl⟩ : ∃ (a : Fin 1) (e : Fin 2048), k = ix2 a e := ⟨k 0, k 1, pair k⟩
  unfold tileGain gainGrad ctxRows scaleOf row
  pointwise
end

theorem frame_kernel : Cert.quiescent_NormCtxBwd := fun m g _ => Cert.NormCtxBwd.Gen.frame (F := Bits) m g

theorem frame_ideal : Cert.quiescent_NormCtxBwdIdeal := fun m g _ => Cert.NormCtxBwdIdeal.Gen.frame (F := Ideal) m g

theorem frame_ref_ideal : Cert.quiescent_NormCtxBwdRefIdeal := fun m g _ =>
  (θ_run Cert.NormCtxBwdRefIdeal.defs _ _).mono (fun r h => ⟨fun c => (h c).2.2.2, sem_eq_zero_of_no_sems rfl r.2⟩)
    (Cert.NormCtxBwdRefIdeal.Value.run (F := Ideal) m g)

theorem values_ideal : Cert.algebraic_NormCtxBwdIdeal_NormCtxBwdRefIdeal := fun m g m' g' _ hm =>
  ⟨_, _, _, kernel_run m g,
    (θ_run Cert.NormCtxBwdRefIdeal.defs _ _).mono
      (fun _ h c => by
        obtain ⟨e0, e1, e2, e3, e4⟩ := hm c
        refine ⟨(h c).1.trans ?_, (h c).2.1.trans ?_, (h c).2.2.1.trans ?_, (h c).2.2.2⟩
        · rw [e1]
          exact host_dshift ..
        · rw [e0, e1, e2]
          exact host_dscale ..
        · rw [e0, e1, e3, e4]
          exact host_dgain ..)
      (Cert.NormCtxBwdRefIdeal.Value.run (F := Ideal) m' g')⟩

end Cert.NormCtxBwdClaims

end
-- ==== Proof.NormGateBwdClaims.lean ====
/- The normalisation's backward pass with the gate of the layer below. -/
module

public import proofs.«01_k».proof.Proof.FinalLossClaims
public import proofs.«01_k».proof.Proof.Gen.NormGateBwd.Frame
public import proofs.«01_k».proof.Proof.Gen.NormGateBwdIdeal.Frame
public import proofs.«01_k».proof.Proof.Gen.NormGateBwdRefIdeal.Run

@[expose] public section

noncomputable section

open Idealize.ShloMosaic Idealize.ShloMosaic.TcCoe
open Idealize.SL Idealize.SL.Sem
open Cert.Exchange
open Cert.NormBwdClaims (scaleOf rowGrad scaleGrad gainGrad row upto upto_zero upto_tile upto_all hz pair tileDx tileShift tileScale tileGain)
open Cert.FinalLossClaims (total rows_of)

namespace Cert.NormGateBwdClaims

/-! ## The results as functions of the arguments -/

section
variable (x d r : (⟨2, ![8192, 2048]⟩ : Shape).Idx → EReal) (g s z : (⟨2, ![1, 2048]⟩ : Shape).Idx → EReal)
  (o : (⟨2, ![8192, 2048]⟩ : Shape).Idx → EReal) (p : (⟨2, ![1, 2048]⟩ : Shape).Idx → EReal)

/-- The rows' gradient, and the gradient of the layer's output below, which the gate scales. -/
def dx (k : (⟨2, ![8192, 2048]⟩ : Shape).Idx) : EReal := row r (k 0) (k 1) + rowGrad (row d (k 0)) (row s 0) (row g 0) (row x (k 0)) (k 1)
def dout (k : (⟨2, ![8192, 2048]⟩ : Shape).Idx) : EReal := p (ix2 0 (k 1)) * dx x d r g s k

/-! A row's share of each sum. -/

def shiftRow (e : Fin 2048) (i : Fin 8192) : EReal := row d i e
def scaleRow (e : Fin 2048) (i : Fin 8192) : EReal := scaleGrad (row d i) (row g 0) (row x i) e
def gainRow (e : Fin 2048) (i : Fin 8192) : EReal := gainGrad (row d i) (row s 0) (row x i) e
def gateRow (e : Fin 2048) (i : Fin 8192) : EReal := (row r i e + rowGrad (row d i) (row s 0) (row g 0) (row x i) e) * row o i e
end

/-! ## A sum over the rows on top of a start -/

section
variable (z : (⟨2, ![1, 2048]⟩ : Shape).Idx → EReal) (f : Fin 2048 → Fin 8192 → EReal)

/-- A vector on top of a start, and the start with the first `n` rows. -/
def plus (v : (⟨2, ![1, 2048]⟩ : Shape).Idx → EReal) (k : (⟨2, ![1, 2048]⟩ : Shape).Idx) : EReal := z k + v k
def since (n : ℕ) (k : (⟨2, ![1, 2048]⟩ : Shape).Idx) : EReal := z k + upto (f (k 1)) n

theorem since_none : z = since z f (256 * 0) := funext fun k => ((congrArg (z k + ·) (upto_zero _)).trans (add_zero (z k))).symm

theorem since_step (t : ℕ) (ht : t < 32) (k : (⟨2, ![1, 2048]⟩ : Shape).Idx) :
    since z f (256 * t) k + ∑ r : Fin 256, f (k 1) ⟨256 * t + r.val, by omega⟩ = since z f (256 * (t + 1)) k := by
  unfold since
  rw [upto_tile _ _ ht, add_assoc]

theorem since_all : since z f 8192 = plus z (total f) := funext fun k => congrArg (z k + ·) (upto_all _)

theorem since_zero : since (fun _ => 0) f 8192 = total f := (since_all _ f).trans (funext fun k => zero_add (total f k))
end

/-! ## What one tile of rows gives, beside the sums that a call without a gate has too -/

section
variable (x d r : (⟨2, ![256, 2048]⟩ : Shape).Idx → EReal) (g s : (⟨2, ![1, 2048]⟩ : Shape).Idx → EReal)
  (o : (⟨2, ![256, 2048]⟩ : Shape).Idx → EReal) (p z : (⟨2, ![1, 2048]⟩ : Shape).Idx → EReal)

def tileDo (k : (⟨2, ![256, 2048]⟩ : Shape).Idx) : EReal := p (ix2 0 (k 1)) * tileDx x d r g s k
def tileGate (k : (⟨2, ![1, 2048]⟩ : Shape).Idx) : EReal :=
  z k + ∑ i, (row r i (k 1) + rowGrad (row d i) (row s 0) (row g 0) (row x i) (k 1)) * row o i (k 1)
end

/-! ## Places of rows -/

/-- A tile's place, from the number of its block. -/
theorem at_rows (n b0 b1 : ℕ) (k : (⟨2, ![256, 2048]⟩ : Shape).Idx) (e0 : b0 = n) (e1 : b1 = 0) :
    b0 * 256 + 1 * (k 0).val = 256 * n + (k 0).val ∧ b1 * 2048 + 1 * (k 1).val = (k 1).val := by
  omega

/-- The index of a place. -/
theorem at_place (n : ℕ) (hn : n < 32) (f : (⟨2, ![256, 2048]⟩ : Shape).Idx → (⟨2, ![8192, 2048]⟩ : Shape).Idx)
    (hf : ∀ k, (f k 0).val = 256 * n + (k 0).val ∧ (f k 1).val = (k 1).val) (k : (⟨2, ![256, 2048]⟩ : Shape).Idx) :
    ix2 (⟨256 * n + (k 0).val, by have : (k 0).val < 256 := (k 0).isLt; omega⟩ : Fin 8192) (k 1) = f k := by
  funext a
  refine Fin.ext ?_
  fin_cases a
  · exact (hf k).1.symm
  · exact (hf k).2.symm

/-- Every index has a place in some tile. -/
theorem has_place (i : (⟨2, ![8192, 2048]⟩ : Shape).Idx) : ∃ (n : ℕ) (_ : n < 32) (k : (⟨2, ![256, 2048]⟩ : Shape).Idx),
    ∀ j : (⟨2, ![8192, 2048]⟩ : Shape).Idx, (j 0).val = 256 * n + (k 0).val ∧ (j 1).val = (k 1).val → j = i := by
  have h0 : (i 0).val < 8192 := (i 0).isLt
  refine ⟨(i 0).val / 256, by omega, ix2 ⟨(i 0).val % 256, Nat.mod_lt _ (by decide)⟩ (i 1), fun j hj => funext fun a => Fin.ext ?_⟩
  fin_cases a
  · refine hj.1.trans ?_
    show 256 * ((i 0).val / 256) + (i 0).val % 256 = (i 0).val
    omega
  · exact hj.2

section
open Cert.NormGateBwdIdeal Cert.NormGateBwdIdeal.Gen

/-! ## What the body leaves -/

section
variable (c : Dev nD) (i : grid0.Coords)
  (a1 : Memref sig .tc .vmem S256x2048 .f32) (h1 : a1.IsWhole)
  (a2 : Memref sig .tc .vmem S256x2048 .f32) (h2 : a2.IsWhole)
  (a3 : Memref sig .tc .vmem S1x2048 .f32) (h3 : a3.IsWhole)
  (a4 : Memref sig .tc .vmem S1x2048 .f32) (h4 : a4.IsWhole)
  (a5 : Memref sig .tc .vmem S1x2048 .f32) (h5 : a5.IsWhole)
  (a6 : Memref sig .tc .vmem S256x2048 .f32) (h6 : a6.IsWhole)
  (a7 : Memref sig .tc .vmem S256x2048 .f32) (h7 : a7.IsWhole)
  (a8 : Memref sig .tc .vmem S1x2048 .f32) (h8 : a8.IsWhole)
  (a9 : Memref sig .tc .vmem S256x2048 .f32) (h9 : a9.IsWhole)
  (a10 : Memref sig .tc .vmem S256x2048 .bf16) (h10 : a10.IsWhole)
  (a11 : Memref sig .tc .vmem S1x2048 .f32) (h11 : a11.IsWhole)
  (a12 : Memref sig .tc .vmem S1x2048 .f32) (h12 : a12.IsWhole)
  (a13 : Memref sig .tc .vmem S1x2048 .f32) (h13 : a13.IsWhole)
  (a14 : Memref sig .tc .vmem S1x2048 .f32) (h14 : a14.IsWhole)
  (x0 x1 : FVec Ideal S256x2048 .f32) (x2 x3 x4 : FVec Ideal S1x2048 .f32) (x5 x6 : FVec Ideal S256x2048 .f32) (x7 : FVec Ideal S1x2048 .f32)
  (xo10 xo11 xo12 xo13 : FVec Ideal S1x2048 .f32)

set_option maxHeartbeats 4000000 in
/-- After the first point: each output from the blocks alone. -/
theorem first (hc : cond0_0 i) :
    (out0_A_8 (F := Ideal) c i a1 h1 a2 h2 a3 h3 a4 h4 a5 h5 a6 h6 a7 h7 a8 h8 a9 h9 a10 h10 a11 h11 a12 h12 a13 h13 a14 h14 hc x0 x1 x2 x3 x4 x5 x6 x7
      = tileDx x0 x1 x5 x2 x3)
    ∧ (out0_A_9 (F := Ideal) c i a1 h1 a2 h2 a3 h3 a4 h4 a5 h5 a6 h6 a7 h7 a8 h8 a9 h9 a10 h10 a11 h11 a12 h12 a13 h13 a14 h14 hc x0 x1 x2 x3 x4 x5 x6 x7
      = tileDo x0 x1 x5 x2 x3 x7)
    ∧ (out0_A_10 (F := Ideal) c i a1 h1 a2 h2 a3 h3 a4 h4 a5 h5 a6 h6 a7 h7 a8 h8 a9 h9 a10 h10 a11 h11 a12 h12 a13 h13 a14 h14 hc x0 x1 x2 x3 x4 x5 x6 x7
      = tileShift x1 (fun _ => 0))
    ∧ (out0_A_11 (F := Ideal) c i a1 h1 a2 h2 a3 h3 a4 h4 a5 h5 a6 h6 a7 h7 a8 h8 a9 h9 a10 h10 a11 h11 a12 h12 a13 h13 a14 h14 hc x0 x1 x2 x3 x4 x5 x6 x7
      = tileScale x0 x1 x2 (fun _ => 0))
    ∧ (out0_A_12 (F := Ideal) c i a1 h1 a2 h2 a3 h3 a4 h4 a5 h5 a6 h6 a7 h7 a8 h8 a9 h9 a10 h10 a11 h11 a12 h12 a13 h13 a14 h14 hc x0 x1 x2 x3 x4 x5 x6 x7
      = tileGain x0 x1 x3 x4)
    ∧ (out0_A_13 (F := Ideal) c i a1 h1 a2 h2 a3 h3 a4 h4 a5 h5 a6 h6 a7 h7 a8 h8 a9 h9 a10 h10 a11 h11 a12 h12 a13 h13 a14 h14 hc x0 x1 x2 x3 x4 x5 x6 x7
      = tileGate x0 x1 x5 x2 x3 x6 (fun _ => 0)) := by
  unfold out0_A_8 out0_A_9 out0_A_10 out0_A_11 out0_A_12 out0_A_13
  rw [View.read_writes_eq_canon _ _ _ (cover0_A_8 (F := Ideal) c i a1 h1 a2 h2 a3 h3 a4 h4 a5 h5 a6 h6 a7 h7 a8 h8 a9 h9 a10 h10 a11 h11 a12 h12 a13 h13 a14 h14 hc x0 x1 x2 x3 x4 x5 x6 x7),
    View.read_writes_eq_canon _ _ _ (cover0_A_9 (F := Ideal) c i a1 h1 a2 h2 a3 h3 a4 h4 a5 h5 a6 h6 a7 h7 a8 h8 a9 h9 a10 h10 a11 h11 a12 h12 a13 h13 a14 h14 hc x0 x1 x2 x3 x4 x5 x6 x7),
    View.read_writes_eq_canon _ _ _ (cover0_A_10 (F := Ideal) c i a1 h1 a2 h2 a3 h3 a4 h4 a5 h5 a6 h6 a7 h7 a8 h8 a9 h9 a10 h10 a11 h11 a12 h12 a13 h13 a14 h14 hc x0 x1 x2 x3 x4 x5 x6 x7),
    View.read_writes_eq_canon _ _ _ (cover0_A_11 (F := Ideal) c i a1 h1 a2 h2 a3 h3 a4 h4 a5 h5 a6 h6 a7 h7 a8 h8 a9 h9 a10 h10 a11 h11 a12 h12 a13 h13 a14 h14 hc x0 x1 x2 x3 x4 x5 x6 x7),
    View.read_writes_eq_canon _ _ _ (cover0_A_12 (F := Ideal) c i a1 h1 a2 h2 a3 h3 a4 h4 a5 h5 a6 h6 a7 h7 a8 h8 a9 h9 a10 h10 a11 h11 a12 h12 a13 h13 a14 h14 hc x0 x1 x2 x3 x4 x5 x6 x7),
    View.read_writes_eq_canon _ _ _ (cover0_A_13 (F := Ideal) c i a1 h1 a2 h2 a3 h3 a4 h4 a5 h5 a6 h6 a7 h7 a8 h8 a9 h9 a10 h10 a11 h11 a12 h12 a13 h13 a14 h14 hc x0 x1 x2 x3 x4 x5 x6 x7)]
  unfold kernelRun0_A
  dsimp only
  sl_unfold_words
  simp only [View.canon_unit_zero (S := S256x2048) hz, View.canon_cons_unit_zero (S := S1x2048) hz, View.readCov_unit_zero (S := S1x2048) _ hz, View.readAt_eq_ld,
    h1.read_unread, h2.read_unread, h3.read_unread, h4.read_unread, h5.read_unread, h6.read_unread, h7.read_unread, h8.read_unread,
    View.ld_unit_zero (S := S256x2048) hz, View.ld_unit_zero (S := S1x2048) hz]
  unfold tileDo tileGate tileDx tileShift tileScale tileGain rowGrad scaleGrad gainGrad scaleOf row
  refine ⟨funext fun k => ?_, funext fun k => ?_, funext fun k => ?_, funext fun k => ?_, funext fun k => ?_, funext fun k => ?_⟩
  all_goals
    rw [pair k]
    generalize k 0 = a
    generalize k 1 = e
    unfold_payloads
    pointwise

set_option maxHeartbeats 4000000 in
/-- After a later point: the rows' gradients from the blocks, the four sums from what the point before left. -/
theorem later (hc : ¬cond0_0 i) :
    (out0_B_8 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13
      = tileDx x0 x1 x5 x2 x3)
    ∧ (out0_B_9 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13
      = tileDo x0 x1 x5 x2 x3 x7)
    ∧ (out0_B_10 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13
      = tileShift x1 xo10)
    ∧ (out0_B_11 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13
      = tileScale x0 x1 x2 xo11)
    ∧ (out0_B_12 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13
      = tileGain x0 x1 x3 xo12)
    ∧ (out0_B_13 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13
      = tileGate x0 x1 x5 x2 x3 x6 xo13) := by
  unfold out0_B_8 out0_B_9 out0_B_10 out0_B_11 out0_B_12 out0_B_13
  rw [View.read_writes_eq_canon _ _ _ (cover0_B_8 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13),
    View.read_writes_eq_canon _ _ _ (cover0_B_9 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13),
    View.read_writes_eq_canon _ _ _ (cover0_B_10 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13),
    View.read_writes_eq_canon _ _ _ (cover0_B_11 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13),
    View.read_writes_eq_canon _ _ _ (cover0_B_12 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13),
    View.read_writes_eq_canon _ _ _ (cover0_B_13 (F := Ideal) c i a1 h1 a2 h2 a3 h3 a4 h4 a5 h5 a6 h6 a7 h7 a8 h8 a9 h9 a10 h10 a11 h11 a12 h12 a13 h13 a14 h14 hc x0 x1 x2 x3 x4 x5 x6 x7 xo10 xo11 xo12 xo13)]
  unfold kernelRun0_B
  dsimp only
  sl_unfold_words
  simp only [View.canon_unit_zero (S := S256x2048) hz, View.canon_unit_zero (S := S1x2048) hz, View.readAt_eq_ld,
    h1.read_unread, h2.read_unread, h3.read_unread, h4.read_unread, h5.read_unread, h6.read_unread, h7.read_unread, h8.read_unread, h11.read_unread, h12.read_unread, h13.read_unread, h14.read_unread,
    View.ld_unit_zero (S := S256x2048) hz, View.ld_unit_zero (S := S1x2048) hz]
  unfold tileDo tileGate tileDx tileShift tileScale tileGain rowGrad scaleGrad gainGrad scaleOf row
  refine ⟨funext fun k => ?_, funext fun k => ?_, funext fun k => ?_, funext fun k => ?_, funext fun k => ?_, funext fun k => ?_⟩
  all_goals
    rw [pair k]
    generalize k 0 = a
    generalize k 1 = e
    unfold_payloads
    pointwise
end

/-! ## The tiles -/

/-- Which block of rows a window names at a point. -/
theorem blocks (t : Fin cfg0.N) : (win0_0.index t (0 : Fin 2) = t.val ∧ win0_0.index t (1 : Fin 2) = 0)
    ∧ (win0_1.index t (0 : Fin 2) = t.val ∧ win0_1.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, (win0_0.index t (0 : Fin 2) = t.val ∧ win0_0.index t (1 : Fin 2) = 0)
    ∧ (win0_1.index t (0 : Fin 2) = t.val ∧ win0_1.index t (1 : Fin 2) = 0)
    ∧ (win0_5.index t (0 : Fin 2) = t.val ∧ win0_5.index t (1 : Fin 2) = 0)
    ∧ (win0_6.index t (0 : Fin 2) = t.val ∧ win0_6.index t (1 : Fin 2) = 0)
    ∧ (win0_8.index t (0 : Fin 2) = t.val ∧ win0_8.index t (1 : Fin 2) = 0)
    ∧ (win0_9.index t (0 : Fin 2) = t.val ∧ win0_9.index t (1 : Fin 2) = 0)) t

theorem below (t : Fin cfg0.N) : t.val < 32 := Nat.lt_of_lt_of_eq t.isLt N_0

theorem to_rows_0 (t : Fin cfg0.N) (k : S256x2048.Idx) :
    ((((cfg0.win 0).blk t).view.emb k) 0).val = 256 * t.val + (k 0).val ∧ ((((cfg0.win 0).blk t).view.emb k) 1).val = (k 1).val := by
  obtain ⟨⟨e0, e1⟩, -⟩ := blocks t
  exact at_rows t.val _ _ k e0 e1

theorem to_rows_1 (t : Fin cfg0.N) (k : S256x2048.Idx) :
    ((((cfg0.win 1).blk t).view.emb k) 0).val = 256 * t.val + (k 0).val ∧ ((((cfg0.win 1).blk t).view.emb k) 1).val = (k 1).val := by
  obtain ⟨-, ⟨e0, e1⟩, -⟩ := blocks t
  exact at_rows t.val _ _ k e0 e1

theorem to_rows_5 (t : Fin cfg0.N) (k : S256x2048.Idx) :
    ((((cfg0.win 5).blk t).view.emb k) 0).val = 256 * t.val + (k 0).val ∧ ((((cfg0.win 5).blk t).view.emb k) 1).val = (k 1).val := by
  obtain ⟨-, -, ⟨e0, e1⟩, -⟩ := blocks t
  exact at_rows t.val _ _ k e0 e1

theorem to_rows_6 (t : Fin cfg0.N) (k : S256x2048.Idx) :
    ((((cfg0.win 6).blk t).view.emb k) 0).val = 256 * t.val + (k 0).val ∧ ((((cfg0.win 6).blk t).view.emb k) 1).val = (k 1).val := by
  obtain ⟨-, -, -, ⟨e0, e1⟩, -⟩ := blocks t
  exact at_rows t.val _ _ k e0 e1

theorem to_rows_8 (t : Fin cfg0.N) (k : S256x2048.Idx) :
    ((((cfg0.win 8).blk t).view.emb k) 0).val = 256 * t.val + (k 0).val ∧ ((((cfg0.win 8).blk t).view.emb k) 1).val = (k 1).val := by
  obtain ⟨-, -, -, -, ⟨e0, e1⟩, -⟩ := blocks t
  exact at_rows t.val _ _ k e0 e1

theorem to_rows_9 (t : Fin cfg0.N) (k : S256x2048.Idx) :
    ((((cfg0.win 9).blk t).view.emb k) 0).val = 256 * t.val + (k 0).val ∧ ((((cfg0.win 9).blk t).view.emb k) 1).val = (k 1).val := by
  obtain ⟨-, -, -, -, -, e0, e1⟩ := blocks t
  exact at_rows t.val _ _ k e0 e1

/-- The vectors are staged whole. -/
theorem whole_2 (t : Fin cfg0.N) (k : S1x2048.Idx) : ((cfg0.win 2).blk t).view.emb k = k := by
  funext a
  refine Fin.ext ?_
  fin_cases a
  · show 0 * 1 + 1 * (k 0).val = (k 0).val
    omega
  · show 0 * 2048 + 1 * (k 1).val = (k 1).val
    omega

theorem whole_3 (t : Fin cfg0.N) (k : S1x2048.Idx) : ((cfg0.win 3).blk t).view.emb k = k := whole_2 t k
theorem whole_4 (t : Fin cfg0.N) (k : S1x2048.Idx) : ((cfg0.win 4).blk t).view.emb k = k := whole_2 t k
theorem whole_7 (t : Fin cfg0.N) (k : S1x2048.Idx) : ((cfg0.win 7).blk t).view.emb k = k := whole_2 t k
theorem whole_10 (t : Fin cfg0.N) (k : S1x2048.Idx) : ((cfg0.win 10).blk t).view.emb k = k := whole_2 t k
theorem whole_11 (t : Fin cfg0.N) (k : S1x2048.Idx) : ((cfg0.win 11).blk t).view.emb k = k := whole_2 t k
theorem whole_12 (t : Fin cfg0.N) (k : S1x2048.Idx) : ((cfg0.win 12).blk t).view.emb k = k := whole_2 t k
theorem whole_13 (t : Fin cfg0.N) (k : S1x2048.Idx) : ((cfg0.win 13).blk t).view.emb k = k := whole_2 t k

section
variable (m : (ℓ : Loc nD τ sig) → Buf (Elt Ideal) ℓ) (c : Dev nD)

theorem in_row (t : Fin cfg0.N) (r : Fin 256) :
    row (iblk m c 0 t) r = row (V m c main_arg0) (⟨256 * t.val + r.val, by have := below t; omega⟩ : Fin 8192) :=
  rows_of (V m c main_arg0) ((cfg0.win 0).blk t).view.emb t.val (below t) (to_rows_0 t) r

theorem cot_row (t : Fin cfg0.N) (r : Fin 256) :
    row (iblk m c 1 t) r = row (V m c main_arg1) (⟨256 * t.val + r.val, by have := below t; omega⟩ : Fin 8192) :=
  rows_of (V m c main_arg1) ((cfg0.win 1).blk t).view.emb t.val (below t) (to_rows_1 t) r

theorem rest_row (t : Fin cfg0.N) (r : Fin 256) :
    row (iblk m c 5 t) r = row (V m c main_arg5) (⟨256 * t.val + r.val, by have := below t; omega⟩ : Fin 8192) :=
  rows_of (V m c main_arg5) ((cfg0.win 5).blk t).view.emb t.val (below t) (to_rows_5 t) r

theorem out_row (t : Fin cfg0.N) (r : Fin 256) :
    row (iblk m c 6 t) r = row (V m c main_arg6) (⟨256 * t.val + r.val, by have := below t; omega⟩ : Fin 8192) :=
  rows_of (V m c main_arg6) ((cfg0.win 6).blk t).view.emb t.val (below t) (to_rows_6 t) r

theorem gain_vec (t : Fin cfg0.N) : iblk m c 2 t = V m c main_arg2 := funext fun k => congrArg (V m c main_arg2) (whole_2 t k)
theorem scale_vec (t : Fin cfg0.N) : iblk m c 3 t = V m c main_arg3 := funext fun k => congrArg (V m c main_arg3) (whole_3 t k)
theorem start_vec (t : Fin cfg0.N) : iblk m c 4 t = V m c main_arg4 := funext fun k => congrArg (V m c main_arg4) (whole_4 t k)
theorem gate_vec (t : Fin cfg0.N) : iblk m c 7 t = V m c main_arg7 := funext fun k => congrArg (V m c main_arg7) (whole_7 t k)

/-! ## The sums so far -/

theorem shift_step (t : Fin cfg0.N) : tileShift (iblk m c 1 t) (since (fun _ => 0) (shiftRow (V m c main_arg1)) (256 * t.val))
    = since (fun _ => 0) (shiftRow (V m c main_arg1)) (256 * (t.val + 1)) := by
  funext k
  refine (congrArg (HAdd.hAdd _) (Finset.sum_congr rfl fun r _ => ?_)).trans (since_step _ (shiftRow (V m c main_arg1)) t.val (below t) k)
  rw [cot_row]
  rfl

theorem scale_step (t : Fin cfg0.N) : tileScale (iblk m c 0 t) (iblk m c 1 t) (iblk m c 2 t) (since (fun _ => 0) (scaleRow (V m c main_arg0) (V m c main_arg1) (V m c main_arg2)) (256 * t.val))
    = since (fun _ => 0) (scaleRow (V m c main_arg0) (V m c main_arg1) (V m c main_arg2)) (256 * (t.val + 1)) := by
  funext k
  refine (congrArg (HAdd.hAdd _) (Finset.sum_congr rfl fun r _ => ?_)).trans (since_step _ (scaleRow (V m c main_arg0) (V m c main_arg1) (V m c main_arg2)) t.val (below t) k)
  rw [in_row, cot_row, gain_vec]
  rfl

theorem gain_step (t : Fin cfg0.N) : tileGain (iblk m c 0 t) (iblk m c 1 t) (iblk m c 3 t) (since (V m c main_arg4) (gainRow (V m c main_arg0) (V m c main_arg1) (V m c main_arg3)) (256 * t.val))
    = since (V m c main_arg4) (gainRow (V m c main_arg0) (V m c main_arg1) (V m c main_arg3)) (256 * (t.val + 1)) := by
  funext k
  refine (congrArg (HAdd.hAdd _) (Finset.sum_congr rfl fun r _ => ?_)).trans (since_step _ (gainRow (V m c main_arg0) (V m c main_arg1) (V m c main_arg3)) t.val (below t) k)
  rw [in_row, cot_row, scale_vec]
  rfl

theorem gate_step (t : Fin cfg0.N) : tileGate (iblk m c 0 t) (iblk m c 1 t) (iblk m c 5 t) (iblk m c 2 t) (iblk m c 3 t) (iblk m c 6 t) (since (fun _ => 0) (gateRow (V m c main_arg0) (V m c main_arg1) (V m c main_arg5) (V m c main_arg2) (V m c main_arg3) (V m c main_arg6)) (256 * t.val))
    = since (fun _ => 0) (gateRow (V m c main_arg0) (V m c main_arg1) (V m c main_arg5) (V m c main_arg2) (V m c main_arg3) (V m c main_arg6)) (256 * (t.val + 1)) := by
  funext k
  refine (congrArg (HAdd.hAdd _) (Finset.sum_congr rfl fun r _ => ?_)).trans (since_step _ (gateRow (V m c main_arg0) (V m c main_arg1) (V m c main_arg5) (V m c main_arg2) (V m c main_arg3) (V m c main_arg6)) t.val (below t) k)
  rw [in_row, cot_row, rest_row, out_row, gain_vec, scale_vec]
  rfl

/-- The first point, and a later one over what the point before left. -/
theorem at_first (t : Fin cfg0.N) (h0 : t.val % 32 = 0) :
    outsAt0 m c t.val t.isLt = (tileDx (iblk m c 0 t) (iblk m c 1 t) (iblk m c 5 t) (iblk m c 2 t) (iblk m c 3 t),
      tileDo (iblk m c 0 t) (iblk m c 1 t) (iblk m c 5 t) (iblk m c 2 t) (iblk m c 3 t) (iblk m c 7 t),
      tileShift (iblk m c 1 t) (fun _ => 0),
      tileScale (iblk m c 0 t) (iblk m c 1 t) (iblk m c 2 t) (fun _ => 0),
      tileGain (iblk m c 0 t) (iblk m c 1 t) (iblk m c 3 t) (iblk m c 4 t),
      tileGate (iblk m c 0 t) (iblk m c 1 t) (iblk m c 5 t) (iblk m c 2 t) (iblk m c 3 t) (iblk m c 6 t) (fun _ => 0)) := by
  rw [outsAt0_A m c t h0]
  obtain ⟨s8, s9, s10, s11, s12, s13⟩ := first c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t) ((hcond0_0 t).mpr h0)
  rw [s8, s9, s10, s11, s12, s13]

theorem at_later (t : Fin cfg0.N) (h0 : ¬t.val % 32 = 0) (o : FVec Ideal S256x2048 .f32 × FVec Ideal S256x2048 .bf16 × FVec Ideal S1x2048 .f32 × FVec Ideal S1x2048 .f32 × FVec Ideal S1x2048 .f32 × FVec Ideal S1x2048 .f32)
    (ho : outsAt0 m c (t.val - 1) (Nat.lt_of_le_of_lt (Nat.sub_le _ _) t.isLt) = o) :
    outsAt0 m c t.val t.isLt = (tileDx (iblk m c 0 t) (iblk m c 1 t) (iblk m c 5 t) (iblk m c 2 t) (iblk m c 3 t),
      tileDo (iblk m c 0 t) (iblk m c 1 t) (iblk m c 5 t) (iblk m c 2 t) (iblk m c 3 t) (iblk m c 7 t),
      tileShift (iblk m c 1 t) o.2.2.1,
      tileScale (iblk m c 0 t) (iblk m c 1 t) (iblk m c 2 t) o.2.2.2.1,
      tileGain (iblk m c 0 t) (iblk m c 1 t) (iblk m c 3 t) o.2.2.2.2.1,
      tileGate (iblk m c 0 t) (iblk m c 1 t) (iblk m c 5 t) (iblk m c 2 t) (iblk m c 3 t) (iblk m c 6 t) o.2.2.2.2.2) := by
  rw [outsAt0_B m c t h0, ho]
  obtain ⟨s8, s9, s10, s11, s12, s13⟩ := later c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t)
    (iblk m c 0 t) (iblk m c 1 t) (iblk m c 2 t) (iblk m c 3 t) (iblk m c 4 t) (iblk m c 5 t) (iblk m c 6 t) (iblk m c 7 t) o.2.2.1 o.2.2.2.1 o.2.2.2.2.1 o.2.2.2.2.2 (fun h => h0 ((hcond0_0 t).mp h))
  rw [s8, s9, s10, s11, s12, s13]

/-- What the outputs hold after a point. -/
def held (t : Fin cfg0.N) : FVec Ideal S256x2048 .f32 × FVec Ideal S256x2048 .bf16 × FVec Ideal S1x2048 .f32 × FVec Ideal S1x2048 .f32 × FVec Ideal S1x2048 .f32 × FVec Ideal S1x2048 .f32 :=
  (tileDx (iblk m c 0 t) (iblk m c 1 t) (iblk m c 5 t) (iblk m c 2 t) (iblk m c 3 t),
    tileDo (iblk m c 0 t) (iblk m c 1 t) (iblk m c 5 t) (iblk m c 2 t) (iblk m c 3 t) (iblk m c 7 t),
    since (fun _ => 0) (shiftRow (V m c main_arg1)) (256 * (t.val + 1)),
    since (fun _ => 0) (scaleRow (V m c main_arg0) (V m c main_arg1) (V m c main_arg2)) (256 * (t.val + 1)),
    since (V m c main_arg4) (gainRow (V m c main_arg0) (V m c main_arg1) (V m c main_arg3)) (256 * (t.val + 1)),
    since (fun _ => 0) (gateRow (V m c main_arg0) (V m c main_arg1) (V m c main_arg5) (V m c main_arg2) (V m c main_arg3) (V m c main_arg6)) (256 * (t.val + 1)))

theorem after_point (n : ℕ) : ∀ h : n < cfg0.N, outsAt0 m c n h = held m c ⟨n, h⟩ := by
  induction n with
  | zero =>
    intro h
    refine (at_first m c ⟨0, h⟩ rfl).trans ?_
    exact congrArg (Prod.mk _) (congrArg (Prod.mk _) (congrArg₂ Prod.mk ((congrArg (tileShift _) ((since_none _ _))).trans (shift_step m c ⟨0, h⟩)) ((congrArg₂ Prod.mk ((congrArg (tileScale _ _ _) ((since_none _ _))).trans (scale_step m c ⟨0, h⟩)) ((congrArg₂ Prod.mk ((congrArg (tileGain _ _ _) ((start_vec m c _).trans (since_none _ _))).trans (gain_step m c ⟨0, h⟩)) ((congrArg (tileGate _ _ _ _ _ _) ((since_none _ _))).trans (gate_step m c ⟨0, h⟩))))))))
  | succ n ih =>
    intro h
    have hn : ¬(⟨n + 1, h⟩ : Fin cfg0.N).val % 32 = 0 := by
      have := below ⟨n + 1, h⟩
      dsimp only at this ⊢
      omega
    refine (at_later m c ⟨n + 1, h⟩ hn (held m c ⟨n, Nat.lt_of_succ_lt h⟩) (ih _)).trans ?_
    exact congrArg (Prod.mk _) (congrArg (Prod.mk _) (congrArg₂ Prod.mk (shift_step m c ⟨n + 1, h⟩) ((congrArg₂ Prod.mk (scale_step m c ⟨n + 1, h⟩) ((congrArg₂ Prod.mk (gain_step m c ⟨n + 1, h⟩) (gate_step m c ⟨n + 1, h⟩)))))))

/-! ## The arrays at the end -/

/-- A tile's gradients are the arrays' at its rows. -/
theorem dx_at (t : Fin cfg0.N) (r : Fin 256) (e : Fin 2048) : tileDx (iblk m c 0 t) (iblk m c 1 t) (iblk m c 5 t) (iblk m c 2 t) (iblk m c 3 t) (ix2 r e)
    = dx (V m c main_arg0) (V m c main_arg1) (V m c main_arg5) (V m c main_arg2) (V m c main_arg3) (ix2 (⟨256 * t.val + r.val, by have := below t; omega⟩ : Fin 8192) e) := by
  show row (iblk m c 5 t) r e + rowGrad (row (iblk m c 1 t) r) (row (iblk m c 3 t) 0) (row (iblk m c 2 t) 0) (row (iblk m c 0 t) r) e
    = row (V m c main_arg5) ⟨256 * t.val + r.val, _⟩ e + rowGrad (row (V m c main_arg1) ⟨256 * t.val + r.val, _⟩) (row (V m c main_arg3) 0) (row (V m c main_arg2) 0) (row (V m c main_arg0) ⟨256 * t.val + r.val, _⟩) e
  rw [rest_row, cot_row, in_row, gain_vec, scale_vec]

theorem do_at (t : Fin cfg0.N) (r : Fin 256) (e : Fin 2048) : tileDo (iblk m c 0 t) (iblk m c 1 t) (iblk m c 5 t) (iblk m c 2 t) (iblk m c 3 t) (iblk m c 7 t) (ix2 r e)
    = dout (V m c main_arg0) (V m c main_arg1) (V m c main_arg5) (V m c main_arg2) (V m c main_arg3) (V m c main_arg7) (ix2 (⟨256 * t.val + r.val, by have := below t; omega⟩ : Fin 8192) e) :=
  congrArg₂ (HMul.hMul (α := EReal) (β := EReal)) (congrFun (gate_vec m c t) (ix2 0 e)) (dx_at m c t r e)

theorem dx_end : (dats m 0 c).arrAt 8 cfg0.N = dx (V m c main_arg0) (V m c main_arg1) (V m c main_arg5) (V m c main_arg2) (V m c main_arg3) :=
  (dats m 0 c).arrAt_eq_of_cover 8 _ (fun t _ => by
      show (cfg0.win 8).cut (grid0.coords t) ((dats m 0 c).after 8 t) = _
      rw [after0_8, after_point m c t.val t.isLt]
      funext j
      show tileDx (iblk m c 0 t) (iblk m c 1 t) (iblk m c 5 t) (iblk m c 2 t) (iblk m c 3 t) j = dx (V m c main_arg0) (V m c main_arg1) (V m c main_arg5) (V m c main_arg2) (V m c main_arg3) (((cfg0.win 8).blk t).view.emb j)
      exact (congrArg (tileDx (iblk m c 0 t) (iblk m c 1 t) (iblk m c 5 t) (iblk m c 2 t) (iblk m c 3 t)) (pair j)).trans ((dx_at m c t (j 0) (j 1)).trans
        (congrArg (dx (V m c main_arg0) (V m c main_arg1) (V m c main_arg5) (V m c main_arg2) (V m c main_arg3)) (at_place t.val (below t) ((cfg0.win 8).blk t).view.emb (to_rows_8 t) j))))
    (fun i => by
      obtain ⟨n, hn, k, hk⟩ := has_place i
      have ht : n < cfg0.N := show n < 32 from hn
      refine ⟨⟨n, ht⟩, flush0_8 _, (congrArg (· ∈ ((cfg0.win 8).blk ⟨n, ht⟩).view.set) ?_).mp (((cfg0.win 8).blk ⟨n, ht⟩).view.emb_mem_set k)⟩
      exact hk _ (to_rows_8 ⟨n, ht⟩ k))

theorem do_end : (dats m 0 c).arrAt 9 cfg0.N = dout (V m c main_arg0) (V m c main_arg1) (V m c main_arg5) (V m c main_arg2) (V m c main_arg3) (V m c main_arg7) :=
  (dats m 0 c).arrAt_eq_of_cover 9 _ (fun t _ => by
      show (cfg0.win 9).cut (grid0.coords t) ((dats m 0 c).after 9 t) = _
      rw [after0_9, after_point m c t.val t.isLt]
      funext j
      show tileDo (iblk m c 0 t) (iblk m c 1 t) (iblk m c 5 t) (iblk m c 2 t) (iblk m c 3 t) (iblk m c 7 t) j = dout (V m c main_arg0) (V m c main_arg1) (V m c main_arg5) (V m c main_arg2) (V m c main_arg3) (V m c main_arg7) (((cfg0.win 9).blk t).view.emb j)
      exact (congrArg (tileDo (iblk m c 0 t) (iblk m c 1 t) (iblk m c 5 t) (iblk m c 2 t) (iblk m c 3 t) (iblk m c 7 t)) (pair j)).trans ((do_at m c t (j 0) (j 1)).trans
        (congrArg (dout (V m c main_arg0) (V m c main_arg1) (V m c main_arg5) (V m c main_arg2) (V m c main_arg3) (V m c main_arg7)) (at_place t.val (below t) ((cfg0.win 9).blk t).view.emb (to_rows_9 t) j))))
    (fun i => by
      obtain ⟨n, hn, k, hk⟩ := has_place i
      have ht : n < cfg0.N := show n < 32 from hn
      refine ⟨⟨n, ht⟩, flush0_9 _, (congrArg (· ∈ ((cfg0.win 9).blk ⟨n, ht⟩).view.set) ?_).mp (((cfg0.win 9).blk ⟨n, ht⟩).view.emb_mem_set k)⟩
      exact hk _ (to_rows_9 ⟨n, ht⟩ k))

/-- The last point writes the sums back, whole. -/
theorem last (t : Fin cfg0.N) (h : t.val % 32 = 31) : 256 * (t.val + 1) = 8192 := by
  have := below t
  omega

theorem last_point : (31 : ℕ) < cfg0.N := show 31 < 32 by omega

theorem keeps_10 (t : Fin cfg0.N) (v : S1x2048.Idx → EReal) : (cfg0.win 10).cut (grid0.coords t) v = ((cfg0.win 10).blk t).view.read (Elt Ideal) v :=
  funext fun k => (congrArg v (whole_10 t k)).symm

theorem shift_end : (dats m 0 c).arrAt 10 cfg0.N = total (shiftRow (V m c main_arg1)) :=
  (dats m 0 c).arrAt_eq_of_cover 10 _ (fun t hf => by
      have e : (dats m 0 c).after 10 t = since (fun _ => 0) (shiftRow (V m c main_arg1)) (256 * (t.val + 1)) :=
        (after0_10 m c t).trans (congrArg (fun o => o.2.2.1) (after_point m c t.val t.isLt))
      rw [last t ((flush0_10 t).mp hf), since_zero] at e
      exact (congrArg ((cfg0.win 10).cut (grid0.coords t)) e).trans (keeps_10 t _))
    (fun i => ⟨⟨31, last_point⟩, (flush0_10 _).mpr rfl,
      (congrArg (· ∈ ((cfg0.win 10).blk ⟨31, last_point⟩).view.set) (whole_10 _ i)).mp (((cfg0.win 10).blk ⟨31, last_point⟩).view.emb_mem_set i)⟩)

theorem keeps_11 (t : Fin cfg0.N) (v : S1x2048.Idx → EReal) : (cfg0.win 11).cut (grid0.coords t) v = ((cfg0.win 11).blk t).view.read (Elt Ideal) v :=
  funext fun k => (congrArg v (whole_11 t k)).symm

theorem scale_end : (dats m 0 c).arrAt 11 cfg0.N = total (scaleRow (V m c main_arg0) (V m c main_arg1) (V m c main_arg2)) :=
  (dats m 0 c).arrAt_eq_of_cover 11 _ (fun t hf => by
      have e : (dats m 0 c).after 11 t = since (fun _ => 0) (scaleRow (V m c main_arg0) (V m c main_arg1) (V m c main_arg2)) (256 * (t.val + 1)) :=
        (after0_11 m c t).trans (congrArg (fun o => o.2.2.2.1) (after_point m c t.val t.isLt))
      rw [last t ((flush0_11 t).mp hf), since_zero] at e
      exact (congrArg ((cfg0.win 11).cut (grid0.coords t)) e).trans (keeps_11 t _))
    (fun i => ⟨⟨31, last_point⟩, (flush0_11 _).mpr rfl,
      (congrArg (· ∈ ((cfg0.win 11).blk ⟨31, last_point⟩).view.set) (whole_11 _ i)).mp (((cfg0.win 11).blk ⟨31, last_point⟩).view.emb_mem_set i)⟩)

theorem keeps_12 (t : Fin cfg0.N) (v : S1x2048.Idx → EReal) : (cfg0.win 12).cut (grid0.coords t) v = ((cfg0.win 12).blk t).view.read (Elt Ideal) v :=
  funext fun k => (congrArg v (whole_12 t k)).symm

theorem gain_end : (dats m 0 c).arrAt 12 cfg0.N = plus (V m c main_arg4) (total (gainRow (V m c main_arg0) (V m c main_arg1) (V m c main_arg3))) :=
  (dats m 0 c).arrAt_eq_of_cover 12 _ (fun t hf => by
      have e : (dats m 0 c).after 12 t = since (V m c main_arg4) (gainRow (V m c main_arg0) (V m c main_arg1) (V m c main_arg3)) (256 * (t.val + 1)) :=
        (after0_12 m c t).trans (congrArg (fun o => o.2.2.2.2.1) (after_point m c t.val t.isLt))
      rw [last t ((flush0_12 t).mp hf), since_all] at e
      exact (congrArg ((cfg0.win 12).cut (grid0.coords t)) e).trans (keeps_12 t _))
    (fun i => ⟨⟨31, last_point⟩, (flush0_12 _).mpr rfl,
      (congrArg (· ∈ ((cfg0.win 12).blk ⟨31, last_point⟩).view.set) (whole_12 _ i)).mp (((cfg0.win 12).blk ⟨31, last_point⟩).view.emb_mem_set i)⟩)

theorem keeps_13 (t : Fin cfg0.N) (v : S1x2048.Idx → EReal) : (cfg0.win 13).cut (grid0.coords t) v = ((cfg0.win 13).blk t).view.read (Elt Ideal) v :=
  funext fun k => (congrArg v (whole_13 t k)).symm

theorem gate_end : (dats m 0 c).arrAt 13 cfg0.N = total (gateRow (V m c main_arg0) (V m c main_arg1) (V m c main_arg5) (V m c main_arg2) (V m c main_arg3) (V m c main_arg6)) :=
  (dats m 0 c).arrAt_eq_of_cover 13 _ (fun t hf => by
      have e : (dats m 0 c).after 13 t = since (fun _ => 0) (gateRow (V m c main_arg0) (V m c main_arg1) (V m c main_arg5) (V m c main_arg2) (V m c main_arg3) (V m c main_arg6)) (256 * (t.val + 1)) :=
        (after0_13 m c t).trans (congrArg (fun o => o.2.2.2.2.2) (after_point m c t.val t.isLt))
      rw [last t ((flush0_13 t).mp hf), since_zero] at e
      exact (congrArg ((cfg0.win 13).cut (grid0.coords t)) e).trans (keeps_13 t _))
    (fun i => ⟨⟨31, last_point⟩, (flush0_13 _).mpr rfl,
      (congrArg (· ∈ ((cfg0.win 13).blk ⟨31, last_point⟩).view.set) (whole_13 _ i)).mp (((cfg0.win 13).blk ⟨31, last_point⟩).view.emb_mem_set i)⟩)
end

theorem kernel_run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v0_0) = dx (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg3))
      ∧ r.2.mem ((c.tc : Thread nD τ).loc main_v0_1) = dout (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg3)) (m ((c.tc : Thread nD τ).loc main_arg7))
      ∧ r.2.mem ((c.tc : Thread nD τ).loc main_v0_2) = total (shiftRow (m ((c.tc : Thread nD τ).loc main_arg1)))
      ∧ r.2.mem ((c.tc : Thread nD τ).loc main_v0_3) = total (scaleRow (m ((c.tc : Thread nD τ).loc main_arg0)) (m ((c.tc : Thread nD τ).loc main_arg1)) (m ((c.tc : Thread nD τ).loc main_arg2)))
      ∧ r.2.mem ((c.tc : Thread nD τ).loc main_v0_4) = plus (m ((c.tc : Thread nD τ).loc main_arg4)) (total (gainRow (m ((c.tc : Thread nD τ).loc main_arg0)) (m ((c.tc : Thread nD τ).loc main_arg1)) (m ((c.tc : Thread nD τ).loc main_arg3))))
      ∧ r.2.mem ((c.tc : Thread nD τ).loc main_v0_5) = total (gateRow (m ((c.tc : Thread nD τ).loc main_arg0)) (m ((c.tc : Thread nD τ).loc main_arg1)) (m ((c.tc : Thread nD τ).loc main_arg5)) (m ((c.tc : Thread nD τ).loc main_arg2)) (m ((c.tc : Thread nD τ).loc main_arg3)) (m ((c.tc : Thread nD τ).loc main_arg6)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  (θ_run defs _ _).mono (fun r h c => ⟨((h c).1 8).trans (dx_end m c),
    ((h c).1 9).trans (do_end m c),
    ((h c).1 10).trans (shift_end m c),
    ((h c).1 11).trans (scale_end m c),
    ((h c).1 12).trans (gain_end m c),
    ((h c).1 13).trans (gate_end m c),
    ((h c).1 0).trans ((dats m 0 c).arrAt_in 0 rfl _),
    ((h c).1 1).trans ((dats m 0 c).arrAt_in 1 rfl _),
    ((h c).1 2).trans ((dats m 0 c).arrAt_in 2 rfl _),
    ((h c).1 3).trans ((dats m 0 c).arrAt_in 3 rfl _),
    ((h c).1 4).trans ((dats m 0 c).arrAt_in 4 rfl _),
    ((h c).1 5).trans ((dats m 0 c).arrAt_in 5 rfl _),
    ((h c).1 6).trans ((dats m 0 c).arrAt_in 6 rfl _),
    ((h c).1 7).trans ((dats m 0 c).arrAt_in 7 rfl _)⟩) (run_main m ρ)

end

/-! ## The reference -/

section
open Cert.NormGateBwdRefIdeal Cert.NormGateBwdRefIdeal.Gen
open Cert.NormBwdClaims (rowScale normed row_scale normed_at)

variable (x d r o : FVec Ideal S8192x2048 .f32) (g s z p : FVec Ideal S1x2048 .f32)

/-- The reference's cotangent times one plus the scale, and its gradient. -/
def scaled : FVec Ideal S8192x2048 .f32 :=
  mulf d (broadcastInDim S8192x2048 ![0, 1] bcast_S1x2048_S8192x2048_0_1 (addf (broadcastInDim S1x2048 ![] bcast_S_S1x2048 (constant S_ .f32 0x3F800000#32)) s))
def grad : FVec Ideal S8192x2048 .f32 :=
  addf r (mulf (broadcastInDim S8192x2048 ![0, 1] bcast_S8192x1_S8192x2048_0_1 (rowScale x)) (subf (mulf (scaled d s) (broadcastInDim S8192x2048 ![0, 1] bcast_S1x2048_S8192x2048_0_1 g)) (mulf (normed x) (broadcastInDim S8192x2048 ![0, 1] bcast_S8192x1_S8192x2048_0_1 (Host.divf (broadcastInDim S8192x1 ![0] bcast_S8192_S8192x1_0 (Host.reduceAdd (mulf (mulf (scaled d s) (broadcastInDim S8192x2048 ![0, 1] bcast_S1x2048_S8192x2048_0_1 g)) (normed x)) (constant S_ .f32 0x00000000#32) reducesTo_S8192x2048_S8192_d1 h_S_)) (broadcastInDim S8192x1 ![] bcast_S_S8192x1 (constant S_ .f32 0x45000000#32)))))))

theorem scaled_at (a : Fin 8192) (e : Fin 2048) : scaled d s (ix2 a e) = row d a e * (1 + row s 0 e) := by
  unfold scaled row
  pointwise

theorem grad_at (a : Fin 8192) (e : Fin 2048) : grad x d r g s (ix2 a e) = row r a e + rowGrad (row d a) (row s 0) (row g 0) (row x a) e := by
  unfold grad rowGrad
  pointwise
  simp only [row_scale, normed_at, scaled_at]
  rfl

theorem host_dx : grad x d r g s = dx x d r g s := by
  funext k
  obtain ⟨a, e, rfl⟩ : ∃ (a : Fin 8192) (e : Fin 2048), k = ix2 a e := ⟨k 0, k 1, pair k⟩
  exact grad_at x d r g s a e

theorem host_do : truncf .bf16 (mulf (broadcastInDim S8192x2048 ![0, 1] bcast_S1x2048_S8192x2048_0_1 p) (grad x d r g s)) bitsLt_bf16_f32 = dout x d r g s p := by
  funext k
  obtain ⟨a, e, rfl⟩ : ∃ (a : Fin 8192) (e : Fin 2048), k = ix2 a e := ⟨k 0, k 1, pair k⟩
  show _ = p (ix2 0 e) * (row r a e + rowGrad (row d a) (row s 0) (row g 0) (row x a) e)
  pointwise
  simp only [grad_at]

theorem host_shift : broadcastInDim S1x2048 ![1] bcast_S2048_S1x2048_1 (Host.reduceAdd d (constant S_ .f32 0x00000000#32) reducesTo_S8192x2048_S2048_d0 h_S_)
    = total (shiftRow d) := by
  funext k
  obtain ⟨a, e, rfl⟩ : ∃ (a : Fin 1) (e : Fin 2048), k = ix2 a e := ⟨k 0, k 1, pair k⟩
  show _ = ∑ i, d (ix2 i e)
  pointwise

theorem host_scale : broadcastInDim S1x2048 ![1] bcast_S2048_S1x2048_1 (Host.reduceAdd (mulf d (mulf (normed x) (broadcastInDim S8192x2048 ![0, 1] bcast_S1x2048_S8192x2048_0_1 g))) (constant S_ .f32 0x00000000#32) reducesTo_S8192x2048_S2048_d0 h_S_)
    = total (scaleRow x d g) := by
  funext k
  obtain ⟨a, e, rfl⟩ : ∃ (a : Fin 1) (e : Fin 2048), k = ix2 a e := ⟨k 0, k 1, pair k⟩
  show _ = ∑ i, row d i e * (row x i e * scaleOf (row x i) * row g 0 e)
  pointwise
  simp only [normed_at]
  rfl

theorem host_gain : addf z (broadcastInDim S1x2048 ![1] bcast_S2048_S1x2048_1 (Host.reduceAdd (mulf (scaled d s) (normed x)) (constant S_ .f32 0x00000000#32) reducesTo_S8192x2048_S2048_d0 h_S_))
    = plus z (total (gainRow x d s)) := by
  funext k
  obtain ⟨a, e, rfl⟩ : ∃ (a : Fin 1) (e : Fin 2048), k = ix2 a e := ⟨k 0, k 1, pair k⟩
  show _ = z (ix2 a e) + ∑ i, row d i e * (1 + row s 0 e) * (row x i e * scaleOf (row x i))
  pointwise
  simp only [normed_at, scaled_at]

theorem host_gate : broadcastInDim S1x2048 ![1] bcast_S2048_S1x2048_1 (Host.reduceAdd (mulf (grad x d r g s) o) (constant S_ .f32 0x00000000#32) reducesTo_S8192x2048_S2048_d0 h_S_)
    = total (gateRow x d r g s o) := by
  funext k
  obtain ⟨a, e, rfl⟩ : ∃ (a : Fin 1) (e : Fin 2048), k = ix2 a e := ⟨k 0, k 1, pair k⟩
  show _ = ∑ i, (row r i e + rowGrad (row d i) (row s 0) (row g 0) (row x i) e) * row o i e
  pointwise
  simp only [grad_at]
  rfl
end

theorem frame_kernel : Cert.quiescent_NormGateBwd := fun m g _ => Cert.NormGateBwd.Gen.frame (F := Bits) m g

theorem frame_ideal : Cert.quiescent_NormGateBwdIdeal := fun m g _ => Cert.NormGateBwdIdeal.Gen.frame (F := Ideal) m g

theorem frame_ref_ideal : Cert.quiescent_NormGateBwdRefIdeal := fun m g _ =>
  (θ_run Cert.NormGateBwdRefIdeal.defs _ _).mono (fun r h => ⟨fun c => (h c).2.2.2.2.2.2, sem_eq_zero_of_no_sems rfl r.2⟩)
    (Cert.NormGateBwdRefIdeal.Value.run (F := Ideal) m g)

theorem values_ideal : Cert.algebraic_NormGateBwdIdeal_NormGateBwdRefIdeal := fun m g m' g' _ hm =>
  ⟨_, _, _, _, _, _, kernel_run m g,
    (θ_run Cert.NormGateBwdRefIdeal.defs _ _).mono
      (fun _ h c => by
        obtain ⟨e0, e1, e2, e3, e4, e5, e6, e7⟩ := hm c
        refine ⟨(h c).1.trans ?_, (h c).2.1.trans ?_, (h c).2.2.1.trans ?_, (h c).2.2.2.1.trans ?_, (h c).2.2.2.2.1.trans ?_, (h c).2.2.2.2.2.1.trans ?_, (h c).2.2.2.2.2.2⟩
        · rw [e0, e1, e2, e3, e5]
          exact host_dx ..
        · rw [e0, e1, e2, e3, e5, e7]
          exact host_do ..
        · rw [e1]
          exact host_shift ..
        · rw [e0, e1, e2]
          exact host_scale ..
        · rw [e0, e1, e3, e4]
          exact host_gain ..
        · rw [e0, e1, e2, e3, e5, e6]
          exact host_gate ..)
      (Cert.NormGateBwdRefIdeal.Value.run (F := Ideal) m' g')⟩

end Cert.NormGateBwdClaims

end
-- ==== Proof.MmFormula.lean ====
/- A product of matrices made block by block: each tile of the result adds up the products of the blocks along the
   contracted axis, and ends with the whole sum. -/
module

public import Idealize.ShloMosaic.PureOps.Ideal.Laws
public import Idealize.ShloMosaic.Lib.ValueIdxCore
public import Idealize.ShloMosaic.Lib.PointwiseCore
public import Idealize.ShloMosaic.Lib.Pipeline.ValueKit.Acc
public import Idealize.ShloMosaic.Lib.Pipeline.FrameBody
public import Idealize.ShloMosaic.Lib.Pipeline.Value

@[expose] public section

noncomputable section

open Idealize.ShloMosaic

namespace Cert.MmFormula

variable {M N K tm tn tk : ℕ}

/-- An array's element at a pair of numbers, and nothing outside the array. -/
def rows (a : (⟨2, ![M, K]⟩ : Shape).Idx → EReal) (i q : ℕ) : EReal := if h : i < M ∧ q < K then a (ix2 ⟨i, h.1⟩ ⟨q, h.2⟩) else 0

/-- The same of the transposed array. -/
def cols (a : (⟨2, ![K, M]⟩ : Shape).Idx → EReal) (i q : ℕ) : EReal := rows a q i

/-- The first `n` terms of the product of a row with a row. -/
def upto (l r : ℕ → ℕ → EReal) (n i j : ℕ) : EReal := ∑ q ∈ Finset.range n, l i q * r j q

/-- The product as an array. -/
def prod (l r : ℕ → ℕ → EReal) (n : ℕ) (k : (⟨2, ![M, N]⟩ : Shape).Idx) : EReal := upto l r n (k 0).val (k 1).val

/-- What a block adds to a tile. -/
def plus (v : (⟨2, ![M, N]⟩ : Shape).Idx → EReal) (l r : ℕ → ℕ → EReal) (n : ℕ) (k : (⟨2, ![M, N]⟩ : Shape).Idx) : EReal :=
  v k + prod l r n k

theorem rows_at (a : (⟨2, ![M, K]⟩ : Shape).Idx → EReal) (i : Fin M) (q : Fin K) : rows a i.val q.val = a (ix2 i q) :=
  dif_pos ⟨i.isLt, q.isLt⟩

/-- The three ways to contract: the products as sums over the contracted coordinate. -/
theorem prod_plain (a : (⟨2, ![M, K]⟩ : Shape).Idx → EReal) (b : (⟨2, ![K, N]⟩ : Shape).Idx → EReal) (i : Fin M) (j : Fin N) :
    prod (rows a) (cols b) K (ix2 i j) = ∑ q : Fin K, a (ix2 i q) * b (ix2 q j) :=
  (Finset.sum_range _).trans (Finset.sum_congr rfl fun q _ => congrArg₂ (· * ·) (rows_at a i q) (rows_at b q j))

theorem prod_right (a : (⟨2, ![M, K]⟩ : Shape).Idx → EReal) (b : (⟨2, ![N, K]⟩ : Shape).Idx → EReal) (i : Fin M) (j : Fin N) :
    prod (rows a) (rows b) K (ix2 i j) = ∑ q : Fin K, a (ix2 i q) * b (ix2 j q) :=
  (Finset.sum_range _).trans (Finset.sum_congr rfl fun q _ => congrArg₂ (· * ·) (rows_at a i q) (rows_at b j q))

theorem prod_left (a : (⟨2, ![K, M]⟩ : Shape).Idx → EReal) (b : (⟨2, ![K, N]⟩ : Shape).Idx → EReal) (i : Fin M) (j : Fin N) :
    prod (cols a) (cols b) K (ix2 i j) = ∑ q : Fin K, a (ix2 q i) * b (ix2 q j) :=
  (Finset.sum_range _).trans (Finset.sum_congr rfl fun q _ => congrArg₂ (· * ·) (rows_at a q i) (rows_at b q j))

/-- An array that is such a product at every index, or a block added to a tile, or nothing. -/
theorem eq_of_at {f g : (⟨2, ![M, N]⟩ : Shape).Idx → EReal} (h : ∀ (i : Fin M) (j : Fin N), f (ix2 i j) = g (ix2 i j)) : f = g := by
  funext k
  obtain ⟨i, j, rfl⟩ : ∃ (i : Fin M) (j : Fin N), k = ix2 i j := ⟨k 0, k 1, by funext x; fin_cases x <;> rfl⟩
  exact h i j

theorem plus_at (v : (⟨2, ![M, N]⟩ : Shape).Idx → EReal) (l r : ℕ → ℕ → EReal) (n : ℕ) (k : (⟨2, ![M, N]⟩ : Shape).Idx) :
    plus v l r n k = v k + prod l r n k := rfl

/-! ## What a point stores: everything is loaded and stored whole -/

section
variable {sig : RefSig} {κ : Kind} {p3 p4 p6 : Space} {S A B : Shape} {ea eb es : EltTy}
  {a3 : Memref sig κ p3 A ea} (h3 : a3.IsWhole) {a4 : Memref sig κ p4 B eb} (h4 : a4.IsWhole)
  {a6 : Memref sig κ p6 S es} (h6 : a6.IsWhole)
  {x0 : A.Idx → Elt Ideal ea} {x1 : B.Idx → Elt Ideal eb} {xs z : S.Idx → Elt Ideal es}
  {p : (S.Idx → Elt Ideal es) → (A.Idx → Elt Ideal ea) → (B.Idx → Elt Ideal eb) → S.Idx → Elt Ideal es}
  {o : Fin S.rank → ℕ} (ho : o = fun _ => 0) {oa : Fin A.rank → ℕ} (hoa : oa = fun _ => 0) {ob : Fin B.rank → ℕ} (hob : ob = fun _ => 0)
  (i : ∀ a, o a + S.size a ≤ S.size a) (ia : ∀ a, oa a + A.size a ≤ A.size a) (ib : ∀ a, ob a + B.size a ≤ B.size a)
include ho hoa hob

theorem kept_first : View.canon [(⟨Rect.unit o S.size i, p (a6.view.readCov [⟨Rect.unit o S.size i, z⟩] (Rect.unit o S.size i).toLoadRect)
      (View.readAt (Elt Ideal) a3.view (Rect.unit oa A.size ia).toLoadRect (h3.unread x0))
      (View.readAt (Elt Ideal) a4.view (Rect.unit ob B.size ib).toLoadRect (h4.unread x1))⟩ : View.Piece (Elt Ideal) S es),
    ⟨Rect.unit o S.size i, z⟩] = p z x0 x1 := by
  rw [View.canon_cons_unit_zero ho, View.readCov_unit_zero _ ho, View.readAt_eq_ld, View.readAt_eq_ld, h3.read_unread, h4.read_unread,
    View.ld_unit_zero hoa, View.ld_unit_zero hob]

theorem kept_later : View.canon [(⟨Rect.unit o S.size i, p (View.readAt (Elt Ideal) a6.view (Rect.unit o S.size i).toLoadRect (h6.unread xs))
      (View.readAt (Elt Ideal) a3.view (Rect.unit oa A.size ia).toLoadRect (h3.unread x0))
      (View.readAt (Elt Ideal) a4.view (Rect.unit ob B.size ib).toLoadRect (h4.unread x1))⟩ : View.Piece (Elt Ideal) S es)] = p xs x0 x1 := by
  rw [View.canon_unit_zero ho, View.readAt_eq_ld, View.readAt_eq_ld, View.readAt_eq_ld, h3.read_unread, h4.read_unread, h6.read_unread,
    View.ld_unit_zero ho, View.ld_unit_zero hoa, View.ld_unit_zero hob]

theorem stored_only : View.canon [(⟨Rect.unit o S.size i, a6.view.readCov [⟨Rect.unit o S.size i,
      p (a6.view.readCov [⟨Rect.unit o S.size i, z⟩] (Rect.unit o S.size i).toLoadRect)
      (View.readAt (Elt Ideal) a3.view (Rect.unit oa A.size ia).toLoadRect (h3.unread x0))
      (View.readAt (Elt Ideal) a4.view (Rect.unit ob B.size ib).toLoadRect (h4.unread x1))⟩, ⟨Rect.unit o S.size i, z⟩]
      (Rect.unit o S.size i).toLoadRect⟩ : View.Piece (Elt Ideal) S es)] = p z x0 x1 := by
  subst ho
  rw [View.canon_unit_zero rfl, View.readCov_cons_unit_lit' _ _ _ _ _ (fun _ => rfl) (fun _ => rfl), View.readCov_unit_zero _ rfl,
    View.readAt_eq_ld, View.readAt_eq_ld, h3.read_unread, h4.read_unread, View.ld_unit_zero hoa, View.ld_unit_zero hob]

theorem stored_last : View.canon [(⟨Rect.unit o S.size i, a6.view.readCov [⟨Rect.unit o S.size i,
      p (View.readAt (Elt Ideal) a6.view (Rect.unit o S.size i).toLoadRect (h6.unread xs))
      (View.readAt (Elt Ideal) a3.view (Rect.unit oa A.size ia).toLoadRect (h3.unread x0))
      (View.readAt (Elt Ideal) a4.view (Rect.unit ob B.size ib).toLoadRect (h4.unread x1))⟩]
      (Rect.unit o S.size i).toLoadRect⟩ : View.Piece (Elt Ideal) S es)] = p xs x0 x1 := by
  rw [View.canon_unit_zero ho, View.readCov_unit_zero _ ho, View.readAt_eq_ld, View.readAt_eq_ld, View.readAt_eq_ld, h3.read_unread,
    h4.read_unread, h6.read_unread, View.ld_unit_zero ho, View.ld_unit_zero hoa, View.ld_unit_zero hob]
end

/-- Where a block's elements are in its array. -/
def Placed (f : (⟨2, ![tm, tk]⟩ : Shape).Idx → (⟨2, ![M, K]⟩ : Shape).Idx) (I Q : ℕ) : Prop :=
  ∀ k, (f k 0).val = tm * I + (k 0).val ∧ (f k 1).val = tk * Q + (k 1).val

theorem placed_of {f : (⟨2, ![tm, tk]⟩ : Shape).Idx → (⟨2, ![M, K]⟩ : Shape).Idx} {b0 b1 I Q : ℕ}
    (hf : ∀ k, (f k 0).val = b0 * tm + 1 * (k 0).val ∧ (f k 1).val = b1 * tk + 1 * (k 1).val) (e0 : b0 = I) (e1 : b1 = Q) :
    Placed f I Q := fun k => by
  subst e0
  subst e1
  exact ⟨(hf k).1.trans (by rw [one_mul, Nat.mul_comm]), (hf k).2.trans (by rw [one_mul, Nat.mul_comm])⟩

theorem rows_block (a : (⟨2, ![M, K]⟩ : Shape).Idx → EReal) (f : (⟨2, ![tm, tk]⟩ : Shape).Idx → (⟨2, ![M, K]⟩ : Shape).Idx) (I Q : ℕ)
    (hf : Placed f I Q) (i q : ℕ) (hi : i < tm) (hq : q < tk) : rows (fun k => a (f k)) i q = rows a (tm * I + i) (tk * Q + q) := by
  obtain ⟨e0, e1⟩ := hf (ix2 ⟨i, hi⟩ ⟨q, hq⟩)
  have h0 : tm * I + i < M := lt_of_eq_of_lt e0.symm (f _ 0).isLt
  have h1 : tk * Q + q < K := lt_of_eq_of_lt e1.symm (f _ 1).isLt
  unfold rows
  rw [dif_pos ⟨hi, hq⟩, dif_pos ⟨h0, h1⟩]
  refine congrArg a (funext fun x => Fin.ext ?_)
  fin_cases x
  · exact e0
  · exact e1

theorem cols_block (a : (⟨2, ![K, M]⟩ : Shape).Idx → EReal) (f : (⟨2, ![tk, tm]⟩ : Shape).Idx → (⟨2, ![K, M]⟩ : Shape).Idx) (Q I : ℕ)
    (hf : Placed f Q I) (i q : ℕ) (hi : i < tm) (hq : q < tk) : cols (fun k => a (f k)) i q = cols a (tm * I + i) (tk * Q + q) :=
  rows_block a f Q I hf q i hq hi

/-- A block adds the terms its coordinates stand for to the terms before them. -/
theorem upto_block {l r l' r' : ℕ → ℕ → EReal} {n : ℕ} {i j i' j' Q : ℕ}
    (hl : ∀ q < n, l' i' q = l i (n * Q + q)) (hr : ∀ q < n, r' j' q = r j (n * Q + q)) :
    upto l r (n * Q) i j + upto l' r' n i' j' = upto l r (n * (Q + 1)) i j := by
  unfold upto
  rw [Nat.mul_succ, Finset.sum_range_add]
  refine congrArg (HAdd.hAdd _) (Finset.sum_congr rfl fun q hq => ?_)
  rw [hl q (Finset.mem_range.mp hq), hr q (Finset.mem_range.mp hq)]

/-- The sums after each point: the points of a tile follow one another, the first of them starting from nothing. -/
theorem gathered {P nn nk : ℕ} (l r : ℕ → ℕ → EReal) (acc : (n : ℕ) → n < P → (⟨2, ![tm, tn]⟩ : Shape).Idx → EReal)
    (lb rb : (n : ℕ) → n < P → ℕ → ℕ → EReal)
    (hl : ∀ n h, ∀ i < tm, ∀ q < tk, lb n h i q = l (tm * (n / nk / nn) + i) (tk * (n % nk) + q))
    (hr : ∀ n h, ∀ j < tn, ∀ q < tk, rb n h j q = r (tn * (n / nk % nn) + j) (tk * (n % nk) + q))
    (first : ∀ n h, n % nk = 0 → acc n h = plus (fun _ => 0) (lb n h) (rb n h) tk)
    (later : ∀ n h, ¬n % nk = 0 → acc n h = plus (acc (n - 1) (Nat.lt_of_le_of_lt (Nat.sub_le _ _) h)) (lb n h) (rb n h) tk) :
    ∀ n h, acc n h = fun x => upto l r (tk * (n % nk + 1)) (tm * (n / nk / nn) + (x 0).val) (tn * (n / nk % nn) + (x 1).val) := by
  intro n
  induction n with
  | zero =>
    intro h
    have e : 0 % nk = 0 := Nat.zero_mod nk
    rw [first 0 h e]
    funext x
    refine Eq.trans ?_ (upto_block (hl 0 h _ (x 0).isLt) (hr 0 h _ (x 1).isLt))
    rw [e]
    exact congrArg₂ (· + ·) (Finset.sum_range_zero _).symm rfl
  | succ n ih =>
    intro h
    by_cases e : (n + 1) % nk = 0
    · rw [first _ h e]
      funext x
      refine Eq.trans ?_ (upto_block (hl _ h _ (x 0).isLt) (hr _ h _ (x 1).isLt))
      rw [e]
      exact congrArg₂ (· + ·) (Finset.sum_range_zero _).symm rfl
    · have hd : (n + 1) / nk = n / nk := by
        rw [Nat.succ_div, if_neg fun hk => e (Nat.mod_eq_zero_of_dvd hk), add_zero]
      have hm : (n + 1) % nk = n % nk + 1 := by
        have h1 := Nat.div_add_mod (n + 1) nk
        have h2 := Nat.div_add_mod n nk
        rw [hd] at h1
        omega
      rw [later _ h e]
      funext x
      refine Eq.trans ?_ (upto_block (hl _ h _ (x 0).isLt) (hr _ h _ (x 1).isLt))
      refine congrArg₂ (· + ·) ?_ rfl
      refine (congrFun (ih (Nat.lt_of_succ_lt h)) x).trans ?_
      rw [hd, hm]

/-- What a tile's last point stores, where it stores the sums it leaves. -/
theorem finished {P nn nk : ℕ} {l r : ℕ → ℕ → EReal} {out acc : (n : ℕ) → n < P → (⟨2, ![tm, tn]⟩ : Shape).Idx → EReal}
    {lb rb : (n : ℕ) → n < P → ℕ → ℕ → EReal}
    (hl : ∀ n h, ∀ i < tm, ∀ q < tk, lb n h i q = l (tm * (n / nk / nn) + i) (tk * (n % nk) + q))
    (hr : ∀ n h, ∀ j < tn, ∀ q < tk, rb n h j q = r (tn * (n / nk % nn) + j) (tk * (n % nk) + q))
    (first : ∀ n h, n % nk = 0 → acc n h = plus (fun _ => 0) (lb n h) (rb n h) tk)
    (middle : ∀ n h, ¬n % nk = 0 → ¬n % nk = nk - 1 →
      acc n h = plus (acc (n - 1) (Nat.lt_of_le_of_lt (Nat.sub_le _ _) h)) (lb n h) (rb n h) tk)
    (last : ∀ n h, ¬n % nk = 0 → n % nk = nk - 1 →
      out n h = plus (acc (n - 1) (Nat.lt_of_le_of_lt (Nat.sub_le _ _) h)) (lb n h) (rb n h) tk
      ∧ acc n h = plus (acc (n - 1) (Nat.lt_of_le_of_lt (Nat.sub_le _ _) h)) (lb n h) (rb n h) tk)
    (n : ℕ) (h : n < P) (e : ¬n % nk = 0) (e' : n % nk = nk - 1) :
    out n h = fun x => upto l r (tk * (n % nk + 1)) (tm * (n / nk / nn) + (x 0).val) (tn * (n / nk % nn) + (x 1).val) :=
  ((last n h e e').1.trans (last n h e e').2.symm).trans (gathered l r acc lb rb hl hr first (fun n h e =>
    if e' : n % nk = nk - 1 then (last n h e e').2 else middle n h e e') n h)

/-- After a tile's last point the tile holds the product's elements at its places. -/
theorem whole {n nn nk I J : ℕ} (l r : ℕ → ℕ → EReal) (f : (⟨2, ![tm, tn]⟩ : Shape).Idx → (⟨2, ![M, N]⟩ : Shape).Idx)
    (hf : Placed f I J) (hI : I = n / nk / nn) (hJ : J = n / nk % nn) (hn : n % nk + 1 = nk) (hK : tk * nk = K) (x : (⟨2, ![tm, tn]⟩ : Shape).Idx) :
    upto l r (tk * (n % nk + 1)) (tm * (n / nk / nn) + (x 0).val) (tn * (n / nk % nn) + (x 1).val) = prod l r K (f x) := by
  unfold prod
  rw [(hf x).1, (hf x).2, hn, hK, hI, hJ]

/-- Every index is in a tile, which is complete after some point. -/
theorem has_tile (nm nn nk : ℕ) (hM : tm * nm = M) (hN : tn * nn = N) (hk : 0 < nk) (i : (⟨2, ![M, N]⟩ : Shape).Idx) :
    ∃ n, n < nm * nn * nk ∧ n % nk + 1 = nk ∧ ∃ x : (⟨2, ![tm, tn]⟩ : Shape).Idx, ∀ j : (⟨2, ![M, N]⟩ : Shape).Idx,
      (j 0).val = tm * (n / nk / nn) + (x 0).val ∧ (j 1).val = tn * (n / nk % nn) + (x 1).val → j = i := by
  subst hM
  subst hN
  have h0 : (i 0).val < tm * nm := (i 0).isLt
  have h1 : (i 1).val < tn * nn := (i 1).isLt
  have p0 : 0 < tm := Nat.pos_of_ne_zero fun h => by simp [h] at h0
  have p1 : 0 < tn := Nat.pos_of_ne_zero fun h => by simp [h] at h1
  have d0 : (i 0).val / tm < nm := Nat.div_lt_of_lt_mul h0
  have d1 : (i 1).val / tn < nn := Nat.div_lt_of_lt_mul h1
  have ek : (((i 0).val / tm * nn + (i 1).val / tn) * nk + (nk - 1)) / nk = (i 0).val / tm * nn + (i 1).val / tn := by
    rw [Nat.mul_comm, Nat.mul_add_div hk, Nat.div_eq_of_lt (Nat.sub_lt hk one_pos), add_zero]
  have en : ((i 0).val / tm * nn + (i 1).val / tn) / nn = (i 0).val / tm := by
    rw [Nat.mul_comm, Nat.mul_add_div (Nat.zero_lt_of_lt d1), Nat.div_eq_of_lt d1, add_zero]
  have em : ((i 0).val / tm * nn + (i 1).val / tn) % nn = (i 1).val / tn := by
    rw [Nat.mul_comm, Nat.mul_add_mod, Nat.mod_eq_of_lt d1]
  refine ⟨((i 0).val / tm * nn + (i 1).val / tn) * nk + (nk - 1), ?_, ?_,
    ix2 ⟨(i 0).val % tm, Nat.mod_lt _ p0⟩ ⟨(i 1).val % tn, Nat.mod_lt _ p1⟩, fun j hj => ?_⟩
  · have b : (i 0).val / tm * nn + (i 1).val / tn + 1 ≤ nm * nn :=
      calc (i 0).val / tm * nn + (i 1).val / tn + 1 ≤ (i 0).val / tm * nn + nn := by omega
        _ = ((i 0).val / tm + 1) * nn := (Nat.succ_mul _ _).symm
        _ ≤ nm * nn := Nat.mul_le_mul_right _ d0
    calc ((i 0).val / tm * nn + (i 1).val / tn) * nk + (nk - 1) < ((i 0).val / tm * nn + (i 1).val / tn) * nk + nk := by omega
      _ = ((i 0).val / tm * nn + (i 1).val / tn + 1) * nk := (Nat.succ_mul _ _).symm
      _ ≤ nm * nn * nk := Nat.mul_le_mul_right _ b
  · rw [Nat.mul_comm, Nat.mul_add_mod, Nat.mod_eq_of_lt (Nat.sub_lt hk one_pos)]
    omega
  · rw [ek, en, em] at hj
    refine funext fun a => Fin.ext ?_
    fin_cases a
    · exact hj.1.trans (Nat.div_add_mod _ _)
    · exact hj.2.trans (Nat.div_add_mod _ _)

/-- Each tile, after its last point, is the product at the tile's places. -/
theorem made {P nn nk : ℕ} {l r : ℕ → ℕ → EReal} {out acc : (n : ℕ) → n < P → (⟨2, ![tm, tn]⟩ : Shape).Idx → EReal}
    {lb rb : (n : ℕ) → n < P → ℕ → ℕ → EReal} (hK : tk * nk = K) (hk : 1 < nk)
    {f : Fin P → (⟨2, ![tm, tn]⟩ : Shape).Idx → (⟨2, ![M, N]⟩ : Shape).Idx} (hf : ∀ t, Placed (f t) (t.val / nk / nn) (t.val / nk % nn))
    (hl : ∀ n h, ∀ i < tm, ∀ q < tk, lb n h i q = l (tm * (n / nk / nn) + i) (tk * (n % nk) + q))
    (hr : ∀ n h, ∀ j < tn, ∀ q < tk, rb n h j q = r (tn * (n / nk % nn) + j) (tk * (n % nk) + q))
    (first : ∀ n h, n % nk = 0 → acc n h = plus (fun _ => 0) (lb n h) (rb n h) tk)
    (middle : ∀ n h, ¬n % nk = 0 → ¬n % nk = nk - 1 →
      acc n h = plus (acc (n - 1) (Nat.lt_of_le_of_lt (Nat.sub_le _ _) h)) (lb n h) (rb n h) tk)
    (last : ∀ n h, ¬n % nk = 0 → n % nk = nk - 1 →
      out n h = plus (acc (n - 1) (Nat.lt_of_le_of_lt (Nat.sub_le _ _) h)) (lb n h) (rb n h) tk
      ∧ acc n h = plus (acc (n - 1) (Nat.lt_of_le_of_lt (Nat.sub_le _ _) h)) (lb n h) (rb n h) tk)
    (t : Fin P) (e : t.val % nk = nk - 1) : out t.val t.isLt = fun x => prod l r K (f t x) :=
  (finished hl hr first middle last t.val t.isLt (by omega) e).trans
    (funext fun x => whole l r (f t) (hf t) rfl rfl (by omega) hK x)

/-- The same where a tile has one point only. -/
theorem made_once {P nn : ℕ} {l r : ℕ → ℕ → EReal} {out : (n : ℕ) → n < P → (⟨2, ![tm, tn]⟩ : Shape).Idx → EReal}
    {lb rb : (n : ℕ) → n < P → ℕ → ℕ → EReal}
    {f : Fin P → (⟨2, ![tm, tn]⟩ : Shape).Idx → (⟨2, ![M, N]⟩ : Shape).Idx} (hf : ∀ t, Placed (f t) (t.val / 1 / nn) (t.val / 1 % nn))
    (hl : ∀ n h, ∀ i < tm, ∀ q < K, lb n h i q = l (tm * (n / 1 / nn) + i) (K * (n % 1) + q))
    (hr : ∀ n h, ∀ j < tn, ∀ q < K, rb n h j q = r (tn * (n / 1 % nn) + j) (K * (n % 1) + q))
    (only : ∀ n h, out n h = plus (fun _ => 0) (lb n h) (rb n h) K) (t : Fin P) : out t.val t.isLt = fun x => prod l r K (f t x) :=
  (gathered l r out lb rb hl hr (fun n h _ => only n h) (fun n _ e => absurd (Nat.mod_one n) e) t.val t.isLt).trans
    (funext fun x => whole l r (f t) (hf t) rfl rfl (by omega) (Nat.mul_one K) x)

/-- The tiles together are the whole array. -/
theorem covered {P : ℕ} (nm nn nk : ℕ) (hP : P = nm * nn * nk) (hM : tm * nm = M) (hN : tn * nn = N) (hk : 0 < nk)
    {f : Fin P → (⟨2, ![tm, tn]⟩ : Shape).Idx → (⟨2, ![M, N]⟩ : Shape).Idx} (hf : ∀ t, Placed (f t) (t.val / nk / nn) (t.val / nk % nn))
    {has : Fin P → (⟨2, ![M, N]⟩ : Shape).Idx → Prop} (hh : ∀ t x, has t (f t x)) (i : (⟨2, ![M, N]⟩ : Shape).Idx) :
    ∃ t : Fin P, t.val % nk = nk - 1 ∧ has t i := by
  obtain ⟨n, hn, e, x, hx⟩ := has_tile (tm := tm) (tn := tn) nm nn nk hM hN hk i
  exact ⟨⟨n, hP ▸ hn⟩, by dsimp only; omega, hx _ (hf ⟨n, hP ▸ hn⟩ x) ▸ hh ⟨n, hP ▸ hn⟩ x⟩

attribute [irreducible] upto prod

end Cert.MmFormula

end
-- ==== Proof.MmEvInClaims.lean ====
/- The first layer's widening projection: every tile is one product of blocks. -/
module

public import proofs.«01_k».proof.Defs
public import proofs.«01_k».proof.Proof.MmFormula
public import proofs.«01_k».proof.Proof.NormBwdClaims
public import proofs.«01_k».proof.Proof.Gen.MmEvIn.Frame
public import proofs.«01_k».proof.Proof.Gen.MmEvInIdeal.Frame
public import proofs.«01_k».proof.Proof.Gen.MmEvInRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.MmFormula
open Cert.NormBwdClaims (hz)

namespace Cert.MmEvInClaims

section
open Cert.MmEvInRefIdeal

/-- The product both programs compute. -/
def product (a : FVec Ideal S8448x2048 .bf16) (b : FVec Ideal S2048x5632 .bf16) : FVec Ideal S8448x5632 .f32 := prod (rows a) (cols b) 2048

theorem host (a : FVec Ideal S8448x2048 .bf16) (b : FVec Ideal S2048x5632 .bf16) :
    Host.dotGeneral dot_S8448x2048_S2048x5632_S8448x5632_1_0_0_1_n_n none a b = product a b :=
  eq_of_at fun i j => by
    unfold product
    rw [prod_plain]
    pointwise
end

section
open Cert.MmEvInIdeal Cert.MmEvInIdeal.Gen

theorem tile (v : FVec Ideal S1408x512 .f32) (a : FVec Ideal S1408x2048 .bf16) (b : FVec Ideal S2048x512 .bf16) :
    k0_pay2 (F := Ideal) v a b = plus v (rows a) (cols b) 2048 :=
  eq_of_at fun i j => by
    rw [plus_at, prod_plain]
    unfold_payloads
    pointwise

theorem none_yet : k0_pay1 (F := Ideal) = fun _ => 0 := eq_of_at (M := 1408) (N := 512) fun i j => by
  unfold_payloads
  pointwise

/-- What a tile's only point leaves in it. -/
theorem only (c : Dev nD) (i : grid0.Coords) (a3 : Memref sig .tc .vmem S1408x2048 .bf16) (h3 : a3.IsWhole)
    (a4 : Memref sig .tc .vmem S2048x512 .bf16) (h4 : a4.IsWhole) (a5 : Memref sig .tc .vmem S1408x512 .f32) (h5 : a5.IsWhole)
    (a6 : Memref sig .tc .vmem S1408x512 .f32) (h6 : a6.IsWhole) (hc0 : cond0_0 i) (hc1 : cond0_1 i)
    (x0 : FVec Ideal S1408x2048 .bf16) (x1 : FVec Ideal S2048x512 .bf16) :
    out0_A_2 (F := Ideal) c i a3 h3 a4 h4 a5 h5 a6 h6 hc0 hc1 x0 x1 = k0_pay2 (F := Ideal) (k0_pay1 (F := Ideal)) x0 x1 :=
  (View.read_writes_eq_canon _ _ _ (cover0_A_2 (F := Ideal) c i a3 h3 a4 h4 a5 h5 a6 h6 hc0 hc1 x0 x1)).trans (stored_only h3 h4 hz hz hz _ _ _)

/-! ## The tiles -/

section
variable (m : (ℓ : Loc nD τ sig) → Buf (Elt Ideal) ℓ) (c : Dev nD)

/-- Which block a window names at a point. -/
theorem blocks : ∀ t : Fin grid0.N, (win0_0.index t (0 : Fin 2) = t.val / 1 / 11 ∧ win0_0.index t (1 : Fin 2) = t.val % 1)
    ∧ (win0_1.index t (0 : Fin 2) = t.val % 1 ∧ win0_1.index t (1 : Fin 2) = t.val / 1 % 11)
    ∧ (win0_2.index t (0 : Fin 2) = t.val / 1 / 11 ∧ win0_2.index t (1 : Fin 2) = t.val / 1 % 11) := by decide +kernel

theorem placed (t : Fin cfg0.N) : Placed (tm := 1408) (tk := 512) (M := 8448) (K := 5632) ((cfg0.win 2).blk t).view.emb (t.val / 1 / 11) (t.val / 1 % 11) :=
  placed_of (fun _ => ⟨rfl, rfl⟩) (blocks t).2.2.1 (blocks t).2.2.2

/-- The blocks a point multiplies. -/
def lb (n : ℕ) (h : n < cfg0.N) : ℕ → ℕ → EReal := rows (M := 1408) (K := 2048) (iblk m c 0 ⟨n, h⟩)
def rb (n : ℕ) (h : n < cfg0.N) : ℕ → ℕ → EReal := cols (M := 512) (K := 2048) (iblk m c 1 ⟨n, h⟩)

theorem at_only (t : Fin cfg0.N) : outsAt0 m c t = plus (fun _ => 0) (lb m c t.val t.isLt) (rb m c t.val t.isLt) 2048 := by
  unfold outsAt0
  rw [only, none_yet, tile]
  rfl

theorem made_at (t : Fin cfg0.N) : outsAt0 m c t = fun x => product (V m c main_arg0) (V m c main_arg1) (((cfg0.win 2).blk t).view.emb x) :=
  made_once (out := fun n h => outsAt0 m c ⟨n, h⟩) (lb := lb m c) (rb := rb m c) (K := 2048) placed
    (fun n h i hi q hq => rows_block (V m c main_arg0) _ _ _ (placed_of (fun _ => ⟨rfl, rfl⟩) (blocks ⟨n, h⟩).1.1 (blocks ⟨n, h⟩).1.2) i q hi hq)
    (fun n h j hj q hq => cols_block (V m c main_arg1) _ _ _ (placed_of (fun _ => ⟨rfl, rfl⟩) (blocks ⟨n, h⟩).2.1.1 (blocks ⟨n, h⟩).2.1.2) j q hj hq)
    (fun n h => at_only m c ⟨n, h⟩) t

theorem result : (dats m 0 c).arrAt 2 cfg0.N = product (V m c main_arg0) (V m c main_arg1) :=
  (dats m 0 c).arrAt_eq_of_cover 2 _ (fun t _ => congrArg ((cfg0.win 2).cut (grid0.coords t)) ((after0_2 m c t).trans (made_at m c t)))
    fun i => (covered 6 11 1 rfl rfl rfl (by decide) placed (fun t x => ((cfg0.win 2).blk t).view.emb_mem_set x) i).imp
      fun t h => ⟨flush0_2 t, h.2⟩
end
end

theorem frame_kernel : Cert.quiescent_MmEvIn := fun m g _ => Cert.MmEvIn.Gen.frame (F := Bits) m g

theorem frame_ideal : Cert.quiescent_MmEvInIdeal := fun m g _ => Cert.MmEvInIdeal.Gen.frame (F := Ideal) m g

theorem frame_ref_ideal : Cert.quiescent_MmEvInRefIdeal := fun m g _ =>
  (θ_run Cert.MmEvInRefIdeal.defs _ _).mono (fun r h => ⟨fun c => (h c).2, sem_eq_zero_of_no_sems rfl r.2⟩)
    (Cert.MmEvInRefIdeal.Value.run (F := Ideal) m g)

theorem values_ideal : Cert.algebraic_MmEvInIdeal_MmEvInRefIdeal := fun m g m' g' _ hm =>
  ⟨_, (θ_run Cert.MmEvInIdeal.defs _ _).mono (fun _ h c => ⟨((h c).1 2).trans (result m c),
      ((h c).1 0).trans ((Cert.MmEvInIdeal.Gen.dats m 0 c).arrAt_in 0 rfl _),
      ((h c).1 1).trans ((Cert.MmEvInIdeal.Gen.dats m 0 c).arrAt_in 1 rfl _)⟩) (Cert.MmEvInIdeal.Gen.run_main m g),
    (θ_run Cert.MmEvInRefIdeal.defs _ _).mono
      (fun _ h c => ⟨(h c).1.trans (by rw [(hm c).1, (hm c).2]; exact host _ _), (h c).2⟩)
      (Cert.MmEvInRefIdeal.Value.run (F := Ideal) m' g')⟩

end Cert.MmEvInClaims

end
-- ==== Proof.MmOdInClaims.lean ====
/- The second layer's widening projection: every tile is one product of blocks. -/
module

public import proofs.«01_k».proof.Defs
public import proofs.«01_k».proof.Proof.MmFormula
public import proofs.«01_k».proof.Proof.NormBwdClaims
public import proofs.«01_k».proof.Proof.Gen.MmOdIn.Frame
public import proofs.«01_k».proof.Proof.Gen.MmOdInIdeal.Frame
public import proofs.«01_k».proof.Proof.Gen.MmOdInRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.MmFormula
open Cert.NormBwdClaims (hz)

namespace Cert.MmOdInClaims

section
open Cert.MmOdInRefIdeal

/-- The product both programs compute. -/
def product (a : FVec Ideal S8192x2048 .bf16) (b : FVec Ideal S2048x6144 .bf16) : FVec Ideal S8192x6144 .f32 := prod (rows a) (cols b) 2048

theorem host (a : FVec Ideal S8192x2048 .bf16) (b : FVec Ideal S2048x6144 .bf16) :
    Host.dotGeneral dot_S8192x2048_S2048x6144_S8192x6144_1_0_0_1_n_n none a b = product a b :=
  eq_of_at fun i j => by
    unfold product
    rw [prod_plain]
    pointwise
end

section
open Cert.MmOdInIdeal Cert.MmOdInIdeal.Gen

theorem tile (v : FVec Ideal S1024x512 .f32) (a : FVec Ideal S1024x2048 .bf16) (b : FVec Ideal S2048x512 .bf16) :
    k0_pay2 (F := Ideal) v a b = plus v (rows a) (cols b) 2048 :=
  eq_of_at fun i j => by
    rw [plus_at, prod_plain]
    unfold_payloads
    pointwise

theorem none_yet : k0_pay1 (F := Ideal) = fun _ => 0 := eq_of_at (M := 1024) (N := 512) fun i j => by
  unfold_payloads
  pointwise

/-- What a tile's only point leaves in it. -/
theorem only (c : Dev nD) (i : grid0.Coords) (a3 : Memref sig .tc .vmem S1024x2048 .bf16) (h3 : a3.IsWhole)
    (a4 : Memref sig .tc .vmem S2048x512 .bf16) (h4 : a4.IsWhole) (a5 : Memref sig .tc .vmem S1024x512 .f32) (h5 : a5.IsWhole)
    (a6 : Memref sig .tc .vmem S1024x512 .f32) (h6 : a6.IsWhole) (hc0 : cond0_0 i) (hc1 : cond0_1 i)
    (x0 : FVec Ideal S1024x2048 .bf16) (x1 : FVec Ideal S2048x512 .bf16) :
    out0_A_2 (F := Ideal) c i a3 h3 a4 h4 a5 h5 a6 h6 hc0 hc1 x0 x1 = k0_pay2 (F := Ideal) (k0_pay1 (F := Ideal)) x0 x1 :=
  (View.read_writes_eq_canon _ _ _ (cover0_A_2 (F := Ideal) c i a3 h3 a4 h4 a5 h5 a6 h6 hc0 hc1 x0 x1)).trans (stored_only h3 h4 hz hz hz _ _ _)

/-! ## The tiles -/

section
variable (m : (ℓ : Loc nD τ sig) → Buf (Elt Ideal) ℓ) (c : Dev nD)

/-- Which block a window names at a point. -/
theorem blocks : ∀ t : Fin grid0.N, (win0_0.index t (0 : Fin 2) = t.val / 1 / 12 ∧ win0_0.index t (1 : Fin 2) = t.val % 1)
    ∧ (win0_1.index t (0 : Fin 2) = t.val % 1 ∧ win0_1.index t (1 : Fin 2) = t.val / 1 % 12)
    ∧ (win0_2.index t (0 : Fin 2) = t.val / 1 / 12 ∧ win0_2.index t (1 : Fin 2) = t.val / 1 % 12) := by decide +kernel

theorem placed (t : Fin cfg0.N) : Placed (tm := 1024) (tk := 512) (M := 8192) (K := 6144) ((cfg0.win 2).blk t).view.emb (t.val / 1 / 12) (t.val / 1 % 12) :=
  placed_of (fun _ => ⟨rfl, rfl⟩) (blocks t).2.2.1 (blocks t).2.2.2

/-- The blocks a point multiplies. -/
def lb (n : ℕ) (h : n < cfg0.N) : ℕ → ℕ → EReal := rows (M := 1024) (K := 2048) (iblk m c 0 ⟨n, h⟩)
def rb (n : ℕ) (h : n < cfg0.N) : ℕ → ℕ → EReal := cols (M := 512) (K := 2048) (iblk m c 1 ⟨n, h⟩)

theorem at_only (t : Fin cfg0.N) : outsAt0 m c t = plus (fun _ => 0) (lb m c t.val t.isLt) (rb m c t.val t.isLt) 2048 := by
  unfold outsAt0
  rw [only, none_yet, tile]
  rfl

theorem made_at (t : Fin cfg0.N) : outsAt0 m c t = fun x => product (V m c main_arg0) (V m c main_arg1) (((cfg0.win 2).blk t).view.emb x) :=
  made_once (out := fun n h => outsAt0 m c ⟨n, h⟩) (lb := lb m c) (rb := rb m c) (K := 2048) placed
    (fun n h i hi q hq => rows_block (V m c main_arg0) _ _ _ (placed_of (fun _ => ⟨rfl, rfl⟩) (blocks ⟨n, h⟩).1.1 (blocks ⟨n, h⟩).1.2) i q hi hq)
    (fun n h j hj q hq => cols_block (V m c main_arg1) _ _ _ (placed_of (fun _ => ⟨rfl, rfl⟩) (blocks ⟨n, h⟩).2.1.1 (blocks ⟨n, h⟩).2.1.2) j q hj hq)
    (fun n h => at_only m c ⟨n, h⟩) t

theorem result : (dats m 0 c).arrAt 2 cfg0.N = product (V m c main_arg0) (V m c main_arg1) :=
  (dats m 0 c).arrAt_eq_of_cover 2 _ (fun t _ => congrArg ((cfg0.win 2).cut (grid0.coords t)) ((after0_2 m c t).trans (made_at m c t)))
    fun i => (covered 8 12 1 rfl rfl rfl (by decide) placed (fun t x => ((cfg0.win 2).blk t).view.emb_mem_set x) i).imp
      fun t h => ⟨flush0_2 t, h.2⟩
end
end

theorem frame_kernel : Cert.quiescent_MmOdIn := fun m g _ => Cert.MmOdIn.Gen.frame (F := Bits) m g

theorem frame_ideal : Cert.quiescent_MmOdInIdeal := fun m g _ => Cert.MmOdInIdeal.Gen.frame (F := Ideal) m g

theorem frame_ref_ideal : Cert.quiescent_MmOdInRefIdeal := fun m g _ =>
  (θ_run Cert.MmOdInRefIdeal.defs _ _).mono (fun r h => ⟨fun c => (h c).2, sem_eq_zero_of_no_sems rfl r.2⟩)
    (Cert.MmOdInRefIdeal.Value.run (F := Ideal) m g)

theorem values_ideal : Cert.algebraic_MmOdInIdeal_MmOdInRefIdeal := fun m g m' g' _ hm =>
  ⟨_, (θ_run Cert.MmOdInIdeal.defs _ _).mono (fun _ h c => ⟨((h c).1 2).trans (result m c),
      ((h c).1 0).trans ((Cert.MmOdInIdeal.Gen.dats m 0 c).arrAt_in 0 rfl _),
      ((h c).1 1).trans ((Cert.MmOdInIdeal.Gen.dats m 0 c).arrAt_in 1 rfl _)⟩) (Cert.MmOdInIdeal.Gen.run_main m g),
    (θ_run Cert.MmOdInRefIdeal.defs _ _).mono
      (fun _ h c => ⟨(h c).1.trans (by rw [(hm c).1, (hm c).2]; exact host _ _), (h c).2⟩)
      (Cert.MmOdInRefIdeal.Value.run (F := Ideal) m' g')⟩

end Cert.MmOdInClaims

end
-- ==== Proof.MmOutClaims.lean ====
/- The narrowing projection, and what it is added to with its gate. -/
module

public import proofs.«01_k».proof.Defs
public import proofs.«01_k».proof.Proof.MmFormula
public import proofs.«01_k».proof.Proof.NormBwdClaims
public import proofs.«01_k».proof.Proof.Gen.MmOut.Frame
public import proofs.«01_k».proof.Proof.Gen.MmOutIdeal.Frame
public import proofs.«01_k».proof.Proof.Gen.MmOutRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.MmFormula
open Cert.NormBwdClaims (hz)

namespace Cert.MmOutClaims

/-- An array with the product added, each column times its gate. -/
def gated {M N : ℕ} (x : (⟨2, ![M, N]⟩ : Shape).Idx → EReal) (g : (⟨2, ![1, N]⟩ : Shape).Idx → EReal) (o : (⟨2, ![M, N]⟩ : Shape).Idx → EReal)
    (k : (⟨2, ![M, N]⟩ : Shape).Idx) : EReal := x k + rows g 0 (k 1).val * o k

theorem gated_at {M N : ℕ} (x : (⟨2, ![M, N]⟩ : Shape).Idx → EReal) (g : (⟨2, ![1, N]⟩ : Shape).Idx → EReal) (o : (⟨2, ![M, N]⟩ : Shape).Idx → EReal)
    (i : Fin M) (j : Fin N) : gated x g o (ix2 i j) = x (ix2 i j) + g (ix2 0 j) * o (ix2 i j) :=
  congrArg (fun r => x (ix2 i j) + r * o (ix2 i j)) (rows_at g 0 j)

/-- The same of the blocks, where they are in their arrays. -/
theorem gated_block {M N tm tn I J : ℕ} (x : (⟨2, ![M, N]⟩ : Shape).Idx → EReal) (g : (⟨2, ![1, N]⟩ : Shape).Idx → EReal)
    (o : (⟨2, ![M, N]⟩ : Shape).Idx → EReal) (f f' : (⟨2, ![tm, tn]⟩ : Shape).Idx → (⟨2, ![M, N]⟩ : Shape).Idx)
    (b : (⟨2, ![1, tn]⟩ : Shape).Idx → (⟨2, ![1, N]⟩ : Shape).Idx) (hf : Placed f I J) (hf' : Placed f' I J) (hb : Placed b 0 J)
    (k : (⟨2, ![tm, tn]⟩ : Shape).Idx) : gated (fun k => x (f' k)) (fun k => g (b k)) (fun k => o (f k)) k = gated x g o (f k) := by
  have e : f' k = f k := funext fun a => Fin.ext (by fin_cases a; exacts [(hf' k).1.trans (hf k).1.symm, (hf' k).2.trans (hf k).2.symm])
  unfold gated
  rw [rows_block g b 0 J hb 0 (k 1).val Nat.one_pos (k 1).isLt, (hf k).2]
  exact congrArg (fun q => x q + rows g 0 (tn * J + (k 1).val) * o (f k)) e

section
open Cert.MmOutRefIdeal Cert.MmOutRefIdeal.Gen

/-- The product both programs compute. -/
def product (a : FVec Ideal S8192x2048 .bf16) (b : FVec Ideal S2048x2048 .bf16) : FVec Ideal S8192x2048 .f32 := prod (rows a) (cols b) 2048

theorem host (a : FVec Ideal S8192x2048 .bf16) (b : FVec Ideal S2048x2048 .bf16) :
    Host.dotGeneral dot_S8192x2048_S2048x2048_S8192x2048_1_0_0_1_n_n none a b = product a b :=
  eq_of_at fun i j => by
    unfold product
    rw [prod_plain]
    pointwise

theorem host_gated (x : FVec Ideal S8192x2048 .f32) (g : FVec Ideal S1x2048 .f32) (o : FVec Ideal S8192x2048 .f32) :
    addf x (mulf (broadcastInDim S8192x2048 ![0, 1] bcast_S1x2048_S8192x2048_0_1 g) o) = gated x g o :=
  eq_of_at fun i j => by
    rw [gated_at]
    pointwise
end

section
open Cert.MmOutIdeal Cert.MmOutIdeal.Gen

theorem tile (v : FVec Ideal S1024x1024 .f32) (a : FVec Ideal S1024x512 .bf16) (b : FVec Ideal S512x1024 .bf16) :
    k0_pay2 (F := Ideal) v a b = plus v (rows a) (cols b) 512 :=
  eq_of_at fun i j => by
    rw [plus_at, prod_plain]
    unfold_payloads
    pointwise

theorem none_yet : k0_pay1 (F := Ideal) = fun _ => 0 := eq_of_at (M := 1024) (N := 1024) fun i j => by
  unfold_payloads
  pointwise

theorem tile_gated (o : FVec Ideal S1024x1024 .f32) (x : FVec Ideal S1024x1024 .f32) (g : FVec Ideal S1x1024 .f32) :
    k0_pay3 (F := Ideal) o x g = gated x g o :=
  eq_of_at fun i j => by
    rw [gated_at]
    unfold_payloads
    pointwise

section
variable (c : Dev nD) (i : grid0.Coords) (a3 : Memref sig .tc .vmem S1024x512 .bf16) (h3 : a3.IsWhole)
  (a4 : Memref sig .tc .vmem S512x1024 .bf16) (h4 : a4.IsWhole) (a5 : Memref sig .tc .vmem S1024x1024 .f32) (h5 : a5.IsWhole)
  (a6 : Memref sig .tc .vmem S1x1024 .f32) (h6 : a6.IsWhole) (a7 : Memref sig .tc .vmem S1024x1024 .f32) (h7 : a7.IsWhole)
  (a8 : Memref sig .tc .vmem S1024x1024 .f32) (h8 : a8.IsWhole) (a9 : Memref sig .tc .vmem S1024x1024 .f32) (h9 : a9.IsWhole)
  (x0 : FVec Ideal S1024x512 .bf16) (x1 : FVec Ideal S512x1024 .bf16) (x2 : FVec Ideal S1024x1024 .f32) (x3 : FVec Ideal S1x1024 .f32)
  (xs : FVec Ideal S1024x1024 .f32)

/-- What a tile's first, a middle and its last point leave in the scratch, and what the last one leaves in the two tiles. -/
theorem first (hc0 : cond0_0 i) (hc1 : ¬cond0_1 i) :
    sout0_A_0 (F := Ideal) c i a3 h3 a4 h4 a5 h5 a6 h6 a7 h7 a8 h8 a9 h9 hc0 hc1 x0 x1 x2 x3 = k0_pay2 (F := Ideal) (k0_pay1 (F := Ideal)) x0 x1 :=
  (View.read_writes_eq_canon _ _ _ (scover0_A_0 (F := Ideal) c i a3 h3 a4 h4 a5 h5 a6 h6 a7 h7 a8 h8 a9 h9 hc0 hc1 x0 x1 x2 x3)).trans
    (kept_first h3 h4 hz hz hz _ _ _)

theorem middle (hc0 : ¬cond0_0 i) (hc1 : ¬cond0_1 i) :
    sout0_B_0 (F := Ideal) c i a3 h3 a4 h4 a5 h5 a6 h6 a7 h7 a8 h8 a9 h9 hc0 hc1 x0 x1 x2 x3 xs = k0_pay2 (F := Ideal) xs x0 x1 :=
  (View.read_writes_eq_canon _ _ _ (scover0_B_0 (F := Ideal) c i a3 h3 a4 h4 a5 h5 a6 h6 a7 h7 a8 h8 a9 h9 hc0 hc1 x0 x1 x2 x3 xs)).trans
    (kept_later h3 h4 h9 hz hz hz _ _ _)

theorem last (hc0 : ¬cond0_0 i) (hc1 : cond0_1 i) :
    out0_C_4 (F := Ideal) c i a3 h3 a4 h4 a5 h5 a6 h6 a7 h7 a8 h8 a9 h9 hc0 hc1 x0 x1 x2 x3 xs = k0_pay2 (F := Ideal) xs x0 x1
    ∧ sout0_C_0 (F := Ideal) c i a3 h3 a4 h4 a5 h5 a6 h6 a7 h7 a8 h8 a9 h9 hc0 hc1 x0 x1 x2 x3 xs = k0_pay2 (F := Ideal) xs x0 x1 :=
  ⟨(View.read_writes_eq_canon _ _ _ (cover0_C_4 (F := Ideal) c i a3 h3 a4 h4 a5 h5 a6 h6 a7 h7 a8 h8 a9 h9 hc0 hc1 x0 x1 x2 x3 xs)).trans
      (stored_last h3 h4 h9 hz hz hz _ _ _),
    (View.read_writes_eq_canon _ _ _ (scover0_C_0 (F := Ideal) c i a3 h3 a4 h4 a5 h5 a6 h6 a7 h7 a8 h8 a9 h9 hc0 hc1 x0 x1 x2 x3 xs)).trans
      (kept_later h3 h4 h9 hz hz hz _ _ _)⟩

theorem last_gated (hc0 : ¬cond0_0 i) (hc1 : cond0_1 i) :
    out0_C_5 (F := Ideal) c i a3 h3 a4 h4 a5 h5 a6 h6 a7 h7 a8 h8 a9 h9 hc0 hc1 x0 x1 x2 x3 xs
      = k0_pay3 (F := Ideal) (k0_pay2 (F := Ideal) xs x0 x1) x2 x3 := by
  unfold out0_C_5
  rw [View.read_writes_eq_canon _ _ _ (cover0_C_5 (F := Ideal) c i a3 h3 a4 h4 a5 h5 a6 h6 a7 h7 a8 h8 a9 h9 hc0 hc1 x0 x1 x2 x3 xs)]
  unfold kernelRun0_C
  dsimp only
  sl_unfold_words
  simp only [View.canon_unit_zero (S := S1024x1024) hz, View.readCov_unit_zero (S := S1024x1024) _ hz, View.readAt_eq_ld,
    h3.read_unread, h4.read_unread, h5.read_unread, h6.read_unread, h9.read_unread, View.ld_unit_zero (S := S1024x512) hz,
    View.ld_unit_zero (S := S512x1024) hz, View.ld_unit_zero (S := S1024x1024) hz, View.ld_unit_zero (S := S1x1024) hz]
end

/-! ## The tiles -/

section
variable (m : (ℓ : Loc nD τ sig) → Buf (Elt Ideal) ℓ) (c : Dev nD)

/-- Which block a window names at a point. -/
theorem blocks : ∀ t : Fin grid0.N, (win0_0.index t (0 : Fin 2) = t.val / 4 / 2 ∧ win0_0.index t (1 : Fin 2) = t.val % 4)
    ∧ (win0_1.index t (0 : Fin 2) = t.val % 4 ∧ win0_1.index t (1 : Fin 2) = t.val / 4 % 2)
    ∧ (win0_2.index t (0 : Fin 2) = t.val / 4 / 2 ∧ win0_2.index t (1 : Fin 2) = t.val / 4 % 2)
    ∧ (win0_3.index t (0 : Fin 2) = 0 ∧ win0_3.index t (1 : Fin 2) = t.val / 4 % 2)
    ∧ (win0_4.index t (0 : Fin 2) = t.val / 4 / 2 ∧ win0_4.index t (1 : Fin 2) = t.val / 4 % 2)
    ∧ (win0_5.index t (0 : Fin 2) = t.val / 4 / 2 ∧ win0_5.index t (1 : Fin 2) = t.val / 4 % 2) := by decide +kernel

theorem placed (t : Fin cfg0.N) : Placed (tm := 1024) (tk := 1024) (M := 8192) (K := 2048) ((cfg0.win 4).blk t).view.emb (t.val / 4 / 2) (t.val / 4 % 2) :=
  placed_of (fun _ => ⟨rfl, rfl⟩) (blocks t).2.2.2.2.1.1 (blocks t).2.2.2.2.1.2

theorem placed_gated (t : Fin cfg0.N) : Placed (tm := 1024) (tk := 1024) (M := 8192) (K := 2048) ((cfg0.win 5).blk t).view.emb (t.val / 4 / 2) (t.val / 4 % 2) :=
  placed_of (fun _ => ⟨rfl, rfl⟩) (blocks t).2.2.2.2.2.1 (blocks t).2.2.2.2.2.2

/-- The sums in the scratch after a point, and the blocks it multiplies. -/
def held (n : ℕ) (h : n < cfg0.N) : FVec Ideal S1024x1024 .f32 := (outsAt0 m c n h).2.2
def lb (n : ℕ) (h : n < cfg0.N) : ℕ → ℕ → EReal := rows (M := 1024) (K := 512) (iblk m c 0 ⟨n, h⟩)
def rb (n : ℕ) (h : n < cfg0.N) : ℕ → ℕ → EReal := cols (M := 1024) (K := 512) (iblk m c 1 ⟨n, h⟩)

theorem at_first (t : Fin cfg0.N) (e : t.val % 4 = 0) :
    held m c t.val t.isLt = plus (fun _ => 0) (lb m c t.val t.isLt) (rb m c t.val t.isLt) 512 := by
  unfold held
  rw [outsAt0_A m c t e (by omega), first, none_yet, tile]
  rfl

section
variable (t : Fin cfg0.N) (e : ¬t.val % 4 = 0) (o : FVec Ideal S1024x1024 .f32)
  (ho : held m c (t.val - 1) (Nat.lt_of_le_of_lt (Nat.sub_le _ _) t.isLt) = o)
include e ho

theorem at_middle (e' : ¬t.val % 4 = 3) : held m c t.val t.isLt = plus o (lb m c t.val t.isLt) (rb m c t.val t.isLt) 512 := by
  unfold held at ho ⊢
  rw [outsAt0_B m c t e e', ho, middle, tile]
  rfl

theorem at_last (e' : t.val % 4 = 3) : (outsAt0 m c t.val t.isLt).1 = plus o (lb m c t.val t.isLt) (rb m c t.val t.isLt) 512
    ∧ held m c t.val t.isLt = plus o (lb m c t.val t.isLt) (rb m c t.val t.isLt) 512 := by
  unfold held at ho ⊢
  rw [outsAt0_C m c t e e', ho, (last ..).1, (last ..).2, tile]
  exact ⟨rfl, rfl⟩

theorem at_last_gated (e' : t.val % 4 = 3) : (outsAt0 m c t.val t.isLt).2.1
    = gated (M := 1024) (N := 1024) (iblk m c 2 t) (iblk m c 3 t) (plus o (lb m c t.val t.isLt) (rb m c t.val t.isLt) 512) := by
  unfold held at ho
  rw [outsAt0_C m c t e e', ho, last_gated, tile, tile_gated]
  rfl
end

theorem made_at (t : Fin cfg0.N) (e : t.val % 4 = 3) : (outsAt0 m c t.val t.isLt).1
    = fun x => product (V m c main_arg0) (V m c main_arg1) (((cfg0.win 4).blk t).view.emb x) :=
  made (acc := held m c) (lb := lb m c) (rb := rb m c) (tk := 512) (nk := 4) rfl (by decide) placed
    (fun n h i hi q hq => rows_block (V m c main_arg0) _ _ _ (placed_of (fun _ => ⟨rfl, rfl⟩) (blocks ⟨n, h⟩).1.1 (blocks ⟨n, h⟩).1.2) i q hi hq)
    (fun n h j hj q hq => cols_block (V m c main_arg1) _ _ _ (placed_of (fun _ => ⟨rfl, rfl⟩) (blocks ⟨n, h⟩).2.1.1 (blocks ⟨n, h⟩).2.1.2) j q hj hq)
    (fun n h => at_first m c ⟨n, h⟩) (fun n h e => at_middle m c ⟨n, h⟩ e _ rfl) (fun n h e => at_last m c ⟨n, h⟩ e _ rfl) t e

theorem made_gated (t : Fin cfg0.N) (e : t.val % 4 = 3) : (outsAt0 m c t.val t.isLt).2.1
    = fun x => gated (M := 8192) (N := 2048) (V m c main_arg2) (V m c main_arg3) (product (V m c main_arg0) (V m c main_arg1))
      (((cfg0.win 5).blk t).view.emb x) := by
  have e' : ¬t.val % 4 = 0 := by omega
  refine (at_last_gated m c t e' _ rfl e).trans ((congrArg (gated (M := 1024) (N := 1024) (iblk m c 2 t) (iblk m c 3 t))
    ((at_last m c t e' _ rfl e).1.symm.trans (made_at m c t e))).trans (funext fun x => ?_))
  exact gated_block (V m c main_arg2) (V m c main_arg3) _ _ _ _ (placed_gated t)
    (placed_of (fun _ => ⟨rfl, rfl⟩) (blocks t).2.2.1.1 (blocks t).2.2.1.2)
    (placed_of (fun _ => ⟨rfl, rfl⟩) (blocks t).2.2.2.1.1 (blocks t).2.2.2.1.2) x

theorem result : (dats m 0 c).arrAt 4 cfg0.N = product (V m c main_arg0) (V m c main_arg1) :=
  (dats m 0 c).arrAt_eq_of_cover 4 _
    (fun t ht => congrArg ((cfg0.win 4).cut (grid0.coords t)) ((after0_4 m c t).trans (made_at m c t ((flush0_4 t).mp ht))))
    fun i => (covered 8 2 4 rfl rfl rfl (by decide) placed (fun t x => ((cfg0.win 4).blk t).view.emb_mem_set x) i).imp
      fun t h => ⟨(flush0_4 t).mpr h.1, h.2⟩

theorem result_gated : (dats m 0 c).arrAt 5 cfg0.N
    = gated (M := 8192) (N := 2048) (V m c main_arg2) (V m c main_arg3) (product (V m c main_arg0) (V m c main_arg1)) :=
  (dats m 0 c).arrAt_eq_of_cover 5 _
    (fun t ht => congrArg ((cfg0.win 5).cut (grid0.coords t)) ((after0_5 m c t).trans (made_gated m c t ((flush0_5 t).mp ht))))
    fun i => (covered 8 2 4 rfl rfl rfl (by decide) placed_gated (fun t x => ((cfg0.win 5).blk t).view.emb_mem_set x) i).imp
      fun t h => ⟨(flush0_5 t).mpr h.1, h.2⟩
end
end

theorem frame_kernel : Cert.quiescent_MmOut := fun m g _ => Cert.MmOut.Gen.frame (F := Bits) m g

theorem frame_ideal : Cert.quiescent_MmOutIdeal := fun m g _ => Cert.MmOutIdeal.Gen.frame (F := Ideal) m g

theorem frame_ref_ideal : Cert.quiescent_MmOutRefIdeal := fun m g _ =>
  (θ_run Cert.MmOutRefIdeal.defs _ _).mono (fun r h => ⟨fun c => (h c).2.2, sem_eq_zero_of_no_sems rfl r.2⟩)
    (Cert.MmOutRefIdeal.Value.run (F := Ideal) m g)

theorem values_ideal : Cert.algebraic_MmOutIdeal_MmOutRefIdeal := fun m g m' g' _ hm =>
  ⟨_, _, (θ_run Cert.MmOutIdeal.defs _ _).mono (fun _ h c => ⟨((h c).1 4).trans (result m c), ((h c).1 5).trans (result_gated m c),
      ((h c).1 0).trans ((Cert.MmOutIdeal.Gen.dats m 0 c).arrAt_in 0 rfl _),
      ((h c).1 1).trans ((Cert.MmOutIdeal.Gen.dats m 0 c).arrAt_in 1 rfl _),
      ((h c).1 2).trans ((Cert.MmOutIdeal.Gen.dats m 0 c).arrAt_in 2 rfl _),
      ((h c).1 3).trans ((Cert.MmOutIdeal.Gen.dats m 0 c).arrAt_in 3 rfl _)⟩) (Cert.MmOutIdeal.Gen.run_main m g),
    (θ_run Cert.MmOutRefIdeal.defs _ _).mono
      (fun _ h c => by
        obtain ⟨e0, e1, e2, e3⟩ := hm c
        refine ⟨(h c).1.trans ?_, (h c).2.1.trans ?_, (h c).2.2⟩
        · rw [e0, e1]
          exact host _ _
        · rw [e0, e1, e2, e3, host, host_gated])
      (Cert.MmOutRefIdeal.Value.run (F := Ideal) m' g')⟩

end Cert.MmOutClaims

end
-- ==== Proof.MmOutDxClaims.lean ====
/- The gradient of what the projections back take: the product with the weights transposed. -/
module

public import proofs.«01_k».proof.Defs
public import proofs.«01_k».proof.Proof.MmFormula
public import proofs.«01_k».proof.Proof.NormBwdClaims
public import proofs.«01_k».proof.Proof.Gen.MmOutDx.Frame
public import proofs.«01_k».proof.Proof.Gen.MmOutDxIdeal.Frame
public import proofs.«01_k».proof.Proof.Gen.MmOutDxRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.MmFormula
open Cert.NormBwdClaims (hz)

namespace Cert.MmOutDxClaims

section
open Cert.MmOutDxRefIdeal

/-- The product both programs compute. -/
def product (a : FVec Ideal S8192x2048 .bf16) (b : FVec Ideal S2048x2048 .bf16) : FVec Ideal S8192x2048 .f32 := prod (rows a) (rows b) 2048

theorem host (a : FVec Ideal S8192x2048 .bf16) (b : FVec Ideal S2048x2048 .bf16) :
    Host.dotGeneral dot_S8192x2048_S2048x2048_S8192x2048_1_1_0_0_n_n none a b = product a b :=
  eq_of_at fun i j => by
    unfold product
    rw [prod_right]
    pointwise
end

section
open Cert.MmOutDxIdeal Cert.MmOutDxIdeal.Gen

theorem tile (v : FVec Ideal S1024x1024 .f32) (a b : FVec Ideal S1024x512 .bf16) : k0_pay2 (F := Ideal) v a b = plus v (rows a) (rows b) 512 :=
  eq_of_at fun i j => by
    rw [plus_at, prod_right]
    unfold_payloads
    pointwise

theorem none_yet : k0_pay1 (F := Ideal) = fun _ => 0 := eq_of_at (M := 1024) (N := 1024) fun i j => by
  unfold_payloads
  pointwise

section
variable (c : Dev nD) (i : grid0.Coords) (a3 : Memref sig .tc .vmem S1024x512 .bf16) (h3 : a3.IsWhole)
  (a4 : Memref sig .tc .vmem S1024x512 .bf16) (h4 : a4.IsWhole) (a5 : Memref sig .tc .vmem S1024x1024 .f32) (h5 : a5.IsWhole)
  (a6 : Memref sig .tc .vmem S1024x1024 .f32) (h6 : a6.IsWhole) (x0 x1 : FVec Ideal S1024x512 .bf16) (xs : FVec Ideal S1024x1024 .f32)

/-- What a tile's first, a middle and its last point leave in the scratch, and what the last one leaves in the tile. -/
theorem first (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 :=
  (View.read_writes_eq_canon _ _ _ (scover0_A_0 (F := Ideal) c i a3 h3 a4 h4 a5 h5 a6 h6 hc0 hc1 x0 x1)).trans (kept_first h3 h4 hz hz hz _ _ _)

theorem middle (hc0 : ¬cond0_0 i) (hc1 : ¬cond0_1 i) :
    sout0_B_0 (F := Ideal) c i a3 h3 a4 h4 a5 h5 a6 h6 hc0 hc1 x0 x1 xs = k0_pay2 (F := Ideal) xs x0 x1 :=
  (View.read_writes_eq_canon _ _ _ (scover0_B_0 (F := Ideal) c i a3 h3 a4 h4 a5 h5 a6 h6 hc0 hc1 x0 x1 xs)).trans (kept_later h3 h4 h6 hz hz hz _ _ _)

theorem last (hc0 : ¬cond0_0 i) (hc1 : cond0_1 i) :
    out0_C_2 (F := Ideal) c i a3 h3 a4 h4 a5 h5 a6 h6 hc0 hc1 x0 x1 xs = k0_pay2 (F := Ideal) xs x0 x1
    ∧ sout0_C_0 (F := Ideal) c i a3 h3 a4 h4 a5 h5 a6 h6 hc0 hc1 x0 x1 xs = k0_pay2 (F := Ideal) xs x0 x1 :=
  ⟨(View.read_writes_eq_canon _ _ _ (cover0_C_2 (F := Ideal) c i a3 h3 a4 h4 a5 h5 a6 h6 hc0 hc1 x0 x1 xs)).trans (stored_last h3 h4 h6 hz hz hz _ _ _),
    (View.read_writes_eq_canon _ _ _ (scover0_C_0 (F := Ideal) c i a3 h3 a4 h4 a5 h5 a6 h6 hc0 hc1 x0 x1 xs)).trans (kept_later h3 h4 h6 hz hz hz _ _ _)⟩
end

/-! ## The tiles -/

section
variable (m : (ℓ : Loc nD τ sig) → Buf (Elt Ideal) ℓ) (c : Dev nD)

/-- Which block a window names at a point. -/
theorem blocks : ∀ t : Fin grid0.N, (win0_0.index t (0 : Fin 2) = t.val / 4 / 2 ∧ win0_0.index t (1 : Fin 2) = t.val % 4)
    ∧ (win0_1.index t (0 : Fin 2) = t.val / 4 % 2 ∧ win0_1.index t (1 : Fin 2) = t.val % 4)
    ∧ (win0_2.index t (0 : Fin 2) = t.val / 4 / 2 ∧ win0_2.index t (1 : Fin 2) = t.val / 4 % 2) := by decide +kernel

theorem placed (t : Fin cfg0.N) : Placed (tm := 1024) (tk := 1024) (M := 8192) (K := 2048) ((cfg0.win 2).blk t).view.emb (t.val / 4 / 2) (t.val / 4 % 2) :=
  placed_of (fun _ => ⟨rfl, rfl⟩) (blocks t).2.2.1 (blocks t).2.2.2

/-- The sums in the scratch after a point, and the blocks it multiplies. -/
def held (n : ℕ) (h : n < cfg0.N) : FVec Ideal S1024x1024 .f32 := (outsAt0 m c n h).2
def lb (n : ℕ) (h : n < cfg0.N) : ℕ → ℕ → EReal := rows (M := 1024) (K := 512) (iblk m c 0 ⟨n, h⟩)
def rb (n : ℕ) (h : n < cfg0.N) : ℕ → ℕ → EReal := rows (M := 1024) (K := 512) (iblk m c 1 ⟨n, h⟩)

theorem at_first (t : Fin cfg0.N) (e : t.val % 4 = 0) :
    held m c t.val t.isLt = plus (fun _ => 0) (lb m c t.val t.isLt) (rb m c t.val t.isLt) 512 := by
  unfold held
  rw [outsAt0_A m c t e (by omega), first, none_yet, tile]
  rfl

section
variable (t : Fin cfg0.N) (e : ¬t.val % 4 = 0) (o : FVec Ideal S1024x1024 .f32)
  (ho : held m c (t.val - 1) (Nat.lt_of_le_of_lt (Nat.sub_le _ _) t.isLt) = o)
include e ho

theorem at_middle (e' : ¬t.val % 4 = 3) : held m c t.val t.isLt = plus o (lb m c t.val t.isLt) (rb m c t.val t.isLt) 512 := by
  unfold held at ho ⊢
  rw [outsAt0_B m c t e e', ho, middle, tile]
  rfl

theorem at_last (e' : t.val % 4 = 3) : (outsAt0 m c t.val t.isLt).1 = plus o (lb m c t.val t.isLt) (rb m c t.val t.isLt) 512
    ∧ held m c t.val t.isLt = plus o (lb m c t.val t.isLt) (rb m c t.val t.isLt) 512 := by
  unfold held at ho ⊢
  rw [outsAt0_C m c t e e', ho, (last ..).1, (last ..).2, tile]
  exact ⟨rfl, rfl⟩
end

theorem made_at (t : Fin cfg0.N) (e : t.val % 4 = 3) : (outsAt0 m c t.val t.isLt).1
    = fun x => product (V m c main_arg0) (V m c main_arg1) (((cfg0.win 2).blk t).view.emb x) :=
  made (acc := held m c) (lb := lb m c) (rb := rb m c) (tk := 512) (nk := 4) rfl (by decide) placed
    (fun n h i hi q hq => rows_block (V m c main_arg0) _ _ _ (placed_of (fun _ => ⟨rfl, rfl⟩) (blocks ⟨n, h⟩).1.1 (blocks ⟨n, h⟩).1.2) i q hi hq)
    (fun n h j hj q hq => rows_block (V m c main_arg1) _ _ _ (placed_of (fun _ => ⟨rfl, rfl⟩) (blocks ⟨n, h⟩).2.1.1 (blocks ⟨n, h⟩).2.1.2) j q hj hq)
    (fun n h => at_first m c ⟨n, h⟩) (fun n h e => at_middle m c ⟨n, h⟩ e _ rfl) (fun n h e => at_last m c ⟨n, h⟩ e _ rfl) t e

theorem result : (dats m 0 c).arrAt 2 cfg0.N = product (V m c main_arg0) (V m c main_arg1) :=
  (dats m 0 c).arrAt_eq_of_cover 2 _
    (fun t ht => congrArg ((cfg0.win 2).cut (grid0.coords t)) ((after0_2 m c t).trans (made_at m c t ((flush0_2 t).mp ht))))
    fun i => (covered 8 2 4 rfl rfl rfl (by decide) placed (fun t x => ((cfg0.win 2).blk t).view.emb_mem_set x) i).imp
      fun t h => ⟨(flush0_2 t).mpr h.1, h.2⟩
end
end

theorem frame_kernel : Cert.quiescent_MmOutDx := fun m g _ => Cert.MmOutDx.Gen.frame (F := Bits) m g

theorem frame_ideal : Cert.quiescent_MmOutDxIdeal := fun m g _ => Cert.MmOutDxIdeal.Gen.frame (F := Ideal) m g

theorem frame_ref_ideal : Cert.quiescent_MmOutDxRefIdeal := fun m g _ =>
  (θ_run Cert.MmOutDxRefIdeal.defs _ _).mono (fun r h => ⟨fun c => (h c).2, sem_eq_zero_of_no_sems rfl r.2⟩)
    (Cert.MmOutDxRefIdeal.Value.run (F := Ideal) m g)

theorem values_ideal : Cert.algebraic_MmOutDxIdeal_MmOutDxRefIdeal := fun m g m' g' _ hm =>
  ⟨_, (θ_run Cert.MmOutDxIdeal.defs _ _).mono (fun _ h c => ⟨((h c).1 2).trans (result m c),
      ((h c).1 0).trans ((Cert.MmOutDxIdeal.Gen.dats m 0 c).arrAt_in 0 rfl _),
      ((h c).1 1).trans ((Cert.MmOutDxIdeal.Gen.dats m 0 c).arrAt_in 1 rfl _)⟩) (Cert.MmOutDxIdeal.Gen.run_main m g),
    (θ_run Cert.MmOutDxRefIdeal.defs _ _).mono
      (fun _ h c => ⟨(h c).1.trans (by rw [(hm c).1, (hm c).2]; exact host _ _), (h c).2⟩)
      (Cert.MmOutDxRefIdeal.Value.run (F := Ideal) m' g')⟩

end Cert.MmOutDxClaims

end
-- ==== Proof.MmOdInDxClaims.lean ====
/- The gradient of what the second layer's widening projection takes: the product with the weights transposed. -/
module

public import proofs.«01_k».proof.Defs
public import proofs.«01_k».proof.Proof.MmFormula
public import proofs.«01_k».proof.Proof.NormBwdClaims
public import proofs.«01_k».proof.Proof.Gen.MmOdInDx.Frame
public import proofs.«01_k».proof.Proof.Gen.MmOdInDxIdeal.Frame
public import proofs.«01_k».proof.Proof.Gen.MmOdInDxRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.MmFormula
open Cert.NormBwdClaims (hz)

namespace Cert.MmOdInDxClaims

section
open Cert.MmOdInDxRefIdeal

/-- The product both programs compute. -/
def product (a : FVec Ideal S8192x6144 .bf16) (b : FVec Ideal S2048x6144 .bf16) : FVec Ideal S8192x2048 .f32 := prod (rows a) (rows b) 6144

theorem host (a : FVec Ideal S8192x6144 .bf16) (b : FVec Ideal S2048x6144 .bf16) :
    Host.dotGeneral dot_S8192x6144_S2048x6144_S8192x2048_1_1_0_0_n_n none a b = product a b :=
  eq_of_at fun i j => by
    unfold product
    rw [prod_right]
    pointwise
end

section
open Cert.MmOdInDxIdeal Cert.MmOdInDxIdeal.Gen

theorem tile (v : FVec Ideal S1024x1024 .f32) (a b : FVec Ideal S1024x512 .bf16) : k0_pay2 (F := Ideal) v a b = plus v (rows a) (rows b) 512 :=
  eq_of_at fun i j => by
    rw [plus_at, prod_right]
    unfold_payloads
    pointwise

theorem none_yet : k0_pay1 (F := Ideal) = fun _ => 0 := eq_of_at (M := 1024) (N := 1024) fun i j => by
  unfold_payloads
  pointwise

section
variable (c : Dev nD) (i : grid0.Coords) (a3 : Memref sig .tc .vmem S1024x512 .bf16) (h3 : a3.IsWhole)
  (a4 : Memref sig .tc .vmem S1024x512 .bf16) (h4 : a4.IsWhole) (a5 : Memref sig .tc .vmem S1024x1024 .f32) (h5 : a5.IsWhole)
  (a6 : Memref sig .tc .vmem S1024x1024 .f32) (h6 : a6.IsWhole) (x0 x1 : FVec Ideal S1024x512 .bf16) (xs : FVec Ideal S1024x1024 .f32)

/-- What a tile's first, a middle and its last point leave in the scratch, and what the last one leaves in the tile. -/
theorem first (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 :=
  (View.read_writes_eq_canon _ _ _ (scover0_A_0 (F := Ideal) c i a3 h3 a4 h4 a5 h5 a6 h6 hc0 hc1 x0 x1)).trans (kept_first h3 h4 hz hz hz _ _ _)

theorem middle (hc0 : ¬cond0_0 i) (hc1 : ¬cond0_1 i) :
    sout0_B_0 (F := Ideal) c i a3 h3 a4 h4 a5 h5 a6 h6 hc0 hc1 x0 x1 xs = k0_pay2 (F := Ideal) xs x0 x1 :=
  (View.read_writes_eq_canon _ _ _ (scover0_B_0 (F := Ideal) c i a3 h3 a4 h4 a5 h5 a6 h6 hc0 hc1 x0 x1 xs)).trans (kept_later h3 h4 h6 hz hz hz _ _ _)

theorem last (hc0 : ¬cond0_0 i) (hc1 : cond0_1 i) :
    out0_C_2 (F := Ideal) c i a3 h3 a4 h4 a5 h5 a6 h6 hc0 hc1 x0 x1 xs = k0_pay2 (F := Ideal) xs x0 x1
    ∧ sout0_C_0 (F := Ideal) c i a3 h3 a4 h4 a5 h5 a6 h6 hc0 hc1 x0 x1 xs = k0_pay2 (F := Ideal) xs x0 x1 :=
  ⟨(View.read_writes_eq_canon _ _ _ (cover0_C_2 (F := Ideal) c i a3 h3 a4 h4 a5 h5 a6 h6 hc0 hc1 x0 x1 xs)).trans (stored_last h3 h4 h6 hz hz hz _ _ _),
    (View.read_writes_eq_canon _ _ _ (scover0_C_0 (F := Ideal) c i a3 h3 a4 h4 a5 h5 a6 h6 hc0 hc1 x0 x1 xs)).trans (kept_later h3 h4 h6 hz hz hz _ _ _)⟩
end

/-! ## The tiles -/

section
variable (m : (ℓ : Loc nD τ sig) → Buf (Elt Ideal) ℓ) (c : Dev nD)

/-- Which block a window names at a point. -/
theorem blocks : ∀ t : Fin grid0.N, (win0_0.index t (0 : Fin 2) = t.val / 12 / 2 ∧ win0_0.index t (1 : Fin 2) = t.val % 12)
    ∧ (win0_1.index t (0 : Fin 2) = t.val / 12 % 2 ∧ win0_1.index t (1 : Fin 2) = t.val % 12)
    ∧ (win0_2.index t (0 : Fin 2) = t.val / 12 / 2 ∧ win0_2.index t (1 : Fin 2) = t.val / 12 % 2) := by decide +kernel

theorem placed (t : Fin cfg0.N) : Placed (tm := 1024) (tk := 1024) (M := 8192) (K := 2048) ((cfg0.win 2).blk t).view.emb (t.val / 12 / 2) (t.val / 12 % 2) :=
  placed_of (fun _ => ⟨rfl, rfl⟩) (blocks t).2.2.1 (blocks t).2.2.2

/-- The sums in the scratch after a point, and the blocks it multiplies. -/
def held (n : ℕ) (h : n < cfg0.N) : FVec Ideal S1024x1024 .f32 := (outsAt0 m c n h).2
def lb (n : ℕ) (h : n < cfg0.N) : ℕ → ℕ → EReal := rows (M := 1024) (K := 512) (iblk m c 0 ⟨n, h⟩)
def rb (n : ℕ) (h : n < cfg0.N) : ℕ → ℕ → EReal := rows (M := 1024) (K := 512) (iblk m c 1 ⟨n, h⟩)

theorem at_first (t : Fin cfg0.N) (e : t.val % 12 = 0) :
    held m c t.val t.isLt = plus (fun _ => 0) (lb m c t.val t.isLt) (rb m c t.val t.isLt) 512 := by
  unfold held
  rw [outsAt0_A m c t e (by omega), first, none_yet, tile]
  rfl

section
variable (t : Fin cfg0.N) (e : ¬t.val % 12 = 0) (o : FVec Ideal S1024x1024 .f32)
  (ho : held m c (t.val - 1) (Nat.lt_of_le_of_lt (Nat.sub_le _ _) t.isLt) = o)
include e ho

theorem at_middle (e' : ¬t.val % 12 = 11) : held m c t.val t.isLt = plus o (lb m c t.val t.isLt) (rb m c t.val t.isLt) 512 := by
  unfold held at ho ⊢
  rw [outsAt0_B m c t e e', ho, middle, tile]
  rfl

theorem at_last (e' : t.val % 12 = 11) : (outsAt0 m c t.val t.isLt).1 = plus o (lb m c t.val t.isLt) (rb m c t.val t.isLt) 512
    ∧ held m c t.val t.isLt = plus o (lb m c t.val t.isLt) (rb m c t.val t.isLt) 512 := by
  unfold held at ho ⊢
  rw [outsAt0_C m c t e e', ho, (last ..).1, (last ..).2, tile]
  exact ⟨rfl, rfl⟩
end

theorem made_at (t : Fin cfg0.N) (e : t.val % 12 = 11) : (outsAt0 m c t.val t.isLt).1
    = fun x => product (V m c main_arg0) (V m c main_arg1) (((cfg0.win 2).blk t).view.emb x) :=
  made (acc := held m c) (lb := lb m c) (rb := rb m c) (tk := 512) (nk := 12) rfl (by decide) placed
    (fun n h i hi q hq => rows_block (V m c main_arg0) _ _ _ (placed_of (fun _ => ⟨rfl, rfl⟩) (blocks ⟨n, h⟩).1.1 (blocks ⟨n, h⟩).1.2) i q hi hq)
    (fun n h j hj q hq => rows_block (V m c main_arg1) _ _ _ (placed_of (fun _ => ⟨rfl, rfl⟩) (blocks ⟨n, h⟩).2.1.1 (blocks ⟨n, h⟩).2.1.2) j q hj hq)
    (fun n h => at_first m c ⟨n, h⟩) (fun n h e => at_middle m c ⟨n, h⟩ e _ rfl) (fun n h e => at_last m c ⟨n, h⟩ e _ rfl) t e

theorem result : (dats m 0 c).arrAt 2 cfg0.N = product (V m c main_arg0) (V m c main_arg1) :=
  (dats m 0 c).arrAt_eq_of_cover 2 _
    (fun t ht => congrArg ((cfg0.win 2).cut (grid0.coords t)) ((after0_2 m c t).trans (made_at m c t ((flush0_2 t).mp ht))))
    fun i => (covered 8 2 12 rfl rfl rfl (by decide) placed (fun t x => ((cfg0.win 2).blk t).view.emb_mem_set x) i).imp
      fun t h => ⟨(flush0_2 t).mpr h.1, h.2⟩
end
end

theorem frame_kernel : Cert.quiescent_MmOdInDx := fun m g _ => Cert.MmOdInDx.Gen.frame (F := Bits) m g

theorem frame_ideal : Cert.quiescent_MmOdInDxIdeal := fun m g _ => Cert.MmOdInDxIdeal.Gen.frame (F := Ideal) m g

theorem frame_ref_ideal : Cert.quiescent_MmOdInDxRefIdeal := fun m g _ =>
  (θ_run Cert.MmOdInDxRefIdeal.defs _ _).mono (fun r h => ⟨fun c => (h c).2, sem_eq_zero_of_no_sems rfl r.2⟩)
    (Cert.MmOdInDxRefIdeal.Value.run (F := Ideal) m g)

theorem values_ideal : Cert.algebraic_MmOdInDxIdeal_MmOdInDxRefIdeal := fun m g m' g' _ hm =>
  ⟨_, (θ_run Cert.MmOdInDxIdeal.defs _ _).mono (fun _ h c => ⟨((h c).1 2).trans (result m c),
      ((h c).1 0).trans ((Cert.MmOdInDxIdeal.Gen.dats m 0 c).arrAt_in 0 rfl _),
      ((h c).1 1).trans ((Cert.MmOdInDxIdeal.Gen.dats m 0 c).arrAt_in 1 rfl _)⟩) (Cert.MmOdInDxIdeal.Gen.run_main m g),
    (θ_run Cert.MmOdInDxRefIdeal.defs _ _).mono
      (fun _ h c => ⟨(h c).1.trans (by rw [(hm c).1, (hm c).2]; exact host _ _), (h c).2⟩)
      (Cert.MmOdInDxRefIdeal.Value.run (F := Ideal) m' g')⟩

end Cert.MmOdInDxClaims

end
-- ==== Proof.MmEvInDxClaims.lean ====
/- The gradient of what the first layer's widening projection takes: the product with the weights transposed. -/
module

public import proofs.«01_k».proof.Defs
public import proofs.«01_k».proof.Proof.MmFormula
public import proofs.«01_k».proof.Proof.NormBwdClaims
public import proofs.«01_k».proof.Proof.Gen.MmEvInDx.Frame
public import proofs.«01_k».proof.Proof.Gen.MmEvInDxIdeal.Frame
public import proofs.«01_k».proof.Proof.Gen.MmEvInDxRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.MmFormula
open Cert.NormBwdClaims (hz)

namespace Cert.MmEvInDxClaims

section
open Cert.MmEvInDxRefIdeal

/-- The product both programs compute. -/
def product (a : FVec Ideal S8448x5632 .bf16) (b : FVec Ideal S2048x5632 .bf16) : FVec Ideal S8448x2048 .f32 := prod (rows a) (rows b) 5632

theorem host (a : FVec Ideal S8448x5632 .bf16) (b : FVec Ideal S2048x5632 .bf16) :
    Host.dotGeneral dot_S8448x5632_S2048x5632_S8448x2048_1_1_0_0_n_n none a b = product a b :=
  eq_of_at fun i j => by
    unfold product
    rw [prod_right]
    pointwise
end

section
open Cert.MmEvInDxIdeal Cert.MmEvInDxIdeal.Gen

theorem tile (v : FVec Ideal S1408x1024 .f32) (a : FVec Ideal S1408x512 .bf16) (b : FVec Ideal S1024x512 .bf16) :
    k0_pay2 (F := Ideal) v a b = plus v (rows a) (rows b) 512 :=
  eq_of_at fun i j => by
    rw [plus_at, prod_right]
    unfold_payloads
    pointwise

theorem none_yet : k0_pay1 (F := Ideal) = fun _ => 0 := eq_of_at (M := 1408) (N := 1024) fun i j => by
  unfold_payloads
  pointwise

section
variable (c : Dev nD) (i : grid0.Coords) (a3 : Memref sig .tc .vmem S1408x512 .bf16) (h3 : a3.IsWhole)
  (a4 : Memref sig .tc .vmem S1024x512 .bf16) (h4 : a4.IsWhole) (a5 : Memref sig .tc .vmem S1408x1024 .f32) (h5 : a5.IsWhole)
  (a6 : Memref sig .tc .vmem S1408x1024 .f32) (h6 : a6.IsWhole) (x0 : FVec Ideal S1408x512 .bf16) (x1 : FVec Ideal S1024x512 .bf16)
  (xs : FVec Ideal S1408x1024 .f32)

/-- What a tile's first, a middle and its last point leave in the scratch, and what the last one leaves in the tile. -/
theorem first (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 :=
  (View.read_writes_eq_canon _ _ _ (scover0_A_0 (F := Ideal) c i a3 h3 a4 h4 a5 h5 a6 h6 hc0 hc1 x0 x1)).trans (kept_first h3 h4 hz hz hz _ _ _)

theorem middle (hc0 : ¬cond0_0 i) (hc1 : ¬cond0_1 i) :
    sout0_B_0 (F := Ideal) c i a3 h3 a4 h4 a5 h5 a6 h6 hc0 hc1 x0 x1 xs = k0_pay2 (F := Ideal) xs x0 x1 :=
  (View.read_writes_eq_canon _ _ _ (scover0_B_0 (F := Ideal) c i a3 h3 a4 h4 a5 h5 a6 h6 hc0 hc1 x0 x1 xs)).trans (kept_later h3 h4 h6 hz hz hz _ _ _)

theorem last (hc0 : ¬cond0_0 i) (hc1 : cond0_1 i) :
    out0_C_2 (F := Ideal) c i a3 h3 a4 h4 a5 h5 a6 h6 hc0 hc1 x0 x1 xs = k0_pay2 (F := Ideal) xs x0 x1
    ∧ sout0_C_0 (F := Ideal) c i a3 h3 a4 h4 a5 h5 a6 h6 hc0 hc1 x0 x1 xs = k0_pay2 (F := Ideal) xs x0 x1 :=
  ⟨(View.read_writes_eq_canon _ _ _ (cover0_C_2 (F := Ideal) c i a3 h3 a4 h4 a5 h5 a6 h6 hc0 hc1 x0 x1 xs)).trans (stored_last h3 h4 h6 hz hz hz _ _ _),
    (View.read_writes_eq_canon _ _ _ (scover0_C_0 (F := Ideal) c i a3 h3 a4 h4 a5 h5 a6 h6 hc0 hc1 x0 x1 xs)).trans (kept_later h3 h4 h6 hz hz hz _ _ _)⟩
end

/-! ## The tiles -/

section
variable (m : (ℓ : Loc nD τ sig) → Buf (Elt Ideal) ℓ) (c : Dev nD)

/-- Which block a window names at a point. -/
theorem blocks : ∀ t : Fin grid0.N, (win0_0.index t (0 : Fin 2) = t.val / 11 / 2 ∧ win0_0.index t (1 : Fin 2) = t.val % 11)
    ∧ (win0_1.index t (0 : Fin 2) = t.val / 11 % 2 ∧ win0_1.index t (1 : Fin 2) = t.val % 11)
    ∧ (win0_2.index t (0 : Fin 2) = t.val / 11 / 2 ∧ win0_2.index t (1 : Fin 2) = t.val / 11 % 2) := by decide +kernel

theorem placed (t : Fin cfg0.N) : Placed (tm := 1408) (tk := 1024) (M := 8448) (K := 2048) ((cfg0.win 2).blk t).view.emb (t.val / 11 / 2) (t.val / 11 % 2) :=
  placed_of (fun _ => ⟨rfl, rfl⟩) (blocks t).2.2.1 (blocks t).2.2.2

/-- The sums in the scratch after a point, and the blocks it multiplies. -/
def held (n : ℕ) (h : n < cfg0.N) : FVec Ideal S1408x1024 .f32 := (outsAt0 m c n h).2
def lb (n : ℕ) (h : n < cfg0.N) : ℕ → ℕ → EReal := rows (M := 1408) (K := 512) (iblk m c 0 ⟨n, h⟩)
def rb (n : ℕ) (h : n < cfg0.N) : ℕ → ℕ → EReal := rows (M := 1024) (K := 512) (iblk m c 1 ⟨n, h⟩)

theorem at_first (t : Fin cfg0.N) (e : t.val % 11 = 0) :
    held m c t.val t.isLt = plus (fun _ => 0) (lb m c t.val t.isLt) (rb m c t.val t.isLt) 512 := by
  unfold held
  rw [outsAt0_A m c t e (by omega), first, none_yet, tile]
  rfl

section
variable (t : Fin cfg0.N) (e : ¬t.val % 11 = 0) (o : FVec Ideal S1408x1024 .f32)
  (ho : held m c (t.val - 1) (Nat.lt_of_le_of_lt (Nat.sub_le _ _) t.isLt) = o)
include e ho

theorem at_middle (e' : ¬t.val % 11 = 10) : held m c t.val t.isLt = plus o (lb m c t.val t.isLt) (rb m c t.val t.isLt) 512 := by
  unfold held at ho ⊢
  rw [outsAt0_B m c t e e', ho, middle, tile]
  rfl

theorem at_last (e' : t.val % 11 = 10) : (outsAt0 m c t.val t.isLt).1 = plus o (lb m c t.val t.isLt) (rb m c t.val t.isLt) 512
    ∧ held m c t.val t.isLt = plus o (lb m c t.val t.isLt) (rb m c t.val t.isLt) 512 := by
  unfold held at ho ⊢
  rw [outsAt0_C m c t e e', ho, (last ..).1, (last ..).2, tile]
  exact ⟨rfl, rfl⟩
end

theorem made_at (t : Fin cfg0.N) (e : t.val % 11 = 10) : (outsAt0 m c t.val t.isLt).1
    = fun x => product (V m c main_arg0) (V m c main_arg1) (((cfg0.win 2).blk t).view.emb x) :=
  made (acc := held m c) (lb := lb m c) (rb := rb m c) (tk := 512) (nk := 11) rfl (by decide) placed
    (fun n h i hi q hq => rows_block (V m c main_arg0) _ _ _ (placed_of (fun _ => ⟨rfl, rfl⟩) (blocks ⟨n, h⟩).1.1 (blocks ⟨n, h⟩).1.2) i q hi hq)
    (fun n h j hj q hq => rows_block (V m c main_arg1) _ _ _ (placed_of (fun _ => ⟨rfl, rfl⟩) (blocks ⟨n, h⟩).2.1.1 (blocks ⟨n, h⟩).2.1.2) j q hj hq)
    (fun n h => at_first m c ⟨n, h⟩) (fun n h e => at_middle m c ⟨n, h⟩ e _ rfl) (fun n h e => at_last m c ⟨n, h⟩ e _ rfl) t e

theorem result : (dats m 0 c).arrAt 2 cfg0.N = product (V m c main_arg0) (V m c main_arg1) :=
  (dats m 0 c).arrAt_eq_of_cover 2 _
    (fun t ht => congrArg ((cfg0.win 2).cut (grid0.coords t)) ((after0_2 m c t).trans (made_at m c t ((flush0_2 t).mp ht))))
    fun i => (covered 6 2 11 rfl rfl rfl (by decide) placed (fun t x => ((cfg0.win 2).blk t).view.emb_mem_set x) i).imp
      fun t h => ⟨(flush0_2 t).mpr h.1, h.2⟩
end
end

theorem frame_kernel : Cert.quiescent_MmEvInDx := fun m g _ => Cert.MmEvInDx.Gen.frame (F := Bits) m g

theorem frame_ideal : Cert.quiescent_MmEvInDxIdeal := fun m g _ => Cert.MmEvInDxIdeal.Gen.frame (F := Ideal) m g

theorem frame_ref_ideal : Cert.quiescent_MmEvInDxRefIdeal := fun m g _ =>
  (θ_run Cert.MmEvInDxRefIdeal.defs _ _).mono (fun r h => ⟨fun c => (h c).2, sem_eq_zero_of_no_sems rfl r.2⟩)
    (Cert.MmEvInDxRefIdeal.Value.run (F := Ideal) m g)

theorem values_ideal : Cert.algebraic_MmEvInDxIdeal_MmEvInDxRefIdeal := fun m g m' g' _ hm =>
  ⟨_, (θ_run Cert.MmEvInDxIdeal.defs _ _).mono (fun _ h c => ⟨((h c).1 2).trans (result m c),
      ((h c).1 0).trans ((Cert.MmEvInDxIdeal.Gen.dats m 0 c).arrAt_in 0 rfl _),
      ((h c).1 1).trans ((Cert.MmEvInDxIdeal.Gen.dats m 0 c).arrAt_in 1 rfl _)⟩) (Cert.MmEvInDxIdeal.Gen.run_main m g),
    (θ_run Cert.MmEvInDxRefIdeal.defs _ _).mono
      (fun _ h c => ⟨(h c).1.trans (by rw [(hm c).1, (hm c).2]; exact host _ _), (h c).2⟩)
      (Cert.MmEvInDxRefIdeal.Value.run (F := Ideal) m' g')⟩

end Cert.MmEvInDxClaims

end
-- ==== Proof.MmOutDwClaims.lean ====
/- The gradient of the narrowing projection's weights: the transposed inputs times the gradient. -/
module

public import proofs.«01_k».proof.Defs
public import proofs.«01_k».proof.Proof.MmFormula
public import proofs.«01_k».proof.Proof.NormBwdClaims
public import proofs.«01_k».proof.Proof.Gen.MmOutDw.Frame
public import proofs.«01_k».proof.Proof.Gen.MmOutDwIdeal.Frame
public import proofs.«01_k».proof.Proof.Gen.MmOutDwRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.MmFormula
open Cert.NormBwdClaims (hz)

namespace Cert.MmOutDwClaims

section
open Cert.MmOutDwRefIdeal

/-- The product both programs compute. -/
def product (a b : FVec Ideal S8192x2048 .bf16) : FVec Ideal S2048x2048 .f32 := prod (cols a) (cols b) 8192

theorem host (a b : FVec Ideal S8192x2048 .bf16) :
    Host.dotGeneral dot_S8192x2048_S8192x2048_S2048x2048_0_0_1_1_n_n none a b = product a b :=
  eq_of_at fun i j => by
    unfold product
    rw [prod_left]
    pointwise
end

section
open Cert.MmOutDwIdeal Cert.MmOutDwIdeal.Gen

theorem tile (v : FVec Ideal S1024x1024 .f32) (a b : FVec Ideal S1024x1024 .bf16) : k0_pay2 (F := Ideal) v a b = plus v (cols a) (cols b) 1024 :=
  eq_of_at fun i j => by
    rw [plus_at, prod_left]
    unfold_payloads
    pointwise

theorem none_yet : k0_pay1 (F := Ideal) = fun _ => 0 := eq_of_at (M := 1024) (N := 1024) fun i j => by
  unfold_payloads
  pointwise

section
variable (c : Dev nD) (i : grid0.Coords) (a3 : Memref sig .tc .vmem S1024x1024 .bf16) (h3 : a3.IsWhole)
  (a4 : Memref sig .tc .vmem S1024x1024 .bf16) (h4 : a4.IsWhole) (a5 : Memref sig .tc .vmem S1024x1024 .f32) (h5 : a5.IsWhole)
  (a6 : Memref sig .tc .vmem S1024x1024 .f32) (h6 : a6.IsWhole) (x0 x1 : FVec Ideal S1024x1024 .bf16) (xs : FVec Ideal S1024x1024 .f32)

/-- What a tile's first, a middle and its last point leave in the scratch, and what the last one leaves in the tile. -/
theorem first (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 :=
  (View.read_writes_eq_canon _ _ _ (scover0_A_0 (F := Ideal) c i a3 h3 a4 h4 a5 h5 a6 h6 hc0 hc1 x0 x1)).trans (kept_first h3 h4 hz hz hz _ _ _)

theorem middle (hc0 : ¬cond0_0 i) (hc1 : ¬cond0_1 i) :
    sout0_B_0 (F := Ideal) c i a3 h3 a4 h4 a5 h5 a6 h6 hc0 hc1 x0 x1 xs = k0_pay2 (F := Ideal) xs x0 x1 :=
  (View.read_writes_eq_canon _ _ _ (scover0_B_0 (F := Ideal) c i a3 h3 a4 h4 a5 h5 a6 h6 hc0 hc1 x0 x1 xs)).trans (kept_later h3 h4 h6 hz hz hz _ _ _)

theorem last (hc0 : ¬cond0_0 i) (hc1 : cond0_1 i) :
    out0_C_2 (F := Ideal) c i a3 h3 a4 h4 a5 h5 a6 h6 hc0 hc1 x0 x1 xs = k0_pay2 (F := Ideal) xs x0 x1
    ∧ sout0_C_0 (F := Ideal) c i a3 h3 a4 h4 a5 h5 a6 h6 hc0 hc1 x0 x1 xs = k0_pay2 (F := Ideal) xs x0 x1 :=
  ⟨(View.read_writes_eq_canon _ _ _ (cover0_C_2 (F := Ideal) c i a3 h3 a4 h4 a5 h5 a6 h6 hc0 hc1 x0 x1 xs)).trans (stored_last h3 h4 h6 hz hz hz _ _ _),
    (View.read_writes_eq_canon _ _ _ (scover0_C_0 (F := Ideal) c i a3 h3 a4 h4 a5 h5 a6 h6 hc0 hc1 x0 x1 xs)).trans (kept_later h3 h4 h6 hz hz hz _ _ _)⟩
end

/-! ## The tiles -/

section
variable (m : (ℓ : Loc nD τ sig) → Buf (Elt Ideal) ℓ) (c : Dev nD)

/-- Which block a window names at a point. -/
theorem blocks : ∀ t : Fin grid0.N, (win0_0.index t (0 : Fin 2) = t.val % 8 ∧ win0_0.index t (1 : Fin 2) = t.val / 8 / 2)
    ∧ (win0_1.index t (0 : Fin 2) = t.val % 8 ∧ win0_1.index t (1 : Fin 2) = t.val / 8 % 2)
    ∧ (win0_2.index t (0 : Fin 2) = t.val / 8 / 2 ∧ win0_2.index t (1 : Fin 2) = t.val / 8 % 2) := by decide +kernel

theorem placed (t : Fin cfg0.N) : Placed (tm := 1024) (tk := 1024) (M := 2048) (K := 2048) ((cfg0.win 2).blk t).view.emb (t.val / 8 / 2) (t.val / 8 % 2) :=
  placed_of (fun _ => ⟨rfl, rfl⟩) (blocks t).2.2.1 (blocks t).2.2.2

/-- The sums in the scratch after a point, and the blocks it multiplies. -/
def held (n : ℕ) (h : n < cfg0.N) : FVec Ideal S1024x1024 .f32 := (outsAt0 m c n h).2
def lb (n : ℕ) (h : n < cfg0.N) : ℕ → ℕ → EReal := cols (M := 1024) (K := 1024) (iblk m c 0 ⟨n, h⟩)
def rb (n : ℕ) (h : n < cfg0.N) : ℕ → ℕ → EReal := cols (M := 1024) (K := 1024) (iblk m c 1 ⟨n, h⟩)

theorem at_first (t : Fin cfg0.N) (e : t.val % 8 = 0) :
    held m c t.val t.isLt = plus (fun _ => 0) (lb m c t.val t.isLt) (rb m c t.val t.isLt) 1024 := by
  unfold held
  rw [outsAt0_A m c t e (by omega), first, none_yet, tile]
  rfl

section
variable (t : Fin cfg0.N) (e : ¬t.val % 8 = 0) (o : FVec Ideal S1024x1024 .f32)
  (ho : held m c (t.val - 1) (Nat.lt_of_le_of_lt (Nat.sub_le _ _) t.isLt) = o)
include e ho

theorem at_middle (e' : ¬t.val % 8 = 7) : held m c t.val t.isLt = plus o (lb m c t.val t.isLt) (rb m c t.val t.isLt) 1024 := by
  unfold held at ho ⊢
  rw [outsAt0_B m c t e e', ho, middle, tile]
  rfl

theorem at_last (e' : t.val % 8 = 7) : (outsAt0 m c t.val t.isLt).1 = plus o (lb m c t.val t.isLt) (rb m c t.val t.isLt) 1024
    ∧ held m c t.val t.isLt = plus o (lb m c t.val t.isLt) (rb m c t.val t.isLt) 1024 := by
  unfold held at ho ⊢
  rw [outsAt0_C m c t e e', ho, (last ..).1, (last ..).2, tile]
  exact ⟨rfl, rfl⟩
end

theorem made_at (t : Fin cfg0.N) (e : t.val % 8 = 7) : (outsAt0 m c t.val t.isLt).1
    = fun x => product (V m c main_arg0) (V m c main_arg1) (((cfg0.win 2).blk t).view.emb x) :=
  made (acc := held m c) (lb := lb m c) (rb := rb m c) (tk := 1024) (nk := 8) rfl (by decide) placed
    (fun n h i hi q hq => cols_block (V m c main_arg0) _ _ _ (placed_of (fun _ => ⟨rfl, rfl⟩) (blocks ⟨n, h⟩).1.1 (blocks ⟨n, h⟩).1.2) i q hi hq)
    (fun n h j hj q hq => cols_block (V m c main_arg1) _ _ _ (placed_of (fun _ => ⟨rfl, rfl⟩) (blocks ⟨n, h⟩).2.1.1 (blocks ⟨n, h⟩).2.1.2) j q hj hq)
    (fun n h => at_first m c ⟨n, h⟩) (fun n h e => at_middle m c ⟨n, h⟩ e _ rfl) (fun n h e => at_last m c ⟨n, h⟩ e _ rfl) t e

theorem result : (dats m 0 c).arrAt 2 cfg0.N = product (V m c main_arg0) (V m c main_arg1) :=
  (dats m 0 c).arrAt_eq_of_cover 2 _
    (fun t ht => congrArg ((cfg0.win 2).cut (grid0.coords t)) ((after0_2 m c t).trans (made_at m c t ((flush0_2 t).mp ht))))
    fun i => (covered 2 2 8 rfl rfl rfl (by decide) placed (fun t x => ((cfg0.win 2).blk t).view.emb_mem_set x) i).imp
      fun t h => ⟨(flush0_2 t).mpr h.1, h.2⟩
end
end

theorem frame_kernel : Cert.quiescent_MmOutDw := fun m g _ => Cert.MmOutDw.Gen.frame (F := Bits) m g

theorem frame_ideal : Cert.quiescent_MmOutDwIdeal := fun m g _ => Cert.MmOutDwIdeal.Gen.frame (F := Ideal) m g

theorem frame_ref_ideal : Cert.quiescent_MmOutDwRefIdeal := fun m g _ =>
  (θ_run Cert.MmOutDwRefIdeal.defs _ _).mono (fun r h => ⟨fun c => (h c).2, sem_eq_zero_of_no_sems rfl r.2⟩)
    (Cert.MmOutDwRefIdeal.Value.run (F := Ideal) m g)

theorem values_ideal : Cert.algebraic_MmOutDwIdeal_MmOutDwRefIdeal := fun m g m' g' _ hm =>
  ⟨_, (θ_run Cert.MmOutDwIdeal.defs _ _).mono (fun _ h c => ⟨((h c).1 2).trans (result m c),
      ((h c).1 0).trans ((Cert.MmOutDwIdeal.Gen.dats m 0 c).arrAt_in 0 rfl _),
      ((h c).1 1).trans ((Cert.MmOutDwIdeal.Gen.dats m 0 c).arrAt_in 1 rfl _)⟩) (Cert.MmOutDwIdeal.Gen.run_main m g),
    (θ_run Cert.MmOutDwRefIdeal.defs _ _).mono
      (fun _ h c => ⟨(h c).1.trans (by rw [(hm c).1, (hm c).2]; exact host _ _), (h c).2⟩)
      (Cert.MmOutDwRefIdeal.Value.run (F := Ideal) m' g')⟩

end Cert.MmOutDwClaims

end
-- ==== Proof.MmOdInDwClaims.lean ====
/- The gradient of the second layer's widening weights: the transposed inputs times the gradient. -/
module

public import proofs.«01_k».proof.Defs
public import proofs.«01_k».proof.Proof.MmFormula
public import proofs.«01_k».proof.Proof.NormBwdClaims
public import proofs.«01_k».proof.Proof.Gen.MmOdInDw.Frame
public import proofs.«01_k».proof.Proof.Gen.MmOdInDwIdeal.Frame
public import proofs.«01_k».proof.Proof.Gen.MmOdInDwRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.MmFormula
open Cert.NormBwdClaims (hz)

namespace Cert.MmOdInDwClaims

section
open Cert.MmOdInDwRefIdeal

/-- The product both programs compute. -/
def product (a : FVec Ideal S8192x2048 .bf16) (b : FVec Ideal S8192x6144 .bf16) : FVec Ideal S2048x6144 .f32 := prod (cols a) (cols b) 8192

theorem host (a : FVec Ideal S8192x2048 .bf16) (b : FVec Ideal S8192x6144 .bf16) :
    Host.dotGeneral dot_S8192x2048_S8192x6144_S2048x6144_0_0_1_1_n_n none a b = product a b :=
  eq_of_at fun i j => by
    unfold product
    rw [prod_left]
    pointwise
end

section
open Cert.MmOdInDwIdeal Cert.MmOdInDwIdeal.Gen

theorem tile (v : FVec Ideal S1024x1536 .f32) (a : FVec Ideal S1024x1024 .bf16) (b : FVec Ideal S1024x1536 .bf16) :
    k0_pay2 (F := Ideal) v a b = plus v (cols a) (cols b) 1024 :=
  eq_of_at fun i j => by
    rw [plus_at, prod_left]
    unfold_payloads
    pointwise

theorem none_yet : k0_pay1 (F := Ideal) = fun _ => 0 := eq_of_at (M := 1024) (N := 1536) fun i j => by
  unfold_payloads
  pointwise

section
variable (c : Dev nD) (i : grid0.Coords) (a3 : Memref sig .tc .vmem S1024x1024 .bf16) (h3 : a3.IsWhole)
  (a4 : Memref sig .tc .vmem S1024x1536 .bf16) (h4 : a4.IsWhole) (a5 : Memref sig .tc .vmem S1024x1536 .f32) (h5 : a5.IsWhole)
  (a6 : Memref sig .tc .vmem S1024x1536 .f32) (h6 : a6.IsWhole) (x0 : FVec Ideal S1024x1024 .bf16) (x1 : FVec Ideal S1024x1536 .bf16)
  (xs : FVec Ideal S1024x1536 .f32)

/-- What a tile's first, a middle and its last point leave in the scratch, and what the last one leaves in the tile. -/
theorem first (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 :=
  (View.read_writes_eq_canon _ _ _ (scover0_A_0 (F := Ideal) c i a3 h3 a4 h4 a5 h5 a6 h6 hc0 hc1 x0 x1)).trans (kept_first h3 h4 hz hz hz _ _ _)

theorem middle (hc0 : ¬cond0_0 i) (hc1 : ¬cond0_1 i) :
    sout0_B_0 (F := Ideal) c i a3 h3 a4 h4 a5 h5 a6 h6 hc0 hc1 x0 x1 xs = k0_pay2 (F := Ideal) xs x0 x1 :=
  (View.read_writes_eq_canon _ _ _ (scover0_B_0 (F := Ideal) c i a3 h3 a4 h4 a5 h5 a6 h6 hc0 hc1 x0 x1 xs)).trans (kept_later h3 h4 h6 hz hz hz _ _ _)

theorem last (hc0 : ¬cond0_0 i) (hc1 : cond0_1 i) :
    out0_C_2 (F := Ideal) c i a3 h3 a4 h4 a5 h5 a6 h6 hc0 hc1 x0 x1 xs = k0_pay2 (F := Ideal) xs x0 x1
    ∧ sout0_C_0 (F := Ideal) c i a3 h3 a4 h4 a5 h5 a6 h6 hc0 hc1 x0 x1 xs = k0_pay2 (F := Ideal) xs x0 x1 :=
  ⟨(View.read_writes_eq_canon _ _ _ (cover0_C_2 (F := Ideal) c i a3 h3 a4 h4 a5 h5 a6 h6 hc0 hc1 x0 x1 xs)).trans (stored_last h3 h4 h6 hz hz hz _ _ _),
    (View.read_writes_eq_canon _ _ _ (scover0_C_0 (F := Ideal) c i a3 h3 a4 h4 a5 h5 a6 h6 hc0 hc1 x0 x1 xs)).trans (kept_later h3 h4 h6 hz hz hz _ _ _)⟩
end

/-! ## The tiles -/

section
variable (m : (ℓ : Loc nD τ sig) → Buf (Elt Ideal) ℓ) (c : Dev nD)

/-- Which block a window names at a point. -/
theorem blocks : ∀ t : Fin grid0.N, (win0_0.index t (0 : Fin 2) = t.val % 8 ∧ win0_0.index t (1 : Fin 2) = t.val / 8 / 4)
    ∧ (win0_1.index t (0 : Fin 2) = t.val % 8 ∧ win0_1.index t (1 : Fin 2) = t.val / 8 % 4)
    ∧ (win0_2.index t (0 : Fin 2) = t.val / 8 / 4 ∧ win0_2.index t (1 : Fin 2) = t.val / 8 % 4) := by decide +kernel

theorem placed (t : Fin cfg0.N) : Placed (tm := 1024) (tk := 1536) (M := 2048) (K := 6144) ((cfg0.win 2).blk t).view.emb (t.val / 8 / 4) (t.val / 8 % 4) :=
  placed_of (fun _ => ⟨rfl, rfl⟩) (blocks t).2.2.1 (blocks t).2.2.2

/-- The sums in the scratch after a point, and the blocks it multiplies. -/
def held (n : ℕ) (h : n < cfg0.N) : FVec Ideal S1024x1536 .f32 := (outsAt0 m c n h).2
def lb (n : ℕ) (h : n < cfg0.N) : ℕ → ℕ → EReal := cols (M := 1024) (K := 1024) (iblk m c 0 ⟨n, h⟩)
def rb (n : ℕ) (h : n < cfg0.N) : ℕ → ℕ → EReal := cols (M := 1536) (K := 1024) (iblk m c 1 ⟨n, h⟩)

theorem at_first (t : Fin cfg0.N) (e : t.val % 8 = 0) :
    held m c t.val t.isLt = plus (fun _ => 0) (lb m c t.val t.isLt) (rb m c t.val t.isLt) 1024 := by
  unfold held
  rw [outsAt0_A m c t e (by omega), first, none_yet, tile]
  rfl

section
variable (t : Fin cfg0.N) (e : ¬t.val % 8 = 0) (o : FVec Ideal S1024x1536 .f32)
  (ho : held m c (t.val - 1) (Nat.lt_of_le_of_lt (Nat.sub_le _ _) t.isLt) = o)
include e ho

theorem at_middle (e' : ¬t.val % 8 = 7) : held m c t.val t.isLt = plus o (lb m c t.val t.isLt) (rb m c t.val t.isLt) 1024 := by
  unfold held at ho ⊢
  rw [outsAt0_B m c t e e', ho, middle, tile]
  rfl

theorem at_last (e' : t.val % 8 = 7) : (outsAt0 m c t.val t.isLt).1 = plus o (lb m c t.val t.isLt) (rb m c t.val t.isLt) 1024
    ∧ held m c t.val t.isLt = plus o (lb m c t.val t.isLt) (rb m c t.val t.isLt) 1024 := by
  unfold held at ho ⊢
  rw [outsAt0_C m c t e e', ho, (last ..).1, (last ..).2, tile]
  exact ⟨rfl, rfl⟩
end

theorem made_at (t : Fin cfg0.N) (e : t.val % 8 = 7) : (outsAt0 m c t.val t.isLt).1
    = fun x => product (V m c main_arg0) (V m c main_arg1) (((cfg0.win 2).blk t).view.emb x) :=
  made (acc := held m c) (lb := lb m c) (rb := rb m c) (tk := 1024) (nk := 8) rfl (by decide) placed
    (fun n h i hi q hq => cols_block (V m c main_arg0) _ _ _ (placed_of (fun _ => ⟨rfl, rfl⟩) (blocks ⟨n, h⟩).1.1 (blocks ⟨n, h⟩).1.2) i q hi hq)
    (fun n h j hj q hq => cols_block (V m c main_arg1) _ _ _ (placed_of (fun _ => ⟨rfl, rfl⟩) (blocks ⟨n, h⟩).2.1.1 (blocks ⟨n, h⟩).2.1.2) j q hj hq)
    (fun n h => at_first m c ⟨n, h⟩) (fun n h e => at_middle m c ⟨n, h⟩ e _ rfl) (fun n h e => at_last m c ⟨n, h⟩ e _ rfl) t e

theorem result : (dats m 0 c).arrAt 2 cfg0.N = product (V m c main_arg0) (V m c main_arg1) :=
  (dats m 0 c).arrAt_eq_of_cover 2 _
    (fun t ht => congrArg ((cfg0.win 2).cut (grid0.coords t)) ((after0_2 m c t).trans (made_at m c t ((flush0_2 t).mp ht))))
    fun i => (covered 2 4 8 rfl rfl rfl (by decide) placed (fun t x => ((cfg0.win 2).blk t).view.emb_mem_set x) i).imp
      fun t h => ⟨(flush0_2 t).mpr h.1, h.2⟩
end
end

theorem frame_kernel : Cert.quiescent_MmOdInDw := fun m g _ => Cert.MmOdInDw.Gen.frame (F := Bits) m g

theorem frame_ideal : Cert.quiescent_MmOdInDwIdeal := fun m g _ => Cert.MmOdInDwIdeal.Gen.frame (F := Ideal) m g

theorem frame_ref_ideal : Cert.quiescent_MmOdInDwRefIdeal := fun m g _ =>
  (θ_run Cert.MmOdInDwRefIdeal.defs _ _).mono (fun r h => ⟨fun c => (h c).2, sem_eq_zero_of_no_sems rfl r.2⟩)
    (Cert.MmOdInDwRefIdeal.Value.run (F := Ideal) m g)

theorem values_ideal : Cert.algebraic_MmOdInDwIdeal_MmOdInDwRefIdeal := fun m g m' g' _ hm =>
  ⟨_, (θ_run Cert.MmOdInDwIdeal.defs _ _).mono (fun _ h c => ⟨((h c).1 2).trans (result m c),
      ((h c).1 0).trans ((Cert.MmOdInDwIdeal.Gen.dats m 0 c).arrAt_in 0 rfl _),
      ((h c).1 1).trans ((Cert.MmOdInDwIdeal.Gen.dats m 0 c).arrAt_in 1 rfl _)⟩) (Cert.MmOdInDwIdeal.Gen.run_main m g),
    (θ_run Cert.MmOdInDwRefIdeal.defs _ _).mono
      (fun _ h c => ⟨(h c).1.trans (by rw [(hm c).1, (hm c).2]; exact host _ _), (h c).2⟩)
      (Cert.MmOdInDwRefIdeal.Value.run (F := Ideal) m' g')⟩

end Cert.MmOdInDwClaims

end
-- ==== Proof.MmEvInDwClaims.lean ====
/- The gradient of the first layer's widening weights: the transposed inputs times the gradient. -/
module

public import proofs.«01_k».proof.Defs
public import proofs.«01_k».proof.Proof.MmFormula
public import proofs.«01_k».proof.Proof.NormBwdClaims
public import proofs.«01_k».proof.Proof.Gen.MmEvInDw.Frame
public import proofs.«01_k».proof.Proof.Gen.MmEvInDwIdeal.Frame
public import proofs.«01_k».proof.Proof.Gen.MmEvInDwRefIdeal.Run
public import Idealize.ShloMosaic.Lib.Quiescent
public import Idealize.ShloMosaic.Lib.Pointwise

@[expose] public section

noncomputable section

open Idealize.ShloMosaic Idealize.ShloMosaic.TcCoe
open Idealize.SL Idealize.SL.Sem
open Cert.MmFormula
open Cert.NormBwdClaims (hz)

namespace Cert.MmEvInDwClaims

section
open Cert.MmEvInDwRefIdeal

/-- The product both programs compute. -/
def product (a : FVec Ideal S8448x2048 .bf16) (b : FVec Ideal S8448x5632 .bf16) : FVec Ideal S2048x5632 .f32 := prod (cols a) (cols b) 8448

theorem host (a : FVec Ideal S8448x2048 .bf16) (b : FVec Ideal S8448x5632 .bf16) :
    Host.dotGeneral dot_S8448x2048_S8448x5632_S2048x5632_0_0_1_1_n_n none a b = product a b :=
  eq_of_at fun i j => by
    unfold product
    rw [prod_left]
    pointwise
end

section
open Cert.MmEvInDwIdeal Cert.MmEvInDwIdeal.Gen

theorem tile (v : FVec Ideal S1024x1408 .f32) (a : FVec Ideal S768x1024 .bf16) (b : FVec Ideal S768x1408 .bf16) :
    k0_pay2 (F := Ideal) v a b = plus v (cols a) (cols b) 768 :=
  eq_of_at fun i j => by
    rw [plus_at, prod_left]
    unfold_payloads
    pointwise

theorem none_yet : k0_pay1 (F := Ideal) = fun _ => 0 := eq_of_at (M := 1024) (N := 1408) fun i j => by
  unfold_payloads
  pointwise

section
variable (c : Dev nD) (i : grid0.Coords) (a3 : Memref sig .tc .vmem S768x1024 .bf16) (h3 : a3.IsWhole)
  (a4 : Memref sig .tc .vmem S768x1408 .bf16) (h4 : a4.IsWhole) (a5 : Memref sig .tc .vmem S1024x1408 .f32) (h5 : a5.IsWhole)
  (a6 : Memref sig .tc .vmem S1024x1408 .f32) (h6 : a6.IsWhole) (x0 : FVec Ideal S768x1024 .bf16) (x1 : FVec Ideal S768x1408 .bf16)
  (xs : FVec Ideal S1024x1408 .f32)

/-- What a tile's first, a middle and its last point leave in the scratch, and what the last one leaves in the tile. -/
theorem first (hc0 : cond0_0 i) (hc1 : ¬cond0_1 i) :
    sout0_A_0 (F := Ideal) c i a3 h3 a4 h4 a5 h5 a6 h6 hc0 hc1 x0 x1 = k0_pay2 (F := Ideal) (k0_pay1 (F := Ideal)) x0 x1 :=
  (View.read_writes_eq_canon _ _ _ (scover0_A_0 (F := Ideal) c i a3 h3 a4 h4 a5 h5 a6 h6 hc0 hc1 x0 x1)).trans (kept_first h3 h4 hz hz hz _ _ _)

theorem middle (hc0 : ¬cond0_0 i) (hc1 : ¬cond0_1 i) :
    sout0_B_0 (F := Ideal) c i a3 h3 a4 h4 a5 h5 a6 h6 hc0 hc1 x0 x1 xs = k0_pay2 (F := Ideal) xs x0 x1 :=
  (View.read_writes_eq_canon _ _ _ (scover0_B_0 (F := Ideal) c i a3 h3 a4 h4 a5 h5 a6 h6 hc0 hc1 x0 x1 xs)).trans (kept_later h3 h4 h6 hz hz hz _ _ _)

theorem last (hc0 : ¬cond0_0 i) (hc1 : cond0_1 i) :
    out0_C_2 (F := Ideal) c i a3 h3 a4 h4 a5 h5 a6 h6 hc0 hc1 x0 x1 xs = k0_pay2 (F := Ideal) xs x0 x1
    ∧ sout0_C_0 (F := Ideal) c i a3 h3 a4 h4 a5 h5 a6 h6 hc0 hc1 x0 x1 xs = k0_pay2 (F := Ideal) xs x0 x1 :=
  ⟨(View.read_writes_eq_canon _ _ _ (cover0_C_2 (F := Ideal) c i a3 h3 a4 h4 a5 h5 a6 h6 hc0 hc1 x0 x1 xs)).trans (stored_last h3 h4 h6 hz hz hz _ _ _),
    (View.read_writes_eq_canon _ _ _ (scover0_C_0 (F := Ideal) c i a3 h3 a4 h4 a5 h5 a6 h6 hc0 hc1 x0 x1 xs)).trans (kept_later h3 h4 h6 hz hz hz _ _ _)⟩
end

/-! ## The tiles -/

section
variable (m : (ℓ : Loc nD τ sig) → Buf (Elt Ideal) ℓ) (c : Dev nD)

/-- Which block a window names at a point. -/
theorem blocks : ∀ t : Fin grid0.N, (win0_0.index t (0 : Fin 2) = t.val % 11 ∧ win0_0.index t (1 : Fin 2) = t.val / 11 / 4)
    ∧ (win0_1.index t (0 : Fin 2) = t.val % 11 ∧ win0_1.index t (1 : Fin 2) = t.val / 11 % 4)
    ∧ (win0_2.index t (0 : Fin 2) = t.val / 11 / 4 ∧ win0_2.index t (1 : Fin 2) = t.val / 11 % 4) := by decide +kernel

theorem placed (t : Fin cfg0.N) : Placed (tm := 1024) (tk := 1408) (M := 2048) (K := 5632) ((cfg0.win 2).blk t).view.emb (t.val / 11 / 4) (t.val / 11 % 4) :=
  placed_of (fun _ => ⟨rfl, rfl⟩) (blocks t).2.2.1 (blocks t).2.2.2

/-- The sums in the scratch after a point, and the blocks it multiplies. -/
def held (n : ℕ) (h : n < cfg0.N) : FVec Ideal S1024x1408 .f32 := (outsAt0 m c n h).2
def lb (n : ℕ) (h : n < cfg0.N) : ℕ → ℕ → EReal := cols (M := 1024) (K := 768) (iblk m c 0 ⟨n, h⟩)
def rb (n : ℕ) (h : n < cfg0.N) : ℕ → ℕ → EReal := cols (M := 1408) (K := 768) (iblk m c 1 ⟨n, h⟩)

theorem at_first (t : Fin cfg0.N) (e : t.val % 11 = 0) :
    held m c t.val t.isLt = plus (fun _ => 0) (lb m c t.val t.isLt) (rb m c t.val t.isLt) 768 := by
  unfold held
  rw [outsAt0_A m c t e (by omega), first, none_yet, tile]
  rfl

section
variable (t : Fin cfg0.N) (e : ¬t.val % 11 = 0) (o : FVec Ideal S1024x1408 .f32)
  (ho : held m c (t.val - 1) (Nat.lt_of_le_of_lt (Nat.sub_le _ _) t.isLt) = o)
include e ho

theorem at_middle (e' : ¬t.val % 11 = 10) : held m c t.val t.isLt = plus o (lb m c t.val t.isLt) (rb m c t.val t.isLt) 768 := by
  unfold held at ho ⊢
  rw [outsAt0_B m c t e e', ho, middle, tile]
  rfl

theorem at_last (e' : t.val % 11 = 10) : (outsAt0 m c t.val t.isLt).1 = plus o (lb m c t.val t.isLt) (rb m c t.val t.isLt) 768
    ∧ held m c t.val t.isLt = plus o (lb m c t.val t.isLt) (rb m c t.val t.isLt) 768 := by
  unfold held at ho ⊢
  rw [outsAt0_C m c t e e', ho, (last ..).1, (last ..).2, tile]
  exact ⟨rfl, rfl⟩
end

theorem made_at (t : Fin cfg0.N) (e : t.val % 11 = 10) : (outsAt0 m c t.val t.isLt).1
    = fun x => product (V m c main_arg0) (V m c main_arg1) (((cfg0.win 2).blk t).view.emb x) :=
  made (acc := held m c) (lb := lb m c) (rb := rb m c) (tk := 768) (nk := 11) rfl (by decide) placed
    (fun n h i hi q hq => cols_block (V m c main_arg0) _ _ _ (placed_of (fun _ => ⟨rfl, rfl⟩) (blocks ⟨n, h⟩).1.1 (blocks ⟨n, h⟩).1.2) i q hi hq)
    (fun n h j hj q hq => cols_block (V m c main_arg1) _ _ _ (placed_of (fun _ => ⟨rfl, rfl⟩) (blocks ⟨n, h⟩).2.1.1 (blocks ⟨n, h⟩).2.1.2) j q hj hq)
    (fun n h => at_first m c ⟨n, h⟩) (fun n h e => at_middle m c ⟨n, h⟩ e _ rfl) (fun n h e => at_last m c ⟨n, h⟩ e _ rfl) t e

theorem result : (dats m 0 c).arrAt 2 cfg0.N = product (V m c main_arg0) (V m c main_arg1) :=
  (dats m 0 c).arrAt_eq_of_cover 2 _
    (fun t ht => congrArg ((cfg0.win 2).cut (grid0.coords t)) ((after0_2 m c t).trans (made_at m c t ((flush0_2 t).mp ht))))
    fun i => (covered 2 4 11 rfl rfl rfl (by decide) placed (fun t x => ((cfg0.win 2).blk t).view.emb_mem_set x) i).imp
      fun t h => ⟨(flush0_2 t).mpr h.1, h.2⟩
end
end

theorem frame_kernel : Cert.quiescent_MmEvInDw := fun m g _ => Cert.MmEvInDw.Gen.frame (F := Bits) m g

theorem frame_ideal : Cert.quiescent_MmEvInDwIdeal := fun m g _ => Cert.MmEvInDwIdeal.Gen.frame (F := Ideal) m g

theorem frame_ref_ideal : Cert.quiescent_MmEvInDwRefIdeal := fun m g _ =>
  (θ_run Cert.MmEvInDwRefIdeal.defs _ _).mono (fun r h => ⟨fun c => (h c).2, sem_eq_zero_of_no_sems rfl r.2⟩)
    (Cert.MmEvInDwRefIdeal.Value.run (F := Ideal) m g)

theorem values_ideal : Cert.algebraic_MmEvInDwIdeal_MmEvInDwRefIdeal := fun m g m' g' _ hm =>
  ⟨_, (θ_run Cert.MmEvInDwIdeal.defs _ _).mono (fun _ h c => ⟨((h c).1 2).trans (result m c),
      ((h c).1 0).trans ((Cert.MmEvInDwIdeal.Gen.dats m 0 c).arrAt_in 0 rfl _),
      ((h c).1 1).trans ((Cert.MmEvInDwIdeal.Gen.dats m 0 c).arrAt_in 1 rfl _)⟩) (Cert.MmEvInDwIdeal.Gen.run_main m g),
    (θ_run Cert.MmEvInDwRefIdeal.defs _ _).mono
      (fun _ h c => ⟨(h c).1.trans (by rw [(hm c).1, (hm c).2]; exact host _ _), (h c).2⟩)
      (Cert.MmEvInDwRefIdeal.Value.run (F := Ideal) m' g')⟩

end Cert.MmEvInDwClaims

end
-- ==== Proof.lean ====
/- The claims of the four calls that exchange data, of the sums between them, of the optimiser, of the
   modulated norms, of six calls of the backward pass and of the projections, put together. -/
module

public import proofs.«01_k».proof.Defs
public import proofs.«01_k».proof.Proof.PairExchangeClaims
public import proofs.«01_k».proof.Proof.ChipScatterClaims
public import proofs.«01_k».proof.Proof.GatherWeightsClaims
public import proofs.«01_k».proof.Proof.PairShareClaims
public import proofs.«01_k».proof.Proof.PairSumClaims
public import proofs.«01_k».proof.Proof.SlotSumClaims
public import proofs.«01_k».proof.Proof.SmallGradsClaims
public import proofs.«01_k».proof.Proof.AdamwClaims
public import proofs.«01_k».proof.Proof.ModBwdClaims
public import proofs.«01_k».proof.Proof.CctxGradClaims
public import proofs.«01_k».proof.Proof.NormBwdClaims
public import proofs.«01_k».proof.Proof.FinalLossClaims
public import proofs.«01_k».proof.Proof.NormFwdClaims
public import proofs.«01_k».proof.Proof.NormCtxBwdClaims
public import proofs.«01_k».proof.Proof.NormGateBwdClaims
public import proofs.«01_k».proof.Proof.MmEvInClaims
public import proofs.«01_k».proof.Proof.MmOdInClaims
public import proofs.«01_k».proof.Proof.MmOutClaims
public import proofs.«01_k».proof.Proof.MmOutDxClaims
public import proofs.«01_k».proof.Proof.MmOdInDxClaims
public import proofs.«01_k».proof.Proof.MmEvInDxClaims
public import proofs.«01_k».proof.Proof.MmOutDwClaims
public import proofs.«01_k».proof.Proof.MmOdInDwClaims
public import proofs.«01_k».proof.Proof.MmEvInDwClaims
public import proofs.«01_k».proof.Proof.Gen.PairExchangeRef.Run
public import proofs.«01_k».proof.Proof.Gen.ChipScatterRef.Run
public import Idealize.ShloMosaic.Adequacy
public import Idealize.ShloMosaic.Init

@[expose] public section

noncomputable section

namespace Cert.Proof

open Idealize.ShloMosaic Idealize.SL.Sem

/-- Every claim of the certificate: the facts of the programs, then the frames, then the values, call by call. -/
theorem claim : Cert.Claim :=
  ⟨PairExchange.Gen.facts, PairExchangeIdeal.Gen.facts, PairExchangeRefIdeal.Gen.facts, PairExchangeRef.Gen.facts,
    ChipScatter.Gen.facts, ChipScatterIdeal.Gen.facts, ChipScatterRefIdeal.Gen.facts, ChipScatterRef.Gen.facts,
    GatherWeights.Gen.facts, GatherWeightsIdeal.Gen.facts, GatherWeightsRefIdeal.Gen.facts, GatherWeightsRef.Gen.facts,
    PairShare.Gen.facts, PairShareIdeal.Gen.facts, PairShareRefIdeal.Gen.facts, PairShareRef.Gen.facts,
    PairSumEvIn.Gen.facts, PairSumEvInIdeal.Gen.facts, PairSumEvInRefIdeal.Gen.facts, PairSumEvInRef.Gen.facts,
    PairSumOut.Gen.facts, PairSumOutIdeal.Gen.facts, PairSumOutRefIdeal.Gen.facts, PairSumOutRef.Gen.facts,
    PairSumOdIn.Gen.facts, PairSumOdInIdeal.Gen.facts, PairSumOdInRefIdeal.Gen.facts, PairSumOdInRef.Gen.facts,
    SlotSumEvIn.Gen.facts, SlotSumEvInIdeal.Gen.facts, SlotSumEvInRefIdeal.Gen.facts,
    SlotSumOut.Gen.facts, SlotSumOutIdeal.Gen.facts, SlotSumOutRefIdeal.Gen.facts,
    SlotSumOdIn.Gen.facts, SlotSumOdInIdeal.Gen.facts, SlotSumOdInRefIdeal.Gen.facts,
    SmallGrads.Gen.facts, SmallGradsIdeal.Gen.facts, SmallGradsRefIdeal.Gen.facts,
    AdamwAda.Gen.facts, AdamwAdaIdeal.Gen.facts, AdamwAdaRefIdeal.Gen.facts,
    AdamwEvIn.Gen.facts, AdamwEvInIdeal.Gen.facts, AdamwEvInRefIdeal.Gen.facts,
    AdamwOut.Gen.facts, AdamwOutIdeal.Gen.facts, AdamwOutRefIdeal.Gen.facts,
    AdamwOdIn.Gen.facts, AdamwOdInIdeal.Gen.facts, AdamwOdInRefIdeal.Gen.facts,
    AdamwSmall.Gen.facts, AdamwSmallIdeal.Gen.facts, AdamwSmallRefIdeal.Gen.facts,
    ModBwd.Gen.facts, ModBwdIdeal.Gen.facts, ModBwdRefIdeal.Gen.facts,
    CctxGrad.Gen.facts, CctxGradIdeal.Gen.facts, CctxGradRefIdeal.Gen.facts,
    NormBwd.Gen.facts, NormBwdIdeal.Gen.facts, NormBwdRefIdeal.Gen.facts,
    FinalLoss.Gen.facts, FinalLossIdeal.Gen.facts, FinalLossRefIdeal.Gen.facts,
    NormFwd.Gen.facts, NormFwdIdeal.Gen.facts, NormFwdRefIdeal.Gen.facts,
    NormCtxFwd.Gen.facts, NormCtxFwdIdeal.Gen.facts, NormCtxFwdRefIdeal.Gen.facts,
    NormCtxBwd.Gen.facts, NormCtxBwdIdeal.Gen.facts, NormCtxBwdRefIdeal.Gen.facts,
    NormGateBwd.Gen.facts, NormGateBwdIdeal.Gen.facts, NormGateBwdRefIdeal.Gen.facts,
    MmEvIn.Gen.facts, MmEvInIdeal.Gen.facts, MmEvInRefIdeal.Gen.facts,
    MmOdIn.Gen.facts, MmOdInIdeal.Gen.facts, MmOdInRefIdeal.Gen.facts,
    MmOut.Gen.facts, MmOutIdeal.Gen.facts, MmOutRefIdeal.Gen.facts,
    MmOutDx.Gen.facts, MmOutDxIdeal.Gen.facts, MmOutDxRefIdeal.Gen.facts,
    MmOdInDx.Gen.facts, MmOdInDxIdeal.Gen.facts, MmOdInDxRefIdeal.Gen.facts,
    MmEvInDx.Gen.facts, MmEvInDxIdeal.Gen.facts, MmEvInDxRefIdeal.Gen.facts,
    MmOutDw.Gen.facts, MmOutDwIdeal.Gen.facts, MmOutDwRefIdeal.Gen.facts,
    MmOdInDw.Gen.facts, MmOdInDwIdeal.Gen.facts, MmOdInDwRefIdeal.Gen.facts,
    MmEvInDw.Gen.facts, MmEvInDwIdeal.Gen.facts, MmEvInDwRefIdeal.Gen.facts,
    PairExchangeRun.frame_kernel, PairExchangeRun.frame_ideal, PairExchangeRun.frame_ref_ideal, PairExchangeRun.frame_ref,
    ChipScatterRun.frame_kernel, ChipScatterRun.frame_ideal, ChipScatterRun.frame_ref_ideal, ChipScatterRun.frame_ref,
    GatherWeightsRun.frame_kernel, GatherWeightsRun.frame_ideal, GatherWeightsRun.frame_ref_ideal, GatherWeightsRun.frame_ref,
    PairShareRun.frame_kernel, PairShareRun.frame_ideal, PairShareRun.frame_ref_ideal, PairShareRun.frame_ref,
    PairSumEvInClaims.frame_kernel, PairSumEvInClaims.frame_ideal, PairSumEvInClaims.frame_ref_ideal, PairSumEvInClaims.frame_ref,
    PairSumOutClaims.frame_kernel, PairSumOutClaims.frame_ideal, PairSumOutClaims.frame_ref_ideal, PairSumOutClaims.frame_ref,
    PairSumOdInClaims.frame_kernel, PairSumOdInClaims.frame_ideal, PairSumOdInClaims.frame_ref_ideal, PairSumOdInClaims.frame_ref,
    SlotSumEvInClaims.frame_kernel, SlotSumEvInClaims.frame_ideal, SlotSumEvInClaims.frame_ref_ideal,
    SlotSumOutClaims.frame_kernel, SlotSumOutClaims.frame_ideal, SlotSumOutClaims.frame_ref_ideal,
    SlotSumOdInClaims.frame_kernel, SlotSumOdInClaims.frame_ideal, SlotSumOdInClaims.frame_ref_ideal,
    SmallGradsClaims.frame_kernel, SmallGradsClaims.frame_ideal, SmallGradsClaims.frame_ref_ideal,
    AdamwAdaClaims.frame_kernel, AdamwAdaClaims.frame_ideal, AdamwAdaClaims.frame_ref_ideal,
    AdamwEvInClaims.frame_kernel, AdamwEvInClaims.frame_ideal, AdamwEvInClaims.frame_ref_ideal,
    AdamwOutClaims.frame_kernel, AdamwOutClaims.frame_ideal, AdamwOutClaims.frame_ref_ideal,
    AdamwOdInClaims.frame_kernel, AdamwOdInClaims.frame_ideal, AdamwOdInClaims.frame_ref_ideal,
    AdamwSmallClaims.frame_kernel, AdamwSmallClaims.frame_ideal, AdamwSmallClaims.frame_ref_ideal,
    ModBwdClaims.frame_kernel, ModBwdClaims.frame_ideal, ModBwdClaims.frame_ref_ideal,
    CctxGradClaims.frame_kernel, CctxGradClaims.frame_ideal, CctxGradClaims.frame_ref_ideal,
    NormBwdClaims.frame_kernel, NormBwdClaims.frame_ideal, NormBwdClaims.frame_ref_ideal,
    FinalLossClaims.frame_kernel, FinalLossClaims.frame_ideal, FinalLossClaims.frame_ref_ideal,
    NormFwdClaims.frame_kernel, NormFwdClaims.frame_ideal, NormFwdClaims.frame_ref_ideal,
    NormCtxFwdClaims.frame_kernel, NormCtxFwdClaims.frame_ideal, NormCtxFwdClaims.frame_ref_ideal,
    NormCtxBwdClaims.frame_kernel, NormCtxBwdClaims.frame_ideal, NormCtxBwdClaims.frame_ref_ideal,
    NormGateBwdClaims.frame_kernel, NormGateBwdClaims.frame_ideal, NormGateBwdClaims.frame_ref_ideal,
    MmEvInClaims.frame_kernel, MmEvInClaims.frame_ideal, MmEvInClaims.frame_ref_ideal,
    MmOdInClaims.frame_kernel, MmOdInClaims.frame_ideal, MmOdInClaims.frame_ref_ideal,
    MmOutClaims.frame_kernel, MmOutClaims.frame_ideal, MmOutClaims.frame_ref_ideal,
    MmOutDxClaims.frame_kernel, MmOutDxClaims.frame_ideal, MmOutDxClaims.frame_ref_ideal,
    MmOdInDxClaims.frame_kernel, MmOdInDxClaims.frame_ideal, MmOdInDxClaims.frame_ref_ideal,
    MmEvInDxClaims.frame_kernel, MmEvInDxClaims.frame_ideal, MmEvInDxClaims.frame_ref_ideal,
    MmOutDwClaims.frame_kernel, MmOutDwClaims.frame_ideal, MmOutDwClaims.frame_ref_ideal,
    MmOdInDwClaims.frame_kernel, MmOdInDwClaims.frame_ideal, MmOdInDwClaims.frame_ref_ideal,
    MmEvInDwClaims.frame_kernel, MmEvInDwClaims.frame_ideal, MmEvInDwClaims.frame_ref_ideal,
    trivial, PairExchangeRun.values_kernel, PairExchangeRun.values_ideal,
    trivial, ChipScatterRun.values_kernel, ChipScatterRun.values_ideal,
    trivial, GatherWeightsRun.values_kernel, GatherWeightsRun.values_ideal,
    trivial, PairShareRun.values_kernel, PairShareRun.values_ideal,
    trivial, PairSumEvInClaims.values_kernel, PairSumEvInClaims.values_ideal,
    trivial, PairSumOutClaims.values_kernel, PairSumOutClaims.values_ideal,
    trivial, PairSumOdInClaims.values_kernel, PairSumOdInClaims.values_ideal,
    trivial, SlotSumEvInClaims.values_ideal,
    trivial, SlotSumOutClaims.values_ideal,
    trivial, SlotSumOdInClaims.values_ideal,
    trivial, SmallGradsClaims.values_ideal,
    trivial, AdamwAdaClaims.values_ideal,
    trivial, AdamwEvInClaims.values_ideal,
    trivial, AdamwOutClaims.values_ideal,
    trivial, AdamwOdInClaims.values_ideal,
    trivial, AdamwSmallClaims.values_ideal,
    trivial, ModBwdClaims.values_ideal,
    trivial, CctxGradClaims.values_ideal,
    trivial, NormBwdClaims.values_ideal,
    trivial, FinalLossClaims.values_ideal,
    trivial, NormFwdClaims.values_ideal,
    trivial, NormCtxFwdClaims.values_ideal,
    trivial, NormCtxBwdClaims.values_ideal,
    trivial, NormGateBwdClaims.values_ideal,
    trivial, MmEvInClaims.values_ideal,
    trivial, MmOdInClaims.values_ideal,
    trivial, MmOutClaims.values_ideal,
    trivial, MmOutDxClaims.values_ideal,
    trivial, MmOdInDxClaims.values_ideal,
    trivial, MmEvInDxClaims.values_ideal,
    trivial, MmOutDwClaims.values_ideal,
    trivial, MmOdInDwClaims.values_ideal,
    trivial, MmEvInDwClaims.values_ideal⟩

end Cert.Proof

end
